-- ==== Defs.lean ====
def Pre_Kernel [hPre_groups_fit : Cert.Pre_groups_fit.Facts] (m : (ℓ : Loc Cert.Kernel.nD Cert.Kernel.τ Cert.Kernel.sig) → Buf (Elt Bits) ℓ) : Prop :=
  ∀ c : Dev Cert.Kernel.nD,
    (Cert.Pre_groups_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_groups_fit : Cert.Pre_groups_fit.Facts] (m : (ℓ : Loc Cert.KernelIdeal.nD Cert.KernelIdeal.τ Cert.KernelIdeal.sig) → Buf (Elt Ideal) ℓ) : Prop :=
  ∀ c : Dev Cert.KernelIdeal.nD,
    (Cert.Pre_groups_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_fit [hPre_groups_fit : Cert.Pre_groups_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel1024 [hPre_groups_fit : Cert.Pre_groups_fit.Facts] (m : (ℓ : Loc Cert.Kernel1024.nD Cert.Kernel1024.τ Cert.Kernel1024.sig) → Buf (Elt Bits) ℓ) : Prop :=
  ∀ c : Dev Cert.Kernel1024.nD,
    (Cert.Pre_groups_fit.fn (F := Bits) (m ((c.tc : Thread Cert.Kernel1024.nD Cert.Kernel1024.τ).loc Cert.Kernel1024.main_arg0)) (m ((c.tc : Thread Cert.Kernel1024.nD Cert.Kernel1024.τ).loc Cert.Kernel1024.main_arg1)) (m ((c.tc : Thread Cert.Kernel1024.nD Cert.Kernel1024.τ).loc Cert.Kernel1024.main_arg2)) (m ((c.tc : Thread Cert.Kernel1024.nD Cert.Kernel1024.τ).loc Cert.Kernel1024.main_arg3)) (m ((c.tc : Thread Cert.Kernel1024.nD Cert.Kernel1024.τ).loc Cert.Kernel1024.main_arg4))) = (fun _ => 1#1)

def Pre_Kernel1024Ideal [hPre_groups_fit : Cert.Pre_groups_fit.Facts] (m : (ℓ : Loc Cert.Kernel1024Ideal.nD Cert.Kernel1024Ideal.τ Cert.Kernel1024Ideal.sig) → Buf (Elt Ideal) ℓ) : Prop :=
  ∀ c : Dev Cert.Kernel1024Ideal.nD,
    (Cert.Pre_groups_fit.fn (F := Ideal) (m ((c.tc : Thread Cert.Kernel1024Ideal.nD Cert.Kernel1024Ideal.τ).loc Cert.Kernel1024Ideal.main_arg0)) (m ((c.tc : Thread Cert.Kernel1024Ideal.nD Cert.Kernel1024Ideal.τ).loc Cert.Kernel1024Ideal.main_arg1)) (m ((c.tc : Thread Cert.Kernel1024Ideal.nD Cert.Kernel1024Ideal.τ).loc Cert.Kernel1024Ideal.main_arg2)) (m ((c.tc : Thread Cert.Kernel1024Ideal.nD Cert.Kernel1024Ideal.τ).loc Cert.Kernel1024Ideal.main_arg3)) (m ((c.tc : Thread Cert.Kernel1024Ideal.nD Cert.Kernel1024Ideal.τ).loc Cert.Kernel1024Ideal.main_arg4))) = (fun _ => 1#1)

def Pre_Reference1024Ideal (m : (ℓ : Loc Cert.Reference1024Ideal.nD Cert.Reference1024Ideal.τ Cert.Reference1024Ideal.sig) → Buf (Elt Ideal) ℓ) : Prop :=
  True

def Pre_Reference1024Ideal_groups_fit [hPre_groups_fit : Cert.Pre_groups_fit.Facts] (m : (ℓ : Loc Cert.Reference1024Ideal.nD Cert.Reference1024Ideal.τ Cert.Reference1024Ideal.sig) → Buf (Elt Ideal) ℓ) : Prop :=
  ∀ c : Dev Cert.Reference1024Ideal.nD,
    (Cert.Pre_groups_fit.fn (F := Ideal) (m ((c.tc : Thread Cert.Reference1024Ideal.nD Cert.Reference1024Ideal.τ).loc Cert.Reference1024Ideal.main_arg0)) (m ((c.tc : Thread Cert.Reference1024Ideal.nD Cert.Reference1024Ideal.τ).loc Cert.Reference1024Ideal.main_arg1)) (m ((c.tc : Thread Cert.Reference1024Ideal.nD Cert.Reference1024Ideal.τ).loc Cert.Reference1024Ideal.main_arg2)) (m ((c.tc : Thread Cert.Reference1024Ideal.nD Cert.Reference1024Ideal.τ).loc Cert.Reference1024Ideal.main_arg3)) (m ((c.tc : Thread Cert.Reference1024Ideal.nD Cert.Reference1024Ideal.τ).loc Cert.Reference1024Ideal.main_arg4))) = (fun _ => 1#1)

def Pre_Kernel2048 [hPre_groups_fit : Cert.Pre_groups_fit.Facts] (m : (ℓ : Loc Cert.Kernel2048.nD Cert.Kernel2048.τ Cert.Kernel2048.sig) → Buf (Elt Bits) ℓ) : Prop :=
  ∀ c : Dev Cert.Kernel2048.nD,
    (Cert.Pre_groups_fit.fn (F := Bits) (m ((c.tc : Thread Cert.Kernel2048.nD Cert.Kernel2048.τ).loc Cert.Kernel2048.main_arg0)) (m ((c.tc : Thread Cert.Kernel2048.nD Cert.Kernel2048.τ).loc Cert.Kernel2048.main_arg1)) (m ((c.tc : Thread Cert.Kernel2048.nD Cert.Kernel2048.τ).loc Cert.Kernel2048.main_arg2)) (m ((c.tc : Thread Cert.Kernel2048.nD Cert.Kernel2048.τ).loc Cert.Kernel2048.main_arg3)) (m ((c.tc : Thread Cert.Kernel2048.nD Cert.Kernel2048.τ).loc Cert.Kernel2048.main_arg4))) = (fun _ => 1#1)

def Pre_Kernel2048Ideal [hPre_groups_fit : Cert.Pre_groups_fit.Facts] (m : (ℓ : Loc Cert.Kernel2048Ideal.nD Cert.Kernel2048Ideal.τ Cert.Kernel2048Ideal.sig) → Buf (Elt Ideal) ℓ) : Prop :=
  ∀ c : Dev Cert.Kernel2048Ideal.nD,
    (Cert.Pre_groups_fit.fn (F := Ideal) (m ((c.tc : Thread Cert.Kernel2048Ideal.nD Cert.Kernel2048Ideal.τ).loc Cert.Kernel2048Ideal.main_arg0)) (m ((c.tc : Thread Cert.Kernel2048Ideal.nD Cert.Kernel2048Ideal.τ).loc Cert.Kernel2048Ideal.main_arg1)) (m ((c.tc : Thread Cert.Kernel2048Ideal.nD Cert.Kernel2048Ideal.τ).loc Cert.Kernel2048Ideal.main_arg2)) (m ((c.tc : Thread Cert.Kernel2048Ideal.nD Cert.Kernel2048Ideal.τ).loc Cert.Kernel2048Ideal.main_arg3)) (m ((c.tc : Thread Cert.Kernel2048Ideal.nD Cert.Kernel2048Ideal.τ).loc Cert.Kernel2048Ideal.main_arg4))) = (fun _ => 1#1)

def Pre_Reference2048Ideal (m : (ℓ : Loc Cert.Reference2048Ideal.nD Cert.Reference2048Ideal.τ Cert.Reference2048Ideal.sig) → Buf (Elt Ideal) ℓ) : Prop :=
  True

def Pre_Reference2048Ideal_groups_fit [hPre_groups_fit : Cert.Pre_groups_fit.Facts] (m : (ℓ : Loc Cert.Reference2048Ideal.nD Cert.Reference2048Ideal.τ Cert.Reference2048Ideal.sig) → Buf (Elt Ideal) ℓ) : Prop :=
  ∀ c : Dev Cert.Reference2048Ideal.nD,
    (Cert.Pre_groups_fit.fn (F := Ideal) (m ((c.tc : Thread Cert.Reference2048Ideal.nD Cert.Reference2048Ideal.τ).loc Cert.Reference2048Ideal.main_arg0)) (m ((c.tc : Thread Cert.Reference2048Ideal.nD Cert.Reference2048Ideal.τ).loc Cert.Reference2048Ideal.main_arg1)) (m ((c.tc : Thread Cert.Reference2048Ideal.nD Cert.Reference2048Ideal.τ).loc Cert.Reference2048Ideal.main_arg2)) (m ((c.tc : Thread Cert.Reference2048Ideal.nD Cert.Reference2048Ideal.τ).loc Cert.Reference2048Ideal.main_arg3)) (m ((c.tc : Thread Cert.Reference2048Ideal.nD Cert.Reference2048Ideal.τ).loc Cert.Reference2048Ideal.main_arg4))) = (fun _ => 1#1)

def Pre_Kernel3072 [hPre_groups_fit : Cert.Pre_groups_fit.Facts] (m : (ℓ : Loc Cert.Kernel3072.nD Cert.Kernel3072.τ Cert.Kernel3072.sig) → Buf (Elt Bits) ℓ) : Prop :=
  ∀ c : Dev Cert.Kernel3072.nD,
    (Cert.Pre_groups_fit.fn (F := Bits) (m ((c.tc : Thread Cert.Kernel3072.nD Cert.Kernel3072.τ).loc Cert.Kernel3072.main_arg0)) (m ((c.tc : Thread Cert.Kernel3072.nD Cert.Kernel3072.τ).loc Cert.Kernel3072.main_arg1)) (m ((c.tc : Thread Cert.Kernel3072.nD Cert.Kernel3072.τ).loc Cert.Kernel3072.main_arg2)) (m ((c.tc : Thread Cert.Kernel3072.nD Cert.Kernel3072.τ).loc Cert.Kernel3072.main_arg3)) (m ((c.tc : Thread Cert.Kernel3072.nD Cert.Kernel3072.τ).loc Cert.Kernel3072.main_arg4))) = (fun _ => 1#1)

def Pre_Kernel3072Ideal [hPre_groups_fit : Cert.Pre_groups_fit.Facts] (m : (ℓ : Loc Cert.Kernel3072Ideal.nD Cert.Kernel3072Ideal.τ Cert.Kernel3072Ideal.sig) → Buf (Elt Ideal) ℓ) : Prop :=
  ∀ c : Dev Cert.Kernel3072Ideal.nD,
    (Cert.Pre_groups_fit.fn (F := Ideal) (m ((c.tc : Thread Cert.Kernel3072Ideal.nD Cert.Kernel3072Ideal.τ).loc Cert.Kernel3072Ideal.main_arg0)) (m ((c.tc : Thread Cert.Kernel3072Ideal.nD Cert.Kernel3072Ideal.τ).loc Cert.Kernel3072Ideal.main_arg1)) (m ((c.tc : Thread Cert.Kernel3072Ideal.nD Cert.Kernel3072Ideal.τ).loc Cert.Kernel3072Ideal.main_arg2)) (m ((c.tc : Thread Cert.Kernel3072Ideal.nD Cert.Kernel3072Ideal.τ).loc Cert.Kernel3072Ideal.main_arg3)) (m ((c.tc : Thread Cert.Kernel3072Ideal.nD Cert.Kernel3072Ideal.τ).loc Cert.Kernel3072Ideal.main_arg4))) = (fun _ => 1#1)

def Pre_Reference3072Ideal (m : (ℓ : Loc Cert.Reference3072Ideal.nD Cert.Reference3072Ideal.τ Cert.Reference3072Ideal.sig) → Buf (Elt Ideal) ℓ) : Prop :=
  True

def Pre_Reference3072Ideal_groups_fit [hPre_groups_fit : Cert.Pre_groups_fit.Facts] (m : (ℓ : Loc Cert.Reference3072Ideal.nD Cert.Reference3072Ideal.τ Cert.Reference3072Ideal.sig) → Buf (Elt Ideal) ℓ) : Prop :=
  ∀ c : Dev Cert.Reference3072Ideal.nD,
    (Cert.Pre_groups_fit.fn (F := Ideal) (m ((c.tc : Thread Cert.Reference3072Ideal.nD Cert.Reference3072Ideal.τ).loc Cert.Reference3072Ideal.main_arg0)) (m ((c.tc : Thread Cert.Reference3072Ideal.nD Cert.Reference3072Ideal.τ).loc Cert.Reference3072Ideal.main_arg1)) (m ((c.tc : Thread Cert.Reference3072Ideal.nD Cert.Reference3072Ideal.τ).loc Cert.Reference3072Ideal.main_arg2)) (m ((c.tc : Thread Cert.Reference3072Ideal.nD Cert.Reference3072Ideal.τ).loc Cert.Reference3072Ideal.main_arg3)) (m ((c.tc : Thread Cert.Reference3072Ideal.nD Cert.Reference3072Ideal.τ).loc Cert.Reference3072Ideal.main_arg4))) = (fun _ => 1#1)

def quiescent_Kernel [hKernel : Cert.Kernel.Facts] [hPre_groups_fit : Cert.Pre_groups_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_groups_fit : Cert.Pre_groups_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_groups_fit [hReferenceIdeal : Cert.ReferenceIdeal.Facts] [hPre_groups_fit : Cert.Pre_groups_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel1024 [hKernel1024 : Cert.Kernel1024.Facts] [hPre_groups_fit : Cert.Pre_groups_fit.Facts] : Prop :=
  ∀ (m : (ℓ : Loc Cert.Kernel1024.nD Cert.Kernel1024.τ Cert.Kernel1024.sig) → Buf (Elt Bits) ℓ) (g : Dev Cert.Kernel1024.nD → PrngReg), Pre_Kernel1024 m →
    θ_run (Cert.Kernel1024.defs (F := Bits)) (onTc (τ := Cert.Kernel1024.τ) (Cert.Kernel1024.main (F := Bits))) ⟨m, fun _ => 0, g⟩ (fun r => (∀ c : Dev Cert.Kernel1024.nD,
      r.2.mem ((c.tc : Thread Cert.Kernel1024.nD Cert.Kernel1024.τ).loc Cert.Kernel1024.main_arg0) = m ((c.tc : Thread Cert.Kernel1024.nD Cert.Kernel1024.τ).loc Cert.Kernel1024.main_arg0)
      ∧ r.2.mem ((c.tc : Thread Cert.Kernel1024.nD Cert.Kernel1024.τ).loc Cert.Kernel1024.main_arg1) = m ((c.tc : Thread Cert.Kernel1024.nD Cert.Kernel1024.τ).loc Cert.Kernel1024.main_arg1)
      ∧ r.2.mem ((c.tc : Thread Cert.Kernel1024.nD Cert.Kernel1024.τ).loc Cert.Kernel1024.main_arg2) = m ((c.tc : Thread Cert.Kernel1024.nD Cert.Kernel1024.τ).loc Cert.Kernel1024.main_arg2)
      ∧ r.2.mem ((c.tc : Thread Cert.Kernel1024.nD Cert.Kernel1024.τ).loc Cert.Kernel1024.main_arg3) = m ((c.tc : Thread Cert.Kernel1024.nD Cert.Kernel1024.τ).loc Cert.Kernel1024.main_arg3)
      ∧ r.2.mem ((c.tc : Thread Cert.Kernel1024.nD Cert.Kernel1024.τ).loc Cert.Kernel1024.main_arg4) = m ((c.tc : Thread Cert.Kernel1024.nD Cert.Kernel1024.τ).loc Cert.Kernel1024.main_arg4))
      ∧ r.2.sem = fun _ => 0)

def quiescent_Kernel1024Ideal [hKernel1024Ideal : Cert.Kernel1024Ideal.Facts] [hPre_groups_fit : Cert.Pre_groups_fit.Facts] : Prop :=
  ∀ (m : (ℓ : Loc Cert.Kernel1024Ideal.nD Cert.Kernel1024Ideal.τ Cert.Kernel1024Ideal.sig) → Buf (Elt Ideal) ℓ) (g : Dev Cert.Kernel1024Ideal.nD → PrngReg), Pre_Kernel1024Ideal m →
    θ_run (Cert.Kernel1024Ideal.defs (F := Ideal)) (onTc (τ := Cert.Kernel1024Ideal.τ) (Cert.Kernel1024Ideal.main (F := Ideal))) ⟨m, fun _ => 0, g⟩ (fun r => (∀ c : Dev Cert.Kernel1024Ideal.nD,
      r.2.mem ((c.tc : Thread Cert.Kernel1024Ideal.nD Cert.Kernel1024Ideal.τ).loc Cert.Kernel1024Ideal.main_arg0) = m ((c.tc : Thread Cert.Kernel1024Ideal.nD Cert.Kernel1024Ideal.τ).loc Cert.Kernel1024Ideal.main_arg0)
      ∧ r.2.mem ((c.tc : Thread Cert.Kernel1024Ideal.nD Cert.Kernel1024Ideal.τ).loc Cert.Kernel1024Ideal.main_arg1) = m ((c.tc : Thread Cert.Kernel1024Ideal.nD Cert.Kernel1024Ideal.τ).loc Cert.Kernel1024Ideal.main_arg1)
      ∧ r.2.mem ((c.tc : Thread Cert.Kernel1024Ideal.nD Cert.Kernel1024Ideal.τ).loc Cert.Kernel1024Ideal.main_arg2) = m ((c.tc : Thread Cert.Kernel1024Ideal.nD Cert.Kernel1024Ideal.τ).loc Cert.Kernel1024Ideal.main_arg2)
      ∧ r.2.mem ((c.tc : Thread Cert.Kernel1024Ideal.nD Cert.Kernel1024Ideal.τ).loc Cert.Kernel1024Ideal.main_arg3) = m ((c.tc : Thread Cert.Kernel1024Ideal.nD Cert.Kernel1024Ideal.τ).loc Cert.Kernel1024Ideal.main_arg3)
      ∧ r.2.mem ((c.tc : Thread Cert.Kernel1024Ideal.nD Cert.Kernel1024Ideal.τ).loc Cert.Kernel1024Ideal.main_arg4) = m ((c.tc : Thread Cert.Kernel1024Ideal.nD Cert.Kernel1024Ideal.τ).loc Cert.Kernel1024Ideal.main_arg4))
      ∧ r.2.sem = fun _ => 0)

def quiescent_Reference1024Ideal [hReference1024Ideal : Cert.Reference1024Ideal.Facts] : Prop :=
  ∀ (m : (ℓ : Loc Cert.Reference1024Ideal.nD Cert.Reference1024Ideal.τ Cert.Reference1024Ideal.sig) → Buf (Elt Ideal) ℓ) (g : Dev Cert.Reference1024Ideal.nD → PrngReg), Pre_Reference1024Ideal m →
    θ_run (Cert.Reference1024Ideal.defs (F := Ideal)) (onTc (τ := Cert.Reference1024Ideal.τ) (Cert.Reference1024Ideal.main (F := Ideal))) ⟨m, fun _ => 0, g⟩ (fun r => (∀ c : Dev Cert.Reference1024Ideal.nD,
      r.2.mem ((c.tc : Thread Cert.Reference1024Ideal.nD Cert.Reference1024Ideal.τ).loc Cert.Reference1024Ideal.main_arg0) = m ((c.tc : Thread Cert.Reference1024Ideal.nD Cert.Reference1024Ideal.τ).loc Cert.Reference1024Ideal.main_arg0)
      ∧ r.2.mem ((c.tc : Thread Cert.Reference1024Ideal.nD Cert.Reference1024Ideal.τ).loc Cert.Reference1024Ideal.main_arg1) = m ((c.tc : Thread Cert.Reference1024Ideal.nD Cert.Reference1024Ideal.τ).loc Cert.Reference1024Ideal.main_arg1)
      ∧ r.2.mem ((c.tc : Thread Cert.Reference1024Ideal.nD Cert.Reference1024Ideal.τ).loc Cert.Reference1024Ideal.main_arg2) = m ((c.tc : Thread Cert.Reference1024Ideal.nD Cert.Reference1024Ideal.τ).loc Cert.Reference1024Ideal.main_arg2)
      ∧ r.2.mem ((c.tc : Thread Cert.Reference1024Ideal.nD Cert.Reference1024Ideal.τ).loc Cert.Reference1024Ideal.main_arg3) = m ((c.tc : Thread Cert.Reference1024Ideal.nD Cert.Reference1024Ideal.τ).loc Cert.Reference1024Ideal.main_arg3)
      ∧ r.2.mem ((c.tc : Thread Cert.Reference1024Ideal.nD Cert.Reference1024Ideal.τ).loc Cert.Reference1024Ideal.main_arg4) = m ((c.tc : Thread Cert.Reference1024Ideal.nD Cert.Reference1024Ideal.τ).loc Cert.Reference1024Ideal.main_arg4))
      ∧ r.2.sem = fun _ => 0)

def quiescent_Reference1024Ideal_pre_groups_fit [hReference1024Ideal : Cert.Reference1024Ideal.Facts] [hPre_groups_fit : Cert.Pre_groups_fit.Facts] : Prop :=
  ∀ (m : (ℓ : Loc Cert.Reference1024Ideal.nD Cert.Reference1024Ideal.τ Cert.Reference1024Ideal.sig) → Buf (Elt Ideal) ℓ) (g : Dev Cert.Reference1024Ideal.nD → PrngReg), Pre_Reference1024Ideal_groups_fit m →
    θ_run (Cert.Reference1024Ideal.defs (F := Ideal)) (onTc (τ := Cert.Reference1024Ideal.τ) (Cert.Reference1024Ideal.main (F := Ideal))) ⟨m, fun _ => 0, g⟩ (fun r => (∀ c : Dev Cert.Reference1024Ideal.nD,
      r.2.mem ((c.tc : Thread Cert.Reference1024Ideal.nD Cert.Reference1024Ideal.τ).loc Cert.Reference1024Ideal.main_arg0) = m ((c.tc : Thread Cert.Reference1024Ideal.nD Cert.Reference1024Ideal.τ).loc Cert.Reference1024Ideal.main_arg0)
      ∧ r.2.mem ((c.tc : Thread Cert.Reference1024Ideal.nD Cert.Reference1024Ideal.τ).loc Cert.Reference1024Ideal.main_arg1) = m ((c.tc : Thread Cert.Reference1024Ideal.nD Cert.Reference1024Ideal.τ).loc Cert.Reference1024Ideal.main_arg1)
      ∧ r.2.mem ((c.tc : Thread Cert.Reference1024Ideal.nD Cert.Reference1024Ideal.τ).loc Cert.Reference1024Ideal.main_arg2) = m ((c.tc : Thread Cert.Reference1024Ideal.nD Cert.Reference1024Ideal.τ).loc Cert.Reference1024Ideal.main_arg2)
      ∧ r.2.mem ((c.tc : Thread Cert.Reference1024Ideal.nD Cert.Reference1024Ideal.τ).loc Cert.Reference1024Ideal.main_arg3) = m ((c.tc : Thread Cert.Reference1024Ideal.nD Cert.Reference1024Ideal.τ).loc Cert.Reference1024Ideal.main_arg3)
      ∧ r.2.mem ((c.tc : Thread Cert.Reference1024Ideal.nD Cert.Reference1024Ideal.τ).loc Cert.Reference1024Ideal.main_arg4) = m ((c.tc : Thread Cert.Reference1024Ideal.nD Cert.Reference1024Ideal.τ).loc Cert.Reference1024Ideal.main_arg4))
      ∧ r.2.sem = fun _ => 0)

def quiescent_Kernel2048 [hKernel2048 : Cert.Kernel2048.Facts] [hPre_groups_fit : Cert.Pre_groups_fit.Facts] : Prop :=
  ∀ (m : (ℓ : Loc Cert.Kernel2048.nD Cert.Kernel2048.τ Cert.Kernel2048.sig) → Buf (Elt Bits) ℓ) (g : Dev Cert.Kernel2048.nD → PrngReg), Pre_Kernel2048 m →
    θ_run (Cert.Kernel2048.defs (F := Bits)) (onTc (τ := Cert.Kernel2048.τ) (Cert.Kernel2048.main (F := Bits))) ⟨m, fun _ => 0, g⟩ (fun r => (∀ c : Dev Cert.Kernel2048.nD,
      r.2.mem ((c.tc : Thread Cert.Kernel2048.nD Cert.Kernel2048.τ).loc Cert.Kernel2048.main_arg0) = m ((c.tc : Thread Cert.Kernel2048.nD Cert.Kernel2048.τ).loc Cert.Kernel2048.main_arg0)
      ∧ r.2.mem ((c.tc : Thread Cert.Kernel2048.nD Cert.Kernel2048.τ).loc Cert.Kernel2048.main_arg1) = m ((c.tc : Thread Cert.Kernel2048.nD Cert.Kernel2048.τ).loc Cert.Kernel2048.main_arg1)
      ∧ r.2.mem ((c.tc : Thread Cert.Kernel2048.nD Cert.Kernel2048.τ).loc Cert.Kernel2048.main_arg2) = m ((c.tc : Thread Cert.Kernel2048.nD Cert.Kernel2048.τ).loc Cert.Kernel2048.main_arg2)
      ∧ r.2.mem ((c.tc : Thread Cert.Kernel2048.nD Cert.Kernel2048.τ).loc Cert.Kernel2048.main_arg3) = m ((c.tc : Thread Cert.Kernel2048.nD Cert.Kernel2048.τ).loc Cert.Kernel2048.main_arg3)
      ∧ r.2.mem ((c.tc : Thread Cert.Kernel2048.nD Cert.Kernel2048.τ).loc Cert.Kernel2048.main_arg4) = m ((c.tc : Thread Cert.Kernel2048.nD Cert.Kernel2048.τ).loc Cert.Kernel2048.main_arg4))
      ∧ r.2.sem = fun _ => 0)

def quiescent_Kernel2048Ideal [hKernel2048Ideal : Cert.Kernel2048Ideal.Facts] [hPre_groups_fit : Cert.Pre_groups_fit.Facts] : Prop :=
  ∀ (m : (ℓ : Loc Cert.Kernel2048Ideal.nD Cert.Kernel2048Ideal.τ Cert.Kernel2048Ideal.sig) → Buf (Elt Ideal) ℓ) (g : Dev Cert.Kernel2048Ideal.nD → PrngReg), Pre_Kernel2048Ideal m →
    θ_run (Cert.Kernel2048Ideal.defs (F := Ideal)) (onTc (τ := Cert.Kernel2048Ideal.τ) (Cert.Kernel2048Ideal.main (F := Ideal))) ⟨m, fun _ => 0, g⟩ (fun r => (∀ c : Dev Cert.Kernel2048Ideal.nD,
      r.2.mem ((c.tc : Thread Cert.Kernel2048Ideal.nD Cert.Kernel2048Ideal.τ).loc Cert.Kernel2048Ideal.main_arg0) = m ((c.tc : Thread Cert.Kernel2048Ideal.nD Cert.Kernel2048Ideal.τ).loc Cert.Kernel2048Ideal.main_arg0)
      ∧ r.2.mem ((c.tc : Thread Cert.Kernel2048Ideal.nD Cert.Kernel2048Ideal.τ).loc Cert.Kernel2048Ideal.main_arg1) = m ((c.tc : Thread Cert.Kernel2048Ideal.nD Cert.Kernel2048Ideal.τ).loc Cert.Kernel2048Ideal.main_arg1)
      ∧ r.2.mem ((c.tc : Thread Cert.Kernel2048Ideal.nD Cert.Kernel2048Ideal.τ).loc Cert.Kernel2048Ideal.main_arg2) = m ((c.tc : Thread Cert.Kernel2048Ideal.nD Cert.Kernel2048Ideal.τ).loc Cert.Kernel2048Ideal.main_arg2)
      ∧ r.2.mem ((c.tc : Thread Cert.Kernel2048Ideal.nD Cert.Kernel2048Ideal.τ).loc Cert.Kernel2048Ideal.main_arg3) = m ((c.tc : Thread Cert.Kernel2048Ideal.nD Cert.Kernel2048Ideal.τ).loc Cert.Kernel2048Ideal.main_arg3)
      ∧ r.2.mem ((c.tc : Thread Cert.Kernel2048Ideal.nD Cert.Kernel2048Ideal.τ).loc Cert.Kernel2048Ideal.main_arg4) = m ((c.tc : Thread Cert.Kernel2048Ideal.nD Cert.Kernel2048Ideal.τ).loc Cert.Kernel2048Ideal.main_arg4))
      ∧ r.2.sem = fun _ => 0)

def quiescent_Reference2048Ideal [hReference2048Ideal : Cert.Reference2048Ideal.Facts] : Prop :=
  ∀ (m : (ℓ : Loc Cert.Reference2048Ideal.nD Cert.Reference2048Ideal.τ Cert.Reference2048Ideal.sig) → Buf (Elt Ideal) ℓ) (g : Dev Cert.Reference2048Ideal.nD → PrngReg), Pre_Reference2048Ideal m →
    θ_run (Cert.Reference2048Ideal.defs (F := Ideal)) (onTc (τ := Cert.Reference2048Ideal.τ) (Cert.Reference2048Ideal.main (F := Ideal))) ⟨m, fun _ => 0, g⟩ (fun r => (∀ c : Dev Cert.Reference2048Ideal.nD,
      r.2.mem ((c.tc : Thread Cert.Reference2048Ideal.nD Cert.Reference2048Ideal.τ).loc Cert.Reference2048Ideal.main_arg0) = m ((c.tc : Thread Cert.Reference2048Ideal.nD Cert.Reference2048Ideal.τ).loc Cert.Reference2048Ideal.main_arg0)
      ∧ r.2.mem ((c.tc : Thread Cert.Reference2048Ideal.nD Cert.Reference2048Ideal.τ).loc Cert.Reference2048Ideal.main_arg1) = m ((c.tc : Thread Cert.Reference2048Ideal.nD Cert.Reference2048Ideal.τ).loc Cert.Reference2048Ideal.main_arg1)
      ∧ r.2.mem ((c.tc : Thread Cert.Reference2048Ideal.nD Cert.Reference2048Ideal.τ).loc Cert.Reference2048Ideal.main_arg2) = m ((c.tc : Thread Cert.Reference2048Ideal.nD Cert.Reference2048Ideal.τ).loc Cert.Reference2048Ideal.main_arg2)
      ∧ r.2.mem ((c.tc : Thread Cert.Reference2048Ideal.nD Cert.Reference2048Ideal.τ).loc Cert.Reference2048Ideal.main_arg3) = m ((c.tc : Thread Cert.Reference2048Ideal.nD Cert.Reference2048Ideal.τ).loc Cert.Reference2048Ideal.main_arg3)
      ∧ r.2.mem ((c.tc : Thread Cert.Reference2048Ideal.nD Cert.Reference2048Ideal.τ).loc Cert.Reference2048Ideal.main_arg4) = m ((c.tc : Thread Cert.Reference2048Ideal.nD Cert.Reference2048Ideal.τ).loc Cert.Reference2048Ideal.main_arg4))
      ∧ r.2.sem = fun _ => 0)

def quiescent_Reference2048Ideal_pre_groups_fit [hReference2048Ideal : Cert.Reference2048Ideal.Facts] [hPre_groups_fit : Cert.Pre_groups_fit.Facts] : Prop :=
  ∀ (m : (ℓ : Loc Cert.Reference2048Ideal.nD Cert.Reference2048Ideal.τ Cert.Reference2048Ideal.sig) → Buf (Elt Ideal) ℓ) (g : Dev Cert.Reference2048Ideal.nD → PrngReg), Pre_Reference2048Ideal_groups_fit m →
    θ_run (Cert.Reference2048Ideal.defs (F := Ideal)) (onTc (τ := Cert.Reference2048Ideal.τ) (Cert.Reference2048Ideal.main (F := Ideal))) ⟨m, fun _ => 0, g⟩ (fun r => (∀ c : Dev Cert.Reference2048Ideal.nD,
      r.2.mem ((c.tc : Thread Cert.Reference2048Ideal.nD Cert.Reference2048Ideal.τ).loc Cert.Reference2048Ideal.main_arg0) = m ((c.tc : Thread Cert.Reference2048Ideal.nD Cert.Reference2048Ideal.τ).loc Cert.Reference2048Ideal.main_arg0)
      ∧ r.2.mem ((c.tc : Thread Cert.Reference2048Ideal.nD Cert.Reference2048Ideal.τ).loc Cert.Reference2048Ideal.main_arg1) = m ((c.tc : Thread Cert.Reference2048Ideal.nD Cert.Reference2048Ideal.τ).loc Cert.Reference2048Ideal.main_arg1)
      ∧ r.2.mem ((c.tc : Thread Cert.Reference2048Ideal.nD Cert.Reference2048Ideal.τ).loc Cert.Reference2048Ideal.main_arg2) = m ((c.tc : Thread Cert.Reference2048Ideal.nD Cert.Reference2048Ideal.τ).loc Cert.Reference2048Ideal.main_arg2)
      ∧ r.2.mem ((c.tc : Thread Cert.Reference2048Ideal.nD Cert.Reference2048Ideal.τ).loc Cert.Reference2048Ideal.main_arg3) = m ((c.tc : Thread Cert.Reference2048Ideal.nD Cert.Reference2048Ideal.τ).loc Cert.Reference2048Ideal.main_arg3)
      ∧ r.2.mem ((c.tc : Thread Cert.Reference2048Ideal.nD Cert.Reference2048Ideal.τ).loc Cert.Reference2048Ideal.main_arg4) = m ((c.tc : Thread Cert.Reference2048Ideal.nD Cert.Reference2048Ideal.τ).loc Cert.Reference2048Ideal.main_arg4))
      ∧ r.2.sem = fun _ => 0)

def quiescent_Kernel3072 [hKernel3072 : Cert.Kernel3072.Facts] [hPre_groups_fit : Cert.Pre_groups_fit.Facts] : Prop :=
  ∀ (m : (ℓ : Loc Cert.Kernel3072.nD Cert.Kernel3072.τ Cert.Kernel3072.sig) → Buf (Elt Bits) ℓ) (g : Dev Cert.Kernel3072.nD → PrngReg), Pre_Kernel3072 m →
    θ_run (Cert.Kernel3072.defs (F := Bits)) (onTc (τ := Cert.Kernel3072.τ) (Cert.Kernel3072.main (F := Bits))) ⟨m, fun _ => 0, g⟩ (fun r => (∀ c : Dev Cert.Kernel3072.nD,
      r.2.mem ((c.tc : Thread Cert.Kernel3072.nD Cert.Kernel3072.τ).loc Cert.Kernel3072.main_arg0) = m ((c.tc : Thread Cert.Kernel3072.nD Cert.Kernel3072.τ).loc Cert.Kernel3072.main_arg0)
      ∧ r.2.mem ((c.tc : Thread Cert.Kernel3072.nD Cert.Kernel3072.τ).loc Cert.Kernel3072.main_arg1) = m ((c.tc : Thread Cert.Kernel3072.nD Cert.Kernel3072.τ).loc Cert.Kernel3072.main_arg1)
      ∧ r.2.mem ((c.tc : Thread Cert.Kernel3072.nD Cert.Kernel3072.τ).loc Cert.Kernel3072.main_arg2) = m ((c.tc : Thread Cert.Kernel3072.nD Cert.Kernel3072.τ).loc Cert.Kernel3072.main_arg2)
      ∧ r.2.mem ((c.tc : Thread Cert.Kernel3072.nD Cert.Kernel3072.τ).loc Cert.Kernel3072.main_arg3) = m ((c.tc : Thread Cert.Kernel3072.nD Cert.Kernel3072.τ).loc Cert.Kernel3072.main_arg3)
      ∧ r.2.mem ((c.tc : Thread Cert.Kernel3072.nD Cert.Kernel3072.τ).loc Cert.Kernel3072.main_arg4) = m ((c.tc : Thread Cert.Kernel3072.nD Cert.Kernel3072.τ).loc Cert.Kernel3072.main_arg4))
      ∧ r.2.sem = fun _ => 0)

def quiescent_Kernel3072Ideal [hKernel3072Ideal : Cert.Kernel3072Ideal.Facts] [hPre_groups_fit : Cert.Pre_groups_fit.Facts] : Prop :=
  ∀ (m : (ℓ : Loc Cert.Kernel3072Ideal.nD Cert.Kernel3072Ideal.τ Cert.Kernel3072Ideal.sig) → Buf (Elt Ideal) ℓ) (g : Dev Cert.Kernel3072Ideal.nD → PrngReg), Pre_Kernel3072Ideal m →
    θ_run (Cert.Kernel3072Ideal.defs (F := Ideal)) (onTc (τ := Cert.Kernel3072Ideal.τ) (Cert.Kernel3072Ideal.main (F := Ideal))) ⟨m, fun _ => 0, g⟩ (fun r => (∀ c : Dev Cert.Kernel3072Ideal.nD,
      r.2.mem ((c.tc : Thread Cert.Kernel3072Ideal.nD Cert.Kernel3072Ideal.τ).loc Cert.Kernel3072Ideal.main_arg0) = m ((c.tc : Thread Cert.Kernel3072Ideal.nD Cert.Kernel3072Ideal.τ).loc Cert.Kernel3072Ideal.main_arg0)
      ∧ r.2.mem ((c.tc : Thread Cert.Kernel3072Ideal.nD Cert.Kernel3072Ideal.τ).loc Cert.Kernel3072Ideal.main_arg1) = m ((c.tc : Thread Cert.Kernel3072Ideal.nD Cert.Kernel3072Ideal.τ).loc Cert.Kernel3072Ideal.main_arg1)
      ∧ r.2.mem ((c.tc : Thread Cert.Kernel3072Ideal.nD Cert.Kernel3072Ideal.τ).loc Cert.Kernel3072Ideal.main_arg2) = m ((c.tc : Thread Cert.Kernel3072Ideal.nD Cert.Kernel3072Ideal.τ).loc Cert.Kernel3072Ideal.main_arg2)
      ∧ r.2.mem ((c.tc : Thread Cert.Kernel3072Ideal.nD Cert.Kernel3072Ideal.τ).loc Cert.Kernel3072Ideal.main_arg3) = m ((c.tc : Thread Cert.Kernel3072Ideal.nD Cert.Kernel3072Ideal.τ).loc Cert.Kernel3072Ideal.main_arg3)
      ∧ r.2.mem ((c.tc : Thread Cert.Kernel3072Ideal.nD Cert.Kernel3072Ideal.τ).loc Cert.Kernel3072Ideal.main_arg4) = m ((c.tc : Thread Cert.Kernel3072Ideal.nD Cert.Kernel3072Ideal.τ).loc Cert.Kernel3072Ideal.main_arg4))
      ∧ r.2.sem = fun _ => 0)

def quiescent_Reference3072Ideal [hReference3072Ideal : Cert.Reference3072Ideal.Facts] : Prop :=
  ∀ (m : (ℓ : Loc Cert.Reference3072Ideal.nD Cert.Reference3072Ideal.τ Cert.Reference3072Ideal.sig) → Buf (Elt Ideal) ℓ) (g : Dev Cert.Reference3072Ideal.nD → PrngReg), Pre_Reference3072Ideal m →
    θ_run (Cert.Reference3072Ideal.defs (F := Ideal)) (onTc (τ := Cert.Reference3072Ideal.τ) (Cert.Reference3072Ideal.main (F := Ideal))) ⟨m, fun _ => 0, g⟩ (fun r => (∀ c : Dev Cert.Reference3072Ideal.nD,
      r.2.mem ((c.tc : Thread Cert.Reference3072Ideal.nD Cert.Reference3072Ideal.τ).loc Cert.Reference3072Ideal.main_arg0) = m ((c.tc : Thread Cert.Reference3072Ideal.nD Cert.Reference3072Ideal.τ).loc Cert.Reference3072Ideal.main_arg0)
      ∧ r.2.mem ((c.tc : Thread Cert.Reference3072Ideal.nD Cert.Reference3072Ideal.τ).loc Cert.Reference3072Ideal.main_arg1) = m ((c.tc : Thread Cert.Reference3072Ideal.nD Cert.Reference3072Ideal.τ).loc Cert.Reference3072Ideal.main_arg1)
      ∧ r.2.mem ((c.tc : Thread Cert.Reference3072Ideal.nD Cert.Reference3072Ideal.τ).loc Cert.Reference3072Ideal.main_arg2) = m ((c.tc : Thread Cert.Reference3072Ideal.nD Cert.Reference3072Ideal.τ).loc Cert.Reference3072Ideal.main_arg2)
      ∧ r.2.mem ((c.tc : Thread Cert.Reference3072Ideal.nD Cert.Reference3072Ideal.τ).loc Cert.Reference3072Ideal.main_arg3) = m ((c.tc : Thread Cert.Reference3072Ideal.nD Cert.Reference3072Ideal.τ).loc Cert.Reference3072Ideal.main_arg3)
      ∧ r.2.mem ((c.tc : Thread Cert.Reference3072Ideal.nD Cert.Reference3072Ideal.τ).loc Cert.Reference3072Ideal.main_arg4) = m ((c.tc : Thread Cert.Reference3072Ideal.nD Cert.Reference3072Ideal.τ).loc Cert.Reference3072Ideal.main_arg4))
      ∧ r.2.sem = fun _ => 0)

def quiescent_Reference3072Ideal_pre_groups_fit [hReference3072Ideal : Cert.Reference3072Ideal.Facts] [hPre_groups_fit : Cert.Pre_groups_fit.Facts] : Prop :=
  ∀ (m : (ℓ : Loc Cert.Reference3072Ideal.nD Cert.Reference3072Ideal.τ Cert.Reference3072Ideal.sig) → Buf (Elt Ideal) ℓ) (g : Dev Cert.Reference3072Ideal.nD → PrngReg), Pre_Reference3072Ideal_groups_fit m →
    θ_run (Cert.Reference3072Ideal.defs (F := Ideal)) (onTc (τ := Cert.Reference3072Ideal.τ) (Cert.Reference3072Ideal.main (F := Ideal))) ⟨m, fun _ => 0, g⟩ (fun r => (∀ c : Dev Cert.Reference3072Ideal.nD,
      r.2.mem ((c.tc : Thread Cert.Reference3072Ideal.nD Cert.Reference3072Ideal.τ).loc Cert.Reference3072Ideal.main_arg0) = m ((c.tc : Thread Cert.Reference3072Ideal.nD Cert.Reference3072Ideal.τ).loc Cert.Reference3072Ideal.main_arg0)
      ∧ r.2.mem ((c.tc : Thread Cert.Reference3072Ideal.nD Cert.Reference3072Ideal.τ).loc Cert.Reference3072Ideal.main_arg1) = m ((c.tc : Thread Cert.Reference3072Ideal.nD Cert.Reference3072Ideal.τ).loc Cert.Reference3072Ideal.main_arg1)
      ∧ r.2.mem ((c.tc : Thread Cert.Reference3072Ideal.nD Cert.Reference3072Ideal.τ).loc Cert.Reference3072Ideal.main_arg2) = m ((c.tc : Thread Cert.Reference3072Ideal.nD Cert.Reference3072Ideal.τ).loc Cert.Reference3072Ideal.main_arg2)
      ∧ r.2.mem ((c.tc : Thread Cert.Reference3072Ideal.nD Cert.Reference3072Ideal.τ).loc Cert.Reference3072Ideal.main_arg3) = m ((c.tc : Thread Cert.Reference3072Ideal.nD Cert.Reference3072Ideal.τ).loc Cert.Reference3072Ideal.main_arg3)
      ∧ r.2.mem ((c.tc : Thread Cert.Reference3072Ideal.nD Cert.Reference3072Ideal.τ).loc Cert.Reference3072Ideal.main_arg4) = m ((c.tc : Thread Cert.Reference3072Ideal.nD Cert.Reference3072Ideal.τ).loc Cert.Reference3072Ideal.main_arg4))
      ∧ r.2.sem = fun _ => 0)

def preserves_Kernel_KernelIdeal : Prop :=
  True

def algebraic_KernelIdeal_ReferenceIdeal_on_expert_rows [hKernelIdeal : Cert.KernelIdeal.Facts] [hReferenceIdeal : Cert.ReferenceIdeal.Facts] [hPre_groups_fit : Cert.Pre_groups_fit.Facts] [hOn_expert_rows : Cert.On_expert_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![933888, 128]⟩ : Shape).Idx, (Cert.On_expert_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.KernelIdeal.nD Cert.KernelIdeal.τ).loc Cert.KernelIdeal.main_v1) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![933888, 128]⟩ : Shape).Idx, (Cert.On_expert_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) i = 1#1 → r.2.mem ((c.tc : Thread Cert.ReferenceIdeal.nD Cert.ReferenceIdeal.τ).loc Cert.ReferenceIdeal.main_v2) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel1024_Kernel1024Ideal : Prop :=
  True

def algebraic_Kernel1024Ideal_Reference1024Ideal_on_expert_rows [hKernel1024Ideal : Cert.Kernel1024Ideal.Facts] [hReference1024Ideal : Cert.Reference1024Ideal.Facts] [hPre_groups_fit : Cert.Pre_groups_fit.Facts] [hOn_expert_rows : Cert.On_expert_rows.Facts] : Prop :=
  ∀ (m : (ℓ : Loc Cert.Kernel1024Ideal.nD Cert.Kernel1024Ideal.τ Cert.Kernel1024Ideal.sig) → Buf (Elt Ideal) ℓ) (g : Dev Cert.Kernel1024Ideal.nD → PrngReg)
    (m' : (ℓ : Loc Cert.Reference1024Ideal.nD Cert.Reference1024Ideal.τ Cert.Reference1024Ideal.sig) → Buf (Elt Ideal) ℓ) (g' : Dev Cert.Reference1024Ideal.nD → PrngReg), Pre_Kernel1024Ideal m →
    (∀ c : Dev Cert.Kernel1024Ideal.nD,
      m' ((c.tc : Thread Cert.Reference1024Ideal.nD Cert.Reference1024Ideal.τ).loc Cert.Reference1024Ideal.main_arg0) = m ((c.tc : Thread Cert.Kernel1024Ideal.nD Cert.Kernel1024Ideal.τ).loc Cert.Kernel1024Ideal.main_arg0)
      ∧ m' ((c.tc : Thread Cert.Reference1024Ideal.nD Cert.Reference1024Ideal.τ).loc Cert.Reference1024Ideal.main_arg1) = m ((c.tc : Thread Cert.Kernel1024Ideal.nD Cert.Kernel1024Ideal.τ).loc Cert.Kernel1024Ideal.main_arg1)
      ∧ m' ((c.tc : Thread Cert.Reference1024Ideal.nD Cert.Reference1024Ideal.τ).loc Cert.Reference1024Ideal.main_arg2) = m ((c.tc : Thread Cert.Kernel1024Ideal.nD Cert.Kernel1024Ideal.τ).loc Cert.Kernel1024Ideal.main_arg2)
      ∧ m' ((c.tc : Thread Cert.Reference1024Ideal.nD Cert.Reference1024Ideal.τ).loc Cert.Reference1024Ideal.main_arg3) = m ((c.tc : Thread Cert.Kernel1024Ideal.nD Cert.Kernel1024Ideal.τ).loc Cert.Kernel1024Ideal.main_arg3)
      ∧ m' ((c.tc : Thread Cert.Reference1024Ideal.nD Cert.Reference1024Ideal.τ).loc Cert.Reference1024Ideal.main_arg4) = m ((c.tc : Thread Cert.Kernel1024Ideal.nD Cert.Kernel1024Ideal.τ).loc Cert.Kernel1024Ideal.main_arg4)) →
    ∃ (v0 : (c : Dev Cert.Kernel1024Ideal.nD) → Buf (Elt Ideal) ((c.tc : Thread Cert.Kernel1024Ideal.nD Cert.Kernel1024Ideal.τ).loc Cert.Kernel1024Ideal.main_v1)),
      θ_run (Cert.Kernel1024Ideal.defs (F := Ideal)) (onTc (τ := Cert.Kernel1024Ideal.τ) (Cert.Kernel1024Ideal.main (F := Ideal))) ⟨m, fun _ => 0, g⟩ (fun r => ∀ c : Dev Cert.Kernel1024Ideal.nD,
          (∀ i : (⟨2, ![933888, 128]⟩ : Shape).Idx, (Cert.On_expert_rows.fn (F := Ideal) (m ((c.tc : Thread Cert.Kernel1024Ideal.nD Cert.Kernel1024Ideal.τ).loc Cert.Kernel1024Ideal.main_arg0)) (m ((c.tc : Thread Cert.Kernel1024Ideal.nD Cert.Kernel1024Ideal.τ).loc Cert.Kernel1024Ideal.main_arg1)) (m ((c.tc : Thread Cert.Kernel1024Ideal.nD Cert.Kernel1024Ideal.τ).loc Cert.Kernel1024Ideal.main_arg2)) (m ((c.tc : Thread Cert.Kernel1024Ideal.nD Cert.Kernel1024Ideal.τ).loc Cert.Kernel1024Ideal.main_arg3)) (m ((c.tc : Thread Cert.Kernel1024Ideal.nD Cert.Kernel1024Ideal.τ).loc Cert.Kernel1024Ideal.main_arg4))) i = 1#1 → r.2.mem ((c.tc : Thread Cert.Kernel1024Ideal.nD Cert.Kernel1024Ideal.τ).loc Cert.Kernel1024Ideal.main_v1) i = v0 c i)
          ∧ r.2.mem ((c.tc : Thread Cert.Kernel1024Ideal.nD Cert.Kernel1024Ideal.τ).loc Cert.Kernel1024Ideal.main_arg0) = m ((c.tc : Thread Cert.Kernel1024Ideal.nD Cert.Kernel1024Ideal.τ).loc Cert.Kernel1024Ideal.main_arg0)
          ∧ r.2.mem ((c.tc : Thread Cert.Kernel1024Ideal.nD Cert.Kernel1024Ideal.τ).loc Cert.Kernel1024Ideal.main_arg1) = m ((c.tc : Thread Cert.Kernel1024Ideal.nD Cert.Kernel1024Ideal.τ).loc Cert.Kernel1024Ideal.main_arg1)
          ∧ r.2.mem ((c.tc : Thread Cert.Kernel1024Ideal.nD Cert.Kernel1024Ideal.τ).loc Cert.Kernel1024Ideal.main_arg2) = m ((c.tc : Thread Cert.Kernel1024Ideal.nD Cert.Kernel1024Ideal.τ).loc Cert.Kernel1024Ideal.main_arg2)
          ∧ r.2.mem ((c.tc : Thread Cert.Kernel1024Ideal.nD Cert.Kernel1024Ideal.τ).loc Cert.Kernel1024Ideal.main_arg3) = m ((c.tc : Thread Cert.Kernel1024Ideal.nD Cert.Kernel1024Ideal.τ).loc Cert.Kernel1024Ideal.main_arg3)
          ∧ r.2.mem ((c.tc : Thread Cert.Kernel1024Ideal.nD Cert.Kernel1024Ideal.τ).loc Cert.Kernel1024Ideal.main_arg4) = m ((c.tc : Thread Cert.Kernel1024Ideal.nD Cert.Kernel1024Ideal.τ).loc Cert.Kernel1024Ideal.main_arg4))
      ∧ θ_run (Cert.Reference1024Ideal.defs (F := Ideal)) (onTc (τ := Cert.Reference1024Ideal.τ) (Cert.Reference1024Ideal.main (F := Ideal))) ⟨m', fun _ => 0, g'⟩ (fun r => ∀ c : Dev Cert.Reference1024Ideal.nD,
          (∀ i : (⟨2, ![933888, 128]⟩ : Shape).Idx, (Cert.On_expert_rows.fn (F := Ideal) (m ((c.tc : Thread Cert.Kernel1024Ideal.nD Cert.Kernel1024Ideal.τ).loc Cert.Kernel1024Ideal.main_arg0)) (m ((c.tc : Thread Cert.Kernel1024Ideal.nD Cert.Kernel1024Ideal.τ).loc Cert.Kernel1024Ideal.main_arg1)) (m ((c.tc : Thread Cert.Kernel1024Ideal.nD Cert.Kernel1024Ideal.τ).loc Cert.Kernel1024Ideal.main_arg2)) (m ((c.tc : Thread Cert.Kernel1024Ideal.nD Cert.Kernel1024Ideal.τ).loc Cert.Kernel1024Ideal.main_arg3)) (m ((c.tc : Thread Cert.Kernel1024Ideal.nD Cert.Kernel1024Ideal.τ).loc Cert.Kernel1024Ideal.main_arg4))) i = 1#1 → r.2.mem ((c.tc : Thread Cert.Reference1024Ideal.nD Cert.Reference1024Ideal.τ).loc Cert.Reference1024Ideal.main_v2) i = v0 c i)
          ∧ r.2.mem ((c.tc : Thread Cert.Reference1024Ideal.nD Cert.Reference1024Ideal.τ).loc Cert.Reference1024Ideal.main_arg0) = m' ((c.tc : Thread Cert.Reference1024Ideal.nD Cert.Reference1024Ideal.τ).loc Cert.Reference1024Ideal.main_arg0)
          ∧ r.2.mem ((c.tc : Thread Cert.Reference1024Ideal.nD Cert.Reference1024Ideal.τ).loc Cert.Reference1024Ideal.main_arg1) = m' ((c.tc : Thread Cert.Reference1024Ideal.nD Cert.Reference1024Ideal.τ).loc Cert.Reference1024Ideal.main_arg1)
          ∧ r.2.mem ((c.tc : Thread Cert.Reference1024Ideal.nD Cert.Reference1024Ideal.τ).loc Cert.Reference1024Ideal.main_arg2) = m' ((c.tc : Thread Cert.Reference1024Ideal.nD Cert.Reference1024Ideal.τ).loc Cert.Reference1024Ideal.main_arg2)
          ∧ r.2.mem ((c.tc : Thread Cert.Reference1024Ideal.nD Cert.Reference1024Ideal.τ).loc Cert.Reference1024Ideal.main_arg3) = m' ((c.tc : Thread Cert.Reference1024Ideal.nD Cert.Reference1024Ideal.τ).loc Cert.Reference1024Ideal.main_arg3)
          ∧ r.2.mem ((c.tc : Thread Cert.Reference1024Ideal.nD Cert.Reference1024Ideal.τ).loc Cert.Reference1024Ideal.main_arg4) = m' ((c.tc : Thread Cert.Reference1024Ideal.nD Cert.Reference1024Ideal.τ).loc Cert.Reference1024Ideal.main_arg4))

def preserves_Kernel2048_Kernel2048Ideal : Prop :=
  True

def algebraic_Kernel2048Ideal_Reference2048Ideal_on_expert_rows [hKernel2048Ideal : Cert.Kernel2048Ideal.Facts] [hReference2048Ideal : Cert.Reference2048Ideal.Facts] [hPre_groups_fit : Cert.Pre_groups_fit.Facts] [hOn_expert_rows : Cert.On_expert_rows.Facts] : Prop :=
  ∀ (m : (ℓ : Loc Cert.Kernel2048Ideal.nD Cert.Kernel2048Ideal.τ Cert.Kernel2048Ideal.sig) → Buf (Elt Ideal) ℓ) (g : Dev Cert.Kernel2048Ideal.nD → PrngReg)
    (m' : (ℓ : Loc Cert.Reference2048Ideal.nD Cert.Reference2048Ideal.τ Cert.Reference2048Ideal.sig) → Buf (Elt Ideal) ℓ) (g' : Dev Cert.Reference2048Ideal.nD → PrngReg), Pre_Kernel2048Ideal m →
    (∀ c : Dev Cert.Kernel2048Ideal.nD,
      m' ((c.tc : Thread Cert.Reference2048Ideal.nD Cert.Reference2048Ideal.τ).loc Cert.Reference2048Ideal.main_arg0) = m ((c.tc : Thread Cert.Kernel2048Ideal.nD Cert.Kernel2048Ideal.τ).loc Cert.Kernel2048Ideal.main_arg0)
      ∧ m' ((c.tc : Thread Cert.Reference2048Ideal.nD Cert.Reference2048Ideal.τ).loc Cert.Reference2048Ideal.main_arg1) = m ((c.tc : Thread Cert.Kernel2048Ideal.nD Cert.Kernel2048Ideal.τ).loc Cert.Kernel2048Ideal.main_arg1)
      ∧ m' ((c.tc : Thread Cert.Reference2048Ideal.nD Cert.Reference2048Ideal.τ).loc Cert.Reference2048Ideal.main_arg2) = m ((c.tc : Thread Cert.Kernel2048Ideal.nD Cert.Kernel2048Ideal.τ).loc Cert.Kernel2048Ideal.main_arg2)
      ∧ m' ((c.tc : Thread Cert.Reference2048Ideal.nD Cert.Reference2048Ideal.τ).loc Cert.Reference2048Ideal.main_arg3) = m ((c.tc : Thread Cert.Kernel2048Ideal.nD Cert.Kernel2048Ideal.τ).loc Cert.Kernel2048Ideal.main_arg3)
      ∧ m' ((c.tc : Thread Cert.Reference2048Ideal.nD Cert.Reference2048Ideal.τ).loc Cert.Reference2048Ideal.main_arg4) = m ((c.tc : Thread Cert.Kernel2048Ideal.nD Cert.Kernel2048Ideal.τ).loc Cert.Kernel2048Ideal.main_arg4)) →
    ∃ (v0 : (c : Dev Cert.Kernel2048Ideal.nD) → Buf (Elt Ideal) ((c.tc : Thread Cert.Kernel2048Ideal.nD Cert.Kernel2048Ideal.τ).loc Cert.Kernel2048Ideal.main_v1)),
      θ_run (Cert.Kernel2048Ideal.defs (F := Ideal)) (onTc (τ := Cert.Kernel2048Ideal.τ) (Cert.Kernel2048Ideal.main (F := Ideal))) ⟨m, fun _ => 0, g⟩ (fun r => ∀ c : Dev Cert.Kernel2048Ideal.nD,
          (∀ i : (⟨2, ![933888, 128]⟩ : Shape).Idx, (Cert.On_expert_rows.fn (F := Ideal) (m ((c.tc : Thread Cert.Kernel2048Ideal.nD Cert.Kernel2048Ideal.τ).loc Cert.Kernel2048Ideal.main_arg0)) (m ((c.tc : Thread Cert.Kernel2048Ideal.nD Cert.Kernel2048Ideal.τ).loc Cert.Kernel2048Ideal.main_arg1)) (m ((c.tc : Thread Cert.Kernel2048Ideal.nD Cert.Kernel2048Ideal.τ).loc Cert.Kernel2048Ideal.main_arg2)) (m ((c.tc : Thread Cert.Kernel2048Ideal.nD Cert.Kernel2048Ideal.τ).loc Cert.Kernel2048Ideal.main_arg3)) (m ((c.tc : Thread Cert.Kernel2048Ideal.nD Cert.Kernel2048Ideal.τ).loc Cert.Kernel2048Ideal.main_arg4))) i = 1#1 → r.2.mem ((c.tc : Thread Cert.Kernel2048Ideal.nD Cert.Kernel2048Ideal.τ).loc Cert.Kernel2048Ideal.main_v1) i = v0 c i)
          ∧ r.2.mem ((c.tc : Thread Cert.Kernel2048Ideal.nD Cert.Kernel2048Ideal.τ).loc Cert.Kernel2048Ideal.main_arg0) = m ((c.tc : Thread Cert.Kernel2048Ideal.nD Cert.Kernel2048Ideal.τ).loc Cert.Kernel2048Ideal.main_arg0)
          ∧ r.2.mem ((c.tc : Thread Cert.Kernel2048Ideal.nD Cert.Kernel2048Ideal.τ).loc Cert.Kernel2048Ideal.main_arg1) = m ((c.tc : Thread Cert.Kernel2048Ideal.nD Cert.Kernel2048Ideal.τ).loc Cert.Kernel2048Ideal.main_arg1)
          ∧ r.2.mem ((c.tc : Thread Cert.Kernel2048Ideal.nD Cert.Kernel2048Ideal.τ).loc Cert.Kernel2048Ideal.main_arg2) = m ((c.tc : Thread Cert.Kernel2048Ideal.nD Cert.Kernel2048Ideal.τ).loc Cert.Kernel2048Ideal.main_arg2)
          ∧ r.2.mem ((c.tc : Thread Cert.Kernel2048Ideal.nD Cert.Kernel2048Ideal.τ).loc Cert.Kernel2048Ideal.main_arg3) = m ((c.tc : Thread Cert.Kernel2048Ideal.nD Cert.Kernel2048Ideal.τ).loc Cert.Kernel2048Ideal.main_arg3)
          ∧ r.2.mem ((c.tc : Thread Cert.Kernel2048Ideal.nD Cert.Kernel2048Ideal.τ).loc Cert.Kernel2048Ideal.main_arg4) = m ((c.tc : Thread Cert.Kernel2048Ideal.nD Cert.Kernel2048Ideal.τ).loc Cert.Kernel2048Ideal.main_arg4))
      ∧ θ_run (Cert.Reference2048Ideal.defs (F := Ideal)) (onTc (τ := Cert.Reference2048Ideal.τ) (Cert.Reference2048Ideal.main (F := Ideal))) ⟨m', fun _ => 0, g'⟩ (fun r => ∀ c : Dev Cert.Reference2048Ideal.nD,
          (∀ i : (⟨2, ![933888, 128]⟩ : Shape).Idx, (Cert.On_expert_rows.fn (F := Ideal) (m ((c.tc : Thread Cert.Kernel2048Ideal.nD Cert.Kernel2048Ideal.τ).loc Cert.Kernel2048Ideal.main_arg0)) (m ((c.tc : Thread Cert.Kernel2048Ideal.nD Cert.Kernel2048Ideal.τ).loc Cert.Kernel2048Ideal.main_arg1)) (m ((c.tc : Thread Cert.Kernel2048Ideal.nD Cert.Kernel2048Ideal.τ).loc Cert.Kernel2048Ideal.main_arg2)) (m ((c.tc : Thread Cert.Kernel2048Ideal.nD Cert.Kernel2048Ideal.τ).loc Cert.Kernel2048Ideal.main_arg3)) (m ((c.tc : Thread Cert.Kernel2048Ideal.nD Cert.Kernel2048Ideal.τ).loc Cert.Kernel2048Ideal.main_arg4))) i = 1#1 → r.2.mem ((c.tc : Thread Cert.Reference2048Ideal.nD Cert.Reference2048Ideal.τ).loc Cert.Reference2048Ideal.main_v2) i = v0 c i)
          ∧ r.2.mem ((c.tc : Thread Cert.Reference2048Ideal.nD Cert.Reference2048Ideal.τ).loc Cert.Reference2048Ideal.main_arg0) = m' ((c.tc : Thread Cert.Reference2048Ideal.nD Cert.Reference2048Ideal.τ).loc Cert.Reference2048Ideal.main_arg0)
          ∧ r.2.mem ((c.tc : Thread Cert.Reference2048Ideal.nD Cert.Reference2048Ideal.τ).loc Cert.Reference2048Ideal.main_arg1) = m' ((c.tc : Thread Cert.Reference2048Ideal.nD Cert.Reference2048Ideal.τ).loc Cert.Reference2048Ideal.main_arg1)
          ∧ r.2.mem ((c.tc : Thread Cert.Reference2048Ideal.nD Cert.Reference2048Ideal.τ).loc Cert.Reference2048Ideal.main_arg2) = m' ((c.tc : Thread Cert.Reference2048Ideal.nD Cert.Reference2048Ideal.τ).loc Cert.Reference2048Ideal.main_arg2)
          ∧ r.2.mem ((c.tc : Thread Cert.Reference2048Ideal.nD Cert.Reference2048Ideal.τ).loc Cert.Reference2048Ideal.main_arg3) = m' ((c.tc : Thread Cert.Reference2048Ideal.nD Cert.Reference2048Ideal.τ).loc Cert.Reference2048Ideal.main_arg3)
          ∧ r.2.mem ((c.tc : Thread Cert.Reference2048Ideal.nD Cert.Reference2048Ideal.τ).loc Cert.Reference2048Ideal.main_arg4) = m' ((c.tc : Thread Cert.Reference2048Ideal.nD Cert.Reference2048Ideal.τ).loc Cert.Reference2048Ideal.main_arg4))

def preserves_Kernel3072_Kernel3072Ideal : Prop :=
  True

def algebraic_Kernel3072Ideal_Reference3072Ideal_on_expert_rows [hKernel3072Ideal : Cert.Kernel3072Ideal.Facts] [hReference3072Ideal : Cert.Reference3072Ideal.Facts] [hPre_groups_fit : Cert.Pre_groups_fit.Facts] [hOn_expert_rows : Cert.On_expert_rows.Facts] : Prop :=
  ∀ (m : (ℓ : Loc Cert.Kernel3072Ideal.nD Cert.Kernel3072Ideal.τ Cert.Kernel3072Ideal.sig) → Buf (Elt Ideal) ℓ) (g : Dev Cert.Kernel3072Ideal.nD → PrngReg)
    (m' : (ℓ : Loc Cert.Reference3072Ideal.nD Cert.Reference3072Ideal.τ Cert.Reference3072Ideal.sig) → Buf (Elt Ideal) ℓ) (g' : Dev Cert.Reference3072Ideal.nD → PrngReg), Pre_Kernel3072Ideal m →
    (∀ c : Dev Cert.Kernel3072Ideal.nD,
      m' ((c.tc : Thread Cert.Reference3072Ideal.nD Cert.Reference3072Ideal.τ).loc Cert.Reference3072Ideal.main_arg0) = m ((c.tc : Thread Cert.Kernel3072Ideal.nD Cert.Kernel3072Ideal.τ).loc Cert.Kernel3072Ideal.main_arg0)
      ∧ m' ((c.tc : Thread Cert.Reference3072Ideal.nD Cert.Reference3072Ideal.τ).loc Cert.Reference3072Ideal.main_arg1) = m ((c.tc : Thread Cert.Kernel3072Ideal.nD Cert.Kernel3072Ideal.τ).loc Cert.Kernel3072Ideal.main_arg1)
      ∧ m' ((c.tc : Thread Cert.Reference3072Ideal.nD Cert.Reference3072Ideal.τ).loc Cert.Reference3072Ideal.main_arg2) = m ((c.tc : Thread Cert.Kernel3072Ideal.nD Cert.Kernel3072Ideal.τ).loc Cert.Kernel3072Ideal.main_arg2)
      ∧ m' ((c.tc : Thread Cert.Reference3072Ideal.nD Cert.Reference3072Ideal.τ).loc Cert.Reference3072Ideal.main_arg3) = m ((c.tc : Thread Cert.Kernel3072Ideal.nD Cert.Kernel3072Ideal.τ).loc Cert.Kernel3072Ideal.main_arg3)
      ∧ m' ((c.tc : Thread Cert.Reference3072Ideal.nD Cert.Reference3072Ideal.τ).loc Cert.Reference3072Ideal.main_arg4) = m ((c.tc : Thread Cert.Kernel3072Ideal.nD Cert.Kernel3072Ideal.τ).loc Cert.Kernel3072Ideal.main_arg4)) →
    ∃ (v0 : (c : Dev Cert.Kernel3072Ideal.nD) → Buf (Elt Ideal) ((c.tc : Thread Cert.Kernel3072Ideal.nD Cert.Kernel3072Ideal.τ).loc Cert.Kernel3072Ideal.main_v1)),
      θ_run (Cert.Kernel3072Ideal.defs (F := Ideal)) (onTc (τ := Cert.Kernel3072Ideal.τ) (Cert.Kernel3072Ideal.main (F := Ideal))) ⟨m, fun _ => 0, g⟩ (fun r => ∀ c : Dev Cert.Kernel3072Ideal.nD,
          (∀ i : (⟨2, ![933888, 128]⟩ : Shape).Idx, (Cert.On_expert_rows.fn (F := Ideal) (m ((c.tc : Thread Cert.Kernel3072Ideal.nD Cert.Kernel3072Ideal.τ).loc Cert.Kernel3072Ideal.main_arg0)) (m ((c.tc : Thread Cert.Kernel3072Ideal.nD Cert.Kernel3072Ideal.τ).loc Cert.Kernel3072Ideal.main_arg1)) (m ((c.tc : Thread Cert.Kernel3072Ideal.nD Cert.Kernel3072Ideal.τ).loc Cert.Kernel3072Ideal.main_arg2)) (m ((c.tc : Thread Cert.Kernel3072Ideal.nD Cert.Kernel3072Ideal.τ).loc Cert.Kernel3072Ideal.main_arg3)) (m ((c.tc : Thread Cert.Kernel3072Ideal.nD Cert.Kernel3072Ideal.τ).loc Cert.Kernel3072Ideal.main_arg4))) i = 1#1 → r.2.mem ((c.tc : Thread Cert.Kernel3072Ideal.nD Cert.Kernel3072Ideal.τ).loc Cert.Kernel3072Ideal.main_v1) i = v0 c i)
          ∧ r.2.mem ((c.tc : Thread Cert.Kernel3072Ideal.nD Cert.Kernel3072Ideal.τ).loc Cert.Kernel3072Ideal.main_arg0) = m ((c.tc : Thread Cert.Kernel3072Ideal.nD Cert.Kernel3072Ideal.τ).loc Cert.Kernel3072Ideal.main_arg0)
          ∧ r.2.mem ((c.tc : Thread Cert.Kernel3072Ideal.nD Cert.Kernel3072Ideal.τ).loc Cert.Kernel3072Ideal.main_arg1) = m ((c.tc : Thread Cert.Kernel3072Ideal.nD Cert.Kernel3072Ideal.τ).loc Cert.Kernel3072Ideal.main_arg1)
          ∧ r.2.mem ((c.tc : Thread Cert.Kernel3072Ideal.nD Cert.Kernel3072Ideal.τ).loc Cert.Kernel3072Ideal.main_arg2) = m ((c.tc : Thread Cert.Kernel3072Ideal.nD Cert.Kernel3072Ideal.τ).loc Cert.Kernel3072Ideal.main_arg2)
          ∧ r.2.mem ((c.tc : Thread Cert.Kernel3072Ideal.nD Cert.Kernel3072Ideal.τ).loc Cert.Kernel3072Ideal.main_arg3) = m ((c.tc : Thread Cert.Kernel3072Ideal.nD Cert.Kernel3072Ideal.τ).loc Cert.Kernel3072Ideal.main_arg3)
          ∧ r.2.mem ((c.tc : Thread Cert.Kernel3072Ideal.nD Cert.Kernel3072Ideal.τ).loc Cert.Kernel3072Ideal.main_arg4) = m ((c.tc : Thread Cert.Kernel3072Ideal.nD Cert.Kernel3072Ideal.τ).loc Cert.Kernel3072Ideal.main_arg4))
      ∧ θ_run (Cert.Reference3072Ideal.defs (F := Ideal)) (onTc (τ := Cert.Reference3072Ideal.τ) (Cert.Reference3072Ideal.main (F := Ideal))) ⟨m', fun _ => 0, g'⟩ (fun r => ∀ c : Dev Cert.Reference3072Ideal.nD,
          (∀ i : (⟨2, ![933888, 128]⟩ : Shape).Idx, (Cert.On_expert_rows.fn (F := Ideal) (m ((c.tc : Thread Cert.Kernel3072Ideal.nD Cert.Kernel3072Ideal.τ).loc Cert.Kernel3072Ideal.main_arg0)) (m ((c.tc : Thread Cert.Kernel3072Ideal.nD Cert.Kernel3072Ideal.τ).loc Cert.Kernel3072Ideal.main_arg1)) (m ((c.tc : Thread Cert.Kernel3072Ideal.nD Cert.Kernel3072Ideal.τ).loc Cert.Kernel3072Ideal.main_arg2)) (m ((c.tc : Thread Cert.Kernel3072Ideal.nD Cert.Kernel3072Ideal.τ).loc Cert.Kernel3072Ideal.main_arg3)) (m ((c.tc : Thread Cert.Kernel3072Ideal.nD Cert.Kernel3072Ideal.τ).loc Cert.Kernel3072Ideal.main_arg4))) i = 1#1 → r.2.mem ((c.tc : Thread Cert.Reference3072Ideal.nD Cert.Reference3072Ideal.τ).loc Cert.Reference3072Ideal.main_v2) i = v0 c i)
          ∧ r.2.mem ((c.tc : Thread Cert.Reference3072Ideal.nD Cert.Reference3072Ideal.τ).loc Cert.Reference3072Ideal.main_arg0) = m' ((c.tc : Thread Cert.Reference3072Ideal.nD Cert.Reference3072Ideal.τ).loc Cert.Reference3072Ideal.main_arg0)
          ∧ r.2.mem ((c.tc : Thread Cert.Reference3072Ideal.nD Cert.Reference3072Ideal.τ).loc Cert.Reference3072Ideal.main_arg1) = m' ((c.tc : Thread Cert.Reference3072Ideal.nD Cert.Reference3072Ideal.τ).loc Cert.Reference3072Ideal.main_arg1)
          ∧ r.2.mem ((c.tc : Thread Cert.Reference3072Ideal.nD Cert.Reference3072Ideal.τ).loc Cert.Reference3072Ideal.main_arg2) = m' ((c.tc : Thread Cert.Reference3072Ideal.nD Cert.Reference3072Ideal.τ).loc Cert.Reference3072Ideal.main_arg2)
          ∧ r.2.mem ((c.tc : Thread Cert.Reference3072Ideal.nD Cert.Reference3072Ideal.τ).loc Cert.Reference3072Ideal.main_arg3) = m' ((c.tc : Thread Cert.Reference3072Ideal.nD Cert.Reference3072Ideal.τ).loc Cert.Reference3072Ideal.main_arg3)
          ∧ r.2.mem ((c.tc : Thread Cert.Reference3072Ideal.nD Cert.Reference3072Ideal.τ).loc Cert.Reference3072Ideal.main_arg4) = m' ((c.tc : Thread Cert.Reference3072Ideal.nD Cert.Reference3072Ideal.τ).loc Cert.Reference3072Ideal.main_arg4))

def Claim : Prop :=
  ∃ (hKernel : Cert.Kernel.Facts) (hKernelIdeal : Cert.KernelIdeal.Facts) (hReferenceIdeal : Cert.ReferenceIdeal.Facts) (hKernel1024 : Cert.Kernel1024.Facts) (hKernel1024Ideal : Cert.Kernel1024Ideal.Facts) (hReference1024Ideal : Cert.Reference1024Ideal.Facts) (hKernel2048 : Cert.Kernel2048.Facts) (hKernel2048Ideal : Cert.Kernel2048Ideal.Facts) (hReference2048Ideal : Cert.Reference2048Ideal.Facts) (hKernel3072 : Cert.Kernel3072.Facts) (hKernel3072Ideal : Cert.Kernel3072Ideal.Facts) (hReference3072Ideal : Cert.Reference3072Ideal.Facts) (hPre_groups_fit : Cert.Pre_groups_fit.Facts) (hOn_expert_rows : Cert.On_expert_rows.Facts),
    quiescent_Kernel (hKernel := hKernel) (hPre_groups_fit := hPre_groups_fit)
    ∧ quiescent_KernelIdeal (hKernelIdeal := hKernelIdeal) (hPre_groups_fit := hPre_groups_fit)
    ∧ quiescent_ReferenceIdeal (hReferenceIdeal := hReferenceIdeal)
    ∧ quiescent_ReferenceIdeal_pre_groups_fit (hReferenceIdeal := hReferenceIdeal) (hPre_groups_fit := hPre_groups_fit)
    ∧ quiescent_Kernel1024 (hKernel1024 := hKernel1024) (hPre_groups_fit := hPre_groups_fit)
    ∧ quiescent_Kernel1024Ideal (hKernel1024Ideal := hKernel1024Ideal) (hPre_groups_fit := hPre_groups_fit)
    ∧ quiescent_Reference1024Ideal (hReference1024Ideal := hReference1024Ideal)
    ∧ quiescent_Reference1024Ideal_pre_groups_fit (hReference1024Ideal := hReference1024Ideal) (hPre_groups_fit := hPre_groups_fit)
    ∧ quiescent_Kernel2048 (hKernel2048 := hKernel2048) (hPre_groups_fit := hPre_groups_fit)
    ∧ quiescent_Kernel2048Ideal (hKernel2048Ideal := hKernel2048Ideal) (hPre_groups_fit := hPre_groups_fit)
    ∧ quiescent_Reference2048Ideal (hReference2048Ideal := hReference2048Ideal)
    ∧ quiescent_Reference2048Ideal_pre_groups_fit (hReference2048Ideal := hReference2048Ideal) (hPre_groups_fit := hPre_groups_fit)
    ∧ quiescent_Kernel3072 (hKernel3072 := hKernel3072) (hPre_groups_fit := hPre_groups_fit)
    ∧ quiescent_Kernel3072Ideal (hKernel3072Ideal := hKernel3072Ideal) (hPre_groups_fit := hPre_groups_fit)
    ∧ quiescent_Reference3072Ideal (hReference3072Ideal := hReference3072Ideal)
    ∧ quiescent_Reference3072Ideal_pre_groups_fit (hReference3072Ideal := hReference3072Ideal) (hPre_groups_fit := hPre_groups_fit)
    ∧ preserves_Kernel_KernelIdeal
    ∧ algebraic_KernelIdeal_ReferenceIdeal_on_expert_rows (hKernelIdeal := hKernelIdeal) (hReferenceIdeal := hReferenceIdeal) (hPre_groups_fit := hPre_groups_fit) (hOn_expert_rows := hOn_expert_rows)
    ∧ preserves_Kernel1024_Kernel1024Ideal
    ∧ algebraic_Kernel1024Ideal_Reference1024Ideal_on_expert_rows (hKernel1024Ideal := hKernel1024Ideal) (hReference1024Ideal := hReference1024Ideal) (hPre_groups_fit := hPre_groups_fit) (hOn_expert_rows := hOn_expert_rows)
    ∧ preserves_Kernel2048_Kernel2048Ideal
    ∧ algebraic_Kernel2048Ideal_Reference2048Ideal_on_expert_rows (hKernel2048Ideal := hKernel2048Ideal) (hReference2048Ideal := hReference2048Ideal) (hPre_groups_fit := hPre_groups_fit) (hOn_expert_rows := hOn_expert_rows)
    ∧ preserves_Kernel3072_Kernel3072Ideal
    ∧ algebraic_Kernel3072Ideal_Reference3072Ideal_on_expert_rows (hKernel3072Ideal := hKernel3072Ideal) (hReference3072Ideal := hReference3072Ideal) (hPre_groups_fit := hPre_groups_fit) (hOn_expert_rows := hOn_expert_rows)
-- ==== On_expert_rows.lean ====
abbrev S98304x2048 : Shape := ⟨2, ![98304, 2048]⟩
abbrev S98304 : Shape := ⟨1, ![98304]⟩
abbrev S16 : Shape := ⟨1, ![16]⟩
abbrev S16x1024x4096 : Shape := ⟨3, ![16, 1024, 4096]⟩
abbrev S16x16x4096 : Shape := ⟨3, ![16, 16, 4096]⟩
abbrev S933888x128 : Shape := ⟨2, ![933888, 128]⟩
abbrev S_ : Shape := ⟨0, ![]⟩
abbrev S1 : Shape := ⟨1, ![1]⟩

class Facts : Prop where
  bcast_S_S933888x128 : S_.BroadcastsInDim S933888x128 (![] : Fin 0 → Fin S933888x128.rank)
  slices_S16_S1_0 : S16.Slices ![0] S1
  shapeCasts_S1_S_ : S1.ShapeCasts S_
  slices_S16_S1_1 : S16.Slices ![1] S1
  slices_S16_S1_2 : S16.Slices ![2] S1
  slices_S16_S1_3 : S16.Slices ![3] S1
  slices_S16_S1_4 : S16.Slices ![4] S1
  slices_S16_S1_5 : S16.Slices ![5] S1
  slices_S16_S1_6 : S16.Slices ![6] S1
  slices_S16_S1_7 : S16.Slices ![7] S1
  slices_S16_S1_8 : S16.Slices ![8] S1
  slices_S16_S1_9 : S16.Slices ![9] S1
  slices_S16_S1_10 : S16.Slices ![10] S1
  slices_S16_S1_11 : S16.Slices ![11] S1
  slices_S16_S1_12 : S16.Slices ![12] S1
  slices_S16_S1_13 : S16.Slices ![13] S1
  slices_S16_S1_14 : S16.Slices ![14] S1
  slices_S16_S1_15 : S16.Slices ![15] S1

variable [Facts]

def fn_where {F : FTy → Type} [FloatOps F] (arg0 : IVec S933888x128 1) (arg1 : IVec S933888x128 32) (arg2 : IVec S933888x128 32) : IVec S933888x128 32 :=
  let v0 : IVec S933888x128 32 := select arg0 arg1 arg2
  v0

def fn_floor_divide {F : FTy → Type} [FloatOps F] (arg0 : IVec S933888x128 32) (arg1 : IVec S_ 32) : IVec S933888x128 32 :=
  let v0 : IVec S_ 32 := id arg1
  let v1 : IVec S933888x128 32 := broadcastInDim S933888x128 ![] bcast_S_S933888x128 v0
  let v2 : IVec S933888x128 32 := Host.divsi arg0 v1
  let v3 : IVec S933888x128 32 := signi arg0
  let v4 : IVec S_ 32 := signi v0
  let v5 : IVec S933888x128 32 := broadcastInDim S933888x128 ![] bcast_S_S933888x128 v4
  let v6 : IVec S933888x128 1 := cmpi .ne v3 v5
  let v7 : IVec S933888x128 32 := broadcastInDim S933888x128 ![] bcast_S_S933888x128 v0
  let v8 : IVec S933888x128 32 := Host.remsi arg0 v7
  let c : IVec S_ 32 := constantI S_ 32 0#32
  let v9 : IVec S933888x128 32 := broadcastInDim S933888x128 ![] bcast_S_S933888x128 c
  let v10 : IVec S933888x128 1 := cmpi .ne v8 v9
  let v11 : IVec S933888x128 1 := andi v6 v10
  let c_0 : IVec S_ 32 := constantI S_ 32 1#32
  let v12 : IVec S933888x128 32 := broadcastInDim S933888x128 ![] bcast_S_S933888x128 c_0
  let v13 : IVec S933888x128 32 := subi v2 v12
  let v14 : IVec S933888x128 32 := fn_where (F := F) v11 v13 v2
  v14

def fn_part8 {F : FTy → Type} [FloatOps F] (main_arg2 : IVec S16 32) (main_v1 : IVec S933888x128 32) (main_v149 : IVec S_ 32) (main_v157 : IVec S933888x128 1) (main_v159 : IVec S_ 32) : IVec S933888x128 1 :=
  let main_v160 : IVec S_ 32 := addi main_v149 main_v159
  let main_c_31 : IVec S_ 32 := constantI S_ 32 16128#32
  let main_v161 : IVec S_ 32 := addi main_v149 main_c_31
  let main_v162 : IVec S933888x128 32 := broadcastInDim S933888x128 ![] bcast_S_S933888x128 main_v161
  let main_v163 : IVec S933888x128 1 := cmpi .sge main_v1 main_v162
  let main_c_32 : IVec S_ 32 := constantI S_ 32 16128#32
  let main_v164 : IVec S_ 32 := addi main_v160 main_c_32
  let main_v165 : IVec S933888x128 32 := broadcastInDim S933888x128 ![] bcast_S_S933888x128 main_v164
  let main_v166 : IVec S933888x128 1 := cmpi .slt main_v1 main_v165
  let main_v167 : IVec S933888x128 1 := andi main_v163 main_v166
  let main_v168 : IVec S933888x128 1 := ori main_v157 main_v167
  let main_v169 : IVec S1 32 := (extractStridedSlice S1 ![15] · slices_S16_S1_15) main_arg2
  let main_v170 : IVec S_ 32 := shapeCast S_ main_v169 shapeCasts_S1_S_
  let main_v171 : IVec S_ 32 := addi main_v160 main_v170
  let main_c_33 : IVec S_ 32 := constantI S_ 32 17280#32
  let main_v172 : IVec S_ 32 := addi main_v160 main_c_33
  let main_v173 : IVec S933888x128 32 := broadcastInDim S933888x128 ![] bcast_S_S933888x128 main_v172
  let main_v174 : IVec S933888x128 1 := cmpi .sge main_v1 main_v173
  let main_c_34 : IVec S_ 32 := constantI S_ 32 17280#32
  let main_v175 : IVec S_ 32 := addi main_v171 main_c_34
  let main_v176 : IVec S933888x128 32 := broadcastInDim S933888x128 ![] bcast_S_S933888x128 main_v175
  let main_v177 : IVec S933888x128 1 := cmpi .slt main_v1 main_v176
  let main_v178 : IVec S933888x128 1 := andi main_v174 main_v177
  let main_v179 : IVec S933888x128 1 := ori main_v168 main_v178
  main_v179

def fn_part7 {F : FTy → Type} [FloatOps F] (main_arg2 : IVec S16 32) (main_v1 : IVec S933888x128 32) (main_v127 : IVec S_ 32) (main_v135 : IVec S933888x128 1) (main_v138 : IVec S_ 32) (main_c_27 : IVec S_ 32) : IVec S933888x128 1 :=
  let main_v139 : IVec S_ 32 := addi main_v127 main_c_27
  let main_v140 : IVec S933888x128 32 := broadcastInDim S933888x128 ![] bcast_S_S933888x128 main_v139
  let main_v141 : IVec S933888x128 1 := cmpi .sge main_v1 main_v140
  let main_c_28 : IVec S_ 32 := constantI S_ 32 13824#32
  let main_v142 : IVec S_ 32 := addi main_v138 main_c_28
  let main_v143 : IVec S933888x128 32 := broadcastInDim S933888x128 ![] bcast_S_S933888x128 main_v142
  let main_v144 : IVec S933888x128 1 := cmpi .slt main_v1 main_v143
  let main_v145 : IVec S933888x128 1 := andi main_v141 main_v144
  let main_v146 : IVec S933888x128 1 := ori main_v135 main_v145
  let main_v147 : IVec S1 32 := (extractStridedSlice S1 ![13] · slices_S16_S1_13) main_arg2
  let main_v148 : IVec S_ 32 := shapeCast S_ main_v147 shapeCasts_S1_S_
  let main_v149 : IVec S_ 32 := addi main_v138 main_v148
  let main_c_29 : IVec S_ 32 := constantI S_ 32 14976#32
  let main_v150 : IVec S_ 32 := addi main_v138 main_c_29
  let main_v151 : IVec S933888x128 32 := broadcastInDim S933888x128 ![] bcast_S_S933888x128 main_v150
  let main_v152 : IVec S933888x128 1 := cmpi .sge main_v1 main_v151
  let main_c_30 : IVec S_ 32 := constantI S_ 32 14976#32
  let main_v153 : IVec S_ 32 := addi main_v149 main_c_30
  let main_v154 : IVec S933888x128 32 := broadcastInDim S933888x128 ![] bcast_S_S933888x128 main_v153
  let main_v155 : IVec S933888x128 1 := cmpi .slt main_v1 main_v154
  let main_v156 : IVec S933888x128 1 := andi main_v152 main_v155
  let main_v157 : IVec S933888x128 1 := ori main_v146 main_v156
  let main_v158 : IVec S1 32 := (extractStridedSlice S1 ![14] · slices_S16_S1_14) main_arg2
  let main_v159 : IVec S_ 32 := shapeCast S_ main_v158 shapeCasts_S1_S_
  fn_part8 (F := F) main_arg2 main_v1 main_v149 main_v157 main_v159

def fn_part6 {F : FTy → Type} [FloatOps F] (main_arg2 : IVec S16 32) (main_v1 : IVec S933888x128 32) (main_v113 : IVec S933888x128 1) (main_v116 : IVec S_ 32) (main_v118 : IVec S933888x128 32) : IVec S933888x128 1 :=
  let main_v119 : IVec S933888x128 1 := cmpi .sge main_v1 main_v118
  let main_c_24 : IVec S_ 32 := constantI S_ 32 11520#32
  let main_v120 : IVec S_ 32 := addi main_v116 main_c_24
  let main_v121 : IVec S933888x128 32 := broadcastInDim S933888x128 ![] bcast_S_S933888x128 main_v120
  let main_v122 : IVec S933888x128 1 := cmpi .slt main_v1 main_v121
  let main_v123 : IVec S933888x128 1 := andi main_v119 main_v122
  let main_v124 : IVec S933888x128 1 := ori main_v113 main_v123
  let main_v125 : IVec S1 32 := (extractStridedSlice S1 ![11] · slices_S16_S1_11) main_arg2
  let main_v126 : IVec S_ 32 := shapeCast S_ main_v125 shapeCasts_S1_S_
  let main_v127 : IVec S_ 32 := addi main_v116 main_v126
  let main_c_25 : IVec S_ 32 := constantI S_ 32 12672#32
  let main_v128 : IVec S_ 32 := addi main_v116 main_c_25
  let main_v129 : IVec S933888x128 32 := broadcastInDim S933888x128 ![] bcast_S_S933888x128 main_v128
  let main_v130 : IVec S933888x128 1 := cmpi .sge main_v1 main_v129
  let main_c_26 : IVec S_ 32 := constantI S_ 32 12672#32
  let main_v131 : IVec S_ 32 := addi main_v127 main_c_26
  let main_v132 : IVec S933888x128 32 := broadcastInDim S933888x128 ![] bcast_S_S933888x128 main_v131
  let main_v133 : IVec S933888x128 1 := cmpi .slt main_v1 main_v132
  let main_v134 : IVec S933888x128 1 := andi main_v130 main_v133
  let main_v135 : IVec S933888x128 1 := ori main_v124 main_v134
  let main_v136 : IVec S1 32 := (extractStridedSlice S1 ![12] · slices_S16_S1_12) main_arg2
  let main_v137 : IVec S_ 32 := shapeCast S_ main_v136 shapeCasts_S1_S_
  let main_v138 : IVec S_ 32 := addi main_v127 main_v137
  let main_c_27 : IVec S_ 32 := constantI S_ 32 13824#32
  fn_part7 (F := F) main_arg2 main_v1 main_v127 main_v135 main_v138 main_c_27

def fn_part5 {F : FTy → Type} [FloatOps F] (main_arg2 : IVec S16 32) (main_v1 : IVec S933888x128 32) (main_v91 : IVec S933888x128 1) (main_v94 : IVec S_ 32) (main_v97 : IVec S933888x128 1) (main_c_20 : IVec S_ 32) : IVec S933888x128 1 :=
  let main_v98 : IVec S_ 32 := addi main_v94 main_c_20
  let main_v99 : IVec S933888x128 32 := broadcastInDim S933888x128 ![] bcast_S_S933888x128 main_v98
  let main_v100 : IVec S933888x128 1 := cmpi .slt main_v1 main_v99
  let main_v101 : IVec S933888x128 1 := andi main_v97 main_v100
  let main_v102 : IVec S933888x128 1 := ori main_v91 main_v101
  let main_v103 : IVec S1 32 := (extractStridedSlice S1 ![9] · slices_S16_S1_9) main_arg2
  let main_v104 : IVec S_ 32 := shapeCast S_ main_v103 shapeCasts_S1_S_
  let main_v105 : IVec S_ 32 := addi main_v94 main_v104
  let main_c_21 : IVec S_ 32 := constantI S_ 32 10368#32
  let main_v106 : IVec S_ 32 := addi main_v94 main_c_21
  let main_v107 : IVec S933888x128 32 := broadcastInDim S933888x128 ![] bcast_S_S933888x128 main_v106
  let main_v108 : IVec S933888x128 1 := cmpi .sge main_v1 main_v107
  let main_c_22 : IVec S_ 32 := constantI S_ 32 10368#32
  let main_v109 : IVec S_ 32 := addi main_v105 main_c_22
  let main_v110 : IVec S933888x128 32 := broadcastInDim S933888x128 ![] bcast_S_S933888x128 main_v109
  let main_v111 : IVec S933888x128 1 := cmpi .slt main_v1 main_v110
  let main_v112 : IVec S933888x128 1 := andi main_v108 main_v111
  let main_v113 : IVec S933888x128 1 := ori main_v102 main_v112
  let main_v114 : IVec S1 32 := (extractStridedSlice S1 ![10] · slices_S16_S1_10) main_arg2
  let main_v115 : IVec S_ 32 := shapeCast S_ main_v114 shapeCasts_S1_S_
  let main_v116 : IVec S_ 32 := addi main_v105 main_v115
  let main_c_23 : IVec S_ 32 := constantI S_ 32 11520#32
  let main_v117 : IVec S_ 32 := addi main_v105 main_c_23
  let main_v118 : IVec S933888x128 32 := broadcastInDim S933888x128 ![] bcast_S_S933888x128 main_v117
  fn_part6 (F := F) main_arg2 main_v1 main_v113 main_v116 main_v118

def fn_part4 {F : FTy → Type} [FloatOps F] (main_arg2 : IVec S16 32) (main_v1 : IVec S933888x128 32) (main_v69 : IVec S933888x128 1) (main_v72 : IVec S_ 32) (main_v75 : IVec S933888x128 1) (main_v77 : IVec S933888x128 32) : IVec S933888x128 1 :=
  let main_v78 : IVec S933888x128 1 := cmpi .slt main_v1 main_v77
  let main_v79 : IVec S933888x128 1 := andi main_v75 main_v78
  let main_v80 : IVec S933888x128 1 := ori main_v69 main_v79
  let main_v81 : IVec S1 32 := (extractStridedSlice S1 ![7] · slices_S16_S1_7) main_arg2
  let main_v82 : IVec S_ 32 := shapeCast S_ main_v81 shapeCasts_S1_S_
  let main_v83 : IVec S_ 32 := addi main_v72 main_v82
  let main_c_17 : IVec S_ 32 := constantI S_ 32 8064#32
  let main_v84 : IVec S_ 32 := addi main_v72 main_c_17
  let main_v85 : IVec S933888x128 32 := broadcastInDim S933888x128 ![] bcast_S_S933888x128 main_v84
  let main_v86 : IVec S933888x128 1 := cmpi .sge main_v1 main_v85
  let main_c_18 : IVec S_ 32 := constantI S_ 32 8064#32
  let main_v87 : IVec S_ 32 := addi main_v83 main_c_18
  let main_v88 : IVec S933888x128 32 := broadcastInDim S933888x128 ![] bcast_S_S933888x128 main_v87
  let main_v89 : IVec S933888x128 1 := cmpi .slt main_v1 main_v88
  let main_v90 : IVec S933888x128 1 := andi main_v86 main_v89
  let main_v91 : IVec S933888x128 1 := ori main_v80 main_v90
  let main_v92 : IVec S1 32 := (extractStridedSlice S1 ![8] · slices_S16_S1_8) main_arg2
  let main_v93 : IVec S_ 32 := shapeCast S_ main_v92 shapeCasts_S1_S_
  let main_v94 : IVec S_ 32 := addi main_v83 main_v93
  let main_c_19 : IVec S_ 32 := constantI S_ 32 9216#32
  let main_v95 : IVec S_ 32 := addi main_v83 main_c_19
  let main_v96 : IVec S933888x128 32 := broadcastInDim S933888x128 ![] bcast_S_S933888x128 main_v95
  let main_v97 : IVec S933888x128 1 := cmpi .sge main_v1 main_v96
  let main_c_20 : IVec S_ 32 := constantI S_ 32 9216#32
  fn_part5 (F := F) main_arg2 main_v1 main_v91 main_v94 main_v97 main_c_20

def fn_part3 {F : FTy → Type} [FloatOps F] (main_arg2 : IVec S16 32) (main_v1 : IVec S933888x128 32) (main_v47 : IVec S933888x128 1) (main_v50 : IVec S_ 32) (main_v57 : IVec S933888x128 1) : IVec S933888x128 1 :=
  let main_v58 : IVec S933888x128 1 := ori main_v47 main_v57
  let main_v59 : IVec S1 32 := (extractStridedSlice S1 ![5] · slices_S16_S1_5) main_arg2
  let main_v60 : IVec S_ 32 := shapeCast S_ main_v59 shapeCasts_S1_S_
  let main_v61 : IVec S_ 32 := addi main_v50 main_v60
  let main_c_13 : IVec S_ 32 := constantI S_ 32 5760#32
  let main_v62 : IVec S_ 32 := addi main_v50 main_c_13
  let main_v63 : IVec S933888x128 32 := broadcastInDim S933888x128 ![] bcast_S_S933888x128 main_v62
  let main_v64 : IVec S933888x128 1 := cmpi .sge main_v1 main_v63
  let main_c_14 : IVec S_ 32 := constantI S_ 32 5760#32
  let main_v65 : IVec S_ 32 := addi main_v61 main_c_14
  let main_v66 : IVec S933888x128 32 := broadcastInDim S933888x128 ![] bcast_S_S933888x128 main_v65
  let main_v67 : IVec S933888x128 1 := cmpi .slt main_v1 main_v66
  let main_v68 : IVec S933888x128 1 := andi main_v64 main_v67
  let main_v69 : IVec S933888x128 1 := ori main_v58 main_v68
  let main_v70 : IVec S1 32 := (extractStridedSlice S1 ![6] · slices_S16_S1_6) main_arg2
  let main_v71 : IVec S_ 32 := shapeCast S_ main_v70 shapeCasts_S1_S_
  let main_v72 : IVec S_ 32 := addi main_v61 main_v71
  let main_c_15 : IVec S_ 32 := constantI S_ 32 6912#32
  let main_v73 : IVec S_ 32 := addi main_v61 main_c_15
  let main_v74 : IVec S933888x128 32 := broadcastInDim S933888x128 ![] bcast_S_S933888x128 main_v73
  let main_v75 : IVec S933888x128 1 := cmpi .sge main_v1 main_v74
  let main_c_16 : IVec S_ 32 := constantI S_ 32 6912#32
  let main_v76 : IVec S_ 32 := addi main_v72 main_c_16
  let main_v77 : IVec S933888x128 32 := broadcastInDim S933888x128 ![] bcast_S_S933888x128 main_v76
  fn_part4 (F := F) main_arg2 main_v1 main_v69 main_v72 main_v75 main_v77

def fn_part2 {F : FTy → Type} [FloatOps F] (main_arg2 : IVec S16 32) (main_v1 : IVec S933888x128 32) (main_v28 : IVec S_ 32) (main_v36 : IVec S933888x128 1) (main_v37 : IVec S1 32) : IVec S933888x128 1 :=
  let main_v38 : IVec S_ 32 := shapeCast S_ main_v37 shapeCasts_S1_S_
  let main_v39 : IVec S_ 32 := addi main_v28 main_v38
  let main_c_9 : IVec S_ 32 := constantI S_ 32 3456#32
  let main_v40 : IVec S_ 32 := addi main_v28 main_c_9
  let main_v41 : IVec S933888x128 32 := broadcastInDim S933888x128 ![] bcast_S_S933888x128 main_v40
  let main_v42 : IVec S933888x128 1 := cmpi .sge main_v1 main_v41
  let main_c_10 : IVec S_ 32 := constantI S_ 32 3456#32
  let main_v43 : IVec S_ 32 := addi main_v39 main_c_10
  let main_v44 : IVec S933888x128 32 := broadcastInDim S933888x128 ![] bcast_S_S933888x128 main_v43
  let main_v45 : IVec S933888x128 1 := cmpi .slt main_v1 main_v44
  let main_v46 : IVec S933888x128 1 := andi main_v42 main_v45
  let main_v47 : IVec S933888x128 1 := ori main_v36 main_v46
  let main_v48 : IVec S1 32 := (extractStridedSlice S1 ![4] · slices_S16_S1_4) main_arg2
  let main_v49 : IVec S_ 32 := shapeCast S_ main_v48 shapeCasts_S1_S_
  let main_v50 : IVec S_ 32 := addi main_v39 main_v49
  let main_c_11 : IVec S_ 32 := constantI S_ 32 4608#32
  let main_v51 : IVec S_ 32 := addi main_v39 main_c_11
  let main_v52 : IVec S933888x128 32 := broadcastInDim S933888x128 ![] bcast_S_S933888x128 main_v51
  let main_v53 : IVec S933888x128 1 := cmpi .sge main_v1 main_v52
  let main_c_12 : IVec S_ 32 := constantI S_ 32 4608#32
  let main_v54 : IVec S_ 32 := addi main_v50 main_c_12
  let main_v55 : IVec S933888x128 32 := broadcastInDim S933888x128 ![] bcast_S_S933888x128 main_v54
  let main_v56 : IVec S933888x128 1 := cmpi .slt main_v1 main_v55
  let main_v57 : IVec S933888x128 1 := andi main_v53 main_v56
  fn_part3 (F := F) main_arg2 main_v1 main_v47 main_v50 main_v57

def fn_part1 {F : FTy → Type} [FloatOps F] (main_arg2 : IVec S16 32) (main_v1 : IVec S933888x128 32) (main_v6 : IVec S_ 32) (main_v14 : IVec S933888x128 1) (main_v17 : IVec S_ 32) : IVec S933888x128 1 :=
  let main_c_5 : IVec S_ 32 := constantI S_ 32 1152#32
  let main_v18 : IVec S_ 32 := addi main_v6 main_c_5
  let main_v19 : IVec S933888x128 32 := broadcastInDim S933888x128 ![] bcast_S_S933888x128 main_v18
  let main_v20 : IVec S933888x128 1 := cmpi .sge main_v1 main_v19
  let main_c_6 : IVec S_ 32 := constantI S_ 32 1152#32
  let main_v21 : IVec S_ 32 := addi main_v17 main_c_6
  let main_v22 : IVec S933888x128 32 := broadcastInDim S933888x128 ![] bcast_S_S933888x128 main_v21
  let main_v23 : IVec S933888x128 1 := cmpi .slt main_v1 main_v22
  let main_v24 : IVec S933888x128 1 := andi main_v20 main_v23
  let main_v25 : IVec S933888x128 1 := ori main_v14 main_v24
  let main_v26 : IVec S1 32 := (extractStridedSlice S1 ![2] · slices_S16_S1_2) main_arg2
  let main_v27 : IVec S_ 32 := shapeCast S_ main_v26 shapeCasts_S1_S_
  let main_v28 : IVec S_ 32 := addi main_v17 main_v27
  let main_c_7 : IVec S_ 32 := constantI S_ 32 2304#32
  let main_v29 : IVec S_ 32 := addi main_v17 main_c_7
  let main_v30 : IVec S933888x128 32 := broadcastInDim S933888x128 ![] bcast_S_S933888x128 main_v29
  let main_v31 : IVec S933888x128 1 := cmpi .sge main_v1 main_v30
  let main_c_8 : IVec S_ 32 := constantI S_ 32 2304#32
  let main_v32 : IVec S_ 32 := addi main_v28 main_c_8
  let main_v33 : IVec S933888x128 32 := broadcastInDim S933888x128 ![] bcast_S_S933888x128 main_v32
  let main_v34 : IVec S933888x128 1 := cmpi .slt main_v1 main_v33
  let main_v35 : IVec S933888x128 1 := andi main_v31 main_v34
  let main_v36 : IVec S933888x128 1 := ori main_v25 main_v35
  let main_v37 : IVec S1 32 := (extractStridedSlice S1 ![3] · slices_S16_S1_3) main_arg2
  fn_part2 (F := F) main_arg2 main_v1 main_v28 main_v36 main_v37

def fn {F : FTy → Type} [FloatOps F] (main_arg0 : FVec F S98304x2048 .fp8e4m3) (main_arg1 : FVec F S98304 .f32) (main_arg2 : IVec S16 32) (main_arg3 : IVec S16x1024x4096 8) (main_arg4 : FVec F S16x16x4096 .bf16) : IVec S933888x128 1 :=
  let main_v0 : IVec S933888x128 32 := iotaInDim S933888x128 32 0
  let main_c : IVec S_ 32 := constantI S_ 32 8#32
  let main_v1 : IVec S933888x128 32 := fn_floor_divide (F := F) main_v0 main_c
  let main_c_0 : IVec S_ 32 := constantI S_ 32 0#32
  let main_v2 : IVec S933888x128 32 := broadcastInDim S933888x128 ![] bcast_S_S933888x128 main_c_0
  let main_v3 : IVec S933888x128 1 := cmpi .slt main_v1 main_v2
  let main_v4 : IVec S1 32 := (extractStridedSlice S1 ![0] · slices_S16_S1_0) main_arg2
  let main_v5 : IVec S_ 32 := shapeCast S_ main_v4 shapeCasts_S1_S_
  let main_c_1 : IVec S_ 32 := constantI S_ 32 0#32
  let main_v6 : IVec S_ 32 := addi main_c_1 main_v5
  let main_c_2 : IVec S_ 32 := constantI S_ 32 0#32
  let main_c_3 : IVec S_ 32 := constantI S_ 32 0#32
  let main_v7 : IVec S_ 32 := addi main_c_2 main_c_3
  let main_v8 : IVec S933888x128 32 := broadcastInDim S933888x128 ![] bcast_S_S933888x128 main_v7
  let main_v9 : IVec S933888x128 1 := cmpi .sge main_v1 main_v8
  let main_c_4 : IVec S_ 32 := constantI S_ 32 0#32
  let main_v10 : IVec S_ 32 := addi main_v6 main_c_4
  let main_v11 : IVec S933888x128 32 := broadcastInDim S933888x128 ![] bcast_S_S933888x128 main_v10
  let main_v12 : IVec S933888x128 1 := cmpi .slt main_v1 main_v11
  let main_v13 : IVec S933888x128 1 := andi main_v9 main_v12
  let main_v14 : IVec S933888x128 1 := ori main_v3 main_v13
  let main_v15 : IVec S1 32 := (extractStridedSlice S1 ![1] · slices_S16_S1_1) main_arg2
  let main_v16 : IVec S_ 32 := shapeCast S_ main_v15 shapeCasts_S1_S_
  let main_v17 : IVec S_ 32 := addi main_v6 main_v16
  fn_part1 (F := F) main_arg2 main_v1 main_v6 main_v14 main_v17
-- ==== Pre_groups_fit.lean ====
abbrev S98304x2048 : Shape := ⟨2, ![98304, 2048]⟩
abbrev S98304 : Shape := ⟨1, ![98304]⟩
abbrev S16 : Shape := ⟨1, ![16]⟩
abbrev S16x1024x4096 : Shape := ⟨3, ![16, 1024, 4096]⟩
abbrev S16x16x4096 : Shape := ⟨3, ![16, 16, 4096]⟩
abbrev S_ : Shape := ⟨0, ![]⟩

class Facts : Prop where
  reducesTo_S16_S_d0 : S16.ReducesTo [0] S_
  h_S_ : 0 < S_.numel
  bcast_S_S16 : S_.BroadcastsInDim S16 (![] : Fin 0 → Fin S16.rank)

variable [Facts]

def fn {F : FTy → Type} [FloatOps F] (main_arg0 : FVec F S98304x2048 .fp8e4m3) (main_arg1 : FVec F S98304 .f32) (main_arg2 : IVec S16 32) (main_arg3 : IVec S16x1024x4096 8) (main_arg4 : FVec F S16x16x4096 .bf16) : IVec S_ 1 :=
  let main_c : IVec S_ 32 := constantI S_ 32 0#32
  let main_v0 : IVec S_ 32 := (fun x v => Host.reduce IntOp.addi x v reducesTo_S16_S_d0 h_S_) main_arg2 main_c
  let main_c_0 : IVec S_ 32 := constantI S_ 32 0#32
  let main_v1 : IVec S16 32 := broadcastInDim S16 ![] bcast_S_S16 main_c_0
  let main_v2 : IVec S16 1 := cmpi .sge main_arg2 main_v1
  let main_c_1 : IVec S_ 32 := constantI S_ 32 98304#32
  let main_v3 : IVec S16 32 := broadcastInDim S16 ![] bcast_S_S16 main_c_1
  let main_v4 : IVec S16 1 := cmpi .sle main_arg2 main_v3
  let main_v5 : IVec S16 1 := andi main_v2 main_v4
  let main_c_2 : IVec S_ 1 := constantI S_ 1 1#1
  let main_v6 : IVec S_ 1 := (fun x v => Host.reduce IntOp.andi x v reducesTo_S16_S_d0 h_S_) main_v5 main_c_2
  let main_c_3 : IVec S_ 32 := constantI S_ 32 1#32
  let main_v7 : IVec S_ 1 := cmpi .sge main_v0 main_c_3
  let main_v8 : IVec S_ 1 := andi main_v6 main_v7
  let main_c_4 : IVec S_ 32 := constantI S_ 32 98304#32
  let main_v9 : IVec S_ 1 := cmpi .sle main_v0 main_c_4
  let main_v10 : IVec S_ 1 := andi main_v8 main_v9
  main_v10
-- ==== Kernel.lean ====
abbrev S98304x2048 : Shape := ⟨2, ![98304, 2048]⟩
abbrev S98304 : Shape := ⟨1, ![98304]⟩
abbrev S16 : Shape := ⟨1, ![16]⟩
abbrev S16x1024x4096 : Shape := ⟨3, ![16, 1024, 4096]⟩
abbrev S16x16x4096 : Shape := ⟨3, ![16, 16, 4096]⟩
abbrev S768x1x128 : Shape := ⟨3, ![768, 1, 128]⟩
abbrev S933888x128 : Shape := ⟨2, ![933888, 128]⟩
abbrev S224 : Shape := ⟨1, ![224]⟩
abbrev S2x512x2048 : Shape := ⟨3, ![2, 512, 2048]⟩
abbrev S2x4x1x128 : Shape := ⟨4, ![2, 4, 1, 128]⟩
abbrev S2x1024x1024 : Shape := ⟨3, ![2, 1024, 1024]⟩
abbrev S2x16x1024 : Shape := ⟨3, ![2, 16, 1024]⟩
abbrev S2048x1024 : Shape := ⟨2, ![2048, 1024]⟩
abbrev S2x4096x128 : Shape := ⟨3, ![2, 4096, 128]⟩
abbrev S2 : Shape := ⟨1, ![2]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S1x16x1024 : Shape := ⟨3, ![1, 16, 1024]⟩
abbrev S16x1024 : Shape := ⟨2, ![16, 1024]⟩
abbrev S1x512x2048 : Shape := ⟨3, ![1, 512, 2048]⟩
abbrev S512x2048 : Shape := ⟨2, ![512, 2048]⟩
abbrev S1x4x1x128 : Shape := ⟨4, ![1, 4, 1, 128]⟩
abbrev S4x1x128 : Shape := ⟨3, ![4, 1, 128]⟩
abbrev S1x64x1024 : Shape := ⟨3, ![1, 64, 1024]⟩
abbrev S64x1024 : Shape := ⟨2, ![64, 1024]⟩
abbrev S64x1x1024 : Shape := ⟨3, ![64, 1, 1024]⟩
abbrev S64x2x1024 : Shape := ⟨3, ![64, 2, 1024]⟩
abbrev S128x1024 : Shape := ⟨2, ![128, 1024]⟩
abbrev S1x1x1024 : Shape := ⟨3, ![1, 1, 1024]⟩
abbrev S1x1024 : Shape := ⟨2, ![1, 1024]⟩
abbrev S4096x128 : Shape := ⟨2, ![4096, 128]⟩
abbrev S1x4096x128 : Shape := ⟨3, ![1, 4096, 128]⟩
abbrev S1x1x1x128 : Shape := ⟨4, ![1, 1, 1, 128]⟩
abbrev S1x128 : Shape := ⟨2, ![1, 128]⟩
abbrev S128x128 : Shape := ⟨2, ![128, 128]⟩
abbrev S1x128x2048 : Shape := ⟨3, ![1, 128, 2048]⟩
abbrev S128x2048 : Shape := ⟨2, ![128, 2048]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 7
  | .vmem => 6
  | .smem => 3
  | _ => 0

abbrev bufTy : (tb : Table) → Fin (tcTables nBuf tb) → BufTy
  | .hbm, ⟨0, _⟩ => ⟨S98304x2048, .fp8e4m3⟩
  | .hbm, ⟨1, _⟩ => ⟨S98304, .f32⟩
  | .hbm, ⟨2, _⟩ => ⟨S16, .i32⟩
  | .hbm, ⟨3, _⟩ => ⟨S16x1024x4096, .i8⟩
  | .hbm, ⟨4, _⟩ => ⟨S16x16x4096, .bf16⟩
  | .hbm, ⟨5, _⟩ => ⟨S768x1x128, .f32⟩
  | .hbm, ⟨6, _⟩ => ⟨S933888x128, .f32⟩
  | .local _ .vmem, ⟨0, _⟩ => ⟨S2x512x2048, .fp8e4m3⟩
  | .local _ .vmem, ⟨1, _⟩ => ⟨S2x4x1x128, .f32⟩
  | .local _ .vmem, ⟨2, _⟩ => ⟨S2x1024x1024, .i8⟩
  | .local _ .vmem, ⟨3, _⟩ => ⟨S2x16x1024, .bf16⟩
  | .local _ .vmem, ⟨4, _⟩ => ⟨S2048x1024, .bf16⟩
  | .local _ .vmem, ⟨5, _⟩ => ⟨S2x4096x128, .f32⟩
  | .local _ .smem, ⟨0, _⟩ => ⟨S16, .i32⟩
  | .local _ .smem, ⟨1, _⟩ => ⟨S224, .i32⟩
  | .local _ .smem, ⟨2, _⟩ => ⟨S224, .i32⟩
  | _, _ => ⟨S98304x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_scratch2 : Ref sig .tc := ⟨.vmem, 0, rfl⟩
abbrev cc0_scratch3 : Ref sig .tc := ⟨.vmem, 1, rfl⟩
abbrev cc0_scratch4 : Ref sig .tc := ⟨.vmem, 2, rfl⟩
abbrev cc0_scratch5 : Ref sig .tc := ⟨.vmem, 3, rfl⟩
abbrev cc0_scratch6 : Ref sig .tc := ⟨.vmem, 4, rfl⟩
abbrev cc0_scratch7 : Ref sig .tc := ⟨.vmem, 5, rfl⟩
abbrev cc0_stg0_0 : Ref sig .tc := ⟨.smem, 0, rfl⟩
abbrev cc0_scratch0 : Ref sig .tc := ⟨.smem, 1, rfl⟩
abbrev cc0_scratch1 : Ref sig .tc := ⟨.smem, 2, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_1 : BitVec 32 := 0#32
  let c16_i32 : BitVec 32 := 16#32
  let v0 : BitVec 32 := Scalar.addi c0_i32_1 c16_i32
  let c1_i32 : BitVec 32 := 1#32
  ⟨c0_i32_1, v0, c1_i32⟩
def k0_off1 (k0_t1 : Fin k0_t1_loop.trips) : Fin 1 → Nat :=
  let c0_i32_1 : BitVec 32 := 0#32
  let c1_i32 : BitVec 32 := 1#32
  let arg19 : BitVec 32 := Scf.iv c0_i32_1 c1_i32 k0_t1
  let v73 : Index := Scalar.indexCast arg19
  ![v73.toNat]
@[reducible] def k0_t2_loop (arg20 : BitVec 32) (v74 : BitVec 32) : Scf.Loop 32 :=
  let c0_i32_64 : BitVec 32 := 0#32
  let v75 : BitVec 32 := Scalar.addi arg20 v74
  let v94 : BitVec 1 := Scalar.cmpi .sgt v75 arg20
  let c0_i32_48 : BitVec 32 := 0#32
  let v77 : BitVec 1 := Scalar.cmpi .sgt arg20 c0_i32_48
  let v78 : BitVec 32 := Scalar.extui v77
  let c0_i32_49 : BitVec 32 := 0#32
  let v79 : BitVec 1 := Scalar.cmpi .slt arg20 c0_i32_49
  let v80 : BitVec 32 := Scalar.extui v79
  let v81 : BitVec 32 := Scalar.subi v78 v80
  let c128_i32_47 : BitVec 32 := 128#32
  let c0_i32_50 : BitVec 32 := 0#32
  let v82 : BitVec 1 := Scalar.cmpi .sgt c128_i32_47 c0_i32_50
  let v83 : BitVec 32 := Scalar.extui v82
  let c0_i32_51 : BitVec 32 := 0#32
  let v84 : BitVec 1 := Scalar.cmpi .slt c128_i32_47 c0_i32_51
  let v85 : BitVec 32 := Scalar.extui v84
  let v86 : BitVec 32 := Scalar.subi v83 v85
  let v87 : BitVec 1 := Scalar.cmpi .ne v81 v86
  let v88 : BitVec 32 := Scalar.remsi arg20 c128_i32_47
  let c0_i32_52 : BitVec 32 := 0#32
  let v89 : BitVec 1 := Scalar.cmpi .ne v88 c0_i32_52
  let v90 : BitVec 1 := Scalar.andi v87 v89
  let v76 : BitVec 32 := Scalar.divsi arg20 c128_i32_47
  let c1_i32_53 : BitVec 32 := 1#32
  let v91 : BitVec 32 := Scalar.subi v76 c1_i32_53
  let v92 : BitVec 32 := Scalar.select v90 v91 v76
  let c128_i32_54 : BitVec 32 := 128#32
  let v93 : BitVec 32 := Scalar.muli v92 c128_i32_54
  let v95 : BitVec 32 := Scalar.subi v75 v93
  let c512_i32 : BitVec 32 := 512#32
  let v96 : BitVec 32 := Scalar.addi v95 c512_i32
  let c1_i32_55 : BitVec 32 := 1#32
  let v97 : BitVec 32 := Scalar.subi v96 c1_i32_55
  let c0_i32_57 : BitVec 32 := 0#32
  let v99 : BitVec 1 := Scalar.cmpi .sgt v97 c0_i32_57
  let v100 : BitVec 32 := Scalar.extui v99
  let c0_i32_58 : BitVec 32 := 0#32
  let v101 : BitVec 1 := Scalar.cmpi .slt v97 c0_i32_58
  let v102 : BitVec 32 := Scalar.extui v101
  let v103 : BitVec 32 := Scalar.subi v100 v102
  let c512_i32_56 : BitVec 32 := 512#32
  let c0_i32_59 : BitVec 32 := 0#32
  let v104 : BitVec 1 := Scalar.cmpi .sgt c512_i32_56 c0_i32_59
  let v105 : BitVec 32 := Scalar.extui v104
  let c0_i32_60 : BitVec 32 := 0#32
  let v106 : BitVec 1 := Scalar.cmpi .slt c512_i32_56 c0_i32_60
  let v107 : BitVec 32 := Scalar.extui v106
  let v108 : BitVec 32 := Scalar.subi v105 v107
  let v109 : BitVec 1 := Scalar.cmpi .ne v103 v108
  let v110 : BitVec 32 := Scalar.remsi v97 c512_i32_56
  let c0_i32_61 : BitVec 32 := 0#32
  let v111 : BitVec 1 := Scalar.cmpi .ne v110 c0_i32_61
  let v112 : BitVec 1 := Scalar.andi v109 v111
  let v98 : BitVec 32 := Scalar.divsi v97 c512_i32_56
  let c1_i32_62 : BitVec 32 := 1#32
  let v113 : BitVec 32 := Scalar.subi v98 c1_i32_62
  let v114 : BitVec 32 := Scalar.select v112 v113 v98
  let c0_i32_63 : BitVec 32 := 0#32
  let v115 : BitVec 32 := Scalar.select v94 v114 c0_i32_63
  let v116 : BitVec 32 := Scalar.subi v115 c0_i32_64
  let c1_i32_66 : BitVec 32 := 1#32
  let v118 : BitVec 32 := Scalar.divsi v116 c1_i32_66
  let v119 : BitVec 32 := Scalar.muli v118 c1_i32_66
  let v120 : BitVec 32 := Scalar.addi c0_i32_64 v119
  let c1_i32_67 : BitVec 32 := 1#32
  ⟨c0_i32_64, v120, c1_i32_67⟩

def k0_off2 (arg20 : BitVec 32) (arg21 : BitVec 32) (v74 : BitVec 32) (k0_t2 : Fin (k0_t2_loop arg20 v74).trips) : Fin 1 → Nat :=
  let c0_i32_64 : BitVec 32 := 0#32
  let c1_i32_67 : BitVec 32 := 1#32
  let arg22 : BitVec 32 := Scf.iv c0_i32_64 c1_i32_67 k0_t2
  let v126 : BitVec 32 := Scalar.addi arg21 arg22
  let v127 : Index := Scalar.indexCast v126
  ![v127.toNat]
@[reducible] def k0_t3_loop (arg20 : BitVec 32) (v74 : BitVec 32) : Scf.Loop 32 :=
  let c0_i32_64 : BitVec 32 := 0#32
  let v75 : BitVec 32 := Scalar.addi arg20 v74
  let v94 : BitVec 1 := Scalar.cmpi .sgt v75 arg20
  let c0_i32_48 : BitVec 32 := 0#32
  let v77 : BitVec 1 := Scalar.cmpi .sgt arg20 c0_i32_48
  let v78 : BitVec 32 := Scalar.extui v77
  let c0_i32_49 : BitVec 32 := 0#32
  let v79 : BitVec 1 := Scalar.cmpi .slt arg20 c0_i32_49
  let v80 : BitVec 32 := Scalar.extui v79
  let v81 : BitVec 32 := Scalar.subi v78 v80
  let c128_i32_47 : BitVec 32 := 128#32
  let c0_i32_50 : BitVec 32 := 0#32
  let v82 : BitVec 1 := Scalar.cmpi .sgt c128_i32_47 c0_i32_50
  let v83 : BitVec 32 := Scalar.extui v82
  let c0_i32_51 : BitVec 32 := 0#32
  let v84 : BitVec 1 := Scalar.cmpi .slt c128_i32_47 c0_i32_51
  let v85 : BitVec 32 := Scalar.extui v84
  let v86 : BitVec 32 := Scalar.subi v83 v85
  let v87 : BitVec 1 := Scalar.cmpi .ne v81 v86
  let v88 : BitVec 32 := Scalar.remsi arg20 c128_i32_47
  let c0_i32_52 : BitVec 32 := 0#32
  let v89 : BitVec 1 := Scalar.cmpi .ne v88 c0_i32_52
  let v90 : BitVec 1 := Scalar.andi v87 v89
  let v76 : BitVec 32 := Scalar.divsi arg20 c128_i32_47
  let c1_i32_53 : BitVec 32 := 1#32
  let v91 : BitVec 32 := Scalar.subi v76 c1_i32_53
  let v92 : BitVec 32 := Scalar.select v90 v91 v76
  let c128_i32_54 : BitVec 32 := 128#32
  let v93 : BitVec 32 := Scalar.muli v92 c128_i32_54
  let v95 : BitVec 32 := Scalar.subi v75 v93
  let c512_i32 : BitVec 32 := 512#32
  let v96 : BitVec 32 := Scalar.addi v95 c512_i32
  let c1_i32_55 : BitVec 32 := 1#32
  let v97 : BitVec 32 := Scalar.subi v96 c1_i32_55
  let c0_i32_57 : BitVec 32 := 0#32
  let v99 : BitVec 1 := Scalar.cmpi .sgt v97 c0_i32_57
  let v100 : BitVec 32 := Scalar.extui v99
  let c0_i32_58 : BitVec 32 := 0#32
  let v101 : BitVec 1 := Scalar.cmpi .slt v97 c0_i32_58
  let v102 : BitVec 32 := Scalar.extui v101
  let v103 : BitVec 32 := Scalar.subi v100 v102
  let c512_i32_56 : BitVec 32 := 512#32
  let c0_i32_59 : BitVec 32 := 0#32
  let v104 : BitVec 1 := Scalar.cmpi .sgt c512_i32_56 c0_i32_59
  let v105 : BitVec 32 := Scalar.extui v104
  let c0_i32_60 : BitVec 32 := 0#32
  let v106 : BitVec 1 := Scalar.cmpi .slt c512_i32_56 c0_i32_60
  let v107 : BitVec 32 := Scalar.extui v106
  let v108 : BitVec 32 := Scalar.subi v105 v107
  let v109 : BitVec 1 := Scalar.cmpi .ne v103 v108
  let v110 : BitVec 32 := Scalar.remsi v97 c512_i32_56
  let c0_i32_61 : BitVec 32 := 0#32
  let v111 : BitVec 1 := Scalar.cmpi .ne v110 c0_i32_61
  let v112 : BitVec 1 := Scalar.andi v109 v111
  let v98 : BitVec 32 := Scalar.divsi v97 c512_i32_56
  let c1_i32_62 : BitVec 32 := 1#32
  let v113 : BitVec 32 := Scalar.subi v98 c1_i32_62
  let v114 : BitVec 32 := Scalar.select v112 v113 v98
  let c0_i32_63 : BitVec 32 := 0#32
  let v115 : BitVec 32 := Scalar.select v94 v114 c0_i32_63
  let v116 : BitVec 32 := Scalar.subi v115 c0_i32_64
  let c1_i32_66 : BitVec 32 := 1#32
  let v118 : BitVec 32 := Scalar.divsi v116 c1_i32_66
  let v119 : BitVec 32 := Scalar.muli v118 c1_i32_66
  let v120 : BitVec 32 := Scalar.addi c0_i32_64 v119
  let v117 : BitVec 32 := Scalar.addi c0_i32_64 v116
  let c1_i32_68 : BitVec 32 := 1#32
  ⟨v120, v117, c1_i32_68⟩
def k0_off3 (arg20 : BitVec 32) (arg21 : BitVec 32) (v74 : BitVec 32) (k0_t3 : Fin (k0_t3_loop arg20 v74).trips) : Fin 1 → Nat :=
  let c0_i32_64 : BitVec 32 := 0#32
  let v75 : BitVec 32 := Scalar.addi arg20 v74
  let v94 : BitVec 1 := Scalar.cmpi .sgt v75 arg20
  let c0_i32_48 : BitVec 32 := 0#32
  let v77 : BitVec 1 := Scalar.cmpi .sgt arg20 c0_i32_48
  let v78 : BitVec 32 := Scalar.extui v77
  let c0_i32_49 : BitVec 32 := 0#32
  let v79 : BitVec 1 := Scalar.cmpi .slt arg20 c0_i32_49
  let v80 : BitVec 32 := Scalar.extui v79
  let v81 : BitVec 32 := Scalar.subi v78 v80
  let c128_i32_47 : BitVec 32 := 128#32
  let c0_i32_50 : BitVec 32 := 0#32
  let v82 : BitVec 1 := Scalar.cmpi .sgt c128_i32_47 c0_i32_50
  let v83 : BitVec 32 := Scalar.extui v82
  let c0_i32_51 : BitVec 32 := 0#32
  let v84 : BitVec 1 := Scalar.cmpi .slt c128_i32_47 c0_i32_51
  let v85 : BitVec 32 := Scalar.extui v84
  let v86 : BitVec 32 := Scalar.subi v83 v85
  let v87 : BitVec 1 := Scalar.cmpi .ne v81 v86
  let v88 : BitVec 32 := Scalar.remsi arg20 c128_i32_47
  let c0_i32_52 : BitVec 32 := 0#32
  let v89 : BitVec 1 := Scalar.cmpi .ne v88 c0_i32_52
  let v90 : BitVec 1 := Scalar.andi v87 v89
  let v76 : BitVec 32 := Scalar.divsi arg20 c128_i32_47
  let c1_i32_53 : BitVec 32 := 1#32
  let v91 : BitVec 32 := Scalar.subi v76 c1_i32_53
  let v92 : BitVec 32 := Scalar.select v90 v91 v76
  let c128_i32_54 : BitVec 32 := 128#32
  let v93 : BitVec 32 := Scalar.muli v92 c128_i32_54
  let v95 : BitVec 32 := Scalar.subi v75 v93
  let c512_i32 : BitVec 32 := 512#32
  let v96 : BitVec 32 := Scalar.addi v95 c512_i32
  let c1_i32_55 : BitVec 32 := 1#32
  let v97 : BitVec 32 := Scalar.subi v96 c1_i32_55
  let c0_i32_57 : BitVec 32 := 0#32
  let v99 : BitVec 1 := Scalar.cmpi .sgt v97 c0_i32_57
  let v100 : BitVec 32 := Scalar.extui v99
  let c0_i32_58 : BitVec 32 := 0#32
  let v101 : BitVec 1 := Scalar.cmpi .slt v97 c0_i32_58
  let v102 : BitVec 32 := Scalar.extui v101
  let v103 : BitVec 32 := Scalar.subi v100 v102
  let c512_i32_56 : BitVec 32 := 512#32
  let c0_i32_59 : BitVec 32 := 0#32
  let v104 : BitVec 1 := Scalar.cmpi .sgt c512_i32_56 c0_i32_59
  let v105 : BitVec 32 := Scalar.extui v104
  let c0_i32_60 : BitVec 32 := 0#32
  let v106 : BitVec 1 := Scalar.cmpi .slt c512_i32_56 c0_i32_60
  let v107 : BitVec 32 := Scalar.extui v106
  let v108 : BitVec 32 := Scalar.subi v105 v107
  let v109 : BitVec 1 := Scalar.cmpi .ne v103 v108
  let v110 : BitVec 32 := Scalar.remsi v97 c512_i32_56
  let c0_i32_61 : BitVec 32 := 0#32
  let v111 : BitVec 1 := Scalar.cmpi .ne v110 c0_i32_61
  let v112 : BitVec 1 := Scalar.andi v109 v111
  let v98 : BitVec 32 := Scalar.divsi v97 c512_i32_56
  let c1_i32_62 : BitVec 32 := 1#32
  let v113 : BitVec 32 := Scalar.subi v98 c1_i32_62
  let v114 : BitVec 32 := Scalar.select v112 v113 v98
  let c0_i32_63 : BitVec 32 := 0#32
  let v115 : BitVec 32 := Scalar.select v94 v114 c0_i32_63
  let v116 : BitVec 32 := Scalar.subi v115 c0_i32_64
  let c1_i32_66 : BitVec 32 := 1#32
  let v118 : BitVec 32 := Scalar.divsi v116 c1_i32_66
  let v119 : BitVec 32 := Scalar.muli v118 c1_i32_66
  let v120 : BitVec 32 := Scalar.addi c0_i32_64 v119
  let c1_i32_68 : BitVec 32 := 1#32
  let arg22 : BitVec 32 := Scf.iv v120 c1_i32_68 k0_t3
  let v126 : BitVec 32 := Scalar.addi arg21 arg22
  let v127 : Index := Scalar.indexCast v126
  ![v127.toNat]

def k0_chk1 (arg20 : BitVec 32) (arg21 : BitVec 32) (v74 : BitVec 32) : Prop :=
  ((k0_t2_loop arg20 v74).OK) ∧
  (∀ k0_t2 : Fin (k0_t2_loop arg20 v74).trips, ∀ a, (k0_off2 arg20 arg21 v74 k0_t2) a + S1.size a ≤ S224.size a) ∧
  ((k0_t3_loop arg20 v74).OK) ∧
  (∀ k0_t3 : Fin (k0_t3_loop arg20 v74).trips, ∀ a, (k0_off3 arg20 arg21 v74 k0_t3) a + S1.size a ≤ S224.size a)
theorem k0_t2_ok : ∀ (arg20 : BitVec 32) (arg21 : BitVec 32) (v74 : BitVec 32) (k0_hw1 : k0_chk1 arg20 arg21 v74), (k0_t2_loop arg20 v74).OK := fun arg20 arg21 v74 k0_hw1 => k0_hw1.1
theorem k0_off2_inb : ∀ (arg20 : BitVec 32) (arg21 : BitVec 32) (v74 : BitVec 32) (k0_hw1 : k0_chk1 arg20 arg21 v74) (k0_t2 : Fin (k0_t2_loop arg20 v74).trips), ∀ a, (k0_off2 arg20 arg21 v74 k0_t2) a + S1.size a ≤ S224.size a := fun arg20 arg21 v74 k0_hw1 k0_t2 => k0_hw1.2.1 k0_t2
theorem k0_t3_ok : ∀ (arg20 : BitVec 32) (arg21 : BitVec 32) (v74 : BitVec 32) (k0_hw1 : k0_chk1 arg20 arg21 v74), (k0_t3_loop arg20 v74).OK := fun arg20 arg21 v74 k0_hw1 => k0_hw1.2.2.1
theorem k0_off3_inb : ∀ (arg20 : BitVec 32) (arg21 : BitVec 32) (v74 : BitVec 32) (k0_hw1 : k0_chk1 arg20 arg21 v74) (k0_t3 : Fin (k0_t3_loop arg20 v74).trips), ∀ a, (k0_off3 arg20 arg21 v74 k0_t3) a + S1.size a ≤ S224.size a := fun arg20 arg21 v74 k0_hw1 k0_t3 => k0_hw1.2.2.2 k0_t3

def k0_off4 (v2 : BitVec 32) : Fin 3 → Nat :=
  let c0_i32_7 : BitVec 32 := 0#32
  let c0_i32_8 : BitVec 32 := 0#32
  ![v2.toNat, 0, 0]

def k0_off5 (v2 : BitVec 32) : Fin 3 → Nat :=
  let c0_i32_13 : BitVec 32 := 0#32
  let c0_i32_14 : BitVec 32 := 0#32
  ![v2.toNat, 0, 0]

def k0_chk2 (v2 : BitVec 32) : Prop :=
  (∀ a, (k0_off4 v2) a + S1x1024x1024.size a ≤ S16x1024x4096.size a) ∧
  (∀ (hinb : ∀ a, (k0_off4 v2) a + S1x1024x1024.size a ≤ S16x1024x4096.size a), (Rect.unit (s := S16x1024x4096) (k0_off4 v2) S1x1024x1024.size hinb).WholeWords (EltTy.packing .i8)) ∧
  (∀ a, (k0_off5 v2) a + S1x16x1024.size a ≤ S16x16x4096.size a) ∧
  (∀ (hinb : ∀ a, (k0_off5 v2) a + S1x16x1024.size a ≤ S16x16x4096.size a), (Rect.unit (s := S16x16x4096) (k0_off5 v2) S1x16x1024.size hinb).WholeWords (EltTy.packing .bf16))
theorem k0_off4_inb : ∀ (v2 : BitVec 32) (k0_hw2 : k0_chk2 v2), ∀ a, (k0_off4 v2) a + S1x1024x1024.size a ≤ S16x1024x4096.size a := fun v2 k0_hw2 => k0_hw2.1
theorem k0_off4_wordsi8 : ∀ (v2 : BitVec 32) (k0_hw2 : k0_chk2 v2), (Rect.unit (s := S16x1024x4096) (k0_off4 v2) S1x1024x1024.size (k0_off4_inb v2 k0_hw2)).WholeWords (EltTy.packing .i8) := fun v2 k0_hw2 => k0_hw2.2.1 (k0_off4_inb v2 k0_hw2)
theorem k0_off5_inb : ∀ (v2 : BitVec 32) (k0_hw2 : k0_chk2 v2), ∀ a, (k0_off5 v2) a + S1x16x1024.size a ≤ S16x16x4096.size a := fun v2 k0_hw2 => k0_hw2.2.2.1
theorem k0_off5_wordsbf16 : ∀ (v2 : BitVec 32) (k0_hw2 : k0_chk2 v2), (Rect.unit (s := S16x16x4096) (k0_off5 v2) S1x16x1024.size (k0_off5_inb v2 k0_hw2)).WholeWords (EltTy.packing .bf16) := fun v2 k0_hw2 => k0_hw2.2.2.2 (k0_off5_inb v2 k0_hw2)

def k0_mult1 (v15 : BitVec 32) : BitVec 32 :=
  let c97792_i32 : BitVec 32 := 97792#32
  let v16 : BitVec 32 := Scalar.minsi v15 c97792_i32
  v16

def k0_off6 (v15 : BitVec 32) : Fin 2 → Nat :=
  let c97792_i32 : BitVec 32 := 97792#32
  let v16 : BitVec 32 := Scalar.minsi v15 c97792_i32
  let v17 : BitVec 32 := v16
  let c0_i32_26 : BitVec 32 := 0#32
  ![v17.toNat, 0]
def k0_off7 (v15 : BitVec 32) : Fin 3 → Nat :=
  let c97792_i32 : BitVec 32 := 97792#32
  let v16 : BitVec 32 := Scalar.minsi v15 c97792_i32
  let v17 : BitVec 32 := v16
  let c0_i32_16 : BitVec 32 := 0#32
  let v19 : BitVec 1 := Scalar.cmpi .sgt v17 c0_i32_16
  let v20 : BitVec 32 := Scalar.extui v19
  let c0_i32_17 : BitVec 32 := 0#32
  let v21 : BitVec 1 := Scalar.cmpi .slt v17 c0_i32_17
  let v22 : BitVec 32 := Scalar.extui v21
  let v23 : BitVec 32 := Scalar.subi v20 v22
  let c128_i32 : BitVec 32 := 128#32
  let c0_i32_18 : BitVec 32 := 0#32
  let v24 : BitVec 1 := Scalar.cmpi .sgt c128_i32 c0_i32_18
  let v25 : BitVec 32 := Scalar.extui v24
  let c0_i32_19 : BitVec 32 := 0#32
  let v26 : BitVec 1 := Scalar.cmpi .slt c128_i32 c0_i32_19
  let v27 : BitVec 32 := Scalar.extui v26
  let v28 : BitVec 32 := Scalar.subi v25 v27
  let v29 : BitVec 1 := Scalar.cmpi .ne v23 v28
  let v30 : BitVec 32 := Scalar.remsi v17 c128_i32
  let c0_i32_20 : BitVec 32 := 0#32
  let v31 : BitVec 1 := Scalar.cmpi .ne v30 c0_i32_20
  let v32 : BitVec 1 := Scalar.andi v29 v31
  let v18 : BitVec 32 := Scalar.divsi v17 c128_i32
  let c1_i32_21 : BitVec 32 := 1#32
  let v33 : BitVec 32 := Scalar.subi v18 c1_i32_21
  let v34 : BitVec 32 := Scalar.select v32 v33 v18
  let c0_i32_32 : BitVec 32 := 0#32
  let c0_i32_33 : BitVec 32 := 0#32
  ![v34.toNat, 0, 0]

def k0_chk3 (v15 : BitVec 32) : Prop :=
  (128 ∣ (k0_mult1 v15).toNat) ∧
  (∀ a, (k0_off6 v15) a + S512x2048.size a ≤ S98304x2048.size a) ∧
  (∀ (hinb : ∀ a, (k0_off6 v15) a + S512x2048.size a ≤ S98304x2048.size a), (Rect.unit (s := S98304x2048) (k0_off6 v15) S512x2048.size hinb).WholeWords (EltTy.packing .fp8e4m3)) ∧
  (∀ a, (k0_off7 v15) a + S4x1x128.size a ≤ S768x1x128.size a)
theorem k0_mult1_dvd : ∀ (v15 : BitVec 32) (k0_hw3 : k0_chk3 v15), 128 ∣ (k0_mult1 v15).toNat := fun v15 k0_hw3 => k0_hw3.1
theorem k0_off6_inb : ∀ (v15 : BitVec 32) (k0_hw3 : k0_chk3 v15), ∀ a, (k0_off6 v15) a + S512x2048.size a ≤ S98304x2048.size a := fun v15 k0_hw3 => k0_hw3.2.1
theorem k0_off6_wordsfp8e4m3 : ∀ (v15 : BitVec 32) (k0_hw3 : k0_chk3 v15), (Rect.unit (s := S98304x2048) (k0_off6 v15) S512x2048.size (k0_off6_inb v15 k0_hw3)).WholeWords (EltTy.packing .fp8e4m3) := fun v15 k0_hw3 => k0_hw3.2.2.1 (k0_off6_inb v15 k0_hw3)
theorem k0_off7_inb : ∀ (v15 : BitVec 32) (k0_hw3 : k0_chk3 v15), ∀ a, (k0_off7 v15) a + S4x1x128.size a ≤ S768x1x128.size a := fun v15 k0_hw3 => k0_hw3.2.2.2

@[reducible] def k0_t4_loop (v1_1 : BitVec 32) : Scf.Loop 32 :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_37 : BitVec 32 := 1#32
  ⟨c0_i32_34, v49, c1_i32_37⟩

def k0_off8 (v1_1 : BitVec 32) (k0_t4 : Fin (k0_t4_loop v1_1).trips) : Fin 1 → Nat :=
  let c0_i32_34 : BitVec 32 := 0#32
  let c1_i32_37 : BitVec 32 := 1#32
  let arg19 : BitVec 32 := Scf.iv c0_i32_34 c1_i32_37 k0_t4
  let v74 : Index := Scalar.indexCast arg19
  ![v74.toNat]
def k0_off9 (v1_1 : BitVec 32) (k0_t4 : Fin (k0_t4_loop v1_1).trips) : Fin 1 → Nat :=
  let c0_i32_34 : BitVec 32 := 0#32
  let c1_i32_37 : BitVec 32 := 1#32
  let arg19 : BitVec 32 := Scf.iv c0_i32_34 c1_i32_37 k0_t4
  let c1_i32_49 : BitVec 32 := 1#32
  let v77 : BitVec 32 := Scalar.subi arg19 c1_i32_49
  let c0_i32_50 : BitVec 32 := 0#32
  let v78 : BitVec 32 := Scalar.maxsi v77 c0_i32_50
  let v79 : Index := Scalar.indexCast v78
  ![v79.toNat]
def k0_off10 (v1_1 : BitVec 32) (k0_t4 : Fin (k0_t4_loop v1_1).trips) : Fin 1 → Nat :=
  let c0_i32_34 : BitVec 32 := 0#32
  let c1_i32_37 : BitVec 32 := 1#32
  let arg19 : BitVec 32 := Scf.iv c0_i32_34 c1_i32_37 k0_t4
  let c1_i32_107 : BitVec 32 := 1#32
  let v359 : BitVec 32 := Scalar.addi arg19 c1_i32_107
  let v361 : Index := Scalar.indexCast v359
  ![v361.toNat]
def k0_cond1 (v1_1 : BitVec 32) (k0_t4 : Fin (k0_t4_loop v1_1).trips) : BitVec 1 :=
  let c0_i32_34 : BitVec 32 := 0#32
  let c1_i32_37 : BitVec 32 := 1#32
  let arg19 : BitVec 32 := Scf.iv c0_i32_34 c1_i32_37 k0_t4
  let c1_i32_51 : BitVec 32 := 1#32
  let v83 : BitVec 32 := Scalar.addi arg19 c1_i32_51
  let v84 : BitVec 1 := Scalar.cmpi .slt v83 v1_1
  let v85 : BitVec 32 := Scalar.extui v84
  let c0_i32_52 : BitVec 32 := 0#32
  let v86 : BitVec 1 := Scalar.cmpi .ne v85 c0_i32_52
  v86

def k0_mult2 (v362 : BitVec 32) : BitVec 32 :=
  let c97792_i32_109 : BitVec 32 := 97792#32
  let v363 : BitVec 32 := Scalar.minsi v362 c97792_i32_109
  v363

def k0_off11 (v1_1 : BitVec 32) (k0_t4 : Fin (k0_t4_loop v1_1).trips) : Fin 1 → Nat :=
  let c1_i32_108 : BitVec 32 := 1#32
  let c0_i32_34 : BitVec 32 := 0#32
  let c1_i32_37 : BitVec 32 := 1#32
  let arg19 : BitVec 32 := Scf.iv c0_i32_34 c1_i32_37 k0_t4
  let c2_i32_47 : BitVec 32 := 2#32
  let v73 : BitVec 32 := Scalar.remsi arg19 c2_i32_47
  let v360 : BitVec 32 := Scalar.subi c1_i32_108 v73
  ![v360.toNat]
def k0_off12 (v1_1 : BitVec 32) (k0_t4 : Fin (k0_t4_loop v1_1).trips) : Fin 3 → Nat :=
  let c1_i32_108 : BitVec 32 := 1#32
  let c0_i32_34 : BitVec 32 := 0#32
  let c1_i32_37 : BitVec 32 := 1#32
  let arg19 : BitVec 32 := Scf.iv c0_i32_34 c1_i32_37 k0_t4
  let c2_i32_47 : BitVec 32 := 2#32
  let v73 : BitVec 32 := Scalar.remsi arg19 c2_i32_47
  let v360 : BitVec 32 := Scalar.subi c1_i32_108 v73
  let c0_i32_117 : BitVec 32 := 0#32
  let c0_i32_118 : BitVec 32 := 0#32
  ![v360.toNat, 0, 0]
def k0_off13 (v362 : BitVec 32) : Fin 2 → Nat :=
  let c97792_i32_109 : BitVec 32 := 97792#32
  let v363 : BitVec 32 := Scalar.minsi v362 c97792_i32_109
  let v364 : BitVec 32 := v363
  let c0_i32_119 : BitVec 32 := 0#32
  ![v364.toNat, 0]
def k0_off14 (v1_1 : BitVec 32) (k0_t4 : Fin (k0_t4_loop v1_1).trips) : Fin 4 → Nat :=
  let c1_i32_108 : BitVec 32 := 1#32
  let c0_i32_34 : BitVec 32 := 0#32
  let c1_i32_37 : BitVec 32 := 1#32
  let arg19 : BitVec 32 := Scf.iv c0_i32_34 c1_i32_37 k0_t4
  let c2_i32_47 : BitVec 32 := 2#32
  let v73 : BitVec 32 := Scalar.remsi arg19 c2_i32_47
  let v360 : BitVec 32 := Scalar.subi c1_i32_108 v73
  let c0_i32_120 : BitVec 32 := 0#32
  let c0_i32_121 : BitVec 32 := 0#32
  let c0_i32_122 : BitVec 32 := 0#32
  ![v360.toNat, 0, 0, 0]
def k0_off15 (v362 : BitVec 32) : Fin 3 → Nat :=
  let c97792_i32_109 : BitVec 32 := 97792#32
  let v363 : BitVec 32 := Scalar.minsi v362 c97792_i32_109
  let v364 : BitVec 32 := v363
  let c0_i32_111 : BitVec 32 := 0#32
  let v366 : BitVec 1 := Scalar.cmpi .sgt v364 c0_i32_111
  let v367 : BitVec 32 := Scalar.extui v366
  let c0_i32_112 : BitVec 32 := 0#32
  let v368 : BitVec 1 := Scalar.cmpi .slt v364 c0_i32_112
  let v369 : BitVec 32 := Scalar.extui v368
  let v370 : BitVec 32 := Scalar.subi v367 v369
  let c128_i32_110 : BitVec 32 := 128#32
  let c0_i32_113 : BitVec 32 := 0#32
  let v371 : BitVec 1 := Scalar.cmpi .sgt c128_i32_110 c0_i32_113
  let v372 : BitVec 32 := Scalar.extui v371
  let c0_i32_114 : BitVec 32 := 0#32
  let v373 : BitVec 1 := Scalar.cmpi .slt c128_i32_110 c0_i32_114
  let v374 : BitVec 32 := Scalar.extui v373
  let v375 : BitVec 32 := Scalar.subi v372 v374
  let v376 : BitVec 1 := Scalar.cmpi .ne v370 v375
  let v377 : BitVec 32 := Scalar.remsi v364 c128_i32_110
  let c0_i32_115 : BitVec 32 := 0#32
  let v378 : BitVec 1 := Scalar.cmpi .ne v377 c0_i32_115
  let v379 : BitVec 1 := Scalar.andi v376 v378
  let v365 : BitVec 32 := Scalar.divsi v364 c128_i32_110
  let c1_i32_116 : BitVec 32 := 1#32
  let v380 : BitVec 32 := Scalar.subi v365 c1_i32_116
  let v381 : BitVec 32 := Scalar.select v379 v380 v365
  let c0_i32_123 : BitVec 32 := 0#32
  let c0_i32_124 : BitVec 32 := 0#32
  ![v381.toNat, 0, 0]

def k0_chk5 (v1_1 : BitVec 32) (k0_t4 : Fin (k0_t4_loop v1_1).trips) (v362 : BitVec 32) : Prop :=
  (∀ (k0_h1 : k0_cond1 v1_1 k0_t4 = 1#1), 128 ∣ (k0_mult2 v362).toNat) ∧
  (∀ (k0_h1 : k0_cond1 v1_1 k0_t4 = 1#1), ∀ a, (k0_off13 v362) a + S512x2048.size a ≤ S98304x2048.size a) ∧
  (∀ (k0_h1 : k0_cond1 v1_1 k0_t4 = 1#1), ∀ (hinb : ∀ a, (k0_off13 v362) a + S512x2048.size a ≤ S98304x2048.size a), (Rect.unit (s := S98304x2048) (k0_off13 v362) S512x2048.size hinb).WholeWords (EltTy.packing .fp8e4m3)) ∧
  (∀ (k0_h1 : k0_cond1 v1_1 k0_t4 = 1#1), ∀ a, (k0_off15 v362) a + S4x1x128.size a ≤ S768x1x128.size a)
theorem k0_mult2_dvd : ∀ (v1_1 : BitVec 32) (k0_t4 : Fin (k0_t4_loop v1_1).trips) (v362 : BitVec 32) (k0_hw5 : k0_chk5 v1_1 k0_t4 v362), ∀ (k0_h1 : k0_cond1 v1_1 k0_t4 = 1#1), 128 ∣ (k0_mult2 v362).toNat := fun v1_1 k0_t4 v362 k0_hw5 k0_h1 => k0_hw5.1 k0_h1
theorem k0_off13_inb : ∀ (v1_1 : BitVec 32) (k0_t4 : Fin (k0_t4_loop v1_1).trips) (v362 : BitVec 32) (k0_hw5 : k0_chk5 v1_1 k0_t4 v362), ∀ (k0_h1 : k0_cond1 v1_1 k0_t4 = 1#1), ∀ a, (k0_off13 v362) a + S512x2048.size a ≤ S98304x2048.size a := fun v1_1 k0_t4 v362 k0_hw5 k0_h1 => k0_hw5.2.1 k0_h1
theorem k0_off13_wordsfp8e4m3 : ∀ (v1_1 : BitVec 32) (k0_t4 : Fin (k0_t4_loop v1_1).trips) (v362 : BitVec 32) (k0_hw5 : k0_chk5 v1_1 k0_t4 v362), ∀ (k0_h1 : k0_cond1 v1_1 k0_t4 = 1#1), (Rect.unit (s := S98304x2048) (k0_off13 v362) S512x2048.size (k0_off13_inb v1_1 k0_t4 v362 k0_hw5 k0_h1)).WholeWords (EltTy.packing .fp8e4m3) := fun v1_1 k0_t4 v362 k0_hw5 k0_h1 => k0_hw5.2.2.1 k0_h1 (k0_off13_inb v1_1 k0_t4 v362 k0_hw5 k0_h1)
theorem k0_off15_inb : ∀ (v1_1 : BitVec 32) (k0_t4 : Fin (k0_t4_loop v1_1).trips) (v362 : BitVec 32) (k0_hw5 : k0_chk5 v1_1 k0_t4 v362), ∀ (k0_h1 : k0_cond1 v1_1 k0_t4 = 1#1), ∀ a, (k0_off15 v362) a + S4x1x128.size a ≤ S768x1x128.size a := fun v1_1 k0_t4 v362 k0_hw5 k0_h1 => k0_hw5.2.2.2 k0_h1

def k0_off16 (arg20 : BitVec 32) : Fin 1 → Nat :=
  ![arg20.toNat]
def k0_cond2 (v1_1 : BitVec 32) (k0_t4 : Fin (k0_t4_loop v1_1).trips) (v75 : BitVec 32) (v80 : BitVec 32) : BitVec 1 :=
  let c0_i32_34 : BitVec 32 := 0#32
  let c1_i32_37 : BitVec 32 := 1#32
  let arg19 : BitVec 32 := Scf.iv c0_i32_34 c1_i32_37 k0_t4
  let c0_i32_48 : BitVec 32 := 0#32
  let v76 : BitVec 1 := Scalar.cmpi .eq arg19 c0_i32_48
  let v81 : BitVec 1 := Scalar.cmpi .ne v80 v75
  let v82 : BitVec 1 := Scalar.ori v76 v81
  let v87 : BitVec 32 := Scalar.extui v82
  let c0_i32_53 : BitVec 32 := 0#32
  let v88 : BitVec 1 := Scalar.cmpi .ne v87 c0_i32_53
  v88

def k0_off17 (arg20 : BitVec 32) : Fin 3 → Nat :=
  let c0_i32_107 : BitVec 32 := 0#32
  let c0_i32_108 : BitVec 32 := 0#32
  ![arg20.toNat, 0, 0]
def k0_off18 (v75 : BitVec 32) : Fin 3 → Nat :=
  let c0_i32_109 : BitVec 32 := 0#32
  let c0_i32_110 : BitVec 32 := 0#32
  ![v75.toNat, 0, 0]
def k0_off19 (arg20 : BitVec 32) : Fin 3 → Nat :=
  let c0_i32_111 : BitVec 32 := 0#32
  let c0_i32_112 : BitVec 32 := 0#32
  ![arg20.toNat, 0, 0]
def k0_off20 (v75 : BitVec 32) : Fin 3 → Nat :=
  let c0_i32_113 : BitVec 32 := 0#32
  let c0_i32_114 : BitVec 32 := 0#32
  ![v75.toNat, 0, 0]
@[reducible] def k0_t5_loop : Scf.Loop 32 :=
  let c0_i32_116 : BitVec 32 := 0#32
  let c16_i32_117 : BitVec 32 := 16#32
  let v371 : BitVec 32 := Scalar.addi c0_i32_116 c16_i32_117
  let c1_i32_118 : BitVec 32 := 1#32
  ⟨c0_i32_116, v371, c1_i32_118⟩
def k0_off21 (k0_t5 : Fin k0_t5_loop.trips) : Fin 1 → Nat :=
  let c15_i32_252 : BitVec 32 := 15#32
  let c0_i32_116 : BitVec 32 := 0#32
  let c1_i32_118 : BitVec 32 := 1#32
  let arg21 : BitVec 32 := Scf.iv c0_i32_116 c1_i32_118 k0_t5
  let v778 : BitVec 32 := Scalar.subi c15_i32_252 arg21
  let v779 : Index := Scalar.indexCast v778
  ![v779.toNat]
def k0_off22 (arg20 : BitVec 32) : Fin 1 → Nat :=
  let c1_i32_252 : BitVec 32 := 1#32
  let v776 : BitVec 32 := Scalar.subi c1_i32_252 arg20
  ![v776.toNat]
def k0_cond3 (v372 : BitVec 32) : BitVec 1 :=
  let c16_i32_120 : BitVec 32 := 16#32
  let v373 : BitVec 1 := Scalar.cmpi .slt v372 c16_i32_120
  let v374 : BitVec 32 := Scalar.extui v373
  let c0_i32_121 : BitVec 32 := 0#32
  let v375 : BitVec 1 := Scalar.cmpi .ne v374 c0_i32_121
  v375

def k0_off23 (arg20 : BitVec 32) : Fin 3 → Nat :=
  let c1_i32_252 : BitVec 32 := 1#32
  let v776 : BitVec 32 := Scalar.subi c1_i32_252 arg20
  let c0_i32_253 : BitVec 32 := 0#32
  let c0_i32_254 : BitVec 32 := 0#32
  ![v776.toNat, 0, 0]
def k0_off24 (v372 : BitVec 32) : Fin 3 → Nat :=
  let c0_i32_255 : BitVec 32 := 0#32
  let c0_i32_256 : BitVec 32 := 0#32
  ![v372.toNat, 0, 0]
def k0_off25 (arg20 : BitVec 32) : Fin 3 → Nat :=
  let c1_i32_252 : BitVec 32 := 1#32
  let v776 : BitVec 32 := Scalar.subi c1_i32_252 arg20
  let c0_i32_257 : BitVec 32 := 0#32
  let c0_i32_258 : BitVec 32 := 0#32
  ![v776.toNat, 0, 0]
def k0_off26 (v372 : BitVec 32) : Fin 3 → Nat :=
  let c0_i32_259 : BitVec 32 := 0#32
  let c0_i32_260 : BitVec 32 := 0#32
  ![v372.toNat, 0, 0]

def k0_chk7 (v1_1 : BitVec 32) (k0_t4 : Fin (k0_t4_loop v1_1).trips) (arg20 : BitVec 32) (v75 : BitVec 32) (v80 : BitVec 32) (v372 : BitVec 32) : Prop :=
  (∀ (k0_h2 : k0_cond2 v1_1 k0_t4 v75 v80 = 1#1), ∀ (k0_h3 : k0_cond3 v372 = 1#1), ∀ a, (k0_off22 arg20) a + S1.size a ≤ S2.size a) ∧
  (∀ (k0_h2 : k0_cond2 v1_1 k0_t4 v75 v80 = 1#1), ∀ (k0_h3 : k0_cond3 v372 = 1#1), ∀ a, (k0_off23 arg20) a + S1x1024x1024.size a ≤ S2x1024x1024.size a) ∧
  (∀ (k0_h2 : k0_cond2 v1_1 k0_t4 v75 v80 = 1#1), ∀ (k0_h3 : k0_cond3 v372 = 1#1), ∀ a, (k0_off24 v372) a + S1x1024x1024.size a ≤ S16x1024x4096.size a) ∧
  (∀ (k0_h2 : k0_cond2 v1_1 k0_t4 v75 v80 = 1#1), ∀ (k0_h3 : k0_cond3 v372 = 1#1), ∀ (hinb : ∀ a, (k0_off24 v372) a + S1x1024x1024.size a ≤ S16x1024x4096.size a), (Rect.unit (s := S16x1024x4096) (k0_off24 v372) S1x1024x1024.size hinb).WholeWords (EltTy.packing .i8)) ∧
  (∀ (k0_h2 : k0_cond2 v1_1 k0_t4 v75 v80 = 1#1), ∀ (k0_h3 : k0_cond3 v372 = 1#1), ∀ (hinb : ∀ a, (k0_off23 arg20) a + S1x1024x1024.size a ≤ S2x1024x1024.size a), (Rect.unit (s := S2x1024x1024) (k0_off23 arg20) S1x1024x1024.size hinb).WholeWords (EltTy.packing .i8)) ∧
  (∀ (k0_h2 : k0_cond2 v1_1 k0_t4 v75 v80 = 1#1), ∀ (k0_h3 : k0_cond3 v372 = 1#1), ∀ a, (k0_off25 arg20) a + S1x16x1024.size a ≤ S2x16x1024.size a) ∧
  (∀ (k0_h2 : k0_cond2 v1_1 k0_t4 v75 v80 = 1#1), ∀ (k0_h3 : k0_cond3 v372 = 1#1), ∀ a, (k0_off26 v372) a + S1x16x1024.size a ≤ S16x16x4096.size a) ∧
  (∀ (k0_h2 : k0_cond2 v1_1 k0_t4 v75 v80 = 1#1), ∀ (k0_h3 : k0_cond3 v372 = 1#1), ∀ (hinb : ∀ a, (k0_off26 v372) a + S1x16x1024.size a ≤ S16x16x4096.size a), (Rect.unit (s := S16x16x4096) (k0_off26 v372) S1x16x1024.size hinb).WholeWords (EltTy.packing .bf16)) ∧
  (∀ (k0_h2 : k0_cond2 v1_1 k0_t4 v75 v80 = 1#1), ∀ (k0_h3 : k0_cond3 v372 = 1#1), ∀ (hinb : ∀ a, (k0_off25 arg20) a + S1x16x1024.size a ≤ S2x16x1024.size a), (Rect.unit (s := S2x16x1024) (k0_off25 arg20) S1x16x1024.size hinb).WholeWords (EltTy.packing .bf16))
theorem k0_off22_inb : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), ∀ a, (k0_off22 arg20) a + S1.size a ≤ S2.size a := fun v1_1 k0_t4 arg20 v75 v80 v372 k0_hw7 k0_h2 k0_h3 => k0_hw7.1 k0_h2 k0_h3
theorem k0_off23_inb : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), ∀ a, (k0_off23 arg20) a + S1x1024x1024.size a ≤ S2x1024x1024.size a := fun v1_1 k0_t4 arg20 v75 v80 v372 k0_hw7 k0_h2 k0_h3 => k0_hw7.2.1 k0_h2 k0_h3
theorem k0_off24_inb : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), ∀ a, (k0_off24 v372) a + S1x1024x1024.size a ≤ S16x1024x4096.size a := fun v1_1 k0_t4 arg20 v75 v80 v372 k0_hw7 k0_h2 k0_h3 => k0_hw7.2.2.1 k0_h2 k0_h3
theorem k0_off24_wordsi8 : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), (Rect.unit (s := S16x1024x4096) (k0_off24 v372) S1x1024x1024.size (k0_off24_inb v1_1 k0_t4 arg20 v75 v80 v372 k0_hw7 k0_h2 k0_h3)).WholeWords (EltTy.packing .i8) := fun v1_1 k0_t4 arg20 v75 v80 v372 k0_hw7 k0_h2 k0_h3 => k0_hw7.2.2.2.1 k0_h2 k0_h3 (k0_off24_inb v1_1 k0_t4 arg20 v75 v80 v372 k0_hw7 k0_h2 k0_h3)
theorem k0_off23_wordsi8 : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), (Rect.unit (s := S2x1024x1024) (k0_off23 arg20) S1x1024x1024.size (k0_off23_inb v1_1 k0_t4 arg20 v75 v80 v372 k0_hw7 k0_h2 k0_h3)).WholeWords (EltTy.packing .i8) := fun v1_1 k0_t4 arg20 v75 v80 v372 k0_hw7 k0_h2 k0_h3 => k0_hw7.2.2.2.2.1 k0_h2 k0_h3 (k0_off23_inb v1_1 k0_t4 arg20 v75 v80 v372 k0_hw7 k0_h2 k0_h3)
theorem k0_off25_inb : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), ∀ a, (k0_off25 arg20) a + S1x16x1024.size a ≤ S2x16x1024.size a := fun v1_1 k0_t4 arg20 v75 v80 v372 k0_hw7 k0_h2 k0_h3 => k0_hw7.2.2.2.2.2.1 k0_h2 k0_h3
theorem k0_off26_inb : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), ∀ a, (k0_off26 v372) a + S1x16x1024.size a ≤ S16x16x4096.size a := fun v1_1 k0_t4 arg20 v75 v80 v372 k0_hw7 k0_h2 k0_h3 => k0_hw7.2.2.2.2.2.2.1 k0_h2 k0_h3
theorem k0_off26_wordsbf16 : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), (Rect.unit (s := S16x16x4096) (k0_off26 v372) S1x16x1024.size (k0_off26_inb v1_1 k0_t4 arg20 v75 v80 v372 k0_hw7 k0_h2 k0_h3)).WholeWords (EltTy.packing .bf16) := fun v1_1 k0_t4 arg20 v75 v80 v372 k0_hw7 k0_h2 k0_h3 => k0_hw7.2.2.2.2.2.2.2.1 k0_h2 k0_h3 (k0_off26_inb v1_1 k0_t4 arg20 v75 v80 v372 k0_hw7 k0_h2 k0_h3)
theorem k0_off25_wordsbf16 : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), (Rect.unit (s := S2x16x1024) (k0_off25 arg20) S1x16x1024.size (k0_off25_inb v1_1 k0_t4 arg20 v75 v80 v372 k0_hw7 k0_h2 k0_h3)).WholeWords (EltTy.packing .bf16) := fun v1_1 k0_t4 arg20 v75 v80 v372 k0_hw7 k0_h2 k0_h3 => k0_hw7.2.2.2.2.2.2.2.2 k0_h2 k0_h3 (k0_off25_inb v1_1 k0_t4 arg20 v75 v80 v372 k0_hw7 k0_h2 k0_h3)

def k0_off27 (arg20 : BitVec 32) : Fin 3 → Nat :=
  let v376 : Index := Scalar.indexCast arg20
  let c0_122 : Index := 0#32
  let c0_123 : Index := 0#32
  ![v376.toNat, 0, 0]
def k0_off28 (arg20 : BitVec 32) : Fin 3 → Nat :=
  let v393 : Index := Scalar.indexCast arg20
  let c0_126 : Index := 0#32
  let c0_127 : Index := 0#32
  ![v393.toNat, 0, 0]
def k0_off29 (arg20 : BitVec 32) : Fin 3 → Nat :=
  let v401 : Index := Scalar.indexCast arg20
  let c64 : Index := 64#32
  let c0_130 : Index := 0#32
  ![v401.toNat, 64, 0]
def k0_off30 (arg20 : BitVec 32) : Fin 3 → Nat :=
  let v418 : Index := Scalar.indexCast arg20
  let c1_135 : Index := 1#32
  let c0_136 : Index := 0#32
  ![v418.toNat, 1, 0]
def k0_off31 (arg20 : BitVec 32) : Fin 3 → Nat :=
  let v426 : Index := Scalar.indexCast arg20
  let c128_139 : Index := 128#32
  let c0_140 : Index := 0#32
  ![v426.toNat, 128, 0]
def k0_off32 (arg20 : BitVec 32) : Fin 3 → Nat :=
  let v443 : Index := Scalar.indexCast arg20
  let c2_145 : Index := 2#32
  let c0_146 : Index := 0#32
  ![v443.toNat, 2, 0]
def k0_off33 (arg20 : BitVec 32) : Fin 3 → Nat :=
  let v451 : Index := Scalar.indexCast arg20
  let c192 : Index := 192#32
  let c0_149 : Index := 0#32
  ![v451.toNat, 192, 0]
def k0_off34 (arg20 : BitVec 32) : Fin 3 → Nat :=
  let v468 : Index := Scalar.indexCast arg20
  let c3_154 : Index := 3#32
  let c0_155 : Index := 0#32
  ![v468.toNat, 3, 0]
def k0_off35 (arg20 : BitVec 32) : Fin 3 → Nat :=
  let v476 : Index := Scalar.indexCast arg20
  let c256_158 : Index := 256#32
  let c0_159 : Index := 0#32
  ![v476.toNat, 256, 0]
def k0_off36 (arg20 : BitVec 32) : Fin 3 → Nat :=
  let v493 : Index := Scalar.indexCast arg20
  let c4_164 : Index := 4#32
  let c0_165 : Index := 0#32
  ![v493.toNat, 4, 0]
def k0_off37 (arg20 : BitVec 32) : Fin 3 → Nat :=
  let v501 : Index := Scalar.indexCast arg20
  let c320 : Index := 320#32
  let c0_167 : Index := 0#32
  ![v501.toNat, 320, 0]
def k0_off38 (arg20 : BitVec 32) : Fin 3 → Nat :=
  let v518 : Index := Scalar.indexCast arg20
  let c5_172 : Index := 5#32
  let c0_173 : Index := 0#32
  ![v518.toNat, 5, 0]
def k0_off39 (arg20 : BitVec 32) : Fin 3 → Nat :=
  let v526 : Index := Scalar.indexCast arg20
  let c384_175 : Index := 384#32
  let c0_176 : Index := 0#32
  ![v526.toNat, 384, 0]
def k0_off40 (arg20 : BitVec 32) : Fin 3 → Nat :=
  let v543 : Index := Scalar.indexCast arg20
  let c6_181 : Index := 6#32
  let c0_182 : Index := 0#32
  ![v543.toNat, 6, 0]
def k0_off41 (arg20 : BitVec 32) : Fin 3 → Nat :=
  let v551 : Index := Scalar.indexCast arg20
  let c448 : Index := 448#32
  let c0_184 : Index := 0#32
  ![v551.toNat, 448, 0]
def k0_off42 (arg20 : BitVec 32) : Fin 3 → Nat :=
  let v568 : Index := Scalar.indexCast arg20
  let c7_189 : Index := 7#32
  let c0_190 : Index := 0#32
  ![v568.toNat, 7, 0]
def k0_off43 (arg20 : BitVec 32) : Fin 3 → Nat :=
  let v576 : Index := Scalar.indexCast arg20
  let c512_192 : Index := 512#32
  let c0_193 : Index := 0#32
  ![v576.toNat, 512, 0]
def k0_off44 (arg20 : BitVec 32) : Fin 3 → Nat :=
  let v593 : Index := Scalar.indexCast arg20
  let c8 : Index := 8#32
  let c0_198 : Index := 0#32
  ![v593.toNat, 8, 0]
def k0_off45 (arg20 : BitVec 32) : Fin 3 → Nat :=
  let v601 : Index := Scalar.indexCast arg20
  let c576 : Index := 576#32
  let c0_200 : Index := 0#32
  ![v601.toNat, 576, 0]
def k0_off46 (arg20 : BitVec 32) : Fin 3 → Nat :=
  let v618 : Index := Scalar.indexCast arg20
  let c9 : Index := 9#32
  let c0_205 : Index := 0#32
  ![v618.toNat, 9, 0]
def k0_off47 (arg20 : BitVec 32) : Fin 3 → Nat :=
  let v626 : Index := Scalar.indexCast arg20
  let c640_207 : Index := 640#32
  let c0_208 : Index := 0#32
  ![v626.toNat, 640, 0]
def k0_off48 (arg20 : BitVec 32) : Fin 3 → Nat :=
  let v643 : Index := Scalar.indexCast arg20
  let c10 : Index := 10#32
  let c0_213 : Index := 0#32
  ![v643.toNat, 10, 0]
def k0_off49 (arg20 : BitVec 32) : Fin 3 → Nat :=
  let v651 : Index := Scalar.indexCast arg20
  let c704 : Index := 704#32
  let c0_215 : Index := 0#32
  ![v651.toNat, 704, 0]
def k0_off50 (arg20 : BitVec 32) : Fin 3 → Nat :=
  let v668 : Index := Scalar.indexCast arg20
  let c11 : Index := 11#32
  let c0_220 : Index := 0#32
  ![v668.toNat, 11, 0]
def k0_off51 (arg20 : BitVec 32) : Fin 3 → Nat :=
  let v676 : Index := Scalar.indexCast arg20
  let c768_222 : Index := 768#32
  let c0_223 : Index := 0#32
  ![v676.toNat, 768, 0]
def k0_off52 (arg20 : BitVec 32) : Fin 3 → Nat :=
  let v693 : Index := Scalar.indexCast arg20
  let c12 : Index := 12#32
  let c0_228 : Index := 0#32
  ![v693.toNat, 12, 0]
def k0_off53 (arg20 : BitVec 32) : Fin 3 → Nat :=
  let v701 : Index := Scalar.indexCast arg20
  let c832 : Index := 832#32
  let c0_230 : Index := 0#32
  ![v701.toNat, 832, 0]
def k0_off54 (arg20 : BitVec 32) : Fin 3 → Nat :=
  let v718 : Index := Scalar.indexCast arg20
  let c13 : Index := 13#32
  let c0_235 : Index := 0#32
  ![v718.toNat, 13, 0]
def k0_off55 (arg20 : BitVec 32) : Fin 3 → Nat :=
  let v726 : Index := Scalar.indexCast arg20
  let c896_237 : Index := 896#32
  let c0_238 : Index := 0#32
  ![v726.toNat, 896, 0]
def k0_off56 (arg20 : BitVec 32) : Fin 3 → Nat :=
  let v743 : Index := Scalar.indexCast arg20
  let c14 : Index := 14#32
  let c0_243 : Index := 0#32
  ![v743.toNat, 14, 0]
def k0_off57 (arg20 : BitVec 32) : Fin 3 → Nat :=
  let v751 : Index := Scalar.indexCast arg20
  let c960 : Index := 960#32
  let c0_245 : Index := 0#32
  ![v751.toNat, 960, 0]
def k0_off58 (arg20 : BitVec 32) : Fin 3 → Nat :=
  let v768 : Index := Scalar.indexCast arg20
  let c15 : Index := 15#32
  let c0_250 : Index := 0#32
  ![v768.toNat, 15, 0]

def k0_chk6_0 (v1_1 : BitVec 32) (k0_t4 : Fin (k0_t4_loop v1_1).trips) (arg20 : BitVec 32) (v75 : BitVec 32) (v80 : BitVec 32) : Prop :=
  (∀ (k0_h2 : k0_cond2 v1_1 k0_t4 v75 v80 = 1#1), ∀ a, (k0_off16 arg20) a + S1.size a ≤ S2.size a) ∧
  (∀ (k0_h2 : k0_cond2 v1_1 k0_t4 v75 v80 = 1#1), ∀ a, (k0_off17 arg20) a + S1x1024x1024.size a ≤ S2x1024x1024.size a) ∧
  (∀ (k0_h2 : k0_cond2 v1_1 k0_t4 v75 v80 = 1#1), ∀ a, (k0_off18 v75) a + S1x1024x1024.size a ≤ S16x1024x4096.size a) ∧
  (∀ (k0_h2 : k0_cond2 v1_1 k0_t4 v75 v80 = 1#1), ∀ (hinb : ∀ a, (k0_off18 v75) a + S1x1024x1024.size a ≤ S16x1024x4096.size a), (Rect.unit (s := S16x1024x4096) (k0_off18 v75) S1x1024x1024.size hinb).WholeWords (EltTy.packing .i8)) ∧
  (∀ (k0_h2 : k0_cond2 v1_1 k0_t4 v75 v80 = 1#1), ∀ (hinb : ∀ a, (k0_off17 arg20) a + S1x1024x1024.size a ≤ S2x1024x1024.size a), (Rect.unit (s := S2x1024x1024) (k0_off17 arg20) S1x1024x1024.size hinb).WholeWords (EltTy.packing .i8)) ∧
  (∀ (k0_h2 : k0_cond2 v1_1 k0_t4 v75 v80 = 1#1), ∀ a, (k0_off19 arg20) a + S1x16x1024.size a ≤ S2x16x1024.size a) ∧
  (∀ (k0_h2 : k0_cond2 v1_1 k0_t4 v75 v80 = 1#1), ∀ a, (k0_off20 v75) a + S1x16x1024.size a ≤ S16x16x4096.size a) ∧
  (∀ (k0_h2 : k0_cond2 v1_1 k0_t4 v75 v80 = 1#1), ∀ (hinb : ∀ a, (k0_off20 v75) a + S1x16x1024.size a ≤ S16x16x4096.size a), (Rect.unit (s := S16x16x4096) (k0_off20 v75) S1x16x1024.size hinb).WholeWords (EltTy.packing .bf16)) ∧
  (∀ (k0_h2 : k0_cond2 v1_1 k0_t4 v75 v80 = 1#1), ∀ (hinb : ∀ a, (k0_off19 arg20) a + S1x16x1024.size a ≤ S2x16x1024.size a), (Rect.unit (s := S2x16x1024) (k0_off19 arg20) S1x16x1024.size hinb).WholeWords (EltTy.packing .bf16)) ∧
  (∀ (k0_h2 : k0_cond2 v1_1 k0_t4 v75 v80 = 1#1), ∀ a, (k0_off27 arg20) a + S1x64x1024.size a ≤ S2x1024x1024.size a) ∧
  (∀ (k0_h2 : k0_cond2 v1_1 k0_t4 v75 v80 = 1#1), ∀ a, (k0_off28 arg20) a + S1x1x1024.size a ≤ S2x16x1024.size a) ∧
  (∀ (k0_h2 : k0_cond2 v1_1 k0_t4 v75 v80 = 1#1), ∀ a, (k0_off29 arg20) a + S1x64x1024.size a ≤ S2x1024x1024.size a) ∧
  (∀ (k0_h2 : k0_cond2 v1_1 k0_t4 v75 v80 = 1#1), ∀ a, (k0_off30 arg20) a + S1x1x1024.size a ≤ S2x16x1024.size a) ∧
  (∀ (k0_h2 : k0_cond2 v1_1 k0_t4 v75 v80 = 1#1), ∀ a, (k0_off31 arg20) a + S1x64x1024.size a ≤ S2x1024x1024.size a) ∧
  (∀ (k0_h2 : k0_cond2 v1_1 k0_t4 v75 v80 = 1#1), ∀ a, (k0_off32 arg20) a + S1x1x1024.size a ≤ S2x16x1024.size a) ∧
  (∀ (k0_h2 : k0_cond2 v1_1 k0_t4 v75 v80 = 1#1), ∀ a, (k0_off33 arg20) a + S1x64x1024.size a ≤ S2x1024x1024.size a) ∧
  (∀ (k0_h2 : k0_cond2 v1_1 k0_t4 v75 v80 = 1#1), ∀ a, (k0_off34 arg20) a + S1x1x1024.size a ≤ S2x16x1024.size a) ∧
  (∀ (k0_h2 : k0_cond2 v1_1 k0_t4 v75 v80 = 1#1), ∀ a, (k0_off35 arg20) a + S1x64x1024.size a ≤ S2x1024x1024.size a) ∧
  (∀ (k0_h2 : k0_cond2 v1_1 k0_t4 v75 v80 = 1#1), ∀ a, (k0_off36 arg20) a + S1x1x1024.size a ≤ S2x16x1024.size a) ∧
  (∀ (k0_h2 : k0_cond2 v1_1 k0_t4 v75 v80 = 1#1), ∀ a, (k0_off37 arg20) a + S1x64x1024.size a ≤ S2x1024x1024.size a) ∧
  (∀ (k0_h2 : k0_cond2 v1_1 k0_t4 v75 v80 = 1#1), ∀ a, (k0_off38 arg20) a + S1x1x1024.size a ≤ S2x16x1024.size a) ∧
  (∀ (k0_h2 : k0_cond2 v1_1 k0_t4 v75 v80 = 1#1), ∀ a, (k0_off39 arg20) a + S1x64x1024.size a ≤ S2x1024x1024.size a) ∧
  (∀ (k0_h2 : k0_cond2 v1_1 k0_t4 v75 v80 = 1#1), ∀ a, (k0_off40 arg20) a + S1x1x1024.size a ≤ S2x16x1024.size a) ∧
  (∀ (k0_h2 : k0_cond2 v1_1 k0_t4 v75 v80 = 1#1), ∀ a, (k0_off41 arg20) a + S1x64x1024.size a ≤ S2x1024x1024.size a) ∧
  (∀ (k0_h2 : k0_cond2 v1_1 k0_t4 v75 v80 = 1#1), ∀ a, (k0_off42 arg20) a + S1x1x1024.size a ≤ S2x16x1024.size a) ∧
  (∀ (k0_h2 : k0_cond2 v1_1 k0_t4 v75 v80 = 1#1), ∀ a, (k0_off43 arg20) a + S1x64x1024.size a ≤ S2x1024x1024.size a) ∧
  (∀ (k0_h2 : k0_cond2 v1_1 k0_t4 v75 v80 = 1#1), ∀ a, (k0_off44 arg20) a + S1x1x1024.size a ≤ S2x16x1024.size a) ∧
  (∀ (k0_h2 : k0_cond2 v1_1 k0_t4 v75 v80 = 1#1), ∀ a, (k0_off45 arg20) a + S1x64x1024.size a ≤ S2x1024x1024.size a) ∧
  (∀ (k0_h2 : k0_cond2 v1_1 k0_t4 v75 v80 = 1#1), ∀ a, (k0_off46 arg20) a + S1x1x1024.size a ≤ S2x16x1024.size a) ∧
  (∀ (k0_h2 : k0_cond2 v1_1 k0_t4 v75 v80 = 1#1), ∀ a, (k0_off47 arg20) a + S1x64x1024.size a ≤ S2x1024x1024.size a) ∧
  (∀ (k0_h2 : k0_cond2 v1_1 k0_t4 v75 v80 = 1#1), ∀ a, (k0_off48 arg20) a + S1x1x1024.size a ≤ S2x16x1024.size a) ∧
  (∀ (k0_h2 : k0_cond2 v1_1 k0_t4 v75 v80 = 1#1), ∀ a, (k0_off49 arg20) a + S1x64x1024.size a ≤ S2x1024x1024.size a)
def k0_chk6_1 (v1_1 : BitVec 32) (k0_t4 : Fin (k0_t4_loop v1_1).trips) (arg20 : BitVec 32) (v75 : BitVec 32) (v80 : BitVec 32) : Prop :=
  (∀ (k0_h2 : k0_cond2 v1_1 k0_t4 v75 v80 = 1#1), ∀ a, (k0_off50 arg20) a + S1x1x1024.size a ≤ S2x16x1024.size a) ∧
  (∀ (k0_h2 : k0_cond2 v1_1 k0_t4 v75 v80 = 1#1), ∀ a, (k0_off51 arg20) a + S1x64x1024.size a ≤ S2x1024x1024.size a) ∧
  (∀ (k0_h2 : k0_cond2 v1_1 k0_t4 v75 v80 = 1#1), ∀ a, (k0_off52 arg20) a + S1x1x1024.size a ≤ S2x16x1024.size a) ∧
  (∀ (k0_h2 : k0_cond2 v1_1 k0_t4 v75 v80 = 1#1), ∀ a, (k0_off53 arg20) a + S1x64x1024.size a ≤ S2x1024x1024.size a) ∧
  (∀ (k0_h2 : k0_cond2 v1_1 k0_t4 v75 v80 = 1#1), ∀ a, (k0_off54 arg20) a + S1x1x1024.size a ≤ S2x16x1024.size a) ∧
  (∀ (k0_h2 : k0_cond2 v1_1 k0_t4 v75 v80 = 1#1), ∀ a, (k0_off55 arg20) a + S1x64x1024.size a ≤ S2x1024x1024.size a) ∧
  (∀ (k0_h2 : k0_cond2 v1_1 k0_t4 v75 v80 = 1#1), ∀ a, (k0_off56 arg20) a + S1x1x1024.size a ≤ S2x16x1024.size a) ∧
  (∀ (k0_h2 : k0_cond2 v1_1 k0_t4 v75 v80 = 1#1), ∀ a, (k0_off57 arg20) a + S1x64x1024.size a ≤ S2x1024x1024.size a) ∧
  (∀ (k0_h2 : k0_cond2 v1_1 k0_t4 v75 v80 = 1#1), ∀ a, (k0_off58 arg20) a + S1x1x1024.size a ≤ S2x16x1024.size a)
def k0_chk6 (v1_1 : BitVec 32) (k0_t4 : Fin (k0_t4_loop v1_1).trips) (arg20 : BitVec 32) (v75 : BitVec 32) (v80 : BitVec 32) : Prop :=
  k0_chk6_0 v1_1 k0_t4 arg20 v75 v80 ∧
  k0_chk6_1 v1_1 k0_t4 arg20 v75 v80
theorem k0_off16_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off16 arg20) a + S1.size a ≤ S2.size a := fun v1_1 k0_t4 arg20 v75 v80 k0_hw6 k0_h2 => k0_hw6.1.1 k0_h2
theorem k0_off17_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off17 arg20) a + S1x1024x1024.size a ≤ S2x1024x1024.size a := fun v1_1 k0_t4 arg20 v75 v80 k0_hw6 k0_h2 => k0_hw6.1.2.1 k0_h2
theorem k0_off18_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off18 v75) a + S1x1024x1024.size a ≤ S16x1024x4096.size a := fun v1_1 k0_t4 arg20 v75 v80 k0_hw6 k0_h2 => k0_hw6.1.2.2.1 k0_h2
theorem k0_off18_wordsi8 : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), (Rect.unit (s := S16x1024x4096) (k0_off18 v75) S1x1024x1024.size (k0_off18_inb v1_1 k0_t4 arg20 v75 v80 k0_hw6 k0_h2)).WholeWords (EltTy.packing .i8) := fun v1_1 k0_t4 arg20 v75 v80 k0_hw6 k0_h2 => k0_hw6.1.2.2.2.1 k0_h2 (k0_off18_inb v1_1 k0_t4 arg20 v75 v80 k0_hw6 k0_h2)
theorem k0_off17_wordsi8 : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), (Rect.unit (s := S2x1024x1024) (k0_off17 arg20) S1x1024x1024.size (k0_off17_inb v1_1 k0_t4 arg20 v75 v80 k0_hw6 k0_h2)).WholeWords (EltTy.packing .i8) := fun v1_1 k0_t4 arg20 v75 v80 k0_hw6 k0_h2 => k0_hw6.1.2.2.2.2.1 k0_h2 (k0_off17_inb v1_1 k0_t4 arg20 v75 v80 k0_hw6 k0_h2)
theorem k0_off19_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off19 arg20) a + S1x16x1024.size a ≤ S2x16x1024.size a := fun v1_1 k0_t4 arg20 v75 v80 k0_hw6 k0_h2 => k0_hw6.1.2.2.2.2.2.1 k0_h2
theorem k0_off20_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off20 v75) a + S1x16x1024.size a ≤ S16x16x4096.size a := fun v1_1 k0_t4 arg20 v75 v80 k0_hw6 k0_h2 => k0_hw6.1.2.2.2.2.2.2.1 k0_h2
theorem k0_off20_wordsbf16 : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), (Rect.unit (s := S16x16x4096) (k0_off20 v75) S1x16x1024.size (k0_off20_inb v1_1 k0_t4 arg20 v75 v80 k0_hw6 k0_h2)).WholeWords (EltTy.packing .bf16) := fun v1_1 k0_t4 arg20 v75 v80 k0_hw6 k0_h2 => k0_hw6.1.2.2.2.2.2.2.2.1 k0_h2 (k0_off20_inb v1_1 k0_t4 arg20 v75 v80 k0_hw6 k0_h2)
theorem k0_off19_wordsbf16 : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), (Rect.unit (s := S2x16x1024) (k0_off19 arg20) S1x16x1024.size (k0_off19_inb v1_1 k0_t4 arg20 v75 v80 k0_hw6 k0_h2)).WholeWords (EltTy.packing .bf16) := fun v1_1 k0_t4 arg20 v75 v80 k0_hw6 k0_h2 => k0_hw6.1.2.2.2.2.2.2.2.2.1 k0_h2 (k0_off19_inb v1_1 k0_t4 arg20 v75 v80 k0_hw6 k0_h2)
theorem k0_off27_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off27 arg20) a + S1x64x1024.size a ≤ S2x1024x1024.size a := fun v1_1 k0_t4 arg20 v75 v80 k0_hw6 k0_h2 => k0_hw6.1.2.2.2.2.2.2.2.2.2.1 k0_h2
theorem k0_off28_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off28 arg20) a + S1x1x1024.size a ≤ S2x16x1024.size a := fun v1_1 k0_t4 arg20 v75 v80 k0_hw6 k0_h2 => k0_hw6.1.2.2.2.2.2.2.2.2.2.2.1 k0_h2
theorem k0_off29_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off29 arg20) a + S1x64x1024.size a ≤ S2x1024x1024.size a := fun v1_1 k0_t4 arg20 v75 v80 k0_hw6 k0_h2 => k0_hw6.1.2.2.2.2.2.2.2.2.2.2.2.1 k0_h2
theorem k0_off30_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off30 arg20) a + S1x1x1024.size a ≤ S2x16x1024.size a := fun v1_1 k0_t4 arg20 v75 v80 k0_hw6 k0_h2 => k0_hw6.1.2.2.2.2.2.2.2.2.2.2.2.2.1 k0_h2
theorem k0_off31_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off31 arg20) a + S1x64x1024.size a ≤ S2x1024x1024.size a := fun v1_1 k0_t4 arg20 v75 v80 k0_hw6 k0_h2 => k0_hw6.1.2.2.2.2.2.2.2.2.2.2.2.2.2.1 k0_h2
theorem k0_off32_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off32 arg20) a + S1x1x1024.size a ≤ S2x16x1024.size a := fun v1_1 k0_t4 arg20 v75 v80 k0_hw6 k0_h2 => k0_hw6.1.2.2.2.2.2.2.2.2.2.2.2.2.2.2.1 k0_h2
theorem k0_off33_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off33 arg20) a + S1x64x1024.size a ≤ S2x1024x1024.size a := fun v1_1 k0_t4 arg20 v75 v80 k0_hw6 k0_h2 => k0_hw6.1.2.2.2.2.2.2.2.2.2.2.2.2.2.2.2.1 k0_h2
theorem k0_off34_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off34 arg20) a + S1x1x1024.size a ≤ S2x16x1024.size a := fun v1_1 k0_t4 arg20 v75 v80 k0_hw6 k0_h2 => k0_hw6.1.2.2.2.2.2.2.2.2.2.2.2.2.2.2.2.2.1 k0_h2
theorem k0_off35_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off35 arg20) a + S1x64x1024.size a ≤ S2x1024x1024.size a := fun v1_1 k0_t4 arg20 v75 v80 k0_hw6 k0_h2 => k0_hw6.1.2.2.2.2.2.2.2.2.2.2.2.2.2.2.2.2.2.1 k0_h2
theorem k0_off36_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off36 arg20) a + S1x1x1024.size a ≤ S2x16x1024.size a := fun v1_1 k0_t4 arg20 v75 v80 k0_hw6 k0_h2 => k0_hw6.1.2.2.2.2.2.2.2.2.2.2.2.2.2.2.2.2.2.2.1 k0_h2
theorem k0_off37_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off37 arg20) a + S1x64x1024.size a ≤ S2x1024x1024.size a := fun v1_1 k0_t4 arg20 v75 v80 k0_hw6 k0_h2 => k0_hw6.1.2.2.2.2.2.2.2.2.2.2.2.2.2.2.2.2.2.2.2.1 k0_h2
theorem k0_off38_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off38 arg20) a + S1x1x1024.size a ≤ S2x16x1024.size a := fun v1_1 k0_t4 arg20 v75 v80 k0_hw6 k0_h2 => k0_hw6.1.2.2.2.2.2.2.2.2.2.2.2.2.2.2.2.2.2.2.2.2.1 k0_h2
theorem k0_off39_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off39 arg20) a + S1x64x1024.size a ≤ S2x1024x1024.size a := fun v1_1 k0_t4 arg20 v75 v80 k0_hw6 k0_h2 => k0_hw6.1.2.2.2.2.2.2.2.2.2.2.2.2.2.2.2.2.2.2.2.2.2.1 k0_h2
theorem k0_off40_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off40 arg20) a + S1x1x1024.size a ≤ S2x16x1024.size a := fun v1_1 k0_t4 arg20 v75 v80 k0_hw6 k0_h2 => k0_hw6.1.2.2.2.2.2.2.2.2.2.2.2.2.2.2.2.2.2.2.2.2.2.2.1 k0_h2
theorem k0_off41_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off41 arg20) a + S1x64x1024.size a ≤ S2x1024x1024.size a := fun v1_1 k0_t4 arg20 v75 v80 k0_hw6 k0_h2 => k0_hw6.1.2.2.2.2.2.2.2.2.2.2.2.2.2.2.2.2.2.2.2.2.2.2.2.1 k0_h2
theorem k0_off42_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off42 arg20) a + S1x1x1024.size a ≤ S2x16x1024.size a := fun v1_1 k0_t4 arg20 v75 v80 k0_hw6 k0_h2 => k0_hw6.1.2.2.2.2.2.2.2.2.2.2.2.2.2.2.2.2.2.2.2.2.2.2.2.2.1 k0_h2
theorem k0_off43_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off43 arg20) a + S1x64x1024.size a ≤ S2x1024x1024.size a := fun v1_1 k0_t4 arg20 v75 v80 k0_hw6 k0_h2 => k0_hw6.1.2.2.2.2.2.2.2.2.2.2.2.2.2.2.2.2.2.2.2.2.2.2.2.2.2.1 k0_h2
theorem k0_off44_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off44 arg20) a + S1x1x1024.size a ≤ S2x16x1024.size a := fun v1_1 k0_t4 arg20 v75 v80 k0_hw6 k0_h2 => k0_hw6.1.2.2.2.2.2.2.2.2.2.2.2.2.2.2.2.2.2.2.2.2.2.2.2.2.2.2.1 k0_h2
theorem k0_off45_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off45 arg20) a + S1x64x1024.size a ≤ S2x1024x1024.size a := fun v1_1 k0_t4 arg20 v75 v80 k0_hw6 k0_h2 => k0_hw6.1.2.2.2.2.2.2.2.2.2.2.2.2.2.2.2.2.2.2.2.2.2.2.2.2.2.2.2.1 k0_h2
theorem k0_off46_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off46 arg20) a + S1x1x1024.size a ≤ S2x16x1024.size a := fun v1_1 k0_t4 arg20 v75 v80 k0_hw6 k0_h2 => k0_hw6.1.2.2.2.2.2.2.2.2.2.2.2.2.2.2.2.2.2.2.2.2.2.2.2.2.2.2.2.2.1 k0_h2
theorem k0_off47_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off47 arg20) a + S1x64x1024.size a ≤ S2x1024x1024.size a := fun v1_1 k0_t4 arg20 v75 v80 k0_hw6 k0_h2 => k0_hw6.1.2.2.2.2.2.2.2.2.2.2.2.2.2.2.2.2.2.2.2.2.2.2.2.2.2.2.2.2.2.1 k0_h2
theorem k0_off48_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off48 arg20) a + S1x1x1024.size a ≤ S2x16x1024.size a := fun v1_1 k0_t4 arg20 v75 v80 k0_hw6 k0_h2 => k0_hw6.1.2.2.2.2.2.2.2.2.2.2.2.2.2.2.2.2.2.2.2.2.2.2.2.2.2.2.2.2.2.2.1 k0_h2
theorem k0_off49_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off49 arg20) a + S1x64x1024.size a ≤ S2x1024x1024.size a := fun v1_1 k0_t4 arg20 v75 v80 k0_hw6 k0_h2 => k0_hw6.1.2.2.2.2.2.2.2.2.2.2.2.2.2.2.2.2.2.2.2.2.2.2.2.2.2.2.2.2.2.2.2 k0_h2
theorem k0_off50_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off50 arg20) a + S1x1x1024.size a ≤ S2x16x1024.size a := fun v1_1 k0_t4 arg20 v75 v80 k0_hw6 k0_h2 => k0_hw6.2.1 k0_h2
theorem k0_off51_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off51 arg20) a + S1x64x1024.size a ≤ S2x1024x1024.size a := fun v1_1 k0_t4 arg20 v75 v80 k0_hw6 k0_h2 => k0_hw6.2.2.1 k0_h2
theorem k0_off52_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off52 arg20) a + S1x1x1024.size a ≤ S2x16x1024.size a := fun v1_1 k0_t4 arg20 v75 v80 k0_hw6 k0_h2 => k0_hw6.2.2.2.1 k0_h2
theorem k0_off53_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off53 arg20) a + S1x64x1024.size a ≤ S2x1024x1024.size a := fun v1_1 k0_t4 arg20 v75 v80 k0_hw6 k0_h2 => k0_hw6.2.2.2.2.1 k0_h2
theorem k0_off54_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off54 arg20) a + S1x1x1024.size a ≤ S2x16x1024.size a := fun v1_1 k0_t4 arg20 v75 v80 k0_hw6 k0_h2 => k0_hw6.2.2.2.2.2.1 k0_h2
theorem k0_off55_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off55 arg20) a + S1x64x1024.size a ≤ S2x1024x1024.size a := fun v1_1 k0_t4 arg20 v75 v80 k0_hw6 k0_h2 => k0_hw6.2.2.2.2.2.2.1 k0_h2
theorem k0_off56_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off56 arg20) a + S1x1x1024.size a ≤ S2x16x1024.size a := fun v1_1 k0_t4 arg20 v75 v80 k0_hw6 k0_h2 => k0_hw6.2.2.2.2.2.2.2.1 k0_h2
theorem k0_off57_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off57 arg20) a + S1x64x1024.size a ≤ S2x1024x1024.size a := fun v1_1 k0_t4 arg20 v75 v80 k0_hw6 k0_h2 => k0_hw6.2.2.2.2.2.2.2.2.1 k0_h2
theorem k0_off58_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off58 arg20) a + S1x1x1024.size a ≤ S2x16x1024.size a := fun v1_1 k0_t4 arg20 v75 v80 k0_hw6 k0_h2 => k0_hw6.2.2.2.2.2.2.2.2.2 k0_h2

def k0_off59 (v1_1 : BitVec 32) (k0_t4 : Fin (k0_t4_loop v1_1).trips) : Fin 1 → Nat :=
  let c0_i32_34 : BitVec 32 := 0#32
  let c1_i32_37 : BitVec 32 := 1#32
  let arg19 : BitVec 32 := Scf.iv c0_i32_34 c1_i32_37 k0_t4
  let v89 : Index := Scalar.indexCast arg19
  ![v89.toNat]
def k0_mult3 (v90 : BitVec 32) : BitVec 32 :=
  let c97792_i32_54 : BitVec 32 := 97792#32
  let v91 : BitVec 32 := Scalar.minsi v90 c97792_i32_54
  v91

def k0_off60 (v1_1 : BitVec 32) (k0_t4 : Fin (k0_t4_loop v1_1).trips) : Fin 1 → Nat :=
  let c0_i32_34 : BitVec 32 := 0#32
  let c1_i32_37 : BitVec 32 := 1#32
  let arg19 : BitVec 32 := Scf.iv c0_i32_34 c1_i32_37 k0_t4
  let c2_i32_47 : BitVec 32 := 2#32
  let v73 : BitVec 32 := Scalar.remsi arg19 c2_i32_47
  ![v73.toNat]
def k0_off61 (v1_1 : BitVec 32) (k0_t4 : Fin (k0_t4_loop v1_1).trips) : Fin 3 → Nat :=
  let c0_i32_34 : BitVec 32 := 0#32
  let c1_i32_37 : BitVec 32 := 1#32
  let arg19 : BitVec 32 := Scf.iv c0_i32_34 c1_i32_37 k0_t4
  let c2_i32_47 : BitVec 32 := 2#32
  let v73 : BitVec 32 := Scalar.remsi arg19 c2_i32_47
  let c0_i32_62 : BitVec 32 := 0#32
  let c0_i32_63 : BitVec 32 := 0#32
  ![v73.toNat, 0, 0]
def k0_off62 (v90 : BitVec 32) : Fin 2 → Nat :=
  let c97792_i32_54 : BitVec 32 := 97792#32
  let v91 : BitVec 32 := Scalar.minsi v90 c97792_i32_54
  let v92 : BitVec 32 := v91
  let c0_i32_64 : BitVec 32 := 0#32
  ![v92.toNat, 0]
def k0_off63 (v1_1 : BitVec 32) (k0_t4 : Fin (k0_t4_loop v1_1).trips) : Fin 4 → Nat :=
  let c0_i32_34 : BitVec 32 := 0#32
  let c1_i32_37 : BitVec 32 := 1#32
  let arg19 : BitVec 32 := Scf.iv c0_i32_34 c1_i32_37 k0_t4
  let c2_i32_47 : BitVec 32 := 2#32
  let v73 : BitVec 32 := Scalar.remsi arg19 c2_i32_47
  let c0_i32_65 : BitVec 32 := 0#32
  let c0_i32_66 : BitVec 32 := 0#32
  let c0_i32_67 : BitVec 32 := 0#32
  ![v73.toNat, 0, 0, 0]
def k0_off64 (v90 : BitVec 32) : Fin 3 → Nat :=
  let c97792_i32_54 : BitVec 32 := 97792#32
  let v91 : BitVec 32 := Scalar.minsi v90 c97792_i32_54
  let v92 : BitVec 32 := v91
  let c0_i32_56 : BitVec 32 := 0#32
  let v94 : BitVec 1 := Scalar.cmpi .sgt v92 c0_i32_56
  let v95 : BitVec 32 := Scalar.extui v94
  let c0_i32_57 : BitVec 32 := 0#32
  let v96 : BitVec 1 := Scalar.cmpi .slt v92 c0_i32_57
  let v97 : BitVec 32 := Scalar.extui v96
  let v98 : BitVec 32 := Scalar.subi v95 v97
  let c128_i32_55 : BitVec 32 := 128#32
  let c0_i32_58 : BitVec 32 := 0#32
  let v99 : BitVec 1 := Scalar.cmpi .sgt c128_i32_55 c0_i32_58
  let v100 : BitVec 32 := Scalar.extui v99
  let c0_i32_59 : BitVec 32 := 0#32
  let v101 : BitVec 1 := Scalar.cmpi .slt c128_i32_55 c0_i32_59
  let v102 : BitVec 32 := Scalar.extui v101
  let v103 : BitVec 32 := Scalar.subi v100 v102
  let v104 : BitVec 1 := Scalar.cmpi .ne v98 v103
  let v105 : BitVec 32 := Scalar.remsi v92 c128_i32_55
  let c0_i32_60 : BitVec 32 := 0#32
  let v106 : BitVec 1 := Scalar.cmpi .ne v105 c0_i32_60
  let v107 : BitVec 1 := Scalar.andi v104 v106
  let v93 : BitVec 32 := Scalar.divsi v92 c128_i32_55
  let c1_i32_61 : BitVec 32 := 1#32
  let v108 : BitVec 32 := Scalar.subi v93 c1_i32_61
  let v109 : BitVec 32 := Scalar.select v107 v108 v93
  let c0_i32_68 : BitVec 32 := 0#32
  let c0_i32_69 : BitVec 32 := 0#32
  ![v109.toNat, 0, 0]

def k0_chk8 (v90 : BitVec 32) : Prop :=
  (128 ∣ (k0_mult3 v90).toNat) ∧
  (∀ a, (k0_off62 v90) a + S512x2048.size a ≤ S98304x2048.size a) ∧
  (∀ (hinb : ∀ a, (k0_off62 v90) a + S512x2048.size a ≤ S98304x2048.size a), (Rect.unit (s := S98304x2048) (k0_off62 v90) S512x2048.size hinb).WholeWords (EltTy.packing .fp8e4m3)) ∧
  (∀ a, (k0_off64 v90) a + S4x1x128.size a ≤ S768x1x128.size a)
theorem k0_mult3_dvd : ∀ (v90 : BitVec 32) (k0_hw8 : k0_chk8 v90), 128 ∣ (k0_mult3 v90).toNat := fun v90 k0_hw8 => k0_hw8.1
theorem k0_off62_inb : ∀ (v90 : BitVec 32) (k0_hw8 : k0_chk8 v90), ∀ a, (k0_off62 v90) a + S512x2048.size a ≤ S98304x2048.size a := fun v90 k0_hw8 => k0_hw8.2.1
theorem k0_off62_wordsfp8e4m3 : ∀ (v90 : BitVec 32) (k0_hw8 : k0_chk8 v90), (Rect.unit (s := S98304x2048) (k0_off62 v90) S512x2048.size (k0_off62_inb v90 k0_hw8)).WholeWords (EltTy.packing .fp8e4m3) := fun v90 k0_hw8 => k0_hw8.2.2.1 (k0_off62_inb v90 k0_hw8)
theorem k0_off64_inb : ∀ (v90 : BitVec 32) (k0_hw8 : k0_chk8 v90), ∀ a, (k0_off64 v90) a + S4x1x128.size a ≤ S768x1x128.size a := fun v90 k0_hw8 => k0_hw8.2.2.2

def k0_cond4 (v1_1 : BitVec 32) (k0_t4 : Fin (k0_t4_loop v1_1).trips) : BitVec 1 :=
  let c0_i32_34 : BitVec 32 := 0#32
  let c1_i32_37 : BitVec 32 := 1#32
  let arg19 : BitVec 32 := Scf.iv c0_i32_34 c1_i32_37 k0_t4
  let c2_i32_70 : BitVec 32 := 2#32
  let v120 : BitVec 1 := Scalar.cmpi .sge arg19 c2_i32_70
  let v121 : BitVec 32 := Scalar.extui v120
  let c0_i32_71 : BitVec 32 := 0#32
  let v122 : BitVec 1 := Scalar.cmpi .ne v121 c0_i32_71
  v122

def k0_off65 (v1_1 : BitVec 32) (k0_t4 : Fin (k0_t4_loop v1_1).trips) : Fin 1 → Nat :=
  let c0_i32_34 : BitVec 32 := 0#32
  let c1_i32_37 : BitVec 32 := 1#32
  let arg19 : BitVec 32 := Scf.iv c0_i32_34 c1_i32_37 k0_t4
  let c2_i32_107 : BitVec 32 := 2#32
  let v359 : BitVec 32 := Scalar.subi arg19 c2_i32_107
  let v360 : Index := Scalar.indexCast v359
  ![v360.toNat]
def k0_mult4 (v361 : BitVec 32) : BitVec 32 :=
  let c97792_i32_108 : BitVec 32 := 97792#32
  let v362 : BitVec 32 := Scalar.minsi v361 c97792_i32_108
  v362

def k0_chk9 (v1_1 : BitVec 32) (k0_t4 : Fin (k0_t4_loop v1_1).trips) (v361 : BitVec 32) : Prop :=
  (∀ (k0_h4 : k0_cond4 v1_1 k0_t4 = 1#1), 128 ∣ (k0_mult4 v361).toNat)
theorem k0_mult4_dvd : ∀ (v1_1 : BitVec 32) (k0_t4 : Fin (k0_t4_loop v1_1).trips) (v361 : BitVec 32) (k0_hw9 : k0_chk9 v1_1 k0_t4 v361), ∀ (k0_h4 : k0_cond4 v1_1 k0_t4 = 1#1), 128 ∣ (k0_mult4 v361).toNat := fun v1_1 k0_t4 v361 k0_hw9 k0_h4 => k0_hw9 k0_h4

def k0_off66 (v1_1 : BitVec 32) (k0_t4 : Fin (k0_t4_loop v1_1).trips) : Fin 1 → Nat :=
  let c0_i32_34 : BitVec 32 := 0#32
  let c1_i32_37 : BitVec 32 := 1#32
  let arg19 : BitVec 32 := Scf.iv c0_i32_34 c1_i32_37 k0_t4
  let c2_i32_107 : BitVec 32 := 2#32
  let v359 : BitVec 32 := Scalar.subi arg19 c2_i32_107
  let v364 : Index := Scalar.indexCast v359
  ![v364.toNat]
def k0_mult5 (v361 : BitVec 32) (v365 : BitVec 32) : BitVec 32 :=
  let c97792_i32_108 : BitVec 32 := 97792#32
  let v362 : BitVec 32 := Scalar.minsi v361 c97792_i32_108
  let v363 : BitVec 32 := v362
  let c1152_i32_109 : BitVec 32 := 1152#32
  let v366 : BitVec 32 := Scalar.muli v365 c1152_i32_109
  let v367 : BitVec 32 := Scalar.addi v363 v366
  let c8_i32_110 : BitVec 32 := 8#32
  let v368 : BitVec 32 := Scalar.muli v367 c8_i32_110
  v368

def k0_off67 (v1_1 : BitVec 32) (k0_t4 : Fin (k0_t4_loop v1_1).trips) : Fin 1 → Nat :=
  let c0_i32_34 : BitVec 32 := 0#32
  let c1_i32_37 : BitVec 32 := 1#32
  let arg19 : BitVec 32 := Scf.iv c0_i32_34 c1_i32_37 k0_t4
  let c2_i32_47 : BitVec 32 := 2#32
  let v73 : BitVec 32 := Scalar.remsi arg19 c2_i32_47
  ![v73.toNat]
def k0_off68 (v361 : BitVec 32) (v365 : BitVec 32) : Fin 2 → Nat :=
  let c97792_i32_108 : BitVec 32 := 97792#32
  let v362 : BitVec 32 := Scalar.minsi v361 c97792_i32_108
  let v363 : BitVec 32 := v362
  let c1152_i32_109 : BitVec 32 := 1152#32
  let v366 : BitVec 32 := Scalar.muli v365 c1152_i32_109
  let v367 : BitVec 32 := Scalar.addi v363 v366
  let c8_i32_110 : BitVec 32 := 8#32
  let v368 : BitVec 32 := Scalar.muli v367 c8_i32_110
  let v369 : BitVec 32 := v368
  let c0_i32_111 : BitVec 32 := 0#32
  ![v369.toNat, 0]

def k0_chk10 (v1_1 : BitVec 32) (k0_t4 : Fin (k0_t4_loop v1_1).trips) (v361 : BitVec 32) (v365 : BitVec 32) : Prop :=
  (∀ (k0_h4 : k0_cond4 v1_1 k0_t4 = 1#1), 8 ∣ (k0_mult5 v361 v365).toNat) ∧
  (∀ (k0_h4 : k0_cond4 v1_1 k0_t4 = 1#1), ∀ a, (k0_off68 v361 v365) a + S4096x128.size a ≤ S933888x128.size a)
theorem k0_mult5_dvd : ∀ (v1_1 : BitVec 32) (k0_t4 : Fin (k0_t4_loop v1_1).trips) (v361 : BitVec 32) (v365 : BitVec 32) (k0_hw10 : k0_chk10 v1_1 k0_t4 v361 v365), ∀ (k0_h4 : k0_cond4 v1_1 k0_t4 = 1#1), 8 ∣ (k0_mult5 v361 v365).toNat := fun v1_1 k0_t4 v361 v365 k0_hw10 k0_h4 => k0_hw10.1 k0_h4
theorem k0_off68_inb : ∀ (v1_1 : BitVec 32) (k0_t4 : Fin (k0_t4_loop v1_1).trips) (v361 : BitVec 32) (v365 : BitVec 32) (k0_hw10 : k0_chk10 v1_1 k0_t4 v361 v365), ∀ (k0_h4 : k0_cond4 v1_1 k0_t4 = 1#1), ∀ a, (k0_off68 v361 v365) a + S4096x128.size a ≤ S933888x128.size a := fun v1_1 k0_t4 v361 v365 k0_hw10 k0_h4 => k0_hw10.2 k0_h4

def k0_off69 (v1_1 : BitVec 32) (k0_t4 : Fin (k0_t4_loop v1_1).trips) : Fin 3 → Nat :=
  let c0_i32_34 : BitVec 32 := 0#32
  let c1_i32_37 : BitVec 32 := 1#32
  let arg19 : BitVec 32 := Scf.iv c0_i32_34 c1_i32_37 k0_t4
  let c2_i32_47 : BitVec 32 := 2#32
  let v73 : BitVec 32 := Scalar.remsi arg19 c2_i32_47
  let c0_i32_112 : BitVec 32 := 0#32
  let c0_i32_113 : BitVec 32 := 0#32
  ![v73.toNat, 0, 0]
def k0_off70 (v1_1 : BitVec 32) (k0_t4 : Fin (k0_t4_loop v1_1).trips) : Fin 4 → Nat :=
  let c0_i32_34 : BitVec 32 := 0#32
  let c1_i32_37 : BitVec 32 := 1#32
  let arg19 : BitVec 32 := Scf.iv c0_i32_34 c1_i32_37 k0_t4
  let c2_i32_47 : BitVec 32 := 2#32
  let v73 : BitVec 32 := Scalar.remsi arg19 c2_i32_47
  let v123 : Index := Scalar.indexCast v73
  let c0_72 : Index := 0#32
  let c0_73 : Index := 0#32
  let c0_74 : Index := 0#32
  ![v123.toNat, 0, 0, 0]
def k0_off71 (v1_1 : BitVec 32) (k0_t4 : Fin (k0_t4_loop v1_1).trips) : Fin 3 → Nat :=
  let c0_i32_34 : BitVec 32 := 0#32
  let c1_i32_37 : BitVec 32 := 1#32
  let arg19 : BitVec 32 := Scf.iv c0_i32_34 c1_i32_37 k0_t4
  let c2_i32_47 : BitVec 32 := 2#32
  let v73 : BitVec 32 := Scalar.remsi arg19 c2_i32_47
  let v130 : Index := Scalar.indexCast v73
  let c0_75 : Index := 0#32
  let c0_76 : Index := 0#32
  ![v130.toNat, 0, 0]
def k0_off72 (v1_1 : BitVec 32) (k0_t4 : Fin (k0_t4_loop v1_1).trips) : Fin 4 → Nat :=
  let c0_i32_34 : BitVec 32 := 0#32
  let c1_i32_37 : BitVec 32 := 1#32
  let arg19 : BitVec 32 := Scf.iv c0_i32_34 c1_i32_37 k0_t4
  let c2_i32_47 : BitVec 32 := 2#32
  let v73 : BitVec 32 := Scalar.remsi arg19 c2_i32_47
  let v167 : Index := Scalar.indexCast v73
  let c1 : Index := 1#32
  let c0_77 : Index := 0#32
  let c0_78 : Index := 0#32
  ![v167.toNat, 1, 0, 0]
def k0_off73 (v1_1 : BitVec 32) (k0_t4 : Fin (k0_t4_loop v1_1).trips) : Fin 3 → Nat :=
  let c0_i32_34 : BitVec 32 := 0#32
  let c1_i32_37 : BitVec 32 := 1#32
  let arg19 : BitVec 32 := Scf.iv c0_i32_34 c1_i32_37 k0_t4
  let c2_i32_47 : BitVec 32 := 2#32
  let v73 : BitVec 32 := Scalar.remsi arg19 c2_i32_47
  let v174 : Index := Scalar.indexCast v73
  let c128 : Index := 128#32
  let c0_79 : Index := 0#32
  ![v174.toNat, 128, 0]
def k0_off74 (v1_1 : BitVec 32) (k0_t4 : Fin (k0_t4_loop v1_1).trips) : Fin 4 → Nat :=
  let c0_i32_34 : BitVec 32 := 0#32
  let c1_i32_37 : BitVec 32 := 1#32
  let arg19 : BitVec 32 := Scf.iv c0_i32_34 c1_i32_37 k0_t4
  let c2_i32_47 : BitVec 32 := 2#32
  let v73 : BitVec 32 := Scalar.remsi arg19 c2_i32_47
  let v211 : Index := Scalar.indexCast v73
  let c2 : Index := 2#32
  let c0_80 : Index := 0#32
  let c0_81 : Index := 0#32
  ![v211.toNat, 2, 0, 0]
def k0_off75 (v1_1 : BitVec 32) (k0_t4 : Fin (k0_t4_loop v1_1).trips) : Fin 3 → Nat :=
  let c0_i32_34 : BitVec 32 := 0#32
  let c1_i32_37 : BitVec 32 := 1#32
  let arg19 : BitVec 32 := Scf.iv c0_i32_34 c1_i32_37 k0_t4
  let c2_i32_47 : BitVec 32 := 2#32
  let v73 : BitVec 32 := Scalar.remsi arg19 c2_i32_47
  let v218 : Index := Scalar.indexCast v73
  let c256 : Index := 256#32
  let c0_82 : Index := 0#32
  ![v218.toNat, 256, 0]
def k0_off76 (v1_1 : BitVec 32) (k0_t4 : Fin (k0_t4_loop v1_1).trips) : Fin 4 → Nat :=
  let c0_i32_34 : BitVec 32 := 0#32
  let c1_i32_37 : BitVec 32 := 1#32
  let arg19 : BitVec 32 := Scf.iv c0_i32_34 c1_i32_37 k0_t4
  let c2_i32_47 : BitVec 32 := 2#32
  let v73 : BitVec 32 := Scalar.remsi arg19 c2_i32_47
  let v255 : Index := Scalar.indexCast v73
  let c3 : Index := 3#32
  let c0_83 : Index := 0#32
  let c0_84 : Index := 0#32
  ![v255.toNat, 3, 0, 0]
def k0_off77 (v1_1 : BitVec 32) (k0_t4 : Fin (k0_t4_loop v1_1).trips) : Fin 3 → Nat :=
  let c0_i32_34 : BitVec 32 := 0#32
  let c1_i32_37 : BitVec 32 := 1#32
  let arg19 : BitVec 32 := Scf.iv c0_i32_34 c1_i32_37 k0_t4
  let c2_i32_47 : BitVec 32 := 2#32
  let v73 : BitVec 32 := Scalar.remsi arg19 c2_i32_47
  let v262 : Index := Scalar.indexCast v73
  let c384 : Index := 384#32
  let c0_85 : Index := 0#32
  ![v262.toNat, 384, 0]
def k0_off78 (v1_1 : BitVec 32) (k0_t4 : Fin (k0_t4_loop v1_1).trips) : Fin 3 → Nat :=
  let c0_i32_34 : BitVec 32 := 0#32
  let c1_i32_37 : BitVec 32 := 1#32
  let arg19 : BitVec 32 := Scf.iv c0_i32_34 c1_i32_37 k0_t4
  let c2_i32_47 : BitVec 32 := 2#32
  let v73 : BitVec 32 := Scalar.remsi arg19 c2_i32_47
  let v303 : Index := Scalar.indexCast v73
  let c0_88 : Index := 0#32
  let c0_89 : Index := 0#32
  ![v303.toNat, 0, 0]
def k0_off79 (v1_1 : BitVec 32) (k0_t4 : Fin (k0_t4_loop v1_1).trips) : Fin 3 → Nat :=
  let c0_i32_34 : BitVec 32 := 0#32
  let c1_i32_37 : BitVec 32 := 1#32
  let arg19 : BitVec 32 := Scf.iv c0_i32_34 c1_i32_37 k0_t4
  let c2_i32_47 : BitVec 32 := 2#32
  let v73 : BitVec 32 := Scalar.remsi arg19 c2_i32_47
  let v308 : Index := Scalar.indexCast v73
  let c1_90 : Index := 1#32
  let c0_91 : Index := 0#32
  ![v308.toNat, 1, 0]
def k0_off80 (v1_1 : BitVec 32) (k0_t4 : Fin (k0_t4_loop v1_1).trips) : Fin 3 → Nat :=
  let c0_i32_34 : BitVec 32 := 0#32
  let c1_i32_37 : BitVec 32 := 1#32
  let arg19 : BitVec 32 := Scf.iv c0_i32_34 c1_i32_37 k0_t4
  let c2_i32_47 : BitVec 32 := 2#32
  let v73 : BitVec 32 := Scalar.remsi arg19 c2_i32_47
  let v313 : Index := Scalar.indexCast v73
  let c2_92 : Index := 2#32
  let c0_93 : Index := 0#32
  ![v313.toNat, 2, 0]
def k0_off81 (v1_1 : BitVec 32) (k0_t4 : Fin (k0_t4_loop v1_1).trips) : Fin 3 → Nat :=
  let c0_i32_34 : BitVec 32 := 0#32
  let c1_i32_37 : BitVec 32 := 1#32
  let arg19 : BitVec 32 := Scf.iv c0_i32_34 c1_i32_37 k0_t4
  let c2_i32_47 : BitVec 32 := 2#32
  let v73 : BitVec 32 := Scalar.remsi arg19 c2_i32_47
  let v318 : Index := Scalar.indexCast v73
  let c3_94 : Index := 3#32
  let c0_95 : Index := 0#32
  ![v318.toNat, 3, 0]
def k0_off82 (v1_1 : BitVec 32) (k0_t4 : Fin (k0_t4_loop v1_1).trips) : Fin 3 → Nat :=
  let c0_i32_34 : BitVec 32 := 0#32
  let c1_i32_37 : BitVec 32 := 1#32
  let arg19 : BitVec 32 := Scf.iv c0_i32_34 c1_i32_37 k0_t4
  let c2_i32_47 : BitVec 32 := 2#32
  let v73 : BitVec 32 := Scalar.remsi arg19 c2_i32_47
  let v323 : Index := Scalar.indexCast v73
  let c4 : Index := 4#32
  let c0_96 : Index := 0#32
  ![v323.toNat, 4, 0]
def k0_off83 (v1_1 : BitVec 32) (k0_t4 : Fin (k0_t4_loop v1_1).trips) : Fin 3 → Nat :=
  let c0_i32_34 : BitVec 32 := 0#32
  let c1_i32_37 : BitVec 32 := 1#32
  let arg19 : BitVec 32 := Scf.iv c0_i32_34 c1_i32_37 k0_t4
  let c2_i32_47 : BitVec 32 := 2#32
  let v73 : BitVec 32 := Scalar.remsi arg19 c2_i32_47
  let v328 : Index := Scalar.indexCast v73
  let c5 : Index := 5#32
  let c0_97 : Index := 0#32
  ![v328.toNat, 5, 0]
def k0_off84 (v1_1 : BitVec 32) (k0_t4 : Fin (k0_t4_loop v1_1).trips) : Fin 3 → Nat :=
  let c0_i32_34 : BitVec 32 := 0#32
  let c1_i32_37 : BitVec 32 := 1#32
  let arg19 : BitVec 32 := Scf.iv c0_i32_34 c1_i32_37 k0_t4
  let c2_i32_47 : BitVec 32 := 2#32
  let v73 : BitVec 32 := Scalar.remsi arg19 c2_i32_47
  let v333 : Index := Scalar.indexCast v73
  let c6 : Index := 6#32
  let c0_98 : Index := 0#32
  ![v333.toNat, 6, 0]
def k0_off85 (v1_1 : BitVec 32) (k0_t4 : Fin (k0_t4_loop v1_1).trips) : Fin 3 → Nat :=
  let c0_i32_34 : BitVec 32 := 0#32
  let c1_i32_37 : BitVec 32 := 1#32
  let arg19 : BitVec 32 := Scf.iv c0_i32_34 c1_i32_37 k0_t4
  let c2_i32_47 : BitVec 32 := 2#32
  let v73 : BitVec 32 := Scalar.remsi arg19 c2_i32_47
  let v338 : Index := Scalar.indexCast v73
  let c7 : Index := 7#32
  let c0_99 : Index := 0#32
  ![v338.toNat, 7, 0]
def k0_off86 (v1_1 : BitVec 32) (k0_t4 : Fin (k0_t4_loop v1_1).trips) : Fin 1 → Nat :=
  let c0_i32_34 : BitVec 32 := 0#32
  let c1_i32_37 : BitVec 32 := 1#32
  let arg19 : BitVec 32 := Scf.iv c0_i32_34 c1_i32_37 k0_t4
  let v342 : Index := Scalar.indexCast arg19
  ![v342.toNat]
def k0_mult6 (v343 : BitVec 32) : BitVec 32 :=
  let c97792_i32_100 : BitVec 32 := 97792#32
  let v344 : BitVec 32 := Scalar.minsi v343 c97792_i32_100
  v344

def k0_chk11 (v343 : BitVec 32) : Prop :=
  (128 ∣ (k0_mult6 v343).toNat)
theorem k0_mult6_dvd : ∀ (v343 : BitVec 32) (k0_hw11 : k0_chk11 v343), 128 ∣ (k0_mult6 v343).toNat := fun v343 k0_hw11 => k0_hw11

def k0_off87 (v1_1 : BitVec 32) (k0_t4 : Fin (k0_t4_loop v1_1).trips) : Fin 1 → Nat :=
  let c0_i32_34 : BitVec 32 := 0#32
  let c1_i32_37 : BitVec 32 := 1#32
  let arg19 : BitVec 32 := Scf.iv c0_i32_34 c1_i32_37 k0_t4
  let v346 : Index := Scalar.indexCast arg19
  ![v346.toNat]
def k0_mult7 (v343 : BitVec 32) (v347 : BitVec 32) : BitVec 32 :=
  let c97792_i32_100 : BitVec 32 := 97792#32
  let v344 : BitVec 32 := Scalar.minsi v343 c97792_i32_100
  let v345 : BitVec 32 := v344
  let c1152_i32_101 : BitVec 32 := 1152#32
  let v348 : BitVec 32 := Scalar.muli v347 c1152_i32_101
  let v349 : BitVec 32 := Scalar.addi v345 v348
  let c8_i32_102 : BitVec 32 := 8#32
  let v350 : BitVec 32 := Scalar.muli v349 c8_i32_102
  v350

def k0_off88 (v1_1 : BitVec 32) (k0_t4 : Fin (k0_t4_loop v1_1).trips) : Fin 1 → Nat :=
  let c0_i32_34 : BitVec 32 := 0#32
  let c1_i32_37 : BitVec 32 := 1#32
  let arg19 : BitVec 32 := Scf.iv c0_i32_34 c1_i32_37 k0_t4
  let c2_i32_47 : BitVec 32 := 2#32
  let v73 : BitVec 32 := Scalar.remsi arg19 c2_i32_47
  ![v73.toNat]
def k0_off89 (v343 : BitVec 32) (v347 : BitVec 32) : Fin 2 → Nat :=
  let c97792_i32_100 : BitVec 32 := 97792#32
  let v344 : BitVec 32 := Scalar.minsi v343 c97792_i32_100
  let v345 : BitVec 32 := v344
  let c1152_i32_101 : BitVec 32 := 1152#32
  let v348 : BitVec 32 := Scalar.muli v347 c1152_i32_101
  let v349 : BitVec 32 := Scalar.addi v345 v348
  let c8_i32_102 : BitVec 32 := 8#32
  let v350 : BitVec 32 := Scalar.muli v349 c8_i32_102
  let v351 : BitVec 32 := v350
  let c0_i32_103 : BitVec 32 := 0#32
  ![v351.toNat, 0]

def k0_chk12 (v343 : BitVec 32) (v347 : BitVec 32) : Prop :=
  (8 ∣ (k0_mult7 v343 v347).toNat) ∧
  (∀ a, (k0_off89 v343 v347) a + S4096x128.size a ≤ S933888x128.size a)
theorem k0_mult7_dvd : ∀ (v343 : BitVec 32) (v347 : BitVec 32) (k0_hw12 : k0_chk12 v343 v347), 8 ∣ (k0_mult7 v343 v347).toNat := fun v343 v347 k0_hw12 => k0_hw12.1
theorem k0_off89_inb : ∀ (v343 : BitVec 32) (v347 : BitVec 32) (k0_hw12 : k0_chk12 v343 v347), ∀ a, (k0_off89 v343 v347) a + S4096x128.size a ≤ S933888x128.size a := fun v343 v347 k0_hw12 => k0_hw12.2

def k0_off90 (v1_1 : BitVec 32) (k0_t4 : Fin (k0_t4_loop v1_1).trips) : Fin 3 → Nat :=
  let c0_i32_34 : BitVec 32 := 0#32
  let c1_i32_37 : BitVec 32 := 1#32
  let arg19 : BitVec 32 := Scf.iv c0_i32_34 c1_i32_37 k0_t4
  let c2_i32_47 : BitVec 32 := 2#32
  let v73 : BitVec 32 := Scalar.remsi arg19 c2_i32_47
  let c0_i32_104 : BitVec 32 := 0#32
  let c0_i32_105 : BitVec 32 := 0#32
  ![v73.toNat, 0, 0]
@[reducible] def k0_t6_loop (v1_1 : BitVec 32) : Scf.Loop 32 :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let v46 : BitVec 32 := Scalar.addi c0_i32_34 v45
  let c1_i32_38 : BitVec 32 := 1#32
  ⟨v49, v46, c1_i32_38⟩
def k0_off91 (v1_1 : BitVec 32) (k0_t6 : Fin (k0_t6_loop v1_1).trips) : Fin 1 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let v74 : Index := Scalar.indexCast arg19
  ![v74.toNat]
def k0_off92 (v1_1 : BitVec 32) (k0_t6 : Fin (k0_t6_loop v1_1).trips) : Fin 1 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c1_i32_49 : BitVec 32 := 1#32
  let v77 : BitVec 32 := Scalar.subi arg19 c1_i32_49
  let c0_i32_50 : BitVec 32 := 0#32
  let v78 : BitVec 32 := Scalar.maxsi v77 c0_i32_50
  let v79 : Index := Scalar.indexCast v78
  ![v79.toNat]
def k0_off93 (v1_1 : BitVec 32) (k0_t6 : Fin (k0_t6_loop v1_1).trips) : Fin 1 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c1_i32_107 : BitVec 32 := 1#32
  let v359 : BitVec 32 := Scalar.addi arg19 c1_i32_107
  let v361 : Index := Scalar.indexCast v359
  ![v361.toNat]
def k0_cond5 (v1_1 : BitVec 32) (k0_t6 : Fin (k0_t6_loop v1_1).trips) : BitVec 1 :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c1_i32_51 : BitVec 32 := 1#32
  let v83 : BitVec 32 := Scalar.addi arg19 c1_i32_51
  let v84 : BitVec 1 := Scalar.cmpi .slt v83 v1_1
  let v85 : BitVec 32 := Scalar.extui v84
  let c0_i32_52 : BitVec 32 := 0#32
  let v86 : BitVec 1 := Scalar.cmpi .ne v85 c0_i32_52
  v86

def k0_mult8 (v362 : BitVec 32) : BitVec 32 :=
  let c97792_i32_109 : BitVec 32 := 97792#32
  let v363 : BitVec 32 := Scalar.minsi v362 c97792_i32_109
  v363

def k0_off94 (v1_1 : BitVec 32) (k0_t6 : Fin (k0_t6_loop v1_1).trips) : Fin 1 → Nat :=
  let c1_i32_108 : BitVec 32 := 1#32
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_47 : BitVec 32 := 2#32
  let v73 : BitVec 32 := Scalar.remsi arg19 c2_i32_47
  let v360 : BitVec 32 := Scalar.subi c1_i32_108 v73
  ![v360.toNat]
def k0_off95 (v1_1 : BitVec 32) (k0_t6 : Fin (k0_t6_loop v1_1).trips) : Fin 3 → Nat :=
  let c1_i32_108 : BitVec 32 := 1#32
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_47 : BitVec 32 := 2#32
  let v73 : BitVec 32 := Scalar.remsi arg19 c2_i32_47
  let v360 : BitVec 32 := Scalar.subi c1_i32_108 v73
  let c0_i32_117 : BitVec 32 := 0#32
  let c0_i32_118 : BitVec 32 := 0#32
  ![v360.toNat, 0, 0]
def k0_off96 (v362 : BitVec 32) : Fin 2 → Nat :=
  let c97792_i32_109 : BitVec 32 := 97792#32
  let v363 : BitVec 32 := Scalar.minsi v362 c97792_i32_109
  let v364 : BitVec 32 := v363
  let c0_i32_119 : BitVec 32 := 0#32
  ![v364.toNat, 0]
def k0_off97 (v1_1 : BitVec 32) (k0_t6 : Fin (k0_t6_loop v1_1).trips) : Fin 4 → Nat :=
  let c1_i32_108 : BitVec 32 := 1#32
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_47 : BitVec 32 := 2#32
  let v73 : BitVec 32 := Scalar.remsi arg19 c2_i32_47
  let v360 : BitVec 32 := Scalar.subi c1_i32_108 v73
  let c0_i32_120 : BitVec 32 := 0#32
  let c0_i32_121 : BitVec 32 := 0#32
  let c0_i32_122 : BitVec 32 := 0#32
  ![v360.toNat, 0, 0, 0]
def k0_off98 (v362 : BitVec 32) : Fin 3 → Nat :=
  let c97792_i32_109 : BitVec 32 := 97792#32
  let v363 : BitVec 32 := Scalar.minsi v362 c97792_i32_109
  let v364 : BitVec 32 := v363
  let c0_i32_111 : BitVec 32 := 0#32
  let v366 : BitVec 1 := Scalar.cmpi .sgt v364 c0_i32_111
  let v367 : BitVec 32 := Scalar.extui v366
  let c0_i32_112 : BitVec 32 := 0#32
  let v368 : BitVec 1 := Scalar.cmpi .slt v364 c0_i32_112
  let v369 : BitVec 32 := Scalar.extui v368
  let v370 : BitVec 32 := Scalar.subi v367 v369
  let c128_i32_110 : BitVec 32 := 128#32
  let c0_i32_113 : BitVec 32 := 0#32
  let v371 : BitVec 1 := Scalar.cmpi .sgt c128_i32_110 c0_i32_113
  let v372 : BitVec 32 := Scalar.extui v371
  let c0_i32_114 : BitVec 32 := 0#32
  let v373 : BitVec 1 := Scalar.cmpi .slt c128_i32_110 c0_i32_114
  let v374 : BitVec 32 := Scalar.extui v373
  let v375 : BitVec 32 := Scalar.subi v372 v374
  let v376 : BitVec 1 := Scalar.cmpi .ne v370 v375
  let v377 : BitVec 32 := Scalar.remsi v364 c128_i32_110
  let c0_i32_115 : BitVec 32 := 0#32
  let v378 : BitVec 1 := Scalar.cmpi .ne v377 c0_i32_115
  let v379 : BitVec 1 := Scalar.andi v376 v378
  let v365 : BitVec 32 := Scalar.divsi v364 c128_i32_110
  let c1_i32_116 : BitVec 32 := 1#32
  let v380 : BitVec 32 := Scalar.subi v365 c1_i32_116
  let v381 : BitVec 32 := Scalar.select v379 v380 v365
  let c0_i32_123 : BitVec 32 := 0#32
  let c0_i32_124 : BitVec 32 := 0#32
  ![v381.toNat, 0, 0]

def k0_chk13 (v1_1 : BitVec 32) (k0_t6 : Fin (k0_t6_loop v1_1).trips) (v362 : BitVec 32) : Prop :=
  (∀ (k0_h5 : k0_cond5 v1_1 k0_t6 = 1#1), 128 ∣ (k0_mult8 v362).toNat) ∧
  (∀ (k0_h5 : k0_cond5 v1_1 k0_t6 = 1#1), ∀ a, (k0_off96 v362) a + S512x2048.size a ≤ S98304x2048.size a) ∧
  (∀ (k0_h5 : k0_cond5 v1_1 k0_t6 = 1#1), ∀ (hinb : ∀ a, (k0_off96 v362) a + S512x2048.size a ≤ S98304x2048.size a), (Rect.unit (s := S98304x2048) (k0_off96 v362) S512x2048.size hinb).WholeWords (EltTy.packing .fp8e4m3)) ∧
  (∀ (k0_h5 : k0_cond5 v1_1 k0_t6 = 1#1), ∀ a, (k0_off98 v362) a + S4x1x128.size a ≤ S768x1x128.size a)
theorem k0_mult8_dvd : ∀ (v1_1 : BitVec 32) (k0_t6 : Fin (k0_t6_loop v1_1).trips) (v362 : BitVec 32) (k0_hw13 : k0_chk13 v1_1 k0_t6 v362), ∀ (k0_h5 : k0_cond5 v1_1 k0_t6 = 1#1), 128 ∣ (k0_mult8 v362).toNat := fun v1_1 k0_t6 v362 k0_hw13 k0_h5 => k0_hw13.1 k0_h5
theorem k0_off96_inb : ∀ (v1_1 : BitVec 32) (k0_t6 : Fin (k0_t6_loop v1_1).trips) (v362 : BitVec 32) (k0_hw13 : k0_chk13 v1_1 k0_t6 v362), ∀ (k0_h5 : k0_cond5 v1_1 k0_t6 = 1#1), ∀ a, (k0_off96 v362) a + S512x2048.size a ≤ S98304x2048.size a := fun v1_1 k0_t6 v362 k0_hw13 k0_h5 => k0_hw13.2.1 k0_h5
theorem k0_off96_wordsfp8e4m3 : ∀ (v1_1 : BitVec 32) (k0_t6 : Fin (k0_t6_loop v1_1).trips) (v362 : BitVec 32) (k0_hw13 : k0_chk13 v1_1 k0_t6 v362), ∀ (k0_h5 : k0_cond5 v1_1 k0_t6 = 1#1), (Rect.unit (s := S98304x2048) (k0_off96 v362) S512x2048.size (k0_off96_inb v1_1 k0_t6 v362 k0_hw13 k0_h5)).WholeWords (EltTy.packing .fp8e4m3) := fun v1_1 k0_t6 v362 k0_hw13 k0_h5 => k0_hw13.2.2.1 k0_h5 (k0_off96_inb v1_1 k0_t6 v362 k0_hw13 k0_h5)
theorem k0_off98_inb : ∀ (v1_1 : BitVec 32) (k0_t6 : Fin (k0_t6_loop v1_1).trips) (v362 : BitVec 32) (k0_hw13 : k0_chk13 v1_1 k0_t6 v362), ∀ (k0_h5 : k0_cond5 v1_1 k0_t6 = 1#1), ∀ a, (k0_off98 v362) a + S4x1x128.size a ≤ S768x1x128.size a := fun v1_1 k0_t6 v362 k0_hw13 k0_h5 => k0_hw13.2.2.2 k0_h5

def k0_off99 (arg20 : BitVec 32) : Fin 1 → Nat :=
  ![arg20.toNat]
def k0_cond6 (v1_1 : BitVec 32) (k0_t6 : Fin (k0_t6_loop v1_1).trips) (v75 : BitVec 32) (v80 : BitVec 32) : BitVec 1 :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c0_i32_48 : BitVec 32 := 0#32
  let v76 : BitVec 1 := Scalar.cmpi .eq arg19 c0_i32_48
  let v81 : BitVec 1 := Scalar.cmpi .ne v80 v75
  let v82 : BitVec 1 := Scalar.ori v76 v81
  let v87 : BitVec 32 := Scalar.extui v82
  let c0_i32_53 : BitVec 32 := 0#32
  let v88 : BitVec 1 := Scalar.cmpi .ne v87 c0_i32_53
  v88

def k0_off100 (arg20 : BitVec 32) : Fin 3 → Nat :=
  let c0_i32_107 : BitVec 32 := 0#32
  let c0_i32_108 : BitVec 32 := 0#32
  ![arg20.toNat, 0, 0]
def k0_off101 (v75 : BitVec 32) : Fin 3 → Nat :=
  let c0_i32_109 : BitVec 32 := 0#32
  let c0_i32_110 : BitVec 32 := 0#32
  ![v75.toNat, 0, 0]
def k0_off102 (arg20 : BitVec 32) : Fin 3 → Nat :=
  let c0_i32_111 : BitVec 32 := 0#32
  let c0_i32_112 : BitVec 32 := 0#32
  ![arg20.toNat, 0, 0]
def k0_off103 (v75 : BitVec 32) : Fin 3 → Nat :=
  let c0_i32_113 : BitVec 32 := 0#32
  let c0_i32_114 : BitVec 32 := 0#32
  ![v75.toNat, 0, 0]
@[reducible] def k0_t7_loop : Scf.Loop 32 :=
  let c0_i32_116 : BitVec 32 := 0#32
  let c16_i32_117 : BitVec 32 := 16#32
  let v371 : BitVec 32 := Scalar.addi c0_i32_116 c16_i32_117
  let c1_i32_118 : BitVec 32 := 1#32
  ⟨c0_i32_116, v371, c1_i32_118⟩
def k0_off104 (k0_t7 : Fin k0_t7_loop.trips) : Fin 1 → Nat :=
  let c15_i32_252 : BitVec 32 := 15#32
  let c0_i32_116 : BitVec 32 := 0#32
  let c1_i32_118 : BitVec 32 := 1#32
  let arg21 : BitVec 32 := Scf.iv c0_i32_116 c1_i32_118 k0_t7
  let v778 : BitVec 32 := Scalar.subi c15_i32_252 arg21
  let v779 : Index := Scalar.indexCast v778
  ![v779.toNat]
def k0_off105 (arg20 : BitVec 32) : Fin 1 → Nat :=
  let c1_i32_252 : BitVec 32 := 1#32
  let v776 : BitVec 32 := Scalar.subi c1_i32_252 arg20
  ![v776.toNat]
def k0_cond7 (v372 : BitVec 32) : BitVec 1 :=
  let c16_i32_120 : BitVec 32 := 16#32
  let v373 : BitVec 1 := Scalar.cmpi .slt v372 c16_i32_120
  let v374 : BitVec 32 := Scalar.extui v373
  let c0_i32_121 : BitVec 32 := 0#32
  let v375 : BitVec 1 := Scalar.cmpi .ne v374 c0_i32_121
  v375

def k0_off106 (arg20 : BitVec 32) : Fin 3 → Nat :=
  let c1_i32_252 : BitVec 32 := 1#32
  let v776 : BitVec 32 := Scalar.subi c1_i32_252 arg20
  let c0_i32_253 : BitVec 32 := 0#32
  let c0_i32_254 : BitVec 32 := 0#32
  ![v776.toNat, 0, 0]
def k0_off107 (v372 : BitVec 32) : Fin 3 → Nat :=
  let c0_i32_255 : BitVec 32 := 0#32
  let c0_i32_256 : BitVec 32 := 0#32
  ![v372.toNat, 0, 0]
def k0_off108 (arg20 : BitVec 32) : Fin 3 → Nat :=
  let c1_i32_252 : BitVec 32 := 1#32
  let v776 : BitVec 32 := Scalar.subi c1_i32_252 arg20
  let c0_i32_257 : BitVec 32 := 0#32
  let c0_i32_258 : BitVec 32 := 0#32
  ![v776.toNat, 0, 0]
def k0_off109 (v372 : BitVec 32) : Fin 3 → Nat :=
  let c0_i32_259 : BitVec 32 := 0#32
  let c0_i32_260 : BitVec 32 := 0#32
  ![v372.toNat, 0, 0]

def k0_chk15 (v1_1 : BitVec 32) (k0_t6 : Fin (k0_t6_loop v1_1).trips) (arg20 : BitVec 32) (v75 : BitVec 32) (v80 : BitVec 32) (v372 : BitVec 32) : Prop :=
  (∀ (k0_h6 : k0_cond6 v1_1 k0_t6 v75 v80 = 1#1), ∀ (k0_h7 : k0_cond7 v372 = 1#1), ∀ a, (k0_off105 arg20) a + S1.size a ≤ S2.size a) ∧
  (∀ (k0_h6 : k0_cond6 v1_1 k0_t6 v75 v80 = 1#1), ∀ (k0_h7 : k0_cond7 v372 = 1#1), ∀ a, (k0_off106 arg20) a + S1x1024x1024.size a ≤ S2x1024x1024.size a) ∧
  (∀ (k0_h6 : k0_cond6 v1_1 k0_t6 v75 v80 = 1#1), ∀ (k0_h7 : k0_cond7 v372 = 1#1), ∀ a, (k0_off107 v372) a + S1x1024x1024.size a ≤ S16x1024x4096.size a) ∧
  (∀ (k0_h6 : k0_cond6 v1_1 k0_t6 v75 v80 = 1#1), ∀ (k0_h7 : k0_cond7 v372 = 1#1), ∀ (hinb : ∀ a, (k0_off107 v372) a + S1x1024x1024.size a ≤ S16x1024x4096.size a), (Rect.unit (s := S16x1024x4096) (k0_off107 v372) S1x1024x1024.size hinb).WholeWords (EltTy.packing .i8)) ∧
  (∀ (k0_h6 : k0_cond6 v1_1 k0_t6 v75 v80 = 1#1), ∀ (k0_h7 : k0_cond7 v372 = 1#1), ∀ (hinb : ∀ a, (k0_off106 arg20) a + S1x1024x1024.size a ≤ S2x1024x1024.size a), (Rect.unit (s := S2x1024x1024) (k0_off106 arg20) S1x1024x1024.size hinb).WholeWords (EltTy.packing .i8)) ∧
  (∀ (k0_h6 : k0_cond6 v1_1 k0_t6 v75 v80 = 1#1), ∀ (k0_h7 : k0_cond7 v372 = 1#1), ∀ a, (k0_off108 arg20) a + S1x16x1024.size a ≤ S2x16x1024.size a) ∧
  (∀ (k0_h6 : k0_cond6 v1_1 k0_t6 v75 v80 = 1#1), ∀ (k0_h7 : k0_cond7 v372 = 1#1), ∀ a, (k0_off109 v372) a + S1x16x1024.size a ≤ S16x16x4096.size a) ∧
  (∀ (k0_h6 : k0_cond6 v1_1 k0_t6 v75 v80 = 1#1), ∀ (k0_h7 : k0_cond7 v372 = 1#1), ∀ (hinb : ∀ a, (k0_off109 v372) a + S1x16x1024.size a ≤ S16x16x4096.size a), (Rect.unit (s := S16x16x4096) (k0_off109 v372) S1x16x1024.size hinb).WholeWords (EltTy.packing .bf16)) ∧
  (∀ (k0_h6 : k0_cond6 v1_1 k0_t6 v75 v80 = 1#1), ∀ (k0_h7 : k0_cond7 v372 = 1#1), ∀ (hinb : ∀ a, (k0_off108 arg20) a + S1x16x1024.size a ≤ S2x16x1024.size a), (Rect.unit (s := S2x16x1024) (k0_off108 arg20) S1x16x1024.size hinb).WholeWords (EltTy.packing .bf16))
theorem k0_off105_inb : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), ∀ a, (k0_off105 arg20) a + S1.size a ≤ S2.size a := fun v1_1 k0_t6 arg20 v75 v80 v372 k0_hw15 k0_h6 k0_h7 => k0_hw15.1 k0_h6 k0_h7
theorem k0_off106_inb : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), ∀ a, (k0_off106 arg20) a + S1x1024x1024.size a ≤ S2x1024x1024.size a := fun v1_1 k0_t6 arg20 v75 v80 v372 k0_hw15 k0_h6 k0_h7 => k0_hw15.2.1 k0_h6 k0_h7
theorem k0_off107_inb : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), ∀ a, (k0_off107 v372) a + S1x1024x1024.size a ≤ S16x1024x4096.size a := fun v1_1 k0_t6 arg20 v75 v80 v372 k0_hw15 k0_h6 k0_h7 => k0_hw15.2.2.1 k0_h6 k0_h7
theorem k0_off107_wordsi8 : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), (Rect.unit (s := S16x1024x4096) (k0_off107 v372) S1x1024x1024.size (k0_off107_inb v1_1 k0_t6 arg20 v75 v80 v372 k0_hw15 k0_h6 k0_h7)).WholeWords (EltTy.packing .i8) := fun v1_1 k0_t6 arg20 v75 v80 v372 k0_hw15 k0_h6 k0_h7 => k0_hw15.2.2.2.1 k0_h6 k0_h7 (k0_off107_inb v1_1 k0_t6 arg20 v75 v80 v372 k0_hw15 k0_h6 k0_h7)
theorem k0_off106_wordsi8 : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), (Rect.unit (s := S2x1024x1024) (k0_off106 arg20) S1x1024x1024.size (k0_off106_inb v1_1 k0_t6 arg20 v75 v80 v372 k0_hw15 k0_h6 k0_h7)).WholeWords (EltTy.packing .i8) := fun v1_1 k0_t6 arg20 v75 v80 v372 k0_hw15 k0_h6 k0_h7 => k0_hw15.2.2.2.2.1 k0_h6 k0_h7 (k0_off106_inb v1_1 k0_t6 arg20 v75 v80 v372 k0_hw15 k0_h6 k0_h7)
theorem k0_off108_inb : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), ∀ a, (k0_off108 arg20) a + S1x16x1024.size a ≤ S2x16x1024.size a := fun v1_1 k0_t6 arg20 v75 v80 v372 k0_hw15 k0_h6 k0_h7 => k0_hw15.2.2.2.2.2.1 k0_h6 k0_h7
theorem k0_off109_inb : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), ∀ a, (k0_off109 v372) a + S1x16x1024.size a ≤ S16x16x4096.size a := fun v1_1 k0_t6 arg20 v75 v80 v372 k0_hw15 k0_h6 k0_h7 => k0_hw15.2.2.2.2.2.2.1 k0_h6 k0_h7
theorem k0_off109_wordsbf16 : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), (Rect.unit (s := S16x16x4096) (k0_off109 v372) S1x16x1024.size (k0_off109_inb v1_1 k0_t6 arg20 v75 v80 v372 k0_hw15 k0_h6 k0_h7)).WholeWords (EltTy.packing .bf16) := fun v1_1 k0_t6 arg20 v75 v80 v372 k0_hw15 k0_h6 k0_h7 => k0_hw15.2.2.2.2.2.2.2.1 k0_h6 k0_h7 (k0_off109_inb v1_1 k0_t6 arg20 v75 v80 v372 k0_hw15 k0_h6 k0_h7)
theorem k0_off108_wordsbf16 : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), (Rect.unit (s := S2x16x1024) (k0_off108 arg20) S1x16x1024.size (k0_off108_inb v1_1 k0_t6 arg20 v75 v80 v372 k0_hw15 k0_h6 k0_h7)).WholeWords (EltTy.packing .bf16) := fun v1_1 k0_t6 arg20 v75 v80 v372 k0_hw15 k0_h6 k0_h7 => k0_hw15.2.2.2.2.2.2.2.2 k0_h6 k0_h7 (k0_off108_inb v1_1 k0_t6 arg20 v75 v80 v372 k0_hw15 k0_h6 k0_h7)

def k0_off110 (arg20 : BitVec 32) : Fin 3 → Nat :=
  let v376 : Index := Scalar.indexCast arg20
  let c0_122 : Index := 0#32
  let c0_123 : Index := 0#32
  ![v376.toNat, 0, 0]
def k0_off111 (arg20 : BitVec 32) : Fin 3 → Nat :=
  let v393 : Index := Scalar.indexCast arg20
  let c0_126 : Index := 0#32
  let c0_127 : Index := 0#32
  ![v393.toNat, 0, 0]
def k0_off112 (arg20 : BitVec 32) : Fin 3 → Nat :=
  let v401 : Index := Scalar.indexCast arg20
  let c64 : Index := 64#32
  let c0_130 : Index := 0#32
  ![v401.toNat, 64, 0]
def k0_off113 (arg20 : BitVec 32) : Fin 3 → Nat :=
  let v418 : Index := Scalar.indexCast arg20
  let c1_135 : Index := 1#32
  let c0_136 : Index := 0#32
  ![v418.toNat, 1, 0]
def k0_off114 (arg20 : BitVec 32) : Fin 3 → Nat :=
  let v426 : Index := Scalar.indexCast arg20
  let c128_139 : Index := 128#32
  let c0_140 : Index := 0#32
  ![v426.toNat, 128, 0]
def k0_off115 (arg20 : BitVec 32) : Fin 3 → Nat :=
  let v443 : Index := Scalar.indexCast arg20
  let c2_145 : Index := 2#32
  let c0_146 : Index := 0#32
  ![v443.toNat, 2, 0]
def k0_off116 (arg20 : BitVec 32) : Fin 3 → Nat :=
  let v451 : Index := Scalar.indexCast arg20
  let c192 : Index := 192#32
  let c0_149 : Index := 0#32
  ![v451.toNat, 192, 0]
def k0_off117 (arg20 : BitVec 32) : Fin 3 → Nat :=
  let v468 : Index := Scalar.indexCast arg20
  let c3_154 : Index := 3#32
  let c0_155 : Index := 0#32
  ![v468.toNat, 3, 0]
def k0_off118 (arg20 : BitVec 32) : Fin 3 → Nat :=
  let v476 : Index := Scalar.indexCast arg20
  let c256_158 : Index := 256#32
  let c0_159 : Index := 0#32
  ![v476.toNat, 256, 0]
def k0_off119 (arg20 : BitVec 32) : Fin 3 → Nat :=
  let v493 : Index := Scalar.indexCast arg20
  let c4_164 : Index := 4#32
  let c0_165 : Index := 0#32
  ![v493.toNat, 4, 0]
def k0_off120 (arg20 : BitVec 32) : Fin 3 → Nat :=
  let v501 : Index := Scalar.indexCast arg20
  let c320 : Index := 320#32
  let c0_167 : Index := 0#32
  ![v501.toNat, 320, 0]
def k0_off121 (arg20 : BitVec 32) : Fin 3 → Nat :=
  let v518 : Index := Scalar.indexCast arg20
  let c5_172 : Index := 5#32
  let c0_173 : Index := 0#32
  ![v518.toNat, 5, 0]
def k0_off122 (arg20 : BitVec 32) : Fin 3 → Nat :=
  let v526 : Index := Scalar.indexCast arg20
  let c384_175 : Index := 384#32
  let c0_176 : Index := 0#32
  ![v526.toNat, 384, 0]
def k0_off123 (arg20 : BitVec 32) : Fin 3 → Nat :=
  let v543 : Index := Scalar.indexCast arg20
  let c6_181 : Index := 6#32
  let c0_182 : Index := 0#32
  ![v543.toNat, 6, 0]
def k0_off124 (arg20 : BitVec 32) : Fin 3 → Nat :=
  let v551 : Index := Scalar.indexCast arg20
  let c448 : Index := 448#32
  let c0_184 : Index := 0#32
  ![v551.toNat, 448, 0]
def k0_off125 (arg20 : BitVec 32) : Fin 3 → Nat :=
  let v568 : Index := Scalar.indexCast arg20
  let c7_189 : Index := 7#32
  let c0_190 : Index := 0#32
  ![v568.toNat, 7, 0]
def k0_off126 (arg20 : BitVec 32) : Fin 3 → Nat :=
  let v576 : Index := Scalar.indexCast arg20
  let c512_192 : Index := 512#32
  let c0_193 : Index := 0#32
  ![v576.toNat, 512, 0]
def k0_off127 (arg20 : BitVec 32) : Fin 3 → Nat :=
  let v593 : Index := Scalar.indexCast arg20
  let c8 : Index := 8#32
  let c0_198 : Index := 0#32
  ![v593.toNat, 8, 0]
def k0_off128 (arg20 : BitVec 32) : Fin 3 → Nat :=
  let v601 : Index := Scalar.indexCast arg20
  let c576 : Index := 576#32
  let c0_200 : Index := 0#32
  ![v601.toNat, 576, 0]
def k0_off129 (arg20 : BitVec 32) : Fin 3 → Nat :=
  let v618 : Index := Scalar.indexCast arg20
  let c9 : Index := 9#32
  let c0_205 : Index := 0#32
  ![v618.toNat, 9, 0]
def k0_off130 (arg20 : BitVec 32) : Fin 3 → Nat :=
  let v626 : Index := Scalar.indexCast arg20
  let c640_207 : Index := 640#32
  let c0_208 : Index := 0#32
  ![v626.toNat, 640, 0]
def k0_off131 (arg20 : BitVec 32) : Fin 3 → Nat :=
  let v643 : Index := Scalar.indexCast arg20
  let c10 : Index := 10#32
  let c0_213 : Index := 0#32
  ![v643.toNat, 10, 0]
def k0_off132 (arg20 : BitVec 32) : Fin 3 → Nat :=
  let v651 : Index := Scalar.indexCast arg20
  let c704 : Index := 704#32
  let c0_215 : Index := 0#32
  ![v651.toNat, 704, 0]
def k0_off133 (arg20 : BitVec 32) : Fin 3 → Nat :=
  let v668 : Index := Scalar.indexCast arg20
  let c11 : Index := 11#32
  let c0_220 : Index := 0#32
  ![v668.toNat, 11, 0]
def k0_off134 (arg20 : BitVec 32) : Fin 3 → Nat :=
  let v676 : Index := Scalar.indexCast arg20
  let c768_222 : Index := 768#32
  let c0_223 : Index := 0#32
  ![v676.toNat, 768, 0]
def k0_off135 (arg20 : BitVec 32) : Fin 3 → Nat :=
  let v693 : Index := Scalar.indexCast arg20
  let c12 : Index := 12#32
  let c0_228 : Index := 0#32
  ![v693.toNat, 12, 0]
def k0_off136 (arg20 : BitVec 32) : Fin 3 → Nat :=
  let v701 : Index := Scalar.indexCast arg20
  let c832 : Index := 832#32
  let c0_230 : Index := 0#32
  ![v701.toNat, 832, 0]
def k0_off137 (arg20 : BitVec 32) : Fin 3 → Nat :=
  let v718 : Index := Scalar.indexCast arg20
  let c13 : Index := 13#32
  let c0_235 : Index := 0#32
  ![v718.toNat, 13, 0]
def k0_off138 (arg20 : BitVec 32) : Fin 3 → Nat :=
  let v726 : Index := Scalar.indexCast arg20
  let c896_237 : Index := 896#32
  let c0_238 : Index := 0#32
  ![v726.toNat, 896, 0]
def k0_off139 (arg20 : BitVec 32) : Fin 3 → Nat :=
  let v743 : Index := Scalar.indexCast arg20
  let c14 : Index := 14#32
  let c0_243 : Index := 0#32
  ![v743.toNat, 14, 0]
def k0_off140 (arg20 : BitVec 32) : Fin 3 → Nat :=
  let v751 : Index := Scalar.indexCast arg20
  let c960 : Index := 960#32
  let c0_245 : Index := 0#32
  ![v751.toNat, 960, 0]
def k0_off141 (arg20 : BitVec 32) : Fin 3 → Nat :=
  let v768 : Index := Scalar.indexCast arg20
  let c15 : Index := 15#32
  let c0_250 : Index := 0#32
  ![v768.toNat, 15, 0]

def k0_chk14_0 (v1_1 : BitVec 32) (k0_t6 : Fin (k0_t6_loop v1_1).trips) (arg20 : BitVec 32) (v75 : BitVec 32) (v80 : BitVec 32) : Prop :=
  (∀ (k0_h6 : k0_cond6 v1_1 k0_t6 v75 v80 = 1#1), ∀ a, (k0_off99 arg20) a + S1.size a ≤ S2.size a) ∧
  (∀ (k0_h6 : k0_cond6 v1_1 k0_t6 v75 v80 = 1#1), ∀ a, (k0_off100 arg20) a + S1x1024x1024.size a ≤ S2x1024x1024.size a) ∧
  (∀ (k0_h6 : k0_cond6 v1_1 k0_t6 v75 v80 = 1#1), ∀ a, (k0_off101 v75) a + S1x1024x1024.size a ≤ S16x1024x4096.size a) ∧
  (∀ (k0_h6 : k0_cond6 v1_1 k0_t6 v75 v80 = 1#1), ∀ (hinb : ∀ a, (k0_off101 v75) a + S1x1024x1024.size a ≤ S16x1024x4096.size a), (Rect.unit (s := S16x1024x4096) (k0_off101 v75) S1x1024x1024.size hinb).WholeWords (EltTy.packing .i8)) ∧
  (∀ (k0_h6 : k0_cond6 v1_1 k0_t6 v75 v80 = 1#1), ∀ (hinb : ∀ a, (k0_off100 arg20) a + S1x1024x1024.size a ≤ S2x1024x1024.size a), (Rect.unit (s := S2x1024x1024) (k0_off100 arg20) S1x1024x1024.size hinb).WholeWords (EltTy.packing .i8)) ∧
  (∀ (k0_h6 : k0_cond6 v1_1 k0_t6 v75 v80 = 1#1), ∀ a, (k0_off102 arg20) a + S1x16x1024.size a ≤ S2x16x1024.size a) ∧
  (∀ (k0_h6 : k0_cond6 v1_1 k0_t6 v75 v80 = 1#1), ∀ a, (k0_off103 v75) a + S1x16x1024.size a ≤ S16x16x4096.size a) ∧
  (∀ (k0_h6 : k0_cond6 v1_1 k0_t6 v75 v80 = 1#1), ∀ (hinb : ∀ a, (k0_off103 v75) a + S1x16x1024.size a ≤ S16x16x4096.size a), (Rect.unit (s := S16x16x4096) (k0_off103 v75) S1x16x1024.size hinb).WholeWords (EltTy.packing .bf16)) ∧
  (∀ (k0_h6 : k0_cond6 v1_1 k0_t6 v75 v80 = 1#1), ∀ (hinb : ∀ a, (k0_off102 arg20) a + S1x16x1024.size a ≤ S2x16x1024.size a), (Rect.unit (s := S2x16x1024) (k0_off102 arg20) S1x16x1024.size hinb).WholeWords (EltTy.packing .bf16)) ∧
  (∀ (k0_h6 : k0_cond6 v1_1 k0_t6 v75 v80 = 1#1), ∀ a, (k0_off110 arg20) a + S1x64x1024.size a ≤ S2x1024x1024.size a) ∧
  (∀ (k0_h6 : k0_cond6 v1_1 k0_t6 v75 v80 = 1#1), ∀ a, (k0_off111 arg20) a + S1x1x1024.size a ≤ S2x16x1024.size a) ∧
  (∀ (k0_h6 : k0_cond6 v1_1 k0_t6 v75 v80 = 1#1), ∀ a, (k0_off112 arg20) a + S1x64x1024.size a ≤ S2x1024x1024.size a) ∧
  (∀ (k0_h6 : k0_cond6 v1_1 k0_t6 v75 v80 = 1#1), ∀ a, (k0_off113 arg20) a + S1x1x1024.size a ≤ S2x16x1024.size a) ∧
  (∀ (k0_h6 : k0_cond6 v1_1 k0_t6 v75 v80 = 1#1), ∀ a, (k0_off114 arg20) a + S1x64x1024.size a ≤ S2x1024x1024.size a) ∧
  (∀ (k0_h6 : k0_cond6 v1_1 k0_t6 v75 v80 = 1#1), ∀ a, (k0_off115 arg20) a + S1x1x1024.size a ≤ S2x16x1024.size a) ∧
  (∀ (k0_h6 : k0_cond6 v1_1 k0_t6 v75 v80 = 1#1), ∀ a, (k0_off116 arg20) a + S1x64x1024.size a ≤ S2x1024x1024.size a) ∧
  (∀ (k0_h6 : k0_cond6 v1_1 k0_t6 v75 v80 = 1#1), ∀ a, (k0_off117 arg20) a + S1x1x1024.size a ≤ S2x16x1024.size a) ∧
  (∀ (k0_h6 : k0_cond6 v1_1 k0_t6 v75 v80 = 1#1), ∀ a, (k0_off118 arg20) a + S1x64x1024.size a ≤ S2x1024x1024.size a) ∧
  (∀ (k0_h6 : k0_cond6 v1_1 k0_t6 v75 v80 = 1#1), ∀ a, (k0_off119 arg20) a + S1x1x1024.size a ≤ S2x16x1024.size a) ∧
  (∀ (k0_h6 : k0_cond6 v1_1 k0_t6 v75 v80 = 1#1), ∀ a, (k0_off120 arg20) a + S1x64x1024.size a ≤ S2x1024x1024.size a) ∧
  (∀ (k0_h6 : k0_cond6 v1_1 k0_t6 v75 v80 = 1#1), ∀ a, (k0_off121 arg20) a + S1x1x1024.size a ≤ S2x16x1024.size a) ∧
  (∀ (k0_h6 : k0_cond6 v1_1 k0_t6 v75 v80 = 1#1), ∀ a, (k0_off122 arg20) a + S1x64x1024.size a ≤ S2x1024x1024.size a) ∧
  (∀ (k0_h6 : k0_cond6 v1_1 k0_t6 v75 v80 = 1#1), ∀ a, (k0_off123 arg20) a + S1x1x1024.size a ≤ S2x16x1024.size a) ∧
  (∀ (k0_h6 : k0_cond6 v1_1 k0_t6 v75 v80 = 1#1), ∀ a, (k0_off124 arg20) a + S1x64x1024.size a ≤ S2x1024x1024.size a) ∧
  (∀ (k0_h6 : k0_cond6 v1_1 k0_t6 v75 v80 = 1#1), ∀ a, (k0_off125 arg20) a + S1x1x1024.size a ≤ S2x16x1024.size a) ∧
  (∀ (k0_h6 : k0_cond6 v1_1 k0_t6 v75 v80 = 1#1), ∀ a, (k0_off126 arg20) a + S1x64x1024.size a ≤ S2x1024x1024.size a) ∧
  (∀ (k0_h6 : k0_cond6 v1_1 k0_t6 v75 v80 = 1#1), ∀ a, (k0_off127 arg20) a + S1x1x1024.size a ≤ S2x16x1024.size a) ∧
  (∀ (k0_h6 : k0_cond6 v1_1 k0_t6 v75 v80 = 1#1), ∀ a, (k0_off128 arg20) a + S1x64x1024.size a ≤ S2x1024x1024.size a) ∧
  (∀ (k0_h6 : k0_cond6 v1_1 k0_t6 v75 v80 = 1#1), ∀ a, (k0_off129 arg20) a + S1x1x1024.size a ≤ S2x16x1024.size a) ∧
  (∀ (k0_h6 : k0_cond6 v1_1 k0_t6 v75 v80 = 1#1), ∀ a, (k0_off130 arg20) a + S1x64x1024.size a ≤ S2x1024x1024.size a) ∧
  (∀ (k0_h6 : k0_cond6 v1_1 k0_t6 v75 v80 = 1#1), ∀ a, (k0_off131 arg20) a + S1x1x1024.size a ≤ S2x16x1024.size a) ∧
  (∀ (k0_h6 : k0_cond6 v1_1 k0_t6 v75 v80 = 1#1), ∀ a, (k0_off132 arg20) a + S1x64x1024.size a ≤ S2x1024x1024.size a)
def k0_chk14_1 (v1_1 : BitVec 32) (k0_t6 : Fin (k0_t6_loop v1_1).trips) (arg20 : BitVec 32) (v75 : BitVec 32) (v80 : BitVec 32) : Prop :=
  (∀ (k0_h6 : k0_cond6 v1_1 k0_t6 v75 v80 = 1#1), ∀ a, (k0_off133 arg20) a + S1x1x1024.size a ≤ S2x16x1024.size a) ∧
  (∀ (k0_h6 : k0_cond6 v1_1 k0_t6 v75 v80 = 1#1), ∀ a, (k0_off134 arg20) a + S1x64x1024.size a ≤ S2x1024x1024.size a) ∧
  (∀ (k0_h6 : k0_cond6 v1_1 k0_t6 v75 v80 = 1#1), ∀ a, (k0_off135 arg20) a + S1x1x1024.size a ≤ S2x16x1024.size a) ∧
  (∀ (k0_h6 : k0_cond6 v1_1 k0_t6 v75 v80 = 1#1), ∀ a, (k0_off136 arg20) a + S1x64x1024.size a ≤ S2x1024x1024.size a) ∧
  (∀ (k0_h6 : k0_cond6 v1_1 k0_t6 v75 v80 = 1#1), ∀ a, (k0_off137 arg20) a + S1x1x1024.size a ≤ S2x16x1024.size a) ∧
  (∀ (k0_h6 : k0_cond6 v1_1 k0_t6 v75 v80 = 1#1), ∀ a, (k0_off138 arg20) a + S1x64x1024.size a ≤ S2x1024x1024.size a) ∧
  (∀ (k0_h6 : k0_cond6 v1_1 k0_t6 v75 v80 = 1#1), ∀ a, (k0_off139 arg20) a + S1x1x1024.size a ≤ S2x16x1024.size a) ∧
  (∀ (k0_h6 : k0_cond6 v1_1 k0_t6 v75 v80 = 1#1), ∀ a, (k0_off140 arg20) a + S1x64x1024.size a ≤ S2x1024x1024.size a) ∧
  (∀ (k0_h6 : k0_cond6 v1_1 k0_t6 v75 v80 = 1#1), ∀ a, (k0_off141 arg20) a + S1x1x1024.size a ≤ S2x16x1024.size a)
def k0_chk14 (v1_1 : BitVec 32) (k0_t6 : Fin (k0_t6_loop v1_1).trips) (arg20 : BitVec 32) (v75 : BitVec 32) (v80 : BitVec 32) : Prop :=
  k0_chk14_0 v1_1 k0_t6 arg20 v75 v80 ∧
  k0_chk14_1 v1_1 k0_t6 arg20 v75 v80
theorem k0_off99_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off99 arg20) a + S1.size a ≤ S2.size a := fun v1_1 k0_t6 arg20 v75 v80 k0_hw14 k0_h6 => k0_hw14.1.1 k0_h6
theorem k0_off100_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off100 arg20) a + S1x1024x1024.size a ≤ S2x1024x1024.size a := fun v1_1 k0_t6 arg20 v75 v80 k0_hw14 k0_h6 => k0_hw14.1.2.1 k0_h6
theorem k0_off101_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off101 v75) a + S1x1024x1024.size a ≤ S16x1024x4096.size a := fun v1_1 k0_t6 arg20 v75 v80 k0_hw14 k0_h6 => k0_hw14.1.2.2.1 k0_h6
theorem k0_off101_wordsi8 : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), (Rect.unit (s := S16x1024x4096) (k0_off101 v75) S1x1024x1024.size (k0_off101_inb v1_1 k0_t6 arg20 v75 v80 k0_hw14 k0_h6)).WholeWords (EltTy.packing .i8) := fun v1_1 k0_t6 arg20 v75 v80 k0_hw14 k0_h6 => k0_hw14.1.2.2.2.1 k0_h6 (k0_off101_inb v1_1 k0_t6 arg20 v75 v80 k0_hw14 k0_h6)
theorem k0_off100_wordsi8 : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), (Rect.unit (s := S2x1024x1024) (k0_off100 arg20) S1x1024x1024.size (k0_off100_inb v1_1 k0_t6 arg20 v75 v80 k0_hw14 k0_h6)).WholeWords (EltTy.packing .i8) := fun v1_1 k0_t6 arg20 v75 v80 k0_hw14 k0_h6 => k0_hw14.1.2.2.2.2.1 k0_h6 (k0_off100_inb v1_1 k0_t6 arg20 v75 v80 k0_hw14 k0_h6)
theorem k0_off102_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off102 arg20) a + S1x16x1024.size a ≤ S2x16x1024.size a := fun v1_1 k0_t6 arg20 v75 v80 k0_hw14 k0_h6 => k0_hw14.1.2.2.2.2.2.1 k0_h6
theorem k0_off103_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off103 v75) a + S1x16x1024.size a ≤ S16x16x4096.size a := fun v1_1 k0_t6 arg20 v75 v80 k0_hw14 k0_h6 => k0_hw14.1.2.2.2.2.2.2.1 k0_h6
theorem k0_off103_wordsbf16 : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), (Rect.unit (s := S16x16x4096) (k0_off103 v75) S1x16x1024.size (k0_off103_inb v1_1 k0_t6 arg20 v75 v80 k0_hw14 k0_h6)).WholeWords (EltTy.packing .bf16) := fun v1_1 k0_t6 arg20 v75 v80 k0_hw14 k0_h6 => k0_hw14.1.2.2.2.2.2.2.2.1 k0_h6 (k0_off103_inb v1_1 k0_t6 arg20 v75 v80 k0_hw14 k0_h6)
theorem k0_off102_wordsbf16 : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), (Rect.unit (s := S2x16x1024) (k0_off102 arg20) S1x16x1024.size (k0_off102_inb v1_1 k0_t6 arg20 v75 v80 k0_hw14 k0_h6)).WholeWords (EltTy.packing .bf16) := fun v1_1 k0_t6 arg20 v75 v80 k0_hw14 k0_h6 => k0_hw14.1.2.2.2.2.2.2.2.2.1 k0_h6 (k0_off102_inb v1_1 k0_t6 arg20 v75 v80 k0_hw14 k0_h6)
theorem k0_off110_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off110 arg20) a + S1x64x1024.size a ≤ S2x1024x1024.size a := fun v1_1 k0_t6 arg20 v75 v80 k0_hw14 k0_h6 => k0_hw14.1.2.2.2.2.2.2.2.2.2.1 k0_h6
theorem k0_off111_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off111 arg20) a + S1x1x1024.size a ≤ S2x16x1024.size a := fun v1_1 k0_t6 arg20 v75 v80 k0_hw14 k0_h6 => k0_hw14.1.2.2.2.2.2.2.2.2.2.2.1 k0_h6
theorem k0_off112_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off112 arg20) a + S1x64x1024.size a ≤ S2x1024x1024.size a := fun v1_1 k0_t6 arg20 v75 v80 k0_hw14 k0_h6 => k0_hw14.1.2.2.2.2.2.2.2.2.2.2.2.1 k0_h6
theorem k0_off113_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off113 arg20) a + S1x1x1024.size a ≤ S2x16x1024.size a := fun v1_1 k0_t6 arg20 v75 v80 k0_hw14 k0_h6 => k0_hw14.1.2.2.2.2.2.2.2.2.2.2.2.2.1 k0_h6
theorem k0_off114_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off114 arg20) a + S1x64x1024.size a ≤ S2x1024x1024.size a := fun v1_1 k0_t6 arg20 v75 v80 k0_hw14 k0_h6 => k0_hw14.1.2.2.2.2.2.2.2.2.2.2.2.2.2.1 k0_h6
theorem k0_off115_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off115 arg20) a + S1x1x1024.size a ≤ S2x16x1024.size a := fun v1_1 k0_t6 arg20 v75 v80 k0_hw14 k0_h6 => k0_hw14.1.2.2.2.2.2.2.2.2.2.2.2.2.2.2.1 k0_h6
theorem k0_off116_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off116 arg20) a + S1x64x1024.size a ≤ S2x1024x1024.size a := fun v1_1 k0_t6 arg20 v75 v80 k0_hw14 k0_h6 => k0_hw14.1.2.2.2.2.2.2.2.2.2.2.2.2.2.2.2.1 k0_h6
theorem k0_off117_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off117 arg20) a + S1x1x1024.size a ≤ S2x16x1024.size a := fun v1_1 k0_t6 arg20 v75 v80 k0_hw14 k0_h6 => k0_hw14.1.2.2.2.2.2.2.2.2.2.2.2.2.2.2.2.2.1 k0_h6
theorem k0_off118_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off118 arg20) a + S1x64x1024.size a ≤ S2x1024x1024.size a := fun v1_1 k0_t6 arg20 v75 v80 k0_hw14 k0_h6 => k0_hw14.1.2.2.2.2.2.2.2.2.2.2.2.2.2.2.2.2.2.1 k0_h6
theorem k0_off119_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off119 arg20) a + S1x1x1024.size a ≤ S2x16x1024.size a := fun v1_1 k0_t6 arg20 v75 v80 k0_hw14 k0_h6 => k0_hw14.1.2.2.2.2.2.2.2.2.2.2.2.2.2.2.2.2.2.2.1 k0_h6
theorem k0_off120_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off120 arg20) a + S1x64x1024.size a ≤ S2x1024x1024.size a := fun v1_1 k0_t6 arg20 v75 v80 k0_hw14 k0_h6 => k0_hw14.1.2.2.2.2.2.2.2.2.2.2.2.2.2.2.2.2.2.2.2.1 k0_h6
theorem k0_off121_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off121 arg20) a + S1x1x1024.size a ≤ S2x16x1024.size a := fun v1_1 k0_t6 arg20 v75 v80 k0_hw14 k0_h6 => k0_hw14.1.2.2.2.2.2.2.2.2.2.2.2.2.2.2.2.2.2.2.2.2.1 k0_h6
theorem k0_off122_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off122 arg20) a + S1x64x1024.size a ≤ S2x1024x1024.size a := fun v1_1 k0_t6 arg20 v75 v80 k0_hw14 k0_h6 => k0_hw14.1.2.2.2.2.2.2.2.2.2.2.2.2.2.2.2.2.2.2.2.2.2.1 k0_h6
theorem k0_off123_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off123 arg20) a + S1x1x1024.size a ≤ S2x16x1024.size a := fun v1_1 k0_t6 arg20 v75 v80 k0_hw14 k0_h6 => k0_hw14.1.2.2.2.2.2.2.2.2.2.2.2.2.2.2.2.2.2.2.2.2.2.2.1 k0_h6
theorem k0_off124_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off124 arg20) a + S1x64x1024.size a ≤ S2x1024x1024.size a := fun v1_1 k0_t6 arg20 v75 v80 k0_hw14 k0_h6 => k0_hw14.1.2.2.2.2.2.2.2.2.2.2.2.2.2.2.2.2.2.2.2.2.2.2.2.1 k0_h6
theorem k0_off125_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off125 arg20) a + S1x1x1024.size a ≤ S2x16x1024.size a := fun v1_1 k0_t6 arg20 v75 v80 k0_hw14 k0_h6 => k0_hw14.1.2.2.2.2.2.2.2.2.2.2.2.2.2.2.2.2.2.2.2.2.2.2.2.2.1 k0_h6
theorem k0_off126_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off126 arg20) a + S1x64x1024.size a ≤ S2x1024x1024.size a := fun v1_1 k0_t6 arg20 v75 v80 k0_hw14 k0_h6 => k0_hw14.1.2.2.2.2.2.2.2.2.2.2.2.2.2.2.2.2.2.2.2.2.2.2.2.2.2.1 k0_h6
theorem k0_off127_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off127 arg20) a + S1x1x1024.size a ≤ S2x16x1024.size a := fun v1_1 k0_t6 arg20 v75 v80 k0_hw14 k0_h6 => k0_hw14.1.2.2.2.2.2.2.2.2.2.2.2.2.2.2.2.2.2.2.2.2.2.2.2.2.2.2.1 k0_h6
theorem k0_off128_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off128 arg20) a + S1x64x1024.size a ≤ S2x1024x1024.size a := fun v1_1 k0_t6 arg20 v75 v80 k0_hw14 k0_h6 => k0_hw14.1.2.2.2.2.2.2.2.2.2.2.2.2.2.2.2.2.2.2.2.2.2.2.2.2.2.2.2.1 k0_h6
theorem k0_off129_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off129 arg20) a + S1x1x1024.size a ≤ S2x16x1024.size a := fun v1_1 k0_t6 arg20 v75 v80 k0_hw14 k0_h6 => k0_hw14.1.2.2.2.2.2.2.2.2.2.2.2.2.2.2.2.2.2.2.2.2.2.2.2.2.2.2.2.2.1 k0_h6
theorem k0_off130_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off130 arg20) a + S1x64x1024.size a ≤ S2x1024x1024.size a := fun v1_1 k0_t6 arg20 v75 v80 k0_hw14 k0_h6 => k0_hw14.1.2.2.2.2.2.2.2.2.2.2.2.2.2.2.2.2.2.2.2.2.2.2.2.2.2.2.2.2.2.1 k0_h6
theorem k0_off131_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off131 arg20) a + S1x1x1024.size a ≤ S2x16x1024.size a := fun v1_1 k0_t6 arg20 v75 v80 k0_hw14 k0_h6 => k0_hw14.1.2.2.2.2.2.2.2.2.2.2.2.2.2.2.2.2.2.2.2.2.2.2.2.2.2.2.2.2.2.2.1 k0_h6
theorem k0_off132_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off132 arg20) a + S1x64x1024.size a ≤ S2x1024x1024.size a := fun v1_1 k0_t6 arg20 v75 v80 k0_hw14 k0_h6 => k0_hw14.1.2.2.2.2.2.2.2.2.2.2.2.2.2.2.2.2.2.2.2.2.2.2.2.2.2.2.2.2.2.2.2 k0_h6
theorem k0_off133_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off133 arg20) a + S1x1x1024.size a ≤ S2x16x1024.size a := fun v1_1 k0_t6 arg20 v75 v80 k0_hw14 k0_h6 => k0_hw14.2.1 k0_h6
theorem k0_off134_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off134 arg20) a + S1x64x1024.size a ≤ S2x1024x1024.size a := fun v1_1 k0_t6 arg20 v75 v80 k0_hw14 k0_h6 => k0_hw14.2.2.1 k0_h6
theorem k0_off135_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off135 arg20) a + S1x1x1024.size a ≤ S2x16x1024.size a := fun v1_1 k0_t6 arg20 v75 v80 k0_hw14 k0_h6 => k0_hw14.2.2.2.1 k0_h6
theorem k0_off136_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off136 arg20) a + S1x64x1024.size a ≤ S2x1024x1024.size a := fun v1_1 k0_t6 arg20 v75 v80 k0_hw14 k0_h6 => k0_hw14.2.2.2.2.1 k0_h6
theorem k0_off137_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off137 arg20) a + S1x1x1024.size a ≤ S2x16x1024.size a := fun v1_1 k0_t6 arg20 v75 v80 k0_hw14 k0_h6 => k0_hw14.2.2.2.2.2.1 k0_h6
theorem k0_off138_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off138 arg20) a + S1x64x1024.size a ≤ S2x1024x1024.size a := fun v1_1 k0_t6 arg20 v75 v80 k0_hw14 k0_h6 => k0_hw14.2.2.2.2.2.2.1 k0_h6
theorem k0_off139_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off139 arg20) a + S1x1x1024.size a ≤ S2x16x1024.size a := fun v1_1 k0_t6 arg20 v75 v80 k0_hw14 k0_h6 => k0_hw14.2.2.2.2.2.2.2.1 k0_h6
theorem k0_off140_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off140 arg20) a + S1x64x1024.size a ≤ S2x1024x1024.size a := fun v1_1 k0_t6 arg20 v75 v80 k0_hw14 k0_h6 => k0_hw14.2.2.2.2.2.2.2.2.1 k0_h6
theorem k0_off141_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off141 arg20) a + S1x1x1024.size a ≤ S2x16x1024.size a := fun v1_1 k0_t6 arg20 v75 v80 k0_hw14 k0_h6 => k0_hw14.2.2.2.2.2.2.2.2.2 k0_h6

def k0_off142 (v1_1 : BitVec 32) (k0_t6 : Fin (k0_t6_loop v1_1).trips) : Fin 1 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let v89 : Index := Scalar.indexCast arg19
  ![v89.toNat]
def k0_mult9 (v90 : BitVec 32) : BitVec 32 :=
  let c97792_i32_54 : BitVec 32 := 97792#32
  let v91 : BitVec 32 := Scalar.minsi v90 c97792_i32_54
  v91

def k0_off143 (v1_1 : BitVec 32) (k0_t6 : Fin (k0_t6_loop v1_1).trips) : Fin 1 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_47 : BitVec 32 := 2#32
  let v73 : BitVec 32 := Scalar.remsi arg19 c2_i32_47
  ![v73.toNat]
def k0_off144 (v1_1 : BitVec 32) (k0_t6 : Fin (k0_t6_loop v1_1).trips) : Fin 3 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_47 : BitVec 32 := 2#32
  let v73 : BitVec 32 := Scalar.remsi arg19 c2_i32_47
  let c0_i32_62 : BitVec 32 := 0#32
  let c0_i32_63 : BitVec 32 := 0#32
  ![v73.toNat, 0, 0]
def k0_off145 (v90 : BitVec 32) : Fin 2 → Nat :=
  let c97792_i32_54 : BitVec 32 := 97792#32
  let v91 : BitVec 32 := Scalar.minsi v90 c97792_i32_54
  let v92 : BitVec 32 := v91
  let c0_i32_64 : BitVec 32 := 0#32
  ![v92.toNat, 0]
def k0_off146 (v1_1 : BitVec 32) (k0_t6 : Fin (k0_t6_loop v1_1).trips) : Fin 4 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_47 : BitVec 32 := 2#32
  let v73 : BitVec 32 := Scalar.remsi arg19 c2_i32_47
  let c0_i32_65 : BitVec 32 := 0#32
  let c0_i32_66 : BitVec 32 := 0#32
  let c0_i32_67 : BitVec 32 := 0#32
  ![v73.toNat, 0, 0, 0]
def k0_off147 (v90 : BitVec 32) : Fin 3 → Nat :=
  let c97792_i32_54 : BitVec 32 := 97792#32
  let v91 : BitVec 32 := Scalar.minsi v90 c97792_i32_54
  let v92 : BitVec 32 := v91
  let c0_i32_56 : BitVec 32 := 0#32
  let v94 : BitVec 1 := Scalar.cmpi .sgt v92 c0_i32_56
  let v95 : BitVec 32 := Scalar.extui v94
  let c0_i32_57 : BitVec 32 := 0#32
  let v96 : BitVec 1 := Scalar.cmpi .slt v92 c0_i32_57
  let v97 : BitVec 32 := Scalar.extui v96
  let v98 : BitVec 32 := Scalar.subi v95 v97
  let c128_i32_55 : BitVec 32 := 128#32
  let c0_i32_58 : BitVec 32 := 0#32
  let v99 : BitVec 1 := Scalar.cmpi .sgt c128_i32_55 c0_i32_58
  let v100 : BitVec 32 := Scalar.extui v99
  let c0_i32_59 : BitVec 32 := 0#32
  let v101 : BitVec 1 := Scalar.cmpi .slt c128_i32_55 c0_i32_59
  let v102 : BitVec 32 := Scalar.extui v101
  let v103 : BitVec 32 := Scalar.subi v100 v102
  let v104 : BitVec 1 := Scalar.cmpi .ne v98 v103
  let v105 : BitVec 32 := Scalar.remsi v92 c128_i32_55
  let c0_i32_60 : BitVec 32 := 0#32
  let v106 : BitVec 1 := Scalar.cmpi .ne v105 c0_i32_60
  let v107 : BitVec 1 := Scalar.andi v104 v106
  let v93 : BitVec 32 := Scalar.divsi v92 c128_i32_55
  let c1_i32_61 : BitVec 32 := 1#32
  let v108 : BitVec 32 := Scalar.subi v93 c1_i32_61
  let v109 : BitVec 32 := Scalar.select v107 v108 v93
  let c0_i32_68 : BitVec 32 := 0#32
  let c0_i32_69 : BitVec 32 := 0#32
  ![v109.toNat, 0, 0]

def k0_chk16 (v90 : BitVec 32) : Prop :=
  (128 ∣ (k0_mult9 v90).toNat) ∧
  (∀ a, (k0_off145 v90) a + S512x2048.size a ≤ S98304x2048.size a) ∧
  (∀ (hinb : ∀ a, (k0_off145 v90) a + S512x2048.size a ≤ S98304x2048.size a), (Rect.unit (s := S98304x2048) (k0_off145 v90) S512x2048.size hinb).WholeWords (EltTy.packing .fp8e4m3)) ∧
  (∀ a, (k0_off147 v90) a + S4x1x128.size a ≤ S768x1x128.size a)
theorem k0_mult9_dvd : ∀ (v90 : BitVec 32) (k0_hw16 : k0_chk16 v90), 128 ∣ (k0_mult9 v90).toNat := fun v90 k0_hw16 => k0_hw16.1
theorem k0_off145_inb : ∀ (v90 : BitVec 32) (k0_hw16 : k0_chk16 v90), ∀ a, (k0_off145 v90) a + S512x2048.size a ≤ S98304x2048.size a := fun v90 k0_hw16 => k0_hw16.2.1
theorem k0_off145_wordsfp8e4m3 : ∀ (v90 : BitVec 32) (k0_hw16 : k0_chk16 v90), (Rect.unit (s := S98304x2048) (k0_off145 v90) S512x2048.size (k0_off145_inb v90 k0_hw16)).WholeWords (EltTy.packing .fp8e4m3) := fun v90 k0_hw16 => k0_hw16.2.2.1 (k0_off145_inb v90 k0_hw16)
theorem k0_off147_inb : ∀ (v90 : BitVec 32) (k0_hw16 : k0_chk16 v90), ∀ a, (k0_off147 v90) a + S4x1x128.size a ≤ S768x1x128.size a := fun v90 k0_hw16 => k0_hw16.2.2.2

def k0_off148 (v1_1 : BitVec 32) (k0_t6 : Fin (k0_t6_loop v1_1).trips) : Fin 1 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_107 : BitVec 32 := 2#32
  let v359 : BitVec 32 := Scalar.subi arg19 c2_i32_107
  let v360 : Index := Scalar.indexCast v359
  ![v360.toNat]
def k0_cond8 (v1_1 : BitVec 32) (k0_t6 : Fin (k0_t6_loop v1_1).trips) : BitVec 1 :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_70 : BitVec 32 := 2#32
  let v120 : BitVec 1 := Scalar.cmpi .sge arg19 c2_i32_70
  let v121 : BitVec 32 := Scalar.extui v120
  let c0_i32_71 : BitVec 32 := 0#32
  let v122 : BitVec 1 := Scalar.cmpi .ne v121 c0_i32_71
  v122

def k0_mult10 (v361 : BitVec 32) : BitVec 32 :=
  let c97792_i32_108 : BitVec 32 := 97792#32
  let v362 : BitVec 32 := Scalar.minsi v361 c97792_i32_108
  v362

def k0_chk17 (v1_1 : BitVec 32) (k0_t6 : Fin (k0_t6_loop v1_1).trips) (v361 : BitVec 32) : Prop :=
  (∀ (k0_h8 : k0_cond8 v1_1 k0_t6 = 1#1), 128 ∣ (k0_mult10 v361).toNat)
theorem k0_mult10_dvd : ∀ (v1_1 : BitVec 32) (k0_t6 : Fin (k0_t6_loop v1_1).trips) (v361 : BitVec 32) (k0_hw17 : k0_chk17 v1_1 k0_t6 v361), ∀ (k0_h8 : k0_cond8 v1_1 k0_t6 = 1#1), 128 ∣ (k0_mult10 v361).toNat := fun v1_1 k0_t6 v361 k0_hw17 k0_h8 => k0_hw17 k0_h8

def k0_off149 (v1_1 : BitVec 32) (k0_t6 : Fin (k0_t6_loop v1_1).trips) : Fin 1 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_107 : BitVec 32 := 2#32
  let v359 : BitVec 32 := Scalar.subi arg19 c2_i32_107
  let v364 : Index := Scalar.indexCast v359
  ![v364.toNat]
def k0_mult11 (v361 : BitVec 32) (v365 : BitVec 32) : BitVec 32 :=
  let c97792_i32_108 : BitVec 32 := 97792#32
  let v362 : BitVec 32 := Scalar.minsi v361 c97792_i32_108
  let v363 : BitVec 32 := v362
  let c1152_i32_109 : BitVec 32 := 1152#32
  let v366 : BitVec 32 := Scalar.muli v365 c1152_i32_109
  let v367 : BitVec 32 := Scalar.addi v363 v366
  let c8_i32_110 : BitVec 32 := 8#32
  let v368 : BitVec 32 := Scalar.muli v367 c8_i32_110
  v368

def k0_off150 (v1_1 : BitVec 32) (k0_t6 : Fin (k0_t6_loop v1_1).trips) : Fin 1 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_47 : BitVec 32 := 2#32
  let v73 : BitVec 32 := Scalar.remsi arg19 c2_i32_47
  ![v73.toNat]
def k0_off151 (v361 : BitVec 32) (v365 : BitVec 32) : Fin 2 → Nat :=
  let c97792_i32_108 : BitVec 32 := 97792#32
  let v362 : BitVec 32 := Scalar.minsi v361 c97792_i32_108
  let v363 : BitVec 32 := v362
  let c1152_i32_109 : BitVec 32 := 1152#32
  let v366 : BitVec 32 := Scalar.muli v365 c1152_i32_109
  let v367 : BitVec 32 := Scalar.addi v363 v366
  let c8_i32_110 : BitVec 32 := 8#32
  let v368 : BitVec 32 := Scalar.muli v367 c8_i32_110
  let v369 : BitVec 32 := v368
  let c0_i32_111 : BitVec 32 := 0#32
  ![v369.toNat, 0]

def k0_chk18 (v1_1 : BitVec 32) (k0_t6 : Fin (k0_t6_loop v1_1).trips) (v361 : BitVec 32) (v365 : BitVec 32) : Prop :=
  (∀ (k0_h8 : k0_cond8 v1_1 k0_t6 = 1#1), 8 ∣ (k0_mult11 v361 v365).toNat) ∧
  (∀ (k0_h8 : k0_cond8 v1_1 k0_t6 = 1#1), ∀ a, (k0_off151 v361 v365) a + S4096x128.size a ≤ S933888x128.size a)
theorem k0_mult11_dvd : ∀ (v1_1 : BitVec 32) (k0_t6 : Fin (k0_t6_loop v1_1).trips) (v361 : BitVec 32) (v365 : BitVec 32) (k0_hw18 : k0_chk18 v1_1 k0_t6 v361 v365), ∀ (k0_h8 : k0_cond8 v1_1 k0_t6 = 1#1), 8 ∣ (k0_mult11 v361 v365).toNat := fun v1_1 k0_t6 v361 v365 k0_hw18 k0_h8 => k0_hw18.1 k0_h8
theorem k0_off151_inb : ∀ (v1_1 : BitVec 32) (k0_t6 : Fin (k0_t6_loop v1_1).trips) (v361 : BitVec 32) (v365 : BitVec 32) (k0_hw18 : k0_chk18 v1_1 k0_t6 v361 v365), ∀ (k0_h8 : k0_cond8 v1_1 k0_t6 = 1#1), ∀ a, (k0_off151 v361 v365) a + S4096x128.size a ≤ S933888x128.size a := fun v1_1 k0_t6 v361 v365 k0_hw18 k0_h8 => k0_hw18.2 k0_h8

def k0_off152 (v1_1 : BitVec 32) (k0_t6 : Fin (k0_t6_loop v1_1).trips) : Fin 3 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_47 : BitVec 32 := 2#32
  let v73 : BitVec 32 := Scalar.remsi arg19 c2_i32_47
  let c0_i32_112 : BitVec 32 := 0#32
  let c0_i32_113 : BitVec 32 := 0#32
  ![v73.toNat, 0, 0]
def k0_off153 (v1_1 : BitVec 32) (k0_t6 : Fin (k0_t6_loop v1_1).trips) : Fin 4 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_47 : BitVec 32 := 2#32
  let v73 : BitVec 32 := Scalar.remsi arg19 c2_i32_47
  let v123 : Index := Scalar.indexCast v73
  let c0_72 : Index := 0#32
  let c0_73 : Index := 0#32
  let c0_74 : Index := 0#32
  ![v123.toNat, 0, 0, 0]
def k0_off154 (v1_1 : BitVec 32) (k0_t6 : Fin (k0_t6_loop v1_1).trips) : Fin 3 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_47 : BitVec 32 := 2#32
  let v73 : BitVec 32 := Scalar.remsi arg19 c2_i32_47
  let v130 : Index := Scalar.indexCast v73
  let c0_75 : Index := 0#32
  let c0_76 : Index := 0#32
  ![v130.toNat, 0, 0]
def k0_off155 (v1_1 : BitVec 32) (k0_t6 : Fin (k0_t6_loop v1_1).trips) : Fin 4 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_47 : BitVec 32 := 2#32
  let v73 : BitVec 32 := Scalar.remsi arg19 c2_i32_47
  let v167 : Index := Scalar.indexCast v73
  let c1 : Index := 1#32
  let c0_77 : Index := 0#32
  let c0_78 : Index := 0#32
  ![v167.toNat, 1, 0, 0]
def k0_off156 (v1_1 : BitVec 32) (k0_t6 : Fin (k0_t6_loop v1_1).trips) : Fin 3 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_47 : BitVec 32 := 2#32
  let v73 : BitVec 32 := Scalar.remsi arg19 c2_i32_47
  let v174 : Index := Scalar.indexCast v73
  let c128 : Index := 128#32
  let c0_79 : Index := 0#32
  ![v174.toNat, 128, 0]
def k0_off157 (v1_1 : BitVec 32) (k0_t6 : Fin (k0_t6_loop v1_1).trips) : Fin 4 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_47 : BitVec 32 := 2#32
  let v73 : BitVec 32 := Scalar.remsi arg19 c2_i32_47
  let v211 : Index := Scalar.indexCast v73
  let c2 : Index := 2#32
  let c0_80 : Index := 0#32
  let c0_81 : Index := 0#32
  ![v211.toNat, 2, 0, 0]
def k0_off158 (v1_1 : BitVec 32) (k0_t6 : Fin (k0_t6_loop v1_1).trips) : Fin 3 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_47 : BitVec 32 := 2#32
  let v73 : BitVec 32 := Scalar.remsi arg19 c2_i32_47
  let v218 : Index := Scalar.indexCast v73
  let c256 : Index := 256#32
  let c0_82 : Index := 0#32
  ![v218.toNat, 256, 0]
def k0_off159 (v1_1 : BitVec 32) (k0_t6 : Fin (k0_t6_loop v1_1).trips) : Fin 4 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_47 : BitVec 32 := 2#32
  let v73 : BitVec 32 := Scalar.remsi arg19 c2_i32_47
  let v255 : Index := Scalar.indexCast v73
  let c3 : Index := 3#32
  let c0_83 : Index := 0#32
  let c0_84 : Index := 0#32
  ![v255.toNat, 3, 0, 0]
def k0_off160 (v1_1 : BitVec 32) (k0_t6 : Fin (k0_t6_loop v1_1).trips) : Fin 3 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_47 : BitVec 32 := 2#32
  let v73 : BitVec 32 := Scalar.remsi arg19 c2_i32_47
  let v262 : Index := Scalar.indexCast v73
  let c384 : Index := 384#32
  let c0_85 : Index := 0#32
  ![v262.toNat, 384, 0]
def k0_off161 (v1_1 : BitVec 32) (k0_t6 : Fin (k0_t6_loop v1_1).trips) : Fin 3 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_47 : BitVec 32 := 2#32
  let v73 : BitVec 32 := Scalar.remsi arg19 c2_i32_47
  let v303 : Index := Scalar.indexCast v73
  let c0_88 : Index := 0#32
  let c0_89 : Index := 0#32
  ![v303.toNat, 0, 0]
def k0_off162 (v1_1 : BitVec 32) (k0_t6 : Fin (k0_t6_loop v1_1).trips) : Fin 3 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_47 : BitVec 32 := 2#32
  let v73 : BitVec 32 := Scalar.remsi arg19 c2_i32_47
  let v308 : Index := Scalar.indexCast v73
  let c1_90 : Index := 1#32
  let c0_91 : Index := 0#32
  ![v308.toNat, 1, 0]
def k0_off163 (v1_1 : BitVec 32) (k0_t6 : Fin (k0_t6_loop v1_1).trips) : Fin 3 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_47 : BitVec 32 := 2#32
  let v73 : BitVec 32 := Scalar.remsi arg19 c2_i32_47
  let v313 : Index := Scalar.indexCast v73
  let c2_92 : Index := 2#32
  let c0_93 : Index := 0#32
  ![v313.toNat, 2, 0]
def k0_off164 (v1_1 : BitVec 32) (k0_t6 : Fin (k0_t6_loop v1_1).trips) : Fin 3 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_47 : BitVec 32 := 2#32
  let v73 : BitVec 32 := Scalar.remsi arg19 c2_i32_47
  let v318 : Index := Scalar.indexCast v73
  let c3_94 : Index := 3#32
  let c0_95 : Index := 0#32
  ![v318.toNat, 3, 0]
def k0_off165 (v1_1 : BitVec 32) (k0_t6 : Fin (k0_t6_loop v1_1).trips) : Fin 3 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_47 : BitVec 32 := 2#32
  let v73 : BitVec 32 := Scalar.remsi arg19 c2_i32_47
  let v323 : Index := Scalar.indexCast v73
  let c4 : Index := 4#32
  let c0_96 : Index := 0#32
  ![v323.toNat, 4, 0]
def k0_off166 (v1_1 : BitVec 32) (k0_t6 : Fin (k0_t6_loop v1_1).trips) : Fin 3 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_47 : BitVec 32 := 2#32
  let v73 : BitVec 32 := Scalar.remsi arg19 c2_i32_47
  let v328 : Index := Scalar.indexCast v73
  let c5 : Index := 5#32
  let c0_97 : Index := 0#32
  ![v328.toNat, 5, 0]
def k0_off167 (v1_1 : BitVec 32) (k0_t6 : Fin (k0_t6_loop v1_1).trips) : Fin 3 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_47 : BitVec 32 := 2#32
  let v73 : BitVec 32 := Scalar.remsi arg19 c2_i32_47
  let v333 : Index := Scalar.indexCast v73
  let c6 : Index := 6#32
  let c0_98 : Index := 0#32
  ![v333.toNat, 6, 0]
def k0_off168 (v1_1 : BitVec 32) (k0_t6 : Fin (k0_t6_loop v1_1).trips) : Fin 3 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_47 : BitVec 32 := 2#32
  let v73 : BitVec 32 := Scalar.remsi arg19 c2_i32_47
  let v338 : Index := Scalar.indexCast v73
  let c7 : Index := 7#32
  let c0_99 : Index := 0#32
  ![v338.toNat, 7, 0]
def k0_off169 (v1_1 : BitVec 32) (k0_t6 : Fin (k0_t6_loop v1_1).trips) : Fin 1 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let v342 : Index := Scalar.indexCast arg19
  ![v342.toNat]
def k0_mult12 (v343 : BitVec 32) : BitVec 32 :=
  let c97792_i32_100 : BitVec 32 := 97792#32
  let v344 : BitVec 32 := Scalar.minsi v343 c97792_i32_100
  v344

def k0_chk19 (v343 : BitVec 32) : Prop :=
  (128 ∣ (k0_mult12 v343).toNat)
theorem k0_mult12_dvd : ∀ (v343 : BitVec 32) (k0_hw19 : k0_chk19 v343), 128 ∣ (k0_mult12 v343).toNat := fun v343 k0_hw19 => k0_hw19

def k0_off170 (v1_1 : BitVec 32) (k0_t6 : Fin (k0_t6_loop v1_1).trips) : Fin 1 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let v346 : Index := Scalar.indexCast arg19
  ![v346.toNat]
def k0_mult13 (v343 : BitVec 32) (v347 : BitVec 32) : BitVec 32 :=
  let c97792_i32_100 : BitVec 32 := 97792#32
  let v344 : BitVec 32 := Scalar.minsi v343 c97792_i32_100
  let v345 : BitVec 32 := v344
  let c1152_i32_101 : BitVec 32 := 1152#32
  let v348 : BitVec 32 := Scalar.muli v347 c1152_i32_101
  let v349 : BitVec 32 := Scalar.addi v345 v348
  let c8_i32_102 : BitVec 32 := 8#32
  let v350 : BitVec 32 := Scalar.muli v349 c8_i32_102
  v350

def k0_off171 (v1_1 : BitVec 32) (k0_t6 : Fin (k0_t6_loop v1_1).trips) : Fin 1 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_47 : BitVec 32 := 2#32
  let v73 : BitVec 32 := Scalar.remsi arg19 c2_i32_47
  ![v73.toNat]
def k0_off172 (v343 : BitVec 32) (v347 : BitVec 32) : Fin 2 → Nat :=
  let c97792_i32_100 : BitVec 32 := 97792#32
  let v344 : BitVec 32 := Scalar.minsi v343 c97792_i32_100
  let v345 : BitVec 32 := v344
  let c1152_i32_101 : BitVec 32 := 1152#32
  let v348 : BitVec 32 := Scalar.muli v347 c1152_i32_101
  let v349 : BitVec 32 := Scalar.addi v345 v348
  let c8_i32_102 : BitVec 32 := 8#32
  let v350 : BitVec 32 := Scalar.muli v349 c8_i32_102
  let v351 : BitVec 32 := v350
  let c0_i32_103 : BitVec 32 := 0#32
  ![v351.toNat, 0]

def k0_chk20 (v343 : BitVec 32) (v347 : BitVec 32) : Prop :=
  (8 ∣ (k0_mult13 v343 v347).toNat) ∧
  (∀ a, (k0_off172 v343 v347) a + S4096x128.size a ≤ S933888x128.size a)
theorem k0_mult13_dvd : ∀ (v343 : BitVec 32) (v347 : BitVec 32) (k0_hw20 : k0_chk20 v343 v347), 8 ∣ (k0_mult13 v343 v347).toNat := fun v343 v347 k0_hw20 => k0_hw20.1
theorem k0_off172_inb : ∀ (v343 : BitVec 32) (v347 : BitVec 32) (k0_hw20 : k0_chk20 v343 v347), ∀ a, (k0_off172 v343 v347) a + S4096x128.size a ≤ S933888x128.size a := fun v343 v347 k0_hw20 => k0_hw20.2

def k0_off173 (v1_1 : BitVec 32) (k0_t6 : Fin (k0_t6_loop v1_1).trips) : Fin 3 → Nat :=
  let c0_i32_34 : BitVec 32 := 0#32
  let v45 : BitVec 32 := Scalar.subi v1_1 c0_i32_34
  let c1_i32_36 : BitVec 32 := 1#32
  let v47 : BitVec 32 := Scalar.divsi v45 c1_i32_36
  let v48 : BitVec 32 := Scalar.muli v47 c1_i32_36
  let v49 : BitVec 32 := Scalar.addi c0_i32_34 v48
  let c1_i32_38 : BitVec 32 := 1#32
  let arg19 : BitVec 32 := Scf.iv v49 c1_i32_38 k0_t6
  let c2_i32_47 : BitVec 32 := 2#32
  let v73 : BitVec 32 := Scalar.remsi arg19 c2_i32_47
  let c0_i32_104 : BitVec 32 := 0#32
  let c0_i32_105 : BitVec 32 := 0#32
  ![v73.toNat, 0, 0]
def k0_off174 (v1_1 : BitVec 32) : Fin 1 → Nat :=
  let c2_i32_47 : BitVec 32 := 2#32
  let v73 : BitVec 32 := Scalar.subi v1_1 c2_i32_47
  let v75 : Index := Scalar.indexCast v73
  ![v75.toNat]
def k0_cond9 (v1_1 : BitVec 32) : BitVec 1 :=
  let c2_i32 : BitVec 32 := 2#32
  let v52 : BitVec 1 := Scalar.cmpi .sge v1_1 c2_i32
  let v53 : BitVec 32 := Scalar.extui v52
  let c0_i32_39 : BitVec 32 := 0#32
  let v54 : BitVec 1 := Scalar.cmpi .ne v53 c0_i32_39
  v54

def k0_mult14 (v76 : BitVec 32) : BitVec 32 :=
  let c97792_i32_49 : BitVec 32 := 97792#32
  let v77 : BitVec 32 := Scalar.minsi v76 c97792_i32_49
  v77

def k0_chk21 (v1_1 : BitVec 32) (v76 : BitVec 32) : Prop :=
  (∀ (k0_h9 : k0_cond9 v1_1 = 1#1), 128 ∣ (k0_mult14 v76).toNat)
theorem k0_mult14_dvd : ∀ (v1_1 : BitVec 32) (v76 : BitVec 32) (k0_hw21 : k0_chk21 v1_1 v76), ∀ (k0_h9 : k0_cond9 v1_1 = 1#1), 128 ∣ (k0_mult14 v76).toNat := fun v1_1 v76 k0_hw21 k0_h9 => k0_hw21 k0_h9

def k0_off175 (v1_1 : BitVec 32) : Fin 1 → Nat :=
  let c2_i32_47 : BitVec 32 := 2#32
  let v73 : BitVec 32 := Scalar.subi v1_1 c2_i32_47
  let v79 : Index := Scalar.indexCast v73
  ![v79.toNat]
def k0_mult15 (v76 : BitVec 32) (v80 : BitVec 32) : BitVec 32 :=
  let c97792_i32_49 : BitVec 32 := 97792#32
  let v77 : BitVec 32 := Scalar.minsi v76 c97792_i32_49
  let v78 : BitVec 32 := v77
  let c1152_i32_50 : BitVec 32 := 1152#32
  let v81 : BitVec 32 := Scalar.muli v80 c1152_i32_50
  let v82 : BitVec 32 := Scalar.addi v78 v81
  let c8_i32_51 : BitVec 32 := 8#32
  let v83 : BitVec 32 := Scalar.muli v82 c8_i32_51
  v83

def k0_off176 (v1_1 : BitVec 32) : Fin 1 → Nat :=
  let c2_i32_48 : BitVec 32 := 2#32
  let v74 : BitVec 32 := Scalar.remsi v1_1 c2_i32_48
  ![v74.toNat]
def k0_off177 (v76 : BitVec 32) (v80 : BitVec 32) : Fin 2 → Nat :=
  let c97792_i32_49 : BitVec 32 := 97792#32
  let v77 : BitVec 32 := Scalar.minsi v76 c97792_i32_49
  let v78 : BitVec 32 := v77
  let c1152_i32_50 : BitVec 32 := 1152#32
  let v81 : BitVec 32 := Scalar.muli v80 c1152_i32_50
  let v82 : BitVec 32 := Scalar.addi v78 v81
  let c8_i32_51 : BitVec 32 := 8#32
  let v83 : BitVec 32 := Scalar.muli v82 c8_i32_51
  let v84 : BitVec 32 := v83
  let c0_i32_52 : BitVec 32 := 0#32
  ![v84.toNat, 0]

def k0_chk22 (v1_1 : BitVec 32) (v76 : BitVec 32) (v80 : BitVec 32) : Prop :=
  (∀ (k0_h9 : k0_cond9 v1_1 = 1#1), 8 ∣ (k0_mult15 v76 v80).toNat) ∧
  (∀ (k0_h9 : k0_cond9 v1_1 = 1#1), ∀ a, (k0_off177 v76 v80) a + S4096x128.size a ≤ S933888x128.size a)
theorem k0_mult15_dvd : ∀ (v1_1 : BitVec 32) (v76 : BitVec 32) (v80 : BitVec 32) (k0_hw22 : k0_chk22 v1_1 v76 v80), ∀ (k0_h9 : k0_cond9 v1_1 = 1#1), 8 ∣ (k0_mult15 v76 v80).toNat := fun v1_1 v76 v80 k0_hw22 k0_h9 => k0_hw22.1 k0_h9
theorem k0_off177_inb : ∀ (v1_1 : BitVec 32) (v76 : BitVec 32) (v80 : BitVec 32) (k0_hw22 : k0_chk22 v1_1 v76 v80), ∀ (k0_h9 : k0_cond9 v1_1 = 1#1), ∀ a, (k0_off177 v76 v80) a + S4096x128.size a ≤ S933888x128.size a := fun v1_1 v76 v80 k0_hw22 k0_h9 => k0_hw22.2 k0_h9

def k0_off178 (v1_1 : BitVec 32) : Fin 3 → Nat :=
  let c2_i32_48 : BitVec 32 := 2#32
  let v74 : BitVec 32 := Scalar.remsi v1_1 c2_i32_48
  let c0_i32_53 : BitVec 32 := 0#32
  let c0_i32_54 : BitVec 32 := 0#32
  ![v74.toNat, 0, 0]
def k0_off179 (v1_1 : BitVec 32) : Fin 1 → Nat :=
  let c1_i32_40 : BitVec 32 := 1#32
  let v55 : BitVec 32 := Scalar.subi v1_1 c1_i32_40
  let v58 : Index := Scalar.indexCast v55
  ![v58.toNat]
def k0_mult16 (v59 : BitVec 32) : BitVec 32 :=
  let c97792_i32_43 : BitVec 32 := 97792#32
  let v60 : BitVec 32 := Scalar.minsi v59 c97792_i32_43
  v60

def k0_chk23 (v59 : BitVec 32) : Prop :=
  (128 ∣ (k0_mult16 v59).toNat)
theorem k0_mult16_dvd : ∀ (v59 : BitVec 32) (k0_hw23 : k0_chk23 v59), 128 ∣ (k0_mult16 v59).toNat := fun v59 k0_hw23 => k0_hw23

def k0_off180 (v1_1 : BitVec 32) : Fin 1 → Nat :=
  let c1_i32_40 : BitVec 32 := 1#32
  let v55 : BitVec 32 := Scalar.subi v1_1 c1_i32_40
  let v62 : Index := Scalar.indexCast v55
  ![v62.toNat]
def k0_mult17 (v59 : BitVec 32) (v63 : BitVec 32) : BitVec 32 :=
  let c97792_i32_43 : BitVec 32 := 97792#32
  let v60 : BitVec 32 := Scalar.minsi v59 c97792_i32_43
  let v61 : BitVec 32 := v60
  let c1152_i32 : BitVec 32 := 1152#32
  let v64 : BitVec 32 := Scalar.muli v63 c1152_i32
  let v65 : BitVec 32 := Scalar.addi v61 v64
  let c8_i32 : BitVec 32 := 8#32
  let v66 : BitVec 32 := Scalar.muli v65 c8_i32
  v66

def k0_off181 (v1_1 : BitVec 32) : Fin 1 → Nat :=
  let c1_i32_41 : BitVec 32 := 1#32
  let v56 : BitVec 32 := Scalar.subi v1_1 c1_i32_41
  let c2_i32_42 : BitVec 32 := 2#32
  let v57 : BitVec 32 := Scalar.remsi v56 c2_i32_42
  ![v57.toNat]
def k0_off182 (v59 : BitVec 32) (v63 : BitVec 32) : Fin 2 → Nat :=
  let c97792_i32_43 : BitVec 32 := 97792#32
  let v60 : BitVec 32 := Scalar.minsi v59 c97792_i32_43
  let v61 : BitVec 32 := v60
  let c1152_i32 : BitVec 32 := 1152#32
  let v64 : BitVec 32 := Scalar.muli v63 c1152_i32
  let v65 : BitVec 32 := Scalar.addi v61 v64
  let c8_i32 : BitVec 32 := 8#32
  let v66 : BitVec 32 := Scalar.muli v65 c8_i32
  let v67 : BitVec 32 := v66
  let c0_i32_44 : BitVec 32 := 0#32
  ![v67.toNat, 0]

def k0_chk24 (v59 : BitVec 32) (v63 : BitVec 32) : Prop :=
  (8 ∣ (k0_mult17 v59 v63).toNat) ∧
  (∀ a, (k0_off182 v59 v63) a + S4096x128.size a ≤ S933888x128.size a)
theorem k0_mult17_dvd : ∀ (v59 : BitVec 32) (v63 : BitVec 32) (k0_hw24 : k0_chk24 v59 v63), 8 ∣ (k0_mult17 v59 v63).toNat := fun v59 v63 k0_hw24 => k0_hw24.1
theorem k0_off182_inb : ∀ (v59 : BitVec 32) (v63 : BitVec 32) (k0_hw24 : k0_chk24 v59 v63), ∀ a, (k0_off182 v59 v63) a + S4096x128.size a ≤ S933888x128.size a := fun v59 v63 k0_hw24 => k0_hw24.2

def k0_off183 (v1_1 : BitVec 32) : Fin 3 → Nat :=
  let c1_i32_41 : BitVec 32 := 1#32
  let v56 : BitVec 32 := Scalar.subi v1_1 c1_i32_41
  let c2_i32_42 : BitVec 32 := 2#32
  let v57 : BitVec 32 := Scalar.remsi v56 c2_i32_42
  let c0_i32_45 : BitVec 32 := 0#32
  let c0_i32_46 : BitVec 32 := 0#32
  ![v57.toNat, 0, 0]

def k0_chk4_0 (v1_1 : BitVec 32) : Prop :=
  ((k0_t4_loop v1_1).OK) ∧
  (∀ k0_t4 : Fin (k0_t4_loop v1_1).trips, ∀ a, (k0_off8 v1_1 k0_t4) a + S1.size a ≤ S224.size a) ∧
  (∀ k0_t4 : Fin (k0_t4_loop v1_1).trips, ∀ a, (k0_off9 v1_1 k0_t4) a + S1.size a ≤ S224.size a) ∧
  (∀ k0_t4 : Fin (k0_t4_loop v1_1).trips, ∀ (k0_h1 : k0_cond1 v1_1 k0_t4 = 1#1), ∀ a, (k0_off10 v1_1 k0_t4) a + S1.size a ≤ S224.size a) ∧
  (∀ k0_t4 : Fin (k0_t4_loop v1_1).trips, ∀ (k0_h1 : k0_cond1 v1_1 k0_t4 = 1#1), ∀ a, (k0_off11 v1_1 k0_t4) a + S1.size a ≤ S2.size a) ∧
  (∀ k0_t4 : Fin (k0_t4_loop v1_1).trips, ∀ (k0_h1 : k0_cond1 v1_1 k0_t4 = 1#1), ∀ a, (k0_off12 v1_1 k0_t4) a + S1x512x2048.size a ≤ S2x512x2048.size a) ∧
  (∀ k0_t4 : Fin (k0_t4_loop v1_1).trips, ∀ (k0_h1 : k0_cond1 v1_1 k0_t4 = 1#1), ∀ (hinb : ∀ a, (k0_off12 v1_1 k0_t4) a + S1x512x2048.size a ≤ S2x512x2048.size a), (Rect.unit (s := S2x512x2048) (k0_off12 v1_1 k0_t4) S1x512x2048.size hinb).WholeWords (EltTy.packing .fp8e4m3)) ∧
  (∀ k0_t4 : Fin (k0_t4_loop v1_1).trips, ∀ (k0_h1 : k0_cond1 v1_1 k0_t4 = 1#1), ∀ a, (k0_off14 v1_1 k0_t4) a + S1x4x1x128.size a ≤ S2x4x1x128.size a) ∧
  (∀ k0_t4 : Fin (k0_t4_loop v1_1).trips, ∀ a, (k0_off59 v1_1 k0_t4) a + S1.size a ≤ S224.size a) ∧
  (∀ k0_t4 : Fin (k0_t4_loop v1_1).trips, ∀ a, (k0_off60 v1_1 k0_t4) a + S1.size a ≤ S2.size a) ∧
  (∀ k0_t4 : Fin (k0_t4_loop v1_1).trips, ∀ a, (k0_off61 v1_1 k0_t4) a + S1x512x2048.size a ≤ S2x512x2048.size a) ∧
  (∀ k0_t4 : Fin (k0_t4_loop v1_1).trips, ∀ (hinb : ∀ a, (k0_off61 v1_1 k0_t4) a + S1x512x2048.size a ≤ S2x512x2048.size a), (Rect.unit (s := S2x512x2048) (k0_off61 v1_1 k0_t4) S1x512x2048.size hinb).WholeWords (EltTy.packing .fp8e4m3)) ∧
  (∀ k0_t4 : Fin (k0_t4_loop v1_1).trips, ∀ a, (k0_off63 v1_1 k0_t4) a + S1x4x1x128.size a ≤ S2x4x1x128.size a) ∧
  (∀ k0_t4 : Fin (k0_t4_loop v1_1).trips, ∀ (k0_h4 : k0_cond4 v1_1 k0_t4 = 1#1), ∀ a, (k0_off65 v1_1 k0_t4) a + S1.size a ≤ S224.size a) ∧
  (∀ k0_t4 : Fin (k0_t4_loop v1_1).trips, ∀ (k0_h4 : k0_cond4 v1_1 k0_t4 = 1#1), ∀ a, (k0_off66 v1_1 k0_t4) a + S1.size a ≤ S224.size a) ∧
  (∀ k0_t4 : Fin (k0_t4_loop v1_1).trips, ∀ (k0_h4 : k0_cond4 v1_1 k0_t4 = 1#1), ∀ a, (k0_off67 v1_1 k0_t4) a + S1.size a ≤ S2.size a) ∧
  (∀ k0_t4 : Fin (k0_t4_loop v1_1).trips, ∀ (k0_h4 : k0_cond4 v1_1 k0_t4 = 1#1), ∀ a, (k0_off69 v1_1 k0_t4) a + S1x4096x128.size a ≤ S2x4096x128.size a) ∧
  (∀ k0_t4 : Fin (k0_t4_loop v1_1).trips, ∀ a, (k0_off70 v1_1 k0_t4) a + S1x1x1x128.size a ≤ S2x4x1x128.size a) ∧
  (∀ k0_t4 : Fin (k0_t4_loop v1_1).trips, ∀ a, (k0_off71 v1_1 k0_t4) a + S1x128x2048.size a ≤ S2x512x2048.size a) ∧
  (∀ k0_t4 : Fin (k0_t4_loop v1_1).trips, ∀ a, (k0_off72 v1_1 k0_t4) a + S1x1x1x128.size a ≤ S2x4x1x128.size a) ∧
  (∀ k0_t4 : Fin (k0_t4_loop v1_1).trips, ∀ a, (k0_off73 v1_1 k0_t4) a + S1x128x2048.size a ≤ S2x512x2048.size a) ∧
  (∀ k0_t4 : Fin (k0_t4_loop v1_1).trips, ∀ a, (k0_off74 v1_1 k0_t4) a + S1x1x1x128.size a ≤ S2x4x1x128.size a) ∧
  (∀ k0_t4 : Fin (k0_t4_loop v1_1).trips, ∀ a, (k0_off75 v1_1 k0_t4) a + S1x128x2048.size a ≤ S2x512x2048.size a) ∧
  (∀ k0_t4 : Fin (k0_t4_loop v1_1).trips, ∀ a, (k0_off76 v1_1 k0_t4) a + S1x1x1x128.size a ≤ S2x4x1x128.size a) ∧
  (∀ k0_t4 : Fin (k0_t4_loop v1_1).trips, ∀ a, (k0_off77 v1_1 k0_t4) a + S1x128x2048.size a ≤ S2x512x2048.size a) ∧
  (∀ k0_t4 : Fin (k0_t4_loop v1_1).trips, ∀ a, S1x512x128.size a = 0 ∨ (k0_off78 v1_1 k0_t4) a + (![1, 8, 1] : Fin 3 → Nat) a * (S1x512x128.size a - 1) < S2x4096x128.size a) ∧
  (∀ k0_t4 : Fin (k0_t4_loop v1_1).trips, ∀ a, S1x512x128.size a = 0 ∨ (k0_off79 v1_1 k0_t4) a + (![1, 8, 1] : Fin 3 → Nat) a * (S1x512x128.size a - 1) < S2x4096x128.size a) ∧
  (∀ k0_t4 : Fin (k0_t4_loop v1_1).trips, ∀ a, S1x512x128.size a = 0 ∨ (k0_off80 v1_1 k0_t4) a + (![1, 8, 1] : Fin 3 → Nat) a * (S1x512x128.size a - 1) < S2x4096x128.size a) ∧
  (∀ k0_t4 : Fin (k0_t4_loop v1_1).trips, ∀ a, S1x512x128.size a = 0 ∨ (k0_off81 v1_1 k0_t4) a + (![1, 8, 1] : Fin 3 → Nat) a * (S1x512x128.size a - 1) < S2x4096x128.size a) ∧
  (∀ k0_t4 : Fin (k0_t4_loop v1_1).trips, ∀ a, S1x512x128.size a = 0 ∨ (k0_off82 v1_1 k0_t4) a + (![1, 8, 1] : Fin 3 → Nat) a * (S1x512x128.size a - 1) < S2x4096x128.size a) ∧
  (∀ k0_t4 : Fin (k0_t4_loop v1_1).trips, ∀ a, S1x512x128.size a = 0 ∨ (k0_off83 v1_1 k0_t4) a + (![1, 8, 1] : Fin 3 → Nat) a * (S1x512x128.size a - 1) < S2x4096x128.size a) ∧
  (∀ k0_t4 : Fin (k0_t4_loop v1_1).trips, ∀ a, S1x512x128.size a = 0 ∨ (k0_off84 v1_1 k0_t4) a + (![1, 8, 1] : Fin 3 → Nat) a * (S1x512x128.size a - 1) < S2x4096x128.size a)
def k0_chk4_1 (v1_1 : BitVec 32) : Prop :=
  (∀ k0_t4 : Fin (k0_t4_loop v1_1).trips, ∀ a, S1x512x128.size a = 0 ∨ (k0_off85 v1_1 k0_t4) a + (![1, 8, 1] : Fin 3 → Nat) a * (S1x512x128.size a - 1) < S2x4096x128.size a) ∧
  (∀ k0_t4 : Fin (k0_t4_loop v1_1).trips, ∀ a, (k0_off86 v1_1 k0_t4) a + S1.size a ≤ S224.size a) ∧
  (∀ k0_t4 : Fin (k0_t4_loop v1_1).trips, ∀ a, (k0_off87 v1_1 k0_t4) a + S1.size a ≤ S224.size a) ∧
  (∀ k0_t4 : Fin (k0_t4_loop v1_1).trips, ∀ a, (k0_off88 v1_1 k0_t4) a + S1.size a ≤ S2.size a) ∧
  (∀ k0_t4 : Fin (k0_t4_loop v1_1).trips, ∀ a, (k0_off90 v1_1 k0_t4) a + S1x4096x128.size a ≤ S2x4096x128.size a) ∧
  ((k0_t6_loop v1_1).OK) ∧
  (∀ k0_t6 : Fin (k0_t6_loop v1_1).trips, ∀ a, (k0_off91 v1_1 k0_t6) a + S1.size a ≤ S224.size a) ∧
  (∀ k0_t6 : Fin (k0_t6_loop v1_1).trips, ∀ a, (k0_off92 v1_1 k0_t6) a + S1.size a ≤ S224.size a) ∧
  (∀ k0_t6 : Fin (k0_t6_loop v1_1).trips, ∀ (k0_h5 : k0_cond5 v1_1 k0_t6 = 1#1), ∀ a, (k0_off93 v1_1 k0_t6) a + S1.size a ≤ S224.size a) ∧
  (∀ k0_t6 : Fin (k0_t6_loop v1_1).trips, ∀ (k0_h5 : k0_cond5 v1_1 k0_t6 = 1#1), ∀ a, (k0_off94 v1_1 k0_t6) a + S1.size a ≤ S2.size a) ∧
  (∀ k0_t6 : Fin (k0_t6_loop v1_1).trips, ∀ (k0_h5 : k0_cond5 v1_1 k0_t6 = 1#1), ∀ a, (k0_off95 v1_1 k0_t6) a + S1x512x2048.size a ≤ S2x512x2048.size a) ∧
  (∀ k0_t6 : Fin (k0_t6_loop v1_1).trips, ∀ (k0_h5 : k0_cond5 v1_1 k0_t6 = 1#1), ∀ (hinb : ∀ a, (k0_off95 v1_1 k0_t6) a + S1x512x2048.size a ≤ S2x512x2048.size a), (Rect.unit (s := S2x512x2048) (k0_off95 v1_1 k0_t6) S1x512x2048.size hinb).WholeWords (EltTy.packing .fp8e4m3)) ∧
  (∀ k0_t6 : Fin (k0_t6_loop v1_1).trips, ∀ (k0_h5 : k0_cond5 v1_1 k0_t6 = 1#1), ∀ a, (k0_off97 v1_1 k0_t6) a + S1x4x1x128.size a ≤ S2x4x1x128.size a) ∧
  (∀ k0_t6 : Fin (k0_t6_loop v1_1).trips, ∀ a, (k0_off142 v1_1 k0_t6) a + S1.size a ≤ S224.size a) ∧
  (∀ k0_t6 : Fin (k0_t6_loop v1_1).trips, ∀ a, (k0_off143 v1_1 k0_t6) a + S1.size a ≤ S2.size a) ∧
  (∀ k0_t6 : Fin (k0_t6_loop v1_1).trips, ∀ a, (k0_off144 v1_1 k0_t6) a + S1x512x2048.size a ≤ S2x512x2048.size a) ∧
  (∀ k0_t6 : Fin (k0_t6_loop v1_1).trips, ∀ (hinb : ∀ a, (k0_off144 v1_1 k0_t6) a + S1x512x2048.size a ≤ S2x512x2048.size a), (Rect.unit (s := S2x512x2048) (k0_off144 v1_1 k0_t6) S1x512x2048.size hinb).WholeWords (EltTy.packing .fp8e4m3)) ∧
  (∀ k0_t6 : Fin (k0_t6_loop v1_1).trips, ∀ a, (k0_off146 v1_1 k0_t6) a + S1x4x1x128.size a ≤ S2x4x1x128.size a) ∧
  (∀ k0_t6 : Fin (k0_t6_loop v1_1).trips, ∀ (k0_h8 : k0_cond8 v1_1 k0_t6 = 1#1), ∀ a, (k0_off148 v1_1 k0_t6) a + S1.size a ≤ S224.size a) ∧
  (∀ k0_t6 : Fin (k0_t6_loop v1_1).trips, ∀ (k0_h8 : k0_cond8 v1_1 k0_t6 = 1#1), ∀ a, (k0_off149 v1_1 k0_t6) a + S1.size a ≤ S224.size a) ∧
  (∀ k0_t6 : Fin (k0_t6_loop v1_1).trips, ∀ (k0_h8 : k0_cond8 v1_1 k0_t6 = 1#1), ∀ a, (k0_off150 v1_1 k0_t6) a + S1.size a ≤ S2.size a) ∧
  (∀ k0_t6 : Fin (k0_t6_loop v1_1).trips, ∀ (k0_h8 : k0_cond8 v1_1 k0_t6 = 1#1), ∀ a, (k0_off152 v1_1 k0_t6) a + S1x4096x128.size a ≤ S2x4096x128.size a) ∧
  (∀ k0_t6 : Fin (k0_t6_loop v1_1).trips, ∀ a, (k0_off153 v1_1 k0_t6) a + S1x1x1x128.size a ≤ S2x4x1x128.size a) ∧
  (∀ k0_t6 : Fin (k0_t6_loop v1_1).trips, ∀ a, (k0_off154 v1_1 k0_t6) a + S1x128x2048.size a ≤ S2x512x2048.size a) ∧
  (∀ k0_t6 : Fin (k0_t6_loop v1_1).trips, ∀ a, (k0_off155 v1_1 k0_t6) a + S1x1x1x128.size a ≤ S2x4x1x128.size a) ∧
  (∀ k0_t6 : Fin (k0_t6_loop v1_1).trips, ∀ a, (k0_off156 v1_1 k0_t6) a + S1x128x2048.size a ≤ S2x512x2048.size a) ∧
  (∀ k0_t6 : Fin (k0_t6_loop v1_1).trips, ∀ a, (k0_off157 v1_1 k0_t6) a + S1x1x1x128.size a ≤ S2x4x1x128.size a) ∧
  (∀ k0_t6 : Fin (k0_t6_loop v1_1).trips, ∀ a, (k0_off158 v1_1 k0_t6) a + S1x128x2048.size a ≤ S2x512x2048.size a) ∧
  (∀ k0_t6 : Fin (k0_t6_loop v1_1).trips, ∀ a, (k0_off159 v1_1 k0_t6) a + S1x1x1x128.size a ≤ S2x4x1x128.size a) ∧
  (∀ k0_t6 : Fin (k0_t6_loop v1_1).trips, ∀ a, (k0_off160 v1_1 k0_t6) a + S1x128x2048.size a ≤ S2x512x2048.size a) ∧
  (∀ k0_t6 : Fin (k0_t6_loop v1_1).trips, ∀ a, S1x512x128.size a = 0 ∨ (k0_off161 v1_1 k0_t6) a + (![1, 8, 1] : Fin 3 → Nat) a * (S1x512x128.size a - 1) < S2x4096x128.size a) ∧
  (∀ k0_t6 : Fin (k0_t6_loop v1_1).trips, ∀ a, S1x512x128.size a = 0 ∨ (k0_off162 v1_1 k0_t6) a + (![1, 8, 1] : Fin 3 → Nat) a * (S1x512x128.size a - 1) < S2x4096x128.size a)
def k0_chk4_2 (v1_1 : BitVec 32) : Prop :=
  (∀ k0_t6 : Fin (k0_t6_loop v1_1).trips, ∀ a, S1x512x128.size a = 0 ∨ (k0_off163 v1_1 k0_t6) a + (![1, 8, 1] : Fin 3 → Nat) a * (S1x512x128.size a - 1) < S2x4096x128.size a) ∧
  (∀ k0_t6 : Fin (k0_t6_loop v1_1).trips, ∀ a, S1x512x128.size a = 0 ∨ (k0_off164 v1_1 k0_t6) a + (![1, 8, 1] : Fin 3 → Nat) a * (S1x512x128.size a - 1) < S2x4096x128.size a) ∧
  (∀ k0_t6 : Fin (k0_t6_loop v1_1).trips, ∀ a, S1x512x128.size a = 0 ∨ (k0_off165 v1_1 k0_t6) a + (![1, 8, 1] : Fin 3 → Nat) a * (S1x512x128.size a - 1) < S2x4096x128.size a) ∧
  (∀ k0_t6 : Fin (k0_t6_loop v1_1).trips, ∀ a, S1x512x128.size a = 0 ∨ (k0_off166 v1_1 k0_t6) a + (![1, 8, 1] : Fin 3 → Nat) a * (S1x512x128.size a - 1) < S2x4096x128.size a) ∧
  (∀ k0_t6 : Fin (k0_t6_loop v1_1).trips, ∀ a, S1x512x128.size a = 0 ∨ (k0_off167 v1_1 k0_t6) a + (![1, 8, 1] : Fin 3 → Nat) a * (S1x512x128.size a - 1) < S2x4096x128.size a) ∧
  (∀ k0_t6 : Fin (k0_t6_loop v1_1).trips, ∀ a, S1x512x128.size a = 0 ∨ (k0_off168 v1_1 k0_t6) a + (![1, 8, 1] : Fin 3 → Nat) a * (S1x512x128.size a - 1) < S2x4096x128.size a) ∧
  (∀ k0_t6 : Fin (k0_t6_loop v1_1).trips, ∀ a, (k0_off169 v1_1 k0_t6) a + S1.size a ≤ S224.size a) ∧
  (∀ k0_t6 : Fin (k0_t6_loop v1_1).trips, ∀ a, (k0_off170 v1_1 k0_t6) a + S1.size a ≤ S224.size a) ∧
  (∀ k0_t6 : Fin (k0_t6_loop v1_1).trips, ∀ a, (k0_off171 v1_1 k0_t6) a + S1.size a ≤ S2.size a) ∧
  (∀ k0_t6 : Fin (k0_t6_loop v1_1).trips, ∀ a, (k0_off173 v1_1 k0_t6) a + S1x4096x128.size a ≤ S2x4096x128.size a) ∧
  (∀ (k0_h9 : k0_cond9 v1_1 = 1#1), ∀ a, (k0_off174 v1_1) a + S1.size a ≤ S224.size a) ∧
  (∀ (k0_h9 : k0_cond9 v1_1 = 1#1), ∀ a, (k0_off175 v1_1) a + S1.size a ≤ S224.size a) ∧
  (∀ (k0_h9 : k0_cond9 v1_1 = 1#1), ∀ a, (k0_off176 v1_1) a + S1.size a ≤ S2.size a) ∧
  (∀ (k0_h9 : k0_cond9 v1_1 = 1#1), ∀ a, (k0_off178 v1_1) a + S1x4096x128.size a ≤ S2x4096x128.size a) ∧
  (∀ a, (k0_off179 v1_1) a + S1.size a ≤ S224.size a) ∧
  (∀ a, (k0_off180 v1_1) a + S1.size a ≤ S224.size a) ∧
  (∀ a, (k0_off181 v1_1) a + S1.size a ≤ S2.size a) ∧
  (∀ a, (k0_off183 v1_1) a + S1x4096x128.size a ≤ S2x4096x128.size a)
def k0_chk4 (v1_1 : BitVec 32) : Prop :=
  k0_chk4_0 v1_1 ∧
  k0_chk4_1 v1_1 ∧
  k0_chk4_2 v1_1
theorem k0_t4_ok : ∀ (v1_1 : BitVec 32) (k0_hw4 : k0_chk4 v1_1), (k0_t4_loop v1_1).OK := fun v1_1 k0_hw4 => k0_hw4.1.1
theorem k0_off8_inb : ∀ (v1_1 : BitVec 32) (k0_hw4 : k0_chk4 v1_1) (k0_t4 : Fin (k0_t4_loop v1_1).trips), ∀ a, (k0_off8 v1_1 k0_t4) a + S1.size a ≤ S224.size a := fun v1_1 k0_hw4 k0_t4 => k0_hw4.1.2.1 k0_t4
theorem k0_off9_inb : ∀ (v1_1 : BitVec 32) (k0_hw4 : k0_chk4 v1_1) (k0_t4 : Fin (k0_t4_loop v1_1).trips), ∀ a, (k0_off9 v1_1 k0_t4) a + S1.size a ≤ S224.size a := fun v1_1 k0_hw4 k0_t4 => k0_hw4.1.2.2.1 k0_t4
theorem k0_off10_inb : ∀ (v1_1 : BitVec 32) (k0_hw4 : k0_chk4 v1_1) (k0_t4 : Fin (k0_t4_loop v1_1).trips), ∀ (k0_h1 : k0_cond1 v1_1 k0_t4 = 1#1), ∀ a, (k0_off10 v1_1 k0_t4) a + S1.size a ≤ S224.size a := fun v1_1 k0_hw4 k0_t4 k0_h1 => k0_hw4.1.2.2.2.1 k0_t4 k0_h1
theorem k0_off11_inb : ∀ (v1_1 : BitVec 32) (k0_hw4 : k0_chk4 v1_1) (k0_t4 : Fin (k0_t4_loop v1_1).trips), ∀ (k0_h1 : k0_cond1 v1_1 k0_t4 = 1#1), ∀ a, (k0_off11 v1_1 k0_t4) a + S1.size a ≤ S2.size a := fun v1_1 k0_hw4 k0_t4 k0_h1 => k0_hw4.1.2.2.2.2.1 k0_t4 k0_h1
theorem k0_off12_inb : ∀ (v1_1 : BitVec 32) (k0_hw4 : k0_chk4 v1_1) (k0_t4 : Fin (k0_t4_loop v1_1).trips), ∀ (k0_h1 : k0_cond1 v1_1 k0_t4 = 1#1), ∀ a, (k0_off12 v1_1 k0_t4) a + S1x512x2048.size a ≤ S2x512x2048.size a := fun v1_1 k0_hw4 k0_t4 k0_h1 => k0_hw4.1.2.2.2.2.2.1 k0_t4 k0_h1
theorem k0_off12_wordsfp8e4m3 : ∀ (v1_1 : BitVec 32) (k0_hw4 : k0_chk4 v1_1) (k0_t4 : Fin (k0_t4_loop v1_1).trips), ∀ (k0_h1 : k0_cond1 v1_1 k0_t4 = 1#1), (Rect.unit (s := S2x512x2048) (k0_off12 v1_1 k0_t4) S1x512x2048.size (k0_off12_inb v1_1 k0_hw4 k0_t4 k0_h1)).WholeWords (EltTy.packing .fp8e4m3) := fun v1_1 k0_hw4 k0_t4 k0_h1 => k0_hw4.1.2.2.2.2.2.2.1 k0_t4 k0_h1 (k0_off12_inb v1_1 k0_hw4 k0_t4 k0_h1)
theorem k0_off14_inb : ∀ (v1_1 : BitVec 32) (k0_hw4 : k0_chk4 v1_1) (k0_t4 : Fin (k0_t4_loop v1_1).trips), ∀ (k0_h1 : k0_cond1 v1_1 k0_t4 = 1#1), ∀ a, (k0_off14 v1_1 k0_t4) a + S1x4x1x128.size a ≤ S2x4x1x128.size a := fun v1_1 k0_hw4 k0_t4 k0_h1 => k0_hw4.1.2.2.2.2.2.2.2.1 k0_t4 k0_h1
theorem k0_off59_inb : ∀ (v1_1 : BitVec 32) (k0_hw4 : k0_chk4 v1_1) (k0_t4 : Fin (k0_t4_loop v1_1).trips), ∀ a, (k0_off59 v1_1 k0_t4) a + S1.size a ≤ S224.size a := fun v1_1 k0_hw4 k0_t4 => k0_hw4.1.2.2.2.2.2.2.2.2.1 k0_t4
theorem k0_off60_inb : ∀ (v1_1 : BitVec 32) (k0_hw4 : k0_chk4 v1_1) (k0_t4 : Fin (k0_t4_loop v1_1).trips), ∀ a, (k0_off60 v1_1 k0_t4) a + S1.size a ≤ S2.size a := fun v1_1 k0_hw4 k0_t4 => k0_hw4.1.2.2.2.2.2.2.2.2.2.1 k0_t4
theorem k0_off61_inb : ∀ (v1_1 : BitVec 32) (k0_hw4 : k0_chk4 v1_1) (k0_t4 : Fin (k0_t4_loop v1_1).trips), ∀ a, (k0_off61 v1_1 k0_t4) a + S1x512x2048.size a ≤ S2x512x2048.size a := fun v1_1 k0_hw4 k0_t4 => k0_hw4.1.2.2.2.2.2.2.2.2.2.2.1 k0_t4
theorem k0_off61_wordsfp8e4m3 : ∀ (v1_1 : BitVec 32) (k0_hw4 : k0_chk4 v1_1) (k0_t4 : Fin (k0_t4_loop v1_1).trips), (Rect.unit (s := S2x512x2048) (k0_off61 v1_1 k0_t4) S1x512x2048.size (k0_off61_inb v1_1 k0_hw4 k0_t4)).WholeWords (EltTy.packing .fp8e4m3) := fun v1_1 k0_hw4 k0_t4 => k0_hw4.1.2.2.2.2.2.2.2.2.2.2.2.1 k0_t4 (k0_off61_inb v1_1 k0_hw4 k0_t4)
theorem k0_off63_inb : ∀ (v1_1 : BitVec 32) (k0_hw4 : k0_chk4 v1_1) (k0_t4 : Fin (k0_t4_loop v1_1).trips), ∀ a, (k0_off63 v1_1 k0_t4) a + S1x4x1x128.size a ≤ S2x4x1x128.size a := fun v1_1 k0_hw4 k0_t4 => k0_hw4.1.2.2.2.2.2.2.2.2.2.2.2.2.1 k0_t4
theorem k0_off65_inb : ∀ (v1_1 : BitVec 32) (k0_hw4 : k0_chk4 v1_1) (k0_t4 : Fin (k0_t4_loop v1_1).trips), ∀ (k0_h4 : k0_cond4 v1_1 k0_t4 = 1#1), ∀ a, (k0_off65 v1_1 k0_t4) a + S1.size a ≤ S224.size a := fun v1_1 k0_hw4 k0_t4 k0_h4 => k0_hw4.1.2.2.2.2.2.2.2.2.2.2.2.2.2.1 k0_t4 k0_h4
theorem k0_off66_inb : ∀ (v1_1 : BitVec 32) (k0_hw4 : k0_chk4 v1_1) (k0_t4 : Fin (k0_t4_loop v1_1).trips), ∀ (k0_h4 : k0_cond4 v1_1 k0_t4 = 1#1), ∀ a, (k0_off66 v1_1 k0_t4) a + S1.size a ≤ S224.size a := fun v1_1 k0_hw4 k0_t4 k0_h4 => k0_hw4.1.2.2.2.2.2.2.2.2.2.2.2.2.2.2.1 k0_t4 k0_h4
theorem k0_off67_inb : ∀ (v1_1 : BitVec 32) (k0_hw4 : k0_chk4 v1_1) (k0_t4 : Fin (k0_t4_loop v1_1).trips), ∀ (k0_h4 : k0_cond4 v1_1 k0_t4 = 1#1), ∀ a, (k0_off67 v1_1 k0_t4) a + S1.size a ≤ S2.size a := fun v1_1 k0_hw4 k0_t4 k0_h4 => k0_hw4.1.2.2.2.2.2.2.2.2.2.2.2.2.2.2.2.1 k0_t4 k0_h4
theorem k0_off69_inb : ∀ (v1_1 : BitVec 32) (k0_hw4 : k0_chk4 v1_1) (k0_t4 : Fin (k0_t4_loop v1_1).trips), ∀ (k0_h4 : k0_cond4 v1_1 k0_t4 = 1#1), ∀ a, (k0_off69 v1_1 k0_t4) a + S1x4096x128.size a ≤ S2x4096x128.size a := fun v1_1 k0_hw4 k0_t4 k0_h4 => k0_hw4.1.2.2.2.2.2.2.2.2.2.2.2.2.2.2.2.2.1 k0_t4 k0_h4
theorem k0_off70_inb : ∀ (v1_1 : BitVec 32) (k0_hw4 : k0_chk4 v1_1) (k0_t4 : Fin (k0_t4_loop v1_1).trips), ∀ a, (k0_off70 v1_1 k0_t4) a + S1x1x1x128.size a ≤ S2x4x1x128.size a := fun v1_1 k0_hw4 k0_t4 => k0_hw4.1.2.2.2.2.2.2.2.2.2.2.2.2.2.2.2.2.2.1 k0_t4
theorem k0_off71_inb : ∀ (v1_1 : BitVec 32) (k0_hw4 : k0_chk4 v1_1) (k0_t4 : Fin (k0_t4_loop v1_1).trips), ∀ a, (k0_off71 v1_1 k0_t4) a + S1x128x2048.size a ≤ S2x512x2048.size a := fun v1_1 k0_hw4 k0_t4 => k0_hw4.1.2.2.2.2.2.2.2.2.2.2.2.2.2.2.2.2.2.2.1 k0_t4
theorem k0_off72_inb : ∀ (v1_1 : BitVec 32) (k0_hw4 : k0_chk4 v1_1) (k0_t4 : Fin (k0_t4_loop v1_1).trips), ∀ a, (k0_off72 v1_1 k0_t4) a + S1x1x1x128.size a ≤ S2x4x1x128.size a := fun v1_1 k0_hw4 k0_t4 => k0_hw4.1.2.2.2.2.2.2.2.2.2.2.2.2.2.2.2.2.2.2.2.1 k0_t4
theorem k0_off73_inb : ∀ (v1_1 : BitVec 32) (k0_hw4 : k0_chk4 v1_1) (k0_t4 : Fin (k0_t4_loop v1_1).trips), ∀ a, (k0_off73 v1_1 k0_t4) a + S1x128x2048.size a ≤ S2x512x2048.size a := fun v1_1 k0_hw4 k0_t4 => k0_hw4.1.2.2.2.2.2.2.2.2.2.2.2.2.2.2.2.2.2.2.2.2.1 k0_t4
theorem k0_off74_inb : ∀ (v1_1 : BitVec 32) (k0_hw4 : k0_chk4 v1_1) (k0_t4 : Fin (k0_t4_loop v1_1).trips), ∀ a, (k0_off74 v1_1 k0_t4) a + S1x1x1x128.size a ≤ S2x4x1x128.size a := fun v1_1 k0_hw4 k0_t4 => k0_hw4.1.2.2.2.2.2.2.2.2.2.2.2.2.2.2.2.2.2.2.2.2.2.1 k0_t4
theorem k0_off75_inb : ∀ (v1_1 : BitVec 32) (k0_hw4 : k0_chk4 v1_1) (k0_t4 : Fin (k0_t4_loop v1_1).trips), ∀ a, (k0_off75 v1_1 k0_t4) a + S1x128x2048.size a ≤ S2x512x2048.size a := fun v1_1 k0_hw4 k0_t4 => k0_hw4.1.2.2.2.2.2.2.2.2.2.2.2.2.2.2.2.2.2.2.2.2.2.2.1 k0_t4
theorem k0_off76_inb : ∀ (v1_1 : BitVec 32) (k0_hw4 : k0_chk4 v1_1) (k0_t4 : Fin (k0_t4_loop v1_1).trips), ∀ a, (k0_off76 v1_1 k0_t4) a + S1x1x1x128.size a ≤ S2x4x1x128.size a := fun v1_1 k0_hw4 k0_t4 => k0_hw4.1.2.2.2.2.2.2.2.2.2.2.2.2.2.2.2.2.2.2.2.2.2.2.2.1 k0_t4
theorem k0_off77_inb : ∀ (v1_1 : BitVec 32) (k0_hw4 : k0_chk4 v1_1) (k0_t4 : Fin (k0_t4_loop v1_1).trips), ∀ a, (k0_off77 v1_1 k0_t4) a + S1x128x2048.size a ≤ S2x512x2048.size a := fun v1_1 k0_hw4 k0_t4 => k0_hw4.1.2.2.2.2.2.2.2.2.2.2.2.2.2.2.2.2.2.2.2.2.2.2.2.2.1 k0_t4
theorem k0_off78_inb : ∀ (v1_1 : BitVec 32) (k0_hw4 : k0_chk4 v1_1) (k0_t4 : Fin (k0_t4_loop v1_1).trips), ∀ a, S1x512x128.size a = 0 ∨ (k0_off78 v1_1 k0_t4) a + (![1, 8, 1] : Fin 3 → Nat) a * (S1x512x128.size a - 1) < S2x4096x128.size a := fun v1_1 k0_hw4 k0_t4 => k0_hw4.1.2.2.2.2.2.2.2.2.2.2.2.2.2.2.2.2.2.2.2.2.2.2.2.2.2.1 k0_t4
theorem k0_off79_inb : ∀ (v1_1 : BitVec 32) (k0_hw4 : k0_chk4 v1_1) (k0_t4 : Fin (k0_t4_loop v1_1).trips), ∀ a, S1x512x128.size a = 0 ∨ (k0_off79 v1_1 k0_t4) a + (![1, 8, 1] : Fin 3 → Nat) a * (S1x512x128.size a - 1) < S2x4096x128.size a := fun v1_1 k0_hw4 k0_t4 => k0_hw4.1.2.2.2.2.2.2.2.2.2.2.2.2.2.2.2.2.2.2.2.2.2.2.2.2.2.2.1 k0_t4
theorem k0_off80_inb : ∀ (v1_1 : BitVec 32) (k0_hw4 : k0_chk4 v1_1) (k0_t4 : Fin (k0_t4_loop v1_1).trips), ∀ a, S1x512x128.size a = 0 ∨ (k0_off80 v1_1 k0_t4) a + (![1, 8, 1] : Fin 3 → Nat) a * (S1x512x128.size a - 1) < S2x4096x128.size a := fun v1_1 k0_hw4 k0_t4 => k0_hw4.1.2.2.2.2.2.2.2.2.2.2.2.2.2.2.2.2.2.2.2.2.2.2.2.2.2.2.2.1 k0_t4
theorem k0_off81_inb : ∀ (v1_1 : BitVec 32) (k0_hw4 : k0_chk4 v1_1) (k0_t4 : Fin (k0_t4_loop v1_1).trips), ∀ a, S1x512x128.size a = 0 ∨ (k0_off81 v1_1 k0_t4) a + (![1, 8, 1] : Fin 3 → Nat) a * (S1x512x128.size a - 1) < S2x4096x128.size a := fun v1_1 k0_hw4 k0_t4 => k0_hw4.1.2.2.2.2.2.2.2.2.2.2.2.2.2.2.2.2.2.2.2.2.2.2.2.2.2.2.2.2.1 k0_t4
theorem k0_off82_inb : ∀ (v1_1 : BitVec 32) (k0_hw4 : k0_chk4 v1_1) (k0_t4 : Fin (k0_t4_loop v1_1).trips), ∀ a, S1x512x128.size a = 0 ∨ (k0_off82 v1_1 k0_t4) a + (![1, 8, 1] : Fin 3 → Nat) a * (S1x512x128.size a - 1) < S2x4096x128.size a := fun v1_1 k0_hw4 k0_t4 => k0_hw4.1.2.2.2.2.2.2.2.2.2.2.2.2.2.2.2.2.2.2.2.2.2.2.2.2.2.2.2.2.2.1 k0_t4
theorem k0_off83_inb : ∀ (v1_1 : BitVec 32) (k0_hw4 : k0_chk4 v1_1) (k0_t4 : Fin (k0_t4_loop v1_1).trips), ∀ a, S1x512x128.size a = 0 ∨ (k0_off83 v1_1 k0_t4) a + (![1, 8, 1] : Fin 3 → Nat) a * (S1x512x128.size a - 1) < S2x4096x128.size a := fun v1_1 k0_hw4 k0_t4 => k0_hw4.1.2.2.2.2.2.2.2.2.2.2.2.2.2.2.2.2.2.2.2.2.2.2.2.2.2.2.2.2.2.2.1 k0_t4
theorem k0_off84_inb : ∀ (v1_1 : BitVec 32) (k0_hw4 : k0_chk4 v1_1) (k0_t4 : Fin (k0_t4_loop v1_1).trips), ∀ a, S1x512x128.size a = 0 ∨ (k0_off84 v1_1 k0_t4) a + (![1, 8, 1] : Fin 3 → Nat) a * (S1x512x128.size a - 1) < S2x4096x128.size a := fun v1_1 k0_hw4 k0_t4 => k0_hw4.1.2.2.2.2.2.2.2.2.2.2.2.2.2.2.2.2.2.2.2.2.2.2.2.2.2.2.2.2.2.2.2 k0_t4
theorem k0_off85_inb : ∀ (v1_1 : BitVec 32) (k0_hw4 : k0_chk4 v1_1) (k0_t4 : Fin (k0_t4_loop v1_1).trips), ∀ a, S1x512x128.size a = 0 ∨ (k0_off85 v1_1 k0_t4) a + (![1, 8, 1] : Fin 3 → Nat) a * (S1x512x128.size a - 1) < S2x4096x128.size a := fun v1_1 k0_hw4 k0_t4 => k0_hw4.2.1.1 k0_t4
theorem k0_off86_inb : ∀ (v1_1 : BitVec 32) (k0_hw4 : k0_chk4 v1_1) (k0_t4 : Fin (k0_t4_loop v1_1).trips), ∀ a, (k0_off86 v1_1 k0_t4) a + S1.size a ≤ S224.size a := fun v1_1 k0_hw4 k0_t4 => k0_hw4.2.1.2.1 k0_t4
theorem k0_off87_inb : ∀ (v1_1 : BitVec 32) (k0_hw4 : k0_chk4 v1_1) (k0_t4 : Fin (k0_t4_loop v1_1).trips), ∀ a, (k0_off87 v1_1 k0_t4) a + S1.size a ≤ S224.size a := fun v1_1 k0_hw4 k0_t4 => k0_hw4.2.1.2.2.1 k0_t4
theorem k0_off88_inb : ∀ (v1_1 : BitVec 32) (k0_hw4 : k0_chk4 v1_1) (k0_t4 : Fin (k0_t4_loop v1_1).trips), ∀ a, (k0_off88 v1_1 k0_t4) a + S1.size a ≤ S2.size a := fun v1_1 k0_hw4 k0_t4 => k0_hw4.2.1.2.2.2.1 k0_t4
theorem k0_off90_inb : ∀ (v1_1 : BitVec 32) (k0_hw4 : k0_chk4 v1_1) (k0_t4 : Fin (k0_t4_loop v1_1).trips), ∀ a, (k0_off90 v1_1 k0_t4) a + S1x4096x128.size a ≤ S2x4096x128.size a := fun v1_1 k0_hw4 k0_t4 => k0_hw4.2.1.2.2.2.2.1 k0_t4
theorem k0_t6_ok : ∀ (v1_1 : BitVec 32) (k0_hw4 : k0_chk4 v1_1), (k0_t6_loop v1_1).OK := fun v1_1 k0_hw4 => k0_hw4.2.1.2.2.2.2.2.1
theorem k0_off91_inb : ∀ (v1_1 : BitVec 32) (k0_hw4 : k0_chk4 v1_1) (k0_t6 : Fin (k0_t6_loop v1_1).trips), ∀ a, (k0_off91 v1_1 k0_t6) a + S1.size a ≤ S224.size a := fun v1_1 k0_hw4 k0_t6 => k0_hw4.2.1.2.2.2.2.2.2.1 k0_t6
theorem k0_off92_inb : ∀ (v1_1 : BitVec 32) (k0_hw4 : k0_chk4 v1_1) (k0_t6 : Fin (k0_t6_loop v1_1).trips), ∀ a, (k0_off92 v1_1 k0_t6) a + S1.size a ≤ S224.size a := fun v1_1 k0_hw4 k0_t6 => k0_hw4.2.1.2.2.2.2.2.2.2.1 k0_t6
theorem k0_off93_inb : ∀ (v1_1 : BitVec 32) (k0_hw4 : k0_chk4 v1_1) (k0_t6 : Fin (k0_t6_loop v1_1).trips), ∀ (k0_h5 : k0_cond5 v1_1 k0_t6 = 1#1), ∀ a, (k0_off93 v1_1 k0_t6) a + S1.size a ≤ S224.size a := fun v1_1 k0_hw4 k0_t6 k0_h5 => k0_hw4.2.1.2.2.2.2.2.2.2.2.1 k0_t6 k0_h5
theorem k0_off94_inb : ∀ (v1_1 : BitVec 32) (k0_hw4 : k0_chk4 v1_1) (k0_t6 : Fin (k0_t6_loop v1_1).trips), ∀ (k0_h5 : k0_cond5 v1_1 k0_t6 = 1#1), ∀ a, (k0_off94 v1_1 k0_t6) a + S1.size a ≤ S2.size a := fun v1_1 k0_hw4 k0_t6 k0_h5 => k0_hw4.2.1.2.2.2.2.2.2.2.2.2.1 k0_t6 k0_h5
theorem k0_off95_inb : ∀ (v1_1 : BitVec 32) (k0_hw4 : k0_chk4 v1_1) (k0_t6 : Fin (k0_t6_loop v1_1).trips), ∀ (k0_h5 : k0_cond5 v1_1 k0_t6 = 1#1), ∀ a, (k0_off95 v1_1 k0_t6) a + S1x512x2048.size a ≤ S2x512x2048.size a := fun v1_1 k0_hw4 k0_t6 k0_h5 => k0_hw4.2.1.2.2.2.2.2.2.2.2.2.2.1 k0_t6 k0_h5
theorem k0_off95_wordsfp8e4m3 : ∀ (v1_1 : BitVec 32) (k0_hw4 : k0_chk4 v1_1) (k0_t6 : Fin (k0_t6_loop v1_1).trips), ∀ (k0_h5 : k0_cond5 v1_1 k0_t6 = 1#1), (Rect.unit (s := S2x512x2048) (k0_off95 v1_1 k0_t6) S1x512x2048.size (k0_off95_inb v1_1 k0_hw4 k0_t6 k0_h5)).WholeWords (EltTy.packing .fp8e4m3) := fun v1_1 k0_hw4 k0_t6 k0_h5 => k0_hw4.2.1.2.2.2.2.2.2.2.2.2.2.2.1 k0_t6 k0_h5 (k0_off95_inb v1_1 k0_hw4 k0_t6 k0_h5)
theorem k0_off97_inb : ∀ (v1_1 : BitVec 32) (k0_hw4 : k0_chk4 v1_1) (k0_t6 : Fin (k0_t6_loop v1_1).trips), ∀ (k0_h5 : k0_cond5 v1_1 k0_t6 = 1#1), ∀ a, (k0_off97 v1_1 k0_t6) a + S1x4x1x128.size a ≤ S2x4x1x128.size a := fun v1_1 k0_hw4 k0_t6 k0_h5 => k0_hw4.2.1.2.2.2.2.2.2.2.2.2.2.2.2.1 k0_t6 k0_h5
theorem k0_off142_inb : ∀ (v1_1 : BitVec 32) (k0_hw4 : k0_chk4 v1_1) (k0_t6 : Fin (k0_t6_loop v1_1).trips), ∀ a, (k0_off142 v1_1 k0_t6) a + S1.size a ≤ S224.size a := fun v1_1 k0_hw4 k0_t6 => k0_hw4.2.1.2.2.2.2.2.2.2.2.2.2.2.2.2.1 k0_t6
theorem k0_off143_inb : ∀ (v1_1 : BitVec 32) (k0_hw4 : k0_chk4 v1_1) (k0_t6 : Fin (k0_t6_loop v1_1).trips), ∀ a, (k0_off143 v1_1 k0_t6) a + S1.size a ≤ S2.size a := fun v1_1 k0_hw4 k0_t6 => k0_hw4.2.1.2.2.2.2.2.2.2.2.2.2.2.2.2.2.1 k0_t6
theorem k0_off144_inb : ∀ (v1_1 : BitVec 32) (k0_hw4 : k0_chk4 v1_1) (k0_t6 : Fin (k0_t6_loop v1_1).trips), ∀ a, (k0_off144 v1_1 k0_t6) a + S1x512x2048.size a ≤ S2x512x2048.size a := fun v1_1 k0_hw4 k0_t6 => k0_hw4.2.1.2.2.2.2.2.2.2.2.2.2.2.2.2.2.2.1 k0_t6
theorem k0_off144_wordsfp8e4m3 : ∀ (v1_1 : BitVec 32) (k0_hw4 : k0_chk4 v1_1) (k0_t6 : Fin (k0_t6_loop v1_1).trips), (Rect.unit (s := S2x512x2048) (k0_off144 v1_1 k0_t6) S1x512x2048.size (k0_off144_inb v1_1 k0_hw4 k0_t6)).WholeWords (EltTy.packing .fp8e4m3) := fun v1_1 k0_hw4 k0_t6 => k0_hw4.2.1.2.2.2.2.2.2.2.2.2.2.2.2.2.2.2.2.1 k0_t6 (k0_off144_inb v1_1 k0_hw4 k0_t6)
theorem k0_off146_inb : ∀ (v1_1 : BitVec 32) (k0_hw4 : k0_chk4 v1_1) (k0_t6 : Fin (k0_t6_loop v1_1).trips), ∀ a, (k0_off146 v1_1 k0_t6) a + S1x4x1x128.size a ≤ S2x4x1x128.size a := fun v1_1 k0_hw4 k0_t6 => k0_hw4.2.1.2.2.2.2.2.2.2.2.2.2.2.2.2.2.2.2.2.1 k0_t6
theorem k0_off148_inb : ∀ (v1_1 : BitVec 32) (k0_hw4 : k0_chk4 v1_1) (k0_t6 : Fin (k0_t6_loop v1_1).trips), ∀ (k0_h8 : k0_cond8 v1_1 k0_t6 = 1#1), ∀ a, (k0_off148 v1_1 k0_t6) a + S1.size a ≤ S224.size a := fun v1_1 k0_hw4 k0_t6 k0_h8 => k0_hw4.2.1.2.2.2.2.2.2.2.2.2.2.2.2.2.2.2.2.2.2.1 k0_t6 k0_h8
theorem k0_off149_inb : ∀ (v1_1 : BitVec 32) (k0_hw4 : k0_chk4 v1_1) (k0_t6 : Fin (k0_t6_loop v1_1).trips), ∀ (k0_h8 : k0_cond8 v1_1 k0_t6 = 1#1), ∀ a, (k0_off149 v1_1 k0_t6) a + S1.size a ≤ S224.size a := fun v1_1 k0_hw4 k0_t6 k0_h8 => k0_hw4.2.1.2.2.2.2.2.2.2.2.2.2.2.2.2.2.2.2.2.2.2.1 k0_t6 k0_h8
theorem k0_off150_inb : ∀ (v1_1 : BitVec 32) (k0_hw4 : k0_chk4 v1_1) (k0_t6 : Fin (k0_t6_loop v1_1).trips), ∀ (k0_h8 : k0_cond8 v1_1 k0_t6 = 1#1), ∀ a, (k0_off150 v1_1 k0_t6) a + S1.size a ≤ S2.size a := fun v1_1 k0_hw4 k0_t6 k0_h8 => k0_hw4.2.1.2.2.2.2.2.2.2.2.2.2.2.2.2.2.2.2.2.2.2.2.1 k0_t6 k0_h8
theorem k0_off152_inb : ∀ (v1_1 : BitVec 32) (k0_hw4 : k0_chk4 v1_1) (k0_t6 : Fin (k0_t6_loop v1_1).trips), ∀ (k0_h8 : k0_cond8 v1_1 k0_t6 = 1#1), ∀ a, (k0_off152 v1_1 k0_t6) a + S1x4096x128.size a ≤ S2x4096x128.size a := fun v1_1 k0_hw4 k0_t6 k0_h8 => k0_hw4.2.1.2.2.2.2.2.2.2.2.2.2.2.2.2.2.2.2.2.2.2.2.2.1 k0_t6 k0_h8
theorem k0_off153_inb : ∀ (v1_1 : BitVec 32) (k0_hw4 : k0_chk4 v1_1) (k0_t6 : Fin (k0_t6_loop v1_1).trips), ∀ a, (k0_off153 v1_1 k0_t6) a + S1x1x1x128.size a ≤ S2x4x1x128.size a := fun v1_1 k0_hw4 k0_t6 => k0_hw4.2.1.2.2.2.2.2.2.2.2.2.2.2.2.2.2.2.2.2.2.2.2.2.2.1 k0_t6
theorem k0_off154_inb : ∀ (v1_1 : BitVec 32) (k0_hw4 : k0_chk4 v1_1) (k0_t6 : Fin (k0_t6_loop v1_1).trips), ∀ a, (k0_off154 v1_1 k0_t6) a + S1x128x2048.size a ≤ S2x512x2048.size a := fun v1_1 k0_hw4 k0_t6 => k0_hw4.2.1.2.2.2.2.2.2.2.2.2.2.2.2.2.2.2.2.2.2.2.2.2.2.2.1 k0_t6
theorem k0_off155_inb : ∀ (v1_1 : BitVec 32) (k0_hw4 : k0_chk4 v1_1) (k0_t6 : Fin (k0_t6_loop v1_1).trips), ∀ a, (k0_off155 v1_1 k0_t6) a + S1x1x1x128.size a ≤ S2x4x1x128.size a := fun v1_1 k0_hw4 k0_t6 => k0_hw4.2.1.2.2.2.2.2.2.2.2.2.2.2.2.2.2.2.2.2.2.2.2.2.2.2.2.1 k0_t6
theorem k0_off156_inb : ∀ (v1_1 : BitVec 32) (k0_hw4 : k0_chk4 v1_1) (k0_t6 : Fin (k0_t6_loop v1_1).trips), ∀ a, (k0_off156 v1_1 k0_t6) a + S1x128x2048.size a ≤ S2x512x2048.size a := fun v1_1 k0_hw4 k0_t6 => k0_hw4.2.1.2.2.2.2.2.2.2.2.2.2.2.2.2.2.2.2.2.2.2.2.2.2.2.2.2.1 k0_t6
theorem k0_off157_inb : ∀ (v1_1 : BitVec 32) (k0_hw4 : k0_chk4 v1_1) (k0_t6 : Fin (k0_t6_loop v1_1).trips), ∀ a, (k0_off157 v1_1 k0_t6) a + S1x1x1x128.size a ≤ S2x4x1x128.size a := fun v1_1 k0_hw4 k0_t6 => k0_hw4.2.1.2.2.2.2.2.2.2.2.2.2.2.2.2.2.2.2.2.2.2.2.2.2.2.2.2.2.1 k0_t6
theorem k0_off158_inb : ∀ (v1_1 : BitVec 32) (k0_hw4 : k0_chk4 v1_1) (k0_t6 : Fin (k0_t6_loop v1_1).trips), ∀ a, (k0_off158 v1_1 k0_t6) a + S1x128x2048.size a ≤ S2x512x2048.size a := fun v1_1 k0_hw4 k0_t6 => k0_hw4.2.1.2.2.2.2.2.2.2.2.2.2.2.2.2.2.2.2.2.2.2.2.2.2.2.2.2.2.2.1 k0_t6
theorem k0_off159_inb : ∀ (v1_1 : BitVec 32) (k0_hw4 : k0_chk4 v1_1) (k0_t6 : Fin (k0_t6_loop v1_1).trips), ∀ a, (k0_off159 v1_1 k0_t6) a + S1x1x1x128.size a ≤ S2x4x1x128.size a := fun v1_1 k0_hw4 k0_t6 => k0_hw4.2.1.2.2.2.2.2.2.2.2.2.2.2.2.2.2.2.2.2.2.2.2.2.2.2.2.2.2.2.2.1 k0_t6
theorem k0_off160_inb : ∀ (v1_1 : BitVec 32) (k0_hw4 : k0_chk4 v1_1) (k0_t6 : Fin (k0_t6_loop v1_1).trips), ∀ a, (k0_off160 v1_1 k0_t6) a + S1x128x2048.size a ≤ S2x512x2048.size a := fun v1_1 k0_hw4 k0_t6 => k0_hw4.2.1.2.2.2.2.2.2.2.2.2.2.2.2.2.2.2.2.2.2.2.2.2.2.2.2.2.2.2.2.2.1 k0_t6
theorem k0_off161_inb : ∀ (v1_1 : BitVec 32) (k0_hw4 : k0_chk4 v1_1) (k0_t6 : Fin (k0_t6_loop v1_1).trips), ∀ a, S1x512x128.size a = 0 ∨ (k0_off161 v1_1 k0_t6) a + (![1, 8, 1] : Fin 3 → Nat) a * (S1x512x128.size a - 1) < S2x4096x128.size a := fun v1_1 k0_hw4 k0_t6 => k0_hw4.2.1.2.2.2.2.2.2.2.2.2.2.2.2.2.2.2.2.2.2.2.2.2.2.2.2.2.2.2.2.2.2.1 k0_t6
theorem k0_off162_inb : ∀ (v1_1 : BitVec 32) (k0_hw4 : k0_chk4 v1_1) (k0_t6 : Fin (k0_t6_loop v1_1).trips), ∀ a, S1x512x128.size a = 0 ∨ (k0_off162 v1_1 k0_t6) a + (![1, 8, 1] : Fin 3 → Nat) a * (S1x512x128.size a - 1) < S2x4096x128.size a := fun v1_1 k0_hw4 k0_t6 => k0_hw4.2.1.2.2.2.2.2.2.2.2.2.2.2.2.2.2.2.2.2.2.2.2.2.2.2.2.2.2.2.2.2.2.2 k0_t6
theorem k0_off163_inb : ∀ (v1_1 : BitVec 32) (k0_hw4 : k0_chk4 v1_1) (k0_t6 : Fin (k0_t6_loop v1_1).trips), ∀ a, S1x512x128.size a = 0 ∨ (k0_off163 v1_1 k0_t6) a + (![1, 8, 1] : Fin 3 → Nat) a * (S1x512x128.size a - 1) < S2x4096x128.size a := fun v1_1 k0_hw4 k0_t6 => k0_hw4.2.2.1 k0_t6
theorem k0_off164_inb : ∀ (v1_1 : BitVec 32) (k0_hw4 : k0_chk4 v1_1) (k0_t6 : Fin (k0_t6_loop v1_1).trips), ∀ a, S1x512x128.size a = 0 ∨ (k0_off164 v1_1 k0_t6) a + (![1, 8, 1] : Fin 3 → Nat) a * (S1x512x128.size a - 1) < S2x4096x128.size a := fun v1_1 k0_hw4 k0_t6 => k0_hw4.2.2.2.1 k0_t6
theorem k0_off165_inb : ∀ (v1_1 : BitVec 32) (k0_hw4 : k0_chk4 v1_1) (k0_t6 : Fin (k0_t6_loop v1_1).trips), ∀ a, S1x512x128.size a = 0 ∨ (k0_off165 v1_1 k0_t6) a + (![1, 8, 1] : Fin 3 → Nat) a * (S1x512x128.size a - 1) < S2x4096x128.size a := fun v1_1 k0_hw4 k0_t6 => k0_hw4.2.2.2.2.1 k0_t6
theorem k0_off166_inb : ∀ (v1_1 : BitVec 32) (k0_hw4 : k0_chk4 v1_1) (k0_t6 : Fin (k0_t6_loop v1_1).trips), ∀ a, S1x512x128.size a = 0 ∨ (k0_off166 v1_1 k0_t6) a + (![1, 8, 1] : Fin 3 → Nat) a * (S1x512x128.size a - 1) < S2x4096x128.size a := fun v1_1 k0_hw4 k0_t6 => k0_hw4.2.2.2.2.2.1 k0_t6
theorem k0_off167_inb : ∀ (v1_1 : BitVec 32) (k0_hw4 : k0_chk4 v1_1) (k0_t6 : Fin (k0_t6_loop v1_1).trips), ∀ a, S1x512x128.size a = 0 ∨ (k0_off167 v1_1 k0_t6) a + (![1, 8, 1] : Fin 3 → Nat) a * (S1x512x128.size a - 1) < S2x4096x128.size a := fun v1_1 k0_hw4 k0_t6 => k0_hw4.2.2.2.2.2.2.1 k0_t6
theorem k0_off168_inb : ∀ (v1_1 : BitVec 32) (k0_hw4 : k0_chk4 v1_1) (k0_t6 : Fin (k0_t6_loop v1_1).trips), ∀ a, S1x512x128.size a = 0 ∨ (k0_off168 v1_1 k0_t6) a + (![1, 8, 1] : Fin 3 → Nat) a * (S1x512x128.size a - 1) < S2x4096x128.size a := fun v1_1 k0_hw4 k0_t6 => k0_hw4.2.2.2.2.2.2.2.1 k0_t6
theorem k0_off169_inb : ∀ (v1_1 : BitVec 32) (k0_hw4 : k0_chk4 v1_1) (k0_t6 : Fin (k0_t6_loop v1_1).trips), ∀ a, (k0_off169 v1_1 k0_t6) a + S1.size a ≤ S224.size a := fun v1_1 k0_hw4 k0_t6 => k0_hw4.2.2.2.2.2.2.2.2.1 k0_t6
theorem k0_off170_inb : ∀ (v1_1 : BitVec 32) (k0_hw4 : k0_chk4 v1_1) (k0_t6 : Fin (k0_t6_loop v1_1).trips), ∀ a, (k0_off170 v1_1 k0_t6) a + S1.size a ≤ S224.size a := fun v1_1 k0_hw4 k0_t6 => k0_hw4.2.2.2.2.2.2.2.2.2.1 k0_t6
theorem k0_off171_inb : ∀ (v1_1 : BitVec 32) (k0_hw4 : k0_chk4 v1_1) (k0_t6 : Fin (k0_t6_loop v1_1).trips), ∀ a, (k0_off171 v1_1 k0_t6) a + S1.size a ≤ S2.size a := fun v1_1 k0_hw4 k0_t6 => k0_hw4.2.2.2.2.2.2.2.2.2.2.1 k0_t6
theorem k0_off173_inb : ∀ (v1_1 : BitVec 32) (k0_hw4 : k0_chk4 v1_1) (k0_t6 : Fin (k0_t6_loop v1_1).trips), ∀ a, (k0_off173 v1_1 k0_t6) a + S1x4096x128.size a ≤ S2x4096x128.size a := fun v1_1 k0_hw4 k0_t6 => k0_hw4.2.2.2.2.2.2.2.2.2.2.2.1 k0_t6
theorem k0_off174_inb : ∀ (v1_1 : BitVec 32) (k0_hw4 : k0_chk4 v1_1), ∀ (k0_h9 : k0_cond9 v1_1 = 1#1), ∀ a, (k0_off174 v1_1) a + S1.size a ≤ S224.size a := fun v1_1 k0_hw4 k0_h9 => k0_hw4.2.2.2.2.2.2.2.2.2.2.2.2.1 k0_h9
theorem k0_off175_inb : ∀ (v1_1 : BitVec 32) (k0_hw4 : k0_chk4 v1_1), ∀ (k0_h9 : k0_cond9 v1_1 = 1#1), ∀ a, (k0_off175 v1_1) a + S1.size a ≤ S224.size a := fun v1_1 k0_hw4 k0_h9 => k0_hw4.2.2.2.2.2.2.2.2.2.2.2.2.2.1 k0_h9
theorem k0_off176_inb : ∀ (v1_1 : BitVec 32) (k0_hw4 : k0_chk4 v1_1), ∀ (k0_h9 : k0_cond9 v1_1 = 1#1), ∀ a, (k0_off176 v1_1) a + S1.size a ≤ S2.size a := fun v1_1 k0_hw4 k0_h9 => k0_hw4.2.2.2.2.2.2.2.2.2.2.2.2.2.2.1 k0_h9
theorem k0_off178_inb : ∀ (v1_1 : BitVec 32) (k0_hw4 : k0_chk4 v1_1), ∀ (k0_h9 : k0_cond9 v1_1 = 1#1), ∀ a, (k0_off178 v1_1) a + S1x4096x128.size a ≤ S2x4096x128.size a := fun v1_1 k0_hw4 k0_h9 => k0_hw4.2.2.2.2.2.2.2.2.2.2.2.2.2.2.2.1 k0_h9
theorem k0_off179_inb : ∀ (v1_1 : BitVec 32) (k0_hw4 : k0_chk4 v1_1), ∀ a, (k0_off179 v1_1) a + S1.size a ≤ S224.size a := fun v1_1 k0_hw4 => k0_hw4.2.2.2.2.2.2.2.2.2.2.2.2.2.2.2.2.1
theorem k0_off180_inb : ∀ (v1_1 : BitVec 32) (k0_hw4 : k0_chk4 v1_1), ∀ a, (k0_off180 v1_1) a + S1.size a ≤ S224.size a := fun v1_1 k0_hw4 => k0_hw4.2.2.2.2.2.2.2.2.2.2.2.2.2.2.2.2.2.1
theorem k0_off181_inb : ∀ (v1_1 : BitVec 32) (k0_hw4 : k0_chk4 v1_1), ∀ a, (k0_off181 v1_1) a + S1.size a ≤ S2.size a := fun v1_1 k0_hw4 => k0_hw4.2.2.2.2.2.2.2.2.2.2.2.2.2.2.2.2.2.2.1
theorem k0_off183_inb : ∀ (v1_1 : BitVec 32) (k0_hw4 : k0_chk4 v1_1), ∀ a, (k0_off183 v1_1) a + S1x4096x128.size a ≤ S2x4096x128.size a := fun v1_1 k0_hw4 => k0_hw4.2.2.2.2.2.2.2.2.2.2.2.2.2.2.2.2.2.2.2

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S98304x2048 : Shape := ⟨2, ![98304, 2048]⟩
abbrev S98304 : Shape := ⟨1, ![98304]⟩
abbrev S16 : Shape := ⟨1, ![16]⟩
abbrev S16x1024x4096 : Shape := ⟨3, ![16, 1024, 4096]⟩
abbrev S16x16x4096 : Shape := ⟨3, ![16, 16, 4096]⟩
abbrev S16x1024x1024 : Shape := ⟨3, ![16, 1024, 1024]⟩
abbrev S16x16x1024 : Shape := ⟨3, ![16, 16, 1024]⟩
abbrev S933888x128 : Shape := ⟨2, ![933888, 128]⟩
abbrev S98304x1 : Shape := ⟨2, ![98304, 1]⟩
abbrev S16x1024x1x1024 : Shape := ⟨4, ![16, 1024, 1, 1024]⟩
abbrev S16x1024x2x1024 : Shape := ⟨4, ![16, 1024, 2, 1024]⟩
abbrev S16x2048x1024 : Shape := ⟨3, ![16, 2048, 1024]⟩
abbrev S16x16x1x1024 : Shape := ⟨4, ![16, 16, 1, 1024]⟩
abbrev S16x16x128x1024 : Shape := ⟨4, ![16, 16, 128, 1024]⟩
abbrev S116736x1024 : Shape := ⟨2, ![116736, 1024]⟩
abbrev S1 : Shape := ⟨1, ![1]⟩
abbrev S1x2048x1024 : Shape := ⟨3, ![1, 2048, 1024]⟩
abbrev S2048x1024 : Shape := ⟨2, ![2048, 1024]⟩
abbrev S98304x1024 : Shape := ⟨2, ![98304, 1024]⟩
abbrev S18432x1024 : Shape := ⟨2, ![18432, 1024]⟩
abbrev S1152x1024 : Shape := ⟨2, ![1152, 1024]⟩
abbrev S17280x1024 : Shape := ⟨2, ![17280, 1024]⟩
abbrev S2304x1024 : Shape := ⟨2, ![2304, 1024]⟩
abbrev S16128x1024 : Shape := ⟨2, ![16128, 1024]⟩
abbrev S3456x1024 : Shape := ⟨2, ![3456, 1024]⟩
abbrev S14976x1024 : Shape := ⟨2, ![14976, 1024]⟩
abbrev S4608x1024 : Shape := ⟨2, ![4608, 1024]⟩
abbrev S13824x1024 : Shape := ⟨2, ![13824, 1024]⟩
abbrev S5760x1024 : Shape := ⟨2, ![5760, 1024]⟩
abbrev S12672x1024 : Shape := ⟨2, ![12672, 1024]⟩
abbrev S6912x1024 : Shape := ⟨2, ![6912, 1024]⟩
abbrev S11520x1024 : Shape := ⟨2, ![11520, 1024]⟩
abbrev S8064x1024 : Shape := ⟨2, ![8064, 1024]⟩
abbrev S10368x1024 : Shape := ⟨2, ![10368, 1024]⟩
abbrev S9216x1024 : Shape := ⟨2, ![9216, 1024]⟩

abbrev nBuf : Space → Nat
  | .hbm => 8
  | .vmem => 5
  | .smem => 1
  | _ => 0

abbrev bufTy : (tb : Table) → Fin (tcTables nBuf tb) → BufTy
  | .hbm, ⟨0, _⟩ => ⟨S98304x2048, .fp8e4m3⟩
  | .hbm, ⟨1, _⟩ => ⟨S98304, .f32⟩
  | .hbm, ⟨2, _⟩ => ⟨S16, .i32⟩
  | .hbm, ⟨3, _⟩ => ⟨S16x1024x4096, .i8⟩
  | .hbm, ⟨4, _⟩ => ⟨S16x16x4096, .bf16⟩
  | .hbm, ⟨5, _⟩ => ⟨S16x1024x1024, .i8⟩
  | .hbm, ⟨6, _⟩ => ⟨S16x16x1024, .bf16⟩
  | .hbm, ⟨7, _⟩ => ⟨S933888x128, .f32⟩
  | .local _ .vmem, ⟨0, _⟩ => ⟨S98304x2048, .fp8e4m3⟩
  | .local _ .vmem, ⟨1, _⟩ => ⟨S98304, .f32⟩
  | .local _ .vmem, ⟨2, _⟩ => ⟨S16x1024x1024, .i8⟩
  | .local _ .vmem, ⟨3, _⟩ => ⟨S16x16x1024, .bf16⟩
  | .local _ .vmem, ⟨4, _⟩ => ⟨S933888x128, .f32⟩
  | .local _ .smem, ⟨0, _⟩ => ⟨S16, .i32⟩
  | _, _ => ⟨S98304x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S98304x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S98304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S16 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024x1024 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S933888x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Kernel1024.lean ====
abbrev S98304x2048 : Shape := ⟨2, ![98304, 2048]⟩
abbrev S98304 : Shape := ⟨1, ![98304]⟩
abbrev S16 : Shape := ⟨1, ![16]⟩
abbrev S16x1024x4096 : Shape := ⟨3, ![16, 1024, 4096]⟩
abbrev S16x16x4096 : Shape := ⟨3, ![16, 16, 4096]⟩
abbrev S768x1x128 : Shape := ⟨3, ![768, 1, 128]⟩
abbrev S933888x128 : Shape := ⟨2, ![933888, 128]⟩
abbrev S224 : Shape := ⟨1, ![224]⟩
abbrev S2x512x2048 : Shape := ⟨3, ![2, 512, 2048]⟩
abbrev S2x4x1x128 : Shape := ⟨4, ![2, 4, 1, 128]⟩
abbrev S2x1024x1024 : Shape := ⟨3, ![2, 1024, 1024]⟩
abbrev S2x16x1024 : Shape := ⟨3, ![2, 16, 1024]⟩
abbrev S2048x1024 : Shape := ⟨2, ![2048, 1024]⟩
abbrev S2x4096x128 : Shape := ⟨3, ![2, 4096, 128]⟩
abbrev S2 : Shape := ⟨1, ![2]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S1x16x1024 : Shape := ⟨3, ![1, 16, 1024]⟩
abbrev S16x1024 : Shape := ⟨2, ![16, 1024]⟩
abbrev S1x512x2048 : Shape := ⟨3, ![1, 512, 2048]⟩
abbrev S512x2048 : Shape := ⟨2, ![512, 2048]⟩
abbrev S1x4x1x128 : Shape := ⟨4, ![1, 4, 1, 128]⟩
abbrev S4x1x128 : Shape := ⟨3, ![4, 1, 128]⟩
abbrev S1x64x1024 : Shape := ⟨3, ![1, 64, 1024]⟩
abbrev S64x1024 : Shape := ⟨2, ![64, 1024]⟩
abbrev S64x1x1024 : Shape := ⟨3, ![64, 1, 1024]⟩
abbrev S64x2x1024 : Shape := ⟨3, ![64, 2, 1024]⟩
abbrev S128x1024 : Shape := ⟨2, ![128, 1024]⟩
abbrev S1x1x1024 : Shape := ⟨3, ![1, 1, 1024]⟩
abbrev S1x1024 : Shape := ⟨2, ![1, 1024]⟩
abbrev S4096x128 : Shape := ⟨2, ![4096, 128]⟩
abbrev S1x4096x128 : Shape := ⟨3, ![1, 4096, 128]⟩
abbrev S1x1x1x128 : Shape := ⟨4, ![1, 1, 1, 128]⟩
abbrev S1x128 : Shape := ⟨2, ![1, 128]⟩
abbrev S128x128 : Shape := ⟨2, ![128, 128]⟩
abbrev S1x128x2048 : Shape := ⟨3, ![1, 128, 2048]⟩
abbrev S128x2048 : Shape := ⟨2, ![128, 2048]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 7
  | .vmem => 6
  | .smem => 3
  | _ => 0

abbrev bufTy : (tb : Table) → Fin (tcTables nBuf tb) → BufTy
  | .hbm, ⟨0, _⟩ => ⟨S98304x2048, .fp8e4m3⟩
  | .hbm, ⟨1, _⟩ => ⟨S98304, .f32⟩
  | .hbm, ⟨2, _⟩ => ⟨S16, .i32⟩
  | .hbm, ⟨3, _⟩ => ⟨S16x1024x4096, .i8⟩
  | .hbm, ⟨4, _⟩ => ⟨S16x16x4096, .bf16⟩
  | .hbm, ⟨5, _⟩ => ⟨S768x1x128, .f32⟩
  | .hbm, ⟨6, _⟩ => ⟨S933888x128, .f32⟩
  | .local _ .vmem, ⟨0, _⟩ => ⟨S2x512x2048, .fp8e4m3⟩
  | .local _ .vmem, ⟨1, _⟩ => ⟨S2x4x1x128, .f32⟩
  | .local _ .vmem, ⟨2, _⟩ => ⟨S2x1024x1024, .i8⟩
  | .local _ .vmem, ⟨3, _⟩ => ⟨S2x16x1024, .bf16⟩
  | .local _ .vmem, ⟨4, _⟩ => ⟨S2048x1024, .bf16⟩
  | .local _ .vmem, ⟨5, _⟩ => ⟨S2x4096x128, .f32⟩
  | .local _ .smem, ⟨0, _⟩ => ⟨S16, .i32⟩
  | .local _ .smem, ⟨1, _⟩ => ⟨S224, .i32⟩
  | .local _ .smem, ⟨2, _⟩ => ⟨S224, .i32⟩
  | _, _ => ⟨S98304x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_scratch2 : Ref sig .tc := ⟨.vmem, 0, rfl⟩
abbrev cc0_scratch3 : Ref sig .tc := ⟨.vmem, 1, rfl⟩
abbrev cc0_scratch4 : Ref sig .tc := ⟨.vmem, 2, rfl⟩
abbrev cc0_scratch5 : Ref sig .tc := ⟨.vmem, 3, rfl⟩
abbrev cc0_scratch6 : Ref sig .tc := ⟨.vmem, 4, rfl⟩
abbrev cc0_scratch7 : Ref sig .tc := ⟨.vmem, 5, rfl⟩
abbrev cc0_stg0_0 : Ref sig .tc := ⟨.smem, 0, rfl⟩
abbrev cc0_scratch0 : Ref sig .tc := ⟨.smem, 1, rfl⟩
abbrev cc0_scratch1 : Ref sig .tc := ⟨.smem, 2, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_1 : BitVec 32 := 0#32
  let c16_i32 : BitVec 32 := 16#32
  let v0 : BitVec 32 := Scalar.addi c0_i32_1 c16_i32
  let c1_i32 : BitVec 32 := 1#32
  ⟨c0_i32_1, v0, c1_i32⟩
def k0_off1 (k0_t1 : Fin k0_t1_loop.trips) : Fin 1 → Nat :=
  let c0_i32_1 : BitVec 32 := 0#32
  let c1_i32 : BitVec 32 := 1#32
  let arg19 : BitVec 32 := Scf.iv c0_i32_1 c1_i32 k0_t1
  let v73 : Index := Scalar.indexCast arg19
  ![v73.toNat]
@[reducible] def k0_t2_loop (arg20 : BitVec 32) (v74 : BitVec 32) : Scf.Loop 32 :=
  let c0_i32_63 : BitVec 32 := 0#32
  let v75 : BitVec 32 := Scalar.addi arg20 v74
  let v94 : BitVec 1 := Scalar.cmpi .sgt v75 arg20
  let c0_i32_47 : BitVec 32 := 0#32
  let v77 : BitVec 1 := Scalar.cmpi .sgt arg20 c0_i32_47
  let v78 : BitVec 32 := Scalar.extui v77
  let c0_i32_48 : BitVec 32 := 0#32
  let v79 : BitVec 1 := Scalar.cmpi .slt arg20 c0_i32_48
  let v80 : BitVec 32 := Scalar.extui v79
  let v81 : BitVec 32 := Scalar.subi v78 v80
  let c128_i32_46 : BitVec 32 := 128#32
  let c0_i32_49 : BitVec 32 := 0#32
  let v82 : BitVec 1 := Scalar.cmpi .sgt c128_i32_46 c0_i32_49
  let v83 : BitVec 32 := Scalar.extui v82
  let c0_i32_50 : BitVec 32 := 0#32
  let v84 : BitVec 1 := Scalar.cmpi .slt c128_i32_46 c0_i32_50
  let v85 : BitVec 32 := Scalar.extui v84
  let v86 : BitVec 32 := Scalar.subi v83 v85
  let v87 : BitVec 1 := Scalar.cmpi .ne v81 v86
  let v88 : BitVec 32 := Scalar.remsi arg20 c128_i32_46
  let c0_i32_51 : BitVec 32 := 0#32
  let v89 : BitVec 1 := Scalar.cmpi .ne v88 c0_i32_51
  let v90 : BitVec 1 := Scalar.andi v87 v89
  let v76 : BitVec 32 := Scalar.divsi arg20 c128_i32_46
  let c1_i32_52 : BitVec 32 := 1#32
  let v91 : BitVec 32 := Scalar.subi v76 c1_i32_52
  let v92 : BitVec 32 := Scalar.select v90 v91 v76
  let c128_i32_53 : BitVec 32 := 128#32
  let v93 : BitVec 32 := Scalar.muli v92 c128_i32_53
  let v95 : BitVec 32 := Scalar.subi v75 v93
  let c512_i32 : BitVec 32 := 512#32
  let v96 : BitVec 32 := Scalar.addi v95 c512_i32
  let c1_i32_54 : BitVec 32 := 1#32
  let v97 : BitVec 32 := Scalar.subi v96 c1_i32_54
  let c0_i32_56 : BitVec 32 := 0#32
  let v99 : BitVec 1 := Scalar.cmpi .sgt v97 c0_i32_56
  let v100 : BitVec 32 := Scalar.extui v99
  let c0_i32_57 : BitVec 32 := 0#32
  let v101 : BitVec 1 := Scalar.cmpi .slt v97 c0_i32_57
  let v102 : BitVec 32 := Scalar.extui v101
  let v103 : BitVec 32 := Scalar.subi v100 v102
  let c512_i32_55 : BitVec 32 := 512#32
  let c0_i32_58 : BitVec 32 := 0#32
  let v104 : BitVec 1 := Scalar.cmpi .sgt c512_i32_55 c0_i32_58
  let v105 : BitVec 32 := Scalar.extui v104
  let c0_i32_59 : BitVec 32 := 0#32
  let v106 : BitVec 1 := Scalar.cmpi .slt c512_i32_55 c0_i32_59
  let v107 : BitVec 32 := Scalar.extui v106
  let v108 : BitVec 32 := Scalar.subi v105 v107
  let v109 : BitVec 1 := Scalar.cmpi .ne v103 v108
  let v110 : BitVec 32 := Scalar.remsi v97 c512_i32_55
  let c0_i32_60 : BitVec 32 := 0#32
  let v111 : BitVec 1 := Scalar.cmpi .ne v110 c0_i32_60
  let v112 : BitVec 1 := Scalar.andi v109 v111
  let v98 : BitVec 32 := Scalar.divsi v97 c512_i32_55
  let c1_i32_61 : BitVec 32 := 1#32
  let v113 : BitVec 32 := Scalar.subi v98 c1_i32_61
  let v114 : BitVec 32 := Scalar.select v112 v113 v98
  let c0_i32_62 : BitVec 32 := 0#32
  let v115 : BitVec 32 := Scalar.select v94 v114 c0_i32_62
  let v116 : BitVec 32 := Scalar.subi v115 c0_i32_63
  let c1_i32_65 : BitVec 32 := 1#32
  let v118 : BitVec 32 := Scalar.divsi v116 c1_i32_65
  let v119 : BitVec 32 := Scalar.muli v118 c1_i32_65
  let v120 : BitVec 32 := Scalar.addi c0_i32_63 v119
  let c1_i32_66 : BitVec 32 := 1#32
  ⟨c0_i32_63, v120, c1_i32_66⟩

def k0_off2 (arg20 : BitVec 32) (arg21 : BitVec 32) (v74 : BitVec 32) (k0_t2 : Fin (k0_t2_loop arg20 v74).trips) : Fin 1 → Nat :=
  let c0_i32_63 : BitVec 32 := 0#32
  let c1_i32_66 : BitVec 32 := 1#32
  let arg22 : BitVec 32 := Scf.iv c0_i32_63 c1_i32_66 k0_t2
  let v126 : BitVec 32 := Scalar.addi arg21 arg22
  let v127 : Index := Scalar.indexCast v126
  ![v127.toNat]
@[reducible] def k0_t3_loop (arg20 : BitVec 32) (v74 : BitVec 32) : Scf.Loop 32 :=
  let c0_i32_63 : BitVec 32 := 0#32
  let v75 : BitVec 32 := Scalar.addi arg20 v74
  let v94 : BitVec 1 := Scalar.cmpi .sgt v75 arg20
  let c0_i32_47 : BitVec 32 := 0#32
  let v77 : BitVec 1 := Scalar.cmpi .sgt arg20 c0_i32_47
  let v78 : BitVec 32 := Scalar.extui v77
  let c0_i32_48 : BitVec 32 := 0#32
  let v79 : BitVec 1 := Scalar.cmpi .slt arg20 c0_i32_48
  let v80 : BitVec 32 := Scalar.extui v79
  let v81 : BitVec 32 := Scalar.subi v78 v80
  let c128_i32_46 : BitVec 32 := 128#32
  let c0_i32_49 : BitVec 32 := 0#32
  let v82 : BitVec 1 := Scalar.cmpi .sgt c128_i32_46 c0_i32_49
  let v83 : BitVec 32 := Scalar.extui v82
  let c0_i32_50 : BitVec 32 := 0#32
  let v84 : BitVec 1 := Scalar.cmpi .slt c128_i32_46 c0_i32_50
  let v85 : BitVec 32 := Scalar.extui v84
  let v86 : BitVec 32 := Scalar.subi v83 v85
  let v87 : BitVec 1 := Scalar.cmpi .ne v81 v86
  let v88 : BitVec 32 := Scalar.remsi arg20 c128_i32_46
  let c0_i32_51 : BitVec 32 := 0#32
  let v89 : BitVec 1 := Scalar.cmpi .ne v88 c0_i32_51
  let v90 : BitVec 1 := Scalar.andi v87 v89
  let v76 : BitVec 32 := Scalar.divsi arg20 c128_i32_46
  let c1_i32_52 : BitVec 32 := 1#32
  let v91 : BitVec 32 := Scalar.subi v76 c1_i32_52
  let v92 : BitVec 32 := Scalar.select v90 v91 v76
  let c128_i32_53 : BitVec 32 := 128#32
  let v93 : BitVec 32 := Scalar.muli v92 c128_i32_53
  let v95 : BitVec 32 := Scalar.subi v75 v93
  let c512_i32 : BitVec 32 := 512#32
  let v96 : BitVec 32 := Scalar.addi v95 c512_i32
  let c1_i32_54 : BitVec 32 := 1#32
  let v97 : BitVec 32 := Scalar.subi v96 c1_i32_54
  let c0_i32_56 : BitVec 32 := 0#32
  let v99 : BitVec 1 := Scalar.cmpi .sgt v97 c0_i32_56
  let v100 : BitVec 32 := Scalar.extui v99
  let c0_i32_57 : BitVec 32 := 0#32
  let v101 : BitVec 1 := Scalar.cmpi .slt v97 c0_i32_57
  let v102 : BitVec 32 := Scalar.extui v101
  let v103 : BitVec 32 := Scalar.subi v100 v102
  let c512_i32_55 : BitVec 32 := 512#32
  let c0_i32_58 : BitVec 32 := 0#32
  let v104 : BitVec 1 := Scalar.cmpi .sgt c512_i32_55 c0_i32_58
  let v105 : BitVec 32 := Scalar.extui v104
  let c0_i32_59 : BitVec 32 := 0#32
  let v106 : BitVec 1 := Scalar.cmpi .slt c512_i32_55 c0_i32_59
  let v107 : BitVec 32 := Scalar.extui v106
  let v108 : BitVec 32 := Scalar.subi v105 v107
  let v109 : BitVec 1 := Scalar.cmpi .ne v103 v108
  let v110 : BitVec 32 := Scalar.remsi v97 c512_i32_55
  let c0_i32_60 : BitVec 32 := 0#32
  let v111 : BitVec 1 := Scalar.cmpi .ne v110 c0_i32_60
  let v112 : BitVec 1 := Scalar.andi v109 v111
  let v98 : BitVec 32 := Scalar.divsi v97 c512_i32_55
  let c1_i32_61 : BitVec 32 := 1#32
  let v113 : BitVec 32 := Scalar.subi v98 c1_i32_61
  let v114 : BitVec 32 := Scalar.select v112 v113 v98
  let c0_i32_62 : BitVec 32 := 0#32
  let v115 : BitVec 32 := Scalar.select v94 v114 c0_i32_62
  let v116 : BitVec 32 := Scalar.subi v115 c0_i32_63
  let c1_i32_65 : BitVec 32 := 1#32
  let v118 : BitVec 32 := Scalar.divsi v116 c1_i32_65
  let v119 : BitVec 32 := Scalar.muli v118 c1_i32_65
  let v120 : BitVec 32 := Scalar.addi c0_i32_63 v119
  let v117 : BitVec 32 := Scalar.addi c0_i32_63 v116
  let c1_i32_67 : BitVec 32 := 1#32
  ⟨v120, v117, c1_i32_67⟩
def k0_off3 (arg20 : BitVec 32) (arg21 : BitVec 32) (v74 : BitVec 32) (k0_t3 : Fin (k0_t3_loop arg20 v74).trips) : Fin 1 → Nat :=
  let c0_i32_63 : BitVec 32 := 0#32
  let v75 : BitVec 32 := Scalar.addi arg20 v74
  let v94 : BitVec 1 := Scalar.cmpi .sgt v75 arg20
  let c0_i32_47 : BitVec 32 := 0#32
  let v77 : BitVec 1 := Scalar.cmpi .sgt arg20 c0_i32_47
  let v78 : BitVec 32 := Scalar.extui v77
  let c0_i32_48 : BitVec 32 := 0#32
  let v79 : BitVec 1 := Scalar.cmpi .slt arg20 c0_i32_48
  let v80 : BitVec 32 := Scalar.extui v79
  let v81 : BitVec 32 := Scalar.subi v78 v80
  let c128_i32_46 : BitVec 32 := 128#32
  let c0_i32_49 : BitVec 32 := 0#32
  let v82 : BitVec 1 := Scalar.cmpi .sgt c128_i32_46 c0_i32_49
  let v83 : BitVec 32 := Scalar.extui v82
  let c0_i32_50 : BitVec 32 := 0#32
  let v84 : BitVec 1 := Scalar.cmpi .slt c128_i32_46 c0_i32_50
  let v85 : BitVec 32 := Scalar.extui v84
  let v86 : BitVec 32 := Scalar.subi v83 v85
  let v87 : BitVec 1 := Scalar.cmpi .ne v81 v86
  let v88 : BitVec 32 := Scalar.remsi arg20 c128_i32_46
  let c0_i32_51 : BitVec 32 := 0#32
  let v89 : BitVec 1 := Scalar.cmpi .ne v88 c0_i32_51
  let v90 : BitVec 1 := Scalar.andi v87 v89
  let v76 : BitVec 32 := Scalar.divsi arg20 c128_i32_46
  let c1_i32_52 : BitVec 32 := 1#32
  let v91 : BitVec 32 := Scalar.subi v76 c1_i32_52
  let v92 : BitVec 32 := Scalar.select v90 v91 v76
  let c128_i32_53 : BitVec 32 := 128#32
  let v93 : BitVec 32 := Scalar.muli v92 c128_i32_53
  let v95 : BitVec 32 := Scalar.subi v75 v93
  let c512_i32 : BitVec 32 := 512#32
  let v96 : BitVec 32 := Scalar.addi v95 c512_i32
  let c1_i32_54 : BitVec 32 := 1#32
  let v97 : BitVec 32 := Scalar.subi v96 c1_i32_54
  let c0_i32_56 : BitVec 32 := 0#32
  let v99 : BitVec 1 := Scalar.cmpi .sgt v97 c0_i32_56
  let v100 : BitVec 32 := Scalar.extui v99
  let c0_i32_57 : BitVec 32 := 0#32
  let v101 : BitVec 1 := Scalar.cmpi .slt v97 c0_i32_57
  let v102 : BitVec 32 := Scalar.extui v101
  let v103 : BitVec 32 := Scalar.subi v100 v102
  let c512_i32_55 : BitVec 32 := 512#32
  let c0_i32_58 : BitVec 32 := 0#32
  let v104 : BitVec 1 := Scalar.cmpi .sgt c512_i32_55 c0_i32_58
  let v105 : BitVec 32 := Scalar.extui v104
  let c0_i32_59 : BitVec 32 := 0#32
  let v106 : BitVec 1 := Scalar.cmpi .slt c512_i32_55 c0_i32_59
  let v107 : BitVec 32 := Scalar.extui v106
  let v108 : BitVec 32 := Scalar.subi v105 v107
  let v109 : BitVec 1 := Scalar.cmpi .ne v103 v108
  let v110 : BitVec 32 := Scalar.remsi v97 c512_i32_55
  let c0_i32_60 : BitVec 32 := 0#32
  let v111 : BitVec 1 := Scalar.cmpi .ne v110 c0_i32_60
  let v112 : BitVec 1 := Scalar.andi v109 v111
  let v98 : BitVec 32 := Scalar.divsi v97 c512_i32_55
  let c1_i32_61 : BitVec 32 := 1#32
  let v113 : BitVec 32 := Scalar.subi v98 c1_i32_61
  let v114 : BitVec 32 := Scalar.select v112 v113 v98
  let c0_i32_62 : BitVec 32 := 0#32
  let v115 : BitVec 32 := Scalar.select v94 v114 c0_i32_62
  let v116 : BitVec 32 := Scalar.subi v115 c0_i32_63
  let c1_i32_65 : BitVec 32 := 1#32
  let v118 : BitVec 32 := Scalar.divsi v116 c1_i32_65
  let v119 : BitVec 32 := Scalar.muli v118 c1_i32_65
  let v120 : BitVec 32 := Scalar.addi c0_i32_63 v119
  let c1_i32_67 : BitVec 32 := 1#32
  let arg22 : BitVec 32 := Scf.iv v120 c1_i32_67 k0_t3
  let v126 : BitVec 32 := Scalar.addi arg21 arg22
  let v127 : Index := Scalar.indexCast v126
  ![v127.toNat]

def k0_chk1 (arg20 : BitVec 32) (arg21 : BitVec 32) (v74 : BitVec 32) : Prop :=
  ((k0_t2_loop arg20 v74).OK) ∧
  (∀ k0_t2 : Fin (k0_t2_loop arg20 v74).trips, ∀ a, (k0_off2 arg20 arg21 v74 k0_t2) a + S1.size a ≤ S224.size a) ∧
  ((k0_t3_loop arg20 v74).OK) ∧
  (∀ k0_t3 : Fin (k0_t3_loop arg20 v74).trips, ∀ a, (k0_off3 arg20 arg21 v74 k0_t3) a + S1.size a ≤ S224.size a)
theorem k0_t2_ok : ∀ (arg20 : BitVec 32) (arg21 : BitVec 32) (v74 : BitVec 32) (k0_hw1 : k0_chk1 arg20 arg21 v74), (k0_t2_loop arg20 v74).OK := fun arg20 arg21 v74 k0_hw1 => k0_hw1.1
theorem k0_off2_inb : ∀ (arg20 : BitVec 32) (arg21 : BitVec 32) (v74 : BitVec 32) (k0_hw1 : k0_chk1 arg20 arg21 v74) (k0_t2 : Fin (k0_t2_loop arg20 v74).trips), ∀ a, (k0_off2 arg20 arg21 v74 k0_t2) a + S1.size a ≤ S224.size a := fun arg20 arg21 v74 k0_hw1 k0_t2 => k0_hw1.2.1 k0_t2
theorem k0_t3_ok : ∀ (arg20 : BitVec 32) (arg21 : BitVec 32) (v74 : BitVec 32) (k0_hw1 : k0_chk1 arg20 arg21 v74), (k0_t3_loop arg20 v74).OK := fun arg20 arg21 v74 k0_hw1 => k0_hw1.2.2.1
theorem k0_off3_inb : ∀ (arg20 : BitVec 32) (arg21 : BitVec 32) (v74 : BitVec 32) (k0_hw1 : k0_chk1 arg20 arg21 v74) (k0_t3 : Fin (k0_t3_loop arg20 v74).trips), ∀ a, (k0_off3 arg20 arg21 v74 k0_t3) a + S1.size a ≤ S224.size a := fun arg20 arg21 v74 k0_hw1 k0_t3 => k0_hw1.2.2.2 k0_t3

def k0_off4 (v2 : BitVec 32) : Fin 3 → Nat :=
  let c0_i32_7 : BitVec 32 := 0#32
  let c1024_i32 : BitVec 32 := 1024#32
  ![v2.toNat, 0, 1024]

def k0_off5 (v2 : BitVec 32) : Fin 3 → Nat :=
  let c0_i32_12 : BitVec 32 := 0#32
  let c1024_i32_13 : BitVec 32 := 1024#32
  ![v2.toNat, 0, 1024]

def k0_chk2 (v2 : BitVec 32) : Prop :=
  (∀ a, (k0_off4 v2) a + S1x1024x1024.size a ≤ S16x1024x4096.size a) ∧
  (∀ (hinb : ∀ a, (k0_off4 v2) a + S1x1024x1024.size a ≤ S16x1024x4096.size a), (Rect.unit (s := S16x1024x4096) (k0_off4 v2) S1x1024x1024.size hinb).WholeWords (EltTy.packing .i8)) ∧
  (∀ a, (k0_off5 v2) a + S1x16x1024.size a ≤ S16x16x4096.size a) ∧
  (∀ (hinb : ∀ a, (k0_off5 v2) a + S1x16x1024.size a ≤ S16x16x4096.size a), (Rect.unit (s := S16x16x4096) (k0_off5 v2) S1x16x1024.size hinb).WholeWords (EltTy.packing .bf16))
theorem k0_off4_inb : ∀ (v2 : BitVec 32) (k0_hw2 : k0_chk2 v2), ∀ a, (k0_off4 v2) a + S1x1024x1024.size a ≤ S16x1024x4096.size a := fun v2 k0_hw2 => k0_hw2.1
theorem k0_off4_wordsi8 : ∀ (v2 : BitVec 32) (k0_hw2 : k0_chk2 v2), (Rect.unit (s := S16x1024x4096) (k0_off4 v2) S1x1024x1024.size (k0_off4_inb v2 k0_hw2)).WholeWords (EltTy.packing .i8) := fun v2 k0_hw2 => k0_hw2.2.1 (k0_off4_inb v2 k0_hw2)
theorem k0_off5_inb : ∀ (v2 : BitVec 32) (k0_hw2 : k0_chk2 v2), ∀ a, (k0_off5 v2) a + S1x16x1024.size a ≤ S16x16x4096.size a := fun v2 k0_hw2 => k0_hw2.2.2.1
theorem k0_off5_wordsbf16 : ∀ (v2 : BitVec 32) (k0_hw2 : k0_chk2 v2), (Rect.unit (s := S16x16x4096) (k0_off5 v2) S1x16x1024.size (k0_off5_inb v2 k0_hw2)).WholeWords (EltTy.packing .bf16) := fun v2 k0_hw2 => k0_hw2.2.2.2 (k0_off5_inb v2 k0_hw2)

def k0_mult1 (v15 : BitVec 32) : BitVec 32 :=
  let c97792_i32 : BitVec 32 := 97792#32
  let v16 : BitVec 32 := Scalar.minsi v15 c97792_i32
  v16

def k0_off6 (v15 : BitVec 32) : Fin 2 → Nat :=
  let c97792_i32 : BitVec 32 := 97792#32
  let v16 : BitVec 32 := Scalar.minsi v15 c97792_i32
  let v17 : BitVec 32 := v16
  let c0_i32_25 : BitVec 32 := 0#32
  ![v17.toNat, 0]
def k0_off7 (v15 : BitVec 32) : Fin 3 → Nat :=
  let c97792_i32 : BitVec 32 := 97792#32
  let v16 : BitVec 32 := Scalar.minsi v15 c97792_i32
  let v17 : BitVec 32 := v16
  let c0_i32_15 : BitVec 32 := 0#32
  let v19 : BitVec 1 := Scalar.cmpi .sgt v17 c0_i32_15
  let v20 : BitVec 32 := Scalar.extui v19
  let c0_i32_16 : BitVec 32 := 0#32
  let v21 : BitVec 1 := Scalar.cmpi .slt v17 c0_i32_16
  let v22 : BitVec 32 := Scalar.extui v21
  let v23 : BitVec 32 := Scalar.subi v20 v22
  let c128_i32 : BitVec 32 := 128#32
  let c0_i32_17 : BitVec 32 := 0#32
  let v24 : BitVec 1 := Scalar.cmpi .sgt c128_i32 c0_i32_17
  let v25 : BitVec 32 := Scalar.extui v24
  let c0_i32_18 : BitVec 32 := 0#32
  let v26 : BitVec 1 := Scalar.cmpi .slt c128_i32 c0_i32_18
  let v27 : BitVec 32 := Scalar.extui v26
  let v28 : BitVec 32 := Scalar.subi v25 v27
  let v29 : BitVec 1 := Scalar.cmpi .ne v23 v28
  let v30 : BitVec 32 := Scalar.remsi v17 c128_i32
  let c0_i32_19 : BitVec 32 := 0#32
  let v31 : BitVec 1 := Scalar.cmpi .ne v30 c0_i32_19
  let v32 : BitVec 1 := Scalar.andi v29 v31
  let v18 : BitVec 32 := Scalar.divsi v17 c128_i32
  let c1_i32_20 : BitVec 32 := 1#32
  let v33 : BitVec 32 := Scalar.subi v18 c1_i32_20
  let v34 : BitVec 32 := Scalar.select v32 v33 v18
  let c0_i32_31 : BitVec 32 := 0#32
  let c0_i32_32 : BitVec 32 := 0#32
  ![v34.toNat, 0, 0]

def k0_chk3 (v15 : BitVec 32) : Prop :=
  (128 ∣ (k0_mult1 v15).toNat) ∧
  (∀ a, (k0_off6 v15) a + S512x2048.size a ≤ S98304x2048.size a) ∧
  (∀ (hinb : ∀ a, (k0_off6 v15) a + S512x2048.size a ≤ S98304x2048.size a), (Rect.unit (s := S98304x2048) (k0_off6 v15) S512x2048.size hinb).WholeWords (EltTy.packing .fp8e4m3)) ∧
  (∀ a, (k0_off7 v15) a + S4x1x128.size a ≤ S768x1x128.size a)
theorem k0_mult1_dvd : ∀ (v15 : BitVec 32) (k0_hw3 : k0_chk3 v15), 128 ∣ (k0_mult1 v15).toNat := fun v15 k0_hw3 => k0_hw3.1
theorem k0_off6_inb : ∀ (v15 : BitVec 32) (k0_hw3 : k0_chk3 v15), ∀ a, (k0_off6 v15) a + S512x2048.size a ≤ S98304x2048.size a := fun v15 k0_hw3 => k0_hw3.2.1
theorem k0_off6_wordsfp8e4m3 : ∀ (v15 : BitVec 32) (k0_hw3 : k0_chk3 v15), (Rect.unit (s := S98304x2048) (k0_off6 v15) S512x2048.size (k0_off6_inb v15 k0_hw3)).WholeWords (EltTy.packing .fp8e4m3) := fun v15 k0_hw3 => k0_hw3.2.2.1 (k0_off6_inb v15 k0_hw3)
theorem k0_off7_inb : ∀ (v15 : BitVec 32) (k0_hw3 : k0_chk3 v15), ∀ a, (k0_off7 v15) a + S4x1x128.size a ≤ S768x1x128.size a := fun v15 k0_hw3 => k0_hw3.2.2.2

@[reducible] def k0_t4_loop (v1_1 : BitVec 32) : Scf.Loop 32 :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_36 : BitVec 32 := 1#32
  ⟨c0_i32_33, v49, c1_i32_36⟩

def k0_off8 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let v74 : Index := Scalar.indexCast arg19
  ![v74.toNat]
def k0_off9 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let c1_i32_48 : BitVec 32 := 1#32
  let v77 : BitVec 32 := Scalar.subi arg19 c1_i32_48
  let c0_i32_49 : BitVec 32 := 0#32
  let v78 : BitVec 32 := Scalar.maxsi v77 c0_i32_49
  let v79 : Index := Scalar.indexCast v78
  ![v79.toNat]
def k0_off10 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let c1_i32_106 : BitVec 32 := 1#32
  let v359 : BitVec 32 := Scalar.addi arg19 c1_i32_106
  let v361 : Index := Scalar.indexCast v359
  ![v361.toNat]
def k0_cond1 (v1_1 : BitVec 32) (k0_t4 : Fin (k0_t4_loop v1_1).trips) : BitVec 1 :=
  let c0_i32_33 : BitVec 32 := 0#32
  let c1_i32_36 : BitVec 32 := 1#32
  let arg19 : BitVec 32 := Scf.iv c0_i32_33 c1_i32_36 k0_t4
  let c1_i32_50 : BitVec 32 := 1#32
  let v83 : BitVec 32 := Scalar.addi arg19 c1_i32_50
  let v84 : BitVec 1 := Scalar.cmpi .slt v83 v1_1
  let v85 : BitVec 32 := Scalar.extui v84
  let c0_i32_51 : BitVec 32 := 0#32
  let v86 : BitVec 1 := Scalar.cmpi .ne v85 c0_i32_51
  v86

def k0_mult2 (v362 : BitVec 32) : BitVec 32 :=
  let c97792_i32_108 : BitVec 32 := 97792#32
  let v363 : BitVec 32 := Scalar.minsi v362 c97792_i32_108
  v363

def k0_off11 (v1_1 : BitVec 32) (k0_t4 : Fin (k0_t4_loop v1_1).trips) : Fin 1 → Nat :=
  let c1_i32_107 : BitVec 32 := 1#32
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v360 : BitVec 32 := Scalar.subi c1_i32_107 v73
  ![v360.toNat]
def k0_off12 (v1_1 : BitVec 32) (k0_t4 : Fin (k0_t4_loop v1_1).trips) : Fin 3 → Nat :=
  let c1_i32_107 : BitVec 32 := 1#32
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v360 : BitVec 32 := Scalar.subi c1_i32_107 v73
  let c0_i32_116 : BitVec 32 := 0#32
  let c0_i32_117 : BitVec 32 := 0#32
  ![v360.toNat, 0, 0]
def k0_off13 (v362 : BitVec 32) : Fin 2 → Nat :=
  let c97792_i32_108 : BitVec 32 := 97792#32
  let v363 : BitVec 32 := Scalar.minsi v362 c97792_i32_108
  let v364 : BitVec 32 := v363
  let c0_i32_118 : BitVec 32 := 0#32
  ![v364.toNat, 0]
def k0_off14 (v1_1 : BitVec 32) (k0_t4 : Fin (k0_t4_loop v1_1).trips) : Fin 4 → Nat :=
  let c1_i32_107 : BitVec 32 := 1#32
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v360 : BitVec 32 := Scalar.subi c1_i32_107 v73
  let c0_i32_119 : BitVec 32 := 0#32
  let c0_i32_120 : BitVec 32 := 0#32
  let c0_i32_121 : BitVec 32 := 0#32
  ![v360.toNat, 0, 0, 0]
def k0_off15 (v362 : BitVec 32) : Fin 3 → Nat :=
  let c97792_i32_108 : BitVec 32 := 97792#32
  let v363 : BitVec 32 := Scalar.minsi v362 c97792_i32_108
  let v364 : BitVec 32 := v363
  let c0_i32_110 : BitVec 32 := 0#32
  let v366 : BitVec 1 := Scalar.cmpi .sgt v364 c0_i32_110
  let v367 : BitVec 32 := Scalar.extui v366
  let c0_i32_111 : BitVec 32 := 0#32
  let v368 : BitVec 1 := Scalar.cmpi .slt v364 c0_i32_111
  let v369 : BitVec 32 := Scalar.extui v368
  let v370 : BitVec 32 := Scalar.subi v367 v369
  let c128_i32_109 : BitVec 32 := 128#32
  let c0_i32_112 : BitVec 32 := 0#32
  let v371 : BitVec 1 := Scalar.cmpi .sgt c128_i32_109 c0_i32_112
  let v372 : BitVec 32 := Scalar.extui v371
  let c0_i32_113 : BitVec 32 := 0#32
  let v373 : BitVec 1 := Scalar.cmpi .slt c128_i32_109 c0_i32_113
  let v374 : BitVec 32 := Scalar.extui v373
  let v375 : BitVec 32 := Scalar.subi v372 v374
  let v376 : BitVec 1 := Scalar.cmpi .ne v370 v375
  let v377 : BitVec 32 := Scalar.remsi v364 c128_i32_109
  let c0_i32_114 : BitVec 32 := 0#32
  let v378 : BitVec 1 := Scalar.cmpi .ne v377 c0_i32_114
  let v379 : BitVec 1 := Scalar.andi v376 v378
  let v365 : BitVec 32 := Scalar.divsi v364 c128_i32_109
  let c1_i32_115 : BitVec 32 := 1#32
  let v380 : BitVec 32 := Scalar.subi v365 c1_i32_115
  let v381 : BitVec 32 := Scalar.select v379 v380 v365
  let c0_i32_122 : BitVec 32 := 0#32
  let c0_i32_123 : BitVec 32 := 0#32
  ![v381.toNat, 0, 0]

def k0_chk5 (v1_1 : BitVec 32) (k0_t4 : Fin (k0_t4_loop v1_1).trips) (v362 : BitVec 32) : Prop :=
  (∀ (k0_h1 : k0_cond1 v1_1 k0_t4 = 1#1), 128 ∣ (k0_mult2 v362).toNat) ∧
  (∀ (k0_h1 : k0_cond1 v1_1 k0_t4 = 1#1), ∀ a, (k0_off13 v362) a + S512x2048.size a ≤ S98304x2048.size a) ∧
  (∀ (k0_h1 : k0_cond1 v1_1 k0_t4 = 1#1), ∀ (hinb : ∀ a, (k0_off13 v362) a + S512x2048.size a ≤ S98304x2048.size a), (Rect.unit (s := S98304x2048) (k0_off13 v362) S512x2048.size hinb).WholeWords (EltTy.packing .fp8e4m3)) ∧
  (∀ (k0_h1 : k0_cond1 v1_1 k0_t4 = 1#1), ∀ a, (k0_off15 v362) a + S4x1x128.size a ≤ S768x1x128.size a)
theorem k0_mult2_dvd : ∀ (v1_1 : BitVec 32) (k0_t4 : Fin (k0_t4_loop v1_1).trips) (v362 : BitVec 32) (k0_hw5 : k0_chk5 v1_1 k0_t4 v362), ∀ (k0_h1 : k0_cond1 v1_1 k0_t4 = 1#1), 128 ∣ (k0_mult2 v362).toNat := fun v1_1 k0_t4 v362 k0_hw5 k0_h1 => k0_hw5.1 k0_h1
theorem k0_off13_inb : ∀ (v1_1 : BitVec 32) (k0_t4 : Fin (k0_t4_loop v1_1).trips) (v362 : BitVec 32) (k0_hw5 : k0_chk5 v1_1 k0_t4 v362), ∀ (k0_h1 : k0_cond1 v1_1 k0_t4 = 1#1), ∀ a, (k0_off13 v362) a + S512x2048.size a ≤ S98304x2048.size a := fun v1_1 k0_t4 v362 k0_hw5 k0_h1 => k0_hw5.2.1 k0_h1
theorem k0_off13_wordsfp8e4m3 : ∀ (v1_1 : BitVec 32) (k0_t4 : Fin (k0_t4_loop v1_1).trips) (v362 : BitVec 32) (k0_hw5 : k0_chk5 v1_1 k0_t4 v362), ∀ (k0_h1 : k0_cond1 v1_1 k0_t4 = 1#1), (Rect.unit (s := S98304x2048) (k0_off13 v362) S512x2048.size (k0_off13_inb v1_1 k0_t4 v362 k0_hw5 k0_h1)).WholeWords (EltTy.packing .fp8e4m3) := fun v1_1 k0_t4 v362 k0_hw5 k0_h1 => k0_hw5.2.2.1 k0_h1 (k0_off13_inb v1_1 k0_t4 v362 k0_hw5 k0_h1)
theorem k0_off15_inb : ∀ (v1_1 : BitVec 32) (k0_t4 : Fin (k0_t4_loop v1_1).trips) (v362 : BitVec 32) (k0_hw5 : k0_chk5 v1_1 k0_t4 v362), ∀ (k0_h1 : k0_cond1 v1_1 k0_t4 = 1#1), ∀ a, (k0_off15 v362) a + S4x1x128.size a ≤ S768x1x128.size a := fun v1_1 k0_t4 v362 k0_hw5 k0_h1 => k0_hw5.2.2.2 k0_h1

def k0_off16 (arg20 : BitVec 32) : Fin 1 → Nat :=
  ![arg20.toNat]
def k0_cond2 (v1_1 : BitVec 32) (k0_t4 : Fin (k0_t4_loop v1_1).trips) (v75 : BitVec 32) (v80 : BitVec 32) : BitVec 1 :=
  let c0_i32_33 : BitVec 32 := 0#32
  let c1_i32_36 : BitVec 32 := 1#32
  let arg19 : BitVec 32 := Scf.iv c0_i32_33 c1_i32_36 k0_t4
  let c0_i32_47 : BitVec 32 := 0#32
  let v76 : BitVec 1 := Scalar.cmpi .eq arg19 c0_i32_47
  let v81 : BitVec 1 := Scalar.cmpi .ne v80 v75
  let v82 : BitVec 1 := Scalar.ori v76 v81
  let v87 : BitVec 32 := Scalar.extui v82
  let c0_i32_52 : BitVec 32 := 0#32
  let v88 : BitVec 1 := Scalar.cmpi .ne v87 c0_i32_52
  v88

def k0_off17 (arg20 : BitVec 32) : Fin 3 → Nat :=
  let c0_i32_106 : BitVec 32 := 0#32
  let c0_i32_107 : BitVec 32 := 0#32
  ![arg20.toNat, 0, 0]
def k0_off18 (v75 : BitVec 32) : Fin 3 → Nat :=
  let c0_i32_108 : BitVec 32 := 0#32
  let c1024_i32_109 : BitVec 32 := 1024#32
  ![v75.toNat, 0, 1024]
def k0_off19 (arg20 : BitVec 32) : Fin 3 → Nat :=
  let c0_i32_110 : BitVec 32 := 0#32
  let c0_i32_111 : BitVec 32 := 0#32
  ![arg20.toNat, 0, 0]
def k0_off20 (v75 : BitVec 32) : Fin 3 → Nat :=
  let c0_i32_112 : BitVec 32 := 0#32
  let c1024_i32_113 : BitVec 32 := 1024#32
  ![v75.toNat, 0, 1024]
@[reducible] def k0_t5_loop : Scf.Loop 32 :=
  let c0_i32_115 : BitVec 32 := 0#32
  let c16_i32_116 : BitVec 32 := 16#32
  let v371 : BitVec 32 := Scalar.addi c0_i32_115 c16_i32_116
  let c1_i32_117 : BitVec 32 := 1#32
  ⟨c0_i32_115, v371, c1_i32_117⟩
def k0_off21 (k0_t5 : Fin k0_t5_loop.trips) : Fin 1 → Nat :=
  let c15_i32_251 : BitVec 32 := 15#32
  let c0_i32_115 : BitVec 32 := 0#32
  let c1_i32_117 : BitVec 32 := 1#32
  let arg21 : BitVec 32 := Scf.iv c0_i32_115 c1_i32_117 k0_t5
  let v778 : BitVec 32 := Scalar.subi c15_i32_251 arg21
  let v779 : Index := Scalar.indexCast v778
  ![v779.toNat]
def k0_off22 (arg20 : BitVec 32) : Fin 1 → Nat :=
  let c1_i32_251 : BitVec 32 := 1#32
  let v776 : BitVec 32 := Scalar.subi c1_i32_251 arg20
  ![v776.toNat]
def k0_cond3 (v372 : BitVec 32) : BitVec 1 :=
  let c16_i32_119 : BitVec 32 := 16#32
  let v373 : BitVec 1 := Scalar.cmpi .slt v372 c16_i32_119
  let v374 : BitVec 32 := Scalar.extui v373
  let c0_i32_120 : BitVec 32 := 0#32
  let v375 : BitVec 1 := Scalar.cmpi .ne v374 c0_i32_120
  v375

def k0_off23 (arg20 : BitVec 32) : Fin 3 → Nat :=
  let c1_i32_251 : BitVec 32 := 1#32
  let v776 : BitVec 32 := Scalar.subi c1_i32_251 arg20
  let c0_i32_252 : BitVec 32 := 0#32
  let c0_i32_253 : BitVec 32 := 0#32
  ![v776.toNat, 0, 0]
def k0_off24 (v372 : BitVec 32) : Fin 3 → Nat :=
  let c0_i32_254 : BitVec 32 := 0#32
  let c1024_i32_255 : BitVec 32 := 1024#32
  ![v372.toNat, 0, 1024]
def k0_off25 (arg20 : BitVec 32) : Fin 3 → Nat :=
  let c1_i32_251 : BitVec 32 := 1#32
  let v776 : BitVec 32 := Scalar.subi c1_i32_251 arg20
  let c0_i32_256 : BitVec 32 := 0#32
  let c0_i32_257 : BitVec 32 := 0#32
  ![v776.toNat, 0, 0]
def k0_off26 (v372 : BitVec 32) : Fin 3 → Nat :=
  let c0_i32_258 : BitVec 32 := 0#32
  let c1024_i32_259 : BitVec 32 := 1024#32
  ![v372.toNat, 0, 1024]

def k0_chk7 (v1_1 : BitVec 32) (k0_t4 : Fin (k0_t4_loop v1_1).trips) (arg20 : BitVec 32) (v75 : BitVec 32) (v80 : BitVec 32) (v372 : BitVec 32) : Prop :=
  (∀ (k0_h2 : k0_cond2 v1_1 k0_t4 v75 v80 = 1#1), ∀ (k0_h3 : k0_cond3 v372 = 1#1), ∀ a, (k0_off22 arg20) a + S1.size a ≤ S2.size a) ∧
  (∀ (k0_h2 : k0_cond2 v1_1 k0_t4 v75 v80 = 1#1), ∀ (k0_h3 : k0_cond3 v372 = 1#1), ∀ a, (k0_off23 arg20) a + S1x1024x1024.size a ≤ S2x1024x1024.size a) ∧
  (∀ (k0_h2 : k0_cond2 v1_1 k0_t4 v75 v80 = 1#1), ∀ (k0_h3 : k0_cond3 v372 = 1#1), ∀ a, (k0_off24 v372) a + S1x1024x1024.size a ≤ S16x1024x4096.size a) ∧
  (∀ (k0_h2 : k0_cond2 v1_1 k0_t4 v75 v80 = 1#1), ∀ (k0_h3 : k0_cond3 v372 = 1#1), ∀ (hinb : ∀ a, (k0_off24 v372) a + S1x1024x1024.size a ≤ S16x1024x4096.size a), (Rect.unit (s := S16x1024x4096) (k0_off24 v372) S1x1024x1024.size hinb).WholeWords (EltTy.packing .i8)) ∧
  (∀ (k0_h2 : k0_cond2 v1_1 k0_t4 v75 v80 = 1#1), ∀ (k0_h3 : k0_cond3 v372 = 1#1), ∀ (hinb : ∀ a, (k0_off23 arg20) a + S1x1024x1024.size a ≤ S2x1024x1024.size a), (Rect.unit (s := S2x1024x1024) (k0_off23 arg20) S1x1024x1024.size hinb).WholeWords (EltTy.packing .i8)) ∧
  (∀ (k0_h2 : k0_cond2 v1_1 k0_t4 v75 v80 = 1#1), ∀ (k0_h3 : k0_cond3 v372 = 1#1), ∀ a, (k0_off25 arg20) a + S1x16x1024.size a ≤ S2x16x1024.size a) ∧
  (∀ (k0_h2 : k0_cond2 v1_1 k0_t4 v75 v80 = 1#1), ∀ (k0_h3 : k0_cond3 v372 = 1#1), ∀ a, (k0_off26 v372) a + S1x16x1024.size a ≤ S16x16x4096.size a) ∧
  (∀ (k0_h2 : k0_cond2 v1_1 k0_t4 v75 v80 = 1#1), ∀ (k0_h3 : k0_cond3 v372 = 1#1), ∀ (hinb : ∀ a, (k0_off26 v372) a + S1x16x1024.size a ≤ S16x16x4096.size a), (Rect.unit (s := S16x16x4096) (k0_off26 v372) S1x16x1024.size hinb).WholeWords (EltTy.packing .bf16)) ∧
  (∀ (k0_h2 : k0_cond2 v1_1 k0_t4 v75 v80 = 1#1), ∀ (k0_h3 : k0_cond3 v372 = 1#1), ∀ (hinb : ∀ a, (k0_off25 arg20) a + S1x16x1024.size a ≤ S2x16x1024.size a), (Rect.unit (s := S2x16x1024) (k0_off25 arg20) S1x16x1024.size hinb).WholeWords (EltTy.packing .bf16))
theorem k0_off22_inb : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), ∀ a, (k0_off22 arg20) a + S1.size a ≤ S2.size a := fun v1_1 k0_t4 arg20 v75 v80 v372 k0_hw7 k0_h2 k0_h3 => k0_hw7.1 k0_h2 k0_h3
theorem k0_off23_inb : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), ∀ a, (k0_off23 arg20) a + S1x1024x1024.size a ≤ S2x1024x1024.size a := fun v1_1 k0_t4 arg20 v75 v80 v372 k0_hw7 k0_h2 k0_h3 => k0_hw7.2.1 k0_h2 k0_h3
theorem k0_off24_inb : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), ∀ a, (k0_off24 v372) a + S1x1024x1024.size a ≤ S16x1024x4096.size a := fun v1_1 k0_t4 arg20 v75 v80 v372 k0_hw7 k0_h2 k0_h3 => k0_hw7.2.2.1 k0_h2 k0_h3
theorem k0_off24_wordsi8 : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), (Rect.unit (s := S16x1024x4096) (k0_off24 v372) S1x1024x1024.size (k0_off24_inb v1_1 k0_t4 arg20 v75 v80 v372 k0_hw7 k0_h2 k0_h3)).WholeWords (EltTy.packing .i8) := fun v1_1 k0_t4 arg20 v75 v80 v372 k0_hw7 k0_h2 k0_h3 => k0_hw7.2.2.2.1 k0_h2 k0_h3 (k0_off24_inb v1_1 k0_t4 arg20 v75 v80 v372 k0_hw7 k0_h2 k0_h3)
theorem k0_off23_wordsi8 : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), (Rect.unit (s := S2x1024x1024) (k0_off23 arg20) S1x1024x1024.size (k0_off23_inb v1_1 k0_t4 arg20 v75 v80 v372 k0_hw7 k0_h2 k0_h3)).WholeWords (EltTy.packing .i8) := fun v1_1 k0_t4 arg20 v75 v80 v372 k0_hw7 k0_h2 k0_h3 => k0_hw7.2.2.2.2.1 k0_h2 k0_h3 (k0_off23_inb v1_1 k0_t4 arg20 v75 v80 v372 k0_hw7 k0_h2 k0_h3)
theorem k0_off25_inb : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), ∀ a, (k0_off25 arg20) a + S1x16x1024.size a ≤ S2x16x1024.size a := fun v1_1 k0_t4 arg20 v75 v80 v372 k0_hw7 k0_h2 k0_h3 => k0_hw7.2.2.2.2.2.1 k0_h2 k0_h3
theorem k0_off26_inb : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), ∀ a, (k0_off26 v372) a + S1x16x1024.size a ≤ S16x16x4096.size a := fun v1_1 k0_t4 arg20 v75 v80 v372 k0_hw7 k0_h2 k0_h3 => k0_hw7.2.2.2.2.2.2.1 k0_h2 k0_h3
theorem k0_off26_wordsbf16 : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), (Rect.unit (s := S16x16x4096) (k0_off26 v372) S1x16x1024.size (k0_off26_inb v1_1 k0_t4 arg20 v75 v80 v372 k0_hw7 k0_h2 k0_h3)).WholeWords (EltTy.packing .bf16) := fun v1_1 k0_t4 arg20 v75 v80 v372 k0_hw7 k0_h2 k0_h3 => k0_hw7.2.2.2.2.2.2.2.1 k0_h2 k0_h3 (k0_off26_inb v1_1 k0_t4 arg20 v75 v80 v372 k0_hw7 k0_h2 k0_h3)
theorem k0_off25_wordsbf16 : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), (Rect.unit (s := S2x16x1024) (k0_off25 arg20) S1x16x1024.size (k0_off25_inb v1_1 k0_t4 arg20 v75 v80 v372 k0_hw7 k0_h2 k0_h3)).WholeWords (EltTy.packing .bf16) := fun v1_1 k0_t4 arg20 v75 v80 v372 k0_hw7 k0_h2 k0_h3 => k0_hw7.2.2.2.2.2.2.2.2 k0_h2 k0_h3 (k0_off25_inb v1_1 k0_t4 arg20 v75 v80 v372 k0_hw7 k0_h2 k0_h3)

def k0_off27 (arg20 : BitVec 32) : Fin 3 → Nat :=
  let v376 : Index := Scalar.indexCast arg20
  let c0_121 : Index := 0#32
  let c0_122 : Index := 0#32
  ![v376.toNat, 0, 0]
def k0_off28 (arg20 : BitVec 32) : Fin 3 → Nat :=
  let v393 : Index := Scalar.indexCast arg20
  let c0_125 : Index := 0#32
  let c0_126 : Index := 0#32
  ![v393.toNat, 0, 0]
def k0_off29 (arg20 : BitVec 32) : Fin 3 → Nat :=
  let v401 : Index := Scalar.indexCast arg20
  let c64 : Index := 64#32
  let c0_129 : Index := 0#32
  ![v401.toNat, 64, 0]
def k0_off30 (arg20 : BitVec 32) : Fin 3 → Nat :=
  let v418 : Index := Scalar.indexCast arg20
  let c1_134 : Index := 1#32
  let c0_135 : Index := 0#32
  ![v418.toNat, 1, 0]
def k0_off31 (arg20 : BitVec 32) : Fin 3 → Nat :=
  let v426 : Index := Scalar.indexCast arg20
  let c128_138 : Index := 128#32
  let c0_139 : Index := 0#32
  ![v426.toNat, 128, 0]
def k0_off32 (arg20 : BitVec 32) : Fin 3 → Nat :=
  let v443 : Index := Scalar.indexCast arg20
  let c2_144 : Index := 2#32
  let c0_145 : Index := 0#32
  ![v443.toNat, 2, 0]
def k0_off33 (arg20 : BitVec 32) : Fin 3 → Nat :=
  let v451 : Index := Scalar.indexCast arg20
  let c192 : Index := 192#32
  let c0_148 : Index := 0#32
  ![v451.toNat, 192, 0]
def k0_off34 (arg20 : BitVec 32) : Fin 3 → Nat :=
  let v468 : Index := Scalar.indexCast arg20
  let c3_153 : Index := 3#32
  let c0_154 : Index := 0#32
  ![v468.toNat, 3, 0]
def k0_off35 (arg20 : BitVec 32) : Fin 3 → Nat :=
  let v476 : Index := Scalar.indexCast arg20
  let c256_157 : Index := 256#32
  let c0_158 : Index := 0#32
  ![v476.toNat, 256, 0]
def k0_off36 (arg20 : BitVec 32) : Fin 3 → Nat :=
  let v493 : Index := Scalar.indexCast arg20
  let c4_163 : Index := 4#32
  let c0_164 : Index := 0#32
  ![v493.toNat, 4, 0]
def k0_off37 (arg20 : BitVec 32) : Fin 3 → Nat :=
  let v501 : Index := Scalar.indexCast arg20
  let c320 : Index := 320#32
  let c0_166 : Index := 0#32
  ![v501.toNat, 320, 0]
def k0_off38 (arg20 : BitVec 32) : Fin 3 → Nat :=
  let v518 : Index := Scalar.indexCast arg20
  let c5_171 : Index := 5#32
  let c0_172 : Index := 0#32
  ![v518.toNat, 5, 0]
def k0_off39 (arg20 : BitVec 32) : Fin 3 → Nat :=
  let v526 : Index := Scalar.indexCast arg20
  let c384_174 : Index := 384#32
  let c0_175 : Index := 0#32
  ![v526.toNat, 384, 0]
def k0_off40 (arg20 : BitVec 32) : Fin 3 → Nat :=
  let v543 : Index := Scalar.indexCast arg20
  let c6_180 : Index := 6#32
  let c0_181 : Index := 0#32
  ![v543.toNat, 6, 0]
def k0_off41 (arg20 : BitVec 32) : Fin 3 → Nat :=
  let v551 : Index := Scalar.indexCast arg20
  let c448 : Index := 448#32
  let c0_183 : Index := 0#32
  ![v551.toNat, 448, 0]
def k0_off42 (arg20 : BitVec 32) : Fin 3 → Nat :=
  let v568 : Index := Scalar.indexCast arg20
  let c7_188 : Index := 7#32
  let c0_189 : Index := 0#32
  ![v568.toNat, 7, 0]
def k0_off43 (arg20 : BitVec 32) : Fin 3 → Nat :=
  let v576 : Index := Scalar.indexCast arg20
  let c512_191 : Index := 512#32
  let c0_192 : Index := 0#32
  ![v576.toNat, 512, 0]
def k0_off44 (arg20 : BitVec 32) : Fin 3 → Nat :=
  let v593 : Index := Scalar.indexCast arg20
  let c8 : Index := 8#32
  let c0_197 : Index := 0#32
  ![v593.toNat, 8, 0]
def k0_off45 (arg20 : BitVec 32) : Fin 3 → Nat :=
  let v601 : Index := Scalar.indexCast arg20
  let c576 : Index := 576#32
  let c0_199 : Index := 0#32
  ![v601.toNat, 576, 0]
def k0_off46 (arg20 : BitVec 32) : Fin 3 → Nat :=
  let v618 : Index := Scalar.indexCast arg20
  let c9 : Index := 9#32
  let c0_204 : Index := 0#32
  ![v618.toNat, 9, 0]
def k0_off47 (arg20 : BitVec 32) : Fin 3 → Nat :=
  let v626 : Index := Scalar.indexCast arg20
  let c640_206 : Index := 640#32
  let c0_207 : Index := 0#32
  ![v626.toNat, 640, 0]
def k0_off48 (arg20 : BitVec 32) : Fin 3 → Nat :=
  let v643 : Index := Scalar.indexCast arg20
  let c10 : Index := 10#32
  let c0_212 : Index := 0#32
  ![v643.toNat, 10, 0]
def k0_off49 (arg20 : BitVec 32) : Fin 3 → Nat :=
  let v651 : Index := Scalar.indexCast arg20
  let c704 : Index := 704#32
  let c0_214 : Index := 0#32
  ![v651.toNat, 704, 0]
def k0_off50 (arg20 : BitVec 32) : Fin 3 → Nat :=
  let v668 : Index := Scalar.indexCast arg20
  let c11 : Index := 11#32
  let c0_219 : Index := 0#32
  ![v668.toNat, 11, 0]
def k0_off51 (arg20 : BitVec 32) : Fin 3 → Nat :=
  let v676 : Index := Scalar.indexCast arg20
  let c768_221 : Index := 768#32
  let c0_222 : Index := 0#32
  ![v676.toNat, 768, 0]
def k0_off52 (arg20 : BitVec 32) : Fin 3 → Nat :=
  let v693 : Index := Scalar.indexCast arg20
  let c12 : Index := 12#32
  let c0_227 : Index := 0#32
  ![v693.toNat, 12, 0]
def k0_off53 (arg20 : BitVec 32) : Fin 3 → Nat :=
  let v701 : Index := Scalar.indexCast arg20
  let c832 : Index := 832#32
  let c0_229 : Index := 0#32
  ![v701.toNat, 832, 0]
def k0_off54 (arg20 : BitVec 32) : Fin 3 → Nat :=
  let v718 : Index := Scalar.indexCast arg20
  let c13 : Index := 13#32
  let c0_234 : Index := 0#32
  ![v718.toNat, 13, 0]
def k0_off55 (arg20 : BitVec 32) : Fin 3 → Nat :=
  let v726 : Index := Scalar.indexCast arg20
  let c896_236 : Index := 896#32
  let c0_237 : Index := 0#32
  ![v726.toNat, 896, 0]
def k0_off56 (arg20 : BitVec 32) : Fin 3 → Nat :=
  let v743 : Index := Scalar.indexCast arg20
  let c14 : Index := 14#32
  let c0_242 : Index := 0#32
  ![v743.toNat, 14, 0]
def k0_off57 (arg20 : BitVec 32) : Fin 3 → Nat :=
  let v751 : Index := Scalar.indexCast arg20
  let c960 : Index := 960#32
  let c0_244 : Index := 0#32
  ![v751.toNat, 960, 0]
def k0_off58 (arg20 : BitVec 32) : Fin 3 → Nat :=
  let v768 : Index := Scalar.indexCast arg20
  let c15 : Index := 15#32
  let c0_249 : Index := 0#32
  ![v768.toNat, 15, 0]

def k0_chk6_0 (v1_1 : BitVec 32) (k0_t4 : Fin (k0_t4_loop v1_1).trips) (arg20 : BitVec 32) (v75 : BitVec 32) (v80 : BitVec 32) : Prop :=
  (∀ (k0_h2 : k0_cond2 v1_1 k0_t4 v75 v80 = 1#1), ∀ a, (k0_off16 arg20) a + S1.size a ≤ S2.size a) ∧
  (∀ (k0_h2 : k0_cond2 v1_1 k0_t4 v75 v80 = 1#1), ∀ a, (k0_off17 arg20) a + S1x1024x1024.size a ≤ S2x1024x1024.size a) ∧
  (∀ (k0_h2 : k0_cond2 v1_1 k0_t4 v75 v80 = 1#1), ∀ a, (k0_off18 v75) a + S1x1024x1024.size a ≤ S16x1024x4096.size a) ∧
  (∀ (k0_h2 : k0_cond2 v1_1 k0_t4 v75 v80 = 1#1), ∀ (hinb : ∀ a, (k0_off18 v75) a + S1x1024x1024.size a ≤ S16x1024x4096.size a), (Rect.unit (s := S16x1024x4096) (k0_off18 v75) S1x1024x1024.size hinb).WholeWords (EltTy.packing .i8)) ∧
  (∀ (k0_h2 : k0_cond2 v1_1 k0_t4 v75 v80 = 1#1), ∀ (hinb : ∀ a, (k0_off17 arg20) a + S1x1024x1024.size a ≤ S2x1024x1024.size a), (Rect.unit (s := S2x1024x1024) (k0_off17 arg20) S1x1024x1024.size hinb).WholeWords (EltTy.packing .i8)) ∧
  (∀ (k0_h2 : k0_cond2 v1_1 k0_t4 v75 v80 = 1#1), ∀ a, (k0_off19 arg20) a + S1x16x1024.size a ≤ S2x16x1024.size a) ∧
  (∀ (k0_h2 : k0_cond2 v1_1 k0_t4 v75 v80 = 1#1), ∀ a, (k0_off20 v75) a + S1x16x1024.size a ≤ S16x16x4096.size a) ∧
  (∀ (k0_h2 : k0_cond2 v1_1 k0_t4 v75 v80 = 1#1), ∀ (hinb : ∀ a, (k0_off20 v75) a + S1x16x1024.size a ≤ S16x16x4096.size a), (Rect.unit (s := S16x16x4096) (k0_off20 v75) S1x16x1024.size hinb).WholeWords (EltTy.packing .bf16)) ∧
  (∀ (k0_h2 : k0_cond2 v1_1 k0_t4 v75 v80 = 1#1), ∀ (hinb : ∀ a, (k0_off19 arg20) a + S1x16x1024.size a ≤ S2x16x1024.size a), (Rect.unit (s := S2x16x1024) (k0_off19 arg20) S1x16x1024.size hinb).WholeWords (EltTy.packing .bf16)) ∧
  (∀ (k0_h2 : k0_cond2 v1_1 k0_t4 v75 v80 = 1#1), ∀ a, (k0_off27 arg20) a + S1x64x1024.size a ≤ S2x1024x1024.size a) ∧
  (∀ (k0_h2 : k0_cond2 v1_1 k0_t4 v75 v80 = 1#1), ∀ a, (k0_off28 arg20) a + S1x1x1024.size a ≤ S2x16x1024.size a) ∧
  (∀ (k0_h2 : k0_cond2 v1_1 k0_t4 v75 v80 = 1#1), ∀ a, (k0_off29 arg20) a + S1x64x1024.size a ≤ S2x1024x1024.size a) ∧
  (∀ (k0_h2 : k0_cond2 v1_1 k0_t4 v75 v80 = 1#1), ∀ a, (k0_off30 arg20) a + S1x1x1024.size a ≤ S2x16x1024.size a) ∧
  (∀ (k0_h2 : k0_cond2 v1_1 k0_t4 v75 v80 = 1#1), ∀ a, (k0_off31 arg20) a + S1x64x1024.size a ≤ S2x1024x1024.size a) ∧
  (∀ (k0_h2 : k0_cond2 v1_1 k0_t4 v75 v80 = 1#1), ∀ a, (k0_off32 arg20) a + S1x1x1024.size a ≤ S2x16x1024.size a) ∧
  (∀ (k0_h2 : k0_cond2 v1_1 k0_t4 v75 v80 = 1#1), ∀ a, (k0_off33 arg20) a + S1x64x1024.size a ≤ S2x1024x1024.size a) ∧
  (∀ (k0_h2 : k0_cond2 v1_1 k0_t4 v75 v80 = 1#1), ∀ a, (k0_off34 arg20) a + S1x1x1024.size a ≤ S2x16x1024.size a) ∧
  (∀ (k0_h2 : k0_cond2 v1_1 k0_t4 v75 v80 = 1#1), ∀ a, (k0_off35 arg20) a + S1x64x1024.size a ≤ S2x1024x1024.size a) ∧
  (∀ (k0_h2 : k0_cond2 v1_1 k0_t4 v75 v80 = 1#1), ∀ a, (k0_off36 arg20) a + S1x1x1024.size a ≤ S2x16x1024.size a) ∧
  (∀ (k0_h2 : k0_cond2 v1_1 k0_t4 v75 v80 = 1#1), ∀ a, (k0_off37 arg20) a + S1x64x1024.size a ≤ S2x1024x1024.size a) ∧
  (∀ (k0_h2 : k0_cond2 v1_1 k0_t4 v75 v80 = 1#1), ∀ a, (k0_off38 arg20) a + S1x1x1024.size a ≤ S2x16x1024.size a) ∧
  (∀ (k0_h2 : k0_cond2 v1_1 k0_t4 v75 v80 = 1#1), ∀ a, (k0_off39 arg20) a + S1x64x1024.size a ≤ S2x1024x1024.size a) ∧
  (∀ (k0_h2 : k0_cond2 v1_1 k0_t4 v75 v80 = 1#1), ∀ a, (k0_off40 arg20) a + S1x1x1024.size a ≤ S2x16x1024.size a) ∧
  (∀ (k0_h2 : k0_cond2 v1_1 k0_t4 v75 v80 = 1#1), ∀ a, (k0_off41 arg20) a + S1x64x1024.size a ≤ S2x1024x1024.size a) ∧
  (∀ (k0_h2 : k0_cond2 v1_1 k0_t4 v75 v80 = 1#1), ∀ a, (k0_off42 arg20) a + S1x1x1024.size a ≤ S2x16x1024.size a) ∧
  (∀ (k0_h2 : k0_cond2 v1_1 k0_t4 v75 v80 = 1#1), ∀ a, (k0_off43 arg20) a + S1x64x1024.size a ≤ S2x1024x1024.size a) ∧
  (∀ (k0_h2 : k0_cond2 v1_1 k0_t4 v75 v80 = 1#1), ∀ a, (k0_off44 arg20) a + S1x1x1024.size a ≤ S2x16x1024.size a) ∧
  (∀ (k0_h2 : k0_cond2 v1_1 k0_t4 v75 v80 = 1#1), ∀ a, (k0_off45 arg20) a + S1x64x1024.size a ≤ S2x1024x1024.size a) ∧
  (∀ (k0_h2 : k0_cond2 v1_1 k0_t4 v75 v80 = 1#1), ∀ a, (k0_off46 arg20) a + S1x1x1024.size a ≤ S2x16x1024.size a) ∧
  (∀ (k0_h2 : k0_cond2 v1_1 k0_t4 v75 v80 = 1#1), ∀ a, (k0_off47 arg20) a + S1x64x1024.size a ≤ S2x1024x1024.size a) ∧
  (∀ (k0_h2 : k0_cond2 v1_1 k0_t4 v75 v80 = 1#1), ∀ a, (k0_off48 arg20) a + S1x1x1024.size a ≤ S2x16x1024.size a) ∧
  (∀ (k0_h2 : k0_cond2 v1_1 k0_t4 v75 v80 = 1#1), ∀ a, (k0_off49 arg20) a + S1x64x1024.size a ≤ S2x1024x1024.size a)
def k0_chk6_1 (v1_1 : BitVec 32) (k0_t4 : Fin (k0_t4_loop v1_1).trips) (arg20 : BitVec 32) (v75 : BitVec 32) (v80 : BitVec 32) : Prop :=
  (∀ (k0_h2 : k0_cond2 v1_1 k0_t4 v75 v80 = 1#1), ∀ a, (k0_off50 arg20) a + S1x1x1024.size a ≤ S2x16x1024.size a) ∧
  (∀ (k0_h2 : k0_cond2 v1_1 k0_t4 v75 v80 = 1#1), ∀ a, (k0_off51 arg20) a + S1x64x1024.size a ≤ S2x1024x1024.size a) ∧
  (∀ (k0_h2 : k0_cond2 v1_1 k0_t4 v75 v80 = 1#1), ∀ a, (k0_off52 arg20) a + S1x1x1024.size a ≤ S2x16x1024.size a) ∧
  (∀ (k0_h2 : k0_cond2 v1_1 k0_t4 v75 v80 = 1#1), ∀ a, (k0_off53 arg20) a + S1x64x1024.size a ≤ S2x1024x1024.size a) ∧
  (∀ (k0_h2 : k0_cond2 v1_1 k0_t4 v75 v80 = 1#1), ∀ a, (k0_off54 arg20) a + S1x1x1024.size a ≤ S2x16x1024.size a) ∧
  (∀ (k0_h2 : k0_cond2 v1_1 k0_t4 v75 v80 = 1#1), ∀ a, (k0_off55 arg20) a + S1x64x1024.size a ≤ S2x1024x1024.size a) ∧
  (∀ (k0_h2 : k0_cond2 v1_1 k0_t4 v75 v80 = 1#1), ∀ a, (k0_off56 arg20) a + S1x1x1024.size a ≤ S2x16x1024.size a) ∧
  (∀ (k0_h2 : k0_cond2 v1_1 k0_t4 v75 v80 = 1#1), ∀ a, (k0_off57 arg20) a + S1x64x1024.size a ≤ S2x1024x1024.size a) ∧
  (∀ (k0_h2 : k0_cond2 v1_1 k0_t4 v75 v80 = 1#1), ∀ a, (k0_off58 arg20) a + S1x1x1024.size a ≤ S2x16x1024.size a)
def k0_chk6 (v1_1 : BitVec 32) (k0_t4 : Fin (k0_t4_loop v1_1).trips) (arg20 : BitVec 32) (v75 : BitVec 32) (v80 : BitVec 32) : Prop :=
  k0_chk6_0 v1_1 k0_t4 arg20 v75 v80 ∧
  k0_chk6_1 v1_1 k0_t4 arg20 v75 v80
theorem k0_off16_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off16 arg20) a + S1.size a ≤ S2.size a := fun v1_1 k0_t4 arg20 v75 v80 k0_hw6 k0_h2 => k0_hw6.1.1 k0_h2
theorem k0_off17_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off17 arg20) a + S1x1024x1024.size a ≤ S2x1024x1024.size a := fun v1_1 k0_t4 arg20 v75 v80 k0_hw6 k0_h2 => k0_hw6.1.2.1 k0_h2
theorem k0_off18_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off18 v75) a + S1x1024x1024.size a ≤ S16x1024x4096.size a := fun v1_1 k0_t4 arg20 v75 v80 k0_hw6 k0_h2 => k0_hw6.1.2.2.1 k0_h2
theorem k0_off18_wordsi8 : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), (Rect.unit (s := S16x1024x4096) (k0_off18 v75) S1x1024x1024.size (k0_off18_inb v1_1 k0_t4 arg20 v75 v80 k0_hw6 k0_h2)).WholeWords (EltTy.packing .i8) := fun v1_1 k0_t4 arg20 v75 v80 k0_hw6 k0_h2 => k0_hw6.1.2.2.2.1 k0_h2 (k0_off18_inb v1_1 k0_t4 arg20 v75 v80 k0_hw6 k0_h2)
theorem k0_off17_wordsi8 : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), (Rect.unit (s := S2x1024x1024) (k0_off17 arg20) S1x1024x1024.size (k0_off17_inb v1_1 k0_t4 arg20 v75 v80 k0_hw6 k0_h2)).WholeWords (EltTy.packing .i8) := fun v1_1 k0_t4 arg20 v75 v80 k0_hw6 k0_h2 => k0_hw6.1.2.2.2.2.1 k0_h2 (k0_off17_inb v1_1 k0_t4 arg20 v75 v80 k0_hw6 k0_h2)
theorem k0_off19_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off19 arg20) a + S1x16x1024.size a ≤ S2x16x1024.size a := fun v1_1 k0_t4 arg20 v75 v80 k0_hw6 k0_h2 => k0_hw6.1.2.2.2.2.2.1 k0_h2
theorem k0_off20_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off20 v75) a + S1x16x1024.size a ≤ S16x16x4096.size a := fun v1_1 k0_t4 arg20 v75 v80 k0_hw6 k0_h2 => k0_hw6.1.2.2.2.2.2.2.1 k0_h2
theorem k0_off20_wordsbf16 : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), (Rect.unit (s := S16x16x4096) (k0_off20 v75) S1x16x1024.size (k0_off20_inb v1_1 k0_t4 arg20 v75 v80 k0_hw6 k0_h2)).WholeWords (EltTy.packing .bf16) := fun v1_1 k0_t4 arg20 v75 v80 k0_hw6 k0_h2 => k0_hw6.1.2.2.2.2.2.2.2.1 k0_h2 (k0_off20_inb v1_1 k0_t4 arg20 v75 v80 k0_hw6 k0_h2)
theorem k0_off19_wordsbf16 : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), (Rect.unit (s := S2x16x1024) (k0_off19 arg20) S1x16x1024.size (k0_off19_inb v1_1 k0_t4 arg20 v75 v80 k0_hw6 k0_h2)).WholeWords (EltTy.packing .bf16) := fun v1_1 k0_t4 arg20 v75 v80 k0_hw6 k0_h2 => k0_hw6.1.2.2.2.2.2.2.2.2.1 k0_h2 (k0_off19_inb v1_1 k0_t4 arg20 v75 v80 k0_hw6 k0_h2)
theorem k0_off27_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off27 arg20) a + S1x64x1024.size a ≤ S2x1024x1024.size a := fun v1_1 k0_t4 arg20 v75 v80 k0_hw6 k0_h2 => k0_hw6.1.2.2.2.2.2.2.2.2.2.1 k0_h2
theorem k0_off28_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off28 arg20) a + S1x1x1024.size a ≤ S2x16x1024.size a := fun v1_1 k0_t4 arg20 v75 v80 k0_hw6 k0_h2 => k0_hw6.1.2.2.2.2.2.2.2.2.2.2.1 k0_h2
theorem k0_off29_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off29 arg20) a + S1x64x1024.size a ≤ S2x1024x1024.size a := fun v1_1 k0_t4 arg20 v75 v80 k0_hw6 k0_h2 => k0_hw6.1.2.2.2.2.2.2.2.2.2.2.2.1 k0_h2
theorem k0_off30_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off30 arg20) a + S1x1x1024.size a ≤ S2x16x1024.size a := fun v1_1 k0_t4 arg20 v75 v80 k0_hw6 k0_h2 => k0_hw6.1.2.2.2.2.2.2.2.2.2.2.2.2.1 k0_h2
theorem k0_off31_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off31 arg20) a + S1x64x1024.size a ≤ S2x1024x1024.size a := fun v1_1 k0_t4 arg20 v75 v80 k0_hw6 k0_h2 => k0_hw6.1.2.2.2.2.2.2.2.2.2.2.2.2.2.1 k0_h2
theorem k0_off32_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off32 arg20) a + S1x1x1024.size a ≤ S2x16x1024.size a := fun v1_1 k0_t4 arg20 v75 v80 k0_hw6 k0_h2 => k0_hw6.1.2.2.2.2.2.2.2.2.2.2.2.2.2.2.1 k0_h2
theorem k0_off33_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off33 arg20) a + S1x64x1024.size a ≤ S2x1024x1024.size a := fun v1_1 k0_t4 arg20 v75 v80 k0_hw6 k0_h2 => k0_hw6.1.2.2.2.2.2.2.2.2.2.2.2.2.2.2.2.1 k0_h2
theorem k0_off34_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off34 arg20) a + S1x1x1024.size a ≤ S2x16x1024.size a := fun v1_1 k0_t4 arg20 v75 v80 k0_hw6 k0_h2 => k0_hw6.1.2.2.2.2.2.2.2.2.2.2.2.2.2.2.2.2.1 k0_h2
theorem k0_off35_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off35 arg20) a + S1x64x1024.size a ≤ S2x1024x1024.size a := fun v1_1 k0_t4 arg20 v75 v80 k0_hw6 k0_h2 => k0_hw6.1.2.2.2.2.2.2.2.2.2.2.2.2.2.2.2.2.2.1 k0_h2
theorem k0_off36_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off36 arg20) a + S1x1x1024.size a ≤ S2x16x1024.size a := fun v1_1 k0_t4 arg20 v75 v80 k0_hw6 k0_h2 => k0_hw6.1.2.2.2.2.2.2.2.2.2.2.2.2.2.2.2.2.2.2.1 k0_h2
theorem k0_off37_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off37 arg20) a + S1x64x1024.size a ≤ S2x1024x1024.size a := fun v1_1 k0_t4 arg20 v75 v80 k0_hw6 k0_h2 => k0_hw6.1.2.2.2.2.2.2.2.2.2.2.2.2.2.2.2.2.2.2.2.1 k0_h2
theorem k0_off38_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off38 arg20) a + S1x1x1024.size a ≤ S2x16x1024.size a := fun v1_1 k0_t4 arg20 v75 v80 k0_hw6 k0_h2 => k0_hw6.1.2.2.2.2.2.2.2.2.2.2.2.2.2.2.2.2.2.2.2.2.1 k0_h2
theorem k0_off39_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off39 arg20) a + S1x64x1024.size a ≤ S2x1024x1024.size a := fun v1_1 k0_t4 arg20 v75 v80 k0_hw6 k0_h2 => k0_hw6.1.2.2.2.2.2.2.2.2.2.2.2.2.2.2.2.2.2.2.2.2.2.1 k0_h2
theorem k0_off40_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off40 arg20) a + S1x1x1024.size a ≤ S2x16x1024.size a := fun v1_1 k0_t4 arg20 v75 v80 k0_hw6 k0_h2 => k0_hw6.1.2.2.2.2.2.2.2.2.2.2.2.2.2.2.2.2.2.2.2.2.2.2.1 k0_h2
theorem k0_off41_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off41 arg20) a + S1x64x1024.size a ≤ S2x1024x1024.size a := fun v1_1 k0_t4 arg20 v75 v80 k0_hw6 k0_h2 => k0_hw6.1.2.2.2.2.2.2.2.2.2.2.2.2.2.2.2.2.2.2.2.2.2.2.2.1 k0_h2
theorem k0_off42_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off42 arg20) a + S1x1x1024.size a ≤ S2x16x1024.size a := fun v1_1 k0_t4 arg20 v75 v80 k0_hw6 k0_h2 => k0_hw6.1.2.2.2.2.2.2.2.2.2.2.2.2.2.2.2.2.2.2.2.2.2.2.2.2.1 k0_h2
theorem k0_off43_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off43 arg20) a + S1x64x1024.size a ≤ S2x1024x1024.size a := fun v1_1 k0_t4 arg20 v75 v80 k0_hw6 k0_h2 => k0_hw6.1.2.2.2.2.2.2.2.2.2.2.2.2.2.2.2.2.2.2.2.2.2.2.2.2.2.1 k0_h2
theorem k0_off44_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off44 arg20) a + S1x1x1024.size a ≤ S2x16x1024.size a := fun v1_1 k0_t4 arg20 v75 v80 k0_hw6 k0_h2 => k0_hw6.1.2.2.2.2.2.2.2.2.2.2.2.2.2.2.2.2.2.2.2.2.2.2.2.2.2.2.1 k0_h2
theorem k0_off45_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off45 arg20) a + S1x64x1024.size a ≤ S2x1024x1024.size a := fun v1_1 k0_t4 arg20 v75 v80 k0_hw6 k0_h2 => k0_hw6.1.2.2.2.2.2.2.2.2.2.2.2.2.2.2.2.2.2.2.2.2.2.2.2.2.2.2.2.1 k0_h2
theorem k0_off46_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off46 arg20) a + S1x1x1024.size a ≤ S2x16x1024.size a := fun v1_1 k0_t4 arg20 v75 v80 k0_hw6 k0_h2 => k0_hw6.1.2.2.2.2.2.2.2.2.2.2.2.2.2.2.2.2.2.2.2.2.2.2.2.2.2.2.2.2.1 k0_h2
theorem k0_off47_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off47 arg20) a + S1x64x1024.size a ≤ S2x1024x1024.size a := fun v1_1 k0_t4 arg20 v75 v80 k0_hw6 k0_h2 => k0_hw6.1.2.2.2.2.2.2.2.2.2.2.2.2.2.2.2.2.2.2.2.2.2.2.2.2.2.2.2.2.2.1 k0_h2
theorem k0_off48_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off48 arg20) a + S1x1x1024.size a ≤ S2x16x1024.size a := fun v1_1 k0_t4 arg20 v75 v80 k0_hw6 k0_h2 => k0_hw6.1.2.2.2.2.2.2.2.2.2.2.2.2.2.2.2.2.2.2.2.2.2.2.2.2.2.2.2.2.2.2.1 k0_h2
theorem k0_off49_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off49 arg20) a + S1x64x1024.size a ≤ S2x1024x1024.size a := fun v1_1 k0_t4 arg20 v75 v80 k0_hw6 k0_h2 => k0_hw6.1.2.2.2.2.2.2.2.2.2.2.2.2.2.2.2.2.2.2.2.2.2.2.2.2.2.2.2.2.2.2.2 k0_h2
theorem k0_off50_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off50 arg20) a + S1x1x1024.size a ≤ S2x16x1024.size a := fun v1_1 k0_t4 arg20 v75 v80 k0_hw6 k0_h2 => k0_hw6.2.1 k0_h2
theorem k0_off51_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off51 arg20) a + S1x64x1024.size a ≤ S2x1024x1024.size a := fun v1_1 k0_t4 arg20 v75 v80 k0_hw6 k0_h2 => k0_hw6.2.2.1 k0_h2
theorem k0_off52_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off52 arg20) a + S1x1x1024.size a ≤ S2x16x1024.size a := fun v1_1 k0_t4 arg20 v75 v80 k0_hw6 k0_h2 => k0_hw6.2.2.2.1 k0_h2
theorem k0_off53_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off53 arg20) a + S1x64x1024.size a ≤ S2x1024x1024.size a := fun v1_1 k0_t4 arg20 v75 v80 k0_hw6 k0_h2 => k0_hw6.2.2.2.2.1 k0_h2
theorem k0_off54_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off54 arg20) a + S1x1x1024.size a ≤ S2x16x1024.size a := fun v1_1 k0_t4 arg20 v75 v80 k0_hw6 k0_h2 => k0_hw6.2.2.2.2.2.1 k0_h2
theorem k0_off55_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off55 arg20) a + S1x64x1024.size a ≤ S2x1024x1024.size a := fun v1_1 k0_t4 arg20 v75 v80 k0_hw6 k0_h2 => k0_hw6.2.2.2.2.2.2.1 k0_h2
theorem k0_off56_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off56 arg20) a + S1x1x1024.size a ≤ S2x16x1024.size a := fun v1_1 k0_t4 arg20 v75 v80 k0_hw6 k0_h2 => k0_hw6.2.2.2.2.2.2.2.1 k0_h2
theorem k0_off57_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off57 arg20) a + S1x64x1024.size a ≤ S2x1024x1024.size a := fun v1_1 k0_t4 arg20 v75 v80 k0_hw6 k0_h2 => k0_hw6.2.2.2.2.2.2.2.2.1 k0_h2
theorem k0_off58_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off58 arg20) a + S1x1x1024.size a ≤ S2x16x1024.size a := fun v1_1 k0_t4 arg20 v75 v80 k0_hw6 k0_h2 => k0_hw6.2.2.2.2.2.2.2.2.2 k0_h2

def k0_off59 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let v89 : Index := Scalar.indexCast arg19
  ![v89.toNat]
def k0_mult3 (v90 : BitVec 32) : BitVec 32 :=
  let c97792_i32_53 : BitVec 32 := 97792#32
  let v91 : BitVec 32 := Scalar.minsi v90 c97792_i32_53
  v91

def k0_off60 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  ![v73.toNat]
def k0_off61 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let c0_i32_61 : BitVec 32 := 0#32
  let c0_i32_62 : BitVec 32 := 0#32
  ![v73.toNat, 0, 0]
def k0_off62 (v90 : BitVec 32) : Fin 2 → Nat :=
  let c97792_i32_53 : BitVec 32 := 97792#32
  let v91 : BitVec 32 := Scalar.minsi v90 c97792_i32_53
  let v92 : BitVec 32 := v91
  let c0_i32_63 : BitVec 32 := 0#32
  ![v92.toNat, 0]
def k0_off63 (v1_1 : BitVec 32) (k0_t4 : Fin (k0_t4_loop v1_1).trips) : Fin 4 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let c0_i32_64 : BitVec 32 := 0#32
  let c0_i32_65 : BitVec 32 := 0#32
  let c0_i32_66 : BitVec 32 := 0#32
  ![v73.toNat, 0, 0, 0]
def k0_off64 (v90 : BitVec 32) : Fin 3 → Nat :=
  let c97792_i32_53 : BitVec 32 := 97792#32
  let v91 : BitVec 32 := Scalar.minsi v90 c97792_i32_53
  let v92 : BitVec 32 := v91
  let c0_i32_55 : BitVec 32 := 0#32
  let v94 : BitVec 1 := Scalar.cmpi .sgt v92 c0_i32_55
  let v95 : BitVec 32 := Scalar.extui v94
  let c0_i32_56 : BitVec 32 := 0#32
  let v96 : BitVec 1 := Scalar.cmpi .slt v92 c0_i32_56
  let v97 : BitVec 32 := Scalar.extui v96
  let v98 : BitVec 32 := Scalar.subi v95 v97
  let c128_i32_54 : BitVec 32 := 128#32
  let c0_i32_57 : BitVec 32 := 0#32
  let v99 : BitVec 1 := Scalar.cmpi .sgt c128_i32_54 c0_i32_57
  let v100 : BitVec 32 := Scalar.extui v99
  let c0_i32_58 : BitVec 32 := 0#32
  let v101 : BitVec 1 := Scalar.cmpi .slt c128_i32_54 c0_i32_58
  let v102 : BitVec 32 := Scalar.extui v101
  let v103 : BitVec 32 := Scalar.subi v100 v102
  let v104 : BitVec 1 := Scalar.cmpi .ne v98 v103
  let v105 : BitVec 32 := Scalar.remsi v92 c128_i32_54
  let c0_i32_59 : BitVec 32 := 0#32
  let v106 : BitVec 1 := Scalar.cmpi .ne v105 c0_i32_59
  let v107 : BitVec 1 := Scalar.andi v104 v106
  let v93 : BitVec 32 := Scalar.divsi v92 c128_i32_54
  let c1_i32_60 : BitVec 32 := 1#32
  let v108 : BitVec 32 := Scalar.subi v93 c1_i32_60
  let v109 : BitVec 32 := Scalar.select v107 v108 v93
  let c0_i32_67 : BitVec 32 := 0#32
  let c0_i32_68 : BitVec 32 := 0#32
  ![v109.toNat, 0, 0]

def k0_chk8 (v90 : BitVec 32) : Prop :=
  (128 ∣ (k0_mult3 v90).toNat) ∧
  (∀ a, (k0_off62 v90) a + S512x2048.size a ≤ S98304x2048.size a) ∧
  (∀ (hinb : ∀ a, (k0_off62 v90) a + S512x2048.size a ≤ S98304x2048.size a), (Rect.unit (s := S98304x2048) (k0_off62 v90) S512x2048.size hinb).WholeWords (EltTy.packing .fp8e4m3)) ∧
  (∀ a, (k0_off64 v90) a + S4x1x128.size a ≤ S768x1x128.size a)
theorem k0_mult3_dvd : ∀ (v90 : BitVec 32) (k0_hw8 : k0_chk8 v90), 128 ∣ (k0_mult3 v90).toNat := fun v90 k0_hw8 => k0_hw8.1
theorem k0_off62_inb : ∀ (v90 : BitVec 32) (k0_hw8 : k0_chk8 v90), ∀ a, (k0_off62 v90) a + S512x2048.size a ≤ S98304x2048.size a := fun v90 k0_hw8 => k0_hw8.2.1
theorem k0_off62_wordsfp8e4m3 : ∀ (v90 : BitVec 32) (k0_hw8 : k0_chk8 v90), (Rect.unit (s := S98304x2048) (k0_off62 v90) S512x2048.size (k0_off62_inb v90 k0_hw8)).WholeWords (EltTy.packing .fp8e4m3) := fun v90 k0_hw8 => k0_hw8.2.2.1 (k0_off62_inb v90 k0_hw8)
theorem k0_off64_inb : ∀ (v90 : BitVec 32) (k0_hw8 : k0_chk8 v90), ∀ a, (k0_off64 v90) a + S4x1x128.size a ≤ S768x1x128.size a := fun v90 k0_hw8 => k0_hw8.2.2.2

def k0_cond4 (v1_1 : BitVec 32) (k0_t4 : Fin (k0_t4_loop v1_1).trips) : BitVec 1 :=
  let c0_i32_33 : BitVec 32 := 0#32
  let c1_i32_36 : BitVec 32 := 1#32
  let arg19 : BitVec 32 := Scf.iv c0_i32_33 c1_i32_36 k0_t4
  let c2_i32_69 : BitVec 32 := 2#32
  let v120 : BitVec 1 := Scalar.cmpi .sge arg19 c2_i32_69
  let v121 : BitVec 32 := Scalar.extui v120
  let c0_i32_70 : BitVec 32 := 0#32
  let v122 : BitVec 1 := Scalar.cmpi .ne v121 c0_i32_70
  v122

def k0_off65 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let c2_i32_106 : BitVec 32 := 2#32
  let v359 : BitVec 32 := Scalar.subi arg19 c2_i32_106
  let v360 : Index := Scalar.indexCast v359
  ![v360.toNat]
def k0_mult4 (v361 : BitVec 32) : BitVec 32 :=
  let c97792_i32_107 : BitVec 32 := 97792#32
  let v362 : BitVec 32 := Scalar.minsi v361 c97792_i32_107
  v362

def k0_chk9 (v1_1 : BitVec 32) (k0_t4 : Fin (k0_t4_loop v1_1).trips) (v361 : BitVec 32) : Prop :=
  (∀ (k0_h4 : k0_cond4 v1_1 k0_t4 = 1#1), 128 ∣ (k0_mult4 v361).toNat)
theorem k0_mult4_dvd : ∀ (v1_1 : BitVec 32) (k0_t4 : Fin (k0_t4_loop v1_1).trips) (v361 : BitVec 32) (k0_hw9 : k0_chk9 v1_1 k0_t4 v361), ∀ (k0_h4 : k0_cond4 v1_1 k0_t4 = 1#1), 128 ∣ (k0_mult4 v361).toNat := fun v1_1 k0_t4 v361 k0_hw9 k0_h4 => k0_hw9 k0_h4

def k0_off66 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let c2_i32_106 : BitVec 32 := 2#32
  let v359 : BitVec 32 := Scalar.subi arg19 c2_i32_106
  let v364 : Index := Scalar.indexCast v359
  ![v364.toNat]
def k0_mult5 (v361 : BitVec 32) (v365 : BitVec 32) : BitVec 32 :=
  let c97792_i32_107 : BitVec 32 := 97792#32
  let v362 : BitVec 32 := Scalar.minsi v361 c97792_i32_107
  let v363 : BitVec 32 := v362
  let c1152_i32_108 : BitVec 32 := 1152#32
  let v366 : BitVec 32 := Scalar.muli v365 c1152_i32_108
  let v367 : BitVec 32 := Scalar.addi v363 v366
  let c8_i32_109 : BitVec 32 := 8#32
  let v368 : BitVec 32 := Scalar.muli v367 c8_i32_109
  v368

def k0_off67 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  ![v73.toNat]
def k0_off68 (v361 : BitVec 32) (v365 : BitVec 32) : Fin 2 → Nat :=
  let c97792_i32_107 : BitVec 32 := 97792#32
  let v362 : BitVec 32 := Scalar.minsi v361 c97792_i32_107
  let v363 : BitVec 32 := v362
  let c1152_i32_108 : BitVec 32 := 1152#32
  let v366 : BitVec 32 := Scalar.muli v365 c1152_i32_108
  let v367 : BitVec 32 := Scalar.addi v363 v366
  let c8_i32_109 : BitVec 32 := 8#32
  let v368 : BitVec 32 := Scalar.muli v367 c8_i32_109
  let v369 : BitVec 32 := v368
  let c0_i32_110 : BitVec 32 := 0#32
  ![v369.toNat, 0]

def k0_chk10 (v1_1 : BitVec 32) (k0_t4 : Fin (k0_t4_loop v1_1).trips) (v361 : BitVec 32) (v365 : BitVec 32) : Prop :=
  (∀ (k0_h4 : k0_cond4 v1_1 k0_t4 = 1#1), 8 ∣ (k0_mult5 v361 v365).toNat) ∧
  (∀ (k0_h4 : k0_cond4 v1_1 k0_t4 = 1#1), ∀ a, (k0_off68 v361 v365) a + S4096x128.size a ≤ S933888x128.size a)
theorem k0_mult5_dvd : ∀ (v1_1 : BitVec 32) (k0_t4 : Fin (k0_t4_loop v1_1).trips) (v361 : BitVec 32) (v365 : BitVec 32) (k0_hw10 : k0_chk10 v1_1 k0_t4 v361 v365), ∀ (k0_h4 : k0_cond4 v1_1 k0_t4 = 1#1), 8 ∣ (k0_mult5 v361 v365).toNat := fun v1_1 k0_t4 v361 v365 k0_hw10 k0_h4 => k0_hw10.1 k0_h4
theorem k0_off68_inb : ∀ (v1_1 : BitVec 32) (k0_t4 : Fin (k0_t4_loop v1_1).trips) (v361 : BitVec 32) (v365 : BitVec 32) (k0_hw10 : k0_chk10 v1_1 k0_t4 v361 v365), ∀ (k0_h4 : k0_cond4 v1_1 k0_t4 = 1#1), ∀ a, (k0_off68 v361 v365) a + S4096x128.size a ≤ S933888x128.size a := fun v1_1 k0_t4 v361 v365 k0_hw10 k0_h4 => k0_hw10.2 k0_h4

def k0_off69 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let c0_i32_111 : BitVec 32 := 0#32
  let c0_i32_112 : BitVec 32 := 0#32
  ![v73.toNat, 0, 0]
def k0_off70 (v1_1 : BitVec 32) (k0_t4 : Fin (k0_t4_loop v1_1).trips) : Fin 4 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v123 : Index := Scalar.indexCast v73
  let c0_71 : Index := 0#32
  let c0_72 : Index := 0#32
  let c0_73 : Index := 0#32
  ![v123.toNat, 0, 0, 0]
def k0_off71 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v130 : Index := Scalar.indexCast v73
  let c0_74 : Index := 0#32
  let c0_75 : Index := 0#32
  ![v130.toNat, 0, 0]
def k0_off72 (v1_1 : BitVec 32) (k0_t4 : Fin (k0_t4_loop v1_1).trips) : Fin 4 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v167 : Index := Scalar.indexCast v73
  let c1 : Index := 1#32
  let c0_76 : Index := 0#32
  let c0_77 : Index := 0#32
  ![v167.toNat, 1, 0, 0]
def k0_off73 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v174 : Index := Scalar.indexCast v73
  let c128 : Index := 128#32
  let c0_78 : Index := 0#32
  ![v174.toNat, 128, 0]
def k0_off74 (v1_1 : BitVec 32) (k0_t4 : Fin (k0_t4_loop v1_1).trips) : Fin 4 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v211 : Index := Scalar.indexCast v73
  let c2 : Index := 2#32
  let c0_79 : Index := 0#32
  let c0_80 : Index := 0#32
  ![v211.toNat, 2, 0, 0]
def k0_off75 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v218 : Index := Scalar.indexCast v73
  let c256 : Index := 256#32
  let c0_81 : Index := 0#32
  ![v218.toNat, 256, 0]
def k0_off76 (v1_1 : BitVec 32) (k0_t4 : Fin (k0_t4_loop v1_1).trips) : Fin 4 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v255 : Index := Scalar.indexCast v73
  let c3 : Index := 3#32
  let c0_82 : Index := 0#32
  let c0_83 : Index := 0#32
  ![v255.toNat, 3, 0, 0]
def k0_off77 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v262 : Index := Scalar.indexCast v73
  let c384 : Index := 384#32
  let c0_84 : Index := 0#32
  ![v262.toNat, 384, 0]
def k0_off78 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v303 : Index := Scalar.indexCast v73
  let c0_87 : Index := 0#32
  let c0_88 : Index := 0#32
  ![v303.toNat, 0, 0]
def k0_off79 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v308 : Index := Scalar.indexCast v73
  let c1_89 : Index := 1#32
  let c0_90 : Index := 0#32
  ![v308.toNat, 1, 0]
def k0_off80 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v313 : Index := Scalar.indexCast v73
  let c2_91 : Index := 2#32
  let c0_92 : Index := 0#32
  ![v313.toNat, 2, 0]
def k0_off81 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v318 : Index := Scalar.indexCast v73
  let c3_93 : Index := 3#32
  let c0_94 : Index := 0#32
  ![v318.toNat, 3, 0]
def k0_off82 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v323 : Index := Scalar.indexCast v73
  let c4 : Index := 4#32
  let c0_95 : Index := 0#32
  ![v323.toNat, 4, 0]
def k0_off83 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v328 : Index := Scalar.indexCast v73
  let c5 : Index := 5#32
  let c0_96 : Index := 0#32
  ![v328.toNat, 5, 0]
def k0_off84 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v333 : Index := Scalar.indexCast v73
  let c6 : Index := 6#32
  let c0_97 : Index := 0#32
  ![v333.toNat, 6, 0]
def k0_off85 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v338 : Index := Scalar.indexCast v73
  let c7 : Index := 7#32
  let c0_98 : Index := 0#32
  ![v338.toNat, 7, 0]
def k0_off86 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let v342 : Index := Scalar.indexCast arg19
  ![v342.toNat]
def k0_mult6 (v343 : BitVec 32) : BitVec 32 :=
  let c97792_i32_99 : BitVec 32 := 97792#32
  let v344 : BitVec 32 := Scalar.minsi v343 c97792_i32_99
  v344

def k0_chk11 (v343 : BitVec 32) : Prop :=
  (128 ∣ (k0_mult6 v343).toNat)
theorem k0_mult6_dvd : ∀ (v343 : BitVec 32) (k0_hw11 : k0_chk11 v343), 128 ∣ (k0_mult6 v343).toNat := fun v343 k0_hw11 => k0_hw11

def k0_off87 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let v346 : Index := Scalar.indexCast arg19
  ![v346.toNat]
def k0_mult7 (v343 : BitVec 32) (v347 : BitVec 32) : BitVec 32 :=
  let c97792_i32_99 : BitVec 32 := 97792#32
  let v344 : BitVec 32 := Scalar.minsi v343 c97792_i32_99
  let v345 : BitVec 32 := v344
  let c1152_i32_100 : BitVec 32 := 1152#32
  let v348 : BitVec 32 := Scalar.muli v347 c1152_i32_100
  let v349 : BitVec 32 := Scalar.addi v345 v348
  let c8_i32_101 : BitVec 32 := 8#32
  let v350 : BitVec 32 := Scalar.muli v349 c8_i32_101
  v350

def k0_off88 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  ![v73.toNat]
def k0_off89 (v343 : BitVec 32) (v347 : BitVec 32) : Fin 2 → Nat :=
  let c97792_i32_99 : BitVec 32 := 97792#32
  let v344 : BitVec 32 := Scalar.minsi v343 c97792_i32_99
  let v345 : BitVec 32 := v344
  let c1152_i32_100 : BitVec 32 := 1152#32
  let v348 : BitVec 32 := Scalar.muli v347 c1152_i32_100
  let v349 : BitVec 32 := Scalar.addi v345 v348
  let c8_i32_101 : BitVec 32 := 8#32
  let v350 : BitVec 32 := Scalar.muli v349 c8_i32_101
  let v351 : BitVec 32 := v350
  let c0_i32_102 : BitVec 32 := 0#32
  ![v351.toNat, 0]

def k0_chk12 (v343 : BitVec 32) (v347 : BitVec 32) : Prop :=
  (8 ∣ (k0_mult7 v343 v347).toNat) ∧
  (∀ a, (k0_off89 v343 v347) a + S4096x128.size a ≤ S933888x128.size a)
theorem k0_mult7_dvd : ∀ (v343 : BitVec 32) (v347 : BitVec 32) (k0_hw12 : k0_chk12 v343 v347), 8 ∣ (k0_mult7 v343 v347).toNat := fun v343 v347 k0_hw12 => k0_hw12.1
theorem k0_off89_inb : ∀ (v343 : BitVec 32) (v347 : BitVec 32) (k0_hw12 : k0_chk12 v343 v347), ∀ a, (k0_off89 v343 v347) a + S4096x128.size a ≤ S933888x128.size a := fun v343 v347 k0_hw12 => k0_hw12.2

def k0_off90 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let c0_i32_103 : BitVec 32 := 0#32
  let c0_i32_104 : BitVec 32 := 0#32
  ![v73.toNat, 0, 0]
@[reducible] def k0_t6_loop (v1_1 : BitVec 32) : Scf.Loop 32 :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let v46 : BitVec 32 := Scalar.addi c0_i32_33 v45
  let c1_i32_37 : BitVec 32 := 1#32
  ⟨v49, v46, c1_i32_37⟩
def k0_off91 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let v74 : Index := Scalar.indexCast arg19
  ![v74.toNat]
def k0_off92 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c1_i32_48 : BitVec 32 := 1#32
  let v77 : BitVec 32 := Scalar.subi arg19 c1_i32_48
  let c0_i32_49 : BitVec 32 := 0#32
  let v78 : BitVec 32 := Scalar.maxsi v77 c0_i32_49
  let v79 : Index := Scalar.indexCast v78
  ![v79.toNat]
def k0_off93 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c1_i32_106 : BitVec 32 := 1#32
  let v359 : BitVec 32 := Scalar.addi arg19 c1_i32_106
  let v361 : Index := Scalar.indexCast v359
  ![v361.toNat]
def k0_cond5 (v1_1 : BitVec 32) (k0_t6 : Fin (k0_t6_loop v1_1).trips) : BitVec 1 :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c1_i32_50 : BitVec 32 := 1#32
  let v83 : BitVec 32 := Scalar.addi arg19 c1_i32_50
  let v84 : BitVec 1 := Scalar.cmpi .slt v83 v1_1
  let v85 : BitVec 32 := Scalar.extui v84
  let c0_i32_51 : BitVec 32 := 0#32
  let v86 : BitVec 1 := Scalar.cmpi .ne v85 c0_i32_51
  v86

def k0_mult8 (v362 : BitVec 32) : BitVec 32 :=
  let c97792_i32_108 : BitVec 32 := 97792#32
  let v363 : BitVec 32 := Scalar.minsi v362 c97792_i32_108
  v363

def k0_off94 (v1_1 : BitVec 32) (k0_t6 : Fin (k0_t6_loop v1_1).trips) : Fin 1 → Nat :=
  let c1_i32_107 : BitVec 32 := 1#32
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v360 : BitVec 32 := Scalar.subi c1_i32_107 v73
  ![v360.toNat]
def k0_off95 (v1_1 : BitVec 32) (k0_t6 : Fin (k0_t6_loop v1_1).trips) : Fin 3 → Nat :=
  let c1_i32_107 : BitVec 32 := 1#32
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v360 : BitVec 32 := Scalar.subi c1_i32_107 v73
  let c0_i32_116 : BitVec 32 := 0#32
  let c0_i32_117 : BitVec 32 := 0#32
  ![v360.toNat, 0, 0]
def k0_off96 (v362 : BitVec 32) : Fin 2 → Nat :=
  let c97792_i32_108 : BitVec 32 := 97792#32
  let v363 : BitVec 32 := Scalar.minsi v362 c97792_i32_108
  let v364 : BitVec 32 := v363
  let c0_i32_118 : BitVec 32 := 0#32
  ![v364.toNat, 0]
def k0_off97 (v1_1 : BitVec 32) (k0_t6 : Fin (k0_t6_loop v1_1).trips) : Fin 4 → Nat :=
  let c1_i32_107 : BitVec 32 := 1#32
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v360 : BitVec 32 := Scalar.subi c1_i32_107 v73
  let c0_i32_119 : BitVec 32 := 0#32
  let c0_i32_120 : BitVec 32 := 0#32
  let c0_i32_121 : BitVec 32 := 0#32
  ![v360.toNat, 0, 0, 0]
def k0_off98 (v362 : BitVec 32) : Fin 3 → Nat :=
  let c97792_i32_108 : BitVec 32 := 97792#32
  let v363 : BitVec 32 := Scalar.minsi v362 c97792_i32_108
  let v364 : BitVec 32 := v363
  let c0_i32_110 : BitVec 32 := 0#32
  let v366 : BitVec 1 := Scalar.cmpi .sgt v364 c0_i32_110
  let v367 : BitVec 32 := Scalar.extui v366
  let c0_i32_111 : BitVec 32 := 0#32
  let v368 : BitVec 1 := Scalar.cmpi .slt v364 c0_i32_111
  let v369 : BitVec 32 := Scalar.extui v368
  let v370 : BitVec 32 := Scalar.subi v367 v369
  let c128_i32_109 : BitVec 32 := 128#32
  let c0_i32_112 : BitVec 32 := 0#32
  let v371 : BitVec 1 := Scalar.cmpi .sgt c128_i32_109 c0_i32_112
  let v372 : BitVec 32 := Scalar.extui v371
  let c0_i32_113 : BitVec 32 := 0#32
  let v373 : BitVec 1 := Scalar.cmpi .slt c128_i32_109 c0_i32_113
  let v374 : BitVec 32 := Scalar.extui v373
  let v375 : BitVec 32 := Scalar.subi v372 v374
  let v376 : BitVec 1 := Scalar.cmpi .ne v370 v375
  let v377 : BitVec 32 := Scalar.remsi v364 c128_i32_109
  let c0_i32_114 : BitVec 32 := 0#32
  let v378 : BitVec 1 := Scalar.cmpi .ne v377 c0_i32_114
  let v379 : BitVec 1 := Scalar.andi v376 v378
  let v365 : BitVec 32 := Scalar.divsi v364 c128_i32_109
  let c1_i32_115 : BitVec 32 := 1#32
  let v380 : BitVec 32 := Scalar.subi v365 c1_i32_115
  let v381 : BitVec 32 := Scalar.select v379 v380 v365
  let c0_i32_122 : BitVec 32 := 0#32
  let c0_i32_123 : BitVec 32 := 0#32
  ![v381.toNat, 0, 0]

def k0_chk13 (v1_1 : BitVec 32) (k0_t6 : Fin (k0_t6_loop v1_1).trips) (v362 : BitVec 32) : Prop :=
  (∀ (k0_h5 : k0_cond5 v1_1 k0_t6 = 1#1), 128 ∣ (k0_mult8 v362).toNat) ∧
  (∀ (k0_h5 : k0_cond5 v1_1 k0_t6 = 1#1), ∀ a, (k0_off96 v362) a + S512x2048.size a ≤ S98304x2048.size a) ∧
  (∀ (k0_h5 : k0_cond5 v1_1 k0_t6 = 1#1), ∀ (hinb : ∀ a, (k0_off96 v362) a + S512x2048.size a ≤ S98304x2048.size a), (Rect.unit (s := S98304x2048) (k0_off96 v362) S512x2048.size hinb).WholeWords (EltTy.packing .fp8e4m3)) ∧
  (∀ (k0_h5 : k0_cond5 v1_1 k0_t6 = 1#1), ∀ a, (k0_off98 v362) a + S4x1x128.size a ≤ S768x1x128.size a)
theorem k0_mult8_dvd : ∀ (v1_1 : BitVec 32) (k0_t6 : Fin (k0_t6_loop v1_1).trips) (v362 : BitVec 32) (k0_hw13 : k0_chk13 v1_1 k0_t6 v362), ∀ (k0_h5 : k0_cond5 v1_1 k0_t6 = 1#1), 128 ∣ (k0_mult8 v362).toNat := fun v1_1 k0_t6 v362 k0_hw13 k0_h5 => k0_hw13.1 k0_h5
theorem k0_off96_inb : ∀ (v1_1 : BitVec 32) (k0_t6 : Fin (k0_t6_loop v1_1).trips) (v362 : BitVec 32) (k0_hw13 : k0_chk13 v1_1 k0_t6 v362), ∀ (k0_h5 : k0_cond5 v1_1 k0_t6 = 1#1), ∀ a, (k0_off96 v362) a + S512x2048.size a ≤ S98304x2048.size a := fun v1_1 k0_t6 v362 k0_hw13 k0_h5 => k0_hw13.2.1 k0_h5
theorem k0_off96_wordsfp8e4m3 : ∀ (v1_1 : BitVec 32) (k0_t6 : Fin (k0_t6_loop v1_1).trips) (v362 : BitVec 32) (k0_hw13 : k0_chk13 v1_1 k0_t6 v362), ∀ (k0_h5 : k0_cond5 v1_1 k0_t6 = 1#1), (Rect.unit (s := S98304x2048) (k0_off96 v362) S512x2048.size (k0_off96_inb v1_1 k0_t6 v362 k0_hw13 k0_h5)).WholeWords (EltTy.packing .fp8e4m3) := fun v1_1 k0_t6 v362 k0_hw13 k0_h5 => k0_hw13.2.2.1 k0_h5 (k0_off96_inb v1_1 k0_t6 v362 k0_hw13 k0_h5)
theorem k0_off98_inb : ∀ (v1_1 : BitVec 32) (k0_t6 : Fin (k0_t6_loop v1_1).trips) (v362 : BitVec 32) (k0_hw13 : k0_chk13 v1_1 k0_t6 v362), ∀ (k0_h5 : k0_cond5 v1_1 k0_t6 = 1#1), ∀ a, (k0_off98 v362) a + S4x1x128.size a ≤ S768x1x128.size a := fun v1_1 k0_t6 v362 k0_hw13 k0_h5 => k0_hw13.2.2.2 k0_h5

def k0_off99 (arg20 : BitVec 32) : Fin 1 → Nat :=
  ![arg20.toNat]
def k0_cond6 (v1_1 : BitVec 32) (k0_t6 : Fin (k0_t6_loop v1_1).trips) (v75 : BitVec 32) (v80 : BitVec 32) : BitVec 1 :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c0_i32_47 : BitVec 32 := 0#32
  let v76 : BitVec 1 := Scalar.cmpi .eq arg19 c0_i32_47
  let v81 : BitVec 1 := Scalar.cmpi .ne v80 v75
  let v82 : BitVec 1 := Scalar.ori v76 v81
  let v87 : BitVec 32 := Scalar.extui v82
  let c0_i32_52 : BitVec 32 := 0#32
  let v88 : BitVec 1 := Scalar.cmpi .ne v87 c0_i32_52
  v88

def k0_off100 (arg20 : BitVec 32) : Fin 3 → Nat :=
  let c0_i32_106 : BitVec 32 := 0#32
  let c0_i32_107 : BitVec 32 := 0#32
  ![arg20.toNat, 0, 0]
def k0_off101 (v75 : BitVec 32) : Fin 3 → Nat :=
  let c0_i32_108 : BitVec 32 := 0#32
  let c1024_i32_109 : BitVec 32 := 1024#32
  ![v75.toNat, 0, 1024]
def k0_off102 (arg20 : BitVec 32) : Fin 3 → Nat :=
  let c0_i32_110 : BitVec 32 := 0#32
  let c0_i32_111 : BitVec 32 := 0#32
  ![arg20.toNat, 0, 0]
def k0_off103 (v75 : BitVec 32) : Fin 3 → Nat :=
  let c0_i32_112 : BitVec 32 := 0#32
  let c1024_i32_113 : BitVec 32 := 1024#32
  ![v75.toNat, 0, 1024]
@[reducible] def k0_t7_loop : Scf.Loop 32 :=
  let c0_i32_115 : BitVec 32 := 0#32
  let c16_i32_116 : BitVec 32 := 16#32
  let v371 : BitVec 32 := Scalar.addi c0_i32_115 c16_i32_116
  let c1_i32_117 : BitVec 32 := 1#32
  ⟨c0_i32_115, v371, c1_i32_117⟩
def k0_off104 (k0_t7 : Fin k0_t7_loop.trips) : Fin 1 → Nat :=
  let c15_i32_251 : BitVec 32 := 15#32
  let c0_i32_115 : BitVec 32 := 0#32
  let c1_i32_117 : BitVec 32 := 1#32
  let arg21 : BitVec 32 := Scf.iv c0_i32_115 c1_i32_117 k0_t7
  let v778 : BitVec 32 := Scalar.subi c15_i32_251 arg21
  let v779 : Index := Scalar.indexCast v778
  ![v779.toNat]
def k0_off105 (arg20 : BitVec 32) : Fin 1 → Nat :=
  let c1_i32_251 : BitVec 32 := 1#32
  let v776 : BitVec 32 := Scalar.subi c1_i32_251 arg20
  ![v776.toNat]
def k0_cond7 (v372 : BitVec 32) : BitVec 1 :=
  let c16_i32_119 : BitVec 32 := 16#32
  let v373 : BitVec 1 := Scalar.cmpi .slt v372 c16_i32_119
  let v374 : BitVec 32 := Scalar.extui v373
  let c0_i32_120 : BitVec 32 := 0#32
  let v375 : BitVec 1 := Scalar.cmpi .ne v374 c0_i32_120
  v375

def k0_off106 (arg20 : BitVec 32) : Fin 3 → Nat :=
  let c1_i32_251 : BitVec 32 := 1#32
  let v776 : BitVec 32 := Scalar.subi c1_i32_251 arg20
  let c0_i32_252 : BitVec 32 := 0#32
  let c0_i32_253 : BitVec 32 := 0#32
  ![v776.toNat, 0, 0]
def k0_off107 (v372 : BitVec 32) : Fin 3 → Nat :=
  let c0_i32_254 : BitVec 32 := 0#32
  let c1024_i32_255 : BitVec 32 := 1024#32
  ![v372.toNat, 0, 1024]
def k0_off108 (arg20 : BitVec 32) : Fin 3 → Nat :=
  let c1_i32_251 : BitVec 32 := 1#32
  let v776 : BitVec 32 := Scalar.subi c1_i32_251 arg20
  let c0_i32_256 : BitVec 32 := 0#32
  let c0_i32_257 : BitVec 32 := 0#32
  ![v776.toNat, 0, 0]
def k0_off109 (v372 : BitVec 32) : Fin 3 → Nat :=
  let c0_i32_258 : BitVec 32 := 0#32
  let c1024_i32_259 : BitVec 32 := 1024#32
  ![v372.toNat, 0, 1024]

def k0_chk15 (v1_1 : BitVec 32) (k0_t6 : Fin (k0_t6_loop v1_1).trips) (arg20 : BitVec 32) (v75 : BitVec 32) (v80 : BitVec 32) (v372 : BitVec 32) : Prop :=
  (∀ (k0_h6 : k0_cond6 v1_1 k0_t6 v75 v80 = 1#1), ∀ (k0_h7 : k0_cond7 v372 = 1#1), ∀ a, (k0_off105 arg20) a + S1.size a ≤ S2.size a) ∧
  (∀ (k0_h6 : k0_cond6 v1_1 k0_t6 v75 v80 = 1#1), ∀ (k0_h7 : k0_cond7 v372 = 1#1), ∀ a, (k0_off106 arg20) a + S1x1024x1024.size a ≤ S2x1024x1024.size a) ∧
  (∀ (k0_h6 : k0_cond6 v1_1 k0_t6 v75 v80 = 1#1), ∀ (k0_h7 : k0_cond7 v372 = 1#1), ∀ a, (k0_off107 v372) a + S1x1024x1024.size a ≤ S16x1024x4096.size a) ∧
  (∀ (k0_h6 : k0_cond6 v1_1 k0_t6 v75 v80 = 1#1), ∀ (k0_h7 : k0_cond7 v372 = 1#1), ∀ (hinb : ∀ a, (k0_off107 v372) a + S1x1024x1024.size a ≤ S16x1024x4096.size a), (Rect.unit (s := S16x1024x4096) (k0_off107 v372) S1x1024x1024.size hinb).WholeWords (EltTy.packing .i8)) ∧
  (∀ (k0_h6 : k0_cond6 v1_1 k0_t6 v75 v80 = 1#1), ∀ (k0_h7 : k0_cond7 v372 = 1#1), ∀ (hinb : ∀ a, (k0_off106 arg20) a + S1x1024x1024.size a ≤ S2x1024x1024.size a), (Rect.unit (s := S2x1024x1024) (k0_off106 arg20) S1x1024x1024.size hinb).WholeWords (EltTy.packing .i8)) ∧
  (∀ (k0_h6 : k0_cond6 v1_1 k0_t6 v75 v80 = 1#1), ∀ (k0_h7 : k0_cond7 v372 = 1#1), ∀ a, (k0_off108 arg20) a + S1x16x1024.size a ≤ S2x16x1024.size a) ∧
  (∀ (k0_h6 : k0_cond6 v1_1 k0_t6 v75 v80 = 1#1), ∀ (k0_h7 : k0_cond7 v372 = 1#1), ∀ a, (k0_off109 v372) a + S1x16x1024.size a ≤ S16x16x4096.size a) ∧
  (∀ (k0_h6 : k0_cond6 v1_1 k0_t6 v75 v80 = 1#1), ∀ (k0_h7 : k0_cond7 v372 = 1#1), ∀ (hinb : ∀ a, (k0_off109 v372) a + S1x16x1024.size a ≤ S16x16x4096.size a), (Rect.unit (s := S16x16x4096) (k0_off109 v372) S1x16x1024.size hinb).WholeWords (EltTy.packing .bf16)) ∧
  (∀ (k0_h6 : k0_cond6 v1_1 k0_t6 v75 v80 = 1#1), ∀ (k0_h7 : k0_cond7 v372 = 1#1), ∀ (hinb : ∀ a, (k0_off108 arg20) a + S1x16x1024.size a ≤ S2x16x1024.size a), (Rect.unit (s := S2x16x1024) (k0_off108 arg20) S1x16x1024.size hinb).WholeWords (EltTy.packing .bf16))
theorem k0_off105_inb : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), ∀ a, (k0_off105 arg20) a + S1.size a ≤ S2.size a := fun v1_1 k0_t6 arg20 v75 v80 v372 k0_hw15 k0_h6 k0_h7 => k0_hw15.1 k0_h6 k0_h7
theorem k0_off106_inb : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), ∀ a, (k0_off106 arg20) a + S1x1024x1024.size a ≤ S2x1024x1024.size a := fun v1_1 k0_t6 arg20 v75 v80 v372 k0_hw15 k0_h6 k0_h7 => k0_hw15.2.1 k0_h6 k0_h7
theorem k0_off107_inb : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), ∀ a, (k0_off107 v372) a + S1x1024x1024.size a ≤ S16x1024x4096.size a := fun v1_1 k0_t6 arg20 v75 v80 v372 k0_hw15 k0_h6 k0_h7 => k0_hw15.2.2.1 k0_h6 k0_h7
theorem k0_off107_wordsi8 : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), (Rect.unit (s := S16x1024x4096) (k0_off107 v372) S1x1024x1024.size (k0_off107_inb v1_1 k0_t6 arg20 v75 v80 v372 k0_hw15 k0_h6 k0_h7)).WholeWords (EltTy.packing .i8) := fun v1_1 k0_t6 arg20 v75 v80 v372 k0_hw15 k0_h6 k0_h7 => k0_hw15.2.2.2.1 k0_h6 k0_h7 (k0_off107_inb v1_1 k0_t6 arg20 v75 v80 v372 k0_hw15 k0_h6 k0_h7)
theorem k0_off106_wordsi8 : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), (Rect.unit (s := S2x1024x1024) (k0_off106 arg20) S1x1024x1024.size (k0_off106_inb v1_1 k0_t6 arg20 v75 v80 v372 k0_hw15 k0_h6 k0_h7)).WholeWords (EltTy.packing .i8) := fun v1_1 k0_t6 arg20 v75 v80 v372 k0_hw15 k0_h6 k0_h7 => k0_hw15.2.2.2.2.1 k0_h6 k0_h7 (k0_off106_inb v1_1 k0_t6 arg20 v75 v80 v372 k0_hw15 k0_h6 k0_h7)
theorem k0_off108_inb : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), ∀ a, (k0_off108 arg20) a + S1x16x1024.size a ≤ S2x16x1024.size a := fun v1_1 k0_t6 arg20 v75 v80 v372 k0_hw15 k0_h6 k0_h7 => k0_hw15.2.2.2.2.2.1 k0_h6 k0_h7
theorem k0_off109_inb : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), ∀ a, (k0_off109 v372) a + S1x16x1024.size a ≤ S16x16x4096.size a := fun v1_1 k0_t6 arg20 v75 v80 v372 k0_hw15 k0_h6 k0_h7 => k0_hw15.2.2.2.2.2.2.1 k0_h6 k0_h7
theorem k0_off109_wordsbf16 : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), (Rect.unit (s := S16x16x4096) (k0_off109 v372) S1x16x1024.size (k0_off109_inb v1_1 k0_t6 arg20 v75 v80 v372 k0_hw15 k0_h6 k0_h7)).WholeWords (EltTy.packing .bf16) := fun v1_1 k0_t6 arg20 v75 v80 v372 k0_hw15 k0_h6 k0_h7 => k0_hw15.2.2.2.2.2.2.2.1 k0_h6 k0_h7 (k0_off109_inb v1_1 k0_t6 arg20 v75 v80 v372 k0_hw15 k0_h6 k0_h7)
theorem k0_off108_wordsbf16 : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), (Rect.unit (s := S2x16x1024) (k0_off108 arg20) S1x16x1024.size (k0_off108_inb v1_1 k0_t6 arg20 v75 v80 v372 k0_hw15 k0_h6 k0_h7)).WholeWords (EltTy.packing .bf16) := fun v1_1 k0_t6 arg20 v75 v80 v372 k0_hw15 k0_h6 k0_h7 => k0_hw15.2.2.2.2.2.2.2.2 k0_h6 k0_h7 (k0_off108_inb v1_1 k0_t6 arg20 v75 v80 v372 k0_hw15 k0_h6 k0_h7)

def k0_off110 (arg20 : BitVec 32) : Fin 3 → Nat :=
  let v376 : Index := Scalar.indexCast arg20
  let c0_121 : Index := 0#32
  let c0_122 : Index := 0#32
  ![v376.toNat, 0, 0]
def k0_off111 (arg20 : BitVec 32) : Fin 3 → Nat :=
  let v393 : Index := Scalar.indexCast arg20
  let c0_125 : Index := 0#32
  let c0_126 : Index := 0#32
  ![v393.toNat, 0, 0]
def k0_off112 (arg20 : BitVec 32) : Fin 3 → Nat :=
  let v401 : Index := Scalar.indexCast arg20
  let c64 : Index := 64#32
  let c0_129 : Index := 0#32
  ![v401.toNat, 64, 0]
def k0_off113 (arg20 : BitVec 32) : Fin 3 → Nat :=
  let v418 : Index := Scalar.indexCast arg20
  let c1_134 : Index := 1#32
  let c0_135 : Index := 0#32
  ![v418.toNat, 1, 0]
def k0_off114 (arg20 : BitVec 32) : Fin 3 → Nat :=
  let v426 : Index := Scalar.indexCast arg20
  let c128_138 : Index := 128#32
  let c0_139 : Index := 0#32
  ![v426.toNat, 128, 0]
def k0_off115 (arg20 : BitVec 32) : Fin 3 → Nat :=
  let v443 : Index := Scalar.indexCast arg20
  let c2_144 : Index := 2#32
  let c0_145 : Index := 0#32
  ![v443.toNat, 2, 0]
def k0_off116 (arg20 : BitVec 32) : Fin 3 → Nat :=
  let v451 : Index := Scalar.indexCast arg20
  let c192 : Index := 192#32
  let c0_148 : Index := 0#32
  ![v451.toNat, 192, 0]
def k0_off117 (arg20 : BitVec 32) : Fin 3 → Nat :=
  let v468 : Index := Scalar.indexCast arg20
  let c3_153 : Index := 3#32
  let c0_154 : Index := 0#32
  ![v468.toNat, 3, 0]
def k0_off118 (arg20 : BitVec 32) : Fin 3 → Nat :=
  let v476 : Index := Scalar.indexCast arg20
  let c256_157 : Index := 256#32
  let c0_158 : Index := 0#32
  ![v476.toNat, 256, 0]
def k0_off119 (arg20 : BitVec 32) : Fin 3 → Nat :=
  let v493 : Index := Scalar.indexCast arg20
  let c4_163 : Index := 4#32
  let c0_164 : Index := 0#32
  ![v493.toNat, 4, 0]
def k0_off120 (arg20 : BitVec 32) : Fin 3 → Nat :=
  let v501 : Index := Scalar.indexCast arg20
  let c320 : Index := 320#32
  let c0_166 : Index := 0#32
  ![v501.toNat, 320, 0]
def k0_off121 (arg20 : BitVec 32) : Fin 3 → Nat :=
  let v518 : Index := Scalar.indexCast arg20
  let c5_171 : Index := 5#32
  let c0_172 : Index := 0#32
  ![v518.toNat, 5, 0]
def k0_off122 (arg20 : BitVec 32) : Fin 3 → Nat :=
  let v526 : Index := Scalar.indexCast arg20
  let c384_174 : Index := 384#32
  let c0_175 : Index := 0#32
  ![v526.toNat, 384, 0]
def k0_off123 (arg20 : BitVec 32) : Fin 3 → Nat :=
  let v543 : Index := Scalar.indexCast arg20
  let c6_180 : Index := 6#32
  let c0_181 : Index := 0#32
  ![v543.toNat, 6, 0]
def k0_off124 (arg20 : BitVec 32) : Fin 3 → Nat :=
  let v551 : Index := Scalar.indexCast arg20
  let c448 : Index := 448#32
  let c0_183 : Index := 0#32
  ![v551.toNat, 448, 0]
def k0_off125 (arg20 : BitVec 32) : Fin 3 → Nat :=
  let v568 : Index := Scalar.indexCast arg20
  let c7_188 : Index := 7#32
  let c0_189 : Index := 0#32
  ![v568.toNat, 7, 0]
def k0_off126 (arg20 : BitVec 32) : Fin 3 → Nat :=
  let v576 : Index := Scalar.indexCast arg20
  let c512_191 : Index := 512#32
  let c0_192 : Index := 0#32
  ![v576.toNat, 512, 0]
def k0_off127 (arg20 : BitVec 32) : Fin 3 → Nat :=
  let v593 : Index := Scalar.indexCast arg20
  let c8 : Index := 8#32
  let c0_197 : Index := 0#32
  ![v593.toNat, 8, 0]
def k0_off128 (arg20 : BitVec 32) : Fin 3 → Nat :=
  let v601 : Index := Scalar.indexCast arg20
  let c576 : Index := 576#32
  let c0_199 : Index := 0#32
  ![v601.toNat, 576, 0]
def k0_off129 (arg20 : BitVec 32) : Fin 3 → Nat :=
  let v618 : Index := Scalar.indexCast arg20
  let c9 : Index := 9#32
  let c0_204 : Index := 0#32
  ![v618.toNat, 9, 0]
def k0_off130 (arg20 : BitVec 32) : Fin 3 → Nat :=
  let v626 : Index := Scalar.indexCast arg20
  let c640_206 : Index := 640#32
  let c0_207 : Index := 0#32
  ![v626.toNat, 640, 0]
def k0_off131 (arg20 : BitVec 32) : Fin 3 → Nat :=
  let v643 : Index := Scalar.indexCast arg20
  let c10 : Index := 10#32
  let c0_212 : Index := 0#32
  ![v643.toNat, 10, 0]
def k0_off132 (arg20 : BitVec 32) : Fin 3 → Nat :=
  let v651 : Index := Scalar.indexCast arg20
  let c704 : Index := 704#32
  let c0_214 : Index := 0#32
  ![v651.toNat, 704, 0]
def k0_off133 (arg20 : BitVec 32) : Fin 3 → Nat :=
  let v668 : Index := Scalar.indexCast arg20
  let c11 : Index := 11#32
  let c0_219 : Index := 0#32
  ![v668.toNat, 11, 0]
def k0_off134 (arg20 : BitVec 32) : Fin 3 → Nat :=
  let v676 : Index := Scalar.indexCast arg20
  let c768_221 : Index := 768#32
  let c0_222 : Index := 0#32
  ![v676.toNat, 768, 0]
def k0_off135 (arg20 : BitVec 32) : Fin 3 → Nat :=
  let v693 : Index := Scalar.indexCast arg20
  let c12 : Index := 12#32
  let c0_227 : Index := 0#32
  ![v693.toNat, 12, 0]
def k0_off136 (arg20 : BitVec 32) : Fin 3 → Nat :=
  let v701 : Index := Scalar.indexCast arg20
  let c832 : Index := 832#32
  let c0_229 : Index := 0#32
  ![v701.toNat, 832, 0]
def k0_off137 (arg20 : BitVec 32) : Fin 3 → Nat :=
  let v718 : Index := Scalar.indexCast arg20
  let c13 : Index := 13#32
  let c0_234 : Index := 0#32
  ![v718.toNat, 13, 0]
def k0_off138 (arg20 : BitVec 32) : Fin 3 → Nat :=
  let v726 : Index := Scalar.indexCast arg20
  let c896_236 : Index := 896#32
  let c0_237 : Index := 0#32
  ![v726.toNat, 896, 0]
def k0_off139 (arg20 : BitVec 32) : Fin 3 → Nat :=
  let v743 : Index := Scalar.indexCast arg20
  let c14 : Index := 14#32
  let c0_242 : Index := 0#32
  ![v743.toNat, 14, 0]
def k0_off140 (arg20 : BitVec 32) : Fin 3 → Nat :=
  let v751 : Index := Scalar.indexCast arg20
  let c960 : Index := 960#32
  let c0_244 : Index := 0#32
  ![v751.toNat, 960, 0]
def k0_off141 (arg20 : BitVec 32) : Fin 3 → Nat :=
  let v768 : Index := Scalar.indexCast arg20
  let c15 : Index := 15#32
  let c0_249 : Index := 0#32
  ![v768.toNat, 15, 0]

def k0_chk14_0 (v1_1 : BitVec 32) (k0_t6 : Fin (k0_t6_loop v1_1).trips) (arg20 : BitVec 32) (v75 : BitVec 32) (v80 : BitVec 32) : Prop :=
  (∀ (k0_h6 : k0_cond6 v1_1 k0_t6 v75 v80 = 1#1), ∀ a, (k0_off99 arg20) a + S1.size a ≤ S2.size a) ∧
  (∀ (k0_h6 : k0_cond6 v1_1 k0_t6 v75 v80 = 1#1), ∀ a, (k0_off100 arg20) a + S1x1024x1024.size a ≤ S2x1024x1024.size a) ∧
  (∀ (k0_h6 : k0_cond6 v1_1 k0_t6 v75 v80 = 1#1), ∀ a, (k0_off101 v75) a + S1x1024x1024.size a ≤ S16x1024x4096.size a) ∧
  (∀ (k0_h6 : k0_cond6 v1_1 k0_t6 v75 v80 = 1#1), ∀ (hinb : ∀ a, (k0_off101 v75) a + S1x1024x1024.size a ≤ S16x1024x4096.size a), (Rect.unit (s := S16x1024x4096) (k0_off101 v75) S1x1024x1024.size hinb).WholeWords (EltTy.packing .i8)) ∧
  (∀ (k0_h6 : k0_cond6 v1_1 k0_t6 v75 v80 = 1#1), ∀ (hinb : ∀ a, (k0_off100 arg20) a + S1x1024x1024.size a ≤ S2x1024x1024.size a), (Rect.unit (s := S2x1024x1024) (k0_off100 arg20) S1x1024x1024.size hinb).WholeWords (EltTy.packing .i8)) ∧
  (∀ (k0_h6 : k0_cond6 v1_1 k0_t6 v75 v80 = 1#1), ∀ a, (k0_off102 arg20) a + S1x16x1024.size a ≤ S2x16x1024.size a) ∧
  (∀ (k0_h6 : k0_cond6 v1_1 k0_t6 v75 v80 = 1#1), ∀ a, (k0_off103 v75) a + S1x16x1024.size a ≤ S16x16x4096.size a) ∧
  (∀ (k0_h6 : k0_cond6 v1_1 k0_t6 v75 v80 = 1#1), ∀ (hinb : ∀ a, (k0_off103 v75) a + S1x16x1024.size a ≤ S16x16x4096.size a), (Rect.unit (s := S16x16x4096) (k0_off103 v75) S1x16x1024.size hinb).WholeWords (EltTy.packing .bf16)) ∧
  (∀ (k0_h6 : k0_cond6 v1_1 k0_t6 v75 v80 = 1#1), ∀ (hinb : ∀ a, (k0_off102 arg20) a + S1x16x1024.size a ≤ S2x16x1024.size a), (Rect.unit (s := S2x16x1024) (k0_off102 arg20) S1x16x1024.size hinb).WholeWords (EltTy.packing .bf16)) ∧
  (∀ (k0_h6 : k0_cond6 v1_1 k0_t6 v75 v80 = 1#1), ∀ a, (k0_off110 arg20) a + S1x64x1024.size a ≤ S2x1024x1024.size a) ∧
  (∀ (k0_h6 : k0_cond6 v1_1 k0_t6 v75 v80 = 1#1), ∀ a, (k0_off111 arg20) a + S1x1x1024.size a ≤ S2x16x1024.size a) ∧
  (∀ (k0_h6 : k0_cond6 v1_1 k0_t6 v75 v80 = 1#1), ∀ a, (k0_off112 arg20) a + S1x64x1024.size a ≤ S2x1024x1024.size a) ∧
  (∀ (k0_h6 : k0_cond6 v1_1 k0_t6 v75 v80 = 1#1), ∀ a, (k0_off113 arg20) a + S1x1x1024.size a ≤ S2x16x1024.size a) ∧
  (∀ (k0_h6 : k0_cond6 v1_1 k0_t6 v75 v80 = 1#1), ∀ a, (k0_off114 arg20) a + S1x64x1024.size a ≤ S2x1024x1024.size a) ∧
  (∀ (k0_h6 : k0_cond6 v1_1 k0_t6 v75 v80 = 1#1), ∀ a, (k0_off115 arg20) a + S1x1x1024.size a ≤ S2x16x1024.size a) ∧
  (∀ (k0_h6 : k0_cond6 v1_1 k0_t6 v75 v80 = 1#1), ∀ a, (k0_off116 arg20) a + S1x64x1024.size a ≤ S2x1024x1024.size a) ∧
  (∀ (k0_h6 : k0_cond6 v1_1 k0_t6 v75 v80 = 1#1), ∀ a, (k0_off117 arg20) a + S1x1x1024.size a ≤ S2x16x1024.size a) ∧
  (∀ (k0_h6 : k0_cond6 v1_1 k0_t6 v75 v80 = 1#1), ∀ a, (k0_off118 arg20) a + S1x64x1024.size a ≤ S2x1024x1024.size a) ∧
  (∀ (k0_h6 : k0_cond6 v1_1 k0_t6 v75 v80 = 1#1), ∀ a, (k0_off119 arg20) a + S1x1x1024.size a ≤ S2x16x1024.size a) ∧
  (∀ (k0_h6 : k0_cond6 v1_1 k0_t6 v75 v80 = 1#1), ∀ a, (k0_off120 arg20) a + S1x64x1024.size a ≤ S2x1024x1024.size a) ∧
  (∀ (k0_h6 : k0_cond6 v1_1 k0_t6 v75 v80 = 1#1), ∀ a, (k0_off121 arg20) a + S1x1x1024.size a ≤ S2x16x1024.size a) ∧
  (∀ (k0_h6 : k0_cond6 v1_1 k0_t6 v75 v80 = 1#1), ∀ a, (k0_off122 arg20) a + S1x64x1024.size a ≤ S2x1024x1024.size a) ∧
  (∀ (k0_h6 : k0_cond6 v1_1 k0_t6 v75 v80 = 1#1), ∀ a, (k0_off123 arg20) a + S1x1x1024.size a ≤ S2x16x1024.size a) ∧
  (∀ (k0_h6 : k0_cond6 v1_1 k0_t6 v75 v80 = 1#1), ∀ a, (k0_off124 arg20) a + S1x64x1024.size a ≤ S2x1024x1024.size a) ∧
  (∀ (k0_h6 : k0_cond6 v1_1 k0_t6 v75 v80 = 1#1), ∀ a, (k0_off125 arg20) a + S1x1x1024.size a ≤ S2x16x1024.size a) ∧
  (∀ (k0_h6 : k0_cond6 v1_1 k0_t6 v75 v80 = 1#1), ∀ a, (k0_off126 arg20) a + S1x64x1024.size a ≤ S2x1024x1024.size a) ∧
  (∀ (k0_h6 : k0_cond6 v1_1 k0_t6 v75 v80 = 1#1), ∀ a, (k0_off127 arg20) a + S1x1x1024.size a ≤ S2x16x1024.size a) ∧
  (∀ (k0_h6 : k0_cond6 v1_1 k0_t6 v75 v80 = 1#1), ∀ a, (k0_off128 arg20) a + S1x64x1024.size a ≤ S2x1024x1024.size a) ∧
  (∀ (k0_h6 : k0_cond6 v1_1 k0_t6 v75 v80 = 1#1), ∀ a, (k0_off129 arg20) a + S1x1x1024.size a ≤ S2x16x1024.size a) ∧
  (∀ (k0_h6 : k0_cond6 v1_1 k0_t6 v75 v80 = 1#1), ∀ a, (k0_off130 arg20) a + S1x64x1024.size a ≤ S2x1024x1024.size a) ∧
  (∀ (k0_h6 : k0_cond6 v1_1 k0_t6 v75 v80 = 1#1), ∀ a, (k0_off131 arg20) a + S1x1x1024.size a ≤ S2x16x1024.size a) ∧
  (∀ (k0_h6 : k0_cond6 v1_1 k0_t6 v75 v80 = 1#1), ∀ a, (k0_off132 arg20) a + S1x64x1024.size a ≤ S2x1024x1024.size a)
def k0_chk14_1 (v1_1 : BitVec 32) (k0_t6 : Fin (k0_t6_loop v1_1).trips) (arg20 : BitVec 32) (v75 : BitVec 32) (v80 : BitVec 32) : Prop :=
  (∀ (k0_h6 : k0_cond6 v1_1 k0_t6 v75 v80 = 1#1), ∀ a, (k0_off133 arg20) a + S1x1x1024.size a ≤ S2x16x1024.size a) ∧
  (∀ (k0_h6 : k0_cond6 v1_1 k0_t6 v75 v80 = 1#1), ∀ a, (k0_off134 arg20) a + S1x64x1024.size a ≤ S2x1024x1024.size a) ∧
  (∀ (k0_h6 : k0_cond6 v1_1 k0_t6 v75 v80 = 1#1), ∀ a, (k0_off135 arg20) a + S1x1x1024.size a ≤ S2x16x1024.size a) ∧
  (∀ (k0_h6 : k0_cond6 v1_1 k0_t6 v75 v80 = 1#1), ∀ a, (k0_off136 arg20) a + S1x64x1024.size a ≤ S2x1024x1024.size a) ∧
  (∀ (k0_h6 : k0_cond6 v1_1 k0_t6 v75 v80 = 1#1), ∀ a, (k0_off137 arg20) a + S1x1x1024.size a ≤ S2x16x1024.size a) ∧
  (∀ (k0_h6 : k0_cond6 v1_1 k0_t6 v75 v80 = 1#1), ∀ a, (k0_off138 arg20) a + S1x64x1024.size a ≤ S2x1024x1024.size a) ∧
  (∀ (k0_h6 : k0_cond6 v1_1 k0_t6 v75 v80 = 1#1), ∀ a, (k0_off139 arg20) a + S1x1x1024.size a ≤ S2x16x1024.size a) ∧
  (∀ (k0_h6 : k0_cond6 v1_1 k0_t6 v75 v80 = 1#1), ∀ a, (k0_off140 arg20) a + S1x64x1024.size a ≤ S2x1024x1024.size a) ∧
  (∀ (k0_h6 : k0_cond6 v1_1 k0_t6 v75 v80 = 1#1), ∀ a, (k0_off141 arg20) a + S1x1x1024.size a ≤ S2x16x1024.size a)
def k0_chk14 (v1_1 : BitVec 32) (k0_t6 : Fin (k0_t6_loop v1_1).trips) (arg20 : BitVec 32) (v75 : BitVec 32) (v80 : BitVec 32) : Prop :=
  k0_chk14_0 v1_1 k0_t6 arg20 v75 v80 ∧
  k0_chk14_1 v1_1 k0_t6 arg20 v75 v80
theorem k0_off99_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off99 arg20) a + S1.size a ≤ S2.size a := fun v1_1 k0_t6 arg20 v75 v80 k0_hw14 k0_h6 => k0_hw14.1.1 k0_h6
theorem k0_off100_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off100 arg20) a + S1x1024x1024.size a ≤ S2x1024x1024.size a := fun v1_1 k0_t6 arg20 v75 v80 k0_hw14 k0_h6 => k0_hw14.1.2.1 k0_h6
theorem k0_off101_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off101 v75) a + S1x1024x1024.size a ≤ S16x1024x4096.size a := fun v1_1 k0_t6 arg20 v75 v80 k0_hw14 k0_h6 => k0_hw14.1.2.2.1 k0_h6
theorem k0_off101_wordsi8 : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), (Rect.unit (s := S16x1024x4096) (k0_off101 v75) S1x1024x1024.size (k0_off101_inb v1_1 k0_t6 arg20 v75 v80 k0_hw14 k0_h6)).WholeWords (EltTy.packing .i8) := fun v1_1 k0_t6 arg20 v75 v80 k0_hw14 k0_h6 => k0_hw14.1.2.2.2.1 k0_h6 (k0_off101_inb v1_1 k0_t6 arg20 v75 v80 k0_hw14 k0_h6)
theorem k0_off100_wordsi8 : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), (Rect.unit (s := S2x1024x1024) (k0_off100 arg20) S1x1024x1024.size (k0_off100_inb v1_1 k0_t6 arg20 v75 v80 k0_hw14 k0_h6)).WholeWords (EltTy.packing .i8) := fun v1_1 k0_t6 arg20 v75 v80 k0_hw14 k0_h6 => k0_hw14.1.2.2.2.2.1 k0_h6 (k0_off100_inb v1_1 k0_t6 arg20 v75 v80 k0_hw14 k0_h6)
theorem k0_off102_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off102 arg20) a + S1x16x1024.size a ≤ S2x16x1024.size a := fun v1_1 k0_t6 arg20 v75 v80 k0_hw14 k0_h6 => k0_hw14.1.2.2.2.2.2.1 k0_h6
theorem k0_off103_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off103 v75) a + S1x16x1024.size a ≤ S16x16x4096.size a := fun v1_1 k0_t6 arg20 v75 v80 k0_hw14 k0_h6 => k0_hw14.1.2.2.2.2.2.2.1 k0_h6
theorem k0_off103_wordsbf16 : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), (Rect.unit (s := S16x16x4096) (k0_off103 v75) S1x16x1024.size (k0_off103_inb v1_1 k0_t6 arg20 v75 v80 k0_hw14 k0_h6)).WholeWords (EltTy.packing .bf16) := fun v1_1 k0_t6 arg20 v75 v80 k0_hw14 k0_h6 => k0_hw14.1.2.2.2.2.2.2.2.1 k0_h6 (k0_off103_inb v1_1 k0_t6 arg20 v75 v80 k0_hw14 k0_h6)
theorem k0_off102_wordsbf16 : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), (Rect.unit (s := S2x16x1024) (k0_off102 arg20) S1x16x1024.size (k0_off102_inb v1_1 k0_t6 arg20 v75 v80 k0_hw14 k0_h6)).WholeWords (EltTy.packing .bf16) := fun v1_1 k0_t6 arg20 v75 v80 k0_hw14 k0_h6 => k0_hw14.1.2.2.2.2.2.2.2.2.1 k0_h6 (k0_off102_inb v1_1 k0_t6 arg20 v75 v80 k0_hw14 k0_h6)
theorem k0_off110_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off110 arg20) a + S1x64x1024.size a ≤ S2x1024x1024.size a := fun v1_1 k0_t6 arg20 v75 v80 k0_hw14 k0_h6 => k0_hw14.1.2.2.2.2.2.2.2.2.2.1 k0_h6
theorem k0_off111_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off111 arg20) a + S1x1x1024.size a ≤ S2x16x1024.size a := fun v1_1 k0_t6 arg20 v75 v80 k0_hw14 k0_h6 => k0_hw14.1.2.2.2.2.2.2.2.2.2.2.1 k0_h6
theorem k0_off112_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off112 arg20) a + S1x64x1024.size a ≤ S2x1024x1024.size a := fun v1_1 k0_t6 arg20 v75 v80 k0_hw14 k0_h6 => k0_hw14.1.2.2.2.2.2.2.2.2.2.2.2.1 k0_h6
theorem k0_off113_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off113 arg20) a + S1x1x1024.size a ≤ S2x16x1024.size a := fun v1_1 k0_t6 arg20 v75 v80 k0_hw14 k0_h6 => k0_hw14.1.2.2.2.2.2.2.2.2.2.2.2.2.1 k0_h6
theorem k0_off114_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off114 arg20) a + S1x64x1024.size a ≤ S2x1024x1024.size a := fun v1_1 k0_t6 arg20 v75 v80 k0_hw14 k0_h6 => k0_hw14.1.2.2.2.2.2.2.2.2.2.2.2.2.2.1 k0_h6
theorem k0_off115_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off115 arg20) a + S1x1x1024.size a ≤ S2x16x1024.size a := fun v1_1 k0_t6 arg20 v75 v80 k0_hw14 k0_h6 => k0_hw14.1.2.2.2.2.2.2.2.2.2.2.2.2.2.2.1 k0_h6
theorem k0_off116_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off116 arg20) a + S1x64x1024.size a ≤ S2x1024x1024.size a := fun v1_1 k0_t6 arg20 v75 v80 k0_hw14 k0_h6 => k0_hw14.1.2.2.2.2.2.2.2.2.2.2.2.2.2.2.2.1 k0_h6
theorem k0_off117_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off117 arg20) a + S1x1x1024.size a ≤ S2x16x1024.size a := fun v1_1 k0_t6 arg20 v75 v80 k0_hw14 k0_h6 => k0_hw14.1.2.2.2.2.2.2.2.2.2.2.2.2.2.2.2.2.1 k0_h6
theorem k0_off118_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off118 arg20) a + S1x64x1024.size a ≤ S2x1024x1024.size a := fun v1_1 k0_t6 arg20 v75 v80 k0_hw14 k0_h6 => k0_hw14.1.2.2.2.2.2.2.2.2.2.2.2.2.2.2.2.2.2.1 k0_h6
theorem k0_off119_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off119 arg20) a + S1x1x1024.size a ≤ S2x16x1024.size a := fun v1_1 k0_t6 arg20 v75 v80 k0_hw14 k0_h6 => k0_hw14.1.2.2.2.2.2.2.2.2.2.2.2.2.2.2.2.2.2.2.1 k0_h6
theorem k0_off120_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off120 arg20) a + S1x64x1024.size a ≤ S2x1024x1024.size a := fun v1_1 k0_t6 arg20 v75 v80 k0_hw14 k0_h6 => k0_hw14.1.2.2.2.2.2.2.2.2.2.2.2.2.2.2.2.2.2.2.2.1 k0_h6
theorem k0_off121_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off121 arg20) a + S1x1x1024.size a ≤ S2x16x1024.size a := fun v1_1 k0_t6 arg20 v75 v80 k0_hw14 k0_h6 => k0_hw14.1.2.2.2.2.2.2.2.2.2.2.2.2.2.2.2.2.2.2.2.2.1 k0_h6
theorem k0_off122_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off122 arg20) a + S1x64x1024.size a ≤ S2x1024x1024.size a := fun v1_1 k0_t6 arg20 v75 v80 k0_hw14 k0_h6 => k0_hw14.1.2.2.2.2.2.2.2.2.2.2.2.2.2.2.2.2.2.2.2.2.2.1 k0_h6
theorem k0_off123_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off123 arg20) a + S1x1x1024.size a ≤ S2x16x1024.size a := fun v1_1 k0_t6 arg20 v75 v80 k0_hw14 k0_h6 => k0_hw14.1.2.2.2.2.2.2.2.2.2.2.2.2.2.2.2.2.2.2.2.2.2.2.1 k0_h6
theorem k0_off124_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off124 arg20) a + S1x64x1024.size a ≤ S2x1024x1024.size a := fun v1_1 k0_t6 arg20 v75 v80 k0_hw14 k0_h6 => k0_hw14.1.2.2.2.2.2.2.2.2.2.2.2.2.2.2.2.2.2.2.2.2.2.2.2.1 k0_h6
theorem k0_off125_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off125 arg20) a + S1x1x1024.size a ≤ S2x16x1024.size a := fun v1_1 k0_t6 arg20 v75 v80 k0_hw14 k0_h6 => k0_hw14.1.2.2.2.2.2.2.2.2.2.2.2.2.2.2.2.2.2.2.2.2.2.2.2.2.1 k0_h6
theorem k0_off126_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off126 arg20) a + S1x64x1024.size a ≤ S2x1024x1024.size a := fun v1_1 k0_t6 arg20 v75 v80 k0_hw14 k0_h6 => k0_hw14.1.2.2.2.2.2.2.2.2.2.2.2.2.2.2.2.2.2.2.2.2.2.2.2.2.2.1 k0_h6
theorem k0_off127_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off127 arg20) a + S1x1x1024.size a ≤ S2x16x1024.size a := fun v1_1 k0_t6 arg20 v75 v80 k0_hw14 k0_h6 => k0_hw14.1.2.2.2.2.2.2.2.2.2.2.2.2.2.2.2.2.2.2.2.2.2.2.2.2.2.2.1 k0_h6
theorem k0_off128_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off128 arg20) a + S1x64x1024.size a ≤ S2x1024x1024.size a := fun v1_1 k0_t6 arg20 v75 v80 k0_hw14 k0_h6 => k0_hw14.1.2.2.2.2.2.2.2.2.2.2.2.2.2.2.2.2.2.2.2.2.2.2.2.2.2.2.2.1 k0_h6
theorem k0_off129_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off129 arg20) a + S1x1x1024.size a ≤ S2x16x1024.size a := fun v1_1 k0_t6 arg20 v75 v80 k0_hw14 k0_h6 => k0_hw14.1.2.2.2.2.2.2.2.2.2.2.2.2.2.2.2.2.2.2.2.2.2.2.2.2.2.2.2.2.1 k0_h6
theorem k0_off130_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off130 arg20) a + S1x64x1024.size a ≤ S2x1024x1024.size a := fun v1_1 k0_t6 arg20 v75 v80 k0_hw14 k0_h6 => k0_hw14.1.2.2.2.2.2.2.2.2.2.2.2.2.2.2.2.2.2.2.2.2.2.2.2.2.2.2.2.2.2.1 k0_h6
theorem k0_off131_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off131 arg20) a + S1x1x1024.size a ≤ S2x16x1024.size a := fun v1_1 k0_t6 arg20 v75 v80 k0_hw14 k0_h6 => k0_hw14.1.2.2.2.2.2.2.2.2.2.2.2.2.2.2.2.2.2.2.2.2.2.2.2.2.2.2.2.2.2.2.1 k0_h6
theorem k0_off132_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off132 arg20) a + S1x64x1024.size a ≤ S2x1024x1024.size a := fun v1_1 k0_t6 arg20 v75 v80 k0_hw14 k0_h6 => k0_hw14.1.2.2.2.2.2.2.2.2.2.2.2.2.2.2.2.2.2.2.2.2.2.2.2.2.2.2.2.2.2.2.2 k0_h6
theorem k0_off133_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off133 arg20) a + S1x1x1024.size a ≤ S2x16x1024.size a := fun v1_1 k0_t6 arg20 v75 v80 k0_hw14 k0_h6 => k0_hw14.2.1 k0_h6
theorem k0_off134_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off134 arg20) a + S1x64x1024.size a ≤ S2x1024x1024.size a := fun v1_1 k0_t6 arg20 v75 v80 k0_hw14 k0_h6 => k0_hw14.2.2.1 k0_h6
theorem k0_off135_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off135 arg20) a + S1x1x1024.size a ≤ S2x16x1024.size a := fun v1_1 k0_t6 arg20 v75 v80 k0_hw14 k0_h6 => k0_hw14.2.2.2.1 k0_h6
theorem k0_off136_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off136 arg20) a + S1x64x1024.size a ≤ S2x1024x1024.size a := fun v1_1 k0_t6 arg20 v75 v80 k0_hw14 k0_h6 => k0_hw14.2.2.2.2.1 k0_h6
theorem k0_off137_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off137 arg20) a + S1x1x1024.size a ≤ S2x16x1024.size a := fun v1_1 k0_t6 arg20 v75 v80 k0_hw14 k0_h6 => k0_hw14.2.2.2.2.2.1 k0_h6
theorem k0_off138_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off138 arg20) a + S1x64x1024.size a ≤ S2x1024x1024.size a := fun v1_1 k0_t6 arg20 v75 v80 k0_hw14 k0_h6 => k0_hw14.2.2.2.2.2.2.1 k0_h6
theorem k0_off139_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off139 arg20) a + S1x1x1024.size a ≤ S2x16x1024.size a := fun v1_1 k0_t6 arg20 v75 v80 k0_hw14 k0_h6 => k0_hw14.2.2.2.2.2.2.2.1 k0_h6
theorem k0_off140_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off140 arg20) a + S1x64x1024.size a ≤ S2x1024x1024.size a := fun v1_1 k0_t6 arg20 v75 v80 k0_hw14 k0_h6 => k0_hw14.2.2.2.2.2.2.2.2.1 k0_h6
theorem k0_off141_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off141 arg20) a + S1x1x1024.size a ≤ S2x16x1024.size a := fun v1_1 k0_t6 arg20 v75 v80 k0_hw14 k0_h6 => k0_hw14.2.2.2.2.2.2.2.2.2 k0_h6

def k0_off142 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let v89 : Index := Scalar.indexCast arg19
  ![v89.toNat]
def k0_mult9 (v90 : BitVec 32) : BitVec 32 :=
  let c97792_i32_53 : BitVec 32 := 97792#32
  let v91 : BitVec 32 := Scalar.minsi v90 c97792_i32_53
  v91

def k0_off143 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  ![v73.toNat]
def k0_off144 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let c0_i32_61 : BitVec 32 := 0#32
  let c0_i32_62 : BitVec 32 := 0#32
  ![v73.toNat, 0, 0]
def k0_off145 (v90 : BitVec 32) : Fin 2 → Nat :=
  let c97792_i32_53 : BitVec 32 := 97792#32
  let v91 : BitVec 32 := Scalar.minsi v90 c97792_i32_53
  let v92 : BitVec 32 := v91
  let c0_i32_63 : BitVec 32 := 0#32
  ![v92.toNat, 0]
def k0_off146 (v1_1 : BitVec 32) (k0_t6 : Fin (k0_t6_loop v1_1).trips) : Fin 4 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let c0_i32_64 : BitVec 32 := 0#32
  let c0_i32_65 : BitVec 32 := 0#32
  let c0_i32_66 : BitVec 32 := 0#32
  ![v73.toNat, 0, 0, 0]
def k0_off147 (v90 : BitVec 32) : Fin 3 → Nat :=
  let c97792_i32_53 : BitVec 32 := 97792#32
  let v91 : BitVec 32 := Scalar.minsi v90 c97792_i32_53
  let v92 : BitVec 32 := v91
  let c0_i32_55 : BitVec 32 := 0#32
  let v94 : BitVec 1 := Scalar.cmpi .sgt v92 c0_i32_55
  let v95 : BitVec 32 := Scalar.extui v94
  let c0_i32_56 : BitVec 32 := 0#32
  let v96 : BitVec 1 := Scalar.cmpi .slt v92 c0_i32_56
  let v97 : BitVec 32 := Scalar.extui v96
  let v98 : BitVec 32 := Scalar.subi v95 v97
  let c128_i32_54 : BitVec 32 := 128#32
  let c0_i32_57 : BitVec 32 := 0#32
  let v99 : BitVec 1 := Scalar.cmpi .sgt c128_i32_54 c0_i32_57
  let v100 : BitVec 32 := Scalar.extui v99
  let c0_i32_58 : BitVec 32 := 0#32
  let v101 : BitVec 1 := Scalar.cmpi .slt c128_i32_54 c0_i32_58
  let v102 : BitVec 32 := Scalar.extui v101
  let v103 : BitVec 32 := Scalar.subi v100 v102
  let v104 : BitVec 1 := Scalar.cmpi .ne v98 v103
  let v105 : BitVec 32 := Scalar.remsi v92 c128_i32_54
  let c0_i32_59 : BitVec 32 := 0#32
  let v106 : BitVec 1 := Scalar.cmpi .ne v105 c0_i32_59
  let v107 : BitVec 1 := Scalar.andi v104 v106
  let v93 : BitVec 32 := Scalar.divsi v92 c128_i32_54
  let c1_i32_60 : BitVec 32 := 1#32
  let v108 : BitVec 32 := Scalar.subi v93 c1_i32_60
  let v109 : BitVec 32 := Scalar.select v107 v108 v93
  let c0_i32_67 : BitVec 32 := 0#32
  let c0_i32_68 : BitVec 32 := 0#32
  ![v109.toNat, 0, 0]

def k0_chk16 (v90 : BitVec 32) : Prop :=
  (128 ∣ (k0_mult9 v90).toNat) ∧
  (∀ a, (k0_off145 v90) a + S512x2048.size a ≤ S98304x2048.size a) ∧
  (∀ (hinb : ∀ a, (k0_off145 v90) a + S512x2048.size a ≤ S98304x2048.size a), (Rect.unit (s := S98304x2048) (k0_off145 v90) S512x2048.size hinb).WholeWords (EltTy.packing .fp8e4m3)) ∧
  (∀ a, (k0_off147 v90) a + S4x1x128.size a ≤ S768x1x128.size a)
theorem k0_mult9_dvd : ∀ (v90 : BitVec 32) (k0_hw16 : k0_chk16 v90), 128 ∣ (k0_mult9 v90).toNat := fun v90 k0_hw16 => k0_hw16.1
theorem k0_off145_inb : ∀ (v90 : BitVec 32) (k0_hw16 : k0_chk16 v90), ∀ a, (k0_off145 v90) a + S512x2048.size a ≤ S98304x2048.size a := fun v90 k0_hw16 => k0_hw16.2.1
theorem k0_off145_wordsfp8e4m3 : ∀ (v90 : BitVec 32) (k0_hw16 : k0_chk16 v90), (Rect.unit (s := S98304x2048) (k0_off145 v90) S512x2048.size (k0_off145_inb v90 k0_hw16)).WholeWords (EltTy.packing .fp8e4m3) := fun v90 k0_hw16 => k0_hw16.2.2.1 (k0_off145_inb v90 k0_hw16)
theorem k0_off147_inb : ∀ (v90 : BitVec 32) (k0_hw16 : k0_chk16 v90), ∀ a, (k0_off147 v90) a + S4x1x128.size a ≤ S768x1x128.size a := fun v90 k0_hw16 => k0_hw16.2.2.2

def k0_off148 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_106 : BitVec 32 := 2#32
  let v359 : BitVec 32 := Scalar.subi arg19 c2_i32_106
  let v360 : Index := Scalar.indexCast v359
  ![v360.toNat]
def k0_cond8 (v1_1 : BitVec 32) (k0_t6 : Fin (k0_t6_loop v1_1).trips) : BitVec 1 :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_69 : BitVec 32 := 2#32
  let v120 : BitVec 1 := Scalar.cmpi .sge arg19 c2_i32_69
  let v121 : BitVec 32 := Scalar.extui v120
  let c0_i32_70 : BitVec 32 := 0#32
  let v122 : BitVec 1 := Scalar.cmpi .ne v121 c0_i32_70
  v122

def k0_mult10 (v361 : BitVec 32) : BitVec 32 :=
  let c97792_i32_107 : BitVec 32 := 97792#32
  let v362 : BitVec 32 := Scalar.minsi v361 c97792_i32_107
  v362

def k0_chk17 (v1_1 : BitVec 32) (k0_t6 : Fin (k0_t6_loop v1_1).trips) (v361 : BitVec 32) : Prop :=
  (∀ (k0_h8 : k0_cond8 v1_1 k0_t6 = 1#1), 128 ∣ (k0_mult10 v361).toNat)
theorem k0_mult10_dvd : ∀ (v1_1 : BitVec 32) (k0_t6 : Fin (k0_t6_loop v1_1).trips) (v361 : BitVec 32) (k0_hw17 : k0_chk17 v1_1 k0_t6 v361), ∀ (k0_h8 : k0_cond8 v1_1 k0_t6 = 1#1), 128 ∣ (k0_mult10 v361).toNat := fun v1_1 k0_t6 v361 k0_hw17 k0_h8 => k0_hw17 k0_h8

def k0_off149 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_106 : BitVec 32 := 2#32
  let v359 : BitVec 32 := Scalar.subi arg19 c2_i32_106
  let v364 : Index := Scalar.indexCast v359
  ![v364.toNat]
def k0_mult11 (v361 : BitVec 32) (v365 : BitVec 32) : BitVec 32 :=
  let c97792_i32_107 : BitVec 32 := 97792#32
  let v362 : BitVec 32 := Scalar.minsi v361 c97792_i32_107
  let v363 : BitVec 32 := v362
  let c1152_i32_108 : BitVec 32 := 1152#32
  let v366 : BitVec 32 := Scalar.muli v365 c1152_i32_108
  let v367 : BitVec 32 := Scalar.addi v363 v366
  let c8_i32_109 : BitVec 32 := 8#32
  let v368 : BitVec 32 := Scalar.muli v367 c8_i32_109
  v368

def k0_off150 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  ![v73.toNat]
def k0_off151 (v361 : BitVec 32) (v365 : BitVec 32) : Fin 2 → Nat :=
  let c97792_i32_107 : BitVec 32 := 97792#32
  let v362 : BitVec 32 := Scalar.minsi v361 c97792_i32_107
  let v363 : BitVec 32 := v362
  let c1152_i32_108 : BitVec 32 := 1152#32
  let v366 : BitVec 32 := Scalar.muli v365 c1152_i32_108
  let v367 : BitVec 32 := Scalar.addi v363 v366
  let c8_i32_109 : BitVec 32 := 8#32
  let v368 : BitVec 32 := Scalar.muli v367 c8_i32_109
  let v369 : BitVec 32 := v368
  let c0_i32_110 : BitVec 32 := 0#32
  ![v369.toNat, 0]

def k0_chk18 (v1_1 : BitVec 32) (k0_t6 : Fin (k0_t6_loop v1_1).trips) (v361 : BitVec 32) (v365 : BitVec 32) : Prop :=
  (∀ (k0_h8 : k0_cond8 v1_1 k0_t6 = 1#1), 8 ∣ (k0_mult11 v361 v365).toNat) ∧
  (∀ (k0_h8 : k0_cond8 v1_1 k0_t6 = 1#1), ∀ a, (k0_off151 v361 v365) a + S4096x128.size a ≤ S933888x128.size a)
theorem k0_mult11_dvd : ∀ (v1_1 : BitVec 32) (k0_t6 : Fin (k0_t6_loop v1_1).trips) (v361 : BitVec 32) (v365 : BitVec 32) (k0_hw18 : k0_chk18 v1_1 k0_t6 v361 v365), ∀ (k0_h8 : k0_cond8 v1_1 k0_t6 = 1#1), 8 ∣ (k0_mult11 v361 v365).toNat := fun v1_1 k0_t6 v361 v365 k0_hw18 k0_h8 => k0_hw18.1 k0_h8
theorem k0_off151_inb : ∀ (v1_1 : BitVec 32) (k0_t6 : Fin (k0_t6_loop v1_1).trips) (v361 : BitVec 32) (v365 : BitVec 32) (k0_hw18 : k0_chk18 v1_1 k0_t6 v361 v365), ∀ (k0_h8 : k0_cond8 v1_1 k0_t6 = 1#1), ∀ a, (k0_off151 v361 v365) a + S4096x128.size a ≤ S933888x128.size a := fun v1_1 k0_t6 v361 v365 k0_hw18 k0_h8 => k0_hw18.2 k0_h8

def k0_off152 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let c0_i32_111 : BitVec 32 := 0#32
  let c0_i32_112 : BitVec 32 := 0#32
  ![v73.toNat, 0, 0]
def k0_off153 (v1_1 : BitVec 32) (k0_t6 : Fin (k0_t6_loop v1_1).trips) : Fin 4 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v123 : Index := Scalar.indexCast v73
  let c0_71 : Index := 0#32
  let c0_72 : Index := 0#32
  let c0_73 : Index := 0#32
  ![v123.toNat, 0, 0, 0]
def k0_off154 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v130 : Index := Scalar.indexCast v73
  let c0_74 : Index := 0#32
  let c0_75 : Index := 0#32
  ![v130.toNat, 0, 0]
def k0_off155 (v1_1 : BitVec 32) (k0_t6 : Fin (k0_t6_loop v1_1).trips) : Fin 4 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v167 : Index := Scalar.indexCast v73
  let c1 : Index := 1#32
  let c0_76 : Index := 0#32
  let c0_77 : Index := 0#32
  ![v167.toNat, 1, 0, 0]
def k0_off156 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v174 : Index := Scalar.indexCast v73
  let c128 : Index := 128#32
  let c0_78 : Index := 0#32
  ![v174.toNat, 128, 0]
def k0_off157 (v1_1 : BitVec 32) (k0_t6 : Fin (k0_t6_loop v1_1).trips) : Fin 4 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v211 : Index := Scalar.indexCast v73
  let c2 : Index := 2#32
  let c0_79 : Index := 0#32
  let c0_80 : Index := 0#32
  ![v211.toNat, 2, 0, 0]
def k0_off158 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v218 : Index := Scalar.indexCast v73
  let c256 : Index := 256#32
  let c0_81 : Index := 0#32
  ![v218.toNat, 256, 0]
def k0_off159 (v1_1 : BitVec 32) (k0_t6 : Fin (k0_t6_loop v1_1).trips) : Fin 4 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v255 : Index := Scalar.indexCast v73
  let c3 : Index := 3#32
  let c0_82 : Index := 0#32
  let c0_83 : Index := 0#32
  ![v255.toNat, 3, 0, 0]
def k0_off160 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v262 : Index := Scalar.indexCast v73
  let c384 : Index := 384#32
  let c0_84 : Index := 0#32
  ![v262.toNat, 384, 0]
def k0_off161 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v303 : Index := Scalar.indexCast v73
  let c0_87 : Index := 0#32
  let c0_88 : Index := 0#32
  ![v303.toNat, 0, 0]
def k0_off162 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v308 : Index := Scalar.indexCast v73
  let c1_89 : Index := 1#32
  let c0_90 : Index := 0#32
  ![v308.toNat, 1, 0]
def k0_off163 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v313 : Index := Scalar.indexCast v73
  let c2_91 : Index := 2#32
  let c0_92 : Index := 0#32
  ![v313.toNat, 2, 0]
def k0_off164 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v318 : Index := Scalar.indexCast v73
  let c3_93 : Index := 3#32
  let c0_94 : Index := 0#32
  ![v318.toNat, 3, 0]
def k0_off165 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v323 : Index := Scalar.indexCast v73
  let c4 : Index := 4#32
  let c0_95 : Index := 0#32
  ![v323.toNat, 4, 0]
def k0_off166 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v328 : Index := Scalar.indexCast v73
  let c5 : Index := 5#32
  let c0_96 : Index := 0#32
  ![v328.toNat, 5, 0]
def k0_off167 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v333 : Index := Scalar.indexCast v73
  let c6 : Index := 6#32
  let c0_97 : Index := 0#32
  ![v333.toNat, 6, 0]
def k0_off168 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v338 : Index := Scalar.indexCast v73
  let c7 : Index := 7#32
  let c0_98 : Index := 0#32
  ![v338.toNat, 7, 0]
def k0_off169 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let v342 : Index := Scalar.indexCast arg19
  ![v342.toNat]
def k0_mult12 (v343 : BitVec 32) : BitVec 32 :=
  let c97792_i32_99 : BitVec 32 := 97792#32
  let v344 : BitVec 32 := Scalar.minsi v343 c97792_i32_99
  v344

def k0_chk19 (v343 : BitVec 32) : Prop :=
  (128 ∣ (k0_mult12 v343).toNat)
theorem k0_mult12_dvd : ∀ (v343 : BitVec 32) (k0_hw19 : k0_chk19 v343), 128 ∣ (k0_mult12 v343).toNat := fun v343 k0_hw19 => k0_hw19

def k0_off170 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let v346 : Index := Scalar.indexCast arg19
  ![v346.toNat]
def k0_mult13 (v343 : BitVec 32) (v347 : BitVec 32) : BitVec 32 :=
  let c97792_i32_99 : BitVec 32 := 97792#32
  let v344 : BitVec 32 := Scalar.minsi v343 c97792_i32_99
  let v345 : BitVec 32 := v344
  let c1152_i32_100 : BitVec 32 := 1152#32
  let v348 : BitVec 32 := Scalar.muli v347 c1152_i32_100
  let v349 : BitVec 32 := Scalar.addi v345 v348
  let c8_i32_101 : BitVec 32 := 8#32
  let v350 : BitVec 32 := Scalar.muli v349 c8_i32_101
  v350

def k0_off171 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  ![v73.toNat]
def k0_off172 (v343 : BitVec 32) (v347 : BitVec 32) : Fin 2 → Nat :=
  let c97792_i32_99 : BitVec 32 := 97792#32
  let v344 : BitVec 32 := Scalar.minsi v343 c97792_i32_99
  let v345 : BitVec 32 := v344
  let c1152_i32_100 : BitVec 32 := 1152#32
  let v348 : BitVec 32 := Scalar.muli v347 c1152_i32_100
  let v349 : BitVec 32 := Scalar.addi v345 v348
  let c8_i32_101 : BitVec 32 := 8#32
  let v350 : BitVec 32 := Scalar.muli v349 c8_i32_101
  let v351 : BitVec 32 := v350
  let c0_i32_102 : BitVec 32 := 0#32
  ![v351.toNat, 0]

def k0_chk20 (v343 : BitVec 32) (v347 : BitVec 32) : Prop :=
  (8 ∣ (k0_mult13 v343 v347).toNat) ∧
  (∀ a, (k0_off172 v343 v347) a + S4096x128.size a ≤ S933888x128.size a)
theorem k0_mult13_dvd : ∀ (v343 : BitVec 32) (v347 : BitVec 32) (k0_hw20 : k0_chk20 v343 v347), 8 ∣ (k0_mult13 v343 v347).toNat := fun v343 v347 k0_hw20 => k0_hw20.1
theorem k0_off172_inb : ∀ (v343 : BitVec 32) (v347 : BitVec 32) (k0_hw20 : k0_chk20 v343 v347), ∀ a, (k0_off172 v343 v347) a + S4096x128.size a ≤ S933888x128.size a := fun v343 v347 k0_hw20 => k0_hw20.2

def k0_off173 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let c0_i32_103 : BitVec 32 := 0#32
  let c0_i32_104 : BitVec 32 := 0#32
  ![v73.toNat, 0, 0]
def k0_off174 (v1_1 : BitVec 32) : Fin 1 → Nat :=
  let c2_i32_46 : BitVec 32 := 2#32
  let v73 : BitVec 32 := Scalar.subi v1_1 c2_i32_46
  let v75 : Index := Scalar.indexCast v73
  ![v75.toNat]
def k0_cond9 (v1_1 : BitVec 32) : BitVec 1 :=
  let c2_i32 : BitVec 32 := 2#32
  let v52 : BitVec 1 := Scalar.cmpi .sge v1_1 c2_i32
  let v53 : BitVec 32 := Scalar.extui v52
  let c0_i32_38 : BitVec 32 := 0#32
  let v54 : BitVec 1 := Scalar.cmpi .ne v53 c0_i32_38
  v54

def k0_mult14 (v76 : BitVec 32) : BitVec 32 :=
  let c97792_i32_48 : BitVec 32 := 97792#32
  let v77 : BitVec 32 := Scalar.minsi v76 c97792_i32_48
  v77

def k0_chk21 (v1_1 : BitVec 32) (v76 : BitVec 32) : Prop :=
  (∀ (k0_h9 : k0_cond9 v1_1 = 1#1), 128 ∣ (k0_mult14 v76).toNat)
theorem k0_mult14_dvd : ∀ (v1_1 : BitVec 32) (v76 : BitVec 32) (k0_hw21 : k0_chk21 v1_1 v76), ∀ (k0_h9 : k0_cond9 v1_1 = 1#1), 128 ∣ (k0_mult14 v76).toNat := fun v1_1 v76 k0_hw21 k0_h9 => k0_hw21 k0_h9

def k0_off175 (v1_1 : BitVec 32) : Fin 1 → Nat :=
  let c2_i32_46 : BitVec 32 := 2#32
  let v73 : BitVec 32 := Scalar.subi v1_1 c2_i32_46
  let v79 : Index := Scalar.indexCast v73
  ![v79.toNat]
def k0_mult15 (v76 : BitVec 32) (v80 : BitVec 32) : BitVec 32 :=
  let c97792_i32_48 : BitVec 32 := 97792#32
  let v77 : BitVec 32 := Scalar.minsi v76 c97792_i32_48
  let v78 : BitVec 32 := v77
  let c1152_i32_49 : BitVec 32 := 1152#32
  let v81 : BitVec 32 := Scalar.muli v80 c1152_i32_49
  let v82 : BitVec 32 := Scalar.addi v78 v81
  let c8_i32_50 : BitVec 32 := 8#32
  let v83 : BitVec 32 := Scalar.muli v82 c8_i32_50
  v83

def k0_off176 (v1_1 : BitVec 32) : Fin 1 → Nat :=
  let c2_i32_47 : BitVec 32 := 2#32
  let v74 : BitVec 32 := Scalar.remsi v1_1 c2_i32_47
  ![v74.toNat]
def k0_off177 (v76 : BitVec 32) (v80 : BitVec 32) : Fin 2 → Nat :=
  let c97792_i32_48 : BitVec 32 := 97792#32
  let v77 : BitVec 32 := Scalar.minsi v76 c97792_i32_48
  let v78 : BitVec 32 := v77
  let c1152_i32_49 : BitVec 32 := 1152#32
  let v81 : BitVec 32 := Scalar.muli v80 c1152_i32_49
  let v82 : BitVec 32 := Scalar.addi v78 v81
  let c8_i32_50 : BitVec 32 := 8#32
  let v83 : BitVec 32 := Scalar.muli v82 c8_i32_50
  let v84 : BitVec 32 := v83
  let c0_i32_51 : BitVec 32 := 0#32
  ![v84.toNat, 0]

def k0_chk22 (v1_1 : BitVec 32) (v76 : BitVec 32) (v80 : BitVec 32) : Prop :=
  (∀ (k0_h9 : k0_cond9 v1_1 = 1#1), 8 ∣ (k0_mult15 v76 v80).toNat) ∧
  (∀ (k0_h9 : k0_cond9 v1_1 = 1#1), ∀ a, (k0_off177 v76 v80) a + S4096x128.size a ≤ S933888x128.size a)
theorem k0_mult15_dvd : ∀ (v1_1 : BitVec 32) (v76 : BitVec 32) (v80 : BitVec 32) (k0_hw22 : k0_chk22 v1_1 v76 v80), ∀ (k0_h9 : k0_cond9 v1_1 = 1#1), 8 ∣ (k0_mult15 v76 v80).toNat := fun v1_1 v76 v80 k0_hw22 k0_h9 => k0_hw22.1 k0_h9
theorem k0_off177_inb : ∀ (v1_1 : BitVec 32) (v76 : BitVec 32) (v80 : BitVec 32) (k0_hw22 : k0_chk22 v1_1 v76 v80), ∀ (k0_h9 : k0_cond9 v1_1 = 1#1), ∀ a, (k0_off177 v76 v80) a + S4096x128.size a ≤ S933888x128.size a := fun v1_1 v76 v80 k0_hw22 k0_h9 => k0_hw22.2 k0_h9

def k0_off178 (v1_1 : BitVec 32) : Fin 3 → Nat :=
  let c2_i32_47 : BitVec 32 := 2#32
  let v74 : BitVec 32 := Scalar.remsi v1_1 c2_i32_47
  let c0_i32_52 : BitVec 32 := 0#32
  let c0_i32_53 : BitVec 32 := 0#32
  ![v74.toNat, 0, 0]
def k0_off179 (v1_1 : BitVec 32) : Fin 1 → Nat :=
  let c1_i32_39 : BitVec 32 := 1#32
  let v55 : BitVec 32 := Scalar.subi v1_1 c1_i32_39
  let v58 : Index := Scalar.indexCast v55
  ![v58.toNat]
def k0_mult16 (v59 : BitVec 32) : BitVec 32 :=
  let c97792_i32_42 : BitVec 32 := 97792#32
  let v60 : BitVec 32 := Scalar.minsi v59 c97792_i32_42
  v60

def k0_chk23 (v59 : BitVec 32) : Prop :=
  (128 ∣ (k0_mult16 v59).toNat)
theorem k0_mult16_dvd : ∀ (v59 : BitVec 32) (k0_hw23 : k0_chk23 v59), 128 ∣ (k0_mult16 v59).toNat := fun v59 k0_hw23 => k0_hw23

def k0_off180 (v1_1 : BitVec 32) : Fin 1 → Nat :=
  let c1_i32_39 : BitVec 32 := 1#32
  let v55 : BitVec 32 := Scalar.subi v1_1 c1_i32_39
  let v62 : Index := Scalar.indexCast v55
  ![v62.toNat]
def k0_mult17 (v59 : BitVec 32) (v63 : BitVec 32) : BitVec 32 :=
  let c97792_i32_42 : BitVec 32 := 97792#32
  let v60 : BitVec 32 := Scalar.minsi v59 c97792_i32_42
  let v61 : BitVec 32 := v60
  let c1152_i32 : BitVec 32 := 1152#32
  let v64 : BitVec 32 := Scalar.muli v63 c1152_i32
  let v65 : BitVec 32 := Scalar.addi v61 v64
  let c8_i32 : BitVec 32 := 8#32
  let v66 : BitVec 32 := Scalar.muli v65 c8_i32
  v66

def k0_off181 (v1_1 : BitVec 32) : Fin 1 → Nat :=
  let c1_i32_40 : BitVec 32 := 1#32
  let v56 : BitVec 32 := Scalar.subi v1_1 c1_i32_40
  let c2_i32_41 : BitVec 32 := 2#32
  let v57 : BitVec 32 := Scalar.remsi v56 c2_i32_41
  ![v57.toNat]
def k0_off182 (v59 : BitVec 32) (v63 : BitVec 32) : Fin 2 → Nat :=
  let c97792_i32_42 : BitVec 32 := 97792#32
  let v60 : BitVec 32 := Scalar.minsi v59 c97792_i32_42
  let v61 : BitVec 32 := v60
  let c1152_i32 : BitVec 32 := 1152#32
  let v64 : BitVec 32 := Scalar.muli v63 c1152_i32
  let v65 : BitVec 32 := Scalar.addi v61 v64
  let c8_i32 : BitVec 32 := 8#32
  let v66 : BitVec 32 := Scalar.muli v65 c8_i32
  let v67 : BitVec 32 := v66
  let c0_i32_43 : BitVec 32 := 0#32
  ![v67.toNat, 0]

def k0_chk24 (v59 : BitVec 32) (v63 : BitVec 32) : Prop :=
  (8 ∣ (k0_mult17 v59 v63).toNat) ∧
  (∀ a, (k0_off182 v59 v63) a + S4096x128.size a ≤ S933888x128.size a)
theorem k0_mult17_dvd : ∀ (v59 : BitVec 32) (v63 : BitVec 32) (k0_hw24 : k0_chk24 v59 v63), 8 ∣ (k0_mult17 v59 v63).toNat := fun v59 v63 k0_hw24 => k0_hw24.1
theorem k0_off182_inb : ∀ (v59 : BitVec 32) (v63 : BitVec 32) (k0_hw24 : k0_chk24 v59 v63), ∀ a, (k0_off182 v59 v63) a + S4096x128.size a ≤ S933888x128.size a := fun v59 v63 k0_hw24 => k0_hw24.2

def k0_off183 (v1_1 : BitVec 32) : Fin 3 → Nat :=
  let c1_i32_40 : BitVec 32 := 1#32
  let v56 : BitVec 32 := Scalar.subi v1_1 c1_i32_40
  let c2_i32_41 : BitVec 32 := 2#32
  let v57 : BitVec 32 := Scalar.remsi v56 c2_i32_41
  let c0_i32_44 : BitVec 32 := 0#32
  let c0_i32_45 : BitVec 32 := 0#32
  ![v57.toNat, 0, 0]

def k0_chk4_0 (v1_1 : BitVec 32) : Prop :=
  ((k0_t4_loop v1_1).OK) ∧
  (∀ k0_t4 : Fin (k0_t4_loop v1_1).trips, ∀ a, (k0_off8 v1_1 k0_t4) a + S1.size a ≤ S224.size a) ∧
  (∀ k0_t4 : Fin (k0_t4_loop v1_1).trips, ∀ a, (k0_off9 v1_1 k0_t4) a + S1.size a ≤ S224.size a) ∧
  (∀ k0_t4 : Fin (k0_t4_loop v1_1).trips, ∀ (k0_h1 : k0_cond1 v1_1 k0_t4 = 1#1), ∀ a, (k0_off10 v1_1 k0_t4) a + S1.size a ≤ S224.size a) ∧
  (∀ k0_t4 : Fin (k0_t4_loop v1_1).trips, ∀ (k0_h1 : k0_cond1 v1_1 k0_t4 = 1#1), ∀ a, (k0_off11 v1_1 k0_t4) a + S1.size a ≤ S2.size a) ∧
  (∀ k0_t4 : Fin (k0_t4_loop v1_1).trips, ∀ (k0_h1 : k0_cond1 v1_1 k0_t4 = 1#1), ∀ a, (k0_off12 v1_1 k0_t4) a + S1x512x2048.size a ≤ S2x512x2048.size a) ∧
  (∀ k0_t4 : Fin (k0_t4_loop v1_1).trips, ∀ (k0_h1 : k0_cond1 v1_1 k0_t4 = 1#1), ∀ (hinb : ∀ a, (k0_off12 v1_1 k0_t4) a + S1x512x2048.size a ≤ S2x512x2048.size a), (Rect.unit (s := S2x512x2048) (k0_off12 v1_1 k0_t4) S1x512x2048.size hinb).WholeWords (EltTy.packing .fp8e4m3)) ∧
  (∀ k0_t4 : Fin (k0_t4_loop v1_1).trips, ∀ (k0_h1 : k0_cond1 v1_1 k0_t4 = 1#1), ∀ a, (k0_off14 v1_1 k0_t4) a + S1x4x1x128.size a ≤ S2x4x1x128.size a) ∧
  (∀ k0_t4 : Fin (k0_t4_loop v1_1).trips, ∀ a, (k0_off59 v1_1 k0_t4) a + S1.size a ≤ S224.size a) ∧
  (∀ k0_t4 : Fin (k0_t4_loop v1_1).trips, ∀ a, (k0_off60 v1_1 k0_t4) a + S1.size a ≤ S2.size a) ∧
  (∀ k0_t4 : Fin (k0_t4_loop v1_1).trips, ∀ a, (k0_off61 v1_1 k0_t4) a + S1x512x2048.size a ≤ S2x512x2048.size a) ∧
  (∀ k0_t4 : Fin (k0_t4_loop v1_1).trips, ∀ (hinb : ∀ a, (k0_off61 v1_1 k0_t4) a + S1x512x2048.size a ≤ S2x512x2048.size a), (Rect.unit (s := S2x512x2048) (k0_off61 v1_1 k0_t4) S1x512x2048.size hinb).WholeWords (EltTy.packing .fp8e4m3)) ∧
  (∀ k0_t4 : Fin (k0_t4_loop v1_1).trips, ∀ a, (k0_off63 v1_1 k0_t4) a + S1x4x1x128.size a ≤ S2x4x1x128.size a) ∧
  (∀ k0_t4 : Fin (k0_t4_loop v1_1).trips, ∀ (k0_h4 : k0_cond4 v1_1 k0_t4 = 1#1), ∀ a, (k0_off65 v1_1 k0_t4) a + S1.size a ≤ S224.size a) ∧
  (∀ k0_t4 : Fin (k0_t4_loop v1_1).trips, ∀ (k0_h4 : k0_cond4 v1_1 k0_t4 = 1#1), ∀ a, (k0_off66 v1_1 k0_t4) a + S1.size a ≤ S224.size a) ∧
  (∀ k0_t4 : Fin (k0_t4_loop v1_1).trips, ∀ (k0_h4 : k0_cond4 v1_1 k0_t4 = 1#1), ∀ a, (k0_off67 v1_1 k0_t4) a + S1.size a ≤ S2.size a) ∧
  (∀ k0_t4 : Fin (k0_t4_loop v1_1).trips, ∀ (k0_h4 : k0_cond4 v1_1 k0_t4 = 1#1), ∀ a, (k0_off69 v1_1 k0_t4) a + S1x4096x128.size a ≤ S2x4096x128.size a) ∧
  (∀ k0_t4 : Fin (k0_t4_loop v1_1).trips, ∀ a, (k0_off70 v1_1 k0_t4) a + S1x1x1x128.size a ≤ S2x4x1x128.size a) ∧
  (∀ k0_t4 : Fin (k0_t4_loop v1_1).trips, ∀ a, (k0_off71 v1_1 k0_t4) a + S1x128x2048.size a ≤ S2x512x2048.size a) ∧
  (∀ k0_t4 : Fin (k0_t4_loop v1_1).trips, ∀ a, (k0_off72 v1_1 k0_t4) a + S1x1x1x128.size a ≤ S2x4x1x128.size a) ∧
  (∀ k0_t4 : Fin (k0_t4_loop v1_1).trips, ∀ a, (k0_off73 v1_1 k0_t4) a + S1x128x2048.size a ≤ S2x512x2048.size a) ∧
  (∀ k0_t4 : Fin (k0_t4_loop v1_1).trips, ∀ a, (k0_off74 v1_1 k0_t4) a + S1x1x1x128.size a ≤ S2x4x1x128.size a) ∧
  (∀ k0_t4 : Fin (k0_t4_loop v1_1).trips, ∀ a, (k0_off75 v1_1 k0_t4) a + S1x128x2048.size a ≤ S2x512x2048.size a) ∧
  (∀ k0_t4 : Fin (k0_t4_loop v1_1).trips, ∀ a, (k0_off76 v1_1 k0_t4) a + S1x1x1x128.size a ≤ S2x4x1x128.size a) ∧
  (∀ k0_t4 : Fin (k0_t4_loop v1_1).trips, ∀ a, (k0_off77 v1_1 k0_t4) a + S1x128x2048.size a ≤ S2x512x2048.size a) ∧
  (∀ k0_t4 : Fin (k0_t4_loop v1_1).trips, ∀ a, S1x512x128.size a = 0 ∨ (k0_off78 v1_1 k0_t4) a + (![1, 8, 1] : Fin 3 → Nat) a * (S1x512x128.size a - 1) < S2x4096x128.size a) ∧
  (∀ k0_t4 : Fin (k0_t4_loop v1_1).trips, ∀ a, S1x512x128.size a = 0 ∨ (k0_off79 v1_1 k0_t4) a + (![1, 8, 1] : Fin 3 → Nat) a * (S1x512x128.size a - 1) < S2x4096x128.size a) ∧
  (∀ k0_t4 : Fin (k0_t4_loop v1_1).trips, ∀ a, S1x512x128.size a = 0 ∨ (k0_off80 v1_1 k0_t4) a + (![1, 8, 1] : Fin 3 → Nat) a * (S1x512x128.size a - 1) < S2x4096x128.size a) ∧
  (∀ k0_t4 : Fin (k0_t4_loop v1_1).trips, ∀ a, S1x512x128.size a = 0 ∨ (k0_off81 v1_1 k0_t4) a + (![1, 8, 1] : Fin 3 → Nat) a * (S1x512x128.size a - 1) < S2x4096x128.size a) ∧
  (∀ k0_t4 : Fin (k0_t4_loop v1_1).trips, ∀ a, S1x512x128.size a = 0 ∨ (k0_off82 v1_1 k0_t4) a + (![1, 8, 1] : Fin 3 → Nat) a * (S1x512x128.size a - 1) < S2x4096x128.size a) ∧
  (∀ k0_t4 : Fin (k0_t4_loop v1_1).trips, ∀ a, S1x512x128.size a = 0 ∨ (k0_off83 v1_1 k0_t4) a + (![1, 8, 1] : Fin 3 → Nat) a * (S1x512x128.size a - 1) < S2x4096x128.size a) ∧
  (∀ k0_t4 : Fin (k0_t4_loop v1_1).trips, ∀ a, S1x512x128.size a = 0 ∨ (k0_off84 v1_1 k0_t4) a + (![1, 8, 1] : Fin 3 → Nat) a * (S1x512x128.size a - 1) < S2x4096x128.size a)
def k0_chk4_1 (v1_1 : BitVec 32) : Prop :=
  (∀ k0_t4 : Fin (k0_t4_loop v1_1).trips, ∀ a, S1x512x128.size a = 0 ∨ (k0_off85 v1_1 k0_t4) a + (![1, 8, 1] : Fin 3 → Nat) a * (S1x512x128.size a - 1) < S2x4096x128.size a) ∧
  (∀ k0_t4 : Fin (k0_t4_loop v1_1).trips, ∀ a, (k0_off86 v1_1 k0_t4) a + S1.size a ≤ S224.size a) ∧
  (∀ k0_t4 : Fin (k0_t4_loop v1_1).trips, ∀ a, (k0_off87 v1_1 k0_t4) a + S1.size a ≤ S224.size a) ∧
  (∀ k0_t4 : Fin (k0_t4_loop v1_1).trips, ∀ a, (k0_off88 v1_1 k0_t4) a + S1.size a ≤ S2.size a) ∧
  (∀ k0_t4 : Fin (k0_t4_loop v1_1).trips, ∀ a, (k0_off90 v1_1 k0_t4) a + S1x4096x128.size a ≤ S2x4096x128.size a) ∧
  ((k0_t6_loop v1_1).OK) ∧
  (∀ k0_t6 : Fin (k0_t6_loop v1_1).trips, ∀ a, (k0_off91 v1_1 k0_t6) a + S1.size a ≤ S224.size a) ∧
  (∀ k0_t6 : Fin (k0_t6_loop v1_1).trips, ∀ a, (k0_off92 v1_1 k0_t6) a + S1.size a ≤ S224.size a) ∧
  (∀ k0_t6 : Fin (k0_t6_loop v1_1).trips, ∀ (k0_h5 : k0_cond5 v1_1 k0_t6 = 1#1), ∀ a, (k0_off93 v1_1 k0_t6) a + S1.size a ≤ S224.size a) ∧
  (∀ k0_t6 : Fin (k0_t6_loop v1_1).trips, ∀ (k0_h5 : k0_cond5 v1_1 k0_t6 = 1#1), ∀ a, (k0_off94 v1_1 k0_t6) a + S1.size a ≤ S2.size a) ∧
  (∀ k0_t6 : Fin (k0_t6_loop v1_1).trips, ∀ (k0_h5 : k0_cond5 v1_1 k0_t6 = 1#1), ∀ a, (k0_off95 v1_1 k0_t6) a + S1x512x2048.size a ≤ S2x512x2048.size a) ∧
  (∀ k0_t6 : Fin (k0_t6_loop v1_1).trips, ∀ (k0_h5 : k0_cond5 v1_1 k0_t6 = 1#1), ∀ (hinb : ∀ a, (k0_off95 v1_1 k0_t6) a + S1x512x2048.size a ≤ S2x512x2048.size a), (Rect.unit (s := S2x512x2048) (k0_off95 v1_1 k0_t6) S1x512x2048.size hinb).WholeWords (EltTy.packing .fp8e4m3)) ∧
  (∀ k0_t6 : Fin (k0_t6_loop v1_1).trips, ∀ (k0_h5 : k0_cond5 v1_1 k0_t6 = 1#1), ∀ a, (k0_off97 v1_1 k0_t6) a + S1x4x1x128.size a ≤ S2x4x1x128.size a) ∧
  (∀ k0_t6 : Fin (k0_t6_loop v1_1).trips, ∀ a, (k0_off142 v1_1 k0_t6) a + S1.size a ≤ S224.size a) ∧
  (∀ k0_t6 : Fin (k0_t6_loop v1_1).trips, ∀ a, (k0_off143 v1_1 k0_t6) a + S1.size a ≤ S2.size a) ∧
  (∀ k0_t6 : Fin (k0_t6_loop v1_1).trips, ∀ a, (k0_off144 v1_1 k0_t6) a + S1x512x2048.size a ≤ S2x512x2048.size a) ∧
  (∀ k0_t6 : Fin (k0_t6_loop v1_1).trips, ∀ (hinb : ∀ a, (k0_off144 v1_1 k0_t6) a + S1x512x2048.size a ≤ S2x512x2048.size a), (Rect.unit (s := S2x512x2048) (k0_off144 v1_1 k0_t6) S1x512x2048.size hinb).WholeWords (EltTy.packing .fp8e4m3)) ∧
  (∀ k0_t6 : Fin (k0_t6_loop v1_1).trips, ∀ a, (k0_off146 v1_1 k0_t6) a + S1x4x1x128.size a ≤ S2x4x1x128.size a) ∧
  (∀ k0_t6 : Fin (k0_t6_loop v1_1).trips, ∀ (k0_h8 : k0_cond8 v1_1 k0_t6 = 1#1), ∀ a, (k0_off148 v1_1 k0_t6) a + S1.size a ≤ S224.size a) ∧
  (∀ k0_t6 : Fin (k0_t6_loop v1_1).trips, ∀ (k0_h8 : k0_cond8 v1_1 k0_t6 = 1#1), ∀ a, (k0_off149 v1_1 k0_t6) a + S1.size a ≤ S224.size a) ∧
  (∀ k0_t6 : Fin (k0_t6_loop v1_1).trips, ∀ (k0_h8 : k0_cond8 v1_1 k0_t6 = 1#1), ∀ a, (k0_off150 v1_1 k0_t6) a + S1.size a ≤ S2.size a) ∧
  (∀ k0_t6 : Fin (k0_t6_loop v1_1).trips, ∀ (k0_h8 : k0_cond8 v1_1 k0_t6 = 1#1), ∀ a, (k0_off152 v1_1 k0_t6) a + S1x4096x128.size a ≤ S2x4096x128.size a) ∧
  (∀ k0_t6 : Fin (k0_t6_loop v1_1).trips, ∀ a, (k0_off153 v1_1 k0_t6) a + S1x1x1x128.size a ≤ S2x4x1x128.size a) ∧
  (∀ k0_t6 : Fin (k0_t6_loop v1_1).trips, ∀ a, (k0_off154 v1_1 k0_t6) a + S1x128x2048.size a ≤ S2x512x2048.size a) ∧
  (∀ k0_t6 : Fin (k0_t6_loop v1_1).trips, ∀ a, (k0_off155 v1_1 k0_t6) a + S1x1x1x128.size a ≤ S2x4x1x128.size a) ∧
  (∀ k0_t6 : Fin (k0_t6_loop v1_1).trips, ∀ a, (k0_off156 v1_1 k0_t6) a + S1x128x2048.size a ≤ S2x512x2048.size a) ∧
  (∀ k0_t6 : Fin (k0_t6_loop v1_1).trips, ∀ a, (k0_off157 v1_1 k0_t6) a + S1x1x1x128.size a ≤ S2x4x1x128.size a) ∧
  (∀ k0_t6 : Fin (k0_t6_loop v1_1).trips, ∀ a, (k0_off158 v1_1 k0_t6) a + S1x128x2048.size a ≤ S2x512x2048.size a) ∧
  (∀ k0_t6 : Fin (k0_t6_loop v1_1).trips, ∀ a, (k0_off159 v1_1 k0_t6) a + S1x1x1x128.size a ≤ S2x4x1x128.size a) ∧
  (∀ k0_t6 : Fin (k0_t6_loop v1_1).trips, ∀ a, (k0_off160 v1_1 k0_t6) a + S1x128x2048.size a ≤ S2x512x2048.size a) ∧
  (∀ k0_t6 : Fin (k0_t6_loop v1_1).trips, ∀ a, S1x512x128.size a = 0 ∨ (k0_off161 v1_1 k0_t6) a + (![1, 8, 1] : Fin 3 → Nat) a * (S1x512x128.size a - 1) < S2x4096x128.size a) ∧
  (∀ k0_t6 : Fin (k0_t6_loop v1_1).trips, ∀ a, S1x512x128.size a = 0 ∨ (k0_off162 v1_1 k0_t6) a + (![1, 8, 1] : Fin 3 → Nat) a * (S1x512x128.size a - 1) < S2x4096x128.size a)
def k0_chk4_2 (v1_1 : BitVec 32) : Prop :=
  (∀ k0_t6 : Fin (k0_t6_loop v1_1).trips, ∀ a, S1x512x128.size a = 0 ∨ (k0_off163 v1_1 k0_t6) a + (![1, 8, 1] : Fin 3 → Nat) a * (S1x512x128.size a - 1) < S2x4096x128.size a) ∧
  (∀ k0_t6 : Fin (k0_t6_loop v1_1).trips, ∀ a, S1x512x128.size a = 0 ∨ (k0_off164 v1_1 k0_t6) a + (![1, 8, 1] : Fin 3 → Nat) a * (S1x512x128.size a - 1) < S2x4096x128.size a) ∧
  (∀ k0_t6 : Fin (k0_t6_loop v1_1).trips, ∀ a, S1x512x128.size a = 0 ∨ (k0_off165 v1_1 k0_t6) a + (![1, 8, 1] : Fin 3 → Nat) a * (S1x512x128.size a - 1) < S2x4096x128.size a) ∧
  (∀ k0_t6 : Fin (k0_t6_loop v1_1).trips, ∀ a, S1x512x128.size a = 0 ∨ (k0_off166 v1_1 k0_t6) a + (![1, 8, 1] : Fin 3 → Nat) a * (S1x512x128.size a - 1) < S2x4096x128.size a) ∧
  (∀ k0_t6 : Fin (k0_t6_loop v1_1).trips, ∀ a, S1x512x128.size a = 0 ∨ (k0_off167 v1_1 k0_t6) a + (![1, 8, 1] : Fin 3 → Nat) a * (S1x512x128.size a - 1) < S2x4096x128.size a) ∧
  (∀ k0_t6 : Fin (k0_t6_loop v1_1).trips, ∀ a, S1x512x128.size a = 0 ∨ (k0_off168 v1_1 k0_t6) a + (![1, 8, 1] : Fin 3 → Nat) a * (S1x512x128.size a - 1) < S2x4096x128.size a) ∧
  (∀ k0_t6 : Fin (k0_t6_loop v1_1).trips, ∀ a, (k0_off169 v1_1 k0_t6) a + S1.size a ≤ S224.size a) ∧
  (∀ k0_t6 : Fin (k0_t6_loop v1_1).trips, ∀ a, (k0_off170 v1_1 k0_t6) a + S1.size a ≤ S224.size a) ∧
  (∀ k0_t6 : Fin (k0_t6_loop v1_1).trips, ∀ a, (k0_off171 v1_1 k0_t6) a + S1.size a ≤ S2.size a) ∧
  (∀ k0_t6 : Fin (k0_t6_loop v1_1).trips, ∀ a, (k0_off173 v1_1 k0_t6) a + S1x4096x128.size a ≤ S2x4096x128.size a) ∧
  (∀ (k0_h9 : k0_cond9 v1_1 = 1#1), ∀ a, (k0_off174 v1_1) a + S1.size a ≤ S224.size a) ∧
  (∀ (k0_h9 : k0_cond9 v1_1 = 1#1), ∀ a, (k0_off175 v1_1) a + S1.size a ≤ S224.size a) ∧
  (∀ (k0_h9 : k0_cond9 v1_1 = 1#1), ∀ a, (k0_off176 v1_1) a + S1.size a ≤ S2.size a) ∧
  (∀ (k0_h9 : k0_cond9 v1_1 = 1#1), ∀ a, (k0_off178 v1_1) a + S1x4096x128.size a ≤ S2x4096x128.size a) ∧
  (∀ a, (k0_off179 v1_1) a + S1.size a ≤ S224.size a) ∧
  (∀ a, (k0_off180 v1_1) a + S1.size a ≤ S224.size a) ∧
  (∀ a, (k0_off181 v1_1) a + S1.size a ≤ S2.size a) ∧
  (∀ a, (k0_off183 v1_1) a + S1x4096x128.size a ≤ S2x4096x128.size a)
def k0_chk4 (v1_1 : BitVec 32) : Prop :=
  k0_chk4_0 v1_1 ∧
  k0_chk4_1 v1_1 ∧
  k0_chk4_2 v1_1
theorem k0_t4_ok : ∀ (v1_1 : BitVec 32) (k0_hw4 : k0_chk4 v1_1), (k0_t4_loop v1_1).OK := fun v1_1 k0_hw4 => k0_hw4.1.1
theorem k0_off8_inb : ∀ (v1_1 : BitVec 32) (k0_hw4 : k0_chk4 v1_1) (k0_t4 : Fin (k0_t4_loop v1_1).trips), ∀ a, (k0_off8 v1_1 k0_t4) a + S1.size a ≤ S224.size a := fun v1_1 k0_hw4 k0_t4 => k0_hw4.1.2.1 k0_t4
theorem k0_off9_inb : ∀ (v1_1 : BitVec 32) (k0_hw4 : k0_chk4 v1_1) (k0_t4 : Fin (k0_t4_loop v1_1).trips), ∀ a, (k0_off9 v1_1 k0_t4) a + S1.size a ≤ S224.size a := fun v1_1 k0_hw4 k0_t4 => k0_hw4.1.2.2.1 k0_t4
theorem k0_off10_inb : ∀ (v1_1 : BitVec 32) (k0_hw4 : k0_chk4 v1_1) (k0_t4 : Fin (k0_t4_loop v1_1).trips), ∀ (k0_h1 : k0_cond1 v1_1 k0_t4 = 1#1), ∀ a, (k0_off10 v1_1 k0_t4) a + S1.size a ≤ S224.size a := fun v1_1 k0_hw4 k0_t4 k0_h1 => k0_hw4.1.2.2.2.1 k0_t4 k0_h1
theorem k0_off11_inb : ∀ (v1_1 : BitVec 32) (k0_hw4 : k0_chk4 v1_1) (k0_t4 : Fin (k0_t4_loop v1_1).trips), ∀ (k0_h1 : k0_cond1 v1_1 k0_t4 = 1#1), ∀ a, (k0_off11 v1_1 k0_t4) a + S1.size a ≤ S2.size a := fun v1_1 k0_hw4 k0_t4 k0_h1 => k0_hw4.1.2.2.2.2.1 k0_t4 k0_h1
theorem k0_off12_inb : ∀ (v1_1 : BitVec 32) (k0_hw4 : k0_chk4 v1_1) (k0_t4 : Fin (k0_t4_loop v1_1).trips), ∀ (k0_h1 : k0_cond1 v1_1 k0_t4 = 1#1), ∀ a, (k0_off12 v1_1 k0_t4) a + S1x512x2048.size a ≤ S2x512x2048.size a := fun v1_1 k0_hw4 k0_t4 k0_h1 => k0_hw4.1.2.2.2.2.2.1 k0_t4 k0_h1
theorem k0_off12_wordsfp8e4m3 : ∀ (v1_1 : BitVec 32) (k0_hw4 : k0_chk4 v1_1) (k0_t4 : Fin (k0_t4_loop v1_1).trips), ∀ (k0_h1 : k0_cond1 v1_1 k0_t4 = 1#1), (Rect.unit (s := S2x512x2048) (k0_off12 v1_1 k0_t4) S1x512x2048.size (k0_off12_inb v1_1 k0_hw4 k0_t4 k0_h1)).WholeWords (EltTy.packing .fp8e4m3) := fun v1_1 k0_hw4 k0_t4 k0_h1 => k0_hw4.1.2.2.2.2.2.2.1 k0_t4 k0_h1 (k0_off12_inb v1_1 k0_hw4 k0_t4 k0_h1)
theorem k0_off14_inb : ∀ (v1_1 : BitVec 32) (k0_hw4 : k0_chk4 v1_1) (k0_t4 : Fin (k0_t4_loop v1_1).trips), ∀ (k0_h1 : k0_cond1 v1_1 k0_t4 = 1#1), ∀ a, (k0_off14 v1_1 k0_t4) a + S1x4x1x128.size a ≤ S2x4x1x128.size a := fun v1_1 k0_hw4 k0_t4 k0_h1 => k0_hw4.1.2.2.2.2.2.2.2.1 k0_t4 k0_h1
theorem k0_off59_inb : ∀ (v1_1 : BitVec 32) (k0_hw4 : k0_chk4 v1_1) (k0_t4 : Fin (k0_t4_loop v1_1).trips), ∀ a, (k0_off59 v1_1 k0_t4) a + S1.size a ≤ S224.size a := fun v1_1 k0_hw4 k0_t4 => k0_hw4.1.2.2.2.2.2.2.2.2.1 k0_t4
theorem k0_off60_inb : ∀ (v1_1 : BitVec 32) (k0_hw4 : k0_chk4 v1_1) (k0_t4 : Fin (k0_t4_loop v1_1).trips), ∀ a, (k0_off60 v1_1 k0_t4) a + S1.size a ≤ S2.size a := fun v1_1 k0_hw4 k0_t4 => k0_hw4.1.2.2.2.2.2.2.2.2.2.1 k0_t4
theorem k0_off61_inb : ∀ (v1_1 : BitVec 32) (k0_hw4 : k0_chk4 v1_1) (k0_t4 : Fin (k0_t4_loop v1_1).trips), ∀ a, (k0_off61 v1_1 k0_t4) a + S1x512x2048.size a ≤ S2x512x2048.size a := fun v1_1 k0_hw4 k0_t4 => k0_hw4.1.2.2.2.2.2.2.2.2.2.2.1 k0_t4
theorem k0_off61_wordsfp8e4m3 : ∀ (v1_1 : BitVec 32) (k0_hw4 : k0_chk4 v1_1) (k0_t4 : Fin (k0_t4_loop v1_1).trips), (Rect.unit (s := S2x512x2048) (k0_off61 v1_1 k0_t4) S1x512x2048.size (k0_off61_inb v1_1 k0_hw4 k0_t4)).WholeWords (EltTy.packing .fp8e4m3) := fun v1_1 k0_hw4 k0_t4 => k0_hw4.1.2.2.2.2.2.2.2.2.2.2.2.1 k0_t4 (k0_off61_inb v1_1 k0_hw4 k0_t4)
theorem k0_off63_inb : ∀ (v1_1 : BitVec 32) (k0_hw4 : k0_chk4 v1_1) (k0_t4 : Fin (k0_t4_loop v1_1).trips), ∀ a, (k0_off63 v1_1 k0_t4) a + S1x4x1x128.size a ≤ S2x4x1x128.size a := fun v1_1 k0_hw4 k0_t4 => k0_hw4.1.2.2.2.2.2.2.2.2.2.2.2.2.1 k0_t4
theorem k0_off65_inb : ∀ (v1_1 : BitVec 32) (k0_hw4 : k0_chk4 v1_1) (k0_t4 : Fin (k0_t4_loop v1_1).trips), ∀ (k0_h4 : k0_cond4 v1_1 k0_t4 = 1#1), ∀ a, (k0_off65 v1_1 k0_t4) a + S1.size a ≤ S224.size a := fun v1_1 k0_hw4 k0_t4 k0_h4 => k0_hw4.1.2.2.2.2.2.2.2.2.2.2.2.2.2.1 k0_t4 k0_h4
theorem k0_off66_inb : ∀ (v1_1 : BitVec 32) (k0_hw4 : k0_chk4 v1_1) (k0_t4 : Fin (k0_t4_loop v1_1).trips), ∀ (k0_h4 : k0_cond4 v1_1 k0_t4 = 1#1), ∀ a, (k0_off66 v1_1 k0_t4) a + S1.size a ≤ S224.size a := fun v1_1 k0_hw4 k0_t4 k0_h4 => k0_hw4.1.2.2.2.2.2.2.2.2.2.2.2.2.2.2.1 k0_t4 k0_h4
theorem k0_off67_inb : ∀ (v1_1 : BitVec 32) (k0_hw4 : k0_chk4 v1_1) (k0_t4 : Fin (k0_t4_loop v1_1).trips), ∀ (k0_h4 : k0_cond4 v1_1 k0_t4 = 1#1), ∀ a, (k0_off67 v1_1 k0_t4) a + S1.size a ≤ S2.size a := fun v1_1 k0_hw4 k0_t4 k0_h4 => k0_hw4.1.2.2.2.2.2.2.2.2.2.2.2.2.2.2.2.1 k0_t4 k0_h4
theorem k0_off69_inb : ∀ (v1_1 : BitVec 32) (k0_hw4 : k0_chk4 v1_1) (k0_t4 : Fin (k0_t4_loop v1_1).trips), ∀ (k0_h4 : k0_cond4 v1_1 k0_t4 = 1#1), ∀ a, (k0_off69 v1_1 k0_t4) a + S1x4096x128.size a ≤ S2x4096x128.size a := fun v1_1 k0_hw4 k0_t4 k0_h4 => k0_hw4.1.2.2.2.2.2.2.2.2.2.2.2.2.2.2.2.2.1 k0_t4 k0_h4
theorem k0_off70_inb : ∀ (v1_1 : BitVec 32) (k0_hw4 : k0_chk4 v1_1) (k0_t4 : Fin (k0_t4_loop v1_1).trips), ∀ a, (k0_off70 v1_1 k0_t4) a + S1x1x1x128.size a ≤ S2x4x1x128.size a := fun v1_1 k0_hw4 k0_t4 => k0_hw4.1.2.2.2.2.2.2.2.2.2.2.2.2.2.2.2.2.2.1 k0_t4
theorem k0_off71_inb : ∀ (v1_1 : BitVec 32) (k0_hw4 : k0_chk4 v1_1) (k0_t4 : Fin (k0_t4_loop v1_1).trips), ∀ a, (k0_off71 v1_1 k0_t4) a + S1x128x2048.size a ≤ S2x512x2048.size a := fun v1_1 k0_hw4 k0_t4 => k0_hw4.1.2.2.2.2.2.2.2.2.2.2.2.2.2.2.2.2.2.2.1 k0_t4
theorem k0_off72_inb : ∀ (v1_1 : BitVec 32) (k0_hw4 : k0_chk4 v1_1) (k0_t4 : Fin (k0_t4_loop v1_1).trips), ∀ a, (k0_off72 v1_1 k0_t4) a + S1x1x1x128.size a ≤ S2x4x1x128.size a := fun v1_1 k0_hw4 k0_t4 => k0_hw4.1.2.2.2.2.2.2.2.2.2.2.2.2.2.2.2.2.2.2.2.1 k0_t4
theorem k0_off73_inb : ∀ (v1_1 : BitVec 32) (k0_hw4 : k0_chk4 v1_1) (k0_t4 : Fin (k0_t4_loop v1_1).trips), ∀ a, (k0_off73 v1_1 k0_t4) a + S1x128x2048.size a ≤ S2x512x2048.size a := fun v1_1 k0_hw4 k0_t4 => k0_hw4.1.2.2.2.2.2.2.2.2.2.2.2.2.2.2.2.2.2.2.2.2.1 k0_t4
theorem k0_off74_inb : ∀ (v1_1 : BitVec 32) (k0_hw4 : k0_chk4 v1_1) (k0_t4 : Fin (k0_t4_loop v1_1).trips), ∀ a, (k0_off74 v1_1 k0_t4) a + S1x1x1x128.size a ≤ S2x4x1x128.size a := fun v1_1 k0_hw4 k0_t4 => k0_hw4.1.2.2.2.2.2.2.2.2.2.2.2.2.2.2.2.2.2.2.2.2.2.1 k0_t4
theorem k0_off75_inb : ∀ (v1_1 : BitVec 32) (k0_hw4 : k0_chk4 v1_1) (k0_t4 : Fin (k0_t4_loop v1_1).trips), ∀ a, (k0_off75 v1_1 k0_t4) a + S1x128x2048.size a ≤ S2x512x2048.size a := fun v1_1 k0_hw4 k0_t4 => k0_hw4.1.2.2.2.2.2.2.2.2.2.2.2.2.2.2.2.2.2.2.2.2.2.2.1 k0_t4
theorem k0_off76_inb : ∀ (v1_1 : BitVec 32) (k0_hw4 : k0_chk4 v1_1) (k0_t4 : Fin (k0_t4_loop v1_1).trips), ∀ a, (k0_off76 v1_1 k0_t4) a + S1x1x1x128.size a ≤ S2x4x1x128.size a := fun v1_1 k0_hw4 k0_t4 => k0_hw4.1.2.2.2.2.2.2.2.2.2.2.2.2.2.2.2.2.2.2.2.2.2.2.2.1 k0_t4
theorem k0_off77_inb : ∀ (v1_1 : BitVec 32) (k0_hw4 : k0_chk4 v1_1) (k0_t4 : Fin (k0_t4_loop v1_1).trips), ∀ a, (k0_off77 v1_1 k0_t4) a + S1x128x2048.size a ≤ S2x512x2048.size a := fun v1_1 k0_hw4 k0_t4 => k0_hw4.1.2.2.2.2.2.2.2.2.2.2.2.2.2.2.2.2.2.2.2.2.2.2.2.2.1 k0_t4
theorem k0_off78_inb : ∀ (v1_1 : BitVec 32) (k0_hw4 : k0_chk4 v1_1) (k0_t4 : Fin (k0_t4_loop v1_1).trips), ∀ a, S1x512x128.size a = 0 ∨ (k0_off78 v1_1 k0_t4) a + (![1, 8, 1] : Fin 3 → Nat) a * (S1x512x128.size a - 1) < S2x4096x128.size a := fun v1_1 k0_hw4 k0_t4 => k0_hw4.1.2.2.2.2.2.2.2.2.2.2.2.2.2.2.2.2.2.2.2.2.2.2.2.2.2.1 k0_t4
theorem k0_off79_inb : ∀ (v1_1 : BitVec 32) (k0_hw4 : k0_chk4 v1_1) (k0_t4 : Fin (k0_t4_loop v1_1).trips), ∀ a, S1x512x128.size a = 0 ∨ (k0_off79 v1_1 k0_t4) a + (![1, 8, 1] : Fin 3 → Nat) a * (S1x512x128.size a - 1) < S2x4096x128.size a := fun v1_1 k0_hw4 k0_t4 => k0_hw4.1.2.2.2.2.2.2.2.2.2.2.2.2.2.2.2.2.2.2.2.2.2.2.2.2.2.2.1 k0_t4
theorem k0_off80_inb : ∀ (v1_1 : BitVec 32) (k0_hw4 : k0_chk4 v1_1) (k0_t4 : Fin (k0_t4_loop v1_1).trips), ∀ a, S1x512x128.size a = 0 ∨ (k0_off80 v1_1 k0_t4) a + (![1, 8, 1] : Fin 3 → Nat) a * (S1x512x128.size a - 1) < S2x4096x128.size a := fun v1_1 k0_hw4 k0_t4 => k0_hw4.1.2.2.2.2.2.2.2.2.2.2.2.2.2.2.2.2.2.2.2.2.2.2.2.2.2.2.2.1 k0_t4
theorem k0_off81_inb : ∀ (v1_1 : BitVec 32) (k0_hw4 : k0_chk4 v1_1) (k0_t4 : Fin (k0_t4_loop v1_1).trips), ∀ a, S1x512x128.size a = 0 ∨ (k0_off81 v1_1 k0_t4) a + (![1, 8, 1] : Fin 3 → Nat) a * (S1x512x128.size a - 1) < S2x4096x128.size a := fun v1_1 k0_hw4 k0_t4 => k0_hw4.1.2.2.2.2.2.2.2.2.2.2.2.2.2.2.2.2.2.2.2.2.2.2.2.2.2.2.2.2.1 k0_t4
theorem k0_off82_inb : ∀ (v1_1 : BitVec 32) (k0_hw4 : k0_chk4 v1_1) (k0_t4 : Fin (k0_t4_loop v1_1).trips), ∀ a, S1x512x128.size a = 0 ∨ (k0_off82 v1_1 k0_t4) a + (![1, 8, 1] : Fin 3 → Nat) a * (S1x512x128.size a - 1) < S2x4096x128.size a := fun v1_1 k0_hw4 k0_t4 => k0_hw4.1.2.2.2.2.2.2.2.2.2.2.2.2.2.2.2.2.2.2.2.2.2.2.2.2.2.2.2.2.2.1 k0_t4
theorem k0_off83_inb : ∀ (v1_1 : BitVec 32) (k0_hw4 : k0_chk4 v1_1) (k0_t4 : Fin (k0_t4_loop v1_1).trips), ∀ a, S1x512x128.size a = 0 ∨ (k0_off83 v1_1 k0_t4) a + (![1, 8, 1] : Fin 3 → Nat) a * (S1x512x128.size a - 1) < S2x4096x128.size a := fun v1_1 k0_hw4 k0_t4 => k0_hw4.1.2.2.2.2.2.2.2.2.2.2.2.2.2.2.2.2.2.2.2.2.2.2.2.2.2.2.2.2.2.2.1 k0_t4
theorem k0_off84_inb : ∀ (v1_1 : BitVec 32) (k0_hw4 : k0_chk4 v1_1) (k0_t4 : Fin (k0_t4_loop v1_1).trips), ∀ a, S1x512x128.size a = 0 ∨ (k0_off84 v1_1 k0_t4) a + (![1, 8, 1] : Fin 3 → Nat) a * (S1x512x128.size a - 1) < S2x4096x128.size a := fun v1_1 k0_hw4 k0_t4 => k0_hw4.1.2.2.2.2.2.2.2.2.2.2.2.2.2.2.2.2.2.2.2.2.2.2.2.2.2.2.2.2.2.2.2 k0_t4
theorem k0_off85_inb : ∀ (v1_1 : BitVec 32) (k0_hw4 : k0_chk4 v1_1) (k0_t4 : Fin (k0_t4_loop v1_1).trips), ∀ a, S1x512x128.size a = 0 ∨ (k0_off85 v1_1 k0_t4) a + (![1, 8, 1] : Fin 3 → Nat) a * (S1x512x128.size a - 1) < S2x4096x128.size a := fun v1_1 k0_hw4 k0_t4 => k0_hw4.2.1.1 k0_t4
theorem k0_off86_inb : ∀ (v1_1 : BitVec 32) (k0_hw4 : k0_chk4 v1_1) (k0_t4 : Fin (k0_t4_loop v1_1).trips), ∀ a, (k0_off86 v1_1 k0_t4) a + S1.size a ≤ S224.size a := fun v1_1 k0_hw4 k0_t4 => k0_hw4.2.1.2.1 k0_t4
theorem k0_off87_inb : ∀ (v1_1 : BitVec 32) (k0_hw4 : k0_chk4 v1_1) (k0_t4 : Fin (k0_t4_loop v1_1).trips), ∀ a, (k0_off87 v1_1 k0_t4) a + S1.size a ≤ S224.size a := fun v1_1 k0_hw4 k0_t4 => k0_hw4.2.1.2.2.1 k0_t4
theorem k0_off88_inb : ∀ (v1_1 : BitVec 32) (k0_hw4 : k0_chk4 v1_1) (k0_t4 : Fin (k0_t4_loop v1_1).trips), ∀ a, (k0_off88 v1_1 k0_t4) a + S1.size a ≤ S2.size a := fun v1_1 k0_hw4 k0_t4 => k0_hw4.2.1.2.2.2.1 k0_t4
theorem k0_off90_inb : ∀ (v1_1 : BitVec 32) (k0_hw4 : k0_chk4 v1_1) (k0_t4 : Fin (k0_t4_loop v1_1).trips), ∀ a, (k0_off90 v1_1 k0_t4) a + S1x4096x128.size a ≤ S2x4096x128.size a := fun v1_1 k0_hw4 k0_t4 => k0_hw4.2.1.2.2.2.2.1 k0_t4
theorem k0_t6_ok : ∀ (v1_1 : BitVec 32) (k0_hw4 : k0_chk4 v1_1), (k0_t6_loop v1_1).OK := fun v1_1 k0_hw4 => k0_hw4.2.1.2.2.2.2.2.1
theorem k0_off91_inb : ∀ (v1_1 : BitVec 32) (k0_hw4 : k0_chk4 v1_1) (k0_t6 : Fin (k0_t6_loop v1_1).trips), ∀ a, (k0_off91 v1_1 k0_t6) a + S1.size a ≤ S224.size a := fun v1_1 k0_hw4 k0_t6 => k0_hw4.2.1.2.2.2.2.2.2.1 k0_t6
theorem k0_off92_inb : ∀ (v1_1 : BitVec 32) (k0_hw4 : k0_chk4 v1_1) (k0_t6 : Fin (k0_t6_loop v1_1).trips), ∀ a, (k0_off92 v1_1 k0_t6) a + S1.size a ≤ S224.size a := fun v1_1 k0_hw4 k0_t6 => k0_hw4.2.1.2.2.2.2.2.2.2.1 k0_t6
theorem k0_off93_inb : ∀ (v1_1 : BitVec 32) (k0_hw4 : k0_chk4 v1_1) (k0_t6 : Fin (k0_t6_loop v1_1).trips), ∀ (k0_h5 : k0_cond5 v1_1 k0_t6 = 1#1), ∀ a, (k0_off93 v1_1 k0_t6) a + S1.size a ≤ S224.size a := fun v1_1 k0_hw4 k0_t6 k0_h5 => k0_hw4.2.1.2.2.2.2.2.2.2.2.1 k0_t6 k0_h5
theorem k0_off94_inb : ∀ (v1_1 : BitVec 32) (k0_hw4 : k0_chk4 v1_1) (k0_t6 : Fin (k0_t6_loop v1_1).trips), ∀ (k0_h5 : k0_cond5 v1_1 k0_t6 = 1#1), ∀ a, (k0_off94 v1_1 k0_t6) a + S1.size a ≤ S2.size a := fun v1_1 k0_hw4 k0_t6 k0_h5 => k0_hw4.2.1.2.2.2.2.2.2.2.2.2.1 k0_t6 k0_h5
theorem k0_off95_inb : ∀ (v1_1 : BitVec 32) (k0_hw4 : k0_chk4 v1_1) (k0_t6 : Fin (k0_t6_loop v1_1).trips), ∀ (k0_h5 : k0_cond5 v1_1 k0_t6 = 1#1), ∀ a, (k0_off95 v1_1 k0_t6) a + S1x512x2048.size a ≤ S2x512x2048.size a := fun v1_1 k0_hw4 k0_t6 k0_h5 => k0_hw4.2.1.2.2.2.2.2.2.2.2.2.2.1 k0_t6 k0_h5
theorem k0_off95_wordsfp8e4m3 : ∀ (v1_1 : BitVec 32) (k0_hw4 : k0_chk4 v1_1) (k0_t6 : Fin (k0_t6_loop v1_1).trips), ∀ (k0_h5 : k0_cond5 v1_1 k0_t6 = 1#1), (Rect.unit (s := S2x512x2048) (k0_off95 v1_1 k0_t6) S1x512x2048.size (k0_off95_inb v1_1 k0_hw4 k0_t6 k0_h5)).WholeWords (EltTy.packing .fp8e4m3) := fun v1_1 k0_hw4 k0_t6 k0_h5 => k0_hw4.2.1.2.2.2.2.2.2.2.2.2.2.2.1 k0_t6 k0_h5 (k0_off95_inb v1_1 k0_hw4 k0_t6 k0_h5)
theorem k0_off97_inb : ∀ (v1_1 : BitVec 32) (k0_hw4 : k0_chk4 v1_1) (k0_t6 : Fin (k0_t6_loop v1_1).trips), ∀ (k0_h5 : k0_cond5 v1_1 k0_t6 = 1#1), ∀ a, (k0_off97 v1_1 k0_t6) a + S1x4x1x128.size a ≤ S2x4x1x128.size a := fun v1_1 k0_hw4 k0_t6 k0_h5 => k0_hw4.2.1.2.2.2.2.2.2.2.2.2.2.2.2.1 k0_t6 k0_h5
theorem k0_off142_inb : ∀ (v1_1 : BitVec 32) (k0_hw4 : k0_chk4 v1_1) (k0_t6 : Fin (k0_t6_loop v1_1).trips), ∀ a, (k0_off142 v1_1 k0_t6) a + S1.size a ≤ S224.size a := fun v1_1 k0_hw4 k0_t6 => k0_hw4.2.1.2.2.2.2.2.2.2.2.2.2.2.2.2.1 k0_t6
theorem k0_off143_inb : ∀ (v1_1 : BitVec 32) (k0_hw4 : k0_chk4 v1_1) (k0_t6 : Fin (k0_t6_loop v1_1).trips), ∀ a, (k0_off143 v1_1 k0_t6) a + S1.size a ≤ S2.size a := fun v1_1 k0_hw4 k0_t6 => k0_hw4.2.1.2.2.2.2.2.2.2.2.2.2.2.2.2.2.1 k0_t6
theorem k0_off144_inb : ∀ (v1_1 : BitVec 32) (k0_hw4 : k0_chk4 v1_1) (k0_t6 : Fin (k0_t6_loop v1_1).trips), ∀ a, (k0_off144 v1_1 k0_t6) a + S1x512x2048.size a ≤ S2x512x2048.size a := fun v1_1 k0_hw4 k0_t6 => k0_hw4.2.1.2.2.2.2.2.2.2.2.2.2.2.2.2.2.2.1 k0_t6
theorem k0_off144_wordsfp8e4m3 : ∀ (v1_1 : BitVec 32) (k0_hw4 : k0_chk4 v1_1) (k0_t6 : Fin (k0_t6_loop v1_1).trips), (Rect.unit (s := S2x512x2048) (k0_off144 v1_1 k0_t6) S1x512x2048.size (k0_off144_inb v1_1 k0_hw4 k0_t6)).WholeWords (EltTy.packing .fp8e4m3) := fun v1_1 k0_hw4 k0_t6 => k0_hw4.2.1.2.2.2.2.2.2.2.2.2.2.2.2.2.2.2.2.1 k0_t6 (k0_off144_inb v1_1 k0_hw4 k0_t6)
theorem k0_off146_inb : ∀ (v1_1 : BitVec 32) (k0_hw4 : k0_chk4 v1_1) (k0_t6 : Fin (k0_t6_loop v1_1).trips), ∀ a, (k0_off146 v1_1 k0_t6) a + S1x4x1x128.size a ≤ S2x4x1x128.size a := fun v1_1 k0_hw4 k0_t6 => k0_hw4.2.1.2.2.2.2.2.2.2.2.2.2.2.2.2.2.2.2.2.1 k0_t6
theorem k0_off148_inb : ∀ (v1_1 : BitVec 32) (k0_hw4 : k0_chk4 v1_1) (k0_t6 : Fin (k0_t6_loop v1_1).trips), ∀ (k0_h8 : k0_cond8 v1_1 k0_t6 = 1#1), ∀ a, (k0_off148 v1_1 k0_t6) a + S1.size a ≤ S224.size a := fun v1_1 k0_hw4 k0_t6 k0_h8 => k0_hw4.2.1.2.2.2.2.2.2.2.2.2.2.2.2.2.2.2.2.2.2.1 k0_t6 k0_h8
theorem k0_off149_inb : ∀ (v1_1 : BitVec 32) (k0_hw4 : k0_chk4 v1_1) (k0_t6 : Fin (k0_t6_loop v1_1).trips), ∀ (k0_h8 : k0_cond8 v1_1 k0_t6 = 1#1), ∀ a, (k0_off149 v1_1 k0_t6) a + S1.size a ≤ S224.size a := fun v1_1 k0_hw4 k0_t6 k0_h8 => k0_hw4.2.1.2.2.2.2.2.2.2.2.2.2.2.2.2.2.2.2.2.2.2.1 k0_t6 k0_h8
theorem k0_off150_inb : ∀ (v1_1 : BitVec 32) (k0_hw4 : k0_chk4 v1_1) (k0_t6 : Fin (k0_t6_loop v1_1).trips), ∀ (k0_h8 : k0_cond8 v1_1 k0_t6 = 1#1), ∀ a, (k0_off150 v1_1 k0_t6) a + S1.size a ≤ S2.size a := fun v1_1 k0_hw4 k0_t6 k0_h8 => k0_hw4.2.1.2.2.2.2.2.2.2.2.2.2.2.2.2.2.2.2.2.2.2.2.1 k0_t6 k0_h8
theorem k0_off152_inb : ∀ (v1_1 : BitVec 32) (k0_hw4 : k0_chk4 v1_1) (k0_t6 : Fin (k0_t6_loop v1_1).trips), ∀ (k0_h8 : k0_cond8 v1_1 k0_t6 = 1#1), ∀ a, (k0_off152 v1_1 k0_t6) a + S1x4096x128.size a ≤ S2x4096x128.size a := fun v1_1 k0_hw4 k0_t6 k0_h8 => k0_hw4.2.1.2.2.2.2.2.2.2.2.2.2.2.2.2.2.2.2.2.2.2.2.2.1 k0_t6 k0_h8
theorem k0_off153_inb : ∀ (v1_1 : BitVec 32) (k0_hw4 : k0_chk4 v1_1) (k0_t6 : Fin (k0_t6_loop v1_1).trips), ∀ a, (k0_off153 v1_1 k0_t6) a + S1x1x1x128.size a ≤ S2x4x1x128.size a := fun v1_1 k0_hw4 k0_t6 => k0_hw4.2.1.2.2.2.2.2.2.2.2.2.2.2.2.2.2.2.2.2.2.2.2.2.2.1 k0_t6
theorem k0_off154_inb : ∀ (v1_1 : BitVec 32) (k0_hw4 : k0_chk4 v1_1) (k0_t6 : Fin (k0_t6_loop v1_1).trips), ∀ a, (k0_off154 v1_1 k0_t6) a + S1x128x2048.size a ≤ S2x512x2048.size a := fun v1_1 k0_hw4 k0_t6 => k0_hw4.2.1.2.2.2.2.2.2.2.2.2.2.2.2.2.2.2.2.2.2.2.2.2.2.2.1 k0_t6
theorem k0_off155_inb : ∀ (v1_1 : BitVec 32) (k0_hw4 : k0_chk4 v1_1) (k0_t6 : Fin (k0_t6_loop v1_1).trips), ∀ a, (k0_off155 v1_1 k0_t6) a + S1x1x1x128.size a ≤ S2x4x1x128.size a := fun v1_1 k0_hw4 k0_t6 => k0_hw4.2.1.2.2.2.2.2.2.2.2.2.2.2.2.2.2.2.2.2.2.2.2.2.2.2.2.1 k0_t6
theorem k0_off156_inb : ∀ (v1_1 : BitVec 32) (k0_hw4 : k0_chk4 v1_1) (k0_t6 : Fin (k0_t6_loop v1_1).trips), ∀ a, (k0_off156 v1_1 k0_t6) a + S1x128x2048.size a ≤ S2x512x2048.size a := fun v1_1 k0_hw4 k0_t6 => k0_hw4.2.1.2.2.2.2.2.2.2.2.2.2.2.2.2.2.2.2.2.2.2.2.2.2.2.2.2.1 k0_t6
theorem k0_off157_inb : ∀ (v1_1 : BitVec 32) (k0_hw4 : k0_chk4 v1_1) (k0_t6 : Fin (k0_t6_loop v1_1).trips), ∀ a, (k0_off157 v1_1 k0_t6) a + S1x1x1x128.size a ≤ S2x4x1x128.size a := fun v1_1 k0_hw4 k0_t6 => k0_hw4.2.1.2.2.2.2.2.2.2.2.2.2.2.2.2.2.2.2.2.2.2.2.2.2.2.2.2.2.1 k0_t6
theorem k0_off158_inb : ∀ (v1_1 : BitVec 32) (k0_hw4 : k0_chk4 v1_1) (k0_t6 : Fin (k0_t6_loop v1_1).trips), ∀ a, (k0_off158 v1_1 k0_t6) a + S1x128x2048.size a ≤ S2x512x2048.size a := fun v1_1 k0_hw4 k0_t6 => k0_hw4.2.1.2.2.2.2.2.2.2.2.2.2.2.2.2.2.2.2.2.2.2.2.2.2.2.2.2.2.2.1 k0_t6
theorem k0_off159_inb : ∀ (v1_1 : BitVec 32) (k0_hw4 : k0_chk4 v1_1) (k0_t6 : Fin (k0_t6_loop v1_1).trips), ∀ a, (k0_off159 v1_1 k0_t6) a + S1x1x1x128.size a ≤ S2x4x1x128.size a := fun v1_1 k0_hw4 k0_t6 => k0_hw4.2.1.2.2.2.2.2.2.2.2.2.2.2.2.2.2.2.2.2.2.2.2.2.2.2.2.2.2.2.2.1 k0_t6
theorem k0_off160_inb : ∀ (v1_1 : BitVec 32) (k0_hw4 : k0_chk4 v1_1) (k0_t6 : Fin (k0_t6_loop v1_1).trips), ∀ a, (k0_off160 v1_1 k0_t6) a + S1x128x2048.size a ≤ S2x512x2048.size a := fun v1_1 k0_hw4 k0_t6 => k0_hw4.2.1.2.2.2.2.2.2.2.2.2.2.2.2.2.2.2.2.2.2.2.2.2.2.2.2.2.2.2.2.2.1 k0_t6
theorem k0_off161_inb : ∀ (v1_1 : BitVec 32) (k0_hw4 : k0_chk4 v1_1) (k0_t6 : Fin (k0_t6_loop v1_1).trips), ∀ a, S1x512x128.size a = 0 ∨ (k0_off161 v1_1 k0_t6) a + (![1, 8, 1] : Fin 3 → Nat) a * (S1x512x128.size a - 1) < S2x4096x128.size a := fun v1_1 k0_hw4 k0_t6 => k0_hw4.2.1.2.2.2.2.2.2.2.2.2.2.2.2.2.2.2.2.2.2.2.2.2.2.2.2.2.2.2.2.2.2.1 k0_t6
theorem k0_off162_inb : ∀ (v1_1 : BitVec 32) (k0_hw4 : k0_chk4 v1_1) (k0_t6 : Fin (k0_t6_loop v1_1).trips), ∀ a, S1x512x128.size a = 0 ∨ (k0_off162 v1_1 k0_t6) a + (![1, 8, 1] : Fin 3 → Nat) a * (S1x512x128.size a - 1) < S2x4096x128.size a := fun v1_1 k0_hw4 k0_t6 => k0_hw4.2.1.2.2.2.2.2.2.2.2.2.2.2.2.2.2.2.2.2.2.2.2.2.2.2.2.2.2.2.2.2.2.2 k0_t6
theorem k0_off163_inb : ∀ (v1_1 : BitVec 32) (k0_hw4 : k0_chk4 v1_1) (k0_t6 : Fin (k0_t6_loop v1_1).trips), ∀ a, S1x512x128.size a = 0 ∨ (k0_off163 v1_1 k0_t6) a + (![1, 8, 1] : Fin 3 → Nat) a * (S1x512x128.size a - 1) < S2x4096x128.size a := fun v1_1 k0_hw4 k0_t6 => k0_hw4.2.2.1 k0_t6
theorem k0_off164_inb : ∀ (v1_1 : BitVec 32) (k0_hw4 : k0_chk4 v1_1) (k0_t6 : Fin (k0_t6_loop v1_1).trips), ∀ a, S1x512x128.size a = 0 ∨ (k0_off164 v1_1 k0_t6) a + (![1, 8, 1] : Fin 3 → Nat) a * (S1x512x128.size a - 1) < S2x4096x128.size a := fun v1_1 k0_hw4 k0_t6 => k0_hw4.2.2.2.1 k0_t6
theorem k0_off165_inb : ∀ (v1_1 : BitVec 32) (k0_hw4 : k0_chk4 v1_1) (k0_t6 : Fin (k0_t6_loop v1_1).trips), ∀ a, S1x512x128.size a = 0 ∨ (k0_off165 v1_1 k0_t6) a + (![1, 8, 1] : Fin 3 → Nat) a * (S1x512x128.size a - 1) < S2x4096x128.size a := fun v1_1 k0_hw4 k0_t6 => k0_hw4.2.2.2.2.1 k0_t6
theorem k0_off166_inb : ∀ (v1_1 : BitVec 32) (k0_hw4 : k0_chk4 v1_1) (k0_t6 : Fin (k0_t6_loop v1_1).trips), ∀ a, S1x512x128.size a = 0 ∨ (k0_off166 v1_1 k0_t6) a + (![1, 8, 1] : Fin 3 → Nat) a * (S1x512x128.size a - 1) < S2x4096x128.size a := fun v1_1 k0_hw4 k0_t6 => k0_hw4.2.2.2.2.2.1 k0_t6
theorem k0_off167_inb : ∀ (v1_1 : BitVec 32) (k0_hw4 : k0_chk4 v1_1) (k0_t6 : Fin (k0_t6_loop v1_1).trips), ∀ a, S1x512x128.size a = 0 ∨ (k0_off167 v1_1 k0_t6) a + (![1, 8, 1] : Fin 3 → Nat) a * (S1x512x128.size a - 1) < S2x4096x128.size a := fun v1_1 k0_hw4 k0_t6 => k0_hw4.2.2.2.2.2.2.1 k0_t6
theorem k0_off168_inb : ∀ (v1_1 : BitVec 32) (k0_hw4 : k0_chk4 v1_1) (k0_t6 : Fin (k0_t6_loop v1_1).trips), ∀ a, S1x512x128.size a = 0 ∨ (k0_off168 v1_1 k0_t6) a + (![1, 8, 1] : Fin 3 → Nat) a * (S1x512x128.size a - 1) < S2x4096x128.size a := fun v1_1 k0_hw4 k0_t6 => k0_hw4.2.2.2.2.2.2.2.1 k0_t6
theorem k0_off169_inb : ∀ (v1_1 : BitVec 32) (k0_hw4 : k0_chk4 v1_1) (k0_t6 : Fin (k0_t6_loop v1_1).trips), ∀ a, (k0_off169 v1_1 k0_t6) a + S1.size a ≤ S224.size a := fun v1_1 k0_hw4 k0_t6 => k0_hw4.2.2.2.2.2.2.2.2.1 k0_t6
theorem k0_off170_inb : ∀ (v1_1 : BitVec 32) (k0_hw4 : k0_chk4 v1_1) (k0_t6 : Fin (k0_t6_loop v1_1).trips), ∀ a, (k0_off170 v1_1 k0_t6) a + S1.size a ≤ S224.size a := fun v1_1 k0_hw4 k0_t6 => k0_hw4.2.2.2.2.2.2.2.2.2.1 k0_t6
theorem k0_off171_inb : ∀ (v1_1 : BitVec 32) (k0_hw4 : k0_chk4 v1_1) (k0_t6 : Fin (k0_t6_loop v1_1).trips), ∀ a, (k0_off171 v1_1 k0_t6) a + S1.size a ≤ S2.size a := fun v1_1 k0_hw4 k0_t6 => k0_hw4.2.2.2.2.2.2.2.2.2.2.1 k0_t6
theorem k0_off173_inb : ∀ (v1_1 : BitVec 32) (k0_hw4 : k0_chk4 v1_1) (k0_t6 : Fin (k0_t6_loop v1_1).trips), ∀ a, (k0_off173 v1_1 k0_t6) a + S1x4096x128.size a ≤ S2x4096x128.size a := fun v1_1 k0_hw4 k0_t6 => k0_hw4.2.2.2.2.2.2.2.2.2.2.2.1 k0_t6
theorem k0_off174_inb : ∀ (v1_1 : BitVec 32) (k0_hw4 : k0_chk4 v1_1), ∀ (k0_h9 : k0_cond9 v1_1 = 1#1), ∀ a, (k0_off174 v1_1) a + S1.size a ≤ S224.size a := fun v1_1 k0_hw4 k0_h9 => k0_hw4.2.2.2.2.2.2.2.2.2.2.2.2.1 k0_h9
theorem k0_off175_inb : ∀ (v1_1 : BitVec 32) (k0_hw4 : k0_chk4 v1_1), ∀ (k0_h9 : k0_cond9 v1_1 = 1#1), ∀ a, (k0_off175 v1_1) a + S1.size a ≤ S224.size a := fun v1_1 k0_hw4 k0_h9 => k0_hw4.2.2.2.2.2.2.2.2.2.2.2.2.2.1 k0_h9
theorem k0_off176_inb : ∀ (v1_1 : BitVec 32) (k0_hw4 : k0_chk4 v1_1), ∀ (k0_h9 : k0_cond9 v1_1 = 1#1), ∀ a, (k0_off176 v1_1) a + S1.size a ≤ S2.size a := fun v1_1 k0_hw4 k0_h9 => k0_hw4.2.2.2.2.2.2.2.2.2.2.2.2.2.2.1 k0_h9
theorem k0_off178_inb : ∀ (v1_1 : BitVec 32) (k0_hw4 : k0_chk4 v1_1), ∀ (k0_h9 : k0_cond9 v1_1 = 1#1), ∀ a, (k0_off178 v1_1) a + S1x4096x128.size a ≤ S2x4096x128.size a := fun v1_1 k0_hw4 k0_h9 => k0_hw4.2.2.2.2.2.2.2.2.2.2.2.2.2.2.2.1 k0_h9
theorem k0_off179_inb : ∀ (v1_1 : BitVec 32) (k0_hw4 : k0_chk4 v1_1), ∀ a, (k0_off179 v1_1) a + S1.size a ≤ S224.size a := fun v1_1 k0_hw4 => k0_hw4.2.2.2.2.2.2.2.2.2.2.2.2.2.2.2.2.1
theorem k0_off180_inb : ∀ (v1_1 : BitVec 32) (k0_hw4 : k0_chk4 v1_1), ∀ a, (k0_off180 v1_1) a + S1.size a ≤ S224.size a := fun v1_1 k0_hw4 => k0_hw4.2.2.2.2.2.2.2.2.2.2.2.2.2.2.2.2.2.1
theorem k0_off181_inb : ∀ (v1_1 : BitVec 32) (k0_hw4 : k0_chk4 v1_1), ∀ a, (k0_off181 v1_1) a + S1.size a ≤ S2.size a := fun v1_1 k0_hw4 => k0_hw4.2.2.2.2.2.2.2.2.2.2.2.2.2.2.2.2.2.2.1
theorem k0_off183_inb : ∀ (v1_1 : BitVec 32) (k0_hw4 : k0_chk4 v1_1), ∀ a, (k0_off183 v1_1) a + S1x4096x128.size a ≤ S2x4096x128.size a := fun v1_1 k0_hw4 => k0_hw4.2.2.2.2.2.2.2.2.2.2.2.2.2.2.2.2.2.2.2

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== Reference1024Ideal.lean ====
abbrev S98304x2048 : Shape := ⟨2, ![98304, 2048]⟩
abbrev S98304 : Shape := ⟨1, ![98304]⟩
abbrev S16 : Shape := ⟨1, ![16]⟩
abbrev S16x1024x4096 : Shape := ⟨3, ![16, 1024, 4096]⟩
abbrev S16x16x4096 : Shape := ⟨3, ![16, 16, 4096]⟩
abbrev S16x1024x1024 : Shape := ⟨3, ![16, 1024, 1024]⟩
abbrev S16x16x1024 : Shape := ⟨3, ![16, 16, 1024]⟩
abbrev S933888x128 : Shape := ⟨2, ![933888, 128]⟩
abbrev S98304x1 : Shape := ⟨2, ![98304, 1]⟩
abbrev S16x1024x1x1024 : Shape := ⟨4, ![16, 1024, 1, 1024]⟩
abbrev S16x1024x2x1024 : Shape := ⟨4, ![16, 1024, 2, 1024]⟩
abbrev S16x2048x1024 : Shape := ⟨3, ![16, 2048, 1024]⟩
abbrev S16x16x1x1024 : Shape := ⟨4, ![16, 16, 1, 1024]⟩
abbrev S16x16x128x1024 : Shape := ⟨4, ![16, 16, 128, 1024]⟩
abbrev S116736x1024 : Shape := ⟨2, ![116736, 1024]⟩
abbrev S1 : Shape := ⟨1, ![1]⟩
abbrev S1x2048x1024 : Shape := ⟨3, ![1, 2048, 1024]⟩
abbrev S2048x1024 : Shape := ⟨2, ![2048, 1024]⟩
abbrev S98304x1024 : Shape := ⟨2, ![98304, 1024]⟩
abbrev S18432x1024 : Shape := ⟨2, ![18432, 1024]⟩
abbrev S1152x1024 : Shape := ⟨2, ![1152, 1024]⟩
abbrev S17280x1024 : Shape := ⟨2, ![17280, 1024]⟩
abbrev S2304x1024 : Shape := ⟨2, ![2304, 1024]⟩
abbrev S16128x1024 : Shape := ⟨2, ![16128, 1024]⟩
abbrev S3456x1024 : Shape := ⟨2, ![3456, 1024]⟩
abbrev S14976x1024 : Shape := ⟨2, ![14976, 1024]⟩
abbrev S4608x1024 : Shape := ⟨2, ![4608, 1024]⟩
abbrev S13824x1024 : Shape := ⟨2, ![13824, 1024]⟩
abbrev S5760x1024 : Shape := ⟨2, ![5760, 1024]⟩
abbrev S12672x1024 : Shape := ⟨2, ![12672, 1024]⟩
abbrev S6912x1024 : Shape := ⟨2, ![6912, 1024]⟩
abbrev S11520x1024 : Shape := ⟨2, ![11520, 1024]⟩
abbrev S8064x1024 : Shape := ⟨2, ![8064, 1024]⟩
abbrev S10368x1024 : Shape := ⟨2, ![10368, 1024]⟩
abbrev S9216x1024 : Shape := ⟨2, ![9216, 1024]⟩

abbrev nBuf : Space → Nat
  | .hbm => 8
  | .vmem => 5
  | .smem => 1
  | _ => 0

abbrev bufTy : (tb : Table) → Fin (tcTables nBuf tb) → BufTy
  | .hbm, ⟨0, _⟩ => ⟨S98304x2048, .fp8e4m3⟩
  | .hbm, ⟨1, _⟩ => ⟨S98304, .f32⟩
  | .hbm, ⟨2, _⟩ => ⟨S16, .i32⟩
  | .hbm, ⟨3, _⟩ => ⟨S16x1024x4096, .i8⟩
  | .hbm, ⟨4, _⟩ => ⟨S16x16x4096, .bf16⟩
  | .hbm, ⟨5, _⟩ => ⟨S16x1024x1024, .i8⟩
  | .hbm, ⟨6, _⟩ => ⟨S16x16x1024, .bf16⟩
  | .hbm, ⟨7, _⟩ => ⟨S933888x128, .f32⟩
  | .local _ .vmem, ⟨0, _⟩ => ⟨S98304x2048, .fp8e4m3⟩
  | .local _ .vmem, ⟨1, _⟩ => ⟨S98304, .f32⟩
  | .local _ .vmem, ⟨2, _⟩ => ⟨S16x1024x1024, .i8⟩
  | .local _ .vmem, ⟨3, _⟩ => ⟨S16x16x1024, .bf16⟩
  | .local _ .vmem, ⟨4, _⟩ => ⟨S933888x128, .f32⟩
  | .local _ .smem, ⟨0, _⟩ => ⟨S16, .i32⟩
  | _, _ => ⟨S98304x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S98304x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S98304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S16 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024x1024 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S933888x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Kernel2048.lean ====
abbrev S98304x2048 : Shape := ⟨2, ![98304, 2048]⟩
abbrev S98304 : Shape := ⟨1, ![98304]⟩
abbrev S16 : Shape := ⟨1, ![16]⟩
abbrev S16x1024x4096 : Shape := ⟨3, ![16, 1024, 4096]⟩
abbrev S16x16x4096 : Shape := ⟨3, ![16, 16, 4096]⟩
abbrev S768x1x128 : Shape := ⟨3, ![768, 1, 128]⟩
abbrev S933888x128 : Shape := ⟨2, ![933888, 128]⟩
abbrev S224 : Shape := ⟨1, ![224]⟩
abbrev S2x512x2048 : Shape := ⟨3, ![2, 512, 2048]⟩
abbrev S2x4x1x128 : Shape := ⟨4, ![2, 4, 1, 128]⟩
abbrev S2x1024x1024 : Shape := ⟨3, ![2, 1024, 1024]⟩
abbrev S2x16x1024 : Shape := ⟨3, ![2, 16, 1024]⟩
abbrev S2048x1024 : Shape := ⟨2, ![2048, 1024]⟩
abbrev S2x4096x128 : Shape := ⟨3, ![2, 4096, 128]⟩
abbrev S2 : Shape := ⟨1, ![2]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S1x16x1024 : Shape := ⟨3, ![1, 16, 1024]⟩
abbrev S16x1024 : Shape := ⟨2, ![16, 1024]⟩
abbrev S1x512x2048 : Shape := ⟨3, ![1, 512, 2048]⟩
abbrev S512x2048 : Shape := ⟨2, ![512, 2048]⟩
abbrev S1x4x1x128 : Shape := ⟨4, ![1, 4, 1, 128]⟩
abbrev S4x1x128 : Shape := ⟨3, ![4, 1, 128]⟩
abbrev S1x64x1024 : Shape := ⟨3, ![1, 64, 1024]⟩
abbrev S64x1024 : Shape := ⟨2, ![64, 1024]⟩
abbrev S64x1x1024 : Shape := ⟨3, ![64, 1, 1024]⟩
abbrev S64x2x1024 : Shape := ⟨3, ![64, 2, 1024]⟩
abbrev S128x1024 : Shape := ⟨2, ![128, 1024]⟩
abbrev S1x1x1024 : Shape := ⟨3, ![1, 1, 1024]⟩
abbrev S1x1024 : Shape := ⟨2, ![1, 1024]⟩
abbrev S4096x128 : Shape := ⟨2, ![4096, 128]⟩
abbrev S1x4096x128 : Shape := ⟨3, ![1, 4096, 128]⟩
abbrev S1x1x1x128 : Shape := ⟨4, ![1, 1, 1, 128]⟩
abbrev S1x128 : Shape := ⟨2, ![1, 128]⟩
abbrev S128x128 : Shape := ⟨2, ![128, 128]⟩
abbrev S1x128x2048 : Shape := ⟨3, ![1, 128, 2048]⟩
abbrev S128x2048 : Shape := ⟨2, ![128, 2048]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 7
  | .vmem => 6
  | .smem => 3
  | _ => 0

abbrev bufTy : (tb : Table) → Fin (tcTables nBuf tb) → BufTy
  | .hbm, ⟨0, _⟩ => ⟨S98304x2048, .fp8e4m3⟩
  | .hbm, ⟨1, _⟩ => ⟨S98304, .f32⟩
  | .hbm, ⟨2, _⟩ => ⟨S16, .i32⟩
  | .hbm, ⟨3, _⟩ => ⟨S16x1024x4096, .i8⟩
  | .hbm, ⟨4, _⟩ => ⟨S16x16x4096, .bf16⟩
  | .hbm, ⟨5, _⟩ => ⟨S768x1x128, .f32⟩
  | .hbm, ⟨6, _⟩ => ⟨S933888x128, .f32⟩
  | .local _ .vmem, ⟨0, _⟩ => ⟨S2x512x2048, .fp8e4m3⟩
  | .local _ .vmem, ⟨1, _⟩ => ⟨S2x4x1x128, .f32⟩
  | .local _ .vmem, ⟨2, _⟩ => ⟨S2x1024x1024, .i8⟩
  | .local _ .vmem, ⟨3, _⟩ => ⟨S2x16x1024, .bf16⟩
  | .local _ .vmem, ⟨4, _⟩ => ⟨S2048x1024, .bf16⟩
  | .local _ .vmem, ⟨5, _⟩ => ⟨S2x4096x128, .f32⟩
  | .local _ .smem, ⟨0, _⟩ => ⟨S16, .i32⟩
  | .local _ .smem, ⟨1, _⟩ => ⟨S224, .i32⟩
  | .local _ .smem, ⟨2, _⟩ => ⟨S224, .i32⟩
  | _, _ => ⟨S98304x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_scratch2 : Ref sig .tc := ⟨.vmem, 0, rfl⟩
abbrev cc0_scratch3 : Ref sig .tc := ⟨.vmem, 1, rfl⟩
abbrev cc0_scratch4 : Ref sig .tc := ⟨.vmem, 2, rfl⟩
abbrev cc0_scratch5 : Ref sig .tc := ⟨.vmem, 3, rfl⟩
abbrev cc0_scratch6 : Ref sig .tc := ⟨.vmem, 4, rfl⟩
abbrev cc0_scratch7 : Ref sig .tc := ⟨.vmem, 5, rfl⟩
abbrev cc0_stg0_0 : Ref sig .tc := ⟨.smem, 0, rfl⟩
abbrev cc0_scratch0 : Ref sig .tc := ⟨.smem, 1, rfl⟩
abbrev cc0_scratch1 : Ref sig .tc := ⟨.smem, 2, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_1 : BitVec 32 := 0#32
  let c16_i32 : BitVec 32 := 16#32
  let v0 : BitVec 32 := Scalar.addi c0_i32_1 c16_i32
  let c1_i32 : BitVec 32 := 1#32
  ⟨c0_i32_1, v0, c1_i32⟩
def k0_off1 (k0_t1 : Fin k0_t1_loop.trips) : Fin 1 → Nat :=
  let c0_i32_1 : BitVec 32 := 0#32
  let c1_i32 : BitVec 32 := 1#32
  let arg19 : BitVec 32 := Scf.iv c0_i32_1 c1_i32 k0_t1
  let v73 : Index := Scalar.indexCast arg19
  ![v73.toNat]
@[reducible] def k0_t2_loop (arg20 : BitVec 32) (v74 : BitVec 32) : Scf.Loop 32 :=
  let c0_i32_63 : BitVec 32 := 0#32
  let v75 : BitVec 32 := Scalar.addi arg20 v74
  let v94 : BitVec 1 := Scalar.cmpi .sgt v75 arg20
  let c0_i32_47 : BitVec 32 := 0#32
  let v77 : BitVec 1 := Scalar.cmpi .sgt arg20 c0_i32_47
  let v78 : BitVec 32 := Scalar.extui v77
  let c0_i32_48 : BitVec 32 := 0#32
  let v79 : BitVec 1 := Scalar.cmpi .slt arg20 c0_i32_48
  let v80 : BitVec 32 := Scalar.extui v79
  let v81 : BitVec 32 := Scalar.subi v78 v80
  let c128_i32_46 : BitVec 32 := 128#32
  let c0_i32_49 : BitVec 32 := 0#32
  let v82 : BitVec 1 := Scalar.cmpi .sgt c128_i32_46 c0_i32_49
  let v83 : BitVec 32 := Scalar.extui v82
  let c0_i32_50 : BitVec 32 := 0#32
  let v84 : BitVec 1 := Scalar.cmpi .slt c128_i32_46 c0_i32_50
  let v85 : BitVec 32 := Scalar.extui v84
  let v86 : BitVec 32 := Scalar.subi v83 v85
  let v87 : BitVec 1 := Scalar.cmpi .ne v81 v86
  let v88 : BitVec 32 := Scalar.remsi arg20 c128_i32_46
  let c0_i32_51 : BitVec 32 := 0#32
  let v89 : BitVec 1 := Scalar.cmpi .ne v88 c0_i32_51
  let v90 : BitVec 1 := Scalar.andi v87 v89
  let v76 : BitVec 32 := Scalar.divsi arg20 c128_i32_46
  let c1_i32_52 : BitVec 32 := 1#32
  let v91 : BitVec 32 := Scalar.subi v76 c1_i32_52
  let v92 : BitVec 32 := Scalar.select v90 v91 v76
  let c128_i32_53 : BitVec 32 := 128#32
  let v93 : BitVec 32 := Scalar.muli v92 c128_i32_53
  let v95 : BitVec 32 := Scalar.subi v75 v93
  let c512_i32 : BitVec 32 := 512#32
  let v96 : BitVec 32 := Scalar.addi v95 c512_i32
  let c1_i32_54 : BitVec 32 := 1#32
  let v97 : BitVec 32 := Scalar.subi v96 c1_i32_54
  let c0_i32_56 : BitVec 32 := 0#32
  let v99 : BitVec 1 := Scalar.cmpi .sgt v97 c0_i32_56
  let v100 : BitVec 32 := Scalar.extui v99
  let c0_i32_57 : BitVec 32 := 0#32
  let v101 : BitVec 1 := Scalar.cmpi .slt v97 c0_i32_57
  let v102 : BitVec 32 := Scalar.extui v101
  let v103 : BitVec 32 := Scalar.subi v100 v102
  let c512_i32_55 : BitVec 32 := 512#32
  let c0_i32_58 : BitVec 32 := 0#32
  let v104 : BitVec 1 := Scalar.cmpi .sgt c512_i32_55 c0_i32_58
  let v105 : BitVec 32 := Scalar.extui v104
  let c0_i32_59 : BitVec 32 := 0#32
  let v106 : BitVec 1 := Scalar.cmpi .slt c512_i32_55 c0_i32_59
  let v107 : BitVec 32 := Scalar.extui v106
  let v108 : BitVec 32 := Scalar.subi v105 v107
  let v109 : BitVec 1 := Scalar.cmpi .ne v103 v108
  let v110 : BitVec 32 := Scalar.remsi v97 c512_i32_55
  let c0_i32_60 : BitVec 32 := 0#32
  let v111 : BitVec 1 := Scalar.cmpi .ne v110 c0_i32_60
  let v112 : BitVec 1 := Scalar.andi v109 v111
  let v98 : BitVec 32 := Scalar.divsi v97 c512_i32_55
  let c1_i32_61 : BitVec 32 := 1#32
  let v113 : BitVec 32 := Scalar.subi v98 c1_i32_61
  let v114 : BitVec 32 := Scalar.select v112 v113 v98
  let c0_i32_62 : BitVec 32 := 0#32
  let v115 : BitVec 32 := Scalar.select v94 v114 c0_i32_62
  let v116 : BitVec 32 := Scalar.subi v115 c0_i32_63
  let c1_i32_65 : BitVec 32 := 1#32
  let v118 : BitVec 32 := Scalar.divsi v116 c1_i32_65
  let v119 : BitVec 32 := Scalar.muli v118 c1_i32_65
  let v120 : BitVec 32 := Scalar.addi c0_i32_63 v119
  let c1_i32_66 : BitVec 32 := 1#32
  ⟨c0_i32_63, v120, c1_i32_66⟩

def k0_off2 (arg20 : BitVec 32) (arg21 : BitVec 32) (v74 : BitVec 32) (k0_t2 : Fin (k0_t2_loop arg20 v74).trips) : Fin 1 → Nat :=
  let c0_i32_63 : BitVec 32 := 0#32
  let c1_i32_66 : BitVec 32 := 1#32
  let arg22 : BitVec 32 := Scf.iv c0_i32_63 c1_i32_66 k0_t2
  let v126 : BitVec 32 := Scalar.addi arg21 arg22
  let v127 : Index := Scalar.indexCast v126
  ![v127.toNat]
@[reducible] def k0_t3_loop (arg20 : BitVec 32) (v74 : BitVec 32) : Scf.Loop 32 :=
  let c0_i32_63 : BitVec 32 := 0#32
  let v75 : BitVec 32 := Scalar.addi arg20 v74
  let v94 : BitVec 1 := Scalar.cmpi .sgt v75 arg20
  let c0_i32_47 : BitVec 32 := 0#32
  let v77 : BitVec 1 := Scalar.cmpi .sgt arg20 c0_i32_47
  let v78 : BitVec 32 := Scalar.extui v77
  let c0_i32_48 : BitVec 32 := 0#32
  let v79 : BitVec 1 := Scalar.cmpi .slt arg20 c0_i32_48
  let v80 : BitVec 32 := Scalar.extui v79
  let v81 : BitVec 32 := Scalar.subi v78 v80
  let c128_i32_46 : BitVec 32 := 128#32
  let c0_i32_49 : BitVec 32 := 0#32
  let v82 : BitVec 1 := Scalar.cmpi .sgt c128_i32_46 c0_i32_49
  let v83 : BitVec 32 := Scalar.extui v82
  let c0_i32_50 : BitVec 32 := 0#32
  let v84 : BitVec 1 := Scalar.cmpi .slt c128_i32_46 c0_i32_50
  let v85 : BitVec 32 := Scalar.extui v84
  let v86 : BitVec 32 := Scalar.subi v83 v85
  let v87 : BitVec 1 := Scalar.cmpi .ne v81 v86
  let v88 : BitVec 32 := Scalar.remsi arg20 c128_i32_46
  let c0_i32_51 : BitVec 32 := 0#32
  let v89 : BitVec 1 := Scalar.cmpi .ne v88 c0_i32_51
  let v90 : BitVec 1 := Scalar.andi v87 v89
  let v76 : BitVec 32 := Scalar.divsi arg20 c128_i32_46
  let c1_i32_52 : BitVec 32 := 1#32
  let v91 : BitVec 32 := Scalar.subi v76 c1_i32_52
  let v92 : BitVec 32 := Scalar.select v90 v91 v76
  let c128_i32_53 : BitVec 32 := 128#32
  let v93 : BitVec 32 := Scalar.muli v92 c128_i32_53
  let v95 : BitVec 32 := Scalar.subi v75 v93
  let c512_i32 : BitVec 32 := 512#32
  let v96 : BitVec 32 := Scalar.addi v95 c512_i32
  let c1_i32_54 : BitVec 32 := 1#32
  let v97 : BitVec 32 := Scalar.subi v96 c1_i32_54
  let c0_i32_56 : BitVec 32 := 0#32
  let v99 : BitVec 1 := Scalar.cmpi .sgt v97 c0_i32_56
  let v100 : BitVec 32 := Scalar.extui v99
  let c0_i32_57 : BitVec 32 := 0#32
  let v101 : BitVec 1 := Scalar.cmpi .slt v97 c0_i32_57
  let v102 : BitVec 32 := Scalar.extui v101
  let v103 : BitVec 32 := Scalar.subi v100 v102
  let c512_i32_55 : BitVec 32 := 512#32
  let c0_i32_58 : BitVec 32 := 0#32
  let v104 : BitVec 1 := Scalar.cmpi .sgt c512_i32_55 c0_i32_58
  let v105 : BitVec 32 := Scalar.extui v104
  let c0_i32_59 : BitVec 32 := 0#32
  let v106 : BitVec 1 := Scalar.cmpi .slt c512_i32_55 c0_i32_59
  let v107 : BitVec 32 := Scalar.extui v106
  let v108 : BitVec 32 := Scalar.subi v105 v107
  let v109 : BitVec 1 := Scalar.cmpi .ne v103 v108
  let v110 : BitVec 32 := Scalar.remsi v97 c512_i32_55
  let c0_i32_60 : BitVec 32 := 0#32
  let v111 : BitVec 1 := Scalar.cmpi .ne v110 c0_i32_60
  let v112 : BitVec 1 := Scalar.andi v109 v111
  let v98 : BitVec 32 := Scalar.divsi v97 c512_i32_55
  let c1_i32_61 : BitVec 32 := 1#32
  let v113 : BitVec 32 := Scalar.subi v98 c1_i32_61
  let v114 : BitVec 32 := Scalar.select v112 v113 v98
  let c0_i32_62 : BitVec 32 := 0#32
  let v115 : BitVec 32 := Scalar.select v94 v114 c0_i32_62
  let v116 : BitVec 32 := Scalar.subi v115 c0_i32_63
  let c1_i32_65 : BitVec 32 := 1#32
  let v118 : BitVec 32 := Scalar.divsi v116 c1_i32_65
  let v119 : BitVec 32 := Scalar.muli v118 c1_i32_65
  let v120 : BitVec 32 := Scalar.addi c0_i32_63 v119
  let v117 : BitVec 32 := Scalar.addi c0_i32_63 v116
  let c1_i32_67 : BitVec 32 := 1#32
  ⟨v120, v117, c1_i32_67⟩
def k0_off3 (arg20 : BitVec 32) (arg21 : BitVec 32) (v74 : BitVec 32) (k0_t3 : Fin (k0_t3_loop arg20 v74).trips) : Fin 1 → Nat :=
  let c0_i32_63 : BitVec 32 := 0#32
  let v75 : BitVec 32 := Scalar.addi arg20 v74
  let v94 : BitVec 1 := Scalar.cmpi .sgt v75 arg20
  let c0_i32_47 : BitVec 32 := 0#32
  let v77 : BitVec 1 := Scalar.cmpi .sgt arg20 c0_i32_47
  let v78 : BitVec 32 := Scalar.extui v77
  let c0_i32_48 : BitVec 32 := 0#32
  let v79 : BitVec 1 := Scalar.cmpi .slt arg20 c0_i32_48
  let v80 : BitVec 32 := Scalar.extui v79
  let v81 : BitVec 32 := Scalar.subi v78 v80
  let c128_i32_46 : BitVec 32 := 128#32
  let c0_i32_49 : BitVec 32 := 0#32
  let v82 : BitVec 1 := Scalar.cmpi .sgt c128_i32_46 c0_i32_49
  let v83 : BitVec 32 := Scalar.extui v82
  let c0_i32_50 : BitVec 32 := 0#32
  let v84 : BitVec 1 := Scalar.cmpi .slt c128_i32_46 c0_i32_50
  let v85 : BitVec 32 := Scalar.extui v84
  let v86 : BitVec 32 := Scalar.subi v83 v85
  let v87 : BitVec 1 := Scalar.cmpi .ne v81 v86
  let v88 : BitVec 32 := Scalar.remsi arg20 c128_i32_46
  let c0_i32_51 : BitVec 32 := 0#32
  let v89 : BitVec 1 := Scalar.cmpi .ne v88 c0_i32_51
  let v90 : BitVec 1 := Scalar.andi v87 v89
  let v76 : BitVec 32 := Scalar.divsi arg20 c128_i32_46
  let c1_i32_52 : BitVec 32 := 1#32
  let v91 : BitVec 32 := Scalar.subi v76 c1_i32_52
  let v92 : BitVec 32 := Scalar.select v90 v91 v76
  let c128_i32_53 : BitVec 32 := 128#32
  let v93 : BitVec 32 := Scalar.muli v92 c128_i32_53
  let v95 : BitVec 32 := Scalar.subi v75 v93
  let c512_i32 : BitVec 32 := 512#32
  let v96 : BitVec 32 := Scalar.addi v95 c512_i32
  let c1_i32_54 : BitVec 32 := 1#32
  let v97 : BitVec 32 := Scalar.subi v96 c1_i32_54
  let c0_i32_56 : BitVec 32 := 0#32
  let v99 : BitVec 1 := Scalar.cmpi .sgt v97 c0_i32_56
  let v100 : BitVec 32 := Scalar.extui v99
  let c0_i32_57 : BitVec 32 := 0#32
  let v101 : BitVec 1 := Scalar.cmpi .slt v97 c0_i32_57
  let v102 : BitVec 32 := Scalar.extui v101
  let v103 : BitVec 32 := Scalar.subi v100 v102
  let c512_i32_55 : BitVec 32 := 512#32
  let c0_i32_58 : BitVec 32 := 0#32
  let v104 : BitVec 1 := Scalar.cmpi .sgt c512_i32_55 c0_i32_58
  let v105 : BitVec 32 := Scalar.extui v104
  let c0_i32_59 : BitVec 32 := 0#32
  let v106 : BitVec 1 := Scalar.cmpi .slt c512_i32_55 c0_i32_59
  let v107 : BitVec 32 := Scalar.extui v106
  let v108 : BitVec 32 := Scalar.subi v105 v107
  let v109 : BitVec 1 := Scalar.cmpi .ne v103 v108
  let v110 : BitVec 32 := Scalar.remsi v97 c512_i32_55
  let c0_i32_60 : BitVec 32 := 0#32
  let v111 : BitVec 1 := Scalar.cmpi .ne v110 c0_i32_60
  let v112 : BitVec 1 := Scalar.andi v109 v111
  let v98 : BitVec 32 := Scalar.divsi v97 c512_i32_55
  let c1_i32_61 : BitVec 32 := 1#32
  let v113 : BitVec 32 := Scalar.subi v98 c1_i32_61
  let v114 : BitVec 32 := Scalar.select v112 v113 v98
  let c0_i32_62 : BitVec 32 := 0#32
  let v115 : BitVec 32 := Scalar.select v94 v114 c0_i32_62
  let v116 : BitVec 32 := Scalar.subi v115 c0_i32_63
  let c1_i32_65 : BitVec 32 := 1#32
  let v118 : BitVec 32 := Scalar.divsi v116 c1_i32_65
  let v119 : BitVec 32 := Scalar.muli v118 c1_i32_65
  let v120 : BitVec 32 := Scalar.addi c0_i32_63 v119
  let c1_i32_67 : BitVec 32 := 1#32
  let arg22 : BitVec 32 := Scf.iv v120 c1_i32_67 k0_t3
  let v126 : BitVec 32 := Scalar.addi arg21 arg22
  let v127 : Index := Scalar.indexCast v126
  ![v127.toNat]

def k0_chk1 (arg20 : BitVec 32) (arg21 : BitVec 32) (v74 : BitVec 32) : Prop :=
  ((k0_t2_loop arg20 v74).OK) ∧
  (∀ k0_t2 : Fin (k0_t2_loop arg20 v74).trips, ∀ a, (k0_off2 arg20 arg21 v74 k0_t2) a + S1.size a ≤ S224.size a) ∧
  ((k0_t3_loop arg20 v74).OK) ∧
  (∀ k0_t3 : Fin (k0_t3_loop arg20 v74).trips, ∀ a, (k0_off3 arg20 arg21 v74 k0_t3) a + S1.size a ≤ S224.size a)
theorem k0_t2_ok : ∀ (arg20 : BitVec 32) (arg21 : BitVec 32) (v74 : BitVec 32) (k0_hw1 : k0_chk1 arg20 arg21 v74), (k0_t2_loop arg20 v74).OK := fun arg20 arg21 v74 k0_hw1 => k0_hw1.1
theorem k0_off2_inb : ∀ (arg20 : BitVec 32) (arg21 : BitVec 32) (v74 : BitVec 32) (k0_hw1 : k0_chk1 arg20 arg21 v74) (k0_t2 : Fin (k0_t2_loop arg20 v74).trips), ∀ a, (k0_off2 arg20 arg21 v74 k0_t2) a + S1.size a ≤ S224.size a := fun arg20 arg21 v74 k0_hw1 k0_t2 => k0_hw1.2.1 k0_t2
theorem k0_t3_ok : ∀ (arg20 : BitVec 32) (arg21 : BitVec 32) (v74 : BitVec 32) (k0_hw1 : k0_chk1 arg20 arg21 v74), (k0_t3_loop arg20 v74).OK := fun arg20 arg21 v74 k0_hw1 => k0_hw1.2.2.1
theorem k0_off3_inb : ∀ (arg20 : BitVec 32) (arg21 : BitVec 32) (v74 : BitVec 32) (k0_hw1 : k0_chk1 arg20 arg21 v74) (k0_t3 : Fin (k0_t3_loop arg20 v74).trips), ∀ a, (k0_off3 arg20 arg21 v74 k0_t3) a + S1.size a ≤ S224.size a := fun arg20 arg21 v74 k0_hw1 k0_t3 => k0_hw1.2.2.2 k0_t3

def k0_off4 (v2 : BitVec 32) : Fin 3 → Nat :=
  let c0_i32_7 : BitVec 32 := 0#32
  let c2048_i32 : BitVec 32 := 2048#32
  ![v2.toNat, 0, 2048]

def k0_off5 (v2 : BitVec 32) : Fin 3 → Nat :=
  let c0_i32_12 : BitVec 32 := 0#32
  let c2048_i32_13 : BitVec 32 := 2048#32
  ![v2.toNat, 0, 2048]

def k0_chk2 (v2 : BitVec 32) : Prop :=
  (∀ a, (k0_off4 v2) a + S1x1024x1024.size a ≤ S16x1024x4096.size a) ∧
  (∀ (hinb : ∀ a, (k0_off4 v2) a + S1x1024x1024.size a ≤ S16x1024x4096.size a), (Rect.unit (s := S16x1024x4096) (k0_off4 v2) S1x1024x1024.size hinb).WholeWords (EltTy.packing .i8)) ∧
  (∀ a, (k0_off5 v2) a + S1x16x1024.size a ≤ S16x16x4096.size a) ∧
  (∀ (hinb : ∀ a, (k0_off5 v2) a + S1x16x1024.size a ≤ S16x16x4096.size a), (Rect.unit (s := S16x16x4096) (k0_off5 v2) S1x16x1024.size hinb).WholeWords (EltTy.packing .bf16))
theorem k0_off4_inb : ∀ (v2 : BitVec 32) (k0_hw2 : k0_chk2 v2), ∀ a, (k0_off4 v2) a + S1x1024x1024.size a ≤ S16x1024x4096.size a := fun v2 k0_hw2 => k0_hw2.1
theorem k0_off4_wordsi8 : ∀ (v2 : BitVec 32) (k0_hw2 : k0_chk2 v2), (Rect.unit (s := S16x1024x4096) (k0_off4 v2) S1x1024x1024.size (k0_off4_inb v2 k0_hw2)).WholeWords (EltTy.packing .i8) := fun v2 k0_hw2 => k0_hw2.2.1 (k0_off4_inb v2 k0_hw2)
theorem k0_off5_inb : ∀ (v2 : BitVec 32) (k0_hw2 : k0_chk2 v2), ∀ a, (k0_off5 v2) a + S1x16x1024.size a ≤ S16x16x4096.size a := fun v2 k0_hw2 => k0_hw2.2.2.1
theorem k0_off5_wordsbf16 : ∀ (v2 : BitVec 32) (k0_hw2 : k0_chk2 v2), (Rect.unit (s := S16x16x4096) (k0_off5 v2) S1x16x1024.size (k0_off5_inb v2 k0_hw2)).WholeWords (EltTy.packing .bf16) := fun v2 k0_hw2 => k0_hw2.2.2.2 (k0_off5_inb v2 k0_hw2)

def k0_mult1 (v15 : BitVec 32) : BitVec 32 :=
  let c97792_i32 : BitVec 32 := 97792#32
  let v16 : BitVec 32 := Scalar.minsi v15 c97792_i32
  v16

def k0_off6 (v15 : BitVec 32) : Fin 2 → Nat :=
  let c97792_i32 : BitVec 32 := 97792#32
  let v16 : BitVec 32 := Scalar.minsi v15 c97792_i32
  let v17 : BitVec 32 := v16
  let c0_i32_25 : BitVec 32 := 0#32
  ![v17.toNat, 0]
def k0_off7 (v15 : BitVec 32) : Fin 3 → Nat :=
  let c97792_i32 : BitVec 32 := 97792#32
  let v16 : BitVec 32 := Scalar.minsi v15 c97792_i32
  let v17 : BitVec 32 := v16
  let c0_i32_15 : BitVec 32 := 0#32
  let v19 : BitVec 1 := Scalar.cmpi .sgt v17 c0_i32_15
  let v20 : BitVec 32 := Scalar.extui v19
  let c0_i32_16 : BitVec 32 := 0#32
  let v21 : BitVec 1 := Scalar.cmpi .slt v17 c0_i32_16
  let v22 : BitVec 32 := Scalar.extui v21
  let v23 : BitVec 32 := Scalar.subi v20 v22
  let c128_i32 : BitVec 32 := 128#32
  let c0_i32_17 : BitVec 32 := 0#32
  let v24 : BitVec 1 := Scalar.cmpi .sgt c128_i32 c0_i32_17
  let v25 : BitVec 32 := Scalar.extui v24
  let c0_i32_18 : BitVec 32 := 0#32
  let v26 : BitVec 1 := Scalar.cmpi .slt c128_i32 c0_i32_18
  let v27 : BitVec 32 := Scalar.extui v26
  let v28 : BitVec 32 := Scalar.subi v25 v27
  let v29 : BitVec 1 := Scalar.cmpi .ne v23 v28
  let v30 : BitVec 32 := Scalar.remsi v17 c128_i32
  let c0_i32_19 : BitVec 32 := 0#32
  let v31 : BitVec 1 := Scalar.cmpi .ne v30 c0_i32_19
  let v32 : BitVec 1 := Scalar.andi v29 v31
  let v18 : BitVec 32 := Scalar.divsi v17 c128_i32
  let c1_i32_20 : BitVec 32 := 1#32
  let v33 : BitVec 32 := Scalar.subi v18 c1_i32_20
  let v34 : BitVec 32 := Scalar.select v32 v33 v18
  let c0_i32_31 : BitVec 32 := 0#32
  let c0_i32_32 : BitVec 32 := 0#32
  ![v34.toNat, 0, 0]

def k0_chk3 (v15 : BitVec 32) : Prop :=
  (128 ∣ (k0_mult1 v15).toNat) ∧
  (∀ a, (k0_off6 v15) a + S512x2048.size a ≤ S98304x2048.size a) ∧
  (∀ (hinb : ∀ a, (k0_off6 v15) a + S512x2048.size a ≤ S98304x2048.size a), (Rect.unit (s := S98304x2048) (k0_off6 v15) S512x2048.size hinb).WholeWords (EltTy.packing .fp8e4m3)) ∧
  (∀ a, (k0_off7 v15) a + S4x1x128.size a ≤ S768x1x128.size a)
theorem k0_mult1_dvd : ∀ (v15 : BitVec 32) (k0_hw3 : k0_chk3 v15), 128 ∣ (k0_mult1 v15).toNat := fun v15 k0_hw3 => k0_hw3.1
theorem k0_off6_inb : ∀ (v15 : BitVec 32) (k0_hw3 : k0_chk3 v15), ∀ a, (k0_off6 v15) a + S512x2048.size a ≤ S98304x2048.size a := fun v15 k0_hw3 => k0_hw3.2.1
theorem k0_off6_wordsfp8e4m3 : ∀ (v15 : BitVec 32) (k0_hw3 : k0_chk3 v15), (Rect.unit (s := S98304x2048) (k0_off6 v15) S512x2048.size (k0_off6_inb v15 k0_hw3)).WholeWords (EltTy.packing .fp8e4m3) := fun v15 k0_hw3 => k0_hw3.2.2.1 (k0_off6_inb v15 k0_hw3)
theorem k0_off7_inb : ∀ (v15 : BitVec 32) (k0_hw3 : k0_chk3 v15), ∀ a, (k0_off7 v15) a + S4x1x128.size a ≤ S768x1x128.size a := fun v15 k0_hw3 => k0_hw3.2.2.2

@[reducible] def k0_t4_loop (v1_1 : BitVec 32) : Scf.Loop 32 :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_36 : BitVec 32 := 1#32
  ⟨c0_i32_33, v49, c1_i32_36⟩

def k0_off8 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let v74 : Index := Scalar.indexCast arg19
  ![v74.toNat]
def k0_off9 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let c1_i32_48 : BitVec 32 := 1#32
  let v77 : BitVec 32 := Scalar.subi arg19 c1_i32_48
  let c0_i32_49 : BitVec 32 := 0#32
  let v78 : BitVec 32 := Scalar.maxsi v77 c0_i32_49
  let v79 : Index := Scalar.indexCast v78
  ![v79.toNat]
def k0_off10 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let c1_i32_106 : BitVec 32 := 1#32
  let v359 : BitVec 32 := Scalar.addi arg19 c1_i32_106
  let v361 : Index := Scalar.indexCast v359
  ![v361.toNat]
def k0_cond1 (v1_1 : BitVec 32) (k0_t4 : Fin (k0_t4_loop v1_1).trips) : BitVec 1 :=
  let c0_i32_33 : BitVec 32 := 0#32
  let c1_i32_36 : BitVec 32 := 1#32
  let arg19 : BitVec 32 := Scf.iv c0_i32_33 c1_i32_36 k0_t4
  let c1_i32_50 : BitVec 32 := 1#32
  let v83 : BitVec 32 := Scalar.addi arg19 c1_i32_50
  let v84 : BitVec 1 := Scalar.cmpi .slt v83 v1_1
  let v85 : BitVec 32 := Scalar.extui v84
  let c0_i32_51 : BitVec 32 := 0#32
  let v86 : BitVec 1 := Scalar.cmpi .ne v85 c0_i32_51
  v86

def k0_mult2 (v362 : BitVec 32) : BitVec 32 :=
  let c97792_i32_108 : BitVec 32 := 97792#32
  let v363 : BitVec 32 := Scalar.minsi v362 c97792_i32_108
  v363

def k0_off11 (v1_1 : BitVec 32) (k0_t4 : Fin (k0_t4_loop v1_1).trips) : Fin 1 → Nat :=
  let c1_i32_107 : BitVec 32 := 1#32
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v360 : BitVec 32 := Scalar.subi c1_i32_107 v73
  ![v360.toNat]
def k0_off12 (v1_1 : BitVec 32) (k0_t4 : Fin (k0_t4_loop v1_1).trips) : Fin 3 → Nat :=
  let c1_i32_107 : BitVec 32 := 1#32
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v360 : BitVec 32 := Scalar.subi c1_i32_107 v73
  let c0_i32_116 : BitVec 32 := 0#32
  let c0_i32_117 : BitVec 32 := 0#32
  ![v360.toNat, 0, 0]
def k0_off13 (v362 : BitVec 32) : Fin 2 → Nat :=
  let c97792_i32_108 : BitVec 32 := 97792#32
  let v363 : BitVec 32 := Scalar.minsi v362 c97792_i32_108
  let v364 : BitVec 32 := v363
  let c0_i32_118 : BitVec 32 := 0#32
  ![v364.toNat, 0]
def k0_off14 (v1_1 : BitVec 32) (k0_t4 : Fin (k0_t4_loop v1_1).trips) : Fin 4 → Nat :=
  let c1_i32_107 : BitVec 32 := 1#32
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v360 : BitVec 32 := Scalar.subi c1_i32_107 v73
  let c0_i32_119 : BitVec 32 := 0#32
  let c0_i32_120 : BitVec 32 := 0#32
  let c0_i32_121 : BitVec 32 := 0#32
  ![v360.toNat, 0, 0, 0]
def k0_off15 (v362 : BitVec 32) : Fin 3 → Nat :=
  let c97792_i32_108 : BitVec 32 := 97792#32
  let v363 : BitVec 32 := Scalar.minsi v362 c97792_i32_108
  let v364 : BitVec 32 := v363
  let c0_i32_110 : BitVec 32 := 0#32
  let v366 : BitVec 1 := Scalar.cmpi .sgt v364 c0_i32_110
  let v367 : BitVec 32 := Scalar.extui v366
  let c0_i32_111 : BitVec 32 := 0#32
  let v368 : BitVec 1 := Scalar.cmpi .slt v364 c0_i32_111
  let v369 : BitVec 32 := Scalar.extui v368
  let v370 : BitVec 32 := Scalar.subi v367 v369
  let c128_i32_109 : BitVec 32 := 128#32
  let c0_i32_112 : BitVec 32 := 0#32
  let v371 : BitVec 1 := Scalar.cmpi .sgt c128_i32_109 c0_i32_112
  let v372 : BitVec 32 := Scalar.extui v371
  let c0_i32_113 : BitVec 32 := 0#32
  let v373 : BitVec 1 := Scalar.cmpi .slt c128_i32_109 c0_i32_113
  let v374 : BitVec 32 := Scalar.extui v373
  let v375 : BitVec 32 := Scalar.subi v372 v374
  let v376 : BitVec 1 := Scalar.cmpi .ne v370 v375
  let v377 : BitVec 32 := Scalar.remsi v364 c128_i32_109
  let c0_i32_114 : BitVec 32 := 0#32
  let v378 : BitVec 1 := Scalar.cmpi .ne v377 c0_i32_114
  let v379 : BitVec 1 := Scalar.andi v376 v378
  let v365 : BitVec 32 := Scalar.divsi v364 c128_i32_109
  let c1_i32_115 : BitVec 32 := 1#32
  let v380 : BitVec 32 := Scalar.subi v365 c1_i32_115
  let v381 : BitVec 32 := Scalar.select v379 v380 v365
  let c0_i32_122 : BitVec 32 := 0#32
  let c0_i32_123 : BitVec 32 := 0#32
  ![v381.toNat, 0, 0]

def k0_chk5 (v1_1 : BitVec 32) (k0_t4 : Fin (k0_t4_loop v1_1).trips) (v362 : BitVec 32) : Prop :=
  (∀ (k0_h1 : k0_cond1 v1_1 k0_t4 = 1#1), 128 ∣ (k0_mult2 v362).toNat) ∧
  (∀ (k0_h1 : k0_cond1 v1_1 k0_t4 = 1#1), ∀ a, (k0_off13 v362) a + S512x2048.size a ≤ S98304x2048.size a) ∧
  (∀ (k0_h1 : k0_cond1 v1_1 k0_t4 = 1#1), ∀ (hinb : ∀ a, (k0_off13 v362) a + S512x2048.size a ≤ S98304x2048.size a), (Rect.unit (s := S98304x2048) (k0_off13 v362) S512x2048.size hinb).WholeWords (EltTy.packing .fp8e4m3)) ∧
  (∀ (k0_h1 : k0_cond1 v1_1 k0_t4 = 1#1), ∀ a, (k0_off15 v362) a + S4x1x128.size a ≤ S768x1x128.size a)
theorem k0_mult2_dvd : ∀ (v1_1 : BitVec 32) (k0_t4 : Fin (k0_t4_loop v1_1).trips) (v362 : BitVec 32) (k0_hw5 : k0_chk5 v1_1 k0_t4 v362), ∀ (k0_h1 : k0_cond1 v1_1 k0_t4 = 1#1), 128 ∣ (k0_mult2 v362).toNat := fun v1_1 k0_t4 v362 k0_hw5 k0_h1 => k0_hw5.1 k0_h1
theorem k0_off13_inb : ∀ (v1_1 : BitVec 32) (k0_t4 : Fin (k0_t4_loop v1_1).trips) (v362 : BitVec 32) (k0_hw5 : k0_chk5 v1_1 k0_t4 v362), ∀ (k0_h1 : k0_cond1 v1_1 k0_t4 = 1#1), ∀ a, (k0_off13 v362) a + S512x2048.size a ≤ S98304x2048.size a := fun v1_1 k0_t4 v362 k0_hw5 k0_h1 => k0_hw5.2.1 k0_h1
theorem k0_off13_wordsfp8e4m3 : ∀ (v1_1 : BitVec 32) (k0_t4 : Fin (k0_t4_loop v1_1).trips) (v362 : BitVec 32) (k0_hw5 : k0_chk5 v1_1 k0_t4 v362), ∀ (k0_h1 : k0_cond1 v1_1 k0_t4 = 1#1), (Rect.unit (s := S98304x2048) (k0_off13 v362) S512x2048.size (k0_off13_inb v1_1 k0_t4 v362 k0_hw5 k0_h1)).WholeWords (EltTy.packing .fp8e4m3) := fun v1_1 k0_t4 v362 k0_hw5 k0_h1 => k0_hw5.2.2.1 k0_h1 (k0_off13_inb v1_1 k0_t4 v362 k0_hw5 k0_h1)
theorem k0_off15_inb : ∀ (v1_1 : BitVec 32) (k0_t4 : Fin (k0_t4_loop v1_1).trips) (v362 : BitVec 32) (k0_hw5 : k0_chk5 v1_1 k0_t4 v362), ∀ (k0_h1 : k0_cond1 v1_1 k0_t4 = 1#1), ∀ a, (k0_off15 v362) a + S4x1x128.size a ≤ S768x1x128.size a := fun v1_1 k0_t4 v362 k0_hw5 k0_h1 => k0_hw5.2.2.2 k0_h1

def k0_off16 (arg20 : BitVec 32) : Fin 1 → Nat :=
  ![arg20.toNat]
def k0_cond2 (v1_1 : BitVec 32) (k0_t4 : Fin (k0_t4_loop v1_1).trips) (v75 : BitVec 32) (v80 : BitVec 32) : BitVec 1 :=
  let c0_i32_33 : BitVec 32 := 0#32
  let c1_i32_36 : BitVec 32 := 1#32
  let arg19 : BitVec 32 := Scf.iv c0_i32_33 c1_i32_36 k0_t4
  let c0_i32_47 : BitVec 32 := 0#32
  let v76 : BitVec 1 := Scalar.cmpi .eq arg19 c0_i32_47
  let v81 : BitVec 1 := Scalar.cmpi .ne v80 v75
  let v82 : BitVec 1 := Scalar.ori v76 v81
  let v87 : BitVec 32 := Scalar.extui v82
  let c0_i32_52 : BitVec 32 := 0#32
  let v88 : BitVec 1 := Scalar.cmpi .ne v87 c0_i32_52
  v88

def k0_off17 (arg20 : BitVec 32) : Fin 3 → Nat :=
  let c0_i32_106 : BitVec 32 := 0#32
  let c0_i32_107 : BitVec 32 := 0#32
  ![arg20.toNat, 0, 0]
def k0_off18 (v75 : BitVec 32) : Fin 3 → Nat :=
  let c0_i32_108 : BitVec 32 := 0#32
  let c2048_i32_109 : BitVec 32 := 2048#32
  ![v75.toNat, 0, 2048]
def k0_off19 (arg20 : BitVec 32) : Fin 3 → Nat :=
  let c0_i32_110 : BitVec 32 := 0#32
  let c0_i32_111 : BitVec 32 := 0#32
  ![arg20.toNat, 0, 0]
def k0_off20 (v75 : BitVec 32) : Fin 3 → Nat :=
  let c0_i32_112 : BitVec 32 := 0#32
  let c2048_i32_113 : BitVec 32 := 2048#32
  ![v75.toNat, 0, 2048]
@[reducible] def k0_t5_loop : Scf.Loop 32 :=
  let c0_i32_115 : BitVec 32 := 0#32
  let c16_i32_116 : BitVec 32 := 16#32
  let v371 : BitVec 32 := Scalar.addi c0_i32_115 c16_i32_116
  let c1_i32_117 : BitVec 32 := 1#32
  ⟨c0_i32_115, v371, c1_i32_117⟩
def k0_off21 (k0_t5 : Fin k0_t5_loop.trips) : Fin 1 → Nat :=
  let c15_i32_251 : BitVec 32 := 15#32
  let c0_i32_115 : BitVec 32 := 0#32
  let c1_i32_117 : BitVec 32 := 1#32
  let arg21 : BitVec 32 := Scf.iv c0_i32_115 c1_i32_117 k0_t5
  let v778 : BitVec 32 := Scalar.subi c15_i32_251 arg21
  let v779 : Index := Scalar.indexCast v778
  ![v779.toNat]
def k0_off22 (arg20 : BitVec 32) : Fin 1 → Nat :=
  let c1_i32_251 : BitVec 32 := 1#32
  let v776 : BitVec 32 := Scalar.subi c1_i32_251 arg20
  ![v776.toNat]
def k0_cond3 (v372 : BitVec 32) : BitVec 1 :=
  let c16_i32_119 : BitVec 32 := 16#32
  let v373 : BitVec 1 := Scalar.cmpi .slt v372 c16_i32_119
  let v374 : BitVec 32 := Scalar.extui v373
  let c0_i32_120 : BitVec 32 := 0#32
  let v375 : BitVec 1 := Scalar.cmpi .ne v374 c0_i32_120
  v375

def k0_off23 (arg20 : BitVec 32) : Fin 3 → Nat :=
  let c1_i32_251 : BitVec 32 := 1#32
  let v776 : BitVec 32 := Scalar.subi c1_i32_251 arg20
  let c0_i32_252 : BitVec 32 := 0#32
  let c0_i32_253 : BitVec 32 := 0#32
  ![v776.toNat, 0, 0]
def k0_off24 (v372 : BitVec 32) : Fin 3 → Nat :=
  let c0_i32_254 : BitVec 32 := 0#32
  let c2048_i32_255 : BitVec 32 := 2048#32
  ![v372.toNat, 0, 2048]
def k0_off25 (arg20 : BitVec 32) : Fin 3 → Nat :=
  let c1_i32_251 : BitVec 32 := 1#32
  let v776 : BitVec 32 := Scalar.subi c1_i32_251 arg20
  let c0_i32_256 : BitVec 32 := 0#32
  let c0_i32_257 : BitVec 32 := 0#32
  ![v776.toNat, 0, 0]
def k0_off26 (v372 : BitVec 32) : Fin 3 → Nat :=
  let c0_i32_258 : BitVec 32 := 0#32
  let c2048_i32_259 : BitVec 32 := 2048#32
  ![v372.toNat, 0, 2048]

def k0_chk7 (v1_1 : BitVec 32) (k0_t4 : Fin (k0_t4_loop v1_1).trips) (arg20 : BitVec 32) (v75 : BitVec 32) (v80 : BitVec 32) (v372 : BitVec 32) : Prop :=
  (∀ (k0_h2 : k0_cond2 v1_1 k0_t4 v75 v80 = 1#1), ∀ (k0_h3 : k0_cond3 v372 = 1#1), ∀ a, (k0_off22 arg20) a + S1.size a ≤ S2.size a) ∧
  (∀ (k0_h2 : k0_cond2 v1_1 k0_t4 v75 v80 = 1#1), ∀ (k0_h3 : k0_cond3 v372 = 1#1), ∀ a, (k0_off23 arg20) a + S1x1024x1024.size a ≤ S2x1024x1024.size a) ∧
  (∀ (k0_h2 : k0_cond2 v1_1 k0_t4 v75 v80 = 1#1), ∀ (k0_h3 : k0_cond3 v372 = 1#1), ∀ a, (k0_off24 v372) a + S1x1024x1024.size a ≤ S16x1024x4096.size a) ∧
  (∀ (k0_h2 : k0_cond2 v1_1 k0_t4 v75 v80 = 1#1), ∀ (k0_h3 : k0_cond3 v372 = 1#1), ∀ (hinb : ∀ a, (k0_off24 v372) a + S1x1024x1024.size a ≤ S16x1024x4096.size a), (Rect.unit (s := S16x1024x4096) (k0_off24 v372) S1x1024x1024.size hinb).WholeWords (EltTy.packing .i8)) ∧
  (∀ (k0_h2 : k0_cond2 v1_1 k0_t4 v75 v80 = 1#1), ∀ (k0_h3 : k0_cond3 v372 = 1#1), ∀ (hinb : ∀ a, (k0_off23 arg20) a + S1x1024x1024.size a ≤ S2x1024x1024.size a), (Rect.unit (s := S2x1024x1024) (k0_off23 arg20) S1x1024x1024.size hinb).WholeWords (EltTy.packing .i8)) ∧
  (∀ (k0_h2 : k0_cond2 v1_1 k0_t4 v75 v80 = 1#1), ∀ (k0_h3 : k0_cond3 v372 = 1#1), ∀ a, (k0_off25 arg20) a + S1x16x1024.size a ≤ S2x16x1024.size a) ∧
  (∀ (k0_h2 : k0_cond2 v1_1 k0_t4 v75 v80 = 1#1), ∀ (k0_h3 : k0_cond3 v372 = 1#1), ∀ a, (k0_off26 v372) a + S1x16x1024.size a ≤ S16x16x4096.size a) ∧
  (∀ (k0_h2 : k0_cond2 v1_1 k0_t4 v75 v80 = 1#1), ∀ (k0_h3 : k0_cond3 v372 = 1#1), ∀ (hinb : ∀ a, (k0_off26 v372) a + S1x16x1024.size a ≤ S16x16x4096.size a), (Rect.unit (s := S16x16x4096) (k0_off26 v372) S1x16x1024.size hinb).WholeWords (EltTy.packing .bf16)) ∧
  (∀ (k0_h2 : k0_cond2 v1_1 k0_t4 v75 v80 = 1#1), ∀ (k0_h3 : k0_cond3 v372 = 1#1), ∀ (hinb : ∀ a, (k0_off25 arg20) a + S1x16x1024.size a ≤ S2x16x1024.size a), (Rect.unit (s := S2x16x1024) (k0_off25 arg20) S1x16x1024.size hinb).WholeWords (EltTy.packing .bf16))
theorem k0_off22_inb : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), ∀ a, (k0_off22 arg20) a + S1.size a ≤ S2.size a := fun v1_1 k0_t4 arg20 v75 v80 v372 k0_hw7 k0_h2 k0_h3 => k0_hw7.1 k0_h2 k0_h3
theorem k0_off23_inb : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), ∀ a, (k0_off23 arg20) a + S1x1024x1024.size a ≤ S2x1024x1024.size a := fun v1_1 k0_t4 arg20 v75 v80 v372 k0_hw7 k0_h2 k0_h3 => k0_hw7.2.1 k0_h2 k0_h3
theorem k0_off24_inb : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), ∀ a, (k0_off24 v372) a + S1x1024x1024.size a ≤ S16x1024x4096.size a := fun v1_1 k0_t4 arg20 v75 v80 v372 k0_hw7 k0_h2 k0_h3 => k0_hw7.2.2.1 k0_h2 k0_h3
theorem k0_off24_wordsi8 : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), (Rect.unit (s := S16x1024x4096) (k0_off24 v372) S1x1024x1024.size (k0_off24_inb v1_1 k0_t4 arg20 v75 v80 v372 k0_hw7 k0_h2 k0_h3)).WholeWords (EltTy.packing .i8) := fun v1_1 k0_t4 arg20 v75 v80 v372 k0_hw7 k0_h2 k0_h3 => k0_hw7.2.2.2.1 k0_h2 k0_h3 (k0_off24_inb v1_1 k0_t4 arg20 v75 v80 v372 k0_hw7 k0_h2 k0_h3)
theorem k0_off23_wordsi8 : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), (Rect.unit (s := S2x1024x1024) (k0_off23 arg20) S1x1024x1024.size (k0_off23_inb v1_1 k0_t4 arg20 v75 v80 v372 k0_hw7 k0_h2 k0_h3)).WholeWords (EltTy.packing .i8) := fun v1_1 k0_t4 arg20 v75 v80 v372 k0_hw7 k0_h2 k0_h3 => k0_hw7.2.2.2.2.1 k0_h2 k0_h3 (k0_off23_inb v1_1 k0_t4 arg20 v75 v80 v372 k0_hw7 k0_h2 k0_h3)
theorem k0_off25_inb : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), ∀ a, (k0_off25 arg20) a + S1x16x1024.size a ≤ S2x16x1024.size a := fun v1_1 k0_t4 arg20 v75 v80 v372 k0_hw7 k0_h2 k0_h3 => k0_hw7.2.2.2.2.2.1 k0_h2 k0_h3
theorem k0_off26_inb : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), ∀ a, (k0_off26 v372) a + S1x16x1024.size a ≤ S16x16x4096.size a := fun v1_1 k0_t4 arg20 v75 v80 v372 k0_hw7 k0_h2 k0_h3 => k0_hw7.2.2.2.2.2.2.1 k0_h2 k0_h3
theorem k0_off26_wordsbf16 : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), (Rect.unit (s := S16x16x4096) (k0_off26 v372) S1x16x1024.size (k0_off26_inb v1_1 k0_t4 arg20 v75 v80 v372 k0_hw7 k0_h2 k0_h3)).WholeWords (EltTy.packing .bf16) := fun v1_1 k0_t4 arg20 v75 v80 v372 k0_hw7 k0_h2 k0_h3 => k0_hw7.2.2.2.2.2.2.2.1 k0_h2 k0_h3 (k0_off26_inb v1_1 k0_t4 arg20 v75 v80 v372 k0_hw7 k0_h2 k0_h3)
theorem k0_off25_wordsbf16 : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), (Rect.unit (s := S2x16x1024) (k0_off25 arg20) S1x16x1024.size (k0_off25_inb v1_1 k0_t4 arg20 v75 v80 v372 k0_hw7 k0_h2 k0_h3)).WholeWords (EltTy.packing .bf16) := fun v1_1 k0_t4 arg20 v75 v80 v372 k0_hw7 k0_h2 k0_h3 => k0_hw7.2.2.2.2.2.2.2.2 k0_h2 k0_h3 (k0_off25_inb v1_1 k0_t4 arg20 v75 v80 v372 k0_hw7 k0_h2 k0_h3)

def k0_off27 (arg20 : BitVec 32) : Fin 3 → Nat :=
  let v376 : Index := Scalar.indexCast arg20
  let c0_121 : Index := 0#32
  let c0_122 : Index := 0#32
  ![v376.toNat, 0, 0]
def k0_off28 (arg20 : BitVec 32) : Fin 3 → Nat :=
  let v393 : Index := Scalar.indexCast arg20
  let c0_125 : Index := 0#32
  let c0_126 : Index := 0#32
  ![v393.toNat, 0, 0]
def k0_off29 (arg20 : BitVec 32) : Fin 3 → Nat :=
  let v401 : Index := Scalar.indexCast arg20
  let c64 : Index := 64#32
  let c0_129 : Index := 0#32
  ![v401.toNat, 64, 0]
def k0_off30 (arg20 : BitVec 32) : Fin 3 → Nat :=
  let v418 : Index := Scalar.indexCast arg20
  let c1_134 : Index := 1#32
  let c0_135 : Index := 0#32
  ![v418.toNat, 1, 0]
def k0_off31 (arg20 : BitVec 32) : Fin 3 → Nat :=
  let v426 : Index := Scalar.indexCast arg20
  let c128_138 : Index := 128#32
  let c0_139 : Index := 0#32
  ![v426.toNat, 128, 0]
def k0_off32 (arg20 : BitVec 32) : Fin 3 → Nat :=
  let v443 : Index := Scalar.indexCast arg20
  let c2_144 : Index := 2#32
  let c0_145 : Index := 0#32
  ![v443.toNat, 2, 0]
def k0_off33 (arg20 : BitVec 32) : Fin 3 → Nat :=
  let v451 : Index := Scalar.indexCast arg20
  let c192 : Index := 192#32
  let c0_148 : Index := 0#32
  ![v451.toNat, 192, 0]
def k0_off34 (arg20 : BitVec 32) : Fin 3 → Nat :=
  let v468 : Index := Scalar.indexCast arg20
  let c3_153 : Index := 3#32
  let c0_154 : Index := 0#32
  ![v468.toNat, 3, 0]
def k0_off35 (arg20 : BitVec 32) : Fin 3 → Nat :=
  let v476 : Index := Scalar.indexCast arg20
  let c256_157 : Index := 256#32
  let c0_158 : Index := 0#32
  ![v476.toNat, 256, 0]
def k0_off36 (arg20 : BitVec 32) : Fin 3 → Nat :=
  let v493 : Index := Scalar.indexCast arg20
  let c4_163 : Index := 4#32
  let c0_164 : Index := 0#32
  ![v493.toNat, 4, 0]
def k0_off37 (arg20 : BitVec 32) : Fin 3 → Nat :=
  let v501 : Index := Scalar.indexCast arg20
  let c320 : Index := 320#32
  let c0_166 : Index := 0#32
  ![v501.toNat, 320, 0]
def k0_off38 (arg20 : BitVec 32) : Fin 3 → Nat :=
  let v518 : Index := Scalar.indexCast arg20
  let c5_171 : Index := 5#32
  let c0_172 : Index := 0#32
  ![v518.toNat, 5, 0]
def k0_off39 (arg20 : BitVec 32) : Fin 3 → Nat :=
  let v526 : Index := Scalar.indexCast arg20
  let c384_174 : Index := 384#32
  let c0_175 : Index := 0#32
  ![v526.toNat, 384, 0]
def k0_off40 (arg20 : BitVec 32) : Fin 3 → Nat :=
  let v543 : Index := Scalar.indexCast arg20
  let c6_180 : Index := 6#32
  let c0_181 : Index := 0#32
  ![v543.toNat, 6, 0]
def k0_off41 (arg20 : BitVec 32) : Fin 3 → Nat :=
  let v551 : Index := Scalar.indexCast arg20
  let c448 : Index := 448#32
  let c0_183 : Index := 0#32
  ![v551.toNat, 448, 0]
def k0_off42 (arg20 : BitVec 32) : Fin 3 → Nat :=
  let v568 : Index := Scalar.indexCast arg20
  let c7_188 : Index := 7#32
  let c0_189 : Index := 0#32
  ![v568.toNat, 7, 0]
def k0_off43 (arg20 : BitVec 32) : Fin 3 → Nat :=
  let v576 : Index := Scalar.indexCast arg20
  let c512_191 : Index := 512#32
  let c0_192 : Index := 0#32
  ![v576.toNat, 512, 0]
def k0_off44 (arg20 : BitVec 32) : Fin 3 → Nat :=
  let v593 : Index := Scalar.indexCast arg20
  let c8 : Index := 8#32
  let c0_197 : Index := 0#32
  ![v593.toNat, 8, 0]
def k0_off45 (arg20 : BitVec 32) : Fin 3 → Nat :=
  let v601 : Index := Scalar.indexCast arg20
  let c576 : Index := 576#32
  let c0_199 : Index := 0#32
  ![v601.toNat, 576, 0]
def k0_off46 (arg20 : BitVec 32) : Fin 3 → Nat :=
  let v618 : Index := Scalar.indexCast arg20
  let c9 : Index := 9#32
  let c0_204 : Index := 0#32
  ![v618.toNat, 9, 0]
def k0_off47 (arg20 : BitVec 32) : Fin 3 → Nat :=
  let v626 : Index := Scalar.indexCast arg20
  let c640_206 : Index := 640#32
  let c0_207 : Index := 0#32
  ![v626.toNat, 640, 0]
def k0_off48 (arg20 : BitVec 32) : Fin 3 → Nat :=
  let v643 : Index := Scalar.indexCast arg20
  let c10 : Index := 10#32
  let c0_212 : Index := 0#32
  ![v643.toNat, 10, 0]
def k0_off49 (arg20 : BitVec 32) : Fin 3 → Nat :=
  let v651 : Index := Scalar.indexCast arg20
  let c704 : Index := 704#32
  let c0_214 : Index := 0#32
  ![v651.toNat, 704, 0]
def k0_off50 (arg20 : BitVec 32) : Fin 3 → Nat :=
  let v668 : Index := Scalar.indexCast arg20
  let c11 : Index := 11#32
  let c0_219 : Index := 0#32
  ![v668.toNat, 11, 0]
def k0_off51 (arg20 : BitVec 32) : Fin 3 → Nat :=
  let v676 : Index := Scalar.indexCast arg20
  let c768_221 : Index := 768#32
  let c0_222 : Index := 0#32
  ![v676.toNat, 768, 0]
def k0_off52 (arg20 : BitVec 32) : Fin 3 → Nat :=
  let v693 : Index := Scalar.indexCast arg20
  let c12 : Index := 12#32
  let c0_227 : Index := 0#32
  ![v693.toNat, 12, 0]
def k0_off53 (arg20 : BitVec 32) : Fin 3 → Nat :=
  let v701 : Index := Scalar.indexCast arg20
  let c832 : Index := 832#32
  let c0_229 : Index := 0#32
  ![v701.toNat, 832, 0]
def k0_off54 (arg20 : BitVec 32) : Fin 3 → Nat :=
  let v718 : Index := Scalar.indexCast arg20
  let c13 : Index := 13#32
  let c0_234 : Index := 0#32
  ![v718.toNat, 13, 0]
def k0_off55 (arg20 : BitVec 32) : Fin 3 → Nat :=
  let v726 : Index := Scalar.indexCast arg20
  let c896_236 : Index := 896#32
  let c0_237 : Index := 0#32
  ![v726.toNat, 896, 0]
def k0_off56 (arg20 : BitVec 32) : Fin 3 → Nat :=
  let v743 : Index := Scalar.indexCast arg20
  let c14 : Index := 14#32
  let c0_242 : Index := 0#32
  ![v743.toNat, 14, 0]
def k0_off57 (arg20 : BitVec 32) : Fin 3 → Nat :=
  let v751 : Index := Scalar.indexCast arg20
  let c960 : Index := 960#32
  let c0_244 : Index := 0#32
  ![v751.toNat, 960, 0]
def k0_off58 (arg20 : BitVec 32) : Fin 3 → Nat :=
  let v768 : Index := Scalar.indexCast arg20
  let c15 : Index := 15#32
  let c0_249 : Index := 0#32
  ![v768.toNat, 15, 0]

def k0_chk6_0 (v1_1 : BitVec 32) (k0_t4 : Fin (k0_t4_loop v1_1).trips) (arg20 : BitVec 32) (v75 : BitVec 32) (v80 : BitVec 32) : Prop :=
  (∀ (k0_h2 : k0_cond2 v1_1 k0_t4 v75 v80 = 1#1), ∀ a, (k0_off16 arg20) a + S1.size a ≤ S2.size a) ∧
  (∀ (k0_h2 : k0_cond2 v1_1 k0_t4 v75 v80 = 1#1), ∀ a, (k0_off17 arg20) a + S1x1024x1024.size a ≤ S2x1024x1024.size a) ∧
  (∀ (k0_h2 : k0_cond2 v1_1 k0_t4 v75 v80 = 1#1), ∀ a, (k0_off18 v75) a + S1x1024x1024.size a ≤ S16x1024x4096.size a) ∧
  (∀ (k0_h2 : k0_cond2 v1_1 k0_t4 v75 v80 = 1#1), ∀ (hinb : ∀ a, (k0_off18 v75) a + S1x1024x1024.size a ≤ S16x1024x4096.size a), (Rect.unit (s := S16x1024x4096) (k0_off18 v75) S1x1024x1024.size hinb).WholeWords (EltTy.packing .i8)) ∧
  (∀ (k0_h2 : k0_cond2 v1_1 k0_t4 v75 v80 = 1#1), ∀ (hinb : ∀ a, (k0_off17 arg20) a + S1x1024x1024.size a ≤ S2x1024x1024.size a), (Rect.unit (s := S2x1024x1024) (k0_off17 arg20) S1x1024x1024.size hinb).WholeWords (EltTy.packing .i8)) ∧
  (∀ (k0_h2 : k0_cond2 v1_1 k0_t4 v75 v80 = 1#1), ∀ a, (k0_off19 arg20) a + S1x16x1024.size a ≤ S2x16x1024.size a) ∧
  (∀ (k0_h2 : k0_cond2 v1_1 k0_t4 v75 v80 = 1#1), ∀ a, (k0_off20 v75) a + S1x16x1024.size a ≤ S16x16x4096.size a) ∧
  (∀ (k0_h2 : k0_cond2 v1_1 k0_t4 v75 v80 = 1#1), ∀ (hinb : ∀ a, (k0_off20 v75) a + S1x16x1024.size a ≤ S16x16x4096.size a), (Rect.unit (s := S16x16x4096) (k0_off20 v75) S1x16x1024.size hinb).WholeWords (EltTy.packing .bf16)) ∧
  (∀ (k0_h2 : k0_cond2 v1_1 k0_t4 v75 v80 = 1#1), ∀ (hinb : ∀ a, (k0_off19 arg20) a + S1x16x1024.size a ≤ S2x16x1024.size a), (Rect.unit (s := S2x16x1024) (k0_off19 arg20) S1x16x1024.size hinb).WholeWords (EltTy.packing .bf16)) ∧
  (∀ (k0_h2 : k0_cond2 v1_1 k0_t4 v75 v80 = 1#1), ∀ a, (k0_off27 arg20) a + S1x64x1024.size a ≤ S2x1024x1024.size a) ∧
  (∀ (k0_h2 : k0_cond2 v1_1 k0_t4 v75 v80 = 1#1), ∀ a, (k0_off28 arg20) a + S1x1x1024.size a ≤ S2x16x1024.size a) ∧
  (∀ (k0_h2 : k0_cond2 v1_1 k0_t4 v75 v80 = 1#1), ∀ a, (k0_off29 arg20) a + S1x64x1024.size a ≤ S2x1024x1024.size a) ∧
  (∀ (k0_h2 : k0_cond2 v1_1 k0_t4 v75 v80 = 1#1), ∀ a, (k0_off30 arg20) a + S1x1x1024.size a ≤ S2x16x1024.size a) ∧
  (∀ (k0_h2 : k0_cond2 v1_1 k0_t4 v75 v80 = 1#1), ∀ a, (k0_off31 arg20) a + S1x64x1024.size a ≤ S2x1024x1024.size a) ∧
  (∀ (k0_h2 : k0_cond2 v1_1 k0_t4 v75 v80 = 1#1), ∀ a, (k0_off32 arg20) a + S1x1x1024.size a ≤ S2x16x1024.size a) ∧
  (∀ (k0_h2 : k0_cond2 v1_1 k0_t4 v75 v80 = 1#1), ∀ a, (k0_off33 arg20) a + S1x64x1024.size a ≤ S2x1024x1024.size a) ∧
  (∀ (k0_h2 : k0_cond2 v1_1 k0_t4 v75 v80 = 1#1), ∀ a, (k0_off34 arg20) a + S1x1x1024.size a ≤ S2x16x1024.size a) ∧
  (∀ (k0_h2 : k0_cond2 v1_1 k0_t4 v75 v80 = 1#1), ∀ a, (k0_off35 arg20) a + S1x64x1024.size a ≤ S2x1024x1024.size a) ∧
  (∀ (k0_h2 : k0_cond2 v1_1 k0_t4 v75 v80 = 1#1), ∀ a, (k0_off36 arg20) a + S1x1x1024.size a ≤ S2x16x1024.size a) ∧
  (∀ (k0_h2 : k0_cond2 v1_1 k0_t4 v75 v80 = 1#1), ∀ a, (k0_off37 arg20) a + S1x64x1024.size a ≤ S2x1024x1024.size a) ∧
  (∀ (k0_h2 : k0_cond2 v1_1 k0_t4 v75 v80 = 1#1), ∀ a, (k0_off38 arg20) a + S1x1x1024.size a ≤ S2x16x1024.size a) ∧
  (∀ (k0_h2 : k0_cond2 v1_1 k0_t4 v75 v80 = 1#1), ∀ a, (k0_off39 arg20) a + S1x64x1024.size a ≤ S2x1024x1024.size a) ∧
  (∀ (k0_h2 : k0_cond2 v1_1 k0_t4 v75 v80 = 1#1), ∀ a, (k0_off40 arg20) a + S1x1x1024.size a ≤ S2x16x1024.size a) ∧
  (∀ (k0_h2 : k0_cond2 v1_1 k0_t4 v75 v80 = 1#1), ∀ a, (k0_off41 arg20) a + S1x64x1024.size a ≤ S2x1024x1024.size a) ∧
  (∀ (k0_h2 : k0_cond2 v1_1 k0_t4 v75 v80 = 1#1), ∀ a, (k0_off42 arg20) a + S1x1x1024.size a ≤ S2x16x1024.size a) ∧
  (∀ (k0_h2 : k0_cond2 v1_1 k0_t4 v75 v80 = 1#1), ∀ a, (k0_off43 arg20) a + S1x64x1024.size a ≤ S2x1024x1024.size a) ∧
  (∀ (k0_h2 : k0_cond2 v1_1 k0_t4 v75 v80 = 1#1), ∀ a, (k0_off44 arg20) a + S1x1x1024.size a ≤ S2x16x1024.size a) ∧
  (∀ (k0_h2 : k0_cond2 v1_1 k0_t4 v75 v80 = 1#1), ∀ a, (k0_off45 arg20) a + S1x64x1024.size a ≤ S2x1024x1024.size a) ∧
  (∀ (k0_h2 : k0_cond2 v1_1 k0_t4 v75 v80 = 1#1), ∀ a, (k0_off46 arg20) a + S1x1x1024.size a ≤ S2x16x1024.size a) ∧
  (∀ (k0_h2 : k0_cond2 v1_1 k0_t4 v75 v80 = 1#1), ∀ a, (k0_off47 arg20) a + S1x64x1024.size a ≤ S2x1024x1024.size a) ∧
  (∀ (k0_h2 : k0_cond2 v1_1 k0_t4 v75 v80 = 1#1), ∀ a, (k0_off48 arg20) a + S1x1x1024.size a ≤ S2x16x1024.size a) ∧
  (∀ (k0_h2 : k0_cond2 v1_1 k0_t4 v75 v80 = 1#1), ∀ a, (k0_off49 arg20) a + S1x64x1024.size a ≤ S2x1024x1024.size a)
def k0_chk6_1 (v1_1 : BitVec 32) (k0_t4 : Fin (k0_t4_loop v1_1).trips) (arg20 : BitVec 32) (v75 : BitVec 32) (v80 : BitVec 32) : Prop :=
  (∀ (k0_h2 : k0_cond2 v1_1 k0_t4 v75 v80 = 1#1), ∀ a, (k0_off50 arg20) a + S1x1x1024.size a ≤ S2x16x1024.size a) ∧
  (∀ (k0_h2 : k0_cond2 v1_1 k0_t4 v75 v80 = 1#1), ∀ a, (k0_off51 arg20) a + S1x64x1024.size a ≤ S2x1024x1024.size a) ∧
  (∀ (k0_h2 : k0_cond2 v1_1 k0_t4 v75 v80 = 1#1), ∀ a, (k0_off52 arg20) a + S1x1x1024.size a ≤ S2x16x1024.size a) ∧
  (∀ (k0_h2 : k0_cond2 v1_1 k0_t4 v75 v80 = 1#1), ∀ a, (k0_off53 arg20) a + S1x64x1024.size a ≤ S2x1024x1024.size a) ∧
  (∀ (k0_h2 : k0_cond2 v1_1 k0_t4 v75 v80 = 1#1), ∀ a, (k0_off54 arg20) a + S1x1x1024.size a ≤ S2x16x1024.size a) ∧
  (∀ (k0_h2 : k0_cond2 v1_1 k0_t4 v75 v80 = 1#1), ∀ a, (k0_off55 arg20) a + S1x64x1024.size a ≤ S2x1024x1024.size a) ∧
  (∀ (k0_h2 : k0_cond2 v1_1 k0_t4 v75 v80 = 1#1), ∀ a, (k0_off56 arg20) a + S1x1x1024.size a ≤ S2x16x1024.size a) ∧
  (∀ (k0_h2 : k0_cond2 v1_1 k0_t4 v75 v80 = 1#1), ∀ a, (k0_off57 arg20) a + S1x64x1024.size a ≤ S2x1024x1024.size a) ∧
  (∀ (k0_h2 : k0_cond2 v1_1 k0_t4 v75 v80 = 1#1), ∀ a, (k0_off58 arg20) a + S1x1x1024.size a ≤ S2x16x1024.size a)
def k0_chk6 (v1_1 : BitVec 32) (k0_t4 : Fin (k0_t4_loop v1_1).trips) (arg20 : BitVec 32) (v75 : BitVec 32) (v80 : BitVec 32) : Prop :=
  k0_chk6_0 v1_1 k0_t4 arg20 v75 v80 ∧
  k0_chk6_1 v1_1 k0_t4 arg20 v75 v80
theorem k0_off16_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off16 arg20) a + S1.size a ≤ S2.size a := fun v1_1 k0_t4 arg20 v75 v80 k0_hw6 k0_h2 => k0_hw6.1.1 k0_h2
theorem k0_off17_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off17 arg20) a + S1x1024x1024.size a ≤ S2x1024x1024.size a := fun v1_1 k0_t4 arg20 v75 v80 k0_hw6 k0_h2 => k0_hw6.1.2.1 k0_h2
theorem k0_off18_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off18 v75) a + S1x1024x1024.size a ≤ S16x1024x4096.size a := fun v1_1 k0_t4 arg20 v75 v80 k0_hw6 k0_h2 => k0_hw6.1.2.2.1 k0_h2
theorem k0_off18_wordsi8 : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), (Rect.unit (s := S16x1024x4096) (k0_off18 v75) S1x1024x1024.size (k0_off18_inb v1_1 k0_t4 arg20 v75 v80 k0_hw6 k0_h2)).WholeWords (EltTy.packing .i8) := fun v1_1 k0_t4 arg20 v75 v80 k0_hw6 k0_h2 => k0_hw6.1.2.2.2.1 k0_h2 (k0_off18_inb v1_1 k0_t4 arg20 v75 v80 k0_hw6 k0_h2)
theorem k0_off17_wordsi8 : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), (Rect.unit (s := S2x1024x1024) (k0_off17 arg20) S1x1024x1024.size (k0_off17_inb v1_1 k0_t4 arg20 v75 v80 k0_hw6 k0_h2)).WholeWords (EltTy.packing .i8) := fun v1_1 k0_t4 arg20 v75 v80 k0_hw6 k0_h2 => k0_hw6.1.2.2.2.2.1 k0_h2 (k0_off17_inb v1_1 k0_t4 arg20 v75 v80 k0_hw6 k0_h2)
theorem k0_off19_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off19 arg20) a + S1x16x1024.size a ≤ S2x16x1024.size a := fun v1_1 k0_t4 arg20 v75 v80 k0_hw6 k0_h2 => k0_hw6.1.2.2.2.2.2.1 k0_h2
theorem k0_off20_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off20 v75) a + S1x16x1024.size a ≤ S16x16x4096.size a := fun v1_1 k0_t4 arg20 v75 v80 k0_hw6 k0_h2 => k0_hw6.1.2.2.2.2.2.2.1 k0_h2
theorem k0_off20_wordsbf16 : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), (Rect.unit (s := S16x16x4096) (k0_off20 v75) S1x16x1024.size (k0_off20_inb v1_1 k0_t4 arg20 v75 v80 k0_hw6 k0_h2)).WholeWords (EltTy.packing .bf16) := fun v1_1 k0_t4 arg20 v75 v80 k0_hw6 k0_h2 => k0_hw6.1.2.2.2.2.2.2.2.1 k0_h2 (k0_off20_inb v1_1 k0_t4 arg20 v75 v80 k0_hw6 k0_h2)
theorem k0_off19_wordsbf16 : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), (Rect.unit (s := S2x16x1024) (k0_off19 arg20) S1x16x1024.size (k0_off19_inb v1_1 k0_t4 arg20 v75 v80 k0_hw6 k0_h2)).WholeWords (EltTy.packing .bf16) := fun v1_1 k0_t4 arg20 v75 v80 k0_hw6 k0_h2 => k0_hw6.1.2.2.2.2.2.2.2.2.1 k0_h2 (k0_off19_inb v1_1 k0_t4 arg20 v75 v80 k0_hw6 k0_h2)
theorem k0_off27_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off27 arg20) a + S1x64x1024.size a ≤ S2x1024x1024.size a := fun v1_1 k0_t4 arg20 v75 v80 k0_hw6 k0_h2 => k0_hw6.1.2.2.2.2.2.2.2.2.2.1 k0_h2
theorem k0_off28_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off28 arg20) a + S1x1x1024.size a ≤ S2x16x1024.size a := fun v1_1 k0_t4 arg20 v75 v80 k0_hw6 k0_h2 => k0_hw6.1.2.2.2.2.2.2.2.2.2.2.1 k0_h2
theorem k0_off29_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off29 arg20) a + S1x64x1024.size a ≤ S2x1024x1024.size a := fun v1_1 k0_t4 arg20 v75 v80 k0_hw6 k0_h2 => k0_hw6.1.2.2.2.2.2.2.2.2.2.2.2.1 k0_h2
theorem k0_off30_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off30 arg20) a + S1x1x1024.size a ≤ S2x16x1024.size a := fun v1_1 k0_t4 arg20 v75 v80 k0_hw6 k0_h2 => k0_hw6.1.2.2.2.2.2.2.2.2.2.2.2.2.1 k0_h2
theorem k0_off31_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off31 arg20) a + S1x64x1024.size a ≤ S2x1024x1024.size a := fun v1_1 k0_t4 arg20 v75 v80 k0_hw6 k0_h2 => k0_hw6.1.2.2.2.2.2.2.2.2.2.2.2.2.2.1 k0_h2
theorem k0_off32_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off32 arg20) a + S1x1x1024.size a ≤ S2x16x1024.size a := fun v1_1 k0_t4 arg20 v75 v80 k0_hw6 k0_h2 => k0_hw6.1.2.2.2.2.2.2.2.2.2.2.2.2.2.2.1 k0_h2
theorem k0_off33_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off33 arg20) a + S1x64x1024.size a ≤ S2x1024x1024.size a := fun v1_1 k0_t4 arg20 v75 v80 k0_hw6 k0_h2 => k0_hw6.1.2.2.2.2.2.2.2.2.2.2.2.2.2.2.2.1 k0_h2
theorem k0_off34_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off34 arg20) a + S1x1x1024.size a ≤ S2x16x1024.size a := fun v1_1 k0_t4 arg20 v75 v80 k0_hw6 k0_h2 => k0_hw6.1.2.2.2.2.2.2.2.2.2.2.2.2.2.2.2.2.1 k0_h2
theorem k0_off35_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off35 arg20) a + S1x64x1024.size a ≤ S2x1024x1024.size a := fun v1_1 k0_t4 arg20 v75 v80 k0_hw6 k0_h2 => k0_hw6.1.2.2.2.2.2.2.2.2.2.2.2.2.2.2.2.2.2.1 k0_h2
theorem k0_off36_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off36 arg20) a + S1x1x1024.size a ≤ S2x16x1024.size a := fun v1_1 k0_t4 arg20 v75 v80 k0_hw6 k0_h2 => k0_hw6.1.2.2.2.2.2.2.2.2.2.2.2.2.2.2.2.2.2.2.1 k0_h2
theorem k0_off37_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off37 arg20) a + S1x64x1024.size a ≤ S2x1024x1024.size a := fun v1_1 k0_t4 arg20 v75 v80 k0_hw6 k0_h2 => k0_hw6.1.2.2.2.2.2.2.2.2.2.2.2.2.2.2.2.2.2.2.2.1 k0_h2
theorem k0_off38_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off38 arg20) a + S1x1x1024.size a ≤ S2x16x1024.size a := fun v1_1 k0_t4 arg20 v75 v80 k0_hw6 k0_h2 => k0_hw6.1.2.2.2.2.2.2.2.2.2.2.2.2.2.2.2.2.2.2.2.2.1 k0_h2
theorem k0_off39_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off39 arg20) a + S1x64x1024.size a ≤ S2x1024x1024.size a := fun v1_1 k0_t4 arg20 v75 v80 k0_hw6 k0_h2 => k0_hw6.1.2.2.2.2.2.2.2.2.2.2.2.2.2.2.2.2.2.2.2.2.2.1 k0_h2
theorem k0_off40_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off40 arg20) a + S1x1x1024.size a ≤ S2x16x1024.size a := fun v1_1 k0_t4 arg20 v75 v80 k0_hw6 k0_h2 => k0_hw6.1.2.2.2.2.2.2.2.2.2.2.2.2.2.2.2.2.2.2.2.2.2.2.1 k0_h2
theorem k0_off41_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off41 arg20) a + S1x64x1024.size a ≤ S2x1024x1024.size a := fun v1_1 k0_t4 arg20 v75 v80 k0_hw6 k0_h2 => k0_hw6.1.2.2.2.2.2.2.2.2.2.2.2.2.2.2.2.2.2.2.2.2.2.2.2.1 k0_h2
theorem k0_off42_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off42 arg20) a + S1x1x1024.size a ≤ S2x16x1024.size a := fun v1_1 k0_t4 arg20 v75 v80 k0_hw6 k0_h2 => k0_hw6.1.2.2.2.2.2.2.2.2.2.2.2.2.2.2.2.2.2.2.2.2.2.2.2.2.1 k0_h2
theorem k0_off43_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off43 arg20) a + S1x64x1024.size a ≤ S2x1024x1024.size a := fun v1_1 k0_t4 arg20 v75 v80 k0_hw6 k0_h2 => k0_hw6.1.2.2.2.2.2.2.2.2.2.2.2.2.2.2.2.2.2.2.2.2.2.2.2.2.2.1 k0_h2
theorem k0_off44_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off44 arg20) a + S1x1x1024.size a ≤ S2x16x1024.size a := fun v1_1 k0_t4 arg20 v75 v80 k0_hw6 k0_h2 => k0_hw6.1.2.2.2.2.2.2.2.2.2.2.2.2.2.2.2.2.2.2.2.2.2.2.2.2.2.2.1 k0_h2
theorem k0_off45_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off45 arg20) a + S1x64x1024.size a ≤ S2x1024x1024.size a := fun v1_1 k0_t4 arg20 v75 v80 k0_hw6 k0_h2 => k0_hw6.1.2.2.2.2.2.2.2.2.2.2.2.2.2.2.2.2.2.2.2.2.2.2.2.2.2.2.2.1 k0_h2
theorem k0_off46_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off46 arg20) a + S1x1x1024.size a ≤ S2x16x1024.size a := fun v1_1 k0_t4 arg20 v75 v80 k0_hw6 k0_h2 => k0_hw6.1.2.2.2.2.2.2.2.2.2.2.2.2.2.2.2.2.2.2.2.2.2.2.2.2.2.2.2.2.1 k0_h2
theorem k0_off47_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off47 arg20) a + S1x64x1024.size a ≤ S2x1024x1024.size a := fun v1_1 k0_t4 arg20 v75 v80 k0_hw6 k0_h2 => k0_hw6.1.2.2.2.2.2.2.2.2.2.2.2.2.2.2.2.2.2.2.2.2.2.2.2.2.2.2.2.2.2.1 k0_h2
theorem k0_off48_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off48 arg20) a + S1x1x1024.size a ≤ S2x16x1024.size a := fun v1_1 k0_t4 arg20 v75 v80 k0_hw6 k0_h2 => k0_hw6.1.2.2.2.2.2.2.2.2.2.2.2.2.2.2.2.2.2.2.2.2.2.2.2.2.2.2.2.2.2.2.1 k0_h2
theorem k0_off49_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off49 arg20) a + S1x64x1024.size a ≤ S2x1024x1024.size a := fun v1_1 k0_t4 arg20 v75 v80 k0_hw6 k0_h2 => k0_hw6.1.2.2.2.2.2.2.2.2.2.2.2.2.2.2.2.2.2.2.2.2.2.2.2.2.2.2.2.2.2.2.2 k0_h2
theorem k0_off50_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off50 arg20) a + S1x1x1024.size a ≤ S2x16x1024.size a := fun v1_1 k0_t4 arg20 v75 v80 k0_hw6 k0_h2 => k0_hw6.2.1 k0_h2
theorem k0_off51_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off51 arg20) a + S1x64x1024.size a ≤ S2x1024x1024.size a := fun v1_1 k0_t4 arg20 v75 v80 k0_hw6 k0_h2 => k0_hw6.2.2.1 k0_h2
theorem k0_off52_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off52 arg20) a + S1x1x1024.size a ≤ S2x16x1024.size a := fun v1_1 k0_t4 arg20 v75 v80 k0_hw6 k0_h2 => k0_hw6.2.2.2.1 k0_h2
theorem k0_off53_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off53 arg20) a + S1x64x1024.size a ≤ S2x1024x1024.size a := fun v1_1 k0_t4 arg20 v75 v80 k0_hw6 k0_h2 => k0_hw6.2.2.2.2.1 k0_h2
theorem k0_off54_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off54 arg20) a + S1x1x1024.size a ≤ S2x16x1024.size a := fun v1_1 k0_t4 arg20 v75 v80 k0_hw6 k0_h2 => k0_hw6.2.2.2.2.2.1 k0_h2
theorem k0_off55_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off55 arg20) a + S1x64x1024.size a ≤ S2x1024x1024.size a := fun v1_1 k0_t4 arg20 v75 v80 k0_hw6 k0_h2 => k0_hw6.2.2.2.2.2.2.1 k0_h2
theorem k0_off56_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off56 arg20) a + S1x1x1024.size a ≤ S2x16x1024.size a := fun v1_1 k0_t4 arg20 v75 v80 k0_hw6 k0_h2 => k0_hw6.2.2.2.2.2.2.2.1 k0_h2
theorem k0_off57_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off57 arg20) a + S1x64x1024.size a ≤ S2x1024x1024.size a := fun v1_1 k0_t4 arg20 v75 v80 k0_hw6 k0_h2 => k0_hw6.2.2.2.2.2.2.2.2.1 k0_h2
theorem k0_off58_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off58 arg20) a + S1x1x1024.size a ≤ S2x16x1024.size a := fun v1_1 k0_t4 arg20 v75 v80 k0_hw6 k0_h2 => k0_hw6.2.2.2.2.2.2.2.2.2 k0_h2

def k0_off59 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let v89 : Index := Scalar.indexCast arg19
  ![v89.toNat]
def k0_mult3 (v90 : BitVec 32) : BitVec 32 :=
  let c97792_i32_53 : BitVec 32 := 97792#32
  let v91 : BitVec 32 := Scalar.minsi v90 c97792_i32_53
  v91

def k0_off60 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  ![v73.toNat]
def k0_off61 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let c0_i32_61 : BitVec 32 := 0#32
  let c0_i32_62 : BitVec 32 := 0#32
  ![v73.toNat, 0, 0]
def k0_off62 (v90 : BitVec 32) : Fin 2 → Nat :=
  let c97792_i32_53 : BitVec 32 := 97792#32
  let v91 : BitVec 32 := Scalar.minsi v90 c97792_i32_53
  let v92 : BitVec 32 := v91
  let c0_i32_63 : BitVec 32 := 0#32
  ![v92.toNat, 0]
def k0_off63 (v1_1 : BitVec 32) (k0_t4 : Fin (k0_t4_loop v1_1).trips) : Fin 4 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let c0_i32_64 : BitVec 32 := 0#32
  let c0_i32_65 : BitVec 32 := 0#32
  let c0_i32_66 : BitVec 32 := 0#32
  ![v73.toNat, 0, 0, 0]
def k0_off64 (v90 : BitVec 32) : Fin 3 → Nat :=
  let c97792_i32_53 : BitVec 32 := 97792#32
  let v91 : BitVec 32 := Scalar.minsi v90 c97792_i32_53
  let v92 : BitVec 32 := v91
  let c0_i32_55 : BitVec 32 := 0#32
  let v94 : BitVec 1 := Scalar.cmpi .sgt v92 c0_i32_55
  let v95 : BitVec 32 := Scalar.extui v94
  let c0_i32_56 : BitVec 32 := 0#32
  let v96 : BitVec 1 := Scalar.cmpi .slt v92 c0_i32_56
  let v97 : BitVec 32 := Scalar.extui v96
  let v98 : BitVec 32 := Scalar.subi v95 v97
  let c128_i32_54 : BitVec 32 := 128#32
  let c0_i32_57 : BitVec 32 := 0#32
  let v99 : BitVec 1 := Scalar.cmpi .sgt c128_i32_54 c0_i32_57
  let v100 : BitVec 32 := Scalar.extui v99
  let c0_i32_58 : BitVec 32 := 0#32
  let v101 : BitVec 1 := Scalar.cmpi .slt c128_i32_54 c0_i32_58
  let v102 : BitVec 32 := Scalar.extui v101
  let v103 : BitVec 32 := Scalar.subi v100 v102
  let v104 : BitVec 1 := Scalar.cmpi .ne v98 v103
  let v105 : BitVec 32 := Scalar.remsi v92 c128_i32_54
  let c0_i32_59 : BitVec 32 := 0#32
  let v106 : BitVec 1 := Scalar.cmpi .ne v105 c0_i32_59
  let v107 : BitVec 1 := Scalar.andi v104 v106
  let v93 : BitVec 32 := Scalar.divsi v92 c128_i32_54
  let c1_i32_60 : BitVec 32 := 1#32
  let v108 : BitVec 32 := Scalar.subi v93 c1_i32_60
  let v109 : BitVec 32 := Scalar.select v107 v108 v93
  let c0_i32_67 : BitVec 32 := 0#32
  let c0_i32_68 : BitVec 32 := 0#32
  ![v109.toNat, 0, 0]

def k0_chk8 (v90 : BitVec 32) : Prop :=
  (128 ∣ (k0_mult3 v90).toNat) ∧
  (∀ a, (k0_off62 v90) a + S512x2048.size a ≤ S98304x2048.size a) ∧
  (∀ (hinb : ∀ a, (k0_off62 v90) a + S512x2048.size a ≤ S98304x2048.size a), (Rect.unit (s := S98304x2048) (k0_off62 v90) S512x2048.size hinb).WholeWords (EltTy.packing .fp8e4m3)) ∧
  (∀ a, (k0_off64 v90) a + S4x1x128.size a ≤ S768x1x128.size a)
theorem k0_mult3_dvd : ∀ (v90 : BitVec 32) (k0_hw8 : k0_chk8 v90), 128 ∣ (k0_mult3 v90).toNat := fun v90 k0_hw8 => k0_hw8.1
theorem k0_off62_inb : ∀ (v90 : BitVec 32) (k0_hw8 : k0_chk8 v90), ∀ a, (k0_off62 v90) a + S512x2048.size a ≤ S98304x2048.size a := fun v90 k0_hw8 => k0_hw8.2.1
theorem k0_off62_wordsfp8e4m3 : ∀ (v90 : BitVec 32) (k0_hw8 : k0_chk8 v90), (Rect.unit (s := S98304x2048) (k0_off62 v90) S512x2048.size (k0_off62_inb v90 k0_hw8)).WholeWords (EltTy.packing .fp8e4m3) := fun v90 k0_hw8 => k0_hw8.2.2.1 (k0_off62_inb v90 k0_hw8)
theorem k0_off64_inb : ∀ (v90 : BitVec 32) (k0_hw8 : k0_chk8 v90), ∀ a, (k0_off64 v90) a + S4x1x128.size a ≤ S768x1x128.size a := fun v90 k0_hw8 => k0_hw8.2.2.2

def k0_cond4 (v1_1 : BitVec 32) (k0_t4 : Fin (k0_t4_loop v1_1).trips) : BitVec 1 :=
  let c0_i32_33 : BitVec 32 := 0#32
  let c1_i32_36 : BitVec 32 := 1#32
  let arg19 : BitVec 32 := Scf.iv c0_i32_33 c1_i32_36 k0_t4
  let c2_i32_69 : BitVec 32 := 2#32
  let v120 : BitVec 1 := Scalar.cmpi .sge arg19 c2_i32_69
  let v121 : BitVec 32 := Scalar.extui v120
  let c0_i32_70 : BitVec 32 := 0#32
  let v122 : BitVec 1 := Scalar.cmpi .ne v121 c0_i32_70
  v122

def k0_off65 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let c2_i32_106 : BitVec 32 := 2#32
  let v359 : BitVec 32 := Scalar.subi arg19 c2_i32_106
  let v360 : Index := Scalar.indexCast v359
  ![v360.toNat]
def k0_mult4 (v361 : BitVec 32) : BitVec 32 :=
  let c97792_i32_107 : BitVec 32 := 97792#32
  let v362 : BitVec 32 := Scalar.minsi v361 c97792_i32_107
  v362

def k0_chk9 (v1_1 : BitVec 32) (k0_t4 : Fin (k0_t4_loop v1_1).trips) (v361 : BitVec 32) : Prop :=
  (∀ (k0_h4 : k0_cond4 v1_1 k0_t4 = 1#1), 128 ∣ (k0_mult4 v361).toNat)
theorem k0_mult4_dvd : ∀ (v1_1 : BitVec 32) (k0_t4 : Fin (k0_t4_loop v1_1).trips) (v361 : BitVec 32) (k0_hw9 : k0_chk9 v1_1 k0_t4 v361), ∀ (k0_h4 : k0_cond4 v1_1 k0_t4 = 1#1), 128 ∣ (k0_mult4 v361).toNat := fun v1_1 k0_t4 v361 k0_hw9 k0_h4 => k0_hw9 k0_h4

def k0_off66 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let c2_i32_106 : BitVec 32 := 2#32
  let v359 : BitVec 32 := Scalar.subi arg19 c2_i32_106
  let v364 : Index := Scalar.indexCast v359
  ![v364.toNat]
def k0_mult5 (v361 : BitVec 32) (v365 : BitVec 32) : BitVec 32 :=
  let c97792_i32_107 : BitVec 32 := 97792#32
  let v362 : BitVec 32 := Scalar.minsi v361 c97792_i32_107
  let v363 : BitVec 32 := v362
  let c1152_i32_108 : BitVec 32 := 1152#32
  let v366 : BitVec 32 := Scalar.muli v365 c1152_i32_108
  let v367 : BitVec 32 := Scalar.addi v363 v366
  let c8_i32_109 : BitVec 32 := 8#32
  let v368 : BitVec 32 := Scalar.muli v367 c8_i32_109
  v368

def k0_off67 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  ![v73.toNat]
def k0_off68 (v361 : BitVec 32) (v365 : BitVec 32) : Fin 2 → Nat :=
  let c97792_i32_107 : BitVec 32 := 97792#32
  let v362 : BitVec 32 := Scalar.minsi v361 c97792_i32_107
  let v363 : BitVec 32 := v362
  let c1152_i32_108 : BitVec 32 := 1152#32
  let v366 : BitVec 32 := Scalar.muli v365 c1152_i32_108
  let v367 : BitVec 32 := Scalar.addi v363 v366
  let c8_i32_109 : BitVec 32 := 8#32
  let v368 : BitVec 32 := Scalar.muli v367 c8_i32_109
  let v369 : BitVec 32 := v368
  let c0_i32_110 : BitVec 32 := 0#32
  ![v369.toNat, 0]

def k0_chk10 (v1_1 : BitVec 32) (k0_t4 : Fin (k0_t4_loop v1_1).trips) (v361 : BitVec 32) (v365 : BitVec 32) : Prop :=
  (∀ (k0_h4 : k0_cond4 v1_1 k0_t4 = 1#1), 8 ∣ (k0_mult5 v361 v365).toNat) ∧
  (∀ (k0_h4 : k0_cond4 v1_1 k0_t4 = 1#1), ∀ a, (k0_off68 v361 v365) a + S4096x128.size a ≤ S933888x128.size a)
theorem k0_mult5_dvd : ∀ (v1_1 : BitVec 32) (k0_t4 : Fin (k0_t4_loop v1_1).trips) (v361 : BitVec 32) (v365 : BitVec 32) (k0_hw10 : k0_chk10 v1_1 k0_t4 v361 v365), ∀ (k0_h4 : k0_cond4 v1_1 k0_t4 = 1#1), 8 ∣ (k0_mult5 v361 v365).toNat := fun v1_1 k0_t4 v361 v365 k0_hw10 k0_h4 => k0_hw10.1 k0_h4
theorem k0_off68_inb : ∀ (v1_1 : BitVec 32) (k0_t4 : Fin (k0_t4_loop v1_1).trips) (v361 : BitVec 32) (v365 : BitVec 32) (k0_hw10 : k0_chk10 v1_1 k0_t4 v361 v365), ∀ (k0_h4 : k0_cond4 v1_1 k0_t4 = 1#1), ∀ a, (k0_off68 v361 v365) a + S4096x128.size a ≤ S933888x128.size a := fun v1_1 k0_t4 v361 v365 k0_hw10 k0_h4 => k0_hw10.2 k0_h4

def k0_off69 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let c0_i32_111 : BitVec 32 := 0#32
  let c0_i32_112 : BitVec 32 := 0#32
  ![v73.toNat, 0, 0]
def k0_off70 (v1_1 : BitVec 32) (k0_t4 : Fin (k0_t4_loop v1_1).trips) : Fin 4 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v123 : Index := Scalar.indexCast v73
  let c0_71 : Index := 0#32
  let c0_72 : Index := 0#32
  let c0_73 : Index := 0#32
  ![v123.toNat, 0, 0, 0]
def k0_off71 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v130 : Index := Scalar.indexCast v73
  let c0_74 : Index := 0#32
  let c0_75 : Index := 0#32
  ![v130.toNat, 0, 0]
def k0_off72 (v1_1 : BitVec 32) (k0_t4 : Fin (k0_t4_loop v1_1).trips) : Fin 4 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v167 : Index := Scalar.indexCast v73
  let c1 : Index := 1#32
  let c0_76 : Index := 0#32
  let c0_77 : Index := 0#32
  ![v167.toNat, 1, 0, 0]
def k0_off73 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v174 : Index := Scalar.indexCast v73
  let c128 : Index := 128#32
  let c0_78 : Index := 0#32
  ![v174.toNat, 128, 0]
def k0_off74 (v1_1 : BitVec 32) (k0_t4 : Fin (k0_t4_loop v1_1).trips) : Fin 4 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v211 : Index := Scalar.indexCast v73
  let c2 : Index := 2#32
  let c0_79 : Index := 0#32
  let c0_80 : Index := 0#32
  ![v211.toNat, 2, 0, 0]
def k0_off75 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v218 : Index := Scalar.indexCast v73
  let c256 : Index := 256#32
  let c0_81 : Index := 0#32
  ![v218.toNat, 256, 0]
def k0_off76 (v1_1 : BitVec 32) (k0_t4 : Fin (k0_t4_loop v1_1).trips) : Fin 4 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v255 : Index := Scalar.indexCast v73
  let c3 : Index := 3#32
  let c0_82 : Index := 0#32
  let c0_83 : Index := 0#32
  ![v255.toNat, 3, 0, 0]
def k0_off77 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v262 : Index := Scalar.indexCast v73
  let c384 : Index := 384#32
  let c0_84 : Index := 0#32
  ![v262.toNat, 384, 0]
def k0_off78 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v303 : Index := Scalar.indexCast v73
  let c0_87 : Index := 0#32
  let c0_88 : Index := 0#32
  ![v303.toNat, 0, 0]
def k0_off79 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v308 : Index := Scalar.indexCast v73
  let c1_89 : Index := 1#32
  let c0_90 : Index := 0#32
  ![v308.toNat, 1, 0]
def k0_off80 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v313 : Index := Scalar.indexCast v73
  let c2_91 : Index := 2#32
  let c0_92 : Index := 0#32
  ![v313.toNat, 2, 0]
def k0_off81 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v318 : Index := Scalar.indexCast v73
  let c3_93 : Index := 3#32
  let c0_94 : Index := 0#32
  ![v318.toNat, 3, 0]
def k0_off82 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v323 : Index := Scalar.indexCast v73
  let c4 : Index := 4#32
  let c0_95 : Index := 0#32
  ![v323.toNat, 4, 0]
def k0_off83 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v328 : Index := Scalar.indexCast v73
  let c5 : Index := 5#32
  let c0_96 : Index := 0#32
  ![v328.toNat, 5, 0]
def k0_off84 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v333 : Index := Scalar.indexCast v73
  let c6 : Index := 6#32
  let c0_97 : Index := 0#32
  ![v333.toNat, 6, 0]
def k0_off85 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v338 : Index := Scalar.indexCast v73
  let c7 : Index := 7#32
  let c0_98 : Index := 0#32
  ![v338.toNat, 7, 0]
def k0_off86 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let v342 : Index := Scalar.indexCast arg19
  ![v342.toNat]
def k0_mult6 (v343 : BitVec 32) : BitVec 32 :=
  let c97792_i32_99 : BitVec 32 := 97792#32
  let v344 : BitVec 32 := Scalar.minsi v343 c97792_i32_99
  v344

def k0_chk11 (v343 : BitVec 32) : Prop :=
  (128 ∣ (k0_mult6 v343).toNat)
theorem k0_mult6_dvd : ∀ (v343 : BitVec 32) (k0_hw11 : k0_chk11 v343), 128 ∣ (k0_mult6 v343).toNat := fun v343 k0_hw11 => k0_hw11

def k0_off87 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let v346 : Index := Scalar.indexCast arg19
  ![v346.toNat]
def k0_mult7 (v343 : BitVec 32) (v347 : BitVec 32) : BitVec 32 :=
  let c97792_i32_99 : BitVec 32 := 97792#32
  let v344 : BitVec 32 := Scalar.minsi v343 c97792_i32_99
  let v345 : BitVec 32 := v344
  let c1152_i32_100 : BitVec 32 := 1152#32
  let v348 : BitVec 32 := Scalar.muli v347 c1152_i32_100
  let v349 : BitVec 32 := Scalar.addi v345 v348
  let c8_i32_101 : BitVec 32 := 8#32
  let v350 : BitVec 32 := Scalar.muli v349 c8_i32_101
  v350

def k0_off88 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  ![v73.toNat]
def k0_off89 (v343 : BitVec 32) (v347 : BitVec 32) : Fin 2 → Nat :=
  let c97792_i32_99 : BitVec 32 := 97792#32
  let v344 : BitVec 32 := Scalar.minsi v343 c97792_i32_99
  let v345 : BitVec 32 := v344
  let c1152_i32_100 : BitVec 32 := 1152#32
  let v348 : BitVec 32 := Scalar.muli v347 c1152_i32_100
  let v349 : BitVec 32 := Scalar.addi v345 v348
  let c8_i32_101 : BitVec 32 := 8#32
  let v350 : BitVec 32 := Scalar.muli v349 c8_i32_101
  let v351 : BitVec 32 := v350
  let c0_i32_102 : BitVec 32 := 0#32
  ![v351.toNat, 0]

def k0_chk12 (v343 : BitVec 32) (v347 : BitVec 32) : Prop :=
  (8 ∣ (k0_mult7 v343 v347).toNat) ∧
  (∀ a, (k0_off89 v343 v347) a + S4096x128.size a ≤ S933888x128.size a)
theorem k0_mult7_dvd : ∀ (v343 : BitVec 32) (v347 : BitVec 32) (k0_hw12 : k0_chk12 v343 v347), 8 ∣ (k0_mult7 v343 v347).toNat := fun v343 v347 k0_hw12 => k0_hw12.1
theorem k0_off89_inb : ∀ (v343 : BitVec 32) (v347 : BitVec 32) (k0_hw12 : k0_chk12 v343 v347), ∀ a, (k0_off89 v343 v347) a + S4096x128.size a ≤ S933888x128.size a := fun v343 v347 k0_hw12 => k0_hw12.2

def k0_off90 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let c0_i32_103 : BitVec 32 := 0#32
  let c0_i32_104 : BitVec 32 := 0#32
  ![v73.toNat, 0, 0]
@[reducible] def k0_t6_loop (v1_1 : BitVec 32) : Scf.Loop 32 :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let v46 : BitVec 32 := Scalar.addi c0_i32_33 v45
  let c1_i32_37 : BitVec 32 := 1#32
  ⟨v49, v46, c1_i32_37⟩
def k0_off91 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let v74 : Index := Scalar.indexCast arg19
  ![v74.toNat]
def k0_off92 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c1_i32_48 : BitVec 32 := 1#32
  let v77 : BitVec 32 := Scalar.subi arg19 c1_i32_48
  let c0_i32_49 : BitVec 32 := 0#32
  let v78 : BitVec 32 := Scalar.maxsi v77 c0_i32_49
  let v79 : Index := Scalar.indexCast v78
  ![v79.toNat]
def k0_off93 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c1_i32_106 : BitVec 32 := 1#32
  let v359 : BitVec 32 := Scalar.addi arg19 c1_i32_106
  let v361 : Index := Scalar.indexCast v359
  ![v361.toNat]
def k0_cond5 (v1_1 : BitVec 32) (k0_t6 : Fin (k0_t6_loop v1_1).trips) : BitVec 1 :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c1_i32_50 : BitVec 32 := 1#32
  let v83 : BitVec 32 := Scalar.addi arg19 c1_i32_50
  let v84 : BitVec 1 := Scalar.cmpi .slt v83 v1_1
  let v85 : BitVec 32 := Scalar.extui v84
  let c0_i32_51 : BitVec 32 := 0#32
  let v86 : BitVec 1 := Scalar.cmpi .ne v85 c0_i32_51
  v86

def k0_mult8 (v362 : BitVec 32) : BitVec 32 :=
  let c97792_i32_108 : BitVec 32 := 97792#32
  let v363 : BitVec 32 := Scalar.minsi v362 c97792_i32_108
  v363

def k0_off94 (v1_1 : BitVec 32) (k0_t6 : Fin (k0_t6_loop v1_1).trips) : Fin 1 → Nat :=
  let c1_i32_107 : BitVec 32 := 1#32
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v360 : BitVec 32 := Scalar.subi c1_i32_107 v73
  ![v360.toNat]
def k0_off95 (v1_1 : BitVec 32) (k0_t6 : Fin (k0_t6_loop v1_1).trips) : Fin 3 → Nat :=
  let c1_i32_107 : BitVec 32 := 1#32
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v360 : BitVec 32 := Scalar.subi c1_i32_107 v73
  let c0_i32_116 : BitVec 32 := 0#32
  let c0_i32_117 : BitVec 32 := 0#32
  ![v360.toNat, 0, 0]
def k0_off96 (v362 : BitVec 32) : Fin 2 → Nat :=
  let c97792_i32_108 : BitVec 32 := 97792#32
  let v363 : BitVec 32 := Scalar.minsi v362 c97792_i32_108
  let v364 : BitVec 32 := v363
  let c0_i32_118 : BitVec 32 := 0#32
  ![v364.toNat, 0]
def k0_off97 (v1_1 : BitVec 32) (k0_t6 : Fin (k0_t6_loop v1_1).trips) : Fin 4 → Nat :=
  let c1_i32_107 : BitVec 32 := 1#32
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v360 : BitVec 32 := Scalar.subi c1_i32_107 v73
  let c0_i32_119 : BitVec 32 := 0#32
  let c0_i32_120 : BitVec 32 := 0#32
  let c0_i32_121 : BitVec 32 := 0#32
  ![v360.toNat, 0, 0, 0]
def k0_off98 (v362 : BitVec 32) : Fin 3 → Nat :=
  let c97792_i32_108 : BitVec 32 := 97792#32
  let v363 : BitVec 32 := Scalar.minsi v362 c97792_i32_108
  let v364 : BitVec 32 := v363
  let c0_i32_110 : BitVec 32 := 0#32
  let v366 : BitVec 1 := Scalar.cmpi .sgt v364 c0_i32_110
  let v367 : BitVec 32 := Scalar.extui v366
  let c0_i32_111 : BitVec 32 := 0#32
  let v368 : BitVec 1 := Scalar.cmpi .slt v364 c0_i32_111
  let v369 : BitVec 32 := Scalar.extui v368
  let v370 : BitVec 32 := Scalar.subi v367 v369
  let c128_i32_109 : BitVec 32 := 128#32
  let c0_i32_112 : BitVec 32 := 0#32
  let v371 : BitVec 1 := Scalar.cmpi .sgt c128_i32_109 c0_i32_112
  let v372 : BitVec 32 := Scalar.extui v371
  let c0_i32_113 : BitVec 32 := 0#32
  let v373 : BitVec 1 := Scalar.cmpi .slt c128_i32_109 c0_i32_113
  let v374 : BitVec 32 := Scalar.extui v373
  let v375 : BitVec 32 := Scalar.subi v372 v374
  let v376 : BitVec 1 := Scalar.cmpi .ne v370 v375
  let v377 : BitVec 32 := Scalar.remsi v364 c128_i32_109
  let c0_i32_114 : BitVec 32 := 0#32
  let v378 : BitVec 1 := Scalar.cmpi .ne v377 c0_i32_114
  let v379 : BitVec 1 := Scalar.andi v376 v378
  let v365 : BitVec 32 := Scalar.divsi v364 c128_i32_109
  let c1_i32_115 : BitVec 32 := 1#32
  let v380 : BitVec 32 := Scalar.subi v365 c1_i32_115
  let v381 : BitVec 32 := Scalar.select v379 v380 v365
  let c0_i32_122 : BitVec 32 := 0#32
  let c0_i32_123 : BitVec 32 := 0#32
  ![v381.toNat, 0, 0]

def k0_chk13 (v1_1 : BitVec 32) (k0_t6 : Fin (k0_t6_loop v1_1).trips) (v362 : BitVec 32) : Prop :=
  (∀ (k0_h5 : k0_cond5 v1_1 k0_t6 = 1#1), 128 ∣ (k0_mult8 v362).toNat) ∧
  (∀ (k0_h5 : k0_cond5 v1_1 k0_t6 = 1#1), ∀ a, (k0_off96 v362) a + S512x2048.size a ≤ S98304x2048.size a) ∧
  (∀ (k0_h5 : k0_cond5 v1_1 k0_t6 = 1#1), ∀ (hinb : ∀ a, (k0_off96 v362) a + S512x2048.size a ≤ S98304x2048.size a), (Rect.unit (s := S98304x2048) (k0_off96 v362) S512x2048.size hinb).WholeWords (EltTy.packing .fp8e4m3)) ∧
  (∀ (k0_h5 : k0_cond5 v1_1 k0_t6 = 1#1), ∀ a, (k0_off98 v362) a + S4x1x128.size a ≤ S768x1x128.size a)
theorem k0_mult8_dvd : ∀ (v1_1 : BitVec 32) (k0_t6 : Fin (k0_t6_loop v1_1).trips) (v362 : BitVec 32) (k0_hw13 : k0_chk13 v1_1 k0_t6 v362), ∀ (k0_h5 : k0_cond5 v1_1 k0_t6 = 1#1), 128 ∣ (k0_mult8 v362).toNat := fun v1_1 k0_t6 v362 k0_hw13 k0_h5 => k0_hw13.1 k0_h5
theorem k0_off96_inb : ∀ (v1_1 : BitVec 32) (k0_t6 : Fin (k0_t6_loop v1_1).trips) (v362 : BitVec 32) (k0_hw13 : k0_chk13 v1_1 k0_t6 v362), ∀ (k0_h5 : k0_cond5 v1_1 k0_t6 = 1#1), ∀ a, (k0_off96 v362) a + S512x2048.size a ≤ S98304x2048.size a := fun v1_1 k0_t6 v362 k0_hw13 k0_h5 => k0_hw13.2.1 k0_h5
theorem k0_off96_wordsfp8e4m3 : ∀ (v1_1 : BitVec 32) (k0_t6 : Fin (k0_t6_loop v1_1).trips) (v362 : BitVec 32) (k0_hw13 : k0_chk13 v1_1 k0_t6 v362), ∀ (k0_h5 : k0_cond5 v1_1 k0_t6 = 1#1), (Rect.unit (s := S98304x2048) (k0_off96 v362) S512x2048.size (k0_off96_inb v1_1 k0_t6 v362 k0_hw13 k0_h5)).WholeWords (EltTy.packing .fp8e4m3) := fun v1_1 k0_t6 v362 k0_hw13 k0_h5 => k0_hw13.2.2.1 k0_h5 (k0_off96_inb v1_1 k0_t6 v362 k0_hw13 k0_h5)
theorem k0_off98_inb : ∀ (v1_1 : BitVec 32) (k0_t6 : Fin (k0_t6_loop v1_1).trips) (v362 : BitVec 32) (k0_hw13 : k0_chk13 v1_1 k0_t6 v362), ∀ (k0_h5 : k0_cond5 v1_1 k0_t6 = 1#1), ∀ a, (k0_off98 v362) a + S4x1x128.size a ≤ S768x1x128.size a := fun v1_1 k0_t6 v362 k0_hw13 k0_h5 => k0_hw13.2.2.2 k0_h5

def k0_off99 (arg20 : BitVec 32) : Fin 1 → Nat :=
  ![arg20.toNat]
def k0_cond6 (v1_1 : BitVec 32) (k0_t6 : Fin (k0_t6_loop v1_1).trips) (v75 : BitVec 32) (v80 : BitVec 32) : BitVec 1 :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c0_i32_47 : BitVec 32 := 0#32
  let v76 : BitVec 1 := Scalar.cmpi .eq arg19 c0_i32_47
  let v81 : BitVec 1 := Scalar.cmpi .ne v80 v75
  let v82 : BitVec 1 := Scalar.ori v76 v81
  let v87 : BitVec 32 := Scalar.extui v82
  let c0_i32_52 : BitVec 32 := 0#32
  let v88 : BitVec 1 := Scalar.cmpi .ne v87 c0_i32_52
  v88

def k0_off100 (arg20 : BitVec 32) : Fin 3 → Nat :=
  let c0_i32_106 : BitVec 32 := 0#32
  let c0_i32_107 : BitVec 32 := 0#32
  ![arg20.toNat, 0, 0]
def k0_off101 (v75 : BitVec 32) : Fin 3 → Nat :=
  let c0_i32_108 : BitVec 32 := 0#32
  let c2048_i32_109 : BitVec 32 := 2048#32
  ![v75.toNat, 0, 2048]
def k0_off102 (arg20 : BitVec 32) : Fin 3 → Nat :=
  let c0_i32_110 : BitVec 32 := 0#32
  let c0_i32_111 : BitVec 32 := 0#32
  ![arg20.toNat, 0, 0]
def k0_off103 (v75 : BitVec 32) : Fin 3 → Nat :=
  let c0_i32_112 : BitVec 32 := 0#32
  let c2048_i32_113 : BitVec 32 := 2048#32
  ![v75.toNat, 0, 2048]
@[reducible] def k0_t7_loop : Scf.Loop 32 :=
  let c0_i32_115 : BitVec 32 := 0#32
  let c16_i32_116 : BitVec 32 := 16#32
  let v371 : BitVec 32 := Scalar.addi c0_i32_115 c16_i32_116
  let c1_i32_117 : BitVec 32 := 1#32
  ⟨c0_i32_115, v371, c1_i32_117⟩
def k0_off104 (k0_t7 : Fin k0_t7_loop.trips) : Fin 1 → Nat :=
  let c15_i32_251 : BitVec 32 := 15#32
  let c0_i32_115 : BitVec 32 := 0#32
  let c1_i32_117 : BitVec 32 := 1#32
  let arg21 : BitVec 32 := Scf.iv c0_i32_115 c1_i32_117 k0_t7
  let v778 : BitVec 32 := Scalar.subi c15_i32_251 arg21
  let v779 : Index := Scalar.indexCast v778
  ![v779.toNat]
def k0_off105 (arg20 : BitVec 32) : Fin 1 → Nat :=
  let c1_i32_251 : BitVec 32 := 1#32
  let v776 : BitVec 32 := Scalar.subi c1_i32_251 arg20
  ![v776.toNat]
def k0_cond7 (v372 : BitVec 32) : BitVec 1 :=
  let c16_i32_119 : BitVec 32 := 16#32
  let v373 : BitVec 1 := Scalar.cmpi .slt v372 c16_i32_119
  let v374 : BitVec 32 := Scalar.extui v373
  let c0_i32_120 : BitVec 32 := 0#32
  let v375 : BitVec 1 := Scalar.cmpi .ne v374 c0_i32_120
  v375

def k0_off106 (arg20 : BitVec 32) : Fin 3 → Nat :=
  let c1_i32_251 : BitVec 32 := 1#32
  let v776 : BitVec 32 := Scalar.subi c1_i32_251 arg20
  let c0_i32_252 : BitVec 32 := 0#32
  let c0_i32_253 : BitVec 32 := 0#32
  ![v776.toNat, 0, 0]
def k0_off107 (v372 : BitVec 32) : Fin 3 → Nat :=
  let c0_i32_254 : BitVec 32 := 0#32
  let c2048_i32_255 : BitVec 32 := 2048#32
  ![v372.toNat, 0, 2048]
def k0_off108 (arg20 : BitVec 32) : Fin 3 → Nat :=
  let c1_i32_251 : BitVec 32 := 1#32
  let v776 : BitVec 32 := Scalar.subi c1_i32_251 arg20
  let c0_i32_256 : BitVec 32 := 0#32
  let c0_i32_257 : BitVec 32 := 0#32
  ![v776.toNat, 0, 0]
def k0_off109 (v372 : BitVec 32) : Fin 3 → Nat :=
  let c0_i32_258 : BitVec 32 := 0#32
  let c2048_i32_259 : BitVec 32 := 2048#32
  ![v372.toNat, 0, 2048]

def k0_chk15 (v1_1 : BitVec 32) (k0_t6 : Fin (k0_t6_loop v1_1).trips) (arg20 : BitVec 32) (v75 : BitVec 32) (v80 : BitVec 32) (v372 : BitVec 32) : Prop :=
  (∀ (k0_h6 : k0_cond6 v1_1 k0_t6 v75 v80 = 1#1), ∀ (k0_h7 : k0_cond7 v372 = 1#1), ∀ a, (k0_off105 arg20) a + S1.size a ≤ S2.size a) ∧
  (∀ (k0_h6 : k0_cond6 v1_1 k0_t6 v75 v80 = 1#1), ∀ (k0_h7 : k0_cond7 v372 = 1#1), ∀ a, (k0_off106 arg20) a + S1x1024x1024.size a ≤ S2x1024x1024.size a) ∧
  (∀ (k0_h6 : k0_cond6 v1_1 k0_t6 v75 v80 = 1#1), ∀ (k0_h7 : k0_cond7 v372 = 1#1), ∀ a, (k0_off107 v372) a + S1x1024x1024.size a ≤ S16x1024x4096.size a) ∧
  (∀ (k0_h6 : k0_cond6 v1_1 k0_t6 v75 v80 = 1#1), ∀ (k0_h7 : k0_cond7 v372 = 1#1), ∀ (hinb : ∀ a, (k0_off107 v372) a + S1x1024x1024.size a ≤ S16x1024x4096.size a), (Rect.unit (s := S16x1024x4096) (k0_off107 v372) S1x1024x1024.size hinb).WholeWords (EltTy.packing .i8)) ∧
  (∀ (k0_h6 : k0_cond6 v1_1 k0_t6 v75 v80 = 1#1), ∀ (k0_h7 : k0_cond7 v372 = 1#1), ∀ (hinb : ∀ a, (k0_off106 arg20) a + S1x1024x1024.size a ≤ S2x1024x1024.size a), (Rect.unit (s := S2x1024x1024) (k0_off106 arg20) S1x1024x1024.size hinb).WholeWords (EltTy.packing .i8)) ∧
  (∀ (k0_h6 : k0_cond6 v1_1 k0_t6 v75 v80 = 1#1), ∀ (k0_h7 : k0_cond7 v372 = 1#1), ∀ a, (k0_off108 arg20) a + S1x16x1024.size a ≤ S2x16x1024.size a) ∧
  (∀ (k0_h6 : k0_cond6 v1_1 k0_t6 v75 v80 = 1#1), ∀ (k0_h7 : k0_cond7 v372 = 1#1), ∀ a, (k0_off109 v372) a + S1x16x1024.size a ≤ S16x16x4096.size a) ∧
  (∀ (k0_h6 : k0_cond6 v1_1 k0_t6 v75 v80 = 1#1), ∀ (k0_h7 : k0_cond7 v372 = 1#1), ∀ (hinb : ∀ a, (k0_off109 v372) a + S1x16x1024.size a ≤ S16x16x4096.size a), (Rect.unit (s := S16x16x4096) (k0_off109 v372) S1x16x1024.size hinb).WholeWords (EltTy.packing .bf16)) ∧
  (∀ (k0_h6 : k0_cond6 v1_1 k0_t6 v75 v80 = 1#1), ∀ (k0_h7 : k0_cond7 v372 = 1#1), ∀ (hinb : ∀ a, (k0_off108 arg20) a + S1x16x1024.size a ≤ S2x16x1024.size a), (Rect.unit (s := S2x16x1024) (k0_off108 arg20) S1x16x1024.size hinb).WholeWords (EltTy.packing .bf16))
theorem k0_off105_inb : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), ∀ a, (k0_off105 arg20) a + S1.size a ≤ S2.size a := fun v1_1 k0_t6 arg20 v75 v80 v372 k0_hw15 k0_h6 k0_h7 => k0_hw15.1 k0_h6 k0_h7
theorem k0_off106_inb : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), ∀ a, (k0_off106 arg20) a + S1x1024x1024.size a ≤ S2x1024x1024.size a := fun v1_1 k0_t6 arg20 v75 v80 v372 k0_hw15 k0_h6 k0_h7 => k0_hw15.2.1 k0_h6 k0_h7
theorem k0_off107_inb : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), ∀ a, (k0_off107 v372) a + S1x1024x1024.size a ≤ S16x1024x4096.size a := fun v1_1 k0_t6 arg20 v75 v80 v372 k0_hw15 k0_h6 k0_h7 => k0_hw15.2.2.1 k0_h6 k0_h7
theorem k0_off107_wordsi8 : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), (Rect.unit (s := S16x1024x4096) (k0_off107 v372) S1x1024x1024.size (k0_off107_inb v1_1 k0_t6 arg20 v75 v80 v372 k0_hw15 k0_h6 k0_h7)).WholeWords (EltTy.packing .i8) := fun v1_1 k0_t6 arg20 v75 v80 v372 k0_hw15 k0_h6 k0_h7 => k0_hw15.2.2.2.1 k0_h6 k0_h7 (k0_off107_inb v1_1 k0_t6 arg20 v75 v80 v372 k0_hw15 k0_h6 k0_h7)
theorem k0_off106_wordsi8 : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), (Rect.unit (s := S2x1024x1024) (k0_off106 arg20) S1x1024x1024.size (k0_off106_inb v1_1 k0_t6 arg20 v75 v80 v372 k0_hw15 k0_h6 k0_h7)).WholeWords (EltTy.packing .i8) := fun v1_1 k0_t6 arg20 v75 v80 v372 k0_hw15 k0_h6 k0_h7 => k0_hw15.2.2.2.2.1 k0_h6 k0_h7 (k0_off106_inb v1_1 k0_t6 arg20 v75 v80 v372 k0_hw15 k0_h6 k0_h7)
theorem k0_off108_inb : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), ∀ a, (k0_off108 arg20) a + S1x16x1024.size a ≤ S2x16x1024.size a := fun v1_1 k0_t6 arg20 v75 v80 v372 k0_hw15 k0_h6 k0_h7 => k0_hw15.2.2.2.2.2.1 k0_h6 k0_h7
theorem k0_off109_inb : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), ∀ a, (k0_off109 v372) a + S1x16x1024.size a ≤ S16x16x4096.size a := fun v1_1 k0_t6 arg20 v75 v80 v372 k0_hw15 k0_h6 k0_h7 => k0_hw15.2.2.2.2.2.2.1 k0_h6 k0_h7
theorem k0_off109_wordsbf16 : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), (Rect.unit (s := S16x16x4096) (k0_off109 v372) S1x16x1024.size (k0_off109_inb v1_1 k0_t6 arg20 v75 v80 v372 k0_hw15 k0_h6 k0_h7)).WholeWords (EltTy.packing .bf16) := fun v1_1 k0_t6 arg20 v75 v80 v372 k0_hw15 k0_h6 k0_h7 => k0_hw15.2.2.2.2.2.2.2.1 k0_h6 k0_h7 (k0_off109_inb v1_1 k0_t6 arg20 v75 v80 v372 k0_hw15 k0_h6 k0_h7)
theorem k0_off108_wordsbf16 : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), (Rect.unit (s := S2x16x1024) (k0_off108 arg20) S1x16x1024.size (k0_off108_inb v1_1 k0_t6 arg20 v75 v80 v372 k0_hw15 k0_h6 k0_h7)).WholeWords (EltTy.packing .bf16) := fun v1_1 k0_t6 arg20 v75 v80 v372 k0_hw15 k0_h6 k0_h7 => k0_hw15.2.2.2.2.2.2.2.2 k0_h6 k0_h7 (k0_off108_inb v1_1 k0_t6 arg20 v75 v80 v372 k0_hw15 k0_h6 k0_h7)

def k0_off110 (arg20 : BitVec 32) : Fin 3 → Nat :=
  let v376 : Index := Scalar.indexCast arg20
  let c0_121 : Index := 0#32
  let c0_122 : Index := 0#32
  ![v376.toNat, 0, 0]
def k0_off111 (arg20 : BitVec 32) : Fin 3 → Nat :=
  let v393 : Index := Scalar.indexCast arg20
  let c0_125 : Index := 0#32
  let c0_126 : Index := 0#32
  ![v393.toNat, 0, 0]
def k0_off112 (arg20 : BitVec 32) : Fin 3 → Nat :=
  let v401 : Index := Scalar.indexCast arg20
  let c64 : Index := 64#32
  let c0_129 : Index := 0#32
  ![v401.toNat, 64, 0]
def k0_off113 (arg20 : BitVec 32) : Fin 3 → Nat :=
  let v418 : Index := Scalar.indexCast arg20
  let c1_134 : Index := 1#32
  let c0_135 : Index := 0#32
  ![v418.toNat, 1, 0]
def k0_off114 (arg20 : BitVec 32) : Fin 3 → Nat :=
  let v426 : Index := Scalar.indexCast arg20
  let c128_138 : Index := 128#32
  let c0_139 : Index := 0#32
  ![v426.toNat, 128, 0]
def k0_off115 (arg20 : BitVec 32) : Fin 3 → Nat :=
  let v443 : Index := Scalar.indexCast arg20
  let c2_144 : Index := 2#32
  let c0_145 : Index := 0#32
  ![v443.toNat, 2, 0]
def k0_off116 (arg20 : BitVec 32) : Fin 3 → Nat :=
  let v451 : Index := Scalar.indexCast arg20
  let c192 : Index := 192#32
  let c0_148 : Index := 0#32
  ![v451.toNat, 192, 0]
def k0_off117 (arg20 : BitVec 32) : Fin 3 → Nat :=
  let v468 : Index := Scalar.indexCast arg20
  let c3_153 : Index := 3#32
  let c0_154 : Index := 0#32
  ![v468.toNat, 3, 0]
def k0_off118 (arg20 : BitVec 32) : Fin 3 → Nat :=
  let v476 : Index := Scalar.indexCast arg20
  let c256_157 : Index := 256#32
  let c0_158 : Index := 0#32
  ![v476.toNat, 256, 0]
def k0_off119 (arg20 : BitVec 32) : Fin 3 → Nat :=
  let v493 : Index := Scalar.indexCast arg20
  let c4_163 : Index := 4#32
  let c0_164 : Index := 0#32
  ![v493.toNat, 4, 0]
def k0_off120 (arg20 : BitVec 32) : Fin 3 → Nat :=
  let v501 : Index := Scalar.indexCast arg20
  let c320 : Index := 320#32
  let c0_166 : Index := 0#32
  ![v501.toNat, 320, 0]
def k0_off121 (arg20 : BitVec 32) : Fin 3 → Nat :=
  let v518 : Index := Scalar.indexCast arg20
  let c5_171 : Index := 5#32
  let c0_172 : Index := 0#32
  ![v518.toNat, 5, 0]
def k0_off122 (arg20 : BitVec 32) : Fin 3 → Nat :=
  let v526 : Index := Scalar.indexCast arg20
  let c384_174 : Index := 384#32
  let c0_175 : Index := 0#32
  ![v526.toNat, 384, 0]
def k0_off123 (arg20 : BitVec 32) : Fin 3 → Nat :=
  let v543 : Index := Scalar.indexCast arg20
  let c6_180 : Index := 6#32
  let c0_181 : Index := 0#32
  ![v543.toNat, 6, 0]
def k0_off124 (arg20 : BitVec 32) : Fin 3 → Nat :=
  let v551 : Index := Scalar.indexCast arg20
  let c448 : Index := 448#32
  let c0_183 : Index := 0#32
  ![v551.toNat, 448, 0]
def k0_off125 (arg20 : BitVec 32) : Fin 3 → Nat :=
  let v568 : Index := Scalar.indexCast arg20
  let c7_188 : Index := 7#32
  let c0_189 : Index := 0#32
  ![v568.toNat, 7, 0]
def k0_off126 (arg20 : BitVec 32) : Fin 3 → Nat :=
  let v576 : Index := Scalar.indexCast arg20
  let c512_191 : Index := 512#32
  let c0_192 : Index := 0#32
  ![v576.toNat, 512, 0]
def k0_off127 (arg20 : BitVec 32) : Fin 3 → Nat :=
  let v593 : Index := Scalar.indexCast arg20
  let c8 : Index := 8#32
  let c0_197 : Index := 0#32
  ![v593.toNat, 8, 0]
def k0_off128 (arg20 : BitVec 32) : Fin 3 → Nat :=
  let v601 : Index := Scalar.indexCast arg20
  let c576 : Index := 576#32
  let c0_199 : Index := 0#32
  ![v601.toNat, 576, 0]
def k0_off129 (arg20 : BitVec 32) : Fin 3 → Nat :=
  let v618 : Index := Scalar.indexCast arg20
  let c9 : Index := 9#32
  let c0_204 : Index := 0#32
  ![v618.toNat, 9, 0]
def k0_off130 (arg20 : BitVec 32) : Fin 3 → Nat :=
  let v626 : Index := Scalar.indexCast arg20
  let c640_206 : Index := 640#32
  let c0_207 : Index := 0#32
  ![v626.toNat, 640, 0]
def k0_off131 (arg20 : BitVec 32) : Fin 3 → Nat :=
  let v643 : Index := Scalar.indexCast arg20
  let c10 : Index := 10#32
  let c0_212 : Index := 0#32
  ![v643.toNat, 10, 0]
def k0_off132 (arg20 : BitVec 32) : Fin 3 → Nat :=
  let v651 : Index := Scalar.indexCast arg20
  let c704 : Index := 704#32
  let c0_214 : Index := 0#32
  ![v651.toNat, 704, 0]
def k0_off133 (arg20 : BitVec 32) : Fin 3 → Nat :=
  let v668 : Index := Scalar.indexCast arg20
  let c11 : Index := 11#32
  let c0_219 : Index := 0#32
  ![v668.toNat, 11, 0]
def k0_off134 (arg20 : BitVec 32) : Fin 3 → Nat :=
  let v676 : Index := Scalar.indexCast arg20
  let c768_221 : Index := 768#32
  let c0_222 : Index := 0#32
  ![v676.toNat, 768, 0]
def k0_off135 (arg20 : BitVec 32) : Fin 3 → Nat :=
  let v693 : Index := Scalar.indexCast arg20
  let c12 : Index := 12#32
  let c0_227 : Index := 0#32
  ![v693.toNat, 12, 0]
def k0_off136 (arg20 : BitVec 32) : Fin 3 → Nat :=
  let v701 : Index := Scalar.indexCast arg20
  let c832 : Index := 832#32
  let c0_229 : Index := 0#32
  ![v701.toNat, 832, 0]
def k0_off137 (arg20 : BitVec 32) : Fin 3 → Nat :=
  let v718 : Index := Scalar.indexCast arg20
  let c13 : Index := 13#32
  let c0_234 : Index := 0#32
  ![v718.toNat, 13, 0]
def k0_off138 (arg20 : BitVec 32) : Fin 3 → Nat :=
  let v726 : Index := Scalar.indexCast arg20
  let c896_236 : Index := 896#32
  let c0_237 : Index := 0#32
  ![v726.toNat, 896, 0]
def k0_off139 (arg20 : BitVec 32) : Fin 3 → Nat :=
  let v743 : Index := Scalar.indexCast arg20
  let c14 : Index := 14#32
  let c0_242 : Index := 0#32
  ![v743.toNat, 14, 0]
def k0_off140 (arg20 : BitVec 32) : Fin 3 → Nat :=
  let v751 : Index := Scalar.indexCast arg20
  let c960 : Index := 960#32
  let c0_244 : Index := 0#32
  ![v751.toNat, 960, 0]
def k0_off141 (arg20 : BitVec 32) : Fin 3 → Nat :=
  let v768 : Index := Scalar.indexCast arg20
  let c15 : Index := 15#32
  let c0_249 : Index := 0#32
  ![v768.toNat, 15, 0]

def k0_chk14_0 (v1_1 : BitVec 32) (k0_t6 : Fin (k0_t6_loop v1_1).trips) (arg20 : BitVec 32) (v75 : BitVec 32) (v80 : BitVec 32) : Prop :=
  (∀ (k0_h6 : k0_cond6 v1_1 k0_t6 v75 v80 = 1#1), ∀ a, (k0_off99 arg20) a + S1.size a ≤ S2.size a) ∧
  (∀ (k0_h6 : k0_cond6 v1_1 k0_t6 v75 v80 = 1#1), ∀ a, (k0_off100 arg20) a + S1x1024x1024.size a ≤ S2x1024x1024.size a) ∧
  (∀ (k0_h6 : k0_cond6 v1_1 k0_t6 v75 v80 = 1#1), ∀ a, (k0_off101 v75) a + S1x1024x1024.size a ≤ S16x1024x4096.size a) ∧
  (∀ (k0_h6 : k0_cond6 v1_1 k0_t6 v75 v80 = 1#1), ∀ (hinb : ∀ a, (k0_off101 v75) a + S1x1024x1024.size a ≤ S16x1024x4096.size a), (Rect.unit (s := S16x1024x4096) (k0_off101 v75) S1x1024x1024.size hinb).WholeWords (EltTy.packing .i8)) ∧
  (∀ (k0_h6 : k0_cond6 v1_1 k0_t6 v75 v80 = 1#1), ∀ (hinb : ∀ a, (k0_off100 arg20) a + S1x1024x1024.size a ≤ S2x1024x1024.size a), (Rect.unit (s := S2x1024x1024) (k0_off100 arg20) S1x1024x1024.size hinb).WholeWords (EltTy.packing .i8)) ∧
  (∀ (k0_h6 : k0_cond6 v1_1 k0_t6 v75 v80 = 1#1), ∀ a, (k0_off102 arg20) a + S1x16x1024.size a ≤ S2x16x1024.size a) ∧
  (∀ (k0_h6 : k0_cond6 v1_1 k0_t6 v75 v80 = 1#1), ∀ a, (k0_off103 v75) a + S1x16x1024.size a ≤ S16x16x4096.size a) ∧
  (∀ (k0_h6 : k0_cond6 v1_1 k0_t6 v75 v80 = 1#1), ∀ (hinb : ∀ a, (k0_off103 v75) a + S1x16x1024.size a ≤ S16x16x4096.size a), (Rect.unit (s := S16x16x4096) (k0_off103 v75) S1x16x1024.size hinb).WholeWords (EltTy.packing .bf16)) ∧
  (∀ (k0_h6 : k0_cond6 v1_1 k0_t6 v75 v80 = 1#1), ∀ (hinb : ∀ a, (k0_off102 arg20) a + S1x16x1024.size a ≤ S2x16x1024.size a), (Rect.unit (s := S2x16x1024) (k0_off102 arg20) S1x16x1024.size hinb).WholeWords (EltTy.packing .bf16)) ∧
  (∀ (k0_h6 : k0_cond6 v1_1 k0_t6 v75 v80 = 1#1), ∀ a, (k0_off110 arg20) a + S1x64x1024.size a ≤ S2x1024x1024.size a) ∧
  (∀ (k0_h6 : k0_cond6 v1_1 k0_t6 v75 v80 = 1#1), ∀ a, (k0_off111 arg20) a + S1x1x1024.size a ≤ S2x16x1024.size a) ∧
  (∀ (k0_h6 : k0_cond6 v1_1 k0_t6 v75 v80 = 1#1), ∀ a, (k0_off112 arg20) a + S1x64x1024.size a ≤ S2x1024x1024.size a) ∧
  (∀ (k0_h6 : k0_cond6 v1_1 k0_t6 v75 v80 = 1#1), ∀ a, (k0_off113 arg20) a + S1x1x1024.size a ≤ S2x16x1024.size a) ∧
  (∀ (k0_h6 : k0_cond6 v1_1 k0_t6 v75 v80 = 1#1), ∀ a, (k0_off114 arg20) a + S1x64x1024.size a ≤ S2x1024x1024.size a) ∧
  (∀ (k0_h6 : k0_cond6 v1_1 k0_t6 v75 v80 = 1#1), ∀ a, (k0_off115 arg20) a + S1x1x1024.size a ≤ S2x16x1024.size a) ∧
  (∀ (k0_h6 : k0_cond6 v1_1 k0_t6 v75 v80 = 1#1), ∀ a, (k0_off116 arg20) a + S1x64x1024.size a ≤ S2x1024x1024.size a) ∧
  (∀ (k0_h6 : k0_cond6 v1_1 k0_t6 v75 v80 = 1#1), ∀ a, (k0_off117 arg20) a + S1x1x1024.size a ≤ S2x16x1024.size a) ∧
  (∀ (k0_h6 : k0_cond6 v1_1 k0_t6 v75 v80 = 1#1), ∀ a, (k0_off118 arg20) a + S1x64x1024.size a ≤ S2x1024x1024.size a) ∧
  (∀ (k0_h6 : k0_cond6 v1_1 k0_t6 v75 v80 = 1#1), ∀ a, (k0_off119 arg20) a + S1x1x1024.size a ≤ S2x16x1024.size a) ∧
  (∀ (k0_h6 : k0_cond6 v1_1 k0_t6 v75 v80 = 1#1), ∀ a, (k0_off120 arg20) a + S1x64x1024.size a ≤ S2x1024x1024.size a) ∧
  (∀ (k0_h6 : k0_cond6 v1_1 k0_t6 v75 v80 = 1#1), ∀ a, (k0_off121 arg20) a + S1x1x1024.size a ≤ S2x16x1024.size a) ∧
  (∀ (k0_h6 : k0_cond6 v1_1 k0_t6 v75 v80 = 1#1), ∀ a, (k0_off122 arg20) a + S1x64x1024.size a ≤ S2x1024x1024.size a) ∧
  (∀ (k0_h6 : k0_cond6 v1_1 k0_t6 v75 v80 = 1#1), ∀ a, (k0_off123 arg20) a + S1x1x1024.size a ≤ S2x16x1024.size a) ∧
  (∀ (k0_h6 : k0_cond6 v1_1 k0_t6 v75 v80 = 1#1), ∀ a, (k0_off124 arg20) a + S1x64x1024.size a ≤ S2x1024x1024.size a) ∧
  (∀ (k0_h6 : k0_cond6 v1_1 k0_t6 v75 v80 = 1#1), ∀ a, (k0_off125 arg20) a + S1x1x1024.size a ≤ S2x16x1024.size a) ∧
  (∀ (k0_h6 : k0_cond6 v1_1 k0_t6 v75 v80 = 1#1), ∀ a, (k0_off126 arg20) a + S1x64x1024.size a ≤ S2x1024x1024.size a) ∧
  (∀ (k0_h6 : k0_cond6 v1_1 k0_t6 v75 v80 = 1#1), ∀ a, (k0_off127 arg20) a + S1x1x1024.size a ≤ S2x16x1024.size a) ∧
  (∀ (k0_h6 : k0_cond6 v1_1 k0_t6 v75 v80 = 1#1), ∀ a, (k0_off128 arg20) a + S1x64x1024.size a ≤ S2x1024x1024.size a) ∧
  (∀ (k0_h6 : k0_cond6 v1_1 k0_t6 v75 v80 = 1#1), ∀ a, (k0_off129 arg20) a + S1x1x1024.size a ≤ S2x16x1024.size a) ∧
  (∀ (k0_h6 : k0_cond6 v1_1 k0_t6 v75 v80 = 1#1), ∀ a, (k0_off130 arg20) a + S1x64x1024.size a ≤ S2x1024x1024.size a) ∧
  (∀ (k0_h6 : k0_cond6 v1_1 k0_t6 v75 v80 = 1#1), ∀ a, (k0_off131 arg20) a + S1x1x1024.size a ≤ S2x16x1024.size a) ∧
  (∀ (k0_h6 : k0_cond6 v1_1 k0_t6 v75 v80 = 1#1), ∀ a, (k0_off132 arg20) a + S1x64x1024.size a ≤ S2x1024x1024.size a)
def k0_chk14_1 (v1_1 : BitVec 32) (k0_t6 : Fin (k0_t6_loop v1_1).trips) (arg20 : BitVec 32) (v75 : BitVec 32) (v80 : BitVec 32) : Prop :=
  (∀ (k0_h6 : k0_cond6 v1_1 k0_t6 v75 v80 = 1#1), ∀ a, (k0_off133 arg20) a + S1x1x1024.size a ≤ S2x16x1024.size a) ∧
  (∀ (k0_h6 : k0_cond6 v1_1 k0_t6 v75 v80 = 1#1), ∀ a, (k0_off134 arg20) a + S1x64x1024.size a ≤ S2x1024x1024.size a) ∧
  (∀ (k0_h6 : k0_cond6 v1_1 k0_t6 v75 v80 = 1#1), ∀ a, (k0_off135 arg20) a + S1x1x1024.size a ≤ S2x16x1024.size a) ∧
  (∀ (k0_h6 : k0_cond6 v1_1 k0_t6 v75 v80 = 1#1), ∀ a, (k0_off136 arg20) a + S1x64x1024.size a ≤ S2x1024x1024.size a) ∧
  (∀ (k0_h6 : k0_cond6 v1_1 k0_t6 v75 v80 = 1#1), ∀ a, (k0_off137 arg20) a + S1x1x1024.size a ≤ S2x16x1024.size a) ∧
  (∀ (k0_h6 : k0_cond6 v1_1 k0_t6 v75 v80 = 1#1), ∀ a, (k0_off138 arg20) a + S1x64x1024.size a ≤ S2x1024x1024.size a) ∧
  (∀ (k0_h6 : k0_cond6 v1_1 k0_t6 v75 v80 = 1#1), ∀ a, (k0_off139 arg20) a + S1x1x1024.size a ≤ S2x16x1024.size a) ∧
  (∀ (k0_h6 : k0_cond6 v1_1 k0_t6 v75 v80 = 1#1), ∀ a, (k0_off140 arg20) a + S1x64x1024.size a ≤ S2x1024x1024.size a) ∧
  (∀ (k0_h6 : k0_cond6 v1_1 k0_t6 v75 v80 = 1#1), ∀ a, (k0_off141 arg20) a + S1x1x1024.size a ≤ S2x16x1024.size a)
def k0_chk14 (v1_1 : BitVec 32) (k0_t6 : Fin (k0_t6_loop v1_1).trips) (arg20 : BitVec 32) (v75 : BitVec 32) (v80 : BitVec 32) : Prop :=
  k0_chk14_0 v1_1 k0_t6 arg20 v75 v80 ∧
  k0_chk14_1 v1_1 k0_t6 arg20 v75 v80
theorem k0_off99_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off99 arg20) a + S1.size a ≤ S2.size a := fun v1_1 k0_t6 arg20 v75 v80 k0_hw14 k0_h6 => k0_hw14.1.1 k0_h6
theorem k0_off100_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off100 arg20) a + S1x1024x1024.size a ≤ S2x1024x1024.size a := fun v1_1 k0_t6 arg20 v75 v80 k0_hw14 k0_h6 => k0_hw14.1.2.1 k0_h6
theorem k0_off101_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off101 v75) a + S1x1024x1024.size a ≤ S16x1024x4096.size a := fun v1_1 k0_t6 arg20 v75 v80 k0_hw14 k0_h6 => k0_hw14.1.2.2.1 k0_h6
theorem k0_off101_wordsi8 : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), (Rect.unit (s := S16x1024x4096) (k0_off101 v75) S1x1024x1024.size (k0_off101_inb v1_1 k0_t6 arg20 v75 v80 k0_hw14 k0_h6)).WholeWords (EltTy.packing .i8) := fun v1_1 k0_t6 arg20 v75 v80 k0_hw14 k0_h6 => k0_hw14.1.2.2.2.1 k0_h6 (k0_off101_inb v1_1 k0_t6 arg20 v75 v80 k0_hw14 k0_h6)
theorem k0_off100_wordsi8 : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), (Rect.unit (s := S2x1024x1024) (k0_off100 arg20) S1x1024x1024.size (k0_off100_inb v1_1 k0_t6 arg20 v75 v80 k0_hw14 k0_h6)).WholeWords (EltTy.packing .i8) := fun v1_1 k0_t6 arg20 v75 v80 k0_hw14 k0_h6 => k0_hw14.1.2.2.2.2.1 k0_h6 (k0_off100_inb v1_1 k0_t6 arg20 v75 v80 k0_hw14 k0_h6)
theorem k0_off102_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off102 arg20) a + S1x16x1024.size a ≤ S2x16x1024.size a := fun v1_1 k0_t6 arg20 v75 v80 k0_hw14 k0_h6 => k0_hw14.1.2.2.2.2.2.1 k0_h6
theorem k0_off103_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off103 v75) a + S1x16x1024.size a ≤ S16x16x4096.size a := fun v1_1 k0_t6 arg20 v75 v80 k0_hw14 k0_h6 => k0_hw14.1.2.2.2.2.2.2.1 k0_h6
theorem k0_off103_wordsbf16 : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), (Rect.unit (s := S16x16x4096) (k0_off103 v75) S1x16x1024.size (k0_off103_inb v1_1 k0_t6 arg20 v75 v80 k0_hw14 k0_h6)).WholeWords (EltTy.packing .bf16) := fun v1_1 k0_t6 arg20 v75 v80 k0_hw14 k0_h6 => k0_hw14.1.2.2.2.2.2.2.2.1 k0_h6 (k0_off103_inb v1_1 k0_t6 arg20 v75 v80 k0_hw14 k0_h6)
theorem k0_off102_wordsbf16 : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), (Rect.unit (s := S2x16x1024) (k0_off102 arg20) S1x16x1024.size (k0_off102_inb v1_1 k0_t6 arg20 v75 v80 k0_hw14 k0_h6)).WholeWords (EltTy.packing .bf16) := fun v1_1 k0_t6 arg20 v75 v80 k0_hw14 k0_h6 => k0_hw14.1.2.2.2.2.2.2.2.2.1 k0_h6 (k0_off102_inb v1_1 k0_t6 arg20 v75 v80 k0_hw14 k0_h6)
theorem k0_off110_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off110 arg20) a + S1x64x1024.size a ≤ S2x1024x1024.size a := fun v1_1 k0_t6 arg20 v75 v80 k0_hw14 k0_h6 => k0_hw14.1.2.2.2.2.2.2.2.2.2.1 k0_h6
theorem k0_off111_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off111 arg20) a + S1x1x1024.size a ≤ S2x16x1024.size a := fun v1_1 k0_t6 arg20 v75 v80 k0_hw14 k0_h6 => k0_hw14.1.2.2.2.2.2.2.2.2.2.2.1 k0_h6
theorem k0_off112_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off112 arg20) a + S1x64x1024.size a ≤ S2x1024x1024.size a := fun v1_1 k0_t6 arg20 v75 v80 k0_hw14 k0_h6 => k0_hw14.1.2.2.2.2.2.2.2.2.2.2.2.1 k0_h6
theorem k0_off113_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off113 arg20) a + S1x1x1024.size a ≤ S2x16x1024.size a := fun v1_1 k0_t6 arg20 v75 v80 k0_hw14 k0_h6 => k0_hw14.1.2.2.2.2.2.2.2.2.2.2.2.2.1 k0_h6
theorem k0_off114_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off114 arg20) a + S1x64x1024.size a ≤ S2x1024x1024.size a := fun v1_1 k0_t6 arg20 v75 v80 k0_hw14 k0_h6 => k0_hw14.1.2.2.2.2.2.2.2.2.2.2.2.2.2.1 k0_h6
theorem k0_off115_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off115 arg20) a + S1x1x1024.size a ≤ S2x16x1024.size a := fun v1_1 k0_t6 arg20 v75 v80 k0_hw14 k0_h6 => k0_hw14.1.2.2.2.2.2.2.2.2.2.2.2.2.2.2.1 k0_h6
theorem k0_off116_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off116 arg20) a + S1x64x1024.size a ≤ S2x1024x1024.size a := fun v1_1 k0_t6 arg20 v75 v80 k0_hw14 k0_h6 => k0_hw14.1.2.2.2.2.2.2.2.2.2.2.2.2.2.2.2.1 k0_h6
theorem k0_off117_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off117 arg20) a + S1x1x1024.size a ≤ S2x16x1024.size a := fun v1_1 k0_t6 arg20 v75 v80 k0_hw14 k0_h6 => k0_hw14.1.2.2.2.2.2.2.2.2.2.2.2.2.2.2.2.2.1 k0_h6
theorem k0_off118_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off118 arg20) a + S1x64x1024.size a ≤ S2x1024x1024.size a := fun v1_1 k0_t6 arg20 v75 v80 k0_hw14 k0_h6 => k0_hw14.1.2.2.2.2.2.2.2.2.2.2.2.2.2.2.2.2.2.1 k0_h6
theorem k0_off119_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off119 arg20) a + S1x1x1024.size a ≤ S2x16x1024.size a := fun v1_1 k0_t6 arg20 v75 v80 k0_hw14 k0_h6 => k0_hw14.1.2.2.2.2.2.2.2.2.2.2.2.2.2.2.2.2.2.2.1 k0_h6
theorem k0_off120_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off120 arg20) a + S1x64x1024.size a ≤ S2x1024x1024.size a := fun v1_1 k0_t6 arg20 v75 v80 k0_hw14 k0_h6 => k0_hw14.1.2.2.2.2.2.2.2.2.2.2.2.2.2.2.2.2.2.2.2.1 k0_h6
theorem k0_off121_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off121 arg20) a + S1x1x1024.size a ≤ S2x16x1024.size a := fun v1_1 k0_t6 arg20 v75 v80 k0_hw14 k0_h6 => k0_hw14.1.2.2.2.2.2.2.2.2.2.2.2.2.2.2.2.2.2.2.2.2.1 k0_h6
theorem k0_off122_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off122 arg20) a + S1x64x1024.size a ≤ S2x1024x1024.size a := fun v1_1 k0_t6 arg20 v75 v80 k0_hw14 k0_h6 => k0_hw14.1.2.2.2.2.2.2.2.2.2.2.2.2.2.2.2.2.2.2.2.2.2.1 k0_h6
theorem k0_off123_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off123 arg20) a + S1x1x1024.size a ≤ S2x16x1024.size a := fun v1_1 k0_t6 arg20 v75 v80 k0_hw14 k0_h6 => k0_hw14.1.2.2.2.2.2.2.2.2.2.2.2.2.2.2.2.2.2.2.2.2.2.2.1 k0_h6
theorem k0_off124_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off124 arg20) a + S1x64x1024.size a ≤ S2x1024x1024.size a := fun v1_1 k0_t6 arg20 v75 v80 k0_hw14 k0_h6 => k0_hw14.1.2.2.2.2.2.2.2.2.2.2.2.2.2.2.2.2.2.2.2.2.2.2.2.1 k0_h6
theorem k0_off125_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off125 arg20) a + S1x1x1024.size a ≤ S2x16x1024.size a := fun v1_1 k0_t6 arg20 v75 v80 k0_hw14 k0_h6 => k0_hw14.1.2.2.2.2.2.2.2.2.2.2.2.2.2.2.2.2.2.2.2.2.2.2.2.2.1 k0_h6
theorem k0_off126_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off126 arg20) a + S1x64x1024.size a ≤ S2x1024x1024.size a := fun v1_1 k0_t6 arg20 v75 v80 k0_hw14 k0_h6 => k0_hw14.1.2.2.2.2.2.2.2.2.2.2.2.2.2.2.2.2.2.2.2.2.2.2.2.2.2.1 k0_h6
theorem k0_off127_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off127 arg20) a + S1x1x1024.size a ≤ S2x16x1024.size a := fun v1_1 k0_t6 arg20 v75 v80 k0_hw14 k0_h6 => k0_hw14.1.2.2.2.2.2.2.2.2.2.2.2.2.2.2.2.2.2.2.2.2.2.2.2.2.2.2.1 k0_h6
theorem k0_off128_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off128 arg20) a + S1x64x1024.size a ≤ S2x1024x1024.size a := fun v1_1 k0_t6 arg20 v75 v80 k0_hw14 k0_h6 => k0_hw14.1.2.2.2.2.2.2.2.2.2.2.2.2.2.2.2.2.2.2.2.2.2.2.2.2.2.2.2.1 k0_h6
theorem k0_off129_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off129 arg20) a + S1x1x1024.size a ≤ S2x16x1024.size a := fun v1_1 k0_t6 arg20 v75 v80 k0_hw14 k0_h6 => k0_hw14.1.2.2.2.2.2.2.2.2.2.2.2.2.2.2.2.2.2.2.2.2.2.2.2.2.2.2.2.2.1 k0_h6
theorem k0_off130_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off130 arg20) a + S1x64x1024.size a ≤ S2x1024x1024.size a := fun v1_1 k0_t6 arg20 v75 v80 k0_hw14 k0_h6 => k0_hw14.1.2.2.2.2.2.2.2.2.2.2.2.2.2.2.2.2.2.2.2.2.2.2.2.2.2.2.2.2.2.1 k0_h6
theorem k0_off131_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off131 arg20) a + S1x1x1024.size a ≤ S2x16x1024.size a := fun v1_1 k0_t6 arg20 v75 v80 k0_hw14 k0_h6 => k0_hw14.1.2.2.2.2.2.2.2.2.2.2.2.2.2.2.2.2.2.2.2.2.2.2.2.2.2.2.2.2.2.2.1 k0_h6
theorem k0_off132_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off132 arg20) a + S1x64x1024.size a ≤ S2x1024x1024.size a := fun v1_1 k0_t6 arg20 v75 v80 k0_hw14 k0_h6 => k0_hw14.1.2.2.2.2.2.2.2.2.2.2.2.2.2.2.2.2.2.2.2.2.2.2.2.2.2.2.2.2.2.2.2 k0_h6
theorem k0_off133_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off133 arg20) a + S1x1x1024.size a ≤ S2x16x1024.size a := fun v1_1 k0_t6 arg20 v75 v80 k0_hw14 k0_h6 => k0_hw14.2.1 k0_h6
theorem k0_off134_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off134 arg20) a + S1x64x1024.size a ≤ S2x1024x1024.size a := fun v1_1 k0_t6 arg20 v75 v80 k0_hw14 k0_h6 => k0_hw14.2.2.1 k0_h6
theorem k0_off135_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off135 arg20) a + S1x1x1024.size a ≤ S2x16x1024.size a := fun v1_1 k0_t6 arg20 v75 v80 k0_hw14 k0_h6 => k0_hw14.2.2.2.1 k0_h6
theorem k0_off136_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off136 arg20) a + S1x64x1024.size a ≤ S2x1024x1024.size a := fun v1_1 k0_t6 arg20 v75 v80 k0_hw14 k0_h6 => k0_hw14.2.2.2.2.1 k0_h6
theorem k0_off137_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off137 arg20) a + S1x1x1024.size a ≤ S2x16x1024.size a := fun v1_1 k0_t6 arg20 v75 v80 k0_hw14 k0_h6 => k0_hw14.2.2.2.2.2.1 k0_h6
theorem k0_off138_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off138 arg20) a + S1x64x1024.size a ≤ S2x1024x1024.size a := fun v1_1 k0_t6 arg20 v75 v80 k0_hw14 k0_h6 => k0_hw14.2.2.2.2.2.2.1 k0_h6
theorem k0_off139_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off139 arg20) a + S1x1x1024.size a ≤ S2x16x1024.size a := fun v1_1 k0_t6 arg20 v75 v80 k0_hw14 k0_h6 => k0_hw14.2.2.2.2.2.2.2.1 k0_h6
theorem k0_off140_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off140 arg20) a + S1x64x1024.size a ≤ S2x1024x1024.size a := fun v1_1 k0_t6 arg20 v75 v80 k0_hw14 k0_h6 => k0_hw14.2.2.2.2.2.2.2.2.1 k0_h6
theorem k0_off141_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off141 arg20) a + S1x1x1024.size a ≤ S2x16x1024.size a := fun v1_1 k0_t6 arg20 v75 v80 k0_hw14 k0_h6 => k0_hw14.2.2.2.2.2.2.2.2.2 k0_h6

def k0_off142 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let v89 : Index := Scalar.indexCast arg19
  ![v89.toNat]
def k0_mult9 (v90 : BitVec 32) : BitVec 32 :=
  let c97792_i32_53 : BitVec 32 := 97792#32
  let v91 : BitVec 32 := Scalar.minsi v90 c97792_i32_53
  v91

def k0_off143 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  ![v73.toNat]
def k0_off144 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let c0_i32_61 : BitVec 32 := 0#32
  let c0_i32_62 : BitVec 32 := 0#32
  ![v73.toNat, 0, 0]
def k0_off145 (v90 : BitVec 32) : Fin 2 → Nat :=
  let c97792_i32_53 : BitVec 32 := 97792#32
  let v91 : BitVec 32 := Scalar.minsi v90 c97792_i32_53
  let v92 : BitVec 32 := v91
  let c0_i32_63 : BitVec 32 := 0#32
  ![v92.toNat, 0]
def k0_off146 (v1_1 : BitVec 32) (k0_t6 : Fin (k0_t6_loop v1_1).trips) : Fin 4 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let c0_i32_64 : BitVec 32 := 0#32
  let c0_i32_65 : BitVec 32 := 0#32
  let c0_i32_66 : BitVec 32 := 0#32
  ![v73.toNat, 0, 0, 0]
def k0_off147 (v90 : BitVec 32) : Fin 3 → Nat :=
  let c97792_i32_53 : BitVec 32 := 97792#32
  let v91 : BitVec 32 := Scalar.minsi v90 c97792_i32_53
  let v92 : BitVec 32 := v91
  let c0_i32_55 : BitVec 32 := 0#32
  let v94 : BitVec 1 := Scalar.cmpi .sgt v92 c0_i32_55
  let v95 : BitVec 32 := Scalar.extui v94
  let c0_i32_56 : BitVec 32 := 0#32
  let v96 : BitVec 1 := Scalar.cmpi .slt v92 c0_i32_56
  let v97 : BitVec 32 := Scalar.extui v96
  let v98 : BitVec 32 := Scalar.subi v95 v97
  let c128_i32_54 : BitVec 32 := 128#32
  let c0_i32_57 : BitVec 32 := 0#32
  let v99 : BitVec 1 := Scalar.cmpi .sgt c128_i32_54 c0_i32_57
  let v100 : BitVec 32 := Scalar.extui v99
  let c0_i32_58 : BitVec 32 := 0#32
  let v101 : BitVec 1 := Scalar.cmpi .slt c128_i32_54 c0_i32_58
  let v102 : BitVec 32 := Scalar.extui v101
  let v103 : BitVec 32 := Scalar.subi v100 v102
  let v104 : BitVec 1 := Scalar.cmpi .ne v98 v103
  let v105 : BitVec 32 := Scalar.remsi v92 c128_i32_54
  let c0_i32_59 : BitVec 32 := 0#32
  let v106 : BitVec 1 := Scalar.cmpi .ne v105 c0_i32_59
  let v107 : BitVec 1 := Scalar.andi v104 v106
  let v93 : BitVec 32 := Scalar.divsi v92 c128_i32_54
  let c1_i32_60 : BitVec 32 := 1#32
  let v108 : BitVec 32 := Scalar.subi v93 c1_i32_60
  let v109 : BitVec 32 := Scalar.select v107 v108 v93
  let c0_i32_67 : BitVec 32 := 0#32
  let c0_i32_68 : BitVec 32 := 0#32
  ![v109.toNat, 0, 0]

def k0_chk16 (v90 : BitVec 32) : Prop :=
  (128 ∣ (k0_mult9 v90).toNat) ∧
  (∀ a, (k0_off145 v90) a + S512x2048.size a ≤ S98304x2048.size a) ∧
  (∀ (hinb : ∀ a, (k0_off145 v90) a + S512x2048.size a ≤ S98304x2048.size a), (Rect.unit (s := S98304x2048) (k0_off145 v90) S512x2048.size hinb).WholeWords (EltTy.packing .fp8e4m3)) ∧
  (∀ a, (k0_off147 v90) a + S4x1x128.size a ≤ S768x1x128.size a)
theorem k0_mult9_dvd : ∀ (v90 : BitVec 32) (k0_hw16 : k0_chk16 v90), 128 ∣ (k0_mult9 v90).toNat := fun v90 k0_hw16 => k0_hw16.1
theorem k0_off145_inb : ∀ (v90 : BitVec 32) (k0_hw16 : k0_chk16 v90), ∀ a, (k0_off145 v90) a + S512x2048.size a ≤ S98304x2048.size a := fun v90 k0_hw16 => k0_hw16.2.1
theorem k0_off145_wordsfp8e4m3 : ∀ (v90 : BitVec 32) (k0_hw16 : k0_chk16 v90), (Rect.unit (s := S98304x2048) (k0_off145 v90) S512x2048.size (k0_off145_inb v90 k0_hw16)).WholeWords (EltTy.packing .fp8e4m3) := fun v90 k0_hw16 => k0_hw16.2.2.1 (k0_off145_inb v90 k0_hw16)
theorem k0_off147_inb : ∀ (v90 : BitVec 32) (k0_hw16 : k0_chk16 v90), ∀ a, (k0_off147 v90) a + S4x1x128.size a ≤ S768x1x128.size a := fun v90 k0_hw16 => k0_hw16.2.2.2

def k0_off148 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_106 : BitVec 32 := 2#32
  let v359 : BitVec 32 := Scalar.subi arg19 c2_i32_106
  let v360 : Index := Scalar.indexCast v359
  ![v360.toNat]
def k0_cond8 (v1_1 : BitVec 32) (k0_t6 : Fin (k0_t6_loop v1_1).trips) : BitVec 1 :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_69 : BitVec 32 := 2#32
  let v120 : BitVec 1 := Scalar.cmpi .sge arg19 c2_i32_69
  let v121 : BitVec 32 := Scalar.extui v120
  let c0_i32_70 : BitVec 32 := 0#32
  let v122 : BitVec 1 := Scalar.cmpi .ne v121 c0_i32_70
  v122

def k0_mult10 (v361 : BitVec 32) : BitVec 32 :=
  let c97792_i32_107 : BitVec 32 := 97792#32
  let v362 : BitVec 32 := Scalar.minsi v361 c97792_i32_107
  v362

def k0_chk17 (v1_1 : BitVec 32) (k0_t6 : Fin (k0_t6_loop v1_1).trips) (v361 : BitVec 32) : Prop :=
  (∀ (k0_h8 : k0_cond8 v1_1 k0_t6 = 1#1), 128 ∣ (k0_mult10 v361).toNat)
theorem k0_mult10_dvd : ∀ (v1_1 : BitVec 32) (k0_t6 : Fin (k0_t6_loop v1_1).trips) (v361 : BitVec 32) (k0_hw17 : k0_chk17 v1_1 k0_t6 v361), ∀ (k0_h8 : k0_cond8 v1_1 k0_t6 = 1#1), 128 ∣ (k0_mult10 v361).toNat := fun v1_1 k0_t6 v361 k0_hw17 k0_h8 => k0_hw17 k0_h8

def k0_off149 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_106 : BitVec 32 := 2#32
  let v359 : BitVec 32 := Scalar.subi arg19 c2_i32_106
  let v364 : Index := Scalar.indexCast v359
  ![v364.toNat]
def k0_mult11 (v361 : BitVec 32) (v365 : BitVec 32) : BitVec 32 :=
  let c97792_i32_107 : BitVec 32 := 97792#32
  let v362 : BitVec 32 := Scalar.minsi v361 c97792_i32_107
  let v363 : BitVec 32 := v362
  let c1152_i32_108 : BitVec 32 := 1152#32
  let v366 : BitVec 32 := Scalar.muli v365 c1152_i32_108
  let v367 : BitVec 32 := Scalar.addi v363 v366
  let c8_i32_109 : BitVec 32 := 8#32
  let v368 : BitVec 32 := Scalar.muli v367 c8_i32_109
  v368

def k0_off150 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  ![v73.toNat]
def k0_off151 (v361 : BitVec 32) (v365 : BitVec 32) : Fin 2 → Nat :=
  let c97792_i32_107 : BitVec 32 := 97792#32
  let v362 : BitVec 32 := Scalar.minsi v361 c97792_i32_107
  let v363 : BitVec 32 := v362
  let c1152_i32_108 : BitVec 32 := 1152#32
  let v366 : BitVec 32 := Scalar.muli v365 c1152_i32_108
  let v367 : BitVec 32 := Scalar.addi v363 v366
  let c8_i32_109 : BitVec 32 := 8#32
  let v368 : BitVec 32 := Scalar.muli v367 c8_i32_109
  let v369 : BitVec 32 := v368
  let c0_i32_110 : BitVec 32 := 0#32
  ![v369.toNat, 0]

def k0_chk18 (v1_1 : BitVec 32) (k0_t6 : Fin (k0_t6_loop v1_1).trips) (v361 : BitVec 32) (v365 : BitVec 32) : Prop :=
  (∀ (k0_h8 : k0_cond8 v1_1 k0_t6 = 1#1), 8 ∣ (k0_mult11 v361 v365).toNat) ∧
  (∀ (k0_h8 : k0_cond8 v1_1 k0_t6 = 1#1), ∀ a, (k0_off151 v361 v365) a + S4096x128.size a ≤ S933888x128.size a)
theorem k0_mult11_dvd : ∀ (v1_1 : BitVec 32) (k0_t6 : Fin (k0_t6_loop v1_1).trips) (v361 : BitVec 32) (v365 : BitVec 32) (k0_hw18 : k0_chk18 v1_1 k0_t6 v361 v365), ∀ (k0_h8 : k0_cond8 v1_1 k0_t6 = 1#1), 8 ∣ (k0_mult11 v361 v365).toNat := fun v1_1 k0_t6 v361 v365 k0_hw18 k0_h8 => k0_hw18.1 k0_h8
theorem k0_off151_inb : ∀ (v1_1 : BitVec 32) (k0_t6 : Fin (k0_t6_loop v1_1).trips) (v361 : BitVec 32) (v365 : BitVec 32) (k0_hw18 : k0_chk18 v1_1 k0_t6 v361 v365), ∀ (k0_h8 : k0_cond8 v1_1 k0_t6 = 1#1), ∀ a, (k0_off151 v361 v365) a + S4096x128.size a ≤ S933888x128.size a := fun v1_1 k0_t6 v361 v365 k0_hw18 k0_h8 => k0_hw18.2 k0_h8

def k0_off152 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let c0_i32_111 : BitVec 32 := 0#32
  let c0_i32_112 : BitVec 32 := 0#32
  ![v73.toNat, 0, 0]
def k0_off153 (v1_1 : BitVec 32) (k0_t6 : Fin (k0_t6_loop v1_1).trips) : Fin 4 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v123 : Index := Scalar.indexCast v73
  let c0_71 : Index := 0#32
  let c0_72 : Index := 0#32
  let c0_73 : Index := 0#32
  ![v123.toNat, 0, 0, 0]
def k0_off154 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v130 : Index := Scalar.indexCast v73
  let c0_74 : Index := 0#32
  let c0_75 : Index := 0#32
  ![v130.toNat, 0, 0]
def k0_off155 (v1_1 : BitVec 32) (k0_t6 : Fin (k0_t6_loop v1_1).trips) : Fin 4 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v167 : Index := Scalar.indexCast v73
  let c1 : Index := 1#32
  let c0_76 : Index := 0#32
  let c0_77 : Index := 0#32
  ![v167.toNat, 1, 0, 0]
def k0_off156 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v174 : Index := Scalar.indexCast v73
  let c128 : Index := 128#32
  let c0_78 : Index := 0#32
  ![v174.toNat, 128, 0]
def k0_off157 (v1_1 : BitVec 32) (k0_t6 : Fin (k0_t6_loop v1_1).trips) : Fin 4 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v211 : Index := Scalar.indexCast v73
  let c2 : Index := 2#32
  let c0_79 : Index := 0#32
  let c0_80 : Index := 0#32
  ![v211.toNat, 2, 0, 0]
def k0_off158 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v218 : Index := Scalar.indexCast v73
  let c256 : Index := 256#32
  let c0_81 : Index := 0#32
  ![v218.toNat, 256, 0]
def k0_off159 (v1_1 : BitVec 32) (k0_t6 : Fin (k0_t6_loop v1_1).trips) : Fin 4 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v255 : Index := Scalar.indexCast v73
  let c3 : Index := 3#32
  let c0_82 : Index := 0#32
  let c0_83 : Index := 0#32
  ![v255.toNat, 3, 0, 0]
def k0_off160 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v262 : Index := Scalar.indexCast v73
  let c384 : Index := 384#32
  let c0_84 : Index := 0#32
  ![v262.toNat, 384, 0]
def k0_off161 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v303 : Index := Scalar.indexCast v73
  let c0_87 : Index := 0#32
  let c0_88 : Index := 0#32
  ![v303.toNat, 0, 0]
def k0_off162 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v308 : Index := Scalar.indexCast v73
  let c1_89 : Index := 1#32
  let c0_90 : Index := 0#32
  ![v308.toNat, 1, 0]
def k0_off163 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v313 : Index := Scalar.indexCast v73
  let c2_91 : Index := 2#32
  let c0_92 : Index := 0#32
  ![v313.toNat, 2, 0]
def k0_off164 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v318 : Index := Scalar.indexCast v73
  let c3_93 : Index := 3#32
  let c0_94 : Index := 0#32
  ![v318.toNat, 3, 0]
def k0_off165 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v323 : Index := Scalar.indexCast v73
  let c4 : Index := 4#32
  let c0_95 : Index := 0#32
  ![v323.toNat, 4, 0]
def k0_off166 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v328 : Index := Scalar.indexCast v73
  let c5 : Index := 5#32
  let c0_96 : Index := 0#32
  ![v328.toNat, 5, 0]
def k0_off167 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v333 : Index := Scalar.indexCast v73
  let c6 : Index := 6#32
  let c0_97 : Index := 0#32
  ![v333.toNat, 6, 0]
def k0_off168 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v338 : Index := Scalar.indexCast v73
  let c7 : Index := 7#32
  let c0_98 : Index := 0#32
  ![v338.toNat, 7, 0]
def k0_off169 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let v342 : Index := Scalar.indexCast arg19
  ![v342.toNat]
def k0_mult12 (v343 : BitVec 32) : BitVec 32 :=
  let c97792_i32_99 : BitVec 32 := 97792#32
  let v344 : BitVec 32 := Scalar.minsi v343 c97792_i32_99
  v344

def k0_chk19 (v343 : BitVec 32) : Prop :=
  (128 ∣ (k0_mult12 v343).toNat)
theorem k0_mult12_dvd : ∀ (v343 : BitVec 32) (k0_hw19 : k0_chk19 v343), 128 ∣ (k0_mult12 v343).toNat := fun v343 k0_hw19 => k0_hw19

def k0_off170 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let v346 : Index := Scalar.indexCast arg19
  ![v346.toNat]
def k0_mult13 (v343 : BitVec 32) (v347 : BitVec 32) : BitVec 32 :=
  let c97792_i32_99 : BitVec 32 := 97792#32
  let v344 : BitVec 32 := Scalar.minsi v343 c97792_i32_99
  let v345 : BitVec 32 := v344
  let c1152_i32_100 : BitVec 32 := 1152#32
  let v348 : BitVec 32 := Scalar.muli v347 c1152_i32_100
  let v349 : BitVec 32 := Scalar.addi v345 v348
  let c8_i32_101 : BitVec 32 := 8#32
  let v350 : BitVec 32 := Scalar.muli v349 c8_i32_101
  v350

def k0_off171 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  ![v73.toNat]
def k0_off172 (v343 : BitVec 32) (v347 : BitVec 32) : Fin 2 → Nat :=
  let c97792_i32_99 : BitVec 32 := 97792#32
  let v344 : BitVec 32 := Scalar.minsi v343 c97792_i32_99
  let v345 : BitVec 32 := v344
  let c1152_i32_100 : BitVec 32 := 1152#32
  let v348 : BitVec 32 := Scalar.muli v347 c1152_i32_100
  let v349 : BitVec 32 := Scalar.addi v345 v348
  let c8_i32_101 : BitVec 32 := 8#32
  let v350 : BitVec 32 := Scalar.muli v349 c8_i32_101
  let v351 : BitVec 32 := v350
  let c0_i32_102 : BitVec 32 := 0#32
  ![v351.toNat, 0]

def k0_chk20 (v343 : BitVec 32) (v347 : BitVec 32) : Prop :=
  (8 ∣ (k0_mult13 v343 v347).toNat) ∧
  (∀ a, (k0_off172 v343 v347) a + S4096x128.size a ≤ S933888x128.size a)
theorem k0_mult13_dvd : ∀ (v343 : BitVec 32) (v347 : BitVec 32) (k0_hw20 : k0_chk20 v343 v347), 8 ∣ (k0_mult13 v343 v347).toNat := fun v343 v347 k0_hw20 => k0_hw20.1
theorem k0_off172_inb : ∀ (v343 : BitVec 32) (v347 : BitVec 32) (k0_hw20 : k0_chk20 v343 v347), ∀ a, (k0_off172 v343 v347) a + S4096x128.size a ≤ S933888x128.size a := fun v343 v347 k0_hw20 => k0_hw20.2

def k0_off173 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let c0_i32_103 : BitVec 32 := 0#32
  let c0_i32_104 : BitVec 32 := 0#32
  ![v73.toNat, 0, 0]
def k0_off174 (v1_1 : BitVec 32) : Fin 1 → Nat :=
  let c2_i32_46 : BitVec 32 := 2#32
  let v73 : BitVec 32 := Scalar.subi v1_1 c2_i32_46
  let v75 : Index := Scalar.indexCast v73
  ![v75.toNat]
def k0_cond9 (v1_1 : BitVec 32) : BitVec 1 :=
  let c2_i32 : BitVec 32 := 2#32
  let v52 : BitVec 1 := Scalar.cmpi .sge v1_1 c2_i32
  let v53 : BitVec 32 := Scalar.extui v52
  let c0_i32_38 : BitVec 32 := 0#32
  let v54 : BitVec 1 := Scalar.cmpi .ne v53 c0_i32_38
  v54

def k0_mult14 (v76 : BitVec 32) : BitVec 32 :=
  let c97792_i32_48 : BitVec 32 := 97792#32
  let v77 : BitVec 32 := Scalar.minsi v76 c97792_i32_48
  v77

def k0_chk21 (v1_1 : BitVec 32) (v76 : BitVec 32) : Prop :=
  (∀ (k0_h9 : k0_cond9 v1_1 = 1#1), 128 ∣ (k0_mult14 v76).toNat)
theorem k0_mult14_dvd : ∀ (v1_1 : BitVec 32) (v76 : BitVec 32) (k0_hw21 : k0_chk21 v1_1 v76), ∀ (k0_h9 : k0_cond9 v1_1 = 1#1), 128 ∣ (k0_mult14 v76).toNat := fun v1_1 v76 k0_hw21 k0_h9 => k0_hw21 k0_h9

def k0_off175 (v1_1 : BitVec 32) : Fin 1 → Nat :=
  let c2_i32_46 : BitVec 32 := 2#32
  let v73 : BitVec 32 := Scalar.subi v1_1 c2_i32_46
  let v79 : Index := Scalar.indexCast v73
  ![v79.toNat]
def k0_mult15 (v76 : BitVec 32) (v80 : BitVec 32) : BitVec 32 :=
  let c97792_i32_48 : BitVec 32 := 97792#32
  let v77 : BitVec 32 := Scalar.minsi v76 c97792_i32_48
  let v78 : BitVec 32 := v77
  let c1152_i32_49 : BitVec 32 := 1152#32
  let v81 : BitVec 32 := Scalar.muli v80 c1152_i32_49
  let v82 : BitVec 32 := Scalar.addi v78 v81
  let c8_i32_50 : BitVec 32 := 8#32
  let v83 : BitVec 32 := Scalar.muli v82 c8_i32_50
  v83

def k0_off176 (v1_1 : BitVec 32) : Fin 1 → Nat :=
  let c2_i32_47 : BitVec 32 := 2#32
  let v74 : BitVec 32 := Scalar.remsi v1_1 c2_i32_47
  ![v74.toNat]
def k0_off177 (v76 : BitVec 32) (v80 : BitVec 32) : Fin 2 → Nat :=
  let c97792_i32_48 : BitVec 32 := 97792#32
  let v77 : BitVec 32 := Scalar.minsi v76 c97792_i32_48
  let v78 : BitVec 32 := v77
  let c1152_i32_49 : BitVec 32 := 1152#32
  let v81 : BitVec 32 := Scalar.muli v80 c1152_i32_49
  let v82 : BitVec 32 := Scalar.addi v78 v81
  let c8_i32_50 : BitVec 32 := 8#32
  let v83 : BitVec 32 := Scalar.muli v82 c8_i32_50
  let v84 : BitVec 32 := v83
  let c0_i32_51 : BitVec 32 := 0#32
  ![v84.toNat, 0]

def k0_chk22 (v1_1 : BitVec 32) (v76 : BitVec 32) (v80 : BitVec 32) : Prop :=
  (∀ (k0_h9 : k0_cond9 v1_1 = 1#1), 8 ∣ (k0_mult15 v76 v80).toNat) ∧
  (∀ (k0_h9 : k0_cond9 v1_1 = 1#1), ∀ a, (k0_off177 v76 v80) a + S4096x128.size a ≤ S933888x128.size a)
theorem k0_mult15_dvd : ∀ (v1_1 : BitVec 32) (v76 : BitVec 32) (v80 : BitVec 32) (k0_hw22 : k0_chk22 v1_1 v76 v80), ∀ (k0_h9 : k0_cond9 v1_1 = 1#1), 8 ∣ (k0_mult15 v76 v80).toNat := fun v1_1 v76 v80 k0_hw22 k0_h9 => k0_hw22.1 k0_h9
theorem k0_off177_inb : ∀ (v1_1 : BitVec 32) (v76 : BitVec 32) (v80 : BitVec 32) (k0_hw22 : k0_chk22 v1_1 v76 v80), ∀ (k0_h9 : k0_cond9 v1_1 = 1#1), ∀ a, (k0_off177 v76 v80) a + S4096x128.size a ≤ S933888x128.size a := fun v1_1 v76 v80 k0_hw22 k0_h9 => k0_hw22.2 k0_h9

def k0_off178 (v1_1 : BitVec 32) : Fin 3 → Nat :=
  let c2_i32_47 : BitVec 32 := 2#32
  let v74 : BitVec 32 := Scalar.remsi v1_1 c2_i32_47
  let c0_i32_52 : BitVec 32 := 0#32
  let c0_i32_53 : BitVec 32 := 0#32
  ![v74.toNat, 0, 0]
def k0_off179 (v1_1 : BitVec 32) : Fin 1 → Nat :=
  let c1_i32_39 : BitVec 32 := 1#32
  let v55 : BitVec 32 := Scalar.subi v1_1 c1_i32_39
  let v58 : Index := Scalar.indexCast v55
  ![v58.toNat]
def k0_mult16 (v59 : BitVec 32) : BitVec 32 :=
  let c97792_i32_42 : BitVec 32 := 97792#32
  let v60 : BitVec 32 := Scalar.minsi v59 c97792_i32_42
  v60

def k0_chk23 (v59 : BitVec 32) : Prop :=
  (128 ∣ (k0_mult16 v59).toNat)
theorem k0_mult16_dvd : ∀ (v59 : BitVec 32) (k0_hw23 : k0_chk23 v59), 128 ∣ (k0_mult16 v59).toNat := fun v59 k0_hw23 => k0_hw23

def k0_off180 (v1_1 : BitVec 32) : Fin 1 → Nat :=
  let c1_i32_39 : BitVec 32 := 1#32
  let v55 : BitVec 32 := Scalar.subi v1_1 c1_i32_39
  let v62 : Index := Scalar.indexCast v55
  ![v62.toNat]
def k0_mult17 (v59 : BitVec 32) (v63 : BitVec 32) : BitVec 32 :=
  let c97792_i32_42 : BitVec 32 := 97792#32
  let v60 : BitVec 32 := Scalar.minsi v59 c97792_i32_42
  let v61 : BitVec 32 := v60
  let c1152_i32 : BitVec 32 := 1152#32
  let v64 : BitVec 32 := Scalar.muli v63 c1152_i32
  let v65 : BitVec 32 := Scalar.addi v61 v64
  let c8_i32 : BitVec 32 := 8#32
  let v66 : BitVec 32 := Scalar.muli v65 c8_i32
  v66

def k0_off181 (v1_1 : BitVec 32) : Fin 1 → Nat :=
  let c1_i32_40 : BitVec 32 := 1#32
  let v56 : BitVec 32 := Scalar.subi v1_1 c1_i32_40
  let c2_i32_41 : BitVec 32 := 2#32
  let v57 : BitVec 32 := Scalar.remsi v56 c2_i32_41
  ![v57.toNat]
def k0_off182 (v59 : BitVec 32) (v63 : BitVec 32) : Fin 2 → Nat :=
  let c97792_i32_42 : BitVec 32 := 97792#32
  let v60 : BitVec 32 := Scalar.minsi v59 c97792_i32_42
  let v61 : BitVec 32 := v60
  let c1152_i32 : BitVec 32 := 1152#32
  let v64 : BitVec 32 := Scalar.muli v63 c1152_i32
  let v65 : BitVec 32 := Scalar.addi v61 v64
  let c8_i32 : BitVec 32 := 8#32
  let v66 : BitVec 32 := Scalar.muli v65 c8_i32
  let v67 : BitVec 32 := v66
  let c0_i32_43 : BitVec 32 := 0#32
  ![v67.toNat, 0]

def k0_chk24 (v59 : BitVec 32) (v63 : BitVec 32) : Prop :=
  (8 ∣ (k0_mult17 v59 v63).toNat) ∧
  (∀ a, (k0_off182 v59 v63) a + S4096x128.size a ≤ S933888x128.size a)
theorem k0_mult17_dvd : ∀ (v59 : BitVec 32) (v63 : BitVec 32) (k0_hw24 : k0_chk24 v59 v63), 8 ∣ (k0_mult17 v59 v63).toNat := fun v59 v63 k0_hw24 => k0_hw24.1
theorem k0_off182_inb : ∀ (v59 : BitVec 32) (v63 : BitVec 32) (k0_hw24 : k0_chk24 v59 v63), ∀ a, (k0_off182 v59 v63) a + S4096x128.size a ≤ S933888x128.size a := fun v59 v63 k0_hw24 => k0_hw24.2

def k0_off183 (v1_1 : BitVec 32) : Fin 3 → Nat :=
  let c1_i32_40 : BitVec 32 := 1#32
  let v56 : BitVec 32 := Scalar.subi v1_1 c1_i32_40
  let c2_i32_41 : BitVec 32 := 2#32
  let v57 : BitVec 32 := Scalar.remsi v56 c2_i32_41
  let c0_i32_44 : BitVec 32 := 0#32
  let c0_i32_45 : BitVec 32 := 0#32
  ![v57.toNat, 0, 0]

def k0_chk4_0 (v1_1 : BitVec 32) : Prop :=
  ((k0_t4_loop v1_1).OK) ∧
  (∀ k0_t4 : Fin (k0_t4_loop v1_1).trips, ∀ a, (k0_off8 v1_1 k0_t4) a + S1.size a ≤ S224.size a) ∧
  (∀ k0_t4 : Fin (k0_t4_loop v1_1).trips, ∀ a, (k0_off9 v1_1 k0_t4) a + S1.size a ≤ S224.size a) ∧
  (∀ k0_t4 : Fin (k0_t4_loop v1_1).trips, ∀ (k0_h1 : k0_cond1 v1_1 k0_t4 = 1#1), ∀ a, (k0_off10 v1_1 k0_t4) a + S1.size a ≤ S224.size a) ∧
  (∀ k0_t4 : Fin (k0_t4_loop v1_1).trips, ∀ (k0_h1 : k0_cond1 v1_1 k0_t4 = 1#1), ∀ a, (k0_off11 v1_1 k0_t4) a + S1.size a ≤ S2.size a) ∧
  (∀ k0_t4 : Fin (k0_t4_loop v1_1).trips, ∀ (k0_h1 : k0_cond1 v1_1 k0_t4 = 1#1), ∀ a, (k0_off12 v1_1 k0_t4) a + S1x512x2048.size a ≤ S2x512x2048.size a) ∧
  (∀ k0_t4 : Fin (k0_t4_loop v1_1).trips, ∀ (k0_h1 : k0_cond1 v1_1 k0_t4 = 1#1), ∀ (hinb : ∀ a, (k0_off12 v1_1 k0_t4) a + S1x512x2048.size a ≤ S2x512x2048.size a), (Rect.unit (s := S2x512x2048) (k0_off12 v1_1 k0_t4) S1x512x2048.size hinb).WholeWords (EltTy.packing .fp8e4m3)) ∧
  (∀ k0_t4 : Fin (k0_t4_loop v1_1).trips, ∀ (k0_h1 : k0_cond1 v1_1 k0_t4 = 1#1), ∀ a, (k0_off14 v1_1 k0_t4) a + S1x4x1x128.size a ≤ S2x4x1x128.size a) ∧
  (∀ k0_t4 : Fin (k0_t4_loop v1_1).trips, ∀ a, (k0_off59 v1_1 k0_t4) a + S1.size a ≤ S224.size a) ∧
  (∀ k0_t4 : Fin (k0_t4_loop v1_1).trips, ∀ a, (k0_off60 v1_1 k0_t4) a + S1.size a ≤ S2.size a) ∧
  (∀ k0_t4 : Fin (k0_t4_loop v1_1).trips, ∀ a, (k0_off61 v1_1 k0_t4) a + S1x512x2048.size a ≤ S2x512x2048.size a) ∧
  (∀ k0_t4 : Fin (k0_t4_loop v1_1).trips, ∀ (hinb : ∀ a, (k0_off61 v1_1 k0_t4) a + S1x512x2048.size a ≤ S2x512x2048.size a), (Rect.unit (s := S2x512x2048) (k0_off61 v1_1 k0_t4) S1x512x2048.size hinb).WholeWords (EltTy.packing .fp8e4m3)) ∧
  (∀ k0_t4 : Fin (k0_t4_loop v1_1).trips, ∀ a, (k0_off63 v1_1 k0_t4) a + S1x4x1x128.size a ≤ S2x4x1x128.size a) ∧
  (∀ k0_t4 : Fin (k0_t4_loop v1_1).trips, ∀ (k0_h4 : k0_cond4 v1_1 k0_t4 = 1#1), ∀ a, (k0_off65 v1_1 k0_t4) a + S1.size a ≤ S224.size a) ∧
  (∀ k0_t4 : Fin (k0_t4_loop v1_1).trips, ∀ (k0_h4 : k0_cond4 v1_1 k0_t4 = 1#1), ∀ a, (k0_off66 v1_1 k0_t4) a + S1.size a ≤ S224.size a) ∧
  (∀ k0_t4 : Fin (k0_t4_loop v1_1).trips, ∀ (k0_h4 : k0_cond4 v1_1 k0_t4 = 1#1), ∀ a, (k0_off67 v1_1 k0_t4) a + S1.size a ≤ S2.size a) ∧
  (∀ k0_t4 : Fin (k0_t4_loop v1_1).trips, ∀ (k0_h4 : k0_cond4 v1_1 k0_t4 = 1#1), ∀ a, (k0_off69 v1_1 k0_t4) a + S1x4096x128.size a ≤ S2x4096x128.size a) ∧
  (∀ k0_t4 : Fin (k0_t4_loop v1_1).trips, ∀ a, (k0_off70 v1_1 k0_t4) a + S1x1x1x128.size a ≤ S2x4x1x128.size a) ∧
  (∀ k0_t4 : Fin (k0_t4_loop v1_1).trips, ∀ a, (k0_off71 v1_1 k0_t4) a + S1x128x2048.size a ≤ S2x512x2048.size a) ∧
  (∀ k0_t4 : Fin (k0_t4_loop v1_1).trips, ∀ a, (k0_off72 v1_1 k0_t4) a + S1x1x1x128.size a ≤ S2x4x1x128.size a) ∧
  (∀ k0_t4 : Fin (k0_t4_loop v1_1).trips, ∀ a, (k0_off73 v1_1 k0_t4) a + S1x128x2048.size a ≤ S2x512x2048.size a) ∧
  (∀ k0_t4 : Fin (k0_t4_loop v1_1).trips, ∀ a, (k0_off74 v1_1 k0_t4) a + S1x1x1x128.size a ≤ S2x4x1x128.size a) ∧
  (∀ k0_t4 : Fin (k0_t4_loop v1_1).trips, ∀ a, (k0_off75 v1_1 k0_t4) a + S1x128x2048.size a ≤ S2x512x2048.size a) ∧
  (∀ k0_t4 : Fin (k0_t4_loop v1_1).trips, ∀ a, (k0_off76 v1_1 k0_t4) a + S1x1x1x128.size a ≤ S2x4x1x128.size a) ∧
  (∀ k0_t4 : Fin (k0_t4_loop v1_1).trips, ∀ a, (k0_off77 v1_1 k0_t4) a + S1x128x2048.size a ≤ S2x512x2048.size a) ∧
  (∀ k0_t4 : Fin (k0_t4_loop v1_1).trips, ∀ a, S1x512x128.size a = 0 ∨ (k0_off78 v1_1 k0_t4) a + (![1, 8, 1] : Fin 3 → Nat) a * (S1x512x128.size a - 1) < S2x4096x128.size a) ∧
  (∀ k0_t4 : Fin (k0_t4_loop v1_1).trips, ∀ a, S1x512x128.size a = 0 ∨ (k0_off79 v1_1 k0_t4) a + (![1, 8, 1] : Fin 3 → Nat) a * (S1x512x128.size a - 1) < S2x4096x128.size a) ∧
  (∀ k0_t4 : Fin (k0_t4_loop v1_1).trips, ∀ a, S1x512x128.size a = 0 ∨ (k0_off80 v1_1 k0_t4) a + (![1, 8, 1] : Fin 3 → Nat) a * (S1x512x128.size a - 1) < S2x4096x128.size a) ∧
  (∀ k0_t4 : Fin (k0_t4_loop v1_1).trips, ∀ a, S1x512x128.size a = 0 ∨ (k0_off81 v1_1 k0_t4) a + (![1, 8, 1] : Fin 3 → Nat) a * (S1x512x128.size a - 1) < S2x4096x128.size a) ∧
  (∀ k0_t4 : Fin (k0_t4_loop v1_1).trips, ∀ a, S1x512x128.size a = 0 ∨ (k0_off82 v1_1 k0_t4) a + (![1, 8, 1] : Fin 3 → Nat) a * (S1x512x128.size a - 1) < S2x4096x128.size a) ∧
  (∀ k0_t4 : Fin (k0_t4_loop v1_1).trips, ∀ a, S1x512x128.size a = 0 ∨ (k0_off83 v1_1 k0_t4) a + (![1, 8, 1] : Fin 3 → Nat) a * (S1x512x128.size a - 1) < S2x4096x128.size a) ∧
  (∀ k0_t4 : Fin (k0_t4_loop v1_1).trips, ∀ a, S1x512x128.size a = 0 ∨ (k0_off84 v1_1 k0_t4) a + (![1, 8, 1] : Fin 3 → Nat) a * (S1x512x128.size a - 1) < S2x4096x128.size a)
def k0_chk4_1 (v1_1 : BitVec 32) : Prop :=
  (∀ k0_t4 : Fin (k0_t4_loop v1_1).trips, ∀ a, S1x512x128.size a = 0 ∨ (k0_off85 v1_1 k0_t4) a + (![1, 8, 1] : Fin 3 → Nat) a * (S1x512x128.size a - 1) < S2x4096x128.size a) ∧
  (∀ k0_t4 : Fin (k0_t4_loop v1_1).trips, ∀ a, (k0_off86 v1_1 k0_t4) a + S1.size a ≤ S224.size a) ∧
  (∀ k0_t4 : Fin (k0_t4_loop v1_1).trips, ∀ a, (k0_off87 v1_1 k0_t4) a + S1.size a ≤ S224.size a) ∧
  (∀ k0_t4 : Fin (k0_t4_loop v1_1).trips, ∀ a, (k0_off88 v1_1 k0_t4) a + S1.size a ≤ S2.size a) ∧
  (∀ k0_t4 : Fin (k0_t4_loop v1_1).trips, ∀ a, (k0_off90 v1_1 k0_t4) a + S1x4096x128.size a ≤ S2x4096x128.size a) ∧
  ((k0_t6_loop v1_1).OK) ∧
  (∀ k0_t6 : Fin (k0_t6_loop v1_1).trips, ∀ a, (k0_off91 v1_1 k0_t6) a + S1.size a ≤ S224.size a) ∧
  (∀ k0_t6 : Fin (k0_t6_loop v1_1).trips, ∀ a, (k0_off92 v1_1 k0_t6) a + S1.size a ≤ S224.size a) ∧
  (∀ k0_t6 : Fin (k0_t6_loop v1_1).trips, ∀ (k0_h5 : k0_cond5 v1_1 k0_t6 = 1#1), ∀ a, (k0_off93 v1_1 k0_t6) a + S1.size a ≤ S224.size a) ∧
  (∀ k0_t6 : Fin (k0_t6_loop v1_1).trips, ∀ (k0_h5 : k0_cond5 v1_1 k0_t6 = 1#1), ∀ a, (k0_off94 v1_1 k0_t6) a + S1.size a ≤ S2.size a) ∧
  (∀ k0_t6 : Fin (k0_t6_loop v1_1).trips, ∀ (k0_h5 : k0_cond5 v1_1 k0_t6 = 1#1), ∀ a, (k0_off95 v1_1 k0_t6) a + S1x512x2048.size a ≤ S2x512x2048.size a) ∧
  (∀ k0_t6 : Fin (k0_t6_loop v1_1).trips, ∀ (k0_h5 : k0_cond5 v1_1 k0_t6 = 1#1), ∀ (hinb : ∀ a, (k0_off95 v1_1 k0_t6) a + S1x512x2048.size a ≤ S2x512x2048.size a), (Rect.unit (s := S2x512x2048) (k0_off95 v1_1 k0_t6) S1x512x2048.size hinb).WholeWords (EltTy.packing .fp8e4m3)) ∧
  (∀ k0_t6 : Fin (k0_t6_loop v1_1).trips, ∀ (k0_h5 : k0_cond5 v1_1 k0_t6 = 1#1), ∀ a, (k0_off97 v1_1 k0_t6) a + S1x4x1x128.size a ≤ S2x4x1x128.size a) ∧
  (∀ k0_t6 : Fin (k0_t6_loop v1_1).trips, ∀ a, (k0_off142 v1_1 k0_t6) a + S1.size a ≤ S224.size a) ∧
  (∀ k0_t6 : Fin (k0_t6_loop v1_1).trips, ∀ a, (k0_off143 v1_1 k0_t6) a + S1.size a ≤ S2.size a) ∧
  (∀ k0_t6 : Fin (k0_t6_loop v1_1).trips, ∀ a, (k0_off144 v1_1 k0_t6) a + S1x512x2048.size a ≤ S2x512x2048.size a) ∧
  (∀ k0_t6 : Fin (k0_t6_loop v1_1).trips, ∀ (hinb : ∀ a, (k0_off144 v1_1 k0_t6) a + S1x512x2048.size a ≤ S2x512x2048.size a), (Rect.unit (s := S2x512x2048) (k0_off144 v1_1 k0_t6) S1x512x2048.size hinb).WholeWords (EltTy.packing .fp8e4m3)) ∧
  (∀ k0_t6 : Fin (k0_t6_loop v1_1).trips, ∀ a, (k0_off146 v1_1 k0_t6) a + S1x4x1x128.size a ≤ S2x4x1x128.size a) ∧
  (∀ k0_t6 : Fin (k0_t6_loop v1_1).trips, ∀ (k0_h8 : k0_cond8 v1_1 k0_t6 = 1#1), ∀ a, (k0_off148 v1_1 k0_t6) a + S1.size a ≤ S224.size a) ∧
  (∀ k0_t6 : Fin (k0_t6_loop v1_1).trips, ∀ (k0_h8 : k0_cond8 v1_1 k0_t6 = 1#1), ∀ a, (k0_off149 v1_1 k0_t6) a + S1.size a ≤ S224.size a) ∧
  (∀ k0_t6 : Fin (k0_t6_loop v1_1).trips, ∀ (k0_h8 : k0_cond8 v1_1 k0_t6 = 1#1), ∀ a, (k0_off150 v1_1 k0_t6) a + S1.size a ≤ S2.size a) ∧
  (∀ k0_t6 : Fin (k0_t6_loop v1_1).trips, ∀ (k0_h8 : k0_cond8 v1_1 k0_t6 = 1#1), ∀ a, (k0_off152 v1_1 k0_t6) a + S1x4096x128.size a ≤ S2x4096x128.size a) ∧
  (∀ k0_t6 : Fin (k0_t6_loop v1_1).trips, ∀ a, (k0_off153 v1_1 k0_t6) a + S1x1x1x128.size a ≤ S2x4x1x128.size a) ∧
  (∀ k0_t6 : Fin (k0_t6_loop v1_1).trips, ∀ a, (k0_off154 v1_1 k0_t6) a + S1x128x2048.size a ≤ S2x512x2048.size a) ∧
  (∀ k0_t6 : Fin (k0_t6_loop v1_1).trips, ∀ a, (k0_off155 v1_1 k0_t6) a + S1x1x1x128.size a ≤ S2x4x1x128.size a) ∧
  (∀ k0_t6 : Fin (k0_t6_loop v1_1).trips, ∀ a, (k0_off156 v1_1 k0_t6) a + S1x128x2048.size a ≤ S2x512x2048.size a) ∧
  (∀ k0_t6 : Fin (k0_t6_loop v1_1).trips, ∀ a, (k0_off157 v1_1 k0_t6) a + S1x1x1x128.size a ≤ S2x4x1x128.size a) ∧
  (∀ k0_t6 : Fin (k0_t6_loop v1_1).trips, ∀ a, (k0_off158 v1_1 k0_t6) a + S1x128x2048.size a ≤ S2x512x2048.size a) ∧
  (∀ k0_t6 : Fin (k0_t6_loop v1_1).trips, ∀ a, (k0_off159 v1_1 k0_t6) a + S1x1x1x128.size a ≤ S2x4x1x128.size a) ∧
  (∀ k0_t6 : Fin (k0_t6_loop v1_1).trips, ∀ a, (k0_off160 v1_1 k0_t6) a + S1x128x2048.size a ≤ S2x512x2048.size a) ∧
  (∀ k0_t6 : Fin (k0_t6_loop v1_1).trips, ∀ a, S1x512x128.size a = 0 ∨ (k0_off161 v1_1 k0_t6) a + (![1, 8, 1] : Fin 3 → Nat) a * (S1x512x128.size a - 1) < S2x4096x128.size a) ∧
  (∀ k0_t6 : Fin (k0_t6_loop v1_1).trips, ∀ a, S1x512x128.size a = 0 ∨ (k0_off162 v1_1 k0_t6) a + (![1, 8, 1] : Fin 3 → Nat) a * (S1x512x128.size a - 1) < S2x4096x128.size a)
def k0_chk4_2 (v1_1 : BitVec 32) : Prop :=
  (∀ k0_t6 : Fin (k0_t6_loop v1_1).trips, ∀ a, S1x512x128.size a = 0 ∨ (k0_off163 v1_1 k0_t6) a + (![1, 8, 1] : Fin 3 → Nat) a * (S1x512x128.size a - 1) < S2x4096x128.size a) ∧
  (∀ k0_t6 : Fin (k0_t6_loop v1_1).trips, ∀ a, S1x512x128.size a = 0 ∨ (k0_off164 v1_1 k0_t6) a + (![1, 8, 1] : Fin 3 → Nat) a * (S1x512x128.size a - 1) < S2x4096x128.size a) ∧
  (∀ k0_t6 : Fin (k0_t6_loop v1_1).trips, ∀ a, S1x512x128.size a = 0 ∨ (k0_off165 v1_1 k0_t6) a + (![1, 8, 1] : Fin 3 → Nat) a * (S1x512x128.size a - 1) < S2x4096x128.size a) ∧
  (∀ k0_t6 : Fin (k0_t6_loop v1_1).trips, ∀ a, S1x512x128.size a = 0 ∨ (k0_off166 v1_1 k0_t6) a + (![1, 8, 1] : Fin 3 → Nat) a * (S1x512x128.size a - 1) < S2x4096x128.size a) ∧
  (∀ k0_t6 : Fin (k0_t6_loop v1_1).trips, ∀ a, S1x512x128.size a = 0 ∨ (k0_off167 v1_1 k0_t6) a + (![1, 8, 1] : Fin 3 → Nat) a * (S1x512x128.size a - 1) < S2x4096x128.size a) ∧
  (∀ k0_t6 : Fin (k0_t6_loop v1_1).trips, ∀ a, S1x512x128.size a = 0 ∨ (k0_off168 v1_1 k0_t6) a + (![1, 8, 1] : Fin 3 → Nat) a * (S1x512x128.size a - 1) < S2x4096x128.size a) ∧
  (∀ k0_t6 : Fin (k0_t6_loop v1_1).trips, ∀ a, (k0_off169 v1_1 k0_t6) a + S1.size a ≤ S224.size a) ∧
  (∀ k0_t6 : Fin (k0_t6_loop v1_1).trips, ∀ a, (k0_off170 v1_1 k0_t6) a + S1.size a ≤ S224.size a) ∧
  (∀ k0_t6 : Fin (k0_t6_loop v1_1).trips, ∀ a, (k0_off171 v1_1 k0_t6) a + S1.size a ≤ S2.size a) ∧
  (∀ k0_t6 : Fin (k0_t6_loop v1_1).trips, ∀ a, (k0_off173 v1_1 k0_t6) a + S1x4096x128.size a ≤ S2x4096x128.size a) ∧
  (∀ (k0_h9 : k0_cond9 v1_1 = 1#1), ∀ a, (k0_off174 v1_1) a + S1.size a ≤ S224.size a) ∧
  (∀ (k0_h9 : k0_cond9 v1_1 = 1#1), ∀ a, (k0_off175 v1_1) a + S1.size a ≤ S224.size a) ∧
  (∀ (k0_h9 : k0_cond9 v1_1 = 1#1), ∀ a, (k0_off176 v1_1) a + S1.size a ≤ S2.size a) ∧
  (∀ (k0_h9 : k0_cond9 v1_1 = 1#1), ∀ a, (k0_off178 v1_1) a + S1x4096x128.size a ≤ S2x4096x128.size a) ∧
  (∀ a, (k0_off179 v1_1) a + S1.size a ≤ S224.size a) ∧
  (∀ a, (k0_off180 v1_1) a + S1.size a ≤ S224.size a) ∧
  (∀ a, (k0_off181 v1_1) a + S1.size a ≤ S2.size a) ∧
  (∀ a, (k0_off183 v1_1) a + S1x4096x128.size a ≤ S2x4096x128.size a)
def k0_chk4 (v1_1 : BitVec 32) : Prop :=
  k0_chk4_0 v1_1 ∧
  k0_chk4_1 v1_1 ∧
  k0_chk4_2 v1_1
theorem k0_t4_ok : ∀ (v1_1 : BitVec 32) (k0_hw4 : k0_chk4 v1_1), (k0_t4_loop v1_1).OK := fun v1_1 k0_hw4 => k0_hw4.1.1
theorem k0_off8_inb : ∀ (v1_1 : BitVec 32) (k0_hw4 : k0_chk4 v1_1) (k0_t4 : Fin (k0_t4_loop v1_1).trips), ∀ a, (k0_off8 v1_1 k0_t4) a + S1.size a ≤ S224.size a := fun v1_1 k0_hw4 k0_t4 => k0_hw4.1.2.1 k0_t4
theorem k0_off9_inb : ∀ (v1_1 : BitVec 32) (k0_hw4 : k0_chk4 v1_1) (k0_t4 : Fin (k0_t4_loop v1_1).trips), ∀ a, (k0_off9 v1_1 k0_t4) a + S1.size a ≤ S224.size a := fun v1_1 k0_hw4 k0_t4 => k0_hw4.1.2.2.1 k0_t4
theorem k0_off10_inb : ∀ (v1_1 : BitVec 32) (k0_hw4 : k0_chk4 v1_1) (k0_t4 : Fin (k0_t4_loop v1_1).trips), ∀ (k0_h1 : k0_cond1 v1_1 k0_t4 = 1#1), ∀ a, (k0_off10 v1_1 k0_t4) a + S1.size a ≤ S224.size a := fun v1_1 k0_hw4 k0_t4 k0_h1 => k0_hw4.1.2.2.2.1 k0_t4 k0_h1
theorem k0_off11_inb : ∀ (v1_1 : BitVec 32) (k0_hw4 : k0_chk4 v1_1) (k0_t4 : Fin (k0_t4_loop v1_1).trips), ∀ (k0_h1 : k0_cond1 v1_1 k0_t4 = 1#1), ∀ a, (k0_off11 v1_1 k0_t4) a + S1.size a ≤ S2.size a := fun v1_1 k0_hw4 k0_t4 k0_h1 => k0_hw4.1.2.2.2.2.1 k0_t4 k0_h1
theorem k0_off12_inb : ∀ (v1_1 : BitVec 32) (k0_hw4 : k0_chk4 v1_1) (k0_t4 : Fin (k0_t4_loop v1_1).trips), ∀ (k0_h1 : k0_cond1 v1_1 k0_t4 = 1#1), ∀ a, (k0_off12 v1_1 k0_t4) a + S1x512x2048.size a ≤ S2x512x2048.size a := fun v1_1 k0_hw4 k0_t4 k0_h1 => k0_hw4.1.2.2.2.2.2.1 k0_t4 k0_h1
theorem k0_off12_wordsfp8e4m3 : ∀ (v1_1 : BitVec 32) (k0_hw4 : k0_chk4 v1_1) (k0_t4 : Fin (k0_t4_loop v1_1).trips), ∀ (k0_h1 : k0_cond1 v1_1 k0_t4 = 1#1), (Rect.unit (s := S2x512x2048) (k0_off12 v1_1 k0_t4) S1x512x2048.size (k0_off12_inb v1_1 k0_hw4 k0_t4 k0_h1)).WholeWords (EltTy.packing .fp8e4m3) := fun v1_1 k0_hw4 k0_t4 k0_h1 => k0_hw4.1.2.2.2.2.2.2.1 k0_t4 k0_h1 (k0_off12_inb v1_1 k0_hw4 k0_t4 k0_h1)
theorem k0_off14_inb : ∀ (v1_1 : BitVec 32) (k0_hw4 : k0_chk4 v1_1) (k0_t4 : Fin (k0_t4_loop v1_1).trips), ∀ (k0_h1 : k0_cond1 v1_1 k0_t4 = 1#1), ∀ a, (k0_off14 v1_1 k0_t4) a + S1x4x1x128.size a ≤ S2x4x1x128.size a := fun v1_1 k0_hw4 k0_t4 k0_h1 => k0_hw4.1.2.2.2.2.2.2.2.1 k0_t4 k0_h1
theorem k0_off59_inb : ∀ (v1_1 : BitVec 32) (k0_hw4 : k0_chk4 v1_1) (k0_t4 : Fin (k0_t4_loop v1_1).trips), ∀ a, (k0_off59 v1_1 k0_t4) a + S1.size a ≤ S224.size a := fun v1_1 k0_hw4 k0_t4 => k0_hw4.1.2.2.2.2.2.2.2.2.1 k0_t4
theorem k0_off60_inb : ∀ (v1_1 : BitVec 32) (k0_hw4 : k0_chk4 v1_1) (k0_t4 : Fin (k0_t4_loop v1_1).trips), ∀ a, (k0_off60 v1_1 k0_t4) a + S1.size a ≤ S2.size a := fun v1_1 k0_hw4 k0_t4 => k0_hw4.1.2.2.2.2.2.2.2.2.2.1 k0_t4
theorem k0_off61_inb : ∀ (v1_1 : BitVec 32) (k0_hw4 : k0_chk4 v1_1) (k0_t4 : Fin (k0_t4_loop v1_1).trips), ∀ a, (k0_off61 v1_1 k0_t4) a + S1x512x2048.size a ≤ S2x512x2048.size a := fun v1_1 k0_hw4 k0_t4 => k0_hw4.1.2.2.2.2.2.2.2.2.2.2.1 k0_t4
theorem k0_off61_wordsfp8e4m3 : ∀ (v1_1 : BitVec 32) (k0_hw4 : k0_chk4 v1_1) (k0_t4 : Fin (k0_t4_loop v1_1).trips), (Rect.unit (s := S2x512x2048) (k0_off61 v1_1 k0_t4) S1x512x2048.size (k0_off61_inb v1_1 k0_hw4 k0_t4)).WholeWords (EltTy.packing .fp8e4m3) := fun v1_1 k0_hw4 k0_t4 => k0_hw4.1.2.2.2.2.2.2.2.2.2.2.2.1 k0_t4 (k0_off61_inb v1_1 k0_hw4 k0_t4)
theorem k0_off63_inb : ∀ (v1_1 : BitVec 32) (k0_hw4 : k0_chk4 v1_1) (k0_t4 : Fin (k0_t4_loop v1_1).trips), ∀ a, (k0_off63 v1_1 k0_t4) a + S1x4x1x128.size a ≤ S2x4x1x128.size a := fun v1_1 k0_hw4 k0_t4 => k0_hw4.1.2.2.2.2.2.2.2.2.2.2.2.2.1 k0_t4
theorem k0_off65_inb : ∀ (v1_1 : BitVec 32) (k0_hw4 : k0_chk4 v1_1) (k0_t4 : Fin (k0_t4_loop v1_1).trips), ∀ (k0_h4 : k0_cond4 v1_1 k0_t4 = 1#1), ∀ a, (k0_off65 v1_1 k0_t4) a + S1.size a ≤ S224.size a := fun v1_1 k0_hw4 k0_t4 k0_h4 => k0_hw4.1.2.2.2.2.2.2.2.2.2.2.2.2.2.1 k0_t4 k0_h4
theorem k0_off66_inb : ∀ (v1_1 : BitVec 32) (k0_hw4 : k0_chk4 v1_1) (k0_t4 : Fin (k0_t4_loop v1_1).trips), ∀ (k0_h4 : k0_cond4 v1_1 k0_t4 = 1#1), ∀ a, (k0_off66 v1_1 k0_t4) a + S1.size a ≤ S224.size a := fun v1_1 k0_hw4 k0_t4 k0_h4 => k0_hw4.1.2.2.2.2.2.2.2.2.2.2.2.2.2.2.1 k0_t4 k0_h4
theorem k0_off67_inb : ∀ (v1_1 : BitVec 32) (k0_hw4 : k0_chk4 v1_1) (k0_t4 : Fin (k0_t4_loop v1_1).trips), ∀ (k0_h4 : k0_cond4 v1_1 k0_t4 = 1#1), ∀ a, (k0_off67 v1_1 k0_t4) a + S1.size a ≤ S2.size a := fun v1_1 k0_hw4 k0_t4 k0_h4 => k0_hw4.1.2.2.2.2.2.2.2.2.2.2.2.2.2.2.2.1 k0_t4 k0_h4
theorem k0_off69_inb : ∀ (v1_1 : BitVec 32) (k0_hw4 : k0_chk4 v1_1) (k0_t4 : Fin (k0_t4_loop v1_1).trips), ∀ (k0_h4 : k0_cond4 v1_1 k0_t4 = 1#1), ∀ a, (k0_off69 v1_1 k0_t4) a + S1x4096x128.size a ≤ S2x4096x128.size a := fun v1_1 k0_hw4 k0_t4 k0_h4 => k0_hw4.1.2.2.2.2.2.2.2.2.2.2.2.2.2.2.2.2.1 k0_t4 k0_h4
theorem k0_off70_inb : ∀ (v1_1 : BitVec 32) (k0_hw4 : k0_chk4 v1_1) (k0_t4 : Fin (k0_t4_loop v1_1).trips), ∀ a, (k0_off70 v1_1 k0_t4) a + S1x1x1x128.size a ≤ S2x4x1x128.size a := fun v1_1 k0_hw4 k0_t4 => k0_hw4.1.2.2.2.2.2.2.2.2.2.2.2.2.2.2.2.2.2.1 k0_t4
theorem k0_off71_inb : ∀ (v1_1 : BitVec 32) (k0_hw4 : k0_chk4 v1_1) (k0_t4 : Fin (k0_t4_loop v1_1).trips), ∀ a, (k0_off71 v1_1 k0_t4) a + S1x128x2048.size a ≤ S2x512x2048.size a := fun v1_1 k0_hw4 k0_t4 => k0_hw4.1.2.2.2.2.2.2.2.2.2.2.2.2.2.2.2.2.2.2.1 k0_t4
theorem k0_off72_inb : ∀ (v1_1 : BitVec 32) (k0_hw4 : k0_chk4 v1_1) (k0_t4 : Fin (k0_t4_loop v1_1).trips), ∀ a, (k0_off72 v1_1 k0_t4) a + S1x1x1x128.size a ≤ S2x4x1x128.size a := fun v1_1 k0_hw4 k0_t4 => k0_hw4.1.2.2.2.2.2.2.2.2.2.2.2.2.2.2.2.2.2.2.2.1 k0_t4
theorem k0_off73_inb : ∀ (v1_1 : BitVec 32) (k0_hw4 : k0_chk4 v1_1) (k0_t4 : Fin (k0_t4_loop v1_1).trips), ∀ a, (k0_off73 v1_1 k0_t4) a + S1x128x2048.size a ≤ S2x512x2048.size a := fun v1_1 k0_hw4 k0_t4 => k0_hw4.1.2.2.2.2.2.2.2.2.2.2.2.2.2.2.2.2.2.2.2.2.1 k0_t4
theorem k0_off74_inb : ∀ (v1_1 : BitVec 32) (k0_hw4 : k0_chk4 v1_1) (k0_t4 : Fin (k0_t4_loop v1_1).trips), ∀ a, (k0_off74 v1_1 k0_t4) a + S1x1x1x128.size a ≤ S2x4x1x128.size a := fun v1_1 k0_hw4 k0_t4 => k0_hw4.1.2.2.2.2.2.2.2.2.2.2.2.2.2.2.2.2.2.2.2.2.2.1 k0_t4
theorem k0_off75_inb : ∀ (v1_1 : BitVec 32) (k0_hw4 : k0_chk4 v1_1) (k0_t4 : Fin (k0_t4_loop v1_1).trips), ∀ a, (k0_off75 v1_1 k0_t4) a + S1x128x2048.size a ≤ S2x512x2048.size a := fun v1_1 k0_hw4 k0_t4 => k0_hw4.1.2.2.2.2.2.2.2.2.2.2.2.2.2.2.2.2.2.2.2.2.2.2.1 k0_t4
theorem k0_off76_inb : ∀ (v1_1 : BitVec 32) (k0_hw4 : k0_chk4 v1_1) (k0_t4 : Fin (k0_t4_loop v1_1).trips), ∀ a, (k0_off76 v1_1 k0_t4) a + S1x1x1x128.size a ≤ S2x4x1x128.size a := fun v1_1 k0_hw4 k0_t4 => k0_hw4.1.2.2.2.2.2.2.2.2.2.2.2.2.2.2.2.2.2.2.2.2.2.2.2.1 k0_t4
theorem k0_off77_inb : ∀ (v1_1 : BitVec 32) (k0_hw4 : k0_chk4 v1_1) (k0_t4 : Fin (k0_t4_loop v1_1).trips), ∀ a, (k0_off77 v1_1 k0_t4) a + S1x128x2048.size a ≤ S2x512x2048.size a := fun v1_1 k0_hw4 k0_t4 => k0_hw4.1.2.2.2.2.2.2.2.2.2.2.2.2.2.2.2.2.2.2.2.2.2.2.2.2.1 k0_t4
theorem k0_off78_inb : ∀ (v1_1 : BitVec 32) (k0_hw4 : k0_chk4 v1_1) (k0_t4 : Fin (k0_t4_loop v1_1).trips), ∀ a, S1x512x128.size a = 0 ∨ (k0_off78 v1_1 k0_t4) a + (![1, 8, 1] : Fin 3 → Nat) a * (S1x512x128.size a - 1) < S2x4096x128.size a := fun v1_1 k0_hw4 k0_t4 => k0_hw4.1.2.2.2.2.2.2.2.2.2.2.2.2.2.2.2.2.2.2.2.2.2.2.2.2.2.1 k0_t4
theorem k0_off79_inb : ∀ (v1_1 : BitVec 32) (k0_hw4 : k0_chk4 v1_1) (k0_t4 : Fin (k0_t4_loop v1_1).trips), ∀ a, S1x512x128.size a = 0 ∨ (k0_off79 v1_1 k0_t4) a + (![1, 8, 1] : Fin 3 → Nat) a * (S1x512x128.size a - 1) < S2x4096x128.size a := fun v1_1 k0_hw4 k0_t4 => k0_hw4.1.2.2.2.2.2.2.2.2.2.2.2.2.2.2.2.2.2.2.2.2.2.2.2.2.2.2.1 k0_t4
theorem k0_off80_inb : ∀ (v1_1 : BitVec 32) (k0_hw4 : k0_chk4 v1_1) (k0_t4 : Fin (k0_t4_loop v1_1).trips), ∀ a, S1x512x128.size a = 0 ∨ (k0_off80 v1_1 k0_t4) a + (![1, 8, 1] : Fin 3 → Nat) a * (S1x512x128.size a - 1) < S2x4096x128.size a := fun v1_1 k0_hw4 k0_t4 => k0_hw4.1.2.2.2.2.2.2.2.2.2.2.2.2.2.2.2.2.2.2.2.2.2.2.2.2.2.2.2.1 k0_t4
theorem k0_off81_inb : ∀ (v1_1 : BitVec 32) (k0_hw4 : k0_chk4 v1_1) (k0_t4 : Fin (k0_t4_loop v1_1).trips), ∀ a, S1x512x128.size a = 0 ∨ (k0_off81 v1_1 k0_t4) a + (![1, 8, 1] : Fin 3 → Nat) a * (S1x512x128.size a - 1) < S2x4096x128.size a := fun v1_1 k0_hw4 k0_t4 => k0_hw4.1.2.2.2.2.2.2.2.2.2.2.2.2.2.2.2.2.2.2.2.2.2.2.2.2.2.2.2.2.1 k0_t4
theorem k0_off82_inb : ∀ (v1_1 : BitVec 32) (k0_hw4 : k0_chk4 v1_1) (k0_t4 : Fin (k0_t4_loop v1_1).trips), ∀ a, S1x512x128.size a = 0 ∨ (k0_off82 v1_1 k0_t4) a + (![1, 8, 1] : Fin 3 → Nat) a * (S1x512x128.size a - 1) < S2x4096x128.size a := fun v1_1 k0_hw4 k0_t4 => k0_hw4.1.2.2.2.2.2.2.2.2.2.2.2.2.2.2.2.2.2.2.2.2.2.2.2.2.2.2.2.2.2.1 k0_t4
theorem k0_off83_inb : ∀ (v1_1 : BitVec 32) (k0_hw4 : k0_chk4 v1_1) (k0_t4 : Fin (k0_t4_loop v1_1).trips), ∀ a, S1x512x128.size a = 0 ∨ (k0_off83 v1_1 k0_t4) a + (![1, 8, 1] : Fin 3 → Nat) a * (S1x512x128.size a - 1) < S2x4096x128.size a := fun v1_1 k0_hw4 k0_t4 => k0_hw4.1.2.2.2.2.2.2.2.2.2.2.2.2.2.2.2.2.2.2.2.2.2.2.2.2.2.2.2.2.2.2.1 k0_t4
theorem k0_off84_inb : ∀ (v1_1 : BitVec 32) (k0_hw4 : k0_chk4 v1_1) (k0_t4 : Fin (k0_t4_loop v1_1).trips), ∀ a, S1x512x128.size a = 0 ∨ (k0_off84 v1_1 k0_t4) a + (![1, 8, 1] : Fin 3 → Nat) a * (S1x512x128.size a - 1) < S2x4096x128.size a := fun v1_1 k0_hw4 k0_t4 => k0_hw4.1.2.2.2.2.2.2.2.2.2.2.2.2.2.2.2.2.2.2.2.2.2.2.2.2.2.2.2.2.2.2.2 k0_t4
theorem k0_off85_inb : ∀ (v1_1 : BitVec 32) (k0_hw4 : k0_chk4 v1_1) (k0_t4 : Fin (k0_t4_loop v1_1).trips), ∀ a, S1x512x128.size a = 0 ∨ (k0_off85 v1_1 k0_t4) a + (![1, 8, 1] : Fin 3 → Nat) a * (S1x512x128.size a - 1) < S2x4096x128.size a := fun v1_1 k0_hw4 k0_t4 => k0_hw4.2.1.1 k0_t4
theorem k0_off86_inb : ∀ (v1_1 : BitVec 32) (k0_hw4 : k0_chk4 v1_1) (k0_t4 : Fin (k0_t4_loop v1_1).trips), ∀ a, (k0_off86 v1_1 k0_t4) a + S1.size a ≤ S224.size a := fun v1_1 k0_hw4 k0_t4 => k0_hw4.2.1.2.1 k0_t4
theorem k0_off87_inb : ∀ (v1_1 : BitVec 32) (k0_hw4 : k0_chk4 v1_1) (k0_t4 : Fin (k0_t4_loop v1_1).trips), ∀ a, (k0_off87 v1_1 k0_t4) a + S1.size a ≤ S224.size a := fun v1_1 k0_hw4 k0_t4 => k0_hw4.2.1.2.2.1 k0_t4
theorem k0_off88_inb : ∀ (v1_1 : BitVec 32) (k0_hw4 : k0_chk4 v1_1) (k0_t4 : Fin (k0_t4_loop v1_1).trips), ∀ a, (k0_off88 v1_1 k0_t4) a + S1.size a ≤ S2.size a := fun v1_1 k0_hw4 k0_t4 => k0_hw4.2.1.2.2.2.1 k0_t4
theorem k0_off90_inb : ∀ (v1_1 : BitVec 32) (k0_hw4 : k0_chk4 v1_1) (k0_t4 : Fin (k0_t4_loop v1_1).trips), ∀ a, (k0_off90 v1_1 k0_t4) a + S1x4096x128.size a ≤ S2x4096x128.size a := fun v1_1 k0_hw4 k0_t4 => k0_hw4.2.1.2.2.2.2.1 k0_t4
theorem k0_t6_ok : ∀ (v1_1 : BitVec 32) (k0_hw4 : k0_chk4 v1_1), (k0_t6_loop v1_1).OK := fun v1_1 k0_hw4 => k0_hw4.2.1.2.2.2.2.2.1
theorem k0_off91_inb : ∀ (v1_1 : BitVec 32) (k0_hw4 : k0_chk4 v1_1) (k0_t6 : Fin (k0_t6_loop v1_1).trips), ∀ a, (k0_off91 v1_1 k0_t6) a + S1.size a ≤ S224.size a := fun v1_1 k0_hw4 k0_t6 => k0_hw4.2.1.2.2.2.2.2.2.1 k0_t6
theorem k0_off92_inb : ∀ (v1_1 : BitVec 32) (k0_hw4 : k0_chk4 v1_1) (k0_t6 : Fin (k0_t6_loop v1_1).trips), ∀ a, (k0_off92 v1_1 k0_t6) a + S1.size a ≤ S224.size a := fun v1_1 k0_hw4 k0_t6 => k0_hw4.2.1.2.2.2.2.2.2.2.1 k0_t6
theorem k0_off93_inb : ∀ (v1_1 : BitVec 32) (k0_hw4 : k0_chk4 v1_1) (k0_t6 : Fin (k0_t6_loop v1_1).trips), ∀ (k0_h5 : k0_cond5 v1_1 k0_t6 = 1#1), ∀ a, (k0_off93 v1_1 k0_t6) a + S1.size a ≤ S224.size a := fun v1_1 k0_hw4 k0_t6 k0_h5 => k0_hw4.2.1.2.2.2.2.2.2.2.2.1 k0_t6 k0_h5
theorem k0_off94_inb : ∀ (v1_1 : BitVec 32) (k0_hw4 : k0_chk4 v1_1) (k0_t6 : Fin (k0_t6_loop v1_1).trips), ∀ (k0_h5 : k0_cond5 v1_1 k0_t6 = 1#1), ∀ a, (k0_off94 v1_1 k0_t6) a + S1.size a ≤ S2.size a := fun v1_1 k0_hw4 k0_t6 k0_h5 => k0_hw4.2.1.2.2.2.2.2.2.2.2.2.1 k0_t6 k0_h5
theorem k0_off95_inb : ∀ (v1_1 : BitVec 32) (k0_hw4 : k0_chk4 v1_1) (k0_t6 : Fin (k0_t6_loop v1_1).trips), ∀ (k0_h5 : k0_cond5 v1_1 k0_t6 = 1#1), ∀ a, (k0_off95 v1_1 k0_t6) a + S1x512x2048.size a ≤ S2x512x2048.size a := fun v1_1 k0_hw4 k0_t6 k0_h5 => k0_hw4.2.1.2.2.2.2.2.2.2.2.2.2.1 k0_t6 k0_h5
theorem k0_off95_wordsfp8e4m3 : ∀ (v1_1 : BitVec 32) (k0_hw4 : k0_chk4 v1_1) (k0_t6 : Fin (k0_t6_loop v1_1).trips), ∀ (k0_h5 : k0_cond5 v1_1 k0_t6 = 1#1), (Rect.unit (s := S2x512x2048) (k0_off95 v1_1 k0_t6) S1x512x2048.size (k0_off95_inb v1_1 k0_hw4 k0_t6 k0_h5)).WholeWords (EltTy.packing .fp8e4m3) := fun v1_1 k0_hw4 k0_t6 k0_h5 => k0_hw4.2.1.2.2.2.2.2.2.2.2.2.2.2.1 k0_t6 k0_h5 (k0_off95_inb v1_1 k0_hw4 k0_t6 k0_h5)
theorem k0_off97_inb : ∀ (v1_1 : BitVec 32) (k0_hw4 : k0_chk4 v1_1) (k0_t6 : Fin (k0_t6_loop v1_1).trips), ∀ (k0_h5 : k0_cond5 v1_1 k0_t6 = 1#1), ∀ a, (k0_off97 v1_1 k0_t6) a + S1x4x1x128.size a ≤ S2x4x1x128.size a := fun v1_1 k0_hw4 k0_t6 k0_h5 => k0_hw4.2.1.2.2.2.2.2.2.2.2.2.2.2.2.1 k0_t6 k0_h5
theorem k0_off142_inb : ∀ (v1_1 : BitVec 32) (k0_hw4 : k0_chk4 v1_1) (k0_t6 : Fin (k0_t6_loop v1_1).trips), ∀ a, (k0_off142 v1_1 k0_t6) a + S1.size a ≤ S224.size a := fun v1_1 k0_hw4 k0_t6 => k0_hw4.2.1.2.2.2.2.2.2.2.2.2.2.2.2.2.1 k0_t6
theorem k0_off143_inb : ∀ (v1_1 : BitVec 32) (k0_hw4 : k0_chk4 v1_1) (k0_t6 : Fin (k0_t6_loop v1_1).trips), ∀ a, (k0_off143 v1_1 k0_t6) a + S1.size a ≤ S2.size a := fun v1_1 k0_hw4 k0_t6 => k0_hw4.2.1.2.2.2.2.2.2.2.2.2.2.2.2.2.2.1 k0_t6
theorem k0_off144_inb : ∀ (v1_1 : BitVec 32) (k0_hw4 : k0_chk4 v1_1) (k0_t6 : Fin (k0_t6_loop v1_1).trips), ∀ a, (k0_off144 v1_1 k0_t6) a + S1x512x2048.size a ≤ S2x512x2048.size a := fun v1_1 k0_hw4 k0_t6 => k0_hw4.2.1.2.2.2.2.2.2.2.2.2.2.2.2.2.2.2.1 k0_t6
theorem k0_off144_wordsfp8e4m3 : ∀ (v1_1 : BitVec 32) (k0_hw4 : k0_chk4 v1_1) (k0_t6 : Fin (k0_t6_loop v1_1).trips), (Rect.unit (s := S2x512x2048) (k0_off144 v1_1 k0_t6) S1x512x2048.size (k0_off144_inb v1_1 k0_hw4 k0_t6)).WholeWords (EltTy.packing .fp8e4m3) := fun v1_1 k0_hw4 k0_t6 => k0_hw4.2.1.2.2.2.2.2.2.2.2.2.2.2.2.2.2.2.2.1 k0_t6 (k0_off144_inb v1_1 k0_hw4 k0_t6)
theorem k0_off146_inb : ∀ (v1_1 : BitVec 32) (k0_hw4 : k0_chk4 v1_1) (k0_t6 : Fin (k0_t6_loop v1_1).trips), ∀ a, (k0_off146 v1_1 k0_t6) a + S1x4x1x128.size a ≤ S2x4x1x128.size a := fun v1_1 k0_hw4 k0_t6 => k0_hw4.2.1.2.2.2.2.2.2.2.2.2.2.2.2.2.2.2.2.2.1 k0_t6
theorem k0_off148_inb : ∀ (v1_1 : BitVec 32) (k0_hw4 : k0_chk4 v1_1) (k0_t6 : Fin (k0_t6_loop v1_1).trips), ∀ (k0_h8 : k0_cond8 v1_1 k0_t6 = 1#1), ∀ a, (k0_off148 v1_1 k0_t6) a + S1.size a ≤ S224.size a := fun v1_1 k0_hw4 k0_t6 k0_h8 => k0_hw4.2.1.2.2.2.2.2.2.2.2.2.2.2.2.2.2.2.2.2.2.1 k0_t6 k0_h8
theorem k0_off149_inb : ∀ (v1_1 : BitVec 32) (k0_hw4 : k0_chk4 v1_1) (k0_t6 : Fin (k0_t6_loop v1_1).trips), ∀ (k0_h8 : k0_cond8 v1_1 k0_t6 = 1#1), ∀ a, (k0_off149 v1_1 k0_t6) a + S1.size a ≤ S224.size a := fun v1_1 k0_hw4 k0_t6 k0_h8 => k0_hw4.2.1.2.2.2.2.2.2.2.2.2.2.2.2.2.2.2.2.2.2.2.1 k0_t6 k0_h8
theorem k0_off150_inb : ∀ (v1_1 : BitVec 32) (k0_hw4 : k0_chk4 v1_1) (k0_t6 : Fin (k0_t6_loop v1_1).trips), ∀ (k0_h8 : k0_cond8 v1_1 k0_t6 = 1#1), ∀ a, (k0_off150 v1_1 k0_t6) a + S1.size a ≤ S2.size a := fun v1_1 k0_hw4 k0_t6 k0_h8 => k0_hw4.2.1.2.2.2.2.2.2.2.2.2.2.2.2.2.2.2.2.2.2.2.2.1 k0_t6 k0_h8
theorem k0_off152_inb : ∀ (v1_1 : BitVec 32) (k0_hw4 : k0_chk4 v1_1) (k0_t6 : Fin (k0_t6_loop v1_1).trips), ∀ (k0_h8 : k0_cond8 v1_1 k0_t6 = 1#1), ∀ a, (k0_off152 v1_1 k0_t6) a + S1x4096x128.size a ≤ S2x4096x128.size a := fun v1_1 k0_hw4 k0_t6 k0_h8 => k0_hw4.2.1.2.2.2.2.2.2.2.2.2.2.2.2.2.2.2.2.2.2.2.2.2.1 k0_t6 k0_h8
theorem k0_off153_inb : ∀ (v1_1 : BitVec 32) (k0_hw4 : k0_chk4 v1_1) (k0_t6 : Fin (k0_t6_loop v1_1).trips), ∀ a, (k0_off153 v1_1 k0_t6) a + S1x1x1x128.size a ≤ S2x4x1x128.size a := fun v1_1 k0_hw4 k0_t6 => k0_hw4.2.1.2.2.2.2.2.2.2.2.2.2.2.2.2.2.2.2.2.2.2.2.2.2.1 k0_t6
theorem k0_off154_inb : ∀ (v1_1 : BitVec 32) (k0_hw4 : k0_chk4 v1_1) (k0_t6 : Fin (k0_t6_loop v1_1).trips), ∀ a, (k0_off154 v1_1 k0_t6) a + S1x128x2048.size a ≤ S2x512x2048.size a := fun v1_1 k0_hw4 k0_t6 => k0_hw4.2.1.2.2.2.2.2.2.2.2.2.2.2.2.2.2.2.2.2.2.2.2.2.2.2.1 k0_t6
theorem k0_off155_inb : ∀ (v1_1 : BitVec 32) (k0_hw4 : k0_chk4 v1_1) (k0_t6 : Fin (k0_t6_loop v1_1).trips), ∀ a, (k0_off155 v1_1 k0_t6) a + S1x1x1x128.size a ≤ S2x4x1x128.size a := fun v1_1 k0_hw4 k0_t6 => k0_hw4.2.1.2.2.2.2.2.2.2.2.2.2.2.2.2.2.2.2.2.2.2.2.2.2.2.2.1 k0_t6
theorem k0_off156_inb : ∀ (v1_1 : BitVec 32) (k0_hw4 : k0_chk4 v1_1) (k0_t6 : Fin (k0_t6_loop v1_1).trips), ∀ a, (k0_off156 v1_1 k0_t6) a + S1x128x2048.size a ≤ S2x512x2048.size a := fun v1_1 k0_hw4 k0_t6 => k0_hw4.2.1.2.2.2.2.2.2.2.2.2.2.2.2.2.2.2.2.2.2.2.2.2.2.2.2.2.1 k0_t6
theorem k0_off157_inb : ∀ (v1_1 : BitVec 32) (k0_hw4 : k0_chk4 v1_1) (k0_t6 : Fin (k0_t6_loop v1_1).trips), ∀ a, (k0_off157 v1_1 k0_t6) a + S1x1x1x128.size a ≤ S2x4x1x128.size a := fun v1_1 k0_hw4 k0_t6 => k0_hw4.2.1.2.2.2.2.2.2.2.2.2.2.2.2.2.2.2.2.2.2.2.2.2.2.2.2.2.2.1 k0_t6
theorem k0_off158_inb : ∀ (v1_1 : BitVec 32) (k0_hw4 : k0_chk4 v1_1) (k0_t6 : Fin (k0_t6_loop v1_1).trips), ∀ a, (k0_off158 v1_1 k0_t6) a + S1x128x2048.size a ≤ S2x512x2048.size a := fun v1_1 k0_hw4 k0_t6 => k0_hw4.2.1.2.2.2.2.2.2.2.2.2.2.2.2.2.2.2.2.2.2.2.2.2.2.2.2.2.2.2.1 k0_t6
theorem k0_off159_inb : ∀ (v1_1 : BitVec 32) (k0_hw4 : k0_chk4 v1_1) (k0_t6 : Fin (k0_t6_loop v1_1).trips), ∀ a, (k0_off159 v1_1 k0_t6) a + S1x1x1x128.size a ≤ S2x4x1x128.size a := fun v1_1 k0_hw4 k0_t6 => k0_hw4.2.1.2.2.2.2.2.2.2.2.2.2.2.2.2.2.2.2.2.2.2.2.2.2.2.2.2.2.2.2.1 k0_t6
theorem k0_off160_inb : ∀ (v1_1 : BitVec 32) (k0_hw4 : k0_chk4 v1_1) (k0_t6 : Fin (k0_t6_loop v1_1).trips), ∀ a, (k0_off160 v1_1 k0_t6) a + S1x128x2048.size a ≤ S2x512x2048.size a := fun v1_1 k0_hw4 k0_t6 => k0_hw4.2.1.2.2.2.2.2.2.2.2.2.2.2.2.2.2.2.2.2.2.2.2.2.2.2.2.2.2.2.2.2.1 k0_t6
theorem k0_off161_inb : ∀ (v1_1 : BitVec 32) (k0_hw4 : k0_chk4 v1_1) (k0_t6 : Fin (k0_t6_loop v1_1).trips), ∀ a, S1x512x128.size a = 0 ∨ (k0_off161 v1_1 k0_t6) a + (![1, 8, 1] : Fin 3 → Nat) a * (S1x512x128.size a - 1) < S2x4096x128.size a := fun v1_1 k0_hw4 k0_t6 => k0_hw4.2.1.2.2.2.2.2.2.2.2.2.2.2.2.2.2.2.2.2.2.2.2.2.2.2.2.2.2.2.2.2.2.1 k0_t6
theorem k0_off162_inb : ∀ (v1_1 : BitVec 32) (k0_hw4 : k0_chk4 v1_1) (k0_t6 : Fin (k0_t6_loop v1_1).trips), ∀ a, S1x512x128.size a = 0 ∨ (k0_off162 v1_1 k0_t6) a + (![1, 8, 1] : Fin 3 → Nat) a * (S1x512x128.size a - 1) < S2x4096x128.size a := fun v1_1 k0_hw4 k0_t6 => k0_hw4.2.1.2.2.2.2.2.2.2.2.2.2.2.2.2.2.2.2.2.2.2.2.2.2.2.2.2.2.2.2.2.2.2 k0_t6
theorem k0_off163_inb : ∀ (v1_1 : BitVec 32) (k0_hw4 : k0_chk4 v1_1) (k0_t6 : Fin (k0_t6_loop v1_1).trips), ∀ a, S1x512x128.size a = 0 ∨ (k0_off163 v1_1 k0_t6) a + (![1, 8, 1] : Fin 3 → Nat) a * (S1x512x128.size a - 1) < S2x4096x128.size a := fun v1_1 k0_hw4 k0_t6 => k0_hw4.2.2.1 k0_t6
theorem k0_off164_inb : ∀ (v1_1 : BitVec 32) (k0_hw4 : k0_chk4 v1_1) (k0_t6 : Fin (k0_t6_loop v1_1).trips), ∀ a, S1x512x128.size a = 0 ∨ (k0_off164 v1_1 k0_t6) a + (![1, 8, 1] : Fin 3 → Nat) a * (S1x512x128.size a - 1) < S2x4096x128.size a := fun v1_1 k0_hw4 k0_t6 => k0_hw4.2.2.2.1 k0_t6
theorem k0_off165_inb : ∀ (v1_1 : BitVec 32) (k0_hw4 : k0_chk4 v1_1) (k0_t6 : Fin (k0_t6_loop v1_1).trips), ∀ a, S1x512x128.size a = 0 ∨ (k0_off165 v1_1 k0_t6) a + (![1, 8, 1] : Fin 3 → Nat) a * (S1x512x128.size a - 1) < S2x4096x128.size a := fun v1_1 k0_hw4 k0_t6 => k0_hw4.2.2.2.2.1 k0_t6
theorem k0_off166_inb : ∀ (v1_1 : BitVec 32) (k0_hw4 : k0_chk4 v1_1) (k0_t6 : Fin (k0_t6_loop v1_1).trips), ∀ a, S1x512x128.size a = 0 ∨ (k0_off166 v1_1 k0_t6) a + (![1, 8, 1] : Fin 3 → Nat) a * (S1x512x128.size a - 1) < S2x4096x128.size a := fun v1_1 k0_hw4 k0_t6 => k0_hw4.2.2.2.2.2.1 k0_t6
theorem k0_off167_inb : ∀ (v1_1 : BitVec 32) (k0_hw4 : k0_chk4 v1_1) (k0_t6 : Fin (k0_t6_loop v1_1).trips), ∀ a, S1x512x128.size a = 0 ∨ (k0_off167 v1_1 k0_t6) a + (![1, 8, 1] : Fin 3 → Nat) a * (S1x512x128.size a - 1) < S2x4096x128.size a := fun v1_1 k0_hw4 k0_t6 => k0_hw4.2.2.2.2.2.2.1 k0_t6
theorem k0_off168_inb : ∀ (v1_1 : BitVec 32) (k0_hw4 : k0_chk4 v1_1) (k0_t6 : Fin (k0_t6_loop v1_1).trips), ∀ a, S1x512x128.size a = 0 ∨ (k0_off168 v1_1 k0_t6) a + (![1, 8, 1] : Fin 3 → Nat) a * (S1x512x128.size a - 1) < S2x4096x128.size a := fun v1_1 k0_hw4 k0_t6 => k0_hw4.2.2.2.2.2.2.2.1 k0_t6
theorem k0_off169_inb : ∀ (v1_1 : BitVec 32) (k0_hw4 : k0_chk4 v1_1) (k0_t6 : Fin (k0_t6_loop v1_1).trips), ∀ a, (k0_off169 v1_1 k0_t6) a + S1.size a ≤ S224.size a := fun v1_1 k0_hw4 k0_t6 => k0_hw4.2.2.2.2.2.2.2.2.1 k0_t6
theorem k0_off170_inb : ∀ (v1_1 : BitVec 32) (k0_hw4 : k0_chk4 v1_1) (k0_t6 : Fin (k0_t6_loop v1_1).trips), ∀ a, (k0_off170 v1_1 k0_t6) a + S1.size a ≤ S224.size a := fun v1_1 k0_hw4 k0_t6 => k0_hw4.2.2.2.2.2.2.2.2.2.1 k0_t6
theorem k0_off171_inb : ∀ (v1_1 : BitVec 32) (k0_hw4 : k0_chk4 v1_1) (k0_t6 : Fin (k0_t6_loop v1_1).trips), ∀ a, (k0_off171 v1_1 k0_t6) a + S1.size a ≤ S2.size a := fun v1_1 k0_hw4 k0_t6 => k0_hw4.2.2.2.2.2.2.2.2.2.2.1 k0_t6
theorem k0_off173_inb : ∀ (v1_1 : BitVec 32) (k0_hw4 : k0_chk4 v1_1) (k0_t6 : Fin (k0_t6_loop v1_1).trips), ∀ a, (k0_off173 v1_1 k0_t6) a + S1x4096x128.size a ≤ S2x4096x128.size a := fun v1_1 k0_hw4 k0_t6 => k0_hw4.2.2.2.2.2.2.2.2.2.2.2.1 k0_t6
theorem k0_off174_inb : ∀ (v1_1 : BitVec 32) (k0_hw4 : k0_chk4 v1_1), ∀ (k0_h9 : k0_cond9 v1_1 = 1#1), ∀ a, (k0_off174 v1_1) a + S1.size a ≤ S224.size a := fun v1_1 k0_hw4 k0_h9 => k0_hw4.2.2.2.2.2.2.2.2.2.2.2.2.1 k0_h9
theorem k0_off175_inb : ∀ (v1_1 : BitVec 32) (k0_hw4 : k0_chk4 v1_1), ∀ (k0_h9 : k0_cond9 v1_1 = 1#1), ∀ a, (k0_off175 v1_1) a + S1.size a ≤ S224.size a := fun v1_1 k0_hw4 k0_h9 => k0_hw4.2.2.2.2.2.2.2.2.2.2.2.2.2.1 k0_h9
theorem k0_off176_inb : ∀ (v1_1 : BitVec 32) (k0_hw4 : k0_chk4 v1_1), ∀ (k0_h9 : k0_cond9 v1_1 = 1#1), ∀ a, (k0_off176 v1_1) a + S1.size a ≤ S2.size a := fun v1_1 k0_hw4 k0_h9 => k0_hw4.2.2.2.2.2.2.2.2.2.2.2.2.2.2.1 k0_h9
theorem k0_off178_inb : ∀ (v1_1 : BitVec 32) (k0_hw4 : k0_chk4 v1_1), ∀ (k0_h9 : k0_cond9 v1_1 = 1#1), ∀ a, (k0_off178 v1_1) a + S1x4096x128.size a ≤ S2x4096x128.size a := fun v1_1 k0_hw4 k0_h9 => k0_hw4.2.2.2.2.2.2.2.2.2.2.2.2.2.2.2.1 k0_h9
theorem k0_off179_inb : ∀ (v1_1 : BitVec 32) (k0_hw4 : k0_chk4 v1_1), ∀ a, (k0_off179 v1_1) a + S1.size a ≤ S224.size a := fun v1_1 k0_hw4 => k0_hw4.2.2.2.2.2.2.2.2.2.2.2.2.2.2.2.2.1
theorem k0_off180_inb : ∀ (v1_1 : BitVec 32) (k0_hw4 : k0_chk4 v1_1), ∀ a, (k0_off180 v1_1) a + S1.size a ≤ S224.size a := fun v1_1 k0_hw4 => k0_hw4.2.2.2.2.2.2.2.2.2.2.2.2.2.2.2.2.2.1
theorem k0_off181_inb : ∀ (v1_1 : BitVec 32) (k0_hw4 : k0_chk4 v1_1), ∀ a, (k0_off181 v1_1) a + S1.size a ≤ S2.size a := fun v1_1 k0_hw4 => k0_hw4.2.2.2.2.2.2.2.2.2.2.2.2.2.2.2.2.2.2.1
theorem k0_off183_inb : ∀ (v1_1 : BitVec 32) (k0_hw4 : k0_chk4 v1_1), ∀ a, (k0_off183 v1_1) a + S1x4096x128.size a ≤ S2x4096x128.size a := fun v1_1 k0_hw4 => k0_hw4.2.2.2.2.2.2.2.2.2.2.2.2.2.2.2.2.2.2.2

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== Reference2048Ideal.lean ====
abbrev S98304x2048 : Shape := ⟨2, ![98304, 2048]⟩
abbrev S98304 : Shape := ⟨1, ![98304]⟩
abbrev S16 : Shape := ⟨1, ![16]⟩
abbrev S16x1024x4096 : Shape := ⟨3, ![16, 1024, 4096]⟩
abbrev S16x16x4096 : Shape := ⟨3, ![16, 16, 4096]⟩
abbrev S16x1024x1024 : Shape := ⟨3, ![16, 1024, 1024]⟩
abbrev S16x16x1024 : Shape := ⟨3, ![16, 16, 1024]⟩
abbrev S933888x128 : Shape := ⟨2, ![933888, 128]⟩
abbrev S98304x1 : Shape := ⟨2, ![98304, 1]⟩
abbrev S16x1024x1x1024 : Shape := ⟨4, ![16, 1024, 1, 1024]⟩
abbrev S16x1024x2x1024 : Shape := ⟨4, ![16, 1024, 2, 1024]⟩
abbrev S16x2048x1024 : Shape := ⟨3, ![16, 2048, 1024]⟩
abbrev S16x16x1x1024 : Shape := ⟨4, ![16, 16, 1, 1024]⟩
abbrev S16x16x128x1024 : Shape := ⟨4, ![16, 16, 128, 1024]⟩
abbrev S116736x1024 : Shape := ⟨2, ![116736, 1024]⟩
abbrev S1 : Shape := ⟨1, ![1]⟩
abbrev S1x2048x1024 : Shape := ⟨3, ![1, 2048, 1024]⟩
abbrev S2048x1024 : Shape := ⟨2, ![2048, 1024]⟩
abbrev S98304x1024 : Shape := ⟨2, ![98304, 1024]⟩
abbrev S18432x1024 : Shape := ⟨2, ![18432, 1024]⟩
abbrev S1152x1024 : Shape := ⟨2, ![1152, 1024]⟩
abbrev S17280x1024 : Shape := ⟨2, ![17280, 1024]⟩
abbrev S2304x1024 : Shape := ⟨2, ![2304, 1024]⟩
abbrev S16128x1024 : Shape := ⟨2, ![16128, 1024]⟩
abbrev S3456x1024 : Shape := ⟨2, ![3456, 1024]⟩
abbrev S14976x1024 : Shape := ⟨2, ![14976, 1024]⟩
abbrev S4608x1024 : Shape := ⟨2, ![4608, 1024]⟩
abbrev S13824x1024 : Shape := ⟨2, ![13824, 1024]⟩
abbrev S5760x1024 : Shape := ⟨2, ![5760, 1024]⟩
abbrev S12672x1024 : Shape := ⟨2, ![12672, 1024]⟩
abbrev S6912x1024 : Shape := ⟨2, ![6912, 1024]⟩
abbrev S11520x1024 : Shape := ⟨2, ![11520, 1024]⟩
abbrev S8064x1024 : Shape := ⟨2, ![8064, 1024]⟩
abbrev S10368x1024 : Shape := ⟨2, ![10368, 1024]⟩
abbrev S9216x1024 : Shape := ⟨2, ![9216, 1024]⟩

abbrev nBuf : Space → Nat
  | .hbm => 8
  | .vmem => 5
  | .smem => 1
  | _ => 0

abbrev bufTy : (tb : Table) → Fin (tcTables nBuf tb) → BufTy
  | .hbm, ⟨0, _⟩ => ⟨S98304x2048, .fp8e4m3⟩
  | .hbm, ⟨1, _⟩ => ⟨S98304, .f32⟩
  | .hbm, ⟨2, _⟩ => ⟨S16, .i32⟩
  | .hbm, ⟨3, _⟩ => ⟨S16x1024x4096, .i8⟩
  | .hbm, ⟨4, _⟩ => ⟨S16x16x4096, .bf16⟩
  | .hbm, ⟨5, _⟩ => ⟨S16x1024x1024, .i8⟩
  | .hbm, ⟨6, _⟩ => ⟨S16x16x1024, .bf16⟩
  | .hbm, ⟨7, _⟩ => ⟨S933888x128, .f32⟩
  | .local _ .vmem, ⟨0, _⟩ => ⟨S98304x2048, .fp8e4m3⟩
  | .local _ .vmem, ⟨1, _⟩ => ⟨S98304, .f32⟩
  | .local _ .vmem, ⟨2, _⟩ => ⟨S16x1024x1024, .i8⟩
  | .local _ .vmem, ⟨3, _⟩ => ⟨S16x16x1024, .bf16⟩
  | .local _ .vmem, ⟨4, _⟩ => ⟨S933888x128, .f32⟩
  | .local _ .smem, ⟨0, _⟩ => ⟨S16, .i32⟩
  | _, _ => ⟨S98304x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S98304x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S98304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S16 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024x1024 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S933888x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Kernel3072.lean ====
abbrev S98304x2048 : Shape := ⟨2, ![98304, 2048]⟩
abbrev S98304 : Shape := ⟨1, ![98304]⟩
abbrev S16 : Shape := ⟨1, ![16]⟩
abbrev S16x1024x4096 : Shape := ⟨3, ![16, 1024, 4096]⟩
abbrev S16x16x4096 : Shape := ⟨3, ![16, 16, 4096]⟩
abbrev S768x1x128 : Shape := ⟨3, ![768, 1, 128]⟩
abbrev S933888x128 : Shape := ⟨2, ![933888, 128]⟩
abbrev S224 : Shape := ⟨1, ![224]⟩
abbrev S2x512x2048 : Shape := ⟨3, ![2, 512, 2048]⟩
abbrev S2x4x1x128 : Shape := ⟨4, ![2, 4, 1, 128]⟩
abbrev S2x1024x1024 : Shape := ⟨3, ![2, 1024, 1024]⟩
abbrev S2x16x1024 : Shape := ⟨3, ![2, 16, 1024]⟩
abbrev S2048x1024 : Shape := ⟨2, ![2048, 1024]⟩
abbrev S2x4096x128 : Shape := ⟨3, ![2, 4096, 128]⟩
abbrev S2 : Shape := ⟨1, ![2]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S1x16x1024 : Shape := ⟨3, ![1, 16, 1024]⟩
abbrev S16x1024 : Shape := ⟨2, ![16, 1024]⟩
abbrev S1x512x2048 : Shape := ⟨3, ![1, 512, 2048]⟩
abbrev S512x2048 : Shape := ⟨2, ![512, 2048]⟩
abbrev S1x4x1x128 : Shape := ⟨4, ![1, 4, 1, 128]⟩
abbrev S4x1x128 : Shape := ⟨3, ![4, 1, 128]⟩
abbrev S1x64x1024 : Shape := ⟨3, ![1, 64, 1024]⟩
abbrev S64x1024 : Shape := ⟨2, ![64, 1024]⟩
abbrev S64x1x1024 : Shape := ⟨3, ![64, 1, 1024]⟩
abbrev S64x2x1024 : Shape := ⟨3, ![64, 2, 1024]⟩
abbrev S128x1024 : Shape := ⟨2, ![128, 1024]⟩
abbrev S1x1x1024 : Shape := ⟨3, ![1, 1, 1024]⟩
abbrev S1x1024 : Shape := ⟨2, ![1, 1024]⟩
abbrev S4096x128 : Shape := ⟨2, ![4096, 128]⟩
abbrev S1x4096x128 : Shape := ⟨3, ![1, 4096, 128]⟩
abbrev S1x1x1x128 : Shape := ⟨4, ![1, 1, 1, 128]⟩
abbrev S1x128 : Shape := ⟨2, ![1, 128]⟩
abbrev S128x128 : Shape := ⟨2, ![128, 128]⟩
abbrev S1x128x2048 : Shape := ⟨3, ![1, 128, 2048]⟩
abbrev S128x2048 : Shape := ⟨2, ![128, 2048]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 7
  | .vmem => 6
  | .smem => 3
  | _ => 0

abbrev bufTy : (tb : Table) → Fin (tcTables nBuf tb) → BufTy
  | .hbm, ⟨0, _⟩ => ⟨S98304x2048, .fp8e4m3⟩
  | .hbm, ⟨1, _⟩ => ⟨S98304, .f32⟩
  | .hbm, ⟨2, _⟩ => ⟨S16, .i32⟩
  | .hbm, ⟨3, _⟩ => ⟨S16x1024x4096, .i8⟩
  | .hbm, ⟨4, _⟩ => ⟨S16x16x4096, .bf16⟩
  | .hbm, ⟨5, _⟩ => ⟨S768x1x128, .f32⟩
  | .hbm, ⟨6, _⟩ => ⟨S933888x128, .f32⟩
  | .local _ .vmem, ⟨0, _⟩ => ⟨S2x512x2048, .fp8e4m3⟩
  | .local _ .vmem, ⟨1, _⟩ => ⟨S2x4x1x128, .f32⟩
  | .local _ .vmem, ⟨2, _⟩ => ⟨S2x1024x1024, .i8⟩
  | .local _ .vmem, ⟨3, _⟩ => ⟨S2x16x1024, .bf16⟩
  | .local _ .vmem, ⟨4, _⟩ => ⟨S2048x1024, .bf16⟩
  | .local _ .vmem, ⟨5, _⟩ => ⟨S2x4096x128, .f32⟩
  | .local _ .smem, ⟨0, _⟩ => ⟨S16, .i32⟩
  | .local _ .smem, ⟨1, _⟩ => ⟨S224, .i32⟩
  | .local _ .smem, ⟨2, _⟩ => ⟨S224, .i32⟩
  | _, _ => ⟨S98304x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_scratch2 : Ref sig .tc := ⟨.vmem, 0, rfl⟩
abbrev cc0_scratch3 : Ref sig .tc := ⟨.vmem, 1, rfl⟩
abbrev cc0_scratch4 : Ref sig .tc := ⟨.vmem, 2, rfl⟩
abbrev cc0_scratch5 : Ref sig .tc := ⟨.vmem, 3, rfl⟩
abbrev cc0_scratch6 : Ref sig .tc := ⟨.vmem, 4, rfl⟩
abbrev cc0_scratch7 : Ref sig .tc := ⟨.vmem, 5, rfl⟩
abbrev cc0_stg0_0 : Ref sig .tc := ⟨.smem, 0, rfl⟩
abbrev cc0_scratch0 : Ref sig .tc := ⟨.smem, 1, rfl⟩
abbrev cc0_scratch1 : Ref sig .tc := ⟨.smem, 2, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_1 : BitVec 32 := 0#32
  let c16_i32 : BitVec 32 := 16#32
  let v0 : BitVec 32 := Scalar.addi c0_i32_1 c16_i32
  let c1_i32 : BitVec 32 := 1#32
  ⟨c0_i32_1, v0, c1_i32⟩
def k0_off1 (k0_t1 : Fin k0_t1_loop.trips) : Fin 1 → Nat :=
  let c0_i32_1 : BitVec 32 := 0#32
  let c1_i32 : BitVec 32 := 1#32
  let arg19 : BitVec 32 := Scf.iv c0_i32_1 c1_i32 k0_t1
  let v73 : Index := Scalar.indexCast arg19
  ![v73.toNat]
@[reducible] def k0_t2_loop (arg20 : BitVec 32) (v74 : BitVec 32) : Scf.Loop 32 :=
  let c0_i32_63 : BitVec 32 := 0#32
  let v75 : BitVec 32 := Scalar.addi arg20 v74
  let v94 : BitVec 1 := Scalar.cmpi .sgt v75 arg20
  let c0_i32_47 : BitVec 32 := 0#32
  let v77 : BitVec 1 := Scalar.cmpi .sgt arg20 c0_i32_47
  let v78 : BitVec 32 := Scalar.extui v77
  let c0_i32_48 : BitVec 32 := 0#32
  let v79 : BitVec 1 := Scalar.cmpi .slt arg20 c0_i32_48
  let v80 : BitVec 32 := Scalar.extui v79
  let v81 : BitVec 32 := Scalar.subi v78 v80
  let c128_i32_46 : BitVec 32 := 128#32
  let c0_i32_49 : BitVec 32 := 0#32
  let v82 : BitVec 1 := Scalar.cmpi .sgt c128_i32_46 c0_i32_49
  let v83 : BitVec 32 := Scalar.extui v82
  let c0_i32_50 : BitVec 32 := 0#32
  let v84 : BitVec 1 := Scalar.cmpi .slt c128_i32_46 c0_i32_50
  let v85 : BitVec 32 := Scalar.extui v84
  let v86 : BitVec 32 := Scalar.subi v83 v85
  let v87 : BitVec 1 := Scalar.cmpi .ne v81 v86
  let v88 : BitVec 32 := Scalar.remsi arg20 c128_i32_46
  let c0_i32_51 : BitVec 32 := 0#32
  let v89 : BitVec 1 := Scalar.cmpi .ne v88 c0_i32_51
  let v90 : BitVec 1 := Scalar.andi v87 v89
  let v76 : BitVec 32 := Scalar.divsi arg20 c128_i32_46
  let c1_i32_52 : BitVec 32 := 1#32
  let v91 : BitVec 32 := Scalar.subi v76 c1_i32_52
  let v92 : BitVec 32 := Scalar.select v90 v91 v76
  let c128_i32_53 : BitVec 32 := 128#32
  let v93 : BitVec 32 := Scalar.muli v92 c128_i32_53
  let v95 : BitVec 32 := Scalar.subi v75 v93
  let c512_i32 : BitVec 32 := 512#32
  let v96 : BitVec 32 := Scalar.addi v95 c512_i32
  let c1_i32_54 : BitVec 32 := 1#32
  let v97 : BitVec 32 := Scalar.subi v96 c1_i32_54
  let c0_i32_56 : BitVec 32 := 0#32
  let v99 : BitVec 1 := Scalar.cmpi .sgt v97 c0_i32_56
  let v100 : BitVec 32 := Scalar.extui v99
  let c0_i32_57 : BitVec 32 := 0#32
  let v101 : BitVec 1 := Scalar.cmpi .slt v97 c0_i32_57
  let v102 : BitVec 32 := Scalar.extui v101
  let v103 : BitVec 32 := Scalar.subi v100 v102
  let c512_i32_55 : BitVec 32 := 512#32
  let c0_i32_58 : BitVec 32 := 0#32
  let v104 : BitVec 1 := Scalar.cmpi .sgt c512_i32_55 c0_i32_58
  let v105 : BitVec 32 := Scalar.extui v104
  let c0_i32_59 : BitVec 32 := 0#32
  let v106 : BitVec 1 := Scalar.cmpi .slt c512_i32_55 c0_i32_59
  let v107 : BitVec 32 := Scalar.extui v106
  let v108 : BitVec 32 := Scalar.subi v105 v107
  let v109 : BitVec 1 := Scalar.cmpi .ne v103 v108
  let v110 : BitVec 32 := Scalar.remsi v97 c512_i32_55
  let c0_i32_60 : BitVec 32 := 0#32
  let v111 : BitVec 1 := Scalar.cmpi .ne v110 c0_i32_60
  let v112 : BitVec 1 := Scalar.andi v109 v111
  let v98 : BitVec 32 := Scalar.divsi v97 c512_i32_55
  let c1_i32_61 : BitVec 32 := 1#32
  let v113 : BitVec 32 := Scalar.subi v98 c1_i32_61
  let v114 : BitVec 32 := Scalar.select v112 v113 v98
  let c0_i32_62 : BitVec 32 := 0#32
  let v115 : BitVec 32 := Scalar.select v94 v114 c0_i32_62
  let v116 : BitVec 32 := Scalar.subi v115 c0_i32_63
  let c1_i32_65 : BitVec 32 := 1#32
  let v118 : BitVec 32 := Scalar.divsi v116 c1_i32_65
  let v119 : BitVec 32 := Scalar.muli v118 c1_i32_65
  let v120 : BitVec 32 := Scalar.addi c0_i32_63 v119
  let c1_i32_66 : BitVec 32 := 1#32
  ⟨c0_i32_63, v120, c1_i32_66⟩

def k0_off2 (arg20 : BitVec 32) (arg21 : BitVec 32) (v74 : BitVec 32) (k0_t2 : Fin (k0_t2_loop arg20 v74).trips) : Fin 1 → Nat :=
  let c0_i32_63 : BitVec 32 := 0#32
  let c1_i32_66 : BitVec 32 := 1#32
  let arg22 : BitVec 32 := Scf.iv c0_i32_63 c1_i32_66 k0_t2
  let v126 : BitVec 32 := Scalar.addi arg21 arg22
  let v127 : Index := Scalar.indexCast v126
  ![v127.toNat]
@[reducible] def k0_t3_loop (arg20 : BitVec 32) (v74 : BitVec 32) : Scf.Loop 32 :=
  let c0_i32_63 : BitVec 32 := 0#32
  let v75 : BitVec 32 := Scalar.addi arg20 v74
  let v94 : BitVec 1 := Scalar.cmpi .sgt v75 arg20
  let c0_i32_47 : BitVec 32 := 0#32
  let v77 : BitVec 1 := Scalar.cmpi .sgt arg20 c0_i32_47
  let v78 : BitVec 32 := Scalar.extui v77
  let c0_i32_48 : BitVec 32 := 0#32
  let v79 : BitVec 1 := Scalar.cmpi .slt arg20 c0_i32_48
  let v80 : BitVec 32 := Scalar.extui v79
  let v81 : BitVec 32 := Scalar.subi v78 v80
  let c128_i32_46 : BitVec 32 := 128#32
  let c0_i32_49 : BitVec 32 := 0#32
  let v82 : BitVec 1 := Scalar.cmpi .sgt c128_i32_46 c0_i32_49
  let v83 : BitVec 32 := Scalar.extui v82
  let c0_i32_50 : BitVec 32 := 0#32
  let v84 : BitVec 1 := Scalar.cmpi .slt c128_i32_46 c0_i32_50
  let v85 : BitVec 32 := Scalar.extui v84
  let v86 : BitVec 32 := Scalar.subi v83 v85
  let v87 : BitVec 1 := Scalar.cmpi .ne v81 v86
  let v88 : BitVec 32 := Scalar.remsi arg20 c128_i32_46
  let c0_i32_51 : BitVec 32 := 0#32
  let v89 : BitVec 1 := Scalar.cmpi .ne v88 c0_i32_51
  let v90 : BitVec 1 := Scalar.andi v87 v89
  let v76 : BitVec 32 := Scalar.divsi arg20 c128_i32_46
  let c1_i32_52 : BitVec 32 := 1#32
  let v91 : BitVec 32 := Scalar.subi v76 c1_i32_52
  let v92 : BitVec 32 := Scalar.select v90 v91 v76
  let c128_i32_53 : BitVec 32 := 128#32
  let v93 : BitVec 32 := Scalar.muli v92 c128_i32_53
  let v95 : BitVec 32 := Scalar.subi v75 v93
  let c512_i32 : BitVec 32 := 512#32
  let v96 : BitVec 32 := Scalar.addi v95 c512_i32
  let c1_i32_54 : BitVec 32 := 1#32
  let v97 : BitVec 32 := Scalar.subi v96 c1_i32_54
  let c0_i32_56 : BitVec 32 := 0#32
  let v99 : BitVec 1 := Scalar.cmpi .sgt v97 c0_i32_56
  let v100 : BitVec 32 := Scalar.extui v99
  let c0_i32_57 : BitVec 32 := 0#32
  let v101 : BitVec 1 := Scalar.cmpi .slt v97 c0_i32_57
  let v102 : BitVec 32 := Scalar.extui v101
  let v103 : BitVec 32 := Scalar.subi v100 v102
  let c512_i32_55 : BitVec 32 := 512#32
  let c0_i32_58 : BitVec 32 := 0#32
  let v104 : BitVec 1 := Scalar.cmpi .sgt c512_i32_55 c0_i32_58
  let v105 : BitVec 32 := Scalar.extui v104
  let c0_i32_59 : BitVec 32 := 0#32
  let v106 : BitVec 1 := Scalar.cmpi .slt c512_i32_55 c0_i32_59
  let v107 : BitVec 32 := Scalar.extui v106
  let v108 : BitVec 32 := Scalar.subi v105 v107
  let v109 : BitVec 1 := Scalar.cmpi .ne v103 v108
  let v110 : BitVec 32 := Scalar.remsi v97 c512_i32_55
  let c0_i32_60 : BitVec 32 := 0#32
  let v111 : BitVec 1 := Scalar.cmpi .ne v110 c0_i32_60
  let v112 : BitVec 1 := Scalar.andi v109 v111
  let v98 : BitVec 32 := Scalar.divsi v97 c512_i32_55
  let c1_i32_61 : BitVec 32 := 1#32
  let v113 : BitVec 32 := Scalar.subi v98 c1_i32_61
  let v114 : BitVec 32 := Scalar.select v112 v113 v98
  let c0_i32_62 : BitVec 32 := 0#32
  let v115 : BitVec 32 := Scalar.select v94 v114 c0_i32_62
  let v116 : BitVec 32 := Scalar.subi v115 c0_i32_63
  let c1_i32_65 : BitVec 32 := 1#32
  let v118 : BitVec 32 := Scalar.divsi v116 c1_i32_65
  let v119 : BitVec 32 := Scalar.muli v118 c1_i32_65
  let v120 : BitVec 32 := Scalar.addi c0_i32_63 v119
  let v117 : BitVec 32 := Scalar.addi c0_i32_63 v116
  let c1_i32_67 : BitVec 32 := 1#32
  ⟨v120, v117, c1_i32_67⟩
def k0_off3 (arg20 : BitVec 32) (arg21 : BitVec 32) (v74 : BitVec 32) (k0_t3 : Fin (k0_t3_loop arg20 v74).trips) : Fin 1 → Nat :=
  let c0_i32_63 : BitVec 32 := 0#32
  let v75 : BitVec 32 := Scalar.addi arg20 v74
  let v94 : BitVec 1 := Scalar.cmpi .sgt v75 arg20
  let c0_i32_47 : BitVec 32 := 0#32
  let v77 : BitVec 1 := Scalar.cmpi .sgt arg20 c0_i32_47
  let v78 : BitVec 32 := Scalar.extui v77
  let c0_i32_48 : BitVec 32 := 0#32
  let v79 : BitVec 1 := Scalar.cmpi .slt arg20 c0_i32_48
  let v80 : BitVec 32 := Scalar.extui v79
  let v81 : BitVec 32 := Scalar.subi v78 v80
  let c128_i32_46 : BitVec 32 := 128#32
  let c0_i32_49 : BitVec 32 := 0#32
  let v82 : BitVec 1 := Scalar.cmpi .sgt c128_i32_46 c0_i32_49
  let v83 : BitVec 32 := Scalar.extui v82
  let c0_i32_50 : BitVec 32 := 0#32
  let v84 : BitVec 1 := Scalar.cmpi .slt c128_i32_46 c0_i32_50
  let v85 : BitVec 32 := Scalar.extui v84
  let v86 : BitVec 32 := Scalar.subi v83 v85
  let v87 : BitVec 1 := Scalar.cmpi .ne v81 v86
  let v88 : BitVec 32 := Scalar.remsi arg20 c128_i32_46
  let c0_i32_51 : BitVec 32 := 0#32
  let v89 : BitVec 1 := Scalar.cmpi .ne v88 c0_i32_51
  let v90 : BitVec 1 := Scalar.andi v87 v89
  let v76 : BitVec 32 := Scalar.divsi arg20 c128_i32_46
  let c1_i32_52 : BitVec 32 := 1#32
  let v91 : BitVec 32 := Scalar.subi v76 c1_i32_52
  let v92 : BitVec 32 := Scalar.select v90 v91 v76
  let c128_i32_53 : BitVec 32 := 128#32
  let v93 : BitVec 32 := Scalar.muli v92 c128_i32_53
  let v95 : BitVec 32 := Scalar.subi v75 v93
  let c512_i32 : BitVec 32 := 512#32
  let v96 : BitVec 32 := Scalar.addi v95 c512_i32
  let c1_i32_54 : BitVec 32 := 1#32
  let v97 : BitVec 32 := Scalar.subi v96 c1_i32_54
  let c0_i32_56 : BitVec 32 := 0#32
  let v99 : BitVec 1 := Scalar.cmpi .sgt v97 c0_i32_56
  let v100 : BitVec 32 := Scalar.extui v99
  let c0_i32_57 : BitVec 32 := 0#32
  let v101 : BitVec 1 := Scalar.cmpi .slt v97 c0_i32_57
  let v102 : BitVec 32 := Scalar.extui v101
  let v103 : BitVec 32 := Scalar.subi v100 v102
  let c512_i32_55 : BitVec 32 := 512#32
  let c0_i32_58 : BitVec 32 := 0#32
  let v104 : BitVec 1 := Scalar.cmpi .sgt c512_i32_55 c0_i32_58
  let v105 : BitVec 32 := Scalar.extui v104
  let c0_i32_59 : BitVec 32 := 0#32
  let v106 : BitVec 1 := Scalar.cmpi .slt c512_i32_55 c0_i32_59
  let v107 : BitVec 32 := Scalar.extui v106
  let v108 : BitVec 32 := Scalar.subi v105 v107
  let v109 : BitVec 1 := Scalar.cmpi .ne v103 v108
  let v110 : BitVec 32 := Scalar.remsi v97 c512_i32_55
  let c0_i32_60 : BitVec 32 := 0#32
  let v111 : BitVec 1 := Scalar.cmpi .ne v110 c0_i32_60
  let v112 : BitVec 1 := Scalar.andi v109 v111
  let v98 : BitVec 32 := Scalar.divsi v97 c512_i32_55
  let c1_i32_61 : BitVec 32 := 1#32
  let v113 : BitVec 32 := Scalar.subi v98 c1_i32_61
  let v114 : BitVec 32 := Scalar.select v112 v113 v98
  let c0_i32_62 : BitVec 32 := 0#32
  let v115 : BitVec 32 := Scalar.select v94 v114 c0_i32_62
  let v116 : BitVec 32 := Scalar.subi v115 c0_i32_63
  let c1_i32_65 : BitVec 32 := 1#32
  let v118 : BitVec 32 := Scalar.divsi v116 c1_i32_65
  let v119 : BitVec 32 := Scalar.muli v118 c1_i32_65
  let v120 : BitVec 32 := Scalar.addi c0_i32_63 v119
  let c1_i32_67 : BitVec 32 := 1#32
  let arg22 : BitVec 32 := Scf.iv v120 c1_i32_67 k0_t3
  let v126 : BitVec 32 := Scalar.addi arg21 arg22
  let v127 : Index := Scalar.indexCast v126
  ![v127.toNat]

def k0_chk1 (arg20 : BitVec 32) (arg21 : BitVec 32) (v74 : BitVec 32) : Prop :=
  ((k0_t2_loop arg20 v74).OK) ∧
  (∀ k0_t2 : Fin (k0_t2_loop arg20 v74).trips, ∀ a, (k0_off2 arg20 arg21 v74 k0_t2) a + S1.size a ≤ S224.size a) ∧
  ((k0_t3_loop arg20 v74).OK) ∧
  (∀ k0_t3 : Fin (k0_t3_loop arg20 v74).trips, ∀ a, (k0_off3 arg20 arg21 v74 k0_t3) a + S1.size a ≤ S224.size a)
theorem k0_t2_ok : ∀ (arg20 : BitVec 32) (arg21 : BitVec 32) (v74 : BitVec 32) (k0_hw1 : k0_chk1 arg20 arg21 v74), (k0_t2_loop arg20 v74).OK := fun arg20 arg21 v74 k0_hw1 => k0_hw1.1
theorem k0_off2_inb : ∀ (arg20 : BitVec 32) (arg21 : BitVec 32) (v74 : BitVec 32) (k0_hw1 : k0_chk1 arg20 arg21 v74) (k0_t2 : Fin (k0_t2_loop arg20 v74).trips), ∀ a, (k0_off2 arg20 arg21 v74 k0_t2) a + S1.size a ≤ S224.size a := fun arg20 arg21 v74 k0_hw1 k0_t2 => k0_hw1.2.1 k0_t2
theorem k0_t3_ok : ∀ (arg20 : BitVec 32) (arg21 : BitVec 32) (v74 : BitVec 32) (k0_hw1 : k0_chk1 arg20 arg21 v74), (k0_t3_loop arg20 v74).OK := fun arg20 arg21 v74 k0_hw1 => k0_hw1.2.2.1
theorem k0_off3_inb : ∀ (arg20 : BitVec 32) (arg21 : BitVec 32) (v74 : BitVec 32) (k0_hw1 : k0_chk1 arg20 arg21 v74) (k0_t3 : Fin (k0_t3_loop arg20 v74).trips), ∀ a, (k0_off3 arg20 arg21 v74 k0_t3) a + S1.size a ≤ S224.size a := fun arg20 arg21 v74 k0_hw1 k0_t3 => k0_hw1.2.2.2 k0_t3

def k0_off4 (v2 : BitVec 32) : Fin 3 → Nat :=
  let c0_i32_7 : BitVec 32 := 0#32
  let c3072_i32 : BitVec 32 := 3072#32
  ![v2.toNat, 0, 3072]

def k0_off5 (v2 : BitVec 32) : Fin 3 → Nat :=
  let c0_i32_12 : BitVec 32 := 0#32
  let c3072_i32_13 : BitVec 32 := 3072#32
  ![v2.toNat, 0, 3072]

def k0_chk2 (v2 : BitVec 32) : Prop :=
  (∀ a, (k0_off4 v2) a + S1x1024x1024.size a ≤ S16x1024x4096.size a) ∧
  (∀ (hinb : ∀ a, (k0_off4 v2) a + S1x1024x1024.size a ≤ S16x1024x4096.size a), (Rect.unit (s := S16x1024x4096) (k0_off4 v2) S1x1024x1024.size hinb).WholeWords (EltTy.packing .i8)) ∧
  (∀ a, (k0_off5 v2) a + S1x16x1024.size a ≤ S16x16x4096.size a) ∧
  (∀ (hinb : ∀ a, (k0_off5 v2) a + S1x16x1024.size a ≤ S16x16x4096.size a), (Rect.unit (s := S16x16x4096) (k0_off5 v2) S1x16x1024.size hinb).WholeWords (EltTy.packing .bf16))
theorem k0_off4_inb : ∀ (v2 : BitVec 32) (k0_hw2 : k0_chk2 v2), ∀ a, (k0_off4 v2) a + S1x1024x1024.size a ≤ S16x1024x4096.size a := fun v2 k0_hw2 => k0_hw2.1
theorem k0_off4_wordsi8 : ∀ (v2 : BitVec 32) (k0_hw2 : k0_chk2 v2), (Rect.unit (s := S16x1024x4096) (k0_off4 v2) S1x1024x1024.size (k0_off4_inb v2 k0_hw2)).WholeWords (EltTy.packing .i8) := fun v2 k0_hw2 => k0_hw2.2.1 (k0_off4_inb v2 k0_hw2)
theorem k0_off5_inb : ∀ (v2 : BitVec 32) (k0_hw2 : k0_chk2 v2), ∀ a, (k0_off5 v2) a + S1x16x1024.size a ≤ S16x16x4096.size a := fun v2 k0_hw2 => k0_hw2.2.2.1
theorem k0_off5_wordsbf16 : ∀ (v2 : BitVec 32) (k0_hw2 : k0_chk2 v2), (Rect.unit (s := S16x16x4096) (k0_off5 v2) S1x16x1024.size (k0_off5_inb v2 k0_hw2)).WholeWords (EltTy.packing .bf16) := fun v2 k0_hw2 => k0_hw2.2.2.2 (k0_off5_inb v2 k0_hw2)

def k0_mult1 (v15 : BitVec 32) : BitVec 32 :=
  let c97792_i32 : BitVec 32 := 97792#32
  let v16 : BitVec 32 := Scalar.minsi v15 c97792_i32
  v16

def k0_off6 (v15 : BitVec 32) : Fin 2 → Nat :=
  let c97792_i32 : BitVec 32 := 97792#32
  let v16 : BitVec 32 := Scalar.minsi v15 c97792_i32
  let v17 : BitVec 32 := v16
  let c0_i32_25 : BitVec 32 := 0#32
  ![v17.toNat, 0]
def k0_off7 (v15 : BitVec 32) : Fin 3 → Nat :=
  let c97792_i32 : BitVec 32 := 97792#32
  let v16 : BitVec 32 := Scalar.minsi v15 c97792_i32
  let v17 : BitVec 32 := v16
  let c0_i32_15 : BitVec 32 := 0#32
  let v19 : BitVec 1 := Scalar.cmpi .sgt v17 c0_i32_15
  let v20 : BitVec 32 := Scalar.extui v19
  let c0_i32_16 : BitVec 32 := 0#32
  let v21 : BitVec 1 := Scalar.cmpi .slt v17 c0_i32_16
  let v22 : BitVec 32 := Scalar.extui v21
  let v23 : BitVec 32 := Scalar.subi v20 v22
  let c128_i32 : BitVec 32 := 128#32
  let c0_i32_17 : BitVec 32 := 0#32
  let v24 : BitVec 1 := Scalar.cmpi .sgt c128_i32 c0_i32_17
  let v25 : BitVec 32 := Scalar.extui v24
  let c0_i32_18 : BitVec 32 := 0#32
  let v26 : BitVec 1 := Scalar.cmpi .slt c128_i32 c0_i32_18
  let v27 : BitVec 32 := Scalar.extui v26
  let v28 : BitVec 32 := Scalar.subi v25 v27
  let v29 : BitVec 1 := Scalar.cmpi .ne v23 v28
  let v30 : BitVec 32 := Scalar.remsi v17 c128_i32
  let c0_i32_19 : BitVec 32 := 0#32
  let v31 : BitVec 1 := Scalar.cmpi .ne v30 c0_i32_19
  let v32 : BitVec 1 := Scalar.andi v29 v31
  let v18 : BitVec 32 := Scalar.divsi v17 c128_i32
  let c1_i32_20 : BitVec 32 := 1#32
  let v33 : BitVec 32 := Scalar.subi v18 c1_i32_20
  let v34 : BitVec 32 := Scalar.select v32 v33 v18
  let c0_i32_31 : BitVec 32 := 0#32
  let c0_i32_32 : BitVec 32 := 0#32
  ![v34.toNat, 0, 0]

def k0_chk3 (v15 : BitVec 32) : Prop :=
  (128 ∣ (k0_mult1 v15).toNat) ∧
  (∀ a, (k0_off6 v15) a + S512x2048.size a ≤ S98304x2048.size a) ∧
  (∀ (hinb : ∀ a, (k0_off6 v15) a + S512x2048.size a ≤ S98304x2048.size a), (Rect.unit (s := S98304x2048) (k0_off6 v15) S512x2048.size hinb).WholeWords (EltTy.packing .fp8e4m3)) ∧
  (∀ a, (k0_off7 v15) a + S4x1x128.size a ≤ S768x1x128.size a)
theorem k0_mult1_dvd : ∀ (v15 : BitVec 32) (k0_hw3 : k0_chk3 v15), 128 ∣ (k0_mult1 v15).toNat := fun v15 k0_hw3 => k0_hw3.1
theorem k0_off6_inb : ∀ (v15 : BitVec 32) (k0_hw3 : k0_chk3 v15), ∀ a, (k0_off6 v15) a + S512x2048.size a ≤ S98304x2048.size a := fun v15 k0_hw3 => k0_hw3.2.1
theorem k0_off6_wordsfp8e4m3 : ∀ (v15 : BitVec 32) (k0_hw3 : k0_chk3 v15), (Rect.unit (s := S98304x2048) (k0_off6 v15) S512x2048.size (k0_off6_inb v15 k0_hw3)).WholeWords (EltTy.packing .fp8e4m3) := fun v15 k0_hw3 => k0_hw3.2.2.1 (k0_off6_inb v15 k0_hw3)
theorem k0_off7_inb : ∀ (v15 : BitVec 32) (k0_hw3 : k0_chk3 v15), ∀ a, (k0_off7 v15) a + S4x1x128.size a ≤ S768x1x128.size a := fun v15 k0_hw3 => k0_hw3.2.2.2

@[reducible] def k0_t4_loop (v1_1 : BitVec 32) : Scf.Loop 32 :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_36 : BitVec 32 := 1#32
  ⟨c0_i32_33, v49, c1_i32_36⟩

def k0_off8 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let v74 : Index := Scalar.indexCast arg19
  ![v74.toNat]
def k0_off9 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let c1_i32_48 : BitVec 32 := 1#32
  let v77 : BitVec 32 := Scalar.subi arg19 c1_i32_48
  let c0_i32_49 : BitVec 32 := 0#32
  let v78 : BitVec 32 := Scalar.maxsi v77 c0_i32_49
  let v79 : Index := Scalar.indexCast v78
  ![v79.toNat]
def k0_off10 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let c1_i32_106 : BitVec 32 := 1#32
  let v359 : BitVec 32 := Scalar.addi arg19 c1_i32_106
  let v361 : Index := Scalar.indexCast v359
  ![v361.toNat]
def k0_cond1 (v1_1 : BitVec 32) (k0_t4 : Fin (k0_t4_loop v1_1).trips) : BitVec 1 :=
  let c0_i32_33 : BitVec 32 := 0#32
  let c1_i32_36 : BitVec 32 := 1#32
  let arg19 : BitVec 32 := Scf.iv c0_i32_33 c1_i32_36 k0_t4
  let c1_i32_50 : BitVec 32 := 1#32
  let v83 : BitVec 32 := Scalar.addi arg19 c1_i32_50
  let v84 : BitVec 1 := Scalar.cmpi .slt v83 v1_1
  let v85 : BitVec 32 := Scalar.extui v84
  let c0_i32_51 : BitVec 32 := 0#32
  let v86 : BitVec 1 := Scalar.cmpi .ne v85 c0_i32_51
  v86

def k0_mult2 (v362 : BitVec 32) : BitVec 32 :=
  let c97792_i32_108 : BitVec 32 := 97792#32
  let v363 : BitVec 32 := Scalar.minsi v362 c97792_i32_108
  v363

def k0_off11 (v1_1 : BitVec 32) (k0_t4 : Fin (k0_t4_loop v1_1).trips) : Fin 1 → Nat :=
  let c1_i32_107 : BitVec 32 := 1#32
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v360 : BitVec 32 := Scalar.subi c1_i32_107 v73
  ![v360.toNat]
def k0_off12 (v1_1 : BitVec 32) (k0_t4 : Fin (k0_t4_loop v1_1).trips) : Fin 3 → Nat :=
  let c1_i32_107 : BitVec 32 := 1#32
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v360 : BitVec 32 := Scalar.subi c1_i32_107 v73
  let c0_i32_116 : BitVec 32 := 0#32
  let c0_i32_117 : BitVec 32 := 0#32
  ![v360.toNat, 0, 0]
def k0_off13 (v362 : BitVec 32) : Fin 2 → Nat :=
  let c97792_i32_108 : BitVec 32 := 97792#32
  let v363 : BitVec 32 := Scalar.minsi v362 c97792_i32_108
  let v364 : BitVec 32 := v363
  let c0_i32_118 : BitVec 32 := 0#32
  ![v364.toNat, 0]
def k0_off14 (v1_1 : BitVec 32) (k0_t4 : Fin (k0_t4_loop v1_1).trips) : Fin 4 → Nat :=
  let c1_i32_107 : BitVec 32 := 1#32
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v360 : BitVec 32 := Scalar.subi c1_i32_107 v73
  let c0_i32_119 : BitVec 32 := 0#32
  let c0_i32_120 : BitVec 32 := 0#32
  let c0_i32_121 : BitVec 32 := 0#32
  ![v360.toNat, 0, 0, 0]
def k0_off15 (v362 : BitVec 32) : Fin 3 → Nat :=
  let c97792_i32_108 : BitVec 32 := 97792#32
  let v363 : BitVec 32 := Scalar.minsi v362 c97792_i32_108
  let v364 : BitVec 32 := v363
  let c0_i32_110 : BitVec 32 := 0#32
  let v366 : BitVec 1 := Scalar.cmpi .sgt v364 c0_i32_110
  let v367 : BitVec 32 := Scalar.extui v366
  let c0_i32_111 : BitVec 32 := 0#32
  let v368 : BitVec 1 := Scalar.cmpi .slt v364 c0_i32_111
  let v369 : BitVec 32 := Scalar.extui v368
  let v370 : BitVec 32 := Scalar.subi v367 v369
  let c128_i32_109 : BitVec 32 := 128#32
  let c0_i32_112 : BitVec 32 := 0#32
  let v371 : BitVec 1 := Scalar.cmpi .sgt c128_i32_109 c0_i32_112
  let v372 : BitVec 32 := Scalar.extui v371
  let c0_i32_113 : BitVec 32 := 0#32
  let v373 : BitVec 1 := Scalar.cmpi .slt c128_i32_109 c0_i32_113
  let v374 : BitVec 32 := Scalar.extui v373
  let v375 : BitVec 32 := Scalar.subi v372 v374
  let v376 : BitVec 1 := Scalar.cmpi .ne v370 v375
  let v377 : BitVec 32 := Scalar.remsi v364 c128_i32_109
  let c0_i32_114 : BitVec 32 := 0#32
  let v378 : BitVec 1 := Scalar.cmpi .ne v377 c0_i32_114
  let v379 : BitVec 1 := Scalar.andi v376 v378
  let v365 : BitVec 32 := Scalar.divsi v364 c128_i32_109
  let c1_i32_115 : BitVec 32 := 1#32
  let v380 : BitVec 32 := Scalar.subi v365 c1_i32_115
  let v381 : BitVec 32 := Scalar.select v379 v380 v365
  let c0_i32_122 : BitVec 32 := 0#32
  let c0_i32_123 : BitVec 32 := 0#32
  ![v381.toNat, 0, 0]

def k0_chk5 (v1_1 : BitVec 32) (k0_t4 : Fin (k0_t4_loop v1_1).trips) (v362 : BitVec 32) : Prop :=
  (∀ (k0_h1 : k0_cond1 v1_1 k0_t4 = 1#1), 128 ∣ (k0_mult2 v362).toNat) ∧
  (∀ (k0_h1 : k0_cond1 v1_1 k0_t4 = 1#1), ∀ a, (k0_off13 v362) a + S512x2048.size a ≤ S98304x2048.size a) ∧
  (∀ (k0_h1 : k0_cond1 v1_1 k0_t4 = 1#1), ∀ (hinb : ∀ a, (k0_off13 v362) a + S512x2048.size a ≤ S98304x2048.size a), (Rect.unit (s := S98304x2048) (k0_off13 v362) S512x2048.size hinb).WholeWords (EltTy.packing .fp8e4m3)) ∧
  (∀ (k0_h1 : k0_cond1 v1_1 k0_t4 = 1#1), ∀ a, (k0_off15 v362) a + S4x1x128.size a ≤ S768x1x128.size a)
theorem k0_mult2_dvd : ∀ (v1_1 : BitVec 32) (k0_t4 : Fin (k0_t4_loop v1_1).trips) (v362 : BitVec 32) (k0_hw5 : k0_chk5 v1_1 k0_t4 v362), ∀ (k0_h1 : k0_cond1 v1_1 k0_t4 = 1#1), 128 ∣ (k0_mult2 v362).toNat := fun v1_1 k0_t4 v362 k0_hw5 k0_h1 => k0_hw5.1 k0_h1
theorem k0_off13_inb : ∀ (v1_1 : BitVec 32) (k0_t4 : Fin (k0_t4_loop v1_1).trips) (v362 : BitVec 32) (k0_hw5 : k0_chk5 v1_1 k0_t4 v362), ∀ (k0_h1 : k0_cond1 v1_1 k0_t4 = 1#1), ∀ a, (k0_off13 v362) a + S512x2048.size a ≤ S98304x2048.size a := fun v1_1 k0_t4 v362 k0_hw5 k0_h1 => k0_hw5.2.1 k0_h1
theorem k0_off13_wordsfp8e4m3 : ∀ (v1_1 : BitVec 32) (k0_t4 : Fin (k0_t4_loop v1_1).trips) (v362 : BitVec 32) (k0_hw5 : k0_chk5 v1_1 k0_t4 v362), ∀ (k0_h1 : k0_cond1 v1_1 k0_t4 = 1#1), (Rect.unit (s := S98304x2048) (k0_off13 v362) S512x2048.size (k0_off13_inb v1_1 k0_t4 v362 k0_hw5 k0_h1)).WholeWords (EltTy.packing .fp8e4m3) := fun v1_1 k0_t4 v362 k0_hw5 k0_h1 => k0_hw5.2.2.1 k0_h1 (k0_off13_inb v1_1 k0_t4 v362 k0_hw5 k0_h1)
theorem k0_off15_inb : ∀ (v1_1 : BitVec 32) (k0_t4 : Fin (k0_t4_loop v1_1).trips) (v362 : BitVec 32) (k0_hw5 : k0_chk5 v1_1 k0_t4 v362), ∀ (k0_h1 : k0_cond1 v1_1 k0_t4 = 1#1), ∀ a, (k0_off15 v362) a + S4x1x128.size a ≤ S768x1x128.size a := fun v1_1 k0_t4 v362 k0_hw5 k0_h1 => k0_hw5.2.2.2 k0_h1

def k0_off16 (arg20 : BitVec 32) : Fin 1 → Nat :=
  ![arg20.toNat]
def k0_cond2 (v1_1 : BitVec 32) (k0_t4 : Fin (k0_t4_loop v1_1).trips) (v75 : BitVec 32) (v80 : BitVec 32) : BitVec 1 :=
  let c0_i32_33 : BitVec 32 := 0#32
  let c1_i32_36 : BitVec 32 := 1#32
  let arg19 : BitVec 32 := Scf.iv c0_i32_33 c1_i32_36 k0_t4
  let c0_i32_47 : BitVec 32 := 0#32
  let v76 : BitVec 1 := Scalar.cmpi .eq arg19 c0_i32_47
  let v81 : BitVec 1 := Scalar.cmpi .ne v80 v75
  let v82 : BitVec 1 := Scalar.ori v76 v81
  let v87 : BitVec 32 := Scalar.extui v82
  let c0_i32_52 : BitVec 32 := 0#32
  let v88 : BitVec 1 := Scalar.cmpi .ne v87 c0_i32_52
  v88

def k0_off17 (arg20 : BitVec 32) : Fin 3 → Nat :=
  let c0_i32_106 : BitVec 32 := 0#32
  let c0_i32_107 : BitVec 32 := 0#32
  ![arg20.toNat, 0, 0]
def k0_off18 (v75 : BitVec 32) : Fin 3 → Nat :=
  let c0_i32_108 : BitVec 32 := 0#32
  let c3072_i32_109 : BitVec 32 := 3072#32
  ![v75.toNat, 0, 3072]
def k0_off19 (arg20 : BitVec 32) : Fin 3 → Nat :=
  let c0_i32_110 : BitVec 32 := 0#32
  let c0_i32_111 : BitVec 32 := 0#32
  ![arg20.toNat, 0, 0]
def k0_off20 (v75 : BitVec 32) : Fin 3 → Nat :=
  let c0_i32_112 : BitVec 32 := 0#32
  let c3072_i32_113 : BitVec 32 := 3072#32
  ![v75.toNat, 0, 3072]
@[reducible] def k0_t5_loop : Scf.Loop 32 :=
  let c0_i32_115 : BitVec 32 := 0#32
  let c16_i32_116 : BitVec 32 := 16#32
  let v371 : BitVec 32 := Scalar.addi c0_i32_115 c16_i32_116
  let c1_i32_117 : BitVec 32 := 1#32
  ⟨c0_i32_115, v371, c1_i32_117⟩
def k0_off21 (k0_t5 : Fin k0_t5_loop.trips) : Fin 1 → Nat :=
  let c15_i32_251 : BitVec 32 := 15#32
  let c0_i32_115 : BitVec 32 := 0#32
  let c1_i32_117 : BitVec 32 := 1#32
  let arg21 : BitVec 32 := Scf.iv c0_i32_115 c1_i32_117 k0_t5
  let v778 : BitVec 32 := Scalar.subi c15_i32_251 arg21
  let v779 : Index := Scalar.indexCast v778
  ![v779.toNat]
def k0_off22 (arg20 : BitVec 32) : Fin 1 → Nat :=
  let c1_i32_251 : BitVec 32 := 1#32
  let v776 : BitVec 32 := Scalar.subi c1_i32_251 arg20
  ![v776.toNat]
def k0_cond3 (v372 : BitVec 32) : BitVec 1 :=
  let c16_i32_119 : BitVec 32 := 16#32
  let v373 : BitVec 1 := Scalar.cmpi .slt v372 c16_i32_119
  let v374 : BitVec 32 := Scalar.extui v373
  let c0_i32_120 : BitVec 32 := 0#32
  let v375 : BitVec 1 := Scalar.cmpi .ne v374 c0_i32_120
  v375

def k0_off23 (arg20 : BitVec 32) : Fin 3 → Nat :=
  let c1_i32_251 : BitVec 32 := 1#32
  let v776 : BitVec 32 := Scalar.subi c1_i32_251 arg20
  let c0_i32_252 : BitVec 32 := 0#32
  let c0_i32_253 : BitVec 32 := 0#32
  ![v776.toNat, 0, 0]
def k0_off24 (v372 : BitVec 32) : Fin 3 → Nat :=
  let c0_i32_254 : BitVec 32 := 0#32
  let c3072_i32_255 : BitVec 32 := 3072#32
  ![v372.toNat, 0, 3072]
def k0_off25 (arg20 : BitVec 32) : Fin 3 → Nat :=
  let c1_i32_251 : BitVec 32 := 1#32
  let v776 : BitVec 32 := Scalar.subi c1_i32_251 arg20
  let c0_i32_256 : BitVec 32 := 0#32
  let c0_i32_257 : BitVec 32 := 0#32
  ![v776.toNat, 0, 0]
def k0_off26 (v372 : BitVec 32) : Fin 3 → Nat :=
  let c0_i32_258 : BitVec 32 := 0#32
  let c3072_i32_259 : BitVec 32 := 3072#32
  ![v372.toNat, 0, 3072]

def k0_chk7 (v1_1 : BitVec 32) (k0_t4 : Fin (k0_t4_loop v1_1).trips) (arg20 : BitVec 32) (v75 : BitVec 32) (v80 : BitVec 32) (v372 : BitVec 32) : Prop :=
  (∀ (k0_h2 : k0_cond2 v1_1 k0_t4 v75 v80 = 1#1), ∀ (k0_h3 : k0_cond3 v372 = 1#1), ∀ a, (k0_off22 arg20) a + S1.size a ≤ S2.size a) ∧
  (∀ (k0_h2 : k0_cond2 v1_1 k0_t4 v75 v80 = 1#1), ∀ (k0_h3 : k0_cond3 v372 = 1#1), ∀ a, (k0_off23 arg20) a + S1x1024x1024.size a ≤ S2x1024x1024.size a) ∧
  (∀ (k0_h2 : k0_cond2 v1_1 k0_t4 v75 v80 = 1#1), ∀ (k0_h3 : k0_cond3 v372 = 1#1), ∀ a, (k0_off24 v372) a + S1x1024x1024.size a ≤ S16x1024x4096.size a) ∧
  (∀ (k0_h2 : k0_cond2 v1_1 k0_t4 v75 v80 = 1#1), ∀ (k0_h3 : k0_cond3 v372 = 1#1), ∀ (hinb : ∀ a, (k0_off24 v372) a + S1x1024x1024.size a ≤ S16x1024x4096.size a), (Rect.unit (s := S16x1024x4096) (k0_off24 v372) S1x1024x1024.size hinb).WholeWords (EltTy.packing .i8)) ∧
  (∀ (k0_h2 : k0_cond2 v1_1 k0_t4 v75 v80 = 1#1), ∀ (k0_h3 : k0_cond3 v372 = 1#1), ∀ (hinb : ∀ a, (k0_off23 arg20) a + S1x1024x1024.size a ≤ S2x1024x1024.size a), (Rect.unit (s := S2x1024x1024) (k0_off23 arg20) S1x1024x1024.size hinb).WholeWords (EltTy.packing .i8)) ∧
  (∀ (k0_h2 : k0_cond2 v1_1 k0_t4 v75 v80 = 1#1), ∀ (k0_h3 : k0_cond3 v372 = 1#1), ∀ a, (k0_off25 arg20) a + S1x16x1024.size a ≤ S2x16x1024.size a) ∧
  (∀ (k0_h2 : k0_cond2 v1_1 k0_t4 v75 v80 = 1#1), ∀ (k0_h3 : k0_cond3 v372 = 1#1), ∀ a, (k0_off26 v372) a + S1x16x1024.size a ≤ S16x16x4096.size a) ∧
  (∀ (k0_h2 : k0_cond2 v1_1 k0_t4 v75 v80 = 1#1), ∀ (k0_h3 : k0_cond3 v372 = 1#1), ∀ (hinb : ∀ a, (k0_off26 v372) a + S1x16x1024.size a ≤ S16x16x4096.size a), (Rect.unit (s := S16x16x4096) (k0_off26 v372) S1x16x1024.size hinb).WholeWords (EltTy.packing .bf16)) ∧
  (∀ (k0_h2 : k0_cond2 v1_1 k0_t4 v75 v80 = 1#1), ∀ (k0_h3 : k0_cond3 v372 = 1#1), ∀ (hinb : ∀ a, (k0_off25 arg20) a + S1x16x1024.size a ≤ S2x16x1024.size a), (Rect.unit (s := S2x16x1024) (k0_off25 arg20) S1x16x1024.size hinb).WholeWords (EltTy.packing .bf16))
theorem k0_off22_inb : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), ∀ a, (k0_off22 arg20) a + S1.size a ≤ S2.size a := fun v1_1 k0_t4 arg20 v75 v80 v372 k0_hw7 k0_h2 k0_h3 => k0_hw7.1 k0_h2 k0_h3
theorem k0_off23_inb : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), ∀ a, (k0_off23 arg20) a + S1x1024x1024.size a ≤ S2x1024x1024.size a := fun v1_1 k0_t4 arg20 v75 v80 v372 k0_hw7 k0_h2 k0_h3 => k0_hw7.2.1 k0_h2 k0_h3
theorem k0_off24_inb : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), ∀ a, (k0_off24 v372) a + S1x1024x1024.size a ≤ S16x1024x4096.size a := fun v1_1 k0_t4 arg20 v75 v80 v372 k0_hw7 k0_h2 k0_h3 => k0_hw7.2.2.1 k0_h2 k0_h3
theorem k0_off24_wordsi8 : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), (Rect.unit (s := S16x1024x4096) (k0_off24 v372) S1x1024x1024.size (k0_off24_inb v1_1 k0_t4 arg20 v75 v80 v372 k0_hw7 k0_h2 k0_h3)).WholeWords (EltTy.packing .i8) := fun v1_1 k0_t4 arg20 v75 v80 v372 k0_hw7 k0_h2 k0_h3 => k0_hw7.2.2.2.1 k0_h2 k0_h3 (k0_off24_inb v1_1 k0_t4 arg20 v75 v80 v372 k0_hw7 k0_h2 k0_h3)
theorem k0_off23_wordsi8 : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), (Rect.unit (s := S2x1024x1024) (k0_off23 arg20) S1x1024x1024.size (k0_off23_inb v1_1 k0_t4 arg20 v75 v80 v372 k0_hw7 k0_h2 k0_h3)).WholeWords (EltTy.packing .i8) := fun v1_1 k0_t4 arg20 v75 v80 v372 k0_hw7 k0_h2 k0_h3 => k0_hw7.2.2.2.2.1 k0_h2 k0_h3 (k0_off23_inb v1_1 k0_t4 arg20 v75 v80 v372 k0_hw7 k0_h2 k0_h3)
theorem k0_off25_inb : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), ∀ a, (k0_off25 arg20) a + S1x16x1024.size a ≤ S2x16x1024.size a := fun v1_1 k0_t4 arg20 v75 v80 v372 k0_hw7 k0_h2 k0_h3 => k0_hw7.2.2.2.2.2.1 k0_h2 k0_h3
theorem k0_off26_inb : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), ∀ a, (k0_off26 v372) a + S1x16x1024.size a ≤ S16x16x4096.size a := fun v1_1 k0_t4 arg20 v75 v80 v372 k0_hw7 k0_h2 k0_h3 => k0_hw7.2.2.2.2.2.2.1 k0_h2 k0_h3
theorem k0_off26_wordsbf16 : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), (Rect.unit (s := S16x16x4096) (k0_off26 v372) S1x16x1024.size (k0_off26_inb v1_1 k0_t4 arg20 v75 v80 v372 k0_hw7 k0_h2 k0_h3)).WholeWords (EltTy.packing .bf16) := fun v1_1 k0_t4 arg20 v75 v80 v372 k0_hw7 k0_h2 k0_h3 => k0_hw7.2.2.2.2.2.2.2.1 k0_h2 k0_h3 (k0_off26_inb v1_1 k0_t4 arg20 v75 v80 v372 k0_hw7 k0_h2 k0_h3)
theorem k0_off25_wordsbf16 : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), (Rect.unit (s := S2x16x1024) (k0_off25 arg20) S1x16x1024.size (k0_off25_inb v1_1 k0_t4 arg20 v75 v80 v372 k0_hw7 k0_h2 k0_h3)).WholeWords (EltTy.packing .bf16) := fun v1_1 k0_t4 arg20 v75 v80 v372 k0_hw7 k0_h2 k0_h3 => k0_hw7.2.2.2.2.2.2.2.2 k0_h2 k0_h3 (k0_off25_inb v1_1 k0_t4 arg20 v75 v80 v372 k0_hw7 k0_h2 k0_h3)

def k0_off27 (arg20 : BitVec 32) : Fin 3 → Nat :=
  let v376 : Index := Scalar.indexCast arg20
  let c0_121 : Index := 0#32
  let c0_122 : Index := 0#32
  ![v376.toNat, 0, 0]
def k0_off28 (arg20 : BitVec 32) : Fin 3 → Nat :=
  let v393 : Index := Scalar.indexCast arg20
  let c0_125 : Index := 0#32
  let c0_126 : Index := 0#32
  ![v393.toNat, 0, 0]
def k0_off29 (arg20 : BitVec 32) : Fin 3 → Nat :=
  let v401 : Index := Scalar.indexCast arg20
  let c64 : Index := 64#32
  let c0_129 : Index := 0#32
  ![v401.toNat, 64, 0]
def k0_off30 (arg20 : BitVec 32) : Fin 3 → Nat :=
  let v418 : Index := Scalar.indexCast arg20
  let c1_134 : Index := 1#32
  let c0_135 : Index := 0#32
  ![v418.toNat, 1, 0]
def k0_off31 (arg20 : BitVec 32) : Fin 3 → Nat :=
  let v426 : Index := Scalar.indexCast arg20
  let c128_138 : Index := 128#32
  let c0_139 : Index := 0#32
  ![v426.toNat, 128, 0]
def k0_off32 (arg20 : BitVec 32) : Fin 3 → Nat :=
  let v443 : Index := Scalar.indexCast arg20
  let c2_144 : Index := 2#32
  let c0_145 : Index := 0#32
  ![v443.toNat, 2, 0]
def k0_off33 (arg20 : BitVec 32) : Fin 3 → Nat :=
  let v451 : Index := Scalar.indexCast arg20
  let c192 : Index := 192#32
  let c0_148 : Index := 0#32
  ![v451.toNat, 192, 0]
def k0_off34 (arg20 : BitVec 32) : Fin 3 → Nat :=
  let v468 : Index := Scalar.indexCast arg20
  let c3_153 : Index := 3#32
  let c0_154 : Index := 0#32
  ![v468.toNat, 3, 0]
def k0_off35 (arg20 : BitVec 32) : Fin 3 → Nat :=
  let v476 : Index := Scalar.indexCast arg20
  let c256_157 : Index := 256#32
  let c0_158 : Index := 0#32
  ![v476.toNat, 256, 0]
def k0_off36 (arg20 : BitVec 32) : Fin 3 → Nat :=
  let v493 : Index := Scalar.indexCast arg20
  let c4_163 : Index := 4#32
  let c0_164 : Index := 0#32
  ![v493.toNat, 4, 0]
def k0_off37 (arg20 : BitVec 32) : Fin 3 → Nat :=
  let v501 : Index := Scalar.indexCast arg20
  let c320 : Index := 320#32
  let c0_166 : Index := 0#32
  ![v501.toNat, 320, 0]
def k0_off38 (arg20 : BitVec 32) : Fin 3 → Nat :=
  let v518 : Index := Scalar.indexCast arg20
  let c5_171 : Index := 5#32
  let c0_172 : Index := 0#32
  ![v518.toNat, 5, 0]
def k0_off39 (arg20 : BitVec 32) : Fin 3 → Nat :=
  let v526 : Index := Scalar.indexCast arg20
  let c384_174 : Index := 384#32
  let c0_175 : Index := 0#32
  ![v526.toNat, 384, 0]
def k0_off40 (arg20 : BitVec 32) : Fin 3 → Nat :=
  let v543 : Index := Scalar.indexCast arg20
  let c6_180 : Index := 6#32
  let c0_181 : Index := 0#32
  ![v543.toNat, 6, 0]
def k0_off41 (arg20 : BitVec 32) : Fin 3 → Nat :=
  let v551 : Index := Scalar.indexCast arg20
  let c448 : Index := 448#32
  let c0_183 : Index := 0#32
  ![v551.toNat, 448, 0]
def k0_off42 (arg20 : BitVec 32) : Fin 3 → Nat :=
  let v568 : Index := Scalar.indexCast arg20
  let c7_188 : Index := 7#32
  let c0_189 : Index := 0#32
  ![v568.toNat, 7, 0]
def k0_off43 (arg20 : BitVec 32) : Fin 3 → Nat :=
  let v576 : Index := Scalar.indexCast arg20
  let c512_191 : Index := 512#32
  let c0_192 : Index := 0#32
  ![v576.toNat, 512, 0]
def k0_off44 (arg20 : BitVec 32) : Fin 3 → Nat :=
  let v593 : Index := Scalar.indexCast arg20
  let c8 : Index := 8#32
  let c0_197 : Index := 0#32
  ![v593.toNat, 8, 0]
def k0_off45 (arg20 : BitVec 32) : Fin 3 → Nat :=
  let v601 : Index := Scalar.indexCast arg20
  let c576 : Index := 576#32
  let c0_199 : Index := 0#32
  ![v601.toNat, 576, 0]
def k0_off46 (arg20 : BitVec 32) : Fin 3 → Nat :=
  let v618 : Index := Scalar.indexCast arg20
  let c9 : Index := 9#32
  let c0_204 : Index := 0#32
  ![v618.toNat, 9, 0]
def k0_off47 (arg20 : BitVec 32) : Fin 3 → Nat :=
  let v626 : Index := Scalar.indexCast arg20
  let c640_206 : Index := 640#32
  let c0_207 : Index := 0#32
  ![v626.toNat, 640, 0]
def k0_off48 (arg20 : BitVec 32) : Fin 3 → Nat :=
  let v643 : Index := Scalar.indexCast arg20
  let c10 : Index := 10#32
  let c0_212 : Index := 0#32
  ![v643.toNat, 10, 0]
def k0_off49 (arg20 : BitVec 32) : Fin 3 → Nat :=
  let v651 : Index := Scalar.indexCast arg20
  let c704 : Index := 704#32
  let c0_214 : Index := 0#32
  ![v651.toNat, 704, 0]
def k0_off50 (arg20 : BitVec 32) : Fin 3 → Nat :=
  let v668 : Index := Scalar.indexCast arg20
  let c11 : Index := 11#32
  let c0_219 : Index := 0#32
  ![v668.toNat, 11, 0]
def k0_off51 (arg20 : BitVec 32) : Fin 3 → Nat :=
  let v676 : Index := Scalar.indexCast arg20
  let c768_221 : Index := 768#32
  let c0_222 : Index := 0#32
  ![v676.toNat, 768, 0]
def k0_off52 (arg20 : BitVec 32) : Fin 3 → Nat :=
  let v693 : Index := Scalar.indexCast arg20
  let c12 : Index := 12#32
  let c0_227 : Index := 0#32
  ![v693.toNat, 12, 0]
def k0_off53 (arg20 : BitVec 32) : Fin 3 → Nat :=
  let v701 : Index := Scalar.indexCast arg20
  let c832 : Index := 832#32
  let c0_229 : Index := 0#32
  ![v701.toNat, 832, 0]
def k0_off54 (arg20 : BitVec 32) : Fin 3 → Nat :=
  let v718 : Index := Scalar.indexCast arg20
  let c13 : Index := 13#32
  let c0_234 : Index := 0#32
  ![v718.toNat, 13, 0]
def k0_off55 (arg20 : BitVec 32) : Fin 3 → Nat :=
  let v726 : Index := Scalar.indexCast arg20
  let c896_236 : Index := 896#32
  let c0_237 : Index := 0#32
  ![v726.toNat, 896, 0]
def k0_off56 (arg20 : BitVec 32) : Fin 3 → Nat :=
  let v743 : Index := Scalar.indexCast arg20
  let c14 : Index := 14#32
  let c0_242 : Index := 0#32
  ![v743.toNat, 14, 0]
def k0_off57 (arg20 : BitVec 32) : Fin 3 → Nat :=
  let v751 : Index := Scalar.indexCast arg20
  let c960 : Index := 960#32
  let c0_244 : Index := 0#32
  ![v751.toNat, 960, 0]
def k0_off58 (arg20 : BitVec 32) : Fin 3 → Nat :=
  let v768 : Index := Scalar.indexCast arg20
  let c15 : Index := 15#32
  let c0_249 : Index := 0#32
  ![v768.toNat, 15, 0]

def k0_chk6_0 (v1_1 : BitVec 32) (k0_t4 : Fin (k0_t4_loop v1_1).trips) (arg20 : BitVec 32) (v75 : BitVec 32) (v80 : BitVec 32) : Prop :=
  (∀ (k0_h2 : k0_cond2 v1_1 k0_t4 v75 v80 = 1#1), ∀ a, (k0_off16 arg20) a + S1.size a ≤ S2.size a) ∧
  (∀ (k0_h2 : k0_cond2 v1_1 k0_t4 v75 v80 = 1#1), ∀ a, (k0_off17 arg20) a + S1x1024x1024.size a ≤ S2x1024x1024.size a) ∧
  (∀ (k0_h2 : k0_cond2 v1_1 k0_t4 v75 v80 = 1#1), ∀ a, (k0_off18 v75) a + S1x1024x1024.size a ≤ S16x1024x4096.size a) ∧
  (∀ (k0_h2 : k0_cond2 v1_1 k0_t4 v75 v80 = 1#1), ∀ (hinb : ∀ a, (k0_off18 v75) a + S1x1024x1024.size a ≤ S16x1024x4096.size a), (Rect.unit (s := S16x1024x4096) (k0_off18 v75) S1x1024x1024.size hinb).WholeWords (EltTy.packing .i8)) ∧
  (∀ (k0_h2 : k0_cond2 v1_1 k0_t4 v75 v80 = 1#1), ∀ (hinb : ∀ a, (k0_off17 arg20) a + S1x1024x1024.size a ≤ S2x1024x1024.size a), (Rect.unit (s := S2x1024x1024) (k0_off17 arg20) S1x1024x1024.size hinb).WholeWords (EltTy.packing .i8)) ∧
  (∀ (k0_h2 : k0_cond2 v1_1 k0_t4 v75 v80 = 1#1), ∀ a, (k0_off19 arg20) a + S1x16x1024.size a ≤ S2x16x1024.size a) ∧
  (∀ (k0_h2 : k0_cond2 v1_1 k0_t4 v75 v80 = 1#1), ∀ a, (k0_off20 v75) a + S1x16x1024.size a ≤ S16x16x4096.size a) ∧
  (∀ (k0_h2 : k0_cond2 v1_1 k0_t4 v75 v80 = 1#1), ∀ (hinb : ∀ a, (k0_off20 v75) a + S1x16x1024.size a ≤ S16x16x4096.size a), (Rect.unit (s := S16x16x4096) (k0_off20 v75) S1x16x1024.size hinb).WholeWords (EltTy.packing .bf16)) ∧
  (∀ (k0_h2 : k0_cond2 v1_1 k0_t4 v75 v80 = 1#1), ∀ (hinb : ∀ a, (k0_off19 arg20) a + S1x16x1024.size a ≤ S2x16x1024.size a), (Rect.unit (s := S2x16x1024) (k0_off19 arg20) S1x16x1024.size hinb).WholeWords (EltTy.packing .bf16)) ∧
  (∀ (k0_h2 : k0_cond2 v1_1 k0_t4 v75 v80 = 1#1), ∀ a, (k0_off27 arg20) a + S1x64x1024.size a ≤ S2x1024x1024.size a) ∧
  (∀ (k0_h2 : k0_cond2 v1_1 k0_t4 v75 v80 = 1#1), ∀ a, (k0_off28 arg20) a + S1x1x1024.size a ≤ S2x16x1024.size a) ∧
  (∀ (k0_h2 : k0_cond2 v1_1 k0_t4 v75 v80 = 1#1), ∀ a, (k0_off29 arg20) a + S1x64x1024.size a ≤ S2x1024x1024.size a) ∧
  (∀ (k0_h2 : k0_cond2 v1_1 k0_t4 v75 v80 = 1#1), ∀ a, (k0_off30 arg20) a + S1x1x1024.size a ≤ S2x16x1024.size a) ∧
  (∀ (k0_h2 : k0_cond2 v1_1 k0_t4 v75 v80 = 1#1), ∀ a, (k0_off31 arg20) a + S1x64x1024.size a ≤ S2x1024x1024.size a) ∧
  (∀ (k0_h2 : k0_cond2 v1_1 k0_t4 v75 v80 = 1#1), ∀ a, (k0_off32 arg20) a + S1x1x1024.size a ≤ S2x16x1024.size a) ∧
  (∀ (k0_h2 : k0_cond2 v1_1 k0_t4 v75 v80 = 1#1), ∀ a, (k0_off33 arg20) a + S1x64x1024.size a ≤ S2x1024x1024.size a) ∧
  (∀ (k0_h2 : k0_cond2 v1_1 k0_t4 v75 v80 = 1#1), ∀ a, (k0_off34 arg20) a + S1x1x1024.size a ≤ S2x16x1024.size a) ∧
  (∀ (k0_h2 : k0_cond2 v1_1 k0_t4 v75 v80 = 1#1), ∀ a, (k0_off35 arg20) a + S1x64x1024.size a ≤ S2x1024x1024.size a) ∧
  (∀ (k0_h2 : k0_cond2 v1_1 k0_t4 v75 v80 = 1#1), ∀ a, (k0_off36 arg20) a + S1x1x1024.size a ≤ S2x16x1024.size a) ∧
  (∀ (k0_h2 : k0_cond2 v1_1 k0_t4 v75 v80 = 1#1), ∀ a, (k0_off37 arg20) a + S1x64x1024.size a ≤ S2x1024x1024.size a) ∧
  (∀ (k0_h2 : k0_cond2 v1_1 k0_t4 v75 v80 = 1#1), ∀ a, (k0_off38 arg20) a + S1x1x1024.size a ≤ S2x16x1024.size a) ∧
  (∀ (k0_h2 : k0_cond2 v1_1 k0_t4 v75 v80 = 1#1), ∀ a, (k0_off39 arg20) a + S1x64x1024.size a ≤ S2x1024x1024.size a) ∧
  (∀ (k0_h2 : k0_cond2 v1_1 k0_t4 v75 v80 = 1#1), ∀ a, (k0_off40 arg20) a + S1x1x1024.size a ≤ S2x16x1024.size a) ∧
  (∀ (k0_h2 : k0_cond2 v1_1 k0_t4 v75 v80 = 1#1), ∀ a, (k0_off41 arg20) a + S1x64x1024.size a ≤ S2x1024x1024.size a) ∧
  (∀ (k0_h2 : k0_cond2 v1_1 k0_t4 v75 v80 = 1#1), ∀ a, (k0_off42 arg20) a + S1x1x1024.size a ≤ S2x16x1024.size a) ∧
  (∀ (k0_h2 : k0_cond2 v1_1 k0_t4 v75 v80 = 1#1), ∀ a, (k0_off43 arg20) a + S1x64x1024.size a ≤ S2x1024x1024.size a) ∧
  (∀ (k0_h2 : k0_cond2 v1_1 k0_t4 v75 v80 = 1#1), ∀ a, (k0_off44 arg20) a + S1x1x1024.size a ≤ S2x16x1024.size a) ∧
  (∀ (k0_h2 : k0_cond2 v1_1 k0_t4 v75 v80 = 1#1), ∀ a, (k0_off45 arg20) a + S1x64x1024.size a ≤ S2x1024x1024.size a) ∧
  (∀ (k0_h2 : k0_cond2 v1_1 k0_t4 v75 v80 = 1#1), ∀ a, (k0_off46 arg20) a + S1x1x1024.size a ≤ S2x16x1024.size a) ∧
  (∀ (k0_h2 : k0_cond2 v1_1 k0_t4 v75 v80 = 1#1), ∀ a, (k0_off47 arg20) a + S1x64x1024.size a ≤ S2x1024x1024.size a) ∧
  (∀ (k0_h2 : k0_cond2 v1_1 k0_t4 v75 v80 = 1#1), ∀ a, (k0_off48 arg20) a + S1x1x1024.size a ≤ S2x16x1024.size a) ∧
  (∀ (k0_h2 : k0_cond2 v1_1 k0_t4 v75 v80 = 1#1), ∀ a, (k0_off49 arg20) a + S1x64x1024.size a ≤ S2x1024x1024.size a)
def k0_chk6_1 (v1_1 : BitVec 32) (k0_t4 : Fin (k0_t4_loop v1_1).trips) (arg20 : BitVec 32) (v75 : BitVec 32) (v80 : BitVec 32) : Prop :=
  (∀ (k0_h2 : k0_cond2 v1_1 k0_t4 v75 v80 = 1#1), ∀ a, (k0_off50 arg20) a + S1x1x1024.size a ≤ S2x16x1024.size a) ∧
  (∀ (k0_h2 : k0_cond2 v1_1 k0_t4 v75 v80 = 1#1), ∀ a, (k0_off51 arg20) a + S1x64x1024.size a ≤ S2x1024x1024.size a) ∧
  (∀ (k0_h2 : k0_cond2 v1_1 k0_t4 v75 v80 = 1#1), ∀ a, (k0_off52 arg20) a + S1x1x1024.size a ≤ S2x16x1024.size a) ∧
  (∀ (k0_h2 : k0_cond2 v1_1 k0_t4 v75 v80 = 1#1), ∀ a, (k0_off53 arg20) a + S1x64x1024.size a ≤ S2x1024x1024.size a) ∧
  (∀ (k0_h2 : k0_cond2 v1_1 k0_t4 v75 v80 = 1#1), ∀ a, (k0_off54 arg20) a + S1x1x1024.size a ≤ S2x16x1024.size a) ∧
  (∀ (k0_h2 : k0_cond2 v1_1 k0_t4 v75 v80 = 1#1), ∀ a, (k0_off55 arg20) a + S1x64x1024.size a ≤ S2x1024x1024.size a) ∧
  (∀ (k0_h2 : k0_cond2 v1_1 k0_t4 v75 v80 = 1#1), ∀ a, (k0_off56 arg20) a + S1x1x1024.size a ≤ S2x16x1024.size a) ∧
  (∀ (k0_h2 : k0_cond2 v1_1 k0_t4 v75 v80 = 1#1), ∀ a, (k0_off57 arg20) a + S1x64x1024.size a ≤ S2x1024x1024.size a) ∧
  (∀ (k0_h2 : k0_cond2 v1_1 k0_t4 v75 v80 = 1#1), ∀ a, (k0_off58 arg20) a + S1x1x1024.size a ≤ S2x16x1024.size a)
def k0_chk6 (v1_1 : BitVec 32) (k0_t4 : Fin (k0_t4_loop v1_1).trips) (arg20 : BitVec 32) (v75 : BitVec 32) (v80 : BitVec 32) : Prop :=
  k0_chk6_0 v1_1 k0_t4 arg20 v75 v80 ∧
  k0_chk6_1 v1_1 k0_t4 arg20 v75 v80
theorem k0_off16_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off16 arg20) a + S1.size a ≤ S2.size a := fun v1_1 k0_t4 arg20 v75 v80 k0_hw6 k0_h2 => k0_hw6.1.1 k0_h2
theorem k0_off17_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off17 arg20) a + S1x1024x1024.size a ≤ S2x1024x1024.size a := fun v1_1 k0_t4 arg20 v75 v80 k0_hw6 k0_h2 => k0_hw6.1.2.1 k0_h2
theorem k0_off18_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off18 v75) a + S1x1024x1024.size a ≤ S16x1024x4096.size a := fun v1_1 k0_t4 arg20 v75 v80 k0_hw6 k0_h2 => k0_hw6.1.2.2.1 k0_h2
theorem k0_off18_wordsi8 : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), (Rect.unit (s := S16x1024x4096) (k0_off18 v75) S1x1024x1024.size (k0_off18_inb v1_1 k0_t4 arg20 v75 v80 k0_hw6 k0_h2)).WholeWords (EltTy.packing .i8) := fun v1_1 k0_t4 arg20 v75 v80 k0_hw6 k0_h2 => k0_hw6.1.2.2.2.1 k0_h2 (k0_off18_inb v1_1 k0_t4 arg20 v75 v80 k0_hw6 k0_h2)
theorem k0_off17_wordsi8 : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), (Rect.unit (s := S2x1024x1024) (k0_off17 arg20) S1x1024x1024.size (k0_off17_inb v1_1 k0_t4 arg20 v75 v80 k0_hw6 k0_h2)).WholeWords (EltTy.packing .i8) := fun v1_1 k0_t4 arg20 v75 v80 k0_hw6 k0_h2 => k0_hw6.1.2.2.2.2.1 k0_h2 (k0_off17_inb v1_1 k0_t4 arg20 v75 v80 k0_hw6 k0_h2)
theorem k0_off19_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off19 arg20) a + S1x16x1024.size a ≤ S2x16x1024.size a := fun v1_1 k0_t4 arg20 v75 v80 k0_hw6 k0_h2 => k0_hw6.1.2.2.2.2.2.1 k0_h2
theorem k0_off20_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off20 v75) a + S1x16x1024.size a ≤ S16x16x4096.size a := fun v1_1 k0_t4 arg20 v75 v80 k0_hw6 k0_h2 => k0_hw6.1.2.2.2.2.2.2.1 k0_h2
theorem k0_off20_wordsbf16 : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), (Rect.unit (s := S16x16x4096) (k0_off20 v75) S1x16x1024.size (k0_off20_inb v1_1 k0_t4 arg20 v75 v80 k0_hw6 k0_h2)).WholeWords (EltTy.packing .bf16) := fun v1_1 k0_t4 arg20 v75 v80 k0_hw6 k0_h2 => k0_hw6.1.2.2.2.2.2.2.2.1 k0_h2 (k0_off20_inb v1_1 k0_t4 arg20 v75 v80 k0_hw6 k0_h2)
theorem k0_off19_wordsbf16 : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), (Rect.unit (s := S2x16x1024) (k0_off19 arg20) S1x16x1024.size (k0_off19_inb v1_1 k0_t4 arg20 v75 v80 k0_hw6 k0_h2)).WholeWords (EltTy.packing .bf16) := fun v1_1 k0_t4 arg20 v75 v80 k0_hw6 k0_h2 => k0_hw6.1.2.2.2.2.2.2.2.2.1 k0_h2 (k0_off19_inb v1_1 k0_t4 arg20 v75 v80 k0_hw6 k0_h2)
theorem k0_off27_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off27 arg20) a + S1x64x1024.size a ≤ S2x1024x1024.size a := fun v1_1 k0_t4 arg20 v75 v80 k0_hw6 k0_h2 => k0_hw6.1.2.2.2.2.2.2.2.2.2.1 k0_h2
theorem k0_off28_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off28 arg20) a + S1x1x1024.size a ≤ S2x16x1024.size a := fun v1_1 k0_t4 arg20 v75 v80 k0_hw6 k0_h2 => k0_hw6.1.2.2.2.2.2.2.2.2.2.2.1 k0_h2
theorem k0_off29_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off29 arg20) a + S1x64x1024.size a ≤ S2x1024x1024.size a := fun v1_1 k0_t4 arg20 v75 v80 k0_hw6 k0_h2 => k0_hw6.1.2.2.2.2.2.2.2.2.2.2.2.1 k0_h2
theorem k0_off30_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off30 arg20) a + S1x1x1024.size a ≤ S2x16x1024.size a := fun v1_1 k0_t4 arg20 v75 v80 k0_hw6 k0_h2 => k0_hw6.1.2.2.2.2.2.2.2.2.2.2.2.2.1 k0_h2
theorem k0_off31_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off31 arg20) a + S1x64x1024.size a ≤ S2x1024x1024.size a := fun v1_1 k0_t4 arg20 v75 v80 k0_hw6 k0_h2 => k0_hw6.1.2.2.2.2.2.2.2.2.2.2.2.2.2.1 k0_h2
theorem k0_off32_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off32 arg20) a + S1x1x1024.size a ≤ S2x16x1024.size a := fun v1_1 k0_t4 arg20 v75 v80 k0_hw6 k0_h2 => k0_hw6.1.2.2.2.2.2.2.2.2.2.2.2.2.2.2.1 k0_h2
theorem k0_off33_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off33 arg20) a + S1x64x1024.size a ≤ S2x1024x1024.size a := fun v1_1 k0_t4 arg20 v75 v80 k0_hw6 k0_h2 => k0_hw6.1.2.2.2.2.2.2.2.2.2.2.2.2.2.2.2.1 k0_h2
theorem k0_off34_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off34 arg20) a + S1x1x1024.size a ≤ S2x16x1024.size a := fun v1_1 k0_t4 arg20 v75 v80 k0_hw6 k0_h2 => k0_hw6.1.2.2.2.2.2.2.2.2.2.2.2.2.2.2.2.2.1 k0_h2
theorem k0_off35_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off35 arg20) a + S1x64x1024.size a ≤ S2x1024x1024.size a := fun v1_1 k0_t4 arg20 v75 v80 k0_hw6 k0_h2 => k0_hw6.1.2.2.2.2.2.2.2.2.2.2.2.2.2.2.2.2.2.1 k0_h2
theorem k0_off36_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off36 arg20) a + S1x1x1024.size a ≤ S2x16x1024.size a := fun v1_1 k0_t4 arg20 v75 v80 k0_hw6 k0_h2 => k0_hw6.1.2.2.2.2.2.2.2.2.2.2.2.2.2.2.2.2.2.2.1 k0_h2
theorem k0_off37_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off37 arg20) a + S1x64x1024.size a ≤ S2x1024x1024.size a := fun v1_1 k0_t4 arg20 v75 v80 k0_hw6 k0_h2 => k0_hw6.1.2.2.2.2.2.2.2.2.2.2.2.2.2.2.2.2.2.2.2.1 k0_h2
theorem k0_off38_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off38 arg20) a + S1x1x1024.size a ≤ S2x16x1024.size a := fun v1_1 k0_t4 arg20 v75 v80 k0_hw6 k0_h2 => k0_hw6.1.2.2.2.2.2.2.2.2.2.2.2.2.2.2.2.2.2.2.2.2.1 k0_h2
theorem k0_off39_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off39 arg20) a + S1x64x1024.size a ≤ S2x1024x1024.size a := fun v1_1 k0_t4 arg20 v75 v80 k0_hw6 k0_h2 => k0_hw6.1.2.2.2.2.2.2.2.2.2.2.2.2.2.2.2.2.2.2.2.2.2.1 k0_h2
theorem k0_off40_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off40 arg20) a + S1x1x1024.size a ≤ S2x16x1024.size a := fun v1_1 k0_t4 arg20 v75 v80 k0_hw6 k0_h2 => k0_hw6.1.2.2.2.2.2.2.2.2.2.2.2.2.2.2.2.2.2.2.2.2.2.2.1 k0_h2
theorem k0_off41_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off41 arg20) a + S1x64x1024.size a ≤ S2x1024x1024.size a := fun v1_1 k0_t4 arg20 v75 v80 k0_hw6 k0_h2 => k0_hw6.1.2.2.2.2.2.2.2.2.2.2.2.2.2.2.2.2.2.2.2.2.2.2.2.1 k0_h2
theorem k0_off42_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off42 arg20) a + S1x1x1024.size a ≤ S2x16x1024.size a := fun v1_1 k0_t4 arg20 v75 v80 k0_hw6 k0_h2 => k0_hw6.1.2.2.2.2.2.2.2.2.2.2.2.2.2.2.2.2.2.2.2.2.2.2.2.2.1 k0_h2
theorem k0_off43_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off43 arg20) a + S1x64x1024.size a ≤ S2x1024x1024.size a := fun v1_1 k0_t4 arg20 v75 v80 k0_hw6 k0_h2 => k0_hw6.1.2.2.2.2.2.2.2.2.2.2.2.2.2.2.2.2.2.2.2.2.2.2.2.2.2.1 k0_h2
theorem k0_off44_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off44 arg20) a + S1x1x1024.size a ≤ S2x16x1024.size a := fun v1_1 k0_t4 arg20 v75 v80 k0_hw6 k0_h2 => k0_hw6.1.2.2.2.2.2.2.2.2.2.2.2.2.2.2.2.2.2.2.2.2.2.2.2.2.2.2.1 k0_h2
theorem k0_off45_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off45 arg20) a + S1x64x1024.size a ≤ S2x1024x1024.size a := fun v1_1 k0_t4 arg20 v75 v80 k0_hw6 k0_h2 => k0_hw6.1.2.2.2.2.2.2.2.2.2.2.2.2.2.2.2.2.2.2.2.2.2.2.2.2.2.2.2.1 k0_h2
theorem k0_off46_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off46 arg20) a + S1x1x1024.size a ≤ S2x16x1024.size a := fun v1_1 k0_t4 arg20 v75 v80 k0_hw6 k0_h2 => k0_hw6.1.2.2.2.2.2.2.2.2.2.2.2.2.2.2.2.2.2.2.2.2.2.2.2.2.2.2.2.2.1 k0_h2
theorem k0_off47_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off47 arg20) a + S1x64x1024.size a ≤ S2x1024x1024.size a := fun v1_1 k0_t4 arg20 v75 v80 k0_hw6 k0_h2 => k0_hw6.1.2.2.2.2.2.2.2.2.2.2.2.2.2.2.2.2.2.2.2.2.2.2.2.2.2.2.2.2.2.1 k0_h2
theorem k0_off48_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off48 arg20) a + S1x1x1024.size a ≤ S2x16x1024.size a := fun v1_1 k0_t4 arg20 v75 v80 k0_hw6 k0_h2 => k0_hw6.1.2.2.2.2.2.2.2.2.2.2.2.2.2.2.2.2.2.2.2.2.2.2.2.2.2.2.2.2.2.2.1 k0_h2
theorem k0_off49_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off49 arg20) a + S1x64x1024.size a ≤ S2x1024x1024.size a := fun v1_1 k0_t4 arg20 v75 v80 k0_hw6 k0_h2 => k0_hw6.1.2.2.2.2.2.2.2.2.2.2.2.2.2.2.2.2.2.2.2.2.2.2.2.2.2.2.2.2.2.2.2 k0_h2
theorem k0_off50_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off50 arg20) a + S1x1x1024.size a ≤ S2x16x1024.size a := fun v1_1 k0_t4 arg20 v75 v80 k0_hw6 k0_h2 => k0_hw6.2.1 k0_h2
theorem k0_off51_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off51 arg20) a + S1x64x1024.size a ≤ S2x1024x1024.size a := fun v1_1 k0_t4 arg20 v75 v80 k0_hw6 k0_h2 => k0_hw6.2.2.1 k0_h2
theorem k0_off52_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off52 arg20) a + S1x1x1024.size a ≤ S2x16x1024.size a := fun v1_1 k0_t4 arg20 v75 v80 k0_hw6 k0_h2 => k0_hw6.2.2.2.1 k0_h2
theorem k0_off53_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off53 arg20) a + S1x64x1024.size a ≤ S2x1024x1024.size a := fun v1_1 k0_t4 arg20 v75 v80 k0_hw6 k0_h2 => k0_hw6.2.2.2.2.1 k0_h2
theorem k0_off54_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off54 arg20) a + S1x1x1024.size a ≤ S2x16x1024.size a := fun v1_1 k0_t4 arg20 v75 v80 k0_hw6 k0_h2 => k0_hw6.2.2.2.2.2.1 k0_h2
theorem k0_off55_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off55 arg20) a + S1x64x1024.size a ≤ S2x1024x1024.size a := fun v1_1 k0_t4 arg20 v75 v80 k0_hw6 k0_h2 => k0_hw6.2.2.2.2.2.2.1 k0_h2
theorem k0_off56_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off56 arg20) a + S1x1x1024.size a ≤ S2x16x1024.size a := fun v1_1 k0_t4 arg20 v75 v80 k0_hw6 k0_h2 => k0_hw6.2.2.2.2.2.2.2.1 k0_h2
theorem k0_off57_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off57 arg20) a + S1x64x1024.size a ≤ S2x1024x1024.size a := fun v1_1 k0_t4 arg20 v75 v80 k0_hw6 k0_h2 => k0_hw6.2.2.2.2.2.2.2.2.1 k0_h2
theorem k0_off58_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off58 arg20) a + S1x1x1024.size a ≤ S2x16x1024.size a := fun v1_1 k0_t4 arg20 v75 v80 k0_hw6 k0_h2 => k0_hw6.2.2.2.2.2.2.2.2.2 k0_h2

def k0_off59 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let v89 : Index := Scalar.indexCast arg19
  ![v89.toNat]
def k0_mult3 (v90 : BitVec 32) : BitVec 32 :=
  let c97792_i32_53 : BitVec 32 := 97792#32
  let v91 : BitVec 32 := Scalar.minsi v90 c97792_i32_53
  v91

def k0_off60 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  ![v73.toNat]
def k0_off61 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let c0_i32_61 : BitVec 32 := 0#32
  let c0_i32_62 : BitVec 32 := 0#32
  ![v73.toNat, 0, 0]
def k0_off62 (v90 : BitVec 32) : Fin 2 → Nat :=
  let c97792_i32_53 : BitVec 32 := 97792#32
  let v91 : BitVec 32 := Scalar.minsi v90 c97792_i32_53
  let v92 : BitVec 32 := v91
  let c0_i32_63 : BitVec 32 := 0#32
  ![v92.toNat, 0]
def k0_off63 (v1_1 : BitVec 32) (k0_t4 : Fin (k0_t4_loop v1_1).trips) : Fin 4 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let c0_i32_64 : BitVec 32 := 0#32
  let c0_i32_65 : BitVec 32 := 0#32
  let c0_i32_66 : BitVec 32 := 0#32
  ![v73.toNat, 0, 0, 0]
def k0_off64 (v90 : BitVec 32) : Fin 3 → Nat :=
  let c97792_i32_53 : BitVec 32 := 97792#32
  let v91 : BitVec 32 := Scalar.minsi v90 c97792_i32_53
  let v92 : BitVec 32 := v91
  let c0_i32_55 : BitVec 32 := 0#32
  let v94 : BitVec 1 := Scalar.cmpi .sgt v92 c0_i32_55
  let v95 : BitVec 32 := Scalar.extui v94
  let c0_i32_56 : BitVec 32 := 0#32
  let v96 : BitVec 1 := Scalar.cmpi .slt v92 c0_i32_56
  let v97 : BitVec 32 := Scalar.extui v96
  let v98 : BitVec 32 := Scalar.subi v95 v97
  let c128_i32_54 : BitVec 32 := 128#32
  let c0_i32_57 : BitVec 32 := 0#32
  let v99 : BitVec 1 := Scalar.cmpi .sgt c128_i32_54 c0_i32_57
  let v100 : BitVec 32 := Scalar.extui v99
  let c0_i32_58 : BitVec 32 := 0#32
  let v101 : BitVec 1 := Scalar.cmpi .slt c128_i32_54 c0_i32_58
  let v102 : BitVec 32 := Scalar.extui v101
  let v103 : BitVec 32 := Scalar.subi v100 v102
  let v104 : BitVec 1 := Scalar.cmpi .ne v98 v103
  let v105 : BitVec 32 := Scalar.remsi v92 c128_i32_54
  let c0_i32_59 : BitVec 32 := 0#32
  let v106 : BitVec 1 := Scalar.cmpi .ne v105 c0_i32_59
  let v107 : BitVec 1 := Scalar.andi v104 v106
  let v93 : BitVec 32 := Scalar.divsi v92 c128_i32_54
  let c1_i32_60 : BitVec 32 := 1#32
  let v108 : BitVec 32 := Scalar.subi v93 c1_i32_60
  let v109 : BitVec 32 := Scalar.select v107 v108 v93
  let c0_i32_67 : BitVec 32 := 0#32
  let c0_i32_68 : BitVec 32 := 0#32
  ![v109.toNat, 0, 0]

def k0_chk8 (v90 : BitVec 32) : Prop :=
  (128 ∣ (k0_mult3 v90).toNat) ∧
  (∀ a, (k0_off62 v90) a + S512x2048.size a ≤ S98304x2048.size a) ∧
  (∀ (hinb : ∀ a, (k0_off62 v90) a + S512x2048.size a ≤ S98304x2048.size a), (Rect.unit (s := S98304x2048) (k0_off62 v90) S512x2048.size hinb).WholeWords (EltTy.packing .fp8e4m3)) ∧
  (∀ a, (k0_off64 v90) a + S4x1x128.size a ≤ S768x1x128.size a)
theorem k0_mult3_dvd : ∀ (v90 : BitVec 32) (k0_hw8 : k0_chk8 v90), 128 ∣ (k0_mult3 v90).toNat := fun v90 k0_hw8 => k0_hw8.1
theorem k0_off62_inb : ∀ (v90 : BitVec 32) (k0_hw8 : k0_chk8 v90), ∀ a, (k0_off62 v90) a + S512x2048.size a ≤ S98304x2048.size a := fun v90 k0_hw8 => k0_hw8.2.1
theorem k0_off62_wordsfp8e4m3 : ∀ (v90 : BitVec 32) (k0_hw8 : k0_chk8 v90), (Rect.unit (s := S98304x2048) (k0_off62 v90) S512x2048.size (k0_off62_inb v90 k0_hw8)).WholeWords (EltTy.packing .fp8e4m3) := fun v90 k0_hw8 => k0_hw8.2.2.1 (k0_off62_inb v90 k0_hw8)
theorem k0_off64_inb : ∀ (v90 : BitVec 32) (k0_hw8 : k0_chk8 v90), ∀ a, (k0_off64 v90) a + S4x1x128.size a ≤ S768x1x128.size a := fun v90 k0_hw8 => k0_hw8.2.2.2

def k0_cond4 (v1_1 : BitVec 32) (k0_t4 : Fin (k0_t4_loop v1_1).trips) : BitVec 1 :=
  let c0_i32_33 : BitVec 32 := 0#32
  let c1_i32_36 : BitVec 32 := 1#32
  let arg19 : BitVec 32 := Scf.iv c0_i32_33 c1_i32_36 k0_t4
  let c2_i32_69 : BitVec 32 := 2#32
  let v120 : BitVec 1 := Scalar.cmpi .sge arg19 c2_i32_69
  let v121 : BitVec 32 := Scalar.extui v120
  let c0_i32_70 : BitVec 32 := 0#32
  let v122 : BitVec 1 := Scalar.cmpi .ne v121 c0_i32_70
  v122

def k0_off65 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let c2_i32_106 : BitVec 32 := 2#32
  let v359 : BitVec 32 := Scalar.subi arg19 c2_i32_106
  let v360 : Index := Scalar.indexCast v359
  ![v360.toNat]
def k0_mult4 (v361 : BitVec 32) : BitVec 32 :=
  let c97792_i32_107 : BitVec 32 := 97792#32
  let v362 : BitVec 32 := Scalar.minsi v361 c97792_i32_107
  v362

def k0_chk9 (v1_1 : BitVec 32) (k0_t4 : Fin (k0_t4_loop v1_1).trips) (v361 : BitVec 32) : Prop :=
  (∀ (k0_h4 : k0_cond4 v1_1 k0_t4 = 1#1), 128 ∣ (k0_mult4 v361).toNat)
theorem k0_mult4_dvd : ∀ (v1_1 : BitVec 32) (k0_t4 : Fin (k0_t4_loop v1_1).trips) (v361 : BitVec 32) (k0_hw9 : k0_chk9 v1_1 k0_t4 v361), ∀ (k0_h4 : k0_cond4 v1_1 k0_t4 = 1#1), 128 ∣ (k0_mult4 v361).toNat := fun v1_1 k0_t4 v361 k0_hw9 k0_h4 => k0_hw9 k0_h4

def k0_off66 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let c2_i32_106 : BitVec 32 := 2#32
  let v359 : BitVec 32 := Scalar.subi arg19 c2_i32_106
  let v364 : Index := Scalar.indexCast v359
  ![v364.toNat]
def k0_mult5 (v361 : BitVec 32) (v365 : BitVec 32) : BitVec 32 :=
  let c97792_i32_107 : BitVec 32 := 97792#32
  let v362 : BitVec 32 := Scalar.minsi v361 c97792_i32_107
  let v363 : BitVec 32 := v362
  let c1152_i32_108 : BitVec 32 := 1152#32
  let v366 : BitVec 32 := Scalar.muli v365 c1152_i32_108
  let v367 : BitVec 32 := Scalar.addi v363 v366
  let c8_i32_109 : BitVec 32 := 8#32
  let v368 : BitVec 32 := Scalar.muli v367 c8_i32_109
  v368

def k0_off67 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  ![v73.toNat]
def k0_off68 (v361 : BitVec 32) (v365 : BitVec 32) : Fin 2 → Nat :=
  let c97792_i32_107 : BitVec 32 := 97792#32
  let v362 : BitVec 32 := Scalar.minsi v361 c97792_i32_107
  let v363 : BitVec 32 := v362
  let c1152_i32_108 : BitVec 32 := 1152#32
  let v366 : BitVec 32 := Scalar.muli v365 c1152_i32_108
  let v367 : BitVec 32 := Scalar.addi v363 v366
  let c8_i32_109 : BitVec 32 := 8#32
  let v368 : BitVec 32 := Scalar.muli v367 c8_i32_109
  let v369 : BitVec 32 := v368
  let c0_i32_110 : BitVec 32 := 0#32
  ![v369.toNat, 0]

def k0_chk10 (v1_1 : BitVec 32) (k0_t4 : Fin (k0_t4_loop v1_1).trips) (v361 : BitVec 32) (v365 : BitVec 32) : Prop :=
  (∀ (k0_h4 : k0_cond4 v1_1 k0_t4 = 1#1), 8 ∣ (k0_mult5 v361 v365).toNat) ∧
  (∀ (k0_h4 : k0_cond4 v1_1 k0_t4 = 1#1), ∀ a, (k0_off68 v361 v365) a + S4096x128.size a ≤ S933888x128.size a)
theorem k0_mult5_dvd : ∀ (v1_1 : BitVec 32) (k0_t4 : Fin (k0_t4_loop v1_1).trips) (v361 : BitVec 32) (v365 : BitVec 32) (k0_hw10 : k0_chk10 v1_1 k0_t4 v361 v365), ∀ (k0_h4 : k0_cond4 v1_1 k0_t4 = 1#1), 8 ∣ (k0_mult5 v361 v365).toNat := fun v1_1 k0_t4 v361 v365 k0_hw10 k0_h4 => k0_hw10.1 k0_h4
theorem k0_off68_inb : ∀ (v1_1 : BitVec 32) (k0_t4 : Fin (k0_t4_loop v1_1).trips) (v361 : BitVec 32) (v365 : BitVec 32) (k0_hw10 : k0_chk10 v1_1 k0_t4 v361 v365), ∀ (k0_h4 : k0_cond4 v1_1 k0_t4 = 1#1), ∀ a, (k0_off68 v361 v365) a + S4096x128.size a ≤ S933888x128.size a := fun v1_1 k0_t4 v361 v365 k0_hw10 k0_h4 => k0_hw10.2 k0_h4

def k0_off69 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let c0_i32_111 : BitVec 32 := 0#32
  let c0_i32_112 : BitVec 32 := 0#32
  ![v73.toNat, 0, 0]
def k0_off70 (v1_1 : BitVec 32) (k0_t4 : Fin (k0_t4_loop v1_1).trips) : Fin 4 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v123 : Index := Scalar.indexCast v73
  let c0_71 : Index := 0#32
  let c0_72 : Index := 0#32
  let c0_73 : Index := 0#32
  ![v123.toNat, 0, 0, 0]
def k0_off71 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v130 : Index := Scalar.indexCast v73
  let c0_74 : Index := 0#32
  let c0_75 : Index := 0#32
  ![v130.toNat, 0, 0]
def k0_off72 (v1_1 : BitVec 32) (k0_t4 : Fin (k0_t4_loop v1_1).trips) : Fin 4 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v167 : Index := Scalar.indexCast v73
  let c1 : Index := 1#32
  let c0_76 : Index := 0#32
  let c0_77 : Index := 0#32
  ![v167.toNat, 1, 0, 0]
def k0_off73 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v174 : Index := Scalar.indexCast v73
  let c128 : Index := 128#32
  let c0_78 : Index := 0#32
  ![v174.toNat, 128, 0]
def k0_off74 (v1_1 : BitVec 32) (k0_t4 : Fin (k0_t4_loop v1_1).trips) : Fin 4 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v211 : Index := Scalar.indexCast v73
  let c2 : Index := 2#32
  let c0_79 : Index := 0#32
  let c0_80 : Index := 0#32
  ![v211.toNat, 2, 0, 0]
def k0_off75 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v218 : Index := Scalar.indexCast v73
  let c256 : Index := 256#32
  let c0_81 : Index := 0#32
  ![v218.toNat, 256, 0]
def k0_off76 (v1_1 : BitVec 32) (k0_t4 : Fin (k0_t4_loop v1_1).trips) : Fin 4 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v255 : Index := Scalar.indexCast v73
  let c3 : Index := 3#32
  let c0_82 : Index := 0#32
  let c0_83 : Index := 0#32
  ![v255.toNat, 3, 0, 0]
def k0_off77 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v262 : Index := Scalar.indexCast v73
  let c384 : Index := 384#32
  let c0_84 : Index := 0#32
  ![v262.toNat, 384, 0]
def k0_off78 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v303 : Index := Scalar.indexCast v73
  let c0_87 : Index := 0#32
  let c0_88 : Index := 0#32
  ![v303.toNat, 0, 0]
def k0_off79 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v308 : Index := Scalar.indexCast v73
  let c1_89 : Index := 1#32
  let c0_90 : Index := 0#32
  ![v308.toNat, 1, 0]
def k0_off80 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v313 : Index := Scalar.indexCast v73
  let c2_91 : Index := 2#32
  let c0_92 : Index := 0#32
  ![v313.toNat, 2, 0]
def k0_off81 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v318 : Index := Scalar.indexCast v73
  let c3_93 : Index := 3#32
  let c0_94 : Index := 0#32
  ![v318.toNat, 3, 0]
def k0_off82 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v323 : Index := Scalar.indexCast v73
  let c4 : Index := 4#32
  let c0_95 : Index := 0#32
  ![v323.toNat, 4, 0]
def k0_off83 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v328 : Index := Scalar.indexCast v73
  let c5 : Index := 5#32
  let c0_96 : Index := 0#32
  ![v328.toNat, 5, 0]
def k0_off84 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v333 : Index := Scalar.indexCast v73
  let c6 : Index := 6#32
  let c0_97 : Index := 0#32
  ![v333.toNat, 6, 0]
def k0_off85 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let v338 : Index := Scalar.indexCast v73
  let c7 : Index := 7#32
  let c0_98 : Index := 0#32
  ![v338.toNat, 7, 0]
def k0_off86 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let v342 : Index := Scalar.indexCast arg19
  ![v342.toNat]
def k0_mult6 (v343 : BitVec 32) : BitVec 32 :=
  let c97792_i32_99 : BitVec 32 := 97792#32
  let v344 : BitVec 32 := Scalar.minsi v343 c97792_i32_99
  v344

def k0_chk11 (v343 : BitVec 32) : Prop :=
  (128 ∣ (k0_mult6 v343).toNat)
theorem k0_mult6_dvd : ∀ (v343 : BitVec 32) (k0_hw11 : k0_chk11 v343), 128 ∣ (k0_mult6 v343).toNat := fun v343 k0_hw11 => k0_hw11

def k0_off87 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let v346 : Index := Scalar.indexCast arg19
  ![v346.toNat]
def k0_mult7 (v343 : BitVec 32) (v347 : BitVec 32) : BitVec 32 :=
  let c97792_i32_99 : BitVec 32 := 97792#32
  let v344 : BitVec 32 := Scalar.minsi v343 c97792_i32_99
  let v345 : BitVec 32 := v344
  let c1152_i32_100 : BitVec 32 := 1152#32
  let v348 : BitVec 32 := Scalar.muli v347 c1152_i32_100
  let v349 : BitVec 32 := Scalar.addi v345 v348
  let c8_i32_101 : BitVec 32 := 8#32
  let v350 : BitVec 32 := Scalar.muli v349 c8_i32_101
  v350

def k0_off88 (v1_1 : BitVec 32) (k0_t4 : Fin (k0_t4_loop v1_1).trips) : Fin 1 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  ![v73.toNat]
def k0_off89 (v343 : BitVec 32) (v347 : BitVec 32) : Fin 2 → Nat :=
  let c97792_i32_99 : BitVec 32 := 97792#32
  let v344 : BitVec 32 := Scalar.minsi v343 c97792_i32_99
  let v345 : BitVec 32 := v344
  let c1152_i32_100 : BitVec 32 := 1152#32
  let v348 : BitVec 32 := Scalar.muli v347 c1152_i32_100
  let v349 : BitVec 32 := Scalar.addi v345 v348
  let c8_i32_101 : BitVec 32 := 8#32
  let v350 : BitVec 32 := Scalar.muli v349 c8_i32_101
  let v351 : BitVec 32 := v350
  let c0_i32_102 : BitVec 32 := 0#32
  ![v351.toNat, 0]

def k0_chk12 (v343 : BitVec 32) (v347 : BitVec 32) : Prop :=
  (8 ∣ (k0_mult7 v343 v347).toNat) ∧
  (∀ a, (k0_off89 v343 v347) a + S4096x128.size a ≤ S933888x128.size a)
theorem k0_mult7_dvd : ∀ (v343 : BitVec 32) (v347 : BitVec 32) (k0_hw12 : k0_chk12 v343 v347), 8 ∣ (k0_mult7 v343 v347).toNat := fun v343 v347 k0_hw12 => k0_hw12.1
theorem k0_off89_inb : ∀ (v343 : BitVec 32) (v347 : BitVec 32) (k0_hw12 : k0_chk12 v343 v347), ∀ a, (k0_off89 v343 v347) a + S4096x128.size a ≤ S933888x128.size a := fun v343 v347 k0_hw12 => k0_hw12.2

def k0_off90 (v1_1 : BitVec 32) (k0_t4 : Fin (k0_t4_loop v1_1).trips) : Fin 3 → Nat :=
  let c0_i32_33 : BitVec 32 := 0#32
  let c1_i32_36 : BitVec 32 := 1#32
  let arg19 : BitVec 32 := Scf.iv c0_i32_33 c1_i32_36 k0_t4
  let c2_i32_46 : BitVec 32 := 2#32
  let v73 : BitVec 32 := Scalar.remsi arg19 c2_i32_46
  let c0_i32_103 : BitVec 32 := 0#32
  let c0_i32_104 : BitVec 32 := 0#32
  ![v73.toNat, 0, 0]
@[reducible] def k0_t6_loop (v1_1 : BitVec 32) : Scf.Loop 32 :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let v46 : BitVec 32 := Scalar.addi c0_i32_33 v45
  let c1_i32_37 : BitVec 32 := 1#32
  ⟨v49, v46, c1_i32_37⟩
def k0_off91 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let v74 : Index := Scalar.indexCast arg19
  ![v74.toNat]
def k0_off92 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c1_i32_48 : BitVec 32 := 1#32
  let v77 : BitVec 32 := Scalar.subi arg19 c1_i32_48
  let c0_i32_49 : BitVec 32 := 0#32
  let v78 : BitVec 32 := Scalar.maxsi v77 c0_i32_49
  let v79 : Index := Scalar.indexCast v78
  ![v79.toNat]
def k0_off93 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c1_i32_106 : BitVec 32 := 1#32
  let v359 : BitVec 32 := Scalar.addi arg19 c1_i32_106
  let v361 : Index := Scalar.indexCast v359
  ![v361.toNat]
def k0_cond5 (v1_1 : BitVec 32) (k0_t6 : Fin (k0_t6_loop v1_1).trips) : BitVec 1 :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c1_i32_50 : BitVec 32 := 1#32
  let v83 : BitVec 32 := Scalar.addi arg19 c1_i32_50
  let v84 : BitVec 1 := Scalar.cmpi .slt v83 v1_1
  let v85 : BitVec 32 := Scalar.extui v84
  let c0_i32_51 : BitVec 32 := 0#32
  let v86 : BitVec 1 := Scalar.cmpi .ne v85 c0_i32_51
  v86

def k0_mult8 (v362 : BitVec 32) : BitVec 32 :=
  let c97792_i32_108 : BitVec 32 := 97792#32
  let v363 : BitVec 32 := Scalar.minsi v362 c97792_i32_108
  v363

def k0_off94 (v1_1 : BitVec 32) (k0_t6 : Fin (k0_t6_loop v1_1).trips) : Fin 1 → Nat :=
  let c1_i32_107 : BitVec 32 := 1#32
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v360 : BitVec 32 := Scalar.subi c1_i32_107 v73
  ![v360.toNat]
def k0_off95 (v1_1 : BitVec 32) (k0_t6 : Fin (k0_t6_loop v1_1).trips) : Fin 3 → Nat :=
  let c1_i32_107 : BitVec 32 := 1#32
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v360 : BitVec 32 := Scalar.subi c1_i32_107 v73
  let c0_i32_116 : BitVec 32 := 0#32
  let c0_i32_117 : BitVec 32 := 0#32
  ![v360.toNat, 0, 0]
def k0_off96 (v362 : BitVec 32) : Fin 2 → Nat :=
  let c97792_i32_108 : BitVec 32 := 97792#32
  let v363 : BitVec 32 := Scalar.minsi v362 c97792_i32_108
  let v364 : BitVec 32 := v363
  let c0_i32_118 : BitVec 32 := 0#32
  ![v364.toNat, 0]
def k0_off97 (v1_1 : BitVec 32) (k0_t6 : Fin (k0_t6_loop v1_1).trips) : Fin 4 → Nat :=
  let c1_i32_107 : BitVec 32 := 1#32
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v360 : BitVec 32 := Scalar.subi c1_i32_107 v73
  let c0_i32_119 : BitVec 32 := 0#32
  let c0_i32_120 : BitVec 32 := 0#32
  let c0_i32_121 : BitVec 32 := 0#32
  ![v360.toNat, 0, 0, 0]
def k0_off98 (v362 : BitVec 32) : Fin 3 → Nat :=
  let c97792_i32_108 : BitVec 32 := 97792#32
  let v363 : BitVec 32 := Scalar.minsi v362 c97792_i32_108
  let v364 : BitVec 32 := v363
  let c0_i32_110 : BitVec 32 := 0#32
  let v366 : BitVec 1 := Scalar.cmpi .sgt v364 c0_i32_110
  let v367 : BitVec 32 := Scalar.extui v366
  let c0_i32_111 : BitVec 32 := 0#32
  let v368 : BitVec 1 := Scalar.cmpi .slt v364 c0_i32_111
  let v369 : BitVec 32 := Scalar.extui v368
  let v370 : BitVec 32 := Scalar.subi v367 v369
  let c128_i32_109 : BitVec 32 := 128#32
  let c0_i32_112 : BitVec 32 := 0#32
  let v371 : BitVec 1 := Scalar.cmpi .sgt c128_i32_109 c0_i32_112
  let v372 : BitVec 32 := Scalar.extui v371
  let c0_i32_113 : BitVec 32 := 0#32
  let v373 : BitVec 1 := Scalar.cmpi .slt c128_i32_109 c0_i32_113
  let v374 : BitVec 32 := Scalar.extui v373
  let v375 : BitVec 32 := Scalar.subi v372 v374
  let v376 : BitVec 1 := Scalar.cmpi .ne v370 v375
  let v377 : BitVec 32 := Scalar.remsi v364 c128_i32_109
  let c0_i32_114 : BitVec 32 := 0#32
  let v378 : BitVec 1 := Scalar.cmpi .ne v377 c0_i32_114
  let v379 : BitVec 1 := Scalar.andi v376 v378
  let v365 : BitVec 32 := Scalar.divsi v364 c128_i32_109
  let c1_i32_115 : BitVec 32 := 1#32
  let v380 : BitVec 32 := Scalar.subi v365 c1_i32_115
  let v381 : BitVec 32 := Scalar.select v379 v380 v365
  let c0_i32_122 : BitVec 32 := 0#32
  let c0_i32_123 : BitVec 32 := 0#32
  ![v381.toNat, 0, 0]

def k0_chk13 (v1_1 : BitVec 32) (k0_t6 : Fin (k0_t6_loop v1_1).trips) (v362 : BitVec 32) : Prop :=
  (∀ (k0_h5 : k0_cond5 v1_1 k0_t6 = 1#1), 128 ∣ (k0_mult8 v362).toNat) ∧
  (∀ (k0_h5 : k0_cond5 v1_1 k0_t6 = 1#1), ∀ a, (k0_off96 v362) a + S512x2048.size a ≤ S98304x2048.size a) ∧
  (∀ (k0_h5 : k0_cond5 v1_1 k0_t6 = 1#1), ∀ (hinb : ∀ a, (k0_off96 v362) a + S512x2048.size a ≤ S98304x2048.size a), (Rect.unit (s := S98304x2048) (k0_off96 v362) S512x2048.size hinb).WholeWords (EltTy.packing .fp8e4m3)) ∧
  (∀ (k0_h5 : k0_cond5 v1_1 k0_t6 = 1#1), ∀ a, (k0_off98 v362) a + S4x1x128.size a ≤ S768x1x128.size a)
theorem k0_mult8_dvd : ∀ (v1_1 : BitVec 32) (k0_t6 : Fin (k0_t6_loop v1_1).trips) (v362 : BitVec 32) (k0_hw13 : k0_chk13 v1_1 k0_t6 v362), ∀ (k0_h5 : k0_cond5 v1_1 k0_t6 = 1#1), 128 ∣ (k0_mult8 v362).toNat := fun v1_1 k0_t6 v362 k0_hw13 k0_h5 => k0_hw13.1 k0_h5
theorem k0_off96_inb : ∀ (v1_1 : BitVec 32) (k0_t6 : Fin (k0_t6_loop v1_1).trips) (v362 : BitVec 32) (k0_hw13 : k0_chk13 v1_1 k0_t6 v362), ∀ (k0_h5 : k0_cond5 v1_1 k0_t6 = 1#1), ∀ a, (k0_off96 v362) a + S512x2048.size a ≤ S98304x2048.size a := fun v1_1 k0_t6 v362 k0_hw13 k0_h5 => k0_hw13.2.1 k0_h5
theorem k0_off96_wordsfp8e4m3 : ∀ (v1_1 : BitVec 32) (k0_t6 : Fin (k0_t6_loop v1_1).trips) (v362 : BitVec 32) (k0_hw13 : k0_chk13 v1_1 k0_t6 v362), ∀ (k0_h5 : k0_cond5 v1_1 k0_t6 = 1#1), (Rect.unit (s := S98304x2048) (k0_off96 v362) S512x2048.size (k0_off96_inb v1_1 k0_t6 v362 k0_hw13 k0_h5)).WholeWords (EltTy.packing .fp8e4m3) := fun v1_1 k0_t6 v362 k0_hw13 k0_h5 => k0_hw13.2.2.1 k0_h5 (k0_off96_inb v1_1 k0_t6 v362 k0_hw13 k0_h5)
theorem k0_off98_inb : ∀ (v1_1 : BitVec 32) (k0_t6 : Fin (k0_t6_loop v1_1).trips) (v362 : BitVec 32) (k0_hw13 : k0_chk13 v1_1 k0_t6 v362), ∀ (k0_h5 : k0_cond5 v1_1 k0_t6 = 1#1), ∀ a, (k0_off98 v362) a + S4x1x128.size a ≤ S768x1x128.size a := fun v1_1 k0_t6 v362 k0_hw13 k0_h5 => k0_hw13.2.2.2 k0_h5

def k0_off99 (arg20 : BitVec 32) : Fin 1 → Nat :=
  ![arg20.toNat]
def k0_cond6 (v1_1 : BitVec 32) (k0_t6 : Fin (k0_t6_loop v1_1).trips) (v75 : BitVec 32) (v80 : BitVec 32) : BitVec 1 :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c0_i32_47 : BitVec 32 := 0#32
  let v76 : BitVec 1 := Scalar.cmpi .eq arg19 c0_i32_47
  let v81 : BitVec 1 := Scalar.cmpi .ne v80 v75
  let v82 : BitVec 1 := Scalar.ori v76 v81
  let v87 : BitVec 32 := Scalar.extui v82
  let c0_i32_52 : BitVec 32 := 0#32
  let v88 : BitVec 1 := Scalar.cmpi .ne v87 c0_i32_52
  v88

def k0_off100 (arg20 : BitVec 32) : Fin 3 → Nat :=
  let c0_i32_106 : BitVec 32 := 0#32
  let c0_i32_107 : BitVec 32 := 0#32
  ![arg20.toNat, 0, 0]
def k0_off101 (v75 : BitVec 32) : Fin 3 → Nat :=
  let c0_i32_108 : BitVec 32 := 0#32
  let c3072_i32_109 : BitVec 32 := 3072#32
  ![v75.toNat, 0, 3072]
def k0_off102 (arg20 : BitVec 32) : Fin 3 → Nat :=
  let c0_i32_110 : BitVec 32 := 0#32
  let c0_i32_111 : BitVec 32 := 0#32
  ![arg20.toNat, 0, 0]
def k0_off103 (v75 : BitVec 32) : Fin 3 → Nat :=
  let c0_i32_112 : BitVec 32 := 0#32
  let c3072_i32_113 : BitVec 32 := 3072#32
  ![v75.toNat, 0, 3072]
@[reducible] def k0_t7_loop : Scf.Loop 32 :=
  let c0_i32_115 : BitVec 32 := 0#32
  let c16_i32_116 : BitVec 32 := 16#32
  let v371 : BitVec 32 := Scalar.addi c0_i32_115 c16_i32_116
  let c1_i32_117 : BitVec 32 := 1#32
  ⟨c0_i32_115, v371, c1_i32_117⟩
def k0_off104 (k0_t7 : Fin k0_t7_loop.trips) : Fin 1 → Nat :=
  let c15_i32_251 : BitVec 32 := 15#32
  let c0_i32_115 : BitVec 32 := 0#32
  let c1_i32_117 : BitVec 32 := 1#32
  let arg21 : BitVec 32 := Scf.iv c0_i32_115 c1_i32_117 k0_t7
  let v778 : BitVec 32 := Scalar.subi c15_i32_251 arg21
  let v779 : Index := Scalar.indexCast v778
  ![v779.toNat]
def k0_off105 (arg20 : BitVec 32) : Fin 1 → Nat :=
  let c1_i32_251 : BitVec 32 := 1#32
  let v776 : BitVec 32 := Scalar.subi c1_i32_251 arg20
  ![v776.toNat]
def k0_cond7 (v372 : BitVec 32) : BitVec 1 :=
  let c16_i32_119 : BitVec 32 := 16#32
  let v373 : BitVec 1 := Scalar.cmpi .slt v372 c16_i32_119
  let v374 : BitVec 32 := Scalar.extui v373
  let c0_i32_120 : BitVec 32 := 0#32
  let v375 : BitVec 1 := Scalar.cmpi .ne v374 c0_i32_120
  v375

def k0_off106 (arg20 : BitVec 32) : Fin 3 → Nat :=
  let c1_i32_251 : BitVec 32 := 1#32
  let v776 : BitVec 32 := Scalar.subi c1_i32_251 arg20
  let c0_i32_252 : BitVec 32 := 0#32
  let c0_i32_253 : BitVec 32 := 0#32
  ![v776.toNat, 0, 0]
def k0_off107 (v372 : BitVec 32) : Fin 3 → Nat :=
  let c0_i32_254 : BitVec 32 := 0#32
  let c3072_i32_255 : BitVec 32 := 3072#32
  ![v372.toNat, 0, 3072]
def k0_off108 (arg20 : BitVec 32) : Fin 3 → Nat :=
  let c1_i32_251 : BitVec 32 := 1#32
  let v776 : BitVec 32 := Scalar.subi c1_i32_251 arg20
  let c0_i32_256 : BitVec 32 := 0#32
  let c0_i32_257 : BitVec 32 := 0#32
  ![v776.toNat, 0, 0]
def k0_off109 (v372 : BitVec 32) : Fin 3 → Nat :=
  let c0_i32_258 : BitVec 32 := 0#32
  let c3072_i32_259 : BitVec 32 := 3072#32
  ![v372.toNat, 0, 3072]

def k0_chk15 (v1_1 : BitVec 32) (k0_t6 : Fin (k0_t6_loop v1_1).trips) (arg20 : BitVec 32) (v75 : BitVec 32) (v80 : BitVec 32) (v372 : BitVec 32) : Prop :=
  (∀ (k0_h6 : k0_cond6 v1_1 k0_t6 v75 v80 = 1#1), ∀ (k0_h7 : k0_cond7 v372 = 1#1), ∀ a, (k0_off105 arg20) a + S1.size a ≤ S2.size a) ∧
  (∀ (k0_h6 : k0_cond6 v1_1 k0_t6 v75 v80 = 1#1), ∀ (k0_h7 : k0_cond7 v372 = 1#1), ∀ a, (k0_off106 arg20) a + S1x1024x1024.size a ≤ S2x1024x1024.size a) ∧
  (∀ (k0_h6 : k0_cond6 v1_1 k0_t6 v75 v80 = 1#1), ∀ (k0_h7 : k0_cond7 v372 = 1#1), ∀ a, (k0_off107 v372) a + S1x1024x1024.size a ≤ S16x1024x4096.size a) ∧
  (∀ (k0_h6 : k0_cond6 v1_1 k0_t6 v75 v80 = 1#1), ∀ (k0_h7 : k0_cond7 v372 = 1#1), ∀ (hinb : ∀ a, (k0_off107 v372) a + S1x1024x1024.size a ≤ S16x1024x4096.size a), (Rect.unit (s := S16x1024x4096) (k0_off107 v372) S1x1024x1024.size hinb).WholeWords (EltTy.packing .i8)) ∧
  (∀ (k0_h6 : k0_cond6 v1_1 k0_t6 v75 v80 = 1#1), ∀ (k0_h7 : k0_cond7 v372 = 1#1), ∀ (hinb : ∀ a, (k0_off106 arg20) a + S1x1024x1024.size a ≤ S2x1024x1024.size a), (Rect.unit (s := S2x1024x1024) (k0_off106 arg20) S1x1024x1024.size hinb).WholeWords (EltTy.packing .i8)) ∧
  (∀ (k0_h6 : k0_cond6 v1_1 k0_t6 v75 v80 = 1#1), ∀ (k0_h7 : k0_cond7 v372 = 1#1), ∀ a, (k0_off108 arg20) a + S1x16x1024.size a ≤ S2x16x1024.size a) ∧
  (∀ (k0_h6 : k0_cond6 v1_1 k0_t6 v75 v80 = 1#1), ∀ (k0_h7 : k0_cond7 v372 = 1#1), ∀ a, (k0_off109 v372) a + S1x16x1024.size a ≤ S16x16x4096.size a) ∧
  (∀ (k0_h6 : k0_cond6 v1_1 k0_t6 v75 v80 = 1#1), ∀ (k0_h7 : k0_cond7 v372 = 1#1), ∀ (hinb : ∀ a, (k0_off109 v372) a + S1x16x1024.size a ≤ S16x16x4096.size a), (Rect.unit (s := S16x16x4096) (k0_off109 v372) S1x16x1024.size hinb).WholeWords (EltTy.packing .bf16)) ∧
  (∀ (k0_h6 : k0_cond6 v1_1 k0_t6 v75 v80 = 1#1), ∀ (k0_h7 : k0_cond7 v372 = 1#1), ∀ (hinb : ∀ a, (k0_off108 arg20) a + S1x16x1024.size a ≤ S2x16x1024.size a), (Rect.unit (s := S2x16x1024) (k0_off108 arg20) S1x16x1024.size hinb).WholeWords (EltTy.packing .bf16))
theorem k0_off105_inb : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), ∀ a, (k0_off105 arg20) a + S1.size a ≤ S2.size a := fun v1_1 k0_t6 arg20 v75 v80 v372 k0_hw15 k0_h6 k0_h7 => k0_hw15.1 k0_h6 k0_h7
theorem k0_off106_inb : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), ∀ a, (k0_off106 arg20) a + S1x1024x1024.size a ≤ S2x1024x1024.size a := fun v1_1 k0_t6 arg20 v75 v80 v372 k0_hw15 k0_h6 k0_h7 => k0_hw15.2.1 k0_h6 k0_h7
theorem k0_off107_inb : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), ∀ a, (k0_off107 v372) a + S1x1024x1024.size a ≤ S16x1024x4096.size a := fun v1_1 k0_t6 arg20 v75 v80 v372 k0_hw15 k0_h6 k0_h7 => k0_hw15.2.2.1 k0_h6 k0_h7
theorem k0_off107_wordsi8 : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), (Rect.unit (s := S16x1024x4096) (k0_off107 v372) S1x1024x1024.size (k0_off107_inb v1_1 k0_t6 arg20 v75 v80 v372 k0_hw15 k0_h6 k0_h7)).WholeWords (EltTy.packing .i8) := fun v1_1 k0_t6 arg20 v75 v80 v372 k0_hw15 k0_h6 k0_h7 => k0_hw15.2.2.2.1 k0_h6 k0_h7 (k0_off107_inb v1_1 k0_t6 arg20 v75 v80 v372 k0_hw15 k0_h6 k0_h7)
theorem k0_off106_wordsi8 : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), (Rect.unit (s := S2x1024x1024) (k0_off106 arg20) S1x1024x1024.size (k0_off106_inb v1_1 k0_t6 arg20 v75 v80 v372 k0_hw15 k0_h6 k0_h7)).WholeWords (EltTy.packing .i8) := fun v1_1 k0_t6 arg20 v75 v80 v372 k0_hw15 k0_h6 k0_h7 => k0_hw15.2.2.2.2.1 k0_h6 k0_h7 (k0_off106_inb v1_1 k0_t6 arg20 v75 v80 v372 k0_hw15 k0_h6 k0_h7)
theorem k0_off108_inb : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), ∀ a, (k0_off108 arg20) a + S1x16x1024.size a ≤ S2x16x1024.size a := fun v1_1 k0_t6 arg20 v75 v80 v372 k0_hw15 k0_h6 k0_h7 => k0_hw15.2.2.2.2.2.1 k0_h6 k0_h7
theorem k0_off109_inb : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), ∀ a, (k0_off109 v372) a + S1x16x1024.size a ≤ S16x16x4096.size a := fun v1_1 k0_t6 arg20 v75 v80 v372 k0_hw15 k0_h6 k0_h7 => k0_hw15.2.2.2.2.2.2.1 k0_h6 k0_h7
theorem k0_off109_wordsbf16 : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), (Rect.unit (s := S16x16x4096) (k0_off109 v372) S1x16x1024.size (k0_off109_inb v1_1 k0_t6 arg20 v75 v80 v372 k0_hw15 k0_h6 k0_h7)).WholeWords (EltTy.packing .bf16) := fun v1_1 k0_t6 arg20 v75 v80 v372 k0_hw15 k0_h6 k0_h7 => k0_hw15.2.2.2.2.2.2.2.1 k0_h6 k0_h7 (k0_off109_inb v1_1 k0_t6 arg20 v75 v80 v372 k0_hw15 k0_h6 k0_h7)
theorem k0_off108_wordsbf16 : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), (Rect.unit (s := S2x16x1024) (k0_off108 arg20) S1x16x1024.size (k0_off108_inb v1_1 k0_t6 arg20 v75 v80 v372 k0_hw15 k0_h6 k0_h7)).WholeWords (EltTy.packing .bf16) := fun v1_1 k0_t6 arg20 v75 v80 v372 k0_hw15 k0_h6 k0_h7 => k0_hw15.2.2.2.2.2.2.2.2 k0_h6 k0_h7 (k0_off108_inb v1_1 k0_t6 arg20 v75 v80 v372 k0_hw15 k0_h6 k0_h7)

def k0_off110 (arg20 : BitVec 32) : Fin 3 → Nat :=
  let v376 : Index := Scalar.indexCast arg20
  let c0_121 : Index := 0#32
  let c0_122 : Index := 0#32
  ![v376.toNat, 0, 0]
def k0_off111 (arg20 : BitVec 32) : Fin 3 → Nat :=
  let v393 : Index := Scalar.indexCast arg20
  let c0_125 : Index := 0#32
  let c0_126 : Index := 0#32
  ![v393.toNat, 0, 0]
def k0_off112 (arg20 : BitVec 32) : Fin 3 → Nat :=
  let v401 : Index := Scalar.indexCast arg20
  let c64 : Index := 64#32
  let c0_129 : Index := 0#32
  ![v401.toNat, 64, 0]
def k0_off113 (arg20 : BitVec 32) : Fin 3 → Nat :=
  let v418 : Index := Scalar.indexCast arg20
  let c1_134 : Index := 1#32
  let c0_135 : Index := 0#32
  ![v418.toNat, 1, 0]
def k0_off114 (arg20 : BitVec 32) : Fin 3 → Nat :=
  let v426 : Index := Scalar.indexCast arg20
  let c128_138 : Index := 128#32
  let c0_139 : Index := 0#32
  ![v426.toNat, 128, 0]
def k0_off115 (arg20 : BitVec 32) : Fin 3 → Nat :=
  let v443 : Index := Scalar.indexCast arg20
  let c2_144 : Index := 2#32
  let c0_145 : Index := 0#32
  ![v443.toNat, 2, 0]
def k0_off116 (arg20 : BitVec 32) : Fin 3 → Nat :=
  let v451 : Index := Scalar.indexCast arg20
  let c192 : Index := 192#32
  let c0_148 : Index := 0#32
  ![v451.toNat, 192, 0]
def k0_off117 (arg20 : BitVec 32) : Fin 3 → Nat :=
  let v468 : Index := Scalar.indexCast arg20
  let c3_153 : Index := 3#32
  let c0_154 : Index := 0#32
  ![v468.toNat, 3, 0]
def k0_off118 (arg20 : BitVec 32) : Fin 3 → Nat :=
  let v476 : Index := Scalar.indexCast arg20
  let c256_157 : Index := 256#32
  let c0_158 : Index := 0#32
  ![v476.toNat, 256, 0]
def k0_off119 (arg20 : BitVec 32) : Fin 3 → Nat :=
  let v493 : Index := Scalar.indexCast arg20
  let c4_163 : Index := 4#32
  let c0_164 : Index := 0#32
  ![v493.toNat, 4, 0]
def k0_off120 (arg20 : BitVec 32) : Fin 3 → Nat :=
  let v501 : Index := Scalar.indexCast arg20
  let c320 : Index := 320#32
  let c0_166 : Index := 0#32
  ![v501.toNat, 320, 0]
def k0_off121 (arg20 : BitVec 32) : Fin 3 → Nat :=
  let v518 : Index := Scalar.indexCast arg20
  let c5_171 : Index := 5#32
  let c0_172 : Index := 0#32
  ![v518.toNat, 5, 0]
def k0_off122 (arg20 : BitVec 32) : Fin 3 → Nat :=
  let v526 : Index := Scalar.indexCast arg20
  let c384_174 : Index := 384#32
  let c0_175 : Index := 0#32
  ![v526.toNat, 384, 0]
def k0_off123 (arg20 : BitVec 32) : Fin 3 → Nat :=
  let v543 : Index := Scalar.indexCast arg20
  let c6_180 : Index := 6#32
  let c0_181 : Index := 0#32
  ![v543.toNat, 6, 0]
def k0_off124 (arg20 : BitVec 32) : Fin 3 → Nat :=
  let v551 : Index := Scalar.indexCast arg20
  let c448 : Index := 448#32
  let c0_183 : Index := 0#32
  ![v551.toNat, 448, 0]
def k0_off125 (arg20 : BitVec 32) : Fin 3 → Nat :=
  let v568 : Index := Scalar.indexCast arg20
  let c7_188 : Index := 7#32
  let c0_189 : Index := 0#32
  ![v568.toNat, 7, 0]
def k0_off126 (arg20 : BitVec 32) : Fin 3 → Nat :=
  let v576 : Index := Scalar.indexCast arg20
  let c512_191 : Index := 512#32
  let c0_192 : Index := 0#32
  ![v576.toNat, 512, 0]
def k0_off127 (arg20 : BitVec 32) : Fin 3 → Nat :=
  let v593 : Index := Scalar.indexCast arg20
  let c8 : Index := 8#32
  let c0_197 : Index := 0#32
  ![v593.toNat, 8, 0]
def k0_off128 (arg20 : BitVec 32) : Fin 3 → Nat :=
  let v601 : Index := Scalar.indexCast arg20
  let c576 : Index := 576#32
  let c0_199 : Index := 0#32
  ![v601.toNat, 576, 0]
def k0_off129 (arg20 : BitVec 32) : Fin 3 → Nat :=
  let v618 : Index := Scalar.indexCast arg20
  let c9 : Index := 9#32
  let c0_204 : Index := 0#32
  ![v618.toNat, 9, 0]
def k0_off130 (arg20 : BitVec 32) : Fin 3 → Nat :=
  let v626 : Index := Scalar.indexCast arg20
  let c640_206 : Index := 640#32
  let c0_207 : Index := 0#32
  ![v626.toNat, 640, 0]
def k0_off131 (arg20 : BitVec 32) : Fin 3 → Nat :=
  let v643 : Index := Scalar.indexCast arg20
  let c10 : Index := 10#32
  let c0_212 : Index := 0#32
  ![v643.toNat, 10, 0]
def k0_off132 (arg20 : BitVec 32) : Fin 3 → Nat :=
  let v651 : Index := Scalar.indexCast arg20
  let c704 : Index := 704#32
  let c0_214 : Index := 0#32
  ![v651.toNat, 704, 0]
def k0_off133 (arg20 : BitVec 32) : Fin 3 → Nat :=
  let v668 : Index := Scalar.indexCast arg20
  let c11 : Index := 11#32
  let c0_219 : Index := 0#32
  ![v668.toNat, 11, 0]
def k0_off134 (arg20 : BitVec 32) : Fin 3 → Nat :=
  let v676 : Index := Scalar.indexCast arg20
  let c768_221 : Index := 768#32
  let c0_222 : Index := 0#32
  ![v676.toNat, 768, 0]
def k0_off135 (arg20 : BitVec 32) : Fin 3 → Nat :=
  let v693 : Index := Scalar.indexCast arg20
  let c12 : Index := 12#32
  let c0_227 : Index := 0#32
  ![v693.toNat, 12, 0]
def k0_off136 (arg20 : BitVec 32) : Fin 3 → Nat :=
  let v701 : Index := Scalar.indexCast arg20
  let c832 : Index := 832#32
  let c0_229 : Index := 0#32
  ![v701.toNat, 832, 0]
def k0_off137 (arg20 : BitVec 32) : Fin 3 → Nat :=
  let v718 : Index := Scalar.indexCast arg20
  let c13 : Index := 13#32
  let c0_234 : Index := 0#32
  ![v718.toNat, 13, 0]
def k0_off138 (arg20 : BitVec 32) : Fin 3 → Nat :=
  let v726 : Index := Scalar.indexCast arg20
  let c896_236 : Index := 896#32
  let c0_237 : Index := 0#32
  ![v726.toNat, 896, 0]
def k0_off139 (arg20 : BitVec 32) : Fin 3 → Nat :=
  let v743 : Index := Scalar.indexCast arg20
  let c14 : Index := 14#32
  let c0_242 : Index := 0#32
  ![v743.toNat, 14, 0]
def k0_off140 (arg20 : BitVec 32) : Fin 3 → Nat :=
  let v751 : Index := Scalar.indexCast arg20
  let c960 : Index := 960#32
  let c0_244 : Index := 0#32
  ![v751.toNat, 960, 0]
def k0_off141 (arg20 : BitVec 32) : Fin 3 → Nat :=
  let v768 : Index := Scalar.indexCast arg20
  let c15 : Index := 15#32
  let c0_249 : Index := 0#32
  ![v768.toNat, 15, 0]

def k0_chk14_0 (v1_1 : BitVec 32) (k0_t6 : Fin (k0_t6_loop v1_1).trips) (arg20 : BitVec 32) (v75 : BitVec 32) (v80 : BitVec 32) : Prop :=
  (∀ (k0_h6 : k0_cond6 v1_1 k0_t6 v75 v80 = 1#1), ∀ a, (k0_off99 arg20) a + S1.size a ≤ S2.size a) ∧
  (∀ (k0_h6 : k0_cond6 v1_1 k0_t6 v75 v80 = 1#1), ∀ a, (k0_off100 arg20) a + S1x1024x1024.size a ≤ S2x1024x1024.size a) ∧
  (∀ (k0_h6 : k0_cond6 v1_1 k0_t6 v75 v80 = 1#1), ∀ a, (k0_off101 v75) a + S1x1024x1024.size a ≤ S16x1024x4096.size a) ∧
  (∀ (k0_h6 : k0_cond6 v1_1 k0_t6 v75 v80 = 1#1), ∀ (hinb : ∀ a, (k0_off101 v75) a + S1x1024x1024.size a ≤ S16x1024x4096.size a), (Rect.unit (s := S16x1024x4096) (k0_off101 v75) S1x1024x1024.size hinb).WholeWords (EltTy.packing .i8)) ∧
  (∀ (k0_h6 : k0_cond6 v1_1 k0_t6 v75 v80 = 1#1), ∀ (hinb : ∀ a, (k0_off100 arg20) a + S1x1024x1024.size a ≤ S2x1024x1024.size a), (Rect.unit (s := S2x1024x1024) (k0_off100 arg20) S1x1024x1024.size hinb).WholeWords (EltTy.packing .i8)) ∧
  (∀ (k0_h6 : k0_cond6 v1_1 k0_t6 v75 v80 = 1#1), ∀ a, (k0_off102 arg20) a + S1x16x1024.size a ≤ S2x16x1024.size a) ∧
  (∀ (k0_h6 : k0_cond6 v1_1 k0_t6 v75 v80 = 1#1), ∀ a, (k0_off103 v75) a + S1x16x1024.size a ≤ S16x16x4096.size a) ∧
  (∀ (k0_h6 : k0_cond6 v1_1 k0_t6 v75 v80 = 1#1), ∀ (hinb : ∀ a, (k0_off103 v75) a + S1x16x1024.size a ≤ S16x16x4096.size a), (Rect.unit (s := S16x16x4096) (k0_off103 v75) S1x16x1024.size hinb).WholeWords (EltTy.packing .bf16)) ∧
  (∀ (k0_h6 : k0_cond6 v1_1 k0_t6 v75 v80 = 1#1), ∀ (hinb : ∀ a, (k0_off102 arg20) a + S1x16x1024.size a ≤ S2x16x1024.size a), (Rect.unit (s := S2x16x1024) (k0_off102 arg20) S1x16x1024.size hinb).WholeWords (EltTy.packing .bf16)) ∧
  (∀ (k0_h6 : k0_cond6 v1_1 k0_t6 v75 v80 = 1#1), ∀ a, (k0_off110 arg20) a + S1x64x1024.size a ≤ S2x1024x1024.size a) ∧
  (∀ (k0_h6 : k0_cond6 v1_1 k0_t6 v75 v80 = 1#1), ∀ a, (k0_off111 arg20) a + S1x1x1024.size a ≤ S2x16x1024.size a) ∧
  (∀ (k0_h6 : k0_cond6 v1_1 k0_t6 v75 v80 = 1#1), ∀ a, (k0_off112 arg20) a + S1x64x1024.size a ≤ S2x1024x1024.size a) ∧
  (∀ (k0_h6 : k0_cond6 v1_1 k0_t6 v75 v80 = 1#1), ∀ a, (k0_off113 arg20) a + S1x1x1024.size a ≤ S2x16x1024.size a) ∧
  (∀ (k0_h6 : k0_cond6 v1_1 k0_t6 v75 v80 = 1#1), ∀ a, (k0_off114 arg20) a + S1x64x1024.size a ≤ S2x1024x1024.size a) ∧
  (∀ (k0_h6 : k0_cond6 v1_1 k0_t6 v75 v80 = 1#1), ∀ a, (k0_off115 arg20) a + S1x1x1024.size a ≤ S2x16x1024.size a) ∧
  (∀ (k0_h6 : k0_cond6 v1_1 k0_t6 v75 v80 = 1#1), ∀ a, (k0_off116 arg20) a + S1x64x1024.size a ≤ S2x1024x1024.size a) ∧
  (∀ (k0_h6 : k0_cond6 v1_1 k0_t6 v75 v80 = 1#1), ∀ a, (k0_off117 arg20) a + S1x1x1024.size a ≤ S2x16x1024.size a) ∧
  (∀ (k0_h6 : k0_cond6 v1_1 k0_t6 v75 v80 = 1#1), ∀ a, (k0_off118 arg20) a + S1x64x1024.size a ≤ S2x1024x1024.size a) ∧
  (∀ (k0_h6 : k0_cond6 v1_1 k0_t6 v75 v80 = 1#1), ∀ a, (k0_off119 arg20) a + S1x1x1024.size a ≤ S2x16x1024.size a) ∧
  (∀ (k0_h6 : k0_cond6 v1_1 k0_t6 v75 v80 = 1#1), ∀ a, (k0_off120 arg20) a + S1x64x1024.size a ≤ S2x1024x1024.size a) ∧
  (∀ (k0_h6 : k0_cond6 v1_1 k0_t6 v75 v80 = 1#1), ∀ a, (k0_off121 arg20) a + S1x1x1024.size a ≤ S2x16x1024.size a) ∧
  (∀ (k0_h6 : k0_cond6 v1_1 k0_t6 v75 v80 = 1#1), ∀ a, (k0_off122 arg20) a + S1x64x1024.size a ≤ S2x1024x1024.size a) ∧
  (∀ (k0_h6 : k0_cond6 v1_1 k0_t6 v75 v80 = 1#1), ∀ a, (k0_off123 arg20) a + S1x1x1024.size a ≤ S2x16x1024.size a) ∧
  (∀ (k0_h6 : k0_cond6 v1_1 k0_t6 v75 v80 = 1#1), ∀ a, (k0_off124 arg20) a + S1x64x1024.size a ≤ S2x1024x1024.size a) ∧
  (∀ (k0_h6 : k0_cond6 v1_1 k0_t6 v75 v80 = 1#1), ∀ a, (k0_off125 arg20) a + S1x1x1024.size a ≤ S2x16x1024.size a) ∧
  (∀ (k0_h6 : k0_cond6 v1_1 k0_t6 v75 v80 = 1#1), ∀ a, (k0_off126 arg20) a + S1x64x1024.size a ≤ S2x1024x1024.size a) ∧
  (∀ (k0_h6 : k0_cond6 v1_1 k0_t6 v75 v80 = 1#1), ∀ a, (k0_off127 arg20) a + S1x1x1024.size a ≤ S2x16x1024.size a) ∧
  (∀ (k0_h6 : k0_cond6 v1_1 k0_t6 v75 v80 = 1#1), ∀ a, (k0_off128 arg20) a + S1x64x1024.size a ≤ S2x1024x1024.size a) ∧
  (∀ (k0_h6 : k0_cond6 v1_1 k0_t6 v75 v80 = 1#1), ∀ a, (k0_off129 arg20) a + S1x1x1024.size a ≤ S2x16x1024.size a) ∧
  (∀ (k0_h6 : k0_cond6 v1_1 k0_t6 v75 v80 = 1#1), ∀ a, (k0_off130 arg20) a + S1x64x1024.size a ≤ S2x1024x1024.size a) ∧
  (∀ (k0_h6 : k0_cond6 v1_1 k0_t6 v75 v80 = 1#1), ∀ a, (k0_off131 arg20) a + S1x1x1024.size a ≤ S2x16x1024.size a) ∧
  (∀ (k0_h6 : k0_cond6 v1_1 k0_t6 v75 v80 = 1#1), ∀ a, (k0_off132 arg20) a + S1x64x1024.size a ≤ S2x1024x1024.size a)
def k0_chk14_1 (v1_1 : BitVec 32) (k0_t6 : Fin (k0_t6_loop v1_1).trips) (arg20 : BitVec 32) (v75 : BitVec 32) (v80 : BitVec 32) : Prop :=
  (∀ (k0_h6 : k0_cond6 v1_1 k0_t6 v75 v80 = 1#1), ∀ a, (k0_off133 arg20) a + S1x1x1024.size a ≤ S2x16x1024.size a) ∧
  (∀ (k0_h6 : k0_cond6 v1_1 k0_t6 v75 v80 = 1#1), ∀ a, (k0_off134 arg20) a + S1x64x1024.size a ≤ S2x1024x1024.size a) ∧
  (∀ (k0_h6 : k0_cond6 v1_1 k0_t6 v75 v80 = 1#1), ∀ a, (k0_off135 arg20) a + S1x1x1024.size a ≤ S2x16x1024.size a) ∧
  (∀ (k0_h6 : k0_cond6 v1_1 k0_t6 v75 v80 = 1#1), ∀ a, (k0_off136 arg20) a + S1x64x1024.size a ≤ S2x1024x1024.size a) ∧
  (∀ (k0_h6 : k0_cond6 v1_1 k0_t6 v75 v80 = 1#1), ∀ a, (k0_off137 arg20) a + S1x1x1024.size a ≤ S2x16x1024.size a) ∧
  (∀ (k0_h6 : k0_cond6 v1_1 k0_t6 v75 v80 = 1#1), ∀ a, (k0_off138 arg20) a + S1x64x1024.size a ≤ S2x1024x1024.size a) ∧
  (∀ (k0_h6 : k0_cond6 v1_1 k0_t6 v75 v80 = 1#1), ∀ a, (k0_off139 arg20) a + S1x1x1024.size a ≤ S2x16x1024.size a) ∧
  (∀ (k0_h6 : k0_cond6 v1_1 k0_t6 v75 v80 = 1#1), ∀ a, (k0_off140 arg20) a + S1x64x1024.size a ≤ S2x1024x1024.size a) ∧
  (∀ (k0_h6 : k0_cond6 v1_1 k0_t6 v75 v80 = 1#1), ∀ a, (k0_off141 arg20) a + S1x1x1024.size a ≤ S2x16x1024.size a)
def k0_chk14 (v1_1 : BitVec 32) (k0_t6 : Fin (k0_t6_loop v1_1).trips) (arg20 : BitVec 32) (v75 : BitVec 32) (v80 : BitVec 32) : Prop :=
  k0_chk14_0 v1_1 k0_t6 arg20 v75 v80 ∧
  k0_chk14_1 v1_1 k0_t6 arg20 v75 v80
theorem k0_off99_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off99 arg20) a + S1.size a ≤ S2.size a := fun v1_1 k0_t6 arg20 v75 v80 k0_hw14 k0_h6 => k0_hw14.1.1 k0_h6
theorem k0_off100_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off100 arg20) a + S1x1024x1024.size a ≤ S2x1024x1024.size a := fun v1_1 k0_t6 arg20 v75 v80 k0_hw14 k0_h6 => k0_hw14.1.2.1 k0_h6
theorem k0_off101_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off101 v75) a + S1x1024x1024.size a ≤ S16x1024x4096.size a := fun v1_1 k0_t6 arg20 v75 v80 k0_hw14 k0_h6 => k0_hw14.1.2.2.1 k0_h6
theorem k0_off101_wordsi8 : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), (Rect.unit (s := S16x1024x4096) (k0_off101 v75) S1x1024x1024.size (k0_off101_inb v1_1 k0_t6 arg20 v75 v80 k0_hw14 k0_h6)).WholeWords (EltTy.packing .i8) := fun v1_1 k0_t6 arg20 v75 v80 k0_hw14 k0_h6 => k0_hw14.1.2.2.2.1 k0_h6 (k0_off101_inb v1_1 k0_t6 arg20 v75 v80 k0_hw14 k0_h6)
theorem k0_off100_wordsi8 : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), (Rect.unit (s := S2x1024x1024) (k0_off100 arg20) S1x1024x1024.size (k0_off100_inb v1_1 k0_t6 arg20 v75 v80 k0_hw14 k0_h6)).WholeWords (EltTy.packing .i8) := fun v1_1 k0_t6 arg20 v75 v80 k0_hw14 k0_h6 => k0_hw14.1.2.2.2.2.1 k0_h6 (k0_off100_inb v1_1 k0_t6 arg20 v75 v80 k0_hw14 k0_h6)
theorem k0_off102_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off102 arg20) a + S1x16x1024.size a ≤ S2x16x1024.size a := fun v1_1 k0_t6 arg20 v75 v80 k0_hw14 k0_h6 => k0_hw14.1.2.2.2.2.2.1 k0_h6
theorem k0_off103_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off103 v75) a + S1x16x1024.size a ≤ S16x16x4096.size a := fun v1_1 k0_t6 arg20 v75 v80 k0_hw14 k0_h6 => k0_hw14.1.2.2.2.2.2.2.1 k0_h6
theorem k0_off103_wordsbf16 : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), (Rect.unit (s := S16x16x4096) (k0_off103 v75) S1x16x1024.size (k0_off103_inb v1_1 k0_t6 arg20 v75 v80 k0_hw14 k0_h6)).WholeWords (EltTy.packing .bf16) := fun v1_1 k0_t6 arg20 v75 v80 k0_hw14 k0_h6 => k0_hw14.1.2.2.2.2.2.2.2.1 k0_h6 (k0_off103_inb v1_1 k0_t6 arg20 v75 v80 k0_hw14 k0_h6)
theorem k0_off102_wordsbf16 : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), (Rect.unit (s := S2x16x1024) (k0_off102 arg20) S1x16x1024.size (k0_off102_inb v1_1 k0_t6 arg20 v75 v80 k0_hw14 k0_h6)).WholeWords (EltTy.packing .bf16) := fun v1_1 k0_t6 arg20 v75 v80 k0_hw14 k0_h6 => k0_hw14.1.2.2.2.2.2.2.2.2.1 k0_h6 (k0_off102_inb v1_1 k0_t6 arg20 v75 v80 k0_hw14 k0_h6)
theorem k0_off110_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off110 arg20) a + S1x64x1024.size a ≤ S2x1024x1024.size a := fun v1_1 k0_t6 arg20 v75 v80 k0_hw14 k0_h6 => k0_hw14.1.2.2.2.2.2.2.2.2.2.1 k0_h6
theorem k0_off111_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off111 arg20) a + S1x1x1024.size a ≤ S2x16x1024.size a := fun v1_1 k0_t6 arg20 v75 v80 k0_hw14 k0_h6 => k0_hw14.1.2.2.2.2.2.2.2.2.2.2.1 k0_h6
theorem k0_off112_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off112 arg20) a + S1x64x1024.size a ≤ S2x1024x1024.size a := fun v1_1 k0_t6 arg20 v75 v80 k0_hw14 k0_h6 => k0_hw14.1.2.2.2.2.2.2.2.2.2.2.2.1 k0_h6
theorem k0_off113_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off113 arg20) a + S1x1x1024.size a ≤ S2x16x1024.size a := fun v1_1 k0_t6 arg20 v75 v80 k0_hw14 k0_h6 => k0_hw14.1.2.2.2.2.2.2.2.2.2.2.2.2.1 k0_h6
theorem k0_off114_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off114 arg20) a + S1x64x1024.size a ≤ S2x1024x1024.size a := fun v1_1 k0_t6 arg20 v75 v80 k0_hw14 k0_h6 => k0_hw14.1.2.2.2.2.2.2.2.2.2.2.2.2.2.1 k0_h6
theorem k0_off115_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off115 arg20) a + S1x1x1024.size a ≤ S2x16x1024.size a := fun v1_1 k0_t6 arg20 v75 v80 k0_hw14 k0_h6 => k0_hw14.1.2.2.2.2.2.2.2.2.2.2.2.2.2.2.1 k0_h6
theorem k0_off116_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off116 arg20) a + S1x64x1024.size a ≤ S2x1024x1024.size a := fun v1_1 k0_t6 arg20 v75 v80 k0_hw14 k0_h6 => k0_hw14.1.2.2.2.2.2.2.2.2.2.2.2.2.2.2.2.1 k0_h6
theorem k0_off117_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off117 arg20) a + S1x1x1024.size a ≤ S2x16x1024.size a := fun v1_1 k0_t6 arg20 v75 v80 k0_hw14 k0_h6 => k0_hw14.1.2.2.2.2.2.2.2.2.2.2.2.2.2.2.2.2.1 k0_h6
theorem k0_off118_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off118 arg20) a + S1x64x1024.size a ≤ S2x1024x1024.size a := fun v1_1 k0_t6 arg20 v75 v80 k0_hw14 k0_h6 => k0_hw14.1.2.2.2.2.2.2.2.2.2.2.2.2.2.2.2.2.2.1 k0_h6
theorem k0_off119_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off119 arg20) a + S1x1x1024.size a ≤ S2x16x1024.size a := fun v1_1 k0_t6 arg20 v75 v80 k0_hw14 k0_h6 => k0_hw14.1.2.2.2.2.2.2.2.2.2.2.2.2.2.2.2.2.2.2.1 k0_h6
theorem k0_off120_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off120 arg20) a + S1x64x1024.size a ≤ S2x1024x1024.size a := fun v1_1 k0_t6 arg20 v75 v80 k0_hw14 k0_h6 => k0_hw14.1.2.2.2.2.2.2.2.2.2.2.2.2.2.2.2.2.2.2.2.1 k0_h6
theorem k0_off121_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off121 arg20) a + S1x1x1024.size a ≤ S2x16x1024.size a := fun v1_1 k0_t6 arg20 v75 v80 k0_hw14 k0_h6 => k0_hw14.1.2.2.2.2.2.2.2.2.2.2.2.2.2.2.2.2.2.2.2.2.1 k0_h6
theorem k0_off122_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off122 arg20) a + S1x64x1024.size a ≤ S2x1024x1024.size a := fun v1_1 k0_t6 arg20 v75 v80 k0_hw14 k0_h6 => k0_hw14.1.2.2.2.2.2.2.2.2.2.2.2.2.2.2.2.2.2.2.2.2.2.1 k0_h6
theorem k0_off123_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off123 arg20) a + S1x1x1024.size a ≤ S2x16x1024.size a := fun v1_1 k0_t6 arg20 v75 v80 k0_hw14 k0_h6 => k0_hw14.1.2.2.2.2.2.2.2.2.2.2.2.2.2.2.2.2.2.2.2.2.2.2.1 k0_h6
theorem k0_off124_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off124 arg20) a + S1x64x1024.size a ≤ S2x1024x1024.size a := fun v1_1 k0_t6 arg20 v75 v80 k0_hw14 k0_h6 => k0_hw14.1.2.2.2.2.2.2.2.2.2.2.2.2.2.2.2.2.2.2.2.2.2.2.2.1 k0_h6
theorem k0_off125_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off125 arg20) a + S1x1x1024.size a ≤ S2x16x1024.size a := fun v1_1 k0_t6 arg20 v75 v80 k0_hw14 k0_h6 => k0_hw14.1.2.2.2.2.2.2.2.2.2.2.2.2.2.2.2.2.2.2.2.2.2.2.2.2.1 k0_h6
theorem k0_off126_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off126 arg20) a + S1x64x1024.size a ≤ S2x1024x1024.size a := fun v1_1 k0_t6 arg20 v75 v80 k0_hw14 k0_h6 => k0_hw14.1.2.2.2.2.2.2.2.2.2.2.2.2.2.2.2.2.2.2.2.2.2.2.2.2.2.1 k0_h6
theorem k0_off127_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off127 arg20) a + S1x1x1024.size a ≤ S2x16x1024.size a := fun v1_1 k0_t6 arg20 v75 v80 k0_hw14 k0_h6 => k0_hw14.1.2.2.2.2.2.2.2.2.2.2.2.2.2.2.2.2.2.2.2.2.2.2.2.2.2.2.1 k0_h6
theorem k0_off128_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off128 arg20) a + S1x64x1024.size a ≤ S2x1024x1024.size a := fun v1_1 k0_t6 arg20 v75 v80 k0_hw14 k0_h6 => k0_hw14.1.2.2.2.2.2.2.2.2.2.2.2.2.2.2.2.2.2.2.2.2.2.2.2.2.2.2.2.1 k0_h6
theorem k0_off129_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off129 arg20) a + S1x1x1024.size a ≤ S2x16x1024.size a := fun v1_1 k0_t6 arg20 v75 v80 k0_hw14 k0_h6 => k0_hw14.1.2.2.2.2.2.2.2.2.2.2.2.2.2.2.2.2.2.2.2.2.2.2.2.2.2.2.2.2.1 k0_h6
theorem k0_off130_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off130 arg20) a + S1x64x1024.size a ≤ S2x1024x1024.size a := fun v1_1 k0_t6 arg20 v75 v80 k0_hw14 k0_h6 => k0_hw14.1.2.2.2.2.2.2.2.2.2.2.2.2.2.2.2.2.2.2.2.2.2.2.2.2.2.2.2.2.2.1 k0_h6
theorem k0_off131_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off131 arg20) a + S1x1x1024.size a ≤ S2x16x1024.size a := fun v1_1 k0_t6 arg20 v75 v80 k0_hw14 k0_h6 => k0_hw14.1.2.2.2.2.2.2.2.2.2.2.2.2.2.2.2.2.2.2.2.2.2.2.2.2.2.2.2.2.2.2.1 k0_h6
theorem k0_off132_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off132 arg20) a + S1x64x1024.size a ≤ S2x1024x1024.size a := fun v1_1 k0_t6 arg20 v75 v80 k0_hw14 k0_h6 => k0_hw14.1.2.2.2.2.2.2.2.2.2.2.2.2.2.2.2.2.2.2.2.2.2.2.2.2.2.2.2.2.2.2.2 k0_h6
theorem k0_off133_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off133 arg20) a + S1x1x1024.size a ≤ S2x16x1024.size a := fun v1_1 k0_t6 arg20 v75 v80 k0_hw14 k0_h6 => k0_hw14.2.1 k0_h6
theorem k0_off134_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off134 arg20) a + S1x64x1024.size a ≤ S2x1024x1024.size a := fun v1_1 k0_t6 arg20 v75 v80 k0_hw14 k0_h6 => k0_hw14.2.2.1 k0_h6
theorem k0_off135_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off135 arg20) a + S1x1x1024.size a ≤ S2x16x1024.size a := fun v1_1 k0_t6 arg20 v75 v80 k0_hw14 k0_h6 => k0_hw14.2.2.2.1 k0_h6
theorem k0_off136_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off136 arg20) a + S1x64x1024.size a ≤ S2x1024x1024.size a := fun v1_1 k0_t6 arg20 v75 v80 k0_hw14 k0_h6 => k0_hw14.2.2.2.2.1 k0_h6
theorem k0_off137_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off137 arg20) a + S1x1x1024.size a ≤ S2x16x1024.size a := fun v1_1 k0_t6 arg20 v75 v80 k0_hw14 k0_h6 => k0_hw14.2.2.2.2.2.1 k0_h6
theorem k0_off138_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off138 arg20) a + S1x64x1024.size a ≤ S2x1024x1024.size a := fun v1_1 k0_t6 arg20 v75 v80 k0_hw14 k0_h6 => k0_hw14.2.2.2.2.2.2.1 k0_h6
theorem k0_off139_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off139 arg20) a + S1x1x1024.size a ≤ S2x16x1024.size a := fun v1_1 k0_t6 arg20 v75 v80 k0_hw14 k0_h6 => k0_hw14.2.2.2.2.2.2.2.1 k0_h6
theorem k0_off140_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off140 arg20) a + S1x64x1024.size a ≤ S2x1024x1024.size a := fun v1_1 k0_t6 arg20 v75 v80 k0_hw14 k0_h6 => k0_hw14.2.2.2.2.2.2.2.2.1 k0_h6
theorem k0_off141_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off141 arg20) a + S1x1x1024.size a ≤ S2x16x1024.size a := fun v1_1 k0_t6 arg20 v75 v80 k0_hw14 k0_h6 => k0_hw14.2.2.2.2.2.2.2.2.2 k0_h6

def k0_off142 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let v89 : Index := Scalar.indexCast arg19
  ![v89.toNat]
def k0_mult9 (v90 : BitVec 32) : BitVec 32 :=
  let c97792_i32_53 : BitVec 32 := 97792#32
  let v91 : BitVec 32 := Scalar.minsi v90 c97792_i32_53
  v91

def k0_off143 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  ![v73.toNat]
def k0_off144 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let c0_i32_61 : BitVec 32 := 0#32
  let c0_i32_62 : BitVec 32 := 0#32
  ![v73.toNat, 0, 0]
def k0_off145 (v90 : BitVec 32) : Fin 2 → Nat :=
  let c97792_i32_53 : BitVec 32 := 97792#32
  let v91 : BitVec 32 := Scalar.minsi v90 c97792_i32_53
  let v92 : BitVec 32 := v91
  let c0_i32_63 : BitVec 32 := 0#32
  ![v92.toNat, 0]
def k0_off146 (v1_1 : BitVec 32) (k0_t6 : Fin (k0_t6_loop v1_1).trips) : Fin 4 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let c0_i32_64 : BitVec 32 := 0#32
  let c0_i32_65 : BitVec 32 := 0#32
  let c0_i32_66 : BitVec 32 := 0#32
  ![v73.toNat, 0, 0, 0]
def k0_off147 (v90 : BitVec 32) : Fin 3 → Nat :=
  let c97792_i32_53 : BitVec 32 := 97792#32
  let v91 : BitVec 32 := Scalar.minsi v90 c97792_i32_53
  let v92 : BitVec 32 := v91
  let c0_i32_55 : BitVec 32 := 0#32
  let v94 : BitVec 1 := Scalar.cmpi .sgt v92 c0_i32_55
  let v95 : BitVec 32 := Scalar.extui v94
  let c0_i32_56 : BitVec 32 := 0#32
  let v96 : BitVec 1 := Scalar.cmpi .slt v92 c0_i32_56
  let v97 : BitVec 32 := Scalar.extui v96
  let v98 : BitVec 32 := Scalar.subi v95 v97
  let c128_i32_54 : BitVec 32 := 128#32
  let c0_i32_57 : BitVec 32 := 0#32
  let v99 : BitVec 1 := Scalar.cmpi .sgt c128_i32_54 c0_i32_57
  let v100 : BitVec 32 := Scalar.extui v99
  let c0_i32_58 : BitVec 32 := 0#32
  let v101 : BitVec 1 := Scalar.cmpi .slt c128_i32_54 c0_i32_58
  let v102 : BitVec 32 := Scalar.extui v101
  let v103 : BitVec 32 := Scalar.subi v100 v102
  let v104 : BitVec 1 := Scalar.cmpi .ne v98 v103
  let v105 : BitVec 32 := Scalar.remsi v92 c128_i32_54
  let c0_i32_59 : BitVec 32 := 0#32
  let v106 : BitVec 1 := Scalar.cmpi .ne v105 c0_i32_59
  let v107 : BitVec 1 := Scalar.andi v104 v106
  let v93 : BitVec 32 := Scalar.divsi v92 c128_i32_54
  let c1_i32_60 : BitVec 32 := 1#32
  let v108 : BitVec 32 := Scalar.subi v93 c1_i32_60
  let v109 : BitVec 32 := Scalar.select v107 v108 v93
  let c0_i32_67 : BitVec 32 := 0#32
  let c0_i32_68 : BitVec 32 := 0#32
  ![v109.toNat, 0, 0]

def k0_chk16 (v90 : BitVec 32) : Prop :=
  (128 ∣ (k0_mult9 v90).toNat) ∧
  (∀ a, (k0_off145 v90) a + S512x2048.size a ≤ S98304x2048.size a) ∧
  (∀ (hinb : ∀ a, (k0_off145 v90) a + S512x2048.size a ≤ S98304x2048.size a), (Rect.unit (s := S98304x2048) (k0_off145 v90) S512x2048.size hinb).WholeWords (EltTy.packing .fp8e4m3)) ∧
  (∀ a, (k0_off147 v90) a + S4x1x128.size a ≤ S768x1x128.size a)
theorem k0_mult9_dvd : ∀ (v90 : BitVec 32) (k0_hw16 : k0_chk16 v90), 128 ∣ (k0_mult9 v90).toNat := fun v90 k0_hw16 => k0_hw16.1
theorem k0_off145_inb : ∀ (v90 : BitVec 32) (k0_hw16 : k0_chk16 v90), ∀ a, (k0_off145 v90) a + S512x2048.size a ≤ S98304x2048.size a := fun v90 k0_hw16 => k0_hw16.2.1
theorem k0_off145_wordsfp8e4m3 : ∀ (v90 : BitVec 32) (k0_hw16 : k0_chk16 v90), (Rect.unit (s := S98304x2048) (k0_off145 v90) S512x2048.size (k0_off145_inb v90 k0_hw16)).WholeWords (EltTy.packing .fp8e4m3) := fun v90 k0_hw16 => k0_hw16.2.2.1 (k0_off145_inb v90 k0_hw16)
theorem k0_off147_inb : ∀ (v90 : BitVec 32) (k0_hw16 : k0_chk16 v90), ∀ a, (k0_off147 v90) a + S4x1x128.size a ≤ S768x1x128.size a := fun v90 k0_hw16 => k0_hw16.2.2.2

def k0_off148 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_106 : BitVec 32 := 2#32
  let v359 : BitVec 32 := Scalar.subi arg19 c2_i32_106
  let v360 : Index := Scalar.indexCast v359
  ![v360.toNat]
def k0_cond8 (v1_1 : BitVec 32) (k0_t6 : Fin (k0_t6_loop v1_1).trips) : BitVec 1 :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_69 : BitVec 32 := 2#32
  let v120 : BitVec 1 := Scalar.cmpi .sge arg19 c2_i32_69
  let v121 : BitVec 32 := Scalar.extui v120
  let c0_i32_70 : BitVec 32 := 0#32
  let v122 : BitVec 1 := Scalar.cmpi .ne v121 c0_i32_70
  v122

def k0_mult10 (v361 : BitVec 32) : BitVec 32 :=
  let c97792_i32_107 : BitVec 32 := 97792#32
  let v362 : BitVec 32 := Scalar.minsi v361 c97792_i32_107
  v362

def k0_chk17 (v1_1 : BitVec 32) (k0_t6 : Fin (k0_t6_loop v1_1).trips) (v361 : BitVec 32) : Prop :=
  (∀ (k0_h8 : k0_cond8 v1_1 k0_t6 = 1#1), 128 ∣ (k0_mult10 v361).toNat)
theorem k0_mult10_dvd : ∀ (v1_1 : BitVec 32) (k0_t6 : Fin (k0_t6_loop v1_1).trips) (v361 : BitVec 32) (k0_hw17 : k0_chk17 v1_1 k0_t6 v361), ∀ (k0_h8 : k0_cond8 v1_1 k0_t6 = 1#1), 128 ∣ (k0_mult10 v361).toNat := fun v1_1 k0_t6 v361 k0_hw17 k0_h8 => k0_hw17 k0_h8

def k0_off149 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_106 : BitVec 32 := 2#32
  let v359 : BitVec 32 := Scalar.subi arg19 c2_i32_106
  let v364 : Index := Scalar.indexCast v359
  ![v364.toNat]
def k0_mult11 (v361 : BitVec 32) (v365 : BitVec 32) : BitVec 32 :=
  let c97792_i32_107 : BitVec 32 := 97792#32
  let v362 : BitVec 32 := Scalar.minsi v361 c97792_i32_107
  let v363 : BitVec 32 := v362
  let c1152_i32_108 : BitVec 32 := 1152#32
  let v366 : BitVec 32 := Scalar.muli v365 c1152_i32_108
  let v367 : BitVec 32 := Scalar.addi v363 v366
  let c8_i32_109 : BitVec 32 := 8#32
  let v368 : BitVec 32 := Scalar.muli v367 c8_i32_109
  v368

def k0_off150 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  ![v73.toNat]
def k0_off151 (v361 : BitVec 32) (v365 : BitVec 32) : Fin 2 → Nat :=
  let c97792_i32_107 : BitVec 32 := 97792#32
  let v362 : BitVec 32 := Scalar.minsi v361 c97792_i32_107
  let v363 : BitVec 32 := v362
  let c1152_i32_108 : BitVec 32 := 1152#32
  let v366 : BitVec 32 := Scalar.muli v365 c1152_i32_108
  let v367 : BitVec 32 := Scalar.addi v363 v366
  let c8_i32_109 : BitVec 32 := 8#32
  let v368 : BitVec 32 := Scalar.muli v367 c8_i32_109
  let v369 : BitVec 32 := v368
  let c0_i32_110 : BitVec 32 := 0#32
  ![v369.toNat, 0]

def k0_chk18 (v1_1 : BitVec 32) (k0_t6 : Fin (k0_t6_loop v1_1).trips) (v361 : BitVec 32) (v365 : BitVec 32) : Prop :=
  (∀ (k0_h8 : k0_cond8 v1_1 k0_t6 = 1#1), 8 ∣ (k0_mult11 v361 v365).toNat) ∧
  (∀ (k0_h8 : k0_cond8 v1_1 k0_t6 = 1#1), ∀ a, (k0_off151 v361 v365) a + S4096x128.size a ≤ S933888x128.size a)
theorem k0_mult11_dvd : ∀ (v1_1 : BitVec 32) (k0_t6 : Fin (k0_t6_loop v1_1).trips) (v361 : BitVec 32) (v365 : BitVec 32) (k0_hw18 : k0_chk18 v1_1 k0_t6 v361 v365), ∀ (k0_h8 : k0_cond8 v1_1 k0_t6 = 1#1), 8 ∣ (k0_mult11 v361 v365).toNat := fun v1_1 k0_t6 v361 v365 k0_hw18 k0_h8 => k0_hw18.1 k0_h8
theorem k0_off151_inb : ∀ (v1_1 : BitVec 32) (k0_t6 : Fin (k0_t6_loop v1_1).trips) (v361 : BitVec 32) (v365 : BitVec 32) (k0_hw18 : k0_chk18 v1_1 k0_t6 v361 v365), ∀ (k0_h8 : k0_cond8 v1_1 k0_t6 = 1#1), ∀ a, (k0_off151 v361 v365) a + S4096x128.size a ≤ S933888x128.size a := fun v1_1 k0_t6 v361 v365 k0_hw18 k0_h8 => k0_hw18.2 k0_h8

def k0_off152 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let c0_i32_111 : BitVec 32 := 0#32
  let c0_i32_112 : BitVec 32 := 0#32
  ![v73.toNat, 0, 0]
def k0_off153 (v1_1 : BitVec 32) (k0_t6 : Fin (k0_t6_loop v1_1).trips) : Fin 4 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v123 : Index := Scalar.indexCast v73
  let c0_71 : Index := 0#32
  let c0_72 : Index := 0#32
  let c0_73 : Index := 0#32
  ![v123.toNat, 0, 0, 0]
def k0_off154 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v130 : Index := Scalar.indexCast v73
  let c0_74 : Index := 0#32
  let c0_75 : Index := 0#32
  ![v130.toNat, 0, 0]
def k0_off155 (v1_1 : BitVec 32) (k0_t6 : Fin (k0_t6_loop v1_1).trips) : Fin 4 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v167 : Index := Scalar.indexCast v73
  let c1 : Index := 1#32
  let c0_76 : Index := 0#32
  let c0_77 : Index := 0#32
  ![v167.toNat, 1, 0, 0]
def k0_off156 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v174 : Index := Scalar.indexCast v73
  let c128 : Index := 128#32
  let c0_78 : Index := 0#32
  ![v174.toNat, 128, 0]
def k0_off157 (v1_1 : BitVec 32) (k0_t6 : Fin (k0_t6_loop v1_1).trips) : Fin 4 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v211 : Index := Scalar.indexCast v73
  let c2 : Index := 2#32
  let c0_79 : Index := 0#32
  let c0_80 : Index := 0#32
  ![v211.toNat, 2, 0, 0]
def k0_off158 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v218 : Index := Scalar.indexCast v73
  let c256 : Index := 256#32
  let c0_81 : Index := 0#32
  ![v218.toNat, 256, 0]
def k0_off159 (v1_1 : BitVec 32) (k0_t6 : Fin (k0_t6_loop v1_1).trips) : Fin 4 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v255 : Index := Scalar.indexCast v73
  let c3 : Index := 3#32
  let c0_82 : Index := 0#32
  let c0_83 : Index := 0#32
  ![v255.toNat, 3, 0, 0]
def k0_off160 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v262 : Index := Scalar.indexCast v73
  let c384 : Index := 384#32
  let c0_84 : Index := 0#32
  ![v262.toNat, 384, 0]
def k0_off161 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v303 : Index := Scalar.indexCast v73
  let c0_87 : Index := 0#32
  let c0_88 : Index := 0#32
  ![v303.toNat, 0, 0]
def k0_off162 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v308 : Index := Scalar.indexCast v73
  let c1_89 : Index := 1#32
  let c0_90 : Index := 0#32
  ![v308.toNat, 1, 0]
def k0_off163 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v313 : Index := Scalar.indexCast v73
  let c2_91 : Index := 2#32
  let c0_92 : Index := 0#32
  ![v313.toNat, 2, 0]
def k0_off164 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v318 : Index := Scalar.indexCast v73
  let c3_93 : Index := 3#32
  let c0_94 : Index := 0#32
  ![v318.toNat, 3, 0]
def k0_off165 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v323 : Index := Scalar.indexCast v73
  let c4 : Index := 4#32
  let c0_95 : Index := 0#32
  ![v323.toNat, 4, 0]
def k0_off166 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v328 : Index := Scalar.indexCast v73
  let c5 : Index := 5#32
  let c0_96 : Index := 0#32
  ![v328.toNat, 5, 0]
def k0_off167 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v333 : Index := Scalar.indexCast v73
  let c6 : Index := 6#32
  let c0_97 : Index := 0#32
  ![v333.toNat, 6, 0]
def k0_off168 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let v338 : Index := Scalar.indexCast v73
  let c7 : Index := 7#32
  let c0_98 : Index := 0#32
  ![v338.toNat, 7, 0]
def k0_off169 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let v342 : Index := Scalar.indexCast arg19
  ![v342.toNat]
def k0_mult12 (v343 : BitVec 32) : BitVec 32 :=
  let c97792_i32_99 : BitVec 32 := 97792#32
  let v344 : BitVec 32 := Scalar.minsi v343 c97792_i32_99
  v344

def k0_chk19 (v343 : BitVec 32) : Prop :=
  (128 ∣ (k0_mult12 v343).toNat)
theorem k0_mult12_dvd : ∀ (v343 : BitVec 32) (k0_hw19 : k0_chk19 v343), 128 ∣ (k0_mult12 v343).toNat := fun v343 k0_hw19 => k0_hw19

def k0_off170 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let v346 : Index := Scalar.indexCast arg19
  ![v346.toNat]
def k0_mult13 (v343 : BitVec 32) (v347 : BitVec 32) : BitVec 32 :=
  let c97792_i32_99 : BitVec 32 := 97792#32
  let v344 : BitVec 32 := Scalar.minsi v343 c97792_i32_99
  let v345 : BitVec 32 := v344
  let c1152_i32_100 : BitVec 32 := 1152#32
  let v348 : BitVec 32 := Scalar.muli v347 c1152_i32_100
  let v349 : BitVec 32 := Scalar.addi v345 v348
  let c8_i32_101 : BitVec 32 := 8#32
  let v350 : BitVec 32 := Scalar.muli v349 c8_i32_101
  v350

def k0_off171 (v1_1 : BitVec 32) (k0_t6 : Fin (k0_t6_loop v1_1).trips) : Fin 1 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  ![v73.toNat]
def k0_off172 (v343 : BitVec 32) (v347 : BitVec 32) : Fin 2 → Nat :=
  let c97792_i32_99 : BitVec 32 := 97792#32
  let v344 : BitVec 32 := Scalar.minsi v343 c97792_i32_99
  let v345 : BitVec 32 := v344
  let c1152_i32_100 : BitVec 32 := 1152#32
  let v348 : BitVec 32 := Scalar.muli v347 c1152_i32_100
  let v349 : BitVec 32 := Scalar.addi v345 v348
  let c8_i32_101 : BitVec 32 := 8#32
  let v350 : BitVec 32 := Scalar.muli v349 c8_i32_101
  let v351 : BitVec 32 := v350
  let c0_i32_102 : BitVec 32 := 0#32
  ![v351.toNat, 0]

def k0_chk20 (v343 : BitVec 32) (v347 : BitVec 32) : Prop :=
  (8 ∣ (k0_mult13 v343 v347).toNat) ∧
  (∀ a, (k0_off172 v343 v347) a + S4096x128.size a ≤ S933888x128.size a)
theorem k0_mult13_dvd : ∀ (v343 : BitVec 32) (v347 : BitVec 32) (k0_hw20 : k0_chk20 v343 v347), 8 ∣ (k0_mult13 v343 v347).toNat := fun v343 v347 k0_hw20 => k0_hw20.1
theorem k0_off172_inb : ∀ (v343 : BitVec 32) (v347 : BitVec 32) (k0_hw20 : k0_chk20 v343 v347), ∀ a, (k0_off172 v343 v347) a + S4096x128.size a ≤ S933888x128.size a := fun v343 v347 k0_hw20 => k0_hw20.2

def k0_off173 (v1_1 : BitVec 32) (k0_t6 : Fin (k0_t6_loop v1_1).trips) : Fin 3 → Nat :=
  let c0_i32_33 : BitVec 32 := 0#32
  let v45 : BitVec 32 := Scalar.subi v1_1 c0_i32_33
  let c1_i32_35 : BitVec 32 := 1#32
  let v47 : BitVec 32 := Scalar.divsi v45 c1_i32_35
  let v48 : BitVec 32 := Scalar.muli v47 c1_i32_35
  let v49 : BitVec 32 := Scalar.addi c0_i32_33 v48
  let c1_i32_37 : BitVec 32 := 1#32
  let arg19 : BitVec 32 := Scf.iv v49 c1_i32_37 k0_t6
  let c2_i32_46 : BitVec 32 := 2#32
  let v73 : BitVec 32 := Scalar.remsi arg19 c2_i32_46
  let c0_i32_103 : BitVec 32 := 0#32
  let c0_i32_104 : BitVec 32 := 0#32
  ![v73.toNat, 0, 0]
def k0_off174 (v1_1 : BitVec 32) : Fin 1 → Nat :=
  let c2_i32_46 : BitVec 32 := 2#32
  let v73 : BitVec 32 := Scalar.subi v1_1 c2_i32_46
  let v75 : Index := Scalar.indexCast v73
  ![v75.toNat]
def k0_cond9 (v1_1 : BitVec 32) : BitVec 1 :=
  let c2_i32 : BitVec 32 := 2#32
  let v52 : BitVec 1 := Scalar.cmpi .sge v1_1 c2_i32
  let v53 : BitVec 32 := Scalar.extui v52
  let c0_i32_38 : BitVec 32 := 0#32
  let v54 : BitVec 1 := Scalar.cmpi .ne v53 c0_i32_38
  v54

def k0_mult14 (v76 : BitVec 32) : BitVec 32 :=
  let c97792_i32_48 : BitVec 32 := 97792#32
  let v77 : BitVec 32 := Scalar.minsi v76 c97792_i32_48
  v77

def k0_chk21 (v1_1 : BitVec 32) (v76 : BitVec 32) : Prop :=
  (∀ (k0_h9 : k0_cond9 v1_1 = 1#1), 128 ∣ (k0_mult14 v76).toNat)
theorem k0_mult14_dvd : ∀ (v1_1 : BitVec 32) (v76 : BitVec 32) (k0_hw21 : k0_chk21 v1_1 v76), ∀ (k0_h9 : k0_cond9 v1_1 = 1#1), 128 ∣ (k0_mult14 v76).toNat := fun v1_1 v76 k0_hw21 k0_h9 => k0_hw21 k0_h9

def k0_off175 (v1_1 : BitVec 32) : Fin 1 → Nat :=
  let c2_i32_46 : BitVec 32 := 2#32
  let v73 : BitVec 32 := Scalar.subi v1_1 c2_i32_46
  let v79 : Index := Scalar.indexCast v73
  ![v79.toNat]
def k0_mult15 (v76 : BitVec 32) (v80 : BitVec 32) : BitVec 32 :=
  let c97792_i32_48 : BitVec 32 := 97792#32
  let v77 : BitVec 32 := Scalar.minsi v76 c97792_i32_48
  let v78 : BitVec 32 := v77
  let c1152_i32_49 : BitVec 32 := 1152#32
  let v81 : BitVec 32 := Scalar.muli v80 c1152_i32_49
  let v82 : BitVec 32 := Scalar.addi v78 v81
  let c8_i32_50 : BitVec 32 := 8#32
  let v83 : BitVec 32 := Scalar.muli v82 c8_i32_50
  v83

def k0_off176 (v1_1 : BitVec 32) : Fin 1 → Nat :=
  let c2_i32_47 : BitVec 32 := 2#32
  let v74 : BitVec 32 := Scalar.remsi v1_1 c2_i32_47
  ![v74.toNat]
def k0_off177 (v76 : BitVec 32) (v80 : BitVec 32) : Fin 2 → Nat :=
  let c97792_i32_48 : BitVec 32 := 97792#32
  let v77 : BitVec 32 := Scalar.minsi v76 c97792_i32_48
  let v78 : BitVec 32 := v77
  let c1152_i32_49 : BitVec 32 := 1152#32
  let v81 : BitVec 32 := Scalar.muli v80 c1152_i32_49
  let v82 : BitVec 32 := Scalar.addi v78 v81
  let c8_i32_50 : BitVec 32 := 8#32
  let v83 : BitVec 32 := Scalar.muli v82 c8_i32_50
  let v84 : BitVec 32 := v83
  let c0_i32_51 : BitVec 32 := 0#32
  ![v84.toNat, 0]

def k0_chk22 (v1_1 : BitVec 32) (v76 : BitVec 32) (v80 : BitVec 32) : Prop :=
  (∀ (k0_h9 : k0_cond9 v1_1 = 1#1), 8 ∣ (k0_mult15 v76 v80).toNat) ∧
  (∀ (k0_h9 : k0_cond9 v1_1 = 1#1), ∀ a, (k0_off177 v76 v80) a + S4096x128.size a ≤ S933888x128.size a)
theorem k0_mult15_dvd : ∀ (v1_1 : BitVec 32) (v76 : BitVec 32) (v80 : BitVec 32) (k0_hw22 : k0_chk22 v1_1 v76 v80), ∀ (k0_h9 : k0_cond9 v1_1 = 1#1), 8 ∣ (k0_mult15 v76 v80).toNat := fun v1_1 v76 v80 k0_hw22 k0_h9 => k0_hw22.1 k0_h9
theorem k0_off177_inb : ∀ (v1_1 : BitVec 32) (v76 : BitVec 32) (v80 : BitVec 32) (k0_hw22 : k0_chk22 v1_1 v76 v80), ∀ (k0_h9 : k0_cond9 v1_1 = 1#1), ∀ a, (k0_off177 v76 v80) a + S4096x128.size a ≤ S933888x128.size a := fun v1_1 v76 v80 k0_hw22 k0_h9 => k0_hw22.2 k0_h9

def k0_off178 (v1_1 : BitVec 32) : Fin 3 → Nat :=
  let c2_i32_47 : BitVec 32 := 2#32
  let v74 : BitVec 32 := Scalar.remsi v1_1 c2_i32_47
  let c0_i32_52 : BitVec 32 := 0#32
  let c0_i32_53 : BitVec 32 := 0#32
  ![v74.toNat, 0, 0]
def k0_off179 (v1_1 : BitVec 32) : Fin 1 → Nat :=
  let c1_i32_39 : BitVec 32 := 1#32
  let v55 : BitVec 32 := Scalar.subi v1_1 c1_i32_39
  let v58 : Index := Scalar.indexCast v55
  ![v58.toNat]
def k0_mult16 (v59 : BitVec 32) : BitVec 32 :=
  let c97792_i32_42 : BitVec 32 := 97792#32
  let v60 : BitVec 32 := Scalar.minsi v59 c97792_i32_42
  v60

def k0_chk23 (v59 : BitVec 32) : Prop :=
  (128 ∣ (k0_mult16 v59).toNat)
theorem k0_mult16_dvd : ∀ (v59 : BitVec 32) (k0_hw23 : k0_chk23 v59), 128 ∣ (k0_mult16 v59).toNat := fun v59 k0_hw23 => k0_hw23

def k0_off180 (v1_1 : BitVec 32) : Fin 1 → Nat :=
  let c1_i32_39 : BitVec 32 := 1#32
  let v55 : BitVec 32 := Scalar.subi v1_1 c1_i32_39
  let v62 : Index := Scalar.indexCast v55
  ![v62.toNat]
def k0_mult17 (v59 : BitVec 32) (v63 : BitVec 32) : BitVec 32 :=
  let c97792_i32_42 : BitVec 32 := 97792#32
  let v60 : BitVec 32 := Scalar.minsi v59 c97792_i32_42
  let v61 : BitVec 32 := v60
  let c1152_i32 : BitVec 32 := 1152#32
  let v64 : BitVec 32 := Scalar.muli v63 c1152_i32
  let v65 : BitVec 32 := Scalar.addi v61 v64
  let c8_i32 : BitVec 32 := 8#32
  let v66 : BitVec 32 := Scalar.muli v65 c8_i32
  v66

def k0_off181 (v1_1 : BitVec 32) : Fin 1 → Nat :=
  let c1_i32_40 : BitVec 32 := 1#32
  let v56 : BitVec 32 := Scalar.subi v1_1 c1_i32_40
  let c2_i32_41 : BitVec 32 := 2#32
  let v57 : BitVec 32 := Scalar.remsi v56 c2_i32_41
  ![v57.toNat]
def k0_off182 (v59 : BitVec 32) (v63 : BitVec 32) : Fin 2 → Nat :=
  let c97792_i32_42 : BitVec 32 := 97792#32
  let v60 : BitVec 32 := Scalar.minsi v59 c97792_i32_42
  let v61 : BitVec 32 := v60
  let c1152_i32 : BitVec 32 := 1152#32
  let v64 : BitVec 32 := Scalar.muli v63 c1152_i32
  let v65 : BitVec 32 := Scalar.addi v61 v64
  let c8_i32 : BitVec 32 := 8#32
  let v66 : BitVec 32 := Scalar.muli v65 c8_i32
  let v67 : BitVec 32 := v66
  let c0_i32_43 : BitVec 32 := 0#32
  ![v67.toNat, 0]

def k0_chk24 (v59 : BitVec 32) (v63 : BitVec 32) : Prop :=
  (8 ∣ (k0_mult17 v59 v63).toNat) ∧
  (∀ a, (k0_off182 v59 v63) a + S4096x128.size a ≤ S933888x128.size a)
theorem k0_mult17_dvd : ∀ (v59 : BitVec 32) (v63 : BitVec 32) (k0_hw24 : k0_chk24 v59 v63), 8 ∣ (k0_mult17 v59 v63).toNat := fun v59 v63 k0_hw24 => k0_hw24.1
theorem k0_off182_inb : ∀ (v59 : BitVec 32) (v63 : BitVec 32) (k0_hw24 : k0_chk24 v59 v63), ∀ a, (k0_off182 v59 v63) a + S4096x128.size a ≤ S933888x128.size a := fun v59 v63 k0_hw24 => k0_hw24.2

def k0_off183 (v1_1 : BitVec 32) : Fin 3 → Nat :=
  let c1_i32_40 : BitVec 32 := 1#32
  let v56 : BitVec 32 := Scalar.subi v1_1 c1_i32_40
  let c2_i32_41 : BitVec 32 := 2#32
  let v57 : BitVec 32 := Scalar.remsi v56 c2_i32_41
  let c0_i32_44 : BitVec 32 := 0#32
  let c0_i32_45 : BitVec 32 := 0#32
  ![v57.toNat, 0, 0]

def k0_chk4_0 (v1_1 : BitVec 32) : Prop :=
  ((k0_t4_loop v1_1).OK) ∧
  (∀ k0_t4 : Fin (k0_t4_loop v1_1).trips, ∀ a, (k0_off8 v1_1 k0_t4) a + S1.size a ≤ S224.size a) ∧
  (∀ k0_t4 : Fin (k0_t4_loop v1_1).trips, ∀ a, (k0_off9 v1_1 k0_t4) a + S1.size a ≤ S224.size a) ∧
  (∀ k0_t4 : Fin (k0_t4_loop v1_1).trips, ∀ (k0_h1 : k0_cond1 v1_1 k0_t4 = 1#1), ∀ a, (k0_off10 v1_1 k0_t4) a + S1.size a ≤ S224.size a) ∧
  (∀ k0_t4 : Fin (k0_t4_loop v1_1).trips, ∀ (k0_h1 : k0_cond1 v1_1 k0_t4 = 1#1), ∀ a, (k0_off11 v1_1 k0_t4) a + S1.size a ≤ S2.size a) ∧
  (∀ k0_t4 : Fin (k0_t4_loop v1_1).trips, ∀ (k0_h1 : k0_cond1 v1_1 k0_t4 = 1#1), ∀ a, (k0_off12 v1_1 k0_t4) a + S1x512x2048.size a ≤ S2x512x2048.size a) ∧
  (∀ k0_t4 : Fin (k0_t4_loop v1_1).trips, ∀ (k0_h1 : k0_cond1 v1_1 k0_t4 = 1#1), ∀ (hinb : ∀ a, (k0_off12 v1_1 k0_t4) a + S1x512x2048.size a ≤ S2x512x2048.size a), (Rect.unit (s := S2x512x2048) (k0_off12 v1_1 k0_t4) S1x512x2048.size hinb).WholeWords (EltTy.packing .fp8e4m3)) ∧
  (∀ k0_t4 : Fin (k0_t4_loop v1_1).trips, ∀ (k0_h1 : k0_cond1 v1_1 k0_t4 = 1#1), ∀ a, (k0_off14 v1_1 k0_t4) a + S1x4x1x128.size a ≤ S2x4x1x128.size a) ∧
  (∀ k0_t4 : Fin (k0_t4_loop v1_1).trips, ∀ a, (k0_off59 v1_1 k0_t4) a + S1.size a ≤ S224.size a) ∧
  (∀ k0_t4 : Fin (k0_t4_loop v1_1).trips, ∀ a, (k0_off60 v1_1 k0_t4) a + S1.size a ≤ S2.size a) ∧
  (∀ k0_t4 : Fin (k0_t4_loop v1_1).trips, ∀ a, (k0_off61 v1_1 k0_t4) a + S1x512x2048.size a ≤ S2x512x2048.size a) ∧
  (∀ k0_t4 : Fin (k0_t4_loop v1_1).trips, ∀ (hinb : ∀ a, (k0_off61 v1_1 k0_t4) a + S1x512x2048.size a ≤ S2x512x2048.size a), (Rect.unit (s := S2x512x2048) (k0_off61 v1_1 k0_t4) S1x512x2048.size hinb).WholeWords (EltTy.packing .fp8e4m3)) ∧
  (∀ k0_t4 : Fin (k0_t4_loop v1_1).trips, ∀ a, (k0_off63 v1_1 k0_t4) a + S1x4x1x128.size a ≤ S2x4x1x128.size a) ∧
  (∀ k0_t4 : Fin (k0_t4_loop v1_1).trips, ∀ (k0_h4 : k0_cond4 v1_1 k0_t4 = 1#1), ∀ a, (k0_off65 v1_1 k0_t4) a + S1.size a ≤ S224.size a) ∧
  (∀ k0_t4 : Fin (k0_t4_loop v1_1).trips, ∀ (k0_h4 : k0_cond4 v1_1 k0_t4 = 1#1), ∀ a, (k0_off66 v1_1 k0_t4) a + S1.size a ≤ S224.size a) ∧
  (∀ k0_t4 : Fin (k0_t4_loop v1_1).trips, ∀ (k0_h4 : k0_cond4 v1_1 k0_t4 = 1#1), ∀ a, (k0_off67 v1_1 k0_t4) a + S1.size a ≤ S2.size a) ∧
  (∀ k0_t4 : Fin (k0_t4_loop v1_1).trips, ∀ (k0_h4 : k0_cond4 v1_1 k0_t4 = 1#1), ∀ a, (k0_off69 v1_1 k0_t4) a + S1x4096x128.size a ≤ S2x4096x128.size a) ∧
  (∀ k0_t4 : Fin (k0_t4_loop v1_1).trips, ∀ a, (k0_off70 v1_1 k0_t4) a + S1x1x1x128.size a ≤ S2x4x1x128.size a) ∧
  (∀ k0_t4 : Fin (k0_t4_loop v1_1).trips, ∀ a, (k0_off71 v1_1 k0_t4) a + S1x128x2048.size a ≤ S2x512x2048.size a) ∧
  (∀ k0_t4 : Fin (k0_t4_loop v1_1).trips, ∀ a, (k0_off72 v1_1 k0_t4) a + S1x1x1x128.size a ≤ S2x4x1x128.size a) ∧
  (∀ k0_t4 : Fin (k0_t4_loop v1_1).trips, ∀ a, (k0_off73 v1_1 k0_t4) a + S1x128x2048.size a ≤ S2x512x2048.size a) ∧
  (∀ k0_t4 : Fin (k0_t4_loop v1_1).trips, ∀ a, (k0_off74 v1_1 k0_t4) a + S1x1x1x128.size a ≤ S2x4x1x128.size a) ∧
  (∀ k0_t4 : Fin (k0_t4_loop v1_1).trips, ∀ a, (k0_off75 v1_1 k0_t4) a + S1x128x2048.size a ≤ S2x512x2048.size a) ∧
  (∀ k0_t4 : Fin (k0_t4_loop v1_1).trips, ∀ a, (k0_off76 v1_1 k0_t4) a + S1x1x1x128.size a ≤ S2x4x1x128.size a) ∧
  (∀ k0_t4 : Fin (k0_t4_loop v1_1).trips, ∀ a, (k0_off77 v1_1 k0_t4) a + S1x128x2048.size a ≤ S2x512x2048.size a) ∧
  (∀ k0_t4 : Fin (k0_t4_loop v1_1).trips, ∀ a, S1x512x128.size a = 0 ∨ (k0_off78 v1_1 k0_t4) a + (![1, 8, 1] : Fin 3 → Nat) a * (S1x512x128.size a - 1) < S2x4096x128.size a) ∧
  (∀ k0_t4 : Fin (k0_t4_loop v1_1).trips, ∀ a, S1x512x128.size a = 0 ∨ (k0_off79 v1_1 k0_t4) a + (![1, 8, 1] : Fin 3 → Nat) a * (S1x512x128.size a - 1) < S2x4096x128.size a) ∧
  (∀ k0_t4 : Fin (k0_t4_loop v1_1).trips, ∀ a, S1x512x128.size a = 0 ∨ (k0_off80 v1_1 k0_t4) a + (![1, 8, 1] : Fin 3 → Nat) a * (S1x512x128.size a - 1) < S2x4096x128.size a) ∧
  (∀ k0_t4 : Fin (k0_t4_loop v1_1).trips, ∀ a, S1x512x128.size a = 0 ∨ (k0_off81 v1_1 k0_t4) a + (![1, 8, 1] : Fin 3 → Nat) a * (S1x512x128.size a - 1) < S2x4096x128.size a) ∧
  (∀ k0_t4 : Fin (k0_t4_loop v1_1).trips, ∀ a, S1x512x128.size a = 0 ∨ (k0_off82 v1_1 k0_t4) a + (![1, 8, 1] : Fin 3 → Nat) a * (S1x512x128.size a - 1) < S2x4096x128.size a) ∧
  (∀ k0_t4 : Fin (k0_t4_loop v1_1).trips, ∀ a, S1x512x128.size a = 0 ∨ (k0_off83 v1_1 k0_t4) a + (![1, 8, 1] : Fin 3 → Nat) a * (S1x512x128.size a - 1) < S2x4096x128.size a) ∧
  (∀ k0_t4 : Fin (k0_t4_loop v1_1).trips, ∀ a, S1x512x128.size a = 0 ∨ (k0_off84 v1_1 k0_t4) a + (![1, 8, 1] : Fin 3 → Nat) a * (S1x512x128.size a - 1) < S2x4096x128.size a)
def k0_chk4_1 (v1_1 : BitVec 32) : Prop :=
  (∀ k0_t4 : Fin (k0_t4_loop v1_1).trips, ∀ a, S1x512x128.size a = 0 ∨ (k0_off85 v1_1 k0_t4) a + (![1, 8, 1] : Fin 3 → Nat) a * (S1x512x128.size a - 1) < S2x4096x128.size a) ∧
  (∀ k0_t4 : Fin (k0_t4_loop v1_1).trips, ∀ a, (k0_off86 v1_1 k0_t4) a + S1.size a ≤ S224.size a) ∧
  (∀ k0_t4 : Fin (k0_t4_loop v1_1).trips, ∀ a, (k0_off87 v1_1 k0_t4) a + S1.size a ≤ S224.size a) ∧
  (∀ k0_t4 : Fin (k0_t4_loop v1_1).trips, ∀ a, (k0_off88 v1_1 k0_t4) a + S1.size a ≤ S2.size a) ∧
  (∀ k0_t4 : Fin (k0_t4_loop v1_1).trips, ∀ a, (k0_off90 v1_1 k0_t4) a + S1x4096x128.size a ≤ S2x4096x128.size a) ∧
  ((k0_t6_loop v1_1).OK) ∧
  (∀ k0_t6 : Fin (k0_t6_loop v1_1).trips, ∀ a, (k0_off91 v1_1 k0_t6) a + S1.size a ≤ S224.size a) ∧
  (∀ k0_t6 : Fin (k0_t6_loop v1_1).trips, ∀ a, (k0_off92 v1_1 k0_t6) a + S1.size a ≤ S224.size a) ∧
  (∀ k0_t6 : Fin (k0_t6_loop v1_1).trips, ∀ (k0_h5 : k0_cond5 v1_1 k0_t6 = 1#1), ∀ a, (k0_off93 v1_1 k0_t6) a + S1.size a ≤ S224.size a) ∧
  (∀ k0_t6 : Fin (k0_t6_loop v1_1).trips, ∀ (k0_h5 : k0_cond5 v1_1 k0_t6 = 1#1), ∀ a, (k0_off94 v1_1 k0_t6) a + S1.size a ≤ S2.size a) ∧
  (∀ k0_t6 : Fin (k0_t6_loop v1_1).trips, ∀ (k0_h5 : k0_cond5 v1_1 k0_t6 = 1#1), ∀ a, (k0_off95 v1_1 k0_t6) a + S1x512x2048.size a ≤ S2x512x2048.size a) ∧
  (∀ k0_t6 : Fin (k0_t6_loop v1_1).trips, ∀ (k0_h5 : k0_cond5 v1_1 k0_t6 = 1#1), ∀ (hinb : ∀ a, (k0_off95 v1_1 k0_t6) a + S1x512x2048.size a ≤ S2x512x2048.size a), (Rect.unit (s := S2x512x2048) (k0_off95 v1_1 k0_t6) S1x512x2048.size hinb).WholeWords (EltTy.packing .fp8e4m3)) ∧
  (∀ k0_t6 : Fin (k0_t6_loop v1_1).trips, ∀ (k0_h5 : k0_cond5 v1_1 k0_t6 = 1#1), ∀ a, (k0_off97 v1_1 k0_t6) a + S1x4x1x128.size a ≤ S2x4x1x128.size a) ∧
  (∀ k0_t6 : Fin (k0_t6_loop v1_1).trips, ∀ a, (k0_off142 v1_1 k0_t6) a + S1.size a ≤ S224.size a) ∧
  (∀ k0_t6 : Fin (k0_t6_loop v1_1).trips, ∀ a, (k0_off143 v1_1 k0_t6) a + S1.size a ≤ S2.size a) ∧
  (∀ k0_t6 : Fin (k0_t6_loop v1_1).trips, ∀ a, (k0_off144 v1_1 k0_t6) a + S1x512x2048.size a ≤ S2x512x2048.size a) ∧
  (∀ k0_t6 : Fin (k0_t6_loop v1_1).trips, ∀ (hinb : ∀ a, (k0_off144 v1_1 k0_t6) a + S1x512x2048.size a ≤ S2x512x2048.size a), (Rect.unit (s := S2x512x2048) (k0_off144 v1_1 k0_t6) S1x512x2048.size hinb).WholeWords (EltTy.packing .fp8e4m3)) ∧
  (∀ k0_t6 : Fin (k0_t6_loop v1_1).trips, ∀ a, (k0_off146 v1_1 k0_t6) a + S1x4x1x128.size a ≤ S2x4x1x128.size a) ∧
  (∀ k0_t6 : Fin (k0_t6_loop v1_1).trips, ∀ (k0_h8 : k0_cond8 v1_1 k0_t6 = 1#1), ∀ a, (k0_off148 v1_1 k0_t6) a + S1.size a ≤ S224.size a) ∧
  (∀ k0_t6 : Fin (k0_t6_loop v1_1).trips, ∀ (k0_h8 : k0_cond8 v1_1 k0_t6 = 1#1), ∀ a, (k0_off149 v1_1 k0_t6) a + S1.size a ≤ S224.size a) ∧
  (∀ k0_t6 : Fin (k0_t6_loop v1_1).trips, ∀ (k0_h8 : k0_cond8 v1_1 k0_t6 = 1#1), ∀ a, (k0_off150 v1_1 k0_t6) a + S1.size a ≤ S2.size a) ∧
  (∀ k0_t6 : Fin (k0_t6_loop v1_1).trips, ∀ (k0_h8 : k0_cond8 v1_1 k0_t6 = 1#1), ∀ a, (k0_off152 v1_1 k0_t6) a + S1x4096x128.size a ≤ S2x4096x128.size a) ∧
  (∀ k0_t6 : Fin (k0_t6_loop v1_1).trips, ∀ a, (k0_off153 v1_1 k0_t6) a + S1x1x1x128.size a ≤ S2x4x1x128.size a) ∧
  (∀ k0_t6 : Fin (k0_t6_loop v1_1).trips, ∀ a, (k0_off154 v1_1 k0_t6) a + S1x128x2048.size a ≤ S2x512x2048.size a) ∧
  (∀ k0_t6 : Fin (k0_t6_loop v1_1).trips, ∀ a, (k0_off155 v1_1 k0_t6) a + S1x1x1x128.size a ≤ S2x4x1x128.size a) ∧
  (∀ k0_t6 : Fin (k0_t6_loop v1_1).trips, ∀ a, (k0_off156 v1_1 k0_t6) a + S1x128x2048.size a ≤ S2x512x2048.size a) ∧
  (∀ k0_t6 : Fin (k0_t6_loop v1_1).trips, ∀ a, (k0_off157 v1_1 k0_t6) a + S1x1x1x128.size a ≤ S2x4x1x128.size a) ∧
  (∀ k0_t6 : Fin (k0_t6_loop v1_1).trips, ∀ a, (k0_off158 v1_1 k0_t6) a + S1x128x2048.size a ≤ S2x512x2048.size a) ∧
  (∀ k0_t6 : Fin (k0_t6_loop v1_1).trips, ∀ a, (k0_off159 v1_1 k0_t6) a + S1x1x1x128.size a ≤ S2x4x1x128.size a) ∧
  (∀ k0_t6 : Fin (k0_t6_loop v1_1).trips, ∀ a, (k0_off160 v1_1 k0_t6) a + S1x128x2048.size a ≤ S2x512x2048.size a) ∧
  (∀ k0_t6 : Fin (k0_t6_loop v1_1).trips, ∀ a, S1x512x128.size a = 0 ∨ (k0_off161 v1_1 k0_t6) a + (![1, 8, 1] : Fin 3 → Nat) a * (S1x512x128.size a - 1) < S2x4096x128.size a) ∧
  (∀ k0_t6 : Fin (k0_t6_loop v1_1).trips, ∀ a, S1x512x128.size a = 0 ∨ (k0_off162 v1_1 k0_t6) a + (![1, 8, 1] : Fin 3 → Nat) a * (S1x512x128.size a - 1) < S2x4096x128.size a)
def k0_chk4_2 (v1_1 : BitVec 32) : Prop :=
  (∀ k0_t6 : Fin (k0_t6_loop v1_1).trips, ∀ a, S1x512x128.size a = 0 ∨ (k0_off163 v1_1 k0_t6) a + (![1, 8, 1] : Fin 3 → Nat) a * (S1x512x128.size a - 1) < S2x4096x128.size a) ∧
  (∀ k0_t6 : Fin (k0_t6_loop v1_1).trips, ∀ a, S1x512x128.size a = 0 ∨ (k0_off164 v1_1 k0_t6) a + (![1, 8, 1] : Fin 3 → Nat) a * (S1x512x128.size a - 1) < S2x4096x128.size a) ∧
  (∀ k0_t6 : Fin (k0_t6_loop v1_1).trips, ∀ a, S1x512x128.size a = 0 ∨ (k0_off165 v1_1 k0_t6) a + (![1, 8, 1] : Fin 3 → Nat) a * (S1x512x128.size a - 1) < S2x4096x128.size a) ∧
  (∀ k0_t6 : Fin (k0_t6_loop v1_1).trips, ∀ a, S1x512x128.size a = 0 ∨ (k0_off166 v1_1 k0_t6) a + (![1, 8, 1] : Fin 3 → Nat) a * (S1x512x128.size a - 1) < S2x4096x128.size a) ∧
  (∀ k0_t6 : Fin (k0_t6_loop v1_1).trips, ∀ a, S1x512x128.size a = 0 ∨ (k0_off167 v1_1 k0_t6) a + (![1, 8, 1] : Fin 3 → Nat) a * (S1x512x128.size a - 1) < S2x4096x128.size a) ∧
  (∀ k0_t6 : Fin (k0_t6_loop v1_1).trips, ∀ a, S1x512x128.size a = 0 ∨ (k0_off168 v1_1 k0_t6) a + (![1, 8, 1] : Fin 3 → Nat) a * (S1x512x128.size a - 1) < S2x4096x128.size a) ∧
  (∀ k0_t6 : Fin (k0_t6_loop v1_1).trips, ∀ a, (k0_off169 v1_1 k0_t6) a + S1.size a ≤ S224.size a) ∧
  (∀ k0_t6 : Fin (k0_t6_loop v1_1).trips, ∀ a, (k0_off170 v1_1 k0_t6) a + S1.size a ≤ S224.size a) ∧
  (∀ k0_t6 : Fin (k0_t6_loop v1_1).trips, ∀ a, (k0_off171 v1_1 k0_t6) a + S1.size a ≤ S2.size a) ∧
  (∀ k0_t6 : Fin (k0_t6_loop v1_1).trips, ∀ a, (k0_off173 v1_1 k0_t6) a + S1x4096x128.size a ≤ S2x4096x128.size a) ∧
  (∀ (k0_h9 : k0_cond9 v1_1 = 1#1), ∀ a, (k0_off174 v1_1) a + S1.size a ≤ S224.size a) ∧
  (∀ (k0_h9 : k0_cond9 v1_1 = 1#1), ∀ a, (k0_off175 v1_1) a + S1.size a ≤ S224.size a) ∧
  (∀ (k0_h9 : k0_cond9 v1_1 = 1#1), ∀ a, (k0_off176 v1_1) a + S1.size a ≤ S2.size a) ∧
  (∀ (k0_h9 : k0_cond9 v1_1 = 1#1), ∀ a, (k0_off178 v1_1) a + S1x4096x128.size a ≤ S2x4096x128.size a) ∧
  (∀ a, (k0_off179 v1_1) a + S1.size a ≤ S224.size a) ∧
  (∀ a, (k0_off180 v1_1) a + S1.size a ≤ S224.size a) ∧
  (∀ a, (k0_off181 v1_1) a + S1.size a ≤ S2.size a) ∧
  (∀ a, (k0_off183 v1_1) a + S1x4096x128.size a ≤ S2x4096x128.size a)
def k0_chk4 (v1_1 : BitVec 32) : Prop :=
  k0_chk4_0 v1_1 ∧
  k0_chk4_1 v1_1 ∧
  k0_chk4_2 v1_1
theorem k0_t4_ok : ∀ (v1_1 : BitVec 32) (k0_hw4 : k0_chk4 v1_1), (k0_t4_loop v1_1).OK := fun v1_1 k0_hw4 => k0_hw4.1.1
theorem k0_off8_inb : ∀ (v1_1 : BitVec 32) (k0_hw4 : k0_chk4 v1_1) (k0_t4 : Fin (k0_t4_loop v1_1).trips), ∀ a, (k0_off8 v1_1 k0_t4) a + S1.size a ≤ S224.size a := fun v1_1 k0_hw4 k0_t4 => k0_hw4.1.2.1 k0_t4
theorem k0_off9_inb : ∀ (v1_1 : BitVec 32) (k0_hw4 : k0_chk4 v1_1) (k0_t4 : Fin (k0_t4_loop v1_1).trips), ∀ a, (k0_off9 v1_1 k0_t4) a + S1.size a ≤ S224.size a := fun v1_1 k0_hw4 k0_t4 => k0_hw4.1.2.2.1 k0_t4
theorem k0_off10_inb : ∀ (v1_1 : BitVec 32) (k0_hw4 : k0_chk4 v1_1) (k0_t4 : Fin (k0_t4_loop v1_1).trips), ∀ (k0_h1 : k0_cond1 v1_1 k0_t4 = 1#1), ∀ a, (k0_off10 v1_1 k0_t4) a + S1.size a ≤ S224.size a := fun v1_1 k0_hw4 k0_t4 k0_h1 => k0_hw4.1.2.2.2.1 k0_t4 k0_h1
theorem k0_off11_inb : ∀ (v1_1 : BitVec 32) (k0_hw4 : k0_chk4 v1_1) (k0_t4 : Fin (k0_t4_loop v1_1).trips), ∀ (k0_h1 : k0_cond1 v1_1 k0_t4 = 1#1), ∀ a, (k0_off11 v1_1 k0_t4) a + S1.size a ≤ S2.size a := fun v1_1 k0_hw4 k0_t4 k0_h1 => k0_hw4.1.2.2.2.2.1 k0_t4 k0_h1
theorem k0_off12_inb : ∀ (v1_1 : BitVec 32) (k0_hw4 : k0_chk4 v1_1) (k0_t4 : Fin (k0_t4_loop v1_1).trips), ∀ (k0_h1 : k0_cond1 v1_1 k0_t4 = 1#1), ∀ a, (k0_off12 v1_1 k0_t4) a + S1x512x2048.size a ≤ S2x512x2048.size a := fun v1_1 k0_hw4 k0_t4 k0_h1 => k0_hw4.1.2.2.2.2.2.1 k0_t4 k0_h1
theorem k0_off12_wordsfp8e4m3 : ∀ (v1_1 : BitVec 32) (k0_hw4 : k0_chk4 v1_1) (k0_t4 : Fin (k0_t4_loop v1_1).trips), ∀ (k0_h1 : k0_cond1 v1_1 k0_t4 = 1#1), (Rect.unit (s := S2x512x2048) (k0_off12 v1_1 k0_t4) S1x512x2048.size (k0_off12_inb v1_1 k0_hw4 k0_t4 k0_h1)).WholeWords (EltTy.packing .fp8e4m3) := fun v1_1 k0_hw4 k0_t4 k0_h1 => k0_hw4.1.2.2.2.2.2.2.1 k0_t4 k0_h1 (k0_off12_inb v1_1 k0_hw4 k0_t4 k0_h1)
theorem k0_off14_inb : ∀ (v1_1 : BitVec 32) (k0_hw4 : k0_chk4 v1_1) (k0_t4 : Fin (k0_t4_loop v1_1).trips), ∀ (k0_h1 : k0_cond1 v1_1 k0_t4 = 1#1), ∀ a, (k0_off14 v1_1 k0_t4) a + S1x4x1x128.size a ≤ S2x4x1x128.size a := fun v1_1 k0_hw4 k0_t4 k0_h1 => k0_hw4.1.2.2.2.2.2.2.2.1 k0_t4 k0_h1
theorem k0_off59_inb : ∀ (v1_1 : BitVec 32) (k0_hw4 : k0_chk4 v1_1) (k0_t4 : Fin (k0_t4_loop v1_1).trips), ∀ a, (k0_off59 v1_1 k0_t4) a + S1.size a ≤ S224.size a := fun v1_1 k0_hw4 k0_t4 => k0_hw4.1.2.2.2.2.2.2.2.2.1 k0_t4
theorem k0_off60_inb : ∀ (v1_1 : BitVec 32) (k0_hw4 : k0_chk4 v1_1) (k0_t4 : Fin (k0_t4_loop v1_1).trips), ∀ a, (k0_off60 v1_1 k0_t4) a + S1.size a ≤ S2.size a := fun v1_1 k0_hw4 k0_t4 => k0_hw4.1.2.2.2.2.2.2.2.2.2.1 k0_t4
theorem k0_off61_inb : ∀ (v1_1 : BitVec 32) (k0_hw4 : k0_chk4 v1_1) (k0_t4 : Fin (k0_t4_loop v1_1).trips), ∀ a, (k0_off61 v1_1 k0_t4) a + S1x512x2048.size a ≤ S2x512x2048.size a := fun v1_1 k0_hw4 k0_t4 => k0_hw4.1.2.2.2.2.2.2.2.2.2.2.1 k0_t4
theorem k0_off61_wordsfp8e4m3 : ∀ (v1_1 : BitVec 32) (k0_hw4 : k0_chk4 v1_1) (k0_t4 : Fin (k0_t4_loop v1_1).trips), (Rect.unit (s := S2x512x2048) (k0_off61 v1_1 k0_t4) S1x512x2048.size (k0_off61_inb v1_1 k0_hw4 k0_t4)).WholeWords (EltTy.packing .fp8e4m3) := fun v1_1 k0_hw4 k0_t4 => k0_hw4.1.2.2.2.2.2.2.2.2.2.2.2.1 k0_t4 (k0_off61_inb v1_1 k0_hw4 k0_t4)
theorem k0_off63_inb : ∀ (v1_1 : BitVec 32) (k0_hw4 : k0_chk4 v1_1) (k0_t4 : Fin (k0_t4_loop v1_1).trips), ∀ a, (k0_off63 v1_1 k0_t4) a + S1x4x1x128.size a ≤ S2x4x1x128.size a := fun v1_1 k0_hw4 k0_t4 => k0_hw4.1.2.2.2.2.2.2.2.2.2.2.2.2.1 k0_t4
theorem k0_off65_inb : ∀ (v1_1 : BitVec 32) (k0_hw4 : k0_chk4 v1_1) (k0_t4 : Fin (k0_t4_loop v1_1).trips), ∀ (k0_h4 : k0_cond4 v1_1 k0_t4 = 1#1), ∀ a, (k0_off65 v1_1 k0_t4) a + S1.size a ≤ S224.size a := fun v1_1 k0_hw4 k0_t4 k0_h4 => k0_hw4.1.2.2.2.2.2.2.2.2.2.2.2.2.2.1 k0_t4 k0_h4
theorem k0_off66_inb : ∀ (v1_1 : BitVec 32) (k0_hw4 : k0_chk4 v1_1) (k0_t4 : Fin (k0_t4_loop v1_1).trips), ∀ (k0_h4 : k0_cond4 v1_1 k0_t4 = 1#1), ∀ a, (k0_off66 v1_1 k0_t4) a + S1.size a ≤ S224.size a := fun v1_1 k0_hw4 k0_t4 k0_h4 => k0_hw4.1.2.2.2.2.2.2.2.2.2.2.2.2.2.2.1 k0_t4 k0_h4
theorem k0_off67_inb : ∀ (v1_1 : BitVec 32) (k0_hw4 : k0_chk4 v1_1) (k0_t4 : Fin (k0_t4_loop v1_1).trips), ∀ (k0_h4 : k0_cond4 v1_1 k0_t4 = 1#1), ∀ a, (k0_off67 v1_1 k0_t4) a + S1.size a ≤ S2.size a := fun v1_1 k0_hw4 k0_t4 k0_h4 => k0_hw4.1.2.2.2.2.2.2.2.2.2.2.2.2.2.2.2.1 k0_t4 k0_h4
theorem k0_off69_inb : ∀ (v1_1 : BitVec 32) (k0_hw4 : k0_chk4 v1_1) (k0_t4 : Fin (k0_t4_loop v1_1).trips), ∀ (k0_h4 : k0_cond4 v1_1 k0_t4 = 1#1), ∀ a, (k0_off69 v1_1 k0_t4) a + S1x4096x128.size a ≤ S2x4096x128.size a := fun v1_1 k0_hw4 k0_t4 k0_h4 => k0_hw4.1.2.2.2.2.2.2.2.2.2.2.2.2.2.2.2.2.1 k0_t4 k0_h4
theorem k0_off70_inb : ∀ (v1_1 : BitVec 32) (k0_hw4 : k0_chk4 v1_1) (k0_t4 : Fin (k0_t4_loop v1_1).trips), ∀ a, (k0_off70 v1_1 k0_t4) a + S1x1x1x128.size a ≤ S2x4x1x128.size a := fun v1_1 k0_hw4 k0_t4 => k0_hw4.1.2.2.2.2.2.2.2.2.2.2.2.2.2.2.2.2.2.1 k0_t4
theorem k0_off71_inb : ∀ (v1_1 : BitVec 32) (k0_hw4 : k0_chk4 v1_1) (k0_t4 : Fin (k0_t4_loop v1_1).trips), ∀ a, (k0_off71 v1_1 k0_t4) a + S1x128x2048.size a ≤ S2x512x2048.size a := fun v1_1 k0_hw4 k0_t4 => k0_hw4.1.2.2.2.2.2.2.2.2.2.2.2.2.2.2.2.2.2.2.1 k0_t4
theorem k0_off72_inb : ∀ (v1_1 : BitVec 32) (k0_hw4 : k0_chk4 v1_1) (k0_t4 : Fin (k0_t4_loop v1_1).trips), ∀ a, (k0_off72 v1_1 k0_t4) a + S1x1x1x128.size a ≤ S2x4x1x128.size a := fun v1_1 k0_hw4 k0_t4 => k0_hw4.1.2.2.2.2.2.2.2.2.2.2.2.2.2.2.2.2.2.2.2.1 k0_t4
theorem k0_off73_inb : ∀ (v1_1 : BitVec 32) (k0_hw4 : k0_chk4 v1_1) (k0_t4 : Fin (k0_t4_loop v1_1).trips), ∀ a, (k0_off73 v1_1 k0_t4) a + S1x128x2048.size a ≤ S2x512x2048.size a := fun v1_1 k0_hw4 k0_t4 => k0_hw4.1.2.2.2.2.2.2.2.2.2.2.2.2.2.2.2.2.2.2.2.2.1 k0_t4
theorem k0_off74_inb : ∀ (v1_1 : BitVec 32) (k0_hw4 : k0_chk4 v1_1) (k0_t4 : Fin (k0_t4_loop v1_1).trips), ∀ a, (k0_off74 v1_1 k0_t4) a + S1x1x1x128.size a ≤ S2x4x1x128.size a := fun v1_1 k0_hw4 k0_t4 => k0_hw4.1.2.2.2.2.2.2.2.2.2.2.2.2.2.2.2.2.2.2.2.2.2.1 k0_t4
theorem k0_off75_inb : ∀ (v1_1 : BitVec 32) (k0_hw4 : k0_chk4 v1_1) (k0_t4 : Fin (k0_t4_loop v1_1).trips), ∀ a, (k0_off75 v1_1 k0_t4) a + S1x128x2048.size a ≤ S2x512x2048.size a := fun v1_1 k0_hw4 k0_t4 => k0_hw4.1.2.2.2.2.2.2.2.2.2.2.2.2.2.2.2.2.2.2.2.2.2.2.1 k0_t4
theorem k0_off76_inb : ∀ (v1_1 : BitVec 32) (k0_hw4 : k0_chk4 v1_1) (k0_t4 : Fin (k0_t4_loop v1_1).trips), ∀ a, (k0_off76 v1_1 k0_t4) a + S1x1x1x128.size a ≤ S2x4x1x128.size a := fun v1_1 k0_hw4 k0_t4 => k0_hw4.1.2.2.2.2.2.2.2.2.2.2.2.2.2.2.2.2.2.2.2.2.2.2.2.1 k0_t4
theorem k0_off77_inb : ∀ (v1_1 : BitVec 32) (k0_hw4 : k0_chk4 v1_1) (k0_t4 : Fin (k0_t4_loop v1_1).trips), ∀ a, (k0_off77 v1_1 k0_t4) a + S1x128x2048.size a ≤ S2x512x2048.size a := fun v1_1 k0_hw4 k0_t4 => k0_hw4.1.2.2.2.2.2.2.2.2.2.2.2.2.2.2.2.2.2.2.2.2.2.2.2.2.1 k0_t4
theorem k0_off78_inb : ∀ (v1_1 : BitVec 32) (k0_hw4 : k0_chk4 v1_1) (k0_t4 : Fin (k0_t4_loop v1_1).trips), ∀ a, S1x512x128.size a = 0 ∨ (k0_off78 v1_1 k0_t4) a + (![1, 8, 1] : Fin 3 → Nat) a * (S1x512x128.size a - 1) < S2x4096x128.size a := fun v1_1 k0_hw4 k0_t4 => k0_hw4.1.2.2.2.2.2.2.2.2.2.2.2.2.2.2.2.2.2.2.2.2.2.2.2.2.2.1 k0_t4
theorem k0_off79_inb : ∀ (v1_1 : BitVec 32) (k0_hw4 : k0_chk4 v1_1) (k0_t4 : Fin (k0_t4_loop v1_1).trips), ∀ a, S1x512x128.size a = 0 ∨ (k0_off79 v1_1 k0_t4) a + (![1, 8, 1] : Fin 3 → Nat) a * (S1x512x128.size a - 1) < S2x4096x128.size a := fun v1_1 k0_hw4 k0_t4 => k0_hw4.1.2.2.2.2.2.2.2.2.2.2.2.2.2.2.2.2.2.2.2.2.2.2.2.2.2.2.1 k0_t4
theorem k0_off80_inb : ∀ (v1_1 : BitVec 32) (k0_hw4 : k0_chk4 v1_1) (k0_t4 : Fin (k0_t4_loop v1_1).trips), ∀ a, S1x512x128.size a = 0 ∨ (k0_off80 v1_1 k0_t4) a + (![1, 8, 1] : Fin 3 → Nat) a * (S1x512x128.size a - 1) < S2x4096x128.size a := fun v1_1 k0_hw4 k0_t4 => k0_hw4.1.2.2.2.2.2.2.2.2.2.2.2.2.2.2.2.2.2.2.2.2.2.2.2.2.2.2.2.1 k0_t4
theorem k0_off81_inb : ∀ (v1_1 : BitVec 32) (k0_hw4 : k0_chk4 v1_1) (k0_t4 : Fin (k0_t4_loop v1_1).trips), ∀ a, S1x512x128.size a = 0 ∨ (k0_off81 v1_1 k0_t4) a + (![1, 8, 1] : Fin 3 → Nat) a * (S1x512x128.size a - 1) < S2x4096x128.size a := fun v1_1 k0_hw4 k0_t4 => k0_hw4.1.2.2.2.2.2.2.2.2.2.2.2.2.2.2.2.2.2.2.2.2.2.2.2.2.2.2.2.2.1 k0_t4
theorem k0_off82_inb : ∀ (v1_1 : BitVec 32) (k0_hw4 : k0_chk4 v1_1) (k0_t4 : Fin (k0_t4_loop v1_1).trips), ∀ a, S1x512x128.size a = 0 ∨ (k0_off82 v1_1 k0_t4) a + (![1, 8, 1] : Fin 3 → Nat) a * (S1x512x128.size a - 1) < S2x4096x128.size a := fun v1_1 k0_hw4 k0_t4 => k0_hw4.1.2.2.2.2.2.2.2.2.2.2.2.2.2.2.2.2.2.2.2.2.2.2.2.2.2.2.2.2.2.1 k0_t4
theorem k0_off83_inb : ∀ (v1_1 : BitVec 32) (k0_hw4 : k0_chk4 v1_1) (k0_t4 : Fin (k0_t4_loop v1_1).trips), ∀ a, S1x512x128.size a = 0 ∨ (k0_off83 v1_1 k0_t4) a + (![1, 8, 1] : Fin 3 → Nat) a * (S1x512x128.size a - 1) < S2x4096x128.size a := fun v1_1 k0_hw4 k0_t4 => k0_hw4.1.2.2.2.2.2.2.2.2.2.2.2.2.2.2.2.2.2.2.2.2.2.2.2.2.2.2.2.2.2.2.1 k0_t4
theorem k0_off84_inb : ∀ (v1_1 : BitVec 32) (k0_hw4 : k0_chk4 v1_1) (k0_t4 : Fin (k0_t4_loop v1_1).trips), ∀ a, S1x512x128.size a = 0 ∨ (k0_off84 v1_1 k0_t4) a + (![1, 8, 1] : Fin 3 → Nat) a * (S1x512x128.size a - 1) < S2x4096x128.size a := fun v1_1 k0_hw4 k0_t4 => k0_hw4.1.2.2.2.2.2.2.2.2.2.2.2.2.2.2.2.2.2.2.2.2.2.2.2.2.2.2.2.2.2.2.2 k0_t4
theorem k0_off85_inb : ∀ (v1_1 : BitVec 32) (k0_hw4 : k0_chk4 v1_1) (k0_t4 : Fin (k0_t4_loop v1_1).trips), ∀ a, S1x512x128.size a = 0 ∨ (k0_off85 v1_1 k0_t4) a + (![1, 8, 1] : Fin 3 → Nat) a * (S1x512x128.size a - 1) < S2x4096x128.size a := fun v1_1 k0_hw4 k0_t4 => k0_hw4.2.1.1 k0_t4
theorem k0_off86_inb : ∀ (v1_1 : BitVec 32) (k0_hw4 : k0_chk4 v1_1) (k0_t4 : Fin (k0_t4_loop v1_1).trips), ∀ a, (k0_off86 v1_1 k0_t4) a + S1.size a ≤ S224.size a := fun v1_1 k0_hw4 k0_t4 => k0_hw4.2.1.2.1 k0_t4
theorem k0_off87_inb : ∀ (v1_1 : BitVec 32) (k0_hw4 : k0_chk4 v1_1) (k0_t4 : Fin (k0_t4_loop v1_1).trips), ∀ a, (k0_off87 v1_1 k0_t4) a + S1.size a ≤ S224.size a := fun v1_1 k0_hw4 k0_t4 => k0_hw4.2.1.2.2.1 k0_t4
theorem k0_off88_inb : ∀ (v1_1 : BitVec 32) (k0_hw4 : k0_chk4 v1_1) (k0_t4 : Fin (k0_t4_loop v1_1).trips), ∀ a, (k0_off88 v1_1 k0_t4) a + S1.size a ≤ S2.size a := fun v1_1 k0_hw4 k0_t4 => k0_hw4.2.1.2.2.2.1 k0_t4
theorem k0_off90_inb : ∀ (v1_1 : BitVec 32) (k0_hw4 : k0_chk4 v1_1) (k0_t4 : Fin (k0_t4_loop v1_1).trips), ∀ a, (k0_off90 v1_1 k0_t4) a + S1x4096x128.size a ≤ S2x4096x128.size a := fun v1_1 k0_hw4 k0_t4 => k0_hw4.2.1.2.2.2.2.1 k0_t4
theorem k0_t6_ok : ∀ (v1_1 : BitVec 32) (k0_hw4 : k0_chk4 v1_1), (k0_t6_loop v1_1).OK := fun v1_1 k0_hw4 => k0_hw4.2.1.2.2.2.2.2.1
theorem k0_off91_inb : ∀ (v1_1 : BitVec 32) (k0_hw4 : k0_chk4 v1_1) (k0_t6 : Fin (k0_t6_loop v1_1).trips), ∀ a, (k0_off91 v1_1 k0_t6) a + S1.size a ≤ S224.size a := fun v1_1 k0_hw4 k0_t6 => k0_hw4.2.1.2.2.2.2.2.2.1 k0_t6
theorem k0_off92_inb : ∀ (v1_1 : BitVec 32) (k0_hw4 : k0_chk4 v1_1) (k0_t6 : Fin (k0_t6_loop v1_1).trips), ∀ a, (k0_off92 v1_1 k0_t6) a + S1.size a ≤ S224.size a := fun v1_1 k0_hw4 k0_t6 => k0_hw4.2.1.2.2.2.2.2.2.2.1 k0_t6
theorem k0_off93_inb : ∀ (v1_1 : BitVec 32) (k0_hw4 : k0_chk4 v1_1) (k0_t6 : Fin (k0_t6_loop v1_1).trips), ∀ (k0_h5 : k0_cond5 v1_1 k0_t6 = 1#1), ∀ a, (k0_off93 v1_1 k0_t6) a + S1.size a ≤ S224.size a := fun v1_1 k0_hw4 k0_t6 k0_h5 => k0_hw4.2.1.2.2.2.2.2.2.2.2.1 k0_t6 k0_h5
theorem k0_off94_inb : ∀ (v1_1 : BitVec 32) (k0_hw4 : k0_chk4 v1_1) (k0_t6 : Fin (k0_t6_loop v1_1).trips), ∀ (k0_h5 : k0_cond5 v1_1 k0_t6 = 1#1), ∀ a, (k0_off94 v1_1 k0_t6) a + S1.size a ≤ S2.size a := fun v1_1 k0_hw4 k0_t6 k0_h5 => k0_hw4.2.1.2.2.2.2.2.2.2.2.2.1 k0_t6 k0_h5
theorem k0_off95_inb : ∀ (v1_1 : BitVec 32) (k0_hw4 : k0_chk4 v1_1) (k0_t6 : Fin (k0_t6_loop v1_1).trips), ∀ (k0_h5 : k0_cond5 v1_1 k0_t6 = 1#1), ∀ a, (k0_off95 v1_1 k0_t6) a + S1x512x2048.size a ≤ S2x512x2048.size a := fun v1_1 k0_hw4 k0_t6 k0_h5 => k0_hw4.2.1.2.2.2.2.2.2.2.2.2.2.1 k0_t6 k0_h5
theorem k0_off95_wordsfp8e4m3 : ∀ (v1_1 : BitVec 32) (k0_hw4 : k0_chk4 v1_1) (k0_t6 : Fin (k0_t6_loop v1_1).trips), ∀ (k0_h5 : k0_cond5 v1_1 k0_t6 = 1#1), (Rect.unit (s := S2x512x2048) (k0_off95 v1_1 k0_t6) S1x512x2048.size (k0_off95_inb v1_1 k0_hw4 k0_t6 k0_h5)).WholeWords (EltTy.packing .fp8e4m3) := fun v1_1 k0_hw4 k0_t6 k0_h5 => k0_hw4.2.1.2.2.2.2.2.2.2.2.2.2.2.1 k0_t6 k0_h5 (k0_off95_inb v1_1 k0_hw4 k0_t6 k0_h5)
theorem k0_off97_inb : ∀ (v1_1 : BitVec 32) (k0_hw4 : k0_chk4 v1_1) (k0_t6 : Fin (k0_t6_loop v1_1).trips), ∀ (k0_h5 : k0_cond5 v1_1 k0_t6 = 1#1), ∀ a, (k0_off97 v1_1 k0_t6) a + S1x4x1x128.size a ≤ S2x4x1x128.size a := fun v1_1 k0_hw4 k0_t6 k0_h5 => k0_hw4.2.1.2.2.2.2.2.2.2.2.2.2.2.2.1 k0_t6 k0_h5
theorem k0_off142_inb : ∀ (v1_1 : BitVec 32) (k0_hw4 : k0_chk4 v1_1) (k0_t6 : Fin (k0_t6_loop v1_1).trips), ∀ a, (k0_off142 v1_1 k0_t6) a + S1.size a ≤ S224.size a := fun v1_1 k0_hw4 k0_t6 => k0_hw4.2.1.2.2.2.2.2.2.2.2.2.2.2.2.2.1 k0_t6
theorem k0_off143_inb : ∀ (v1_1 : BitVec 32) (k0_hw4 : k0_chk4 v1_1) (k0_t6 : Fin (k0_t6_loop v1_1).trips), ∀ a, (k0_off143 v1_1 k0_t6) a + S1.size a ≤ S2.size a := fun v1_1 k0_hw4 k0_t6 => k0_hw4.2.1.2.2.2.2.2.2.2.2.2.2.2.2.2.2.1 k0_t6
theorem k0_off144_inb : ∀ (v1_1 : BitVec 32) (k0_hw4 : k0_chk4 v1_1) (k0_t6 : Fin (k0_t6_loop v1_1).trips), ∀ a, (k0_off144 v1_1 k0_t6) a + S1x512x2048.size a ≤ S2x512x2048.size a := fun v1_1 k0_hw4 k0_t6 => k0_hw4.2.1.2.2.2.2.2.2.2.2.2.2.2.2.2.2.2.1 k0_t6
theorem k0_off144_wordsfp8e4m3 : ∀ (v1_1 : BitVec 32) (k0_hw4 : k0_chk4 v1_1) (k0_t6 : Fin (k0_t6_loop v1_1).trips), (Rect.unit (s := S2x512x2048) (k0_off144 v1_1 k0_t6) S1x512x2048.size (k0_off144_inb v1_1 k0_hw4 k0_t6)).WholeWords (EltTy.packing .fp8e4m3) := fun v1_1 k0_hw4 k0_t6 => k0_hw4.2.1.2.2.2.2.2.2.2.2.2.2.2.2.2.2.2.2.1 k0_t6 (k0_off144_inb v1_1 k0_hw4 k0_t6)
theorem k0_off146_inb : ∀ (v1_1 : BitVec 32) (k0_hw4 : k0_chk4 v1_1) (k0_t6 : Fin (k0_t6_loop v1_1).trips), ∀ a, (k0_off146 v1_1 k0_t6) a + S1x4x1x128.size a ≤ S2x4x1x128.size a := fun v1_1 k0_hw4 k0_t6 => k0_hw4.2.1.2.2.2.2.2.2.2.2.2.2.2.2.2.2.2.2.2.1 k0_t6
theorem k0_off148_inb : ∀ (v1_1 : BitVec 32) (k0_hw4 : k0_chk4 v1_1) (k0_t6 : Fin (k0_t6_loop v1_1).trips), ∀ (k0_h8 : k0_cond8 v1_1 k0_t6 = 1#1), ∀ a, (k0_off148 v1_1 k0_t6) a + S1.size a ≤ S224.size a := fun v1_1 k0_hw4 k0_t6 k0_h8 => k0_hw4.2.1.2.2.2.2.2.2.2.2.2.2.2.2.2.2.2.2.2.2.1 k0_t6 k0_h8
theorem k0_off149_inb : ∀ (v1_1 : BitVec 32) (k0_hw4 : k0_chk4 v1_1) (k0_t6 : Fin (k0_t6_loop v1_1).trips), ∀ (k0_h8 : k0_cond8 v1_1 k0_t6 = 1#1), ∀ a, (k0_off149 v1_1 k0_t6) a + S1.size a ≤ S224.size a := fun v1_1 k0_hw4 k0_t6 k0_h8 => k0_hw4.2.1.2.2.2.2.2.2.2.2.2.2.2.2.2.2.2.2.2.2.2.1 k0_t6 k0_h8
theorem k0_off150_inb : ∀ (v1_1 : BitVec 32) (k0_hw4 : k0_chk4 v1_1) (k0_t6 : Fin (k0_t6_loop v1_1).trips), ∀ (k0_h8 : k0_cond8 v1_1 k0_t6 = 1#1), ∀ a, (k0_off150 v1_1 k0_t6) a + S1.size a ≤ S2.size a := fun v1_1 k0_hw4 k0_t6 k0_h8 => k0_hw4.2.1.2.2.2.2.2.2.2.2.2.2.2.2.2.2.2.2.2.2.2.2.1 k0_t6 k0_h8
theorem k0_off152_inb : ∀ (v1_1 : BitVec 32) (k0_hw4 : k0_chk4 v1_1) (k0_t6 : Fin (k0_t6_loop v1_1).trips), ∀ (k0_h8 : k0_cond8 v1_1 k0_t6 = 1#1), ∀ a, (k0_off152 v1_1 k0_t6) a + S1x4096x128.size a ≤ S2x4096x128.size a := fun v1_1 k0_hw4 k0_t6 k0_h8 => k0_hw4.2.1.2.2.2.2.2.2.2.2.2.2.2.2.2.2.2.2.2.2.2.2.2.1 k0_t6 k0_h8
theorem k0_off153_inb : ∀ (v1_1 : BitVec 32) (k0_hw4 : k0_chk4 v1_1) (k0_t6 : Fin (k0_t6_loop v1_1).trips), ∀ a, (k0_off153 v1_1 k0_t6) a + S1x1x1x128.size a ≤ S2x4x1x128.size a := fun v1_1 k0_hw4 k0_t6 => k0_hw4.2.1.2.2.2.2.2.2.2.2.2.2.2.2.2.2.2.2.2.2.2.2.2.2.1 k0_t6
theorem k0_off154_inb : ∀ (v1_1 : BitVec 32) (k0_hw4 : k0_chk4 v1_1) (k0_t6 : Fin (k0_t6_loop v1_1).trips), ∀ a, (k0_off154 v1_1 k0_t6) a + S1x128x2048.size a ≤ S2x512x2048.size a := fun v1_1 k0_hw4 k0_t6 => k0_hw4.2.1.2.2.2.2.2.2.2.2.2.2.2.2.2.2.2.2.2.2.2.2.2.2.2.1 k0_t6
theorem k0_off155_inb : ∀ (v1_1 : BitVec 32) (k0_hw4 : k0_chk4 v1_1) (k0_t6 : Fin (k0_t6_loop v1_1).trips), ∀ a, (k0_off155 v1_1 k0_t6) a + S1x1x1x128.size a ≤ S2x4x1x128.size a := fun v1_1 k0_hw4 k0_t6 => k0_hw4.2.1.2.2.2.2.2.2.2.2.2.2.2.2.2.2.2.2.2.2.2.2.2.2.2.2.1 k0_t6
theorem k0_off156_inb : ∀ (v1_1 : BitVec 32) (k0_hw4 : k0_chk4 v1_1) (k0_t6 : Fin (k0_t6_loop v1_1).trips), ∀ a, (k0_off156 v1_1 k0_t6) a + S1x128x2048.size a ≤ S2x512x2048.size a := fun v1_1 k0_hw4 k0_t6 => k0_hw4.2.1.2.2.2.2.2.2.2.2.2.2.2.2.2.2.2.2.2.2.2.2.2.2.2.2.2.1 k0_t6
theorem k0_off157_inb : ∀ (v1_1 : BitVec 32) (k0_hw4 : k0_chk4 v1_1) (k0_t6 : Fin (k0_t6_loop v1_1).trips), ∀ a, (k0_off157 v1_1 k0_t6) a + S1x1x1x128.size a ≤ S2x4x1x128.size a := fun v1_1 k0_hw4 k0_t6 => k0_hw4.2.1.2.2.2.2.2.2.2.2.2.2.2.2.2.2.2.2.2.2.2.2.2.2.2.2.2.2.1 k0_t6
theorem k0_off158_inb : ∀ (v1_1 : BitVec 32) (k0_hw4 : k0_chk4 v1_1) (k0_t6 : Fin (k0_t6_loop v1_1).trips), ∀ a, (k0_off158 v1_1 k0_t6) a + S1x128x2048.size a ≤ S2x512x2048.size a := fun v1_1 k0_hw4 k0_t6 => k0_hw4.2.1.2.2.2.2.2.2.2.2.2.2.2.2.2.2.2.2.2.2.2.2.2.2.2.2.2.2.2.1 k0_t6
theorem k0_off159_inb : ∀ (v1_1 : BitVec 32) (k0_hw4 : k0_chk4 v1_1) (k0_t6 : Fin (k0_t6_loop v1_1).trips), ∀ a, (k0_off159 v1_1 k0_t6) a + S1x1x1x128.size a ≤ S2x4x1x128.size a := fun v1_1 k0_hw4 k0_t6 => k0_hw4.2.1.2.2.2.2.2.2.2.2.2.2.2.2.2.2.2.2.2.2.2.2.2.2.2.2.2.2.2.2.1 k0_t6
theorem k0_off160_inb : ∀ (v1_1 : BitVec 32) (k0_hw4 : k0_chk4 v1_1) (k0_t6 : Fin (k0_t6_loop v1_1).trips), ∀ a, (k0_off160 v1_1 k0_t6) a + S1x128x2048.size a ≤ S2x512x2048.size a := fun v1_1 k0_hw4 k0_t6 => k0_hw4.2.1.2.2.2.2.2.2.2.2.2.2.2.2.2.2.2.2.2.2.2.2.2.2.2.2.2.2.2.2.2.1 k0_t6
theorem k0_off161_inb : ∀ (v1_1 : BitVec 32) (k0_hw4 : k0_chk4 v1_1) (k0_t6 : Fin (k0_t6_loop v1_1).trips), ∀ a, S1x512x128.size a = 0 ∨ (k0_off161 v1_1 k0_t6) a + (![1, 8, 1] : Fin 3 → Nat) a * (S1x512x128.size a - 1) < S2x4096x128.size a := fun v1_1 k0_hw4 k0_t6 => k0_hw4.2.1.2.2.2.2.2.2.2.2.2.2.2.2.2.2.2.2.2.2.2.2.2.2.2.2.2.2.2.2.2.2.1 k0_t6
theorem k0_off162_inb : ∀ (v1_1 : BitVec 32) (k0_hw4 : k0_chk4 v1_1) (k0_t6 : Fin (k0_t6_loop v1_1).trips), ∀ a, S1x512x128.size a = 0 ∨ (k0_off162 v1_1 k0_t6) a + (![1, 8, 1] : Fin 3 → Nat) a * (S1x512x128.size a - 1) < S2x4096x128.size a := fun v1_1 k0_hw4 k0_t6 => k0_hw4.2.1.2.2.2.2.2.2.2.2.2.2.2.2.2.2.2.2.2.2.2.2.2.2.2.2.2.2.2.2.2.2.2 k0_t6
theorem k0_off163_inb : ∀ (v1_1 : BitVec 32) (k0_hw4 : k0_chk4 v1_1) (k0_t6 : Fin (k0_t6_loop v1_1).trips), ∀ a, S1x512x128.size a = 0 ∨ (k0_off163 v1_1 k0_t6) a + (![1, 8, 1] : Fin 3 → Nat) a * (S1x512x128.size a - 1) < S2x4096x128.size a := fun v1_1 k0_hw4 k0_t6 => k0_hw4.2.2.1 k0_t6
theorem k0_off164_inb : ∀ (v1_1 : BitVec 32) (k0_hw4 : k0_chk4 v1_1) (k0_t6 : Fin (k0_t6_loop v1_1).trips), ∀ a, S1x512x128.size a = 0 ∨ (k0_off164 v1_1 k0_t6) a + (![1, 8, 1] : Fin 3 → Nat) a * (S1x512x128.size a - 1) < S2x4096x128.size a := fun v1_1 k0_hw4 k0_t6 => k0_hw4.2.2.2.1 k0_t6
theorem k0_off165_inb : ∀ (v1_1 : BitVec 32) (k0_hw4 : k0_chk4 v1_1) (k0_t6 : Fin (k0_t6_loop v1_1).trips), ∀ a, S1x512x128.size a = 0 ∨ (k0_off165 v1_1 k0_t6) a + (![1, 8, 1] : Fin 3 → Nat) a * (S1x512x128.size a - 1) < S2x4096x128.size a := fun v1_1 k0_hw4 k0_t6 => k0_hw4.2.2.2.2.1 k0_t6
theorem k0_off166_inb : ∀ (v1_1 : BitVec 32) (k0_hw4 : k0_chk4 v1_1) (k0_t6 : Fin (k0_t6_loop v1_1).trips), ∀ a, S1x512x128.size a = 0 ∨ (k0_off166 v1_1 k0_t6) a + (![1, 8, 1] : Fin 3 → Nat) a * (S1x512x128.size a - 1) < S2x4096x128.size a := fun v1_1 k0_hw4 k0_t6 => k0_hw4.2.2.2.2.2.1 k0_t6
theorem k0_off167_inb : ∀ (v1_1 : BitVec 32) (k0_hw4 : k0_chk4 v1_1) (k0_t6 : Fin (k0_t6_loop v1_1).trips), ∀ a, S1x512x128.size a = 0 ∨ (k0_off167 v1_1 k0_t6) a + (![1, 8, 1] : Fin 3 → Nat) a * (S1x512x128.size a - 1) < S2x4096x128.size a := fun v1_1 k0_hw4 k0_t6 => k0_hw4.2.2.2.2.2.2.1 k0_t6
theorem k0_off168_inb : ∀ (v1_1 : BitVec 32) (k0_hw4 : k0_chk4 v1_1) (k0_t6 : Fin (k0_t6_loop v1_1).trips), ∀ a, S1x512x128.size a = 0 ∨ (k0_off168 v1_1 k0_t6) a + (![1, 8, 1] : Fin 3 → Nat) a * (S1x512x128.size a - 1) < S2x4096x128.size a := fun v1_1 k0_hw4 k0_t6 => k0_hw4.2.2.2.2.2.2.2.1 k0_t6
theorem k0_off169_inb : ∀ (v1_1 : BitVec 32) (k0_hw4 : k0_chk4 v1_1) (k0_t6 : Fin (k0_t6_loop v1_1).trips), ∀ a, (k0_off169 v1_1 k0_t6) a + S1.size a ≤ S224.size a := fun v1_1 k0_hw4 k0_t6 => k0_hw4.2.2.2.2.2.2.2.2.1 k0_t6
theorem k0_off170_inb : ∀ (v1_1 : BitVec 32) (k0_hw4 : k0_chk4 v1_1) (k0_t6 : Fin (k0_t6_loop v1_1).trips), ∀ a, (k0_off170 v1_1 k0_t6) a + S1.size a ≤ S224.size a := fun v1_1 k0_hw4 k0_t6 => k0_hw4.2.2.2.2.2.2.2.2.2.1 k0_t6
theorem k0_off171_inb : ∀ (v1_1 : BitVec 32) (k0_hw4 : k0_chk4 v1_1) (k0_t6 : Fin (k0_t6_loop v1_1).trips), ∀ a, (k0_off171 v1_1 k0_t6) a + S1.size a ≤ S2.size a := fun v1_1 k0_hw4 k0_t6 => k0_hw4.2.2.2.2.2.2.2.2.2.2.1 k0_t6
theorem k0_off173_inb : ∀ (v1_1 : BitVec 32) (k0_hw4 : k0_chk4 v1_1) (k0_t6 : Fin (k0_t6_loop v1_1).trips), ∀ a, (k0_off173 v1_1 k0_t6) a + S1x4096x128.size a ≤ S2x4096x128.size a := fun v1_1 k0_hw4 k0_t6 => k0_hw4.2.2.2.2.2.2.2.2.2.2.2.1 k0_t6
theorem k0_off174_inb : ∀ (v1_1 : BitVec 32) (k0_hw4 : k0_chk4 v1_1), ∀ (k0_h9 : k0_cond9 v1_1 = 1#1), ∀ a, (k0_off174 v1_1) a + S1.size a ≤ S224.size a := fun v1_1 k0_hw4 k0_h9 => k0_hw4.2.2.2.2.2.2.2.2.2.2.2.2.1 k0_h9
theorem k0_off175_inb : ∀ (v1_1 : BitVec 32) (k0_hw4 : k0_chk4 v1_1), ∀ (k0_h9 : k0_cond9 v1_1 = 1#1), ∀ a, (k0_off175 v1_1) a + S1.size a ≤ S224.size a := fun v1_1 k0_hw4 k0_h9 => k0_hw4.2.2.2.2.2.2.2.2.2.2.2.2.2.1 k0_h9
theorem k0_off176_inb : ∀ (v1_1 : BitVec 32) (k0_hw4 : k0_chk4 v1_1), ∀ (k0_h9 : k0_cond9 v1_1 = 1#1), ∀ a, (k0_off176 v1_1) a + S1.size a ≤ S2.size a := fun v1_1 k0_hw4 k0_h9 => k0_hw4.2.2.2.2.2.2.2.2.2.2.2.2.2.2.1 k0_h9
theorem k0_off178_inb : ∀ (v1_1 : BitVec 32) (k0_hw4 : k0_chk4 v1_1), ∀ (k0_h9 : k0_cond9 v1_1 = 1#1), ∀ a, (k0_off178 v1_1) a + S1x4096x128.size a ≤ S2x4096x128.size a := fun v1_1 k0_hw4 k0_h9 => k0_hw4.2.2.2.2.2.2.2.2.2.2.2.2.2.2.2.1 k0_h9
theorem k0_off179_inb : ∀ (v1_1 : BitVec 32) (k0_hw4 : k0_chk4 v1_1), ∀ a, (k0_off179 v1_1) a + S1.size a ≤ S224.size a := fun v1_1 k0_hw4 => k0_hw4.2.2.2.2.2.2.2.2.2.2.2.2.2.2.2.2.1
theorem k0_off180_inb : ∀ (v1_1 : BitVec 32) (k0_hw4 : k0_chk4 v1_1), ∀ a, (k0_off180 v1_1) a + S1.size a ≤ S224.size a := fun v1_1 k0_hw4 => k0_hw4.2.2.2.2.2.2.2.2.2.2.2.2.2.2.2.2.2.1
theorem k0_off181_inb : ∀ (v1_1 : BitVec 32) (k0_hw4 : k0_chk4 v1_1), ∀ a, (k0_off181 v1_1) a + S1.size a ≤ S2.size a := fun v1_1 k0_hw4 => k0_hw4.2.2.2.2.2.2.2.2.2.2.2.2.2.2.2.2.2.2.1
theorem k0_off183_inb : ∀ (v1_1 : BitVec 32) (k0_hw4 : k0_chk4 v1_1), ∀ a, (k0_off183 v1_1) a + S1x4096x128.size a ≤ S2x4096x128.size a := fun v1_1 k0_hw4 => k0_hw4.2.2.2.2.2.2.2.2.2.2.2.2.2.2.2.2.2.2.2

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== Reference3072Ideal.lean ====
abbrev S98304x2048 : Shape := ⟨2, ![98304, 2048]⟩
abbrev S98304 : Shape := ⟨1, ![98304]⟩
abbrev S16 : Shape := ⟨1, ![16]⟩
abbrev S16x1024x4096 : Shape := ⟨3, ![16, 1024, 4096]⟩
abbrev S16x16x4096 : Shape := ⟨3, ![16, 16, 4096]⟩
abbrev S16x1024x1024 : Shape := ⟨3, ![16, 1024, 1024]⟩
abbrev S16x16x1024 : Shape := ⟨3, ![16, 16, 1024]⟩
abbrev S933888x128 : Shape := ⟨2, ![933888, 128]⟩
abbrev S98304x1 : Shape := ⟨2, ![98304, 1]⟩
abbrev S16x1024x1x1024 : Shape := ⟨4, ![16, 1024, 1, 1024]⟩
abbrev S16x1024x2x1024 : Shape := ⟨4, ![16, 1024, 2, 1024]⟩
abbrev S16x2048x1024 : Shape := ⟨3, ![16, 2048, 1024]⟩
abbrev S16x16x1x1024 : Shape := ⟨4, ![16, 16, 1, 1024]⟩
abbrev S16x16x128x1024 : Shape := ⟨4, ![16, 16, 128, 1024]⟩
abbrev S116736x1024 : Shape := ⟨2, ![116736, 1024]⟩
abbrev S1 : Shape := ⟨1, ![1]⟩
abbrev S1x2048x1024 : Shape := ⟨3, ![1, 2048, 1024]⟩
abbrev S2048x1024 : Shape := ⟨2, ![2048, 1024]⟩
abbrev S98304x1024 : Shape := ⟨2, ![98304, 1024]⟩
abbrev S18432x1024 : Shape := ⟨2, ![18432, 1024]⟩
abbrev S1152x1024 : Shape := ⟨2, ![1152, 1024]⟩
abbrev S17280x1024 : Shape := ⟨2, ![17280, 1024]⟩
abbrev S2304x1024 : Shape := ⟨2, ![2304, 1024]⟩
abbrev S16128x1024 : Shape := ⟨2, ![16128, 1024]⟩
abbrev S3456x1024 : Shape := ⟨2, ![3456, 1024]⟩
abbrev S14976x1024 : Shape := ⟨2, ![14976, 1024]⟩
abbrev S4608x1024 : Shape := ⟨2, ![4608, 1024]⟩
abbrev S13824x1024 : Shape := ⟨2, ![13824, 1024]⟩
abbrev S5760x1024 : Shape := ⟨2, ![5760, 1024]⟩
abbrev S12672x1024 : Shape := ⟨2, ![12672, 1024]⟩
abbrev S6912x1024 : Shape := ⟨2, ![6912, 1024]⟩
abbrev S11520x1024 : Shape := ⟨2, ![11520, 1024]⟩
abbrev S8064x1024 : Shape := ⟨2, ![8064, 1024]⟩
abbrev S10368x1024 : Shape := ⟨2, ![10368, 1024]⟩
abbrev S9216x1024 : Shape := ⟨2, ![9216, 1024]⟩

abbrev nBuf : Space → Nat
  | .hbm => 8
  | .vmem => 5
  | .smem => 1
  | _ => 0

abbrev bufTy : (tb : Table) → Fin (tcTables nBuf tb) → BufTy
  | .hbm, ⟨0, _⟩ => ⟨S98304x2048, .fp8e4m3⟩
  | .hbm, ⟨1, _⟩ => ⟨S98304, .f32⟩
  | .hbm, ⟨2, _⟩ => ⟨S16, .i32⟩
  | .hbm, ⟨3, _⟩ => ⟨S16x1024x4096, .i8⟩
  | .hbm, ⟨4, _⟩ => ⟨S16x16x4096, .bf16⟩
  | .hbm, ⟨5, _⟩ => ⟨S16x1024x1024, .i8⟩
  | .hbm, ⟨6, _⟩ => ⟨S16x16x1024, .bf16⟩
  | .hbm, ⟨7, _⟩ => ⟨S933888x128, .f32⟩
  | .local _ .vmem, ⟨0, _⟩ => ⟨S98304x2048, .fp8e4m3⟩
  | .local _ .vmem, ⟨1, _⟩ => ⟨S98304, .f32⟩
  | .local _ .vmem, ⟨2, _⟩ => ⟨S16x1024x1024, .i8⟩
  | .local _ .vmem, ⟨3, _⟩ => ⟨S16x16x1024, .bf16⟩
  | .local _ .vmem, ⟨4, _⟩ => ⟨S933888x128, .f32⟩
  | .local _ .smem, ⟨0, _⟩ => ⟨S16, .i32⟩
  | _, _ => ⟨S98304x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S98304x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S98304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S16 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1024x1024 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S933888x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.M.Tiles.lean ====
/-
  The tile table as plain arithmetic: group sizes `g`, where each group starts, how many tiles of 512 rows it
  takes, which group and which row the `t`-th tile has, and the group after a given one.
-/
module

public import Idealize.ShloMosaic.Lib.Affine

@[expose] public section

namespace Cert.Tiles

variable (g : ℕ → ℕ)

/-- Where group `e` starts. -/
def st : ℕ → ℕ
  | 0 => 0
  | e + 1 => st e + g e
/-- The first tile's row of group `e`: its start rounded down to 128. -/
def row0 (e : ℕ) : ℕ := st g e / 128 * 128
/-- How many tiles group `e` takes. -/
def cnt (e : ℕ) : ℕ := if g e = 0 then 0 else (st g (e + 1) - row0 g e + 511) / 512
/-- How many tiles the groups before `e` take. -/
def nt : ℕ → ℕ
  | 0 => 0
  | e + 1 => nt e + cnt g e
/-- The group of tile `t`. -/
def ex (t : ℕ) : ℕ := Nat.findGreatest (fun e => nt g e ≤ t) 15
/-- The row of tile `t`. -/
def row (t : ℕ) : ℕ := row0 g (ex g t) + (t - nt g (ex g t)) * 512
/-- The row the tile's 512 rows are read from: never past the last 512. -/
def hs (t : ℕ) : ℕ := min (row g t) 97792
/-- The search for the group after `e`, from the last group down, after `k` steps. -/
def nx (e : ℕ) : ℕ → ℕ
  | 0 => 16
  | k + 1 => if e < 15 - k ∧ 0 < g (15 - k) then 15 - k else nx e k
/-- The next group after `e` with rows; 16 if there is none. -/
def nxt (e : ℕ) : ℕ := nx g e 16
/-- The group whose weights are wanted next before tile `t`. -/
def want (t : ℕ) : ℕ := if t = 0 then ex g 0 else nxt g (ex g (t - 1))

/-- The sizes the precondition allows. -/
structure OK : Prop where
  pos : 1 ≤ st g 16
  tot : st g 16 ≤ 98304

theorem st_mono {a b : ℕ} (h : a ≤ b) : st g a ≤ st g b := by
  induction h with
  | refl => exact le_rfl
  | step _ ih => exact ih.trans (Nat.le_add_right _ _)
theorem nt_mono {a b : ℕ} (h : a ≤ b) : nt g a ≤ nt g b := by
  induction h with
  | refl => exact le_rfl
  | step _ ih => exact ih.trans (Nat.le_add_right _ _)

theorem row0_le (e : ℕ) : row0 g e ≤ st g e := Nat.div_mul_le_self _ _
theorem row0_gt (e : ℕ) : st g e < row0 g e + 128 := by unfold row0; omega
theorem row0_dvd (e : ℕ) : 128 ∣ row0 g e := Dvd.intro_left _ rfl

theorem cnt_zero {e : ℕ} : cnt g e = 0 ↔ g e = 0 := by
  unfold cnt; split
  · simp_all
  · have h1 := row0_le g e
    have h2 : st g (e + 1) = st g e + g e := rfl
    constructor <;> intro h <;> omega

theorem cnt_le (e : ℕ) : 512 * cnt g e ≤ g e + 638 := by
  unfold cnt; split
  · omega
  · have h1 := row0_gt g e
    have h2 : st g (e + 1) = st g e + g e := rfl
    omega
theorem cnt_cover {e : ℕ} (h : 0 < g e) : st g (e + 1) ≤ row0 g e + 512 * cnt g e := by
  unfold cnt; rw [if_neg (by omega)]; omega
theorem cnt_lt {e : ℕ} (h : 0 < g e) : row0 g e + 512 * cnt g e < st g (e + 1) + 512 := by
  have h1 := row0_le g e
  have h2 : st g (e + 1) = st g e + g e := rfl
  unfold cnt; rw [if_neg (by omega)]; omega

theorem nt_le (e : ℕ) : 512 * nt g e ≤ st g e + 638 * e := by
  induction e with
  | zero => simp [nt]
  | succ e ih =>
    have h := cnt_le g e
    have h1 : nt g (e + 1) = nt g e + cnt g e := rfl
    have h2 : st g (e + 1) = st g e + g e := rfl
    omega

variable {g}

theorem OK.n_le (h : OK g) : nt g 16 ≤ 211 := by have := nt_le g 16; have := h.tot; omega

theorem OK.n_pos (h : OK g) : 1 ≤ nt g 16 := by
  by_contra hc
  have h0 : nt g 16 = 0 := by omega
  have : ∀ e ≤ 16, st g e = 0 := by
    intro e he
    induction e with
    | zero => rfl
    | succ e ih =>
      have h1 : nt g (e + 1) = nt g e + cnt g e := rfl
      have h2 := nt_mono g he
      have h3 : cnt g e = 0 := by omega
      have h4 := (cnt_zero g).1 h3
      have h5 : st g (e + 1) = st g e + g e := rfl
      rw [h5, ih (by omega), h4]
  have := this 16 le_rfl
  have := h.pos
  omega

theorem ex_le (t : ℕ) : ex g t ≤ 15 := Nat.findGreatest_le _
theorem ex_lt (t : ℕ) : ex g t < 16 := Nat.lt_succ_of_le (ex_le t)
theorem nt_ex_le (t : ℕ) : nt g (ex g t) ≤ t :=
  Nat.findGreatest_spec (P := fun e => nt g e ≤ t) (m := 0) (Nat.zero_le _) (Nat.zero_le _)
theorem lt_nt_ex {t : ℕ} (ht : t < nt g 16) : t < nt g (ex g t + 1) := by
  by_cases h : ex g t = 15
  · rw [h]; exact ht
  · have h1 := ex_le (g := g) t
    by_contra hc
    exact Nat.findGreatest_is_greatest (P := fun e => nt g e ≤ t) (n := 15) (k := ex g t + 1) (Nat.lt_succ_self _) (by omega) (by omega)
theorem ex_eq {t e : ℕ} (he : e < 16) (h1 : nt g e ≤ t) (h2 : t < nt g (e + 1)) : ex g t = e := by
  have ha : e ≤ ex g t := Nat.le_findGreatest (P := fun e => nt g e ≤ t) (by omega) h1
  by_contra hc
  have hb : e + 1 ≤ ex g t := by omega
  have := nt_mono g hb
  have := nt_ex_le (g := g) t
  omega
theorem g_ex_pos {t : ℕ} (ht : t < nt g 16) : 0 < g (ex g t) := by
  have h1 := nt_ex_le (g := g) t
  have h2 := lt_nt_ex ht
  have h3 : nt g (ex g t + 1) = nt g (ex g t) + cnt g (ex g t) := rfl
  rcases Nat.eq_zero_or_pos (g (ex g t)) with h | h
  · have := (cnt_zero g).2 h; omega
  · exact h

/-- Tile `nt e + i` of group `e` has row `row0 e + 512 i`. -/
theorem row_eq {e i : ℕ} (he : e < 16) (hi : i < cnt g e) : ex g (nt g e + i) = e ∧ row g (nt g e + i) = row0 g e + i * 512 := by
  have h : ex g (nt g e + i) = e := ex_eq he (by omega) (by show _ < nt g e + cnt g e; omega)
  refine ⟨h, ?_⟩
  unfold row; rw [h, Nat.add_sub_cancel_left]

theorem row_dvd (t : ℕ) : 128 ∣ row g t := by
  unfold row
  exact Nat.dvd_add (row0_dvd g _) (Dvd.dvd.mul_left (by decide) _)
theorem hs_dvd (t : ℕ) : 128 ∣ hs g t := by
  unfold hs
  rcases le_total (row g t) 97792 with h | h
  · rw [min_eq_left h]; exact row_dvd t
  · rw [min_eq_right h]; decide
theorem hs_le (t : ℕ) : hs g t ≤ 97792 := min_le_right _ _
theorem row_lt_end {t : ℕ} (ht : t < nt g 16) : row g t < st g (ex g t + 1) := by
  have h1 := nt_ex_le (g := g) t
  have h2 := lt_nt_ex ht
  have h3 : nt g (ex g t + 1) = nt g (ex g t) + cnt g (ex g t) := rfl
  have h4 := cnt_lt g (g_ex_pos ht)
  unfold row
  omega
theorem OK.row_lt (h : OK g) {t : ℕ} (ht : t < nt g 16) : row g t < 98304 := by
  have h1 := row_lt_end ht
  have h2 := st_mono g (a := ex g t + 1) (b := 16) (by have := ex_lt (g := g) t; omega)
  have := h.tot
  omega
theorem row0_le_row (t : ℕ) : row0 g (ex g t) ≤ row g t := by unfold row; omega

/-! ## The next group -/

theorem nx_spec (e k : ℕ) (hk : k ≤ 16) :
    (nx g e k = 16 ∨ (e < nx g e k ∧ nx g e k < 16 ∧ 16 - k ≤ nx g e k ∧ 0 < g (nx g e k)))
    ∧ ∀ f, e < f → f < 16 → 16 - k ≤ f → 0 < g f → nx g e k ≤ f := by
  induction k with
  | zero => exact ⟨.inl rfl, fun f _ hf hf' _ => by omega⟩
  | succ k ih =>
    obtain ⟨h1, h2⟩ := ih (by omega)
    unfold nx
    split
    · rename_i hc
      refine ⟨.inr ⟨hc.1, by omega, by omega, hc.2⟩, fun f _ _ hf _ => by omega⟩
    · rename_i hc
      refine ⟨?_, fun f hf hf' hf'' hg => ?_⟩
      · rcases h1 with h1 | h1
        · exact .inl h1
        · exact .inr ⟨h1.1, h1.2.1, by omega, h1.2.2.2⟩
      · by_cases hf3 : f = 15 - k
        · subst hf3; exact absurd ⟨hf, hg⟩ hc
        · exact h2 f hf hf' (by omega) hg
theorem nxt_le (e : ℕ) : nxt g e ≤ 16 := by
  rcases (nx_spec (g := g) e 16 le_rfl).1 with h | h
  · exact h.le
  · exact h.2.1.le
theorem nx_le (e k : ℕ) (hk : k ≤ 16) : nx g e k ≤ 16 := by
  rcases (nx_spec (g := g) e k hk).1 with h | h
  · exact h.le
  · exact h.2.1.le

theorem nxt_eq {e f : ℕ} (h1 : e < f) (h2 : f < 16) (h3 : 0 < g f) (h4 : ∀ k, e < k → k < f → g k = 0) : nxt g e = f := by
  obtain ⟨ha, hb⟩ := nx_spec (g := g) e 16 le_rfl
  have hb := hb f h1 h2 (by omega) h3
  unfold nxt
  rcases ha with ha | ha
  · omega
  · by_contra hc
    have := h4 _ ha.1 (by omega)
    omega
theorem nxt_none {e : ℕ} (h4 : ∀ k, e < k → k < 16 → g k = 0) : nxt g e = 16 := by
  obtain ⟨ha, -⟩ := nx_spec (g := g) e 16 le_rfl
  unfold nxt
  rcases ha with ha | ha
  · exact ha
  · have := h4 _ ha.1 ha.2.1
    omega

theorem ex_succ {t : ℕ} (ht : t + 1 < nt g 16) : ex g (t + 1) = ex g t ∨ (ex g (t + 1) ≠ ex g t ∧ ex g (t + 1) = nxt g (ex g t)) := by
  by_cases h : ex g (t + 1) = ex g t
  · exact .inl h
  refine .inr ⟨h, (nxt_eq ?_ (ex_lt _) (g_ex_pos ht) ?_).symm⟩
  · have h1 : ex g t ≤ ex g (t + 1) :=
      Nat.le_findGreatest (P := fun e => nt g e ≤ t + 1) (ex_le t) ((nt_ex_le t).trans (Nat.le_succ t))
    omega
  · intro k hk1 hk2
    have h1 := lt_nt_ex (g := g) (t := t) (by omega)
    have h2 := nt_ex_le (g := g) (t + 1)
    have h3 := nt_mono g (a := ex g t + 1) (b := k) hk1
    have h4 := nt_mono g (a := k + 1) (b := ex g (t + 1)) hk2
    have h5 : nt g (k + 1) = nt g k + cnt g k := rfl
    exact (cnt_zero g).1 (by omega)
theorem nxt_last {t : ℕ} (ht : t + 1 = nt g 16) : nxt g (ex g t) = 16 := by
  refine nxt_none fun k hk1 hk2 => ?_
  have h1 := lt_nt_ex (g := g) (t := t) (by omega)
  have h3 := nt_mono g (a := ex g t + 1) (b := k) hk1
  have h4 := nt_mono g (a := k + 1) (b := 16) hk2
  have h5 : nt g (k + 1) = nt g k + cnt g k := rfl
  exact (cnt_zero g).1 (by omega)

/-- Whether tile `t` is the first of its group. -/
def first (t : ℕ) : Prop := t = 0 ∨ ex g (t - 1) ≠ ex g t

theorem want_of_first {t : ℕ} (ht : t < nt g 16) (h : first (g := g) t) : want g t = ex g t := by
  unfold want
  rcases Nat.eq_zero_or_pos t with h0 | h0
  · rw [if_pos h0, h0]
  · rw [if_neg (by omega)]
    rcases h with h | h
    · omega
    · have := ex_succ (g := g) (t := t - 1) (by omega)
      rw [Nat.sub_add_cancel h0] at this
      rcases this with h' | h'
      · exact absurd h'.symm h
      · exact h'.2.symm
theorem want_succ (t : ℕ) : want g (t + 1) = nxt g (ex g t) := by
  unfold want; rw [if_neg (by omega), Nat.add_sub_cancel]
theorem want_succ_of_not_first {t : ℕ} (h : ¬ first (g := g) t) : want g (t + 1) = want g t := by
  unfold first at h
  push Not at h
  rw [want_succ]; unfold want; rw [if_neg h.1, h.2]
theorem want_last (h : OK g) : want g (nt g 16) = 16 := by
  have h1 := h.n_pos
  unfold want; rw [if_neg (by omega)]
  exact nxt_last (by omega)
theorem want_le (t : ℕ) : want g t ≤ 16 := by
  unfold want; split
  · exact (ex_lt _).le
  · exact nxt_le _

/-! ## Every row of a group lies in a tile; the tile's rows belong to no other group -/

theorem covered (h : OK g) {e r : ℕ} (he : e < 16) (h1 : st g e ≤ r) (h2 : r < st g (e + 1)) :
    ∃ t < nt g 16, ex g t = e ∧ hs g t ≤ r ∧ r < hs g t + 512 := by
  have hg : 0 < g e := by have : st g (e + 1) = st g e + g e := rfl; omega
  have hc := cnt_cover g hg
  have h0 := row0_le g e
  have hi : (r - row0 g e) / 512 < cnt g e := by omega
  obtain ⟨ha, hb⟩ := row_eq he hi
  refine ⟨nt g e + (r - row0 g e) / 512, ?_, ha, ?_, ?_⟩
  · have := nt_mono g (a := e + 1) (b := 16) he
    have : nt g (e + 1) = nt g e + cnt g e := rfl
    omega
  · unfold hs; rw [hb]; omega
  · have h3 := st_mono g (a := e + 1) (b := 16) he
    have := h.tot
    unfold hs; rw [hb]; omega

theorem own (h : OK g) {t i e r : ℕ} (ht : t < nt g 16) (hi : i < 512) (he : e < 16) (h1 : st g e ≤ r) (h2 : r < st g (e + 1))
    (hq : hs g t + i + ex g t * 1152 = r + e * 1152) : e = ex g t ∧ r = hs g t + i := by
  have h3 := row_lt_end ht
  have h4 := row0_le_row (g := g) t
  have h5 := row0_gt g (ex g t)
  have h6 := st_mono g (a := e + 1) (b := 16) he
  have h7 := h.tot
  have h8 := ex_lt (g := g) t
  have h9 : hs g t ≤ row g t := min_le_left _ _
  have hee : e = ex g t := by
    rcases lt_trichotomy e (ex g t) with hl | hl | hl
    · exfalso
      have h10 := st_mono g (a := e + 1) (b := ex g t) hl
      rcases le_total (row g t) 97792 with hr | hr
      · have : hs g t = row g t := min_eq_left hr
        omega
      · have : hs g t = 97792 := min_eq_right hr
        omega
    · exact hl
    · exfalso
      have h10 := st_mono g (a := ex g t + 1) (b := e) hl
      omega
  subst hee
  exact ⟨rfl, by omega⟩

end Cert.Tiles

end
-- ==== Proof.M.I.Col.lean ====
/-
  The kernel with its first column a parameter: the definitions of the printed kernel that name the column offset,
  with that offset a number `Col.n0`. The rest of the kernel is shared as printed.
-/
module

public import proofs.«01_k».proof.Proof.Gen.KernelIdeal
public import proofs.«01_k».proof.Proof.Gen.KernelIdeal.Skeleton
public import Idealize.ShloMosaic.Lib.Affine

@[expose] public section

set_option synthInstance.maxSize 4096
set_option maxRecDepth 65536

noncomputable section

namespace Cert.KernelIdeal.Run

open Cert.KernelIdeal Cert.KernelIdeal.Gen
open Idealize.ShloMosaic Idealize.SL.Sem Idealize.ShloMosaic.Affine

variable {F : FTy → Type} [FloatOps F]

/-- The first of the 1024 columns of the weights that a call reads. -/
class Col where
  /-- The column. -/
  n0 : ℕ
  /-- The columns are columns of the weights. -/
  hn : n0 + 1024 ≤ 4096

variable [Col]

/-- The offset of a slice of the weights or of their scales. -/
def k0_off4 (v2 : BitVec 32) : Fin 3 → Nat := ![v2.toNat, 0, Col.n0]

/-- The offset of a slice of the weights or of their scales. -/
def k0_off5 (v2 : BitVec 32) : Fin 3 → Nat := ![v2.toNat, 0, Col.n0]

/-- The offset of a slice of the weights or of their scales. -/
def k0_off18 (v75 : BitVec 32) : Fin 3 → Nat := ![v75.toNat, 0, Col.n0]

/-- The offset of a slice of the weights or of their scales. -/
def k0_off20 (v75 : BitVec 32) : Fin 3 → Nat := ![v75.toNat, 0, Col.n0]

/-- The offset of a slice of the weights or of their scales. -/
def k0_off24 (v372 : BitVec 32) : Fin 3 → Nat := ![v372.toNat, 0, Col.n0]

/-- The offset of a slice of the weights or of their scales. -/
def k0_off26 (v372 : BitVec 32) : Fin 3 → Nat := ![v372.toNat, 0, Col.n0]

/-- The offset of a slice of the weights or of their scales. -/
def k0_off101 (v75 : BitVec 32) : Fin 3 → Nat := ![v75.toNat, 0, Col.n0]

/-- The offset of a slice of the weights or of their scales. -/
def k0_off103 (v75 : BitVec 32) : Fin 3 → Nat := ![v75.toNat, 0, Col.n0]

/-- The offset of a slice of the weights or of their scales. -/
def k0_off107 (v372 : BitVec 32) : Fin 3 → Nat := ![v372.toNat, 0, Col.n0]

/-- The offset of a slice of the weights or of their scales. -/
def k0_off109 (v372 : BitVec 32) : Fin 3 → Nat := ![v372.toNat, 0, Col.n0]

/-- A condition that the kernel assumes. -/
def k0_chk2 (v2 : BitVec 32) : Prop :=
  (∀ a, (k0_off4 v2) a + S1x1024x1024.size a ≤ S16x1024x4096.size a) ∧
  (∀ (hinb : ∀ a, (k0_off4 v2) a + S1x1024x1024.size a ≤ S16x1024x4096.size a), (Rect.unit (s := S16x1024x4096) (k0_off4 v2) S1x1024x1024.size hinb).WholeWords (EltTy.packing .i8)) ∧
  (∀ a, (k0_off5 v2) a + S1x16x1024.size a ≤ S16x16x4096.size a) ∧
  (∀ (hinb : ∀ a, (k0_off5 v2) a + S1x16x1024.size a ≤ S16x16x4096.size a), (Rect.unit (s := S16x16x4096) (k0_off5 v2) S1x16x1024.size hinb).WholeWords (EltTy.packing .bf16))

set_option synthInstance.maxSize 1000000 in set_option synthInstance.maxHeartbeats 0 in instance k0_chk2.dec : ∀ (v2 : BitVec 32), Decidable (k0_chk2 v2) := fun v2 => decidable_of_iff' _ (Iff.of_eq (k0_chk2.eq_1 v2))

/-- A condition that the kernel assumes. -/
def k0_chk6_0 (v1_1 : BitVec 32) (k0_t4 : Fin (k0_t4_loop v1_1).trips) (arg20 : BitVec 32) (v75 : BitVec 32) (v80 : BitVec 32) : Prop :=
  (∀ (k0_h2 : k0_cond2 v1_1 k0_t4 v75 v80 = 1#1), ∀ a, (k0_off16 arg20) a + S1.size a ≤ S2.size a) ∧
  (∀ (k0_h2 : k0_cond2 v1_1 k0_t4 v75 v80 = 1#1), ∀ a, (k0_off17 arg20) a + S1x1024x1024.size a ≤ S2x1024x1024.size a) ∧
  (∀ (k0_h2 : k0_cond2 v1_1 k0_t4 v75 v80 = 1#1), ∀ a, (k0_off18 v75) a + S1x1024x1024.size a ≤ S16x1024x4096.size a) ∧
  (∀ (k0_h2 : k0_cond2 v1_1 k0_t4 v75 v80 = 1#1), ∀ (hinb : ∀ a, (k0_off18 v75) a + S1x1024x1024.size a ≤ S16x1024x4096.size a), (Rect.unit (s := S16x1024x4096) (k0_off18 v75) S1x1024x1024.size hinb).WholeWords (EltTy.packing .i8)) ∧
  (∀ (k0_h2 : k0_cond2 v1_1 k0_t4 v75 v80 = 1#1), ∀ (hinb : ∀ a, (k0_off17 arg20) a + S1x1024x1024.size a ≤ S2x1024x1024.size a), (Rect.unit (s := S2x1024x1024) (k0_off17 arg20) S1x1024x1024.size hinb).WholeWords (EltTy.packing .i8)) ∧
  (∀ (k0_h2 : k0_cond2 v1_1 k0_t4 v75 v80 = 1#1), ∀ a, (k0_off19 arg20) a + S1x16x1024.size a ≤ S2x16x1024.size a) ∧
  (∀ (k0_h2 : k0_cond2 v1_1 k0_t4 v75 v80 = 1#1), ∀ a, (k0_off20 v75) a + S1x16x1024.size a ≤ S16x16x4096.size a) ∧
  (∀ (k0_h2 : k0_cond2 v1_1 k0_t4 v75 v80 = 1#1), ∀ (hinb : ∀ a, (k0_off20 v75) a + S1x16x1024.size a ≤ S16x16x4096.size a), (Rect.unit (s := S16x16x4096) (k0_off20 v75) S1x16x1024.size hinb).WholeWords (EltTy.packing .bf16)) ∧
  (∀ (k0_h2 : k0_cond2 v1_1 k0_t4 v75 v80 = 1#1), ∀ (hinb : ∀ a, (k0_off19 arg20) a + S1x16x1024.size a ≤ S2x16x1024.size a), (Rect.unit (s := S2x16x1024) (k0_off19 arg20) S1x16x1024.size hinb).WholeWords (EltTy.packing .bf16)) ∧
  (∀ (k0_h2 : k0_cond2 v1_1 k0_t4 v75 v80 = 1#1), ∀ a, (k0_off27 arg20) a + S1x64x1024.size a ≤ S2x1024x1024.size a) ∧
  (∀ (k0_h2 : k0_cond2 v1_1 k0_t4 v75 v80 = 1#1), ∀ a, (k0_off28 arg20) a + S1x1x1024.size a ≤ S2x16x1024.size a) ∧
  (∀ (k0_h2 : k0_cond2 v1_1 k0_t4 v75 v80 = 1#1), ∀ a, (k0_off29 arg20) a + S1x64x1024.size a ≤ S2x1024x1024.size a) ∧
  (∀ (k0_h2 : k0_cond2 v1_1 k0_t4 v75 v80 = 1#1), ∀ a, (k0_off30 arg20) a + S1x1x1024.size a ≤ S2x16x1024.size a) ∧
  (∀ (k0_h2 : k0_cond2 v1_1 k0_t4 v75 v80 = 1#1), ∀ a, (k0_off31 arg20) a + S1x64x1024.size a ≤ S2x1024x1024.size a) ∧
  (∀ (k0_h2 : k0_cond2 v1_1 k0_t4 v75 v80 = 1#1), ∀ a, (k0_off32 arg20) a + S1x1x1024.size a ≤ S2x16x1024.size a) ∧
  (∀ (k0_h2 : k0_cond2 v1_1 k0_t4 v75 v80 = 1#1), ∀ a, (k0_off33 arg20) a + S1x64x1024.size a ≤ S2x1024x1024.size a) ∧
  (∀ (k0_h2 : k0_cond2 v1_1 k0_t4 v75 v80 = 1#1), ∀ a, (k0_off34 arg20) a + S1x1x1024.size a ≤ S2x16x1024.size a) ∧
  (∀ (k0_h2 : k0_cond2 v1_1 k0_t4 v75 v80 = 1#1), ∀ a, (k0_off35 arg20) a + S1x64x1024.size a ≤ S2x1024x1024.size a) ∧
  (∀ (k0_h2 : k0_cond2 v1_1 k0_t4 v75 v80 = 1#1), ∀ a, (k0_off36 arg20) a + S1x1x1024.size a ≤ S2x16x1024.size a) ∧
  (∀ (k0_h2 : k0_cond2 v1_1 k0_t4 v75 v80 = 1#1), ∀ a, (k0_off37 arg20) a + S1x64x1024.size a ≤ S2x1024x1024.size a) ∧
  (∀ (k0_h2 : k0_cond2 v1_1 k0_t4 v75 v80 = 1#1), ∀ a, (k0_off38 arg20) a + S1x1x1024.size a ≤ S2x16x1024.size a) ∧
  (∀ (k0_h2 : k0_cond2 v1_1 k0_t4 v75 v80 = 1#1), ∀ a, (k0_off39 arg20) a + S1x64x1024.size a ≤ S2x1024x1024.size a) ∧
  (∀ (k0_h2 : k0_cond2 v1_1 k0_t4 v75 v80 = 1#1), ∀ a, (k0_off40 arg20) a + S1x1x1024.size a ≤ S2x16x1024.size a) ∧
  (∀ (k0_h2 : k0_cond2 v1_1 k0_t4 v75 v80 = 1#1), ∀ a, (k0_off41 arg20) a + S1x64x1024.size a ≤ S2x1024x1024.size a) ∧
  (∀ (k0_h2 : k0_cond2 v1_1 k0_t4 v75 v80 = 1#1), ∀ a, (k0_off42 arg20) a + S1x1x1024.size a ≤ S2x16x1024.size a) ∧
  (∀ (k0_h2 : k0_cond2 v1_1 k0_t4 v75 v80 = 1#1), ∀ a, (k0_off43 arg20) a + S1x64x1024.size a ≤ S2x1024x1024.size a) ∧
  (∀ (k0_h2 : k0_cond2 v1_1 k0_t4 v75 v80 = 1#1), ∀ a, (k0_off44 arg20) a + S1x1x1024.size a ≤ S2x16x1024.size a) ∧
  (∀ (k0_h2 : k0_cond2 v1_1 k0_t4 v75 v80 = 1#1), ∀ a, (k0_off45 arg20) a + S1x64x1024.size a ≤ S2x1024x1024.size a) ∧
  (∀ (k0_h2 : k0_cond2 v1_1 k0_t4 v75 v80 = 1#1), ∀ a, (k0_off46 arg20) a + S1x1x1024.size a ≤ S2x16x1024.size a) ∧
  (∀ (k0_h2 : k0_cond2 v1_1 k0_t4 v75 v80 = 1#1), ∀ a, (k0_off47 arg20) a + S1x64x1024.size a ≤ S2x1024x1024.size a) ∧
  (∀ (k0_h2 : k0_cond2 v1_1 k0_t4 v75 v80 = 1#1), ∀ a, (k0_off48 arg20) a + S1x1x1024.size a ≤ S2x16x1024.size a) ∧
  (∀ (k0_h2 : k0_cond2 v1_1 k0_t4 v75 v80 = 1#1), ∀ a, (k0_off49 arg20) a + S1x64x1024.size a ≤ S2x1024x1024.size a)

set_option synthInstance.maxSize 1000000 in set_option synthInstance.maxHeartbeats 0 in instance k0_chk6_0.dec : ∀ (v1_1 : BitVec 32) (k0_t4 : Fin (k0_t4_loop v1_1).trips) (arg20 : BitVec 32) (v75 : BitVec 32) (v80 : BitVec 32), Decidable (k0_chk6_0 v1_1 k0_t4 arg20 v75 v80) := fun v1_1 k0_t4 arg20 v75 v80 => decidable_of_iff' _ (Iff.of_eq (k0_chk6_0.eq_1 v1_1 k0_t4 arg20 v75 v80))

/-- A condition that the kernel assumes. -/
def k0_chk6 (v1_1 : BitVec 32) (k0_t4 : Fin (k0_t4_loop v1_1).trips) (arg20 : BitVec 32) (v75 : BitVec 32) (v80 : BitVec 32) : Prop :=
  k0_chk6_0 v1_1 k0_t4 arg20 v75 v80 ∧
  k0_chk6_1 v1_1 k0_t4 arg20 v75 v80

set_option synthInstance.maxSize 1000000 in set_option synthInstance.maxHeartbeats 0 in instance k0_chk6.dec : ∀ (v1_1 : BitVec 32) (k0_t4 : Fin (k0_t4_loop v1_1).trips) (arg20 : BitVec 32) (v75 : BitVec 32) (v80 : BitVec 32), Decidable (k0_chk6 v1_1 k0_t4 arg20 v75 v80) := fun v1_1 k0_t4 arg20 v75 v80 => decidable_of_iff' _ (Iff.of_eq (k0_chk6.eq_1 v1_1 k0_t4 arg20 v75 v80))

/-- A condition that the kernel assumes. -/
def k0_chk7 (v1_1 : BitVec 32) (k0_t4 : Fin (k0_t4_loop v1_1).trips) (arg20 : BitVec 32) (v75 : BitVec 32) (v80 : BitVec 32) (v372 : BitVec 32) : Prop :=
  (∀ (k0_h2 : k0_cond2 v1_1 k0_t4 v75 v80 = 1#1), ∀ (k0_h3 : k0_cond3 v372 = 1#1), ∀ a, (k0_off22 arg20) a + S1.size a ≤ S2.size a) ∧
  (∀ (k0_h2 : k0_cond2 v1_1 k0_t4 v75 v80 = 1#1), ∀ (k0_h3 : k0_cond3 v372 = 1#1), ∀ a, (k0_off23 arg20) a + S1x1024x1024.size a ≤ S2x1024x1024.size a) ∧
  (∀ (k0_h2 : k0_cond2 v1_1 k0_t4 v75 v80 = 1#1), ∀ (k0_h3 : k0_cond3 v372 = 1#1), ∀ a, (k0_off24 v372) a + S1x1024x1024.size a ≤ S16x1024x4096.size a) ∧
  (∀ (k0_h2 : k0_cond2 v1_1 k0_t4 v75 v80 = 1#1), ∀ (k0_h3 : k0_cond3 v372 = 1#1), ∀ (hinb : ∀ a, (k0_off24 v372) a + S1x1024x1024.size a ≤ S16x1024x4096.size a), (Rect.unit (s := S16x1024x4096) (k0_off24 v372) S1x1024x1024.size hinb).WholeWords (EltTy.packing .i8)) ∧
  (∀ (k0_h2 : k0_cond2 v1_1 k0_t4 v75 v80 = 1#1), ∀ (k0_h3 : k0_cond3 v372 = 1#1), ∀ (hinb : ∀ a, (k0_off23 arg20) a + S1x1024x1024.size a ≤ S2x1024x1024.size a), (Rect.unit (s := S2x1024x1024) (k0_off23 arg20) S1x1024x1024.size hinb).WholeWords (EltTy.packing .i8)) ∧
  (∀ (k0_h2 : k0_cond2 v1_1 k0_t4 v75 v80 = 1#1), ∀ (k0_h3 : k0_cond3 v372 = 1#1), ∀ a, (k0_off25 arg20) a + S1x16x1024.size a ≤ S2x16x1024.size a) ∧
  (∀ (k0_h2 : k0_cond2 v1_1 k0_t4 v75 v80 = 1#1), ∀ (k0_h3 : k0_cond3 v372 = 1#1), ∀ a, (k0_off26 v372) a + S1x16x1024.size a ≤ S16x16x4096.size a) ∧
  (∀ (k0_h2 : k0_cond2 v1_1 k0_t4 v75 v80 = 1#1), ∀ (k0_h3 : k0_cond3 v372 = 1#1), ∀ (hinb : ∀ a, (k0_off26 v372) a + S1x16x1024.size a ≤ S16x16x4096.size a), (Rect.unit (s := S16x16x4096) (k0_off26 v372) S1x16x1024.size hinb).WholeWords (EltTy.packing .bf16)) ∧
  (∀ (k0_h2 : k0_cond2 v1_1 k0_t4 v75 v80 = 1#1), ∀ (k0_h3 : k0_cond3 v372 = 1#1), ∀ (hinb : ∀ a, (k0_off25 arg20) a + S1x16x1024.size a ≤ S2x16x1024.size a), (Rect.unit (s := S2x16x1024) (k0_off25 arg20) S1x16x1024.size hinb).WholeWords (EltTy.packing .bf16))

set_option synthInstance.maxSize 1000000 in set_option synthInstance.maxHeartbeats 0 in instance k0_chk7.dec : ∀ (v1_1 : BitVec 32) (k0_t4 : Fin (k0_t4_loop v1_1).trips) (arg20 : BitVec 32) (v75 : BitVec 32) (v80 : BitVec 32) (v372 : BitVec 32), Decidable (k0_chk7 v1_1 k0_t4 arg20 v75 v80 v372) := fun v1_1 k0_t4 arg20 v75 v80 v372 => decidable_of_iff' _ (Iff.of_eq (k0_chk7.eq_1 v1_1 k0_t4 arg20 v75 v80 v372))

/-- A condition that the kernel assumes. -/
def k0_chk14_0 (v1_1 : BitVec 32) (k0_t6 : Fin (k0_t6_loop v1_1).trips) (arg20 : BitVec 32) (v75 : BitVec 32) (v80 : BitVec 32) : Prop :=
  (∀ (k0_h6 : k0_cond6 v1_1 k0_t6 v75 v80 = 1#1), ∀ a, (k0_off99 arg20) a + S1.size a ≤ S2.size a) ∧
  (∀ (k0_h6 : k0_cond6 v1_1 k0_t6 v75 v80 = 1#1), ∀ a, (k0_off100 arg20) a + S1x1024x1024.size a ≤ S2x1024x1024.size a) ∧
  (∀ (k0_h6 : k0_cond6 v1_1 k0_t6 v75 v80 = 1#1), ∀ a, (k0_off101 v75) a + S1x1024x1024.size a ≤ S16x1024x4096.size a) ∧
  (∀ (k0_h6 : k0_cond6 v1_1 k0_t6 v75 v80 = 1#1), ∀ (hinb : ∀ a, (k0_off101 v75) a + S1x1024x1024.size a ≤ S16x1024x4096.size a), (Rect.unit (s := S16x1024x4096) (k0_off101 v75) S1x1024x1024.size hinb).WholeWords (EltTy.packing .i8)) ∧
  (∀ (k0_h6 : k0_cond6 v1_1 k0_t6 v75 v80 = 1#1), ∀ (hinb : ∀ a, (k0_off100 arg20) a + S1x1024x1024.size a ≤ S2x1024x1024.size a), (Rect.unit (s := S2x1024x1024) (k0_off100 arg20) S1x1024x1024.size hinb).WholeWords (EltTy.packing .i8)) ∧
  (∀ (k0_h6 : k0_cond6 v1_1 k0_t6 v75 v80 = 1#1), ∀ a, (k0_off102 arg20) a + S1x16x1024.size a ≤ S2x16x1024.size a) ∧
  (∀ (k0_h6 : k0_cond6 v1_1 k0_t6 v75 v80 = 1#1), ∀ a, (k0_off103 v75) a + S1x16x1024.size a ≤ S16x16x4096.size a) ∧
  (∀ (k0_h6 : k0_cond6 v1_1 k0_t6 v75 v80 = 1#1), ∀ (hinb : ∀ a, (k0_off103 v75) a + S1x16x1024.size a ≤ S16x16x4096.size a), (Rect.unit (s := S16x16x4096) (k0_off103 v75) S1x16x1024.size hinb).WholeWords (EltTy.packing .bf16)) ∧
  (∀ (k0_h6 : k0_cond6 v1_1 k0_t6 v75 v80 = 1#1), ∀ (hinb : ∀ a, (k0_off102 arg20) a + S1x16x1024.size a ≤ S2x16x1024.size a), (Rect.unit (s := S2x16x1024) (k0_off102 arg20) S1x16x1024.size hinb).WholeWords (EltTy.packing .bf16)) ∧
  (∀ (k0_h6 : k0_cond6 v1_1 k0_t6 v75 v80 = 1#1), ∀ a, (k0_off110 arg20) a + S1x64x1024.size a ≤ S2x1024x1024.size a) ∧
  (∀ (k0_h6 : k0_cond6 v1_1 k0_t6 v75 v80 = 1#1), ∀ a, (k0_off111 arg20) a + S1x1x1024.size a ≤ S2x16x1024.size a) ∧
  (∀ (k0_h6 : k0_cond6 v1_1 k0_t6 v75 v80 = 1#1), ∀ a, (k0_off112 arg20) a + S1x64x1024.size a ≤ S2x1024x1024.size a) ∧
  (∀ (k0_h6 : k0_cond6 v1_1 k0_t6 v75 v80 = 1#1), ∀ a, (k0_off113 arg20) a + S1x1x1024.size a ≤ S2x16x1024.size a) ∧
  (∀ (k0_h6 : k0_cond6 v1_1 k0_t6 v75 v80 = 1#1), ∀ a, (k0_off114 arg20) a + S1x64x1024.size a ≤ S2x1024x1024.size a) ∧
  (∀ (k0_h6 : k0_cond6 v1_1 k0_t6 v75 v80 = 1#1), ∀ a, (k0_off115 arg20) a + S1x1x1024.size a ≤ S2x16x1024.size a) ∧
  (∀ (k0_h6 : k0_cond6 v1_1 k0_t6 v75 v80 = 1#1), ∀ a, (k0_off116 arg20) a + S1x64x1024.size a ≤ S2x1024x1024.size a) ∧
  (∀ (k0_h6 : k0_cond6 v1_1 k0_t6 v75 v80 = 1#1), ∀ a, (k0_off117 arg20) a + S1x1x1024.size a ≤ S2x16x1024.size a) ∧
  (∀ (k0_h6 : k0_cond6 v1_1 k0_t6 v75 v80 = 1#1), ∀ a, (k0_off118 arg20) a + S1x64x1024.size a ≤ S2x1024x1024.size a) ∧
  (∀ (k0_h6 : k0_cond6 v1_1 k0_t6 v75 v80 = 1#1), ∀ a, (k0_off119 arg20) a + S1x1x1024.size a ≤ S2x16x1024.size a) ∧
  (∀ (k0_h6 : k0_cond6 v1_1 k0_t6 v75 v80 = 1#1), ∀ a, (k0_off120 arg20) a + S1x64x1024.size a ≤ S2x1024x1024.size a) ∧
  (∀ (k0_h6 : k0_cond6 v1_1 k0_t6 v75 v80 = 1#1), ∀ a, (k0_off121 arg20) a + S1x1x1024.size a ≤ S2x16x1024.size a) ∧
  (∀ (k0_h6 : k0_cond6 v1_1 k0_t6 v75 v80 = 1#1), ∀ a, (k0_off122 arg20) a + S1x64x1024.size a ≤ S2x1024x1024.size a) ∧
  (∀ (k0_h6 : k0_cond6 v1_1 k0_t6 v75 v80 = 1#1), ∀ a, (k0_off123 arg20) a + S1x1x1024.size a ≤ S2x16x1024.size a) ∧
  (∀ (k0_h6 : k0_cond6 v1_1 k0_t6 v75 v80 = 1#1), ∀ a, (k0_off124 arg20) a + S1x64x1024.size a ≤ S2x1024x1024.size a) ∧
  (∀ (k0_h6 : k0_cond6 v1_1 k0_t6 v75 v80 = 1#1), ∀ a, (k0_off125 arg20) a + S1x1x1024.size a ≤ S2x16x1024.size a) ∧
  (∀ (k0_h6 : k0_cond6 v1_1 k0_t6 v75 v80 = 1#1), ∀ a, (k0_off126 arg20) a + S1x64x1024.size a ≤ S2x1024x1024.size a) ∧
  (∀ (k0_h6 : k0_cond6 v1_1 k0_t6 v75 v80 = 1#1), ∀ a, (k0_off127 arg20) a + S1x1x1024.size a ≤ S2x16x1024.size a) ∧
  (∀ (k0_h6 : k0_cond6 v1_1 k0_t6 v75 v80 = 1#1), ∀ a, (k0_off128 arg20) a + S1x64x1024.size a ≤ S2x1024x1024.size a) ∧
  (∀ (k0_h6 : k0_cond6 v1_1 k0_t6 v75 v80 = 1#1), ∀ a, (k0_off129 arg20) a + S1x1x1024.size a ≤ S2x16x1024.size a) ∧
  (∀ (k0_h6 : k0_cond6 v1_1 k0_t6 v75 v80 = 1#1), ∀ a, (k0_off130 arg20) a + S1x64x1024.size a ≤ S2x1024x1024.size a) ∧
  (∀ (k0_h6 : k0_cond6 v1_1 k0_t6 v75 v80 = 1#1), ∀ a, (k0_off131 arg20) a + S1x1x1024.size a ≤ S2x16x1024.size a) ∧
  (∀ (k0_h6 : k0_cond6 v1_1 k0_t6 v75 v80 = 1#1), ∀ a, (k0_off132 arg20) a + S1x64x1024.size a ≤ S2x1024x1024.size a)

set_option synthInstance.maxSize 1000000 in set_option synthInstance.maxHeartbeats 0 in instance k0_chk14_0.dec : ∀ (v1_1 : BitVec 32) (k0_t6 : Fin (k0_t6_loop v1_1).trips) (arg20 : BitVec 32) (v75 : BitVec 32) (v80 : BitVec 32), Decidable (k0_chk14_0 v1_1 k0_t6 arg20 v75 v80) := fun v1_1 k0_t6 arg20 v75 v80 => decidable_of_iff' _ (Iff.of_eq (k0_chk14_0.eq_1 v1_1 k0_t6 arg20 v75 v80))

/-- A condition that the kernel assumes. -/
def k0_chk14 (v1_1 : BitVec 32) (k0_t6 : Fin (k0_t6_loop v1_1).trips) (arg20 : BitVec 32) (v75 : BitVec 32) (v80 : BitVec 32) : Prop :=
  k0_chk14_0 v1_1 k0_t6 arg20 v75 v80 ∧
  k0_chk14_1 v1_1 k0_t6 arg20 v75 v80

set_option synthInstance.maxSize 1000000 in set_option synthInstance.maxHeartbeats 0 in instance k0_chk14.dec : ∀ (v1_1 : BitVec 32) (k0_t6 : Fin (k0_t6_loop v1_1).trips) (arg20 : BitVec 32) (v75 : BitVec 32) (v80 : BitVec 32), Decidable (k0_chk14 v1_1 k0_t6 arg20 v75 v80) := fun v1_1 k0_t6 arg20 v75 v80 => decidable_of_iff' _ (Iff.of_eq (k0_chk14.eq_1 v1_1 k0_t6 arg20 v75 v80))

/-- A condition that the kernel assumes. -/
def k0_chk15 (v1_1 : BitVec 32) (k0_t6 : Fin (k0_t6_loop v1_1).trips) (arg20 : BitVec 32) (v75 : BitVec 32) (v80 : BitVec 32) (v372 : BitVec 32) : Prop :=
  (∀ (k0_h6 : k0_cond6 v1_1 k0_t6 v75 v80 = 1#1), ∀ (k0_h7 : k0_cond7 v372 = 1#1), ∀ a, (k0_off105 arg20) a + S1.size a ≤ S2.size a) ∧
  (∀ (k0_h6 : k0_cond6 v1_1 k0_t6 v75 v80 = 1#1), ∀ (k0_h7 : k0_cond7 v372 = 1#1), ∀ a, (k0_off106 arg20) a + S1x1024x1024.size a ≤ S2x1024x1024.size a) ∧
  (∀ (k0_h6 : k0_cond6 v1_1 k0_t6 v75 v80 = 1#1), ∀ (k0_h7 : k0_cond7 v372 = 1#1), ∀ a, (k0_off107 v372) a + S1x1024x1024.size a ≤ S16x1024x4096.size a) ∧
  (∀ (k0_h6 : k0_cond6 v1_1 k0_t6 v75 v80 = 1#1), ∀ (k0_h7 : k0_cond7 v372 = 1#1), ∀ (hinb : ∀ a, (k0_off107 v372) a + S1x1024x1024.size a ≤ S16x1024x4096.size a), (Rect.unit (s := S16x1024x4096) (k0_off107 v372) S1x1024x1024.size hinb).WholeWords (EltTy.packing .i8)) ∧
  (∀ (k0_h6 : k0_cond6 v1_1 k0_t6 v75 v80 = 1#1), ∀ (k0_h7 : k0_cond7 v372 = 1#1), ∀ (hinb : ∀ a, (k0_off106 arg20) a + S1x1024x1024.size a ≤ S2x1024x1024.size a), (Rect.unit (s := S2x1024x1024) (k0_off106 arg20) S1x1024x1024.size hinb).WholeWords (EltTy.packing .i8)) ∧
  (∀ (k0_h6 : k0_cond6 v1_1 k0_t6 v75 v80 = 1#1), ∀ (k0_h7 : k0_cond7 v372 = 1#1), ∀ a, (k0_off108 arg20) a + S1x16x1024.size a ≤ S2x16x1024.size a) ∧
  (∀ (k0_h6 : k0_cond6 v1_1 k0_t6 v75 v80 = 1#1), ∀ (k0_h7 : k0_cond7 v372 = 1#1), ∀ a, (k0_off109 v372) a + S1x16x1024.size a ≤ S16x16x4096.size a) ∧
  (∀ (k0_h6 : k0_cond6 v1_1 k0_t6 v75 v80 = 1#1), ∀ (k0_h7 : k0_cond7 v372 = 1#1), ∀ (hinb : ∀ a, (k0_off109 v372) a + S1x16x1024.size a ≤ S16x16x4096.size a), (Rect.unit (s := S16x16x4096) (k0_off109 v372) S1x16x1024.size hinb).WholeWords (EltTy.packing .bf16)) ∧
  (∀ (k0_h6 : k0_cond6 v1_1 k0_t6 v75 v80 = 1#1), ∀ (k0_h7 : k0_cond7 v372 = 1#1), ∀ (hinb : ∀ a, (k0_off108 arg20) a + S1x16x1024.size a ≤ S2x16x1024.size a), (Rect.unit (s := S2x16x1024) (k0_off108 arg20) S1x16x1024.size hinb).WholeWords (EltTy.packing .bf16))

set_option synthInstance.maxSize 1000000 in set_option synthInstance.maxHeartbeats 0 in instance k0_chk15.dec : ∀ (v1_1 : BitVec 32) (k0_t6 : Fin (k0_t6_loop v1_1).trips) (arg20 : BitVec 32) (v75 : BitVec 32) (v80 : BitVec 32) (v372 : BitVec 32), Decidable (k0_chk15 v1_1 k0_t6 arg20 v75 v80 v372) := fun v1_1 k0_t6 arg20 v75 v80 v372 => decidable_of_iff' _ (Iff.of_eq (k0_chk15.eq_1 v1_1 k0_t6 arg20 v75 v80 v372))

theorem k0_off4_inb : ∀ (v2 : BitVec 32) (k0_hw2 : k0_chk2 v2), ∀ a, (k0_off4 v2) a + S1x1024x1024.size a ≤ S16x1024x4096.size a := fun v2 k0_hw2 => k0_hw2.1

theorem k0_off4_wordsi8 : ∀ (v2 : BitVec 32) (k0_hw2 : k0_chk2 v2), (Rect.unit (s := S16x1024x4096) (k0_off4 v2) S1x1024x1024.size (k0_off4_inb v2 k0_hw2)).WholeWords (EltTy.packing .i8) := fun v2 k0_hw2 => k0_hw2.2.1 (k0_off4_inb v2 k0_hw2)

theorem k0_off5_inb : ∀ (v2 : BitVec 32) (k0_hw2 : k0_chk2 v2), ∀ a, (k0_off5 v2) a + S1x16x1024.size a ≤ S16x16x4096.size a := fun v2 k0_hw2 => k0_hw2.2.2.1

theorem k0_off5_wordsbf16 : ∀ (v2 : BitVec 32) (k0_hw2 : k0_chk2 v2), (Rect.unit (s := S16x16x4096) (k0_off5 v2) S1x16x1024.size (k0_off5_inb v2 k0_hw2)).WholeWords (EltTy.packing .bf16) := fun v2 k0_hw2 => k0_hw2.2.2.2 (k0_off5_inb v2 k0_hw2)

theorem k0_off18_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off18 v75) a + S1x1024x1024.size a ≤ S16x1024x4096.size a := fun v1_1 k0_t4 arg20 v75 v80 k0_hw6 k0_h2 => k0_hw6.1.2.2.1 k0_h2

theorem k0_off18_wordsi8 : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), (Rect.unit (s := S16x1024x4096) (k0_off18 v75) S1x1024x1024.size (k0_off18_inb v1_1 k0_t4 arg20 v75 v80 k0_hw6 k0_h2)).WholeWords (EltTy.packing .i8) := fun v1_1 k0_t4 arg20 v75 v80 k0_hw6 k0_h2 => k0_hw6.1.2.2.2.1 k0_h2 (k0_off18_inb v1_1 k0_t4 arg20 v75 v80 k0_hw6 k0_h2)

theorem k0_off20_inb : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), ∀ a, (k0_off20 v75) a + S1x16x1024.size a ≤ S16x16x4096.size a := fun v1_1 k0_t4 arg20 v75 v80 k0_hw6 k0_h2 => k0_hw6.1.2.2.2.2.2.2.1 k0_h2

theorem k0_off20_wordsbf16 : ∀ (v1_1 : BitVec 32) (k0_t4 : Fin (k0_t4_loop v1_1).trips) (arg20 : BitVec 32) (v75 : BitVec 32) (v80 : BitVec 32) (k0_hw6 : k0_chk6 v1_1 k0_t4 arg20 v75 v80), ∀ (k0_h2 : k0_cond2 v1_1 k0_t4 v75 v80 = 1#1), (Rect.unit (s := S16x16x4096) (k0_off20 v75) S1x16x1024.size (k0_off20_inb v1_1 k0_t4 arg20 v75 v80 k0_hw6 k0_h2)).WholeWords (EltTy.packing .bf16) := fun v1_1 k0_t4 arg20 v75 v80 k0_hw6 k0_h2 => k0_hw6.1.2.2.2.2.2.2.2.1 k0_h2 (k0_off20_inb v1_1 k0_t4 arg20 v75 v80 k0_hw6 k0_h2)

theorem k0_off24_inb : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), ∀ a, (k0_off24 v372) a + S1x1024x1024.size a ≤ S16x1024x4096.size a := fun v1_1 k0_t4 arg20 v75 v80 v372 k0_hw7 k0_h2 k0_h3 => k0_hw7.2.2.1 k0_h2 k0_h3

theorem k0_off24_wordsi8 : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), (Rect.unit (s := S16x1024x4096) (k0_off24 v372) S1x1024x1024.size (k0_off24_inb v1_1 k0_t4 arg20 v75 v80 v372 k0_hw7 k0_h2 k0_h3)).WholeWords (EltTy.packing .i8) := fun v1_1 k0_t4 arg20 v75 v80 v372 k0_hw7 k0_h2 k0_h3 => k0_hw7.2.2.2.1 k0_h2 k0_h3 (k0_off24_inb v1_1 k0_t4 arg20 v75 v80 v372 k0_hw7 k0_h2 k0_h3)

theorem k0_off26_inb : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), ∀ a, (k0_off26 v372) a + S1x16x1024.size a ≤ S16x16x4096.size a := fun v1_1 k0_t4 arg20 v75 v80 v372 k0_hw7 k0_h2 k0_h3 => k0_hw7.2.2.2.2.2.2.1 k0_h2 k0_h3

theorem k0_off26_wordsbf16 : ∀ (v1_1 : BitVec 32) (k0_t4 : Fin (k0_t4_loop v1_1).trips) (arg20 : BitVec 32) (v75 : BitVec 32) (v80 : BitVec 32) (v372 : BitVec 32) (k0_hw7 : k0_chk7 v1_1 k0_t4 arg20 v75 v80 v372), ∀ (k0_h2 : k0_cond2 v1_1 k0_t4 v75 v80 = 1#1), ∀ (k0_h3 : k0_cond3 v372 = 1#1), (Rect.unit (s := S16x16x4096) (k0_off26 v372) S1x16x1024.size (k0_off26_inb v1_1 k0_t4 arg20 v75 v80 v372 k0_hw7 k0_h2 k0_h3)).WholeWords (EltTy.packing .bf16) := fun v1_1 k0_t4 arg20 v75 v80 v372 k0_hw7 k0_h2 k0_h3 => k0_hw7.2.2.2.2.2.2.2.1 k0_h2 k0_h3 (k0_off26_inb v1_1 k0_t4 arg20 v75 v80 v372 k0_hw7 k0_h2 k0_h3)

theorem k0_off101_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off101 v75) a + S1x1024x1024.size a ≤ S16x1024x4096.size a := fun v1_1 k0_t6 arg20 v75 v80 k0_hw14 k0_h6 => k0_hw14.1.2.2.1 k0_h6

theorem k0_off101_wordsi8 : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), (Rect.unit (s := S16x1024x4096) (k0_off101 v75) S1x1024x1024.size (k0_off101_inb v1_1 k0_t6 arg20 v75 v80 k0_hw14 k0_h6)).WholeWords (EltTy.packing .i8) := fun v1_1 k0_t6 arg20 v75 v80 k0_hw14 k0_h6 => k0_hw14.1.2.2.2.1 k0_h6 (k0_off101_inb v1_1 k0_t6 arg20 v75 v80 k0_hw14 k0_h6)

theorem k0_off103_inb : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), ∀ a, (k0_off103 v75) a + S1x16x1024.size a ≤ S16x16x4096.size a := fun v1_1 k0_t6 arg20 v75 v80 k0_hw14 k0_h6 => k0_hw14.1.2.2.2.2.2.2.1 k0_h6

theorem k0_off103_wordsbf16 : ∀ (v1_1 : BitVec 32) (k0_t6 : Fin (k0_t6_loop v1_1).trips) (arg20 : BitVec 32) (v75 : BitVec 32) (v80 : BitVec 32) (k0_hw14 : k0_chk14 v1_1 k0_t6 arg20 v75 v80), ∀ (k0_h6 : k0_cond6 v1_1 k0_t6 v75 v80 = 1#1), (Rect.unit (s := S16x16x4096) (k0_off103 v75) S1x16x1024.size (k0_off103_inb v1_1 k0_t6 arg20 v75 v80 k0_hw14 k0_h6)).WholeWords (EltTy.packing .bf16) := fun v1_1 k0_t6 arg20 v75 v80 k0_hw14 k0_h6 => k0_hw14.1.2.2.2.2.2.2.2.1 k0_h6 (k0_off103_inb v1_1 k0_t6 arg20 v75 v80 k0_hw14 k0_h6)

theorem k0_off107_inb : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), ∀ a, (k0_off107 v372) a + S1x1024x1024.size a ≤ S16x1024x4096.size a := fun v1_1 k0_t6 arg20 v75 v80 v372 k0_hw15 k0_h6 k0_h7 => k0_hw15.2.2.1 k0_h6 k0_h7

theorem k0_off107_wordsi8 : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), (Rect.unit (s := S16x1024x4096) (k0_off107 v372) S1x1024x1024.size (k0_off107_inb v1_1 k0_t6 arg20 v75 v80 v372 k0_hw15 k0_h6 k0_h7)).WholeWords (EltTy.packing .i8) := fun v1_1 k0_t6 arg20 v75 v80 v372 k0_hw15 k0_h6 k0_h7 => k0_hw15.2.2.2.1 k0_h6 k0_h7 (k0_off107_inb v1_1 k0_t6 arg20 v75 v80 v372 k0_hw15 k0_h6 k0_h7)

theorem k0_off109_inb : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), ∀ a, (k0_off109 v372) a + S1x16x1024.size a ≤ S16x16x4096.size a := fun v1_1 k0_t6 arg20 v75 v80 v372 k0_hw15 k0_h6 k0_h7 => k0_hw15.2.2.2.2.2.2.1 k0_h6 k0_h7

theorem k0_off109_wordsbf16 : ∀ (v1_1 : BitVec 32) (k0_t6 : Fin (k0_t6_loop v1_1).trips) (arg20 : BitVec 32) (v75 : BitVec 32) (v80 : BitVec 32) (v372 : BitVec 32) (k0_hw15 : k0_chk15 v1_1 k0_t6 arg20 v75 v80 v372), ∀ (k0_h6 : k0_cond6 v1_1 k0_t6 v75 v80 = 1#1), ∀ (k0_h7 : k0_cond7 v372 = 1#1), (Rect.unit (s := S16x16x4096) (k0_off109 v372) S1x16x1024.size (k0_off109_inb v1_1 k0_t6 arg20 v75 v80 v372 k0_hw15 k0_h6 k0_h7)).WholeWords (EltTy.packing .bf16) := fun v1_1 k0_t6 arg20 v75 v80 v372 k0_hw15 k0_h6 k0_h7 => k0_hw15.2.2.2.2.2.2.2.1 k0_h6 k0_h7 (k0_off109_inb v1_1 k0_t6 arg20 v75 v80 v372 k0_hw15 k0_h6 k0_h7)

theorem bdW {o o' : Fin 3 → ℕ} (e : o = ![o' 0, 0, 0]) (h1 : o' 1 = 0) (h : ∀ a, o' a + S1x1024x1024.size a ≤ S16x1024x4096.size a) :
    ∀ a, o a + S1x1024x1024.size a ≤ S16x1024x4096.size a := by
  subst e; intro a; fin_cases a
  exacts [h 0, (by decide : (0 + 1024 : ℕ) ≤ 1024), (by decide : (0 + 1024 : ℕ) ≤ 4096)]
theorem bdS {o o' : Fin 3 → ℕ} (e : o = ![o' 0, 0, 0]) (h1 : o' 1 = 0) (h : ∀ a, o' a + S1x16x1024.size a ≤ S16x16x4096.size a) :
    ∀ a, o a + S1x16x1024.size a ≤ S16x16x4096.size a := by
  subst e; intro a; fin_cases a
  exacts [h 0, (by decide : (0 + 16 : ℕ) ≤ 16), (by decide : (0 + 1024 : ℕ) ≤ 4096)]

theorem cv6 {v1_1 : BitVec 32} {t : Fin (k0_t4_loop v1_1).trips} {arg20 v75 v80 : BitVec 32} (h : k0_chk6 v1_1 t arg20 v75 v80) : Cert.KernelIdeal.k0_chk6 v1_1 t arg20 v75 v80 := by
  obtain ⟨⟨p1, p2, p3, p4, p5, p6, p7, p8, rest⟩, q⟩ := h
  exact ⟨⟨p1, p2, fun h2 => bdW rfl rfl (p3 h2), fun _ hinb => words_rows (by decide) rfl rfl, p5, p6, fun h2 => bdS rfl rfl (p7 h2),
    fun _ hinb => words_rows (by decide) rfl rfl, rest⟩, q⟩

theorem cv14 {v1_1 : BitVec 32} {t : Fin (k0_t6_loop v1_1).trips} {arg20 v75 v80 : BitVec 32} (h : k0_chk14 v1_1 t arg20 v75 v80) : Cert.KernelIdeal.k0_chk14 v1_1 t arg20 v75 v80 := by
  obtain ⟨⟨p1, p2, p3, p4, p5, p6, p7, p8, rest⟩, q⟩ := h
  exact ⟨⟨p1, p2, fun h2 => bdW rfl rfl (p3 h2), fun _ hinb => words_rows (by decide) rfl rfl, p5, p6, fun h2 => bdS rfl rfl (p7 h2),
    fun _ hinb => words_rows (by decide) rfl rfl, rest⟩, q⟩

theorem cv7 {v1_1 : BitVec 32} {t : Fin (k0_t4_loop v1_1).trips} {arg20 v75 v80 x : BitVec 32} (h : k0_chk7 v1_1 t arg20 v75 v80 x) : Cert.KernelIdeal.k0_chk7 v1_1 t arg20 v75 v80 x := by
  obtain ⟨p1, p2, p3, p4, p5, p6, p7, p8, rest⟩ := h
  exact ⟨p1, p2, fun h2 h3 => bdW rfl rfl (p3 h2 h3), fun _ _ hinb => words_rows (by decide) rfl rfl, p5, p6, fun h2 h3 => bdS rfl rfl (p7 h2 h3),
    fun _ _ hinb => words_rows (by decide) rfl rfl, rest⟩

theorem cv15 {v1_1 : BitVec 32} {t : Fin (k0_t6_loop v1_1).trips} {arg20 v75 v80 x : BitVec 32} (h : k0_chk15 v1_1 t arg20 v75 v80 x) : Cert.KernelIdeal.k0_chk15 v1_1 t arg20 v75 v80 x := by
  obtain ⟨p1, p2, p3, p4, p5, p6, p7, p8, rest⟩ := h
  exact ⟨p1, p2, fun h2 h3 => bdW rfl rfl (p3 h2 h3), fun _ _ hinb => words_rows (by decide) rfl rfl, p5, p6, fun h2 h3 => bdS rfl rfl (p7 h2 h3),
    fun _ _ hinb => words_rows (by decide) rfl rfl, rest⟩

set_option maxHeartbeats 40000000 in
/-- A part of the kernel, at a column offset. -/
def k0_part2 (arg0 : Memref sig .tc .smem S16 .i32) (harg0 : arg0.IsWhole) (arg1 : Memref sig .tc .hbm S98304x2048 .fp8e4m3) (harg1 : arg1.IsWhole) (arg2 : Memref sig .tc .hbm S768x1x128 .f32) (harg2 : arg2.IsWhole) (arg3 : Memref sig .tc .hbm S16x1024x4096 .i8) (harg3 : arg3.IsWhole) (arg4 : Memref sig .tc .hbm S16x16x4096 .bf16) (harg4 : arg4.IsWhole) (arg5 : Memref sig .tc .hbm S933888x128 .f32) (harg5 : arg5.IsWhole) (arg6 : Memref sig .tc .smem S224 .i32) (harg6 : arg6.IsWhole) (arg7 : Memref sig .tc .smem S224 .i32) (harg7 : arg7.IsWhole) (arg8 : Memref sig .tc .vmem S2x512x2048 .fp8e4m3) (harg8 : arg8.IsWhole) (arg9 : Memref sig .tc .vmem S2x4x1x128 .f32) (harg9 : arg9.IsWhole) (arg10 : Memref sig .tc .vmem S2x1024x1024 .i8) (harg10 : arg10.IsWhole) (arg11 : Memref sig .tc .vmem S2x16x1024 .bf16) (harg11 : arg11.IsWhole) (arg12 : Memref sig .tc .vmem S2048x1024 .bf16) (harg12 : arg12.IsWhole) (arg13 : Memref sig .tc .vmem S2x4096x128 .f32) (harg13 : arg13.IsWhole) (arg14 : DmaSems sig S2) (arg15 : DmaSems sig S2) (arg16 : DmaSems sig S2) (arg17 : DmaSems sig S2) (arg18 : DmaSems sig S2) (v1_1 : BitVec 32) (k0_t4 : Fin (k0_t4_loop v1_1).trips) (arg20 : BitVec 32) (v75 : Elt F .i32) (v80 : Elt F .i32) (k0_hw6 : k0_chk6 v1_1 k0_t4 arg20 v75 v80) (k0_h2 : k0_cond2 v1_1 k0_t4 v75 v80 = 1#1) :
    Prog (TpuEff nD τ sig (Elt F) Λ₀ .tc) (FVec F S128x1024 .bf16) := do
  let v359 : DmaSems sig S1 := arg16.slice (Rect.unit (s := S2) (k0_off16 arg20) S1.size (k0_off16_inb v1_1 k0_t4 arg20 v75 v80 (cv6 k0_hw6) k0_h2))
  let v360 : DmaSems sig S_ := v359.squeeze S_ squeezes_S1_S_
  let v361 : Memref sig .tc .vmem S1x1024x1024 .i8 := arg10.slice (Rect.unit (s := S2x1024x1024) (k0_off17 arg20) S1x1024x1024.size (k0_off17_inb v1_1 k0_t4 arg20 v75 v80 (cv6 k0_hw6) k0_h2)) (fun _ => rfl)
  let v362 : Memref sig .tc .vmem S1024x1024 .i8 := v361.squeeze S1024x1024 squeezes_S1x1024x1024_S1024x1024
  let v363 : Memref sig .tc .hbm S1x1024x1024 .i8 := arg3.slice (Rect.unit (s := S16x1024x4096) (k0_off18 v75) S1x1024x1024.size (k0_off18_inb v1_1 k0_t4 arg20 v75 v80 k0_hw6 k0_h2)) (fun _ => rfl)
  let v364 : Memref sig .tc .hbm S1024x1024 .i8 := v363.squeeze S1024x1024 squeezes_S1x1024x1024_S1024x1024
  Prog.lift (.waitDma2 v360.sem v364 v362 ((harg3.wordExact_slice rfl _ (k0_off18_wordsi8 v1_1 k0_t4 arg20 v75 v80 k0_hw6 k0_h2)).reshape _ _) ((harg10.wordExact_slice rfl _ (k0_off17_wordsi8 v1_1 k0_t4 arg20 v75 v80 (cv6 k0_hw6) k0_h2)).reshape _ _))
  let v365 : DmaSems sig S1 := arg17.slice (Rect.unit (s := S2) (k0_off16 arg20) S1.size (k0_off16_inb v1_1 k0_t4 arg20 v75 v80 (cv6 k0_hw6) k0_h2))
  let v366 : DmaSems sig S_ := v365.squeeze S_ squeezes_S1_S_
  let v367 : Memref sig .tc .vmem S1x16x1024 .bf16 := arg11.slice (Rect.unit (s := S2x16x1024) (k0_off19 arg20) S1x16x1024.size (k0_off19_inb v1_1 k0_t4 arg20 v75 v80 (cv6 k0_hw6) k0_h2)) (fun _ => rfl)
  let v368 : Memref sig .tc .vmem S16x1024 .bf16 := v367.squeeze S16x1024 squeezes_S1x16x1024_S16x1024
  let v369 : Memref sig .tc .hbm S1x16x1024 .bf16 := arg4.slice (Rect.unit (s := S16x16x4096) (k0_off20 v75) S1x16x1024.size (k0_off20_inb v1_1 k0_t4 arg20 v75 v80 k0_hw6 k0_h2)) (fun _ => rfl)
  let v370 : Memref sig .tc .hbm S16x1024 .bf16 := v369.squeeze S16x1024 squeezes_S1x16x1024_S16x1024
  Prog.lift (.waitDma2 v366.sem v370 v368 ((harg4.wordExact_slice rfl _ (k0_off20_wordsbf16 v1_1 k0_t4 arg20 v75 v80 k0_hw6 k0_h2)).reshape _ _) ((harg11.wordExact_slice rfl _ (k0_off19_wordsbf16 v1_1 k0_t4 arg20 v75 v80 (cv6 k0_hw6) k0_h2)).reshape _ _))

  let v372 : BitVec 32 ← Scf.Loop.for k0_t5_loop k0_t5_ok 16#32 (k0_t5_body arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_t4 arg20 v75 v80 (cv6 k0_hw6) k0_h2)
  have k0_hw7 : k0_chk7 v1_1 k0_t4 arg20 v75 v80 v372 := (← Prog.lift (TpuEff.assume (k0_chk7 v1_1 k0_t4 arg20 v75 v80 v372) (k0_chk7.dec v1_1 k0_t4 arg20 v75 v80 v372))).down

  if k0_h3 : k0_cond3 v372 = 1#1 then do

    let v777 : DmaSems sig S1 := arg16.slice (Rect.unit (s := S2) (k0_off22 arg20) S1.size (k0_off22_inb v1_1 k0_t4 arg20 v75 v80 v372 (cv7 k0_hw7) k0_h2 k0_h3))
    let v778 : DmaSems sig S_ := v777.squeeze S_ squeezes_S1_S_
    let v779 : Memref sig .tc .vmem S1x1024x1024 .i8 := arg10.slice (Rect.unit (s := S2x1024x1024) (k0_off23 arg20) S1x1024x1024.size (k0_off23_inb v1_1 k0_t4 arg20 v75 v80 v372 (cv7 k0_hw7) k0_h2 k0_h3)) (fun _ => rfl)
    let v780 : Memref sig .tc .vmem S1024x1024 .i8 := v779.squeeze S1024x1024 squeezes_S1x1024x1024_S1024x1024
    let v781 : Memref sig .tc .hbm S1x1024x1024 .i8 := arg3.slice (Rect.unit (s := S16x1024x4096) (k0_off24 v372) S1x1024x1024.size (k0_off24_inb v1_1 k0_t4 arg20 v75 v80 v372 k0_hw7 k0_h2 k0_h3)) (fun _ => rfl)
    let v782 : Memref sig .tc .hbm S1024x1024 .i8 := v781.squeeze S1024x1024 squeezes_S1x1024x1024_S1024x1024
    Prog.lift (.enqueueDma v782 (.here v780) (.dma v778.sem) ((harg3.wordExact_slice rfl _ (k0_off24_wordsi8 v1_1 k0_t4 arg20 v75 v80 v372 k0_hw7 k0_h2 k0_h3)).reshape _ _) ((harg10.wordExact_slice rfl _ (k0_off23_wordsi8 v1_1 k0_t4 arg20 v75 v80 v372 (cv7 k0_hw7) k0_h2 k0_h3)).reshape _ _) ⟨Or.inl rfl, trivial⟩)
    let v783 : DmaSems sig S1 := arg17.slice (Rect.unit (s := S2) (k0_off22 arg20) S1.size (k0_off22_inb v1_1 k0_t4 arg20 v75 v80 v372 (cv7 k0_hw7) k0_h2 k0_h3))
    let v784 : DmaSems sig S_ := v783.squeeze S_ squeezes_S1_S_
    let v785 : Memref sig .tc .vmem S1x16x1024 .bf16 := arg11.slice (Rect.unit (s := S2x16x1024) (k0_off25 arg20) S1x16x1024.size (k0_off25_inb v1_1 k0_t4 arg20 v75 v80 v372 (cv7 k0_hw7) k0_h2 k0_h3)) (fun _ => rfl)
    let v786 : Memref sig .tc .vmem S16x1024 .bf16 := v785.squeeze S16x1024 squeezes_S1x16x1024_S16x1024
    let v787 : Memref sig .tc .hbm S1x16x1024 .bf16 := arg4.slice (Rect.unit (s := S16x16x4096) (k0_off26 v372) S1x16x1024.size (k0_off26_inb v1_1 k0_t4 arg20 v75 v80 v372 k0_hw7 k0_h2 k0_h3)) (fun _ => rfl)
    let v788 : Memref sig .tc .hbm S16x1024 .bf16 := v787.squeeze S16x1024 squeezes_S1x16x1024_S16x1024
    Prog.lift (.enqueueDma v788 (.here v786) (.dma v784.sem) ((harg4.wordExact_slice rfl _ (k0_off26_wordsbf16 v1_1 k0_t4 arg20 v75 v80 v372 k0_hw7 k0_h2 k0_h3)).reshape _ _) ((harg11.wordExact_slice rfl _ (k0_off25_wordsbf16 v1_1 k0_t4 arg20 v75 v80 v372 (cv7 k0_hw7) k0_h2 k0_h3)).reshape _ _) ⟨Or.inl rfl, trivial⟩)
    pure ⟨⟩
  else do
    pure ⟨⟩

  let v377 : Vec F S1x64x1024 .i8 ← Prog.lift (.load arg10 (Rect.unit (s := S2x1024x1024) (k0_off27 arg20) S1x64x1024.size (k0_off27_inb v1_1 k0_t4 arg20 v75 v80 (cv6 k0_hw6) k0_h2)).toLoadRect (View.loadsAt_vmem h_S1x64x1024))

  pure (k0_pay1 v377)

set_option maxHeartbeats 40000000 in
/-- A part of the kernel, at a column offset. -/
def k0_part12 (arg0 : Memref sig .tc .smem S16 .i32) (harg0 : arg0.IsWhole) (arg1 : Memref sig .tc .hbm S98304x2048 .fp8e4m3) (harg1 : arg1.IsWhole) (arg2 : Memref sig .tc .hbm S768x1x128 .f32) (harg2 : arg2.IsWhole) (arg3 : Memref sig .tc .hbm S16x1024x4096 .i8) (harg3 : arg3.IsWhole) (arg4 : Memref sig .tc .hbm S16x16x4096 .bf16) (harg4 : arg4.IsWhole) (arg5 : Memref sig .tc .hbm S933888x128 .f32) (harg5 : arg5.IsWhole) (arg6 : Memref sig .tc .smem S224 .i32) (harg6 : arg6.IsWhole) (arg7 : Memref sig .tc .smem S224 .i32) (harg7 : arg7.IsWhole) (arg8 : Memref sig .tc .vmem S2x512x2048 .fp8e4m3) (harg8 : arg8.IsWhole) (arg9 : Memref sig .tc .vmem S2x4x1x128 .f32) (harg9 : arg9.IsWhole) (arg10 : Memref sig .tc .vmem S2x1024x1024 .i8) (harg10 : arg10.IsWhole) (arg11 : Memref sig .tc .vmem S2x16x1024 .bf16) (harg11 : arg11.IsWhole) (arg12 : Memref sig .tc .vmem S2048x1024 .bf16) (harg12 : arg12.IsWhole) (arg13 : Memref sig .tc .vmem S2x4096x128 .f32) (harg13 : arg13.IsWhole) (arg14 : DmaSems sig S2) (arg15 : DmaSems sig S2) (arg16 : DmaSems sig S2) (arg17 : DmaSems sig S2) (arg18 : DmaSems sig S2) (v1_1 : BitVec 32) (k0_hw4 : k0_chk4 v1_1) (c0_i32_34 : BitVec 32) (c1_i32_37 : BitVec 32) (k0_t4 : Fin (k0_t4_loop v1_1).trips) (arg20 : BitVec 32) :
    Prog (TpuEff nD τ sig (Elt F) Λ₀ .tc) (Σ' (arg19 : BitVec 32) (v73 : BitVec 32) (v82 : BitVec 1) (v90 : Elt F .i32), k0_chk8 v90) := do
  let arg19 : BitVec 32 := Scf.iv c0_i32_34 c1_i32_37 k0_t4
  let v73 : BitVec 32 := Scalar.remsi arg19 2#32

  let v75 : Elt F .i32 ← smemLoad arg7 (Rect.unit (s := S224) (k0_off8 v1_1 k0_t4) S1.size (k0_off8_inb v1_1 k0_hw4 k0_t4)) numel1_S1 rfl
  let v76 : BitVec 1 := Scalar.cmpi .eq arg19 0#32

  let v80 : Elt F .i32 ← smemLoad arg7 (Rect.unit (s := S224) (k0_off9 v1_1 k0_t4) S1.size (k0_off9_inb v1_1 k0_hw4 k0_t4)) numel1_S1 rfl
  have k0_hw6 : k0_chk6 v1_1 k0_t4 arg20 v75 v80 := (← Prog.lift (TpuEff.assume (k0_chk6 v1_1 k0_t4 arg20 v75 v80) (k0_chk6.dec v1_1 k0_t4 arg20 v75 v80))).down
  let v81 : BitVec 1 := Scalar.cmpi .ne v80 v75
  let v82 : BitVec 1 := Scalar.ori v76 v81

  if k0_h1 : k0_cond1 v1_1 k0_t4 = 1#1 then do

    let v362 : Elt F .i32 ← smemLoad arg6 (Rect.unit (s := S224) (k0_off10 v1_1 k0_t4) S1.size (k0_off10_inb v1_1 k0_hw4 k0_t4 k0_h1)) numel1_S1 rfl
    have k0_hw5 : k0_chk5 v1_1 k0_t4 v362 := (← Prog.lift (TpuEff.assume (k0_chk5 v1_1 k0_t4 v362) (k0_chk5.dec v1_1 k0_t4 v362))).down

    let v382 : DmaSems sig S1 := arg14.slice (Rect.unit (s := S2) (k0_off11 v1_1 k0_t4) S1.size (k0_off11_inb v1_1 k0_hw4 k0_t4 k0_h1))
    let v383 : DmaSems sig S_ := v382.squeeze S_ squeezes_S1_S_
    let v384 : Memref sig .tc .vmem S1x512x2048 .fp8e4m3 := arg8.slice (Rect.unit (s := S2x512x2048) (k0_off12 v1_1 k0_t4) S1x512x2048.size (k0_off12_inb v1_1 k0_hw4 k0_t4 k0_h1)) (fun _ => rfl)
    let v385 : Memref sig .tc .vmem S512x2048 .fp8e4m3 := v384.squeeze S512x2048 squeezes_S1x512x2048_S512x2048
    let v386 : Memref sig .tc .hbm S512x2048 .fp8e4m3 := arg1.slice (Rect.unit (s := S98304x2048) (k0_off13 v362) S512x2048.size (k0_off13_inb v1_1 k0_t4 v362 k0_hw5 k0_h1)) (fun _ => rfl)
    Prog.lift (.enqueueDma v386 (.here v385) (.dma v383.sem) (harg1.wordExact_slice rfl _ (k0_off13_wordsfp8e4m3 v1_1 k0_t4 v362 k0_hw5 k0_h1)) ((harg8.wordExact_slice rfl _ (k0_off12_wordsfp8e4m3 v1_1 k0_hw4 k0_t4 k0_h1)).reshape _ _) ⟨Or.inl rfl, trivial⟩)
    let v387 : DmaSems sig S1 := arg15.slice (Rect.unit (s := S2) (k0_off11 v1_1 k0_t4) S1.size (k0_off11_inb v1_1 k0_hw4 k0_t4 k0_h1))
    let v388 : DmaSems sig S_ := v387.squeeze S_ squeezes_S1_S_
    let v389 : Memref sig .tc .vmem S1x4x1x128 .f32 := arg9.slice (Rect.unit (s := S2x4x1x128) (k0_off14 v1_1 k0_t4) S1x4x1x128.size (k0_off14_inb v1_1 k0_hw4 k0_t4 k0_h1)) (fun _ => rfl)
    let v390 : Memref sig .tc .vmem S4x1x128 .f32 := v389.squeeze S4x1x128 squeezes_S1x4x1x128_S4x1x128
    let v391 : Memref sig .tc .hbm S4x1x128 .f32 := arg2.slice (Rect.unit (s := S768x1x128) (k0_off15 v362) S4x1x128.size (k0_off15_inb v1_1 k0_t4 v362 k0_hw5 k0_h1)) (fun _ => rfl)
    Prog.lift (.enqueueDma v391 (.here v390) (.dma v388.sem) (View.wordExact_bits rfl) ((View.wordExact_bits rfl).reshape _ _) ⟨Or.inl rfl, trivial⟩)
    pure ⟨⟩
  else do
    pure ⟨⟩

  if k0_h2 : k0_cond2 v1_1 k0_t4 v75 v80 = 1#1 then do
    let v392 : FVec F S128x1024 .bf16 ← k0_part2 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_t4 arg20 v75 v80 k0_hw6 k0_h2
    let ⟨v429, v433⟩ : Σ' (v429 : IVec S64x1024 32), IVec S64x1024 32 ← k0_part3 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_t4 arg20 v75 v80 (cv6 k0_hw6) k0_h2 v392
    k0_part4 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_t4 arg20 v75 v80 (cv6 k0_hw6) k0_h2 v429 v433
    let v517 : FVec F S128x1024 .bf16 ← k0_part5 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_t4 arg20 v75 v80 (cv6 k0_hw6) k0_h2
    let ⟨v554, v558⟩ : Σ' (v554 : IVec S64x1024 32), IVec S64x1024 32 ← k0_part6 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_t4 arg20 v75 v80 (cv6 k0_hw6) k0_h2 v517
    k0_part7 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_t4 arg20 v75 v80 (cv6 k0_hw6) k0_h2 v554 v558
    let v642 : FVec F S128x1024 .bf16 ← k0_part8 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_t4 arg20 v75 v80 (cv6 k0_hw6) k0_h2
    let ⟨v679, v683⟩ : Σ' (v679 : IVec S64x1024 32), IVec S64x1024 32 ← k0_part9 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_t4 arg20 v75 v80 (cv6 k0_hw6) k0_h2 v642
    k0_part10 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_t4 arg20 v75 v80 (cv6 k0_hw6) k0_h2 v679 v683
    let v767 : FVec F S128x1024 .bf16 ← k0_part11 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_t4 arg20 v75 v80 (cv6 k0_hw6) k0_h2
    let v769 : Vec F S1x1x1024 .bf16 ← Prog.lift (.load arg11 (Rect.unit (s := S2x16x1024) (k0_off58 arg20) S1x1x1024.size (k0_off58_inb v1_1 k0_t4 arg20 v75 v80 (cv6 k0_hw6) k0_h2)).toLoadRect (View.loadsAt_vmem h_S1x1x1024))
    let v773 : Vec F S128x1024 .bf16 ← Prog.lift (.load arg12 (Rect.unit (s := S2048x1024) ![1920, 0] S128x1024.size inb_S2048x1024_S128x1024_1920_0).toLoadRect (View.loadsAt_vmem h_S128x1024))

    Prog.lift (.store arg12 (Rect.unit (s := S2048x1024) ![1920, 0] S128x1024.size inb_S2048x1024_S128x1024_1920_0) (k0_pay26 v767 v769) Finset.univ (View.stores_vmem h_S128x1024 (harg12.storeExact_slice rfl _ packedbf16_S2048x1024_S128x1024_1920_0) (fun _ => rfl)) (.inl rfl))
    pure ⟨⟩
  else do
    pure ⟨⟩

  let v90 : Elt F .i32 ← smemLoad arg6 (Rect.unit (s := S224) (k0_off59 v1_1 k0_t4) S1.size (k0_off59_inb v1_1 k0_hw4 k0_t4)) numel1_S1 rfl
  have k0_hw8 : k0_chk8 v90 := (← Prog.lift (TpuEff.assume (k0_chk8 v90) (k0_chk8.dec v90))).down

  pure ⟨arg19, v73, v82, v90, k0_hw8⟩

set_option maxHeartbeats 40000000 in
/-- A part of the kernel, at a column offset. -/
def k0_part18 (arg0 : Memref sig .tc .smem S16 .i32) (harg0 : arg0.IsWhole) (arg1 : Memref sig .tc .hbm S98304x2048 .fp8e4m3) (harg1 : arg1.IsWhole) (arg2 : Memref sig .tc .hbm S768x1x128 .f32) (harg2 : arg2.IsWhole) (arg3 : Memref sig .tc .hbm S16x1024x4096 .i8) (harg3 : arg3.IsWhole) (arg4 : Memref sig .tc .hbm S16x16x4096 .bf16) (harg4 : arg4.IsWhole) (arg5 : Memref sig .tc .hbm S933888x128 .f32) (harg5 : arg5.IsWhole) (arg6 : Memref sig .tc .smem S224 .i32) (harg6 : arg6.IsWhole) (arg7 : Memref sig .tc .smem S224 .i32) (harg7 : arg7.IsWhole) (arg8 : Memref sig .tc .vmem S2x512x2048 .fp8e4m3) (harg8 : arg8.IsWhole) (arg9 : Memref sig .tc .vmem S2x4x1x128 .f32) (harg9 : arg9.IsWhole) (arg10 : Memref sig .tc .vmem S2x1024x1024 .i8) (harg10 : arg10.IsWhole) (arg11 : Memref sig .tc .vmem S2x16x1024 .bf16) (harg11 : arg11.IsWhole) (arg12 : Memref sig .tc .vmem S2048x1024 .bf16) (harg12 : arg12.IsWhole) (arg13 : Memref sig .tc .vmem S2x4096x128 .f32) (harg13 : arg13.IsWhole) (arg14 : DmaSems sig S2) (arg15 : DmaSems sig S2) (arg16 : DmaSems sig S2) (arg17 : DmaSems sig S2) (arg18 : DmaSems sig S2) (v1_1 : BitVec 32) (k0_t6 : Fin (k0_t6_loop v1_1).trips) (arg20 : BitVec 32) (v75 : Elt F .i32) (v80 : Elt F .i32) (k0_hw14 : k0_chk14 v1_1 k0_t6 arg20 v75 v80) (k0_h6 : k0_cond6 v1_1 k0_t6 v75 v80 = 1#1) :
    Prog (TpuEff nD τ sig (Elt F) Λ₀ .tc) (FVec F S128x1024 .bf16) := do
  let v359 : DmaSems sig S1 := arg16.slice (Rect.unit (s := S2) (k0_off99 arg20) S1.size (k0_off99_inb v1_1 k0_t6 arg20 v75 v80 (cv14 k0_hw14) k0_h6))
  let v360 : DmaSems sig S_ := v359.squeeze S_ squeezes_S1_S_
  let v361 : Memref sig .tc .vmem S1x1024x1024 .i8 := arg10.slice (Rect.unit (s := S2x1024x1024) (k0_off100 arg20) S1x1024x1024.size (k0_off100_inb v1_1 k0_t6 arg20 v75 v80 (cv14 k0_hw14) k0_h6)) (fun _ => rfl)
  let v362 : Memref sig .tc .vmem S1024x1024 .i8 := v361.squeeze S1024x1024 squeezes_S1x1024x1024_S1024x1024
  let v363 : Memref sig .tc .hbm S1x1024x1024 .i8 := arg3.slice (Rect.unit (s := S16x1024x4096) (k0_off101 v75) S1x1024x1024.size (k0_off101_inb v1_1 k0_t6 arg20 v75 v80 k0_hw14 k0_h6)) (fun _ => rfl)
  let v364 : Memref sig .tc .hbm S1024x1024 .i8 := v363.squeeze S1024x1024 squeezes_S1x1024x1024_S1024x1024
  Prog.lift (.waitDma2 v360.sem v364 v362 ((harg3.wordExact_slice rfl _ (k0_off101_wordsi8 v1_1 k0_t6 arg20 v75 v80 k0_hw14 k0_h6)).reshape _ _) ((harg10.wordExact_slice rfl _ (k0_off100_wordsi8 v1_1 k0_t6 arg20 v75 v80 (cv14 k0_hw14) k0_h6)).reshape _ _))
  let v365 : DmaSems sig S1 := arg17.slice (Rect.unit (s := S2) (k0_off99 arg20) S1.size (k0_off99_inb v1_1 k0_t6 arg20 v75 v80 (cv14 k0_hw14) k0_h6))
  let v366 : DmaSems sig S_ := v365.squeeze S_ squeezes_S1_S_
  let v367 : Memref sig .tc .vmem S1x16x1024 .bf16 := arg11.slice (Rect.unit (s := S2x16x1024) (k0_off102 arg20) S1x16x1024.size (k0_off102_inb v1_1 k0_t6 arg20 v75 v80 (cv14 k0_hw14) k0_h6)) (fun _ => rfl)
  let v368 : Memref sig .tc .vmem S16x1024 .bf16 := v367.squeeze S16x1024 squeezes_S1x16x1024_S16x1024
  let v369 : Memref sig .tc .hbm S1x16x1024 .bf16 := arg4.slice (Rect.unit (s := S16x16x4096) (k0_off103 v75) S1x16x1024.size (k0_off103_inb v1_1 k0_t6 arg20 v75 v80 k0_hw14 k0_h6)) (fun _ => rfl)
  let v370 : Memref sig .tc .hbm S16x1024 .bf16 := v369.squeeze S16x1024 squeezes_S1x16x1024_S16x1024
  Prog.lift (.waitDma2 v366.sem v370 v368 ((harg4.wordExact_slice rfl _ (k0_off103_wordsbf16 v1_1 k0_t6 arg20 v75 v80 k0_hw14 k0_h6)).reshape _ _) ((harg11.wordExact_slice rfl _ (k0_off102_wordsbf16 v1_1 k0_t6 arg20 v75 v80 (cv14 k0_hw14) k0_h6)).reshape _ _))

  let v372 : BitVec 32 ← Scf.Loop.for k0_t7_loop k0_t7_ok 16#32 (k0_t7_body arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_t6 arg20 v75 v80 (cv14 k0_hw14) k0_h6)
  have k0_hw15 : k0_chk15 v1_1 k0_t6 arg20 v75 v80 v372 := (← Prog.lift (TpuEff.assume (k0_chk15 v1_1 k0_t6 arg20 v75 v80 v372) (k0_chk15.dec v1_1 k0_t6 arg20 v75 v80 v372))).down

  if k0_h7 : k0_cond7 v372 = 1#1 then do

    let v777 : DmaSems sig S1 := arg16.slice (Rect.unit (s := S2) (k0_off105 arg20) S1.size (k0_off105_inb v1_1 k0_t6 arg20 v75 v80 v372 (cv15 k0_hw15) k0_h6 k0_h7))
    let v778 : DmaSems sig S_ := v777.squeeze S_ squeezes_S1_S_
    let v779 : Memref sig .tc .vmem S1x1024x1024 .i8 := arg10.slice (Rect.unit (s := S2x1024x1024) (k0_off106 arg20) S1x1024x1024.size (k0_off106_inb v1_1 k0_t6 arg20 v75 v80 v372 (cv15 k0_hw15) k0_h6 k0_h7)) (fun _ => rfl)
    let v780 : Memref sig .tc .vmem S1024x1024 .i8 := v779.squeeze S1024x1024 squeezes_S1x1024x1024_S1024x1024
    let v781 : Memref sig .tc .hbm S1x1024x1024 .i8 := arg3.slice (Rect.unit (s := S16x1024x4096) (k0_off107 v372) S1x1024x1024.size (k0_off107_inb v1_1 k0_t6 arg20 v75 v80 v372 k0_hw15 k0_h6 k0_h7)) (fun _ => rfl)
    let v782 : Memref sig .tc .hbm S1024x1024 .i8 := v781.squeeze S1024x1024 squeezes_S1x1024x1024_S1024x1024
    Prog.lift (.enqueueDma v782 (.here v780) (.dma v778.sem) ((harg3.wordExact_slice rfl _ (k0_off107_wordsi8 v1_1 k0_t6 arg20 v75 v80 v372 k0_hw15 k0_h6 k0_h7)).reshape _ _) ((harg10.wordExact_slice rfl _ (k0_off106_wordsi8 v1_1 k0_t6 arg20 v75 v80 v372 (cv15 k0_hw15) k0_h6 k0_h7)).reshape _ _) ⟨Or.inl rfl, trivial⟩)
    let v783 : DmaSems sig S1 := arg17.slice (Rect.unit (s := S2) (k0_off105 arg20) S1.size (k0_off105_inb v1_1 k0_t6 arg20 v75 v80 v372 (cv15 k0_hw15) k0_h6 k0_h7))
    let v784 : DmaSems sig S_ := v783.squeeze S_ squeezes_S1_S_
    let v785 : Memref sig .tc .vmem S1x16x1024 .bf16 := arg11.slice (Rect.unit (s := S2x16x1024) (k0_off108 arg20) S1x16x1024.size (k0_off108_inb v1_1 k0_t6 arg20 v75 v80 v372 (cv15 k0_hw15) k0_h6 k0_h7)) (fun _ => rfl)
    let v786 : Memref sig .tc .vmem S16x1024 .bf16 := v785.squeeze S16x1024 squeezes_S1x16x1024_S16x1024
    let v787 : Memref sig .tc .hbm S1x16x1024 .bf16 := arg4.slice (Rect.unit (s := S16x16x4096) (k0_off109 v372) S1x16x1024.size (k0_off109_inb v1_1 k0_t6 arg20 v75 v80 v372 k0_hw15 k0_h6 k0_h7)) (fun _ => rfl)
    let v788 : Memref sig .tc .hbm S16x1024 .bf16 := v787.squeeze S16x1024 squeezes_S1x16x1024_S16x1024
    Prog.lift (.enqueueDma v788 (.here v786) (.dma v784.sem) ((harg4.wordExact_slice rfl _ (k0_off109_wordsbf16 v1_1 k0_t6 arg20 v75 v80 v372 k0_hw15 k0_h6 k0_h7)).reshape _ _) ((harg11.wordExact_slice rfl _ (k0_off108_wordsbf16 v1_1 k0_t6 arg20 v75 v80 v372 (cv15 k0_hw15) k0_h6 k0_h7)).reshape _ _) ⟨Or.inl rfl, trivial⟩)
    pure ⟨⟩
  else do
    pure ⟨⟩

  let v377 : Vec F S1x64x1024 .i8 ← Prog.lift (.load arg10 (Rect.unit (s := S2x1024x1024) (k0_off110 arg20) S1x64x1024.size (k0_off110_inb v1_1 k0_t6 arg20 v75 v80 (cv14 k0_hw14) k0_h6)).toLoadRect (View.loadsAt_vmem h_S1x64x1024))

  pure (k0_pay71 v377)

set_option maxHeartbeats 40000000 in
/-- A part of the kernel, at a column offset. -/
def k0_part28 (arg0 : Memref sig .tc .smem S16 .i32) (harg0 : arg0.IsWhole) (arg1 : Memref sig .tc .hbm S98304x2048 .fp8e4m3) (harg1 : arg1.IsWhole) (arg2 : Memref sig .tc .hbm S768x1x128 .f32) (harg2 : arg2.IsWhole) (arg3 : Memref sig .tc .hbm S16x1024x4096 .i8) (harg3 : arg3.IsWhole) (arg4 : Memref sig .tc .hbm S16x16x4096 .bf16) (harg4 : arg4.IsWhole) (arg5 : Memref sig .tc .hbm S933888x128 .f32) (harg5 : arg5.IsWhole) (arg6 : Memref sig .tc .smem S224 .i32) (harg6 : arg6.IsWhole) (arg7 : Memref sig .tc .smem S224 .i32) (harg7 : arg7.IsWhole) (arg8 : Memref sig .tc .vmem S2x512x2048 .fp8e4m3) (harg8 : arg8.IsWhole) (arg9 : Memref sig .tc .vmem S2x4x1x128 .f32) (harg9 : arg9.IsWhole) (arg10 : Memref sig .tc .vmem S2x1024x1024 .i8) (harg10 : arg10.IsWhole) (arg11 : Memref sig .tc .vmem S2x16x1024 .bf16) (harg11 : arg11.IsWhole) (arg12 : Memref sig .tc .vmem S2048x1024 .bf16) (harg12 : arg12.IsWhole) (arg13 : Memref sig .tc .vmem S2x4096x128 .f32) (harg13 : arg13.IsWhole) (arg14 : DmaSems sig S2) (arg15 : DmaSems sig S2) (arg16 : DmaSems sig S2) (arg17 : DmaSems sig S2) (arg18 : DmaSems sig S2) (v1_1 : BitVec 32) (k0_hw4 : k0_chk4 v1_1) (v49 : BitVec 32) (c1_i32_38 : BitVec 32) (k0_t6 : Fin (k0_t6_loop v1_1).trips) (arg20 : BitVec 32) :
    Prog (TpuEff nD τ sig (Elt F) Λ₀ .tc) (Σ' (arg19 : BitVec 32) (v73 : BitVec 32) (v82 : BitVec 1) (v90 : Elt F .i32), k0_chk16 v90) := do
  let arg19 : BitVec 32 := Scf.iv v49 c1_i32_38 k0_t6
  let v73 : BitVec 32 := Scalar.remsi arg19 2#32

  let v75 : Elt F .i32 ← smemLoad arg7 (Rect.unit (s := S224) (k0_off91 v1_1 k0_t6) S1.size (k0_off91_inb v1_1 k0_hw4 k0_t6)) numel1_S1 rfl
  let v76 : BitVec 1 := Scalar.cmpi .eq arg19 0#32

  let v80 : Elt F .i32 ← smemLoad arg7 (Rect.unit (s := S224) (k0_off92 v1_1 k0_t6) S1.size (k0_off92_inb v1_1 k0_hw4 k0_t6)) numel1_S1 rfl
  have k0_hw14 : k0_chk14 v1_1 k0_t6 arg20 v75 v80 := (← Prog.lift (TpuEff.assume (k0_chk14 v1_1 k0_t6 arg20 v75 v80) (k0_chk14.dec v1_1 k0_t6 arg20 v75 v80))).down
  let v81 : BitVec 1 := Scalar.cmpi .ne v80 v75
  let v82 : BitVec 1 := Scalar.ori v76 v81

  if k0_h5 : k0_cond5 v1_1 k0_t6 = 1#1 then do

    let v362 : Elt F .i32 ← smemLoad arg6 (Rect.unit (s := S224) (k0_off93 v1_1 k0_t6) S1.size (k0_off93_inb v1_1 k0_hw4 k0_t6 k0_h5)) numel1_S1 rfl
    have k0_hw13 : k0_chk13 v1_1 k0_t6 v362 := (← Prog.lift (TpuEff.assume (k0_chk13 v1_1 k0_t6 v362) (k0_chk13.dec v1_1 k0_t6 v362))).down

    let v382 : DmaSems sig S1 := arg14.slice (Rect.unit (s := S2) (k0_off94 v1_1 k0_t6) S1.size (k0_off94_inb v1_1 k0_hw4 k0_t6 k0_h5))
    let v383 : DmaSems sig S_ := v382.squeeze S_ squeezes_S1_S_
    let v384 : Memref sig .tc .vmem S1x512x2048 .fp8e4m3 := arg8.slice (Rect.unit (s := S2x512x2048) (k0_off95 v1_1 k0_t6) S1x512x2048.size (k0_off95_inb v1_1 k0_hw4 k0_t6 k0_h5)) (fun _ => rfl)
    let v385 : Memref sig .tc .vmem S512x2048 .fp8e4m3 := v384.squeeze S512x2048 squeezes_S1x512x2048_S512x2048
    let v386 : Memref sig .tc .hbm S512x2048 .fp8e4m3 := arg1.slice (Rect.unit (s := S98304x2048) (k0_off96 v362) S512x2048.size (k0_off96_inb v1_1 k0_t6 v362 k0_hw13 k0_h5)) (fun _ => rfl)
    Prog.lift (.enqueueDma v386 (.here v385) (.dma v383.sem) (harg1.wordExact_slice rfl _ (k0_off96_wordsfp8e4m3 v1_1 k0_t6 v362 k0_hw13 k0_h5)) ((harg8.wordExact_slice rfl _ (k0_off95_wordsfp8e4m3 v1_1 k0_hw4 k0_t6 k0_h5)).reshape _ _) ⟨Or.inl rfl, trivial⟩)
    let v387 : DmaSems sig S1 := arg15.slice (Rect.unit (s := S2) (k0_off94 v1_1 k0_t6) S1.size (k0_off94_inb v1_1 k0_hw4 k0_t6 k0_h5))
    let v388 : DmaSems sig S_ := v387.squeeze S_ squeezes_S1_S_
    let v389 : Memref sig .tc .vmem S1x4x1x128 .f32 := arg9.slice (Rect.unit (s := S2x4x1x128) (k0_off97 v1_1 k0_t6) S1x4x1x128.size (k0_off97_inb v1_1 k0_hw4 k0_t6 k0_h5)) (fun _ => rfl)
    let v390 : Memref sig .tc .vmem S4x1x128 .f32 := v389.squeeze S4x1x128 squeezes_S1x4x1x128_S4x1x128
    let v391 : Memref sig .tc .hbm S4x1x128 .f32 := arg2.slice (Rect.unit (s := S768x1x128) (k0_off98 v362) S4x1x128.size (k0_off98_inb v1_1 k0_t6 v362 k0_hw13 k0_h5)) (fun _ => rfl)
    Prog.lift (.enqueueDma v391 (.here v390) (.dma v388.sem) (View.wordExact_bits rfl) ((View.wordExact_bits rfl).reshape _ _) ⟨Or.inl rfl, trivial⟩)
    pure ⟨⟩
  else do
    pure ⟨⟩

  if k0_h6 : k0_cond6 v1_1 k0_t6 v75 v80 = 1#1 then do
    let v392 : FVec F S128x1024 .bf16 ← k0_part18 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_t6 arg20 v75 v80 k0_hw14 k0_h6
    let ⟨v429, v433⟩ : Σ' (v429 : IVec S64x1024 32), IVec S64x1024 32 ← k0_part19 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_t6 arg20 v75 v80 (cv14 k0_hw14) k0_h6 v392
    k0_part20 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_t6 arg20 v75 v80 (cv14 k0_hw14) k0_h6 v429 v433
    let v517 : FVec F S128x1024 .bf16 ← k0_part21 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_t6 arg20 v75 v80 (cv14 k0_hw14) k0_h6
    let ⟨v554, v558⟩ : Σ' (v554 : IVec S64x1024 32), IVec S64x1024 32 ← k0_part22 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_t6 arg20 v75 v80 (cv14 k0_hw14) k0_h6 v517
    k0_part23 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_t6 arg20 v75 v80 (cv14 k0_hw14) k0_h6 v554 v558
    let v642 : FVec F S128x1024 .bf16 ← k0_part24 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_t6 arg20 v75 v80 (cv14 k0_hw14) k0_h6
    let ⟨v679, v683⟩ : Σ' (v679 : IVec S64x1024 32), IVec S64x1024 32 ← k0_part25 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_t6 arg20 v75 v80 (cv14 k0_hw14) k0_h6 v642
    k0_part26 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_t6 arg20 v75 v80 (cv14 k0_hw14) k0_h6 v679 v683
    let v767 : FVec F S128x1024 .bf16 ← k0_part27 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_t6 arg20 v75 v80 (cv14 k0_hw14) k0_h6
    let v769 : Vec F S1x1x1024 .bf16 ← Prog.lift (.load arg11 (Rect.unit (s := S2x16x1024) (k0_off141 arg20) S1x1x1024.size (k0_off141_inb v1_1 k0_t6 arg20 v75 v80 (cv14 k0_hw14) k0_h6)).toLoadRect (View.loadsAt_vmem h_S1x1x1024))
    let v773 : Vec F S128x1024 .bf16 ← Prog.lift (.load arg12 (Rect.unit (s := S2048x1024) ![1920, 0] S128x1024.size inb_S2048x1024_S128x1024_1920_0).toLoadRect (View.loadsAt_vmem h_S128x1024))

    Prog.lift (.store arg12 (Rect.unit (s := S2048x1024) ![1920, 0] S128x1024.size inb_S2048x1024_S128x1024_1920_0) (k0_pay96 v767 v769) Finset.univ (View.stores_vmem h_S128x1024 (harg12.storeExact_slice rfl _ packedbf16_S2048x1024_S128x1024_1920_0) (fun _ => rfl)) (.inl rfl))
    pure ⟨⟩
  else do
    pure ⟨⟩

  let v90 : Elt F .i32 ← smemLoad arg6 (Rect.unit (s := S224) (k0_off142 v1_1 k0_t6) S1.size (k0_off142_inb v1_1 k0_hw4 k0_t6)) numel1_S1 rfl
  have k0_hw16 : k0_chk16 v90 := (← Prog.lift (TpuEff.assume (k0_chk16 v90) (k0_chk16.dec v90))).down

  pure ⟨arg19, v73, v82, v90, k0_hw16⟩

/-- One trip over a tile. -/
def k0_t4_body (arg0 : Memref sig .tc .smem S16 .i32) (harg0 : arg0.IsWhole) (arg1 : Memref sig .tc .hbm S98304x2048 .fp8e4m3) (harg1 : arg1.IsWhole) (arg2 : Memref sig .tc .hbm S768x1x128 .f32) (harg2 : arg2.IsWhole) (arg3 : Memref sig .tc .hbm S16x1024x4096 .i8) (harg3 : arg3.IsWhole) (arg4 : Memref sig .tc .hbm S16x16x4096 .bf16) (harg4 : arg4.IsWhole) (arg5 : Memref sig .tc .hbm S933888x128 .f32) (harg5 : arg5.IsWhole) (arg6 : Memref sig .tc .smem S224 .i32) (harg6 : arg6.IsWhole) (arg7 : Memref sig .tc .smem S224 .i32) (harg7 : arg7.IsWhole) (arg8 : Memref sig .tc .vmem S2x512x2048 .fp8e4m3) (harg8 : arg8.IsWhole) (arg9 : Memref sig .tc .vmem S2x4x1x128 .f32) (harg9 : arg9.IsWhole) (arg10 : Memref sig .tc .vmem S2x1024x1024 .i8) (harg10 : arg10.IsWhole) (arg11 : Memref sig .tc .vmem S2x16x1024 .bf16) (harg11 : arg11.IsWhole) (arg12 : Memref sig .tc .vmem S2048x1024 .bf16) (harg12 : arg12.IsWhole) (arg13 : Memref sig .tc .vmem S2x4096x128 .f32) (harg13 : arg13.IsWhole) (arg14 : DmaSems sig S2) (arg15 : DmaSems sig S2) (arg16 : DmaSems sig S2) (arg17 : DmaSems sig S2) (arg18 : DmaSems sig S2) (v1_1 : BitVec 32) (k0_hw4 : k0_chk4 v1_1) (v15 : Elt F .i32) (k0_hw3 : k0_chk3 v15) (v17 : BitVec 32) (c128_i32 : BitVec 32) (v18 : BitVec 32) (v23 : BitVec 32) (v28 : BitVec 32) :
    Fin (k0_t4_loop v1_1).trips → BitVec 32 → Prog (TpuEff nD τ sig (Elt F) Λ₀ .tc) (BitVec 32) :=
  fun k0_t4 (arg20) => do
    let ⟨arg19, v73, v82, v90, k0_hw8⟩ : Σ' (arg19 : BitVec 32) (v73 : BitVec 32) (v82 : BitVec 1) (v90 : Elt F .i32), k0_chk8 v90 ← k0_part12 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_hw4 0#32 1#32 k0_t4 arg20
    let ⟨v129, v133, v135, v137, v139, v141, v143, v145, v147, v149, v151, v153, v154⟩ : Σ' (v129 : FVec F S128x128 .bf16) (v133 : FVec F S128x2048 .bf16) (v135 : FVec F S128x128 .bf16) (v137 : FVec F S128x128 .bf16) (v139 : FVec F S128x128 .bf16) (v141 : FVec F S128x128 .bf16) (v143 : FVec F S128x128 .bf16) (v145 : FVec F S128x128 .bf16) (v147 : FVec F S128x128 .bf16) (v149 : FVec F S128x128 .bf16) (v151 : FVec F S128x128 .bf16) (v153 : FVec F S128x128 .bf16), FVec F S128x128 .bf16 ← k0_part13 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_hw4 k0_t4 arg19 v73 v90 k0_hw8
    let ⟨v166, v179, v181, v183, v185, v187, v189, v191, v193, v195, v197, v199, v201, v203, v205, v207, v209⟩ : Σ' (v166 : FVec F S128x2048 .bf16) (v179 : FVec F S128x128 .bf16) (v181 : FVec F S128x128 .bf16) (v183 : FVec F S128x128 .bf16) (v185 : FVec F S128x128 .bf16) (v187 : FVec F S128x128 .bf16) (v189 : FVec F S128x128 .bf16) (v191 : FVec F S128x128 .bf16) (v193 : FVec F S128x128 .bf16) (v195 : FVec F S128x128 .bf16) (v197 : FVec F S128x128 .bf16) (v199 : FVec F S128x128 .bf16) (v201 : FVec F S128x128 .bf16) (v203 : FVec F S128x128 .bf16) (v205 : FVec F S128x128 .bf16) (v207 : FVec F S128x128 .bf16), FVec F S128x128 .bf16 ← k0_part14 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_hw4 k0_t4 v73 v129 v133 v135 v137 v139 v141 v143 v145 v147 v149 v151 v153 v154
    let ⟨v210, v254, v261⟩ : Σ' (v210 : FVec F S128x2048 .bf16) (v254 : FVec F S128x2048 .bf16), FVec F S128x128 .bf16 ← k0_part15 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_hw4 k0_t4 v73 v179 v181 v183 v185 v187 v189 v191 v193 v195 v197 v199 v201 v203 v205 v207 v209
    let ⟨v301, v311⟩ : Σ' (v301 : FVec F S512x1024 .f32), FVec F S1x512x128 .f32 ← k0_part16 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_hw4 k0_t4 v73 v166 v210 v254 v261
    let ⟨v343, v345, v347, k0_hw12, v348⟩ : Σ' (v343 : Elt F .i32) (v345 : BitVec 32) (v347 : Elt F .i32) (k0_hw12 : k0_chk12 v343 v347), BitVec 32 ← k0_part17 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_hw4 k0_t4 arg19 v73 v301 v311

    let v352 : DmaSems sig S1 := arg18.slice (Rect.unit (s := S2) (k0_off88 v1_1 k0_t4) S1.size (k0_off88_inb v1_1 k0_hw4 k0_t4))
    let v353 : DmaSems sig S_ := v352.squeeze S_ squeezes_S1_S_
    let v354 : Memref sig .tc .hbm S4096x128 .f32 := arg5.slice (Rect.unit (s := S933888x128) (k0_off89 v343 v347) S4096x128.size (k0_off89_inb v343 v347 k0_hw12)) (fun _ => rfl)
    let v355 : Memref sig .tc .vmem S1x4096x128 .f32 := arg13.slice (Rect.unit (s := S2x4096x128) (k0_off90 v1_1 k0_t4) S1x4096x128.size (k0_off90_inb v1_1 k0_hw4 k0_t4)) (fun _ => rfl)
    let v356 : Memref sig .tc .vmem S4096x128 .f32 := v355.squeeze S4096x128 squeezes_S1x4096x128_S4096x128
    Prog.lift (.enqueueDma v356 (.here v354) (.dma v353.sem) ((View.wordExact_bits rfl).reshape _ _) (View.wordExact_bits rfl) ⟨Or.inl rfl, trivial⟩)
    let v357 : BitVec 32 := Scalar.subi 1#32 arg20
    let v358 : BitVec 32 := Scalar.select v82 v357 arg20
    pure v358

/-- One trip over a tile. -/
def k0_t6_body (arg0 : Memref sig .tc .smem S16 .i32) (harg0 : arg0.IsWhole) (arg1 : Memref sig .tc .hbm S98304x2048 .fp8e4m3) (harg1 : arg1.IsWhole) (arg2 : Memref sig .tc .hbm S768x1x128 .f32) (harg2 : arg2.IsWhole) (arg3 : Memref sig .tc .hbm S16x1024x4096 .i8) (harg3 : arg3.IsWhole) (arg4 : Memref sig .tc .hbm S16x16x4096 .bf16) (harg4 : arg4.IsWhole) (arg5 : Memref sig .tc .hbm S933888x128 .f32) (harg5 : arg5.IsWhole) (arg6 : Memref sig .tc .smem S224 .i32) (harg6 : arg6.IsWhole) (arg7 : Memref sig .tc .smem S224 .i32) (harg7 : arg7.IsWhole) (arg8 : Memref sig .tc .vmem S2x512x2048 .fp8e4m3) (harg8 : arg8.IsWhole) (arg9 : Memref sig .tc .vmem S2x4x1x128 .f32) (harg9 : arg9.IsWhole) (arg10 : Memref sig .tc .vmem S2x1024x1024 .i8) (harg10 : arg10.IsWhole) (arg11 : Memref sig .tc .vmem S2x16x1024 .bf16) (harg11 : arg11.IsWhole) (arg12 : Memref sig .tc .vmem S2048x1024 .bf16) (harg12 : arg12.IsWhole) (arg13 : Memref sig .tc .vmem S2x4096x128 .f32) (harg13 : arg13.IsWhole) (arg14 : DmaSems sig S2) (arg15 : DmaSems sig S2) (arg16 : DmaSems sig S2) (arg17 : DmaSems sig S2) (arg18 : DmaSems sig S2) (v1_1 : BitVec 32) (k0_hw4 : k0_chk4 v1_1) (v15 : Elt F .i32) (k0_hw3 : k0_chk3 v15) (v17 : BitVec 32) (c128_i32 : BitVec 32) (v18 : BitVec 32) (v23 : BitVec 32) (v28 : BitVec 32) (v49 : BitVec 32) :
    Fin (k0_t6_loop v1_1).trips → BitVec 32 → Prog (TpuEff nD τ sig (Elt F) Λ₀ .tc) (BitVec 32) :=
  fun k0_t6 (arg20) => do
    let ⟨arg19, v73, v82, v90, k0_hw16⟩ : Σ' (arg19 : BitVec 32) (v73 : BitVec 32) (v82 : BitVec 1) (v90 : Elt F .i32), k0_chk16 v90 ← k0_part28 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_hw4 v49 1#32 k0_t6 arg20
    let ⟨v129, v133, v135, v137, v139, v141, v143, v145, v147, v149, v151, v153, v154⟩ : Σ' (v129 : FVec F S128x128 .bf16) (v133 : FVec F S128x2048 .bf16) (v135 : FVec F S128x128 .bf16) (v137 : FVec F S128x128 .bf16) (v139 : FVec F S128x128 .bf16) (v141 : FVec F S128x128 .bf16) (v143 : FVec F S128x128 .bf16) (v145 : FVec F S128x128 .bf16) (v147 : FVec F S128x128 .bf16) (v149 : FVec F S128x128 .bf16) (v151 : FVec F S128x128 .bf16) (v153 : FVec F S128x128 .bf16), FVec F S128x128 .bf16 ← k0_part29 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_hw4 k0_t6 arg19 v73 v90 k0_hw16
    let ⟨v166, v179, v181, v183, v185, v187, v189, v191, v193, v195, v197, v199, v201, v203, v205, v207, v209⟩ : Σ' (v166 : FVec F S128x2048 .bf16) (v179 : FVec F S128x128 .bf16) (v181 : FVec F S128x128 .bf16) (v183 : FVec F S128x128 .bf16) (v185 : FVec F S128x128 .bf16) (v187 : FVec F S128x128 .bf16) (v189 : FVec F S128x128 .bf16) (v191 : FVec F S128x128 .bf16) (v193 : FVec F S128x128 .bf16) (v195 : FVec F S128x128 .bf16) (v197 : FVec F S128x128 .bf16) (v199 : FVec F S128x128 .bf16) (v201 : FVec F S128x128 .bf16) (v203 : FVec F S128x128 .bf16) (v205 : FVec F S128x128 .bf16) (v207 : FVec F S128x128 .bf16), FVec F S128x128 .bf16 ← k0_part30 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_hw4 k0_t6 v73 v129 v133 v135 v137 v139 v141 v143 v145 v147 v149 v151 v153 v154
    let ⟨v210, v254, v261⟩ : Σ' (v210 : FVec F S128x2048 .bf16) (v254 : FVec F S128x2048 .bf16), FVec F S128x128 .bf16 ← k0_part31 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_hw4 k0_t6 v73 v179 v181 v183 v185 v187 v189 v191 v193 v195 v197 v199 v201 v203 v205 v207 v209
    let ⟨v301, v311⟩ : Σ' (v301 : FVec F S512x1024 .f32), FVec F S1x512x128 .f32 ← k0_part32 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_hw4 k0_t6 v73 v166 v210 v254 v261
    let ⟨v343, v345, v347, k0_hw20, v348⟩ : Σ' (v343 : Elt F .i32) (v345 : BitVec 32) (v347 : Elt F .i32) (k0_hw20 : k0_chk20 v343 v347), BitVec 32 ← k0_part33 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_hw4 k0_t6 arg19 v73 v301 v311

    let v352 : DmaSems sig S1 := arg18.slice (Rect.unit (s := S2) (k0_off171 v1_1 k0_t6) S1.size (k0_off171_inb v1_1 k0_hw4 k0_t6))
    let v353 : DmaSems sig S_ := v352.squeeze S_ squeezes_S1_S_
    let v354 : Memref sig .tc .hbm S4096x128 .f32 := arg5.slice (Rect.unit (s := S933888x128) (k0_off172 v343 v347) S4096x128.size (k0_off172_inb v343 v347 k0_hw20)) (fun _ => rfl)
    let v355 : Memref sig .tc .vmem S1x4096x128 .f32 := arg13.slice (Rect.unit (s := S2x4096x128) (k0_off173 v1_1 k0_t6) S1x4096x128.size (k0_off173_inb v1_1 k0_hw4 k0_t6)) (fun _ => rfl)
    let v356 : Memref sig .tc .vmem S4096x128 .f32 := v355.squeeze S4096x128 squeezes_S1x4096x128_S4096x128
    Prog.lift (.enqueueDma v356 (.here v354) (.dma v353.sem) ((View.wordExact_bits rfl).reshape _ _) (View.wordExact_bits rfl) ⟨Or.inl rfl, trivial⟩)
    let v357 : BitVec 32 := Scalar.subi 1#32 arg20
    let v358 : BitVec 32 := Scalar.select v82 v357 arg20
    pure v358

set_option maxHeartbeats 40000000 in
/-- A part of the kernel, at a column offset. -/
def k0_part34 (arg0 : Memref sig .tc .smem S16 .i32) (harg0 : arg0.IsWhole) (arg1 : Memref sig .tc .hbm S98304x2048 .fp8e4m3) (harg1 : arg1.IsWhole) (arg2 : Memref sig .tc .hbm S768x1x128 .f32) (harg2 : arg2.IsWhole) (arg3 : Memref sig .tc .hbm S16x1024x4096 .i8) (harg3 : arg3.IsWhole) (arg4 : Memref sig .tc .hbm S16x16x4096 .bf16) (harg4 : arg4.IsWhole) (arg5 : Memref sig .tc .hbm S933888x128 .f32) (harg5 : arg5.IsWhole) (arg6 : Memref sig .tc .smem S224 .i32) (harg6 : arg6.IsWhole) (arg7 : Memref sig .tc .smem S224 .i32) (harg7 : arg7.IsWhole) (arg8 : Memref sig .tc .vmem S2x512x2048 .fp8e4m3) (harg8 : arg8.IsWhole) (arg9 : Memref sig .tc .vmem S2x4x1x128 .f32) (harg9 : arg9.IsWhole) (arg10 : Memref sig .tc .vmem S2x1024x1024 .i8) (harg10 : arg10.IsWhole) (arg11 : Memref sig .tc .vmem S2x16x1024 .bf16) (harg11 : arg11.IsWhole) (arg12 : Memref sig .tc .vmem S2048x1024 .bf16) (harg12 : arg12.IsWhole) (arg13 : Memref sig .tc .vmem S2x4096x128 .f32) (harg13 : arg13.IsWhole) (arg14 : DmaSems sig S2) (arg15 : DmaSems sig S2) (arg16 : DmaSems sig S2) (arg17 : DmaSems sig S2) (arg18 : DmaSems sig S2) :
    Prog (TpuEff nD τ sig (Elt F) Λ₀ .tc) (Σ' (v1_1 : BitVec 32) (k0_hw4 : k0_chk4 v1_1) (v15 : Elt F .i32) (k0_hw3 : k0_chk3 v15) (v17 : BitVec 32) (c128_i32 : BitVec 32) (v18 : BitVec 32) (v23 : BitVec 32), BitVec 32) := do

  let (v1_0, v1_1) ← Scf.Loop.for k0_t1_loop k0_t1_ok (0#32, 0#32) (k0_t1_body arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18)
  have k0_hw4 : k0_chk4 v1_1 := (← Prog.lift (TpuEff.assume (k0_chk4 v1_1) (k0_chk4.dec v1_1))).down
  let v2 : Elt F .i32 ← smemLoad arg7 (Rect.unit (s := S224) ![0] S1.size inb_S224_S1_0) numel1_S1 rfl
  have k0_hw2 : k0_chk2 v2 := (← Prog.lift (TpuEff.assume (k0_chk2 v2) (k0_chk2.dec v2))).down
  let v3 : DmaSems sig S1 := arg16.slice (Rect.unit (s := S2) ![0] S1.size inb_S2_S1_0)
  let v4 : DmaSems sig S_ := v3.squeeze S_ squeezes_S1_S_
  let v5 : Memref sig .tc .vmem S1x1024x1024 .i8 := arg10.slice (Rect.unit (s := S2x1024x1024) ![0, 0, 0] S1x1024x1024.size inb_S2x1024x1024_S1x1024x1024_0_0_0) (fun _ => rfl)
  let v6 : Memref sig .tc .vmem S1024x1024 .i8 := v5.squeeze S1024x1024 squeezes_S1x1024x1024_S1024x1024
  let v7 : Memref sig .tc .hbm S1x1024x1024 .i8 := arg3.slice (Rect.unit (s := S16x1024x4096) (k0_off4 v2) S1x1024x1024.size (k0_off4_inb v2 k0_hw2)) (fun _ => rfl)
  let v8 : Memref sig .tc .hbm S1024x1024 .i8 := v7.squeeze S1024x1024 squeezes_S1x1024x1024_S1024x1024
  Prog.lift (.enqueueDma v8 (.here v6) (.dma v4.sem) ((harg3.wordExact_slice rfl _ (k0_off4_wordsi8 v2 k0_hw2)).reshape _ _) ((harg10.wordExact_slice rfl _ wordsi8_S2x1024x1024_S1x1024x1024_0_0_0).reshape _ _) ⟨Or.inl rfl, trivial⟩)
  let v9 : DmaSems sig S1 := arg17.slice (Rect.unit (s := S2) ![0] S1.size inb_S2_S1_0)
  let v10 : DmaSems sig S_ := v9.squeeze S_ squeezes_S1_S_
  let v11 : Memref sig .tc .vmem S1x16x1024 .bf16 := arg11.slice (Rect.unit (s := S2x16x1024) ![0, 0, 0] S1x16x1024.size inb_S2x16x1024_S1x16x1024_0_0_0) (fun _ => rfl)
  let v12 : Memref sig .tc .vmem S16x1024 .bf16 := v11.squeeze S16x1024 squeezes_S1x16x1024_S16x1024
  let v13 : Memref sig .tc .hbm S1x16x1024 .bf16 := arg4.slice (Rect.unit (s := S16x16x4096) (k0_off5 v2) S1x16x1024.size (k0_off5_inb v2 k0_hw2)) (fun _ => rfl)
  let v14 : Memref sig .tc .hbm S16x1024 .bf16 := v13.squeeze S16x1024 squeezes_S1x16x1024_S16x1024
  Prog.lift (.enqueueDma v14 (.here v12) (.dma v10.sem) ((harg4.wordExact_slice rfl _ (k0_off5_wordsbf16 v2 k0_hw2)).reshape _ _) ((harg11.wordExact_slice rfl _ wordsbf16_S2x16x1024_S1x16x1024_0_0_0).reshape _ _) ⟨Or.inl rfl, trivial⟩)
  let v15 : Elt F .i32 ← smemLoad arg6 (Rect.unit (s := S224) ![0] S1.size inb_S224_S1_0) numel1_S1 rfl
  have k0_hw3 : k0_chk3 v15 := (← Prog.lift (TpuEff.assume (k0_chk3 v15) (k0_chk3.dec v15))).down
  let v16 : BitVec 32 := Scalar.minsi v15 97792#32
  let v17 : BitVec 32 := v16
  let v18 : BitVec 32 := Scalar.divsi v17 128#32
  let v19 : BitVec 1 := Scalar.cmpi .sgt v17 0#32
  let v20 : BitVec 32 := Scalar.extui v19
  let v21 : BitVec 1 := Scalar.cmpi .slt v17 0#32
  let v22 : BitVec 32 := Scalar.extui v21
  let v23 : BitVec 32 := Scalar.subi v20 v22
  let v24 : BitVec 1 := Scalar.cmpi .sgt 128#32 0#32
  let v25 : BitVec 32 := Scalar.extui v24
  let v26 : BitVec 1 := Scalar.cmpi .slt 128#32 0#32
  let v27 : BitVec 32 := Scalar.extui v26
  let v28 : BitVec 32 := Scalar.subi v25 v27
  pure ⟨v1_1, k0_hw4, v15, k0_hw3, v17, 128#32, v18, v23, v28⟩

set_option maxHeartbeats 40000000 in
/-- A part of the kernel, at a column offset. -/
def k0_part35 (arg0 : Memref sig .tc .smem S16 .i32) (harg0 : arg0.IsWhole) (arg1 : Memref sig .tc .hbm S98304x2048 .fp8e4m3) (harg1 : arg1.IsWhole) (arg2 : Memref sig .tc .hbm S768x1x128 .f32) (harg2 : arg2.IsWhole) (arg3 : Memref sig .tc .hbm S16x1024x4096 .i8) (harg3 : arg3.IsWhole) (arg4 : Memref sig .tc .hbm S16x16x4096 .bf16) (harg4 : arg4.IsWhole) (arg5 : Memref sig .tc .hbm S933888x128 .f32) (harg5 : arg5.IsWhole) (arg6 : Memref sig .tc .smem S224 .i32) (harg6 : arg6.IsWhole) (arg7 : Memref sig .tc .smem S224 .i32) (harg7 : arg7.IsWhole) (arg8 : Memref sig .tc .vmem S2x512x2048 .fp8e4m3) (harg8 : arg8.IsWhole) (arg9 : Memref sig .tc .vmem S2x4x1x128 .f32) (harg9 : arg9.IsWhole) (arg10 : Memref sig .tc .vmem S2x1024x1024 .i8) (harg10 : arg10.IsWhole) (arg11 : Memref sig .tc .vmem S2x16x1024 .bf16) (harg11 : arg11.IsWhole) (arg12 : Memref sig .tc .vmem S2048x1024 .bf16) (harg12 : arg12.IsWhole) (arg13 : Memref sig .tc .vmem S2x4096x128 .f32) (harg13 : arg13.IsWhole) (arg14 : DmaSems sig S2) (arg15 : DmaSems sig S2) (arg16 : DmaSems sig S2) (arg17 : DmaSems sig S2) (arg18 : DmaSems sig S2) (v1_1 : BitVec 32) (k0_hw4 : k0_chk4 v1_1) (v15 : Elt F .i32) (k0_hw3 : k0_chk3 v15) (v17 : BitVec 32) (c128_i32 : BitVec 32) (v18 : BitVec 32) (v23 : BitVec 32) (v28 : BitVec 32) :
    Prog (TpuEff nD τ sig (Elt F) Λ₀ .tc) (Σ' (v55 : BitVec 32) (v59 : Elt F .i32), BitVec 32) := do

  let v35 : DmaSems sig S1 := arg14.slice (Rect.unit (s := S2) ![0] S1.size inb_S2_S1_0)
  let v36 : DmaSems sig S_ := v35.squeeze S_ squeezes_S1_S_
  let v37 : Memref sig .tc .vmem S1x512x2048 .fp8e4m3 := arg8.slice (Rect.unit (s := S2x512x2048) ![0, 0, 0] S1x512x2048.size inb_S2x512x2048_S1x512x2048_0_0_0) (fun _ => rfl)
  let v38 : Memref sig .tc .vmem S512x2048 .fp8e4m3 := v37.squeeze S512x2048 squeezes_S1x512x2048_S512x2048
  let v39 : Memref sig .tc .hbm S512x2048 .fp8e4m3 := arg1.slice (Rect.unit (s := S98304x2048) (k0_off6 v15) S512x2048.size (k0_off6_inb v15 k0_hw3)) (fun _ => rfl)
  Prog.lift (.enqueueDma v39 (.here v38) (.dma v36.sem) (harg1.wordExact_slice rfl _ (k0_off6_wordsfp8e4m3 v15 k0_hw3)) ((harg8.wordExact_slice rfl _ wordsfp8e4m3_S2x512x2048_S1x512x2048_0_0_0).reshape _ _) ⟨Or.inl rfl, trivial⟩)
  let v40 : DmaSems sig S1 := arg15.slice (Rect.unit (s := S2) ![0] S1.size inb_S2_S1_0)
  let v41 : DmaSems sig S_ := v40.squeeze S_ squeezes_S1_S_
  let v42 : Memref sig .tc .vmem S1x4x1x128 .f32 := arg9.slice (Rect.unit (s := S2x4x1x128) ![0, 0, 0, 0] S1x4x1x128.size inb_S2x4x1x128_S1x4x1x128_0_0_0_0) (fun _ => rfl)
  let v43 : Memref sig .tc .vmem S4x1x128 .f32 := v42.squeeze S4x1x128 squeezes_S1x4x1x128_S4x1x128
  let v44 : Memref sig .tc .hbm S4x1x128 .f32 := arg2.slice (Rect.unit (s := S768x1x128) (k0_off7 v15) S4x1x128.size (k0_off7_inb v15 k0_hw3)) (fun _ => rfl)
  Prog.lift (.enqueueDma v44 (.here v43) (.dma v41.sem) (View.wordExact_bits rfl) ((View.wordExact_bits rfl).reshape _ _) ⟨Or.inl rfl, trivial⟩)
  let v45 : BitVec 32 := Scalar.subi v1_1 0#32

  let v47 : BitVec 32 := Scalar.divsi v45 1#32
  let v48 : BitVec 32 := Scalar.muli v47 1#32
  let v49 : BitVec 32 := Scalar.addi 0#32 v48
  let v50 : BitVec 32 ← Scf.Loop.for (k0_t4_loop v1_1) (k0_t4_ok v1_1 k0_hw4) 0#32 (k0_t4_body arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_hw4 v15 k0_hw3 v17 c128_i32 v18 v23 v28)
  let v51 : BitVec 32 ← Scf.Loop.for (k0_t6_loop v1_1) (k0_t6_ok v1_1 k0_hw4) v50 (k0_t6_body arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_hw4 v15 k0_hw3 v17 c128_i32 v18 v23 v28 v49)

  if k0_h9 : k0_cond9 v1_1 = 1#1 then do

    let v76 : Elt F .i32 ← smemLoad arg6 (Rect.unit (s := S224) (k0_off174 v1_1) S1.size (k0_off174_inb v1_1 k0_hw4 k0_h9)) numel1_S1 rfl
    have k0_hw21 : k0_chk21 v1_1 v76 := (← Prog.lift (TpuEff.assume (k0_chk21 v1_1 v76) (k0_chk21.dec v1_1 v76))).down

    let v80 : Elt F .i32 ← smemLoad arg7 (Rect.unit (s := S224) (k0_off175 v1_1) S1.size (k0_off175_inb v1_1 k0_hw4 k0_h9)) numel1_S1 rfl
    have k0_hw22 : k0_chk22 v1_1 v76 v80 := (← Prog.lift (TpuEff.assume (k0_chk22 v1_1 v76 v80) (k0_chk22.dec v1_1 v76 v80))).down

    let v85 : DmaSems sig S1 := arg18.slice (Rect.unit (s := S2) (k0_off176 v1_1) S1.size (k0_off176_inb v1_1 k0_hw4 k0_h9))
    let v86 : DmaSems sig S_ := v85.squeeze S_ squeezes_S1_S_
    let v87 : Memref sig .tc .hbm S4096x128 .f32 := arg5.slice (Rect.unit (s := S933888x128) (k0_off177 v76 v80) S4096x128.size (k0_off177_inb v1_1 v76 v80 k0_hw22 k0_h9)) (fun _ => rfl)
    let v88 : Memref sig .tc .vmem S1x4096x128 .f32 := arg13.slice (Rect.unit (s := S2x4096x128) (k0_off178 v1_1) S1x4096x128.size (k0_off178_inb v1_1 k0_hw4 k0_h9)) (fun _ => rfl)
    let v89 : Memref sig .tc .vmem S4096x128 .f32 := v88.squeeze S4096x128 squeezes_S1x4096x128_S4096x128
    Prog.lift (.waitDma2 v86.sem v89 v87 ((View.wordExact_bits rfl).reshape _ _) (View.wordExact_bits rfl))
    pure ⟨⟩
  else do
    pure ⟨⟩
  let v55 : BitVec 32 := Scalar.subi v1_1 1#32

  let v59 : Elt F .i32 ← smemLoad arg6 (Rect.unit (s := S224) (k0_off179 v1_1) S1.size (k0_off179_inb v1_1 k0_hw4)) numel1_S1 rfl
  have k0_hw23 : k0_chk23 v59 := (← Prog.lift (TpuEff.assume (k0_chk23 v59) (k0_chk23.dec v59))).down
  pure ⟨v55, v59, 97792#32⟩

set_option maxHeartbeats 40000000 in
/-- The kernel, at a column offset. -/
def cc0_moe_gemm_0 (arg0 : Memref sig .tc .smem S16 .i32) (harg0 : arg0.IsWhole) (arg1 : Memref sig .tc .hbm S98304x2048 .fp8e4m3) (harg1 : arg1.IsWhole) (arg2 : Memref sig .tc .hbm S768x1x128 .f32) (harg2 : arg2.IsWhole) (arg3 : Memref sig .tc .hbm S16x1024x4096 .i8) (harg3 : arg3.IsWhole) (arg4 : Memref sig .tc .hbm S16x16x4096 .bf16) (harg4 : arg4.IsWhole) (arg5 : Memref sig .tc .hbm S933888x128 .f32) (harg5 : arg5.IsWhole) (arg6 : Memref sig .tc .smem S224 .i32) (harg6 : arg6.IsWhole) (arg7 : Memref sig .tc .smem S224 .i32) (harg7 : arg7.IsWhole) (arg8 : Memref sig .tc .vmem S2x512x2048 .fp8e4m3) (harg8 : arg8.IsWhole) (arg9 : Memref sig .tc .vmem S2x4x1x128 .f32) (harg9 : arg9.IsWhole) (arg10 : Memref sig .tc .vmem S2x1024x1024 .i8) (harg10 : arg10.IsWhole) (arg11 : Memref sig .tc .vmem S2x16x1024 .bf16) (harg11 : arg11.IsWhole) (arg12 : Memref sig .tc .vmem S2048x1024 .bf16) (harg12 : arg12.IsWhole) (arg13 : Memref sig .tc .vmem S2x4096x128 .f32) (harg13 : arg13.IsWhole) (arg14 : DmaSems sig S2) (arg15 : DmaSems sig S2) (arg16 : DmaSems sig S2) (arg17 : DmaSems sig S2) (arg18 : DmaSems sig S2) :
    Prog (TpuEff nD τ sig (Elt F) Λ₀ .tc) PUnit := do
  let ⟨v1_1, k0_hw4, v15, k0_hw3, v17, c128_i32, v18, v23, v28⟩ : Σ' (v1_1 : BitVec 32) (k0_hw4 : k0_chk4 v1_1) (v15 : Elt F .i32) (k0_hw3 : k0_chk3 v15) (v17 : BitVec 32) (c128_i32 : BitVec 32) (v18 : BitVec 32) (v23 : BitVec 32), BitVec 32 ← k0_part34 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18
  let ⟨v55, v59, c97792_i32_43⟩ : Σ' (v55 : BitVec 32) (v59 : Elt F .i32), BitVec 32 ← k0_part35 arg0 harg0 arg1 harg1 arg2 harg2 arg3 harg3 arg4 harg4 arg5 harg5 arg6 harg6 arg7 harg7 arg8 harg8 arg9 harg9 arg10 harg10 arg11 harg11 arg12 harg12 arg13 harg13 arg14 arg15 arg16 arg17 arg18 v1_1 k0_hw4 v15 k0_hw3 v17 c128_i32 v18 v23 v28

  let v63 : Elt F .i32 ← smemLoad arg7 (Rect.unit (s := S224) (k0_off180 v1_1) S1.size (k0_off180_inb v1_1 k0_hw4)) numel1_S1 rfl
  have k0_hw24 : k0_chk24 v59 v63 := (← Prog.lift (TpuEff.assume (k0_chk24 v59 v63) (k0_chk24.dec v59 v63))).down

  let v68 : DmaSems sig S1 := arg18.slice (Rect.unit (s := S2) (k0_off181 v1_1) S1.size (k0_off181_inb v1_1 k0_hw4))
  let v69 : DmaSems sig S_ := v68.squeeze S_ squeezes_S1_S_
  let v70 : Memref sig .tc .hbm S4096x128 .f32 := arg5.slice (Rect.unit (s := S933888x128) (k0_off182 v59 v63) S4096x128.size (k0_off182_inb v59 v63 k0_hw24)) (fun _ => rfl)
  let v71 : Memref sig .tc .vmem S1x4096x128 .f32 := arg13.slice (Rect.unit (s := S2x4096x128) (k0_off183 v1_1) S1x4096x128.size (k0_off183_inb v1_1 k0_hw4)) (fun _ => rfl)
  let v72 : Memref sig .tc .vmem S4096x128 .f32 := v71.squeeze S4096x128 squeezes_S1x4096x128_S4096x128
  Prog.lift (.waitDma2 v69.sem v72 v70 ((View.wordExact_bits rfl).reshape _ _) (View.wordExact_bits rfl))
  pure ⟨⟩

/-- The kernel under its label. -/
def defs₀ : Defs nD τ sig (Elt F) Λ₀ := Defs.onTc fun
  | 0, (t, s) => cc0_moe_gemm_0 (win0_0.stage (s 0)) (hstage0_0 0) (Memref.whole main_arg0) (Memref.isWhole_whole _) (Memref.whole main_v0) (Memref.isWhole_whole _) (Memref.whole main_arg3) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12
  | ⟨_ + 1, h⟩, _ => absurd h (Nat.not_lt.2 (Nat.le_add_left _ _))

/-- The labels of the program. -/
def defs : Defs nD τ sig (Elt F) (Pipeline.Sig Λ₀ (Fin 1) fun p => (pcfgs (F := F) p).Adm) := Pipeline.defs pcfgs defs₀

end Cert.KernelIdeal.Run

end
-- ==== Proof.M.I.Base.lean ====
/-
  What the kernel's run is proved with: the resource algebra (the launch library's, write mode, counters for the
  kernel's own transfers) and one rule per operation of the body, stated of an operation followed by a continuation.
-/
module

public import proofs.«01_k».proof.Defs
public import proofs.«01_k».proof.Proof.M.Tiles
public import proofs.«01_k».proof.Proof.M.I.Col
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.WriteMode
public import Idealize.ShloMosaic.Lib.SparseCore.Scatter
public import Idealize.ShloMosaic.Lib.Tactic

@[expose] public section

noncomputable section

namespace Cert.KernelIdeal.Run

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Col]

/-- The user algebra: the launch library's, write mode's, the counters of transfers. -/
abbrev UU (F : FTy → Type) : Type := UR sig nD τ × (WmRA nD τ sig (Elt F) × Counters)
local notation "𝕄" => MT nD τ sig Unit (Elt F) ℕ (UU F) ℕ
abbrev EP : Emb (UR sig nD τ) (MT nD τ sig Unit (Elt F) ℕ (UU F) ℕ) := embL
abbrev 𝒱₀ : Variants := Variants.none
/-- Where write mode sits in the user algebra. -/
abbrev wmE : UEmb (WmRA nD τ sig (Elt F)) (UU F) := UEmb.inl.trans UEmb.inr
/-- Where the counters sit. -/
abbrev EC : UEmb Counters (MT nD τ sig Unit (Elt F) ℕ (UU F) ℕ) := countersEmb

omit [FloatOps F] in
theorem ent_of_eq {P Q : sProp 𝕄} (e : P = Q) : P ⊢ Q := e ▸ .rfl

/-- The weakest precondition of a program on core `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (c : Dev nD) {α : Type}

/-- A part and what follows it. -/
theorem r_bind {Q : α → sProp 𝕄} {β : Type} {p : Prog (TpuEff nD τ sig (Elt F) Λ₀ .tc) β} {k : β → Prog (TpuEff nD τ sig (Elt F) Λ₀ .tc) α} :
    wpc c p (fun a => wpc c (k a) Q) ⊢ wpc c (p >>= k) Q := ent_of_eq (wp_bind _ _ _ p k Q).symm

theorem r_ret {Q : α → sProp 𝕄} {a : α} : Q a ⊢ wpc c (Prog.ret a) Q := by
  unfold wpc; rw [wp_ret]; exact fupd_intro

theorem r_pure {Q : α → sProp 𝕄} {a : α} : Q a ⊢ wpc c (pure a) Q := r_ret c

theorem r_assume {Q : α → sProp 𝕄} {P : Prop} {d : Decidable P} {k : PLift P → Prog (TpuEff nD τ sig (Elt F) Λ₀ .tc) α} (h : P) :
    wpc c (k ⟨h⟩) Q ⊢ wpc c (Prog.lift (.assume P d) >>= k) Q := wp_assume 𝒱₀ (c : Thread nD τ) none Set.univ h

/-- A vector load through a rectangle. -/
theorem r_load {Q : α → sProp 𝕄} {s : Shape} {e : EltTy} {m : Memref sig .tc .vmem s e} {r : Rect s} {hl : m.view.LoadsAt r}
    {k : (r.shape.Idx → Elt F e) → Prog (TpuEff nD τ sig (Elt F) Λ₀ .tc) α}
    {S : Finset (Idx (m.view.loc (c : Thread nD τ)))} {q : PosShare TreeShare} {f : Buf (Elt F) (m.view.loc (c : Thread nD τ))}
    (hS : (m.access r).set ⊆ S) :
    (m.view.loc (c : Thread nD τ) ↦[S]{q} f)
      ⊢ iprop(((m.view.loc (c : Thread nD τ) ↦[S]{q} f) -∗ wpc c (k ((m.access r).read (Elt F) f)) Q)
          -∗ wpc c (Prog.lift (.load m r hl) >>= k) Q) :=
  wp_load_rect (Q := Q) 𝒱₀ (c : Thread nD τ) none Set.univ (m := m) (r := r) (hl := hl) (k := k) (S := S) (q := q) (f := f) hS

/-- A vector store. -/
theorem r_store {Q : α → sProp 𝕄} {s : Shape} {e : EltTy} {m : Memref sig .tc .vmem s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α}
    {S : Finset (Idx (m.view.loc (c : Thread nD τ)))} {f : Buf (Elt F) (m.view.loc (c : Thread nD τ))}
    (hS : (m.access r).set ⊆ S) :
    (m.view.loc (c : Thread nD τ) ↦[S]{fullShare} f)
      ⊢ iprop(((m.view.loc (c : Thread nD τ) ↦[S]{fullShare} ((m.access r).write (Elt F) f w Finset.univ)) -∗ wpc c (k ⟨⟩) Q)
          -∗ wpc c (Prog.lift (.store m r w Finset.univ hx hm) >>= k) Q) :=
  wp_store (Q := Q) 𝒱₀ (c : Thread nD τ) none Set.univ (m := m) (r := r) (w := w) (Mk := Finset.univ) (hx := hx) (hm := hm) (k := k) (S := S) (f := f) (by rwa [View.setOn_univ])

/-- One word read from scalar memory. -/
theorem r_smemLoad {Q : α → sProp 𝕄} {s : Shape} {m : Memref sig .tc .smem s .i32} {r : Rect s} {h1 : r.shape.numel = 1} {hp : EltTy.i32.packing = 1}
    {k : Elt F .i32 → Prog (TpuEff nD τ sig (Elt F) Λ₀ .tc) α}
    {S : Finset (Idx (m.view.loc (c : Thread nD τ)))} {q : PosShare TreeShare} {f : Buf (Elt F) (m.view.loc (c : Thread nD τ))}
    (v : Elt F .i32) (hv : m.view.read (Elt F) f (r.point h1) = v) (hS : m.view.set ⊆ S) :
    (m.view.loc (c : Thread nD τ) ↦[S]{q} f)
      ⊢ iprop(((m.view.loc (c : Thread nD τ) ↦[S]{q} f) -∗ wpc c (k v) Q)
          -∗ wpc c (smemLoad m r h1 hp >>= k) Q) := by
  subst hv
  exact wp_smemLoadElt (Q := Q) 𝒱₀ (c : Thread nD τ) none Set.univ (m := m) (r := r) (S := S) (q := q) (f := f) (hw := View.loads_smem_one hp h1) (k := k) (x := Shape.Idx.first (h1.symm ▸ Nat.one_pos)) ((View.set_slice_subset _ _).trans hS)

/-- A transfer into a near buffer: what it delivers is any consequence `D` of the written destination and the source. -/
theorem r_enq {Q : α → sProp 𝕄} {sp sp' : Space} {s : Shape} {e : EltTy} {src : Memref sig .tc sp s e} {dst : Memref sig .tc sp' s e} {sem : DmaSem sig}
    {hsrc : src.view.WordExact} {hdst : dst.view.WordExact} {hsem : DmaTarget.Typed (nD := nD) (p := .tc) sp (.dma sem) (.here dst)}
    {k : PUnit → Prog (TpuEff nD τ sig (Elt F) Λ₀ .tc) α}
    {Ss : Finset (Idx (src.view.loc (c : Thread nD τ)))} {q : PosShare TreeShare} {fs : Buf (Elt F) (src.view.loc (c : Thread nD τ))}
    {Sd : Finset (Idx (dst.view.loc (c : Thread nD τ)))} {fd : Buf (Elt F) (dst.view.loc (c : Thread nD τ))}
    (N : ℕ) (hN : dst.view.dmaCredit = N) (hN0 : 0 < N) (sm : DmaSem sig) (hsm : sem = sm) (D : sProp 𝕄)
    (hSs : src.view.set ⊆ Ss) (hSd : dst.view.set ⊆ Sd)
    (hD : iprop((dst.view.loc (c : Thread nD τ) ↦[Sd]{fullShare} dst.view.write (Elt F) fd (src.view.read (Elt F) fs) Finset.univ)
        ∗ (src.view.loc (c : Thread nD τ) ↦[Ss]{q} fs)) ⊢ D) :
    iprop((src.view.loc (c : Thread nD τ) ↦[Ss]{q} fs) ∗ (dst.view.loc (c : Thread nD τ) ↦[Sd]{fullShare} fd) ∗ semVal ((c : Thread nD τ), .dma sm) 0)
      ⊢ iprop((Transfers.Flight EC (c : Thread nD τ) (.dma sm) () N D -∗ wpc c (k ⟨⟩) Q)
          -∗ wpc c (Prog.lift (.enqueueDma src (.here dst) (.dma sem) hsrc hdst hsem) >>= k) Q) := by
  subst hsm
  have hsplit := Region.is_split_subset (ι := (memEmb (nD := nD) (τ := τ) (sig := sig) (Ix := Unit) (Val := Elt F) (Name := ℕ) (U := UU F) (Lvl := ℕ)).toEmb)
    (k := src.view.loc (c : Thread nD τ)) (q := q) (f := fs) hSs
  iintro ⟨Hs, Hd, Hv⟩ Hk
  ihave Hs2 := hsplit.1 $$ Hs
  icases Hs2 with ⟨Hs, Hr⟩
  iapply (Transfers.wp_dmaLocal EC 𝒱₀ (c : Thread nD τ) none (Q := Q) (src := src) (dst := dst) (sm := .dma sem) (hsrc := hsrc) (hdst := hdst) (hsem := hsem) (via := .same) (k := k) (q := q) (fs := fs) (fd := fd) () N hN hN0 hSd) $$ [Hs Hd Hv]
  · isplitl [Hs]; · iexact Hs
    isplitl [Hd]; · iexact Hd
    iexact Hv
  iintro Hfl
  iapply Hk
  ihave Hf2 := (Transfers.Flight_frame EC (c : Thread nD τ)) $$ [Hr Hfl]
  · isplitl [Hr]; · iexact Hr
    iexact Hfl
  iapply (Transfers.Flight_mono EC (c : Thread nD τ) ?_) $$ Hf2
  refine BIBase.Entails.trans ?_ hD
  iintro ⟨Hr, Hd, Hs⟩
  isplitl [Hd]; · iexact Hd
  iapply hsplit.2
  isplitl [Hs]; · iexact Hs
  iexact Hr

/-- A transfer out of a near buffer into elements held in write mode. -/
theorem r_enqw {Q : α → sProp 𝕄} {sp sp' : Space} {s : Shape} {e : EltTy} {src : Memref sig .tc sp s e} {dst : Memref sig .tc sp' s e} {sem : DmaSem sig}
    {hsrc : src.view.WordExact} {hdst : dst.view.WordExact} {hsem : DmaTarget.Typed (nD := nD) (p := .tc) sp (.dma sem) (.here dst)}
    {k : PUnit → Prog (TpuEff nD τ sig (Elt F) Λ₀ .tc) α} {ιwm : ℕ}
    {Ss : Finset (Idx (src.view.loc (c : Thread nD τ)))} {fs : Buf (Elt F) (src.view.loc (c : Thread nD τ))}
    {qd : PosShare TreeShare} {fd : Buf (Elt F) (dst.view.loc (c : Thread nD τ))} {g : Tgt (Elt F) (dst.view.loc (c : Thread nD τ))}
    {W : Finset (Idx (dst.view.loc (c : Thread nD τ)))} {Sd : Finset (Idx (dst.view.loc (c : Thread nD τ)))}
    (N : ℕ) (hN : dst.view.dmaCredit = N) (hN0 : 0 < N) (sm : DmaSem sig) (hsm : sem = sm) (D : sProp 𝕄)
    (hSs : src.view.set ⊆ Ss) (hSd : dst.view.set ⊆ Sd)
    (hadm : dst.view.Admitted (Elt F) g (src.view.read (Elt F) fs) Finset.univ)
    (hD : iprop((willBeTo wmE (dst.view.loc (c : Thread nD τ)) Sd qd fd g (W ∪ dst.view.set))
        ∗ (src.view.loc (c : Thread nD τ) ↦[Ss]{fullShare} fs)) ⊢ D) :
    iprop(wmInv wmE ιwm ∗ (src.view.loc (c : Thread nD τ) ↦[Ss]{fullShare} fs) ∗ (willBeTo wmE (dst.view.loc (c : Thread nD τ)) Sd qd fd g W) ∗ semVal ((c : Thread nD τ), .dma sm) 0)
      ⊢ iprop((Transfers.Flight EC (c : Thread nD τ) (.dma sm) () N D -∗ wpc c (k ⟨⟩) Q)
          -∗ wpc c (Prog.lift (.enqueueDma src (.here dst) (.dma sem) hsrc hdst hsem) >>= k) Q) := by
  subst hsm
  have hsplit := Region.is_split_subset (ι := (memEmb (nD := nD) (τ := τ) (sig := sig) (Ix := Unit) (Val := Elt F) (Name := ℕ) (U := UU F) (Lvl := ℕ)).toEmb)
    (k := src.view.loc (c : Thread nD τ)) (q := fullShare) (f := fs) hSs
  iintro ⟨#Hw, Hs, Hd, Hv⟩ Hk
  ihave Hs2 := hsplit.1 $$ Hs
  icases Hs2 with ⟨Hs, Hr⟩
  imod (Transfers.flight_alloc EC hN0 iprop((willBeTo wmE (dst.view.loc (c : Thread nD τ)) Sd qd fd g (W ∪ dst.view.set))
      ∗ (src.view.loc (c : Thread nD τ) ↦[src.view.set]{fullShare} fs)) (g := ((c : Thread nD τ), .dma sem))) $$ Hv with ⟨%γ, %δ, %κ, #Hinv, Hγ, Hδ⟩
  iapply (wp_enqueueDma 𝒱₀ (c : Thread nD τ) none Set.univ (Q := Q) (src := src) (dst := dst) (sem := .dma sem) (hsrc := hsrc) (hdst := hdst) (hsem := hsem) (k := k) () N hN) $$ [Hs Hd] [Hγ]
  · isplitl [Hs]; · iexact Hs
    iapply (willBeTo_writeUpdate (emb := wmE) (ιwm := ιwm) (c : Thread nD τ) (v := dst.view) (w := src.view.read (Elt F) fs) (S := Sd) (q := qd)
      (f := fd) (g := g) (W := W) hSd hadm)
    isplitr; · iexact Hw
    iexact Hd
  · iapply (Transfers.flight_creditUpdate EC (δ := δ))
    isplitr; · iexact Hinv
    iexact Hγ
  iintro Hcred
  iapply Hk
  ihave Hfl := (Transfers.flight_intro EC (c : Thread nD τ) (κ := κ)) $$ [Hδ Hcred]
  · isplitr; · iexact Hinv
    isplitl [Hδ] <;> iassumption
  ihave Hf2 := (Transfers.Flight_frame EC (c : Thread nD τ)) $$ [Hr Hfl]
  · isplitl [Hr]; · iexact Hr
    iexact Hfl
  iapply (Transfers.Flight_mono EC (c : Thread nD τ) ?_) $$ Hf2
  refine BIBase.Entails.trans ?_ hD
  iintro ⟨Hr, Hd, Hs⟩
  isplitl [Hd]; · iexact Hd
  iapply hsplit.2
  isplitl [Hs]; · iexact Hs
  iexact Hr

/-- Waiting a transfer. -/
theorem r_wait {Q : α → sProp 𝕄} {sp sp' : Space} {s s' : Shape} {e e' : EltTy} {src : Memref sig .tc sp' s' e'} {dst : Memref sig .tc sp s e} {sem : DmaSem sig}
    {hsrc : src.view.WordExact} {hdst : dst.view.WordExact}
    {k : PUnit → Prog (TpuEff nD τ sig (Elt F) Λ₀ .tc) α} (N : ℕ) (hN : dst.view.dmaCredit = N) (sm : DmaSem sig) (hsm : sem = sm) {D : sProp 𝕄} :
    iprop(Transfers.Flight EC (c : Thread nD τ) (.dma sm) () N D ∗ ∃ W, owes (c : Thread nD τ) 0 W)
      ⊢ iprop((iprop(D ∗ semVal ((c : Thread nD τ), .dma sm) 0 ∗ ∃ W, owes (c : Thread nD τ) 0 W) -∗ wpc c (k ⟨⟩) Q)
          -∗ wpc c (Prog.lift (.waitDma2 sem src dst hsrc hdst) >>= k) Q) := by
  subst hsm
  iintro ⟨Hf, ⟨%W, HW⟩⟩ Hk
  iapply (Transfers.wp_waitLocal EC 𝒱₀ (c : Thread nD τ) none (Q := Q) (sem := sem) (srcw := src) (dstw := dst) (hsrc := hsrc) (hdst := hdst) (k := k) () hN) $$ [Hf HW]
  · isplitl [Hf]; · iexact Hf
    iexact HW
  iintro ⟨HD, Hv, HW⟩
  iapply Hk
  isplitl [HD]; · iexact HD
  isplitl [Hv]; · iexact Hv
  iexists _; iexact HW

end Cert.KernelIdeal.Run

end
-- ==== Proof.M.I.Slots.lean ====
/-
  The kernel's buffers, their slots, and the copies that fill the slots: what a slot holds after a copy, as a function
  of the whole source array.
-/
module

public import proofs.«01_k».proof.Proof.M.I.Base
public import Idealize.ShloMosaic.Lib.ValueIdxCore

@[expose] public section

noncomputable section

namespace Cert.KernelIdeal.Run

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Col]
local notation "𝕄" => MT nD τ sig Unit (Elt F) ℕ (UU F) ℕ

/-! ## Buffers -/

abbrev A1 : Memref sig .tc .hbm S98304x2048 .fp8e4m3 := Memref.whole main_arg0
abbrev A2 : Memref sig .tc .hbm S768x1x128 .f32 := Memref.whole main_v0
abbrev A3 : Memref sig .tc .hbm S16x1024x4096 .i8 := Memref.whole main_arg3
abbrev A4 : Memref sig .tc .hbm S16x16x4096 .bf16 := Memref.whole main_arg4
abbrev A5 : Memref sig .tc .hbm S933888x128 .f32 := Memref.whole main_v1
abbrev A6 : Memref sig .tc .smem S224 .i32 := Memref.whole cc0_scratch0
abbrev A7 : Memref sig .tc .smem S224 .i32 := Memref.whole cc0_scratch1
abbrev A8 : Memref sig .tc .vmem S2x512x2048 .fp8e4m3 := Memref.whole cc0_scratch2
abbrev A9 : Memref sig .tc .vmem S2x4x1x128 .f32 := Memref.whole cc0_scratch3
abbrev A10 : Memref sig .tc .vmem S2x1024x1024 .i8 := Memref.whole cc0_scratch4
abbrev A11 : Memref sig .tc .vmem S2x16x1024 .bf16 := Memref.whole cc0_scratch5
abbrev A12 : Memref sig .tc .vmem S2048x1024 .bf16 := Memref.whole cc0_scratch6
abbrev A13 : Memref sig .tc .vmem S2x4096x128 .f32 := Memref.whole cc0_scratch7

/-- The elements of slot `s`. -/
def ax0 {n : ℕ} {d : Fin (n + 1) → ℕ} (s : ℕ) : Finset (Shape.Idx ⟨n + 1, d⟩) :=
  Finset.univ.filter fun i => (i 0 : ℕ) = s

theorem mem_ax0 {n : ℕ} {d : Fin (n + 1) → ℕ} {s : ℕ} {i : Shape.Idx ⟨n + 1, d⟩} : i ∈ ax0 s ↔ (i 0 : ℕ) = s := by
  simp [ax0]

omit [Col] in
theorem inb_sem (s : ℕ) : ∀ a, (![s % 2] : Fin S2.rank → ℕ) a + S1.size a ≤ S2.size a := by
  intro a; fin_cases a
  show s % 2 + 1 ≤ 2
  omega

omit [Col] in
/-- The semaphore of slot `s`. -/
def semAt (A : DmaSems sig S2) (s : ℕ) : DmaSem sig :=
  ((A.slice (Rect.unit (s := S2) ![s % 2] S1.size (inb_sem s))).squeeze S_ squeezes_S1_S_).sem

theorem sem_eq (A : DmaSems sig S2) {s : ℕ} (hs : s < 2) {off : Fin S2.rank → ℕ} {inb : ∀ a, off a + S1.size a ≤ S2.size a}
    (e : off = ![s]) : ((A.slice (Rect.unit (s := S2) off S1.size inb)).squeeze S_ squeezes_S1_S_).sem = semAt A s := by
  unfold semAt
  have : off = ![s % 2] := by rw [e, Nat.mod_eq_of_lt hs]
  subst this; rfl

/-- The share of a source array that slot `s` uses. -/
def hsh (s : ℕ) : PosShare TreeShare := if s = 0 then fullShare.left else fullShare.right

/-! ## Contents -/

def hFill (X : S98304x2048.Idx → Elt F .fp8e4m3) (ρ : ℕ) : S2x512x2048.Idx → Elt F .fp8e4m3 := fun i =>
  X (ix2 (n0 := 98304) (n1 := 2048) ⟨(ρ + (i 1 : ℕ)) % 98304, Nat.mod_lt _ (by decide)⟩ (i 2))
def sFill (X : S768x1x128.Idx → Elt F .f32) (σ : ℕ) : S2x4x1x128.Idx → Elt F .f32 := fun i =>
  X (ix3 (n0 := 768) (n1 := 1) (n2 := 128) ⟨(σ + (i 1 : ℕ)) % 768, Nat.mod_lt _ (by decide)⟩ (i 2) (i 3))
def wFill (X : S16x1024x4096.Idx → Elt F .i8) (e : ℕ) : S2x1024x1024.Idx → Elt F .i8 := fun i =>
  X (ix3 (n0 := 16) (n1 := 1024) (n2 := 4096) ⟨e % 16, Nat.mod_lt _ (by decide)⟩ (i 1) ⟨(Col.n0 + (i 2 : ℕ)) % 4096, Nat.mod_lt _ (by decide)⟩)
def wsFill (X : S16x16x4096.Idx → Elt F .bf16) (e : ℕ) : S2x16x1024.Idx → Elt F .bf16 := fun i =>
  X (ix3 (n0 := 16) (n1 := 16) (n2 := 4096) ⟨e % 16, Nat.mod_lt _ (by decide)⟩ (i 1) ⟨(Col.n0 + (i 2 : ℕ)) % 4096, Nat.mod_lt _ (by decide)⟩)

/-! ## A slot -/

section Slot
variable {n : ℕ} {d : Fin n → ℕ} {sp : Space} {e : EltTy}

theorem slot_emb {p : ℕ} {sz : Fin n → ℕ} {off : Fin (n + 1) → ℕ} {inb : ∀ a, off a + (Matrix.vecCons 1 d : Fin (n + 1) → ℕ) a ≤ (Matrix.vecCons p sz : Fin (n + 1) → ℕ) a}
    (h : (⟨n, d⟩ : Shape).numel = (⟨n + 1, Matrix.vecCons 1 d⟩ : Shape).numel) (x : (⟨n, d⟩ : Shape).Idx) (a : Fin (n + 1)) :
    (((Rect.unit (s := ⟨n + 1, Matrix.vecCons p sz⟩) off (Matrix.vecCons 1 d) inb).emb (Shape.reshapeEquiv h x)) a : ℕ)
      = off a + (Fin.cases 0 (fun k => (x k : ℕ)) a : ℕ) := by
  rw [Rect.emb_apply]
  show off a + 1 * _ = _
  rw [Shape.reshapeEquiv_cons_one]
  refine Fin.cases ?_ (fun k => ?_) a
  · simp; rfl
  · simp; rfl

theorem slot_set {p : ℕ} {off : Fin (n + 1) → ℕ} {inb : ∀ a, off a + (Matrix.vecCons 1 d : Fin (n + 1) → ℕ) a ≤ (Matrix.vecCons p d : Fin (n + 1) → ℕ) a}
    {s : ℕ} (h0 : off 0 = s) (h1 : ∀ k : Fin n, off k.succ = 0) :
    (Rect.unit (s := ⟨n + 1, Matrix.vecCons p d⟩) off (Matrix.vecCons 1 d) inb).set = ax0 s := by
  ext i
  rw [mem_ax0, Rect.mem_set_unit]
  constructor
  · intro h
    have := h 0
    simp only [Matrix.cons_val_zero] at this
    omega
  · intro h a
    refine Fin.cases ?_ (fun k => ?_) a
    · simp only [Matrix.cons_val_zero]; omega
    · have := (i k.succ).isLt
      rw [h1 k]
      exact ⟨Nat.zero_le _, by simpa using this⟩

end Slot

/-- Contents written through a view, known at every element of it. -/
theorem write_fill {sp : Space} {s : Shape} {e : EltTy} (V : View sig .tc sp s e) (f G : V.ty.Contents (Elt F)) (w : s.Idx → Elt F e)
    (h : ∀ x, w x = V.read (Elt F) G x) : ∀ i ∈ V.set, V.write (Elt F) f w Finset.univ i = G i := by
  intro i hi
  obtain ⟨x, -, rfl⟩ := Finset.mem_map.mp hi
  rw [View.write_emb_of_mem _ _ (Finset.mem_univ x), h x, View.read_apply]
  exact cast_cast _ _ _

/-! ## The copies into slots -/

section Copies
variable (c : Dev nD)

abbrev NH : ℕ := (A8.view.ref).dmaCredit S512x2048 .fp8e4m3
abbrev NS : ℕ := (A9.view.ref).dmaCredit S4x1x128 .f32
abbrev NW : ℕ := (A10.view.ref).dmaCredit S1024x1024 .i8
abbrev NWS : ℕ := (A11.view.ref).dmaCredit S16x1024 .bf16
abbrev NY : ℕ := (A5.view.ref).dmaCredit S4096x128 .f32

theorem posH : 0 < NH := sig.dmaCredit_pos _ _ A8.view.buf S512x2048 .fp8e4m3 (by decide)

omit [FloatOps F] in
theorem setH {s : ℕ} {off : Fin S2x512x2048.rank → ℕ} {inb : ∀ a, off a + S1x512x2048.size a ≤ S2x512x2048.size a} {hr}
    (e : off = ![s, 0, 0]) : ((A8.slice (Rect.unit (s := S2x512x2048) off S1x512x2048.size inb) hr).squeeze S512x2048 squeezes_S1x512x2048_S512x2048).view.set = ax0 s := by
  show ((View.slice (View.whole A8.view.ref) _).reshape _ _).set = _
  rw [View.set_reshape, View.set_slice_whole]
  exact slot_set (by rw [e]; rfl) (fun k => by rw [e]; fin_cases k <;> rfl)

/-- What the copy into slot `s` delivers. -/
def DH (X : S98304x2048.Idx → Elt F .fp8e4m3) (s ρ : ℕ) : sProp 𝕄 :=
  iprop((A8.view.loc (c : Thread nD τ) ↦[ax0 s]{fullShare} hFill X ρ) ∗ (A1.view.loc (c : Thread nD τ) ↦[Finset.univ]{hsh s} X))

/-- The copy into slot `s`, in flight. -/
abbrev FlH (X : S98304x2048.Idx → Elt F .fp8e4m3) (s ρ : ℕ) : sProp 𝕄 :=
  Transfers.Flight EC (c : Thread nD τ) (.dma (semAt cc0_scratch8 s)) () NH (DH c X s ρ)

theorem enqH {α : Type} {Q : α → sProp 𝕄} {k : PUnit → Prog (TpuEff nD τ sig (Elt F) Λ₀ .tc) α}
    (X : S98304x2048.Idx → Elt F .fp8e4m3) (s ρ : ℕ) (hs : s < 2) (hp : ρ ≤ 97792)
    {om inbm od inbd os inbs hr hr' hsrc hdst hsem} {fd : S2x512x2048.Idx → Elt F .fp8e4m3}
    (em : om = ![s]) (ed : od = ![s, 0, 0]) (es : os = ![ρ, 0]) :
    iprop((A1.view.loc (c : Thread nD τ) ↦[Finset.univ]{hsh s} X) ∗ (A8.view.loc (c : Thread nD τ) ↦[ax0 s]{fullShare} fd)
        ∗ semVal ((c : Thread nD τ), .dma (semAt cc0_scratch8 s)) 0)
      ⊢ iprop((FlH c X s ρ -∗ wpc c (k ⟨⟩) Q)
          -∗ wpc c (Prog.lift (.enqueueDma (A1.slice (Rect.unit (s := S98304x2048) os S512x2048.size inbs) hr)
            (.here ((A8.slice (Rect.unit (s := S2x512x2048) od S1x512x2048.size inbd) hr').squeeze S512x2048 squeezes_S1x512x2048_S512x2048))
            (.dma ((cc0_scratch8.slice (Rect.unit (s := S2) om S1.size inbm)).squeeze S_ squeezes_S1_S_).sem) hsrc hdst hsem) >>= k) Q) := by
  have hset := setH (inb := inbd) (hr := hr') ed
  have hfill : ∀ i ∈ ax0 s, (((A8.slice (Rect.unit (s := S2x512x2048) od S1x512x2048.size inbd) hr').squeeze S512x2048 squeezes_S1x512x2048_S512x2048).view.write (Elt F) fd
      ((A1.slice (Rect.unit (s := S98304x2048) os S512x2048.size inbs) hr).view.read (Elt F) X) Finset.univ) i = hFill X ρ i := by
    rw [← hset]
    refine write_fill (F := F) ((A8.slice (Rect.unit (s := S2x512x2048) od S1x512x2048.size inbd) hr').squeeze S512x2048 squeezes_S1x512x2048_S512x2048).view fd (hFill X ρ) _ fun x => ?_
    subst ed es
    show X _ = X _
    congr 1
    funext a
    apply Fin.ext
    have e1 : ∀ a, _ = _ := slot_emb (p := 2) (sz := ![512, 2048]) (off := ![s, 0, 0]) (d := ![512, 2048]) (inb := inbd) (squeezes_S1x512x2048_S512x2048.numel_eq) x
    have h0 : (x 0 : ℕ) < 512 := (x 0).isLt
    fin_cases a
    · refine (?_ : ρ + 1 * (x 0 : ℕ) = (ρ + (0 + (x 0 : ℕ))) % 98304).trans (congrArg (fun z => (ρ + z) % 98304) (e1 1).symm)
      rw [Nat.mod_eq_of_lt (by omega)]; omega
    · refine (?_ : 0 + 1 * (x 1 : ℕ) = 0 + (x 1 : ℕ)).trans (e1 2).symm
      omega
  refine r_enq c (src := A1.slice (Rect.unit (s := S98304x2048) os S512x2048.size inbs) hr)
    (dst := ((A8.slice (Rect.unit (s := S2x512x2048) od S1x512x2048.size inbd) hr').squeeze S512x2048 squeezes_S1x512x2048_S512x2048))
    (sem := ((cc0_scratch8.slice (Rect.unit (s := S2) om S1.size inbm)).squeeze S_ squeezes_S1_S_).sem)
    (k := k) (Q := Q) (hsrc := hsrc) (hdst := hdst) (hsem := hsem)
    (q := hsh s) (Ss := Finset.univ) (fs := X) (Sd := ax0 s) (fd := fd) NH rfl posH
    _ (sem_eq _ hs em) (DH c X s ρ) (Finset.subset_univ _) hset.subset ?_
  unfold DH
  exact sep_mono (Entails.of_eq (BI.Region.is_congr hfill)) .rfl

theorem posS : 0 < NS := sig.dmaCredit_pos _ _ A9.view.buf S4x1x128 .f32 (by decide)

omit [FloatOps F] in
theorem setS {s : ℕ} {off : Fin S2x4x1x128.rank → ℕ} {inb : ∀ a, off a + S1x4x1x128.size a ≤ S2x4x1x128.size a} {hr}
    (e : off = ![s, 0, 0, 0]) : ((A9.slice (Rect.unit (s := S2x4x1x128) off S1x4x1x128.size inb) hr).squeeze S4x1x128 squeezes_S1x4x1x128_S4x1x128).view.set = ax0 s := by
  show ((View.slice (View.whole A9.view.ref) _).reshape _ _).set = _
  rw [View.set_reshape, View.set_slice_whole]
  exact slot_set (by rw [e]; rfl) (fun k => by rw [e]; fin_cases k <;> rfl)

/-- What the copy into slot `s` delivers. -/
def DS (X : S768x1x128.Idx → Elt F .f32) (s σ : ℕ) : sProp 𝕄 :=
  iprop((A9.view.loc (c : Thread nD τ) ↦[ax0 s]{fullShare} sFill X σ) ∗ (A2.view.loc (c : Thread nD τ) ↦[Finset.univ]{hsh s} X))

/-- The copy into slot `s`, in flight. -/
abbrev FlS (X : S768x1x128.Idx → Elt F .f32) (s σ : ℕ) : sProp 𝕄 :=
  Transfers.Flight EC (c : Thread nD τ) (.dma (semAt cc0_scratch9 s)) () NS (DS c X s σ)

theorem enqS {α : Type} {Q : α → sProp 𝕄} {k : PUnit → Prog (TpuEff nD τ sig (Elt F) Λ₀ .tc) α}
    (X : S768x1x128.Idx → Elt F .f32) (s σ : ℕ) (hs : s < 2) (hp : σ ≤ 764)
    {om inbm od inbd os inbs hr hr' hsrc hdst hsem} {fd : S2x4x1x128.Idx → Elt F .f32}
    (em : om = ![s]) (ed : od = ![s, 0, 0, 0]) (es : os = ![σ, 0, 0]) :
    iprop((A2.view.loc (c : Thread nD τ) ↦[Finset.univ]{hsh s} X) ∗ (A9.view.loc (c : Thread nD τ) ↦[ax0 s]{fullShare} fd)
        ∗ semVal ((c : Thread nD τ), .dma (semAt cc0_scratch9 s)) 0)
      ⊢ iprop((FlS c X s σ -∗ wpc c (k ⟨⟩) Q)
          -∗ wpc c (Prog.lift (.enqueueDma (A2.slice (Rect.unit (s := S768x1x128) os S4x1x128.size inbs) hr)
            (.here ((A9.slice (Rect.unit (s := S2x4x1x128) od S1x4x1x128.size inbd) hr').squeeze S4x1x128 squeezes_S1x4x1x128_S4x1x128))
            (.dma ((cc0_scratch9.slice (Rect.unit (s := S2) om S1.size inbm)).squeeze S_ squeezes_S1_S_).sem) hsrc hdst hsem) >>= k) Q) := by
  have hset := setS (inb := inbd) (hr := hr') ed
  have hfill : ∀ i ∈ ax0 s, (((A9.slice (Rect.unit (s := S2x4x1x128) od S1x4x1x128.size inbd) hr').squeeze S4x1x128 squeezes_S1x4x1x128_S4x1x128).view.write (Elt F) fd
      ((A2.slice (Rect.unit (s := S768x1x128) os S4x1x128.size inbs) hr).view.read (Elt F) X) Finset.univ) i = sFill X σ i := by
    rw [← hset]
    refine write_fill (F := F) ((A9.slice (Rect.unit (s := S2x4x1x128) od S1x4x1x128.size inbd) hr').squeeze S4x1x128 squeezes_S1x4x1x128_S4x1x128).view fd (sFill X σ) _ fun x => ?_
    subst ed es
    show X _ = X _
    congr 1
    funext a
    apply Fin.ext
    have e1 : ∀ a, _ = _ := slot_emb (p := 2) (sz := ![4, 1, 128]) (off := ![s, 0, 0, 0]) (d := ![4, 1, 128]) (inb := inbd) (squeezes_S1x4x1x128_S4x1x128.numel_eq) x
    have h0 : (x 0 : ℕ) < 4 := (x 0).isLt
    fin_cases a
    · refine (?_ : σ + 1 * (x 0 : ℕ) = (σ + (0 + (x 0 : ℕ))) % 768).trans (congrArg (fun z => (σ + z) % 768) (e1 1).symm)
      rw [Nat.mod_eq_of_lt (by omega)]; omega
    · refine (?_ : 0 + 1 * (x 1 : ℕ) = 0 + (x 1 : ℕ)).trans (e1 2).symm
      omega
    · refine (?_ : 0 + 1 * (x 2 : ℕ) = 0 + (x 2 : ℕ)).trans (e1 3).symm
      omega
  refine r_enq c (src := A2.slice (Rect.unit (s := S768x1x128) os S4x1x128.size inbs) hr)
    (dst := ((A9.slice (Rect.unit (s := S2x4x1x128) od S1x4x1x128.size inbd) hr').squeeze S4x1x128 squeezes_S1x4x1x128_S4x1x128))
    (sem := ((cc0_scratch9.slice (Rect.unit (s := S2) om S1.size inbm)).squeeze S_ squeezes_S1_S_).sem)
    (k := k) (Q := Q) (hsrc := hsrc) (hdst := hdst) (hsem := hsem)
    (q := hsh s) (Ss := Finset.univ) (fs := X) (Sd := ax0 s) (fd := fd) NS rfl posS
    _ (sem_eq _ hs em) (DS c X s σ) (Finset.subset_univ _) hset.subset ?_
  unfold DS
  exact sep_mono (Entails.of_eq (BI.Region.is_congr hfill)) .rfl

theorem posW : 0 < NW := sig.dmaCredit_pos _ _ A10.view.buf S1024x1024 .i8 (by decide)

omit [FloatOps F] in
theorem setW {s : ℕ} {off : Fin S2x1024x1024.rank → ℕ} {inb : ∀ a, off a + S1x1024x1024.size a ≤ S2x1024x1024.size a} {hr}
    (e : off = ![s, 0, 0]) : ((A10.slice (Rect.unit (s := S2x1024x1024) off S1x1024x1024.size inb) hr).squeeze S1024x1024 squeezes_S1x1024x1024_S1024x1024).view.set = ax0 s := by
  show ((View.slice (View.whole A10.view.ref) _).reshape _ _).set = _
  rw [View.set_reshape, View.set_slice_whole]
  exact slot_set (by rw [e]; rfl) (fun k => by rw [e]; fin_cases k <;> rfl)

/-- What the copy into slot `s` delivers. -/
def DW (X : S16x1024x4096.Idx → Elt F .i8) (s e : ℕ) : sProp 𝕄 :=
  iprop((A10.view.loc (c : Thread nD τ) ↦[ax0 s]{fullShare} wFill X e) ∗ (A3.view.loc (c : Thread nD τ) ↦[Finset.univ]{hsh s} X))

/-- The copy into slot `s`, in flight. -/
abbrev FlW (X : S16x1024x4096.Idx → Elt F .i8) (s e : ℕ) : sProp 𝕄 :=
  Transfers.Flight EC (c : Thread nD τ) (.dma (semAt cc0_scratch10 s)) () NW (DW c X s e)

theorem enqW {α : Type} {Q : α → sProp 𝕄} {k : PUnit → Prog (TpuEff nD τ sig (Elt F) Λ₀ .tc) α}
    (X : S16x1024x4096.Idx → Elt F .i8) (s e : ℕ) (hs : s < 2) (hp : e < 16)
    {om inbm od inbd os inbs hr hr' hsrc hdst hsem} {fd : S2x1024x1024.Idx → Elt F .i8}
    (em : om = ![s]) (ed : od = ![s, 0, 0]) (es : os = ![e, 0, Col.n0]) :
    iprop((A3.view.loc (c : Thread nD τ) ↦[Finset.univ]{hsh s} X) ∗ (A10.view.loc (c : Thread nD τ) ↦[ax0 s]{fullShare} fd)
        ∗ semVal ((c : Thread nD τ), .dma (semAt cc0_scratch10 s)) 0)
      ⊢ iprop((FlW c X s e -∗ wpc c (k ⟨⟩) Q)
          -∗ wpc c (Prog.lift (.enqueueDma ((A3.slice (Rect.unit (s := S16x1024x4096) os S1x1024x1024.size inbs) hr).squeeze S1024x1024 squeezes_S1x1024x1024_S1024x1024)
            (.here ((A10.slice (Rect.unit (s := S2x1024x1024) od S1x1024x1024.size inbd) hr').squeeze S1024x1024 squeezes_S1x1024x1024_S1024x1024))
            (.dma ((cc0_scratch10.slice (Rect.unit (s := S2) om S1.size inbm)).squeeze S_ squeezes_S1_S_).sem) hsrc hdst hsem) >>= k) Q) := by
  have hset := setW (inb := inbd) (hr := hr') ed
  have hfill : ∀ i ∈ ax0 s, (((A10.slice (Rect.unit (s := S2x1024x1024) od S1x1024x1024.size inbd) hr').squeeze S1024x1024 squeezes_S1x1024x1024_S1024x1024).view.write (Elt F) fd
      (((A3.slice (Rect.unit (s := S16x1024x4096) os S1x1024x1024.size inbs) hr).squeeze S1024x1024 squeezes_S1x1024x1024_S1024x1024).view.read (Elt F) X) Finset.univ) i = wFill X e i := by
    rw [← hset]
    refine write_fill (F := F) ((A10.slice (Rect.unit (s := S2x1024x1024) od S1x1024x1024.size inbd) hr').squeeze S1024x1024 squeezes_S1x1024x1024_S1024x1024).view fd (wFill X e) _ fun x => ?_
    subst ed es
    show X _ = X _
    congr 1
    funext a
    apply Fin.ext
    have e1 : ∀ a, _ = _ := slot_emb (p := 2) (sz := ![1024, 1024]) (off := ![s, 0, 0]) (d := ![1024, 1024]) (inb := inbd) (squeezes_S1x1024x1024_S1024x1024.numel_eq) x
    have e2 : ∀ a, _ = _ := slot_emb (p := 16) (off := ![e, 0, Col.n0]) (d := ![1024, 1024]) (sz := ![1024, 4096]) (inb := inbs) (squeezes_S1x1024x1024_S1024x1024.numel_eq) x
    have h1 : (x 1 : ℕ) < 1024 := (x 1).isLt
    fin_cases a
    · refine (e2 0).trans (?_ : e + 0 = e % 16)
      omega
    · exact (e2 1).trans (e1 1).symm
    · have hn := Col.hn
      refine (e2 2).trans ((?_ : Col.n0 + (x 1 : ℕ) = (Col.n0 + (0 + (x 1 : ℕ))) % 4096).trans (congrArg (fun z => (Col.n0 + z) % 4096) (e1 2).symm))
      omega
  refine r_enq c (src := (A3.slice (Rect.unit (s := S16x1024x4096) os S1x1024x1024.size inbs) hr).squeeze S1024x1024 squeezes_S1x1024x1024_S1024x1024)
    (dst := ((A10.slice (Rect.unit (s := S2x1024x1024) od S1x1024x1024.size inbd) hr').squeeze S1024x1024 squeezes_S1x1024x1024_S1024x1024))
    (sem := ((cc0_scratch10.slice (Rect.unit (s := S2) om S1.size inbm)).squeeze S_ squeezes_S1_S_).sem)
    (k := k) (Q := Q) (hsrc := hsrc) (hdst := hdst) (hsem := hsem)
    (q := hsh s) (Ss := Finset.univ) (fs := X) (Sd := ax0 s) (fd := fd) NW rfl posW
    _ (sem_eq _ hs em) (DW c X s e) (Finset.subset_univ _) hset.subset ?_
  unfold DW
  exact sep_mono (Entails.of_eq (BI.Region.is_congr hfill)) .rfl

theorem posWS : 0 < NWS := sig.dmaCredit_pos _ _ A11.view.buf S16x1024 .bf16 (by decide)

omit [FloatOps F] in
theorem setWS {s : ℕ} {off : Fin S2x16x1024.rank → ℕ} {inb : ∀ a, off a + S1x16x1024.size a ≤ S2x16x1024.size a} {hr}
    (e : off = ![s, 0, 0]) : ((A11.slice (Rect.unit (s := S2x16x1024) off S1x16x1024.size inb) hr).squeeze S16x1024 squeezes_S1x16x1024_S16x1024).view.set = ax0 s := by
  show ((View.slice (View.whole A11.view.ref) _).reshape _ _).set = _
  rw [View.set_reshape, View.set_slice_whole]
  exact slot_set (by rw [e]; rfl) (fun k => by rw [e]; fin_cases k <;> rfl)

/-- What the copy into slot `s` delivers. -/
def DWS (X : S16x16x4096.Idx → Elt F .bf16) (s e : ℕ) : sProp 𝕄 :=
  iprop((A11.view.loc (c : Thread nD τ) ↦[ax0 s]{fullShare} wsFill X e) ∗ (A4.view.loc (c : Thread nD τ) ↦[Finset.univ]{hsh s} X))

/-- The copy into slot `s`, in flight. -/
abbrev FlWS (X : S16x16x4096.Idx → Elt F .bf16) (s e : ℕ) : sProp 𝕄 :=
  Transfers.Flight EC (c : Thread nD τ) (.dma (semAt cc0_scratch11 s)) () NWS (DWS c X s e)

theorem enqWS {α : Type} {Q : α → sProp 𝕄} {k : PUnit → Prog (TpuEff nD τ sig (Elt F) Λ₀ .tc) α}
    (X : S16x16x4096.Idx → Elt F .bf16) (s e : ℕ) (hs : s < 2) (hp : e < 16)
    {om inbm od inbd os inbs hr hr' hsrc hdst hsem} {fd : S2x16x1024.Idx → Elt F .bf16}
    (em : om = ![s]) (ed : od = ![s, 0, 0]) (es : os = ![e, 0, Col.n0]) :
    iprop((A4.view.loc (c : Thread nD τ) ↦[Finset.univ]{hsh s} X) ∗ (A11.view.loc (c : Thread nD τ) ↦[ax0 s]{fullShare} fd)
        ∗ semVal ((c : Thread nD τ), .dma (semAt cc0_scratch11 s)) 0)
      ⊢ iprop((FlWS c X s e -∗ wpc c (k ⟨⟩) Q)
          -∗ wpc c (Prog.lift (.enqueueDma ((A4.slice (Rect.unit (s := S16x16x4096) os S1x16x1024.size inbs) hr).squeeze S16x1024 squeezes_S1x16x1024_S16x1024)
            (.here ((A11.slice (Rect.unit (s := S2x16x1024) od S1x16x1024.size inbd) hr').squeeze S16x1024 squeezes_S1x16x1024_S16x1024))
            (.dma ((cc0_scratch11.slice (Rect.unit (s := S2) om S1.size inbm)).squeeze S_ squeezes_S1_S_).sem) hsrc hdst hsem) >>= k) Q) := by
  have hset := setWS (inb := inbd) (hr := hr') ed
  have hfill : ∀ i ∈ ax0 s, (((A11.slice (Rect.unit (s := S2x16x1024) od S1x16x1024.size inbd) hr').squeeze S16x1024 squeezes_S1x16x1024_S16x1024).view.write (Elt F) fd
      (((A4.slice (Rect.unit (s := S16x16x4096) os S1x16x1024.size inbs) hr).squeeze S16x1024 squeezes_S1x16x1024_S16x1024).view.read (Elt F) X) Finset.univ) i = wsFill X e i := by
    rw [← hset]
    refine write_fill (F := F) ((A11.slice (Rect.unit (s := S2x16x1024) od S1x16x1024.size inbd) hr').squeeze S16x1024 squeezes_S1x16x1024_S16x1024).view fd (wsFill X e) _ fun x => ?_
    subst ed es
    show X _ = X _
    congr 1
    funext a
    apply Fin.ext
    have e1 : ∀ a, _ = _ := slot_emb (p := 2) (sz := ![16, 1024]) (off := ![s, 0, 0]) (d := ![16, 1024]) (inb := inbd) (squeezes_S1x16x1024_S16x1024.numel_eq) x
    have e2 : ∀ a, _ = _ := slot_emb (p := 16) (off := ![e, 0, Col.n0]) (d := ![16, 1024]) (sz := ![16, 4096]) (inb := inbs) (squeezes_S1x16x1024_S16x1024.numel_eq) x
    have h1 : (x 1 : ℕ) < 1024 := (x 1).isLt
    fin_cases a
    · refine (e2 0).trans (?_ : e + 0 = e % 16)
      omega
    · exact (e2 1).trans (e1 1).symm
    · have hn := Col.hn
      refine (e2 2).trans ((?_ : Col.n0 + (x 1 : ℕ) = (Col.n0 + (0 + (x 1 : ℕ))) % 4096).trans (congrArg (fun z => (Col.n0 + z) % 4096) (e1 2).symm))
      omega
  refine r_enq c (src := (A4.slice (Rect.unit (s := S16x16x4096) os S1x16x1024.size inbs) hr).squeeze S16x1024 squeezes_S1x16x1024_S16x1024)
    (dst := ((A11.slice (Rect.unit (s := S2x16x1024) od S1x16x1024.size inbd) hr').squeeze S16x1024 squeezes_S1x16x1024_S16x1024))
    (sem := ((cc0_scratch11.slice (Rect.unit (s := S2) om S1.size inbm)).squeeze S_ squeezes_S1_S_).sem)
    (k := k) (Q := Q) (hsrc := hsrc) (hdst := hdst) (hsem := hsem)
    (q := hsh s) (Ss := Finset.univ) (fs := X) (Sd := ax0 s) (fd := fd) NWS rfl posWS
    _ (sem_eq _ hs em) (DWS c X s e) (Finset.subset_univ _) hset.subset ?_
  unfold DWS
  exact sep_mono (Entails.of_eq (BI.Region.is_congr hfill)) .rfl

end Copies

end Cert.KernelIdeal.Run

end
-- ==== Proof.M.I.Words.lean ====
/-
  The kernel's word arithmetic in closed form: every index it computes is the word of a natural number.
-/
module

public import proofs.«01_k».proof.Proof.M.I.Slots

@[expose] public section

noncomputable section

namespace Cert.KernelIdeal.Run

open Cert.KernelIdeal Cert.KernelIdeal.Gen
open Idealize.ShloMosaic Idealize.ShloMosaic.ValueIdx
open Idealize.ShloMosaic.Affine

/-- The word of a natural number. -/
abbrev W (n : ℕ) : BitVec 32 := BitVec.ofNat 32 n

theorem toInt_of_isInt {x : BitVec 32} {e : ℤ} (h : IsInt x e) : x.toInt = e := by
  delta Affine.IsInt at h; exact h

theorem isW (n : ℕ) (h : n < 2 ^ 31) : IsInt (W n) (n : ℤ) := Affine.ofNat n ⟨rfl, h⟩

theorem W_of {x : BitVec 32} {e : ℤ} (n : ℕ) (h : IsInt x e) (he : e = n) (hn : n < 2 ^ 31) : x = W n :=
  BitVec.eq_of_toInt_eq (by rw [toInt_of_isInt h, toInt_of_isInt (isW n hn), he])

theorem W_toNat (n : ℕ) (h : n < 2 ^ 31) : (W n).toNat = n := by
  rw [BitVec.toNat_ofNat]; exact Nat.mod_eq_of_lt (by omega)

theorem W_inj {a b : ℕ} (ha : a < 2 ^ 31) (hb : b < 2 ^ 31) (h : W a = W b) : a = b := by
  rw [← W_toNat a ha, h, W_toNat b hb]

theorem w_add (a b : ℕ) (h : a + b < 2 ^ 31) : Scalar.addi (W a) (W b) = W (a + b) :=
  W_of _ (Affine.addi (isW a (by omega)) (isW b (by omega)) ⟨rfl, by omega, by omega⟩) (by push_cast; rfl) h

theorem w_mul (a b : ℕ) (ha : a < 2 ^ 31) (hb : b < 2 ^ 31) (h : a * b < 2 ^ 31) : Scalar.muli (W a) (W b) = W (a * b) := by
  have h' : ((a : ℤ) * b) < 2 ^ 31 := by exact_mod_cast h
  have h0 : (0 : ℤ) ≤ (a : ℤ) * b := by positivity
  exact W_of _ (Affine.muli (isW a ha) (isW b hb) ⟨rfl, by omega, h'⟩) (by push_cast; rfl) h

theorem w_sub (a b : ℕ) (ha : a < 2 ^ 31) (h : b ≤ a) : Scalar.subi (W a) (W b) = W (a - b) :=
  W_of _ (Affine.subi (isW a ha) (isW b (by omega)) ⟨rfl, by omega, by omega⟩) (by omega) (by omega)

theorem w_rem (a b : ℕ) (ha : a < 2 ^ 31) (hb : b < 2 ^ 31) (h0 : 0 < b) : Scalar.remsi (W a) (W b) = W (a % b) :=
  W_of _ (Affine.remsi (isW a ha) (isW b hb) ⟨rfl, by omega, by omega⟩) (by push_cast; rfl)
    (by have := Nat.mod_lt a h0; omega)

theorem w_div (a b : ℕ) (ha : a < 2 ^ 31) (hb : b < 2 ^ 31) (h0 : 0 < b) : Scalar.divsi (W a) (W b) = W (a / b) :=
  W_of _ (Affine.divsi (isW a ha) (isW b hb) ⟨rfl, by omega, by omega⟩) (by push_cast; rfl)
    (by have := Nat.div_le_self a b; omega)

theorem w_min (a b : ℕ) (ha : a < 2 ^ 31) (hb : b < 2 ^ 31) : Scalar.minsi (W a) (W b) = W (min a b) :=
  W_of _ (Affine.minsi (isW a ha) (isW b hb) rfl) (by push_cast; rfl) (by omega)

theorem w_max (a b : ℕ) (ha : a < 2 ^ 31) (hb : b < 2 ^ 31) : Scalar.maxsi (W a) (W b) = W (max a b) :=
  W_of _ (Affine.maxsi (isW a ha) (isW b hb) rfl) (by push_cast; rfl) (by omega)

theorem w_pred (a : ℕ) (ha : a < 2 ^ 31) : Scalar.maxsi (Scalar.subi (W a) 1#32) 0#32 = W (a - 1) :=
  W_of _ (Affine.maxsi (Affine.subi (isW a ha) (Affine.ofNat (e := 1) 1 ⟨rfl, by decide⟩) ⟨rfl, by omega, by omega⟩) (Affine.ofNat (e := 0) 0 ⟨rfl, by decide⟩) rfl)
    (by omega) (by omega)

theorem w_iv (t : ℕ) (h : t < 2 ^ 31) : Scf.iv 0#32 1#32 t = W t := by
  have := Affine.iv (Affine.ofNat (e := 0) 0 ⟨rfl, by decide⟩) (Affine.ofNat (e := 1) 1 ⟨rfl, by decide⟩) t (e := (t : ℤ))
  exact W_of _ (this (by first | omega | (refine ⟨by omega, by omega, by omega⟩))) rfl h

theorem w_lt (a b : ℕ) (ha : a < 2 ^ 31) (hb : b < 2 ^ 31) : Scalar.cmpi .slt (W a) (W b) = 1#1 ↔ a < b :=
  ⟨fun h => by by_contra h'; exact slt_fails (isW a ha) (isW b hb) (by omega) h, fun h => slt_holds (isW a ha) (isW b hb) (by omega)⟩
theorem w_ge (a b : ℕ) (ha : a < 2 ^ 31) (hb : b < 2 ^ 31) : Scalar.cmpi .sge (W a) (W b) = 1#1 ↔ b ≤ a :=
  ⟨fun h => by by_contra h'; exact sge_fails (isW a ha) (isW b hb) (by omega) h, fun h => sge_holds (isW a ha) (isW b hb) (by omega)⟩
theorem w_gt (a b : ℕ) (ha : a < 2 ^ 31) (hb : b < 2 ^ 31) : Scalar.cmpi .sgt (W a) (W b) = 1#1 ↔ b < a :=
  ⟨fun h => by by_contra h'; exact sgt_fails (isW a ha) (isW b hb) (by omega) h, fun h => sgt_holds (isW a ha) (isW b hb) (by omega)⟩
theorem w_eq (a b : ℕ) (ha : a < 2 ^ 31) (hb : b < 2 ^ 31) : Scalar.cmpi .eq (W a) (W b) = 1#1 ↔ a = b :=
  ⟨fun h => by by_contra h'; exact eq_fails (isW a ha) (isW b hb) (by omega) h, fun h => eq_holds (isW a ha) (isW b hb) (by omega)⟩
theorem w_ne (a b : ℕ) (ha : a < 2 ^ 31) (hb : b < 2 ^ 31) : Scalar.cmpi .ne (W a) (W b) = 1#1 ↔ a ≠ b :=
  ⟨fun h => fun h' => ne_fails (isW a ha) (isW b hb) (by omega) h, fun h => ne_holds (isW a ha) (isW b hb) (by omega)⟩

/-- A condition widened and compared with zero is the condition. -/
theorem w_cond (c : BitVec 1) : Scalar.cmpi .ne (Scalar.extui c) (0#32) = 1#1 ↔ c = 1#1 := by
  by_cases h : c = 1#1
  · exact iff_of_true (ne_holds (Affine.extui_holds h rfl) (Affine.ofNat (e := 0) 0 ⟨rfl, by decide⟩) (by decide)) h
  · exact iff_of_false (ne_fails (Affine.extui_fails h rfl) (Affine.ofNat (e := 0) 0 ⟨rfl, by decide⟩) rfl) h

theorem w_or (c d : BitVec 1) : Scalar.ori c d = 1#1 ↔ c = 1#1 ∨ d = 1#1 := by
  by_cases h : c = 1#1
  · exact iff_of_true (ori_holds_left h trivial) (.inl h)
  by_cases h' : d = 1#1
  · exact iff_of_true (ori_holds_right trivial h') (.inr h')
  · exact iff_of_false (ori_fails h h') (by tauto)

theorem w_and (c d : BitVec 1) : Scalar.andi c d = 1#1 ↔ c = 1#1 ∧ d = 1#1 := by
  by_cases h : c = 1#1
  · by_cases h' : d = 1#1
    · exact iff_of_true (andi_holds h h') ⟨h, h'⟩
    · exact iff_of_false (andi_fails_right trivial h') (by tauto)
  · exact iff_of_false (andi_fails_left h trivial) (by tauto)

/-- Division rounding down, as the kernel spells it. -/
abbrev fdw (x k : BitVec 32) : BitVec 32 :=
  Scalar.select (Scalar.andi (Scalar.cmpi .ne (Scalar.subi (Scalar.extui (Scalar.cmpi .sgt x 0#32)) (Scalar.extui (Scalar.cmpi .slt x 0#32)))
      (Scalar.subi (Scalar.extui (Scalar.cmpi .sgt k 0#32)) (Scalar.extui (Scalar.cmpi .slt k 0#32)))) (Scalar.cmpi .ne (Scalar.remsi x k) 0#32))
    (Scalar.subi (Scalar.divsi x k) 1#32) (Scalar.divsi x k)

theorem w_ext1 {c : BitVec 1} (h : c = 1#1) : (Scalar.extui c : BitVec 32) = W 1 := W_of 1 (Affine.extui_holds h rfl) rfl (by decide)
theorem w_ext0 {c : BitVec 1} (h : ¬c = 1#1) : (Scalar.extui c : BitVec 32) = W 0 := W_of 0 (Affine.extui_fails h rfl) rfl (by decide)

theorem w_sel1 {c : BitVec 1} {a b : BitVec 32} (h : c = 1#1) : Scalar.select c a b = a := by
  subst h; rfl
theorem w_sel0 {c : BitVec 1} {a b : BitVec 32} (h : ¬c = 1#1) : Scalar.select c a b = b := by
  have : c = 0#1 := by revert h; revert c; decide
  subst this; rfl

theorem w_fdiv (a b : ℕ) (ha : a < 2 ^ 31) (hb : b < 2 ^ 31) (h0 : 0 < b) : fdw (W a) (W b) = W (a / b) := by
  unfold fdw
  rw [w_div a b ha hb h0, w_rem a b ha hb h0]
  refine w_sel0 ?_
  rw [w_and]
  rw [w_ext1 (c := Scalar.cmpi .sgt (W b) 0#32) ((w_gt b 0 hb (by decide)).mpr h0),
    w_ext0 (c := Scalar.cmpi .slt (W b) 0#32) (fun h => absurd ((w_lt b 0 hb (by decide)).mp h) (by omega)),
    w_ext0 (c := Scalar.cmpi .slt (W a) 0#32) (fun h => absurd ((w_lt a 0 ha (by decide)).mp h) (by omega)), w_sub 1 0 (by decide) (by decide)]
  rintro ⟨h1, h2⟩
  rcases Nat.eq_zero_or_pos a with rfl | hp
  · have := (w_ne (0 % b) 0 (by simp) (by decide)).mp h2
    simp at this
  · rw [w_ext1 (c := Scalar.cmpi .sgt (W a) 0#32) ((w_gt a 0 ha (by decide)).mpr hp), w_sub 1 0 (by decide) (by decide)] at h1
    exact absurd rfl ((w_ne 1 1 (by decide) (by decide)).mp h1)

end Cert.KernelIdeal.Run

end
-- ==== Proof.M.I.Offs.lean ====
/-
  The kernel's offsets and conditions in closed form.
-/
module

public import proofs.«01_k».proof.Proof.M.I.Words

@[expose] public section

noncomputable section

namespace Cert.KernelIdeal.Run

open Cert.KernelIdeal Cert.KernelIdeal.Gen
open Idealize.ShloMosaic Idealize.ShloMosaic.ValueIdx
open Idealize.ShloMosaic.Affine

variable [Col]

theorem nW {x : BitVec 32} {n : ℕ} (h : x = W n) (hn : n < 2 ^ 31) : x.toNat = n := by rw [h, W_toNat n hn]

theorem o8 (v : BitVec 32) (t : Fin (k0_t4_loop v).trips) (ht : (t : ℕ) < 224) : k0_off8 v t = ![(t : ℕ)] :=
  congrArg (fun z : ℕ => ![z]) (nW (w_iv t (by omega)) (by omega))
theorem o59 (v : BitVec 32) (t : Fin (k0_t4_loop v).trips) (ht : (t : ℕ) < 224) : k0_off59 v t = ![(t : ℕ)] :=
  congrArg (fun z : ℕ => ![z]) (nW (w_iv t (by omega)) (by omega))
theorem o86 (v : BitVec 32) (t : Fin (k0_t4_loop v).trips) (ht : (t : ℕ) < 224) : k0_off86 v t = ![(t : ℕ)] :=
  congrArg (fun z : ℕ => ![z]) (nW (w_iv t (by omega)) (by omega))
theorem o87 (v : BitVec 32) (t : Fin (k0_t4_loop v).trips) (ht : (t : ℕ) < 224) : k0_off87 v t = ![(t : ℕ)] :=
  congrArg (fun z : ℕ => ![z]) (nW (w_iv t (by omega)) (by omega))
theorem o9 (v : BitVec 32) (t : Fin (k0_t4_loop v).trips) (ht : (t : ℕ) < 224) : k0_off9 v t = ![(t : ℕ) - 1] :=
  congrArg (fun z : ℕ => ![z]) (nW ((congrArg (fun z => Scalar.maxsi (Scalar.subi z 1#32) 0#32) (w_iv t (by omega))).trans (w_pred t (by omega))) (by omega))
theorem o10 (v : BitVec 32) (t : Fin (k0_t4_loop v).trips) (ht : (t : ℕ) < 224) : k0_off10 v t = ![(t : ℕ) + 1] :=
  congrArg (fun z : ℕ => ![z]) (nW ((congrArg (fun z => Scalar.addi z 1#32) (w_iv t (by omega))).trans (w_add t 1 (by omega))) (by omega))
theorem o60 (v : BitVec 32) (t : Fin (k0_t4_loop v).trips) (ht : (t : ℕ) < 224) : k0_off60 v t = ![(t : ℕ) % 2] :=
  congrArg (fun z : ℕ => ![z]) (nW ((congrArg (fun z => Scalar.remsi z 2#32) (w_iv t (by omega))).trans (w_rem t 2 (by omega) (by decide) (by decide))) (by omega))
theorem o61 (v : BitVec 32) (t : Fin (k0_t4_loop v).trips) (ht : (t : ℕ) < 224) : k0_off61 v t = ![(t : ℕ) % 2, 0, 0] :=
  congrArg (fun z : ℕ => ![z, 0, 0]) (nW ((congrArg (fun z => Scalar.remsi z 2#32) (w_iv t (by omega))).trans (w_rem t 2 (by omega) (by decide) (by decide))) (by omega))
theorem o63 (v : BitVec 32) (t : Fin (k0_t4_loop v).trips) (ht : (t : ℕ) < 224) : k0_off63 v t = ![(t : ℕ) % 2, 0, 0, 0] :=
  congrArg (fun z : ℕ => ![z, 0, 0, 0]) (nW ((congrArg (fun z => Scalar.remsi z 2#32) (w_iv t (by omega))).trans (w_rem t 2 (by omega) (by decide) (by decide))) (by omega))
theorem o67 (v : BitVec 32) (t : Fin (k0_t4_loop v).trips) (ht : (t : ℕ) < 224) : k0_off67 v t = ![(t : ℕ) % 2] :=
  congrArg (fun z : ℕ => ![z]) (nW ((congrArg (fun z => Scalar.remsi z 2#32) (w_iv t (by omega))).trans (w_rem t 2 (by omega) (by decide) (by decide))) (by omega))
theorem o69 (v : BitVec 32) (t : Fin (k0_t4_loop v).trips) (ht : (t : ℕ) < 224) : k0_off69 v t = ![(t : ℕ) % 2, 0, 0] :=
  congrArg (fun z : ℕ => ![z, 0, 0]) (nW ((congrArg (fun z => Scalar.remsi z 2#32) (w_iv t (by omega))).trans (w_rem t 2 (by omega) (by decide) (by decide))) (by omega))
theorem o70 (v : BitVec 32) (t : Fin (k0_t4_loop v).trips) (ht : (t : ℕ) < 224) : k0_off70 v t = ![(t : ℕ) % 2, 0, 0, 0] :=
  congrArg (fun z : ℕ => ![z, 0, 0, 0]) (nW ((congrArg (fun z => Scalar.remsi z 2#32) (w_iv t (by omega))).trans (w_rem t 2 (by omega) (by decide) (by decide))) (by omega))
theorem o71 (v : BitVec 32) (t : Fin (k0_t4_loop v).trips) (ht : (t : ℕ) < 224) : k0_off71 v t = ![(t : ℕ) % 2, 0, 0] :=
  congrArg (fun z : ℕ => ![z, 0, 0]) (nW ((congrArg (fun z => Scalar.remsi z 2#32) (w_iv t (by omega))).trans (w_rem t 2 (by omega) (by decide) (by decide))) (by omega))
theorem o72 (v : BitVec 32) (t : Fin (k0_t4_loop v).trips) (ht : (t : ℕ) < 224) : k0_off72 v t = ![(t : ℕ) % 2, 1, 0, 0] :=
  congrArg (fun z : ℕ => ![z, 1, 0, 0]) (nW ((congrArg (fun z => Scalar.remsi z 2#32) (w_iv t (by omega))).trans (w_rem t 2 (by omega) (by decide) (by decide))) (by omega))
theorem o73 (v : BitVec 32) (t : Fin (k0_t4_loop v).trips) (ht : (t : ℕ) < 224) : k0_off73 v t = ![(t : ℕ) % 2, 128, 0] :=
  congrArg (fun z : ℕ => ![z, 128, 0]) (nW ((congrArg (fun z => Scalar.remsi z 2#32) (w_iv t (by omega))).trans (w_rem t 2 (by omega) (by decide) (by decide))) (by omega))
theorem o74 (v : BitVec 32) (t : Fin (k0_t4_loop v).trips) (ht : (t : ℕ) < 224) : k0_off74 v t = ![(t : ℕ) % 2, 2, 0, 0] :=
  congrArg (fun z : ℕ => ![z, 2, 0, 0]) (nW ((congrArg (fun z => Scalar.remsi z 2#32) (w_iv t (by omega))).trans (w_rem t 2 (by omega) (by decide) (by decide))) (by omega))
theorem o75 (v : BitVec 32) (t : Fin (k0_t4_loop v).trips) (ht : (t : ℕ) < 224) : k0_off75 v t = ![(t : ℕ) % 2, 256, 0] :=
  congrArg (fun z : ℕ => ![z, 256, 0]) (nW ((congrArg (fun z => Scalar.remsi z 2#32) (w_iv t (by omega))).trans (w_rem t 2 (by omega) (by decide) (by decide))) (by omega))
theorem o76 (v : BitVec 32) (t : Fin (k0_t4_loop v).trips) (ht : (t : ℕ) < 224) : k0_off76 v t = ![(t : ℕ) % 2, 3, 0, 0] :=
  congrArg (fun z : ℕ => ![z, 3, 0, 0]) (nW ((congrArg (fun z => Scalar.remsi z 2#32) (w_iv t (by omega))).trans (w_rem t 2 (by omega) (by decide) (by decide))) (by omega))
theorem o77 (v : BitVec 32) (t : Fin (k0_t4_loop v).trips) (ht : (t : ℕ) < 224) : k0_off77 v t = ![(t : ℕ) % 2, 384, 0] :=
  congrArg (fun z : ℕ => ![z, 384, 0]) (nW ((congrArg (fun z => Scalar.remsi z 2#32) (w_iv t (by omega))).trans (w_rem t 2 (by omega) (by decide) (by decide))) (by omega))
theorem o78 (v : BitVec 32) (t : Fin (k0_t4_loop v).trips) (ht : (t : ℕ) < 224) : k0_off78 v t = ![(t : ℕ) % 2, 0, 0] :=
  congrArg (fun z : ℕ => ![z, 0, 0]) (nW ((congrArg (fun z => Scalar.remsi z 2#32) (w_iv t (by omega))).trans (w_rem t 2 (by omega) (by decide) (by decide))) (by omega))
theorem o79 (v : BitVec 32) (t : Fin (k0_t4_loop v).trips) (ht : (t : ℕ) < 224) : k0_off79 v t = ![(t : ℕ) % 2, 1, 0] :=
  congrArg (fun z : ℕ => ![z, 1, 0]) (nW ((congrArg (fun z => Scalar.remsi z 2#32) (w_iv t (by omega))).trans (w_rem t 2 (by omega) (by decide) (by decide))) (by omega))
theorem o80 (v : BitVec 32) (t : Fin (k0_t4_loop v).trips) (ht : (t : ℕ) < 224) : k0_off80 v t = ![(t : ℕ) % 2, 2, 0] :=
  congrArg (fun z : ℕ => ![z, 2, 0]) (nW ((congrArg (fun z => Scalar.remsi z 2#32) (w_iv t (by omega))).trans (w_rem t 2 (by omega) (by decide) (by decide))) (by omega))
theorem o81 (v : BitVec 32) (t : Fin (k0_t4_loop v).trips) (ht : (t : ℕ) < 224) : k0_off81 v t = ![(t : ℕ) % 2, 3, 0] :=
  congrArg (fun z : ℕ => ![z, 3, 0]) (nW ((congrArg (fun z => Scalar.remsi z 2#32) (w_iv t (by omega))).trans (w_rem t 2 (by omega) (by decide) (by decide))) (by omega))
theorem o82 (v : BitVec 32) (t : Fin (k0_t4_loop v).trips) (ht : (t : ℕ) < 224) : k0_off82 v t = ![(t : ℕ) % 2, 4, 0] :=
  congrArg (fun z : ℕ => ![z, 4, 0]) (nW ((congrArg (fun z => Scalar.remsi z 2#32) (w_iv t (by omega))).trans (w_rem t 2 (by omega) (by decide) (by decide))) (by omega))
theorem o83 (v : BitVec 32) (t : Fin (k0_t4_loop v).trips) (ht : (t : ℕ) < 224) : k0_off83 v t = ![(t : ℕ) % 2, 5, 0] :=
  congrArg (fun z : ℕ => ![z, 5, 0]) (nW ((congrArg (fun z => Scalar.remsi z 2#32) (w_iv t (by omega))).trans (w_rem t 2 (by omega) (by decide) (by decide))) (by omega))
theorem o84 (v : BitVec 32) (t : Fin (k0_t4_loop v).trips) (ht : (t : ℕ) < 224) : k0_off84 v t = ![(t : ℕ) % 2, 6, 0] :=
  congrArg (fun z : ℕ => ![z, 6, 0]) (nW ((congrArg (fun z => Scalar.remsi z 2#32) (w_iv t (by omega))).trans (w_rem t 2 (by omega) (by decide) (by decide))) (by omega))
theorem o85 (v : BitVec 32) (t : Fin (k0_t4_loop v).trips) (ht : (t : ℕ) < 224) : k0_off85 v t = ![(t : ℕ) % 2, 7, 0] :=
  congrArg (fun z : ℕ => ![z, 7, 0]) (nW ((congrArg (fun z => Scalar.remsi z 2#32) (w_iv t (by omega))).trans (w_rem t 2 (by omega) (by decide) (by decide))) (by omega))
theorem o88 (v : BitVec 32) (t : Fin (k0_t4_loop v).trips) (ht : (t : ℕ) < 224) : k0_off88 v t = ![(t : ℕ) % 2] :=
  congrArg (fun z : ℕ => ![z]) (nW ((congrArg (fun z => Scalar.remsi z 2#32) (w_iv t (by omega))).trans (w_rem t 2 (by omega) (by decide) (by decide))) (by omega))
theorem o90 (v : BitVec 32) (t : Fin (k0_t4_loop v).trips) (ht : (t : ℕ) < 224) : k0_off90 v t = ![(t : ℕ) % 2, 0, 0] :=
  congrArg (fun z : ℕ => ![z, 0, 0]) (nW ((congrArg (fun z => Scalar.remsi z 2#32) (w_iv t (by omega))).trans (w_rem t 2 (by omega) (by decide) (by decide))) (by omega))
theorem o11 (v : BitVec 32) (t : Fin (k0_t4_loop v).trips) (ht : (t : ℕ) < 224) : k0_off11 v t = ![1 - (t : ℕ) % 2] :=
  congrArg (fun z : ℕ => ![z]) (nW ((congrArg (fun z => Scalar.subi 1#32 z) ((congrArg (fun z => Scalar.remsi z 2#32) (w_iv t (by omega))).trans (w_rem t 2 (by omega) (by decide) (by decide)))).trans (w_sub 1 ((t : ℕ) % 2) (by decide) (by omega))) (by omega))
theorem o12 (v : BitVec 32) (t : Fin (k0_t4_loop v).trips) (ht : (t : ℕ) < 224) : k0_off12 v t = ![1 - (t : ℕ) % 2, 0, 0] :=
  congrArg (fun z : ℕ => ![z, 0, 0]) (nW ((congrArg (fun z => Scalar.subi 1#32 z) ((congrArg (fun z => Scalar.remsi z 2#32) (w_iv t (by omega))).trans (w_rem t 2 (by omega) (by decide) (by decide)))).trans (w_sub 1 ((t : ℕ) % 2) (by decide) (by omega))) (by omega))
theorem o14 (v : BitVec 32) (t : Fin (k0_t4_loop v).trips) (ht : (t : ℕ) < 224) : k0_off14 v t = ![1 - (t : ℕ) % 2, 0, 0, 0] :=
  congrArg (fun z : ℕ => ![z, 0, 0, 0]) (nW ((congrArg (fun z => Scalar.subi 1#32 z) ((congrArg (fun z => Scalar.remsi z 2#32) (w_iv t (by omega))).trans (w_rem t 2 (by omega) (by decide) (by decide)))).trans (w_sub 1 ((t : ℕ) % 2) (by decide) (by omega))) (by omega))
theorem o65 (v : BitVec 32) (t : Fin (k0_t4_loop v).trips) (ht : (t : ℕ) < 224) (h2 : 2 ≤ (t : ℕ)) : k0_off65 v t = ![(t : ℕ) - 2] :=
  congrArg (fun z : ℕ => ![z]) (nW ((congrArg (fun z => Scalar.subi z 2#32) (w_iv t (by omega))).trans (w_sub t 2 (by omega) h2)) (by omega))
theorem o66 (v : BitVec 32) (t : Fin (k0_t4_loop v).trips) (ht : (t : ℕ) < 224) (h2 : 2 ≤ (t : ℕ)) : k0_off66 v t = ![(t : ℕ) - 2] :=
  congrArg (fun z : ℕ => ![z]) (nW ((congrArg (fun z => Scalar.subi z 2#32) (w_iv t (by omega))).trans (w_sub t 2 (by omega) h2)) (by omega))
theorem o174 (n : ℕ) (hn : n < 224) (h2 : 2 ≤ n) : k0_off174 (W n) = ![n - 2] :=
  congrArg (fun z : ℕ => ![z]) (nW (w_sub n 2 (by omega) h2) (by omega))
theorem o175 (n : ℕ) (hn : n < 224) (h2 : 2 ≤ n) : k0_off175 (W n) = ![n - 2] :=
  congrArg (fun z : ℕ => ![z]) (nW (w_sub n 2 (by omega) h2) (by omega))
theorem o176 (n : ℕ) (hn : n < 224) : k0_off176 (W n) = ![n % 2] :=
  congrArg (fun z : ℕ => ![z]) (nW (w_rem n 2 (by omega) (by decide) (by decide)) (by omega))
theorem o178 (n : ℕ) (hn : n < 224) : k0_off178 (W n) = ![n % 2, 0, 0] :=
  congrArg (fun z : ℕ => ![z, 0, 0]) (nW (w_rem n 2 (by omega) (by decide) (by decide)) (by omega))
theorem o179 (n : ℕ) (hn : n < 224) (h2 : 1 ≤ n) : k0_off179 (W n) = ![n - 1] :=
  congrArg (fun z : ℕ => ![z]) (nW (w_sub n 1 (by omega) h2) (by omega))
theorem o180 (n : ℕ) (hn : n < 224) (h2 : 1 ≤ n) : k0_off180 (W n) = ![n - 1] :=
  congrArg (fun z : ℕ => ![z]) (nW (w_sub n 1 (by omega) h2) (by omega))
theorem o181 (n : ℕ) (hn : n < 224) (h2 : 1 ≤ n) : k0_off181 (W n) = ![(n - 1) % 2] :=
  congrArg (fun z : ℕ => ![z]) (nW ((congrArg (fun z => Scalar.remsi z 2#32) (w_sub n 1 (by omega) h2)).trans (w_rem (n - 1) 2 (by omega) (by decide) (by decide))) (by omega))
theorem o183 (n : ℕ) (hn : n < 224) (h2 : 1 ≤ n) : k0_off183 (W n) = ![(n - 1) % 2, 0, 0] :=
  congrArg (fun z : ℕ => ![z, 0, 0]) (nW ((congrArg (fun z => Scalar.remsi z 2#32) (w_sub n 1 (by omega) h2)).trans (w_rem (n - 1) 2 (by omega) (by decide) (by decide))) (by omega))
theorem o16 (a : ℕ) (ha : a < 2) : k0_off16 (W a) = ![a] :=
  congrArg (fun z : ℕ => ![z]) (nW rfl (by omega))
theorem o17 (a : ℕ) (ha : a < 2) : k0_off17 (W a) = ![a, 0, 0] :=
  congrArg (fun z : ℕ => ![z, 0, 0]) (nW rfl (by omega))
theorem o19 (a : ℕ) (ha : a < 2) : k0_off19 (W a) = ![a, 0, 0] :=
  congrArg (fun z : ℕ => ![z, 0, 0]) (nW rfl (by omega))
theorem o27 (a : ℕ) (ha : a < 2) : k0_off27 (W a) = ![a, 0, 0] :=
  congrArg (fun z : ℕ => ![z, 0, 0]) (nW rfl (by omega))
theorem o28 (a : ℕ) (ha : a < 2) : k0_off28 (W a) = ![a, 0, 0] :=
  congrArg (fun z : ℕ => ![z, 0, 0]) (nW rfl (by omega))
theorem o29 (a : ℕ) (ha : a < 2) : k0_off29 (W a) = ![a, 64, 0] :=
  congrArg (fun z : ℕ => ![z, 64, 0]) (nW rfl (by omega))
theorem o30 (a : ℕ) (ha : a < 2) : k0_off30 (W a) = ![a, 1, 0] :=
  congrArg (fun z : ℕ => ![z, 1, 0]) (nW rfl (by omega))
theorem o31 (a : ℕ) (ha : a < 2) : k0_off31 (W a) = ![a, 128, 0] :=
  congrArg (fun z : ℕ => ![z, 128, 0]) (nW rfl (by omega))
theorem o32 (a : ℕ) (ha : a < 2) : k0_off32 (W a) = ![a, 2, 0] :=
  congrArg (fun z : ℕ => ![z, 2, 0]) (nW rfl (by omega))
theorem o33 (a : ℕ) (ha : a < 2) : k0_off33 (W a) = ![a, 192, 0] :=
  congrArg (fun z : ℕ => ![z, 192, 0]) (nW rfl (by omega))
theorem o34 (a : ℕ) (ha : a < 2) : k0_off34 (W a) = ![a, 3, 0] :=
  congrArg (fun z : ℕ => ![z, 3, 0]) (nW rfl (by omega))
theorem o35 (a : ℕ) (ha : a < 2) : k0_off35 (W a) = ![a, 256, 0] :=
  congrArg (fun z : ℕ => ![z, 256, 0]) (nW rfl (by omega))
theorem o36 (a : ℕ) (ha : a < 2) : k0_off36 (W a) = ![a, 4, 0] :=
  congrArg (fun z : ℕ => ![z, 4, 0]) (nW rfl (by omega))
theorem o37 (a : ℕ) (ha : a < 2) : k0_off37 (W a) = ![a, 320, 0] :=
  congrArg (fun z : ℕ => ![z, 320, 0]) (nW rfl (by omega))
theorem o38 (a : ℕ) (ha : a < 2) : k0_off38 (W a) = ![a, 5, 0] :=
  congrArg (fun z : ℕ => ![z, 5, 0]) (nW rfl (by omega))
theorem o39 (a : ℕ) (ha : a < 2) : k0_off39 (W a) = ![a, 384, 0] :=
  congrArg (fun z : ℕ => ![z, 384, 0]) (nW rfl (by omega))
theorem o40 (a : ℕ) (ha : a < 2) : k0_off40 (W a) = ![a, 6, 0] :=
  congrArg (fun z : ℕ => ![z, 6, 0]) (nW rfl (by omega))
theorem o41 (a : ℕ) (ha : a < 2) : k0_off41 (W a) = ![a, 448, 0] :=
  congrArg (fun z : ℕ => ![z, 448, 0]) (nW rfl (by omega))
theorem o42 (a : ℕ) (ha : a < 2) : k0_off42 (W a) = ![a, 7, 0] :=
  congrArg (fun z : ℕ => ![z, 7, 0]) (nW rfl (by omega))
theorem o43 (a : ℕ) (ha : a < 2) : k0_off43 (W a) = ![a, 512, 0] :=
  congrArg (fun z : ℕ => ![z, 512, 0]) (nW rfl (by omega))
theorem o44 (a : ℕ) (ha : a < 2) : k0_off44 (W a) = ![a, 8, 0] :=
  congrArg (fun z : ℕ => ![z, 8, 0]) (nW rfl (by omega))
theorem o45 (a : ℕ) (ha : a < 2) : k0_off45 (W a) = ![a, 576, 0] :=
  congrArg (fun z : ℕ => ![z, 576, 0]) (nW rfl (by omega))
theorem o46 (a : ℕ) (ha : a < 2) : k0_off46 (W a) = ![a, 9, 0] :=
  congrArg (fun z : ℕ => ![z, 9, 0]) (nW rfl (by omega))
theorem o47 (a : ℕ) (ha : a < 2) : k0_off47 (W a) = ![a, 640, 0] :=
  congrArg (fun z : ℕ => ![z, 640, 0]) (nW rfl (by omega))
theorem o48 (a : ℕ) (ha : a < 2) : k0_off48 (W a) = ![a, 10, 0] :=
  congrArg (fun z : ℕ => ![z, 10, 0]) (nW rfl (by omega))
theorem o49 (a : ℕ) (ha : a < 2) : k0_off49 (W a) = ![a, 704, 0] :=
  congrArg (fun z : ℕ => ![z, 704, 0]) (nW rfl (by omega))
theorem o50 (a : ℕ) (ha : a < 2) : k0_off50 (W a) = ![a, 11, 0] :=
  congrArg (fun z : ℕ => ![z, 11, 0]) (nW rfl (by omega))
theorem o51 (a : ℕ) (ha : a < 2) : k0_off51 (W a) = ![a, 768, 0] :=
  congrArg (fun z : ℕ => ![z, 768, 0]) (nW rfl (by omega))
theorem o52 (a : ℕ) (ha : a < 2) : k0_off52 (W a) = ![a, 12, 0] :=
  congrArg (fun z : ℕ => ![z, 12, 0]) (nW rfl (by omega))
theorem o53 (a : ℕ) (ha : a < 2) : k0_off53 (W a) = ![a, 832, 0] :=
  congrArg (fun z : ℕ => ![z, 832, 0]) (nW rfl (by omega))
theorem o54 (a : ℕ) (ha : a < 2) : k0_off54 (W a) = ![a, 13, 0] :=
  congrArg (fun z : ℕ => ![z, 13, 0]) (nW rfl (by omega))
theorem o55 (a : ℕ) (ha : a < 2) : k0_off55 (W a) = ![a, 896, 0] :=
  congrArg (fun z : ℕ => ![z, 896, 0]) (nW rfl (by omega))
theorem o56 (a : ℕ) (ha : a < 2) : k0_off56 (W a) = ![a, 14, 0] :=
  congrArg (fun z : ℕ => ![z, 14, 0]) (nW rfl (by omega))
theorem o57 (a : ℕ) (ha : a < 2) : k0_off57 (W a) = ![a, 960, 0] :=
  congrArg (fun z : ℕ => ![z, 960, 0]) (nW rfl (by omega))
theorem o58 (a : ℕ) (ha : a < 2) : k0_off58 (W a) = ![a, 15, 0] :=
  congrArg (fun z : ℕ => ![z, 15, 0]) (nW rfl (by omega))
theorem o22 (a : ℕ) (ha : a < 2) : k0_off22 (W a) = ![1 - a] :=
  congrArg (fun z : ℕ => ![z]) (nW (w_sub 1 a (by decide) (by omega)) (by omega))
theorem o23 (a : ℕ) (ha : a < 2) : k0_off23 (W a) = ![1 - a, 0, 0] :=
  congrArg (fun z : ℕ => ![z, 0, 0]) (nW (w_sub 1 a (by decide) (by omega)) (by omega))
theorem o25 (a : ℕ) (ha : a < 2) : k0_off25 (W a) = ![1 - a, 0, 0] :=
  congrArg (fun z : ℕ => ![z, 0, 0]) (nW (w_sub 1 a (by decide) (by omega)) (by omega))
theorem o4 (e : ℕ) (he : e < 2 ^ 31) : k0_off4 (W e) = ![e, 0, Col.n0] :=
  congrArg (fun z : ℕ => ![z, 0, Col.n0]) (nW rfl (he))
theorem o5 (e : ℕ) (he : e < 2 ^ 31) : k0_off5 (W e) = ![e, 0, Col.n0] :=
  congrArg (fun z : ℕ => ![z, 0, Col.n0]) (nW rfl (he))
theorem o18 (e : ℕ) (he : e < 2 ^ 31) : k0_off18 (W e) = ![e, 0, Col.n0] :=
  congrArg (fun z : ℕ => ![z, 0, Col.n0]) (nW rfl (he))
theorem o20 (e : ℕ) (he : e < 2 ^ 31) : k0_off20 (W e) = ![e, 0, Col.n0] :=
  congrArg (fun z : ℕ => ![z, 0, Col.n0]) (nW rfl (he))
theorem o24 (e : ℕ) (he : e < 2 ^ 31) : k0_off24 (W e) = ![e, 0, Col.n0] :=
  congrArg (fun z : ℕ => ![z, 0, Col.n0]) (nW rfl (he))
theorem o26 (e : ℕ) (he : e < 2 ^ 31) : k0_off26 (W e) = ![e, 0, Col.n0] :=
  congrArg (fun z : ℕ => ![z, 0, Col.n0]) (nW rfl (he))
theorem o21 (k : Fin k0_t5_loop.trips) (hk : (k : ℕ) < 16) : k0_off21 k = ![15 - (k : ℕ)] :=
  congrArg (fun z : ℕ => ![z]) (nW ((congrArg (fun z => Scalar.subi 15#32 z) (w_iv k (by omega))).trans (w_sub 15 k (by decide) (by omega))) (by omega))
theorem o1 (k : Fin k0_t1_loop.trips) (hk : (k : ℕ) < 16) : k0_off1 k = ![(k : ℕ)] :=
  congrArg (fun z : ℕ => ![z]) (nW (w_iv k (by omega)) (by omega))
theorem o2 (v w x : BitVec 32) (k : Fin (k0_t2_loop v x).trips) (m : ℕ) (hw : w = W m) (hk : m + (k : ℕ) < 224) : k0_off2 v w x k = ![m + (k : ℕ)] :=
  congrArg (fun z : ℕ => ![z]) (nW ((congrArg₂ Scalar.addi hw (w_iv k (by omega))).trans (w_add m k (by omega))) (by omega))
theorem o6 (r : ℕ) (hr : r < 2 ^ 31) : k0_off6 (W r) = ![min r 97792, 0] :=
  congrArg (fun z : ℕ => ![z, 0]) (nW (w_min r 97792 hr (by decide)) (by omega))
theorem o7 (r : ℕ) (hr : r < 2 ^ 31) : k0_off7 (W r) = ![min r 97792 / 128, 0, 0] :=
  congrArg (fun z : ℕ => ![z, 0, 0]) (nW ((congrArg (fun z => fdw z 128#32) (w_min r 97792 hr (by decide))).trans (w_fdiv _ 128 (by omega) (by decide) (by decide))) (by omega))
theorem o13 (r : ℕ) (hr : r < 2 ^ 31) : k0_off13 (W r) = ![min r 97792, 0] := o6 r hr
theorem o62 (r : ℕ) (hr : r < 2 ^ 31) : k0_off62 (W r) = ![min r 97792, 0] := o6 r hr
theorem o15 (r : ℕ) (hr : r < 2 ^ 31) : k0_off15 (W r) = ![min r 97792 / 128, 0, 0] := o7 r hr
theorem o64 (r : ℕ) (hr : r < 2 ^ 31) : k0_off64 (W r) = ![min r 97792 / 128, 0, 0] := o7 r hr

theorem w_row (r e : ℕ) (hr : r < 2 ^ 31) (he : e < 16) : Scalar.muli (Scalar.addi (Scalar.minsi (W r) 97792#32) (Scalar.muli (W e) 1152#32)) 8#32
    = W ((min r 97792 + e * 1152) * 8) := by
  rw [w_min r 97792 hr (by decide), w_mul e 1152 (by omega) (by decide) (by omega), w_add _ _ (by omega), w_mul _ 8 (by omega) (by decide) (by omega)]
theorem o89 (r e : ℕ) (hr : r < 2 ^ 31) (he : e < 16) : k0_off89 (W r) (W e) = ![(min r 97792 + e * 1152) * 8, 0] :=
  congrArg (fun z : ℕ => ![z, 0]) (nW (w_row r e hr he) (by omega))
theorem o68 (r e : ℕ) (hr : r < 2 ^ 31) (he : e < 16) : k0_off68 (W r) (W e) = ![(min r 97792 + e * 1152) * 8, 0] := o89 r e hr he
theorem o177 (r e : ℕ) (hr : r < 2 ^ 31) (he : e < 16) : k0_off177 (W r) (W e) = ![(min r 97792 + e * 1152) * 8, 0] := o89 r e hr he
theorem o182 (r e : ℕ) (hr : r < 2 ^ 31) (he : e < 16) : k0_off182 (W r) (W e) = ![(min r 97792 + e * 1152) * 8, 0] := o89 r e hr he

theorem c1 (n : ℕ) (hn : n < 224) (t : Fin (k0_t4_loop (W n)).trips) (ht : (t : ℕ) < 224) : k0_cond1 (W n) t = 1#1 ↔ (t : ℕ) + 1 < n := by
  refine (w_cond _).trans ?_
  show Scalar.cmpi .slt (Scalar.addi (Scf.iv 0#32 1#32 t) 1#32) (W n) = 1#1 ↔ _
  rw [w_iv _ (by omega), w_add _ 1 (by omega), w_lt _ _ (by omega) (by omega)]
theorem c2 (n : ℕ) (t : Fin (k0_t4_loop (W n)).trips) (ht : (t : ℕ) < 224) (e e' : ℕ) (he : e < 2 ^ 31) (he' : e' < 2 ^ 31) :
    k0_cond2 (W n) t (W e) (W e') = 1#1 ↔ ((t : ℕ) = 0 ∨ e' ≠ e) := by
  refine (w_cond _).trans ?_
  show Scalar.ori (Scalar.cmpi .eq (Scf.iv 0#32 1#32 t) 0#32) (Scalar.cmpi .ne (W e') (W e)) = 1#1 ↔ _
  rw [w_or, w_iv _ (by omega), w_eq _ 0 (by omega) (by decide), w_ne _ _ he' he]
theorem c3 (x : ℕ) (hx : x < 2 ^ 31) : k0_cond3 (W x) = 1#1 ↔ x < 16 := by
  refine (w_cond _).trans ?_
  exact w_lt x 16 hx (by decide)
theorem c4 (n : ℕ) (t : Fin (k0_t4_loop (W n)).trips) (ht : (t : ℕ) < 224) : k0_cond4 (W n) t = 1#1 ↔ 2 ≤ (t : ℕ) := by
  refine (w_cond _).trans ?_
  show Scalar.cmpi .sge (Scf.iv 0#32 1#32 t) 2#32 = 1#1 ↔ _
  rw [w_iv _ (by omega), w_ge _ 2 (by omega) (by decide)]
theorem c9 (n : ℕ) (hn : n < 224) : k0_cond9 (W n) = 1#1 ↔ 2 ≤ n := by
  refine (w_cond _).trans ?_
  exact w_ge n 2 (by omega) (by decide)

/-! ## Loops -/

theorem t4_ub (n : ℕ) (hn : n < 224) : (k0_t4_loop (W n)).ub = W n := by
  show Scalar.addi (W 0) (Scalar.muli (Scalar.divsi (Scalar.subi (W n) (W 0)) (W 1)) (W 1)) = W n
  rw [w_sub n 0 (by omega) (by omega), w_div _ 1 (by omega) (by decide) (by decide), w_mul _ 1 (by simp; omega) (by decide) (by simp; omega), w_add _ _ (by simp; omega)]
  simp
theorem t4_trips (n : ℕ) (hn : n < 224) : (k0_t4_loop (W n)).trips = n := by
  show Scf.trips (0#32) (k0_t4_loop (W n)).ub (1#32) = n
  rw [t4_ub n hn]
  exact trips_eq (isW 0 (by decide)) (isW n (by omega)) (isW 1 (by decide)) n (by simp)
theorem t6_trips (n : ℕ) (hn : n < 224) : (k0_t6_loop (W n)).trips = 0 := by
  show Scf.trips (k0_t4_loop (W n)).ub (Scalar.addi (W 0) (Scalar.subi (W n) (W 0))) (1#32) = 0
  rw [t4_ub n hn, w_sub n 0 (by omega) (by omega), w_add _ _ (by simp; omega)]
  exact trips_eq (isW n (by omega)) (isW _ (by simp; omega)) (isW 1 (by decide)) 0 (by simp)

end Cert.KernelIdeal.Run

end
-- ==== Proof.M.I.Chk.lean ====
/-
  The kernel's side conditions: offsets in bounds, whole words, loops that have a meaning.
-/
module

public import proofs.«01_k».proof.Proof.M.I.Offs

@[expose] public section

noncomputable section

namespace Cert.KernelIdeal.Run

open Cert.KernelIdeal Cert.KernelIdeal.Gen
open Idealize.ShloMosaic Idealize.ShloMosaic.ValueIdx
open Idealize.ShloMosaic.Affine

variable [Col]

theorem t4_ok (n : ℕ) (hn : n < 224) : (k0_t4_loop (W n)).OK := by
  show Scf.OK (0#32) (k0_t4_loop (W n)).ub (1#32)
  rw [t4_ub n hn]
  exact ok (isW 0 (by decide)) (isW n (by omega)) (isW 1 (by decide)) (by constructor <;> simp <;> omega)
theorem t6_ok (n : ℕ) (hn : n < 224) : (k0_t6_loop (W n)).OK := by
  show Scf.OK (k0_t4_loop (W n)).ub (Scalar.addi (W 0) (Scalar.subi (W n) (W 0))) (1#32)
  rw [t4_ub n hn, w_sub n 0 (by omega) (by omega), w_add _ _ (by simp; omega)]
  exact ok (isW n (by omega)) (isW _ (by simp; omega)) (isW 1 (by decide)) (by constructor <;> simp <;> omega)

set_option maxHeartbeats 1000000 in
theorem chk4_0 (n : ℕ) (h1 : 1 ≤ n) (hn : n < 224) : k0_chk4_0 (W n) := by
  unfold k0_chk4_0
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact t4_ok n hn
  · intro t; have ht : (t : ℕ) < 224 := by { have h := t4_trips n hn; have h' := t.isLt; omega }; rw [o8 _ t ht]; intro a; fin_cases a <;> simp <;> omega
  · intro t; have ht : (t : ℕ) < 224 := by { have h := t4_trips n hn; have h' := t.isLt; omega }; rw [o9 _ t ht]; intro a; fin_cases a <;> simp <;> omega
  · intro t; have ht : (t : ℕ) < 224 := by { have h := t4_trips n hn; have h' := t.isLt; omega }; intro h1; rw [c1 n hn t ht] at h1; rw [o10 _ t ht]; intro a; fin_cases a <;> simp <;> omega
  · intro t; have ht : (t : ℕ) < 224 := by { have h := t4_trips n hn; have h' := t.isLt; omega }; intro h1; rw [c1 n hn t ht] at h1; rw [o11 _ t ht]; intro a; fin_cases a <;> simp <;> omega
  · intro t; have ht : (t : ℕ) < 224 := by { have h := t4_trips n hn; have h' := t.isLt; omega }; intro h1; rw [c1 n hn t ht] at h1; rw [o12 _ t ht]; intro a; fin_cases a <;> simp <;> omega
  · intro t; have ht : (t : ℕ) < 224 := by { have h := t4_trips n hn; have h' := t.isLt; omega }; intro h1; rw [c1 n hn t ht] at h1; intro hinb; exact words_rows (by decide) (by rw [o12 _ t ht]; rfl) rfl
  · intro t; have ht : (t : ℕ) < 224 := by { have h := t4_trips n hn; have h' := t.isLt; omega }; intro h1; rw [c1 n hn t ht] at h1; rw [o14 _ t ht]; intro a; fin_cases a <;> simp <;> omega
  · intro t; have ht : (t : ℕ) < 224 := by { have h := t4_trips n hn; have h' := t.isLt; omega }; rw [o59 _ t ht]; intro a; fin_cases a <;> simp <;> omega
  · intro t; have ht : (t : ℕ) < 224 := by { have h := t4_trips n hn; have h' := t.isLt; omega }; rw [o60 _ t ht]; intro a; fin_cases a <;> simp <;> omega
  · intro t; have ht : (t : ℕ) < 224 := by { have h := t4_trips n hn; have h' := t.isLt; omega }; rw [o61 _ t ht]; intro a; fin_cases a <;> simp <;> omega
  · intro t; have ht : (t : ℕ) < 224 := by { have h := t4_trips n hn; have h' := t.isLt; omega }; intro hinb; exact words_rows (by decide) (by rw [o61 _ t ht]; rfl) rfl
  · intro t; have ht : (t : ℕ) < 224 := by { have h := t4_trips n hn; have h' := t.isLt; omega }; rw [o63 _ t ht]; intro a; fin_cases a <;> simp <;> omega
  · intro t; have ht : (t : ℕ) < 224 := by { have h := t4_trips n hn; have h' := t.isLt; omega }; intro h4; rw [c4 n t ht] at h4; rw [o65 _ t ht h4]; intro a; fin_cases a <;> simp <;> omega
  · intro t; have ht : (t : ℕ) < 224 := by { have h := t4_trips n hn; have h' := t.isLt; omega }; intro h4; rw [c4 n t ht] at h4; rw [o66 _ t ht h4]; intro a; fin_cases a <;> simp <;> omega
  · intro t; have ht : (t : ℕ) < 224 := by { have h := t4_trips n hn; have h' := t.isLt; omega }; intro h4; rw [c4 n t ht] at h4; rw [o67 _ t ht]; intro a; fin_cases a <;> simp <;> omega
  · intro t; have ht : (t : ℕ) < 224 := by { have h := t4_trips n hn; have h' := t.isLt; omega }; intro h4; rw [c4 n t ht] at h4; rw [o69 _ t ht]; intro a; fin_cases a <;> simp <;> omega
  · intro t; have ht : (t : ℕ) < 224 := by { have h := t4_trips n hn; have h' := t.isLt; omega }; rw [o70 _ t ht]; intro a; fin_cases a <;> simp <;> omega
  · intro t; have ht : (t : ℕ) < 224 := by { have h := t4_trips n hn; have h' := t.isLt; omega }; rw [o71 _ t ht]; intro a; fin_cases a <;> simp <;> omega
  · intro t; have ht : (t : ℕ) < 224 := by { have h := t4_trips n hn; have h' := t.isLt; omega }; rw [o72 _ t ht]; intro a; fin_cases a <;> simp <;> omega
  · intro t; have ht : (t : ℕ) < 224 := by { have h := t4_trips n hn; have h' := t.isLt; omega }; rw [o73 _ t ht]; intro a; fin_cases a <;> simp <;> omega
  · intro t; have ht : (t : ℕ) < 224 := by { have h := t4_trips n hn; have h' := t.isLt; omega }; rw [o74 _ t ht]; intro a; fin_cases a <;> simp <;> omega
  · intro t; have ht : (t : ℕ) < 224 := by { have h := t4_trips n hn; have h' := t.isLt; omega }; rw [o75 _ t ht]; intro a; fin_cases a <;> simp <;> omega
  · intro t; have ht : (t : ℕ) < 224 := by { have h := t4_trips n hn; have h' := t.isLt; omega }; rw [o76 _ t ht]; intro a; fin_cases a <;> simp <;> omega
  · intro t; have ht : (t : ℕ) < 224 := by { have h := t4_trips n hn; have h' := t.isLt; omega }; rw [o77 _ t ht]; intro a; fin_cases a <;> simp <;> omega
  · intro t; have ht : (t : ℕ) < 224 := by { have h := t4_trips n hn; have h' := t.isLt; omega }; rw [o78 _ t ht]; intro a; fin_cases a <;> simp <;> omega
  · intro t; have ht : (t : ℕ) < 224 := by { have h := t4_trips n hn; have h' := t.isLt; omega }; rw [o79 _ t ht]; intro a; fin_cases a <;> simp <;> omega
  · intro t; have ht : (t : ℕ) < 224 := by { have h := t4_trips n hn; have h' := t.isLt; omega }; rw [o80 _ t ht]; intro a; fin_cases a <;> simp <;> omega
  · intro t; have ht : (t : ℕ) < 224 := by { have h := t4_trips n hn; have h' := t.isLt; omega }; rw [o81 _ t ht]; intro a; fin_cases a <;> simp <;> omega
  · intro t; have ht : (t : ℕ) < 224 := by { have h := t4_trips n hn; have h' := t.isLt; omega }; rw [o82 _ t ht]; intro a; fin_cases a <;> simp <;> omega
  · intro t; have ht : (t : ℕ) < 224 := by { have h := t4_trips n hn; have h' := t.isLt; omega }; rw [o83 _ t ht]; intro a; fin_cases a <;> simp <;> omega
  · intro t; have ht : (t : ℕ) < 224 := by { have h := t4_trips n hn; have h' := t.isLt; omega }; rw [o84 _ t ht]; intro a; fin_cases a <;> simp <;> omega

set_option maxHeartbeats 1000000 in
theorem chk4_1 (n : ℕ) (h1 : 1 ≤ n) (hn : n < 224) : k0_chk4_1 (W n) := by
  unfold k0_chk4_1
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · intro t; have ht : (t : ℕ) < 224 := by { have h := t4_trips n hn; have h' := t.isLt; omega }; rw [o85 _ t ht]; intro a; fin_cases a <;> simp <;> omega
  · intro t; have ht : (t : ℕ) < 224 := by { have h := t4_trips n hn; have h' := t.isLt; omega }; rw [o86 _ t ht]; intro a; fin_cases a <;> simp <;> omega
  · intro t; have ht : (t : ℕ) < 224 := by { have h := t4_trips n hn; have h' := t.isLt; omega }; rw [o87 _ t ht]; intro a; fin_cases a <;> simp <;> omega
  · intro t; have ht : (t : ℕ) < 224 := by { have h := t4_trips n hn; have h' := t.isLt; omega }; rw [o88 _ t ht]; intro a; fin_cases a <;> simp <;> omega
  · intro t; have ht : (t : ℕ) < 224 := by { have h := t4_trips n hn; have h' := t.isLt; omega }; rw [o90 _ t ht]; intro a; fin_cases a <;> simp <;> omega
  · exact t6_ok n hn
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))

set_option maxHeartbeats 1000000 in
theorem chk4_2 (n : ℕ) (h1 : 1 ≤ n) (hn : n < 224) : k0_chk4_2 (W n) := by
  unfold k0_chk4_2
  refine ⟨?_, ?_, ?_, ?_, ?_, ?_, ?_, ?_, ?_, ?_, ?_, ?_, ?_, ?_, ?_, ?_, ?_, ?_⟩
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · exact fun k => absurd k.isLt (Nat.not_lt.mpr ((t6_trips n hn).le.trans (Nat.zero_le _)))
  · intro h9; rw [c9 n hn] at h9; rw [o174 n hn h9]; intro a; fin_cases a <;> simp <;> omega
  · intro h9; rw [c9 n hn] at h9; rw [o175 n hn h9]; intro a; fin_cases a <;> simp <;> omega
  · intro h9; rw [c9 n hn] at h9; rw [o176 n hn]; intro a; fin_cases a <;> simp <;> omega
  · intro h9; rw [c9 n hn] at h9; rw [o178 n hn]; intro a; fin_cases a <;> simp <;> omega
  · rw [o179 n hn h1]; intro a; fin_cases a <;> simp <;> omega
  · rw [o180 n hn h1]; intro a; fin_cases a <;> simp <;> omega
  · rw [o181 n hn h1]; intro a; fin_cases a <;> simp <;> omega
  · rw [o183 n hn h1]; intro a; fin_cases a <;> simp <;> omega
theorem chk4 (n : ℕ) (h1 : 1 ≤ n) (hn : n < 224) : k0_chk4 (W n) := ⟨chk4_0 n h1 hn, chk4_1 n h1 hn, chk4_2 n h1 hn⟩

theorem dvd_row (r : ℕ) (hr : r < 2 ^ 31) (hd : 128 ∣ r) : 128 ∣ (Scalar.minsi (W r) 97792#32).toNat := by
  rw [w_min r 97792 hr (by decide), W_toNat _ (by omega)]
  omega
theorem dvd_out (r e : ℕ) (hr : r < 2 ^ 31) (he : e < 16) : 8 ∣ (Scalar.muli (Scalar.addi (Scalar.minsi (W r) 97792#32) (Scalar.muli (W e) 1152#32)) 8#32).toNat := by
  rw [w_row r e hr he, W_toNat _ (by omega)]
  exact Dvd.intro_left _ rfl

/-- The facts of a row. -/
abbrev rowOK (r : ℕ) : Prop := r < 98304 ∧ 128 ∣ r

theorem chk2 (e : ℕ) (he : e < 16) : k0_chk2 (W e) := by
  unfold k0_chk2
  refine ⟨?_, ?_, ?_, ?_⟩
  · rw [o4 e (by omega)]; intro a; have hn := Col.hn; fin_cases a <;> simp <;> omega
  · intro hinb; exact words_rows (by decide) (by rw [o4 e (by omega)]; rfl) rfl
  · rw [o5 e (by omega)]; intro a; have hn := Col.hn; fin_cases a <;> simp <;> omega
  · intro hinb; exact words_rows (by decide) (by rw [o5 e (by omega)]; rfl) rfl

theorem chk3 (r : ℕ) (hr : rowOK r) : k0_chk3 (W r) := by
  unfold k0_chk3
  refine ⟨?_, ?_, ?_, ?_⟩
  · intros; exact dvd_row r (by have := hr.1; omega) hr.2
  · rw [o6 r (by have := hr.1; omega)]; intro a; fin_cases a <;> simp <;> omega
  · intro hinb; exact (packed_dvd (by decide) (show 4 ∣ _ by rw [o6 r (by have := hr.1; omega)]; show 4 ∣ min r 97792; omega) (by decide)).wholeWords
  · rw [o7 r (by have := hr.1; omega)]; intro a; fin_cases a <;> simp <;> omega

theorem chk5 (v : BitVec 32) (t : Fin (k0_t4_loop v).trips) (r : ℕ) (hr : rowOK r) : k0_chk5 v t (W r) := by
  unfold k0_chk5
  refine ⟨?_, ?_, ?_, ?_⟩
  · intros; exact dvd_row r (by have := hr.1; omega) hr.2
  · intro _; rw [o13 r (by have := hr.1; omega)]; intro a; fin_cases a <;> simp <;> omega
  · intro _; intro hinb; exact (packed_dvd (by decide) (show 4 ∣ _ by rw [o13 r (by have := hr.1; omega)]; show 4 ∣ min r 97792; omega) (by decide)).wholeWords
  · intro _; rw [o15 r (by have := hr.1; omega)]; intro a; fin_cases a <;> simp <;> omega

theorem chk8 (r : ℕ) (hr : rowOK r) : k0_chk8 (W r) := by
  unfold k0_chk8
  refine ⟨?_, ?_, ?_, ?_⟩
  · intros; exact dvd_row r (by have := hr.1; omega) hr.2
  · rw [o62 r (by have := hr.1; omega)]; intro a; fin_cases a <;> simp <;> omega
  · intro hinb; exact (packed_dvd (by decide) (show 4 ∣ _ by rw [o62 r (by have := hr.1; omega)]; show 4 ∣ min r 97792; omega) (by decide)).wholeWords
  · rw [o64 r (by have := hr.1; omega)]; intro a; fin_cases a <;> simp <;> omega

theorem chk9 (v : BitVec 32) (t : Fin (k0_t4_loop v).trips) (r : ℕ) (hr : rowOK r) : k0_chk9 v t (W r) := by
  unfold k0_chk9
  · intros; exact dvd_row r (by have := hr.1; omega) hr.2

theorem chk11 (r : ℕ) (hr : rowOK r) : k0_chk11 (W r) := by
  unfold k0_chk11
  · intros; exact dvd_row r (by have := hr.1; omega) hr.2

theorem chk21 (v : BitVec 32) (r : ℕ) (hr : rowOK r) : k0_chk21 v (W r) := by
  unfold k0_chk21
  · intros; exact dvd_row r (by have := hr.1; omega) hr.2

theorem chk23 (r : ℕ) (hr : rowOK r) : k0_chk23 (W r) := by
  unfold k0_chk23
  · intros; exact dvd_row r (by have := hr.1; omega) hr.2

theorem chk10 (v : BitVec 32) (t : Fin (k0_t4_loop v).trips) (r : ℕ) (hr : rowOK r) (e : ℕ) (he : e < 16) : k0_chk10 v t (W r) (W e) := by
  unfold k0_chk10
  refine ⟨?_, ?_⟩
  · intros; exact dvd_out r e (by have := hr.1; omega) he
  · intro _; rw [o68 r e (by have := hr.1; omega) he]; intro a; fin_cases a <;> simp <;> omega

theorem chk12 (r : ℕ) (hr : rowOK r) (e : ℕ) (he : e < 16) : k0_chk12 (W r) (W e) := by
  unfold k0_chk12
  refine ⟨?_, ?_⟩
  · intros; exact dvd_out r e (by have := hr.1; omega) he
  · rw [o89 r e (by have := hr.1; omega) he]; intro a; fin_cases a <;> simp <;> omega

theorem chk22 (v : BitVec 32) (r : ℕ) (hr : rowOK r) (e : ℕ) (he : e < 16) : k0_chk22 v (W r) (W e) := by
  unfold k0_chk22
  refine ⟨?_, ?_⟩
  · intros; exact dvd_out r e (by have := hr.1; omega) he
  · intro _; rw [o177 r e (by have := hr.1; omega) he]; intro a; fin_cases a <;> simp <;> omega

theorem chk24 (r : ℕ) (hr : rowOK r) (e : ℕ) (he : e < 16) : k0_chk24 (W r) (W e) := by
  unfold k0_chk24
  refine ⟨?_, ?_⟩
  · intros; exact dvd_out r e (by have := hr.1; omega) he
  · rw [o182 r e (by have := hr.1; omega) he]; intro a; fin_cases a <;> simp <;> omega

theorem chk6_0 (v : BitVec 32) (t : Fin (k0_t4_loop v).trips) (a : ℕ) (ha : a < 2) (e : ℕ) (he : e < 16) (v80 : BitVec 32) : k0_chk6_0 v t (W a) (W e) v80 := by
  unfold k0_chk6_0
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · intro _; rw [o16 a ha]; intro a; fin_cases a <;> simp <;> omega
  · intro _; rw [o17 a ha]; intro a; fin_cases a <;> simp <;> omega
  · intro _; rw [o18 e (by omega)]; intro a; have hn := Col.hn; fin_cases a <;> simp <;> omega
  · intro _; intro hinb; exact words_rows (by decide) (by rw [o18 e (by omega)]; rfl) rfl
  · intro _; intro hinb; exact words_rows (by decide) (by rw [o17 a ha]; rfl) rfl
  · intro _; rw [o19 a ha]; intro a; fin_cases a <;> simp <;> omega
  · intro _; rw [o20 e (by omega)]; intro a; have hn := Col.hn; fin_cases a <;> simp <;> omega
  · intro _; intro hinb; exact words_rows (by decide) (by rw [o20 e (by omega)]; rfl) rfl
  · intro _; intro hinb; exact words_rows (by decide) (by rw [o19 a ha]; rfl) rfl
  · intro _; rw [o27 a ha]; intro a; fin_cases a <;> simp <;> omega
  · intro _; rw [o28 a ha]; intro a; fin_cases a <;> simp <;> omega
  · intro _; rw [o29 a ha]; intro a; fin_cases a <;> simp <;> omega
  · intro _; rw [o30 a ha]; intro a; fin_cases a <;> simp <;> omega
  · intro _; rw [o31 a ha]; intro a; fin_cases a <;> simp <;> omega
  · intro _; rw [o32 a ha]; intro a; fin_cases a <;> simp <;> omega
  · intro _; rw [o33 a ha]; intro a; fin_cases a <;> simp <;> omega
  · intro _; rw [o34 a ha]; intro a; fin_cases a <;> simp <;> omega
  · intro _; rw [o35 a ha]; intro a; fin_cases a <;> simp <;> omega
  · intro _; rw [o36 a ha]; intro a; fin_cases a <;> simp <;> omega
  · intro _; rw [o37 a ha]; intro a; fin_cases a <;> simp <;> omega
  · intro _; rw [o38 a ha]; intro a; fin_cases a <;> simp <;> omega
  · intro _; rw [o39 a ha]; intro a; fin_cases a <;> simp <;> omega
  · intro _; rw [o40 a ha]; intro a; fin_cases a <;> simp <;> omega
  · intro _; rw [o41 a ha]; intro a; fin_cases a <;> simp <;> omega
  · intro _; rw [o42 a ha]; intro a; fin_cases a <;> simp <;> omega
  · intro _; rw [o43 a ha]; intro a; fin_cases a <;> simp <;> omega
  · intro _; rw [o44 a ha]; intro a; fin_cases a <;> simp <;> omega
  · intro _; rw [o45 a ha]; intro a; fin_cases a <;> simp <;> omega
  · intro _; rw [o46 a ha]; intro a; fin_cases a <;> simp <;> omega
  · intro _; rw [o47 a ha]; intro a; fin_cases a <;> simp <;> omega
  · intro _; rw [o48 a ha]; intro a; fin_cases a <;> simp <;> omega
  · intro _; rw [o49 a ha]; intro a; fin_cases a <;> simp <;> omega

theorem chk6_1 (v : BitVec 32) (t : Fin (k0_t4_loop v).trips) (a : ℕ) (ha : a < 2) (e : ℕ) (he : e < 16) (v80 : BitVec 32) : k0_chk6_1 v t (W a) (W e) v80 := by
  unfold k0_chk6_1
  refine ⟨?_, ?_, ?_, ?_, ?_, ?_, ?_, ?_, ?_⟩
  · intro _; rw [o50 a ha]; intro a; fin_cases a <;> simp <;> omega
  · intro _; rw [o51 a ha]; intro a; fin_cases a <;> simp <;> omega
  · intro _; rw [o52 a ha]; intro a; fin_cases a <;> simp <;> omega
  · intro _; rw [o53 a ha]; intro a; fin_cases a <;> simp <;> omega
  · intro _; rw [o54 a ha]; intro a; fin_cases a <;> simp <;> omega
  · intro _; rw [o55 a ha]; intro a; fin_cases a <;> simp <;> omega
  · intro _; rw [o56 a ha]; intro a; fin_cases a <;> simp <;> omega
  · intro _; rw [o57 a ha]; intro a; fin_cases a <;> simp <;> omega
  · intro _; rw [o58 a ha]; intro a; fin_cases a <;> simp <;> omega

theorem chk6 (v : BitVec 32) (t : Fin (k0_t4_loop v).trips) (a : ℕ) (ha : a < 2) (e : ℕ) (he : e < 16) (v80 : BitVec 32) : k0_chk6 v t (W a) (W e) v80 :=
  ⟨chk6_0 v t a ha e he v80, chk6_1 v t a ha e he v80⟩

theorem chk7 (v : BitVec 32) (t : Fin (k0_t4_loop v).trips) (a : ℕ) (ha : a < 2) (v75 v80 : BitVec 32) (x : ℕ) (hx : x < 2 ^ 31) : k0_chk7 v t (W a) v75 v80 (W x) := by
  unfold k0_chk7
  refine ⟨?_, ?_, ?_, ?_, ?_, ?_, ?_, ?_, ?_⟩
  · intro _ h3; rw [c3 _ hx] at h3; rw [o22 a ha]; intro a; fin_cases a <;> simp <;> omega
  · intro _ h3; rw [c3 _ hx] at h3; rw [o23 a ha]; intro a; fin_cases a <;> simp <;> omega
  · intro _ h3; rw [c3 _ hx] at h3; rw [o24 x (by omega)]; intro a; have hn := Col.hn; fin_cases a <;> simp <;> omega
  · intro _ h3; rw [c3 _ hx] at h3; intro hinb; exact words_rows (by decide) (by rw [o24 x (by omega)]; rfl) rfl
  · intro _ h3; rw [c3 _ hx] at h3; intro hinb; exact words_rows (by decide) (by rw [o23 a ha]; rfl) rfl
  · intro _ h3; rw [c3 _ hx] at h3; rw [o25 a ha]; intro a; fin_cases a <;> simp <;> omega
  · intro _ h3; rw [c3 _ hx] at h3; rw [o26 x (by omega)]; intro a; have hn := Col.hn; fin_cases a <;> simp <;> omega
  · intro _ h3; rw [c3 _ hx] at h3; intro hinb; exact words_rows (by decide) (by rw [o26 x (by omega)]; rfl) rfl
  · intro _ h3; rw [c3 _ hx] at h3; intro hinb; exact words_rows (by decide) (by rw [o25 a ha]; rfl) rfl

end Cert.KernelIdeal.Run

end
-- ==== Proof.M.I.Tables.lean ====
/-
  The first loop: it writes the tables of tiles, one row and one expert to a tile.
-/
module

public import proofs.«01_k».proof.Proof.M.I.Chk
public import proofs.«01_k».proof.Proof.M.I.Slots

@[expose] public section

noncomputable section

namespace Cert.KernelIdeal.Run

open Cert.KernelIdeal Cert.KernelIdeal.Gen Cert.Tiles
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Col]
local notation "𝕄" => MT nD τ sig Unit (Elt F) ℕ (UU F) ℕ

theorem H1 : A1.IsWhole := Memref.isWhole_whole _
theorem H2 : A2.IsWhole := Memref.isWhole_whole _
theorem H3 : A3.IsWhole := Memref.isWhole_whole _
theorem H4 : A4.IsWhole := Memref.isWhole_whole _
theorem H5 : A5.IsWhole := Memref.isWhole_whole _
theorem H6 : A6.IsWhole := Memref.isWhole_whole _
theorem H7 : A7.IsWhole := Memref.isWhole_whole _
theorem H8 : A8.IsWhole := Memref.isWhole_whole _
theorem H9 : A9.IsWhole := Memref.isWhole_whole _
theorem H10 : A10.IsWhole := Memref.isWhole_whole _
theorem H11 : A11.IsWhole := Memref.isWhole_whole _
theorem H12 : A12.IsWhole := Memref.isWhole_whole _
theorem H13 : A13.IsWhole := Memref.isWhole_whole _

/-! ## The number of tiles of an expert, as a word -/

/-- The tiles of an expert whose rows start at `a` and are `v` many. -/
abbrev tilesW (a v : BitVec 32) : BitVec 32 :=
  Scalar.select (Scalar.cmpi .sgt (Scalar.addi a v) a)
    (fdw (Scalar.subi (Scalar.addi (Scalar.subi (Scalar.addi a v) (Scalar.muli (fdw a 128#32) 128#32)) 512#32) 1#32) 512#32) 0#32

theorem tiles_eq (a v : ℕ) (h : a + v < 2 ^ 30) :
    tilesW (W a) (W v) = W (if v = 0 then 0 else (a + v - a / 128 * 128 + 511) / 512) := by
  have hd : a / 128 * 128 ≤ a := Nat.div_mul_le_self _ _
  unfold tilesW
  rw [w_fdiv a 128 (by omega) (by decide) (by decide), w_mul _ 128 (by omega) (by decide) (by omega), w_add a v (by omega),
    w_sub _ _ (by omega) (by omega), w_add _ 512 (by omega), w_sub _ 1 (by omega) (by omega), w_fdiv _ 512 (by omega) (by decide) (by decide)]
  by_cases h0 : v = 0
  · rw [w_sel0 (fun h' => absurd ((w_gt _ _ (by omega) (by omega)).mp h') (by omega)), if_pos h0]
  · rw [w_sel1 ((w_gt _ _ (by omega) (by omega)).mpr (by omega)), if_neg h0]
    congr 2

theorem t2_eq (a v : BitVec 32) : k0_t2_loop a v = ⟨0#32, Scalar.addi 0#32 (Scalar.muli (Scalar.divsi (Scalar.subi (tilesW a v) 0#32) 1#32) 1#32), 1#32⟩ := rfl
theorem t3_eq (a v : BitVec 32) : k0_t3_loop a v = ⟨Scalar.addi 0#32 (Scalar.muli (Scalar.divsi (Scalar.subi (tilesW a v) 0#32) 1#32) 1#32), Scalar.addi 0#32 (Scalar.subi (tilesW a v) 0#32), 1#32⟩ := rfl

variable (g : ℕ → ℕ)

theorem st_succ (k : ℕ) : st g (k + 1) = st g k + g k := rfl
theorem nt_succ (k : ℕ) : nt g (k + 1) = nt g k + cnt g k := rfl

theorem st_lt (ok : OK g) {k : ℕ} (hk : k ≤ 16) : st g k ≤ 98304 := (st_mono g hk).trans ok.tot
theorem nt_lt (ok : OK g) {k : ℕ} (hk : k ≤ 16) : nt g k ≤ 211 := (nt_mono g hk).trans ok.n_le

theorem tiles_cnt (ok : OK g) {k : ℕ} (hk : k < 16) : tilesW (W (st g k)) (W (g k)) = W (cnt g k) := by
  have h := st_lt g ok (k := k + 1) hk
  rw [st_succ] at h
  rw [tiles_eq _ _ (by omega)]
  rfl

theorem cnt_lt224 (ok : OK g) {k : ℕ} (hk : k < 16) : nt g k + cnt g k ≤ 211 := by
  have := nt_lt g ok (k := k + 1) hk; rwa [nt_succ] at this

theorem t2_ub (ok : OK g) {k : ℕ} (hk : k < 16) : Scalar.addi 0#32 (Scalar.muli (Scalar.divsi (Scalar.subi (tilesW (W (st g k)) (W (g k))) 0#32) 1#32) 1#32) = W (cnt g k) := by
  have h := cnt_lt224 g ok hk
  rw [tiles_cnt g ok hk, w_sub _ 0 (by omega) (by omega), w_div _ 1 (by omega) (by decide) (by decide), w_mul _ 1 (by simp; omega) (by decide) (by simp; omega),
    w_add 0 _ (by simp; omega)]
  congr 1; simp

theorem t3_ub (ok : OK g) {k : ℕ} (hk : k < 16) : Scalar.addi 0#32 (Scalar.subi (tilesW (W (st g k)) (W (g k))) 0#32) = W (cnt g k) := by
  have h := cnt_lt224 g ok hk
  rw [tiles_cnt g ok hk, w_sub _ 0 (by omega) (by omega), w_add 0 _ (by omega)]
  congr 1; simp

theorem t2_loop (ok : OK g) {k : ℕ} (hk : k < 16) : k0_t2_loop (W (st g k)) (W (g k)) = ⟨0#32, W (cnt g k), 1#32⟩ := by
  rw [t2_eq, t2_ub g ok hk]
theorem t3_loop (ok : OK g) {k : ℕ} (hk : k < 16) : k0_t3_loop (W (st g k)) (W (g k)) = ⟨W (cnt g k), W (cnt g k), 1#32⟩ := by
  rw [t3_eq, t2_ub g ok hk, t3_ub g ok hk]

theorem t2_trips (ok : OK g) {k : ℕ} (hk : k < 16) : (k0_t2_loop (W (st g k)) (W (g k))).trips = cnt g k := by
  have h := cnt_lt224 g ok hk
  rw [t2_loop g ok hk]
  exact Affine.trips_eq (Affine.ofNat (e := 0) 0 ⟨rfl, by decide⟩) (isW _ (by omega)) (Affine.ofNat (e := 1) 1 ⟨rfl, by decide⟩) (n := cnt g k) (by first | omega | (refine ⟨by omega, ?_⟩; omega))
theorem t3_trips (ok : OK g) {k : ℕ} (hk : k < 16) : (k0_t3_loop (W (st g k)) (W (g k))).trips = 0 := by
  have h := cnt_lt224 g ok hk
  rw [t3_loop g ok hk]
  exact Affine.trips_eq (isW _ (by omega)) (isW _ (by omega)) (Affine.ofNat (e := 1) 1 ⟨rfl, by decide⟩) (n := 0) (by first | omega | (refine ⟨by omega, ?_⟩; omega))

theorem chk1 (ok : OK g) {k : ℕ} (hk : k < 16) : k0_chk1 (W (st g k)) (W (nt g k)) (W (g k)) := by
  have h := cnt_lt224 g ok hk
  unfold k0_chk1
  refine ⟨?_, ?_, ?_, ?_⟩
  · rw [t2_loop g ok hk]
    exact Affine.ok (isW 0 (by decide)) (isW _ (by omega)) (isW 1 (by decide)) (by constructor <;> simp <;> omega)
  · intro t
    have ht : (t : ℕ) < cnt g k := by have := t.isLt; have := t2_trips g ok hk; omega
    rw [o2 _ _ _ t (nt g k) rfl (by omega)]
    intro a; fin_cases a
    simp; omega
  · rw [t3_loop g ok hk]
    exact Affine.ok (isW _ (by omega)) (isW _ (by omega)) (isW 1 (by decide)) (by constructor <;> simp <;> omega)
  · exact fun t => absurd t.isLt (Nat.not_lt.mpr ((t3_trips g ok hk).le.trans (Nat.zero_le _)))

/-! ## Words of a table -/

omit [FloatOps F] in
theorem pt224 {off : Fin S224.rank → ℕ} {inb} (i : ℕ) (hi : i < 224) (e : off = ![i]) :
    (Rect.unit (s := S224) off S1.size inb).point numel1_S1 = ix1 (n := 224) ⟨i, hi⟩ := by
  subst e
  funext a
  fin_cases a
  apply Fin.ext
  show _ + 1 * 0 = _
  rfl

omit [FloatOps F] in
theorem pt16 {off : Fin S16.rank → ℕ} {inb} (i : ℕ) (hi : i < 16) (e : off = ![i]) :
    (Rect.unit (s := S16) off S1.size inb).point numel1_S1 = ix1 (n := 16) ⟨i, hi⟩ := by
  subst e
  funext a
  fin_cases a
  apply Fin.ext
  show _ + 1 * 0 = _
  rfl

/-- A table with one more word. -/
def put (f : S224.Idx → Elt F .i32) (i : ℕ) (v : Elt F .i32) : S224.Idx → Elt F .i32 := fun j => if (j 0 : ℕ) = i then v else f j

theorem put_w6 (f : S224.Idx → Elt F .i32) {off inb} (i : ℕ) (e : off = ![i]) (v : Elt F .i32) :
    (A6.access (Rect.unit (s := S224) off S1.size inb)).write (Elt F) f (fun _ => v) Finset.univ = put f i v := by
  funext j
  subst e
  unfold put
  split
  · next h =>
    have : j ∈ (A6.access (Rect.unit (s := S224) ![i] S1.size inb)).set := by
      show j ∈ ((View.whole A6.view.ref).slice _).set
      rw [View.set_slice_whole, Rect.mem_set_unit]
      intro a; fin_cases a
      simp; omega
    obtain ⟨x, -, rfl⟩ := Finset.mem_map.mp this
    rw [View.write_emb_of_mem _ _ (Finset.mem_univ x)]
    rfl
  · next h =>
    apply View.write_of_not_mem
    rw [View.setOn_univ]
    show j ∉ ((View.whole A6.view.ref).slice _).set
    rw [View.set_slice_whole, Rect.mem_set_unit]
    intro h'
    have := h' 0
    simp at this
    omega

theorem put_w7 (f : S224.Idx → Elt F .i32) {off inb} (i : ℕ) (e : off = ![i]) (v : Elt F .i32) :
    (A7.access (Rect.unit (s := S224) off S1.size inb)).write (Elt F) f (fun _ => v) Finset.univ = put f i v := by
  funext j
  subst e
  unfold put
  split
  · next h =>
    have : j ∈ (A7.access (Rect.unit (s := S224) ![i] S1.size inb)).set := by
      show j ∈ ((View.whole A7.view.ref).slice _).set
      rw [View.set_slice_whole, Rect.mem_set_unit]
      intro a; fin_cases a
      simp; omega
    obtain ⟨x, -, rfl⟩ := Finset.mem_map.mp this
    rw [View.write_emb_of_mem _ _ (Finset.mem_univ x)]
    rfl
  · next h =>
    apply View.write_of_not_mem
    rw [View.setOn_univ]
    show j ∉ ((View.whole A7.view.ref).slice _).set
    rw [View.set_slice_whole, Rect.mem_set_unit]
    intro h'
    have := h' 0
    simp at this
    omega

/-! ## The loop -/

section Loop
variable (c : Dev nD)

/-- A store into scalar memory. -/
theorem r_sstore {α : Type} {Q : α → sProp 𝕄} {s : Shape} {e : EltTy} {m : Memref sig .tc .smem s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α}
    {f : Buf (Elt F) (m.view.loc (c : Thread nD τ))}
    :
    (m.view.loc (c : Thread nD τ) ↦[Finset.univ]{fullShare} f)
      ⊢ iprop(((m.view.loc (c : Thread nD τ) ↦[Finset.univ]{fullShare} ((m.access r).write (Elt F) f w Finset.univ)) -∗ wpc c (k ⟨⟩) Q)
          -∗ wpc c (Prog.lift (.store m r w Finset.univ hx hm) >>= k) Q) :=
  wp_store (Q := Q) 𝒱₀ (c : Thread nD τ) none Set.univ (m := m) (r := r) (w := w) (Mk := Finset.univ) (hx := hx) (hm := hm) (k := k) (S := Finset.univ) (f := f) (Finset.subset_univ _)

/-- One word read from scalar memory, whatever it is. -/
theorem r_sload {α : Type} {Q : α → sProp 𝕄} {s : Shape} {m : Memref sig .tc .smem s .i32} {r : Rect s} {h1 : r.shape.numel = 1} {hp : EltTy.i32.packing = 1}
    {k : Elt F .i32 → Prog (TpuEff nD τ sig (Elt F) Λ₀ .tc) α}
    {q : PosShare TreeShare} {f : Buf (Elt F) (m.view.loc (c : Thread nD τ))} :
    (m.view.loc (c : Thread nD τ) ↦[Finset.univ]{q} f)
      ⊢ iprop(((m.view.loc (c : Thread nD τ) ↦[Finset.univ]{q} f) -∗ wpc c (k (m.view.read (Elt F) f (r.point h1))) Q)
          -∗ wpc c (smemLoad m r h1 hp >>= k) Q) := r_smemLoad c _ rfl (Finset.subset_univ _)

/-- The first `n` words of the tables are those of the first `n` tiles. -/
def TabOK (n : ℕ) (f6 f7 : S224.Idx → Elt F .i32) : Prop :=
  ∀ j : S224.Idx, (j 0 : ℕ) < n → f6 j = W (row g (j 0)) ∧ f7 j = W (ex g (j 0))

abbrev T6 (f : S224.Idx → Elt F .i32) : sProp 𝕄 := (A6.view.loc (c : Thread nD τ) ↦[Finset.univ]{fullShare} f)
abbrev T7 (f : S224.Idx → Elt F .i32) : sProp 𝕄 := (A7.view.loc (c : Thread nD τ) ↦[Finset.univ]{fullShare} f)

def TabI (n : ℕ) : sProp 𝕄 := iprop(∃ f6, ∃ f7, ⌜TabOK (F := F) g n f6 f7⌝ ∗ T6 c f6 ∗ T7 c f7)

theorem TabOK.put {n : ℕ} {f6 f7 : S224.Idx → Elt F .i32} (h : TabOK (F := F) g n f6 f7) :
    TabOK (F := F) g (n + 1) (put f6 n (W (row g n))) (put f7 n (W (ex g n))) := by
  intro j hj
  unfold Run.put
  split
  · next e => rw [e]; exact ⟨rfl, rfl⟩
  · next e => exact h j (by omega)

variable (arg0 : Memref sig .tc .smem S16 .i32) (harg0 : arg0.IsWhole)

theorem t2_gen (a w x y v93 : BitVec 32) (hw) (t : Fin (k0_t2_loop a x).trips) (acc : BitVec 32) (m : ℕ) (e : k0_off2 a w x t = ![m])
    (r : BitVec 32) (hr : Scalar.addi v93 (Scalar.muli (Scf.iv 0#32 1#32 t) 512#32) = r) (f6 f7 : S224.Idx → Elt F .i32) :
    iprop(T6 c f6 ∗ T7 c f7) ⊢ wpc c (k0_t2_body (F := F) arg0 harg0 A1 H1 A2 H2 A3 H3 A4 H4 A5 H5 A6 H6 A7 H7 A8 H8 A9 H9 A10 H10 A11 H11 A12 H12 A13 H13 cc0_scratch8 cc0_scratch9 cc0_scratch10 cc0_scratch11 cc0_scratch12 a w y x hw v93 t acc)
      (fun _ => iprop(T6 c (put f6 m r) ∗ T7 c (put f7 m y))) := by
  unfold k0_t2_body
  iintro ⟨H6, H7⟩
  iapply (r_sload c (m := A6)) $$ H6
  iintro H6
  iapply (r_sstore c (m := A6)) $$ H6
  iintro H6
  iapply (r_sload c (m := A7)) $$ H7
  iintro H7
  iapply (r_sstore c (m := A7)) $$ H7
  iintro H7
  iapply (r_pure c)
  rw [put_w6 f6 _ e, put_w7 f7 _ e, hr]
  isplitl [H6]
  · iexact H6
  · iexact H7

theorem r_mono {α : Type} {p : Prog (TpuEff nD τ sig (Elt F) Λ₀ .tc) α} {Q Q' : α → sProp 𝕄} (h : ∀ a, Q a ⊢ Q' a) : wpc c p Q ⊢ wpc c p Q' :=
  wp_mono _ _ _ h

theorem t2_step (ok : OK g) {k : ℕ} (hk : k < 16) (hw) (v93 : BitVec 32) (h93 : v93 = W (row0 g k))
    (t : Fin (k0_t2_loop (W (st g k)) (W (g k))).trips) (acc : BitVec 32) :
    TabI g c (nt g k + t) ⊢ wpc c (k0_t2_body (F := F) arg0 harg0 A1 H1 A2 H2 A3 H3 A4 H4 A5 H5 A6 H6 A7 H7 A8 H8 A9 H9 A10 H10 A11 H11 A12 H12 A13 H13 cc0_scratch8 cc0_scratch9 cc0_scratch10 cc0_scratch11 cc0_scratch12 (W (st g k)) (W (nt g k)) (W k) (W (g k)) hw v93 t acc)
      (fun a => TabI g c (nt g k + (t + 1))) := by
  have h := cnt_lt224 g ok hk
  have ht : (t : ℕ) < cnt g k := by have := t.isLt; have := t2_trips g ok hk; omega
  have hr := row_eq (g := g) hk ht
  have hrow : Scalar.addi v93 (Scalar.muli (Scf.iv 0#32 1#32 t) 512#32) = W (row g (nt g k + t)) := by
    have := row0_le g k
    have := st_lt g ok (k := k) (by omega)
    rw [h93, w_iv _ (by omega), w_mul _ 512 (by omega) (by decide) (by omega), w_add _ _ (by omega), hr.2]
  have e := o2 _ _ _ t (nt g k) rfl (by omega)
  unfold TabI
  iintro ⟨%f6, %f7, %hT, H6, H7⟩
  iapply (r_mono c (Q := fun _ => iprop(T6 c (put f6 (nt g k + t) (W (row g (nt g k + t)))) ∗ T7 c (put f7 (nt g k + t) (W k)))) ?_)
  rotate_left
  · iapply (t2_gen c arg0 harg0 _ _ _ _ _ hw t acc _ e _ hrow f6 f7)
    isplitl [H6]
    · iexact H6
    · iexact H7
  · intro a
    iintro ⟨H6, H7⟩
    iexists _; iexists _
    isplitr
    swap
    · isplitl [H6]
      · iexact H6
      · iexact H7
    · ipureintro
      have := hT.put g
      rw [hr.1] at this
      exact this

variable (X : Buf (Elt F) (arg0.view.loc (c : Thread nD τ))) (q0 : PosShare TreeShare)

/-- The group sizes. -/
abbrev G0 : sProp 𝕄 := (arg0.view.loc (c : Thread nD τ) ↦[Finset.univ]{q0} X)

/-- The first part of an expert's turn: its size is read. -/
theorem part1_rule {α : Type} {Q : α → sProp 𝕄} (ok : OK g) (t : Fin k0_t1_loop.trips) {k : ℕ} (hk : k < 16) (htk : (t : ℕ) = k)
    (hX : ∀ j : S16.Idx, arg0.view.read (Elt F) X j = W (g (j 0)))
    {kk : _ → Prog (TpuEff nD τ sig (Elt F) Λ₀ .tc) α} :
    G0 c arg0 X q0 ⊢ iprop((∀ (v94 : BitVec 1) (v98 : BitVec 32) (v112 : BitVec 1) (v113 : BitVec 32),
        ⌜Scalar.select v94 (Scalar.select v112 v113 v98) 0#32 = W (cnt g k)⌝ -∗ G0 c arg0 X q0 -∗
        wpc c (kk ⟨W k, W (g k), chk1 g ok hk, W (st g (k + 1)), W (row0 g k), v94, v98, v112, v113⟩) Q)
      -∗ wpc c (k0_part1 (F := F) arg0 harg0 A1 H1 A2 H2 A3 H3 A4 H4 A5 H5 A6 H6 A7 H7 A8 H8 A9 H9 A10 H10 A11 H11 A12 H12 A13 H13 cc0_scratch8 cc0_scratch9 cc0_scratch10 cc0_scratch11 cc0_scratch12 0#32 1#32 t (W (st g k)) (W (nt g k)) >>= kk) Q) := by
  subst htk
  rw [k0_part1_eq_skeleton]; unfold k0_part1_skel
  iintro HX HK
  iapply (r_bind c)
  have hv : arg0.view.read (Elt F) X ((Rect.unit (s := S16) (k0_off1 t) S1.size (k0_off1_inb t)).point numel1_S1) = W (g t) := by
    rw [pt16 _ hk (o1 t hk), hX]
  have hst := st_lt g ok (k := t + 1) hk
  rw [st_succ] at hst
  iapply (r_smemLoad c (m := arg0) (S := Finset.univ) (W (g t)) hv (Finset.subset_univ _)) $$ HX
  iintro HX
  iapply (r_assume c (chk1 g ok hk))
  iapply (r_pure c)
  have e1 : Scf.iv 0#32 1#32 t = W t := w_iv _ (by omega)
  have e2 : Scalar.addi (W (st g t)) (W (g t)) = W (st g (t + 1)) := w_add _ _ (by omega)
  have e3 : Scalar.muli (fdw (W (st g t)) 128#32) 128#32 = W (row0 g t) := by
    have hd : st g t / 128 * 128 ≤ st g t := Nat.div_mul_le_self _ _
    rw [w_fdiv _ 128 (by omega) (by decide) (by decide), w_mul _ 128 (by omega) (by decide) (by omega)]; rfl
  rw [e1, e2, e3]
  iapply HK $$ [] HX
  ipureintro
  have := tiles_cnt g ok hk
  unfold tilesW at this
  rw [e2, e3] at this
  exact this

theorem t1_step (ok : OK g) (hX : ∀ j : S16.Idx, arg0.view.read (Elt F) X j = W (g (j 0)))
    (t : Fin k0_t1_loop.trips) (ht : (t : ℕ) < 16) :
    iprop(G0 c arg0 X q0 ∗ TabI g c (nt g t)) ⊢ wpc c (k0_t1_body (F := F) arg0 harg0 A1 H1 A2 H2 A3 H3 A4 H4 A5 H5 A6 H6 A7 H7 A8 H8 A9 H9 A10 H10 A11 H11 A12 H12 A13 H13 cc0_scratch8 cc0_scratch9 cc0_scratch10 cc0_scratch11 cc0_scratch12 t (W (st g t), W (nt g t)))
      (fun a => iprop(⌜a = (W (st g (t + 1)), W (nt g (t + 1)))⌝ ∗ G0 c arg0 X q0 ∗ TabI g c (nt g (t + 1)))) := by
  unfold k0_t1_body
  iintro ⟨HX, HT⟩
  iapply (part1_rule g c arg0 harg0 X q0 ok t ht rfl hX) $$ HX
  iintro %v94 %v98 %v112 %v113 %hv HX
  iapply (Scf.wp_for_bind frame (wpE (defs₀ (F := F)) 𝒱₀ (c : Thread nD τ) none) Set.univ _ _ _ _ _ _ (fun m _ => TabI g c (nt g t + m))
    (fun m acc => t2_step g c arg0 harg0 ok ht _ _ rfl m acc)) $$ [HT]
  · iexact HT
  iintro %acc HT
  iapply (Scf.wp_for_bind frame (wpE (defs₀ (F := F)) 𝒱₀ (c : Thread nD τ) none) Set.univ _ _ _ _ _ _ (fun m _ => TabI g c (nt g (t + 1)))
    (fun m acc => absurd m.isLt (Nat.not_lt.mpr ((t3_trips g ok ht).le.trans (Nat.zero_le _))))) $$ [HT]
  · have e : nt g t + (k0_t2_loop (W (st g t)) (W (g t))).trips = nt g (t + 1) := by rw [nt_succ, t2_trips g ok ht]
    rw [← e]
    iexact HT
  iintro %acc' HT
  iapply (r_pure c)
  have h := cnt_lt224 g ok ht
  rw [hv, w_add _ _ (by omega)]
  isplitr
  · ipureintro; rfl
  isplitl [HX]
  · iexact HX
  · iexact HT

end Loop

end Cert.KernelIdeal.Run

end
-- ==== Proof.M.I.OutCopy.lean ====
/-
  The copies out of the result buffer: the result array is held in write mode, one half of it to a slot; a copy in flight
  brings back its half with the rows of its tile marked as written.
-/
module

public import proofs.«01_k».proof.Proof.M.I.Tables

@[expose] public section

noncomputable section

namespace Cert.KernelIdeal.Run

open Cert.KernelIdeal Cert.KernelIdeal.Gen Cert.Tiles
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Col]
local notation "𝕄" => MT nD τ sig Unit (Elt F) ℕ (UU F) ℕ

/-- The rows a tile writes. -/
def win (R : ℕ) : Finset S933888x128.Idx := Finset.univ.filter fun i => R ≤ (i 0 : ℕ) ∧ (i 0 : ℕ) < R + 4096

theorem mem_win {R : ℕ} {i : S933888x128.Idx} : i ∈ win R ↔ R ≤ (i 0 : ℕ) ∧ (i 0 : ℕ) < R + 4096 := by simp [win]

/-- A tile's values as they lie in the result buffer. -/
def yFill (A : S512x1024.Idx → Elt F .f32) : S2x4096x128.Idx → Elt F .f32 := fun i =>
  A (ix2 (n0 := 512) (n1 := 1024) ⟨(i 1 : ℕ) / 8 % 512, Nat.mod_lt _ (by decide)⟩ ⟨(128 * ((i 1 : ℕ) % 8) + (i 2 : ℕ)) % 1024, Nat.mod_lt _ (by decide)⟩)

/-- A tile's values as they lie in the result from row `R`. -/
def outAt (A : S512x1024.Idx → Elt F .f32) (R : ℕ) (i : S933888x128.Idx) : Elt F .f32 :=
  A (ix2 (n0 := 512) (n1 := 1024) ⟨((i 0 : ℕ) - R) / 8 % 512, Nat.mod_lt _ (by decide)⟩ ⟨(128 * (((i 0 : ℕ) - R) % 8) + (i 1 : ℕ)) % 1024, Nat.mod_lt _ (by decide)⟩)

variable (c : Dev nD)

/-- What the rows of the result are to hold, where anything is asked of them. -/
abbrev Goal (F : FTy → Type) : Type := S933888x128.Idx → Option (Elt F .f32)

/-- Half of the result array in write mode: at least the elements of `T` are written. -/
def Tok (f0 : S933888x128.Idx → Elt F .f32) (g : Goal F) (s : ℕ) (T : Finset S933888x128.Idx) : sProp 𝕄 :=
  iprop(∃ W : Finset S933888x128.Idx, ⌜T ⊆ W⌝ ∗ willBeTo wmE (A5.view.loc (c : Thread nD τ)) Finset.univ (hsh s) f0 g W)

/-- What a copy out delivers. -/
def DY (f0 : S933888x128.Idx → Elt F .f32) (g : Goal F) (s R : ℕ) (T : Finset S933888x128.Idx) (A : S512x1024.Idx → Elt F .f32) : sProp 𝕄 :=
  iprop((A13.view.loc (c : Thread nD τ) ↦[ax0 s]{fullShare} yFill A) ∗ Tok c f0 g s (T ∪ win R))

abbrev FlY (f0 : S933888x128.Idx → Elt F .f32) (g : Goal F) (s R : ℕ) (T : Finset S933888x128.Idx) (A : S512x1024.Idx → Elt F .f32) : sProp 𝕄 :=
  Transfers.Flight EC (c : Thread nD τ) (.dma (semAt cc0_scratch12 s)) () NY (DY c f0 g s R T A)

theorem posY : 0 < NY := sig.dmaCredit_pos _ _ A5.view.buf S4096x128 .f32 (by decide)

omit [FloatOps F] in
theorem setY {s : ℕ} {off : Fin S2x4096x128.rank → ℕ} {inb : ∀ a, off a + S1x4096x128.size a ≤ S2x4096x128.size a} {hr}
    (e : off = ![s, 0, 0]) : ((A13.slice (Rect.unit (s := S2x4096x128) off S1x4096x128.size inb) hr).squeeze S4096x128 squeezes_S1x4096x128_S4096x128).view.set = ax0 s := by
  show ((View.slice (View.whole A13.view.ref) _).reshape _ _).set = _
  rw [View.set_reshape, View.set_slice_whole]
  exact slot_set (by rw [e]; rfl) (fun k => by rw [e]; fin_cases k <;> rfl)

omit [FloatOps F] in
theorem setOut {R : ℕ} {off : Fin S933888x128.rank → ℕ} {inb : ∀ a, off a + S4096x128.size a ≤ S933888x128.size a} {hr}
    (e : off = ![R, 0]) : (A5.slice (Rect.unit (s := S933888x128) off S4096x128.size inb) hr).view.set = win R := by
  show (View.slice (View.whole A5.view.ref) _).set = _
  rw [View.set_slice_whole]
  subst e
  ext i
  rw [mem_win, Rect.mem_set_unit]
  constructor
  · intro h
    have := h 0
    simp at this
    omega
  · intro h a
    fin_cases a
    · simp; omega
    · have h1 : (i 1 : ℕ) < 128 := (i 1).isLt
      show 0 ≤ (i 1 : ℕ) ∧ (i 1 : ℕ) < 0 + 128
      omega

theorem enqY {α : Type} {Q : α → sProp 𝕄} {k : PUnit → Prog (TpuEff nD τ sig (Elt F) Λ₀ .tc) α} {ιwm : ℕ}
    (f0 : S933888x128.Idx → Elt F .f32) (g : Goal F) (s R : ℕ) (T : Finset S933888x128.Idx) (A : S512x1024.Idx → Elt F .f32) (hs : s < 2)
    (hadm : ∀ i ∈ win R, ∀ u, g i = some u → outAt A R i = u)
    {om inbm od inbd os inbs hr hr' hsrc hdst hsem}
    (em : om = ![s]) (es : os = ![s, 0, 0]) (ed : od = ![R, 0]) :
    iprop(wmInv wmE ιwm ∗ (A13.view.loc (c : Thread nD τ) ↦[ax0 s]{fullShare} yFill A) ∗ Tok c f0 g s T
        ∗ semVal ((c : Thread nD τ), .dma (semAt cc0_scratch12 s)) 0)
      ⊢ iprop((FlY c f0 g s R T A -∗ wpc c (k ⟨⟩) Q)
          -∗ wpc c (Prog.lift (.enqueueDma ((A13.slice (Rect.unit (s := S2x4096x128) os S1x4096x128.size inbs) hr').squeeze S4096x128 squeezes_S1x4096x128_S4096x128)
            (.here (A5.slice (Rect.unit (s := S933888x128) od S4096x128.size inbd) hr))
            (.dma ((cc0_scratch12.slice (Rect.unit (s := S2) om S1.size inbm)).squeeze S_ squeezes_S1_S_).sem) hsrc hdst hsem) >>= k) Q) := by
  have hset := setY (inb := inbs) (hr := hr') es
  have hout := setOut (inb := inbd) (hr := hr) ed
  have hadm' : (A5.slice (Rect.unit (s := S933888x128) od S4096x128.size inbd) hr).view.Admitted (Elt F) g
      (((A13.slice (Rect.unit (s := S2x4096x128) os S1x4096x128.size inbs) hr').squeeze S4096x128 squeezes_S1x4096x128_S4096x128).view.read (Elt F) (yFill A)) Finset.univ := by
    intro x _ u hu
    have hm : ((A5.slice (Rect.unit (s := S933888x128) od S4096x128.size inbd) hr).view.emb x : S933888x128.Idx) ∈ win R := by
      rw [← hout]; exact Finset.mem_map.mpr ⟨x, Finset.mem_univ _, rfl⟩
    refine Eq.trans ?_ (hadm _ hm u hu)
    subst ed es
    show yFill A _ = outAt A R _
    unfold yFill outAt
    have e1 : ∀ a, _ = _ := slot_emb (p := 2) (sz := ![4096, 128]) (off := ![s, 0, 0]) (d := ![4096, 128]) (inb := inbs) (squeezes_S1x4096x128_S4096x128.numel_eq) x
    have h0 : (x 0 : ℕ) < 4096 := (x 0).isLt
    have h1 : (x 1 : ℕ) < 128 := (x 1).isLt
    congr 1
    funext a
    apply Fin.ext
    fin_cases a
    · refine (congrArg (fun z => z / 8 % 512) (e1 1)).trans (?_ : (0 + (x 0 : ℕ)) / 8 % 512 = (R + 1 * (x 0 : ℕ) - R) / 8 % 512)
      congr 2; omega
    · refine (congrArg₂ (fun z y => (128 * (z % 8) + y) % 1024) (e1 1) (e1 2)).trans
        (?_ : (128 * ((0 + (x 0 : ℕ)) % 8) + (0 + (x 1 : ℕ))) % 1024 = (128 * ((R + 1 * (x 0 : ℕ) - R) % 8) + (0 + 1 * (x 1 : ℕ))) % 1024)
      congr 3
      · congr 1; omega
      · omega
  unfold Tok
  iintro ⟨Hw, Hs, ⟨%W, %hW, Ht⟩, Hv⟩ Hk
  iapply (r_enqw c (src := ((A13.slice (Rect.unit (s := S2x4096x128) os S1x4096x128.size inbs) hr').squeeze S4096x128 squeezes_S1x4096x128_S4096x128))
    (dst := A5.slice (Rect.unit (s := S933888x128) od S4096x128.size inbd) hr)
    (sem := ((cc0_scratch12.slice (Rect.unit (s := S2) om S1.size inbm)).squeeze S_ squeezes_S1_S_).sem)
    (k := k) (Q := Q) (hsrc := hsrc) (hdst := hdst) (hsem := hsem) (ιwm := ιwm)
    (Ss := ax0 s) (fs := yFill A) (qd := hsh s) (fd := f0) (g := g) (W := W) (Sd := Finset.univ) NY rfl posY
    _ (sem_eq _ hs em) (DY c f0 g s R T A) hset.subset (Finset.subset_univ _) hadm' ?_) $$ [Hw Hs Ht Hv]
  · unfold DY; unfold Tok
    iintro ⟨Ht, Hs⟩
    isplitl [Hs]
    · iexact Hs
    iexists (W ∪ (A5.slice (Rect.unit (s := S933888x128) od S4096x128.size inbd) hr).view.set)
    isplitr
    · ipureintro
      rw [hout]
      exact Finset.union_subset_union hW subset_rfl
    · iexact Ht
  · isplitl [Hw]; · iexact Hw
    isplitl [Hs]; · iexact Hs
    isplitl [Ht]; · iexact Ht
    iexact Hv
  · iexact Hk

end Cert.KernelIdeal.Run

end
-- ==== Proof.M.I.Dequant.lean ====
/-
  The weights of an expert, unpacked and scaled group by group into the weight buffer.
-/
module

public import proofs.«01_k».proof.Proof.M.I.OutCopy

@[expose] public section

noncomputable section

namespace Cert.KernelIdeal.Run

open Cert.KernelIdeal Cert.KernelIdeal.Gen Cert.Tiles
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Col]
local notation "𝕄" => MT nD τ sig Unit (Elt F) ℕ (UU F) ℕ

variable (X3 : S16x1024x4096.Idx → Elt F .i8) (X4 : S16x16x4096.Idx → Elt F .bf16)

/-- The packed weights of group `j` of expert `e`. -/
def wpBlk (e j : ℕ) : S1x64x1024.Idx → Elt F .i8 := fun x =>
  X3 (ix3 (n0 := 16) (n1 := 1024) (n2 := 4096) ⟨e % 16, Nat.mod_lt _ (by decide)⟩ ⟨(64 * j + (x 1 : ℕ)) % 1024, Nat.mod_lt _ (by decide)⟩ ⟨(Col.n0 + (x 2 : ℕ)) % 4096, Nat.mod_lt _ (by decide)⟩)
/-- The scales of group `j` of expert `e`. -/
def wsBlk (e j : ℕ) : S1x1x1024.Idx → Elt F .bf16 := fun x =>
  X4 (ix3 (n0 := 16) (n1 := 16) (n2 := 4096) ⟨e % 16, Nat.mod_lt _ (by decide)⟩ ⟨j % 16, Nat.mod_lt _ (by decide)⟩ ⟨(Col.n0 + (x 2 : ℕ)) % 4096, Nat.mod_lt _ (by decide)⟩)
/-- The weights of group `j` of expert `e`. -/
def wGrp (e j : ℕ) : S128x1024.Idx → Elt F .bf16 := k0_pay3 (wpBlk X3 e j) (wsBlk X4 e j)
/-- The weights of expert `e`. -/
def wbFill (e : ℕ) : S2048x1024.Idx → Elt F .bf16 := fun i =>
  wGrp X3 X4 e ((i 0 : ℕ) / 128) (ix2 (n0 := 128) (n1 := 1024) ⟨(i 0 : ℕ) % 128, Nat.mod_lt _ (by decide)⟩ (i 1))

theorem read_wp {off inb} (a j e : ℕ) (hj : j < 16) (h : off = ![a, 64 * j, 0]) :
    (A10.access (Rect.unit (s := S2x1024x1024) off S1x64x1024.size inb)).read (Elt F) (wFill X3 e) = wpBlk X3 e j := by
  subst h
  funext x
  show X3 _ = X3 _
  have h1 : (x 1 : ℕ) < 64 := (x 1).isLt
  congr 1
  funext b
  apply Fin.ext
  fin_cases b
  · rfl
  · show 64 * j + 1 * (x 1 : ℕ) = (64 * j + (x 1 : ℕ)) % 1024
    rw [Nat.mod_eq_of_lt (by omega)]; omega
  · show (Col.n0 + (0 + 1 * (x 2 : ℕ))) % 4096 = (Col.n0 + (x 2 : ℕ)) % 4096
    congr 1; omega

theorem read_ws {off inb} (a j e : ℕ) (hj : j < 16) (h : off = ![a, j, 0]) :
    (A11.access (Rect.unit (s := S2x16x1024) off S1x1x1024.size inb)).read (Elt F) (wsFill X4 e) = wsBlk X4 e j := by
  subst h
  funext x
  show X4 _ = X4 _
  have h1 : (x 1 : ℕ) < 1 := (x 1).isLt
  congr 1
  funext b
  apply Fin.ext
  fin_cases b
  · rfl
  · show j + 1 * (x 1 : ℕ) = j % 16
    rw [Nat.mod_eq_of_lt (by omega)]; omega
  · show (Col.n0 + (0 + 1 * (x 2 : ℕ))) % 4096 = (Col.n0 + (x 2 : ℕ)) % 4096
    congr 1; omega

variable (c : Dev nD)

abbrev SlW (a e : ℕ) : sProp 𝕄 := (A10.view.loc (c : Thread nD τ) ↦[ax0 a]{fullShare} wFill X3 e)
abbrev SlWS (a e : ℕ) : sProp 𝕄 := (A11.view.loc (c : Thread nD τ) ↦[ax0 a]{fullShare} wsFill X4 e)
/-- The weight buffer with the first `n` groups of expert `e` in it. -/
def WbI (e n : ℕ) : sProp 𝕄 :=
  iprop(∃ f : S2048x1024.Idx → Elt F .bf16, ⌜∀ i, (i 0 : ℕ) < 128 * n → f i = wbFill X3 X4 e i⌝ ∗ (A12.view.loc (c : Thread nD τ) ↦[Finset.univ]{fullShare} f))

theorem ld_wp {α : Type} {Q : α → sProp 𝕄} {off inb} {hl} {k : (S1x64x1024.Idx → Elt F .i8) → Prog (TpuEff nD τ sig (Elt F) Λ₀ .tc) α}
    (a e j : ℕ) (hj : j < 16) (h : off = ![a, 64 * j, 0]) :
    SlW X3 c a e ⊢ iprop((SlW X3 c a e -∗ wpc c (k (wpBlk X3 e j)) Q)
      -∗ wpc c (Prog.lift (.load A10 (Rect.unit (s := S2x1024x1024) off S1x64x1024.size inb).toLoadRect hl) >>= k) Q) := by
  have hS : (A10.access (Rect.unit (s := S2x1024x1024) off S1x64x1024.size inb)).set ⊆ ax0 a := by
    show (View.slice (View.whole A10.view.ref) _).set ⊆ _
    rw [View.set_slice_whole]
    intro i hi
    rw [Rect.mem_set_unit] at hi
    have := hi 0
    rw [mem_ax0]
    subst h
    simp at this
    omega
  have := r_load c (Q := Q) (m := A10) (r := Rect.unit (s := S2x1024x1024) off S1x64x1024.size inb) (hl := hl) (k := k) (S := ax0 a) (q := fullShare) (f := wFill X3 e) hS
  rw [read_wp X3 a j e hj h] at this
  exact this

theorem ld_ws {α : Type} {Q : α → sProp 𝕄} {off inb} {hl} {k : (S1x1x1024.Idx → Elt F .bf16) → Prog (TpuEff nD τ sig (Elt F) Λ₀ .tc) α}
    (a e j : ℕ) (hj : j < 16) (h : off = ![a, j, 0]) :
    SlWS X4 c a e ⊢ iprop((SlWS X4 c a e -∗ wpc c (k (wsBlk X4 e j)) Q)
      -∗ wpc c (Prog.lift (.load A11 (Rect.unit (s := S2x16x1024) off S1x1x1024.size inb).toLoadRect hl) >>= k) Q) := by
  have hS : (A11.access (Rect.unit (s := S2x16x1024) off S1x1x1024.size inb)).set ⊆ ax0 a := by
    show (View.slice (View.whole A11.view.ref) _).set ⊆ _
    rw [View.set_slice_whole]
    intro i hi
    rw [Rect.mem_set_unit] at hi
    have := hi 0
    rw [mem_ax0]
    subst h
    simp at this
    omega
  have := r_load c (Q := Q) (m := A11) (r := Rect.unit (s := S2x16x1024) off S1x1x1024.size inb) (hl := hl) (k := k) (S := ax0 a) (q := fullShare) (f := wsFill X4 e) hS
  rw [read_ws X4 a j e hj h] at this
  exact this

theorem ld_wb {α : Type} {Q : α → sProp 𝕄} {off inb} {hl} {k : (S128x1024.Idx → Elt F .bf16) → Prog (TpuEff nD τ sig (Elt F) Λ₀ .tc) α} (e n : ℕ) :
    WbI X3 X4 c e n ⊢ iprop((∀ v, WbI X3 X4 c e n -∗ wpc c (k v) Q)
      -∗ wpc c (Prog.lift (.load A12 (Rect.unit (s := S2048x1024) off S128x1024.size inb).toLoadRect hl) >>= k) Q) := by
  unfold WbI
  iintro ⟨%f, %hf, H⟩ HK
  iapply (r_load c (Q := Q) (m := A12) (r := Rect.unit (s := S2048x1024) off S128x1024.size inb) (hl := hl) (k := k) (S := Finset.univ) (q := fullShare) (f := f) (Finset.subset_univ _)) $$ H
  iintro H
  iapply HK
  iexists f
  isplitr
  · ipureintro; exact hf
  · iexact H

theorem st_wb {α : Type} {Q : α → sProp 𝕄} {off inb} {hx hm} {w : S128x1024.Idx → Elt F .bf16} {k : PUnit → Prog (TpuEff nD τ sig (Elt F) Λ₀ .tc) α} (e j : ℕ)
    (h : off = ![128 * j, 0]) (hw : w = wGrp X3 X4 e j) :
    WbI X3 X4 c e j ⊢ iprop((WbI X3 X4 c e (j + 1) -∗ wpc c (k ⟨⟩) Q)
      -∗ wpc c (Prog.lift (.store A12 (Rect.unit (s := S2048x1024) off S128x1024.size inb) w Finset.univ hx hm) >>= k) Q) := by
  unfold WbI
  iintro ⟨%f, %hf, H⟩ HK
  iapply (r_store c (Q := Q) (m := A12) (r := Rect.unit (s := S2048x1024) off S128x1024.size inb) (w := w) (hx := hx) (hm := hm) (k := k) (S := Finset.univ) (f := f) (Finset.subset_univ _)) $$ H
  iintro H
  iapply HK
  iexists _
  isplitr
  swap
  · iexact H
  · ipureintro
    intro i hi
    subst h
    by_cases hm : i ∈ (A12.access (Rect.unit (s := S2048x1024) ![128 * j, 0] S128x1024.size inb)).set
    · obtain ⟨x, -, rfl⟩ := Finset.mem_map.mp hm
      rw [View.write_emb_of_mem _ _ (Finset.mem_univ x)]
      subst hw
      have h0 : (x 0 : ℕ) < 128 := (x 0).isLt
      have h1 : (x 1 : ℕ) < 1024 := (x 1).isLt
      show wGrp X3 X4 e j x = wGrp X3 X4 e ((128 * j + 1 * (x 0 : ℕ)) / 128) _
      have ej : (128 * j + 1 * (x 0 : ℕ)) / 128 = j := by omega
      rw [ej]
      congr 1
      funext b
      apply Fin.ext
      fin_cases b
      · show (x 0 : ℕ) = (128 * j + 1 * (x 0 : ℕ)) % 128
        omega
      · show (x 1 : ℕ) = 0 + 1 * (x 1 : ℕ)
        omega
    · rw [View.write_of_not_mem _ _ _ (by rw [View.setOn_univ]; exact hm)]
      refine hf i ?_
      by_contra hc
      apply hm
      have hset : (A12.access (Rect.unit (s := S2048x1024) ![128 * j, 0] S128x1024.size inb)).set = (Rect.unit (s := S2048x1024) ![128 * j, 0] S128x1024.size inb).set := by
        show (View.slice (View.whole A12.view.ref) _).set = _
        rw [View.set_slice_whole]
      rw [hset, Rect.mem_set_unit]
      have h1 : (i 1 : ℕ) < 1024 := (i 1).isLt
      intro b
      fin_cases b
      · show 128 * j ≤ (i 0 : ℕ) ∧ (i 0 : ℕ) < 128 * j + 128
        omega
      · show 0 ≤ (i 1 : ℕ) ∧ (i 1 : ℕ) < 0 + 1024
        omega

variable (arg0 : Memref sig .tc .smem S16 .i32) (harg0 : arg0.IsWhole)
/-- What the parts that unpack hold. -/
abbrev DqI (a e n : ℕ) : sProp 𝕄 := iprop(SlW X3 c a e ∗ SlWS X4 c a e ∗ WbI X3 X4 c e n)

theorem part3_rule {α : Type} {Q : α → sProp 𝕄} (v : BitVec 32) (t : Fin (k0_t4_loop v).trips) (a e : ℕ) (ha : a < 2) (v75 v80 : BitVec 32) (hw) (h2)
    {kk : _ → Prog (TpuEff nD τ sig (Elt F) Λ₀ .tc) α} :
    DqI X3 X4 c a e 0 ⊢ iprop((DqI X3 X4 c a e 2 -∗ wpc c (kk ⟨k0_pay4 (wpBlk X3 e 2), k0_pay5 (wpBlk X3 e 2)⟩) Q)
      -∗ wpc c (k0_part3 (F := F) arg0 harg0 A1 H1 A2 H2 A3 H3 A4 H4 A5 H5 A6 H6 A7 H7 A8 H8 A9 H9 A10 H10 A11 H11 A12 H12 A13 H13 cc0_scratch8 cc0_scratch9 cc0_scratch10 cc0_scratch11 cc0_scratch12 v t (W a) v75 v80 hw h2 (k0_pay1 (wpBlk X3 e 0)) >>= kk) Q) := by
  rw [k0_part3_eq_skeleton]; unfold k0_part3_skel
  iintro ⟨HW, HS, HB⟩ HK
  iapply (r_bind c)
  iapply (ld_ws X4 c a e 0 (by decide) (o28 a ha)) $$ HS
  iintro HS
  iapply (ld_wb X3 X4 c e 0) $$ HB
  iintro %v HB
  iapply (st_wb X3 X4 c e 0 rfl rfl) $$ HB
  iintro HB
  iapply (ld_wp X3 c a e 1 (by decide) (o29 a ha)) $$ HW
  iintro HW
  iapply (ld_ws X4 c a e 1 (by decide) (o30 a ha)) $$ HS
  iintro HS
  iapply (ld_wb X3 X4 c e 1) $$ HB
  iintro %v HB
  iapply (st_wb X3 X4 c e 1 rfl rfl) $$ HB
  iintro HB
  iapply (ld_wp X3 c a e 2 (by decide) (o31 a ha)) $$ HW
  iintro HW
  iapply (r_pure c)
  iapply HK
  isplitl [HW]; · iexact HW
  isplitl [HS]; · iexact HS
  iexact HB

theorem part4_rule {α : Type} {Q : α → sProp 𝕄} (v : BitVec 32) (t : Fin (k0_t4_loop v).trips) (a e : ℕ) (ha : a < 2) (v75 v80 : BitVec 32) (hw) (h2)
    {kk : _ → Prog (TpuEff nD τ sig (Elt F) Λ₀ .tc) α} :
    DqI X3 X4 c a e 2 ⊢ iprop((DqI X3 X4 c a e 4 -∗ wpc c (kk ⟨⟩) Q)
      -∗ wpc c (k0_part4 (F := F) arg0 harg0 A1 H1 A2 H2 A3 H3 A4 H4 A5 H5 A6 H6 A7 H7 A8 H8 A9 H9 A10 H10 A11 H11 A12 H12 A13 H13 cc0_scratch8 cc0_scratch9 cc0_scratch10 cc0_scratch11 cc0_scratch12 v t (W a) v75 v80 hw h2 (k0_pay4 (wpBlk X3 e 2)) (k0_pay5 (wpBlk X3 e 2)) >>= kk) Q) := by
  rw [k0_part4_eq_skeleton]; unfold k0_part4_skel
  iintro ⟨HW, HS, HB⟩ HK
  iapply (r_bind c)
  iapply (ld_ws X4 c a e 2 (by decide) (o32 a ha)) $$ HS
  iintro HS
  iapply (ld_wb X3 X4 c e 2) $$ HB
  iintro %v HB
  iapply (st_wb X3 X4 c e 2 rfl rfl) $$ HB
  iintro HB
  iapply (ld_wp X3 c a e 3 (by decide) (o33 a ha)) $$ HW
  iintro HW
  iapply (ld_ws X4 c a e 3 (by decide) (o34 a ha)) $$ HS
  iintro HS
  iapply (ld_wb X3 X4 c e 3) $$ HB
  iintro %v HB
  iapply (st_wb X3 X4 c e 3 rfl rfl) $$ HB
  iintro HB
  iapply (r_pure c)
  iapply HK
  isplitl [HW]; · iexact HW
  isplitl [HS]; · iexact HS
  iexact HB

theorem part5_rule {α : Type} {Q : α → sProp 𝕄} (v : BitVec 32) (t : Fin (k0_t4_loop v).trips) (a e : ℕ) (ha : a < 2) (v75 v80 : BitVec 32) (hw) (h2)
    {kk : _ → Prog (TpuEff nD τ sig (Elt F) Λ₀ .tc) α} :
    DqI X3 X4 c a e 4 ⊢ iprop((DqI X3 X4 c a e 5 -∗ wpc c (kk (k0_pay9 (wpBlk X3 e 5))) Q)
      -∗ wpc c (k0_part5 (F := F) arg0 harg0 A1 H1 A2 H2 A3 H3 A4 H4 A5 H5 A6 H6 A7 H7 A8 H8 A9 H9 A10 H10 A11 H11 A12 H12 A13 H13 cc0_scratch8 cc0_scratch9 cc0_scratch10 cc0_scratch11 cc0_scratch12 v t (W a) v75 v80 hw h2  >>= kk) Q) := by
  rw [k0_part5_eq_skeleton]; unfold k0_part5_skel
  iintro ⟨HW, HS, HB⟩ HK
  iapply (r_bind c)
  iapply (ld_wp X3 c a e 4 (by decide) (o35 a ha)) $$ HW
  iintro HW
  iapply (ld_ws X4 c a e 4 (by decide) (o36 a ha)) $$ HS
  iintro HS
  iapply (ld_wb X3 X4 c e 4) $$ HB
  iintro %v HB
  iapply (st_wb X3 X4 c e 4 rfl rfl) $$ HB
  iintro HB
  iapply (ld_wp X3 c a e 5 (by decide) (o37 a ha)) $$ HW
  iintro HW
  iapply (r_pure c)
  iapply HK
  isplitl [HW]; · iexact HW
  isplitl [HS]; · iexact HS
  iexact HB

theorem part6_rule {α : Type} {Q : α → sProp 𝕄} (v : BitVec 32) (t : Fin (k0_t4_loop v).trips) (a e : ℕ) (ha : a < 2) (v75 v80 : BitVec 32) (hw) (h2)
    {kk : _ → Prog (TpuEff nD τ sig (Elt F) Λ₀ .tc) α} :
    DqI X3 X4 c a e 5 ⊢ iprop((DqI X3 X4 c a e 7 -∗ wpc c (kk ⟨k0_pay12 (wpBlk X3 e 7), k0_pay13 (wpBlk X3 e 7)⟩) Q)
      -∗ wpc c (k0_part6 (F := F) arg0 harg0 A1 H1 A2 H2 A3 H3 A4 H4 A5 H5 A6 H6 A7 H7 A8 H8 A9 H9 A10 H10 A11 H11 A12 H12 A13 H13 cc0_scratch8 cc0_scratch9 cc0_scratch10 cc0_scratch11 cc0_scratch12 v t (W a) v75 v80 hw h2 (k0_pay9 (wpBlk X3 e 5)) >>= kk) Q) := by
  rw [k0_part6_eq_skeleton]; unfold k0_part6_skel
  iintro ⟨HW, HS, HB⟩ HK
  iapply (r_bind c)
  iapply (ld_ws X4 c a e 5 (by decide) (o38 a ha)) $$ HS
  iintro HS
  iapply (ld_wb X3 X4 c e 5) $$ HB
  iintro %v HB
  iapply (st_wb X3 X4 c e 5 rfl rfl) $$ HB
  iintro HB
  iapply (ld_wp X3 c a e 6 (by decide) (o39 a ha)) $$ HW
  iintro HW
  iapply (ld_ws X4 c a e 6 (by decide) (o40 a ha)) $$ HS
  iintro HS
  iapply (ld_wb X3 X4 c e 6) $$ HB
  iintro %v HB
  iapply (st_wb X3 X4 c e 6 rfl rfl) $$ HB
  iintro HB
  iapply (ld_wp X3 c a e 7 (by decide) (o41 a ha)) $$ HW
  iintro HW
  iapply (r_pure c)
  iapply HK
  isplitl [HW]; · iexact HW
  isplitl [HS]; · iexact HS
  iexact HB

theorem part7_rule {α : Type} {Q : α → sProp 𝕄} (v : BitVec 32) (t : Fin (k0_t4_loop v).trips) (a e : ℕ) (ha : a < 2) (v75 v80 : BitVec 32) (hw) (h2)
    {kk : _ → Prog (TpuEff nD τ sig (Elt F) Λ₀ .tc) α} :
    DqI X3 X4 c a e 7 ⊢ iprop((DqI X3 X4 c a e 9 -∗ wpc c (kk ⟨⟩) Q)
      -∗ wpc c (k0_part7 (F := F) arg0 harg0 A1 H1 A2 H2 A3 H3 A4 H4 A5 H5 A6 H6 A7 H7 A8 H8 A9 H9 A10 H10 A11 H11 A12 H12 A13 H13 cc0_scratch8 cc0_scratch9 cc0_scratch10 cc0_scratch11 cc0_scratch12 v t (W a) v75 v80 hw h2 (k0_pay12 (wpBlk X3 e 7)) (k0_pay13 (wpBlk X3 e 7)) >>= kk) Q) := by
  rw [k0_part7_eq_skeleton]; unfold k0_part7_skel
  iintro ⟨HW, HS, HB⟩ HK
  iapply (r_bind c)
  iapply (ld_ws X4 c a e 7 (by decide) (o42 a ha)) $$ HS
  iintro HS
  iapply (ld_wb X3 X4 c e 7) $$ HB
  iintro %v HB
  iapply (st_wb X3 X4 c e 7 rfl rfl) $$ HB
  iintro HB
  iapply (ld_wp X3 c a e 8 (by decide) (o43 a ha)) $$ HW
  iintro HW
  iapply (ld_ws X4 c a e 8 (by decide) (o44 a ha)) $$ HS
  iintro HS
  iapply (ld_wb X3 X4 c e 8) $$ HB
  iintro %v HB
  iapply (st_wb X3 X4 c e 8 rfl rfl) $$ HB
  iintro HB
  iapply (r_pure c)
  iapply HK
  isplitl [HW]; · iexact HW
  isplitl [HS]; · iexact HS
  iexact HB

theorem part8_rule {α : Type} {Q : α → sProp 𝕄} (v : BitVec 32) (t : Fin (k0_t4_loop v).trips) (a e : ℕ) (ha : a < 2) (v75 v80 : BitVec 32) (hw) (h2)
    {kk : _ → Prog (TpuEff nD τ sig (Elt F) Λ₀ .tc) α} :
    DqI X3 X4 c a e 9 ⊢ iprop((DqI X3 X4 c a e 10 -∗ wpc c (kk (k0_pay17 (wpBlk X3 e 10))) Q)
      -∗ wpc c (k0_part8 (F := F) arg0 harg0 A1 H1 A2 H2 A3 H3 A4 H4 A5 H5 A6 H6 A7 H7 A8 H8 A9 H9 A10 H10 A11 H11 A12 H12 A13 H13 cc0_scratch8 cc0_scratch9 cc0_scratch10 cc0_scratch11 cc0_scratch12 v t (W a) v75 v80 hw h2  >>= kk) Q) := by
  rw [k0_part8_eq_skeleton]; unfold k0_part8_skel
  iintro ⟨HW, HS, HB⟩ HK
  iapply (r_bind c)
  iapply (ld_wp X3 c a e 9 (by decide) (o45 a ha)) $$ HW
  iintro HW
  iapply (ld_ws X4 c a e 9 (by decide) (o46 a ha)) $$ HS
  iintro HS
  iapply (ld_wb X3 X4 c e 9) $$ HB
  iintro %v HB
  iapply (st_wb X3 X4 c e 9 rfl rfl) $$ HB
  iintro HB
  iapply (ld_wp X3 c a e 10 (by decide) (o47 a ha)) $$ HW
  iintro HW
  iapply (r_pure c)
  iapply HK
  isplitl [HW]; · iexact HW
  isplitl [HS]; · iexact HS
  iexact HB

theorem part9_rule {α : Type} {Q : α → sProp 𝕄} (v : BitVec 32) (t : Fin (k0_t4_loop v).trips) (a e : ℕ) (ha : a < 2) (v75 v80 : BitVec 32) (hw) (h2)
    {kk : _ → Prog (TpuEff nD τ sig (Elt F) Λ₀ .tc) α} :
    DqI X3 X4 c a e 10 ⊢ iprop((DqI X3 X4 c a e 12 -∗ wpc c (kk ⟨k0_pay20 (wpBlk X3 e 12), k0_pay21 (wpBlk X3 e 12)⟩) Q)
      -∗ wpc c (k0_part9 (F := F) arg0 harg0 A1 H1 A2 H2 A3 H3 A4 H4 A5 H5 A6 H6 A7 H7 A8 H8 A9 H9 A10 H10 A11 H11 A12 H12 A13 H13 cc0_scratch8 cc0_scratch9 cc0_scratch10 cc0_scratch11 cc0_scratch12 v t (W a) v75 v80 hw h2 (k0_pay17 (wpBlk X3 e 10)) >>= kk) Q) := by
  rw [k0_part9_eq_skeleton]; unfold k0_part9_skel
  iintro ⟨HW, HS, HB⟩ HK
  iapply (r_bind c)
  iapply (ld_ws X4 c a e 10 (by decide) (o48 a ha)) $$ HS
  iintro HS
  iapply (ld_wb X3 X4 c e 10) $$ HB
  iintro %v HB
  iapply (st_wb X3 X4 c e 10 rfl rfl) $$ HB
  iintro HB
  iapply (ld_wp X3 c a e 11 (by decide) (o49 a ha)) $$ HW
  iintro HW
  iapply (ld_ws X4 c a e 11 (by decide) (o50 a ha)) $$ HS
  iintro HS
  iapply (ld_wb X3 X4 c e 11) $$ HB
  iintro %v HB
  iapply (st_wb X3 X4 c e 11 rfl rfl) $$ HB
  iintro HB
  iapply (ld_wp X3 c a e 12 (by decide) (o51 a ha)) $$ HW
  iintro HW
  iapply (r_pure c)
  iapply HK
  isplitl [HW]; · iexact HW
  isplitl [HS]; · iexact HS
  iexact HB

theorem part10_rule {α : Type} {Q : α → sProp 𝕄} (v : BitVec 32) (t : Fin (k0_t4_loop v).trips) (a e : ℕ) (ha : a < 2) (v75 v80 : BitVec 32) (hw) (h2)
    {kk : _ → Prog (TpuEff nD τ sig (Elt F) Λ₀ .tc) α} :
    DqI X3 X4 c a e 12 ⊢ iprop((DqI X3 X4 c a e 14 -∗ wpc c (kk ⟨⟩) Q)
      -∗ wpc c (k0_part10 (F := F) arg0 harg0 A1 H1 A2 H2 A3 H3 A4 H4 A5 H5 A6 H6 A7 H7 A8 H8 A9 H9 A10 H10 A11 H11 A12 H12 A13 H13 cc0_scratch8 cc0_scratch9 cc0_scratch10 cc0_scratch11 cc0_scratch12 v t (W a) v75 v80 hw h2 (k0_pay20 (wpBlk X3 e 12)) (k0_pay21 (wpBlk X3 e 12)) >>= kk) Q) := by
  rw [k0_part10_eq_skeleton]; unfold k0_part10_skel
  iintro ⟨HW, HS, HB⟩ HK
  iapply (r_bind c)
  iapply (ld_ws X4 c a e 12 (by decide) (o52 a ha)) $$ HS
  iintro HS
  iapply (ld_wb X3 X4 c e 12) $$ HB
  iintro %v HB
  iapply (st_wb X3 X4 c e 12 rfl rfl) $$ HB
  iintro HB
  iapply (ld_wp X3 c a e 13 (by decide) (o53 a ha)) $$ HW
  iintro HW
  iapply (ld_ws X4 c a e 13 (by decide) (o54 a ha)) $$ HS
  iintro HS
  iapply (ld_wb X3 X4 c e 13) $$ HB
  iintro %v HB
  iapply (st_wb X3 X4 c e 13 rfl rfl) $$ HB
  iintro HB
  iapply (r_pure c)
  iapply HK
  isplitl [HW]; · iexact HW
  isplitl [HS]; · iexact HS
  iexact HB

theorem part11_rule {α : Type} {Q : α → sProp 𝕄} (v : BitVec 32) (t : Fin (k0_t4_loop v).trips) (a e : ℕ) (ha : a < 2) (v75 v80 : BitVec 32) (hw) (h2)
    {kk : _ → Prog (TpuEff nD τ sig (Elt F) Λ₀ .tc) α} :
    DqI X3 X4 c a e 14 ⊢ iprop((DqI X3 X4 c a e 15 -∗ wpc c (kk (k0_pay25 (wpBlk X3 e 15))) Q)
      -∗ wpc c (k0_part11 (F := F) arg0 harg0 A1 H1 A2 H2 A3 H3 A4 H4 A5 H5 A6 H6 A7 H7 A8 H8 A9 H9 A10 H10 A11 H11 A12 H12 A13 H13 cc0_scratch8 cc0_scratch9 cc0_scratch10 cc0_scratch11 cc0_scratch12 v t (W a) v75 v80 hw h2  >>= kk) Q) := by
  rw [k0_part11_eq_skeleton]; unfold k0_part11_skel
  iintro ⟨HW, HS, HB⟩ HK
  iapply (r_bind c)
  iapply (ld_wp X3 c a e 14 (by decide) (o55 a ha)) $$ HW
  iintro HW
  iapply (ld_ws X4 c a e 14 (by decide) (o56 a ha)) $$ HS
  iintro HS
  iapply (ld_wb X3 X4 c e 14) $$ HB
  iintro %v HB
  iapply (st_wb X3 X4 c e 14 rfl rfl) $$ HB
  iintro HB
  iapply (ld_wp X3 c a e 15 (by decide) (o57 a ha)) $$ HW
  iintro HW
  iapply (r_pure c)
  iapply HK
  isplitl [HW]; · iexact HW
  isplitl [HS]; · iexact HS
  iexact HB

end Cert.KernelIdeal.Run

end
-- ==== Proof.M.I.State.lean ====
/-
  Waiting for a copy; a slot at rest; one word of a table.
-/
module

public import proofs.«01_k».proof.Proof.M.I.Dequant

@[expose] public section

noncomputable section

namespace Cert.KernelIdeal.Run

open Cert.KernelIdeal Cert.KernelIdeal.Gen Cert.Tiles
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Col]
local notation "𝕄" => MT nD τ sig Unit (Elt F) ℕ (UU F) ℕ

variable (c : Dev nD)

/-- A choice of the program whose second way does nothing. -/
theorem r_dite {α : Type} {Q : α → sProp 𝕄} {p : Prop} {d : Decidable p} {A : p → Prog (TpuEff nD τ sig (Elt F) Λ₀ .tc) α} {K : Prog (TpuEff nD τ sig (Elt F) Λ₀ .tc) α}
    {P R : sProp 𝕄} (hp : ∀ h, P ⊢ iprop((R -∗ wpc c K Q) -∗ wpc c (A h) Q)) (hn : ¬p → P ⊢ R) :
    P ⊢ iprop((R -∗ wpc c K Q) -∗ wpc c (dite p A (fun _ => K)) Q) := by
  by_cases h : p
  · rw [dif_pos h]; exact hp h
  · rw [dif_neg h]
    iintro HP HK
    iapply HK
    iapply (hn h)
    iexact HP

abbrev Owes : sProp 𝕄 := iprop(∃ W, owes (c : Thread nD τ) 0 W)

theorem waitH {α : Type} {Q : α → sProp 𝕄} {k : PUnit → Prog (TpuEff nD τ sig (Elt F) Λ₀ .tc) α}
    (X : S98304x2048.Idx → Elt F .fp8e4m3) (s ρ : ℕ) (hs : s < 2) {om inbm od inbd os inbs hr hr' hsrc hdst} (em : om = ![s]) :
    iprop(FlH c X s ρ ∗ Owes c) ⊢ iprop((iprop(DH c X s ρ ∗ semVal ((c : Thread nD τ), .dma (semAt cc0_scratch8 s)) 0 ∗ Owes c) -∗ wpc c (k ⟨⟩) Q)
      -∗ wpc c (Prog.lift (.waitDma2 ((cc0_scratch8.slice (Rect.unit (s := S2) om S1.size inbm)).squeeze S_ squeezes_S1_S_).sem
        (A1.slice (Rect.unit (s := S98304x2048) os S512x2048.size inbs) hr)
        ((A8.slice (Rect.unit (s := S2x512x2048) od S1x512x2048.size inbd) hr').squeeze S512x2048 squeezes_S1x512x2048_S512x2048) hsrc hdst) >>= k) Q) :=
  r_wait c (Q := Q) (k := k) NH rfl (semAt cc0_scratch8 s) (sem_eq _ hs em)

/-- The slot at rest. -/
def HIdle (X : S98304x2048.Idx → Elt F .fp8e4m3) (s : ℕ) : sProp 𝕄 :=
  iprop(∃ fd : S2x512x2048.Idx → Elt F .fp8e4m3, (A1.view.loc (c : Thread nD τ) ↦[Finset.univ]{hsh s} X) ∗ (A8.view.loc (c : Thread nD τ) ↦[ax0 s]{fullShare} fd)
    ∗ semVal ((c : Thread nD τ), .dma (semAt cc0_scratch8 s)) 0)

theorem waitS {α : Type} {Q : α → sProp 𝕄} {k : PUnit → Prog (TpuEff nD τ sig (Elt F) Λ₀ .tc) α}
    (X : S768x1x128.Idx → Elt F .f32) (s ρ : ℕ) (hs : s < 2) {om inbm od inbd os inbs hr hr' hsrc hdst} (em : om = ![s]) :
    iprop(FlS c X s ρ ∗ Owes c) ⊢ iprop((iprop(DS c X s ρ ∗ semVal ((c : Thread nD τ), .dma (semAt cc0_scratch9 s)) 0 ∗ Owes c) -∗ wpc c (k ⟨⟩) Q)
      -∗ wpc c (Prog.lift (.waitDma2 ((cc0_scratch9.slice (Rect.unit (s := S2) om S1.size inbm)).squeeze S_ squeezes_S1_S_).sem
        (A2.slice (Rect.unit (s := S768x1x128) os S4x1x128.size inbs) hr)
        ((A9.slice (Rect.unit (s := S2x4x1x128) od S1x4x1x128.size inbd) hr').squeeze S4x1x128 squeezes_S1x4x1x128_S4x1x128) hsrc hdst) >>= k) Q) :=
  r_wait c (Q := Q) (k := k) NS rfl (semAt cc0_scratch9 s) (sem_eq _ hs em)

/-- The slot at rest. -/
def SIdle (X : S768x1x128.Idx → Elt F .f32) (s : ℕ) : sProp 𝕄 :=
  iprop(∃ fd : S2x4x1x128.Idx → Elt F .f32, (A2.view.loc (c : Thread nD τ) ↦[Finset.univ]{hsh s} X) ∗ (A9.view.loc (c : Thread nD τ) ↦[ax0 s]{fullShare} fd)
    ∗ semVal ((c : Thread nD τ), .dma (semAt cc0_scratch9 s)) 0)

theorem waitW {α : Type} {Q : α → sProp 𝕄} {k : PUnit → Prog (TpuEff nD τ sig (Elt F) Λ₀ .tc) α}
    (X : S16x1024x4096.Idx → Elt F .i8) (s ρ : ℕ) (hs : s < 2) {om inbm od inbd os inbs hr hr' hsrc hdst} (em : om = ![s]) :
    iprop(FlW c X s ρ ∗ Owes c) ⊢ iprop((iprop(DW c X s ρ ∗ semVal ((c : Thread nD τ), .dma (semAt cc0_scratch10 s)) 0 ∗ Owes c) -∗ wpc c (k ⟨⟩) Q)
      -∗ wpc c (Prog.lift (.waitDma2 ((cc0_scratch10.slice (Rect.unit (s := S2) om S1.size inbm)).squeeze S_ squeezes_S1_S_).sem
        ((A3.slice (Rect.unit (s := S16x1024x4096) os S1x1024x1024.size inbs) hr).squeeze S1024x1024 squeezes_S1x1024x1024_S1024x1024)
        ((A10.slice (Rect.unit (s := S2x1024x1024) od S1x1024x1024.size inbd) hr').squeeze S1024x1024 squeezes_S1x1024x1024_S1024x1024) hsrc hdst) >>= k) Q) :=
  r_wait c (Q := Q) (k := k) NW rfl (semAt cc0_scratch10 s) (sem_eq _ hs em)

/-- The slot at rest. -/
def WIdle (X : S16x1024x4096.Idx → Elt F .i8) (s : ℕ) : sProp 𝕄 :=
  iprop(∃ fd : S2x1024x1024.Idx → Elt F .i8, (A3.view.loc (c : Thread nD τ) ↦[Finset.univ]{hsh s} X) ∗ (A10.view.loc (c : Thread nD τ) ↦[ax0 s]{fullShare} fd)
    ∗ semVal ((c : Thread nD τ), .dma (semAt cc0_scratch10 s)) 0)

theorem waitWS {α : Type} {Q : α → sProp 𝕄} {k : PUnit → Prog (TpuEff nD τ sig (Elt F) Λ₀ .tc) α}
    (X : S16x16x4096.Idx → Elt F .bf16) (s ρ : ℕ) (hs : s < 2) {om inbm od inbd os inbs hr hr' hsrc hdst} (em : om = ![s]) :
    iprop(FlWS c X s ρ ∗ Owes c) ⊢ iprop((iprop(DWS c X s ρ ∗ semVal ((c : Thread nD τ), .dma (semAt cc0_scratch11 s)) 0 ∗ Owes c) -∗ wpc c (k ⟨⟩) Q)
      -∗ wpc c (Prog.lift (.waitDma2 ((cc0_scratch11.slice (Rect.unit (s := S2) om S1.size inbm)).squeeze S_ squeezes_S1_S_).sem
        ((A4.slice (Rect.unit (s := S16x16x4096) os S1x16x1024.size inbs) hr).squeeze S16x1024 squeezes_S1x16x1024_S16x1024)
        ((A11.slice (Rect.unit (s := S2x16x1024) od S1x16x1024.size inbd) hr').squeeze S16x1024 squeezes_S1x16x1024_S16x1024) hsrc hdst) >>= k) Q) :=
  r_wait c (Q := Q) (k := k) NWS rfl (semAt cc0_scratch11 s) (sem_eq _ hs em)

/-- The slot at rest. -/
def WSIdle (X : S16x16x4096.Idx → Elt F .bf16) (s : ℕ) : sProp 𝕄 :=
  iprop(∃ fd : S2x16x1024.Idx → Elt F .bf16, (A4.view.loc (c : Thread nD τ) ↦[Finset.univ]{hsh s} X) ∗ (A11.view.loc (c : Thread nD τ) ↦[ax0 s]{fullShare} fd)
    ∗ semVal ((c : Thread nD τ), .dma (semAt cc0_scratch11 s)) 0)

theorem waitY {α : Type} {Q : α → sProp 𝕄} {k : PUnit → Prog (TpuEff nD τ sig (Elt F) Λ₀ .tc) α}
    (f0 : S933888x128.Idx → Elt F .f32) (g : Goal F) (s R : ℕ) (T : Finset S933888x128.Idx) (A : S512x1024.Idx → Elt F .f32) (hs : s < 2)
    {om inbm od inbd os inbs hr hr' hsrc hdst} (em : om = ![s]) :
    iprop(FlY c f0 g s R T A ∗ Owes c) ⊢ iprop((iprop(DY c f0 g s R T A ∗ semVal ((c : Thread nD τ), .dma (semAt cc0_scratch12 s)) 0 ∗ Owes c) -∗ wpc c (k ⟨⟩) Q)
      -∗ wpc c (Prog.lift (.waitDma2 ((cc0_scratch12.slice (Rect.unit (s := S2) om S1.size inbm)).squeeze S_ squeezes_S1_S_).sem
        ((A13.slice (Rect.unit (s := S2x4096x128) os S1x4096x128.size inbs) hr').squeeze S4096x128 squeezes_S1x4096x128_S4096x128)
        (A5.slice (Rect.unit (s := S933888x128) od S4096x128.size inbd) hr) hsrc hdst) >>= k) Q) :=
  r_wait c (Q := Q) (k := k) NY rfl (semAt cc0_scratch12 s) (sem_eq _ hs em)

/-- The result slot at rest. -/
def YIdle (f0 : S933888x128.Idx → Elt F .f32) (g : Goal F) (s : ℕ) (T : Finset S933888x128.Idx) : sProp 𝕄 :=
  iprop(∃ fd : S2x4096x128.Idx → Elt F .f32, (A13.view.loc (c : Thread nD τ) ↦[ax0 s]{fullShare} fd) ∗ Tok c f0 g s T
    ∗ semVal ((c : Thread nD τ), .dma (semAt cc0_scratch12 s)) 0)

variable (g : ℕ → ℕ)

theorem r_row {α : Type} {Q : α → sProp 𝕄} {off inb h1 hp} {k : Elt F .i32 → Prog (TpuEff nD τ sig (Elt F) Λ₀ .tc) α}
    {n : ℕ} {f6 f7 : S224.Idx → Elt F .i32} (hT : TabOK (F := F) g n f6 f7) (i : ℕ) (hi : i < n) (hi' : i < 224) (e : off = ![i]) :
    T6 c f6 ⊢ iprop((T6 c f6 -∗ wpc c (k (W (row g i))) Q) -∗ wpc c (smemLoad A6 (Rect.unit (s := S224) off S1.size inb) h1 hp >>= k) Q) := by
  have hv : A6.view.read (Elt F) f6 ((Rect.unit (s := S224) off S1.size inb).point h1) = W (row g i) := by
    rw [show (Rect.unit (s := S224) off S1.size inb).point h1 = _ from pt224 i hi' e]
    exact (hT (ix1 ⟨i, hi'⟩) hi).1
  exact r_smemLoad c (m := A6) (S := Finset.univ) (W (row g i)) hv (Finset.subset_univ _)

theorem r_exp {α : Type} {Q : α → sProp 𝕄} {off inb h1 hp} {k : Elt F .i32 → Prog (TpuEff nD τ sig (Elt F) Λ₀ .tc) α}
    {n : ℕ} {f6 f7 : S224.Idx → Elt F .i32} (hT : TabOK (F := F) g n f6 f7) (i : ℕ) (hi : i < n) (hi' : i < 224) (e : off = ![i]) :
    T7 c f7 ⊢ iprop((T7 c f7 -∗ wpc c (k (W (ex g i))) Q) -∗ wpc c (smemLoad A7 (Rect.unit (s := S224) off S1.size inb) h1 hp >>= k) Q) := by
  have hv : A7.view.read (Elt F) f7 ((Rect.unit (s := S224) off S1.size inb).point h1) = W (ex g i) := by
    rw [show (Rect.unit (s := S224) off S1.size inb).point h1 = _ from pt224 i hi' e]
    exact (hT (ix1 ⟨i, hi'⟩) hi).2
  exact r_smemLoad c (m := A7) (S := Finset.univ) (W (ex g i)) hv (Finset.subset_univ _)

end Cert.KernelIdeal.Run

end
-- ==== Proof.M.I.Unpack.lean ====
/-
  The first half of a tile: the next rows are asked for, and at the first tile of an expert its weights are unpacked and
  the next expert's asked for.
-/
module

public import proofs.«01_k».proof.Proof.M.I.State

@[expose] public section

noncomputable section

namespace Cert.KernelIdeal.Run

open Cert.KernelIdeal Cert.KernelIdeal.Gen Cert.Tiles
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Col]
local notation "𝕄" => MT nD τ sig Unit (Elt F) ℕ (UU F) ℕ

variable (X1 : S98304x2048.Idx → Elt F .fp8e4m3) (X2 : S768x1x128.Idx → Elt F .f32)
variable (X3 : S16x1024x4096.Idx → Elt F .i8) (X4 : S16x16x4096.Idx → Elt F .bf16)
variable (c : Dev nD) (g : ℕ → ℕ)
variable (arg0 : Memref sig .tc .smem S16 .i32) (harg0 : arg0.IsWhole)
variable (X0 : Buf (Elt F) (arg0.view.loc (c : Thread nD τ))) (q0 : PosShare TreeShare)

theorem g_lt (ok : OK g) {k : ℕ} (hk : k < 16) : g k ≤ 98304 := by
  have h := st_lt g ok (k := k + 1) hk
  rw [st_succ] at h; omega

theorem t5_step (ok : OK g) (hX : ∀ j : S16.Idx, arg0.view.read (Elt F) X0 j = W (g (j 0)))
    (v : BitVec 32) (t : Fin (k0_t4_loop v).trips) (a20 : BitVec 32) (e : ℕ) (he : e < 16) (v80 : BitVec 32) (hw) (h2)
    (k : Fin k0_t5_loop.trips) (acc : BitVec 32) :
    iprop(⌜acc = W (nx g e k)⌝ ∗ G0 c arg0 X0 q0) ⊢ wpc c (k0_t5_body (F := F) arg0 harg0 A1 H1 A2 H2 A3 H3 A4 H4 A5 H5 A6 H6 A7 H7 A8 H8 A9 H9 A10 H10 A11 H11 A12 H12 A13 H13 cc0_scratch8 cc0_scratch9 cc0_scratch10 cc0_scratch11 cc0_scratch12 v t a20 (W e) v80 hw h2 k acc)
      (fun a => iprop(⌜a = W (nx g e (k + 1))⌝ ∗ G0 c arg0 X0 q0)) := by
  have hk : (k : ℕ) < 16 := lt_of_lt_of_le k.isLt k0_t5_abs.2.1
  unfold k0_t5_body
  iintro ⟨%hacc, HX⟩
  have hv : arg0.view.read (Elt F) X0 ((Rect.unit (s := S16) (k0_off21 k) S1.size (k0_off21_inb k)).point numel1_S1) = W (g (15 - k)) := by
    rw [pt16 (15 - k) (by omega) (o21 k hk), hX]
  iapply (r_smemLoad c (m := arg0) (S := Finset.univ) (W (g (15 - k))) hv (Finset.subset_univ _)) $$ HX
  iintro HX
  iapply (r_pure c)
  isplitr
  swap
  · iexact HX
  ipureintro
  have hg := g_lt g ok (k := 15 - k) (by omega)
  rw [hacc, w_iv _ (by omega), show (15#32 : BitVec 32) = W 15 from rfl, w_sub 15 k (by decide) (by omega)]
  by_cases hc : e < 15 - (k : ℕ) ∧ 0 < g (15 - (k : ℕ))
  · have : nx g e (k + 1) = 15 - k := if_pos hc
    rw [this]
    exact w_sel1 ((w_and _ _).mpr ⟨(w_gt _ _ (by omega) (by omega)).mpr hc.1, (w_gt _ 0 (by omega) (by decide)).mpr hc.2⟩)
  · have : nx g e (k + 1) = nx g e k := if_neg hc
    rw [this]
    refine w_sel0 fun h => hc ?_
    have h := (w_and _ _).mp h
    exact ⟨(w_gt _ _ (by omega) (by omega)).mp h.1, (w_gt _ 0 (by omega) (by decide)).mp h.2⟩

/-- The copies of an expert's weights in flight into slot `p`, or the slot at rest if there is no such expert. -/
def WNext (p w : ℕ) : sProp 𝕄 := if w < 16 then iprop(FlW c X3 p w ∗ FlWS c X4 p w) else iprop(WIdle c X3 p ∗ WSIdle c X4 p)
/-- What is left of slot `p` beside its contents. -/
def WRest (p : ℕ) : sProp 𝕄 :=
  iprop((A3.view.loc (c : Thread nD τ) ↦[Finset.univ]{hsh p} X3) ∗ semVal ((c : Thread nD τ), .dma (semAt cc0_scratch10 p)) 0
    ∗ (A4.view.loc (c : Thread nD τ) ↦[Finset.univ]{hsh p} X4) ∗ semVal ((c : Thread nD τ), .dma (semAt cc0_scratch11 p)) 0)

theorem t5_trips : k0_t5_loop.trips = 16 := by decide

set_option maxHeartbeats 1000000 in
theorem part2_rule {α : Type} {Q : α → sProp 𝕄} (ok : OK g) (hX : ∀ j : S16.Idx, arg0.view.read (Elt F) X0 j = W (g (j 0)))
    (v : BitVec 32) (t : Fin (k0_t4_loop v).trips) (p q e : ℕ) (hp : p < 2) (hq : q = 1 - p) (he : e < 16) (v80 : BitVec 32) (hw) (h2)
    {kk : _ → Prog (TpuEff nD τ sig (Elt F) Λ₀ .tc) α} :
    iprop(G0 c arg0 X0 q0 ∗ (FlW c X3 p e ∗ FlWS c X4 p e) ∗ (WIdle c X3 q ∗ WSIdle c X4 q) ∗ Owes c)
      ⊢ iprop((iprop(G0 c arg0 X0 q0 ∗ SlW X3 c p e ∗ SlWS X4 c p e ∗ WRest X3 X4 c p ∗ WNext X3 X4 c q (nxt g e) ∗ Owes c)
          -∗ wpc c (kk (k0_pay1 (wpBlk X3 e 0))) Q)
      -∗ wpc c (k0_part2 (F := F) arg0 harg0 A1 H1 A2 H2 A3 H3 A4 H4 A5 H5 A6 H6 A7 H7 A8 H8 A9 H9 A10 H10 A11 H11 A12 H12 A13 H13 cc0_scratch8 cc0_scratch9 cc0_scratch10 cc0_scratch11 cc0_scratch12 v t (W p) (W e) v80 hw h2 >>= kk) Q) := by
  have hq2 : q < 2 := by omega
  unfold k0_part2
  iintro ⟨HX, ⟨HfW, HfS⟩, HI, HO⟩ HK
  iapply (r_bind c)
  iapply (waitW c X3 p e hp (o16 p hp)) $$ [HfW HO]
  · isplitl [HfW]; · iexact HfW
    iexact HO
  iintro ⟨HDW, HvW, HO⟩
  iapply (waitWS c X4 p e hp (o16 p hp)) $$ [HfS HO]
  · isplitl [HfS]; · iexact HfS
    iexact HO
  iintro ⟨HDS, HvS, HO⟩
  iapply (Scf.wp_for_bind frame (wpE (defs₀ (F := F)) 𝒱₀ (c : Thread nD τ) none) Set.univ _ _ _ _ _ _ (fun k acc => iprop(⌜acc = W (nx g e k)⌝ ∗ G0 c arg0 X0 q0))
    (fun k acc => t5_step c g arg0 harg0 X0 q0 ok hX v t (W p) e he v80 (cv6 hw) h2 k acc)) $$ [HX]
  · isplitr
    · ipureintro; rfl
    · iexact HX
  iintro %acc ⟨%hacc, HX⟩
  have hacc' : acc = W (nxt g e) := by rw [hacc]; exact congrArg (fun z => W (nx g e z)) t5_trips
  subst hacc'
  have hx : nxt g e ≤ 16 := nxt_le (g := g) e
  iapply (r_assume c (chk7 v t p hp (W e) v80 (nxt g e) (by omega)))
  dsimp only
  iapply (r_dite c (P := iprop(WIdle c X3 q ∗ WSIdle c X4 q)) (R := WNext X3 X4 c q (nxt g e)) ?_ ?_) $$ [HI]
  · intro h3
    have h3' := (c3 _ (by omega)).mp h3
    unfold WIdle WSIdle WNext
    rw [if_pos h3']
    iintro ⟨⟨%fd, HA, HB, HC⟩, ⟨%fd', HA', HB', HC'⟩⟩ HK
    subst hq
    iapply (enqW c X3 (1 - p) (nxt g e) hq2 h3' (o22 p hp) (o23 p hp) (o24 _ (by omega))) $$ [HA HB HC]
    · isplitl [HA]; · iexact HA
      isplitl [HB]; · iexact HB
      iexact HC
    iintro HF
    iapply (enqWS c X4 (1 - p) (nxt g e) hq2 h3' (o22 p hp) (o25 p hp) (o26 _ (by omega))) $$ [HA' HB' HC']
    · isplitl [HA']; · iexact HA'
      isplitl [HB']; · iexact HB'
      iexact HC'
    iintro HF'
    iapply HK
    isplitl [HF]; · iexact HF
    iexact HF'
  · intro h3
    have h3' : ¬ nxt g e < 16 := fun h => h3 ((c3 _ (by omega)).mpr h)
    unfold WNext
    rw [if_neg h3']
  · iexact HI
  iintro HN
  unfold DW DWS
  icases HDW with ⟨HW, HWr⟩
  icases HDS with ⟨HS, HSr⟩
  iapply (ld_wp X3 c p e 0 (by decide) (o27 p hp)) $$ HW
  iintro HW
  iapply (r_pure c)
  iapply HK
  isplitl [HX]; · iexact HX
  isplitl [HW]; · iexact HW
  isplitl [HS]; · iexact HS
  isplitl [HWr HvW HSr HvS]
  · unfold WRest
    isplitl [HWr]; · iexact HWr
    isplitl [HvW]; · iexact HvW
    isplitl [HSr]; · iexact HSr
    iexact HvS
  isplitl [HN]; · iexact HN
  iexact HO

end Cert.KernelIdeal.Run

end
-- ==== Proof.M.I.Half1.lean ====
/-
  The first half of a tile, whole.
-/
module

public import proofs.«01_k».proof.Proof.M.I.Unpack

@[expose] public section

noncomputable section

namespace Cert.KernelIdeal.Run

open Cert.KernelIdeal Cert.KernelIdeal.Gen Cert.Tiles
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Col]
local notation "𝕄" => MT nD τ sig Unit (Elt F) ℕ (UU F) ℕ

variable (X1 : S98304x2048.Idx → Elt F .fp8e4m3) (X2 : S768x1x128.Idx → Elt F .f32)
variable (X3 : S16x1024x4096.Idx → Elt F .i8) (X4 : S16x16x4096.Idx → Elt F .bf16)
variable (c : Dev nD) (g : ℕ → ℕ)
variable (arg0 : Memref sig .tc .smem S16 .i32) (harg0 : arg0.IsWhole)
variable (X0 : Buf (Elt F) (arg0.view.loc (c : Thread nD τ))) (q0 : PosShare TreeShare)

/-- The rows of tile `t` in flight into slot `s`, or the slot at rest after the last tile. -/
def HNext (s t : ℕ) : sProp 𝕄 :=
  if t < nt g 16 then iprop(FlH c X1 s (hs g t) ∗ FlS c X2 s (hs g t / 128)) else iprop(HIdle c X1 s ∗ SIdle c X2 s)

theorem row_ok (ok : OK g) {t : ℕ} (ht : t < nt g 16) : rowOK (row g t) := ⟨ok.row_lt ht, row_dvd t⟩

theorem WbI_weaken (e e' n : ℕ) : WbI X3 X4 c e n ⊢ WbI X3 X4 c e' 0 := by
  unfold WbI
  iintro ⟨%f, %hf, H⟩
  iexists f
  isplitr
  · ipureintro; intro i hi; omega
  · iexact H

theorem WIdle_of (p e : ℕ) : iprop(SlW X3 c p e ∗ SlWS X4 c p e ∗ WRest X3 X4 c p) ⊢ iprop(WIdle c X3 p ∗ WSIdle c X4 p) := by
  unfold WRest WIdle WSIdle
  iintro ⟨HW, HS, HA, HB, HC, HD⟩
  isplitl [HW HA HB]
  · iexists _
    isplitl [HA]; · iexact HA
    isplitl [HW]; · iexact HW
    iexact HB
  · iexists _
    isplitl [HC]; · iexact HC
    isplitl [HS]; · iexact HS
    iexact HD

open scoped Classical in
set_option maxHeartbeats 2000000 in
theorem part12_rule {α : Type} {Q : α → sProp 𝕄} (ok : OK g) (hX : ∀ j : S16.Idx, arg0.view.read (Elt F) X0 j = W (g (j 0)))
    {f6 f7 : S224.Idx → Elt F .i32} (hT : TabOK (F := F) g (nt g 16) f6 f7)
    (t : Fin (k0_t4_loop (W (nt g 16))).trips) (T : ℕ) (htT : (t : ℕ) = T) (ht : T < nt g 16) (hw4) (p q b e : ℕ) (hp : p < 2) (hq : q = 1 - p) (hb : b = 1 - T % 2) (he : ex g T = e)
    {kk : _ → Prog (TpuEff nD τ sig (Elt F) Λ₀ .tc) α} :
    iprop((G0 c arg0 X0 q0 ∗ T6 c f6 ∗ T7 c f7 ∗ Owes c) ∗ (HIdle c X1 b ∗ SIdle c X2 b) ∗ (WNext X3 X4 c p (want g T) ∗ WIdle c X3 q ∗ WSIdle c X4 q)
        ∗ WbI X3 X4 c (ex g (T - 1)) (if T = 0 then 0 else 16))
      ⊢ iprop((∀ (v82 : BitVec 1), iprop(⌜v82 = 1#1 ↔ first (g := g) T⌝ ∗ (G0 c arg0 X0 q0 ∗ T6 c f6 ∗ T7 c f7 ∗ Owes c) ∗ HNext X1 X2 c g b (T + 1)
            ∗ (if first (g := g) T then iprop(WNext X3 X4 c q (want g (T + 1)) ∗ WIdle c X3 p ∗ WSIdle c X4 p)
                else iprop(WNext X3 X4 c p (want g (T + 1)) ∗ WIdle c X3 q ∗ WSIdle c X4 q))
            ∗ WbI X3 X4 c e 16)
          -∗ wpc c (kk ⟨W T, W (T % 2), v82, W (row g T), chk8 _ (row_ok g ok ht)⟩) Q)
      -∗ wpc c (k0_part12 (F := F) arg0 harg0 A1 H1 A2 H2 A3 H3 A4 H4 A5 H5 A6 H6 A7 H7 A8 H8 A9 H9 A10 H10 A11 H11 A12 H12 A13 H13 cc0_scratch8 cc0_scratch9 cc0_scratch10 cc0_scratch11 cc0_scratch12 (W (nt g 16)) hw4 0#32 1#32 t (W p) >>= kk) Q) := by

  have hn := ok.n_le
  have hT224 : T < 224 := by omega
  have ht224 : (t : ℕ) < 224 := by omega
  have heL : e < 16 := by rw [← he]; exact ex_lt (g := g) T
  have he'L : ex g (T - 1) < 16 := ex_lt (g := g) (T - 1)
  have hiv : Scf.iv 0#32 1#32 t = W T := by rw [w_iv _ (by omega), htT]
  unfold k0_part12
  iintro ⟨⟨HX, H6, H7, HO⟩, HI, ⟨HN, HQ⟩, HB⟩ HK
  iapply (r_bind c)
  iapply (r_exp c g hT T ht hT224 (by rw [o8 _ t ht224, htT])) $$ H7
  iintro H7
  iapply (r_exp c g hT (T - 1) (by omega) (by omega) (by rw [o9 _ t ht224, htT])) $$ H7
  iintro H7
  rw [he]
  iapply (r_assume c (chk6 _ t p hp e heL (W (ex g (T - 1)))))
  dsimp only
  iapply (r_dite c (P := iprop((HIdle c X1 b ∗ SIdle c X2 b) ∗ T6 c f6)) (R := iprop(HNext X1 X2 c g b (T + 1) ∗ T6 c f6)) ?_ ?_) $$ [HI H6]
  · intro h1
    have h1' := (c1 _ (by omega) t ht224).mp h1
    rw [htT] at h1'
    have hro := row_ok g ok h1'
    have hr31 : row g (T + 1) < 2 ^ 31 := by have := hro.1; omega
    have hb2 : b < 2 := by omega
    unfold HNext HIdle SIdle
    rw [if_pos h1']
    iintro ⟨⟨⟨%fd, HA, HB, HC⟩, ⟨%fd', HA', HB', HC'⟩⟩, H6⟩ HK
    iapply (r_row c g hT (T + 1) h1' (by omega) (by rw [o10 _ t ht224, htT])) $$ H6
    iintro H6
    iapply (r_assume c (chk5 _ t _ hro))
    iapply (enqH c X1 b (hs g (T + 1)) hb2 (hs_le _) (by rw [o11 _ t ht224, htT, hb]) (by rw [o12 _ t ht224, htT, hb]) (o13 _ hr31)) $$ [HA HB HC]
    · isplitl [HA]; · iexact HA
      isplitl [HB]; · iexact HB
      iexact HC
    iintro HF
    iapply (enqS c X2 b (hs g (T + 1) / 128) hb2 (by have := hs_le (g := g) (T + 1); omega) (by rw [o11 _ t ht224, htT, hb]) (by rw [o14 _ t ht224, htT, hb]) (o15 _ hr31)) $$ [HA' HB' HC']
    · isplitl [HA']; · iexact HA'
      isplitl [HB']; · iexact HB'
      iexact HC'
    iintro HF'
    iapply HK
    isplitl [HF HF']
    · isplitl [HF]; · iexact HF
      iexact HF'
    iexact H6
  · intro h1
    have h1' : ¬ T + 1 < nt g 16 := fun h => h1 ((c1 _ (by omega) t ht224).mpr (by rw [htT]; exact h))
    unfold HNext
    rw [if_neg h1']
  · isplitl [HI]; · iexact HI
    iexact H6
  iintro ⟨HH, H6⟩
  iapply (r_dite c (P := iprop(G0 c arg0 X0 q0 ∗ (WNext X3 X4 c p (want g T) ∗ WIdle c X3 q ∗ WSIdle c X4 q) ∗ WbI X3 X4 c (ex g (T - 1)) (if T = 0 then 0 else 16) ∗ Owes c))
    (R := iprop(G0 c arg0 X0 q0 ∗ (if first (g := g) T then iprop(WNext X3 X4 c q (want g (T + 1)) ∗ WIdle c X3 p ∗ WSIdle c X4 p)
                else iprop(WNext X3 X4 c p (want g (T + 1)) ∗ WIdle c X3 q ∗ WSIdle c X4 q)) ∗ WbI X3 X4 c e 16 ∗ Owes c)) ?_ ?_) $$ [HX HN HQ HB HO]
  · intro h2
    have hf : first (g := g) T := by
      have := (c2 _ t ht224 e _ (by omega) (by omega)).mp h2
      rw [htT, ← he] at this; exact this
    have hwant : want g T = e := by rw [want_of_first ht hf, he]
    have hnext : want g (T + 1) = nxt g e := by rw [want_succ, he]
    rw [if_pos hf, hwant, hnext]
    iintro ⟨HX, ⟨HN, HQ⟩, HB, HO⟩ HK
    have hN : WNext (F := F) X3 X4 c p e ⊢ iprop(FlW c X3 p e ∗ FlWS c X4 p e) := by
      unfold WNext; rw [if_pos heL]
    ihave HN2 := hN $$ HN
    iapply (part2_rule X3 X4 c g arg0 harg0 X0 q0 ok hX (W (nt g 16)) t p q e hp hq heL (W (ex g (T - 1))) _ h2) $$ [HX HN2 HQ HO]
    · isplitl [HX]; · iexact HX
      isplitl [HN2]; · iexact HN2
      isplitl [HQ]; · iexact HQ
      iexact HO
    iintro ⟨HX, HW, HS, HR, HN, HO⟩
    ihave HB := (WbI_weaken X3 X4 c _ e _) $$ HB
    iapply (part3_rule X3 X4 c arg0 harg0 (W (nt g 16)) t p e hp (W e) (W (ex g (T - 1))) _ h2) $$ [HW HS HB]
    · isplitl [HW]; · iexact HW
      isplitl [HS]; · iexact HS
      iexact HB
    iintro HD
    iapply (part4_rule X3 X4 c arg0 harg0 (W (nt g 16)) t p e hp (W e) (W (ex g (T - 1))) _ h2) $$ HD
    iintro HD
    iapply (part5_rule X3 X4 c arg0 harg0 (W (nt g 16)) t p e hp (W e) (W (ex g (T - 1))) _ h2) $$ HD
    iintro HD
    iapply (part6_rule X3 X4 c arg0 harg0 (W (nt g 16)) t p e hp (W e) (W (ex g (T - 1))) _ h2) $$ HD
    iintro HD
    iapply (part7_rule X3 X4 c arg0 harg0 (W (nt g 16)) t p e hp (W e) (W (ex g (T - 1))) _ h2) $$ HD
    iintro HD
    iapply (part8_rule X3 X4 c arg0 harg0 (W (nt g 16)) t p e hp (W e) (W (ex g (T - 1))) _ h2) $$ HD
    iintro HD
    iapply (part9_rule X3 X4 c arg0 harg0 (W (nt g 16)) t p e hp (W e) (W (ex g (T - 1))) _ h2) $$ HD
    iintro HD
    iapply (part10_rule X3 X4 c arg0 harg0 (W (nt g 16)) t p e hp (W e) (W (ex g (T - 1))) _ h2) $$ HD
    iintro HD
    iapply (part11_rule X3 X4 c arg0 harg0 (W (nt g 16)) t p e hp (W e) (W (ex g (T - 1))) _ h2) $$ HD
    iintro HD
    icases HD with ⟨HW, HS, HB⟩
    iapply (ld_ws X4 c p e 15 (by decide) (o58 p hp)) $$ HS
    iintro HS
    iapply (ld_wb X3 X4 c e 15) $$ HB
    iintro %v HB
    iapply (st_wb X3 X4 c e 15 rfl rfl) $$ HB
    iintro HB
    iapply HK
    isplitl [HX]; · iexact HX
    isplitl [HN HW HS HR]
    · isplitl [HN]; · iexact HN
      iapply (WIdle_of X3 X4 c p e)
      isplitl [HW]; · iexact HW
      isplitl [HS]; · iexact HS
      iexact HR
    isplitl [HB]; · iexact HB
    iexact HO
  · intro h2
    have hf : ¬ first (g := g) T := fun h => h2 ((c2 _ t ht224 e _ (by omega) (by omega)).mpr (by rw [htT, ← he]; exact h))
    have h0 : T ≠ 0 := fun h => hf (.inl h)
    have hex : ex g (T - 1) = e := by
      by_contra h; exact hf (.inr (by rw [he]; exact h))
    rw [if_neg hf, if_neg h0, hex, want_succ_of_not_first hf]
  · isplitl [HX]; · iexact HX
    isplitl [HN HQ]
    · isplitl [HN]; · iexact HN
      iexact HQ
    isplitl [HB]; · iexact HB
    iexact HO
  iintro ⟨HX, HN, HB, HO⟩
  iapply (r_row c g hT T ht hT224 (by rw [o59 _ t ht224, htT])) $$ H6
  iintro H6
  iapply (r_assume c (chk8 _ (row_ok g ok ht)))
  iapply (r_pure c)
  rw [hiv, show (2#32 : BitVec 32) = W 2 from rfl, w_rem T 2 (by omega) (by decide) (by decide)]
  iapply HK
  isplitr
  · ipureintro
    rw [w_or]
    refine or_congr ?_ ?_
    · exact w_eq T 0 (by omega) (by decide)
    · rw [w_ne _ _ (by omega) (by omega), he]
  isplitl [HX H6 H7 HO]
  · isplitl [HX]; · iexact HX
    isplitl [H6]; · iexact H6
    isplitl [H7]; · iexact H7
    iexact HO
  isplitl [HH]; · iexact HH
  isplitl [HN]; · iexact HN
  iexact HB

end Cert.KernelIdeal.Run

end
-- ==== Proof.M.I.Half2.lean ====
/-
  The second half of a tile: its rows are scaled and multiplied, and the product laid out for the copy to the result.
-/
module

public import proofs.«01_k».proof.Proof.M.I.Half1

@[expose] public section

noncomputable section

namespace Cert.KernelIdeal.Run

open Cert.KernelIdeal Cert.KernelIdeal.Gen Cert.Tiles
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Col]
local notation "𝕄" => MT nD τ sig Unit (Elt F) ℕ (UU F) ℕ

variable (X1 : S98304x2048.Idx → Elt F .fp8e4m3) (X2 : S768x1x128.Idx → Elt F .f32)
variable (X3 : S16x1024x4096.Idx → Elt F .i8) (X4 : S16x16x4096.Idx → Elt F .bf16)

/-- Block `b` of the 512 rows from row `ρ`. -/
def hBlk (ρ b : ℕ) : S1x128x2048.Idx → Elt F .fp8e4m3 := fun x =>
  X1 (ix2 (n0 := 98304) (n1 := 2048) ⟨(ρ + (128 * b + (x 1 : ℕ))) % 98304, Nat.mod_lt _ (by decide)⟩ (x 2))
/-- Their scales. -/
def sBlk (σ b : ℕ) : S1x1x1x128.Idx → Elt F .f32 := fun x =>
  X2 (ix3 (n0 := 768) (n1 := 1) (n2 := 128) ⟨(σ + b) % 768, Nat.mod_lt _ (by decide)⟩ (x 2) (x 3))
/-- The first block of rows, scaled. -/
def xb0 (s : S1x1x1x128.Idx → Elt F .f32) (h : S1x128x2048.Idx → Elt F .fp8e4m3) : S128x2048.Idx → Elt F .bf16 :=
  k0_pay40 (F := F) (k0_pay27 s) (k0_pay28 h) (k0_pay29 s h) (k0_pay30 s h) (k0_pay31 s h) (k0_pay32 s h) (k0_pay33 s h) (k0_pay34 s h) (k0_pay35 s h) (k0_pay36 s h) (k0_pay37 s h) (k0_pay38 s h) (k0_pay39 h)
/-- The second block of rows, scaled. -/
def xb1 (s : S1x1x1x128.Idx → Elt F .f32) (h : S1x128x2048.Idx → Elt F .fp8e4m3) : S128x2048.Idx → Elt F .bf16 :=
  k0_pay59 (F := F) (k0_pay43 s h) (k0_pay44 s h) (k0_pay45 s h) (k0_pay46 s h) (k0_pay47 s h) (k0_pay48 s h) (k0_pay49 s h) (k0_pay50 s h) (k0_pay51 s h) (k0_pay52 s h) (k0_pay53 s h) (k0_pay54 s h) (k0_pay55 s h) (k0_pay56 s h) (k0_pay57 s h) (k0_pay58 s h)
/-- The product of the 512 rows from row `ρ` and the weights of expert `e`. -/
def accT (ρ σ e : ℕ) : S512x1024.Idx → Elt F .f32 :=
  k0_pay62 (F := F) (xb0 (sBlk X2 σ 0) (hBlk X1 ρ 0)) (xb1 (sBlk X2 σ 1) (hBlk X1 ρ 1)) (k0_pay60 (sBlk X2 σ 2) (hBlk X1 ρ 2)) (k0_pay61 (sBlk X2 σ 3))
    (hBlk X1 ρ 3) (wbFill X3 X4 e)

theorem read_h {off inb} (a b ρ : ℕ) (h : off = ![a, 128 * b, 0]) :
    (A8.access (Rect.unit (s := S2x512x2048) off S1x128x2048.size inb)).read (Elt F) (hFill X1 ρ) = hBlk X1 ρ b := by
  subst h
  funext x
  show X1 _ = X1 _
  congr 1
  funext d
  apply Fin.ext
  fin_cases d
  · show (ρ + (128 * b + 1 * (x 1 : ℕ))) % 98304 = (ρ + (128 * b + (x 1 : ℕ))) % 98304
    congr 1; omega
  · show 0 + 1 * (x 2 : ℕ) = (x 2 : ℕ)
    omega

theorem read_s {off inb} (a b σ : ℕ) (h : off = ![a, b, 0, 0]) :
    (A9.access (Rect.unit (s := S2x4x1x128) off S1x1x1x128.size inb)).read (Elt F) (sFill X2 σ) = sBlk X2 σ b := by
  subst h
  funext x
  show X2 _ = X2 _
  have h1 : (x 1 : ℕ) < 1 := (x 1).isLt
  congr 1
  funext d
  apply Fin.ext
  fin_cases d
  · show (σ + (b + 1 * (x 1 : ℕ))) % 768 = (σ + b) % 768
    congr 1; omega
  · show 0 + 1 * (x 2 : ℕ) = (x 2 : ℕ)
    omega
  · show 0 + 1 * (x 3 : ℕ) = (x 3 : ℕ)
    omega

variable (c : Dev nD)

abbrev SlH (a ρ : ℕ) : sProp 𝕄 := (A8.view.loc (c : Thread nD τ) ↦[ax0 a]{fullShare} hFill X1 ρ)
abbrev SlS (a σ : ℕ) : sProp 𝕄 := (A9.view.loc (c : Thread nD τ) ↦[ax0 a]{fullShare} sFill X2 σ)

theorem ld_h {α : Type} {Q : α → sProp 𝕄} {off inb} {hl} {k : (S1x128x2048.Idx → Elt F .fp8e4m3) → Prog (TpuEff nD τ sig (Elt F) Λ₀ .tc) α}
    (a b ρ : ℕ) (h : off = ![a, 128 * b, 0]) :
    SlH X1 c a ρ ⊢ iprop((SlH X1 c a ρ -∗ wpc c (k (hBlk X1 ρ b)) Q)
      -∗ wpc c (Prog.lift (.load A8 (Rect.unit (s := S2x512x2048) off S1x128x2048.size inb).toLoadRect hl) >>= k) Q) := by
  have hS : (A8.access (Rect.unit (s := S2x512x2048) off S1x128x2048.size inb)).set ⊆ ax0 a := by
    show (View.slice (View.whole A8.view.ref) _).set ⊆ _
    rw [View.set_slice_whole]
    intro i hi
    rw [Rect.mem_set_unit] at hi
    have := hi 0
    rw [mem_ax0]
    subst h
    simp at this
    omega
  have := r_load c (Q := Q) (m := A8) (r := Rect.unit (s := S2x512x2048) off S1x128x2048.size inb) (hl := hl) (k := k) (S := ax0 a) (q := fullShare) (f := hFill X1 ρ) hS
  rw [read_h X1 a b ρ h] at this
  exact this

theorem ld_s {α : Type} {Q : α → sProp 𝕄} {off inb} {hl} {k : (S1x1x1x128.Idx → Elt F .f32) → Prog (TpuEff nD τ sig (Elt F) Λ₀ .tc) α}
    (a b ρ : ℕ) (h : off = ![a, b, 0, 0]) :
    SlS X2 c a ρ ⊢ iprop((SlS X2 c a ρ -∗ wpc c (k (sBlk X2 ρ b)) Q)
      -∗ wpc c (Prog.lift (.load A9 (Rect.unit (s := S2x4x1x128) off S1x1x1x128.size inb).toLoadRect hl) >>= k) Q) := by
  have hS : (A9.access (Rect.unit (s := S2x4x1x128) off S1x1x1x128.size inb)).set ⊆ ax0 a := by
    show (View.slice (View.whole A9.view.ref) _).set ⊆ _
    rw [View.set_slice_whole]
    intro i hi
    rw [Rect.mem_set_unit] at hi
    have := hi 0
    rw [mem_ax0]
    subst h
    simp at this
    omega
  have := r_load c (Q := Q) (m := A9) (r := Rect.unit (s := S2x4x1x128) off S1x1x1x128.size inb) (hl := hl) (k := k) (S := ax0 a) (q := fullShare) (f := sFill X2 ρ) hS
  rw [read_s X2 a b ρ h] at this
  exact this

/-- Slot `a` of the staged results, the first `n` of its eight pieces of each row written. -/
def YI (a : ℕ) (A : S512x1024.Idx → Elt F .f32) (n : ℕ) : sProp 𝕄 :=
  iprop(∃ f : S2x4096x128.Idx → Elt F .f32, ⌜∀ i ∈ ax0 a, (i 1 : ℕ) % 8 < n → f i = yFill A i⌝ ∗ (A13.view.loc (c : Thread nD τ) ↦[ax0 a]{fullShare} f))

theorem YI_full (a : ℕ) (A : S512x1024.Idx → Elt F .f32) :
    YI c a A 8 ⊢ (A13.view.loc (c : Thread nD τ) ↦[ax0 a]{fullShare} yFill A) := by
  unfold YI
  iintro ⟨%f, %hf, H⟩
  have : (A13.view.loc (c : Thread nD τ) ↦[ax0 a]{fullShare} f) ⊢ (A13.view.loc (c : Thread nD τ) ↦[ax0 a]{fullShare} yFill A) :=
    ent_of_eq (Region.is_congr fun i hi => hf i hi (Nat.mod_lt _ (by decide)))
  iapply this
  iexact H

/-- The strided rectangle a piece is stored in. -/
abbrev yR (off : Fin S2x4096x128.rank → ℕ)
    (inb : ∀ a, S1x512x128.size a = 0 ∨ off a + (![1, 8, 1] : Fin 3 → ℕ) a * (S1x512x128.size a - 1) < S2x4096x128.size a) : LoadRect S2x4096x128 := ⟨off, S1x512x128.size, ![1, 8, 1], inb⟩

theorem yR_emb {off inb} (a j : ℕ) (h : off = ![a, j, 0]) (x : S1x512x128.Idx) :
    ((((⟨yR off inb, spos_1_8_1⟩ : Rect S2x4096x128).emb x) 0 : ℕ) = a) ∧ ((((⟨yR off inb, spos_1_8_1⟩ : Rect S2x4096x128).emb x) 1 : ℕ) = j + 8 * (x 1 : ℕ))
      ∧ ((((⟨yR off inb, spos_1_8_1⟩ : Rect S2x4096x128).emb x) 2 : ℕ) = (x 2 : ℕ)) := by
  subst h
  have h0 : (x 0 : ℕ) < 1 := (x 0).isLt
  simp only [Rect.emb_apply]
  refine ⟨?_, ?_, ?_⟩
  · show a + 1 * (x 0 : ℕ) = a
    omega
  · rfl
  · show 0 + 1 * (x 2 : ℕ) = (x 2 : ℕ)
    omega

theorem yR_set {off inb} (a j : ℕ) (h : off = ![a, j, 0]) : (A13.access (⟨yR off inb, spos_1_8_1⟩ : Rect S2x4096x128)).set ⊆ ax0 a := by
  intro i hi
  obtain ⟨x, -, rfl⟩ := Finset.mem_map.mp hi
  exact mem_ax0.mpr (yR_emb a j h x).1

theorem ld_y {α : Type} {Q : α → sProp 𝕄} {off inb} {hl} {k : (S1x512x128.Idx → Elt F .f32) → Prog (TpuEff nD τ sig (Elt F) Λ₀ .tc) α}
    (a j n : ℕ) (A : S512x1024.Idx → Elt F .f32) (h : off = ![a, j, 0]) :
    YI c a A n ⊢ iprop((∀ v, YI c a A n -∗ wpc c (k v) Q)
      -∗ wpc c (Prog.lift (.load A13 (⟨off, S1x512x128.size, ![1, 8, 1], inb⟩ : LoadRect S2x4096x128) hl) >>= k) Q) := by
  unfold YI
  iintro ⟨%f, %hf, H⟩ HK
  iapply (r_load c (Q := Q) (m := A13) (r := ⟨yR off inb, spos_1_8_1⟩) (hl := hl) (k := k) (S := ax0 a) (q := fullShare) (f := f) (yR_set a j h)) $$ H
  iintro H
  iapply HK
  iexists f
  isplitr
  · ipureintro; exact hf
  · iexact H

theorem st_y {α : Type} {Q : α → sProp 𝕄} {off inb} {hx hm} {w : S1x512x128.Idx → Elt F .f32} {k : PUnit → Prog (TpuEff nD τ sig (Elt F) Λ₀ .tc) α}
    (a j : ℕ) (A : S512x1024.Idx → Elt F .f32) (hj : j < 8) (h : off = ![a, j, 0])
    (hw : ∀ x : S1x512x128.Idx, w x = A (ix2 (n0 := 512) (n1 := 1024) (x 1) ⟨(128 * j + (x 2 : ℕ)) % 1024, Nat.mod_lt _ (by decide)⟩)) :
    YI c a A j ⊢ iprop((YI c a A (j + 1) -∗ wpc c (k ⟨⟩) Q)
      -∗ wpc c (Prog.lift (.store A13 ⟨(⟨off, S1x512x128.size, ![1, 8, 1], inb⟩ : LoadRect S2x4096x128), spos_1_8_1⟩ w Finset.univ hx hm) >>= k) Q) := by
  unfold YI
  iintro ⟨%f, %hf, H⟩ HK
  iapply (r_store c (Q := Q) (m := A13) (r := ⟨yR off inb, spos_1_8_1⟩) (w := w) (hx := hx) (hm := hm) (k := k) (S := ax0 a) (f := f) (yR_set a j h)) $$ H
  iintro H
  iapply HK
  iexists ((A13.access (⟨yR off inb, spos_1_8_1⟩ : Rect S2x4096x128)).write (Elt F) f w Finset.univ)
  isplitr
  swap
  · iexact H
  ipureintro
  intro i hi hi8
  by_cases hm : i ∈ (A13.access (⟨yR off inb, spos_1_8_1⟩ : Rect S2x4096x128)).set
  · obtain ⟨x, -, rfl⟩ := Finset.mem_map.mp hm
    rw [View.write_emb_of_mem _ _ (Finset.mem_univ x)]
    refine (hw x).trans ?_
    obtain ⟨-, e1, e2⟩ := yR_emb (inb := inb) a j h x
    have h1 : (x 1 : ℕ) < 512 := (x 1).isLt
    have h2 : (x 2 : ℕ) < 128 := (x 2).isLt
    unfold yFill
    congr 1
    funext d
    apply Fin.ext
    fin_cases d
    · refine Eq.trans ?_ (congrArg (fun z => z / 8 % 512) e1).symm
      show (x 1 : ℕ) = (j + 8 * (x 1 : ℕ)) / 8 % 512
      omega
    · refine Eq.trans ?_ (congrArg₂ (fun z y => (128 * (z % 8) + y) % 1024) e1 e2).symm
      show (128 * j + (x 2 : ℕ)) % 1024 = (128 * ((j + 8 * (x 1 : ℕ)) % 8) + (x 2 : ℕ)) % 1024
      congr 2; omega
  · rw [View.write_of_not_mem _ _ _ (by rw [View.setOn_univ]; exact hm)]
    refine hf i hi ?_
    by_contra hlt
    apply hm
    have h1 : (i 1 : ℕ) < 4096 := (i 1).isLt
    have h2 : (i 2 : ℕ) < 128 := (i 2).isLt
    have h0 := mem_ax0.mp hi
    let x : S1x512x128.Idx := ix3 (n0 := 1) (n1 := 512) (n2 := 128) ⟨0, by decide⟩ ⟨(i 1 : ℕ) / 8, by omega⟩ ⟨(i 2 : ℕ), h2⟩
    refine Finset.mem_map.mpr ⟨x, Finset.mem_univ _, ?_⟩
    obtain ⟨e0, e1, e2⟩ := yR_emb (inb := inb) a j h x
    funext d
    apply Fin.ext
    fin_cases d
    · exact e0.trans h0.symm
    · refine e1.trans ?_
      show j + 8 * ((i 1 : ℕ) / 8) = (i 1 : ℕ)
      omega
    · exact e2

/-- A piece cut from the product. -/
theorem piece {o : Fin S512x1024.rank → ℕ} (A : S512x1024.Idx → Elt F .f32) (j : ℕ) (hj : j < 8) (hs : S512x1024.Slices o S512x128) (hc : S512x128.ShapeCasts S1x512x128)
    (h : o = ![0, 128 * j]) (x : S1x512x128.Idx) :
    shapeCast S1x512x128 (extractStridedSlice S512x128 o A hs) hc x = A (ix2 (n0 := 512) (n1 := 1024) (x 1) ⟨(128 * j + (x 2 : ℕ)) % 1024, Nat.mod_lt _ (by decide)⟩) := by
  subst h
  have hx : Shape.reshapeEquiv (s := S512x128) (s' := S1x512x128) (by decide) x = ix2 (n0 := 512) (n1 := 128) (x 1) (x 2) := by
    have e : x = Shape.reshapeEquiv (s := S1x512x128) (s' := S512x128) (by decide) (ix2 (n0 := 512) (n1 := 128) (x 1) (x 2)) := by
      refine Eq.trans ?_ (Shape.reshapeEquiv_cons_one (n := 2) (d := ![512, 128]) (by decide) (ix2 (n0 := 512) (n1 := 128) (x 1) (x 2))).symm
      funext d
      apply Fin.ext
      have h0 : (x 0 : ℕ) < 1 := (x 0).isLt
      fin_cases d
      · show (x 0 : ℕ) = 0
        omega
      · rfl
      · rfl
    conv_lhs => rw [e]
    rw [Shape.reshapeEquiv_reshapeEquiv, Shape.reshapeEquiv_self]
  have h2 : (x 2 : ℕ) < 128 := (x 2).isLt
  refine (congrArg (extractStridedSlice S512x128 ![0, 128 * j] A hs) hx).trans ?_
  unfold extractStridedSlice
  refine congrArg A (funext fun d => Fin.ext (Eq.symm ?_))
  fin_cases d
  · show (x 1 : ℕ) = 0 + (x 1 : ℕ)
    omega
  · show (128 * j + (x 2 : ℕ)) % 1024 = 128 * j + (x 2 : ℕ)
    omega

end Cert.KernelIdeal.Run

end
-- ==== Proof.M.I.Parts.lean ====
/-
  One tile, whole: from the state before it to the state before the next.
-/
module

public import proofs.«01_k».proof.Proof.M.I.Half2

@[expose] public section

noncomputable section

namespace Cert.KernelIdeal.Run

open Cert.KernelIdeal Cert.KernelIdeal.Gen Cert.Tiles
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Col]
local notation "𝕄" => MT nD τ sig Unit (Elt F) ℕ (UU F) ℕ

variable (X1 : S98304x2048.Idx → Elt F .fp8e4m3) (X2 : S768x1x128.Idx → Elt F .f32)
variable (X3 : S16x1024x4096.Idx → Elt F .i8) (X4 : S16x16x4096.Idx → Elt F .bf16)
variable (c : Dev nD) (g : ℕ → ℕ) (f0 : S933888x128.Idx → Elt F .f32) (gl : Goal F)
variable (arg0 : Memref sig .tc .smem S16 .i32) (harg0 : arg0.IsWhole)
variable (X0 : Buf (Elt F) (arg0.view.loc (c : Thread nD τ))) (q0 : PosShare TreeShare)

/-- The first row of the result that tile `t` writes. -/
def RR (t : ℕ) : ℕ := (hs g t + ex g t * 1152) * 8
/-- What the tiles before `t` wrote through slot `s`. -/
def covT (s t : ℕ) : Finset S933888x128.Idx := Finset.univ.filter fun i => ∃ t' < t, t' % 2 = s ∧ i ∈ win (RR g t')
/-- Slot `s` of the staged results when tile `t` is the next to use it. -/
def YNext (s t : ℕ) : sProp 𝕄 :=
  if 2 ≤ t then iprop(∃ A, FlY c f0 gl s (RR g (t - 2)) (covT g s (t - 2)) A) else YIdle c f0 gl s ∅

theorem covT_next (s t : ℕ) (h2 : 2 ≤ t) (hs : s = t % 2) : covT g s t ⊆ covT g s (t - 2) ∪ win (RR g (t - 2)) := by
  intro i hi
  simp only [covT, Finset.mem_filter, Finset.mem_univ, true_and, Finset.mem_union] at hi ⊢
  obtain ⟨t', h, h', hm⟩ := hi
  by_cases h3 : t' = t - 2
  · subst h3; exact .inr hm
  · exact .inl ⟨t', by omega, h', hm⟩

theorem Tok_mono (s : ℕ) {T T' : Finset S933888x128.Idx} (h : T' ⊆ T) : Tok c f0 gl s T ⊢ Tok c f0 gl s T' := by
  unfold Tok
  iintro ⟨%W, %hW, H⟩
  iexists W
  isplitr
  · ipureintro; exact h.trans hW
  · iexact H

theorem covT_lt2 (s t : ℕ) (h2 : ¬ 2 ≤ t) (hs : s = t % 2) : covT g s t ⊆ ∅ := by
  intro i hi
  simp only [covT, Finset.mem_filter, Finset.mem_univ, true_and] at hi
  obtain ⟨t', h, h', hm⟩ := hi
  omega

theorem YIdle_mono (s : ℕ) {T T' : Finset S933888x128.Idx} (h : T' ⊆ T) : YIdle c f0 gl s T ⊢ YIdle c f0 gl s T' := by
  unfold YIdle
  iintro ⟨%fd, HA, HT, HV⟩
  iexists fd
  isplitl [HA]; · iexact HA
  isplitl [HT]
  · iapply (Tok_mono c f0 gl s h); iexact HT
  iexact HV

/-- The sources and semaphores that stay with a slot of rows while its contents are used. -/
def HRest (a : ℕ) : sProp 𝕄 :=
  iprop((A1.view.loc (c : Thread nD τ) ↦[Finset.univ]{hsh a} X1) ∗ semVal ((c : Thread nD τ), .dma (semAt cc0_scratch8 a)) 0
    ∗ (A2.view.loc (c : Thread nD τ) ↦[Finset.univ]{hsh a} X2) ∗ semVal ((c : Thread nD τ), .dma (semAt cc0_scratch9 a)) 0)

theorem HIdle_of (a ρ σ : ℕ) : iprop(SlH X1 c a ρ ∗ SlS X2 c a σ ∗ HRest X1 X2 c a) ⊢ iprop(HIdle c X1 a ∗ SIdle c X2 a) := by
  unfold HRest HIdle SIdle
  iintro ⟨HW, HS, HA, HB, HC, HD⟩
  isplitl [HW HA HB]
  · iexists _
    isplitl [HA]; · iexact HA
    isplitl [HW]; · iexact HW
    iexact HB
  · iexists _
    isplitl [HC]; · iexact HC
    isplitl [HS]; · iexact HS
    iexact HD

set_option maxHeartbeats 2000000 in
theorem part13_rule {α : Type} {Q : α → sProp 𝕄} (ok : OK g)
    {f6 f7 : S224.Idx → Elt F .i32} (hT : TabOK (F := F) g (nt g 16) f6 f7)
    (t : Fin (k0_t4_loop (W (nt g 16))).trips) (T : ℕ) (htT : (t : ℕ) = T) (ht : T < nt g 16) (hw4) (a : ℕ) (ha : a = T % 2) (a19 v73 : BitVec 32) (hw8)
    {kk : _ → Prog (TpuEff nD τ sig (Elt F) Λ₀ .tc) α} :
    iprop((T6 c f6 ∗ T7 c f7 ∗ Owes c) ∗ (FlH c X1 a (hs g T) ∗ FlS c X2 a (hs g T / 128)) ∗ YNext c g f0 gl a T)
      ⊢ iprop((iprop((T6 c f6 ∗ T7 c f7 ∗ Owes c) ∗ (SlH X1 c a (hs g T) ∗ SlS X2 c a (hs g T / 128)) ∗ HRest X1 X2 c a ∗ YIdle c f0 gl a (covT g a T))
          -∗ wpc c (kk ⟨k0_pay27 (sBlk X2 (hs g T / 128) 0), k0_pay28 (hBlk X1 (hs g T) 0), k0_pay29 (sBlk X2 (hs g T / 128) 0) (hBlk X1 (hs g T) 0), k0_pay30 (sBlk X2 (hs g T / 128) 0) (hBlk X1 (hs g T) 0), k0_pay31 (sBlk X2 (hs g T / 128) 0) (hBlk X1 (hs g T) 0), k0_pay32 (sBlk X2 (hs g T / 128) 0) (hBlk X1 (hs g T) 0), k0_pay33 (sBlk X2 (hs g T / 128) 0) (hBlk X1 (hs g T) 0), k0_pay34 (sBlk X2 (hs g T / 128) 0) (hBlk X1 (hs g T) 0), k0_pay35 (sBlk X2 (hs g T / 128) 0) (hBlk X1 (hs g T) 0), k0_pay36 (sBlk X2 (hs g T / 128) 0) (hBlk X1 (hs g T) 0), k0_pay37 (sBlk X2 (hs g T / 128) 0) (hBlk X1 (hs g T) 0), k0_pay38 (sBlk X2 (hs g T / 128) 0) (hBlk X1 (hs g T) 0), k0_pay39 (hBlk X1 (hs g T) 0)⟩) Q)
      -∗ wpc c (k0_part13 (F := F) arg0 harg0 A1 H1 A2 H2 A3 H3 A4 H4 A5 H5 A6 H6 A7 H7 A8 H8 A9 H9 A10 H10 A11 H11 A12 H12 A13 H13 cc0_scratch8 cc0_scratch9 cc0_scratch10 cc0_scratch11 cc0_scratch12 (W (nt g 16)) hw4 t a19 v73 (W (row g T)) hw8 >>= kk) Q) := by
  have hn := ok.n_le
  have hT224 : T < 224 := by omega
  have ht224 : (t : ℕ) < 224 := by omega
  have ha2 : a < 2 := by omega
  rw [k0_part13_eq_skeleton]; unfold k0_part13_skel
  iintro ⟨⟨H6, H7, HO⟩, ⟨HFh, HFs⟩, HY⟩ HK
  iapply (r_bind c)
  iapply (waitH c X1 a (hs g T) ha2 (by rw [o60 _ t ht224, htT, ha])) $$ [HFh HO]
  · isplitl [HFh]; · iexact HFh
    iexact HO
  iintro ⟨HDh, Hvh, HO⟩
  iapply (waitS c X2 a (hs g T / 128) ha2 (by rw [o60 _ t ht224, htT, ha])) $$ [HFs HO]
  · isplitl [HFs]; · iexact HFs
    iexact HO
  iintro ⟨HDs, Hvs, HO⟩
  unfold DH DS
  icases HDh with ⟨Hh, Hh'⟩
  icases HDs with ⟨Hs, Hs'⟩
  dsimp only
  iapply (r_dite c (P := iprop(YNext c g f0 gl a T ∗ T6 c f6 ∗ T7 c f7 ∗ Owes c)) (R := iprop(YIdle c f0 gl a (covT g a T) ∗ T6 c f6 ∗ T7 c f7 ∗ Owes c)) ?_ ?_) $$ [HY H6 H7 HO]
  · intro h4
    have h4' := (c4 _ t ht224).mp h4
    rw [htT] at h4'
    unfold YNext
    rw [if_pos h4']
    iintro ⟨⟨%A, HY⟩, H6, H7, HO⟩ HK
    iapply (r_row c g hT (T - 2) (by omega) (by omega) (by rw [o65 _ t ht224 (by omega), htT])) $$ H6
    iintro H6
    iapply (r_assume c (chk9 _ t _ (row_ok g ok (t := T - 2) (by omega))))
    iapply (r_exp c g hT (T - 2) (by omega) (by omega) (by rw [o66 _ t ht224 (by omega), htT])) $$ H7
    iintro H7
    iapply (r_assume c (chk10 _ t _ (row_ok g ok (t := T - 2) (by omega)) _ (ex_lt (g := g) _)))
    iapply (waitY c f0 gl a (RR g (T - 2)) (covT g a (T - 2)) A ha2 (by rw [o67 _ t ht224, htT, ha])) $$ [HY HO]
    · isplitl [HY]; · iexact HY
      iexact HO
    iintro ⟨HD, Hv, HO⟩
    iapply HK
    isplitl [HD Hv]
    · unfold DY YIdle
      icases HD with ⟨HA, HT⟩
      iexists _
      isplitl [HA]; · iexact HA
      isplitl [HT]
      · iapply (Tok_mono c f0 gl a (covT_next g a T h4' ha)); iexact HT
      iexact Hv
    isplitl [H6]; · iexact H6
    isplitl [H7]; · iexact H7
    iexact HO
  · intro h4
    have h4' : ¬ 2 ≤ T := fun h => h4 ((c4 _ t ht224).mpr (by rw [htT]; exact h))
    unfold YNext
    rw [if_neg h4']
    iintro ⟨HY, HR⟩
    isplitl [HY]
    · iapply (YIdle_mono c f0 gl a (covT_lt2 g a T h4' ha)); iexact HY
    · iexact HR
  · isplitl [HY]; · iexact HY
    isplitl [H6]; · iexact H6
    isplitl [H7]; · iexact H7
    iexact HO
  iintro ⟨HY, H6, H7, HO⟩
  iapply (ld_s X2 c a 0 _ (by rw [o70 _ t ht224, htT, ha])) $$ Hs
  iintro Hs
  iapply (ld_h X1 c a 0 _ (by rw [o71 _ t ht224, htT, ha])) $$ Hh
  iintro Hh
  iapply (r_pure c)
  iapply HK
  isplitl [H6 H7 HO]
  · isplitl [H6]; · iexact H6
    isplitl [H7]; · iexact H7
    iexact HO
  isplitl [Hh Hs]
  · isplitl [Hh]; · iexact Hh
    iexact Hs
  isplitl [Hh' Hvh Hs' Hvs]
  · unfold HRest
    isplitl [Hh']; · iexact Hh'
    isplitl [Hvh]; · iexact Hvh
    isplitl [Hs']; · iexact Hs'
    iexact Hvs
  iexact HY

set_option maxHeartbeats 1000000 in
theorem part14_rule {α : Type} {Q : α → sProp 𝕄} (v : BitVec 32) (t : Fin (k0_t4_loop v).trips) (ht224 : (t : ℕ) < 224) (hw4) (a : ℕ) (ha : a = (t : ℕ) % 2) (ρ σ : ℕ) (v73 : BitVec 32)
    (v129 : FVec F S128x128 .bf16) (v133 : FVec F S128x2048 .bf16) (v135 v137 v139 v141 v143 v145 v147 v149 v151 v153 v154 : FVec F S128x128 .bf16)
    {kk : _ → Prog (TpuEff nD τ sig (Elt F) Λ₀ .tc) α} :
    iprop(SlH X1 c a ρ ∗ SlS X2 c a σ)
      ⊢ iprop((iprop(SlH X1 c a ρ ∗ SlS X2 c a σ) -∗ wpc c (kk ⟨k0_pay40 v129 v133 v135 v137 v139 v141 v143 v145 v147 v149 v151 v153 v154, k0_pay43 (sBlk X2 σ 1) (hBlk X1 ρ 1), k0_pay44 (sBlk X2 σ 1) (hBlk X1 ρ 1), k0_pay45 (sBlk X2 σ 1) (hBlk X1 ρ 1), k0_pay46 (sBlk X2 σ 1) (hBlk X1 ρ 1), k0_pay47 (sBlk X2 σ 1) (hBlk X1 ρ 1), k0_pay48 (sBlk X2 σ 1) (hBlk X1 ρ 1), k0_pay49 (sBlk X2 σ 1) (hBlk X1 ρ 1), k0_pay50 (sBlk X2 σ 1) (hBlk X1 ρ 1), k0_pay51 (sBlk X2 σ 1) (hBlk X1 ρ 1), k0_pay52 (sBlk X2 σ 1) (hBlk X1 ρ 1), k0_pay53 (sBlk X2 σ 1) (hBlk X1 ρ 1), k0_pay54 (sBlk X2 σ 1) (hBlk X1 ρ 1), k0_pay55 (sBlk X2 σ 1) (hBlk X1 ρ 1), k0_pay56 (sBlk X2 σ 1) (hBlk X1 ρ 1), k0_pay57 (sBlk X2 σ 1) (hBlk X1 ρ 1), k0_pay58 (sBlk X2 σ 1) (hBlk X1 ρ 1)⟩) Q)
      -∗ wpc c (k0_part14 (F := F) arg0 harg0 A1 H1 A2 H2 A3 H3 A4 H4 A5 H5 A6 H6 A7 H7 A8 H8 A9 H9 A10 H10 A11 H11 A12 H12 A13 H13 cc0_scratch8 cc0_scratch9 cc0_scratch10 cc0_scratch11 cc0_scratch12 v hw4 t v73 v129 v133 v135 v137 v139 v141 v143 v145 v147 v149 v151 v153 v154 >>= kk) Q) := by
  rw [k0_part14_eq_skeleton]; unfold k0_part14_skel
  iintro ⟨Hh, Hs⟩ HK
  iapply (r_bind c)
  iapply (ld_s X2 c a 1 _ (by rw [o72 _ t ht224, ha])) $$ Hs
  iintro Hs
  iapply (ld_h X1 c a 1 _ (by rw [o73 _ t ht224, ha])) $$ Hh
  iintro Hh
  iapply (r_pure c)
  iapply HK
  isplitl [Hh]; · iexact Hh
  iexact Hs

set_option maxHeartbeats 1000000 in
theorem part15_rule {α : Type} {Q : α → sProp 𝕄} (v : BitVec 32) (t : Fin (k0_t4_loop v).trips) (ht224 : (t : ℕ) < 224) (hw4) (a : ℕ) (ha : a = (t : ℕ) % 2) (ρ σ : ℕ) (v73 : BitVec 32)
    (v179 v181 v183 v185 v187 v189 v191 v193 v195 v197 v199 v201 v203 v205 v207 v209 : FVec F S128x128 .bf16)
    {kk : _ → Prog (TpuEff nD τ sig (Elt F) Λ₀ .tc) α} :
    iprop(SlH X1 c a ρ ∗ SlS X2 c a σ)
      ⊢ iprop((iprop(SlH X1 c a ρ ∗ SlS X2 c a σ) -∗ wpc c (kk ⟨k0_pay59 v179 v181 v183 v185 v187 v189 v191 v193 v195 v197 v199 v201 v203 v205 v207 v209, k0_pay60 (sBlk X2 σ 2) (hBlk X1 ρ 2), k0_pay61 (sBlk X2 σ 3)⟩) Q)
      -∗ wpc c (k0_part15 (F := F) arg0 harg0 A1 H1 A2 H2 A3 H3 A4 H4 A5 H5 A6 H6 A7 H7 A8 H8 A9 H9 A10 H10 A11 H11 A12 H12 A13 H13 cc0_scratch8 cc0_scratch9 cc0_scratch10 cc0_scratch11 cc0_scratch12 v hw4 t v73 v179 v181 v183 v185 v187 v189 v191 v193 v195 v197 v199 v201 v203 v205 v207 v209 >>= kk) Q) := by
  rw [k0_part15_eq_skeleton]; unfold k0_part15_skel
  iintro ⟨Hh, Hs⟩ HK
  iapply (r_bind c)
  iapply (ld_s X2 c a 2 _ (by rw [o74 _ t ht224, ha])) $$ Hs
  iintro Hs
  iapply (ld_h X1 c a 2 _ (by rw [o75 _ t ht224, ha])) $$ Hh
  iintro Hh
  iapply (ld_s X2 c a 3 _ (by rw [o76 _ t ht224, ha])) $$ Hs
  iintro Hs
  iapply (r_pure c)
  iapply HK
  isplitl [Hh]; · iexact Hh
  iexact Hs

theorem ld_wbAll {α : Type} {Q : α → sProp 𝕄} {off inb} {hl} {k : (S2048x1024.Idx → Elt F .bf16) → Prog (TpuEff nD τ sig (Elt F) Λ₀ .tc) α} (e : ℕ) (h : off = ![0, 0]) :
    WbI X3 X4 c e 16 ⊢ iprop((WbI X3 X4 c e 16 -∗ wpc c (k (wbFill X3 X4 e)) Q)
      -∗ wpc c (Prog.lift (.load A12 (Rect.unit (s := S2048x1024) off S2048x1024.size inb).toLoadRect hl) >>= k) Q) := by
  unfold WbI
  iintro ⟨%f, %hf, H⟩ HK
  have hf' : f = wbFill X3 X4 e := funext fun i => hf i (i 0).isLt
  subst hf'
  have hr : (A12.access (Rect.unit (s := S2048x1024) off S2048x1024.size inb)).read (Elt F) (wbFill X3 X4 e) = wbFill X3 X4 e := by
    subst h
    funext x
    show wbFill X3 X4 e _ = _
    congr 1
    funext d
    apply Fin.ext
    fin_cases d
    · show 0 + 1 * (x 0 : ℕ) = _
      simp
    · show 0 + 1 * (x 1 : ℕ) = _
      simp
  have := r_load c (Q := Q) (m := A12) (r := Rect.unit (s := S2048x1024) off S2048x1024.size inb) (hl := hl) (k := k) (S := Finset.univ) (q := fullShare) (f := wbFill X3 X4 e) (Finset.subset_univ _)
  rw [hr] at this
  iapply this $$ H
  iintro H
  iapply HK
  iexists (wbFill X3 X4 e)
  isplitr
  · ipureintro; intro i _; rfl
  · iexact H

set_option maxHeartbeats 1000000 in
theorem part16_rule {α : Type} {Q : α → sProp 𝕄} (v : BitVec 32) (t : Fin (k0_t4_loop v).trips) (ht224 : (t : ℕ) < 224) (hw4) (a : ℕ) (ha : a = (t : ℕ) % 2) (ρ e : ℕ) (v73 : BitVec 32)
    (v166 v210 v254 : FVec F S128x2048 .bf16) (v261 : FVec F S128x128 .bf16) (A : S512x1024.Idx → Elt F .f32)
    (hA : A = k0_pay62 v166 v210 v254 v261 (hBlk X1 ρ 3) (wbFill X3 X4 e))
    {kk : _ → Prog (TpuEff nD τ sig (Elt F) Λ₀ .tc) α} :
    iprop(SlH X1 c a ρ ∗ WbI X3 X4 c e 16 ∗ YI c a A 0)
      ⊢ iprop((iprop(SlH X1 c a ρ ∗ WbI X3 X4 c e 16 ∗ YI c a A 1) -∗ wpc c (kk ⟨A, k0_pay64 v166 v210 v254 v261 (hBlk X1 ρ 3) (wbFill X3 X4 e)⟩) Q)
      -∗ wpc c (k0_part16 (F := F) arg0 harg0 A1 H1 A2 H2 A3 H3 A4 H4 A5 H5 A6 H6 A7 H7 A8 H8 A9 H9 A10 H10 A11 H11 A12 H12 A13 H13 cc0_scratch8 cc0_scratch9 cc0_scratch10 cc0_scratch11 cc0_scratch12 v hw4 t v73 v166 v210 v254 v261 >>= kk) Q) := by
  have ha' : a < 2 := by omega
  rw [k0_part16_eq_skeleton]; unfold k0_part16_skel
  iintro ⟨Hh, HB, HY⟩ HK
  iapply (r_bind c)
  iapply (ld_h X1 c a 3 _ (by rw [o77 _ t ht224, ha])) $$ Hh
  iintro Hh
  iapply (ld_wbAll X3 X4 c e rfl) $$ HB
  iintro HB
  iapply (ld_y c a 0 0 A (by rw [o78 _ t ht224, ha])) $$ HY
  iintro %u HY
  iapply (st_y c a 0 A (by decide) (by rw [o78 _ t ht224, ha]) (fun x => by rw [hA]; exact piece _ 0 (by decide) _ _ rfl x)) $$ HY
  iintro HY
  iapply (ld_y c a 1 _ A (by rw [o79 _ t ht224, ha])) $$ HY
  iintro %u' HY
  iapply (r_pure c)
  rw [← hA]
  iapply HK
  isplitl [Hh]; · iexact Hh
  isplitl [HB]; · iexact HB
  iexact HY

set_option maxHeartbeats 2000000 in
theorem part17_rule {α : Type} {Q : α → sProp 𝕄} (ok : OK g)
    {f6 f7 : S224.Idx → Elt F .i32} (hT : TabOK (F := F) g (nt g 16) f6 f7) (v : BitVec 32)
    (t : Fin (k0_t4_loop v).trips) (T : ℕ) (htT : (t : ℕ) = T) (ht : T < nt g 16) (hw4) (a : ℕ) (ha : a = T % 2) (a19 v73 : BitVec 32)
    (A : S512x1024.Idx → Elt F .f32) (w1 : FVec F S1x512x128 .f32)
    (hw : ∀ x : S1x512x128.Idx, w1 x = A (ix2 (n0 := 512) (n1 := 1024) (x 1) ⟨(128 * 1 + (x 2 : ℕ)) % 1024, Nat.mod_lt _ (by decide)⟩))
    {kk : _ → Prog (TpuEff nD τ sig (Elt F) Λ₀ .tc) α} :
    iprop(T6 c f6 ∗ T7 c f7 ∗ YI c a A 1)
      ⊢ iprop((∀ v345 v348, iprop(T6 c f6 ∗ T7 c f7 ∗ YI c a A 8)
          -∗ wpc c (kk ⟨W (row g T), v345, W (ex g T), chk12 _ (row_ok g ok ht) _ (ex_lt (g := g) T), v348⟩) Q)
      -∗ wpc c (k0_part17 (F := F) arg0 harg0 A1 H1 A2 H2 A3 H3 A4 H4 A5 H5 A6 H6 A7 H7 A8 H8 A9 H9 A10 H10 A11 H11 A12 H12 A13 H13 cc0_scratch8 cc0_scratch9 cc0_scratch10 cc0_scratch11 cc0_scratch12 v hw4 t a19 v73 A w1 >>= kk) Q) := by
  have hn := ok.n_le
  have hT224 : T < 224 := by omega
  have ht224 : (t : ℕ) < 224 := by omega
  have ha2 : a < 2 := by omega
  rw [k0_part17_eq_skeleton]; unfold k0_part17_skel
  iintro ⟨H6, H7, HY⟩ HK
  iapply (r_bind c)
  iapply (st_y c a 1 A (by decide) (by rw [o79 _ t ht224, htT, ha]) hw) $$ HY
  iintro HY
  iapply (ld_y c a 2 _ A (by rw [o80 _ t ht224, htT, ha])) $$ HY
  iintro %u2 HY
  iapply (st_y c a 2 A (by decide) (by rw [o80 _ t ht224, htT, ha]) (fun x => piece A 2 (by decide) _ _ rfl x)) $$ HY
  iintro HY
  iapply (ld_y c a 3 _ A (by rw [o81 _ t ht224, htT, ha])) $$ HY
  iintro %u3 HY
  iapply (st_y c a 3 A (by decide) (by rw [o81 _ t ht224, htT, ha]) (fun x => piece A 3 (by decide) _ _ rfl x)) $$ HY
  iintro HY
  iapply (ld_y c a 4 _ A (by rw [o82 _ t ht224, htT, ha])) $$ HY
  iintro %u4 HY
  iapply (st_y c a 4 A (by decide) (by rw [o82 _ t ht224, htT, ha]) (fun x => piece A 4 (by decide) _ _ rfl x)) $$ HY
  iintro HY
  iapply (ld_y c a 5 _ A (by rw [o83 _ t ht224, htT, ha])) $$ HY
  iintro %u5 HY
  iapply (st_y c a 5 A (by decide) (by rw [o83 _ t ht224, htT, ha]) (fun x => piece A 5 (by decide) _ _ rfl x)) $$ HY
  iintro HY
  iapply (ld_y c a 6 _ A (by rw [o84 _ t ht224, htT, ha])) $$ HY
  iintro %u6 HY
  iapply (st_y c a 6 A (by decide) (by rw [o84 _ t ht224, htT, ha]) (fun x => piece A 6 (by decide) _ _ rfl x)) $$ HY
  iintro HY
  iapply (ld_y c a 7 _ A (by rw [o85 _ t ht224, htT, ha])) $$ HY
  iintro %u7 HY
  iapply (st_y c a 7 A (by decide) (by rw [o85 _ t ht224, htT, ha]) (fun x => piece A 7 (by decide) _ _ rfl x)) $$ HY
  iintro HY
  iapply (r_row c g hT T ht hT224 (by rw [o86 _ t ht224, htT])) $$ H6
  iintro H6
  iapply (r_assume c (chk11 _ (row_ok g ok ht)))
  iapply (r_exp c g hT T ht hT224 (by rw [o87 _ t ht224, htT])) $$ H7
  iintro H7
  iapply (r_assume c (chk12 _ (row_ok g ok ht) _ (ex_lt (g := g) T)))
  iapply (r_pure c)
  iapply HK
  isplitl [H6]; · iexact H6
  isplitl [H7]; · iexact H7
  iexact HY

end Cert.KernelIdeal.Run

end
-- ==== Proof.M.I.Trip.lean ====
/-
  One trip of the loop over tiles.
-/
module

public import proofs.«01_k».proof.Proof.M.I.Parts

@[expose] public section

noncomputable section

namespace Cert.KernelIdeal.Run

open Cert.KernelIdeal Cert.KernelIdeal.Gen Cert.Tiles
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Col]
local notation "𝕄" => MT nD τ sig Unit (Elt F) ℕ (UU F) ℕ

variable (X1 : S98304x2048.Idx → Elt F .fp8e4m3) (X2 : S768x1x128.Idx → Elt F .f32)
variable (X3 : S16x1024x4096.Idx → Elt F .i8) (X4 : S16x16x4096.Idx → Elt F .bf16)
variable (c : Dev nD) (g : ℕ → ℕ) (f0 : S933888x128.Idx → Elt F .f32) (gl : Goal F)
variable (arg0 : Memref sig .tc .smem S16 .i32) (harg0 : arg0.IsWhole)
variable (X0 : Buf (Elt F) (arg0.view.loc (c : Thread nD τ))) (q0 : PosShare TreeShare)

/-- The state before tile `t`, the weights slot to come being `p`. -/
def TileI (ιwm : ℕ) (f6 f7 : S224.Idx → Elt F .i32) (t p : ℕ) : sProp 𝕄 :=
  iprop((G0 c arg0 X0 q0 ∗ T6 c f6 ∗ T7 c f7 ∗ Owes c) ∗ HNext X1 X2 c g (t % 2) t ∗ (HIdle c X1 (1 - t % 2) ∗ SIdle c X2 (1 - t % 2))
    ∗ (WNext X3 X4 c p (want g t) ∗ WIdle c X3 (1 - p) ∗ WSIdle c X4 (1 - p))
    ∗ WbI X3 X4 c (ex g (t - 1)) (if t = 0 then 0 else 16) ∗ YNext c g f0 gl (t % 2) t ∗ YNext c g f0 gl ((t + 1) % 2) (t + 1) ∗ wmInv wmE ιwm)

/-- What is asked of the result is what the tiles write. -/
def Admits : Prop := ∀ t < nt g 16, ∀ i ∈ win (RR g t), ∀ u, gl i = some u → outAt (accT X1 X2 X3 X4 (hs g t) (hs g t / 128) (ex g t)) (RR g t) i = u

set_option maxHeartbeats 4000000 in
theorem t4_step (ok : OK g) (hX : ∀ j : S16.Idx, arg0.view.read (Elt F) X0 j = W (g (j 0))) (had : Admits X1 X2 X3 X4 g gl) (ιwm : ℕ)
    {f6 f7 : S224.Idx → Elt F .i32} (hT : TabOK (F := F) g (nt g 16) f6 f7)
    (t : Fin (k0_t4_loop (W (nt g 16))).trips) (T : ℕ) (htT : (t : ℕ) = T) (ht : T < nt g 16) (hw4) (v15 : Elt F .i32) (hw3) (v17 c128 v18 v23 v28 : BitVec 32) (acc : BitVec 32) :
    iprop(∃ p, ⌜p < 2 ∧ acc = W p⌝ ∗ TileI X1 X2 X3 X4 c g f0 gl arg0 X0 q0 ιwm f6 f7 T p)
      ⊢ wpc c (k0_t4_body (F := F) arg0 harg0 A1 H1 A2 H2 A3 H3 A4 H4 A5 H5 A6 H6 A7 H7 A8 H8 A9 H9 A10 H10 A11 H11 A12 H12 A13 H13 cc0_scratch8 cc0_scratch9 cc0_scratch10 cc0_scratch11 cc0_scratch12 (W (nt g 16)) hw4 v15 hw3 v17 c128 v18 v23 v28 t acc)
        (fun a => iprop(∃ p, ⌜p < 2 ∧ a = W p⌝ ∗ TileI X1 X2 X3 X4 c g f0 gl arg0 X0 q0 ιwm f6 f7 (T + 1) p)) := by
  classical
  have hn := ok.n_le
  have hT224 : T < 224 := by omega
  have ht224 : (t : ℕ) < 224 := by omega
  unfold k0_t4_body TileI
  iintro ⟨%p, %hp, HG, HF, HI, HWt, HB, HY, HY', #HM⟩
  obtain ⟨hp2, hacc⟩ := hp
  subst hacc
  iapply (part12_rule X1 X2 X3 X4 c g arg0 harg0 X0 q0 ok hX hT t T htT ht hw4 p (1 - p) (1 - T % 2) (ex g T) hp2 rfl rfl rfl) $$ [HG HI HWt HB]
  · isplitl [HG]; · iexact HG
    isplitl [HI]; · iexact HI
    isplitl [HWt]; · iexact HWt
    iexact HB
  iintro %v82 ⟨%hv, ⟨HX, H6, H7, HO⟩, HH, HWt, HB⟩
  have hF : HNext (F := F) X1 X2 c g (T % 2) T ⊢ iprop(FlH c X1 (T % 2) (hs g T) ∗ FlS c X2 (T % 2) (hs g T / 128)) := by
    unfold HNext; rw [if_pos ht]
  ihave HF := hF $$ HF
  dsimp only
  iapply (part13_rule X1 X2 c g f0 gl arg0 harg0 ok hT t T htT ht hw4 (T % 2) rfl) $$ [H6 H7 HO HF HY]
  · isplitl [H6 H7 HO]
    · isplitl [H6]; · iexact H6
      isplitl [H7]; · iexact H7
      iexact HO
    isplitl [HF]; · iexact HF
    iexact HY
  iintro ⟨⟨H6, H7, HO⟩, HS, HR, HY⟩
  dsimp only
  iapply (part14_rule X1 X2 c arg0 harg0 (W (nt g 16)) t ht224 hw4 (T % 2) (by rw [htT]) (hs g T) (hs g T / 128)) $$ HS
  iintro HS
  dsimp only
  iapply (part15_rule X1 X2 c arg0 harg0 (W (nt g 16)) t ht224 hw4 (T % 2) (by rw [htT]) (hs g T) (hs g T / 128)) $$ HS
  iintro ⟨Hh, Hs⟩
  unfold YIdle
  icases HY with ⟨%fd, HA, HTk, Hv⟩
  dsimp only
  iapply (part16_rule X1 X3 X4 c arg0 harg0 (W (nt g 16)) t ht224 hw4 (T % 2) (by rw [htT]) (hs g T) (ex g T) _ _ _ _ _ (accT X1 X2 X3 X4 (hs g T) (hs g T / 128) (ex g T)) rfl) $$ [Hh HB HA]
  · isplitl [Hh]; · iexact Hh
    isplitl [HB]; · iexact HB
    unfold YI
    iexists fd
    isplitr
    · ipureintro; intro i _ h; omega
    · iexact HA
  iintro ⟨Hh, HB, HA⟩
  dsimp only
  iapply (part17_rule c g arg0 harg0 ok hT (W (nt g 16)) t T htT ht hw4 (T % 2) rfl _ _ (accT X1 X2 X3 X4 (hs g T) (hs g T / 128) (ex g T)) _
    (fun x => piece _ 1 (by decide) _ _ rfl x)) $$ [H6 H7 HA]
  · isplitl [H6]; · iexact H6
    isplitl [H7]; · iexact H7
    iexact HA
  iintro %v345 %v348 ⟨H6, H7, HA⟩
  ihave HA := (YI_full c _ _) $$ HA
  dsimp only
  iapply (enqY c f0 gl (T % 2) (RR g T) (covT g (T % 2) T) (accT X1 X2 X3 X4 (hs g T) (hs g T / 128) (ex g T)) (by omega) (had T ht)
    (by rw [o88 _ t ht224, htT]) (by rw [o90 _ t ht224, htT]) (o89 _ _ (by have := (row_ok g ok ht).1; omega) (ex_lt (g := g) T))) $$ [HA HTk Hv]
  · isplitr; · iexact HM
    isplitl [HA]; · iexact HA
    isplitl [HTk]; · iexact HTk
    iexact Hv
  iintro HFl
  iapply (r_pure c)
  have hfl : FlY (F := F) c f0 gl (T % 2) (RR g T) (covT g (T % 2) T) (accT X1 X2 X3 X4 (hs g T) (hs g T / 128) (ex g T)) ⊢ YNext c g f0 gl ((T + 1 + 1) % 2) (T + 1 + 1) := by
    unfold YNext
    rw [if_pos (by omega), show T + 1 + 1 - 2 = T from by omega, show (T + 1 + 1) % 2 = T % 2 from by omega]
    iintro H
    iexists _
    iexact H
  ihave HFl := hfl $$ HFl
  ihave HHI := (HIdle_of X1 X2 c (T % 2) (hs g T) (hs g T / 128)) $$ [Hh Hs HR]
  · isplitl [Hh]; · iexact Hh
    isplitl [Hs]; · iexact Hs
    iexact HR
  have hmain : iprop((G0 c arg0 X0 q0 ∗ T6 c f6 ∗ T7 c f7 ∗ Owes c) ∗ HNext X1 X2 c g (1 - T % 2) (T + 1) ∗ (HIdle c X1 (T % 2) ∗ SIdle c X2 (T % 2))
      ∗ (if first (g := g) T then iprop(WNext X3 X4 c (1 - p) (want g (T + 1)) ∗ WIdle c X3 p ∗ WSIdle c X4 p)
                else iprop(WNext X3 X4 c p (want g (T + 1)) ∗ WIdle c X3 (1 - p) ∗ WSIdle c X4 (1 - p)))
      ∗ WbI X3 X4 c (ex g T) 16 ∗ YNext c g f0 gl ((T + 1) % 2) (T + 1) ∗ YNext c g f0 gl ((T + 1 + 1) % 2) (T + 1 + 1) ∗ wmInv wmE ιwm)
      ⊢ iprop(∃ p', ⌜p' < 2 ∧ Scalar.select v82 (Scalar.subi 1#32 (W p)) (W p) = W p'⌝ ∗ TileI X1 X2 X3 X4 c g f0 gl arg0 X0 q0 ιwm f6 f7 (T + 1) p') := by
    have e1 : (T + 1) % 2 = 1 - T % 2 := by omega
    have e2 : 1 - (1 - T % 2) = T % 2 := by omega
    unfold TileI
    rw [e1, e2, if_neg (Nat.succ_ne_zero T), Nat.add_sub_cancel]
    by_cases hf : first (g := g) T
    · rw [if_pos hf]
      iintro H
      iexists (1 - p)
      isplitr
      · ipureintro
        refine ⟨by omega, ?_⟩
        rw [w_sel1 (hv.mpr hf)]
        exact w_sub 1 p (by decide) (by omega)
      · rw [show 1 - (1 - p) = p from by omega]
        iexact H
    · rw [if_neg hf]
      iintro H
      iexists p
      isplitr
      · ipureintro
        exact ⟨hp2, w_sel0 fun h => hf (hv.mp h)⟩
      · iexact H
  iapply hmain
  isplitl [HX H6 H7 HO]
  · isplitl [HX]; · iexact HX
    isplitl [H6]; · iexact H6
    isplitl [H7]; · iexact H7
    iexact HO
  isplitl [HH]; · iexact HH
  isplitl [HHI]; · iexact HHI
  isplitl [HWt]; · iexact HWt
  isplitl [HB]; · iexact HB
  isplitl [HY']; · iexact HY'
  isplitl [HFl]; · iexact HFl
  iexact HM

end Cert.KernelIdeal.Run

end
-- ==== Proof.M.I.Whole.lean ====
/-
  The whole kernel: the tables are built, the first copies started, the tiles run and the last copies waited for.
-/
module

public import proofs.«01_k».proof.Proof.M.I.Trip

@[expose] public section

noncomputable section

namespace Cert.KernelIdeal.Run

open Cert.KernelIdeal Cert.KernelIdeal.Gen Cert.Tiles
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable [Col]
local notation "𝕄" => MT nD τ sig Unit (Elt F) ℕ (UU F) ℕ

variable (X1 : S98304x2048.Idx → Elt F .fp8e4m3) (X2 : S768x1x128.Idx → Elt F .f32)
variable (X3 : S16x1024x4096.Idx → Elt F .i8) (X4 : S16x16x4096.Idx → Elt F .bf16)
variable (c : Dev nD) (g : ℕ → ℕ) (f0 : S933888x128.Idx → Elt F .f32) (gl : Goal F)
variable (arg0 : Memref sig .tc .smem S16 .i32) (harg0 : arg0.IsWhole)
variable (X0 : Buf (Elt F) (arg0.view.loc (c : Thread nD τ))) (q0 : PosShare TreeShare)

/-- The input slots at rest. -/
def InIdle : sProp 𝕄 :=
  iprop((HIdle c X1 0 ∗ SIdle c X2 0) ∗ (HIdle c X1 1 ∗ SIdle c X2 1) ∗ (WIdle c X3 0 ∗ WSIdle c X4 0) ∗ (WIdle c X3 1 ∗ WSIdle c X4 1))

/-- Everything at rest, the rows `T0` and `T1` of the result written through the two slots. -/
def Rest (T0 T1 : Finset S933888x128.Idx) : sProp 𝕄 :=
  iprop(G0 c arg0 X0 q0 ∗ TabI g c 0 ∗ Owes c ∗ InIdle X1 X2 X3 X4 c ∗ WbI X3 X4 c 0 0 ∗ YIdle c f0 gl 0 T0 ∗ YIdle c f0 gl 1 T1)

theorem t1_trips : k0_t1_loop.trips = 16 := by decide

set_option maxHeartbeats 2000000 in
theorem part34_rule {α : Type} {Q : α → sProp 𝕄} (ok : OK g) (hX : ∀ j : S16.Idx, arg0.view.read (Elt F) X0 j = W (g (j 0)))
    {kk : _ → Prog (TpuEff nD τ sig (Elt F) Λ₀ .tc) α} :
    iprop(G0 c arg0 X0 q0 ∗ TabI g c 0 ∗ (WIdle c X3 0 ∗ WSIdle c X4 0))
      ⊢ iprop((∀ v17 c128 v18 v23 v28, iprop(G0 c arg0 X0 q0 ∗ TabI g c (nt g 16) ∗ WNext X3 X4 c 0 (want g 0))
          -∗ wpc c (kk ⟨W (nt g 16), chk4 _ ok.n_pos (by have := ok.n_le; omega), W (row g 0), chk3 _ (row_ok g ok ok.n_pos), v17, c128, v18, v23, v28⟩) Q)
      -∗ wpc c (k0_part34 (F := F) arg0 harg0 A1 H1 A2 H2 A3 H3 A4 H4 A5 H5 A6 H6 A7 H7 A8 H8 A9 H9 A10 H10 A11 H11 A12 H12 A13 H13 cc0_scratch8 cc0_scratch9 cc0_scratch10 cc0_scratch11 cc0_scratch12 >>= kk) Q) := by
  have hn := ok.n_le
  have hn1 := ok.n_pos
  unfold k0_part34
  iintro ⟨HX, HT, HW⟩ HK
  iapply (r_bind c)
  iapply (Scf.wp_for_bind frame (wpE (defs₀ (F := F)) 𝒱₀ (c : Thread nD τ) none) Set.univ _ _ _ _ _ _
    (fun k acc => iprop(⌜acc = (W (st g k), W (nt g k))⌝ ∗ G0 c arg0 X0 q0 ∗ TabI g c (nt g k)))
    (fun k acc => (by
      have hk : (k : ℕ) < 16 := lt_of_lt_of_le k.isLt (le_of_eq t1_trips)
      iintro ⟨%hacc, H⟩
      subst hacc
      iapply (t1_step g c arg0 harg0 X0 q0 ok hX k hk)
      iexact H))) $$ [HX HT]
  · isplitr
    · ipureintro; rfl
    · isplitl [HX]; · iexact HX
      iexact HT
  iintro %acc H
  have h16 : iprop(⌜acc = (W (st g k0_t1_loop.trips), W (nt g k0_t1_loop.trips))⌝ ∗ G0 c arg0 X0 q0 ∗ TabI (F := F) g c (nt g k0_t1_loop.trips))
      ⊢ iprop(⌜acc = (W (st g 16), W (nt g 16))⌝ ∗ G0 c arg0 X0 q0 ∗ TabI g c (nt g 16)) := by rw [t1_trips]
  ihave H := h16 $$ H
  icases H with ⟨%hacc, HX, HT⟩
  subst hacc
  dsimp only
  iapply (r_assume c (chk4 _ hn1 (by omega)))
  unfold TabI
  icases HT with ⟨%f6, %f7, %hT, H6, H7⟩
  iapply (r_exp c g hT 0 (by omega) (by omega) rfl) $$ H7
  iintro H7
  iapply (r_assume c (chk2 _ (ex_lt (g := g) 0)))
  have hw : want g 0 = ex g 0 := want_of_first (by omega) (.inl rfl)
  have he := ex_lt (g := g) 0
  unfold WIdle WSIdle
  icases HW with ⟨⟨%fd, HA, HB, HC⟩, ⟨%fd', HA', HB', HC'⟩⟩
  iapply (enqW c X3 0 (ex g 0) (by decide) he rfl rfl (o4 _ (by omega))) $$ [HA HB HC]
  · isplitl [HA]; · iexact HA
    isplitl [HB]; · iexact HB
    iexact HC
  iintro HF
  iapply (enqWS c X4 0 (ex g 0) (by decide) he rfl rfl (o5 _ (by omega))) $$ [HA' HB' HC']
  · isplitl [HA']; · iexact HA'
    isplitl [HB']; · iexact HB'
    iexact HC'
  iintro HF'
  iapply (r_row c g hT 0 (by omega) (by omega) rfl) $$ H6
  iintro H6
  iapply (r_assume c (chk3 _ (row_ok g ok ok.n_pos)))
  iapply (r_pure c)
  iapply HK
  isplitl [HX]; · iexact HX
  isplitl [H6 H7]
  · iexists f6
    iexists f7
    isplitr
    · ipureintro; exact hT
    isplitl [H6]; · iexact H6
    iexact H7
  have hN : iprop(FlW (F := F) c X3 0 (ex g 0) ∗ FlWS c X4 0 (ex g 0)) ⊢ WNext X3 X4 c 0 (want g 0) := by
    unfold WNext; rw [hw, if_pos he]
  iapply hN
  isplitl [HF]; · iexact HF
  iexact HF'

theorem YIdle_swap (n : ℕ) : iprop(YIdle (F := F) c f0 gl (n % 2) (covT g (n % 2) n) ∗ YIdle c f0 gl ((n + 1) % 2) (covT g ((n + 1) % 2) n))
    ⊢ iprop(YIdle c f0 gl 0 (covT g 0 n) ∗ YIdle c f0 gl 1 (covT g 1 n)) := by
  rcases Nat.mod_two_eq_zero_or_one n with h | h
  · rw [h, show (n + 1) % 2 = 1 from by omega]
  · rw [h, show (n + 1) % 2 = 0 from by omega]
    iintro ⟨HA, HB⟩
    isplitl [HB]; · iexact HB
    iexact HA

set_option maxHeartbeats 4000000 in
theorem part35_rule {α : Type} {Q : α → sProp 𝕄} (ok : OK g) (hX : ∀ j : S16.Idx, arg0.view.read (Elt F) X0 j = W (g (j 0))) (had : Admits X1 X2 X3 X4 g gl) (ιwm : ℕ)
    (n : ℕ) (hnn : n = nt g 16) (hw4) (hw3) (v17 c128 v18 v23 v28 : BitVec 32)
    {f6 f7 : S224.Idx → Elt F .i32} (hT : TabOK (F := F) g n f6 f7)
    {kk : _ → Prog (TpuEff nD τ sig (Elt F) Λ₀ .tc) α} :
    iprop(G0 c arg0 X0 q0 ∗ (T6 c f6 ∗ T7 c f7) ∗ Owes c ∗ (HIdle c X1 0 ∗ SIdle c X2 0) ∗ (HIdle c X1 1 ∗ SIdle c X2 1) ∗ WNext X3 X4 c 0 (want g 0) ∗ (WIdle c X3 1 ∗ WSIdle c X4 1)
          ∗ WbI X3 X4 c 0 0 ∗ YIdle c f0 gl 0 ∅ ∗ YIdle c f0 gl 1 ∅ ∗ wmInv wmE ιwm)
      ⊢ iprop((∀ v55 c97, iprop(G0 c arg0 X0 q0 ∗ (T6 c f6 ∗ T7 c f7) ∗ Owes c ∗ InIdle X1 X2 X3 X4 c
          ∗ WbI X3 X4 c 0 0 ∗ YIdle c f0 gl (n % 2) (covT g (n % 2) n) ∗ YNext c g f0 gl ((n + 1) % 2) (n + 1))
          -∗ wpc c (kk ⟨v55, W (row g (n - 1)), c97⟩) Q)
      -∗ wpc c (k0_part35 (F := F) arg0 harg0 A1 H1 A2 H2 A3 H3 A4 H4 A5 H5 A6 H6 A7 H7 A8 H8 A9 H9 A10 H10 A11 H11 A12 H12 A13 H13 cc0_scratch8 cc0_scratch9 cc0_scratch10 cc0_scratch11 cc0_scratch12 (W n) hw4 (W (row g 0)) hw3 v17 c128 v18 v23 v28 >>= kk) Q) := by
  have hn := ok.n_le
  have hn1 := ok.n_pos
  have hn224 : n < 224 := by omega
  subst hnn
  have hr31 : row g 0 < 2 ^ 31 := by have := (row_ok g ok ok.n_pos).1; omega
  have htr := t4_trips (nt g 16) hn224
  unfold k0_part35
  iintro ⟨HX, ⟨H6, H7⟩, HO, ⟨HH0, HS0⟩, HI1, HN, HW1, HB, HY0, HY1, #HM⟩ HK
  iapply (r_bind c)
  unfold HIdle SIdle
  icases HH0 with ⟨%fd, HA, HB0, HC⟩
  icases HS0 with ⟨%fd', HA', HB', HC'⟩
  iapply (enqH c X1 0 (hs g 0) (by decide) (hs_le _) rfl rfl (o6 _ hr31)) $$ [HA HB0 HC]
  · isplitl [HA]; · iexact HA
    isplitl [HB0]; · iexact HB0
    iexact HC
  iintro HF
  iapply (enqS c X2 0 (hs g 0 / 128) (by decide) (by have := hs_le (g := g) 0; omega) rfl rfl (o7 _ hr31)) $$ [HA' HB' HC']
  · isplitl [HA']; · iexact HA'
    isplitl [HB']; · iexact HB'
    iexact HC'
  iintro HF'
  have hstart : iprop((G0 c arg0 X0 q0 ∗ T6 c f6 ∗ T7 c f7 ∗ Owes c) ∗ (FlH c X1 0 (hs g 0) ∗ FlS c X2 0 (hs g 0 / 128)) ∗ (HIdle c X1 1 ∗ SIdle c X2 1)
      ∗ (WNext X3 X4 c 0 (want g 0) ∗ WIdle c X3 1 ∗ WSIdle c X4 1) ∗ WbI X3 X4 c (ex g (0 - 1)) 0 ∗ YIdle c f0 gl 0 ∅ ∗ YIdle c f0 gl 1 ∅ ∗ wmInv wmE ιwm)
      ⊢ iprop(∃ p, ⌜p < 2 ∧ (0#32 : BitVec 32) = W p⌝ ∗ TileI X1 X2 X3 X4 c g f0 gl arg0 X0 q0 ιwm f6 f7 0 p) := by
    unfold TileI HNext YNext
    rw [if_pos (show 0 < nt g 16 from ok.n_pos)]
    iintro H
    iexists 0
    isplitr
    · ipureintro; exact ⟨by decide, rfl⟩
    · iexact H
  iapply (Scf.wp_for_bind frame (wpE (defs₀ (F := F)) 𝒱₀ (c : Thread nD τ) none) Set.univ _ _ _ _ _ _
    (fun k acc => iprop(∃ p, ⌜p < 2 ∧ acc = W p⌝ ∗ TileI X1 X2 X3 X4 c g f0 gl arg0 X0 q0 ιwm f6 f7 k p))
    (fun k acc => t4_step X1 X2 X3 X4 c g f0 gl arg0 harg0 X0 q0 ok hX had ιwm hT k k rfl (lt_of_lt_of_le k.isLt htr.le) hw4 _ hw3 v17 c128 v18 v23 v28 acc)) $$ [HX H6 H7 HO HF HF' HI1 HN HW1 HB HY0 HY1]
  · iapply hstart
    isplitl [HX H6 H7 HO]
    · isplitl [HX]; · iexact HX
      isplitl [H6]; · iexact H6
      isplitl [H7]; · iexact H7
      iexact HO
    isplitl [HF HF']
    · isplitl [HF]; · iexact HF
      iexact HF'
    isplitl [HI1]; · iexact HI1
    isplitl [HN HW1]
    · isplitl [HN]; · iexact HN
      iexact HW1
    isplitl [HB]
    · iapply (WbI_weaken X3 X4 c 0 _ 0); iexact HB
    isplitl [HY0]; · iexact HY0
    isplitl [HY1]; · iexact HY1
    iexact HM
  iintro %acc H
  have hend : iprop(∃ p, ⌜p < 2 ∧ acc = W p⌝ ∗ TileI (F := F) X1 X2 X3 X4 c g f0 gl arg0 X0 q0 ιwm f6 f7 (k0_t4_loop (W (nt g 16))).trips p)
      ⊢ iprop(G0 c arg0 X0 q0 ∗ (T6 c f6 ∗ T7 c f7) ∗ Owes c ∗ InIdle X1 X2 X3 X4 c
          ∗ WbI X3 X4 c 0 0 ∗ YNext c g f0 gl (nt g 16 % 2) (nt g 16) ∗ YNext c g f0 gl ((nt g 16 + 1) % 2) (nt g 16 + 1)) := by
    rw [htr]
    unfold TileI HNext WNext InIdle
    rw [if_neg (Nat.lt_irrefl _), want_last ok]
    simp only [show ¬ (16 : ℕ) < 16 from by decide, if_false]
    iintro ⟨%p, ⟨%hp, %ha⟩, ⟨HX, H6, H7, HO⟩, HA, HB, ⟨HC, HD⟩, HE, HY, HY', #HM⟩
    isplitl [HX]; · iexact HX
    isplitl [H6 H7]
    · isplitl [H6]; · iexact H6
      iexact H7
    isplitl [HO]; · iexact HO
    isplitl [HA HB HC HD]
    · have e1 : iprop((HIdle (F := F) c X1 (nt g 16 % 2) ∗ SIdle c X2 (nt g 16 % 2)) ∗ (HIdle c X1 (1 - nt g 16 % 2) ∗ SIdle c X2 (1 - nt g 16 % 2)))
          ⊢ iprop((HIdle c X1 0 ∗ SIdle c X2 0) ∗ (HIdle c X1 1 ∗ SIdle c X2 1)) := by
        rcases Nat.mod_two_eq_zero_or_one (nt g 16) with h | h <;> rw [h]
        iintro ⟨HA, HB⟩
        isplitl [HB]; · iexact HB
        iexact HA
      have e2 : iprop((WIdle (F := F) c X3 p ∗ WSIdle c X4 p) ∗ (WIdle c X3 (1 - p) ∗ WSIdle c X4 (1 - p)))
          ⊢ iprop((WIdle c X3 0 ∗ WSIdle c X4 0) ∗ (WIdle c X3 1 ∗ WSIdle c X4 1)) := by
        have hp' : p = 0 ∨ p = 1 := by omega
        rcases hp' with h | h <;> rw [h]
        iintro ⟨HA, HB⟩
        isplitl [HB]; · iexact HB
        iexact HA
      ihave HE1 := e1 $$ [HA HB]
      · isplitl [HA]; · iexact HA
        iexact HB
      ihave HE2 := e2 $$ [HC HD]
      · isplitl [HC]; · iexact HC
        iexact HD
      icases HE1 with ⟨H1, H2⟩
      isplitl [H1]; · iexact H1
      isplitl [H2]; · iexact H2
      iexact HE2
    isplitl [HE]
    · iapply (WbI_weaken X3 X4 c _ 0 _); iexact HE
    isplitl [HY]; · iexact HY
    iexact HY'
  ihave H := hend $$ H
  icases H with ⟨HX, ⟨H6, H7⟩, HO, HI, HB, HY, HY'⟩
  iapply (Scf.wp_for_bind frame (wpE (defs₀ (F := F)) 𝒱₀ (c : Thread nD τ) none) Set.univ _ _ _ _ _ _
    (fun k acc => (iprop(⌜True⌝) : sProp 𝕄))
    (fun k acc => absurd k.isLt (Nat.not_lt.mpr ((t6_trips (nt g 16) hn224).le.trans (Nat.zero_le _)))))
  · ipureintro; trivial
  iintro %acc' %Hemp
  dsimp only
  iapply (r_dite c (P := iprop(YNext c g f0 gl (nt g 16 % 2) (nt g 16) ∗ T6 c f6 ∗ T7 c f7 ∗ Owes c))
    (R := iprop(YIdle c f0 gl (nt g 16 % 2) (covT g (nt g 16 % 2) (nt g 16)) ∗ T6 c f6 ∗ T7 c f7 ∗ Owes c)) ?_ ?_) $$ [HY H6 H7 HO]
  · intro h9
    have h9' := (c9 _ hn224).mp h9
    unfold YNext
    rw [if_pos h9']
    iintro ⟨⟨%A, HY⟩, H6, H7, HO⟩ HK
    iapply (r_row c g hT (nt g 16 - 2) (by omega) (by omega) (o174 _ hn224 h9')) $$ H6
    iintro H6
    iapply (r_assume c (chk21 _ _ (row_ok g ok (t := nt g 16 - 2) (by omega))))
    iapply (r_exp c g hT (nt g 16 - 2) (by omega) (by omega) (o175 _ hn224 h9')) $$ H7
    iintro H7
    iapply (r_assume c (chk22 _ _ (row_ok g ok (t := nt g 16 - 2) (by omega)) _ (ex_lt (g := g) _)))
    iapply (waitY c f0 gl (nt g 16 % 2) (RR g (nt g 16 - 2)) (covT g (nt g 16 % 2) (nt g 16 - 2)) A (by omega) (o176 _ hn224)) $$ [HY HO]
    · isplitl [HY]; · iexact HY
      iexact HO
    iintro ⟨HD, Hv, HO⟩
    iapply HK
    isplitl [HD Hv]
    · unfold DY YIdle
      icases HD with ⟨HA, HT⟩
      iexists _
      isplitl [HA]; · iexact HA
      isplitl [HT]
      · iapply (Tok_mono c f0 gl _ (covT_next g _ _ h9' rfl)); iexact HT
      iexact Hv
    isplitl [H6]; · iexact H6
    isplitl [H7]; · iexact H7
    iexact HO
  · intro h9
    have h9' : ¬ 2 ≤ nt g 16 := fun h => h9 ((c9 _ hn224).mpr h)
    unfold YNext
    rw [if_neg h9']
    iintro ⟨HY, HR⟩
    isplitl [HY]
    · iapply (YIdle_mono c f0 gl _ (covT_lt2 g _ _ h9' rfl)); iexact HY
    · iexact HR
  · isplitl [HY]; · iexact HY
    isplitl [H6]; · iexact H6
    isplitl [H7]; · iexact H7
    iexact HO
  iintro ⟨HY, H6, H7, HO⟩
  iapply (r_row c g hT (nt g 16 - 1) (by omega) (by omega) (o179 _ hn224 hn1)) $$ H6
  iintro H6
  iapply (r_assume c (chk23 _ (row_ok g ok (t := nt g 16 - 1) (by omega))))
  iapply (r_pure c)
  iapply HK
  isplitl [HX]; · iexact HX
  isplitl [H6 H7]
  · isplitl [H6]; · iexact H6
    iexact H7
  isplitl [HO]; · iexact HO
  isplitl [HI]; · iexact HI
  isplitl [HB]; · iexact HB
  isplitl [HY]; · iexact HY
  iexact HY'

set_option maxHeartbeats 2000000 in
theorem run_wp (ok : OK g) (hX : ∀ j : S16.Idx, arg0.view.read (Elt F) X0 j = W (g (j 0))) (had : Admits X1 X2 X3 X4 g gl) (ιwm : ℕ) :
    iprop(wmInv wmE ιwm ∗ Rest X1 X2 X3 X4 c g f0 gl arg0 X0 q0 ∅ ∅)
      ⊢ wpc c (cc0_moe_gemm_0 (F := F) arg0 harg0 A1 H1 A2 H2 A3 H3 A4 H4 A5 H5 A6 H6 A7 H7 A8 H8 A9 H9 A10 H10 A11 H11 A12 H12 A13 H13 cc0_scratch8 cc0_scratch9 cc0_scratch10 cc0_scratch11 cc0_scratch12) (fun _ => Rest X1 X2 X3 X4 c g f0 gl arg0 X0 q0 (covT g 0 (nt g 16)) (covT g 1 (nt g 16))) := by
  have hn := ok.n_le
  have hn1 := ok.n_pos
  have hn224 : nt g 16 < 224 := by omega
  unfold cc0_moe_gemm_0 Rest InIdle
  iintro ⟨#HM, HX, HT, HO, ⟨HI0, HI1, HW0, HW1⟩, HB, HY0, HY1⟩
  iapply (part34_rule X3 X4 c g arg0 harg0 X0 q0 ok hX) $$ [HX HT HW0]
  · isplitl [HX]; · iexact HX
    isplitl [HT]; · iexact HT
    iexact HW0
  iintro %v17 %c128 %v18 %v23 %v28 ⟨HX, HT, HN⟩
  unfold TabI
  icases HT with ⟨%f6, %f7, %hT, H67⟩
  dsimp only
  iapply (part35_rule X1 X2 X3 X4 c g f0 gl arg0 harg0 X0 q0 ok hX had ιwm (nt g 16) rfl _ _ v17 c128 v18 v23 v28 hT) $$ [HX H67 HO HI0 HI1 HN HW1 HB HY0 HY1]
  · isplitl [HX]; · iexact HX
    isplitl [H67]; · iexact H67
    isplitl [HO]; · iexact HO
    isplitl [HI0]; · iexact HI0
    isplitl [HI1]; · iexact HI1
    isplitl [HN]; · iexact HN
    isplitl [HW1]; · iexact HW1
    isplitl [HB]; · iexact HB
    isplitl [HY0]; · iexact HY0
    isplitl [HY1]; · iexact HY1
    iexact HM
  iintro %v55 %c97 ⟨HX, ⟨H6, H7⟩, HO, HI, HB, HY, HY'⟩
  dsimp only
  iapply (r_exp c g hT (nt g 16 - 1) (by omega) (by omega) (o180 _ hn224 hn1)) $$ H7
  iintro H7
  iapply (r_assume c (chk24 _ (row_ok g ok (t := nt g 16 - 1) (by omega)) _ (ex_lt (g := g) _)))
  have hfl : YNext (F := F) c g f0 gl ((nt g 16 + 1) % 2) (nt g 16 + 1)
      ⊢ iprop(∃ A, FlY c f0 gl ((nt g 16 + 1) % 2) (RR g (nt g 16 + 1 - 2)) (covT g ((nt g 16 + 1) % 2) (nt g 16 + 1 - 2)) A) := by
    unfold YNext
    rw [if_pos (by omega)]
  ihave HY' := hfl $$ HY'
  icases HY' with ⟨%A, HY'⟩
  iapply (waitY c f0 gl ((nt g 16 + 1) % 2) (RR g (nt g 16 + 1 - 2)) _ A (by omega) ((o181 _ hn224 hn1).trans (by rw [show (nt g 16 - 1) % 2 = (nt g 16 + 1) % 2 from by omega]))) $$ [HY' HO]
  · isplitl [HY']; · iexact HY'
    iexact HO
  iintro ⟨HD, Hv, HO⟩
  iapply (r_pure c)
  unfold InIdle
  isplitl [HX]; · iexact HX
  isplitl [H6 H7]
  · iexists f6
    iexists f7
    isplitr
    · ipureintro; intro j h; omega
    isplitl [H6]; · iexact H6
    iexact H7
  isplitl [HO]; · iexact HO
  isplitl [HI]; · iexact HI
  isplitl [HB]; · iexact HB
  iapply (YIdle_swap c g f0 gl (nt g 16))
  isplitl [HY]; · iexact HY
  unfold DY YIdle
  icases HD with ⟨HA, HT⟩
  iexists _
  isplitl [HA]; · iexact HA
  isplitl [HT]
  · iapply (Tok_mono c f0 gl _ ((fun i hi => covT_next g _ (nt g 16 + 1) (by omega) rfl (by
      simp only [covT, Finset.mem_filter, Finset.mem_univ, true_and] at hi ⊢
      obtain ⟨t', h, h'⟩ := hi
      exact ⟨t', by omega, h'⟩)) : covT g ((nt g 16 + 1) % 2) (nt g 16) ⊆ _)); iexact HT
  iexact Hv

end Cert.KernelIdeal.Run

end
-- ==== Proof.M.I.Launch.lean ====
/-
  The whole run of the kernel: from any memory whose group sizes fit, every execution ends with the arguments unchanged,
  every counter at zero, and the result's elements at the values their rows were to get.
-/
module

public import proofs.«01_k».proof.Proof.M.I.Whole
public import proofs.«01_k».proof.Proof.Gen.KernelIdeal.Frame

@[expose] public section

noncomputable section

namespace Cert.KernelIdeal.Run

open Cert.KernelIdeal Cert.KernelIdeal.Gen Cert.Tiles
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]
variable [Col]
local notation "𝕄" => MT nD τ sig Unit (Elt F) ℕ (UU F) ℕ

/-! ## Splitting and joining -/

theorem half_split {ℓ : Loc nD τ sig} (f : Buf (Elt F) ℓ) :
    (ℓ ↦[Finset.univ]{fullShare} f : sProp 𝕄) ⊢ iprop((ℓ ↦[Finset.univ]{hsh 0} f) ∗ (ℓ ↦[Finset.univ]{hsh 1} f)) :=
  (pointsTo_share (PosShare.mem_left_op_right fullShare)).1
theorem half_join {ℓ : Loc nD τ sig} (f : Buf (Elt F) ℓ) :
    iprop((ℓ ↦[Finset.univ]{hsh 0} f) ∗ (ℓ ↦[Finset.univ]{hsh 1} f)) ⊢ (ℓ ↦[Finset.univ]{fullShare} f : sProp 𝕄) :=
  (pointsTo_share (PosShare.mem_left_op_right fullShare)).2

theorem ax_disjoint {n : ℕ} {d : Fin (n + 1) → ℕ} (b b' : Fin 2) (h : b ≠ b') :
    Disjoint (ax0 (d := d) (b : ℕ)) (ax0 (d := d) (b' : ℕ)) := by
  rw [Finset.disjoint_left]
  intro i h1 h2
  exact h (Fin.ext ((mem_ax0.mp h1).symm.trans (mem_ax0.mp h2)))
theorem ax_cover {n : ℕ} {d : Fin (n + 1) → ℕ} (h : d 0 = 2) :
    Finset.univ.biUnion (fun b : Fin 2 => ax0 (d := d) (b : ℕ)) = Finset.univ := by
  ext i
  simp only [Finset.mem_biUnion, Finset.mem_univ, true_and, iff_true]
  exact ⟨⟨(i 0 : ℕ), lt_of_lt_of_eq (i 0).isLt h⟩, mem_ax0.mpr rfl⟩

theorem bigSep_two {M : Type} [URA M] (Φ : Fin 2 → sProp M) : bigSep Finset.univ Φ = iprop(Φ 0 ∗ Φ 1) :=
  bigSep_univ_eq_bigSepL [(0 : Fin 2), 1] (by decide) (by decide) Φ

variable (c : Dev nD)

theorem bufH_split : iprop(∃ f : Buf (Elt F) ((c : Thread nD τ).loc cc0_scratch2), ((c : Thread nD τ).loc cc0_scratch2) ↦{fullShare} f)
    ⊢ (iprop((∃ f, (A8.view.loc (c : Thread nD τ)) ↦[ax0 0]{fullShare} f) ∗ ∃ f, (A8.view.loc (c : Thread nD τ)) ↦[ax0 1]{fullShare} f) : sProp 𝕄) := by
  iintro ⟨%f, H⟩
  ihave H2 := (ent_of_eq ((Ring.pointsTo_blocks (Ix := Unit) (Name := ℕ) (U := UU F) (Lvl := ℕ) (q := fullShare) (ℓ := (c : Thread nD τ).loc cc0_scratch2)
    (fun b : Fin 2 => ax0 (b : ℕ)) ax_disjoint (ax_cover rfl) f).trans (bigSep_two _))) $$ H
  icases H2 with ⟨H0, H1⟩
  isplitl [H0]
  · iexists f; iexact H0
  · iexists f; iexact H1
theorem bufH_join : (iprop((∃ f, (A8.view.loc (c : Thread nD τ)) ↦[ax0 0]{fullShare} f) ∗ ∃ f, (A8.view.loc (c : Thread nD τ)) ↦[ax0 1]{fullShare} f) : sProp 𝕄)
    ⊢ iprop(∃ f : Buf (Elt F) ((c : Thread nD τ).loc cc0_scratch2), ((c : Thread nD τ).loc cc0_scratch2) ↦{fullShare} f) := by
  iintro ⟨⟨%f0, H0⟩, ⟨%f1, H1⟩⟩
  iapply (Ring.pointsTo_blocks_join_exists (ℓ := (c : Thread nD τ).loc cc0_scratch2) (fun b : Fin 2 => ax0 (b : ℕ)) ax_disjoint (ax_cover rfl) f0)
  irw [bigSep_two]
  isplitl [H0]
  · iexists f0; iexact H0
  · iexists f1; iexact H1

theorem bufS_split : iprop(∃ f : Buf (Elt F) ((c : Thread nD τ).loc cc0_scratch3), ((c : Thread nD τ).loc cc0_scratch3) ↦{fullShare} f)
    ⊢ (iprop((∃ f, (A9.view.loc (c : Thread nD τ)) ↦[ax0 0]{fullShare} f) ∗ ∃ f, (A9.view.loc (c : Thread nD τ)) ↦[ax0 1]{fullShare} f) : sProp 𝕄) := by
  iintro ⟨%f, H⟩
  ihave H2 := (ent_of_eq ((Ring.pointsTo_blocks (Ix := Unit) (Name := ℕ) (U := UU F) (Lvl := ℕ) (q := fullShare) (ℓ := (c : Thread nD τ).loc cc0_scratch3)
    (fun b : Fin 2 => ax0 (b : ℕ)) ax_disjoint (ax_cover rfl) f).trans (bigSep_two _))) $$ H
  icases H2 with ⟨H0, H1⟩
  isplitl [H0]
  · iexists f; iexact H0
  · iexists f; iexact H1
theorem bufS_join : (iprop((∃ f, (A9.view.loc (c : Thread nD τ)) ↦[ax0 0]{fullShare} f) ∗ ∃ f, (A9.view.loc (c : Thread nD τ)) ↦[ax0 1]{fullShare} f) : sProp 𝕄)
    ⊢ iprop(∃ f : Buf (Elt F) ((c : Thread nD τ).loc cc0_scratch3), ((c : Thread nD τ).loc cc0_scratch3) ↦{fullShare} f) := by
  iintro ⟨⟨%f0, H0⟩, ⟨%f1, H1⟩⟩
  iapply (Ring.pointsTo_blocks_join_exists (ℓ := (c : Thread nD τ).loc cc0_scratch3) (fun b : Fin 2 => ax0 (b : ℕ)) ax_disjoint (ax_cover rfl) f0)
  irw [bigSep_two]
  isplitl [H0]
  · iexists f0; iexact H0
  · iexists f1; iexact H1

theorem bufW_split : iprop(∃ f : Buf (Elt F) ((c : Thread nD τ).loc cc0_scratch4), ((c : Thread nD τ).loc cc0_scratch4) ↦{fullShare} f)
    ⊢ (iprop((∃ f, (A10.view.loc (c : Thread nD τ)) ↦[ax0 0]{fullShare} f) ∗ ∃ f, (A10.view.loc (c : Thread nD τ)) ↦[ax0 1]{fullShare} f) : sProp 𝕄) := by
  iintro ⟨%f, H⟩
  ihave H2 := (ent_of_eq ((Ring.pointsTo_blocks (Ix := Unit) (Name := ℕ) (U := UU F) (Lvl := ℕ) (q := fullShare) (ℓ := (c : Thread nD τ).loc cc0_scratch4)
    (fun b : Fin 2 => ax0 (b : ℕ)) ax_disjoint (ax_cover rfl) f).trans (bigSep_two _))) $$ H
  icases H2 with ⟨H0, H1⟩
  isplitl [H0]
  · iexists f; iexact H0
  · iexists f; iexact H1
theorem bufW_join : (iprop((∃ f, (A10.view.loc (c : Thread nD τ)) ↦[ax0 0]{fullShare} f) ∗ ∃ f, (A10.view.loc (c : Thread nD τ)) ↦[ax0 1]{fullShare} f) : sProp 𝕄)
    ⊢ iprop(∃ f : Buf (Elt F) ((c : Thread nD τ).loc cc0_scratch4), ((c : Thread nD τ).loc cc0_scratch4) ↦{fullShare} f) := by
  iintro ⟨⟨%f0, H0⟩, ⟨%f1, H1⟩⟩
  iapply (Ring.pointsTo_blocks_join_exists (ℓ := (c : Thread nD τ).loc cc0_scratch4) (fun b : Fin 2 => ax0 (b : ℕ)) ax_disjoint (ax_cover rfl) f0)
  irw [bigSep_two]
  isplitl [H0]
  · iexists f0; iexact H0
  · iexists f1; iexact H1

theorem bufWS_split : iprop(∃ f : Buf (Elt F) ((c : Thread nD τ).loc cc0_scratch5), ((c : Thread nD τ).loc cc0_scratch5) ↦{fullShare} f)
    ⊢ (iprop((∃ f, (A11.view.loc (c : Thread nD τ)) ↦[ax0 0]{fullShare} f) ∗ ∃ f, (A11.view.loc (c : Thread nD τ)) ↦[ax0 1]{fullShare} f) : sProp 𝕄) := by
  iintro ⟨%f, H⟩
  ihave H2 := (ent_of_eq ((Ring.pointsTo_blocks (Ix := Unit) (Name := ℕ) (U := UU F) (Lvl := ℕ) (q := fullShare) (ℓ := (c : Thread nD τ).loc cc0_scratch5)
    (fun b : Fin 2 => ax0 (b : ℕ)) ax_disjoint (ax_cover rfl) f).trans (bigSep_two _))) $$ H
  icases H2 with ⟨H0, H1⟩
  isplitl [H0]
  · iexists f; iexact H0
  · iexists f; iexact H1
theorem bufWS_join : (iprop((∃ f, (A11.view.loc (c : Thread nD τ)) ↦[ax0 0]{fullShare} f) ∗ ∃ f, (A11.view.loc (c : Thread nD τ)) ↦[ax0 1]{fullShare} f) : sProp 𝕄)
    ⊢ iprop(∃ f : Buf (Elt F) ((c : Thread nD τ).loc cc0_scratch5), ((c : Thread nD τ).loc cc0_scratch5) ↦{fullShare} f) := by
  iintro ⟨⟨%f0, H0⟩, ⟨%f1, H1⟩⟩
  iapply (Ring.pointsTo_blocks_join_exists (ℓ := (c : Thread nD τ).loc cc0_scratch5) (fun b : Fin 2 => ax0 (b : ℕ)) ax_disjoint (ax_cover rfl) f0)
  irw [bigSep_two]
  isplitl [H0]
  · iexists f0; iexact H0
  · iexists f1; iexact H1

theorem bufY_split : iprop(∃ f : Buf (Elt F) ((c : Thread nD τ).loc cc0_scratch7), ((c : Thread nD τ).loc cc0_scratch7) ↦{fullShare} f)
    ⊢ (iprop((∃ f, (A13.view.loc (c : Thread nD τ)) ↦[ax0 0]{fullShare} f) ∗ ∃ f, (A13.view.loc (c : Thread nD τ)) ↦[ax0 1]{fullShare} f) : sProp 𝕄) := by
  iintro ⟨%f, H⟩
  ihave H2 := (ent_of_eq ((Ring.pointsTo_blocks (Ix := Unit) (Name := ℕ) (U := UU F) (Lvl := ℕ) (q := fullShare) (ℓ := (c : Thread nD τ).loc cc0_scratch7)
    (fun b : Fin 2 => ax0 (b : ℕ)) ax_disjoint (ax_cover rfl) f).trans (bigSep_two _))) $$ H
  icases H2 with ⟨H0, H1⟩
  isplitl [H0]
  · iexists f; iexact H0
  · iexists f; iexact H1
theorem bufY_join : (iprop((∃ f, (A13.view.loc (c : Thread nD τ)) ↦[ax0 0]{fullShare} f) ∗ ∃ f, (A13.view.loc (c : Thread nD τ)) ↦[ax0 1]{fullShare} f) : sProp 𝕄)
    ⊢ iprop(∃ f : Buf (Elt F) ((c : Thread nD τ).loc cc0_scratch7), ((c : Thread nD τ).loc cc0_scratch7) ↦{fullShare} f) := by
  iintro ⟨⟨%f0, H0⟩, ⟨%f1, H1⟩⟩
  iapply (Ring.pointsTo_blocks_join_exists (ℓ := (c : Thread nD τ).loc cc0_scratch7) (fun b : Fin 2 => ax0 (b : ℕ)) ax_disjoint (ax_cover rfl) f0)
  irw [bigSep_two]
  isplitl [H0]
  · iexists f0; iexact H0
  · iexists f1; iexact H1

/-! ## The kernel's own counters -/

omit [Col] in
abbrev osem : Fin 10 → SemLoc sig
  | 0 => .dma (semAt cc0_scratch8 0)
  | 1 => .dma (semAt cc0_scratch8 1)
  | 2 => .dma (semAt cc0_scratch9 0)
  | 3 => .dma (semAt cc0_scratch9 1)
  | 4 => .dma (semAt cc0_scratch10 0)
  | 5 => .dma (semAt cc0_scratch10 1)
  | 6 => .dma (semAt cc0_scratch11 0)
  | 7 => .dma (semAt cc0_scratch11 1)
  | 8 => .dma (semAt cc0_scratch12 0)
  | 9 => .dma (semAt cc0_scratch12 1)

omit [Col] in
theorem ownSemFacts : Pipeline.OwnSemFacts spec0 osem := by decide
theorem ownSems_eq : (Pipeline.ownSems0 (Ix := Unit) (Name := ℕ) (U := UU F) (Lvl := ℕ) (Val := Elt F) (τ := τ) osem c : sProp 𝕄)
    = iprop(semVal ((c : Thread nD τ), .dma (semAt cc0_scratch8 0)) 0 ∗ semVal ((c : Thread nD τ), .dma (semAt cc0_scratch8 1)) 0 ∗ semVal ((c : Thread nD τ), .dma (semAt cc0_scratch9 0)) 0 ∗ semVal ((c : Thread nD τ), .dma (semAt cc0_scratch9 1)) 0 ∗ semVal ((c : Thread nD τ), .dma (semAt cc0_scratch10 0)) 0 ∗ semVal ((c : Thread nD τ), .dma (semAt cc0_scratch10 1)) 0 ∗ semVal ((c : Thread nD τ), .dma (semAt cc0_scratch11 0)) 0 ∗ semVal ((c : Thread nD τ), .dma (semAt cc0_scratch11 1)) 0 ∗ semVal ((c : Thread nD τ), .dma (semAt cc0_scratch12 0)) 0 ∗ semVal ((c : Thread nD τ), .dma (semAt cc0_scratch12 1)) 0) := by
  unfold Pipeline.ownSems0
  rw [bigSep_univ_eq_bigSepL [(0 : Fin 10), 1, 2, 3, 4, 5, 6, 7, 8, 9] (by decide) (by decide)]
  rfl

/-! ## The state before and after the one point -/

section Run

variable (m : (ℓ : Loc nD τ sig) → Buf (Elt F) ℓ) (ρ : Dev nD → PrngReg)
variable (g : Dev nD → ℕ → ℕ) (gl : Dev nD → Goal F)

/-- The state of the kernel at rest, the rows `T0` and `T1` written through the two slots. -/
def Phi (T0 T1 : Finset S933888x128.Idx) : sProp 𝕄 :=
  iprop(∃ ιwm, wmInv wmE ιwm ∗ TabI (g c) c 0 ∗ InIdle (V m c main_arg0) (V m c main_v0) (V m c main_arg3) (V m c main_arg4) c
    ∗ WbI (V m c main_arg3) (V m c main_arg4) c 0 0 ∗ YIdle c (V m c main_v1) (gl c) 0 T0 ∗ YIdle c (V m c main_v1) (gl c) 1 T1)

/-- The rows written after `n` points. -/
def Tn (s n : ℕ) : Finset S933888x128.Idx := if n = 0 then ∅ else covT (g c) s (nt (g c) 16)

def dats (_ : Fin 1) (c : Dev nD) : Dat τ (Elt F) Unit ℕ (UU F) ℕ cfg0 c where
  A w := V m c (Pipeline.arrRef spec0 w)
  after w t := match w with
    | ⟨0, _⟩ => iblk m c 0 t
  Φ t := Phi c m g gl (Tn c g 0 t) (Tn c g 1 t)
  q _ := fullShare
  owed _ := 0

theorem before_w0 (t : Fin cfg0.N) (d) : (dats m g gl 0 c).before 0 t d = iblk m c 0 t := by
  unfold Dat.before; rw [if_pos (fetch0_0 t)]; unfold Dat.fetched Dat.blockOf iblk; dsimp only [dats]; rfl
theorem after_w0 (t : Fin cfg0.N) : (dats m g gl 0 c).after 0 t = iblk m c 0 t := by dsimp only [dats]

abbrev st0 (t : Fin cfg0.N) : Memref sig .tc .smem S16 .i32 := win0_0.stage (cfg0.slots t 0)
abbrev hst0 (t : Fin cfg0.N) : (st0 t).IsWhole := hstage0_0 0

abbrev bodyG (arg0 : Memref sig .tc .smem S16 .i32) (harg0 : arg0.IsWhole) : Prog (TpuEff nD τ sig (Elt F) Λ₀ .tc) PUnit :=
  cc0_moe_gemm_0 (F := F) arg0 harg0 A1 H1 A2 H2 A3 H3 A4 H4 A5 H5 A6 H6 A7 H7 A8 H8 A9 H9 A10 H10 A11 H11 A12 H12 A13 H13 cc0_scratch8 cc0_scratch9 cc0_scratch10 cc0_scratch11 cc0_scratch12

theorem defs_tc : (defs₀ (F := F)) .tc cfg0.body = fun a => bodyG (win0_0.stage (a.2 0)) (hstage0_0 0) := rfl
theorem prog_eq (t : Fin cfg0.N) : (defs₀ (F := F)) .tc cfg0.body (cfg0.bodyArgs t (cfg0.slots t)) = bodyG (st0 t) (hst0 t) :=
  (congrFun defs_tc _).trans rfl

variable (ok : ∀ c, OK (g c)) (hX : ∀ (c : Dev nD) (j : S16.Idx), m ((c : Thread nD τ).loc main_arg2) j = W (g c (j 0)))
variable (had : ∀ c : Dev nD, Admits (V m c main_arg0) (V m c main_v0) (V m c main_arg3) (V m c main_arg4) (g c) (gl c))

include hX in
theorem stage_words (t : Fin cfg0.N) (j : S16.Idx) :
    (st0 t).view.read (Elt F) ((st0 t).view.rep (iblk m c 0 t)) j = W (g c (j 0)) := by
  rw [View.read_rep]
  unfold iblk; rw [View.read_apply]
  rw [show V m c (Pipeline.arrRef spec0 0) = V m c main_arg2 from rfl, V_main_arg2]
  exact (hX c _).trans (by rw [fin_N0 t]; congr 2; show 0 + 1 * (j 0 : ℕ) = _; omega)

include ok hX had in
set_option backward.isDefEq.respectTransparency.types false in
theorem body_obligation : BodyObligation (dats (F := F) m g gl 0 c) (defs₀ (F := F)) 𝒱₀ () Set.univ := fun t => by
  rw [bigSep_W0, bigSep_W0]
  dsimp only
  simp only [before_w0, after_w0]
  have et := fin_N0 t
  have e0 : (t.castSucc : ℕ) = 0 := by rw [et]; rfl
  have e1 : (t.succ : ℕ) = 1 := by rw [et]; rfl
  rw [show (dats m g gl 0 c).Φ t.castSucc = Phi c m g gl ∅ ∅ from by dsimp only [dats]; unfold Tn; rw [if_pos e0, if_pos e0],
    show (dats m g gl 0 c).Φ t.succ = Phi c m g gl (covT (g c) 0 (nt (g c) 16)) (covT (g c) 1 (nt (g c) 16)) from by
      dsimp only [dats]; unfold Tn; rw [if_neg (by omega), if_neg (by omega)]]
  unfold Dat.owesAt Pipeline.owesWithin
  rw [show (dats m g gl 0 c).owed t.castSucc = 0 from rfl, show (dats m g gl 0 c).owed t.succ = 0 from rfl]
  unfold owns Phi
  iintro ⟨⟨%ι, #HM, HT, HI, HB, HY0, HY1⟩, ⟨%W, -, HW⟩, ⟨%d0, %g0, %hg0, Hng⟩⟩
  ihave Hng' := (pointsTo_rep_entails (c : Thread nD τ) (st0 t) g0 fullShare) $$ Hng
  rw [hg0]
  sl_rw [prog_eq t]
  have h := run_wp (V m c main_arg0) (V m c main_v0) (V m c main_arg3) (V m c main_arg4) c (g c) (V m c main_v1) (gl c) (st0 t) (hst0 t)
    ((st0 t).view.rep (iblk m c 0 t)) fullShare (ok c) (stage_words c m g hX t) (had c) ι
  iapply (h.trans (wp_wand frame _ _)) $$ [Hng' HW HT HI HB HY0 HY1]
  · unfold Rest
    isplitr; · iexact HM
    isplitl [Hng']; · iexact Hng'
    isplitl [HT]; · iexact HT
    isplitl [HW]; · iexists W; iexact HW
    isplitl [HI]; · iexact HI
    isplitl [HB]; · iexact HB
    isplitl [HY0]; · iexact HY0
    iexact HY1
  iintro %_ HR
  unfold Rest
  icases HR with ⟨Hng, HT, ⟨%W', HW⟩, HI, HB, HY0, HY1⟩
  isplitl [HT HI HB HY0 HY1]
  · iexists ι
    isplitr; · iexact HM
    isplitl [HT]; · iexact HT
    isplitl [HI]; · iexact HI
    isplitl [HB]; · iexact HB
    isplitl [HY0]; · iexact HY0
    iexact HY1
  isplitl [HW]
  · iexists W'; isplitr; · ipureintro; exact fun _ _ => Or.inl trivial
    iexact HW
  iexists _; isplitr; · ipureintro; exact View.read_rep _ _
  iexact Hng

/-! ## The run -/

/-- Half tokens joined. -/
theorem tok_join (f : S933888x128.Idx → Elt F .f32) (w : Goal F) (T0 T1 : Finset S933888x128.Idx) :
    iprop(Tok c f w 0 T0 ∗ Tok c f w 1 T1) ⊢ (iprop(∃ W : Finset S933888x128.Idx, ⌜T0 ⊆ W ∧ T1 ⊆ W⌝
      ∗ willBeTo wmE (A5.view.loc (c : Thread nD τ)) Finset.univ fullShare f w W) : sProp 𝕄) := by
  unfold Tok
  iintro ⟨⟨%W0, %h0, H0⟩, ⟨%W1, %h1, H1⟩⟩
  iexists (W0 ∪ W1)
  isplitr
  · ipureintro; exact ⟨h0.trans Finset.subset_union_left, h1.trans Finset.subset_union_right⟩
  iapply (show iprop(willBeTo wmE (A5.view.loc (c : Thread nD τ)) Finset.univ (hsh 0) f w W0 ∗ willBeTo wmE (A5.view.loc (c : Thread nD τ)) Finset.univ (hsh 1) f w W1)
      ⊢ (willBeTo wmE (A5.view.loc (c : Thread nD τ)) Finset.univ fullShare f w (W0 ∪ W1) : sProp 𝕄) from
    (Region.held_share (PosShare.mem_left_op_right fullShare) fun i _ => by
      simp only [Finset.mem_union, Bool.decide_or]; exact Region.WB.mem_mk_op_mk _ _ _ _).2)
  isplitl [H0]; · iexact H0
  iexact H1

theorem tok_split (f : S933888x128.Idx → Elt F .f32) (w : Goal F) :
    (willBeTo wmE (A5.view.loc (c : Thread nD τ)) Finset.univ fullShare f w ∅ : sProp 𝕄) ⊢ iprop(Tok c f w 0 ∅ ∗ Tok c f w 1 ∅) := by
  have h : (willBeTo wmE (A5.view.loc (c : Thread nD τ)) Finset.univ fullShare f w (∅ ∪ ∅) : sProp 𝕄)
      ⊢ iprop(willBeTo wmE (A5.view.loc (c : Thread nD τ)) Finset.univ (hsh 0) f w ∅ ∗ willBeTo wmE (A5.view.loc (c : Thread nD τ)) Finset.univ (hsh 1) f w ∅) :=
    (Region.held_share (PosShare.mem_left_op_right fullShare) fun i _ => by
      simp only [Finset.mem_union, Bool.decide_or]; exact Region.WB.mem_mk_op_mk _ _ _ _).1
  rw [Finset.union_idempotent] at h
  refine h.trans ?_
  unfold Tok
  iintro ⟨H0, H1⟩
  isplitl [H0]
  · iexists ∅; isplitr; · ipureintro; exact Finset.Subset.refl _
    iexact H0
  · iexists ∅; isplitr; · ipureintro; exact Finset.Subset.refl _
    iexact H1

/-- What goes in: the arrays, the result in write mode, the counters. -/
def into (c : Dev nD) : sProp 𝕄 :=
  iprop((∃ ιwm, wmInv wmE ιwm ∗ willBeTo wmE (A5.view.loc (c : Thread nD τ)) Finset.univ fullShare (V m c main_v1) (gl c) ∅)
    ∗ (((c : Thread nD τ).loc main_arg0) ↦{fullShare} V m c main_arg0) ∗ (((c : Thread nD τ).loc main_v0) ↦{fullShare} V m c main_v0)
    ∗ (((c : Thread nD τ).loc main_arg3) ↦{fullShare} V m c main_arg3) ∗ (((c : Thread nD τ).loc main_arg4) ↦{fullShare} V m c main_arg4)
    ∗ Pipeline.ownSems0 osem c)
/-- What comes out. -/
def outOf (c : Dev nD) : sProp 𝕄 :=
  iprop((∃ ιwm, wmInv wmE ιwm ∗ ∃ W : Finset S933888x128.Idx, ⌜covT (g c) 0 (nt (g c) 16) ⊆ W ∧ covT (g c) 1 (nt (g c) 16) ⊆ W⌝
      ∗ willBeTo wmE (A5.view.loc (c : Thread nD τ)) Finset.univ fullShare (V m c main_v1) (gl c) W)
    ∗ (((c : Thread nD τ).loc main_arg0) ↦{fullShare} V m c main_arg0)
    ∗ (((c : Thread nD τ).loc main_arg3) ↦{fullShare} V m c main_arg3) ∗ (((c : Thread nD τ).loc main_arg4) ↦{fullShare} V m c main_arg4))

theorem hin (c : Dev nD) : iprop(into m gl c ∗ Pipeline.scopedRest spec0 c) ⊢ Phi (F := F) c m g gl ∅ ∅ := by
  rw [scopedRest0_eq]
  unfold into
  rw [ownSems_eq]
  iintro ⟨⟨⟨%ι, #HM, Hw⟩, HA1, HA2, HA3, HA4, ⟨C8a, C8b, C9a, C9b, C10a, C10b, C11a, C11b, C12a, C12b⟩⟩, Hb2, Hb3, Hb4, Hb5, ⟨%f6, Hb6⟩, Hb7, ⟨%t0, Ht0⟩, ⟨%t1, Ht1⟩⟩
  ihave Hy := (tok_split c _ _) $$ Hw
  icases Hy with ⟨Hk0, Hk1⟩
  ihave Hs := (half_split _) $$ HA1
  icases Hs with ⟨HA1a, HA1b⟩
  ihave Hs := (bufH_split c) $$ Hb2
  icases Hs with ⟨⟨%fH0, HH0⟩, ⟨%fH1, HH1⟩⟩
  ihave Hs := (half_split _) $$ HA2
  icases Hs with ⟨HA2a, HA2b⟩
  ihave Hs := (bufS_split c) $$ Hb3
  icases Hs with ⟨⟨%fS0, HS0⟩, ⟨%fS1, HS1⟩⟩
  ihave Hs := (half_split _) $$ HA3
  icases Hs with ⟨HA3a, HA3b⟩
  ihave Hs := (bufW_split c) $$ Hb4
  icases Hs with ⟨⟨%fW0, HW0⟩, ⟨%fW1, HW1⟩⟩
  ihave Hs := (half_split _) $$ HA4
  icases Hs with ⟨HA4a, HA4b⟩
  ihave Hs := (bufWS_split c) $$ Hb5
  icases Hs with ⟨⟨%fWS0, HWS0⟩, ⟨%fWS1, HWS1⟩⟩
  ihave Hs := (bufY_split c) $$ Hb7
  icases Hs with ⟨⟨%fY0, HY0⟩, ⟨%fY1, HY1⟩⟩
  unfold Phi InIdle TabI WbI HIdle SIdle WIdle WSIdle YIdle
  iexists ι
  isplitr; · iexact HM
  isplitl [Ht0 Ht1]
  · iexists t0; iexists t1
    isplitr; · ipureintro; intro j hj; exact absurd hj (Nat.not_lt_zero _)
    isplitl [Ht0]; · iexact Ht0
    iexact Ht1
  isplitl [HA1a HH0 C8a HA2a HS0 C9a HA1b HH1 C8b HA2b HS1 C9b HA3a HW0 C10a HA4a HWS0 C11a HA3b HW1 C10b HA4b HWS1 C11b]
  · isplitl [HA1a HH0 C8a HA2a HS0 C9a]
    · isplitl [HA1a HH0 C8a]
      · iexists fH0
        isplitl [HA1a]; · iexact HA1a
        isplitl [HH0]; · iexact HH0
        iexact C8a
      · iexists fS0
        isplitl [HA2a]; · iexact HA2a
        isplitl [HS0]; · iexact HS0
        iexact C9a
    isplitl [HA1b HH1 C8b HA2b HS1 C9b]
    · isplitl [HA1b HH1 C8b]
      · iexists fH1
        isplitl [HA1b]; · iexact HA1b
        isplitl [HH1]; · iexact HH1
        iexact C8b
      · iexists fS1
        isplitl [HA2b]; · iexact HA2b
        isplitl [HS1]; · iexact HS1
        iexact C9b
    isplitl [HA3a HW0 C10a HA4a HWS0 C11a]
    · isplitl [HA3a HW0 C10a]
      · iexists fW0
        isplitl [HA3a]; · iexact HA3a
        isplitl [HW0]; · iexact HW0
        iexact C10a
      · iexists fWS0
        isplitl [HA4a]; · iexact HA4a
        isplitl [HWS0]; · iexact HWS0
        iexact C11a
    isplitl [HA3b HW1 C10b]
    · iexists fW1
      isplitl [HA3b]; · iexact HA3b
      isplitl [HW1]; · iexact HW1
      iexact C10b
    · iexists fWS1
      isplitl [HA4b]; · iexact HA4b
      isplitl [HWS1]; · iexact HWS1
      iexact C11b
  isplitl [Hb6]
  · iexists f6
    isplitr; · ipureintro; intro i hi; exact absurd hi (by omega)
    iexact Hb6
  isplitl [HY0 Hk0 C12a]
  · iexists fY0
    isplitl [HY0]; · iexact HY0
    isplitl [Hk0]; · iexact Hk0
    iexact C12a
  iexists fY1
  isplitl [HY1]; · iexact HY1
  isplitl [Hk1]; · iexact Hk1
  iexact C12b

theorem hout (c : Dev nD) : Phi (F := F) c m g gl (covT (g c) 0 (nt (g c) 16)) (covT (g c) 1 (nt (g c) 16))
    ⊢ iprop(outOf m g gl c ∗ Pipeline.ownSems0 osem c ∗ Pipeline.scopedRest spec0 c) := by
  rw [scopedRest0_eq, ownSems_eq]
  unfold Phi outOf InIdle TabI WbI HIdle SIdle WIdle WSIdle YIdle
  iintro ⟨%ι, #HM, ⟨%t0, %t1, -, Ht0, Ht1⟩, ⟨⟨⟨%fH0, HA1a, HH0, C8a⟩, ⟨%fS0, HA2a, HS0, C9a⟩⟩, ⟨⟨%fH1, HA1b, HH1, C8b⟩, ⟨%fS1, HA2b, HS1, C9b⟩⟩, ⟨⟨%fW0, HA3a, HW0, C10a⟩, ⟨%fWS0, HA4a, HWS0, C11a⟩⟩, ⟨⟨%fW1, HA3b, HW1, C10b⟩, ⟨%fWS1, HA4b, HWS1, C11b⟩⟩⟩, ⟨%f6, -, Hb6⟩, ⟨%fY0, HY0, Hk0, C12a⟩, ⟨%fY1, HY1, Hk1, C12b⟩⟩
  ihave Hk := (tok_join c _ _ _ _) $$ [Hk0 Hk1]
  · isplitl [Hk0]; · iexact Hk0
    iexact Hk1
  ihave HA1 := (half_join _) $$ [HA1a HA1b]
  · isplitl [HA1a]; · iexact HA1a
    iexact HA1b
  ihave HA3 := (half_join _) $$ [HA3a HA3b]
  · isplitl [HA3a]; · iexact HA3a
    iexact HA3b
  ihave HA4 := (half_join _) $$ [HA4a HA4b]
  · isplitl [HA4a]; · iexact HA4a
    iexact HA4b
  isplitl [Hk HA1 HA3 HA4]
  · isplitl [Hk]
    · iexists ι
      isplitr; · iexact HM
      iexact Hk
    isplitl [HA1]; · iexact HA1
    isplitl [HA3]; · iexact HA3
    iexact HA4
  isplitl [C8a C8b C9a C9b C10a C10b C11a C11b C12a C12b]
  · isplitl [C8a]; · iexact C8a
    isplitl [C8b]; · iexact C8b
    isplitl [C9a]; · iexact C9a
    isplitl [C9b]; · iexact C9b
    isplitl [C10a]; · iexact C10a
    isplitl [C10b]; · iexact C10b
    isplitl [C11a]; · iexact C11a
    isplitl [C11b]; · iexact C11b
    isplitl [C12a]; · iexact C12a
    iexact C12b
  isplitl [HH0 HH1]
  · iapply (bufH_join c)
    isplitl [HH0]
    · iexists fH0; iexact HH0
    · iexists fH1; iexact HH1
  isplitl [HS0 HS1]
  · iapply (bufS_join c)
    isplitl [HS0]
    · iexists fS0; iexact HS0
    · iexists fS1; iexact HS1
  isplitl [HW0 HW1]
  · iapply (bufW_join c)
    isplitl [HW0]
    · iexists fW0; iexact HW0
    · iexists fW1; iexact HW1
  isplitl [HWS0 HWS1]
  · iapply (bufWS_join c)
    isplitl [HWS0]
    · iexists fWS0; iexact HWS0
    · iexists fWS1; iexact HWS1
  isplitl [Hb6]; · iexists f6; iexact Hb6
  isplitl [HY0 HY1]
  · iapply (bufY_join c)
    isplitl [HY0]
    · iexists fY0; iexact HY0
    · iexists fY1; iexact HY1
  isplitl [Ht0]; · iexists t0; iexact Ht0
  iexists t1; iexact Ht1

/-- What a final memory is to satisfy on core `c`, beside the staged array. -/
def QY (c : Dev nD) (s : MemSt nD τ sig (Elt F)) : Prop :=
  (∀ i, i ∈ covT (g c) 0 (nt (g c) 16) ∪ covT (g c) 1 (nt (g c) 16) → ∀ u, gl c i = some u → s.mem ((c : Thread nD τ).loc main_v1) i = u)
  ∧ s.mem ((c : Thread nD τ).loc main_arg0) = V m c main_arg0 ∧ s.mem ((c : Thread nD τ).loc main_arg1) = V m c main_arg1
  ∧ s.mem ((c : Thread nD τ).loc main_arg3) = V m c main_arg3 ∧ s.mem ((c : Thread nD τ).loc main_arg4) = V m c main_arg4

theorem hY (c : Dev nD) (s' : Phys nD τ sig (Elt F)) :
    iprop(outOf m g gl c ∗ (((c : Thread nD τ).loc main_arg1) ↦{fullShare} V m c main_arg1) ∗ SI s')
      ⊢ (iprop(|={Set.univ}=> iprop(⌜QY m g gl c s'.mem⌝ ∗ SI s')) : sProp 𝕄) := by
  unfold outOf
  iintro ⟨⟨⟨%ι, #HM, ⟨%W, %hW, Hw⟩⟩, H0, H3, H4⟩, H1, HSI⟩
  imod (willBeTo_castOut (emb := wmE) (ιwm := ι) (E := Set.univ) (Set.mem_univ _)) $$ [Hw] with ⟨%f', %hf, Hf⟩
  · isplitr; · iexact HM
    iexact Hw
  icombine HSI H0 gives %h0
  icombine HSI H1 gives %h1
  icombine HSI H3 gives %h3
  icombine HSI H4 gives %h4
  icombine HSI Hf gives %h5
  imodintro
  isplitr
  · ipureintro
    refine ⟨fun i hi u hu => ?_, Buf.eq_of_forall_mem_univ h0, Buf.eq_of_forall_mem_univ h1, Buf.eq_of_forall_mem_univ h3, Buf.eq_of_forall_mem_univ h4⟩
    have hiW : i ∈ W := (Finset.mem_union.mp hi).elim (fun h => hW.1 h) fun h => hW.2 h
    exact (h5 i (Finset.mem_univ _)).trans ((hf i (Finset.mem_univ _)).2 hiW u hu)
  iexact HSI

def u₀ : UU F := (initOf (Pipeline.cells cfgs cellOf_inj) (Pipeline.launchToks cfgs cellOf_inj), (wm₀ nD τ sig (Elt F), 1))

include m ρ in
theorem hu : (ownU (u₀ (F := F)) : sProp 𝕄)
    ⊢ |={Set.univ}=> iprop(BI.own (EP (F := F) (initOf (Pipeline.cells cfgs cellOf_inj) (Pipeline.launchToks cfgs cellOf_inj)))
      ∗ bigSep Finset.univ (fun _ : Dev nD => (iprop(∃ ιwm, wmInv wmE ιwm) : sProp 𝕄))) := by
  unfold u₀
  iintro Hu
  ihave H := (ownU_pair _ _) $$ Hu
  icases H with ⟨HP, HR⟩
  ihave H := (own_pair_emb _ _ _) $$ HR
  icases H with ⟨Hwm, -⟩
  ihave Hwm := (show (BI.own ((Emb.inl.trans embR) (wm₀ nD τ sig (Elt F))) : sProp 𝕄) ⊢ ownU (wmE (wm₀ nD τ sig (Elt F))) from .rfl) $$ Hwm
  imod (wmInv_alloc (emb := wmE) (⟨m, fun _ => 0, ρ⟩ : MemSt nD τ sig (Elt F))) $$ Hwm with ⟨%ιwm, -, #Hwi⟩
  imodintro
  isplitl [HP]; · iexact HP
  iapply (show (iprop(∃ ιwm, wmInv wmE ιwm) : sProp 𝕄) ⊢ bigSep Finset.univ (fun _ : Dev nD => (iprop(∃ ιwm, wmInv wmE ιwm) : sProp 𝕄)) from by
    rw [bigSep_univ_eq_bigSepL [(0 : Dev nD)] (by decide) (by decide)]; exact .rfl)
  iexists ιwm
  iexact Hwi

include ok hX had in
set_option backward.isDefEq.respectTransparency.types false in
/-- From any memory whose group sizes fit, every execution ends, with the arguments as they were, the counters at zero
    and every element of the written rows at its goal. -/
theorem run_main : θ_run defs (onTc (τ := τ) (main (F := F))) ⟨m, fun _ => 0, ρ⟩ (fun r => (∀ c : Dev nD, QY m g gl c r.2
      ∧ r.2.mem ((c : Thread nD τ).loc main_arg2) = V m c main_arg2) ∧ r.2.sem = fun _ => 0) :=
  Pipeline.θ_run_region_kit_quiescent cfgs (dats m g gl) () (0 : Fin 1) launch0 ownSemFacts EP defs₀ 𝒱₀ m ρ main
    (hbody := fun c => (body_obligation c m g gl ok hX had).loose) (hshare := fun c => (dats m g gl 0 c).share_full fun _ => rfl)
    (howed := fun _ _ => rfl)
    (G := fun _ => iprop(∃ ιwm, wmInv wmE ιwm)) (u₀ := u₀)
    (hu₀ := hu m ρ)
    (V := V m)
    (hmain := Pipeline.hmain_prefix cfgs 0 defs₀ 𝒱₀ m main hostOps0 hostOps0_sub hostOps0_fresh main_chain)
    (hA := fun _ _ => rfl)
    (X := into m gl) (Y := outOf m g gl) (Z := fun c => (((c : Thread nD τ).loc main_arg1) ↦{fullShare} V m c main_arg1))
    (hX := fun c => by
      rw [unscopedRest0_eq]
      unfold into
      iintro ⟨⟨H0, H1, H3, H4, H2, H5⟩, HS, -, -, ⟨%ι, #HM⟩⟩
      imod (pointsTo_castIn (ℓ := (c : Thread nD τ).loc main_v1) (I := Finset.univ) (f := V m c main_v1) (emb := wmE) (ιwm := ι) (E := Set.univ) (gl c) (Set.mem_univ _)) $$ [H5] with Hw
      · isplitr; · iexact HM
        iexact H5
      imodintro
      isplitr [H1]
      · isplitl [Hw]
        · iexists ι
          isplitr; · iexact HM
          iexact Hw
        isplitl [H0]; · iexact H0
        isplitl [H2]; · iexact H2
        isplitl [H3]; · iexact H3
        isplitl [H4]; · iexact H4
        iexact HS
      iexact H1)
    (hin := fun c => by
      rw [show (dats m g gl 0 c).Φ 0 = Phi c m g gl ∅ ∅ from by dsimp only [dats]; unfold Tn; rw [if_pos (show ((0 : Fin (cfg0.N + 1)) : ℕ) = 0 from rfl), if_pos (show ((0 : Fin (cfg0.N + 1)) : ℕ) = 0 from rfl)]]
      exact hin m g gl c)
    (hout := fun c => by
      rw [show (dats m g gl 0 c).Φ (Fin.last cfg0.N) = Phi c m g gl (covT (g c) 0 (nt (g c) 16)) (covT (g c) 1 (nt (g c) 16)) from by
        have e : ((Fin.last cfg0.N : Fin (cfg0.N + 1)) : ℕ) = 1 := N_0
        dsimp only [dats]; unfold Tn; rw [if_neg (by omega), if_neg (by omega)]]
      exact hout m g gl c)
    (QY := QY m g gl)
    (hY := hY m g gl)
    (hQ := fun s hh hz => ⟨fun c => ⟨(hh c).2, ((hh c).1 0).trans ((dats m g gl 0 c).arrAt_in 0 rfl _)⟩, hz⟩)

end Run

end Cert.KernelIdeal.Run

end
-- ==== Proof.M.Pre.lean ====
/-
  What the precondition says of the group sizes, in natural numbers.
-/
module

public import proofs.«01_k».proof.Defs
public import proofs.«01_k».proof.Proof.Gen.Pre_groups_fit
public import proofs.«01_k».proof.Proof.M.Tiles
public import Idealize.ShloMosaic.Lib.ReduceAll
public import Idealize.ShloMosaic.Lib.ValueIdx

@[expose] public section

noncomputable section

namespace Cert.Pre

open Cert.Pre_groups_fit Cert.Tiles
open Idealize.ShloMosaic Idealize.ShloMosaic.ValueIdx

variable {F : FTy → Type} [FloatOps F]

/-- The size of group `k`. -/
def gs (x : S16.Idx → BitVec 32) (k : ℕ) : ℕ := if h : k < 16 then (x (ix1 (n := 16) ⟨k, h⟩)).toNat else 0

theorem word_gs (x : S16.Idx → BitVec 32) (j : S16.Idx) : x j = BitVec.ofNat 32 (gs x (j 0)) := by
  have hj : (j 0 : ℕ) < 16 := (j 0).isLt
  have e : j = ix1 (n := 16) ⟨(j 0 : ℕ), hj⟩ := by funext a; fin_cases a; rfl
  unfold gs
  rw [dif_pos hj, ← e, BitVec.ofNat_toNat, BitVec.setWidth_eq]

theorem st_sum (g : ℕ → ℕ) (n : ℕ) : st g n = ∑ i ∈ Finset.range n, g i := by
  induction n with
  | zero => rfl
  | succ n ih => rw [show st g (n + 1) = st g n + g n from rfl, Finset.sum_range_succ, ih]

theorem toNat_sum {ι : Type} [DecidableEq ι] (f : ι → BitVec 32) (hf : ∀ i, (f i).toNat ≤ 98304) (s : Finset ι) (hs : s.card ≤ 16) :
    (s.fold IntOp.addi 0#32 f).toNat = ∑ i ∈ s, (f i).toNat ∧ ∑ i ∈ s, (f i).toNat ≤ s.card * 98304 := by
  induction s using Finset.induction with
  | empty => simp
  | insert a s ha ih =>
    rw [Finset.card_insert_of_notMem ha] at hs
    obtain ⟨h1, h2⟩ := ih (by omega)
    rw [Finset.fold_insert ha, Finset.sum_insert ha, Finset.card_insert_of_notMem ha, show IntOp.addi (f a) (s.fold IntOp.addi 0#32 f) = f a + s.fold IntOp.addi 0#32 f from rfl, BitVec.toNat_add, h1]
    have := hf a
    have h3 : s.card * 98304 ≤ 15 * 98304 := Nat.mul_le_mul_right _ (by omega)
    constructor
    · omega
    · rw [Nat.add_mul]; omega

theorem sle_bounds {x : BitVec 32} (h0 : (0#32).sle x = true) (h1 : x.sle 98304#32 = true) : x.toNat ≤ 98304 := by
  rw [BitVec.sle_eq_decide, decide_eq_true_eq] at h0 h1
  rw [show (0#32 : BitVec 32).toInt = 0 from by decide] at h0
  rw [show (98304#32 : BitVec 32).toInt = 98304 from by decide] at h1
  have := x.isLt
  rw [BitVec.toInt_eq_toNat_cond] at h0 h1
  split at h0 <;> omega

theorem ok_of_pre (x0 : FVec F S98304x2048 .fp8e4m3) (x1 : FVec F S98304 .f32) (x2 : IVec S16 32) (x3 : IVec S16x1024x4096 8)
    (x4 : FVec F S16x16x4096 .bf16)
    (h : Cert.Pre_groups_fit.fn (F := F) x0 x1 x2 x3 x4 = fun _ => 1#1) : OK (gs x2) := by
  have e := congrFun h (fun a => a.elim0)
  simp only [Cert.Pre_groups_fit.fn, andi, cmpi, broadcastInDim, constantI] at e
  have ho : ∀ p : Bool, (BitVec.ofBool p = 1#1) ↔ p = true := fun p => by cases p <;> decide
  obtain ⟨e1, e3⟩ := IntOp.andi_eq_one.1 e
  obtain ⟨e1, e2⟩ := IntOp.andi_eq_one.1 e1
  have hall : ∀ i, (x2 i).toNat ≤ 98304 := fun i => by
    haveI : Subsingleton S_.Idx := ⟨fun a b => funext fun k => k.elim0⟩
    have hi := Host.reduce_andi_all _ _ _ _ _ e1 i
    obtain ⟨ha, hb⟩ := IntOp.andi_eq_one.1 hi
    exact sle_bounds ((ho _).mp ha) ((ho _).mp hb)
  rw [Host.reduce_eq_fold (IntOp.addi (w := 32))] at e2 e3
  generalize hT : Finset.fold (IntOp.addi (w := 32)) _ _ _ = T at e2 e3
  have hcard : (Finset.univ : Finset S16.Idx).card = 16 := by
    rw [Finset.card_univ]; decide
  have hs := toNat_sum x2 hall Finset.univ hcard.le
  have hsum : st (gs x2) 16 = ∑ i : S16.Idx, (x2 i).toNat := by
    rw [st_sum, Finset.sum_range]
    refine Fintype.sum_bijective (fun k : Fin 16 => (ix1 (n := 16) k : S16.Idx)) ⟨fun a b h => congrFun h 0, fun j => ⟨j 0, ?_⟩⟩ _ _ fun k => ?_
    · funext a; fin_cases a; rfl
    · unfold gs; rw [dif_pos k.isLt]
  have hT' : T = Finset.univ.fold IntOp.addi 0#32 x2 := by
    rw [← hT, Finset.filter_true_of_mem fun i _ => funext fun k => k.elim0]
    rfl
  have hTn : T.toNat = st (gs x2) 16 := by rw [hT', hs.1, hsum]
  have hle : T.toNat ≤ 98304 := by
    have hb : T.toNat ≤ 16 * 98304 := by rw [hTn, hsum, ← hcard]; exact hs.2
    have : T.sle 98304#32 = true := (ho _).mp e3
    rw [BitVec.sle_eq_decide, decide_eq_true_eq] at this
    rw [show (98304#32 : BitVec 32).toInt = 98304 from by decide, BitVec.toInt_eq_toNat_cond] at this
    split at this <;> omega
  refine ⟨?_, by omega⟩
  have : (1#32).sle T = true := (ho _).mp e2
  rw [BitVec.sle_eq_decide, decide_eq_true_eq] at this
  rw [show (1#32 : BitVec 32).toInt = 1 from by decide, BitVec.toInt_eq_toNat_cond] at this
  split at this <;> omega

end Cert.Pre

end
-- ==== Proof.M.I.Quiet.lean ====
/-
  The kernel runs, leaves its arguments unchanged and every counter at zero.
-/
module

public import proofs.«01_k».proof.Proof.M.I.Launch
public import proofs.«01_k».proof.Proof.M.Pre

@[expose] public section

noncomputable section

namespace Cert.KernelIdeal.Run

open Cert.KernelIdeal Cert.KernelIdeal.Gen Cert.Tiles
open Idealize.ShloMosaic Idealize.ShloMosaic.TcCoe
open Idealize.SL.Sem

variable {F : FTy → Type} [FloatOps F]
variable [Col]

/-- No element of the result has a goal. -/
theorem admits_none (X1 : S98304x2048.Idx → Elt F .fp8e4m3) (X2 : S768x1x128.Idx → Elt F .f32)
    (X3 : S16x1024x4096.Idx → Elt F .i8) (X4 : S16x16x4096.Idx → Elt F .bf16) (g : ℕ → ℕ) : Admits X1 X2 X3 X4 g (fun _ => none) :=
  fun _ _ _ _ _ hu => by cases hu

variable (F) in
/-- The frame: every run ends, with the arguments unchanged and the semaphores at zero. -/
def QuietP : Prop := ∀ (m : (ℓ : Loc nD τ sig) → Buf (Elt F) ℓ) (ρ : Dev nD → PrngReg)
    (h : ∀ c : Dev nD, Cert.Pre_groups_fit.fn (F := F) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1),
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

theorem quiet (m : (ℓ : Loc nD τ sig) → Buf (Elt F) ℓ) (ρ : Dev nD → PrngReg)
    (h : ∀ c : Dev nD, Cert.Pre_groups_fit.fn (F := F) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r hr => ⟨fun c => by
      obtain ⟨⟨-, h0, h1, h3, h4⟩, h2⟩ := hr.1 c
      exact ⟨h0.trans (V_main_arg0 m c), h1.trans (V_main_arg1 m c), h2.trans (V_main_arg2 m c), h3.trans (V_main_arg3 m c), h4.trans (V_main_arg4 m c)⟩, hr.2⟩)
    (run_main m ρ (fun c => Cert.Pre.gs (m ((c : Thread nD τ).loc main_arg2))) (fun _ _ => none)
      (fun c => Cert.Pre.ok_of_pre _ _ _ _ _ (h c)) (fun c j => Cert.Pre.word_gs _ j) (fun c => admits_none _ _ _ _ _))

theorem quietP : QuietP F := quiet

end Cert.KernelIdeal.Run

end
-- ==== Proof.M.V.Code.lean ====
/-
  The number a four-bit code stands for.
-/
module

public import Idealize.ShloMosaic.Lib.Pointwise

@[expose] public section

noncomputable section

namespace Cert.Val

open Idealize.ShloMosaic

/-- The code in the lower half (`p` even) or the upper half (`p` odd) of a byte, as a number from -8 to 7. -/
def code (b : BitVec 8) (p : ℕ) : Ideal .bf16 :=
  FloatOps.sitofp (F := Ideal) (w := 32) .bf16
    (if p % 2 < 1 then IntOp.shrsi ArithUnit.vector (IntOp.shli ArithUnit.vector (BitVec.setWidth 32 b) 28#32) 28#32
      else IntOp.shrsi ArithUnit.vector (IntOp.shli ArithUnit.vector (BitVec.setWidth 32 b) 24#32) 28#32)

end Cert.Val

end
-- ==== Proof.M.V.KerVal.lean ====
/-
  The product that a tile holds, over the extended reals: a sum over the 2048 columns.
-/
module

public import proofs.«01_k».proof.Proof.M.I.Half2
public import proofs.«01_k».proof.Proof.M.V.Code
public import Idealize.ShloMosaic.Lib.Pipeline.ValueKit

@[expose] public section

set_option maxRecDepth 16384

noncomputable section

namespace Cert.KernelIdeal.Run

open Cert.KernelIdeal Cert.KernelIdeal.Gen Cert.Val
open Idealize.ShloMosaic Idealize.ShloMosaic.TcCoe

theorem slab_slices : ∀ n : Fin 16, S128x2048.Slices ![0, 128 * (n : ℕ)] S128x128 := by decide

/-- Columns `128 n` to `128 n + 127` of a block of rows, scaled. -/
def slab (s : S1x1x1x128.Idx → Elt Ideal .f32) (h : S1x128x2048.Idx → Elt Ideal .fp8e4m3) (n : Fin 16) : S128x128.Idx → Elt Ideal .bf16 :=
  mulf (F := Ideal) (φ := .bf16) (extractStridedSlice S128x128 ![0, 128 * (n : ℕ)] (k0_pay28 h) (slab_slices n)) (k0_pay27 s)

theorem slab_val (s : S1x1x1x128.Idx → Elt Ideal .f32) (h : S1x128x2048.Idx → Elt Ideal .fp8e4m3) (n : Fin 16) (r c : Fin 128) (k : Fin 2048) (hk : (k : ℕ) = 128 * (n : ℕ) + (c : ℕ)) :
    slab s h n (ix2 r c : S128x128.Idx) = (h (ix3 0 r k : S1x128x2048.Idx) : EReal) * s (ix4 0 0 0 r : S1x1x1x128.Idx) := by
  pointwise [slab, k0_pay28, k0_pay27]
  exact congrArg (fun z => (h (ix3 0 r z : S1x128x2048.Idx) : EReal) * s (ix4 0 0 0 r : S1x1x1x128.Idx)) (Fin.ext hk.symm)

theorem conc16 : Shape.Concatenates ((List.ofFn fun n : Fin 16 => (⟨S128x128, fun _ => (0 : ℕ)⟩ : (s : Shape) × (s.Idx → ℕ))).map (·.1)) S128x2048 1 :=
  concatenates_S128x128_S128x128_S128x128_S128x128_S128x128_S128x128_S128x128_S128x128_S128x128_S128x128_S128x128_S128x128_S128x128_S128x128_S128x128_S128x128_S128x2048_d1

/-- A block of rows, scaled. -/
def rows (s : S1x1x1x128.Idx → Elt Ideal .f32) (h : S1x128x2048.Idx → Elt Ideal .fp8e4m3) : S128x2048.Idx → Elt Ideal .bf16 :=
  concatenate S128x2048 1 (List.ofFn fun n : Fin 16 => (⟨S128x128, slab s h n⟩ : (s : Shape) × (s.Idx → Elt Ideal .bf16))) conc16

theorem xb0_eq (s h) : xb0 (F := Ideal) s h = rows s h := rfl
theorem xb1_eq (s h) : xb1 (F := Ideal) s h = rows s h := rfl
theorem pay60_eq (s h) : k0_pay60 (F := Ideal) s h = rows s h := rfl

theorem rows_val (s : S1x1x1x128.Idx → Elt Ideal .f32) (h : S1x128x2048.Idx → Elt Ideal .fp8e4m3) (r : Fin 128) (k : Fin 2048) :
    rows s h (ix2 r k : S128x2048.Idx) = (h (ix3 0 r k : S1x128x2048.Idx) : EReal) * s (ix4 0 0 0 r : S1x1x1x128.Idx) := by
  refine (concatenate_ofFn_apply (t := S128x2048) (s₁ := S128x128) 1 (slab s h) conc16 rfl 128 rfl (ix2 r k) ⟨(k : ℕ) / 128, by omega⟩ rfl
    (ix2 r ⟨(k : ℕ) % 128, Nat.mod_lt _ (by decide)⟩ : S128x128.Idx) rfl ?_).trans ?_
  · intro b hb
    match b with
    | ⟨0, _⟩ => rfl
    | ⟨1, _⟩ => exact absurd rfl hb
  · exact slab_val s h _ r _ k (Nat.div_add_mod (k : ℕ) 128).symm

theorem conc4 : Shape.Concatenates ((List.ofFn fun n : Fin 4 => (⟨S128x2048, fun _ => (0 : ℕ)⟩ : (s : Shape) × (s.Idx → ℕ))).map (·.1)) S512x2048 0 :=
  concatenates_S128x2048_S128x2048_S128x2048_S128x2048_S512x2048_d0

/-- The 512 rows of a tile, scaled. -/
def tall (s : Fin 4 → S1x1x1x128.Idx → Elt Ideal .f32) (h : Fin 4 → S1x128x2048.Idx → Elt Ideal .fp8e4m3) : S512x2048.Idx → Elt Ideal .bf16 :=
  concatenate S512x2048 0 (List.ofFn fun n : Fin 4 => (⟨S128x2048, rows (s n) (h n)⟩ : (s : Shape) × (s.Idx → Elt Ideal .bf16))) conc4

theorem tall_val (s : Fin 4 → S1x1x1x128.Idx → Elt Ideal .f32) (h : Fin 4 → S1x128x2048.Idx → Elt Ideal .fp8e4m3) (r : Fin 512) (k : Fin 2048) :
    tall s h (ix2 r k : S512x2048.Idx) = (h ⟨(r : ℕ) / 128, by omega⟩ (ix3 0 ⟨(r : ℕ) % 128, Nat.mod_lt _ (by decide)⟩ k : S1x128x2048.Idx) : EReal)
      * s ⟨(r : ℕ) / 128, by omega⟩ (ix4 0 0 0 ⟨(r : ℕ) % 128, Nat.mod_lt _ (by decide)⟩ : S1x1x1x128.Idx) := by
  refine (concatenate_ofFn_apply (t := S512x2048) (s₁ := S128x2048) 0 (fun n => rows (s n) (h n)) conc4 rfl 128 rfl (ix2 r k) ⟨(r : ℕ) / 128, by omega⟩ rfl
    (ix2 ⟨(r : ℕ) % 128, Nat.mod_lt _ (by decide)⟩ k : S128x2048.Idx) rfl ?_).trans ?_
  · intro b hb
    match b with
    | ⟨0, _⟩ => exact absurd rfl hb
    | ⟨1, _⟩ => rfl
  · exact rows_val _ _ _ k

theorem dot_val (X : S512x2048.Idx → Elt Ideal .bf16) (w : S2048x1024.Idx → Elt Ideal .bf16) (r : Fin 512) (n : Fin 1024) :
    matmul (F := Ideal) (φ₁ := .bf16) (φ₂ := .bf16) dot_S512x2048_S2048x1024_S512x1024_1_0_0_1_n_n none X w (constant S512x1024 .f32 0x00000000#32) (ix2 r n : S512x1024.Idx)
      = ∑ k : Fin 2048, (X (ix2 r k : S512x2048.Idx) : EReal) * w (ix2 k n : S2048x1024.Idx) := by
  pointwise

theorem wGrp_val (p : S1x64x1024.Idx → Elt Ideal .i8) (q : S1x1x1024.Idx → Elt Ideal .bf16) (r : Fin 128) (n : Fin 1024) :
    k0_pay3 p q (ix2 r n : S128x1024.Idx) = (code (p (ix3 0 ⟨(r : ℕ) / 2, by omega⟩ n : S1x64x1024.Idx)) (r : ℕ) : EReal) * q (ix3 0 0 n : S1x1x1024.Idx) := by
  pointwise [k0_pay3]
  rfl

variable (X1 : S98304x2048.Idx → Elt Ideal .fp8e4m3) (X2 : S768x1x128.Idx → Elt Ideal .f32)
  (X3 : S16x1024x4096.Idx → Elt Ideal .i8) (X4 : S16x16x4096.Idx → Elt Ideal .bf16)

variable [Col]

/-- Column `n` of the call, among all columns. -/
def col (n : Fin 1024) : Fin 4096 := ⟨Col.n0 + (n : ℕ), by have := Col.hn; omega⟩

theorem wbFill_val (e : Fin 16) (k : Fin 2048) (n : Fin 1024) :
    wbFill X3 X4 (e : ℕ) (ix2 k n : S2048x1024.Idx) = (code (X3 (ix3 e ⟨(k : ℕ) / 2, by omega⟩ (col n) : S16x1024x4096.Idx)) (k : ℕ) : EReal)
      * X4 (ix3 e ⟨(k : ℕ) / 128, by omega⟩ (col n) : S16x16x4096.Idx) := by
  show k0_pay3 (wpBlk X3 (e : ℕ) ((k : ℕ) / 128)) (wsBlk X4 (e : ℕ) ((k : ℕ) / 128)) (ix2 ⟨(k : ℕ) % 128, Nat.mod_lt _ (by decide)⟩ n : S128x1024.Idx) = _
  rw [wGrp_val]
  have hk := k.isLt
  have hn := n.isLt
  have he := e.isLt
  have e1 : wpBlk X3 (e : ℕ) ((k : ℕ) / 128) (ix3 0 ⟨(k : ℕ) % 128 / 2, by omega⟩ n : S1x64x1024.Idx) = X3 (ix3 e ⟨(k : ℕ) / 2, by omega⟩ (col n) : S16x1024x4096.Idx) := by
    refine congrArg X3 (funext fun a => Fin.ext ?_)
    match a with
    | ⟨0, _⟩ => show (e : ℕ) % 16 = _; exact Nat.mod_eq_of_lt he
    | ⟨1, _⟩ => show (64 * ((k : ℕ) / 128) + (k : ℕ) % 128 / 2) % 1024 = (k : ℕ) / 2; omega
    | ⟨2, _⟩ => show (Col.n0 + (n : ℕ)) % 4096 = Col.n0 + (n : ℕ); have := Col.hn; omega
  have e2 : wsBlk X4 (e : ℕ) ((k : ℕ) / 128) (ix3 0 0 n : S1x1x1024.Idx) = X4 (ix3 e ⟨(k : ℕ) / 128, by omega⟩ (col n) : S16x16x4096.Idx) := by
    refine congrArg X4 (funext fun a => Fin.ext ?_)
    match a with
    | ⟨0, _⟩ => show (e : ℕ) % 16 = _; exact Nat.mod_eq_of_lt he
    | ⟨1, _⟩ => show (k : ℕ) / 128 % 16 = (k : ℕ) / 128; omega
    | ⟨2, _⟩ => show (Col.n0 + (n : ℕ)) % 4096 = Col.n0 + (n : ℕ); have := Col.hn; omega
  rw [e1, e2]
  have e3 : ∀ b, code b ((k : ℕ) % 128) = code b (k : ℕ) := fun b => by
    unfold code; rw [show (k : ℕ) % 128 % 2 = (k : ℕ) % 2 by omega]
  exact congrArg (fun z : EReal => z * X4 (ix3 e ⟨(k : ℕ) / 128, by omega⟩ (col n) : S16x16x4096.Idx)) (e3 _)

/-- The product of row `row` and the weights of expert `e`, column `n`. -/
def term (e : Fin 16) (row : Fin 98304) (n : Fin 1024) : EReal :=
  ∑ k : Fin 2048, ((X1 (ix2 row k : S98304x2048.Idx) : EReal) * X2 (ix3 ⟨(row : ℕ) / 128, by omega⟩ 0 ⟨(row : ℕ) % 128, by omega⟩ : S768x1x128.Idx))
    * ((code (X3 (ix3 e ⟨(k : ℕ) / 2, by omega⟩ (col n) : S16x1024x4096.Idx)) (k : ℕ) : EReal) * X4 (ix3 e ⟨(k : ℕ) / 128, by omega⟩ (col n) : S16x16x4096.Idx))

theorem accT_val (ρ : ℕ) (e : Fin 16) (r : Fin 512) (n : Fin 1024) (hρ : ρ + 512 ≤ 98304) (hd : 128 ∣ ρ) :
    accT (F := Ideal) X1 X2 X3 X4 ρ (ρ / 128) (e : ℕ) (ix2 r n : S512x1024.Idx) = term X1 X2 X3 X4 e ⟨ρ + (r : ℕ), by omega⟩ n := by
  show matmul (F := Ideal) (φ₁ := .bf16) (φ₂ := .bf16) dot_S512x2048_S2048x1024_S512x1024_1_0_0_1_n_n none
    (tall (fun b => sBlk X2 (ρ / 128) (b : ℕ)) (fun b => hBlk X1 ρ (b : ℕ))) (wbFill X3 X4 (e : ℕ)) (constant S512x1024 .f32 0x00000000#32) (ix2 r n : S512x1024.Idx) = _
  rw [dot_val]
  unfold term
  refine Finset.sum_congr rfl fun k _ => ?_
  rw [tall_val, wbFill_val]
  have hr := r.isLt
  obtain ⟨q, rfl⟩ := hd
  have e1 : hBlk X1 (128 * q) ((r : ℕ) / 128) (ix3 0 ⟨(r : ℕ) % 128, Nat.mod_lt _ (by decide)⟩ k : S1x128x2048.Idx) = X1 (ix2 ⟨128 * q + (r : ℕ), by omega⟩ k : S98304x2048.Idx) := by
    refine congrArg X1 (funext fun a => Fin.ext ?_)
    match a with
    | ⟨0, _⟩ => show (128 * q + (128 * ((r : ℕ) / 128) + (r : ℕ) % 128)) % 98304 = 128 * q + (r : ℕ); omega
    | ⟨1, _⟩ => rfl
  have e2 : sBlk X2 (128 * q / 128) ((r : ℕ) / 128) (ix4 0 0 0 ⟨(r : ℕ) % 128, Nat.mod_lt _ (by decide)⟩ : S1x1x1x128.Idx)
      = X2 (ix3 ⟨(128 * q + (r : ℕ)) / 128, by omega⟩ 0 ⟨(128 * q + (r : ℕ)) % 128, by omega⟩ : S768x1x128.Idx) := by
    refine congrArg X2 (funext fun a => Fin.ext ?_)
    match a with
    | ⟨0, _⟩ => show (128 * q / 128 + (r : ℕ) / 128) % 768 = (128 * q + (r : ℕ)) / 128; omega
    | ⟨1, _⟩ => rfl
    | ⟨2, _⟩ => show (r : ℕ) % 128 = (128 * q + (r : ℕ)) % 128; omega
  show ((hBlk X1 (128 * q) ((r : ℕ) / 128) (ix3 0 ⟨(r : ℕ) % 128, Nat.mod_lt _ (by decide)⟩ k : S1x128x2048.Idx) : EReal)
    * sBlk X2 (128 * q / 128) ((r : ℕ) / 128) (ix4 0 0 0 ⟨(r : ℕ) % 128, Nat.mod_lt _ (by decide)⟩ : S1x1x1x128.Idx)) * _ = _
  rw [e1, e2]

end Cert.KernelIdeal.Run

end
-- ==== Proof.M.V.RefLay.lean ====
/-
  The reference as layers: the result starts as zeros and each expert in turn puts its product over its own rows.
-/
module

public import proofs.«01_k».proof.Proof.Gen.ReferenceIdeal.Skeleton
public import proofs.«01_k».proof.Proof.M.V.Code
public import proofs.«01_k».proof.Proof.M.Tiles
public import Idealize.ShloMosaic.Lib.Pipeline.ValueKit
public import Idealize.ShloMosaic.Lib.WordCmp

@[expose] public section

set_option maxRecDepth 16384

noncomputable section

namespace Cert.ReferenceIdeal.Val

open Cert.ReferenceIdeal Cert.ReferenceIdeal.Gen Cert.Val
open Idealize.ShloMosaic Idealize.ShloMosaic.TcCoe

/-- Row numbers of the result. -/
def Q : IVec S116736x1024 32 := iota .tc S116736x1024 32 [0] iota_S116736x1024_d0_w32

/-- One layer: the rows from `a + o` up to `b + o` are taken from `D`. -/
def lay (a b o : BitVec 32) (D p : FVec Ideal S116736x1024 .f32) : FVec Ideal S116736x1024 .f32 :=
  select (andi (cmpi .sge Q (broadcast S116736x1024 (Scalar.addi a o))) (cmpi .slt Q (broadcast S116736x1024 (Scalar.addi b o)))) D p

/-- Zeros. -/
abbrev zs (s : Shape) : FVec Ideal s .f32 := broadcast s (Scalar.ofBits (F := Ideal) .f32 0x00000000#32)

variable (v6 : FVec Ideal S98304x2048 .bf16) (v28 : FVec Ideal S16x2048x1024 .bf16) (w : ℕ → BitVec 32)

/-- The product with one expert's weights. -/
abbrev mm (u : FVec Ideal S1x2048x1024 .bf16) : FVec Ideal S98304x1024 .f32 :=
  matmul (F := Ideal) (φ₁ := .bf16) (φ₂ := .bf16) dot_S98304x2048_S2048x1024_S98304x1024_1_0_0_1_n_n none v6 (shapeCast S2048x1024 u shapeCasts_S1x2048x1024_S2048x1024) (constant S98304x1024 .f32 0x00000000#32)

/-- Expert 0's product, placed. -/
def D0 : FVec Ideal S116736x1024 .f32 := concatenate S116736x1024 0 [⟨S98304x1024, mm v6 (extractStridedSlice S1x2048x1024 ![0, 0, 0] v28 slices_S16x2048x1024_o0_0_0_S1x2048x1024)⟩, ⟨S18432x1024, zs S18432x1024⟩] concatenates_S98304x1024_S18432x1024_S116736x1024_d0
def D1 : FVec Ideal S116736x1024 .f32 := concatenate S116736x1024 0 [⟨S1152x1024, zs S1152x1024⟩, ⟨S98304x1024, mm v6 (extractStridedSlice S1x2048x1024 ![1, 0, 0] v28 slices_S16x2048x1024_o1_0_0_S1x2048x1024)⟩, ⟨S17280x1024, zs S17280x1024⟩] concatenates_S1152x1024_S98304x1024_S17280x1024_S116736x1024_d0
def D2 : FVec Ideal S116736x1024 .f32 := concatenate S116736x1024 0 [⟨S2304x1024, zs S2304x1024⟩, ⟨S98304x1024, mm v6 (extractStridedSlice S1x2048x1024 ![2, 0, 0] v28 slices_S16x2048x1024_o2_0_0_S1x2048x1024)⟩, ⟨S16128x1024, zs S16128x1024⟩] concatenates_S2304x1024_S98304x1024_S16128x1024_S116736x1024_d0
def D3 : FVec Ideal S116736x1024 .f32 := concatenate S116736x1024 0 [⟨S3456x1024, zs S3456x1024⟩, ⟨S98304x1024, mm v6 (extractStridedSlice S1x2048x1024 ![3, 0, 0] v28 slices_S16x2048x1024_o3_0_0_S1x2048x1024)⟩, ⟨S14976x1024, zs S14976x1024⟩] concatenates_S3456x1024_S98304x1024_S14976x1024_S116736x1024_d0
def D4 : FVec Ideal S116736x1024 .f32 := concatenate S116736x1024 0 [⟨S4608x1024, zs S4608x1024⟩, ⟨S98304x1024, mm v6 (extractStridedSlice S1x2048x1024 ![4, 0, 0] v28 slices_S16x2048x1024_o4_0_0_S1x2048x1024)⟩, ⟨S13824x1024, zs S13824x1024⟩] concatenates_S4608x1024_S98304x1024_S13824x1024_S116736x1024_d0
def D5 : FVec Ideal S116736x1024 .f32 := concatenate S116736x1024 0 [⟨S5760x1024, zs S5760x1024⟩, ⟨S98304x1024, mm v6 (extractStridedSlice S1x2048x1024 ![5, 0, 0] v28 slices_S16x2048x1024_o5_0_0_S1x2048x1024)⟩, ⟨S12672x1024, zs S12672x1024⟩] concatenates_S5760x1024_S98304x1024_S12672x1024_S116736x1024_d0
def D6 : FVec Ideal S116736x1024 .f32 := concatenate S116736x1024 0 [⟨S6912x1024, zs S6912x1024⟩, ⟨S98304x1024, mm v6 (extractStridedSlice S1x2048x1024 ![6, 0, 0] v28 slices_S16x2048x1024_o6_0_0_S1x2048x1024)⟩, ⟨S11520x1024, zs S11520x1024⟩] concatenates_S6912x1024_S98304x1024_S11520x1024_S116736x1024_d0
def D7 : FVec Ideal S116736x1024 .f32 := concatenate S116736x1024 0 [⟨S8064x1024, zs S8064x1024⟩, ⟨S98304x1024, mm v6 (extractStridedSlice S1x2048x1024 ![7, 0, 0] v28 slices_S16x2048x1024_o7_0_0_S1x2048x1024)⟩, ⟨S10368x1024, zs S10368x1024⟩] concatenates_S8064x1024_S98304x1024_S10368x1024_S116736x1024_d0
def D8 : FVec Ideal S116736x1024 .f32 := concatenate S116736x1024 0 [⟨S9216x1024, zs S9216x1024⟩, ⟨S98304x1024, mm v6 (extractStridedSlice S1x2048x1024 ![8, 0, 0] v28 slices_S16x2048x1024_o8_0_0_S1x2048x1024)⟩, ⟨S9216x1024, zs S9216x1024⟩] concatenates_S9216x1024_S98304x1024_S9216x1024_S116736x1024_d0
def D9 : FVec Ideal S116736x1024 .f32 := concatenate S116736x1024 0 [⟨S10368x1024, zs S10368x1024⟩, ⟨S98304x1024, mm v6 (extractStridedSlice S1x2048x1024 ![9, 0, 0] v28 slices_S16x2048x1024_o9_0_0_S1x2048x1024)⟩, ⟨S8064x1024, zs S8064x1024⟩] concatenates_S10368x1024_S98304x1024_S8064x1024_S116736x1024_d0
def D10 : FVec Ideal S116736x1024 .f32 := concatenate S116736x1024 0 [⟨S11520x1024, zs S11520x1024⟩, ⟨S98304x1024, mm v6 (extractStridedSlice S1x2048x1024 ![10, 0, 0] v28 slices_S16x2048x1024_o10_0_0_S1x2048x1024)⟩, ⟨S6912x1024, zs S6912x1024⟩] concatenates_S11520x1024_S98304x1024_S6912x1024_S116736x1024_d0
def D11 : FVec Ideal S116736x1024 .f32 := concatenate S116736x1024 0 [⟨S12672x1024, zs S12672x1024⟩, ⟨S98304x1024, mm v6 (extractStridedSlice S1x2048x1024 ![11, 0, 0] v28 slices_S16x2048x1024_o11_0_0_S1x2048x1024)⟩, ⟨S5760x1024, zs S5760x1024⟩] concatenates_S12672x1024_S98304x1024_S5760x1024_S116736x1024_d0
def D12 : FVec Ideal S116736x1024 .f32 := concatenate S116736x1024 0 [⟨S13824x1024, zs S13824x1024⟩, ⟨S98304x1024, mm v6 (extractStridedSlice S1x2048x1024 ![12, 0, 0] v28 slices_S16x2048x1024_o12_0_0_S1x2048x1024)⟩, ⟨S4608x1024, zs S4608x1024⟩] concatenates_S13824x1024_S98304x1024_S4608x1024_S116736x1024_d0
def D13 : FVec Ideal S116736x1024 .f32 := concatenate S116736x1024 0 [⟨S14976x1024, zs S14976x1024⟩, ⟨S98304x1024, mm v6 (extractStridedSlice S1x2048x1024 ![13, 0, 0] v28 slices_S16x2048x1024_o13_0_0_S1x2048x1024)⟩, ⟨S3456x1024, zs S3456x1024⟩] concatenates_S14976x1024_S98304x1024_S3456x1024_S116736x1024_d0
def D14 : FVec Ideal S116736x1024 .f32 := concatenate S116736x1024 0 [⟨S16128x1024, zs S16128x1024⟩, ⟨S98304x1024, mm v6 (extractStridedSlice S1x2048x1024 ![14, 0, 0] v28 slices_S16x2048x1024_o14_0_0_S1x2048x1024)⟩, ⟨S2304x1024, zs S2304x1024⟩] concatenates_S16128x1024_S98304x1024_S2304x1024_S116736x1024_d0
def D15 : FVec Ideal S116736x1024 .f32 := concatenate S116736x1024 0 [⟨S17280x1024, zs S17280x1024⟩, ⟨S98304x1024, mm v6 (extractStridedSlice S1x2048x1024 ![15, 0, 0] v28 slices_S16x2048x1024_o15_0_0_S1x2048x1024)⟩, ⟨S1152x1024, zs S1152x1024⟩] concatenates_S17280x1024_S98304x1024_S1152x1024_S116736x1024_d0

/-- Expert `k`'s product, placed. -/
def D (k : ℕ) : FVec Ideal S116736x1024 .f32 :=
  match k with
  | 0 => D0 v6 v28
  | 1 => D1 v6 v28
  | 2 => D2 v6 v28
  | 3 => D3 v6 v28
  | 4 => D4 v6 v28
  | 5 => D5 v6 v28
  | 6 => D6 v6 v28
  | 7 => D7 v6 v28
  | 8 => D8 v6 v28
  | 9 => D9 v6 v28
  | 10 => D10 v6 v28
  | 11 => D11 v6 v28
  | 12 => D12 v6 v28
  | 13 => D13 v6 v28
  | 14 => D14 v6 v28
  | _ => D15 v6 v28

/-- Where expert `k`'s rows are moved to. -/
def off (k : ℕ) : BitVec 32 :=
  match k with
  | 0 => 0#32
  | 1 => 1152#32
  | 2 => 2304#32
  | 3 => 3456#32
  | 4 => 4608#32
  | 5 => 5760#32
  | 6 => 6912#32
  | 7 => 8064#32
  | 8 => 9216#32
  | 9 => 10368#32
  | 10 => 11520#32
  | 11 => 12672#32
  | 12 => 13824#32
  | 13 => 14976#32
  | 14 => 16128#32
  | _ => 17280#32

/-- Where group `k` starts. -/
def S : ℕ → BitVec 32
  | 0 => 0#32
  | k + 1 => Scalar.addi (S k) (w k)

/-- The result after `k` experts. -/
def Y : ℕ → FVec Ideal S116736x1024 .f32
  | 0 => zs S116736x1024
  | k + 1 => lay (S w k) (S w (k + 1)) (off k) (D v6 v28 k) (Y k)

/-- The whole result. -/
def out : FVec Ideal S933888x128 .f32 := shapeCast S933888x128 (Y v6 v28 w 16) shapeCasts_S116736x1024_S933888x128

theorem addi_ofNat (a b : ℕ) : Scalar.addi (BitVec.ofNat 32 a) (BitVec.ofNat 32 b) = BitVec.ofNat 32 (a + b) := (BitVec.ofNat_add _ _).symm

theorem lay_val (A B O : ℕ) (hA : A + O < 2 ^ 31) (hB : B + O < 2 ^ 31) (D p : FVec Ideal S116736x1024 .f32) (r : Fin 116736) (n : Fin 1024) :
    lay (BitVec.ofNat 32 A) (BitVec.ofNat 32 B) (BitVec.ofNat 32 O) D p (ix2 r n : S116736x1024.Idx)
      = if A + O ≤ (r : ℕ) ∧ (r : ℕ) < B + O then D (ix2 r n) else p (ix2 r n) := by
  have hr : (r : ℕ) < 2 ^ (32 - 1) := r.isLt.trans (by decide)
  pointwise [lay, Q]
  rw [addi_ofNat, addi_ofNat, WordCmp.cmpi_sge_ofNat hr hA, WordCmp.cmpi_slt_ofNat hr hB, WordCmp.andi_ofBool, WordCmp.select_ofBool]
  by_cases h1 : A + O ≤ (r : ℕ) <;> by_cases h2 : (r : ℕ) < B + O <;> simp [h1, h2]

theorem off_val {k : ℕ} (hk : k < 16) : off k = BitVec.ofNat 32 (k * 1152) := by interval_cases k <;> rfl

theorem S_val (g : ℕ → ℕ) (hw : ∀ k < 16, w k = BitVec.ofNat 32 (g k)) {k : ℕ} (hk : k ≤ 16) : S w k = BitVec.ofNat 32 (Tiles.st g k) := by
  induction k with
  | zero => rfl
  | succ k ih =>
    show Scalar.addi (S w k) (w k) = BitVec.ofNat 32 (Tiles.st g k + g k)
    rw [ih (by omega), hw k (by omega), addi_ofNat]

/-- One element of a product with the weights of expert `e`. -/
def el (e : Fin 16) (i : Fin 98304) (n : Fin 1024) : EReal := ∑ k : Fin 2048, (v6 (ix2 i k : S98304x2048.Idx) : EReal) * v28 (ix3 e k n : S16x2048x1024.Idx)

theorem D0_val (r : Fin 116736) (n : Fin 1024) (i : Fin 98304) (h : (r : ℕ) = 0 + (i : ℕ)) : D0 v6 v28 (ix2 r n : S116736x1024.Idx) = el v6 v28 0 i n := by
  have hi := i.isLt
  pointwise [D0, el]
  rw [dif_pos (show (r : ℕ) < 98304 by omega)]
  rw [show (⟨(r : ℕ), by omega⟩ : Fin 98304) = i from Fin.ext (show (r : ℕ) = i by omega)]
theorem D1_val (r : Fin 116736) (n : Fin 1024) (i : Fin 98304) (h : (r : ℕ) = 1152 + (i : ℕ)) : D1 v6 v28 (ix2 r n : S116736x1024.Idx) = el v6 v28 1 i n := by
  have hi := i.isLt
  pointwise [D1, el]
  rw [dif_neg (show ¬ (r : ℕ) < 1152 by omega), dif_pos (show (r : ℕ) - 1152 < 98304 by omega)]
  rw [show (⟨(r : ℕ) - 1152, by omega⟩ : Fin 98304) = i from Fin.ext (show (r : ℕ) - 1152 = i by omega)]
theorem D2_val (r : Fin 116736) (n : Fin 1024) (i : Fin 98304) (h : (r : ℕ) = 2304 + (i : ℕ)) : D2 v6 v28 (ix2 r n : S116736x1024.Idx) = el v6 v28 2 i n := by
  have hi := i.isLt
  pointwise [D2, el]
  rw [dif_neg (show ¬ (r : ℕ) < 2304 by omega), dif_pos (show (r : ℕ) - 2304 < 98304 by omega)]
  rw [show (⟨(r : ℕ) - 2304, by omega⟩ : Fin 98304) = i from Fin.ext (show (r : ℕ) - 2304 = i by omega)]
theorem D3_val (r : Fin 116736) (n : Fin 1024) (i : Fin 98304) (h : (r : ℕ) = 3456 + (i : ℕ)) : D3 v6 v28 (ix2 r n : S116736x1024.Idx) = el v6 v28 3 i n := by
  have hi := i.isLt
  pointwise [D3, el]
  rw [dif_neg (show ¬ (r : ℕ) < 3456 by omega), dif_pos (show (r : ℕ) - 3456 < 98304 by omega)]
  rw [show (⟨(r : ℕ) - 3456, by omega⟩ : Fin 98304) = i from Fin.ext (show (r : ℕ) - 3456 = i by omega)]
theorem D4_val (r : Fin 116736) (n : Fin 1024) (i : Fin 98304) (h : (r : ℕ) = 4608 + (i : ℕ)) : D4 v6 v28 (ix2 r n : S116736x1024.Idx) = el v6 v28 4 i n := by
  have hi := i.isLt
  pointwise [D4, el]
  rw [dif_neg (show ¬ (r : ℕ) < 4608 by omega), dif_pos (show (r : ℕ) - 4608 < 98304 by omega)]
  rw [show (⟨(r : ℕ) - 4608, by omega⟩ : Fin 98304) = i from Fin.ext (show (r : ℕ) - 4608 = i by omega)]
theorem D5_val (r : Fin 116736) (n : Fin 1024) (i : Fin 98304) (h : (r : ℕ) = 5760 + (i : ℕ)) : D5 v6 v28 (ix2 r n : S116736x1024.Idx) = el v6 v28 5 i n := by
  have hi := i.isLt
  pointwise [D5, el]
  rw [dif_neg (show ¬ (r : ℕ) < 5760 by omega), dif_pos (show (r : ℕ) - 5760 < 98304 by omega)]
  rw [show (⟨(r : ℕ) - 5760, by omega⟩ : Fin 98304) = i from Fin.ext (show (r : ℕ) - 5760 = i by omega)]
theorem D6_val (r : Fin 116736) (n : Fin 1024) (i : Fin 98304) (h : (r : ℕ) = 6912 + (i : ℕ)) : D6 v6 v28 (ix2 r n : S116736x1024.Idx) = el v6 v28 6 i n := by
  have hi := i.isLt
  pointwise [D6, el]
  rw [dif_neg (show ¬ (r : ℕ) < 6912 by omega), dif_pos (show (r : ℕ) - 6912 < 98304 by omega)]
  rw [show (⟨(r : ℕ) - 6912, by omega⟩ : Fin 98304) = i from Fin.ext (show (r : ℕ) - 6912 = i by omega)]
theorem D7_val (r : Fin 116736) (n : Fin 1024) (i : Fin 98304) (h : (r : ℕ) = 8064 + (i : ℕ)) : D7 v6 v28 (ix2 r n : S116736x1024.Idx) = el v6 v28 7 i n := by
  have hi := i.isLt
  pointwise [D7, el]
  rw [dif_neg (show ¬ (r : ℕ) < 8064 by omega), dif_pos (show (r : ℕ) - 8064 < 98304 by omega)]
  rw [show (⟨(r : ℕ) - 8064, by omega⟩ : Fin 98304) = i from Fin.ext (show (r : ℕ) - 8064 = i by omega)]
theorem D8_val (r : Fin 116736) (n : Fin 1024) (i : Fin 98304) (h : (r : ℕ) = 9216 + (i : ℕ)) : D8 v6 v28 (ix2 r n : S116736x1024.Idx) = el v6 v28 8 i n := by
  have hi := i.isLt
  pointwise [D8, el]
  rw [dif_neg (show ¬ (r : ℕ) < 9216 by omega), dif_pos (show (r : ℕ) - 9216 < 98304 by omega)]
  rw [show (⟨(r : ℕ) - 9216, by omega⟩ : Fin 98304) = i from Fin.ext (show (r : ℕ) - 9216 = i by omega)]
theorem D9_val (r : Fin 116736) (n : Fin 1024) (i : Fin 98304) (h : (r : ℕ) = 10368 + (i : ℕ)) : D9 v6 v28 (ix2 r n : S116736x1024.Idx) = el v6 v28 9 i n := by
  have hi := i.isLt
  pointwise [D9, el]
  rw [dif_neg (show ¬ (r : ℕ) < 10368 by omega), dif_pos (show (r : ℕ) - 10368 < 98304 by omega)]
  rw [show (⟨(r : ℕ) - 10368, by omega⟩ : Fin 98304) = i from Fin.ext (show (r : ℕ) - 10368 = i by omega)]
theorem D10_val (r : Fin 116736) (n : Fin 1024) (i : Fin 98304) (h : (r : ℕ) = 11520 + (i : ℕ)) : D10 v6 v28 (ix2 r n : S116736x1024.Idx) = el v6 v28 10 i n := by
  have hi := i.isLt
  pointwise [D10, el]
  rw [dif_neg (show ¬ (r : ℕ) < 11520 by omega), dif_pos (show (r : ℕ) - 11520 < 98304 by omega)]
  rw [show (⟨(r : ℕ) - 11520, by omega⟩ : Fin 98304) = i from Fin.ext (show (r : ℕ) - 11520 = i by omega)]
theorem D11_val (r : Fin 116736) (n : Fin 1024) (i : Fin 98304) (h : (r : ℕ) = 12672 + (i : ℕ)) : D11 v6 v28 (ix2 r n : S116736x1024.Idx) = el v6 v28 11 i n := by
  have hi := i.isLt
  pointwise [D11, el]
  rw [dif_neg (show ¬ (r : ℕ) < 12672 by omega), dif_pos (show (r : ℕ) - 12672 < 98304 by omega)]
  rw [show (⟨(r : ℕ) - 12672, by omega⟩ : Fin 98304) = i from Fin.ext (show (r : ℕ) - 12672 = i by omega)]
theorem D12_val (r : Fin 116736) (n : Fin 1024) (i : Fin 98304) (h : (r : ℕ) = 13824 + (i : ℕ)) : D12 v6 v28 (ix2 r n : S116736x1024.Idx) = el v6 v28 12 i n := by
  have hi := i.isLt
  pointwise [D12, el]
  rw [dif_neg (show ¬ (r : ℕ) < 13824 by omega), dif_pos (show (r : ℕ) - 13824 < 98304 by omega)]
  rw [show (⟨(r : ℕ) - 13824, by omega⟩ : Fin 98304) = i from Fin.ext (show (r : ℕ) - 13824 = i by omega)]
theorem D13_val (r : Fin 116736) (n : Fin 1024) (i : Fin 98304) (h : (r : ℕ) = 14976 + (i : ℕ)) : D13 v6 v28 (ix2 r n : S116736x1024.Idx) = el v6 v28 13 i n := by
  have hi := i.isLt
  pointwise [D13, el]
  rw [dif_neg (show ¬ (r : ℕ) < 14976 by omega), dif_pos (show (r : ℕ) - 14976 < 98304 by omega)]
  rw [show (⟨(r : ℕ) - 14976, by omega⟩ : Fin 98304) = i from Fin.ext (show (r : ℕ) - 14976 = i by omega)]
theorem D14_val (r : Fin 116736) (n : Fin 1024) (i : Fin 98304) (h : (r : ℕ) = 16128 + (i : ℕ)) : D14 v6 v28 (ix2 r n : S116736x1024.Idx) = el v6 v28 14 i n := by
  have hi := i.isLt
  pointwise [D14, el]
  rw [dif_neg (show ¬ (r : ℕ) < 16128 by omega), dif_pos (show (r : ℕ) - 16128 < 98304 by omega)]
  rw [show (⟨(r : ℕ) - 16128, by omega⟩ : Fin 98304) = i from Fin.ext (show (r : ℕ) - 16128 = i by omega)]
theorem D15_val (r : Fin 116736) (n : Fin 1024) (i : Fin 98304) (h : (r : ℕ) = 17280 + (i : ℕ)) : D15 v6 v28 (ix2 r n : S116736x1024.Idx) = el v6 v28 15 i n := by
  have hi := i.isLt
  pointwise [D15, el]
  rw [dif_neg (show ¬ (r : ℕ) < 17280 by omega), dif_pos (show (r : ℕ) - 17280 < 98304 by omega)]
  rw [show (⟨(r : ℕ) - 17280, by omega⟩ : Fin 98304) = i from Fin.ext (show (r : ℕ) - 17280 = i by omega)]

end Cert.ReferenceIdeal.Val

end
-- ==== Proof.M.V.RefY.lean ====
/-
  The reference's value at the rows of each expert.
-/
module

public import proofs.«01_k».proof.Proof.M.V.RefLay

@[expose] public section

set_option maxRecDepth 16384

noncomputable section

namespace Cert.ReferenceIdeal.Val

open Cert.ReferenceIdeal Cert.ReferenceIdeal.Gen Cert.Val
open Idealize.ShloMosaic Idealize.ShloMosaic.TcCoe

variable (v6 : FVec Ideal S98304x2048 .bf16) (v28 : FVec Ideal S16x2048x1024 .bf16) (w : ℕ → BitVec 32)

theorem D_val (e : Fin 16) (r : Fin 116736) (n : Fin 1024) (i : Fin 98304) (h : (r : ℕ) = (e : ℕ) * 1152 + (i : ℕ)) :
    D v6 v28 (e : ℕ) (ix2 r n : S116736x1024.Idx) = el v6 v28 e i n := by
  obtain ⟨e, he⟩ := e
  replace h : (r : ℕ) = e * 1152 + (i : ℕ) := h
  show D v6 v28 e _ = _
  interval_cases e
  · simp only [D]; exact D0_val v6 v28 r n i (by omega)
  · simp only [D]; exact D1_val v6 v28 r n i (by omega)
  · simp only [D]; exact D2_val v6 v28 r n i (by omega)
  · simp only [D]; exact D3_val v6 v28 r n i (by omega)
  · simp only [D]; exact D4_val v6 v28 r n i (by omega)
  · simp only [D]; exact D5_val v6 v28 r n i (by omega)
  · simp only [D]; exact D6_val v6 v28 r n i (by omega)
  · simp only [D]; exact D7_val v6 v28 r n i (by omega)
  · simp only [D]; exact D8_val v6 v28 r n i (by omega)
  · simp only [D]; exact D9_val v6 v28 r n i (by omega)
  · simp only [D]; exact D10_val v6 v28 r n i (by omega)
  · simp only [D]; exact D11_val v6 v28 r n i (by omega)
  · simp only [D]; exact D12_val v6 v28 r n i (by omega)
  · simp only [D]; exact D13_val v6 v28 r n i (by omega)
  · simp only [D]; exact D14_val v6 v28 r n i (by omega)
  · simp only [D]; exact D15_val v6 v28 r n i (by omega)

/-- A row that belongs to expert `e` holds, once the experts up to `e` are done, its element of the product with `e`'s weights. -/
theorem Y_val (g : ℕ → ℕ) (ok : Tiles.OK g) (hw : ∀ k < 16, w k = BitVec.ofNat 32 (g k)) (e : Fin 16) (r : Fin 116736) (n : Fin 1024) (i : Fin 98304)
    (h : (r : ℕ) = (e : ℕ) * 1152 + (i : ℕ)) (h1 : Tiles.st g e ≤ i) (h2 : (i : ℕ) < Tiles.st g (e + 1)) (k : ℕ) (hk : k ≤ 16) (hek : (e : ℕ) < k) :
    Y v6 v28 w k (ix2 r n : S116736x1024.Idx) = el v6 v28 e i n := by
  induction k with
  | zero => omega
  | succ k ih =>
    have t1 : Tiles.st g k ≤ 98304 := (Tiles.st_mono g (by omega)).trans ok.tot
    have t2 : Tiles.st g (k + 1) ≤ 98304 := (Tiles.st_mono g (by omega)).trans ok.tot
    show lay (S w k) (S w (k + 1)) (off k) (D v6 v28 k) (Y v6 v28 w k) (ix2 r n : S116736x1024.Idx) = _
    rw [S_val w g hw (by omega), S_val w g hw (by omega), off_val (by omega), lay_val _ _ _ (by omega) (by omega)]
    rcases Nat.lt_or_ge (e : ℕ) k with hlt | hge
    · have t3 : Tiles.st g (e + 1) ≤ Tiles.st g k := Tiles.st_mono g (by omega)
      rw [if_neg (by omega)]
      exact ih (by omega) hlt
    · obtain rfl : k = (e : ℕ) := by omega
      rw [if_pos (by omega)]
      exact D_val v6 v28 e r n i h

theorem out_val (g : ℕ → ℕ) (ok : Tiles.OK g) (hw : ∀ k < 16, w k = BitVec.ofNat 32 (g k)) (e : Fin 16) (j : S933888x128.Idx) (i : Fin 98304)
    (h : (j 0 : ℕ) / 8 = (e : ℕ) * 1152 + (i : ℕ)) (h1 : Tiles.st g e ≤ i) (h2 : (i : ℕ) < Tiles.st g (e + 1)) :
    out v6 v28 w j = el v6 v28 e i ⟨(j 0 : ℕ) % 8 * 128 + (j 1 : ℕ), by have := (show (j 1 : ℕ) < 128 from (j 1).isLt); omega⟩ := by
  have hj := (show (j 0 : ℕ) < 933888 from (j 0).isLt)
  have hj1 := (show (j 1 : ℕ) < 128 from (j 1).isLt)
  have key := Y_val v6 v28 w g ok hw e ⟨(j 0 : ℕ) / 8, by omega⟩ ⟨(j 0 : ℕ) % 8 * 128 + (j 1 : ℕ), by omega⟩ i h h1 h2 16 (Nat.le_refl 16) e.isLt
  have e1 : out v6 v28 w j = Y v6 v28 w 16 (ix2 ⟨(j 0 : ℕ) / 8, by omega⟩ ⟨(j 0 : ℕ) % 8 * 128 + (j 1 : ℕ), by omega⟩ : S116736x1024.Idx) := by
    generalize hY : Y v6 v28 w 16 = y
    unfold out
    rw [hY]
    pointwise
  exact e1.trans key

theorem v6_val (x0 : Vec Ideal S98304x2048 .fp8e4m3) (x1 : Vec Ideal S98304 .f32) (r : Fin 98304) (k : Fin 2048) :
    k0_pay2 (F := Ideal) x0 x1 (ix2 r k : S98304x2048.Idx) = (x0 (ix2 r k : S98304x2048.Idx) : EReal) * x1 (ix1 r : S98304.Idx) := by
  pointwise [k0_pay2]

theorem v28_val (x3 : Vec Ideal S16x1024x1024 .i8) (x4 : Vec Ideal S16x16x1024 .bf16) (e : Fin 16) (r : Fin 2048) (n : Fin 1024) :
    k0_pay3 (F := Ideal) x3 x4 (ix3 e r n : S16x2048x1024.Idx) = (code (x3 (ix3 e ⟨(r : ℕ) / 2, by omega⟩ n : S16x1024x1024.Idx)) (r : ℕ) : EReal)
      * x4 (ix3 e ⟨(r : ℕ) / 128, by omega⟩ n : S16x16x1024.Idx) := by
  pointwise [k0_pay3]
  rfl

end Cert.ReferenceIdeal.Val

end
-- ==== Proof.M.V.RefRun.lean ====
/-
  The reference's run: its result buffer ends at `out` of its arguments.
-/
module

public import proofs.«01_k».proof.Proof.Gen.ReferenceIdeal.Value
public import proofs.«01_k».proof.Proof.M.V.RefY
public import Idealize.ShloMosaic.Lib.Pipeline.ValueKit

@[expose] public section

set_option maxRecDepth 16384

noncomputable section

namespace Cert.ReferenceIdeal.Val

open Cert.ReferenceIdeal Cert.ReferenceIdeal.Gen Cert.ReferenceIdeal.Value Cert.Val
open Idealize.ShloMosaic Idealize.ShloMosaic.TcCoe
open Idealize.SL.Sem

/-- The group sizes as words. -/
def wd (x : S16.Idx → BitVec 32) (k : ℕ) : BitVec 32 := if h : k < 16 then x (ix1 ⟨k, h⟩ : S16.Idx) else 0#32

theorem ld_word (x : Vec Ideal S16 .i32) (k : ℕ) (h : ∀ a, (![k] : Fin 1 → ℕ) a + (![1] : Fin 1 → ℕ) a ≤ S16.size a) (h1) :
    View.ld x (Rect.unit ![k] ![1] h) (Shape.Idx.first h1) = wd x k := by
  have hk : k < 16 := by have := h 0; simpa using this
  rw [wd, dif_pos hk]
  exact congrArg x (funext fun a => by match a with | ⟨0, _⟩ => rfl)

set_option maxHeartbeats 2000000 in
theorem out_eq (c : Dev nD) (arg0 h0 arg1 h1 arg2 h2 arg3 h3 arg4 h4 arg5 h5)
    (x0 : Vec Ideal S98304x2048 .fp8e4m3) (x1 : Vec Ideal S98304 .f32) (x2 : Vec Ideal S16 .i32) (x3 : Vec Ideal S16x1024x1024 .i8) (x4 : Vec Ideal S16x16x1024 .bf16) :
    out0_A_5 c arg0 h0 arg1 h1 arg2 h2 arg3 h3 arg4 h4 arg5 h5 x0 x1 x2 x3 x4 = out (k0_pay2 x0 x1) (k0_pay3 x3 x4) (wd x2) := by
  frame_out
  have e0 : ∀ h h1, View.ld x2 (Rect.unit ![0] ![1] h) (Shape.Idx.first h1) = wd x2 0 := fun h h1 => ld_word x2 0 h h1
  have e1 : ∀ h h1, View.ld x2 (Rect.unit ![1] ![1] h) (Shape.Idx.first h1) = wd x2 1 := fun h h1 => ld_word x2 1 h h1
  have e2 : ∀ h h1, View.ld x2 (Rect.unit ![2] ![1] h) (Shape.Idx.first h1) = wd x2 2 := fun h h1 => ld_word x2 2 h h1
  have e3 : ∀ h h1, View.ld x2 (Rect.unit ![3] ![1] h) (Shape.Idx.first h1) = wd x2 3 := fun h h1 => ld_word x2 3 h h1
  have e4 : ∀ h h1, View.ld x2 (Rect.unit ![4] ![1] h) (Shape.Idx.first h1) = wd x2 4 := fun h h1 => ld_word x2 4 h h1
  have e5 : ∀ h h1, View.ld x2 (Rect.unit ![5] ![1] h) (Shape.Idx.first h1) = wd x2 5 := fun h h1 => ld_word x2 5 h h1
  have e6 : ∀ h h1, View.ld x2 (Rect.unit ![6] ![1] h) (Shape.Idx.first h1) = wd x2 6 := fun h h1 => ld_word x2 6 h h1
  have e7 : ∀ h h1, View.ld x2 (Rect.unit ![7] ![1] h) (Shape.Idx.first h1) = wd x2 7 := fun h h1 => ld_word x2 7 h h1
  have e8 : ∀ h h1, View.ld x2 (Rect.unit ![8] ![1] h) (Shape.Idx.first h1) = wd x2 8 := fun h h1 => ld_word x2 8 h h1
  have e9 : ∀ h h1, View.ld x2 (Rect.unit ![9] ![1] h) (Shape.Idx.first h1) = wd x2 9 := fun h h1 => ld_word x2 9 h h1
  have e10 : ∀ h h1, View.ld x2 (Rect.unit ![10] ![1] h) (Shape.Idx.first h1) = wd x2 10 := fun h h1 => ld_word x2 10 h h1
  have e11 : ∀ h h1, View.ld x2 (Rect.unit ![11] ![1] h) (Shape.Idx.first h1) = wd x2 11 := fun h h1 => ld_word x2 11 h h1
  have e12 : ∀ h h1, View.ld x2 (Rect.unit ![12] ![1] h) (Shape.Idx.first h1) = wd x2 12 := fun h h1 => ld_word x2 12 h h1
  have e13 : ∀ h h1, View.ld x2 (Rect.unit ![13] ![1] h) (Shape.Idx.first h1) = wd x2 13 := fun h h1 => ld_word x2 13 h h1
  have e14 : ∀ h h1, View.ld x2 (Rect.unit ![14] ![1] h) (Shape.Idx.first h1) = wd x2 14 := fun h h1 => ld_word x2 14 h h1
  have e15 : ∀ h h1, View.ld x2 (Rect.unit ![15] ![1] h) (Shape.Idx.first h1) = wd x2 15 := fun h h1 => ld_word x2 15 h h1
  rw [e0, e1, e2, e3, e4, e5, e6, e7, e8, e9, e10, e11, e12, e13, e14, e15]
  have e5 : k0_pay5 x0 x1 x3 x4 = D0 (k0_pay2 x0 x1) (k0_pay3 x3 x4) := rfl
  rw [e5]
  generalize wd x2 = w
  generalize k0_pay2 x0 x1 = v6
  generalize k0_pay3 x3 x4 = v28
  rw [out]
  rw [show Y v6 v28 w 16 = lay (S w 15) (S w 16) 17280#32 (D15 v6 v28) (Y v6 v28 w 15) from rfl]
  rw [show Y v6 v28 w 15 = lay (S w 14) (S w 15) 16128#32 (D14 v6 v28) (Y v6 v28 w 14) from rfl]
  rw [show Y v6 v28 w 14 = lay (S w 13) (S w 14) 14976#32 (D13 v6 v28) (Y v6 v28 w 13) from rfl]
  rw [show Y v6 v28 w 13 = lay (S w 12) (S w 13) 13824#32 (D12 v6 v28) (Y v6 v28 w 12) from rfl]
  rw [show Y v6 v28 w 12 = lay (S w 11) (S w 12) 12672#32 (D11 v6 v28) (Y v6 v28 w 11) from rfl]
  rw [show Y v6 v28 w 11 = lay (S w 10) (S w 11) 11520#32 (D10 v6 v28) (Y v6 v28 w 10) from rfl]
  rw [show Y v6 v28 w 10 = lay (S w 9) (S w 10) 10368#32 (D9 v6 v28) (Y v6 v28 w 9) from rfl]
  rw [show Y v6 v28 w 9 = lay (S w 8) (S w 9) 9216#32 (D8 v6 v28) (Y v6 v28 w 8) from rfl]
  rw [show Y v6 v28 w 8 = lay (S w 7) (S w 8) 8064#32 (D7 v6 v28) (Y v6 v28 w 7) from rfl]
  rw [show Y v6 v28 w 7 = lay (S w 6) (S w 7) 6912#32 (D6 v6 v28) (Y v6 v28 w 6) from rfl]
  rw [show Y v6 v28 w 6 = lay (S w 5) (S w 6) 5760#32 (D5 v6 v28) (Y v6 v28 w 5) from rfl]
  rw [show Y v6 v28 w 5 = lay (S w 4) (S w 5) 4608#32 (D4 v6 v28) (Y v6 v28 w 4) from rfl]
  rw [show Y v6 v28 w 4 = lay (S w 3) (S w 4) 3456#32 (D3 v6 v28) (Y v6 v28 w 3) from rfl]
  rw [show Y v6 v28 w 3 = lay (S w 2) (S w 3) 2304#32 (D2 v6 v28) (Y v6 v28 w 2) from rfl]
  rw [show Y v6 v28 w 2 = lay (S w 1) (S w 2) 1152#32 (D1 v6 v28) (Y v6 v28 w 1) from rfl]
  rw [show Y v6 v28 w 1 = lay (S w 0) (S w 1) 0#32 (D0 v6 v28) (Y v6 v28 w 0) from rfl]
  rw [show Y v6 v28 w 0 = zs S116736x1024 from rfl]
  rw [show S w 16 = Scalar.addi (S w 15) (w 15) from rfl]
  rw [show S w 15 = Scalar.addi (S w 14) (w 14) from rfl]
  rw [show S w 14 = Scalar.addi (S w 13) (w 13) from rfl]
  rw [show S w 13 = Scalar.addi (S w 12) (w 12) from rfl]
  rw [show S w 12 = Scalar.addi (S w 11) (w 11) from rfl]
  rw [show S w 11 = Scalar.addi (S w 10) (w 10) from rfl]
  rw [show S w 10 = Scalar.addi (S w 9) (w 9) from rfl]
  rw [show S w 9 = Scalar.addi (S w 8) (w 8) from rfl]
  rw [show S w 8 = Scalar.addi (S w 7) (w 7) from rfl]
  rw [show S w 7 = Scalar.addi (S w 6) (w 6) from rfl]
  rw [show S w 6 = Scalar.addi (S w 5) (w 5) from rfl]
  rw [show S w 5 = Scalar.addi (S w 4) (w 4) from rfl]
  rw [show S w 4 = Scalar.addi (S w 3) (w 3) from rfl]
  rw [show S w 3 = Scalar.addi (S w 2) (w 2) from rfl]
  rw [show S w 2 = Scalar.addi (S w 1) (w 1) from rfl]
  rw [show S w 1 = Scalar.addi (S w 0) (w 0) from rfl]
  rw [show S w 0 = 0#32 from rfl]
  dsimp only [lay, Q, D0, D1, D2, D3, D4, D5, D6, D7, D8, D9, D10, D11, D12, D13, D14, D15, mm, zs, k0_pay1, k0_pay4, k0_pay6, k0_pay7, k0_pay8, k0_pay9, k0_pay10, k0_pay11, k0_pay12, k0_pay13, k0_pay14, k0_pay15, k0_pay16, k0_pay17, k0_pay18]

variable (m : (ℓ : Loc nD τ sig) → Buf (Elt Ideal) ℓ) (ρ : Dev nD → PrngReg)

theorem idx_zero0 : ∀ t : Fin cfg0.N, win0_0.index t (0 : Fin 2) = 0 ∧ win0_0.index t (1 : Fin 2) = 0 :=
  (by decide +kernel : ∀ t : Fin grid0.N, _)
theorem emb0 (t : Fin cfg0.N) (j : S98304x2048.Idx) : ((cfg0.win 0).blk t).view.emb j = j := by
  obtain ⟨e0, e1⟩ := idx_zero0 t
  funext a; apply Fin.ext
  match a with
  | ⟨0, _⟩ => show win0_0.index t (0 : Fin 2) * 98304 + 1 * (j 0).val = (j 0).val; omega
  | ⟨1, _⟩ => show win0_0.index t (1 : Fin 2) * 2048 + 1 * (j 1).val = (j 1).val; omega
theorem iblk0_eq (c : Dev nD) (t : Fin cfg0.N) : iblk m c 0 t = V m c main_arg0 := by
  funext j; show V m c main_arg0 (((cfg0.win 0).blk t).view.emb j) = V m c main_arg0 j; rw [emb0]

theorem idx_zero1 : ∀ t : Fin cfg0.N, win0_1.index t (0 : Fin 1) = 0 :=
  (by decide +kernel : ∀ t : Fin grid0.N, _)
theorem emb1 (t : Fin cfg0.N) (j : S98304.Idx) : ((cfg0.win 1).blk t).view.emb j = j := by
  have e0 := idx_zero1 t
  funext a; apply Fin.ext
  match a with
  | ⟨0, _⟩ => show win0_1.index t (0 : Fin 1) * 98304 + 1 * (j 0).val = (j 0).val; omega
theorem iblk1_eq (c : Dev nD) (t : Fin cfg0.N) : iblk m c 1 t = V m c main_arg1 := by
  funext j; show V m c main_arg1 (((cfg0.win 1).blk t).view.emb j) = V m c main_arg1 j; rw [emb1]

theorem idx_zero2 : ∀ t : Fin cfg0.N, win0_2.index t (0 : Fin 1) = 0 :=
  (by decide +kernel : ∀ t : Fin grid0.N, _)
theorem emb2 (t : Fin cfg0.N) (j : S16.Idx) : ((cfg0.win 2).blk t).view.emb j = j := by
  have e0 := idx_zero2 t
  funext a; apply Fin.ext
  match a with
  | ⟨0, _⟩ => show win0_2.index t (0 : Fin 1) * 16 + 1 * (j 0).val = (j 0).val; omega
theorem iblk2_eq (c : Dev nD) (t : Fin cfg0.N) : iblk m c 2 t = V m c main_arg2 := by
  funext j; show V m c main_arg2 (((cfg0.win 2).blk t).view.emb j) = V m c main_arg2 j; rw [emb2]

theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)
theorem emb3 (t : Fin cfg0.N) (j : S16x1024x1024.Idx) : ((cfg0.win 3).blk t).view.emb j = j := by
  obtain ⟨e0, e1, e2⟩ := idx_zero3 t
  funext a; apply Fin.ext
  match a with
  | ⟨0, _⟩ => show win0_3.index t (0 : Fin 3) * 16 + 1 * (j 0).val = (j 0).val; omega
  | ⟨1, _⟩ => show win0_3.index t (1 : Fin 3) * 1024 + 1 * (j 1).val = (j 1).val; omega
  | ⟨2, _⟩ => show win0_3.index t (2 : Fin 3) * 1024 + 1 * (j 2).val = (j 2).val; omega
theorem iblk3_eq (c : Dev nD) (t : Fin cfg0.N) : iblk m c 3 t = V m c main_v0 := by
  funext j; show V m c main_v0 (((cfg0.win 3).blk t).view.emb j) = V m c main_v0 j; rw [emb3]

theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)
theorem emb4 (t : Fin cfg0.N) (j : S16x16x1024.Idx) : ((cfg0.win 4).blk t).view.emb j = j := by
  obtain ⟨e0, e1, e2⟩ := idx_zero4 t
  funext a; apply Fin.ext
  match a with
  | ⟨0, _⟩ => show win0_4.index t (0 : Fin 3) * 16 + 1 * (j 0).val = (j 0).val; omega
  | ⟨1, _⟩ => show win0_4.index t (1 : Fin 3) * 16 + 1 * (j 1).val = (j 1).val; omega
  | ⟨2, _⟩ => show win0_4.index t (2 : Fin 3) * 1024 + 1 * (j 2).val = (j 2).val; omega
theorem iblk4_eq (c : Dev nD) (t : Fin cfg0.N) : iblk m c 4 t = V m c main_v1 := by
  funext j; show V m c main_v1 (((cfg0.win 4).blk t).view.emb j) = V m c main_v1 j; rw [emb4]

theorem idx_zero5 : ∀ t : Fin cfg0.N, win0_5.index t (0 : Fin 2) = 0 ∧ win0_5.index t (1 : Fin 2) = 0 :=
  (by decide +kernel : ∀ t : Fin grid0.N, _)
theorem emb5 (t : Fin cfg0.N) (j : S933888x128.Idx) : ((cfg0.win 5).blk t).view.emb j = j := by
  obtain ⟨e0, e1⟩ := idx_zero5 t
  funext a; apply Fin.ext
  match a with
  | ⟨0, _⟩ => show win0_5.index t (0 : Fin 2) * 933888 + 1 * (j 0).val = (j 0).val; omega
  | ⟨1, _⟩ => show win0_5.index t (1 : Fin 2) * 128 + 1 * (j 1).val = (j 1).val; omega

theorem cut5_eq (t : Fin cfg0.N) (X : Vec Ideal S933888x128 .f32) :
    (cfg0.win 5).cut (grid0.coords t) X = ((cfg0.win 5).blk t).view.read (Elt Ideal) X := by
  funext j
  show X j = X (((cfg0.win 5).blk t).view.emb j)
  rw [emb5]

/-- The result as a function of the buffers the call finds. -/
def res (x0 : Vec Ideal S98304x2048 .fp8e4m3) (x1 : Vec Ideal S98304 .f32) (x2 : Vec Ideal S16 .i32) (x3 : Vec Ideal S16x1024x1024 .i8) (x4 : Vec Ideal S16x16x1024 .bf16) : Vec Ideal S933888x128 .f32 :=
  out (k0_pay2 x0 x1) (k0_pay3 x3 x4) (wd x2)

/-- What the call writes, from its blocks. -/
def Out : Prop := ∀ (c : Dev nD) arg0 h0 arg1 h1 arg2 h2 arg3 h3 arg4 h4 arg5 h5
    (x0 : Vec Ideal S98304x2048 .fp8e4m3) (x1 : Vec Ideal S98304 .f32) (x2 : Vec Ideal S16 .i32) (x3 : Vec Ideal S16x1024x1024 .i8) (x4 : Vec Ideal S16x16x1024 .bf16),
    out0_A_5 c arg0 h0 arg1 h1 arg2 h2 arg3 h3 arg4 h4 arg5 h5 x0 x1 x2 x3 x4 = res x0 x1 x2 x3 x4

theorem out_res : Out := out_eq

theorem flushed5_eq (c : Dev nD) (t : Fin cfg0.N) :
    (dats m 0 c).flushed 5 t = ((cfg0.win 5).blk t).view.read (Elt Ideal) (res (V m c main_arg0) (V m c main_arg1) (V m c main_arg2) (V m c main_v0) (V m c main_v1)) := by
  rw [flushed5_A, out_eq, iblk0_eq, iblk1_eq, iblk2_eq, iblk3_eq, iblk4_eq]
  exact cut5_eq t _

theorem covered5 (i : S933888x128.Idx) :
    ∃ t : Fin cfg0.N, (cfg0.win 5).flush t = true ∧ i ∈ ((cfg0.win 5).blk t).view.set :=
  ⟨(⟨0, by decide⟩ : Fin cfg0.N), flush0_5 _, by
    have h := ((cfg0.win 5).blk (⟨0, by decide⟩ : Fin cfg0.N)).view.emb_mem_set i; rwa [emb5] at h⟩

theorem V_v0 (c : Dev nD) : V m c main_v0 = extractStridedSlice S16x1024x1024 ![0, 0, 0] (m ((c : Thread nD τ).loc main_arg3)) slices_S16x1024x4096_S16x1024x1024_0_0_0 := by
  show StableHlo.after hostOps0 (fun b => m (c, b)) _ = _
  unfold hostOps0
  after_results

theorem V_v1 (c : Dev nD) : V m c main_v1 = extractStridedSlice S16x16x1024 ![0, 0, 0] (m ((c : Thread nD τ).loc main_arg4)) slices_S16x16x4096_S16x16x1024_0_0_0 := by
  show StableHlo.after hostOps0 (fun b => m (c, b)) _ = _
  unfold hostOps0
  after_results

/-- The result as a function of the arguments. -/
def G (a0 : Vec Ideal S98304x2048 .fp8e4m3) (a1 : Vec Ideal S98304 .f32) (a2 : Vec Ideal S16 .i32) (a3 : Vec Ideal S16x1024x4096 .i8) (a4 : Vec Ideal S16x16x4096 .bf16) : Vec Ideal S933888x128 .f32 :=
  res a0 a1 a2 (extractStridedSlice S16x1024x1024 ![0, 0, 0] a3 slices_S16x1024x4096_S16x1024x1024_0_0_0)
    (extractStridedSlice S16x16x1024 ![0, 0, 0] a4 slices_S16x16x4096_S16x16x1024_0_0_0)

theorem final5 (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) :=
  ((dats m 0 c).arrAt_eq_of_cover 5 _ (fun t _ => flushed5_eq m c t) covered5).trans
    (by rw [V_main_arg0, V_main_arg1, V_main_arg2, V_v0, V_v1]; rfl)

/-- The reference's run with its result at `G` of the arguments. -/
theorem run : θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2⟩) (run_blocks m ρ)

end Cert.ReferenceIdeal.Val

end
-- ==== Proof.M.V.Mask.lean ====
/-
  Which rows of the result the claim speaks of: a row under the mask belongs to one expert.
-/
module

public import proofs.«01_k».proof.Proof.Gen.On_expert_rows
public import proofs.«01_k».proof.Proof.M.V.RefLay
public import Idealize.ShloMosaic.Lib.WordArith
public import Idealize.ShloMosaic.Lib.WordCmp
public import Idealize.ShloMosaic.Lib.Pointwise

@[expose] public section

set_option maxRecDepth 16384

noncomputable section

namespace Cert.Mask

open Cert.On_expert_rows Cert.On_expert_rows.Gen
open Idealize.ShloMosaic

local notation "S'" => Cert.ReferenceIdeal.Val.S

variable (w : ℕ → BitVec 32)

/-- Whether the row number `q` lies in one of the first `k` experts' stretches. -/
def M (q : BitVec 32) : ℕ → BitVec 1
  | 0 => IntOp.cmpi .slt q 0#32
  | k + 1 => IntOp.ori (M q k) (IntOp.andi (IntOp.cmpi .sge q (IntOp.addi (S' w k) (BitVec.ofNat 32 (k * 1152)))) (IntOp.cmpi .slt q (IntOp.addi (S' w (k + 1)) (BitVec.ofNat 32 (k * 1152)))))

theorem M_true (g : ℕ → ℕ) (ok : Tiles.OK g) (hw : ∀ k < 16, w k = BitVec.ofNat 32 (g k)) (q : ℕ) (hq : q < 2 ^ 31) {k : ℕ} (hk : k ≤ 16)
    (h : M w (BitVec.ofNat 32 q) k = 1#1) : ∃ e < k, Tiles.st g e + e * 1152 ≤ q ∧ q < Tiles.st g (e + 1) + e * 1152 := by
  induction k with
  | zero =>
    exfalso
    have e : M w (BitVec.ofNat 32 q) 0 = BitVec.ofBool (decide (q < 0)) := WordCmp.cmpi_slt_ofNat hq (by decide)
    rw [e] at h
    simp at h
  | succ k ih =>
    have t1 : Tiles.st g k ≤ 98304 := (Tiles.st_mono g (by omega)).trans ok.tot
    have t2 : Tiles.st g (k + 1) ≤ 98304 := (Tiles.st_mono g (by omega)).trans ok.tot
    have e : M w (BitVec.ofNat 32 q) (k + 1) = IntOp.ori (M w (BitVec.ofNat 32 q) k) (BitVec.ofBool (decide (Tiles.st g k + k * 1152 ≤ q) && decide (q < Tiles.st g (k + 1) + k * 1152))) := by
      rw [M, Cert.ReferenceIdeal.Val.S_val w g hw (by omega), Cert.ReferenceIdeal.Val.S_val w g hw (by omega),
        show IntOp.addi (BitVec.ofNat 32 (Tiles.st g k)) (BitVec.ofNat 32 (k * 1152)) = BitVec.ofNat 32 (Tiles.st g k + k * 1152) from (BitVec.ofNat_add _ _).symm,
        show IntOp.addi (BitVec.ofNat 32 (Tiles.st g (k + 1))) (BitVec.ofNat 32 (k * 1152)) = BitVec.ofNat 32 (Tiles.st g (k + 1) + k * 1152) from (BitVec.ofNat_add _ _).symm,
        WordCmp.cmpi_sge_ofNat hq (by omega), WordCmp.cmpi_slt_ofNat hq (by omega), WordCmp.andi_ofBool]
    rw [e] at h
    by_cases hc : Tiles.st g k + k * 1152 ≤ q ∧ q < Tiles.st g (k + 1) + k * 1152
    · exact ⟨k, by omega, hc⟩
    · have hb : (decide (Tiles.st g k + k * 1152 ≤ q) && decide (q < Tiles.st g (k + 1) + k * 1152)) = false := by
        rw [← Bool.decide_and, decide_eq_false hc]
      rw [hb, show IntOp.ori (M w (BitVec.ofNat 32 q) k) (BitVec.ofBool false) = M w (BitVec.ofNat 32 q) k from BitVec.or_zero] at h
      obtain ⟨a, ha, hb⟩ := ih (by omega) h
      exact ⟨a, by omega, hb⟩

theorem div8 (n : ℕ) (hn : n < 2 ^ 31) : IntOp.divsi .host (BitVec.ofNat 32 n) 8#32 = BitVec.ofNat 32 (n / 8) := by
  have hm : (BitVec.ofNat 32 n).msb = false := by rw [BitVec.msb_eq_false_iff_two_mul_lt, BitVec.toNat_ofNat]; omega
  unfold IntOp.divsi
  rw [if_neg (by simp [IntOp.SDivCorner]), BitVec.sdiv_eq, hm, show (8#32 : BitVec 32).msb = false from by decide]
  apply BitVec.eq_of_toNat_eq
  show ((BitVec.ofNat 32 n).udiv 8#32).toNat = _
  rw [BitVec.udiv_eq, BitVec.toNat_udiv, BitVec.toNat_ofNat, BitVec.toNat_ofNat, BitVec.toNat_ofNat, Nat.mod_eq_of_lt (by omega), Nat.mod_eq_of_lt (by omega), Nat.mod_eq_of_lt (by omega)]

theorem floor8s (n : ℕ) (hn : n < 2 ^ 31) :
    Scalar.select
      (IntOp.andi
        (IntOp.cmpi .ne (if BitVec.ofNat 32 n = 0 then (0 : BitVec 32) else if (BitVec.ofNat 32 n).msb = true then -1 else 1) 1#32)
        (IntOp.cmpi .ne (IntOp.remsi .host (BitVec.ofNat 32 n) 8#32) 0#32))
      (IntOp.subi (IntOp.divsi .host (BitVec.ofNat 32 n) 8#32) 1#32) (IntOp.divsi .host (BitVec.ofNat 32 n) 8#32)
      = BitVec.ofNat 32 (n / 8) := by
  rw [div8 n hn]
  generalize IntOp.subi (BitVec.ofNat 32 (n / 8)) 1#32 = y
  have key : ∀ b : BitVec 1, b = 0#1 → Scalar.select b y (BitVec.ofNat 32 (n / 8)) = BitVec.ofNat 32 (n / 8) := fun b hb => by subst hb; rfl
  apply key
  rcases Nat.eq_zero_or_pos n with h0 | h0
  · rw [h0, show IntOp.remsi .host (BitVec.ofNat 32 0) 8#32 = 0#32 from by decide +kernel, show IntOp.cmpi .ne (0#32 : BitVec 32) 0#32 = 0#1 from by decide +kernel]
    exact BitVec.and_zero
  · have hm : (BitVec.ofNat 32 n).msb = false := by rw [BitVec.msb_eq_false_iff_two_mul_lt, BitVec.toNat_ofNat]; omega
    have hz : ¬ BitVec.ofNat 32 n = 0 := fun h => by
      have h' := congrArg BitVec.toNat h
      rw [BitVec.toNat_ofNat, Nat.mod_eq_of_lt (by omega), show (0 : BitVec 32).toNat = 0 from rfl] at h'
      omega
    rw [if_neg hz, hm, if_neg (by decide), show IntOp.cmpi .ne (1 : BitVec 32) 1#32 = 0#1 from by decide +kernel]
    exact BitVec.zero_and

theorem floor8 (i : S933888x128.Idx) : fn_floor_divide (F := Ideal) (iotaInDim S933888x128 32 0) (constantI S_ 32 8#32) i = BitVec.ofNat 32 ((i 0 : ℕ) / 8) := by
  have hi : (i 0 : ℕ) < 933888 := (i 0).isLt
  have h8 : (id (constantI S_ 32 8#32) ix0 : BitVec 32) = 8#32 := rfl
  have h1 : (if (8#32 : BitVec 32) = 0 then (0 : BitVec 32) else if (8#32 : BitVec 32).msb = true then -1 else 1) = 1#32 := by decide +kernel
  pointwise [fn_floor_divide, fn_where]
  rw [h8, h1]
  exact floor8s _ (by omega)

theorem fn_eq (x0 : FVec Ideal S98304x2048 .fp8e4m3) (x1 : FVec Ideal S98304 .f32) (x2 : IVec S16 32) (x3 : IVec S16x1024x4096 8) (x4 : FVec Ideal S16x16x4096 .bf16) (i : S933888x128.Idx)
    (hw : ∀ k (h : k < 16), w k = x2 (ix1 ⟨k, h⟩ : S16.Idx)) :
    fn x0 x1 x2 x3 x4 i = M w (fn_floor_divide (F := Ideal) (iotaInDim S933888x128 32 0) (constantI S_ 32 8#32) i) 16 := by
  unfold fn
  generalize fn_floor_divide (F := Ideal) (iotaInDim S933888x128 32 0) (constantI S_ 32 8#32) = q
  pointwise [fn_part1, fn_part2, fn_part3, fn_part4, fn_part5, fn_part6, fn_part7, fn_part8]
  rw [show M w (q i) 16 = IntOp.ori (M w (q i) 15) (IntOp.andi (IntOp.cmpi .sge (q i) (IntOp.addi (S' w 15) 17280#32)) (IntOp.cmpi .slt (q i) (IntOp.addi (S' w 16) 17280#32))) from rfl]
  rw [show M w (q i) 15 = IntOp.ori (M w (q i) 14) (IntOp.andi (IntOp.cmpi .sge (q i) (IntOp.addi (S' w 14) 16128#32)) (IntOp.cmpi .slt (q i) (IntOp.addi (S' w 15) 16128#32))) from rfl]
  rw [show M w (q i) 14 = IntOp.ori (M w (q i) 13) (IntOp.andi (IntOp.cmpi .sge (q i) (IntOp.addi (S' w 13) 14976#32)) (IntOp.cmpi .slt (q i) (IntOp.addi (S' w 14) 14976#32))) from rfl]
  rw [show M w (q i) 13 = IntOp.ori (M w (q i) 12) (IntOp.andi (IntOp.cmpi .sge (q i) (IntOp.addi (S' w 12) 13824#32)) (IntOp.cmpi .slt (q i) (IntOp.addi (S' w 13) 13824#32))) from rfl]
  rw [show M w (q i) 12 = IntOp.ori (M w (q i) 11) (IntOp.andi (IntOp.cmpi .sge (q i) (IntOp.addi (S' w 11) 12672#32)) (IntOp.cmpi .slt (q i) (IntOp.addi (S' w 12) 12672#32))) from rfl]
  rw [show M w (q i) 11 = IntOp.ori (M w (q i) 10) (IntOp.andi (IntOp.cmpi .sge (q i) (IntOp.addi (S' w 10) 11520#32)) (IntOp.cmpi .slt (q i) (IntOp.addi (S' w 11) 11520#32))) from rfl]
  rw [show M w (q i) 10 = IntOp.ori (M w (q i) 9) (IntOp.andi (IntOp.cmpi .sge (q i) (IntOp.addi (S' w 9) 10368#32)) (IntOp.cmpi .slt (q i) (IntOp.addi (S' w 10) 10368#32))) from rfl]
  rw [show M w (q i) 9 = IntOp.ori (M w (q i) 8) (IntOp.andi (IntOp.cmpi .sge (q i) (IntOp.addi (S' w 8) 9216#32)) (IntOp.cmpi .slt (q i) (IntOp.addi (S' w 9) 9216#32))) from rfl]
  rw [show M w (q i) 8 = IntOp.ori (M w (q i) 7) (IntOp.andi (IntOp.cmpi .sge (q i) (IntOp.addi (S' w 7) 8064#32)) (IntOp.cmpi .slt (q i) (IntOp.addi (S' w 8) 8064#32))) from rfl]
  rw [show M w (q i) 7 = IntOp.ori (M w (q i) 6) (IntOp.andi (IntOp.cmpi .sge (q i) (IntOp.addi (S' w 6) 6912#32)) (IntOp.cmpi .slt (q i) (IntOp.addi (S' w 7) 6912#32))) from rfl]
  rw [show M w (q i) 6 = IntOp.ori (M w (q i) 5) (IntOp.andi (IntOp.cmpi .sge (q i) (IntOp.addi (S' w 5) 5760#32)) (IntOp.cmpi .slt (q i) (IntOp.addi (S' w 6) 5760#32))) from rfl]
  rw [show M w (q i) 5 = IntOp.ori (M w (q i) 4) (IntOp.andi (IntOp.cmpi .sge (q i) (IntOp.addi (S' w 4) 4608#32)) (IntOp.cmpi .slt (q i) (IntOp.addi (S' w 5) 4608#32))) from rfl]
  rw [show M w (q i) 4 = IntOp.ori (M w (q i) 3) (IntOp.andi (IntOp.cmpi .sge (q i) (IntOp.addi (S' w 3) 3456#32)) (IntOp.cmpi .slt (q i) (IntOp.addi (S' w 4) 3456#32))) from rfl]
  rw [show M w (q i) 3 = IntOp.ori (M w (q i) 2) (IntOp.andi (IntOp.cmpi .sge (q i) (IntOp.addi (S' w 2) 2304#32)) (IntOp.cmpi .slt (q i) (IntOp.addi (S' w 3) 2304#32))) from rfl]
  rw [show M w (q i) 2 = IntOp.ori (M w (q i) 1) (IntOp.andi (IntOp.cmpi .sge (q i) (IntOp.addi (S' w 1) 1152#32)) (IntOp.cmpi .slt (q i) (IntOp.addi (S' w 2) 1152#32))) from rfl]
  rw [show M w (q i) 1 = IntOp.ori (M w (q i) 0) (IntOp.andi (IntOp.cmpi .sge (q i) (IntOp.addi (S' w 0) 0#32)) (IntOp.cmpi .slt (q i) (IntOp.addi (S' w 1) 0#32))) from rfl]
  rw [show M w (q i) 0 = IntOp.cmpi .slt (q i) 0#32 from rfl]
  rw [show S' w 16 = IntOp.addi (S' w 15) (x2 (ix1 15 : S16.Idx)) from congrArg (IntOp.addi _) (hw 15 (by decide))]
  rw [show S' w 15 = IntOp.addi (S' w 14) (x2 (ix1 14 : S16.Idx)) from congrArg (IntOp.addi _) (hw 14 (by decide))]
  rw [show S' w 14 = IntOp.addi (S' w 13) (x2 (ix1 13 : S16.Idx)) from congrArg (IntOp.addi _) (hw 13 (by decide))]
  rw [show S' w 13 = IntOp.addi (S' w 12) (x2 (ix1 12 : S16.Idx)) from congrArg (IntOp.addi _) (hw 12 (by decide))]
  rw [show S' w 12 = IntOp.addi (S' w 11) (x2 (ix1 11 : S16.Idx)) from congrArg (IntOp.addi _) (hw 11 (by decide))]
  rw [show S' w 11 = IntOp.addi (S' w 10) (x2 (ix1 10 : S16.Idx)) from congrArg (IntOp.addi _) (hw 10 (by decide))]
  rw [show S' w 10 = IntOp.addi (S' w 9) (x2 (ix1 9 : S16.Idx)) from congrArg (IntOp.addi _) (hw 9 (by decide))]
  rw [show S' w 9 = IntOp.addi (S' w 8) (x2 (ix1 8 : S16.Idx)) from congrArg (IntOp.addi _) (hw 8 (by decide))]
  rw [show S' w 8 = IntOp.addi (S' w 7) (x2 (ix1 7 : S16.Idx)) from congrArg (IntOp.addi _) (hw 7 (by decide))]
  rw [show S' w 7 = IntOp.addi (S' w 6) (x2 (ix1 6 : S16.Idx)) from congrArg (IntOp.addi _) (hw 6 (by decide))]
  rw [show S' w 6 = IntOp.addi (S' w 5) (x2 (ix1 5 : S16.Idx)) from congrArg (IntOp.addi _) (hw 5 (by decide))]
  rw [show S' w 5 = IntOp.addi (S' w 4) (x2 (ix1 4 : S16.Idx)) from congrArg (IntOp.addi _) (hw 4 (by decide))]
  rw [show S' w 4 = IntOp.addi (S' w 3) (x2 (ix1 3 : S16.Idx)) from congrArg (IntOp.addi _) (hw 3 (by decide))]
  rw [show S' w 3 = IntOp.addi (S' w 2) (x2 (ix1 2 : S16.Idx)) from congrArg (IntOp.addi _) (hw 2 (by decide))]
  rw [show S' w 2 = IntOp.addi (S' w 1) (x2 (ix1 1 : S16.Idx)) from congrArg (IntOp.addi _) (hw 1 (by decide))]
  rw [show S' w 1 = IntOp.addi (S' w 0) (x2 (ix1 0 : S16.Idx)) from congrArg (IntOp.addi _) (hw 0 (by decide))]
  rw [show S' w 0 = 0#32 from rfl]

/-- A row under the mask is row `st g e + i` of some expert `e`'s stretch of the result. -/
theorem row_of_mask (x0 : FVec Ideal S98304x2048 .fp8e4m3) (x1 : FVec Ideal S98304 .f32) (x2 : IVec S16 32) (x3 : IVec S16x1024x4096 8) (x4 : FVec Ideal S16x16x4096 .bf16) (i : S933888x128.Idx)
    (g : ℕ → ℕ) (ok : Tiles.OK g) (hg : ∀ k (h : k < 16), x2 (ix1 ⟨k, h⟩ : S16.Idx) = BitVec.ofNat 32 (g k)) (h : fn x0 x1 x2 x3 x4 i = 1#1) :
    ∃ e < 16, Tiles.st g e + e * 1152 ≤ (i 0 : ℕ) / 8 ∧ (i 0 : ℕ) / 8 < Tiles.st g (e + 1) + e * 1152 := by
  have hi : (i 0 : ℕ) < 933888 := (i 0).isLt
  let w : ℕ → BitVec 32 := fun k => if h : k < 16 then x2 (ix1 ⟨k, h⟩ : S16.Idx) else 0#32
  have hw : ∀ k (h : k < 16), w k = x2 (ix1 ⟨k, h⟩ : S16.Idx) := fun k h => dif_pos h
  rw [fn_eq w x0 x1 x2 x3 x4 i hw, floor8] at h
  exact M_true w g ok (fun k hk => (hw k hk).trans (hg k hk)) _ (by omega) (Nat.le_refl 16) h

end Cert.Mask

end
-- ==== Proof.M.V.Alg.lean ====
/-
  The kernel's result and the reference's agree at every row that belongs to an expert.
-/
module

public import proofs.«01_k».proof.Proof.M.I.Quiet
public import proofs.«01_k».proof.Proof.M.V.KerVal
public import proofs.«01_k».proof.Proof.M.V.RefRun
public import proofs.«01_k».proof.Proof.M.V.Mask

@[expose] public section

set_option maxRecDepth 16384

noncomputable section

namespace Cert.Alg

open Cert.KernelIdeal Cert.KernelIdeal.Gen Cert.KernelIdeal.Run Cert.Tiles
open Idealize.ShloMosaic Idealize.ShloMosaic.TcCoe
open Idealize.SL.Sem

theorem V_v0 (m : (ℓ : Loc nD τ sig) → Buf (Elt Ideal) ℓ) (c : Dev nD) :
    V m c main_v0 = shapeCast S768x1x128 (m ((c : Thread nD τ).loc main_arg1)) shapeCasts_S98304_S768x1x128 := by
  show StableHlo.after hostOps0 (fun b => m (c, b)) _ = _
  unfold hostOps0
  after_results
  rfl

variable (a0 : FVec Ideal S98304x2048 .fp8e4m3) (a1 : FVec Ideal S98304 .f32) (a2 : IVec S16 32) (a3 : IVec S16x1024x4096 8) (a4 : FVec Ideal S16x16x4096 .bf16)

variable [Col]

theorem sl3 : S16x1024x4096.Slices ![0, 0, Col.n0] Cert.ReferenceIdeal.S16x1024x1024 := by
  have h := Col.hn
  refine ⟨rfl, fun a => ?_⟩
  match a with
  | ⟨0, _⟩ => show 0 + 16 ≤ 16; omega
  | ⟨1, _⟩ => show 0 + 1024 ≤ 1024; omega
  | ⟨2, _⟩ => show Col.n0 + 1024 ≤ 4096; omega

theorem sl4 : S16x16x4096.Slices ![0, 0, Col.n0] Cert.ReferenceIdeal.S16x16x1024 := by
  have h := Col.hn
  refine ⟨rfl, fun a => ?_⟩
  match a with
  | ⟨0, _⟩ => show 0 + 16 ≤ 16; omega
  | ⟨1, _⟩ => show 0 + 16 ≤ 16; omega
  | ⟨2, _⟩ => show Col.n0 + 1024 ≤ 4096; omega

theorem slice3 (e : Fin 16) (r : Fin 1024) (n : Fin 1024) :
    extractStridedSlice Cert.ReferenceIdeal.S16x1024x1024 ![0, 0, Col.n0] a3 sl3 (ix3 e r n : Cert.ReferenceIdeal.S16x1024x1024.Idx)
      = a3 (ix3 e r (col n) : S16x1024x4096.Idx) := by
  unfold extractStridedSlice
  refine congrArg a3 (funext fun a => Fin.ext ?_)
  match a with
  | ⟨0, _⟩ => show 0 + (e : ℕ) = e; omega
  | ⟨1, _⟩ => show 0 + (r : ℕ) = r; omega
  | ⟨2, _⟩ => show Col.n0 + (n : ℕ) = Col.n0 + (n : ℕ); rfl

theorem slice4 (e : Fin 16) (r : Fin 16) (n : Fin 1024) :
    extractStridedSlice Cert.ReferenceIdeal.S16x16x1024 ![0, 0, Col.n0] a4 sl4 (ix3 e r n : Cert.ReferenceIdeal.S16x16x1024.Idx)
      = a4 (ix3 e r (col n) : S16x16x4096.Idx) := by
  unfold extractStridedSlice
  refine congrArg a4 (funext fun a => Fin.ext ?_)
  match a with
  | ⟨0, _⟩ => show 0 + (e : ℕ) = e; omega
  | ⟨1, _⟩ => show 0 + (r : ℕ) = r; omega
  | ⟨2, _⟩ => show Col.n0 + (n : ℕ) = Col.n0 + (n : ℕ); rfl

/-- The call's result as a function of the arguments. -/
def Gc : S933888x128.Idx → EReal :=
  Cert.ReferenceIdeal.Val.res a0 a1 a2 (extractStridedSlice Cert.ReferenceIdeal.S16x1024x1024 ![0, 0, Col.n0] a3 sl3)
    (extractStridedSlice Cert.ReferenceIdeal.S16x16x1024 ![0, 0, Col.n0] a4 sl4)

theorem scale_val (row : Fin 98304) :
    shapeCast S768x1x128 a1 shapeCasts_S98304_S768x1x128 (ix3 ⟨(row : ℕ) / 128, by omega⟩ 0 ⟨(row : ℕ) % 128, by omega⟩ : S768x1x128.Idx) = a1 (ix1 row : S98304.Idx) := by
  pointwise

/-- A tile's product and the reference's are the same sum. -/
theorem term_eq (e : Fin 16) (row : Fin 98304) (n : Fin 1024) :
    term a0 (shapeCast S768x1x128 a1 shapeCasts_S98304_S768x1x128) a3 a4 e row n
      = Cert.ReferenceIdeal.Val.el (Cert.ReferenceIdeal.Gen.k0_pay2 a0 a1)
          (Cert.ReferenceIdeal.Gen.k0_pay3
            (extractStridedSlice Cert.ReferenceIdeal.S16x1024x1024 ![0, 0, Col.n0] a3 sl3)
            (extractStridedSlice Cert.ReferenceIdeal.S16x16x1024 ![0, 0, Col.n0] a4 sl4)) e row n := by
  unfold term Cert.ReferenceIdeal.Val.el
  refine Finset.sum_congr rfl fun k _ => ?_
  rw [scale_val, Cert.ReferenceIdeal.Val.v6_val, Cert.ReferenceIdeal.Val.v28_val, slice3, slice4]

/-- Row `i` of the result lies in some expert's stretch. -/
def Owned (g : ℕ → ℕ) (i : S933888x128.Idx) : Prop := ∃ e < 16, st g e + e * 1152 ≤ (i 0 : ℕ) / 8 ∧ (i 0 : ℕ) / 8 < st g (e + 1) + e * 1152

theorem wd_gs (k : ℕ) (hk : k < 16) : Cert.ReferenceIdeal.Val.wd a2 k = BitVec.ofNat 32 (Cert.Pre.gs a2 k) := by
  rw [Cert.ReferenceIdeal.Val.wd, dif_pos hk]
  exact Cert.Pre.word_gs a2 (ix1 ⟨k, hk⟩ : S16.Idx)

/-- What a tile writes at an owned row is the reference's value there. -/
theorem tile_val (ok : OK (Cert.Pre.gs a2)) (t : ℕ) (ht : t < nt (Cert.Pre.gs a2) 16) (i : S933888x128.Idx) (hi : i ∈ win (RR (Cert.Pre.gs a2) t)) (ho : Owned (Cert.Pre.gs a2) i) :
    outAt (accT (F := Ideal) a0 (shapeCast S768x1x128 a1 shapeCasts_S98304_S768x1x128) a3 a4 (hs (Cert.Pre.gs a2) t) (hs (Cert.Pre.gs a2) t / 128) (ex (Cert.Pre.gs a2) t)) (RR (Cert.Pre.gs a2) t) i
      = Gc a0 a1 a2 a3 a4 i := by
  have hw := wd_gs a2
  generalize hg : Cert.Pre.gs a2 = g at *
  obtain ⟨e, he, h1, h2⟩ := ho
  obtain ⟨l1, l2⟩ := mem_win.mp hi
  have hi1 := (show (i 1 : ℕ) < 128 from (i 1).isLt)
  have hle := hs_le (g := g) t
  have hex := ex_lt (g := g) t
  have hR : RR g t = (hs g t + ex g t * 1152) * 8 := rfl
  obtain ⟨d, hd⟩ : ∃ d, (i 0 : ℕ) = RR g t + d := ⟨(i 0 : ℕ) - RR g t, by omega⟩
  have hd4 : d < 4096 := by omega
  have hq : (i 0 : ℕ) / 8 = hs g t + ex g t * 1152 + d / 8 := by omega
  have h8 : (i 0 : ℕ) % 8 = d % 8 := by omega
  obtain ⟨e1, e2⟩ := own ok (r := (i 0 : ℕ) / 8 - e * 1152) ht (show d / 8 < 512 by omega) he (by omega) (by omega) (by omega)
  have hv := Cert.ReferenceIdeal.Val.out_val (Cert.ReferenceIdeal.Gen.k0_pay2 a0 a1)
    (Cert.ReferenceIdeal.Gen.k0_pay3
      (extractStridedSlice Cert.ReferenceIdeal.S16x1024x1024 ![0, 0, Col.n0] a3 sl3)
      (extractStridedSlice Cert.ReferenceIdeal.S16x16x1024 ![0, 0, Col.n0] a4 sl4))
    (Cert.ReferenceIdeal.Val.wd a2) g ok hw ⟨e, he⟩ i ⟨hs g t + d / 8, by omega⟩ (by show (i 0 : ℕ) / 8 = e * 1152 + (hs g t + d / 8); omega)
    (by show st g e ≤ hs g t + d / 8; omega) (by show hs g t + d / 8 < st g (e + 1); omega)
  rw [← term_eq] at hv
  refine Eq.trans ?_ hv.symm
  rw [← accT_val a0 (shapeCast S768x1x128 a1 shapeCasts_S98304_S768x1x128) a3 a4 (hs g t) ⟨e, he⟩ ⟨d / 8, by omega⟩ ⟨(i 0 : ℕ) % 8 * 128 + (i 1 : ℕ), by omega⟩ (by omega) (hs_dvd t)]
  show outAt _ _ i = accT _ _ _ _ _ _ e _
  rw [← e1]
  unfold outAt
  refine congrArg _ (funext fun a => Fin.ext ?_)
  match a with
  | ⟨0, _⟩ => show ((i 0 : ℕ) - RR g t) / 8 % 512 = d / 8; omega
  | ⟨1, _⟩ => show (128 * (((i 0 : ℕ) - RR g t) % 8) + (i 1 : ℕ)) % 1024 = (i 0 : ℕ) % 8 * 128 + (i 1 : ℕ); omega

/-- Every owned row is written by a tile. -/
theorem covered_owned (g : ℕ → ℕ) (ok : OK g) (i : S933888x128.Idx) (ho : Owned g i) : i ∈ covT g 0 (nt g 16) ∪ covT g 1 (nt g 16) := by
  obtain ⟨e, he, h1, h2⟩ := ho
  obtain ⟨t, ht, e1, h3, h4⟩ := covered ok (r := (i 0 : ℕ) / 8 - e * 1152) he (by omega) (by omega)
  have hR : RR g t = (hs g t + ex g t * 1152) * 8 := rfl
  have hm : i ∈ win (RR g t) := mem_win.mpr (by rw [hR, e1]; omega)
  rcases Nat.mod_two_eq_zero_or_one t with h | h
  · exact Finset.mem_union_left _ (Finset.mem_filter.mpr ⟨Finset.mem_univ _, t, ht, h, hm⟩)
  · exact Finset.mem_union_right _ (Finset.mem_filter.mpr ⟨Finset.mem_univ _, t, ht, h, hm⟩)

open Classical in
/-- The owned rows are to hold the reference's values. -/
def goal : Goal Ideal := fun i => if Owned (Cert.Pre.gs a2) i then some (Gc a0 a1 a2 a3 a4 i) else none

theorem goal_owned {i : S933888x128.Idx} (h : Owned (Cert.Pre.gs a2) i) : goal a0 a1 a2 a3 a4 i = some (Gc a0 a1 a2 a3 a4 i) := by
  unfold goal; exact if_pos h

theorem goal_some {i : S933888x128.Idx} {u} (h : goal a0 a1 a2 a3 a4 i = some u) : Owned (Cert.Pre.gs a2) i ∧ Gc a0 a1 a2 a3 a4 i = u := by
  unfold goal at h
  by_cases ho : Owned (Cert.Pre.gs a2) i
  · rw [if_pos ho] at h
    exact ⟨ho, Option.some.inj h⟩
  · rw [if_neg ho] at h
    cases h

theorem admits (ok : OK (Cert.Pre.gs a2)) :
    Admits a0 (shapeCast S768x1x128 a1 shapeCasts_S98304_S768x1x128) a3 a4 (Cert.Pre.gs a2) (goal a0 a1 a2 a3 a4) := fun t ht i hi u hu => by
  obtain ⟨ho, he⟩ := goal_some a0 a1 a2 a3 a4 hu
  rw [← he]
  exact tile_val a0 a1 a2 a3 a4 ok t ht i hi ho

/-- The kernel's run: every owned row of the result ends at its value, and the arguments are unchanged. -/
def KerC : Prop := ∀ (m : (ℓ : Loc nD τ sig) → Buf (Elt Ideal) ℓ) (ρ : Dev nD → PrngReg)
    (_ : ∀ c : Dev nD, Cert.Pre_groups_fit.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = fun _ => 1#1),
    θ_run (Run.defs (F := Ideal)) (onTc (τ := τ) (main (F := Ideal))) ⟨m, fun _ => 0, ρ⟩ (fun r => ∀ c : Dev nD,
      (∀ i : (⟨2, ![933888, 128]⟩ : Shape).Idx, (Cert.On_expert_rows.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) i = 1#1
        → r.2.mem ((c.tc : Thread nD τ).loc main_v1) i = Gc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))

theorem kerC : KerC := by
  intro m ρ hpre
  have hok := fun c : Dev nD => Cert.Pre.ok_of_pre _ _ _ _ _ (hpre c)
  refine (θ_run Run.defs _ _).mono (fun r hr c => ?_)
    (run_main m ρ (fun c => Cert.Pre.gs (m ((c : Thread nD τ).loc main_arg2)))
      (fun c => goal (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)))
      hok (fun c j => Cert.Pre.word_gs _ j)
      (fun c => by
        rw [V_main_arg0, V_v0, V_main_arg3, V_main_arg4]
        exact admits _ _ _ _ _ (hok c)))
  obtain ⟨⟨hv, h0, h1, h3, h4⟩, h2⟩ := hr.1 c
  refine ⟨fun i hi => ?_, h0.trans (V_main_arg0 m c), h1.trans (V_main_arg1 m c), h2.trans (V_main_arg2 m c), h3.trans (V_main_arg3 m c), h4.trans (V_main_arg4 m c)⟩
  have ho : Owned (Cert.Pre.gs (m ((c.tc : Thread nD τ).loc main_arg2))) i :=
    Cert.Mask.row_of_mask _ _ _ _ _ i _ (hok c) (fun k hk => Cert.Pre.word_gs _ (ix1 ⟨k, hk⟩ : S16.Idx)) hi
  exact hv i (covered_owned _ (hok c) i ho) _ (goal_owned _ _ _ _ _ ho)

end Cert.Alg

end
-- ==== Proof.M.V.At0.lean ====
/-
  The claims at the columns from 0 on: those of the kernel at any offset, read at this one.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.M.V.Alg
public import proofs.«01_k».proof.Proof.M.V.RefRun
public import Idealize.ShloMosaic.Lib.Pipeline.Regions

@[expose] public section

set_option maxRecDepth 100000
set_option maxHeartbeats 4000000

noncomputable section

namespace Cert.At0

open Idealize.ShloMosaic Idealize.ShloMosaic.TcCoe
open Idealize.SL.Sem

/-- The offset. -/
abbrev col : Cert.KernelIdeal.Run.Col := ⟨0, by decide⟩

theorem frame_eq : @Cert.KernelIdeal.Run.QuietP Bits _ col = Cert.quiescent_Kernel := by chain_rfl

theorem frame : Cert.quiescent_Kernel := frame_eq.mp (@Cert.KernelIdeal.Run.quietP Bits _ col)

theorem frameI_eq : @Cert.KernelIdeal.Run.QuietP Ideal _ col = Cert.quiescent_KernelIdeal := by chain_rfl

theorem frameI : Cert.quiescent_KernelIdeal := frameI_eq.mp (@Cert.KernelIdeal.Run.quietP Ideal _ col)

end Cert.At0

namespace Cert.KernelIdeal.Val

open Cert.KernelIdeal
open Idealize.ShloMosaic Idealize.ShloMosaic.TcCoe
open Idealize.SL.Sem

/-- The kernel's run: every owned row of the result ends at its value, and the arguments are unchanged. -/
def Ker : Prop := ∀ (m : (ℓ : Loc nD τ sig) → Buf (Elt Ideal) ℓ) (ρ : Dev nD → PrngReg)
    (_ : ∀ c : Dev nD, Cert.Pre_groups_fit.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = fun _ => 1#1),
    θ_run (defs (F := Ideal)) (onTc (τ := τ) (main (F := Ideal))) ⟨m, fun _ => 0, ρ⟩ (fun r => ∀ c : Dev nD,
      (∀ i : (⟨2, ![933888, 128]⟩ : Shape).Idx, (Cert.On_expert_rows.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) i = 1#1
        → r.2.mem ((c.tc : Thread nD τ).loc main_v1) i = @Cert.Alg.Gc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) Cert.At0.col i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))

theorem ker_eq : @Cert.Alg.KerC Cert.At0.col = Ker := by chain_rfl

theorem ker : Ker := ker_eq.mp (@Cert.Alg.kerC Cert.At0.col)

end Cert.KernelIdeal.Val

namespace Cert.At0

open Idealize.ShloMosaic Idealize.ShloMosaic.TcCoe
open Idealize.SL.Sem

theorem algebraic : Cert.algebraic_KernelIdeal_ReferenceIdeal_on_expert_rows := by
  intro m ρ m' ρ' hpre hargs
  refine ⟨fun c => @Cert.Alg.Gc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) col, Cert.KernelIdeal.Val.ker m ρ hpre, ?_⟩
  refine (θ_run Cert.ReferenceIdeal.defs _ _).mono (fun r hr c => ?_) (Cert.ReferenceIdeal.Val.run m' ρ')
  obtain ⟨hv, hk⟩ := hr c
  refine ⟨fun i _ => ?_, hk⟩
  obtain ⟨q0, q1, q2, q3, q4⟩ := hargs c
  have e : Cert.ReferenceIdeal.Val.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      = @Cert.Alg.Gc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) col := by
    rw [q0, q1, q2, q3, q4]; rfl
  exact (congrFun hv i).trans (congrFun e i)

end Cert.At0

end
-- ==== Proof.M.V.Ref1024.lean ====
/-
  The reference's run for the columns from 1024 on.
-/
module

public import proofs.«01_k».proof.Proof.Gen.Reference1024Ideal.Value
public import proofs.«01_k».proof.Proof.M.V.RefRun
public import Idealize.ShloMosaic.Lib.Pipeline.Regions

@[expose] public section

set_option maxRecDepth 16384

noncomputable section

namespace Cert.Reference1024Ideal.Val

open Cert.Reference1024Ideal Cert.Reference1024Ideal.Gen Cert.Reference1024Ideal.Value Cert.Val
open Idealize.ShloMosaic Idealize.ShloMosaic.TcCoe
open Idealize.SL.Sem

/-- The call computes what the first call's reference computes from its own blocks. -/
def Out : Prop := ∀ (c : Dev nD) arg0 h0 arg1 h1 arg2 h2 arg3 h3 arg4 h4 arg5 h5
    (x0 : Vec Ideal S98304x2048 .fp8e4m3) (x1 : Vec Ideal S98304 .f32) (x2 : Vec Ideal S16 .i32) (x3 : Vec Ideal S16x1024x1024 .i8) (x4 : Vec Ideal S16x16x1024 .bf16),
    out0_A_5 c arg0 h0 arg1 h1 arg2 h2 arg3 h3 arg4 h4 arg5 h5 x0 x1 x2 x3 x4 = Cert.ReferenceIdeal.Val.res x0 x1 x2 x3 x4

theorem out_prop : Cert.ReferenceIdeal.Val.Out = Out := by chain_rfl

theorem out_eq : Out := out_prop.mp Cert.ReferenceIdeal.Val.out_res

variable (m : (ℓ : Loc nD τ sig) → Buf (Elt Ideal) ℓ) (ρ : Dev nD → PrngReg)

theorem idx_zero0 : ∀ t : Fin cfg0.N, win0_0.index t (0 : Fin 2) = 0 ∧ win0_0.index t (1 : Fin 2) = 0 :=
  (by decide +kernel : ∀ t : Fin grid0.N, _)
theorem emb0 (t : Fin cfg0.N) (j : S98304x2048.Idx) : ((cfg0.win 0).blk t).view.emb j = j := by
  obtain ⟨e0, e1⟩ := idx_zero0 t
  funext a; apply Fin.ext
  match a with
  | ⟨0, _⟩ => show win0_0.index t (0 : Fin 2) * 98304 + 1 * (j 0).val = (j 0).val; omega
  | ⟨1, _⟩ => show win0_0.index t (1 : Fin 2) * 2048 + 1 * (j 1).val = (j 1).val; omega
theorem iblk0_eq (c : Dev nD) (t : Fin cfg0.N) : iblk m c 0 t = V m c main_arg0 := by
  funext j; show V m c main_arg0 (((cfg0.win 0).blk t).view.emb j) = V m c main_arg0 j; rw [emb0]

theorem idx_zero1 : ∀ t : Fin cfg0.N, win0_1.index t (0 : Fin 1) = 0 :=
  (by decide +kernel : ∀ t : Fin grid0.N, _)
theorem emb1 (t : Fin cfg0.N) (j : S98304.Idx) : ((cfg0.win 1).blk t).view.emb j = j := by
  have e0 := idx_zero1 t
  funext a; apply Fin.ext
  match a with
  | ⟨0, _⟩ => show win0_1.index t (0 : Fin 1) * 98304 + 1 * (j 0).val = (j 0).val; omega
theorem iblk1_eq (c : Dev nD) (t : Fin cfg0.N) : iblk m c 1 t = V m c main_arg1 := by
  funext j; show V m c main_arg1 (((cfg0.win 1).blk t).view.emb j) = V m c main_arg1 j; rw [emb1]

theorem idx_zero2 : ∀ t : Fin cfg0.N, win0_2.index t (0 : Fin 1) = 0 :=
  (by decide +kernel : ∀ t : Fin grid0.N, _)
theorem emb2 (t : Fin cfg0.N) (j : S16.Idx) : ((cfg0.win 2).blk t).view.emb j = j := by
  have e0 := idx_zero2 t
  funext a; apply Fin.ext
  match a with
  | ⟨0, _⟩ => show win0_2.index t (0 : Fin 1) * 16 + 1 * (j 0).val = (j 0).val; omega
theorem iblk2_eq (c : Dev nD) (t : Fin cfg0.N) : iblk m c 2 t = V m c main_arg2 := by
  funext j; show V m c main_arg2 (((cfg0.win 2).blk t).view.emb j) = V m c main_arg2 j; rw [emb2]

theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)
theorem emb3 (t : Fin cfg0.N) (j : S16x1024x1024.Idx) : ((cfg0.win 3).blk t).view.emb j = j := by
  obtain ⟨e0, e1, e2⟩ := idx_zero3 t
  funext a; apply Fin.ext
  match a with
  | ⟨0, _⟩ => show win0_3.index t (0 : Fin 3) * 16 + 1 * (j 0).val = (j 0).val; omega
  | ⟨1, _⟩ => show win0_3.index t (1 : Fin 3) * 1024 + 1 * (j 1).val = (j 1).val; omega
  | ⟨2, _⟩ => show win0_3.index t (2 : Fin 3) * 1024 + 1 * (j 2).val = (j 2).val; omega
theorem iblk3_eq (c : Dev nD) (t : Fin cfg0.N) : iblk m c 3 t = V m c main_v0 := by
  funext j; show V m c main_v0 (((cfg0.win 3).blk t).view.emb j) = V m c main_v0 j; rw [emb3]

theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)
theorem emb4 (t : Fin cfg0.N) (j : S16x16x1024.Idx) : ((cfg0.win 4).blk t).view.emb j = j := by
  obtain ⟨e0, e1, e2⟩ := idx_zero4 t
  funext a; apply Fin.ext
  match a with
  | ⟨0, _⟩ => show win0_4.index t (0 : Fin 3) * 16 + 1 * (j 0).val = (j 0).val; omega
  | ⟨1, _⟩ => show win0_4.index t (1 : Fin 3) * 16 + 1 * (j 1).val = (j 1).val; omega
  | ⟨2, _⟩ => show win0_4.index t (2 : Fin 3) * 1024 + 1 * (j 2).val = (j 2).val; omega
theorem iblk4_eq (c : Dev nD) (t : Fin cfg0.N) : iblk m c 4 t = V m c main_v1 := by
  funext j; show V m c main_v1 (((cfg0.win 4).blk t).view.emb j) = V m c main_v1 j; rw [emb4]

theorem idx_zero5 : ∀ t : Fin cfg0.N, win0_5.index t (0 : Fin 2) = 0 ∧ win0_5.index t (1 : Fin 2) = 0 :=
  (by decide +kernel : ∀ t : Fin grid0.N, _)
theorem emb5 (t : Fin cfg0.N) (j : S933888x128.Idx) : ((cfg0.win 5).blk t).view.emb j = j := by
  obtain ⟨e0, e1⟩ := idx_zero5 t
  funext a; apply Fin.ext
  match a with
  | ⟨0, _⟩ => show win0_5.index t (0 : Fin 2) * 933888 + 1 * (j 0).val = (j 0).val; omega
  | ⟨1, _⟩ => show win0_5.index t (1 : Fin 2) * 128 + 1 * (j 1).val = (j 1).val; omega

theorem cut5_eq (t : Fin cfg0.N) (X : Vec Ideal S933888x128 .f32) :
    (cfg0.win 5).cut (grid0.coords t) X = ((cfg0.win 5).blk t).view.read (Elt Ideal) X := by
  funext j
  show X j = X (((cfg0.win 5).blk t).view.emb j)
  rw [emb5]

theorem flushed5_eq (c : Dev nD) (t : Fin cfg0.N) :
    (dats m 0 c).flushed 5 t = ((cfg0.win 5).blk t).view.read (Elt Ideal) (Cert.ReferenceIdeal.Val.res (V m c main_arg0) (V m c main_arg1) (V m c main_arg2) (V m c main_v0) (V m c main_v1)) := by
  rw [flushed5_A, out_eq, iblk0_eq, iblk1_eq, iblk2_eq, iblk3_eq, iblk4_eq]
  exact cut5_eq t _

theorem covered5 (i : S933888x128.Idx) :
    ∃ t : Fin cfg0.N, (cfg0.win 5).flush t = true ∧ i ∈ ((cfg0.win 5).blk t).view.set :=
  ⟨(⟨0, by decide⟩ : Fin cfg0.N), flush0_5 _, by
    have h := ((cfg0.win 5).blk (⟨0, by decide⟩ : Fin cfg0.N)).view.emb_mem_set i; rwa [emb5] at h⟩

theorem V_v0 (c : Dev nD) : V m c main_v0 = extractStridedSlice S16x1024x1024 ![0, 0, 1024] (m ((c : Thread nD τ).loc main_arg3)) slices_S16x1024x4096_S16x1024x1024_0_0_1024 := by
  show StableHlo.after hostOps0 (fun b => m (c, b)) _ = _
  unfold hostOps0
  after_results

theorem V_v1 (c : Dev nD) : V m c main_v1 = extractStridedSlice S16x16x1024 ![0, 0, 1024] (m ((c : Thread nD τ).loc main_arg4)) slices_S16x16x4096_S16x16x1024_0_0_1024 := by
  show StableHlo.after hostOps0 (fun b => m (c, b)) _ = _
  unfold hostOps0
  after_results

/-- The result as a function of the arguments. -/
def G (a0 : Vec Ideal S98304x2048 .fp8e4m3) (a1 : Vec Ideal S98304 .f32) (a2 : Vec Ideal S16 .i32) (a3 : Vec Ideal S16x1024x4096 .i8) (a4 : Vec Ideal S16x16x4096 .bf16) : Vec Ideal S933888x128 .f32 :=
  Cert.ReferenceIdeal.Val.res a0 a1 a2 (extractStridedSlice S16x1024x1024 ![0, 0, 1024] a3 slices_S16x1024x4096_S16x1024x1024_0_0_1024)
    (extractStridedSlice S16x16x1024 ![0, 0, 1024] a4 slices_S16x16x4096_S16x16x1024_0_0_1024)

theorem final5 (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) :=
  ((dats m 0 c).arrAt_eq_of_cover 5 _ (fun t _ => flushed5_eq m c t) covered5).trans
    (by rw [V_main_arg0, V_main_arg1, V_main_arg2, V_v0, V_v1]; rfl)

/-- The reference's run with its result at `G` of the arguments. -/
theorem run : θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2⟩) (run_blocks m ρ)

end Cert.Reference1024Ideal.Val

end
-- ==== Proof.M.V.At1024.lean ====
/-
  The claims at the columns from 1024 on: those of the kernel at any offset, read at this one.
-/
module

public import proofs.«01_k».proof.Defs
public import proofs.«01_k».proof.Proof.Gen.Kernel1024
public import proofs.«01_k».proof.Proof.Gen.Kernel1024Ideal
public import proofs.«01_k».proof.Proof.Gen.Reference1024Ideal
public import proofs.«01_k».proof.Proof.M.V.Alg
public import proofs.«01_k».proof.Proof.M.V.Ref1024
public import Idealize.ShloMosaic.Lib.Pipeline.Regions

@[expose] public section

set_option maxRecDepth 100000
set_option maxHeartbeats 4000000

noncomputable section

namespace Cert.At1024

open Idealize.ShloMosaic Idealize.ShloMosaic.TcCoe
open Idealize.SL.Sem

/-- The offset. -/
abbrev col : Cert.KernelIdeal.Run.Col := ⟨1024, by decide⟩

theorem frame_eq : @Cert.KernelIdeal.Run.QuietP Bits _ col = Cert.quiescent_Kernel1024 := by chain_rfl

theorem frame : Cert.quiescent_Kernel1024 := frame_eq.mp (@Cert.KernelIdeal.Run.quietP Bits _ col)

theorem frameI_eq : @Cert.KernelIdeal.Run.QuietP Ideal _ col = Cert.quiescent_Kernel1024Ideal := by chain_rfl

theorem frameI : Cert.quiescent_Kernel1024Ideal := frameI_eq.mp (@Cert.KernelIdeal.Run.quietP Ideal _ col)

end Cert.At1024

namespace Cert.Kernel1024Ideal.Val

open Cert.Kernel1024Ideal
open Idealize.ShloMosaic Idealize.ShloMosaic.TcCoe
open Idealize.SL.Sem

/-- The kernel's run: every owned row of the result ends at its value, and the arguments are unchanged. -/
def Ker : Prop := ∀ (m : (ℓ : Loc nD τ sig) → Buf (Elt Ideal) ℓ) (ρ : Dev nD → PrngReg)
    (_ : ∀ c : Dev nD, Cert.Pre_groups_fit.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = fun _ => 1#1),
    θ_run (defs (F := Ideal)) (onTc (τ := τ) (main (F := Ideal))) ⟨m, fun _ => 0, ρ⟩ (fun r => ∀ c : Dev nD,
      (∀ i : (⟨2, ![933888, 128]⟩ : Shape).Idx, (Cert.On_expert_rows.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) i = 1#1
        → r.2.mem ((c.tc : Thread nD τ).loc main_v1) i = @Cert.Alg.Gc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) Cert.At1024.col i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))

theorem ker_eq : @Cert.Alg.KerC Cert.At1024.col = Ker := by chain_rfl

theorem ker : Ker := ker_eq.mp (@Cert.Alg.kerC Cert.At1024.col)

end Cert.Kernel1024Ideal.Val

namespace Cert.At1024

open Idealize.ShloMosaic Idealize.ShloMosaic.TcCoe
open Idealize.SL.Sem

theorem algebraic : Cert.algebraic_Kernel1024Ideal_Reference1024Ideal_on_expert_rows := by
  intro m ρ m' ρ' hpre hargs
  refine ⟨fun c => @Cert.Alg.Gc (m ((c.tc : Thread Cert.Kernel1024Ideal.nD Cert.Kernel1024Ideal.τ).loc Cert.Kernel1024Ideal.main_arg0)) (m ((c.tc : Thread Cert.Kernel1024Ideal.nD Cert.Kernel1024Ideal.τ).loc Cert.Kernel1024Ideal.main_arg1)) (m ((c.tc : Thread Cert.Kernel1024Ideal.nD Cert.Kernel1024Ideal.τ).loc Cert.Kernel1024Ideal.main_arg2)) (m ((c.tc : Thread Cert.Kernel1024Ideal.nD Cert.Kernel1024Ideal.τ).loc Cert.Kernel1024Ideal.main_arg3)) (m ((c.tc : Thread Cert.Kernel1024Ideal.nD Cert.Kernel1024Ideal.τ).loc Cert.Kernel1024Ideal.main_arg4)) col, Cert.Kernel1024Ideal.Val.ker m ρ hpre, ?_⟩
  refine (θ_run Cert.Reference1024Ideal.defs _ _).mono (fun r hr c => ?_) (Cert.Reference1024Ideal.Val.run m' ρ')
  obtain ⟨hv, hk⟩ := hr c
  refine ⟨fun i _ => ?_, hk⟩
  obtain ⟨q0, q1, q2, q3, q4⟩ := hargs c
  have e : Cert.Reference1024Ideal.Val.G (m' ((c.tc : Thread Cert.Reference1024Ideal.nD Cert.Reference1024Ideal.τ).loc Cert.Reference1024Ideal.main_arg0)) (m' ((c.tc : Thread Cert.Reference1024Ideal.nD Cert.Reference1024Ideal.τ).loc Cert.Reference1024Ideal.main_arg1)) (m' ((c.tc : Thread Cert.Reference1024Ideal.nD Cert.Reference1024Ideal.τ).loc Cert.Reference1024Ideal.main_arg2)) (m' ((c.tc : Thread Cert.Reference1024Ideal.nD Cert.Reference1024Ideal.τ).loc Cert.Reference1024Ideal.main_arg3)) (m' ((c.tc : Thread Cert.Reference1024Ideal.nD Cert.Reference1024Ideal.τ).loc Cert.Reference1024Ideal.main_arg4))
      = @Cert.Alg.Gc (m ((c.tc : Thread Cert.Kernel1024Ideal.nD Cert.Kernel1024Ideal.τ).loc Cert.Kernel1024Ideal.main_arg0)) (m ((c.tc : Thread Cert.Kernel1024Ideal.nD Cert.Kernel1024Ideal.τ).loc Cert.Kernel1024Ideal.main_arg1)) (m ((c.tc : Thread Cert.Kernel1024Ideal.nD Cert.Kernel1024Ideal.τ).loc Cert.Kernel1024Ideal.main_arg2)) (m ((c.tc : Thread Cert.Kernel1024Ideal.nD Cert.Kernel1024Ideal.τ).loc Cert.Kernel1024Ideal.main_arg3)) (m ((c.tc : Thread Cert.Kernel1024Ideal.nD Cert.Kernel1024Ideal.τ).loc Cert.Kernel1024Ideal.main_arg4)) col := by
    rw [q0, q1, q2, q3, q4]; rfl
  exact (congrFun hv i).trans (congrFun e i)

end Cert.At1024

end
-- ==== Proof.M.V.Ref2048.lean ====
/-
  The reference's run for the columns from 2048 on.
-/
module

public import proofs.«01_k».proof.Proof.Gen.Reference2048Ideal.Value
public import proofs.«01_k».proof.Proof.M.V.RefRun
public import Idealize.ShloMosaic.Lib.Pipeline.Regions

@[expose] public section

set_option maxRecDepth 16384

noncomputable section

namespace Cert.Reference2048Ideal.Val

open Cert.Reference2048Ideal Cert.Reference2048Ideal.Gen Cert.Reference2048Ideal.Value Cert.Val
open Idealize.ShloMosaic Idealize.ShloMosaic.TcCoe
open Idealize.SL.Sem

/-- The call computes what the first call's reference computes from its own blocks. -/
def Out : Prop := ∀ (c : Dev nD) arg0 h0 arg1 h1 arg2 h2 arg3 h3 arg4 h4 arg5 h5
    (x0 : Vec Ideal S98304x2048 .fp8e4m3) (x1 : Vec Ideal S98304 .f32) (x2 : Vec Ideal S16 .i32) (x3 : Vec Ideal S16x1024x1024 .i8) (x4 : Vec Ideal S16x16x1024 .bf16),
    out0_A_5 c arg0 h0 arg1 h1 arg2 h2 arg3 h3 arg4 h4 arg5 h5 x0 x1 x2 x3 x4 = Cert.ReferenceIdeal.Val.res x0 x1 x2 x3 x4

theorem out_prop : Cert.ReferenceIdeal.Val.Out = Out := by chain_rfl

theorem out_eq : Out := out_prop.mp Cert.ReferenceIdeal.Val.out_res

variable (m : (ℓ : Loc nD τ sig) → Buf (Elt Ideal) ℓ) (ρ : Dev nD → PrngReg)

theorem idx_zero0 : ∀ t : Fin cfg0.N, win0_0.index t (0 : Fin 2) = 0 ∧ win0_0.index t (1 : Fin 2) = 0 :=
  (by decide +kernel : ∀ t : Fin grid0.N, _)
theorem emb0 (t : Fin cfg0.N) (j : S98304x2048.Idx) : ((cfg0.win 0).blk t).view.emb j = j := by
  obtain ⟨e0, e1⟩ := idx_zero0 t
  funext a; apply Fin.ext
  match a with
  | ⟨0, _⟩ => show win0_0.index t (0 : Fin 2) * 98304 + 1 * (j 0).val = (j 0).val; omega
  | ⟨1, _⟩ => show win0_0.index t (1 : Fin 2) * 2048 + 1 * (j 1).val = (j 1).val; omega
theorem iblk0_eq (c : Dev nD) (t : Fin cfg0.N) : iblk m c 0 t = V m c main_arg0 := by
  funext j; show V m c main_arg0 (((cfg0.win 0).blk t).view.emb j) = V m c main_arg0 j; rw [emb0]

theorem idx_zero1 : ∀ t : Fin cfg0.N, win0_1.index t (0 : Fin 1) = 0 :=
  (by decide +kernel : ∀ t : Fin grid0.N, _)
theorem emb1 (t : Fin cfg0.N) (j : S98304.Idx) : ((cfg0.win 1).blk t).view.emb j = j := by
  have e0 := idx_zero1 t
  funext a; apply Fin.ext
  match a with
  | ⟨0, _⟩ => show win0_1.index t (0 : Fin 1) * 98304 + 1 * (j 0).val = (j 0).val; omega
theorem iblk1_eq (c : Dev nD) (t : Fin cfg0.N) : iblk m c 1 t = V m c main_arg1 := by
  funext j; show V m c main_arg1 (((cfg0.win 1).blk t).view.emb j) = V m c main_arg1 j; rw [emb1]

theorem idx_zero2 : ∀ t : Fin cfg0.N, win0_2.index t (0 : Fin 1) = 0 :=
  (by decide +kernel : ∀ t : Fin grid0.N, _)
theorem emb2 (t : Fin cfg0.N) (j : S16.Idx) : ((cfg0.win 2).blk t).view.emb j = j := by
  have e0 := idx_zero2 t
  funext a; apply Fin.ext
  match a with
  | ⟨0, _⟩ => show win0_2.index t (0 : Fin 1) * 16 + 1 * (j 0).val = (j 0).val; omega
theorem iblk2_eq (c : Dev nD) (t : Fin cfg0.N) : iblk m c 2 t = V m c main_arg2 := by
  funext j; show V m c main_arg2 (((cfg0.win 2).blk t).view.emb j) = V m c main_arg2 j; rw [emb2]

theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)
theorem emb3 (t : Fin cfg0.N) (j : S16x1024x1024.Idx) : ((cfg0.win 3).blk t).view.emb j = j := by
  obtain ⟨e0, e1, e2⟩ := idx_zero3 t
  funext a; apply Fin.ext
  match a with
  | ⟨0, _⟩ => show win0_3.index t (0 : Fin 3) * 16 + 1 * (j 0).val = (j 0).val; omega
  | ⟨1, _⟩ => show win0_3.index t (1 : Fin 3) * 1024 + 1 * (j 1).val = (j 1).val; omega
  | ⟨2, _⟩ => show win0_3.index t (2 : Fin 3) * 1024 + 1 * (j 2).val = (j 2).val; omega
theorem iblk3_eq (c : Dev nD) (t : Fin cfg0.N) : iblk m c 3 t = V m c main_v0 := by
  funext j; show V m c main_v0 (((cfg0.win 3).blk t).view.emb j) = V m c main_v0 j; rw [emb3]

theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)
theorem emb4 (t : Fin cfg0.N) (j : S16x16x1024.Idx) : ((cfg0.win 4).blk t).view.emb j = j := by
  obtain ⟨e0, e1, e2⟩ := idx_zero4 t
  funext a; apply Fin.ext
  match a with
  | ⟨0, _⟩ => show win0_4.index t (0 : Fin 3) * 16 + 1 * (j 0).val = (j 0).val; omega
  | ⟨1, _⟩ => show win0_4.index t (1 : Fin 3) * 16 + 1 * (j 1).val = (j 1).val; omega
  | ⟨2, _⟩ => show win0_4.index t (2 : Fin 3) * 1024 + 1 * (j 2).val = (j 2).val; omega
theorem iblk4_eq (c : Dev nD) (t : Fin cfg0.N) : iblk m c 4 t = V m c main_v1 := by
  funext j; show V m c main_v1 (((cfg0.win 4).blk t).view.emb j) = V m c main_v1 j; rw [emb4]

theorem idx_zero5 : ∀ t : Fin cfg0.N, win0_5.index t (0 : Fin 2) = 0 ∧ win0_5.index t (1 : Fin 2) = 0 :=
  (by decide +kernel : ∀ t : Fin grid0.N, _)
theorem emb5 (t : Fin cfg0.N) (j : S933888x128.Idx) : ((cfg0.win 5).blk t).view.emb j = j := by
  obtain ⟨e0, e1⟩ := idx_zero5 t
  funext a; apply Fin.ext
  match a with
  | ⟨0, _⟩ => show win0_5.index t (0 : Fin 2) * 933888 + 1 * (j 0).val = (j 0).val; omega
  | ⟨1, _⟩ => show win0_5.index t (1 : Fin 2) * 128 + 1 * (j 1).val = (j 1).val; omega

theorem cut5_eq (t : Fin cfg0.N) (X : Vec Ideal S933888x128 .f32) :
    (cfg0.win 5).cut (grid0.coords t) X = ((cfg0.win 5).blk t).view.read (Elt Ideal) X := by
  funext j
  show X j = X (((cfg0.win 5).blk t).view.emb j)
  rw [emb5]

theorem flushed5_eq (c : Dev nD) (t : Fin cfg0.N) :
    (dats m 0 c).flushed 5 t = ((cfg0.win 5).blk t).view.read (Elt Ideal) (Cert.ReferenceIdeal.Val.res (V m c main_arg0) (V m c main_arg1) (V m c main_arg2) (V m c main_v0) (V m c main_v1)) := by
  rw [flushed5_A, out_eq, iblk0_eq, iblk1_eq, iblk2_eq, iblk3_eq, iblk4_eq]
  exact cut5_eq t _

theorem covered5 (i : S933888x128.Idx) :
    ∃ t : Fin cfg0.N, (cfg0.win 5).flush t = true ∧ i ∈ ((cfg0.win 5).blk t).view.set :=
  ⟨(⟨0, by decide⟩ : Fin cfg0.N), flush0_5 _, by
    have h := ((cfg0.win 5).blk (⟨0, by decide⟩ : Fin cfg0.N)).view.emb_mem_set i; rwa [emb5] at h⟩

theorem V_v0 (c : Dev nD) : V m c main_v0 = extractStridedSlice S16x1024x1024 ![0, 0, 2048] (m ((c : Thread nD τ).loc main_arg3)) slices_S16x1024x4096_S16x1024x1024_0_0_2048 := by
  show StableHlo.after hostOps0 (fun b => m (c, b)) _ = _
  unfold hostOps0
  after_results

theorem V_v1 (c : Dev nD) : V m c main_v1 = extractStridedSlice S16x16x1024 ![0, 0, 2048] (m ((c : Thread nD τ).loc main_arg4)) slices_S16x16x4096_S16x16x1024_0_0_2048 := by
  show StableHlo.after hostOps0 (fun b => m (c, b)) _ = _
  unfold hostOps0
  after_results

/-- The result as a function of the arguments. -/
def G (a0 : Vec Ideal S98304x2048 .fp8e4m3) (a1 : Vec Ideal S98304 .f32) (a2 : Vec Ideal S16 .i32) (a3 : Vec Ideal S16x1024x4096 .i8) (a4 : Vec Ideal S16x16x4096 .bf16) : Vec Ideal S933888x128 .f32 :=
  Cert.ReferenceIdeal.Val.res a0 a1 a2 (extractStridedSlice S16x1024x1024 ![0, 0, 2048] a3 slices_S16x1024x4096_S16x1024x1024_0_0_2048)
    (extractStridedSlice S16x16x1024 ![0, 0, 2048] a4 slices_S16x16x4096_S16x16x1024_0_0_2048)

theorem final5 (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) :=
  ((dats m 0 c).arrAt_eq_of_cover 5 _ (fun t _ => flushed5_eq m c t) covered5).trans
    (by rw [V_main_arg0, V_main_arg1, V_main_arg2, V_v0, V_v1]; rfl)

/-- The reference's run with its result at `G` of the arguments. -/
theorem run : θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2⟩) (run_blocks m ρ)

end Cert.Reference2048Ideal.Val

end
-- ==== Proof.M.V.At2048.lean ====
/-
  The claims at the columns from 2048 on: those of the kernel at any offset, read at this one.
-/
module

public import proofs.«01_k».proof.Defs
public import proofs.«01_k».proof.Proof.Gen.Kernel2048
public import proofs.«01_k».proof.Proof.Gen.Kernel2048Ideal
public import proofs.«01_k».proof.Proof.Gen.Reference2048Ideal
public import proofs.«01_k».proof.Proof.M.V.Alg
public import proofs.«01_k».proof.Proof.M.V.Ref2048
public import Idealize.ShloMosaic.Lib.Pipeline.Regions

@[expose] public section

set_option maxRecDepth 100000
set_option maxHeartbeats 4000000

noncomputable section

namespace Cert.At2048

open Idealize.ShloMosaic Idealize.ShloMosaic.TcCoe
open Idealize.SL.Sem

/-- The offset. -/
abbrev col : Cert.KernelIdeal.Run.Col := ⟨2048, by decide⟩

theorem frame_eq : @Cert.KernelIdeal.Run.QuietP Bits _ col = Cert.quiescent_Kernel2048 := by chain_rfl

theorem frame : Cert.quiescent_Kernel2048 := frame_eq.mp (@Cert.KernelIdeal.Run.quietP Bits _ col)

theorem frameI_eq : @Cert.KernelIdeal.Run.QuietP Ideal _ col = Cert.quiescent_Kernel2048Ideal := by chain_rfl

theorem frameI : Cert.quiescent_Kernel2048Ideal := frameI_eq.mp (@Cert.KernelIdeal.Run.quietP Ideal _ col)

end Cert.At2048

namespace Cert.Kernel2048Ideal.Val

open Cert.Kernel2048Ideal
open Idealize.ShloMosaic Idealize.ShloMosaic.TcCoe
open Idealize.SL.Sem

/-- The kernel's run: every owned row of the result ends at its value, and the arguments are unchanged. -/
def Ker : Prop := ∀ (m : (ℓ : Loc nD τ sig) → Buf (Elt Ideal) ℓ) (ρ : Dev nD → PrngReg)
    (_ : ∀ c : Dev nD, Cert.Pre_groups_fit.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = fun _ => 1#1),
    θ_run (defs (F := Ideal)) (onTc (τ := τ) (main (F := Ideal))) ⟨m, fun _ => 0, ρ⟩ (fun r => ∀ c : Dev nD,
      (∀ i : (⟨2, ![933888, 128]⟩ : Shape).Idx, (Cert.On_expert_rows.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) i = 1#1
        → r.2.mem ((c.tc : Thread nD τ).loc main_v1) i = @Cert.Alg.Gc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) Cert.At2048.col i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))

theorem ker_eq : @Cert.Alg.KerC Cert.At2048.col = Ker := by chain_rfl

theorem ker : Ker := ker_eq.mp (@Cert.Alg.kerC Cert.At2048.col)

end Cert.Kernel2048Ideal.Val

namespace Cert.At2048

open Idealize.ShloMosaic Idealize.ShloMosaic.TcCoe
open Idealize.SL.Sem

theorem algebraic : Cert.algebraic_Kernel2048Ideal_Reference2048Ideal_on_expert_rows := by
  intro m ρ m' ρ' hpre hargs
  refine ⟨fun c => @Cert.Alg.Gc (m ((c.tc : Thread Cert.Kernel2048Ideal.nD Cert.Kernel2048Ideal.τ).loc Cert.Kernel2048Ideal.main_arg0)) (m ((c.tc : Thread Cert.Kernel2048Ideal.nD Cert.Kernel2048Ideal.τ).loc Cert.Kernel2048Ideal.main_arg1)) (m ((c.tc : Thread Cert.Kernel2048Ideal.nD Cert.Kernel2048Ideal.τ).loc Cert.Kernel2048Ideal.main_arg2)) (m ((c.tc : Thread Cert.Kernel2048Ideal.nD Cert.Kernel2048Ideal.τ).loc Cert.Kernel2048Ideal.main_arg3)) (m ((c.tc : Thread Cert.Kernel2048Ideal.nD Cert.Kernel2048Ideal.τ).loc Cert.Kernel2048Ideal.main_arg4)) col, Cert.Kernel2048Ideal.Val.ker m ρ hpre, ?_⟩
  refine (θ_run Cert.Reference2048Ideal.defs _ _).mono (fun r hr c => ?_) (Cert.Reference2048Ideal.Val.run m' ρ')
  obtain ⟨hv, hk⟩ := hr c
  refine ⟨fun i _ => ?_, hk⟩
  obtain ⟨q0, q1, q2, q3, q4⟩ := hargs c
  have e : Cert.Reference2048Ideal.Val.G (m' ((c.tc : Thread Cert.Reference2048Ideal.nD Cert.Reference2048Ideal.τ).loc Cert.Reference2048Ideal.main_arg0)) (m' ((c.tc : Thread Cert.Reference2048Ideal.nD Cert.Reference2048Ideal.τ).loc Cert.Reference2048Ideal.main_arg1)) (m' ((c.tc : Thread Cert.Reference2048Ideal.nD Cert.Reference2048Ideal.τ).loc Cert.Reference2048Ideal.main_arg2)) (m' ((c.tc : Thread Cert.Reference2048Ideal.nD Cert.Reference2048Ideal.τ).loc Cert.Reference2048Ideal.main_arg3)) (m' ((c.tc : Thread Cert.Reference2048Ideal.nD Cert.Reference2048Ideal.τ).loc Cert.Reference2048Ideal.main_arg4))
      = @Cert.Alg.Gc (m ((c.tc : Thread Cert.Kernel2048Ideal.nD Cert.Kernel2048Ideal.τ).loc Cert.Kernel2048Ideal.main_arg0)) (m ((c.tc : Thread Cert.Kernel2048Ideal.nD Cert.Kernel2048Ideal.τ).loc Cert.Kernel2048Ideal.main_arg1)) (m ((c.tc : Thread Cert.Kernel2048Ideal.nD Cert.Kernel2048Ideal.τ).loc Cert.Kernel2048Ideal.main_arg2)) (m ((c.tc : Thread Cert.Kernel2048Ideal.nD Cert.Kernel2048Ideal.τ).loc Cert.Kernel2048Ideal.main_arg3)) (m ((c.tc : Thread Cert.Kernel2048Ideal.nD Cert.Kernel2048Ideal.τ).loc Cert.Kernel2048Ideal.main_arg4)) col := by
    rw [q0, q1, q2, q3, q4]; rfl
  exact (congrFun hv i).trans (congrFun e i)

end Cert.At2048

end
-- ==== Proof.M.V.Ref3072.lean ====
/-
  The reference's run for the columns from 3072 on.
-/
module

public import proofs.«01_k».proof.Proof.Gen.Reference3072Ideal.Value
public import proofs.«01_k».proof.Proof.M.V.RefRun
public import Idealize.ShloMosaic.Lib.Pipeline.Regions

@[expose] public section

set_option maxRecDepth 16384

noncomputable section

namespace Cert.Reference3072Ideal.Val

open Cert.Reference3072Ideal Cert.Reference3072Ideal.Gen Cert.Reference3072Ideal.Value Cert.Val
open Idealize.ShloMosaic Idealize.ShloMosaic.TcCoe
open Idealize.SL.Sem

/-- The call computes what the first call's reference computes from its own blocks. -/
def Out : Prop := ∀ (c : Dev nD) arg0 h0 arg1 h1 arg2 h2 arg3 h3 arg4 h4 arg5 h5
    (x0 : Vec Ideal S98304x2048 .fp8e4m3) (x1 : Vec Ideal S98304 .f32) (x2 : Vec Ideal S16 .i32) (x3 : Vec Ideal S16x1024x1024 .i8) (x4 : Vec Ideal S16x16x1024 .bf16),
    out0_A_5 c arg0 h0 arg1 h1 arg2 h2 arg3 h3 arg4 h4 arg5 h5 x0 x1 x2 x3 x4 = Cert.ReferenceIdeal.Val.res x0 x1 x2 x3 x4

theorem out_prop : Cert.ReferenceIdeal.Val.Out = Out := by chain_rfl

theorem out_eq : Out := out_prop.mp Cert.ReferenceIdeal.Val.out_res

variable (m : (ℓ : Loc nD τ sig) → Buf (Elt Ideal) ℓ) (ρ : Dev nD → PrngReg)

theorem idx_zero0 : ∀ t : Fin cfg0.N, win0_0.index t (0 : Fin 2) = 0 ∧ win0_0.index t (1 : Fin 2) = 0 :=
  (by decide +kernel : ∀ t : Fin grid0.N, _)
theorem emb0 (t : Fin cfg0.N) (j : S98304x2048.Idx) : ((cfg0.win 0).blk t).view.emb j = j := by
  obtain ⟨e0, e1⟩ := idx_zero0 t
  funext a; apply Fin.ext
  match a with
  | ⟨0, _⟩ => show win0_0.index t (0 : Fin 2) * 98304 + 1 * (j 0).val = (j 0).val; omega
  | ⟨1, _⟩ => show win0_0.index t (1 : Fin 2) * 2048 + 1 * (j 1).val = (j 1).val; omega
theorem iblk0_eq (c : Dev nD) (t : Fin cfg0.N) : iblk m c 0 t = V m c main_arg0 := by
  funext j; show V m c main_arg0 (((cfg0.win 0).blk t).view.emb j) = V m c main_arg0 j; rw [emb0]

theorem idx_zero1 : ∀ t : Fin cfg0.N, win0_1.index t (0 : Fin 1) = 0 :=
  (by decide +kernel : ∀ t : Fin grid0.N, _)
theorem emb1 (t : Fin cfg0.N) (j : S98304.Idx) : ((cfg0.win 1).blk t).view.emb j = j := by
  have e0 := idx_zero1 t
  funext a; apply Fin.ext
  match a with
  | ⟨0, _⟩ => show win0_1.index t (0 : Fin 1) * 98304 + 1 * (j 0).val = (j 0).val; omega
theorem iblk1_eq (c : Dev nD) (t : Fin cfg0.N) : iblk m c 1 t = V m c main_arg1 := by
  funext j; show V m c main_arg1 (((cfg0.win 1).blk t).view.emb j) = V m c main_arg1 j; rw [emb1]

theorem idx_zero2 : ∀ t : Fin cfg0.N, win0_2.index t (0 : Fin 1) = 0 :=
  (by decide +kernel : ∀ t : Fin grid0.N, _)
theorem emb2 (t : Fin cfg0.N) (j : S16.Idx) : ((cfg0.win 2).blk t).view.emb j = j := by
  have e0 := idx_zero2 t
  funext a; apply Fin.ext
  match a with
  | ⟨0, _⟩ => show win0_2.index t (0 : Fin 1) * 16 + 1 * (j 0).val = (j 0).val; omega
theorem iblk2_eq (c : Dev nD) (t : Fin cfg0.N) : iblk m c 2 t = V m c main_arg2 := by
  funext j; show V m c main_arg2 (((cfg0.win 2).blk t).view.emb j) = V m c main_arg2 j; rw [emb2]

theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)
theorem emb3 (t : Fin cfg0.N) (j : S16x1024x1024.Idx) : ((cfg0.win 3).blk t).view.emb j = j := by
  obtain ⟨e0, e1, e2⟩ := idx_zero3 t
  funext a; apply Fin.ext
  match a with
  | ⟨0, _⟩ => show win0_3.index t (0 : Fin 3) * 16 + 1 * (j 0).val = (j 0).val; omega
  | ⟨1, _⟩ => show win0_3.index t (1 : Fin 3) * 1024 + 1 * (j 1).val = (j 1).val; omega
  | ⟨2, _⟩ => show win0_3.index t (2 : Fin 3) * 1024 + 1 * (j 2).val = (j 2).val; omega
theorem iblk3_eq (c : Dev nD) (t : Fin cfg0.N) : iblk m c 3 t = V m c main_v0 := by
  funext j; show V m c main_v0 (((cfg0.win 3).blk t).view.emb j) = V m c main_v0 j; rw [emb3]

theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)
theorem emb4 (t : Fin cfg0.N) (j : S16x16x1024.Idx) : ((cfg0.win 4).blk t).view.emb j = j := by
  obtain ⟨e0, e1, e2⟩ := idx_zero4 t
  funext a; apply Fin.ext
  match a with
  | ⟨0, _⟩ => show win0_4.index t (0 : Fin 3) * 16 + 1 * (j 0).val = (j 0).val; omega
  | ⟨1, _⟩ => show win0_4.index t (1 : Fin 3) * 16 + 1 * (j 1).val = (j 1).val; omega
  | ⟨2, _⟩ => show win0_4.index t (2 : Fin 3) * 1024 + 1 * (j 2).val = (j 2).val; omega
theorem iblk4_eq (c : Dev nD) (t : Fin cfg0.N) : iblk m c 4 t = V m c main_v1 := by
  funext j; show V m c main_v1 (((cfg0.win 4).blk t).view.emb j) = V m c main_v1 j; rw [emb4]

theorem idx_zero5 : ∀ t : Fin cfg0.N, win0_5.index t (0 : Fin 2) = 0 ∧ win0_5.index t (1 : Fin 2) = 0 :=
  (by decide +kernel : ∀ t : Fin grid0.N, _)
theorem emb5 (t : Fin cfg0.N) (j : S933888x128.Idx) : ((cfg0.win 5).blk t).view.emb j = j := by
  obtain ⟨e0, e1⟩ := idx_zero5 t
  funext a; apply Fin.ext
  match a with
  | ⟨0, _⟩ => show win0_5.index t (0 : Fin 2) * 933888 + 1 * (j 0).val = (j 0).val; omega
  | ⟨1, _⟩ => show win0_5.index t (1 : Fin 2) * 128 + 1 * (j 1).val = (j 1).val; omega

theorem cut5_eq (t : Fin cfg0.N) (X : Vec Ideal S933888x128 .f32) :
    (cfg0.win 5).cut (grid0.coords t) X = ((cfg0.win 5).blk t).view.read (Elt Ideal) X := by
  funext j
  show X j = X (((cfg0.win 5).blk t).view.emb j)
  rw [emb5]

theorem flushed5_eq (c : Dev nD) (t : Fin cfg0.N) :
    (dats m 0 c).flushed 5 t = ((cfg0.win 5).blk t).view.read (Elt Ideal) (Cert.ReferenceIdeal.Val.res (V m c main_arg0) (V m c main_arg1) (V m c main_arg2) (V m c main_v0) (V m c main_v1)) := by
  rw [flushed5_A, out_eq, iblk0_eq, iblk1_eq, iblk2_eq, iblk3_eq, iblk4_eq]
  exact cut5_eq t _

theorem covered5 (i : S933888x128.Idx) :
    ∃ t : Fin cfg0.N, (cfg0.win 5).flush t = true ∧ i ∈ ((cfg0.win 5).blk t).view.set :=
  ⟨(⟨0, by decide⟩ : Fin cfg0.N), flush0_5 _, by
    have h := ((cfg0.win 5).blk (⟨0, by decide⟩ : Fin cfg0.N)).view.emb_mem_set i; rwa [emb5] at h⟩

theorem V_v0 (c : Dev nD) : V m c main_v0 = extractStridedSlice S16x1024x1024 ![0, 0, 3072] (m ((c : Thread nD τ).loc main_arg3)) slices_S16x1024x4096_S16x1024x1024_0_0_3072 := by
  show StableHlo.after hostOps0 (fun b => m (c, b)) _ = _
  unfold hostOps0
  after_results

theorem V_v1 (c : Dev nD) : V m c main_v1 = extractStridedSlice S16x16x1024 ![0, 0, 3072] (m ((c : Thread nD τ).loc main_arg4)) slices_S16x16x4096_S16x16x1024_0_0_3072 := by
  show StableHlo.after hostOps0 (fun b => m (c, b)) _ = _
  unfold hostOps0
  after_results

/-- The result as a function of the arguments. -/
def G (a0 : Vec Ideal S98304x2048 .fp8e4m3) (a1 : Vec Ideal S98304 .f32) (a2 : Vec Ideal S16 .i32) (a3 : Vec Ideal S16x1024x4096 .i8) (a4 : Vec Ideal S16x16x4096 .bf16) : Vec Ideal S933888x128 .f32 :=
  Cert.ReferenceIdeal.Val.res a0 a1 a2 (extractStridedSlice S16x1024x1024 ![0, 0, 3072] a3 slices_S16x1024x4096_S16x1024x1024_0_0_3072)
    (extractStridedSlice S16x16x1024 ![0, 0, 3072] a4 slices_S16x16x4096_S16x16x1024_0_0_3072)

theorem final5 (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) :=
  ((dats m 0 c).arrAt_eq_of_cover 5 _ (fun t _ => flushed5_eq m c t) covered5).trans
    (by rw [V_main_arg0, V_main_arg1, V_main_arg2, V_v0, V_v1]; rfl)

/-- The reference's run with its result at `G` of the arguments. -/
theorem run : θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2⟩) (run_blocks m ρ)

end Cert.Reference3072Ideal.Val

end
-- ==== Proof.M.V.At3072.lean ====
/-
  The claims at the columns from 3072 on: those of the kernel at any offset, read at this one.
-/
module

public import proofs.«01_k».proof.Defs
public import proofs.«01_k».proof.Proof.Gen.Kernel3072
public import proofs.«01_k».proof.Proof.Gen.Kernel3072Ideal
public import proofs.«01_k».proof.Proof.Gen.Reference3072Ideal
public import proofs.«01_k».proof.Proof.M.V.Alg
public import proofs.«01_k».proof.Proof.M.V.Ref3072
public import Idealize.ShloMosaic.Lib.Pipeline.Regions

@[expose] public section

set_option maxRecDepth 100000
set_option maxHeartbeats 4000000

noncomputable section

namespace Cert.At3072

open Idealize.ShloMosaic Idealize.ShloMosaic.TcCoe
open Idealize.SL.Sem

/-- The offset. -/
abbrev col : Cert.KernelIdeal.Run.Col := ⟨3072, by decide⟩

theorem frame_eq : @Cert.KernelIdeal.Run.QuietP Bits _ col = Cert.quiescent_Kernel3072 := by chain_rfl

theorem frame : Cert.quiescent_Kernel3072 := frame_eq.mp (@Cert.KernelIdeal.Run.quietP Bits _ col)

theorem frameI_eq : @Cert.KernelIdeal.Run.QuietP Ideal _ col = Cert.quiescent_Kernel3072Ideal := by chain_rfl

theorem frameI : Cert.quiescent_Kernel3072Ideal := frameI_eq.mp (@Cert.KernelIdeal.Run.quietP Ideal _ col)

end Cert.At3072

namespace Cert.Kernel3072Ideal.Val

open Cert.Kernel3072Ideal
open Idealize.ShloMosaic Idealize.ShloMosaic.TcCoe
open Idealize.SL.Sem

/-- The kernel's run: every owned row of the result ends at its value, and the arguments are unchanged. -/
def Ker : Prop := ∀ (m : (ℓ : Loc nD τ sig) → Buf (Elt Ideal) ℓ) (ρ : Dev nD → PrngReg)
    (_ : ∀ c : Dev nD, Cert.Pre_groups_fit.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = fun _ => 1#1),
    θ_run (defs (F := Ideal)) (onTc (τ := τ) (main (F := Ideal))) ⟨m, fun _ => 0, ρ⟩ (fun r => ∀ c : Dev nD,
      (∀ i : (⟨2, ![933888, 128]⟩ : Shape).Idx, (Cert.On_expert_rows.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) i = 1#1
        → r.2.mem ((c.tc : Thread nD τ).loc main_v1) i = @Cert.Alg.Gc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) Cert.At3072.col i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))

theorem ker_eq : @Cert.Alg.KerC Cert.At3072.col = Ker := by chain_rfl

theorem ker : Ker := ker_eq.mp (@Cert.Alg.kerC Cert.At3072.col)

end Cert.Kernel3072Ideal.Val

namespace Cert.At3072

open Idealize.ShloMosaic Idealize.ShloMosaic.TcCoe
open Idealize.SL.Sem

theorem algebraic : Cert.algebraic_Kernel3072Ideal_Reference3072Ideal_on_expert_rows := by
  intro m ρ m' ρ' hpre hargs
  refine ⟨fun c => @Cert.Alg.Gc (m ((c.tc : Thread Cert.Kernel3072Ideal.nD Cert.Kernel3072Ideal.τ).loc Cert.Kernel3072Ideal.main_arg0)) (m ((c.tc : Thread Cert.Kernel3072Ideal.nD Cert.Kernel3072Ideal.τ).loc Cert.Kernel3072Ideal.main_arg1)) (m ((c.tc : Thread Cert.Kernel3072Ideal.nD Cert.Kernel3072Ideal.τ).loc Cert.Kernel3072Ideal.main_arg2)) (m ((c.tc : Thread Cert.Kernel3072Ideal.nD Cert.Kernel3072Ideal.τ).loc Cert.Kernel3072Ideal.main_arg3)) (m ((c.tc : Thread Cert.Kernel3072Ideal.nD Cert.Kernel3072Ideal.τ).loc Cert.Kernel3072Ideal.main_arg4)) col, Cert.Kernel3072Ideal.Val.ker m ρ hpre, ?_⟩
  refine (θ_run Cert.Reference3072Ideal.defs _ _).mono (fun r hr c => ?_) (Cert.Reference3072Ideal.Val.run m' ρ')
  obtain ⟨hv, hk⟩ := hr c
  refine ⟨fun i _ => ?_, hk⟩
  obtain ⟨q0, q1, q2, q3, q4⟩ := hargs c
  have e : Cert.Reference3072Ideal.Val.G (m' ((c.tc : Thread Cert.Reference3072Ideal.nD Cert.Reference3072Ideal.τ).loc Cert.Reference3072Ideal.main_arg0)) (m' ((c.tc : Thread Cert.Reference3072Ideal.nD Cert.Reference3072Ideal.τ).loc Cert.Reference3072Ideal.main_arg1)) (m' ((c.tc : Thread Cert.Reference3072Ideal.nD Cert.Reference3072Ideal.τ).loc Cert.Reference3072Ideal.main_arg2)) (m' ((c.tc : Thread Cert.Reference3072Ideal.nD Cert.Reference3072Ideal.τ).loc Cert.Reference3072Ideal.main_arg3)) (m' ((c.tc : Thread Cert.Reference3072Ideal.nD Cert.Reference3072Ideal.τ).loc Cert.Reference3072Ideal.main_arg4))
      = @Cert.Alg.Gc (m ((c.tc : Thread Cert.Kernel3072Ideal.nD Cert.Kernel3072Ideal.τ).loc Cert.Kernel3072Ideal.main_arg0)) (m ((c.tc : Thread Cert.Kernel3072Ideal.nD Cert.Kernel3072Ideal.τ).loc Cert.Kernel3072Ideal.main_arg1)) (m ((c.tc : Thread Cert.Kernel3072Ideal.nD Cert.Kernel3072Ideal.τ).loc Cert.Kernel3072Ideal.main_arg2)) (m ((c.tc : Thread Cert.Kernel3072Ideal.nD Cert.Kernel3072Ideal.τ).loc Cert.Kernel3072Ideal.main_arg3)) (m ((c.tc : Thread Cert.Kernel3072Ideal.nD Cert.Kernel3072Ideal.τ).loc Cert.Kernel3072Ideal.main_arg4)) col := by
    rw [q0, q1, q2, q3, q4]; rfl
  exact (congrFun hv i).trans (congrFun e i)

end Cert.At3072

end
-- ==== Proof.lean ====
module

public import proofs.«01_k».proof.Defs
public import proofs.«01_k».proof.Proof.Gen.Kernel
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Kernel1024
public import proofs.«01_k».proof.Proof.Gen.Kernel1024Ideal
public import proofs.«01_k».proof.Proof.Gen.Reference1024Ideal
public import proofs.«01_k».proof.Proof.Gen.Reference1024Ideal.Frame
public import proofs.«01_k».proof.Proof.Gen.Reference1024Ideal.Value
public import proofs.«01_k».proof.Proof.Gen.Kernel2048
public import proofs.«01_k».proof.Proof.Gen.Kernel2048Ideal
public import proofs.«01_k».proof.Proof.Gen.Reference2048Ideal
public import proofs.«01_k».proof.Proof.Gen.Reference2048Ideal.Frame
public import proofs.«01_k».proof.Proof.Gen.Reference2048Ideal.Value
public import proofs.«01_k».proof.Proof.Gen.Kernel3072
public import proofs.«01_k».proof.Proof.Gen.Kernel3072Ideal
public import proofs.«01_k».proof.Proof.Gen.Reference3072Ideal
public import proofs.«01_k».proof.Proof.Gen.Reference3072Ideal.Frame
public import proofs.«01_k».proof.Proof.Gen.Reference3072Ideal.Value
public import proofs.«01_k».proof.Proof.Gen.On_expert_rows
public import proofs.«01_k».proof.Proof.M.V.At0
public import proofs.«01_k».proof.Proof.M.V.At1024
public import proofs.«01_k».proof.Proof.M.V.At2048
public import proofs.«01_k».proof.Proof.M.V.At3072

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel1024.Gen.facts, Cert.Kernel1024Ideal.Gen.facts, Cert.Reference1024Ideal.Gen.facts, Cert.Kernel2048.Gen.facts, Cert.Kernel2048Ideal.Gen.facts, Cert.Reference2048Ideal.Gen.facts, Cert.Kernel3072.Gen.facts, Cert.Kernel3072Ideal.Gen.facts, Cert.Reference3072Ideal.Gen.facts, Cert.Pre_groups_fit.Gen.facts, Cert.On_expert_rows.Gen.facts,
    Cert.At0.frame, Cert.At0.frameI, fun m ρ _ => Cert.ReferenceIdeal.Gen.frame m ρ, fun m ρ _ => Cert.ReferenceIdeal.Gen.frame m ρ,
    Cert.At1024.frame, Cert.At1024.frameI, fun m ρ _ => Cert.Reference1024Ideal.Gen.frame m ρ, fun m ρ _ => Cert.Reference1024Ideal.Gen.frame m ρ,
    Cert.At2048.frame, Cert.At2048.frameI, fun m ρ _ => Cert.Reference2048Ideal.Gen.frame m ρ, fun m ρ _ => Cert.Reference2048Ideal.Gen.frame m ρ,
    Cert.At3072.frame, Cert.At3072.frameI, fun m ρ _ => Cert.Reference3072Ideal.Gen.frame m ρ, fun m ρ _ => Cert.Reference3072Ideal.Gen.frame m ρ,
    trivial, Cert.At0.algebraic,
    trivial, Cert.At1024.algebraic,
    trivial, Cert.At2048.algebraic,
    trivial, Cert.At3072.algebraic⟩

end Cert.Proof

end
